-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 [hPre_tokens : Cert.Pre_tokens.Facts] (m : (ℓ : Loc Cert.Kernel2.nD Cert.Kernel2.τ Cert.Kernel2.sig) → Buf (Elt Bits) ℓ) : Prop :=
  ∀ c : Dev Cert.Kernel2.nD,
    (Cert.Pre_tokens.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_tokens : Cert.Pre_tokens.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tokens.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tokens [hPre_tokens : Cert.Pre_tokens.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tokens.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_bounded [hPre_bounded : Cert.Pre_bounded.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.2.1 = (fun _ => 1#1)
    ∧ (Cert.Pre_bounded.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9))).2.2.2.2.2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_bounded [hPre_bounded : Cert.Pre_bounded.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.2.1 = (fun _ => 1#1)
    ∧ (Cert.Pre_bounded.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9))).2.2.2.2.2.2.2.2.2 = (fun _ => 1#1)

def Pre_Kernel6 [hPre_context_rows : Cert.Pre_context_rows.Facts] (m : (ℓ : Loc Cert.Kernel6.nD Cert.Kernel6.τ Cert.Kernel6.sig) → Buf (Elt Bits) ℓ) : Prop :=
  ∀ c : Dev Cert.Kernel6.nD,
    (Cert.Pre_context_rows.fn (F := Bits) (m ((c.tc : Thread Cert.Kernel6.nD Cert.Kernel6.τ).loc Cert.Kernel6.main_arg0)) (m ((c.tc : Thread Cert.Kernel6.nD Cert.Kernel6.τ).loc Cert.Kernel6.main_arg1)) (m ((c.tc : Thread Cert.Kernel6.nD Cert.Kernel6.τ).loc Cert.Kernel6.main_arg2)) (m ((c.tc : Thread Cert.Kernel6.nD Cert.Kernel6.τ).loc Cert.Kernel6.main_arg3)) (m ((c.tc : Thread Cert.Kernel6.nD Cert.Kernel6.τ).loc Cert.Kernel6.main_arg4))) = (fun _ => 1#1)

def Pre_Kernel6Ideal [hPre_context_rows : Cert.Pre_context_rows.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_context_rows.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_context_rows [hPre_context_rows : Cert.Pre_context_rows.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_context_rows.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] [hPre_tokens : Cert.Pre_tokens.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_tokens : Cert.Pre_tokens.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_tokens [hReference2Ideal : Cert.Reference2Ideal.Facts] [hPre_tokens : Cert.Pre_tokens.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tokens m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Kernel5Ideal_pre_bounded [hKernel5Ideal : Cert.Kernel5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_bounded m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Reference5Ideal_pre_bounded [hReference5Ideal : Cert.Reference5Ideal.Facts] [hPre_bounded : Cert.Pre_bounded.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_bounded m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9))
      ∧ r.2.sem = fun _ => 0)

def quiescent_Kernel6 [hKernel6 : Cert.Kernel6.Facts] [hPre_context_rows : Cert.Pre_context_rows.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] [hPre_context_rows : Cert.Pre_context_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_context_rows [hReference6Ideal : Cert.Reference6Ideal.Facts] [hPre_context_rows : Cert.Pre_context_rows.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_context_rows m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] [hPre_tokens : Cert.Pre_tokens.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)) (v2 : (c : Dev Cert.Kernel3Ideal.nD) → Buf (Elt Ideal) ((c.tc : Thread Cert.Kernel3Ideal.nD Cert.Kernel3Ideal.τ).loc Cert.Kernel3Ideal.main_v1_2)) (v3 : (c : Dev Cert.Kernel3Ideal.nD) → Buf (Elt Ideal) ((c.tc : Thread Cert.Kernel3Ideal.nD Cert.Kernel3Ideal.τ).loc Cert.Kernel3Ideal.main_v1_3)) (v4 : (c : Dev Cert.Kernel3Ideal.nD) → Buf (Elt Ideal) ((c.tc : Thread Cert.Kernel3Ideal.nD Cert.Kernel3Ideal.τ).loc Cert.Kernel3Ideal.main_v1_4)) (v5 : (c : Dev Cert.Kernel3Ideal.nD) → Buf (Elt Ideal) ((c.tc : Thread Cert.Kernel3Ideal.nD Cert.Kernel3Ideal.τ).loc Cert.Kernel3Ideal.main_v1_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_v1_2) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_v1_4) = v4 c
          ∧ r.2.mem ((c.tc : Thread Cert.Kernel3Ideal.nD Cert.Kernel3Ideal.τ).loc Cert.Kernel3Ideal.main_v1_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_v118) = v1 c
          ∧ r.2.mem ((c.tc : Thread Cert.Reference3Ideal.nD Cert.Reference3Ideal.τ).loc Cert.Reference3Ideal.main_v119) = v2 c
          ∧ r.2.mem ((c.tc : Thread Cert.Reference3Ideal.nD Cert.Reference3Ideal.τ).loc Cert.Reference3Ideal.main_v120) = v3 c
          ∧ r.2.mem ((c.tc : Thread Cert.Reference3Ideal.nD Cert.Reference3Ideal.τ).loc Cert.Reference3Ideal.main_v121) = v4 c
          ∧ r.2.mem ((c.tc : Thread Cert.Reference3Ideal.nD Cert.Reference3Ideal.τ).loc Cert.Reference3Ideal.main_v122) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)) (v2 : (c : Dev Cert.Kernel4Ideal.nD) → Buf (Elt Ideal) ((c.tc : Thread Cert.Kernel4Ideal.nD Cert.Kernel4Ideal.τ).loc Cert.Kernel4Ideal.main_v1_2)) (v3 : (c : Dev Cert.Kernel4Ideal.nD) → Buf (Elt Ideal) ((c.tc : Thread Cert.Kernel4Ideal.nD Cert.Kernel4Ideal.τ).loc Cert.Kernel4Ideal.main_v1_3)) (v4 : (c : Dev Cert.Kernel4Ideal.nD) → Buf (Elt Ideal) ((c.tc : Thread Cert.Kernel4Ideal.nD Cert.Kernel4Ideal.τ).loc Cert.Kernel4Ideal.main_v1_4)) (v5 : (c : Dev Cert.Kernel4Ideal.nD) → Buf (Elt Ideal) ((c.tc : Thread Cert.Kernel4Ideal.nD Cert.Kernel4Ideal.τ).loc Cert.Kernel4Ideal.main_v1_5)) (v6 : (c : Dev Cert.Kernel4Ideal.nD) → Buf (Elt Ideal) ((c.tc : Thread Cert.Kernel4Ideal.nD Cert.Kernel4Ideal.τ).loc Cert.Kernel4Ideal.main_v1_6)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_v1_2) = v2 c
          ∧ r.2.mem ((c.tc : Thread Cert.Kernel4Ideal.nD Cert.Kernel4Ideal.τ).loc Cert.Kernel4Ideal.main_v1_3) = v3 c
          ∧ r.2.mem ((c.tc : Thread Cert.Kernel4Ideal.nD Cert.Kernel4Ideal.τ).loc Cert.Kernel4Ideal.main_v1_4) = v4 c
          ∧ r.2.mem ((c.tc : Thread Cert.Kernel4Ideal.nD Cert.Kernel4Ideal.τ).loc Cert.Kernel4Ideal.main_v1_5) = v5 c
          ∧ r.2.mem ((c.tc : Thread Cert.Kernel4Ideal.nD Cert.Kernel4Ideal.τ).loc Cert.Kernel4Ideal.main_v1_6) = v6 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v74) = v0 c
          ∧ r.2.mem ((c.tc : Thread Cert.Reference4Ideal.nD Cert.Reference4Ideal.τ).loc Cert.Reference4Ideal.main_v121) = v1 c
          ∧ r.2.mem ((c.tc : Thread Cert.Reference4Ideal.nD Cert.Reference4Ideal.τ).loc Cert.Reference4Ideal.main_v122) = v2 c
          ∧ r.2.mem ((c.tc : Thread Cert.Reference4Ideal.nD Cert.Reference4Ideal.τ).loc Cert.Reference4Ideal.main_v22) = v3 c
          ∧ r.2.mem ((c.tc : Thread Cert.Reference4Ideal.nD Cert.Reference4Ideal.τ).loc Cert.Reference4Ideal.main_v23) = v4 c
          ∧ r.2.mem ((c.tc : Thread Cert.Reference4Ideal.nD Cert.Reference4Ideal.τ).loc Cert.Reference4Ideal.main_v24) = v5 c
          ∧ r.2.mem ((c.tc : Thread Cert.Reference4Ideal.nD Cert.Reference4Ideal.τ).loc Cert.Reference4Ideal.main_v27) = v6 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_bounded [hKernel5Ideal : Cert.Kernel5Ideal.Facts] [hReference5Ideal : Cert.Reference5Ideal.Facts] [hPre_bounded : Cert.Pre_bounded.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_bounded m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)) (v2 : (c : Dev Cert.Kernel5Ideal.nD) → Buf (Elt Ideal) ((c.tc : Thread Cert.Kernel5Ideal.nD Cert.Kernel5Ideal.τ).loc Cert.Kernel5Ideal.main_v7_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_v7_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v49) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9))

def preserves_Kernel6_Kernel6Ideal : Prop :=
  True

def algebraic_Kernel6Ideal_Reference6Ideal [hKernel6Ideal : Cert.Kernel6Ideal.Facts] [hReference6Ideal : Cert.Reference6Ideal.Facts] [hPre_context_rows : Cert.Pre_context_rows.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)) (v2 : (c : Dev Cert.Kernel7Ideal.nD) → Buf (Elt Ideal) ((c.tc : Thread Cert.Kernel7Ideal.nD Cert.Kernel7Ideal.τ).loc Cert.Kernel7Ideal.main_v1_2)) (v3 : (c : Dev Cert.Kernel7Ideal.nD) → Buf (Elt Ideal) ((c.tc : Thread Cert.Kernel7Ideal.nD Cert.Kernel7Ideal.τ).loc Cert.Kernel7Ideal.main_v1_3)) (v4 : (c : Dev Cert.Kernel7Ideal.nD) → Buf (Elt Ideal) ((c.tc : Thread Cert.Kernel7Ideal.nD Cert.Kernel7Ideal.τ).loc Cert.Kernel7Ideal.main_v1_4)) (v5 : (c : Dev Cert.Kernel7Ideal.nD) → Buf (Elt Ideal) ((c.tc : Thread Cert.Kernel7Ideal.nD Cert.Kernel7Ideal.τ).loc Cert.Kernel7Ideal.main_v1_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_v1_2) = v2 c
          ∧ r.2.mem ((c.tc : Thread Cert.Kernel7Ideal.nD Cert.Kernel7Ideal.τ).loc Cert.Kernel7Ideal.main_v1_3) = v3 c
          ∧ r.2.mem ((c.tc : Thread Cert.Kernel7Ideal.nD Cert.Kernel7Ideal.τ).loc Cert.Kernel7Ideal.main_v1_4) = v4 c
          ∧ r.2.mem ((c.tc : Thread Cert.Kernel7Ideal.nD Cert.Kernel7Ideal.τ).loc Cert.Kernel7Ideal.main_v1_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v25) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v27) = v2 c
          ∧ r.2.mem ((c.tc : Thread Cert.Reference7Ideal.nD Cert.Reference7Ideal.τ).loc Cert.Reference7Ideal.main_v28) = v3 c
          ∧ r.2.mem ((c.tc : Thread Cert.Reference7Ideal.nD Cert.Reference7Ideal.τ).loc Cert.Reference7Ideal.main_v29) = v4 c
          ∧ r.2.mem ((c.tc : Thread Cert.Reference7Ideal.nD Cert.Reference7Ideal.τ).loc Cert.Reference7Ideal.main_v30) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v15) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_tokens : Cert.Pre_tokens.Facts) (hPre_bounded : Cert.Pre_bounded.Facts) (hPre_context_rows : Cert.Pre_context_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_tokens := hPre_tokens)
    ∧ quiescent_Kernel2Ideal (hKernel2Ideal := hKernel2Ideal) (hPre_tokens := hPre_tokens)
    ∧ quiescent_Reference2Ideal (hReference2Ideal := hReference2Ideal)
    ∧ quiescent_Reference2Ideal_pre_tokens (hReference2Ideal := hReference2Ideal) (hPre_tokens := hPre_tokens)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_bounded (hKernel5Ideal := hKernel5Ideal) (hPre_bounded := hPre_bounded)
    ∧ quiescent_Reference5Ideal (hReference5Ideal := hReference5Ideal)
    ∧ quiescent_Reference5Ideal_pre_bounded (hReference5Ideal := hReference5Ideal) (hPre_bounded := hPre_bounded)
    ∧ quiescent_Kernel6 (hKernel6 := hKernel6) (hPre_context_rows := hPre_context_rows)
    ∧ quiescent_Kernel6Ideal (hKernel6Ideal := hKernel6Ideal) (hPre_context_rows := hPre_context_rows)
    ∧ quiescent_Reference6Ideal (hReference6Ideal := hReference6Ideal)
    ∧ quiescent_Reference6Ideal_pre_context_rows (hReference6Ideal := hReference6Ideal) (hPre_context_rows := hPre_context_rows)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_tokens := hPre_tokens)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_bounded (hKernel5Ideal := hKernel5Ideal) (hReference5Ideal := hReference5Ideal) (hPre_bounded := hPre_bounded)
    ∧ preserves_Kernel6_Kernel6Ideal
    ∧ algebraic_Kernel6Ideal_Reference6Ideal (hKernel6Ideal := hKernel6Ideal) (hReference6Ideal := hReference6Ideal) (hPre_context_rows := hPre_context_rows)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_bounded.lean ====
abbrev S8x4096x512 : Shape := ⟨3, ![8, 4096, 512]⟩
abbrev S1024x1024 : Shape := ⟨2, ![1024, 1024]⟩
abbrev S8x4096x1024 : Shape := ⟨3, ![8, 4096, 1024]⟩
abbrev S1024 : Shape := ⟨1, ![1024]⟩
abbrev S8x1x1024 : Shape := ⟨3, ![8, 1, 1024]⟩
abbrev S1024x16 : Shape := ⟨2, ![1024, 16]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  bcast_S_S1024x1024 : S_.BroadcastsInDim S1024x1024 (![] : Fin 0 → Fin S1024x1024.rank)
  bcast_S_S8x4096x1024 : S_.BroadcastsInDim S8x4096x1024 (![] : Fin 0 → Fin S8x4096x1024.rank)
  bcast_S_S1024 : S_.BroadcastsInDim S1024 (![] : Fin 0 → Fin S1024.rank)
  bcast_S_S8x1x1024 : S_.BroadcastsInDim S8x1x1024 (![] : Fin 0 → Fin S8x1x1024.rank)
  bcast_S_S1024x16 : S_.BroadcastsInDim S1024x16 (![] : Fin 0 → Fin S1024x16.rank)

variable [Facts]

def fn_part1 {F : FTy → Type} [FloatOps F] (main_arg6 : FVec F S1024 .f32) (main_arg7 : FVec F S8x1x1024 .f32) (main_arg8 : FVec F S8x1x1024 .f32) (main_arg9 : FVec F S1024x16 .f32) (main_v3 : IVec S8x4096x512 1) (main_v7 : IVec S8x4096x512 1) (main_v11 : IVec S1024x1024 1) (main_v14 : IVec S8x4096x1024 1) (main_v17 : IVec S1024 1) (main_v18 : FVec F S8x1x1024 .f32) : IVec S8x4096x512 1 × IVec S8x4096x512 1 × IVec S1024x1024 1 × IVec S8x4096x1024 1 × IVec S1024 1 × IVec S8x1x1024 1 × IVec S1024 1 × IVec S8x1x1024 1 × IVec S8x1x1024 1 × IVec S1024x16 1 :=
  let main_cst_4 : FVec F S_ .f32 := constant S_ .f32 0x7F800000#32
  let main_v19 : FVec F S8x1x1024 .f32 := broadcastInDim S8x1x1024 ![] bcast_S_S8x1x1024 main_cst_4
  let main_v20 : IVec S8x1x1024 1 := cmpf .olt main_v18 main_v19
  let main_v21 : FVec F S1024 .f32 := Host.absf main_arg6
  let main_cst_5 : FVec F S_ .f32 := constant S_ .f32 0x7F800000#32
  let main_v22 : FVec F S1024 .f32 := broadcastInDim S1024 ![] bcast_S_S1024 main_cst_5
  let main_v23 : IVec S1024 1 := cmpf .olt main_v21 main_v22
  let main_v24 : FVec F S8x1x1024 .f32 := Host.absf main_arg7
  let main_cst_6 : FVec F S_ .f32 := constant S_ .f32 0x7F800000#32
  let main_v25 : FVec F S8x1x1024 .f32 := broadcastInDim S8x1x1024 ![] bcast_S_S8x1x1024 main_cst_6
  let main_v26 : IVec S8x1x1024 1 := cmpf .olt main_v24 main_v25
  let main_v27 : FVec F S8x1x1024 .f32 := Host.absf main_arg8
  let main_cst_7 : FVec F S_ .f32 := constant S_ .f32 0x7F800000#32
  let main_v28 : FVec F S8x1x1024 .f32 := broadcastInDim S8x1x1024 ![] bcast_S_S8x1x1024 main_cst_7
  let main_v29 : IVec S8x1x1024 1 := cmpf .olt main_v27 main_v28
  let main_v30 : FVec F S1024x16 .f32 := Host.absf main_arg9
  let main_cst_8 : FVec F S_ .f32 := constant S_ .f32 0x7F800000#32
  let main_v31 : FVec F S1024x16 .f32 := broadcastInDim S1024x16 ![] bcast_S_S1024x16 main_cst_8
  let main_v32 : IVec S1024x16 1 := cmpf .olt main_v30 main_v31
  (main_v3, main_v7, main_v11, main_v14, main_v17, main_v20, main_v23, main_v26, main_v29, main_v32)

def fn {F : FTy → Type} [FloatOps F] (main_arg0 : FVec F S8x4096x512 .bf16) (main_arg1 : FVec F S8x4096x512 .bf16) (main_arg2 : FVec F S1024x1024 .bf16) (main_arg3 : FVec F S8x4096x1024 .f32) (main_arg4 : FVec F S1024 .f32) (main_arg5 : FVec F S8x1x1024 .f32) (main_arg6 : FVec F S1024 .f32) (main_arg7 : FVec F S8x1x1024 .f32) (main_arg8 : FVec F S8x1x1024 .f32) (main_arg9 : FVec F S1024x16 .f32) : IVec S8x4096x512 1 × IVec S8x4096x512 1 × IVec S1024x1024 1 × IVec S8x4096x1024 1 × IVec S1024 1 × IVec S8x1x1024 1 × IVec S1024 1 × IVec S8x1x1024 1 × IVec S8x1x1024 1 × IVec S1024x16 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S8x4096x512 .f32 := (extf .f32 · bitsLt_bf16_f32) main_arg1
  let main_v5 : FVec F S8x4096x512 .f32 := Host.absf main_v4
  let main_cst_0 : FVec F S_ .f32 := constant S_ .f32 0x7F800000#32
  let main_v6 : FVec F S8x4096x512 .f32 := broadcastInDim S8x4096x512 ![] bcast_S_S8x4096x512 main_cst_0
  let main_v7 : IVec S8x4096x512 1 := cmpf .olt main_v5 main_v6
  let main_v8 : FVec F S1024x1024 .f32 := (extf .f32 · bitsLt_bf16_f32) main_arg2
  let main_v9 : FVec F S1024x1024 .f32 := Host.absf main_v8
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  let main_v12 : FVec F S8x4096x1024 .f32 := Host.absf main_arg3
  let main_cst_2 : FVec F S_ .f32 := constant S_ .f32 0x7F800000#32
  let main_v13 : FVec F S8x4096x1024 .f32 := broadcastInDim S8x4096x1024 ![] bcast_S_S8x4096x1024 main_cst_2
  let main_v14 : IVec S8x4096x1024 1 := cmpf .olt main_v12 main_v13
  let main_v15 : FVec F S1024 .f32 := Host.absf main_arg4
  let main_cst_3 : FVec F S_ .f32 := constant S_ .f32 0x7F800000#32
  let main_v16 : FVec F S1024 .f32 := broadcastInDim S1024 ![] bcast_S_S1024 main_cst_3
  let main_v17 : IVec S1024 1 := cmpf .olt main_v15 main_v16
  let main_v18 : FVec F S8x1x1024 .f32 := Host.absf main_arg5
  fn_part1 (F := F) main_arg6 main_arg7 main_arg8 main_arg9 main_v3 main_v7 main_v11 main_v14 main_v17 main_v18
-- ==== Pre_context_rows.lean ====
abbrev S16x1x256 : Shape := ⟨3, ![16, 1, 256]⟩
abbrev S1x2048x1024 : Shape := ⟨3, ![1, 2048, 1024]⟩
abbrev S16x1024x1024 : Shape := ⟨3, ![16, 1024, 1024]⟩
abbrev S_ : Shape := ⟨0, ![]⟩

class Facts : Prop where
  bcast_S_S16x1x256 : S_.BroadcastsInDim S16x1x256 (![] : Fin 0 → Fin S16x1x256.rank)

variable [Facts]

def fn {F : FTy → Type} [FloatOps F] (main_arg0 : IVec S16x1x256 32) (main_arg1 : FVec F S1x2048x1024 .f32) (main_arg2 : FVec F S16x1024x1024 .bf16) (main_arg3 : FVec F S16x1024x1024 .bf16) (main_arg4 : FVec F S16x1024x1024 .bf16) : IVec S16x1x256 1 :=
  let main_c : IVec S_ 32 := constantI S_ 32 0#32
  let main_v0 : IVec S16x1x256 32 := broadcastInDim S16x1x256 ![] bcast_S_S16x1x256 main_c
  let main_v1 : IVec S16x1x256 1 := cmpi .sge main_arg0 main_v0
  let main_c_0 : IVec S_ 32 := constantI S_ 32 2048#32
  let main_v2 : IVec S16x1x256 32 := broadcastInDim S16x1x256 ![] bcast_S_S16x1x256 main_c_0
  let main_v3 : IVec S16x1x256 1 := cmpi .slt main_arg0 main_v2
  let main_v4 : IVec S16x1x256 1 := andi main_v1 main_v3
  main_v4
-- ==== Pre_finite.lean ====
abbrev S8x4096x512 : Shape := ⟨3, ![8, 4096, 512]⟩
abbrev S8x4096x256 : Shape := ⟨3, ![8, 4096, 256]⟩
abbrev S8x256x256 : Shape := ⟨3, ![8, 256, 256]⟩
abbrev S8 : Shape := ⟨1, ![8]⟩
abbrev S_ : Shape := ⟨0, ![]⟩

class Facts : Prop where
  bitsLt_bf16_f32 : FTy.bits .bf16 < FTy.bits .f32
  bcast_S_S8x4096x512 : S_.BroadcastsInDim S8x4096x512 (![] : Fin 0 → Fin S8x4096x512.rank)
  bcast_S_S8x4096x256 : S_.BroadcastsInDim S8x4096x256 (![] : Fin 0 → Fin S8x4096x256.rank)
  bcast_S_S8x256x256 : S_.BroadcastsInDim S8x256x256 (![] : Fin 0 → Fin S8x256x256.rank)
  bcast_S_S8 : S_.BroadcastsInDim S8 (![] : Fin 0 → Fin S8.rank)

variable [Facts]

def fn_part1 {F : FTy → Type} [FloatOps F] (main_arg5 : FVec F S8 .f32) (main_v3 : IVec S8x4096x512 1) (main_v7 : IVec S8x4096x256 1) (main_v11 : IVec S8x4096x256 1) (main_v15 : IVec S8x256x256 1) (main_v17 : FVec F S8x256x256 .f32) (main_v18 : FVec F S8x256x256 .f32) : IVec S8x4096x512 1 × IVec S8x4096x256 1 × IVec S8x4096x256 1 × IVec S8x256x256 1 × IVec S8x256x256 1 × IVec S8 1 :=
  let main_v19 : IVec S8x256x256 1 := cmpf .olt main_v17 main_v18
  let main_v20 : FVec F S8 .f32 := Host.absf main_arg5
  let main_cst_4 : FVec F S_ .f32 := constant S_ .f32 0x7F800000#32
  let main_v21 : FVec F S8 .f32 := broadcastInDim S8 ![] bcast_S_S8 main_cst_4
  let main_v22 : IVec S8 1 := cmpf .olt main_v20 main_v21
  (main_v3, main_v7, main_v11, main_v15, main_v19, main_v22)

def fn {F : FTy → Type} [FloatOps F] (main_arg0 : FVec F S8x4096x512 .bf16) (main_arg1 : FVec F S8x4096x256 .bf16) (main_arg2 : FVec F S8x4096x256 .bf16) (main_arg3 : FVec F S8x256x256 .bf16) (main_arg4 : FVec F S8x256x256 .bf16) (main_arg5 : FVec F S8 .f32) : IVec S8x4096x512 1 × IVec S8x4096x256 1 × IVec S8x4096x256 1 × IVec S8x256x256 1 × IVec S8x256x256 1 × IVec S8 1 :=
  let main_v0 : FVec F S8x4096x512 .f32 := (extf .f32 · bitsLt_bf16_f32) main_arg0
  let main_v1 : FVec F S8x4096x512 .f32 := Host.absf main_v0
  let main_cst : FVec F S_ .f32 := constant S_ .f32 0x7F800000#32
  let main_v2 : FVec F S8x4096x512 .f32 := broadcastInDim S8x4096x512 ![] bcast_S_S8x4096x512 main_cst
  let main_v3 : IVec S8x4096x512 1 := cmpf .olt main_v1 main_v2
  let main_v4 : FVec F S8x4096x256 .f32 := (extf .f32 · bitsLt_bf16_f32) main_arg1
  let main_v5 : FVec F S8x4096x256 .f32 := Host.absf main_v4
  let main_cst_0 : FVec F S_ .f32 := constant S_ .f32 0x7F800000#32
  let main_v6 : FVec F S8x4096x256 .f32 := broadcastInDim S8x4096x256 ![] bcast_S_S8x4096x256 main_cst_0
  let main_v7 : IVec S8x4096x256 1 := cmpf .olt main_v5 main_v6
  let main_v8 : FVec F S8x4096x256 .f32 := (extf .f32 · bitsLt_bf16_f32) main_arg2
  let main_v9 : FVec F S8x4096x256 .f32 := Host.absf main_v8
  let main_cst_1 : FVec F S_ .f32 := constant S_ .f32 0x7F800000#32
  let main_v10 : FVec F S8x4096x256 .f32 := broadcastInDim S8x4096x256 ![] bcast_S_S8x4096x256 main_cst_1
  let main_v11 : IVec S8x4096x256 1 := cmpf .olt main_v9 main_v10
  let main_v12 : FVec F S8x256x256 .f32 := (extf .f32 · bitsLt_bf16_f32) main_arg3
  let main_v13 : FVec F S8x256x256 .f32 := Host.absf main_v12
  let main_cst_2 : FVec F S_ .f32 := constant S_ .f32 0x7F800000#32
  let main_v14 : FVec F S8x256x256 .f32 := broadcastInDim S8x256x256 ![] bcast_S_S8x256x256 main_cst_2
  let main_v15 : IVec S8x256x256 1 := cmpf .olt main_v13 main_v14
  let main_v16 : FVec F S8x256x256 .f32 := (extf .f32 · bitsLt_bf16_f32) main_arg4
  let main_v17 : FVec F S8x256x256 .f32 := Host.absf main_v16
  let main_cst_3 : FVec F S_ .f32 := constant S_ .f32 0x7F800000#32
  let main_v18 : FVec F S8x256x256 .f32 := broadcastInDim S8x256x256 ![] bcast_S_S8x256x256 main_cst_3
  fn_part1 (F := F) main_arg5 main_v3 main_v7 main_v11 main_v15 main_v17 main_v18
-- ==== Pre_tokens.lean ====
abbrev S128x1x512 : Shape := ⟨3, ![128, 1, 512]⟩
abbrev S8x4096x1024 : Shape := ⟨3, ![8, 4096, 1024]⟩
abbrev S16x1024x1024 : Shape := ⟨3, ![16, 1024, 1024]⟩
abbrev S_ : Shape := ⟨0, ![]⟩

class Facts : Prop where
  bcast_S_S128x1x512 : S_.BroadcastsInDim S128x1x512 (![] : Fin 0 → Fin S128x1x512.rank)

variable [Facts]

def fn {F : FTy → Type} [FloatOps F] (main_arg0 : IVec S128x1x512 32) (main_arg1 : FVec F S8x4096x1024 .f32) (main_arg2 : FVec F S16x1024x1024 .bf16) (main_arg3 : FVec F S16x1024x1024 .bf16) (main_arg4 : FVec F S16x1024x1024 .bf16) : IVec S128x1x512 1 :=
  let main_c : IVec S_ 32 := constantI S_ 32 0#32
  let main_v0 : IVec S128x1x512 32 := broadcastInDim S128x1x512 ![] bcast_S_S128x1x512 main_c
  let main_v1 : IVec S128x1x512 1 := cmpi .sge main_arg0 main_v0
  let main_c_0 : IVec S_ 32 := constantI S_ 32 4096#32
  let main_v2 : IVec S128x1x512 32 := broadcastInDim S128x1x512 ![] bcast_S_S128x1x512 main_c_0
  let main_v3 : IVec S128x1x512 1 := cmpi .slt main_arg0 main_v2
  let main_v4 : IVec S128x1x512 1 := andi main_v1 main_v3
  main_v4
-- ==== Kernel.lean ====
abbrev S8x4096x512 : Shape := ⟨3, ![8, 4096, 512]⟩
abbrev S8x4096x256 : Shape := ⟨3, ![8, 4096, 256]⟩
abbrev S8x256x256 : Shape := ⟨3, ![8, 256, 256]⟩
abbrev S8 : Shape := ⟨1, ![8]⟩
abbrev S1x1024x512 : Shape := ⟨3, ![1, 1024, 512]⟩
abbrev S1x4096x256 : Shape := ⟨3, ![1, 4096, 256]⟩
abbrev S1x256x256 : Shape := ⟨3, ![1, 256, 256]⟩
abbrev S1x128x512 : Shape := ⟨3, ![1, 128, 512]⟩
abbrev S128x512 : Shape := ⟨2, ![128, 512]⟩
abbrev S1x384x256 : Shape := ⟨3, ![1, 384, 256]⟩
abbrev S384x256 : Shape := ⟨2, ![384, 256]⟩
abbrev S256x256 : Shape := ⟨2, ![256, 256]⟩
abbrev S128x128 : Shape := ⟨2, ![128, 128]⟩
abbrev S512x384 : Shape := ⟨2, ![512, 384]⟩
abbrev S512x1 : Shape := ⟨2, ![512, 1]⟩
abbrev S512x128 : Shape := ⟨2, ![512, 128]⟩
abbrev S1 : Shape := ⟨1, ![1]⟩
abbrev S384x128 : Shape := ⟨2, ![384, 128]⟩
abbrev S256x128 : Shape := ⟨2, ![256, 128]⟩
abbrev S512x256 : Shape := ⟨2, ![512, 256]⟩
abbrev S512 : Shape := ⟨1, ![512]⟩
abbrev S1x128x128 : Shape := ⟨3, ![1, 128, 128]⟩

abbrev nBuf : Space → Nat
  | .hbm => 7
  | .vmem => 12
  | .smem => 1
  | _ => 0

abbrev bufTy : (tb : Table) → Fin (tcTables nBuf tb) → BufTy
  | .hbm, ⟨0, _⟩ => ⟨S8x4096x512, .bf16⟩
  | .hbm, ⟨1, _⟩ => ⟨S8x4096x256, .bf16⟩
  | .hbm, ⟨2, _⟩ => ⟨S8x4096x256, .bf16⟩
  | .hbm, ⟨3, _⟩ => ⟨S8x256x256, .bf16⟩
  | .hbm, ⟨4, _⟩ => ⟨S8x256x256, .bf16⟩
  | .hbm, ⟨5, _⟩ => ⟨S8, .f32⟩
  | .hbm, ⟨6, _⟩ => ⟨S8x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x1024x512, .bf16⟩
  | .local _ .vmem, ⟨11, _⟩ => ⟨S1x1024x512, .bf16⟩
  | .local _ .smem, ⟨0, _⟩ => ⟨S8, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let c29_i32 : BitVec 32 := 29#32
  let c0_i32_0 : BitVec 32 := 0#32
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c29_i32 v3
  let c128_i32 : BitVec 32 := 128#32
  let v5 : BitVec 32 := Scalar.muli v4 c128_i32
  v5
def k0_off1 (i : grid0.Coords) (c0_i32 : BitVec 32) : Fin 3 → Nat :=
  let c0_3 : Index := 0#32
  let c29_i32 : BitVec 32 := 29#32
  let c0_i32_0 : BitVec 32 := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c1_i32 : BitVec 32 := 1#32
  let v2 : BitVec 32 := Scalar.subi v1 c1_i32
  let v3 : BitVec 32 := Scalar.maxsi c0_i32_0 v2
  let v4 : BitVec 32 := Scalar.minsi c29_i32 v3
  let c128_i32 : BitVec 32 := 128#32
  let v5 : BitVec 32 := Scalar.muli v4 c128_i32
  let v6 : BitVec 32 := v5
  let v10 : Index := Scalar.indexCast v6
  let c0_4 : Index := 0#32
  ![0, v10.toNat, 0]
def k0_mult2 (i : grid0.Coords) : BitVec 32 :=
  let c29_i32_68 : BitVec 32 := 29#32
  let c0_i32_67 : BitVec 32 := 0#32
  let arg1 : BitVec 32 := BitVec.ofNat 32 (i 1).val
  let c8_i32_64 : BitVec 32 := 8#32
  let v221 : BitVec 32 := Scalar.muli arg1 c8_i32_64
  let c1_i32_65 : BitVec 32 := 1#32
  let v222 : BitVec 32 := Scalar.addi v221 c1_i32_65
  let c1_i32_66 : BitVec 32 := 1#32
  let v223 : BitVec 32 := Scalar.subi v222 c1_i32_66
  let v224 : BitVec 32 := Scalar.maxsi c0_i32_67 v223
  let v225 : BitVec 32 := Scalar.minsi c29_i32_68 v224
  let c128_i32_69 : BitVec 32 := 128#32
  let v226 : BitVec 32 := Scalar.muli v225 c128_i32_69
  v226
def k0_mult3 (i : grid0.Coords) : BitVec 32 :=
  let c29_i32_154 : BitVec 32 := 29#32
  let c0_i32_153 : BitVec 32 := 0#32
  let arg1 : BitVec 32 := BitVec.ofNat 32 (i 1).val
  let c8_i32_150 : BitVec 32 := 8#32
  let v442 : BitVec 32 := Scalar.muli arg1 c8_i32_150
  let c2_i32_151 : BitVec 32 := 2#32
  let v443 : BitVec 32 := Scalar.addi v442 c2_i32_151
  let c1_i32_152 : BitVec 32 := 1#32
  let v444 : BitVec 32 := Scalar.subi v443 c1_i32_152
  let v445 : BitVec 32 := Scalar.maxsi c0_i32_153 v444
  let v446 : BitVec 32 := Scalar.minsi c29_i32_154 v445
  let c128_i32_155 : BitVec 32 := 128#32
  let v447 : BitVec 32 := Scalar.muli v446 c128_i32_155
  v447
def k0_mult4 (i : grid0.Coords) : BitVec 32 :=
  let c29_i32_240 : BitVec 32 := 29#32
  let c0_i32_239 : BitVec 32 := 0#32
  let arg1 : BitVec 32 := BitVec.ofNat 32 (i 1).val
  let c8_i32_236 : BitVec 32 := 8#32
  let v663 : BitVec 32 := Scalar.muli arg1 c8_i32_236
  let c3_i32_237 : BitVec 32 := 3#32
  let v664 : BitVec 32 := Scalar.addi v663 c3_i32_237
  let c1_i32_238 : BitVec 32 := 1#32
  let v665 : BitVec 32 := Scalar.subi v664 c1_i32_238
  let v666 : BitVec 32 := Scalar.maxsi c0_i32_239 v665
  let v667 : BitVec 32 := Scalar.minsi c29_i32_240 v666
  let c128_i32_241 : BitVec 32 := 128#32
  let v668 : BitVec 32 := Scalar.muli v667 c128_i32_241
  v668
def k0_mult5 (i : grid0.Coords) : BitVec 32 :=
  let c29_i32_325 : BitVec 32 := 29#32
  let c0_i32_324 : BitVec 32 := 0#32
  let arg1 : BitVec 32 := BitVec.ofNat 32 (i 1).val
  let c8_i32_322 : BitVec 32 := 8#32
  let v884 : BitVec 32 := Scalar.muli arg1 c8_i32_322
  let c4_i32 : BitVec 32 := 4#32
  let v885 : BitVec 32 := Scalar.addi v884 c4_i32
  let c1_i32_323 : BitVec 32 := 1#32
  let v886 : BitVec 32 := Scalar.subi v885 c1_i32_323
  let v887 : BitVec 32 := Scalar.maxsi c0_i32_324 v886
  let v888 : BitVec 32 := Scalar.minsi c29_i32_325 v887
  let c128_i32_326 : BitVec 32 := 128#32
  let v889 : BitVec 32 := Scalar.muli v888 c128_i32_326
  v889
def k0_mult6 (i : grid0.Coords) : BitVec 32 :=
  let c29_i32_409 : BitVec 32 := 29#32
  let c0_i32_408 : BitVec 32 := 0#32
  let arg1 : BitVec 32 := BitVec.ofNat 32 (i 1).val
  let c8_i32_406 : BitVec 32 := 8#32
  let v1105 : BitVec 32 := Scalar.muli arg1 c8_i32_406
  let c5_i32 : BitVec 32 := 5#32
  let v1106 : BitVec 32 := Scalar.addi v1105 c5_i32
  let c1_i32_407 : BitVec 32 := 1#32
  let v1107 : BitVec 32 := Scalar.subi v1106 c1_i32_407
  let v1108 : BitVec 32 := Scalar.maxsi c0_i32_408 v1107
  let v1109 : BitVec 32 := Scalar.minsi c29_i32_409 v1108
  let c128_i32_410 : BitVec 32 := 128#32
  let v1110 : BitVec 32 := Scalar.muli v1109 c128_i32_410
  v1110
def k0_mult7 (i : grid0.Coords) : BitVec 32 :=
  let c29_i32_493 : BitVec 32 := 29#32
  let c0_i32_492 : BitVec 32 := 0#32
  let arg1 : BitVec 32 := BitVec.ofNat 32 (i 1).val
  let c8_i32_490 : BitVec 32 := 8#32
  let v1326 : BitVec 32 := Scalar.muli arg1 c8_i32_490
  let c6_i32 : BitVec 32 := 6#32
  let v1327 : BitVec 32 := Scalar.addi v1326 c6_i32
  let c1_i32_491 : BitVec 32 := 1#32
  let v1328 : BitVec 32 := Scalar.subi v1327 c1_i32_491
  let v1329 : BitVec 32 := Scalar.maxsi c0_i32_492 v1328
  let v1330 : BitVec 32 := Scalar.minsi c29_i32_493 v1329
  let c128_i32_494 : BitVec 32 := 128#32
  let v1331 : BitVec 32 := Scalar.muli v1330 c128_i32_494
  v1331
def k0_mult8 (i : grid0.Coords) : BitVec 32 :=
  let c29_i32_578 : BitVec 32 := 29#32
  let c0_i32_577 : BitVec 32 := 0#32
  let arg1 : BitVec 32 := BitVec.ofNat 32 (i 1).val
  let c8_i32_574 : BitVec 32 := 8#32
  let v1547 : BitVec 32 := Scalar.muli arg1 c8_i32_574
  let c7_i32_575 : BitVec 32 := 7#32
  let v1548 : BitVec 32 := Scalar.addi v1547 c7_i32_575
  let c1_i32_576 : BitVec 32 := 1#32
  let v1549 : BitVec 32 := Scalar.subi v1548 c1_i32_576
  let v1550 : BitVec 32 := Scalar.maxsi c0_i32_577 v1549
  let v1551 : BitVec 32 := Scalar.minsi c29_i32_578 v1550
  let c128_i32_579 : BitVec 32 := 128#32
  let v1552 : BitVec 32 := Scalar.muli v1551 c128_i32_579
  v1552
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S8x4096x256 : Shape := ⟨3, ![8, 4096, 256]⟩
abbrev S8x256x256 : Shape := ⟨3, ![8, 256, 256]⟩
abbrev S8 : Shape := ⟨1, ![8]⟩
abbrev S_ : Shape := ⟨0, ![]⟩
abbrev S8x4096x2x2x2x64 : Shape := ⟨6, ![8, 4096, 2, 2, 2, 64]⟩
abbrev S8x4096x2x2x64 : Shape := ⟨5, ![8, 4096, 2, 2, 64]⟩
abbrev S8x256x2x2x64 : Shape := ⟨5, ![8, 256, 2, 2, 64]⟩
abbrev S1x2x2x2x1x1 : Shape := ⟨6, ![1, 2, 2, 2, 1, 1]⟩
abbrev S8x2x2x2x4096x1 : Shape := ⟨6, ![8, 2, 2, 2, 4096, 1]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x2x2x4096x4096x2 : Shape := ⟨6, ![8, 2, 2, 4096, 4096, 2]⟩
abbrev S8x2x2x2x4096x4096 : Shape := ⟨6, ![8, 2, 2, 2, 4096, 4096]⟩
abbrev S8x2x2x256x4096x2 : Shape := ⟨6, ![8, 2, 2, 256, 4096, 2]⟩
abbrev S8x2x2x2x4096x256 : Shape := ⟨6, ![8, 2, 2, 2, 4096, 256]⟩
abbrev S8x2x2x2x4096x4353 : Shape := ⟨6, ![8, 2, 2, 2, 4096, 4353]⟩
abbrev S8x2x2x2x4096 : Shape := ⟨5, ![8, 2, 2, 2, 4096]⟩
abbrev S8x2x2x64x2x4096 : Shape := ⟨6, ![8, 2, 2, 64, 2, 4096]⟩

abbrev nBuf : Space → Nat
  | .hbm => 71
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x256, .bf16⟩
  | .hbm, ⟨2, _⟩ => ⟨S8x4096x256, .bf16⟩
  | .hbm, ⟨3, _⟩ => ⟨S8x256x256, .bf16⟩
  | .hbm, ⟨4, _⟩ => ⟨S8x256x256, .bf16⟩
  | .hbm, ⟨5, _⟩ => ⟨S8, .f32⟩
  | .hbm, ⟨6, _⟩ => ⟨S_, .f32⟩
  | .hbm, ⟨7, _⟩ => ⟨S_, .f32⟩
  | .hbm, ⟨8, _⟩ => ⟨S8x4096x512, .f32⟩
  | .hbm, ⟨9, _⟩ => ⟨S8x4096x2x2x2x64, .f32⟩
  | .hbm, ⟨10, _⟩ => ⟨S8x4096x256, .f32⟩
  | .hbm, ⟨11, _⟩ => ⟨S8x4096x2x2x64, .f32⟩
  | .hbm, ⟨12, _⟩ => ⟨S8x4096x256, .f32⟩
  | .hbm, ⟨13, _⟩ => ⟨S8x4096x2x2x64, .f32⟩
  | .hbm, ⟨14, _⟩ => ⟨S8x256x256, .f32⟩
  | .hbm, ⟨15, _⟩ => ⟨S8x256x2x2x64, .f32⟩
  | .hbm, ⟨16, _⟩ => ⟨S8x256x256, .f32⟩
  | .hbm, ⟨17, _⟩ => ⟨S8x256x2x2x64, .f32⟩
  | .hbm, ⟨18, _⟩ => ⟨S1x2x2x2x1x1, .f32⟩
  | .hbm, ⟨19, _⟩ => ⟨S1x2x2x2x1x1, .f32⟩
  | .hbm, ⟨20, _⟩ => ⟨S1x2x2x2x1x1, .f32⟩
  | .hbm, ⟨21, _⟩ => ⟨S8x2x2x2x4096x1, .f32⟩
  | .hbm, ⟨22, _⟩ => ⟨S4096, .i32⟩
  | .hbm, ⟨23, _⟩ => ⟨S4096x1, .i32⟩
  | .hbm, ⟨24, _⟩ => ⟨S1x4096, .i32⟩
  | .hbm, ⟨25, _⟩ => ⟨S4096x4096, .i32⟩
  | .hbm, ⟨26, _⟩ => ⟨S4096x4096, .i32⟩
  | .hbm, ⟨27, _⟩ => ⟨S4096x4096, .i32⟩
  | .hbm, ⟨28, _⟩ => ⟨S4096x4096, .i32⟩
  | .hbm, ⟨29, _⟩ => ⟨S_, .i32⟩
  | .hbm, ⟨30, _⟩ => ⟨S4096x4096, .i32⟩
  | .hbm, ⟨31, _⟩ => ⟨S4096x4096, .i1⟩
  | .hbm, ⟨32, _⟩ => ⟨S8x2x2x4096x4096x2, .f32⟩
  | .hbm, ⟨33, _⟩ => ⟨S8x2x2x2x4096x4096, .f32⟩
  | .hbm, ⟨34, _⟩ => ⟨S8x2x2x2x4096x4096, .f32⟩
  | .hbm, ⟨35, _⟩ => ⟨S8x2x2x2x4096x4096, .f32⟩
  | .hbm, ⟨36, _⟩ => ⟨S_, .f32⟩
  | .hbm, ⟨37, _⟩ => ⟨S_, .f32⟩
  | .hbm, ⟨38, _⟩ => ⟨S8x2x2x2x4096x4096, .i1⟩
  | .hbm, ⟨39, _⟩ => ⟨S8x2x2x2x4096x4096, .f32⟩
  | .hbm, ⟨40, _⟩ => ⟨S8x2x2x2x4096x4096, .f32⟩
  | .hbm, ⟨41, _⟩ => ⟨S8x2x2x256x4096x2, .f32⟩
  | .hbm, ⟨42, _⟩ => ⟨S8x2x2x2x4096x256, .f32⟩
  | .hbm, ⟨43, _⟩ => ⟨S8x2x2x2x4096x256, .f32⟩
  | .hbm, ⟨44, _⟩ => ⟨S8x2x2x2x4096x256, .f32⟩
  | .hbm, ⟨45, _⟩ => ⟨S8x2x2x2x4096x4353, .f32⟩
  | .hbm, ⟨46, _⟩ => ⟨S_, .f32⟩
  | .hbm, ⟨47, _⟩ => ⟨S8x2x2x2x4096, .f32⟩
  | .hbm, ⟨48, _⟩ => ⟨S_, .f32⟩
  | .hbm, ⟨49, _⟩ => ⟨S8x2x2x2x4096, .f32⟩
  | .hbm, ⟨50, _⟩ => ⟨S8x2x2x2x4096, .f32⟩
  | .hbm, ⟨51, _⟩ => ⟨S8x2x2x2x4096x1, .f32⟩
  | .hbm, ⟨52, _⟩ => ⟨S8x2x2x2x4096x4353, .f32⟩
  | .hbm, ⟨53, _⟩ => ⟨S8x2x2x2x4096x4353, .f32⟩
  | .hbm, ⟨54, _⟩ => ⟨S8x2x2x2x4096x4353, .f32⟩
  | .hbm, ⟨55, _⟩ => ⟨S_, .f32⟩
  | .hbm, ⟨56, _⟩ => ⟨S8x2x2x2x4096, .f32⟩
  | .hbm, ⟨57, _⟩ => ⟨S8x2x2x2x4096x1, .f32⟩
  | .hbm, ⟨58, _⟩ => ⟨S8x2x2x2x4096x4353, .f32⟩
  | .hbm, ⟨59, _⟩ => ⟨S8x2x2x2x4096x4353, .f32⟩
  | .hbm, ⟨60, _⟩ => ⟨S8x2x2x2x4096x4353, .bf16⟩
  | .hbm, ⟨61, _⟩ => ⟨S8x2x2x2x4096x4353, .f32⟩
  | .hbm, ⟨62, _⟩ => ⟨S8x2x2x2x4096x4096, .f32⟩
  | .hbm, ⟨63, _⟩ => ⟨S8x2x2x64x2x4096, .f32⟩
  | .hbm, ⟨64, _⟩ => ⟨S8x4096x2x2x2x64, .f32⟩
  | .hbm, ⟨65, _⟩ => ⟨S8x2x2x2x4096x256, .f32⟩
  | .hbm, ⟨66, _⟩ => ⟨S8x2x2x64x2x4096, .f32⟩
  | .hbm, ⟨67, _⟩ => ⟨S8x4096x2x2x2x64, .f32⟩
  | .hbm, ⟨68, _⟩ => ⟨S8x4096x2x2x2x64, .f32⟩
  | .hbm, ⟨69, _⟩ => ⟨S8x4096x512, .f32⟩
  | .hbm, ⟨70, _⟩ => ⟨S8x4096x512, .bf16⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_0 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_1 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩

abbrev nD : Nat := 1
abbrev τ : Topo := Topo.v7x

variable {F : FTy → Type} [FloatOps F]
-- ==== Kernel2.lean ====
abbrev S128x1x512 : Shape := ⟨3, ![128, 1, 512]⟩
abbrev S8x4096x1024 : Shape := ⟨3, ![8, 4096, 1024]⟩
abbrev S16x1024x1024 : Shape := ⟨3, ![16, 1024, 1024]⟩
abbrev S8x16x512x1024 : Shape := ⟨4, ![8, 16, 512, 1024]⟩
abbrev S1x1x512 : Shape := ⟨3, ![1, 1, 512]⟩
abbrev S1x4096x1024 : Shape := ⟨3, ![1, 4096, 1024]⟩
abbrev S1x1024x1024 : Shape := ⟨3, ![1, 1024, 1024]⟩
abbrev S1x1x512x1024 : Shape := ⟨4, ![1, 1, 512, 1024]⟩
abbrev S2x512x1024 : Shape := ⟨3, ![2, 512, 1024]⟩
abbrev S8x1024 : Shape := ⟨2, ![8, 1024]⟩
abbrev S1x1x1 : Shape := ⟨3, ![1, 1, 1]⟩
abbrev S1x8x1024 : Shape := ⟨3, ![1, 8, 1024]⟩
abbrev S1x512x1024 : Shape := ⟨3, ![1, 512, 1024]⟩
abbrev S512x1024 : Shape := ⟨2, ![512, 1024]⟩
abbrev S1024x1024 : Shape := ⟨2, ![1024, 1024]⟩

abbrev nBuf : Space → Nat
  | .hbm => 6
  | .vmem => 10
  | .smem => 4
  | _ => 0

abbrev bufTy : (tb : Table) → Fin (tcTables nBuf tb) → BufTy
  | .hbm, ⟨0, _⟩ => ⟨S128x1x512, .i32⟩
  | .hbm, ⟨1, _⟩ => ⟨S8x4096x1024, .f32⟩
  | .hbm, ⟨2, _⟩ => ⟨S16x1024x1024, .bf16⟩
  | .hbm, ⟨3, _⟩ => ⟨S16x1024x1024, .bf16⟩
  | .hbm, ⟨4, _⟩ => ⟨S16x1024x1024, .bf16⟩
  | .hbm, ⟨5, _⟩ => ⟨S8x16x512x1024, .f32⟩
  | .local _ .vmem, ⟨0, _⟩ => ⟨S1x4096x1024, .f32⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1x512x1024, .f32⟩
  | .local _ .vmem, ⟨8, _⟩ => ⟨S1x1x512x1024, .f32⟩
  | .local _ .vmem, ⟨9, _⟩ => ⟨S2x512x1024, .f32⟩
  | .local _ .smem, ⟨0, _⟩ => ⟨S1x1x512, .i32⟩
  | .local _ .smem, ⟨1, _⟩ => ⟨S1x1x512, .i32⟩
  | .local _ .smem, ⟨2, _⟩ => ⟨S1x1x512, .i32⟩
  | .local _ .smem, ⟨3, _⟩ => ⟨S1x1x512, .i32⟩
  | _, _ => ⟨S128x1x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_4496 : BitVec 32 := 0#32
  let c64_i32 : BitVec 32 := 64#32
  let v7135 : BitVec 32 := Scalar.addi c0_i32_4496 c64_i32
  let c1_i32_4497 : BitVec 32 := 1#32
  ⟨c0_i32_4496, v7135, c1_i32_4497⟩
def k0_mult1 (k0_t1 : Fin k0_t1_loop.trips) : BitVec 32 :=
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  v7136
def k0_off1 (k0_t1 : Fin k0_t1_loop.trips) : Fin 3 → Nat :=
  let c0_4501 : Index := 0#32
  let c0_4502 : Index := 0#32
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let c0_i32_4500 : BitVec 32 := 0#32
  let v7139 : BitVec 32 := Scalar.addi v7137 c0_i32_4500
  let v7140 : Index := Scalar.indexCast v7139
  ![0, 0, v7140.toNat]
def k0_mult2 (v7141 : BitVec 32) : BitVec 32 :=
  let c7_i32_4503 : BitVec 32 := 7#32
  let v7142 : BitVec 32 := Scalar.andi v7141 c7_i32_4503
  let v7143 : BitVec 32 := Scalar.subi v7141 v7142
  v7143

def k0_off2 (v7141 : BitVec 32) : Fin 3 → Nat :=
  let c0_4504 : Index := 0#32
  let c7_i32_4503 : BitVec 32 := 7#32
  let v7142 : BitVec 32 := Scalar.andi v7141 c7_i32_4503
  let v7143 : BitVec 32 := Scalar.subi v7141 v7142
  let v7144 : BitVec 32 := v7143
  let v7145 : Index := Scalar.indexCast v7144
  let c0_4505 : Index := 0#32
  ![0, v7145.toNat, 0]

def k0_chk1 (i : grid0.Coords) (v7141 : BitVec 32) : Prop :=
  (∀ (k0_h1 : k0_cond1 i = 1#1), 8 ∣ (k0_mult2 v7141).toNat) ∧
  (∀ (k0_h1 : k0_cond1 i = 1#1), ∀ a, (k0_off2 v7141) a + S1x8x1024.size a ≤ S1x4096x1024.size a)
theorem k0_mult2_dvd : ∀ (i : grid0.Coords) (v7141 : BitVec 32) (k0_hw1 : k0_chk1 i v7141), ∀ (k0_h1 : k0_cond1 i = 1#1), 8 ∣ (k0_mult2 v7141).toNat := fun i v7141 k0_hw1 k0_h1 => k0_hw1.1 k0_h1
theorem k0_off2_inb : ∀ (i : grid0.Coords) (v7141 : BitVec 32) (k0_hw1 : k0_chk1 i v7141), ∀ (k0_h1 : k0_cond1 i = 1#1), ∀ a, (k0_off2 v7141) a + S1x8x1024.size a ≤ S1x4096x1024.size a := fun i v7141 k0_hw1 k0_h1 => k0_hw1.2 k0_h1

def k0_off3 (k0_t1 : Fin k0_t1_loop.trips) : Fin 3 → Nat :=
  let c0_4510 : Index := 0#32
  let c0_4511 : Index := 0#32
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let c1_i32_4509 : BitVec 32 := 1#32
  let v7154 : BitVec 32 := Scalar.addi v7137 c1_i32_4509
  let v7155 : Index := Scalar.indexCast v7154
  ![0, 0, v7155.toNat]
def k0_mult3 (v7156 : BitVec 32) : BitVec 32 :=
  let c7_i32_4512 : BitVec 32 := 7#32
  let v7157 : BitVec 32 := Scalar.andi v7156 c7_i32_4512
  let v7158 : BitVec 32 := Scalar.subi v7156 v7157
  v7158

def k0_off4 (v7156 : BitVec 32) : Fin 3 → Nat :=
  let c0_4513 : Index := 0#32
  let c7_i32_4512 : BitVec 32 := 7#32
  let v7157 : BitVec 32 := Scalar.andi v7156 c7_i32_4512
  let v7158 : BitVec 32 := Scalar.subi v7156 v7157
  let v7159 : BitVec 32 := v7158
  let v7160 : Index := Scalar.indexCast v7159
  let c0_4514 : Index := 0#32
  ![0, v7160.toNat, 0]

def k0_chk2 (i : grid0.Coords) (v7156 : BitVec 32) : Prop :=
  (∀ (k0_h1 : k0_cond1 i = 1#1), 8 ∣ (k0_mult3 v7156).toNat) ∧
  (∀ (k0_h1 : k0_cond1 i = 1#1), ∀ a, (k0_off4 v7156) a + S1x8x1024.size a ≤ S1x4096x1024.size a)
theorem k0_mult3_dvd : ∀ (i : grid0.Coords) (v7156 : BitVec 32) (k0_hw2 : k0_chk2 i v7156), ∀ (k0_h1 : k0_cond1 i = 1#1), 8 ∣ (k0_mult3 v7156).toNat := fun i v7156 k0_hw2 k0_h1 => k0_hw2.1 k0_h1
theorem k0_off4_inb : ∀ (i : grid0.Coords) (v7156 : BitVec 32) (k0_hw2 : k0_chk2 i v7156), ∀ (k0_h1 : k0_cond1 i = 1#1), ∀ a, (k0_off4 v7156) a + S1x8x1024.size a ≤ S1x4096x1024.size a := fun i v7156 k0_hw2 k0_h1 => k0_hw2.2 k0_h1

def k0_off5 (k0_t1 : Fin k0_t1_loop.trips) : Fin 3 → Nat :=
  let c0_4519 : Index := 0#32
  let c0_4520 : Index := 0#32
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let c2_i32_4518 : BitVec 32 := 2#32
  let v7169 : BitVec 32 := Scalar.addi v7137 c2_i32_4518
  let v7170 : Index := Scalar.indexCast v7169
  ![0, 0, v7170.toNat]
def k0_mult4 (v7171 : BitVec 32) : BitVec 32 :=
  let c7_i32_4521 : BitVec 32 := 7#32
  let v7172 : BitVec 32 := Scalar.andi v7171 c7_i32_4521
  let v7173 : BitVec 32 := Scalar.subi v7171 v7172
  v7173

def k0_off6 (v7171 : BitVec 32) : Fin 3 → Nat :=
  let c0_4522 : Index := 0#32
  let c7_i32_4521 : BitVec 32 := 7#32
  let v7172 : BitVec 32 := Scalar.andi v7171 c7_i32_4521
  let v7173 : BitVec 32 := Scalar.subi v7171 v7172
  let v7174 : BitVec 32 := v7173
  let v7175 : Index := Scalar.indexCast v7174
  let c0_4523 : Index := 0#32
  ![0, v7175.toNat, 0]

def k0_chk3 (i : grid0.Coords) (v7171 : BitVec 32) : Prop :=
  (∀ (k0_h1 : k0_cond1 i = 1#1), 8 ∣ (k0_mult4 v7171).toNat) ∧
  (∀ (k0_h1 : k0_cond1 i = 1#1), ∀ a, (k0_off6 v7171) a + S1x8x1024.size a ≤ S1x4096x1024.size a)
theorem k0_mult4_dvd : ∀ (i : grid0.Coords) (v7171 : BitVec 32) (k0_hw3 : k0_chk3 i v7171), ∀ (k0_h1 : k0_cond1 i = 1#1), 8 ∣ (k0_mult4 v7171).toNat := fun i v7171 k0_hw3 k0_h1 => k0_hw3.1 k0_h1
theorem k0_off6_inb : ∀ (i : grid0.Coords) (v7171 : BitVec 32) (k0_hw3 : k0_chk3 i v7171), ∀ (k0_h1 : k0_cond1 i = 1#1), ∀ a, (k0_off6 v7171) a + S1x8x1024.size a ≤ S1x4096x1024.size a := fun i v7171 k0_hw3 k0_h1 => k0_hw3.2 k0_h1

def k0_off7 (k0_t1 : Fin k0_t1_loop.trips) : Fin 3 → Nat :=
  let c0_4528 : Index := 0#32
  let c0_4529 : Index := 0#32
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let c3_i32_4527 : BitVec 32 := 3#32
  let v7184 : BitVec 32 := Scalar.addi v7137 c3_i32_4527
  let v7185 : Index := Scalar.indexCast v7184
  ![0, 0, v7185.toNat]
def k0_mult5 (v7186 : BitVec 32) : BitVec 32 :=
  let c7_i32_4530 : BitVec 32 := 7#32
  let v7187 : BitVec 32 := Scalar.andi v7186 c7_i32_4530
  let v7188 : BitVec 32 := Scalar.subi v7186 v7187
  v7188

def k0_off8 (v7186 : BitVec 32) : Fin 3 → Nat :=
  let c0_4531 : Index := 0#32
  let c7_i32_4530 : BitVec 32 := 7#32
  let v7187 : BitVec 32 := Scalar.andi v7186 c7_i32_4530
  let v7188 : BitVec 32 := Scalar.subi v7186 v7187
  let v7189 : BitVec 32 := v7188
  let v7190 : Index := Scalar.indexCast v7189
  let c0_4532 : Index := 0#32
  ![0, v7190.toNat, 0]

def k0_chk4 (i : grid0.Coords) (v7186 : BitVec 32) : Prop :=
  (∀ (k0_h1 : k0_cond1 i = 1#1), 8 ∣ (k0_mult5 v7186).toNat) ∧
  (∀ (k0_h1 : k0_cond1 i = 1#1), ∀ a, (k0_off8 v7186) a + S1x8x1024.size a ≤ S1x4096x1024.size a)
theorem k0_mult5_dvd : ∀ (i : grid0.Coords) (v7186 : BitVec 32) (k0_hw4 : k0_chk4 i v7186), ∀ (k0_h1 : k0_cond1 i = 1#1), 8 ∣ (k0_mult5 v7186).toNat := fun i v7186 k0_hw4 k0_h1 => k0_hw4.1 k0_h1
theorem k0_off8_inb : ∀ (i : grid0.Coords) (v7186 : BitVec 32) (k0_hw4 : k0_chk4 i v7186), ∀ (k0_h1 : k0_cond1 i = 1#1), ∀ a, (k0_off8 v7186) a + S1x8x1024.size a ≤ S1x4096x1024.size a := fun i v7186 k0_hw4 k0_h1 => k0_hw4.2 k0_h1

def k0_off9 (k0_t1 : Fin k0_t1_loop.trips) : Fin 3 → Nat :=
  let c0_4537 : Index := 0#32
  let c0_4538 : Index := 0#32
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let c4_i32_4536 : BitVec 32 := 4#32
  let v7199 : BitVec 32 := Scalar.addi v7137 c4_i32_4536
  let v7200 : Index := Scalar.indexCast v7199
  ![0, 0, v7200.toNat]
def k0_mult6 (v7201 : BitVec 32) : BitVec 32 :=
  let c7_i32_4539 : BitVec 32 := 7#32
  let v7202 : BitVec 32 := Scalar.andi v7201 c7_i32_4539
  let v7203 : BitVec 32 := Scalar.subi v7201 v7202
  v7203

def k0_off10 (v7201 : BitVec 32) : Fin 3 → Nat :=
  let c0_4540 : Index := 0#32
  let c7_i32_4539 : BitVec 32 := 7#32
  let v7202 : BitVec 32 := Scalar.andi v7201 c7_i32_4539
  let v7203 : BitVec 32 := Scalar.subi v7201 v7202
  let v7204 : BitVec 32 := v7203
  let v7205 : Index := Scalar.indexCast v7204
  let c0_4541 : Index := 0#32
  ![0, v7205.toNat, 0]

def k0_chk5 (i : grid0.Coords) (v7201 : BitVec 32) : Prop :=
  (∀ (k0_h1 : k0_cond1 i = 1#1), 8 ∣ (k0_mult6 v7201).toNat) ∧
  (∀ (k0_h1 : k0_cond1 i = 1#1), ∀ a, (k0_off10 v7201) a + S1x8x1024.size a ≤ S1x4096x1024.size a)
theorem k0_mult6_dvd : ∀ (i : grid0.Coords) (v7201 : BitVec 32) (k0_hw5 : k0_chk5 i v7201), ∀ (k0_h1 : k0_cond1 i = 1#1), 8 ∣ (k0_mult6 v7201).toNat := fun i v7201 k0_hw5 k0_h1 => k0_hw5.1 k0_h1
theorem k0_off10_inb : ∀ (i : grid0.Coords) (v7201 : BitVec 32) (k0_hw5 : k0_chk5 i v7201), ∀ (k0_h1 : k0_cond1 i = 1#1), ∀ a, (k0_off10 v7201) a + S1x8x1024.size a ≤ S1x4096x1024.size a := fun i v7201 k0_hw5 k0_h1 => k0_hw5.2 k0_h1

def k0_off11 (k0_t1 : Fin k0_t1_loop.trips) : Fin 3 → Nat :=
  let c0_4546 : Index := 0#32
  let c0_4547 : Index := 0#32
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let c5_i32_4545 : BitVec 32 := 5#32
  let v7214 : BitVec 32 := Scalar.addi v7137 c5_i32_4545
  let v7215 : Index := Scalar.indexCast v7214
  ![0, 0, v7215.toNat]
def k0_mult7 (v7216 : BitVec 32) : BitVec 32 :=
  let c7_i32_4548 : BitVec 32 := 7#32
  let v7217 : BitVec 32 := Scalar.andi v7216 c7_i32_4548
  let v7218 : BitVec 32 := Scalar.subi v7216 v7217
  v7218

def k0_off12 (v7216 : BitVec 32) : Fin 3 → Nat :=
  let c0_4549 : Index := 0#32
  let c7_i32_4548 : BitVec 32 := 7#32
  let v7217 : BitVec 32 := Scalar.andi v7216 c7_i32_4548
  let v7218 : BitVec 32 := Scalar.subi v7216 v7217
  let v7219 : BitVec 32 := v7218
  let v7220 : Index := Scalar.indexCast v7219
  let c0_4550 : Index := 0#32
  ![0, v7220.toNat, 0]

def k0_chk6 (i : grid0.Coords) (v7216 : BitVec 32) : Prop :=
  (∀ (k0_h1 : k0_cond1 i = 1#1), 8 ∣ (k0_mult7 v7216).toNat) ∧
  (∀ (k0_h1 : k0_cond1 i = 1#1), ∀ a, (k0_off12 v7216) a + S1x8x1024.size a ≤ S1x4096x1024.size a)
theorem k0_mult7_dvd : ∀ (i : grid0.Coords) (v7216 : BitVec 32) (k0_hw6 : k0_chk6 i v7216), ∀ (k0_h1 : k0_cond1 i = 1#1), 8 ∣ (k0_mult7 v7216).toNat := fun i v7216 k0_hw6 k0_h1 => k0_hw6.1 k0_h1
theorem k0_off12_inb : ∀ (i : grid0.Coords) (v7216 : BitVec 32) (k0_hw6 : k0_chk6 i v7216), ∀ (k0_h1 : k0_cond1 i = 1#1), ∀ a, (k0_off12 v7216) a + S1x8x1024.size a ≤ S1x4096x1024.size a := fun i v7216 k0_hw6 k0_h1 => k0_hw6.2 k0_h1

def k0_off13 (k0_t1 : Fin k0_t1_loop.trips) : Fin 3 → Nat :=
  let c0_4555 : Index := 0#32
  let c0_4556 : Index := 0#32
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let c6_i32_4554 : BitVec 32 := 6#32
  let v7229 : BitVec 32 := Scalar.addi v7137 c6_i32_4554
  let v7230 : Index := Scalar.indexCast v7229
  ![0, 0, v7230.toNat]
def k0_mult8 (v7231 : BitVec 32) : BitVec 32 :=
  let c7_i32_4557 : BitVec 32 := 7#32
  let v7232 : BitVec 32 := Scalar.andi v7231 c7_i32_4557
  let v7233 : BitVec 32 := Scalar.subi v7231 v7232
  v7233

def k0_off14 (v7231 : BitVec 32) : Fin 3 → Nat :=
  let c0_4558 : Index := 0#32
  let c7_i32_4557 : BitVec 32 := 7#32
  let v7232 : BitVec 32 := Scalar.andi v7231 c7_i32_4557
  let v7233 : BitVec 32 := Scalar.subi v7231 v7232
  let v7234 : BitVec 32 := v7233
  let v7235 : Index := Scalar.indexCast v7234
  let c0_4559 : Index := 0#32
  ![0, v7235.toNat, 0]

def k0_chk7 (i : grid0.Coords) (v7231 : BitVec 32) : Prop :=
  (∀ (k0_h1 : k0_cond1 i = 1#1), 8 ∣ (k0_mult8 v7231).toNat) ∧
  (∀ (k0_h1 : k0_cond1 i = 1#1), ∀ a, (k0_off14 v7231) a + S1x8x1024.size a ≤ S1x4096x1024.size a)
theorem k0_mult8_dvd : ∀ (i : grid0.Coords) (v7231 : BitVec 32) (k0_hw7 : k0_chk7 i v7231), ∀ (k0_h1 : k0_cond1 i = 1#1), 8 ∣ (k0_mult8 v7231).toNat := fun i v7231 k0_hw7 k0_h1 => k0_hw7.1 k0_h1
theorem k0_off14_inb : ∀ (i : grid0.Coords) (v7231 : BitVec 32) (k0_hw7 : k0_chk7 i v7231), ∀ (k0_h1 : k0_cond1 i = 1#1), ∀ a, (k0_off14 v7231) a + S1x8x1024.size a ≤ S1x4096x1024.size a := fun i v7231 k0_hw7 k0_h1 => k0_hw7.2 k0_h1

def k0_off15 (k0_t1 : Fin k0_t1_loop.trips) : Fin 3 → Nat :=
  let c0_4564 : Index := 0#32
  let c0_4565 : Index := 0#32
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let c7_i32_4563 : BitVec 32 := 7#32
  let v7244 : BitVec 32 := Scalar.addi v7137 c7_i32_4563
  let v7245 : Index := Scalar.indexCast v7244
  ![0, 0, v7245.toNat]
def k0_mult9 (v7246 : BitVec 32) : BitVec 32 :=
  let c7_i32_4566 : BitVec 32 := 7#32
  let v7247 : BitVec 32 := Scalar.andi v7246 c7_i32_4566
  let v7248 : BitVec 32 := Scalar.subi v7246 v7247
  v7248

def k0_off16 (v7246 : BitVec 32) : Fin 3 → Nat :=
  let c0_4567 : Index := 0#32
  let c7_i32_4566 : BitVec 32 := 7#32
  let v7247 : BitVec 32 := Scalar.andi v7246 c7_i32_4566
  let v7248 : BitVec 32 := Scalar.subi v7246 v7247
  let v7249 : BitVec 32 := v7248
  let v7250 : Index := Scalar.indexCast v7249
  let c0_4568 : Index := 0#32
  ![0, v7250.toNat, 0]

def k0_chk8 (i : grid0.Coords) (v7246 : BitVec 32) : Prop :=
  (∀ (k0_h1 : k0_cond1 i = 1#1), 8 ∣ (k0_mult9 v7246).toNat) ∧
  (∀ (k0_h1 : k0_cond1 i = 1#1), ∀ a, (k0_off16 v7246) a + S1x8x1024.size a ≤ S1x4096x1024.size a)
theorem k0_mult9_dvd : ∀ (i : grid0.Coords) (v7246 : BitVec 32) (k0_hw8 : k0_chk8 i v7246), ∀ (k0_h1 : k0_cond1 i = 1#1), 8 ∣ (k0_mult9 v7246).toNat := fun i v7246 k0_hw8 k0_h1 => k0_hw8.1 k0_h1
theorem k0_off16_inb : ∀ (i : grid0.Coords) (v7246 : BitVec 32) (k0_hw8 : k0_chk8 i v7246), ∀ (k0_h1 : k0_cond1 i = 1#1), ∀ a, (k0_off16 v7246) a + S1x8x1024.size a ≤ S1x4096x1024.size a := fun i v7246 k0_hw8 k0_h1 => k0_hw8.2 k0_h1

def k0_off17 (k0_t1 : Fin k0_t1_loop.trips) : Fin 2 → Nat :=
  let c0_i32_4496 : BitVec 32 := 0#32
  let c1_i32_4497 : BitVec 32 := 1#32
  let arg10 : BitVec 32 := Scf.iv c0_i32_4496 c1_i32_4497 k0_t1
  let c8_i32 : BitVec 32 := 8#32
  let v7136 : BitVec 32 := Scalar.muli arg10 c8_i32
  let v7137 : BitVec 32 := v7136
  let v7261 : Index := Scalar.indexCast v7137
  let c0_4574 : Index := 0#32
  ![v7261.toNat, 0]
def k0_off18 (i : grid0.Coords) : Fin 3 → Nat :=
  let arg1 : BitVec 32 := BitVec.ofNat 32 (i 1).val
  let c1_i32 : BitVec 32 := 1#32
  let v1 : BitVec 32 := Scalar.andi arg1 c1_i32
  let v5 : Index := Scalar.indexCast v1
  let c0 : Index := 0#32
  let c0_1 : Index := 0#32
  ![v5.toNat, 0, 0]
def k0_mult10 (v33 : BitVec 32) : BitVec 32 :=
  let c7_i32 : BitVec 32 := 7#32
  let v34 : BitVec 32 := Scalar.andi v33 c7_i32
  let v35 : BitVec 32 := Scalar.subi v33 v34
  v35

def k0_off19 (v33 : BitVec 32) : Fin 3 → Nat :=
  let c0_25 : Index := 0#32
  let c7_i32 : BitVec 32 := 7#32
  let v34 : BitVec 32 := Scalar.andi v33 c7_i32
  let v35 : BitVec 32 := Scalar.subi v33 v34
  let v36 : BitVec 32 := v35
  let v37 : Index := Scalar.indexCast v36
  let c0_26 : Index := 0#32
  ![0, v37.toNat, 0]

def k0_chk9 (v33 : BitVec 32) : Prop :=
  (8 ∣ (k0_mult10 v33).toNat) ∧
  (∀ a, (k0_off19 v33) a + S1x8x1024.size a ≤ S1x4096x1024.size a)
theorem k0_mult10_dvd : ∀ (v33 : BitVec 32) (k0_hw9 : k0_chk9 v33), 8 ∣ (k0_mult10 v33).toNat := fun v33 k0_hw9 => k0_hw9.1
theorem k0_off19_inb : ∀ (v33 : BitVec 32) (k0_hw9 : k0_chk9 v33), ∀ a, (k0_off19 v33) a + S1x8x1024.size a ≤ S1x4096x1024.size a := fun v33 k0_hw9 => k0_hw9.2

def k0_mult11 (v46 : BitVec 32) : BitVec 32 :=
  let c7_i32_32 : BitVec 32 := 7#32
  let v47 : BitVec 32 := Scalar.andi v46 c7_i32_32
  let v48 : BitVec 32 := Scalar.subi v46 v47
  v48

def k0_off20 (v46 : BitVec 32) : Fin 3 → Nat :=
  let c0_33 : Index := 0#32
  let c7_i32_32 : BitVec 32 := 7#32
  let v47 : BitVec 32 := Scalar.andi v46 c7_i32_32
  let v48 : BitVec 32 := Scalar.subi v46 v47
  let v49 : BitVec 32 := v48
  let v50 : Index := Scalar.indexCast v49
  let c0_34 : Index := 0#32
  ![0, v50.toNat, 0]

def k0_chk10 (v46 : BitVec 32) : Prop :=
  (8 ∣ (k0_mult11 v46).toNat) ∧
  (∀ a, (k0_off20 v46) a + S1x8x1024.size a ≤ S1x4096x1024.size a)
theorem k0_mult11_dvd : ∀ (v46 : BitVec 32) (k0_hw10 : k0_chk10 v46), 8 ∣ (k0_mult11 v46).toNat := fun v46 k0_hw10 => k0_hw10.1
theorem k0_off20_inb : ∀ (v46 : BitVec 32) (k0_hw10 : k0_chk10 v46), ∀ a, (k0_off20 v46) a + S1x8x1024.size a ≤ S1x4096x1024.size a := fun v46 k0_hw10 => k0_hw10.2

def k0_mult12 (v59 : BitVec 32) : BitVec 32 :=
  let c7_i32_40 : BitVec 32 := 7#32
  let v60 : BitVec 32 := Scalar.andi v59 c7_i32_40
  let v61 : BitVec 32 := Scalar.subi v59 v60
  v61

def k0_off21 (v59 : BitVec 32) : Fin 3 → Nat :=
  let c0_41 : Index := 0#32
  let c7_i32_40 : BitVec 32 := 7#32
  let v60 : BitVec 32 := Scalar.andi v59 c7_i32_40
  let v61 : BitVec 32 := Scalar.subi v59 v60
  let v62 : BitVec 32 := v61
  let v63 : Index := Scalar.indexCast v62
  let c0_42 : Index := 0#32
  ![0, v63.toNat, 0]

def k0_chk11 (v59 : BitVec 32) : Prop :=
  (8 ∣ (k0_mult12 v59).toNat) ∧
  (∀ a, (k0_off21 v59) a + S1x8x1024.size a ≤ S1x4096x1024.size a)
theorem k0_mult12_dvd : ∀ (v59 : BitVec 32) (k0_hw11 : k0_chk11 v59), 8 ∣ (k0_mult12 v59).toNat := fun v59 k0_hw11 => k0_hw11.1
theorem k0_off21_inb : ∀ (v59 : BitVec 32) (k0_hw11 : k0_chk11 v59), ∀ a, (k0_off21 v59) a + S1x8x1024.size a ≤ S1x4096x1024.size a := fun v59 k0_hw11 => k0_hw11.2

def k0_mult13 (v72 : BitVec 32) : BitVec 32 :=
  let c7_i32_47 : BitVec 32 := 7#32
  let v73 : BitVec 32 := Scalar.andi v72 c7_i32_47
  let v74 : BitVec 32 := Scalar.subi v72 v73
  v74

def k0_off22 (v72 : BitVec 32) : Fin 3 → Nat :=
  let c0_48 : Index := 0#32
  let c7_i32_47 : BitVec 32 := 7#32
  let v73 : BitVec 32 := Scalar.andi v72 c7_i32_47
  let v74 : BitVec 32 := Scalar.subi v72 v73
  let v75 : BitVec 32 := v74
  let v76 : Index := Scalar.indexCast v75
  let c0_49 : Index := 0#32
  ![0, v76.toNat, 0]

def k0_chk12 (v72 : BitVec 32) : Prop :=
  (8 ∣ (k0_mult13 v72).toNat) ∧
  (∀ a, (k0_off22 v72) a + S1x8x1024.size a ≤ S1x4096x1024.size a)
theorem k0_mult13_dvd : ∀ (v72 : BitVec 32) (k0_hw12 : k0_chk12 v72), 8 ∣ (k0_mult13 v72).toNat := fun v72 k0_hw12 => k0_hw12.1
theorem k0_off22_inb : ∀ (v72 : BitVec 32) (k0_hw12 : k0_chk12 v72), ∀ a, (k0_off22 v72) a + S1x8x1024.size a ≤ S1x4096x1024.size a := fun v72 k0_hw12 => k0_hw12.2

def k0_mult14 (v85 : BitVec 32) : BitVec 32 :=
  let c7_i32_54 : BitVec 32 := 7#32
  let v86 : BitVec 32 := Scalar.andi v85 c7_i32_54
  let v87 : BitVec 32 := Scalar.subi v85 v86
  v87

def k0_off23 (v85 : BitVec 32) : Fin 3 → Nat :=
  let c0_55 : Index := 0#32
  let c7_i32_54 : BitVec 32 := 7#32
  let v86 : BitVec 32 := Scalar.andi v85 c7_i32_54
  let v87 : BitVec 32 := Scalar.subi v85 v86
  let v88 : BitVec 32 := v87
  let v89 : Index := Scalar.indexCast v88
  let c0_56 : Index := 0#32
  ![0, v89.toNat, 0]

def k0_chk13 (v85 : BitVec 32) : Prop :=
  (8 ∣ (k0_mult14 v85).toNat) ∧
  (∀ a, (k0_off23 v85) a + S1x8x1024.size a ≤ S1x4096x1024.size a)
theorem k0_mult14_dvd : ∀ (v85 : BitVec 32) (k0_hw13 : k0_chk13 v85), 8 ∣ (k0_mult14 v85).toNat := fun v85 k0_hw13 => k0_hw13.1
theorem k0_off23_inb : ∀ (v85 : BitVec 32) (k0_hw13 : k0_chk13 v85), ∀ a, (k0_off23 v85) a + S1x8x1024.size a ≤ S1x4096x1024.size a := fun v85 k0_hw13 => k0_hw13.2

def k0_mult15 (v98 : BitVec 32) : BitVec 32 :=
  let c7_i32_61 : BitVec 32 := 7#32
  let v99 : BitVec 32 := Scalar.andi v98 c7_i32_61
  let v100 : BitVec 32 := Scalar.subi v98 v99
  v100

def k0_off24 (v98 : BitVec 32) : Fin 3 → Nat :=
  let c0_62 : Index := 0#32
  let c7_i32_61 : BitVec 32 := 7#32
  let v99 : BitVec 32 := Scalar.andi v98 c7_i32_61
  let v100 : BitVec 32 := Scalar.subi v98 v99
  let v101 : BitVec 32 := v100
  let v102 : Index := Scalar.indexCast v101
  let c0_63 : Index := 0#32
  ![0, v102.toNat, 0]

def k0_chk14 (v98 : BitVec 32) : Prop :=
  (8 ∣ (k0_mult15 v98).toNat) ∧
  (∀ a, (k0_off24 v98) a + S1x8x1024.size a ≤ S1x4096x1024.size a)
theorem k0_mult15_dvd : ∀ (v98 : BitVec 32) (k0_hw14 : k0_chk14 v98), 8 ∣ (k0_mult15 v98).toNat := fun v98 k0_hw14 => k0_hw14.1
theorem k0_off24_inb : ∀ (v98 : BitVec 32) (k0_hw14 : k0_chk14 v98), ∀ a, (k0_off24 v98) a + S1x8x1024.size a ≤ S1x4096x1024.size a := fun v98 k0_hw14 => k0_hw14.2

def k0_mult16 (v111 : BitVec 32) : BitVec 32 :=
  let c7_i32_68 : BitVec 32 := 7#32
  let v112 : BitVec 32 := Scalar.andi v111 c7_i32_68
  let v113 : BitVec 32 := Scalar.subi v111 v112
  v113

def k0_off25 (v111 : BitVec 32) : Fin 3 → Nat :=
  let c0_69 : Index := 0#32
  let c7_i32_68 : BitVec 32 := 7#32
  let v112 : BitVec 32 := Scalar.andi v111 c7_i32_68
  let v113 : BitVec 32 := Scalar.subi v111 v112
  let v114 : BitVec 32 := v113
  let v115 : Index := Scalar.indexCast v114
  let c0_70 : Index := 0#32
  ![0, v115.toNat, 0]

def k0_chk15 (v111 : BitVec 32) : Prop :=
  (8 ∣ (k0_mult16 v111).toNat) ∧
  (∀ a, (k0_off25 v111) a + S1x8x1024.size a ≤ S1x4096x1024.size a)
theorem k0_mult16_dvd : ∀ (v111 : BitVec 32) (k0_hw15 : k0_chk15 v111), 8 ∣ (k0_mult16 v111).toNat := fun v111 k0_hw15 => k0_hw15.1
theorem k0_off25_inb : ∀ (v111 : BitVec 32) (k0_hw15 : k0_chk15 v111), ∀ a, (k0_off25 v111) a + S1x8x1024.size a ≤ S1x4096x1024.size a := fun v111 k0_hw15 => k0_hw15.2

def k0_mult17 (v124 : BitVec 32) : BitVec 32 :=
  let c7_i32_75 : BitVec 32 := 7#32
  let v125 : BitVec 32 := Scalar.andi v124 c7_i32_75
  let v126 : BitVec 32 := Scalar.subi v124 v125
  v126

def k0_off26 (v124 : BitVec 32) : Fin 3 → Nat :=
  let c0_76 : Index := 0#32
  let c7_i32_75 : BitVec 32 := 7#32
  let v125 : BitVec 32 := Scalar.andi v124 c7_i32_75
  let v126 : BitVec 32 := Scalar.subi v124 v125
  let v127 : BitVec 32 := v126
  let v128 : Index := Scalar.indexCast v127
  let c0_77 : Index := 0#32
  ![0, v128.toNat, 0]

def k0_chk16 (v124 : BitVec 32) : Prop :=
  (8 ∣ (k0_mult17 v124).toNat) ∧
  (∀ a, (k0_off26 v124) a + S1x8x1024.size a ≤ S1x4096x1024.size a)
theorem k0_mult17_dvd : ∀ (v124 : BitVec 32) (k0_hw16 : k0_chk16 v124), 8 ∣ (k0_mult17 v124).toNat := fun v124 k0_hw16 => k0_hw16.1
theorem k0_off26_inb : ∀ (v124 : BitVec 32) (k0_hw16 : k0_chk16 v124), ∀ a, (k0_off26 v124) a + S1x8x1024.size a ≤ S1x4096x1024.size a := fun v124 k0_hw16 => k0_hw16.2

def k0_off27 (i : grid0.Coords) : Fin 3 → Nat :=
  let c1_i32_20 : BitVec 32 := 1#32
  let arg1 : BitVec 32 := BitVec.ofNat 32 (i 1).val
  let c1_i32 : BitVec 32 := 1#32
  let v1 : BitVec 32 := Scalar.andi arg1 c1_i32
  let v31 : BitVec 32 := Scalar.subi c1_i32_20 v1
  let c0_i32_81 : BitVec 32 := 0#32
  let c0_i32_82 : BitVec 32 := 0#32
  ![v31.toNat, 0, 0]
def k0_mult18 (v144 : BitVec 32) : BitVec 32 :=
  let c7_i32_89 : BitVec 32 := 7#32
  let v145 : BitVec 32 := Scalar.andi v144 c7_i32_89
  let v146 : BitVec 32 := Scalar.subi v144 v145
  v146

def k0_off28 (v144 : BitVec 32) : Fin 3 → Nat :=
  let c0_90 : Index := 0#32
  let c7_i32_89 : BitVec 32 := 7#32
  let v145 : BitVec 32 := Scalar.andi v144 c7_i32_89
  let v146 : BitVec 32 := Scalar.subi v144 v145
  let v147 : BitVec 32 := v146
  let v148 : Index := Scalar.indexCast v147
  let c0_91 : Index := 0#32
  ![0, v148.toNat, 0]

def k0_chk17 (v144 : BitVec 32) : Prop :=
  (8 ∣ (k0_mult18 v144).toNat) ∧
  (∀ a, (k0_off28 v144) a + S1x8x1024.size a ≤ S1x4096x1024.size a)
theorem k0_mult18_dvd : ∀ (v144 : BitVec 32) (k0_hw17 : k0_chk17 v144), 8 ∣ (k0_mult18 v144).toNat := fun v144 k0_hw17 => k0_hw17.1
theorem k0_off28_inb : ∀ (v144 : BitVec 32) (k0_hw17 : k0_chk17 v144), ∀ a, (k0_off28 v144) a + S1x8x1024.size a ≤ S1x4096x1024.size a := fun v144 k0_hw17 => k0_hw17.2

def k0_mult19 (v157 : BitVec 32) : BitVec 32 :=
  let c7_i32_97 : BitVec 32 := 7#32
  let v158 : BitVec 32 := Scalar.andi v157 c7_i32_97
  let v159 : BitVec 32 := Scalar.subi v157 v158
  v159

def k0_off29 (v157 : BitVec 32) : Fin 3 → Nat :=
  let c0_98 : Index := 0#32
  let c7_i32_97 : BitVec 32 := 7#32
  let v158 : BitVec 32 := Scalar.andi v157 c7_i32_97
  let v159 : BitVec 32 := Scalar.subi v157 v158
  let v160 : BitVec 32 := v159
  let v161 : Index := Scalar.indexCast v160
  let c0_99 : Index := 0#32
  ![0, v161.toNat, 0]

def k0_chk18 (v157 : BitVec 32) : Prop :=
  (8 ∣ (k0_mult19 v157).toNat) ∧
  (∀ a, (k0_off29 v157) a + S1x8x1024.size a ≤ S1x4096x1024.size a)
theorem k0_mult19_dvd : ∀ (v157 : BitVec 32) (k0_hw18 : k0_chk18 v157), 8 ∣ (k0_mult19 v157).toNat := fun v157 k0_hw18 => k0_hw18.1
theorem k0_off29_inb : ∀ (v157 : BitVec 32) (k0_hw18 : k0_chk18 v157), ∀ a, (k0_off29 v157) a + S1x8x1024.size a ≤ S1x4096x1024.size a := fun v157 k0_hw18 => k0_hw18.2

def k0_mult20 (v170 : BitVec 32) : BitVec 32 :=
  let c7_i32_105 : BitVec 32 := 7#32
  let v171 : BitVec 32 := Scalar.andi v170 c7_i32_105
  let v172 : BitVec 32 := Scalar.subi v170 v171
  v172

def k0_off30 (v170 : BitVec 32) : Fin 3 → Nat :=
  let c0_106 : Index := 0#32
  let c7_i32_105 : BitVec 32 := 7#32
  let v171 : BitVec 32 := Scalar.andi v170 c7_i32_105
  let v172 : BitVec 32 := Scalar.subi v170 v171
  let v173 : BitVec 32 := v172
  let v174 : Index := Scalar.indexCast v173
  let c0_107 : Index := 0#32
  ![0, v174.toNat, 0]

def k0_chk19 (v170 : BitVec 32) : Prop :=
  (8 ∣ (k0_mult20 v170).toNat) ∧
  (∀ a, (k0_off30 v170) a + S1x8x1024.size a ≤ S1x4096x1024.size a)
theorem k0_mult20_dvd : ∀ (v170 : BitVec 32) (k0_hw19 : k0_chk19 v170), 8 ∣ (k0_mult20 v170).toNat := fun v170 k0_hw19 => k0_hw19.1
theorem k0_off30_inb : ∀ (v170 : BitVec 32) (k0_hw19 : k0_chk19 v170), ∀ a, (k0_off30 v170) a + S1x8x1024.size a ≤ S1x4096x1024.size a := fun v170 k0_hw19 => k0_hw19.2

def k0_mult21 (v183 : BitVec 32) : BitVec 32 :=
  let c7_i32_113 : BitVec 32 := 7#32
  let v184 : BitVec 32 := Scalar.andi v183 c7_i32_113
  let v185 : BitVec 32 := Scalar.subi v183 v184
  v185

def k0_off31 (v183 : BitVec 32) : Fin 3 → Nat :=
  let c0_114 : Index := 0#32
  let c7_i32_113 : BitVec 32 := 7#32
  let v184 : BitVec 32 := Scalar.andi v183 c7_i32_113
  let v185 : BitVec 32 := Scalar.subi v183 v184
  let v186 : BitVec 32 := v185
  let v187 : Index := Scalar.indexCast v186
  let c0_115 : Index := 0#32
  ![0, v187.toNat, 0]

def k0_chk20 (v183 : BitVec 32) : Prop :=
  (8 ∣ (k0_mult21 v183).toNat) ∧
  (∀ a, (k0_off31 v183) a + S1x8x1024.size a ≤ S1x4096x1024.size a)
theorem k0_mult21_dvd : ∀ (v183 : BitVec 32) (k0_hw20 : k0_chk20 v183), 8 ∣ (k0_mult21 v183).toNat := fun v183 k0_hw20 => k0_hw20.1
theorem k0_off31_inb : ∀ (v183 : BitVec 32) (k0_hw20 : k0_chk20 v183), ∀ a, (k0_off31 v183) a + S1x8x1024.size a ≤ S1x4096x1024.size a := fun v183 k0_hw20 => k0_hw20.2

def k0_mult22 (v196 : BitVec 32) : BitVec 32 :=
  let c7_i32_121 : BitVec 32 := 7#32
  let v197 : BitVec 32 := Scalar.andi v196 c7_i32_121
  let v198 : BitVec 32 := Scalar.subi v196 v197
  v198

def k0_off32 (v196 : BitVec 32) : Fin 3 → Nat :=
  let c0_122 : Index := 0#32
  let c7_i32_121 : BitVec 32 := 7#32
  let v197 : BitVec 32 := Scalar.andi v196 c7_i32_121
  let v198 : BitVec 32 := Scalar.subi v196 v197
  let v199 : BitVec 32 := v198
  let v200 : Index := Scalar.indexCast v199
  let c0_123 : Index := 0#32
  ![0, v200.toNat, 0]

def k0_chk21 (v196 : BitVec 32) : Prop :=
  (8 ∣ (k0_mult22 v196).toNat) ∧
  (∀ a, (k0_off32 v196) a + S1x8x1024.size a ≤ S1x4096x1024.size a)
theorem k0_mult22_dvd : ∀ (v196 : BitVec 32) (k0_hw21 : k0_chk21 v196), 8 ∣ (k0_mult22 v196).toNat := fun v196 k0_hw21 => k0_hw21.1
theorem k0_off32_inb : ∀ (v196 : BitVec 32) (k0_hw21 : k0_chk21 v196), ∀ a, (k0_off32 v196) a + S1x8x1024.size a ≤ S1x4096x1024.size a := fun v196 k0_hw21 => k0_hw21.2

def k0_mult23 (v209 : BitVec 32) : BitVec 32 :=
  let c7_i32_129 : BitVec 32 := 7#32
  let v210 : BitVec 32 := Scalar.andi v209 c7_i32_129
  let v211 : BitVec 32 := Scalar.subi v209 v210
  v211

def k0_off33 (v209 : BitVec 32) : Fin 3 → Nat :=
  let c0_130 : Index := 0#32
  let c7_i32_129 : BitVec 32 := 7#32
  let v210 : BitVec 32 := Scalar.andi v209 c7_i32_129
  let v211 : BitVec 32 := Scalar.subi v209 v210
  let v212 : BitVec 32 := v211
  let v213 : Index := Scalar.indexCast v212
  let c0_131 : Index := 0#32
  ![0, v213.toNat, 0]

def k0_chk22 (v209 : BitVec 32) : Prop :=
  (8 ∣ (k0_mult23 v209).toNat) ∧
  (∀ a, (k0_off33 v209) a + S1x8x1024.size a ≤ S1x4096x1024.size a)
theorem k0_mult23_dvd : ∀ (v209 : BitVec 32) (k0_hw22 : k0_chk22 v209), 8 ∣ (k0_mult23 v209).toNat := fun v209 k0_hw22 => k0_hw22.1
theorem k0_off33_inb : ∀ (v209 : BitVec 32) (k0_hw22 : k0_chk22 v209), ∀ a, (k0_off33 v209) a + S1x8x1024.size a ≤ S1x4096x1024.size a := fun v209 k0_hw22 => k0_hw22.2

def k0_mult24 (v222 : BitVec 32) : BitVec 32 :=
  let c7_i32_137 : BitVec 32 := 7#32
  let v223 : BitVec 32 := Scalar.andi v222 c7_i32_137
  let v224 : BitVec 32 := Scalar.subi v222 v223
  v224

def k0_off34 (v222 : BitVec 32) : Fin 3 → Nat :=
  let c0_138 : Index := 0#32
  let c7_i32_137 : BitVec 32 := 7#32
  let v223 : BitVec 32 := Scalar.andi v222 c7_i32_137
  let v224 : BitVec 32 := Scalar.subi v222 v223
  let v225 : BitVec 32 := v224
  let v226 : Index := Scalar.indexCast v225
  let c0_139 : Index := 0#32
  ![0, v226.toNat, 0]

def k0_chk23 (v222 : BitVec 32) : Prop :=
  (8 ∣ (k0_mult24 v222).toNat) ∧
  (∀ a, (k0_off34 v222) a + S1x8x1024.size a ≤ S1x4096x1024.size a)
theorem k0_mult24_dvd : ∀ (v222 : BitVec 32) (k0_hw23 : k0_chk23 v222), 8 ∣ (k0_mult24 v222).toNat := fun v222 k0_hw23 => k0_hw23.1
theorem k0_off34_inb : ∀ (v222 : BitVec 32) (k0_hw23 : k0_chk23 v222), ∀ a, (k0_off34 v222) a + S1x8x1024.size a ≤ S1x4096x1024.size a := fun v222 k0_hw23 => k0_hw23.2

def k0_mult25 (v235 : BitVec 32) : BitVec 32 :=
  let c7_i32_145 : BitVec 32 := 7#32
  let v236 : BitVec 32 := Scalar.andi v235 c7_i32_145
  let v237 : BitVec 32 := Scalar.subi v235 v236
  v237

def k0_off35 (v235 : BitVec 32) : Fin 3 → Nat :=
  let c0_146 : Index := 0#32
  let c7_i32_145 : BitVec 32 := 7#32
  let v236 : BitVec 32 := Scalar.andi v235 c7_i32_145
  let v237 : BitVec 32 := Scalar.subi v235 v236
  let v238 : BitVec 32 := v237
  let v239 : Index := Scalar.indexCast v238
  let c0_147 : Index := 0#32
  ![0, v239.toNat, 0]

def k0_chk24 (v235 : BitVec 32) : Prop :=
  (8 ∣ (k0_mult25 v235).toNat) ∧
  (∀ a, (k0_off35 v235) a + S1x8x1024.size a ≤ S1x4096x1024.size a)
theorem k0_mult25_dvd : ∀ (v235 : BitVec 32) (k0_hw24 : k0_chk24 v235), 8 ∣ (k0_mult25 v235).toNat := fun v235 k0_hw24 => k0_hw24.1
theorem k0_off35_inb : ∀ (v235 : BitVec 32) (k0_hw24 : k0_chk24 v235), ∀ a, (k0_off35 v235) a + S1x8x1024.size a ≤ S1x4096x1024.size a := fun v235 k0_hw24 => k0_hw24.2

def k0_off36 (i : grid0.Coords) : Fin 3 → Nat :=
  let c1_i32_85 : BitVec 32 := 1#32
  let arg1 : BitVec 32 := BitVec.ofNat 32 (i 1).val
  let c1_i32 : BitVec 32 := 1#32
  let v1 : BitVec 32 := Scalar.andi arg1 c1_i32
  let v142 : BitVec 32 := Scalar.subi c1_i32_85 v1
  let c0_i32_151 : BitVec 32 := 0#32
  let c0_i32_152 : BitVec 32 := 0#32
  ![v142.toNat, 0, 0]
def k0_mult26 (v255 : BitVec 32) : BitVec 32 :=
  let c7_i32_159 : BitVec 32 := 7#32
  let v256 : BitVec 32 := Scalar.andi v255 c7_i32_159
  let v257 : BitVec 32 := Scalar.subi v255 v256
  v257

def k0_off37 (v255 : BitVec 32) : Fin 3 → Nat :=
  let c0_160 : Index := 0#32
  let c7_i32_159 : BitVec 32 := 7#32
  let v256 : BitVec 32 := Scalar.andi v255 c7_i32_159
  let v257 : BitVec 32 := Scalar.subi v255 v256
  let v258 : BitVec 32 := v257
  let v259 : Index := Scalar.indexCast v258
  let c0_161 : Index := 0#32
  ![0, v259.toNat, 0]

def k0_chk25 (v255 : BitVec 32) : Prop :=
  (8 ∣ (k0_mult26 v255).toNat) ∧
  (∀ a, (k0_off37 v255) a + S1x8x1024.size a ≤ S1x4096x1024.size a)
theorem k0_mult26_dvd : ∀ (v255 : BitVec 32) (k0_hw25 : k0_chk25 v255), 8 ∣ (k0_mult26 v255).toNat := fun v255 k0_hw25 => k0_hw25.1
theorem k0_off37_inb : ∀ (v255 : BitVec 32) (k0_hw25 : k0_chk25 v255), ∀ a, (k0_off37 v255) a + S1x8x1024.size a ≤ S1x4096x1024.size a := fun v255 k0_hw25 => k0_hw25.2

def k0_mult27 (v268 : BitVec 32) : BitVec 32 :=
  let c7_i32_167 : BitVec 32 := 7#32
  let v269 : BitVec 32 := Scalar.andi v268 c7_i32_167
  let v270 : BitVec 32 := Scalar.subi v268 v269
  v270

def k0_off38 (v268 : BitVec 32) : Fin 3 → Nat :=
  let c0_168 : Index := 0#32
  let c7_i32_167 : BitVec 32 := 7#32
  let v269 : BitVec 32 := Scalar.andi v268 c7_i32_167
  let v270 : BitVec 32 := Scalar.subi v268 v269
  let v271 : BitVec 32 := v270
  let v272 : Index := Scalar.indexCast v271
  let c0_169 : Index := 0#32
  ![0, v272.toNat, 0]

def k0_chk26 (v268 : BitVec 32) : Prop :=
  (8 ∣ (k0_mult27 v268).toNat) ∧
  (∀ a, (k0_off38 v268) a + S1x8x1024.size a ≤ S1x4096x1024.size a)
theorem k0_mult27_dvd : ∀ (v268 : BitVec 32) (k0_hw26 : k0_chk26 v268), 8 ∣ (k0_mult27 v268).toNat := fun v268 k0_hw26 => k0_hw26.1
theorem k0_off38_inb : ∀ (v268 : BitVec 32) (k0_hw26 : k0_chk26 v268), ∀ a, (k0_off38 v268) a + S1x8x1024.size a ≤ S1x4096x1024.size a := fun v268 k0_hw26 => k0_hw26.2

def k0_mult28 (v281 : BitVec 32) : BitVec 32 :=
  let c7_i32_175 : BitVec 32 := 7#32
  let v282 : BitVec 32 := Scalar.andi v281 c7_i32_175
  let v283 : BitVec 32 := Scalar.subi v281 v282
  v283

def k0_off39 (v281 : BitVec 32) : Fin 3 → Nat :=
  let c0_176 : Index := 0#32
  let c7_i32_175 : BitVec 32 := 7#32
  let v282 : BitVec 32 := Scalar.andi v281 c7_i32_175
  let v283 : BitVec 32 := Scalar.subi v281 v282
  let v284 : BitVec 32 := v283
  let v285 : Index := Scalar.indexCast v284
  let c0_177 : Index := 0#32
  ![0, v285.toNat, 0]

def k0_chk27 (v281 : BitVec 32) : Prop :=
  (8 ∣ (k0_mult28 v281).toNat) ∧
  (∀ a, (k0_off39 v281) a + S1x8x1024.size a ≤ S1x4096x1024.size a)
theorem k0_mult28_dvd : ∀ (v281 : BitVec 32) (k0_hw27 : k0_chk27 v281), 8 ∣ (k0_mult28 v281).toNat := fun v281 k0_hw27 => k0_hw27.1
theorem k0_off39_inb : ∀ (v281 : BitVec 32) (k0_hw27 : k0_chk27 v281), ∀ a, (k0_off39 v281) a + S1x8x1024.size a ≤ S1x4096x1024.size a := fun v281 k0_hw27 => k0_hw27.2

def k0_mult29 (v294 : BitVec 32) : BitVec 32 :=
  let c7_i32_183 : BitVec 32 := 7#32
  let v295 : BitVec 32 := Scalar.andi v294 c7_i32_183
  let v296 : BitVec 32 := Scalar.subi v294 v295
  v296

def k0_off40 (v294 : BitVec 32) : Fin 3 → Nat :=
  let c0_184 : Index := 0#32
  let c7_i32_183 : BitVec 32 := 7#32
  let v295 : BitVec 32 := Scalar.andi v294 c7_i32_183
  let v296 : BitVec 32 := Scalar.subi v294 v295
  let v297 : BitVec 32 := v296
  let v298 : Index := Scalar.indexCast v297
  let c0_185 : Index := 0#32
  ![0, v298.toNat, 0]

def k0_chk28 (v294 : BitVec 32) : Prop :=
  (8 ∣ (k0_mult29 v294).toNat) ∧
  (∀ a, (k0_off40 v294) a + S1x8x1024.size a ≤ S1x4096x1024.size a)
theorem k0_mult29_dvd : ∀ (v294 : BitVec 32) (k0_hw28 : k0_chk28 v294), 8 ∣ (k0_mult29 v294).toNat := fun v294 k0_hw28 => k0_hw28.1
theorem k0_off40_inb : ∀ (v294 : BitVec 32) (k0_hw28 : k0_chk28 v294), ∀ a, (k0_off40 v294) a + S1x8x1024.size a ≤ S1x4096x1024.size a := fun v294 k0_hw28 => k0_hw28.2

def k0_mult30 (v307 : BitVec 32) : BitVec 32 :=
  let c7_i32_191 : BitVec 32 := 7#32
  let v308 : BitVec 32 := Scalar.andi v307 c7_i32_191
  let v309 : BitVec 32 := Scalar.subi v307 v308
  v309

def k0_off41 (v307 : BitVec 32) : Fin 3 → Nat :=
  let c0_192 : Index := 0#32
  let c7_i32_191 : BitVec 32 := 7#32
  let v308 : BitVec 32 := Scalar.andi v307 c7_i32_191
  let v309 : BitVec 32 := Scalar.subi v307 v308
  let v310 : BitVec 32 := v309
  let v311 : Index := Scalar.indexCast v310
  let c0_193 : Index := 0#32
  ![0, v311.toNat, 0]

def k0_chk29 (v307 : BitVec 32) : Prop :=
  (8 ∣ (k0_mult30 v307).toNat) ∧
  (∀ a, (k0_off41 v307) a + S1x8x1024.size a ≤ S1x4096x1024.size a)
theorem k0_mult30_dvd : ∀ (v307 : BitVec 32) (k0_hw29 : k0_chk29 v307), 8 ∣ (k0_mult30 v307).toNat := fun v307 k0_hw29 => k0_hw29.1
theorem k0_off41_inb : ∀ (v307 : BitVec 32) (k0_hw29 : k0_chk29 v307), ∀ a, (k0_off41 v307) a + S1x8x1024.size a ≤ S1x4096x1024.size a := fun v307 k0_hw29 => k0_hw29.2

def k0_mult31 (v320 : BitVec 32) : BitVec 32 :=
  let c7_i32_199 : BitVec 32 := 7#32
  let v321 : BitVec 32 := Scalar.andi v320 c7_i32_199
  let v322 : BitVec 32 := Scalar.subi v320 v321
  v322

def k0_off42 (v320 : BitVec 32) : Fin 3 → Nat :=
  let c0_200 : Index := 0#32
  let c7_i32_199 : BitVec 32 := 7#32
  let v321 : BitVec 32 := Scalar.andi v320 c7_i32_199
  let v322 : BitVec 32 := Scalar.subi v320 v321
  let v323 : BitVec 32 := v322
  let v324 : Index := Scalar.indexCast v323
  let c0_201 : Index := 0#32
  ![0, v324.toNat, 0]

def k0_chk30 (v320 : BitVec 32) : Prop :=
  (8 ∣ (k0_mult31 v320).toNat) ∧
  (∀ a, (k0_off42 v320) a + S1x8x1024.size a ≤ S1x4096x1024.size a)
theorem k0_mult31_dvd : ∀ (v320 : BitVec 32) (k0_hw30 : k0_chk30 v320), 8 ∣ (k0_mult31 v320).toNat := fun v320 k0_hw30 => k0_hw30.1
theorem k0_off42_inb : ∀ (v320 : BitVec 32) (k0_hw30 : k0_chk30 v320), ∀ a, (k0_off42 v320) a + S1x8x1024.size a ≤ S1x4096x1024.size a := fun v320 k0_hw30 => k0_hw30.2

def k0_mult32 (v333 : BitVec 32) : BitVec 32 :=
  let c7_i32_207 : BitVec 32 := 7#32
  let v334 : BitVec 32 := Scalar.andi v333 c7_i32_207
  let v335 : BitVec 32 := Scalar.subi v333 v334
  v335

def k0_off43 (v333 : BitVec 32) : Fin 3 → Nat :=
  let c0_208 : Index := 0#32
  let c7_i32_207 : BitVec 32 := 7#32
  let v334 : BitVec 32 := Scalar.andi v333 c7_i32_207
  let v335 : BitVec 32 := Scalar.subi v333 v334
  let v336 : BitVec 32 := v335
  let v337 : Index := Scalar.indexCast v336
  let c0_209 : Index := 0#32
  ![0, v337.toNat, 0]

def k0_chk31 (v333 : BitVec 32) : Prop :=
  (8 ∣ (k0_mult32 v333).toNat) ∧
  (∀ a, (k0_off43 v333) a + S1x8x1024.size a ≤ S1x4096x1024.size a)
theorem k0_mult32_dvd : ∀ (v333 : BitVec 32) (k0_hw31 : k0_chk31 v333), 8 ∣ (k0_mult32 v333).toNat := fun v333 k0_hw31 => k0_hw31.1
theorem k0_off43_inb : ∀ (v333 : BitVec 32) (k0_hw31 : k0_chk31 v333), ∀ a, (k0_off43 v333) a + S1x8x1024.size a ≤ S1x4096x1024.size a := fun v333 k0_hw31 => k0_hw31.2

def k0_mult33 (v346 : BitVec 32) : BitVec 32 :=
  let c7_i32_215 : BitVec 32 := 7#32
  let v347 : BitVec 32 := Scalar.andi v346 c7_i32_215
  let v348 : BitVec 32 := Scalar.subi v346 v347
  v348

def k0_off44 (v346 : BitVec 32) : Fin 3 → Nat :=
  let c0_216 : Index := 0#32
  let c7_i32_215 : BitVec 32 := 7#32
  let v347 : BitVec 32 := Scalar.andi v346 c7_i32_215
  let v348 : BitVec 32 := Scalar.subi v346 v347
  let v349 : BitVec 32 := v348
  let v350 : Index := Scalar.indexCast v349
  let c0_217 : Index := 0#32
  ![0, v350.toNat, 0]

def k0_chk32 (v346 : BitVec 32) : Prop :=
  (8 ∣ (k0_mult33 v346).toNat) ∧
  (∀ a, (k0_off44 v346) a + S1x8x1024.size a ≤ S1x4096x1024.size a)
theorem k0_mult33_dvd : ∀ (v346 : BitVec 32) (k0_hw32 : k0_chk32 v346), 8 ∣ (k0_mult33 v346).toNat := fun v346 k0_hw32 => k0_hw32.1
theorem k0_off44_inb : ∀ (v346 : BitVec 32) (k0_hw32 : k0_chk32 v346), ∀ a, (k0_off44 v346) a + S1x8x1024.size a ≤ S1x4096x1024.size a := fun v346 k0_hw32 => k0_hw32.2

def k0_off45 (i : grid0.Coords) : Fin 3 → Nat :=
  let c1_i32_155 : BitVec 32 := 1#32
  let arg1 : BitVec 32 := BitVec.ofNat 32 (i 1).val
  let c1_i32 : BitVec 32 := 1#32
  let v1 : BitVec 32 := Scalar.andi arg1 c1_i32
  let v253 : BitVec 32 := Scalar.subi c1_i32_155 v1
  let c0_i32_221 : BitVec 32 := 0#32
  let c0_i32_222 : BitVec 32 := 0#32
  ![v253.toNat, 0, 0]
def k0_mult34 (v366 : BitVec 32) : BitVec 32 :=
  let c7_i32_229 : BitVec 32 := 7#32
  let v367 : BitVec 32 := Scalar.andi v366 c7_i32_229
  let v368 : BitVec 32 := Scalar.subi v366 v367
  v368

def k0_off46 (v366 : BitVec 32) : Fin 3 → Nat :=
  let c0_230 : Index := 0#32
  let c7_i32_229 : BitVec 32 := 7#32
  let v367 : BitVec 32 := Scalar.andi v366 c7_i32_229
  let v368 : BitVec 32 := Scalar.subi v366 v367
  let v369 : BitVec 32 := v368
  let v370 : Index := Scalar.indexCast v369
  let c0_231 : Index := 0#32
  ![0, v370.toNat, 0]

def k0_chk33 (v366 : BitVec 32) : Prop :=
  (8 ∣ (k0_mult34 v366).toNat) ∧
  (∀ a, (k0_off46 v366) a + S1x8x1024.size a ≤ S1x4096x1024.size a)
theorem k0_mult34_dvd : ∀ (v366 : BitVec 32) (k0_hw33 : k0_chk33 v366), 8 ∣ (k0_mult34 v366).toNat := fun v366 k0_hw33 => k0_hw33.1
theorem k0_off46_inb : ∀ (v366 : BitVec 32) (k0_hw33 : k0_chk33 v366), ∀ a, (k0_off46 v366) a + S1x8x1024.size a ≤ S1x4096x1024.size a := fun v366 k0_hw33 => k0_hw33.2

def k0_mult35 (v379 : BitVec 32) : BitVec 32 :=
  let c7_i32_237 : BitVec 32 := 7#32
  let v380 : BitVec 32 := Scalar.andi v379 c7_i32_237
  let v381 : BitVec 32 := Scalar.subi v379 v380
  v381

def k0_off47 (v379 : BitVec 32) : Fin 3 → Nat :=
  let c0_238 : Index := 0#32
  let c7_i32_237 : BitVec 32 := 7#32
  let v380 : BitVec 32 := Scalar.andi v379 c7_i32_237
  let v381 : BitVec 32 := Scalar.subi v379 v380
  let v382 : BitVec 32 := v381
  let v383 : Index := Scalar.indexCast v382
  let c0_239 : Index := 0#32
  ![0, v383.toNat, 0]

def k0_chk34 (v379 : BitVec 32) : Prop :=
  (8 ∣ (k0_mult35 v379).toNat) ∧
  (∀ a, (k0_off47 v379) a + S1x8x1024.size a ≤ S1x4096x1024.size a)
theorem k0_mult35_dvd : ∀ (v379 : BitVec 32) (k0_hw34 : k0_chk34 v379), 8 ∣ (k0_mult35 v379).toNat := fun v379 k0_hw34 => k0_hw34.1
theorem k0_off47_inb : ∀ (v379 : BitVec 32) (k0_hw34 : k0_chk34 v379), ∀ a, (k0_off47 v379) a + S1x8x1024.size a ≤ S1x4096x1024.size a := fun v379 k0_hw34 => k0_hw34.2

def k0_mult36 (v392 : BitVec 32) : BitVec 32 :=
  let c7_i32_245 : BitVec 32 := 7#32
  let v393 : BitVec 32 := Scalar.andi v392 c7_i32_245
  let v394 : BitVec 32 := Scalar.subi v392 v393
  v394

def k0_off48 (v392 : BitVec 32) : Fin 3 → Nat :=
  let c0_246 : Index := 0#32
  let c7_i32_245 : BitVec 32 := 7#32
  let v393 : BitVec 32 := Scalar.andi v392 c7_i32_245
  let v394 : BitVec 32 := Scalar.subi v392 v393
  let v395 : BitVec 32 := v394
  let v396 : Index := Scalar.indexCast v395
  let c0_247 : Index := 0#32
  ![0, v396.toNat, 0]

def k0_chk35 (v392 : BitVec 32) : Prop :=
  (8 ∣ (k0_mult36 v392).toNat) ∧
  (∀ a, (k0_off48 v392) a + S1x8x1024.size a ≤ S1x4096x1024.size a)
theorem k0_mult36_dvd : ∀ (v392 : BitVec 32) (k0_hw35 : k0_chk35 v392), 8 ∣ (k0_mult36 v392).toNat := fun v392 k0_hw35 => k0_hw35.1
theorem k0_off48_inb : ∀ (v392 : BitVec 32) (k0_hw35 : k0_chk35 v392), ∀ a, (k0_off48 v392) a + S1x8x1024.size a ≤ S1x4096x1024.size a := fun v392 k0_hw35 => k0_hw35.2

def k0_mult37 (v405 : BitVec 32) : BitVec 32 :=
  let c7_i32_253 : BitVec 32 := 7#32
  let v406 : BitVec 32 := Scalar.andi v405 c7_i32_253
  let v407 : BitVec 32 := Scalar.subi v405 v406
  v407

def k0_off49 (v405 : BitVec 32) : Fin 3 → Nat :=
  let c0_254 : Index := 0#32
  let c7_i32_253 : BitVec 32 := 7#32
  let v406 : BitVec 32 := Scalar.andi v405 c7_i32_253
  let v407 : BitVec 32 := Scalar.subi v405 v406
  let v408 : BitVec 32 := v407
  let v409 : Index := Scalar.indexCast v408
  let c0_255 : Index := 0#32
  ![0, v409.toNat, 0]

def k0_chk36 (v405 : BitVec 32) : Prop :=
  (8 ∣ (k0_mult37 v405).toNat) ∧
  (∀ a, (k0_off49 v405) a + S1x8x1024.size a ≤ S1x4096x1024.size a)
theorem k0_mult37_dvd : ∀ (v405 : BitVec 32) (k0_hw36 : k0_chk36 v405), 8 ∣ (k0_mult37 v405).toNat := fun v405 k0_hw36 => k0_hw36.1
theorem k0_off49_inb : ∀ (v405 : BitVec 32) (k0_hw36 : k0_chk36 v405), ∀ a, (k0_off49 v405) a + S1x8x1024.size a ≤ S1x4096x1024.size a := fun v405 k0_hw36 => k0_hw36.2

def k0_mult38 (v418 : BitVec 32) : BitVec 32 :=
  let c7_i32_261 : BitVec 32 := 7#32
  let v419 : BitVec 32 := Scalar.andi v418 c7_i32_261
  let v420 : BitVec 32 := Scalar.subi v418 v419
  v420

def k0_off50 (v418 : BitVec 32) : Fin 3 → Nat :=
  let c0_262 : Index := 0#32
  let c7_i32_261 : BitVec 32 := 7#32
  let v419 : BitVec 32 := Scalar.andi v418 c7_i32_261
  let v420 : BitVec 32 := Scalar.subi v418 v419
  let v421 : BitVec 32 := v420
  let v422 : Index := Scalar.indexCast v421
  let c0_263 : Index := 0#32
  ![0, v422.toNat, 0]

def k0_chk37 (v418 : BitVec 32) : Prop :=
  (8 ∣ (k0_mult38 v418).toNat) ∧
  (∀ a, (k0_off50 v418) a + S1x8x1024.size a ≤ S1x4096x1024.size a)
theorem k0_mult38_dvd : ∀ (v418 : BitVec 32) (k0_hw37 : k0_chk37 v418), 8 ∣ (k0_mult38 v418).toNat := fun v418 k0_hw37 => k0_hw37.1
theorem k0_off50_inb : ∀ (v418 : BitVec 32) (k0_hw37 : k0_chk37 v418), ∀ a, (k0_off50 v418) a + S1x8x1024.size a ≤ S1x4096x1024.size a := fun v418 k0_hw37 => k0_hw37.2

def k0_mult39 (v431 : BitVec 32) : BitVec 32 :=
  let c7_i32_269 : BitVec 32 := 7#32
  let v432 : BitVec 32 := Scalar.andi v431 c7_i32_269
  let v433 : BitVec 32 := Scalar.subi v431 v432
  v433

def k0_off51 (v431 : BitVec 32) : Fin 3 → Nat :=
  let c0_270 : Index := 0#32
  let c7_i32_269 : BitVec 32 := 7#32
  let v432 : BitVec 32 := Scalar.andi v431 c7_i32_269
  let v433 : BitVec 32 := Scalar.subi v431 v432
  let v434 : BitVec 32 := v433
  let v435 : Index := Scalar.indexCast v434
  let c0_271 : Index := 0#32
  ![0, v435.toNat, 0]

def k0_chk38 (v431 : BitVec 32) : Prop :=
  (8 ∣ (k0_mult39 v431).toNat) ∧
  (∀ a, (k0_off51 v431) a + S1x8x1024.size a ≤ S1x4096x1024.size a)
theorem k0_mult39_dvd : ∀ (v431 : BitVec 32) (k0_hw38 : k0_chk38 v431), 8 ∣ (k0_mult39 v431).toNat := fun v431 k0_hw38 => k0_hw38.1
theorem k0_off51_inb : ∀ (v431 : BitVec 32) (k0_hw38 : k0_chk38 v431), ∀ a, (k0_off51 v431) a + S1x8x1024.size a ≤ S1x4096x1024.size a := fun v431 k0_hw38 => k0_hw38.2

def k0_mult40 (v444 : BitVec 32) : BitVec 32 :=
  let c7_i32_277 : BitVec 32 := 7#32
  let v445 : BitVec 32 := Scalar.andi v444 c7_i32_277
  let v446 : BitVec 32 := Scalar.subi v444 v445
  v446

def k0_off52 (v444 : BitVec 32) : Fin 3 → Nat :=
  let c0_278 : Index := 0#32
  let c7_i32_277 : BitVec 32 := 7#32
  let v445 : BitVec 32 := Scalar.andi v444 c7_i32_277
  let v446 : BitVec 32 := Scalar.subi v444 v445
  let v447 : BitVec 32 := v446
  let v448 : Index := Scalar.indexCast v447
  let c0_279 : Index := 0#32
  ![0, v448.toNat, 0]

def k0_chk39 (v444 : BitVec 32) : Prop :=
  (8 ∣ (k0_mult40 v444).toNat) ∧
  (∀ a, (k0_off52 v444) a + S1x8x1024.size a ≤ S1x4096x1024.size a)
theorem k0_mult40_dvd : ∀ (v444 : BitVec 32) (k0_hw39 : k0_chk39 v444), 8 ∣ (k0_mult40 v444).toNat := fun v444 k0_hw39 => k0_hw39.1
theorem k0_off52_inb : ∀ (v444 : BitVec 32) (k0_hw39 : k0_chk39 v444), ∀ a, (k0_off52 v444) a + S1x8x1024.size a ≤ S1x4096x1024.size a := fun v444 k0_hw39 => k0_hw39.2

def k0_mult41 (v457 : BitVec 32) : BitVec 32 :=
  let c7_i32_285 : BitVec 32 := 7#32
  let v458 : BitVec 32 := Scalar.andi v457 c7_i32_285
  let v459 : BitVec 32 := Scalar.subi v457 v458
  v459

def k0_off53 (v457 : BitVec 32) : Fin 3 → Nat :=
  let c0_286 : Index := 0#32
  let c7_i32_285 : BitVec 32 := 7#32
  let v458 : BitVec 32 := Scalar.andi v457 c7_i32_285
  let v459 : BitVec 32 := Scalar.subi v457 v458
  let v460 : BitVec 32 := v459
  let v461 : Index := Scalar.indexCast v460
  let c0_287 : Index := 0#32
  ![0, v461.toNat, 0]

def k0_chk40 (v457 : BitVec 32) : Prop :=
  (8 ∣ (k0_mult41 v457).toNat) ∧
  (∀ a, (k0_off53 v457) a + S1x8x1024.size a ≤ S1x4096x1024.size a)
theorem k0_mult41_dvd : ∀ (v457 : BitVec 32) (k0_hw40 : k0_chk40 v457), 8 ∣ (k0_mult41 v457).toNat := fun v457 k0_hw40 => k0_hw40.1
theorem k0_off53_inb : ∀ (v457 : BitVec 32) (k0_hw40 : k0_chk40 v457), ∀ a, (k0_off53 v457) a + S1x8x1024.size a ≤ S1x4096x1024.size a := fun v457 k0_hw40 => k0_hw40.2

def k0_off54 (i : grid0.Coords) : Fin 3 → Nat :=
  let c1_i32_225 : BitVec 32 := 1#32
  let arg1 : BitVec 32 := BitVec.ofNat 32 (i 1).val
  let c1_i32 : BitVec 32 := 1#32
  let v1 : BitVec 32 := Scalar.andi arg1 c1_i32
  let v364 : BitVec 32 := Scalar.subi c1_i32_225 v1
  let c0_i32_291 : BitVec 32 := 0#32
  let c0_i32_292 : BitVec 32 := 0#32
  ![v364.toNat, 0, 0]
def k0_mult42 (v477 : BitVec 32) : BitVec 32 :=
  let c7_i32_299 : BitVec 32 := 7#32
  let v478 : BitVec 32 := Scalar.andi v477 c7_i32_299
  let v479 : BitVec 32 := Scalar.subi v477 v478
  v479

def k0_off55 (v477 : BitVec 32) : Fin 3 → Nat :=
  let c0_300 : Index := 0#32
  let c7_i32_299 : BitVec 32 := 7#32
  let v478 : BitVec 32 := Scalar.andi v477 c7_i32_299
  let v479 : BitVec 32 := Scalar.subi v477 v478
  let v480 : BitVec 32 := v479
  let v481 : Index := Scalar.indexCast v480
  let c0_301 : Index := 0#32
  ![0, v481.toNat, 0]

def k0_chk41 (v477 : BitVec 32) : Prop :=
  (8 ∣ (k0_mult42 v477).toNat) ∧
  (∀ a, (k0_off55 v477) a + S1x8x1024.size a ≤ S1x4096x1024.size a)
theorem k0_mult42_dvd : ∀ (v477 : BitVec 32) (k0_hw41 : k0_chk41 v477), 8 ∣ (k0_mult42 v477).toNat := fun v477 k0_hw41 => k0_hw41.1
theorem k0_off55_inb : ∀ (v477 : BitVec 32) (k0_hw41 : k0_chk41 v477), ∀ a, (k0_off55 v477) a + S1x8x1024.size a ≤ S1x4096x1024.size a := fun v477 k0_hw41 => k0_hw41.2

def k0_mult43 (v490 : BitVec 32) : BitVec 32 :=
  let c7_i32_307 : BitVec 32 := 7#32
  let v491 : BitVec 32 := Scalar.andi v490 c7_i32_307
  let v492 : BitVec 32 := Scalar.subi v490 v491
  v492

def k0_off56 (v490 : BitVec 32) : Fin 3 → Nat :=
  let c0_308 : Index := 0#32
  let c7_i32_307 : BitVec 32 := 7#32
  let v491 : BitVec 32 := Scalar.andi v490 c7_i32_307
  let v492 : BitVec 32 := Scalar.subi v490 v491
  let v493 : BitVec 32 := v492
  let v494 : Index := Scalar.indexCast v493
  let c0_309 : Index := 0#32
  ![0, v494.toNat, 0]

def k0_chk42 (v490 : BitVec 32) : Prop :=
  (8 ∣ (k0_mult43 v490).toNat) ∧
  (∀ a, (k0_off56 v490) a + S1x8x1024.size a ≤ S1x4096x1024.size a)
theorem k0_mult43_dvd : ∀ (v490 : BitVec 32) (k0_hw42 : k0_chk42 v490), 8 ∣ (k0_mult43 v490).toNat := fun v490 k0_hw42 => k0_hw42.1
theorem k0_off56_inb : ∀ (v490 : BitVec 32) (k0_hw42 : k0_chk42 v490), ∀ a, (k0_off56 v490) a + S1x8x1024.size a ≤ S1x4096x1024.size a := fun v490 k0_hw42 => k0_hw42.2

def k0_mult44 (v503 : BitVec 32) : BitVec 32 :=
  let c7_i32_315 : BitVec 32 := 7#32
  let v504 : BitVec 32 := Scalar.andi v503 c7_i32_315
  let v505 : BitVec 32 := Scalar.subi v503 v504
  v505

def k0_off57 (v503 : BitVec 32) : Fin 3 → Nat :=
  let c0_316 : Index := 0#32
  let c7_i32_315 : BitVec 32 := 7#32
  let v504 : BitVec 32 := Scalar.andi v503 c7_i32_315
  let v505 : BitVec 32 := Scalar.subi v503 v504
  let v506 : BitVec 32 := v505
  let v507 : Index := Scalar.indexCast v506
  let c0_317 : Index := 0#32
  ![0, v507.toNat, 0]

def k0_chk43 (v503 : BitVec 32) : Prop :=
  (8 ∣ (k0_mult44 v503).toNat) ∧
  (∀ a, (k0_off57 v503) a + S1x8x1024.size a ≤ S1x4096x1024.size a)
theorem k0_mult44_dvd : ∀ (v503 : BitVec 32) (k0_hw43 : k0_chk43 v503), 8 ∣ (k0_mult44 v503).toNat := fun v503 k0_hw43 => k0_hw43.1
theorem k0_off57_inb : ∀ (v503 : BitVec 32) (k0_hw43 : k0_chk43 v503), ∀ a, (k0_off57 v503) a + S1x8x1024.size a ≤ S1x4096x1024.size a := fun v503 k0_hw43 => k0_hw43.2

def k0_mult45 (v516 : BitVec 32) : BitVec 32 :=
  let c7_i32_323 : BitVec 32 := 7#32
  let v517 : BitVec 32 := Scalar.andi v516 c7_i32_323
  let v518 : BitVec 32 := Scalar.subi v516 v517
  v518

def k0_off58 (v516 : BitVec 32) : Fin 3 → Nat :=
  let c0_324 : Index := 0#32
  let c7_i32_323 : BitVec 32 := 7#32
  let v517 : BitVec 32 := Scalar.andi v516 c7_i32_323
  let v518 : BitVec 32 := Scalar.subi v516 v517
  let v519 : BitVec 32 := v518
  let v520 : Index := Scalar.indexCast v519
  let c0_325 : Index := 0#32
  ![0, v520.toNat, 0]

def k0_chk44 (v516 : BitVec 32) : Prop :=
  (8 ∣ (k0_mult45 v516).toNat) ∧
  (∀ a, (k0_off58 v516) a + S1x8x1024.size a ≤ S1x4096x1024.size a)
theorem k0_mult45_dvd : ∀ (v516 : BitVec 32) (k0_hw44 : k0_chk44 v516), 8 ∣ (k0_mult45 v516).toNat := fun v516 k0_hw44 => k0_hw44.1
theorem k0_off58_inb : ∀ (v516 : BitVec 32) (k0_hw44 : k0_chk44 v516), ∀ a, (k0_off58 v516) a + S1x8x1024.size a ≤ S1x4096x1024.size a := fun v516 k0_hw44 => k0_hw44.2

def k0_mult46 (v529 : BitVec 32) : BitVec 32 :=
  let c7_i32_331 : BitVec 32 := 7#32
  let v530 : BitVec 32 := Scalar.andi v529 c7_i32_331
  let v531 : BitVec 32 := Scalar.subi v529 v530
  v531

def k0_off59 (v529 : BitVec 32) : Fin 3 → Nat :=
  let c0_332 : Index := 0#32
  let c7_i32_331 : BitVec 32 := 7#32
  let v530 : BitVec 32 := Scalar.andi v529 c7_i32_331
  let v531 : BitVec 32 := Scalar.subi v529 v530
  let v532 : BitVec 32 := v531
  let v533 : Index := Scalar.indexCast v532
  let c0_333 : Index := 0#32
  ![0, v533.toNat, 0]

def k0_chk45 (v529 : BitVec 32) : Prop :=
  (8 ∣ (k0_mult46 v529).toNat) ∧
  (∀ a, (k0_off59 v529) a + S1x8x1024.size a ≤ S1x4096x1024.size a)
theorem k0_mult46_dvd : ∀ (v529 : BitVec 32) (k0_hw45 : k0_chk45 v529), 8 ∣ (k0_mult46 v529).toNat := fun v529 k0_hw45 => k0_hw45.1
theorem k0_off59_inb : ∀ (v529 : BitVec 32) (k0_hw45 : k0_chk45 v529), ∀ a, (k0_off59 v529) a + S1x8x1024.size a ≤ S1x4096x1024.size a := fun v529 k0_hw45 => k0_hw45.2

def k0_mult47 (v542 : BitVec 32) : BitVec 32 :=
  let c7_i32_339 : BitVec 32 := 7#32
  let v543 : BitVec 32 := Scalar.andi v542 c7_i32_339
  let v544 : BitVec 32 := Scalar.subi v542 v543
  v544

def k0_off60 (v542 : BitVec 32) : Fin 3 → Nat :=
  let c0_340 : Index := 0#32
  let c7_i32_339 : BitVec 32 := 7#32
  let v543 : BitVec 32 := Scalar.andi v542 c7_i32_339
  let v544 : BitVec 32 := Scalar.subi v542 v543
  let v545 : BitVec 32 := v544
  let v546 : Index := Scalar.indexCast v545
  let c0_341 : Index := 0#32
  ![0, v546.toNat, 0]

def k0_chk46 (v542 : BitVec 32) : Prop :=
  (8 ∣ (k0_mult47 v542).toNat) ∧
  (∀ a, (k0_off60 v542) a + S1x8x1024.size a ≤ S1x4096x1024.size a)
theorem k0_mult47_dvd : ∀ (v542 : BitVec 32) (k0_hw46 : k0_chk46 v542), 8 ∣ (k0_mult47 v542).toNat := fun v542 k0_hw46 => k0_hw46.1
theorem k0_off60_inb : ∀ (v542 : BitVec 32) (k0_hw46 : k0_chk46 v542), ∀ a, (k0_off60 v542) a + S1x8x1024.size a ≤ S1x4096x1024.size a := fun v542 k0_hw46 => k0_hw46.2

def k0_mult48 (v555 : BitVec 32) : BitVec 32 :=
  let c7_i32_347 : BitVec 32 := 7#32
  let v556 : BitVec 32 := Scalar.andi v555 c7_i32_347
  let v557 : BitVec 32 := Scalar.subi v555 v556
  v557

def k0_off61 (v555 : BitVec 32) : Fin 3 → Nat :=
  let c0_348 : Index := 0#32
  let c7_i32_347 : BitVec 32 := 7#32
  let v556 : BitVec 32 := Scalar.andi v555 c7_i32_347
  let v557 : BitVec 32 := Scalar.subi v555 v556
  let v558 : BitVec 32 := v557
  let v559 : Index := Scalar.indexCast v558
  let c0_349 : Index := 0#32
  ![0, v559.toNat, 0]

def k0_chk47 (v555 : BitVec 32) : Prop :=
  (8 ∣ (k0_mult48 v555).toNat) ∧
  (∀ a, (k0_off61 v555) a + S1x8x1024.size a ≤ S1x4096x1024.size a)
theorem k0_mult48_dvd : ∀ (v555 : BitVec 32) (k0_hw47 : k0_chk47 v555), 8 ∣ (k0_mult48 v555).toNat := fun v555 k0_hw47 => k0_hw47.1
theorem k0_off61_inb : ∀ (v555 : BitVec 32) (k0_hw47 : k0_chk47 v555), ∀ a, (k0_off61 v555) a + S1x8x1024.size a ≤ S1x4096x1024.size a := fun v555 k0_hw47 => k0_hw47.2

def k0_mult49 (v568 : BitVec 32) : BitVec 32 :=
  let c7_i32_355 : BitVec 32 := 7#32
  let v569 : BitVec 32 := Scalar.andi v568 c7_i32_355
  let v570 : BitVec 32 := Scalar.subi v568 v569
  v570

def k0_off62 (v568 : BitVec 32) : Fin 3 → Nat :=
  let c0_356 : Index := 0#32
  let c7_i32_355 : BitVec 32 := 7#32
  let v569 : BitVec 32 := Scalar.andi v568 c7_i32_355
  let v570 : BitVec 32 := Scalar.subi v568 v569
  let v571 : BitVec 32 := v570
  let v572 : Index := Scalar.indexCast v571
  let c0_357 : Index := 0#32
  ![0, v572.toNat, 0]

def k0_chk48 (v568 : BitVec 32) : Prop :=
  (8 ∣ (k0_mult49 v568).toNat) ∧
  (∀ a, (k0_off62 v568) a + S1x8x1024.size a ≤ S1x4096x1024.size a)
theorem k0_mult49_dvd : ∀ (v568 : BitVec 32) (k0_hw48 : k0_chk48 v568), 8 ∣ (k0_mult49 v568).toNat := fun v568 k0_hw48 => k0_hw48.1
theorem k0_off62_inb : ∀ (v568 : BitVec 32) (k0_hw48 : k0_chk48 v568), ∀ a, (k0_off62 v568) a + S1x8x1024.size a ≤ S1x4096x1024.size a := fun v568 k0_hw48 => k0_hw48.2

def k0_off63 (i : grid0.Coords) : Fin 3 → Nat :=
  let c1_i32_295 : BitVec 32 := 1#32
  let arg1 : BitVec 32 := BitVec.ofNat 32 (i 1).val
  let c1_i32 : BitVec 32 := 1#32
  let v1 : BitVec 32 := Scalar.andi arg1 c1_i32
  let v475 : BitVec 32 := Scalar.subi c1_i32_295 v1
  let c0_i32_361 : BitVec 32 := 0#32
  let c0_i32_362 : BitVec 32 := 0#32
  ![v475.toNat, 0, 0]
def k0_mult50 (v588 : BitVec 32) : BitVec 32 :=
  let c7_i32_369 : BitVec 32 := 7#32
  let v589 : BitVec 32 := Scalar.andi v588 c7_i32_369
  let v590 : BitVec 32 := Scalar.subi v588 v589
  v590

def k0_off64 (v588 : BitVec 32) : Fin 3 → Nat :=
  let c0_370 : Index := 0#32
  let c7_i32_369 : BitVec 32 := 7#32
  let v589 : BitVec 32 := Scalar.andi v588 c7_i32_369
  let v590 : BitVec 32 := Scalar.subi v588 v589
  let v591 : BitVec 32 := v590
  let v592 : Index := Scalar.indexCast v591
  let c0_371 : Index := 0#32
  ![0, v592.toNat, 0]

def k0_chk49 (v588 : BitVec 32) : Prop :=
  (8 ∣ (k0_mult50 v588).toNat) ∧
  (∀ a, (k0_off64 v588) a + S1x8x1024.size a ≤ S1x4096x1024.size a)
theorem k0_mult50_dvd : ∀ (v588 : BitVec 32) (k0_hw49 : k0_chk49 v588), 8 ∣ (k0_mult50 v588).toNat := fun v588 k0_hw49 => k0_hw49.1
theorem k0_off64_inb : ∀ (v588 : BitVec 32) (k0_hw49 : k0_chk49 v588), ∀ a, (k0_off64 v588) a + S1x8x1024.size a ≤ S1x4096x1024.size a := fun v588 k0_hw49 => k0_hw49.2

def k0_mult51 (v601 : BitVec 32) : BitVec 32 :=
  let c7_i32_377 : BitVec 32 := 7#32
  let v602 : BitVec 32 := Scalar.andi v601 c7_i32_377
  let v603 : BitVec 32 := Scalar.subi v601 v602
  v603

def k0_off65 (v601 : BitVec 32) : Fin 3 → Nat :=
  let c0_378 : Index := 0#32
  let c7_i32_377 : BitVec 32 := 7#32
  let v602 : BitVec 32 := Scalar.andi v601 c7_i32_377
  let v603 : BitVec 32 := Scalar.subi v601 v602
  let v604 : BitVec 32 := v603
  let v605 : Index := Scalar.indexCast v604
  let c0_379 : Index := 0#32
  ![0, v605.toNat, 0]

def k0_chk50 (v601 : BitVec 32) : Prop :=
  (8 ∣ (k0_mult51 v601).toNat) ∧
  (∀ a, (k0_off65 v601) a + S1x8x1024.size a ≤ S1x4096x1024.size a)
theorem k0_mult51_dvd : ∀ (v601 : BitVec 32) (k0_hw50 : k0_chk50 v601), 8 ∣ (k0_mult51 v601).toNat := fun v601 k0_hw50 => k0_hw50.1
theorem k0_off65_inb : ∀ (v601 : BitVec 32) (k0_hw50 : k0_chk50 v601), ∀ a, (k0_off65 v601) a + S1x8x1024.size a ≤ S1x4096x1024.size a := fun v601 k0_hw50 => k0_hw50.2

def k0_mult52 (v614 : BitVec 32) : BitVec 32 :=
  let c7_i32_385 : BitVec 32 := 7#32
  let v615 : BitVec 32 := Scalar.andi v614 c7_i32_385
  let v616 : BitVec 32 := Scalar.subi v614 v615
  v616

def k0_off66 (v614 : BitVec 32) : Fin 3 → Nat :=
  let c0_386 : Index := 0#32
  let c7_i32_385 : BitVec 32 := 7#32
  let v615 : BitVec 32 := Scalar.andi v614 c7_i32_385
  let v616 : BitVec 32 := Scalar.subi v614 v615
  let v617 : BitVec 32 := v616
  let v618 : Index := Scalar.indexCast v617
  let c0_387 : Index := 0#32
  ![0, v618.toNat, 0]

def k0_chk51 (v614 : BitVec 32) : Prop :=
  (8 ∣ (k0_mult52 v614).toNat) ∧
  (∀ a, (k0_off66 v614) a + S1x8x1024.size a ≤ S1x4096x1024.size a)
theorem k0_mult52_dvd : ∀ (v614 : BitVec 32) (k0_hw51 : k0_chk51 v614), 8 ∣ (k0_mult52 v614).toNat := fun v614 k0_hw51 => k0_hw51.1
theorem k0_off66_inb : ∀ (v614 : BitVec 32) (k0_hw51 : k0_chk51 v614), ∀ a, (k0_off66 v614) a + S1x8x1024.size a ≤ S1x4096x1024.size a := fun v614 k0_hw51 => k0_hw51.2

def k0_mult53 (v627 : BitVec 32) : BitVec 32 :=
  let c7_i32_393 : BitVec 32 := 7#32
  let v628 : BitVec 32 := Scalar.andi v627 c7_i32_393
  let v629 : BitVec 32 := Scalar.subi v627 v628
  v629

def k0_off67 (v627 : BitVec 32) : Fin 3 → Nat :=
  let c0_394 : Index := 0#32
  let c7_i32_393 : BitVec 32 := 7#32
  let v628 : BitVec 32 := Scalar.andi v627 c7_i32_393
  let v629 : BitVec 32 := Scalar.subi v627 v628
  let v630 : BitVec 32 := v629
  let v631 : Index := Scalar.indexCast v630
  let c0_395 : Index := 0#32
  ![0, v631.toNat, 0]

def k0_chk52 (v627 : BitVec 32) : Prop :=
  (8 ∣ (k0_mult53 v627).toNat) ∧
  (∀ a, (k0_off67 v627) a + S1x8x1024.size a ≤ S1x4096x1024.size a)
theorem k0_mult53_dvd : ∀ (v627 : BitVec 32) (k0_hw52 : k0_chk52 v627), 8 ∣ (k0_mult53 v627).toNat := fun v627 k0_hw52 => k0_hw52.1
theorem k0_off67_inb : ∀ (v627 : BitVec 32) (k0_hw52 : k0_chk52 v627), ∀ a, (k0_off67 v627) a + S1x8x1024.size a ≤ S1x4096x1024.size a := fun v627 k0_hw52 => k0_hw52.2

def k0_mult54 (v640 : BitVec 32) : BitVec 32 :=
  let c7_i32_401 : BitVec 32 := 7#32
  let v641 : BitVec 32 := Scalar.andi v640 c7_i32_401
  let v642 : BitVec 32 := Scalar.subi v640 v641
  v642

def k0_off68 (v640 : BitVec 32) : Fin 3 → Nat :=
  let c0_402 : Index := 0#32
  let c7_i32_401 : BitVec 32 := 7#32
  let v641 : BitVec 32 := Scalar.andi v640 c7_i32_401
  let v642 : BitVec 32 := Scalar.subi v640 v641
  let v643 : BitVec 32 := v642
  let v644 : Index := Scalar.indexCast v643
  let c0_403 : Index := 0#32
  ![0, v644.toNat, 0]

def k0_chk53 (v640 : BitVec 32) : Prop :=
  (8 ∣ (k0_mult54 v640).toNat) ∧
  (∀ a, (k0_off68 v640) a + S1x8x1024.size a ≤ S1x4096x1024.size a)
theorem k0_mult54_dvd : ∀ (v640 : BitVec 32) (k0_hw53 : k0_chk53 v640), 8 ∣ (k0_mult54 v640).toNat := fun v640 k0_hw53 => k0_hw53.1
theorem k0_off68_inb : ∀ (v640 : BitVec 32) (k0_hw53 : k0_chk53 v640), ∀ a, (k0_off68 v640) a + S1x8x1024.size a ≤ S1x4096x1024.size a := fun v640 k0_hw53 => k0_hw53.2

def k0_mult55 (v653 : BitVec 32) : BitVec 32 :=
  let c7_i32_409 : BitVec 32 := 7#32
  let v654 : BitVec 32 := Scalar.andi v653 c7_i32_409
  let v655 : BitVec 32 := Scalar.subi v653 v654
  v655

def k0_off69 (v653 : BitVec 32) : Fin 3 → Nat :=
  let c0_410 : Index := 0#32
  let c7_i32_409 : BitVec 32 := 7#32
  let v654 : BitVec 32 := Scalar.andi v653 c7_i32_409
  let v655 : BitVec 32 := Scalar.subi v653 v654
  let v656 : BitVec 32 := v655
  let v657 : Index := Scalar.indexCast v656
  let c0_411 : Index := 0#32
  ![0, v657.toNat, 0]

def k0_chk54 (v653 : BitVec 32) : Prop :=
  (8 ∣ (k0_mult55 v653).toNat) ∧
  (∀ a, (k0_off69 v653) a + S1x8x1024.size a ≤ S1x4096x1024.size a)
theorem k0_mult55_dvd : ∀ (v653 : BitVec 32) (k0_hw54 : k0_chk54 v653), 8 ∣ (k0_mult55 v653).toNat := fun v653 k0_hw54 => k0_hw54.1
theorem k0_off69_inb : ∀ (v653 : BitVec 32) (k0_hw54 : k0_chk54 v653), ∀ a, (k0_off69 v653) a + S1x8x1024.size a ≤ S1x4096x1024.size a := fun v653 k0_hw54 => k0_hw54.2

def k0_mult56 (v666 : BitVec 32) : BitVec 32 :=
  let c7_i32_417 : BitVec 32 := 7#32
  let v667 : BitVec 32 := Scalar.andi v666 c7_i32_417
  let v668 : BitVec 32 := Scalar.subi v666 v667
  v668

def k0_off70 (v666 : BitVec 32) : Fin 3 → Nat :=
  let c0_418 : Index := 0#32
  let c7_i32_417 : BitVec 32 := 7#32
  let v667 : BitVec 32 := Scalar.andi v666 c7_i32_417
  let v668 : BitVec 32 := Scalar.subi v666 v667
  let v669 : BitVec 32 := v668
  let v670 : Index := Scalar.indexCast v669
  let c0_419 : Index := 0#32
  ![0, v670.toNat, 0]

def k0_chk55 (v666 : BitVec 32) : Prop :=
  (8 ∣ (k0_mult56 v666).toNat) ∧
  (∀ a, (k0_off70 v666) a + S1x8x1024.size a ≤ S1x4096x1024.size a)
theorem k0_mult56_dvd : ∀ (v666 : BitVec 32) (k0_hw55 : k0_chk55 v666), 8 ∣ (k0_mult56 v666).toNat := fun v666 k0_hw55 => k0_hw55.1
theorem k0_off70_inb : ∀ (v666 : BitVec 32) (k0_hw55 : k0_chk55 v666), ∀ a, (k0_off70 v666) a + S1x8x1024.size a ≤ S1x4096x1024.size a := fun v666 k0_hw55 => k0_hw55.2

def k0_mult57 (v679 : BitVec 32) : BitVec 32 :=
  let c7_i32_425 : BitVec 32 := 7#32
  let v680 : BitVec 32 := Scalar.andi v679 c7_i32_425
  let v681 : BitVec 32 := Scalar.subi v679 v680
  v681

def k0_off71 (v679 : BitVec 32) : Fin 3 → Nat :=
  let c0_426 : Index := 0#32
  let c7_i32_425 : BitVec 32 := 7#32
  let v680 : BitVec 32 := Scalar.andi v679 c7_i32_425
  let v681 : BitVec 32 := Scalar.subi v679 v680
  let v682 : BitVec 32 := v681
  let v683 : Index := Scalar.indexCast v682
  let c0_427 : Index := 0#32
  ![0, v683.toNat, 0]

def k0_chk56 (v679 : BitVec 32) : Prop :=
  (8 ∣ (k0_mult57 v679).toNat) ∧
  (∀ a, (k0_off71 v679) a + S1x8x1024.size a ≤ S1x4096x1024.size a)
theorem k0_mult57_dvd : ∀ (v679 : BitVec 32) (k0_hw56 : k0_chk56 v679), 8 ∣ (k0_mult57 v679).toNat := fun v679 k0_hw56 => k0_hw56.1
theorem k0_off71_inb : ∀ (v679 : BitVec 32) (k0_hw56 : k0_chk56 v679), ∀ a, (k0_off71 v679) a + S1x8x1024.size a ≤ S1x4096x1024.size a := fun v679 k0_hw56 => k0_hw56.2

def k0_off72 (i : grid0.Coords) : Fin 3 → Nat :=
  let c1_i32_365 : BitVec 32 := 1#32
  let arg1 : BitVec 32 := BitVec.ofNat 32 (i 1).val
  let c1_i32 : BitVec 32 := 1#32
  let v1 : BitVec 32 := Scalar.andi arg1 c1_i32
  let v586 : BitVec 32 := Scalar.subi c1_i32_365 v1
  let c0_i32_431 : BitVec 32 := 0#32
  let c0_i32_432 : BitVec 32 := 0#32
  ![v586.toNat, 0, 0]
def k0_mult58 (v699 : BitVec 32) : BitVec 32 :=
  let c7_i32_439 : BitVec 32 := 7#32
  let v700 : BitVec 32 := Scalar.andi v699 c7_i32_439
  let v701 : BitVec 32 := Scalar.subi v699 v700
  v701

def k0_off73 (v699 : BitVec 32) : Fin 3 → Nat :=
  let c0_440 : Index := 0#32
  let c7_i32_439 : BitVec 32 := 7#32
  let v700 : BitVec 32 := Scalar.andi v699 c7_i32_439
  let v701 : BitVec 32 := Scalar.subi v699 v700
  let v702 : BitVec 32 := v701
  let v703 : Index := Scalar.indexCast v702
  let c0_441 : Index := 0#32
  ![0, v703.toNat, 0]

def k0_chk57 (v699 : BitVec 32) : Prop :=
  (8 ∣ (k0_mult58 v699).toNat) ∧
  (∀ a, (k0_off73 v699) a + S1x8x1024.size a ≤ S1x4096x1024.size a)
theorem k0_mult58_dvd : ∀ (v699 : BitVec 32) (k0_hw57 : k0_chk57 v699), 8 ∣ (k0_mult58 v699).toNat := fun v699 k0_hw57 => k0_hw57.1
theorem k0_off73_inb : ∀ (v699 : BitVec 32) (k0_hw57 : k0_chk57 v699), ∀ a, (k0_off73 v699) a + S1x8x1024.size a ≤ S1x4096x1024.size a := fun v699 k0_hw57 => k0_hw57.2

def k0_mult59 (v712 : BitVec 32) : BitVec 32 :=
  let c7_i32_447 : BitVec 32 := 7#32
  let v713 : BitVec 32 := Scalar.andi v712 c7_i32_447
  let v714 : BitVec 32 := Scalar.subi v712 v713
  v714

def k0_off74 (v712 : BitVec 32) : Fin 3 → Nat :=
  let c0_448 : Index := 0#32
  let c7_i32_447 : BitVec 32 := 7#32
  let v713 : BitVec 32 := Scalar.andi v712 c7_i32_447
  let v714 : BitVec 32 := Scalar.subi v712 v713
  let v715 : BitVec 32 := v714
  let v716 : Index := Scalar.indexCast v715
  let c0_449 : Index := 0#32
  ![0, v716.toNat, 0]

def k0_chk58 (v712 : BitVec 32) : Prop :=
  (8 ∣ (k0_mult59 v712).toNat) ∧
  (∀ a, (k0_off74 v712) a + S1x8x1024.size a ≤ S1x4096x1024.size a)
theorem k0_mult59_dvd : ∀ (v712 : BitVec 32) (k0_hw58 : k0_chk58 v712), 8 ∣ (k0_mult59 v712).toNat := fun v712 k0_hw58 => k0_hw58.1
theorem k0_off74_inb : ∀ (v712 : BitVec 32) (k0_hw58 : k0_chk58 v712), ∀ a, (k0_off74 v712) a + S1x8x1024.size a ≤ S1x4096x1024.size a := fun v712 k0_hw58 => k0_hw58.2

def k0_mult60 (v725 : BitVec 32) : BitVec 32 :=
  let c7_i32_455 : BitVec 32 := 7#32
  let v726 : BitVec 32 := Scalar.andi v725 c7_i32_455
  let v727 : BitVec 32 := Scalar.subi v725 v726
  v727

def k0_off75 (v725 : BitVec 32) : Fin 3 → Nat :=
  let c0_456 : Index := 0#32
  let c7_i32_455 : BitVec 32 := 7#32
  let v726 : BitVec 32 := Scalar.andi v725 c7_i32_455
  let v727 : BitVec 32 := Scalar.subi v725 v726
  let v728 : BitVec 32 := v727
  let v729 : Index := Scalar.indexCast v728
  let c0_457 : Index := 0#32
  ![0, v729.toNat, 0]

def k0_chk59 (v725 : BitVec 32) : Prop :=
  (8 ∣ (k0_mult60 v725).toNat) ∧
  (∀ a, (k0_off75 v725) a + S1x8x1024.size a ≤ S1x4096x1024.size a)
theorem k0_mult60_dvd : ∀ (v725 : BitVec 32) (k0_hw59 : k0_chk59 v725), 8 ∣ (k0_mult60 v725).toNat := fun v725 k0_hw59 => k0_hw59.1
theorem k0_off75_inb : ∀ (v725 : BitVec 32) (k0_hw59 : k0_chk59 v725), ∀ a, (k0_off75 v725) a + S1x8x1024.size a ≤ S1x4096x1024.size a := fun v725 k0_hw59 => k0_hw59.2

def k0_mult61 (v738 : BitVec 32) : BitVec 32 :=
  let c7_i32_463 : BitVec 32 := 7#32
  let v739 : BitVec 32 := Scalar.andi v738 c7_i32_463
  let v740 : BitVec 32 := Scalar.subi v738 v739
  v740

def k0_off76 (v738 : BitVec 32) : Fin 3 → Nat :=
  let c0_464 : Index := 0#32
  let c7_i32_463 : BitVec 32 := 7#32
  let v739 : BitVec 32 := Scalar.andi v738 c7_i32_463
  let v740 : BitVec 32 := Scalar.subi v738 v739
  let v741 : BitVec 32 := v740
  let v742 : Index := Scalar.indexCast v741
  let c0_465 : Index := 0#32
  ![0, v742.toNat, 0]

def k0_chk60 (v738 : BitVec 32) : Prop :=
  (8 ∣ (k0_mult61 v738).toNat) ∧
  (∀ a, (k0_off76 v738) a + S1x8x1024.size a ≤ S1x4096x1024.size a)
theorem k0_mult61_dvd : ∀ (v738 : BitVec 32) (k0_hw60 : k0_chk60 v738), 8 ∣ (k0_mult61 v738).toNat := fun v738 k0_hw60 => k0_hw60.1
theorem k0_off76_inb : ∀ (v738 : BitVec 32) (k0_hw60 : k0_chk60 v738), ∀ a, (k0_off76 v738) a + S1x8x1024.size a ≤ S1x4096x1024.size a := fun v738 k0_hw60 => k0_hw60.2

def k0_mult62 (v751 : BitVec 32) : BitVec 32 :=
  let c7_i32_471 : BitVec 32 := 7#32
  let v752 : BitVec 32 := Scalar.andi v751 c7_i32_471
  let v753 : BitVec 32 := Scalar.subi v751 v752
  v753

def k0_off77 (v751 : BitVec 32) : Fin 3 → Nat :=
  let c0_472 : Index := 0#32
  let c7_i32_471 : BitVec 32 := 7#32
  let v752 : BitVec 32 := Scalar.andi v751 c7_i32_471
  let v753 : BitVec 32 := Scalar.subi v751 v752
  let v754 : BitVec 32 := v753
  let v755 : Index := Scalar.indexCast v754
  let c0_473 : Index := 0#32
  ![0, v755.toNat, 0]

def k0_chk61 (v751 : BitVec 32) : Prop :=
  (8 ∣ (k0_mult62 v751).toNat) ∧
  (∀ a, (k0_off77 v751) a + S1x8x1024.size a ≤ S1x4096x1024.size a)
theorem k0_mult62_dvd : ∀ (v751 : BitVec 32) (k0_hw61 : k0_chk61 v751), 8 ∣ (k0_mult62 v751).toNat := fun v751 k0_hw61 => k0_hw61.1
theorem k0_off77_inb : ∀ (v751 : BitVec 32) (k0_hw61 : k0_chk61 v751), ∀ a, (k0_off77 v751) a + S1x8x1024.size a ≤ S1x4096x1024.size a := fun v751 k0_hw61 => k0_hw61.2

def k0_mult63 (v764 : BitVec 32) : BitVec 32 :=
  let c7_i32_479 : BitVec 32 := 7#32
  let v765 : BitVec 32 := Scalar.andi v764 c7_i32_479
  let v766 : BitVec 32 := Scalar.subi v764 v765
  v766

def k0_off78 (v764 : BitVec 32) : Fin 3 → Nat :=
  let c0_480 : Index := 0#32
  let c7_i32_479 : BitVec 32 := 7#32
  let v765 : BitVec 32 := Scalar.andi v764 c7_i32_479
  let v766 : BitVec 32 := Scalar.subi v764 v765
  let v767 : BitVec 32 := v766
  let v768 : Index := Scalar.indexCast v767
  let c0_481 : Index := 0#32
  ![0, v768.toNat, 0]

def k0_chk62 (v764 : BitVec 32) : Prop :=
  (8 ∣ (k0_mult63 v764).toNat) ∧
  (∀ a, (k0_off78 v764) a + S1x8x1024.size a ≤ S1x4096x1024.size a)
theorem k0_mult63_dvd : ∀ (v764 : BitVec 32) (k0_hw62 : k0_chk62 v764), 8 ∣ (k0_mult63 v764).toNat := fun v764 k0_hw62 => k0_hw62.1
theorem k0_off78_inb : ∀ (v764 : BitVec 32) (k0_hw62 : k0_chk62 v764), ∀ a, (k0_off78 v764) a + S1x8x1024.size a ≤ S1x4096x1024.size a := fun v764 k0_hw62 => k0_hw62.2

def k0_mult64 (v777 : BitVec 32) : BitVec 32 :=
  let c7_i32_487 : BitVec 32 := 7#32
  let v778 : BitVec 32 := Scalar.andi v777 c7_i32_487
  let v779 : BitVec 32 := Scalar.subi v777 v778
  v779

def k0_off79 (v777 : BitVec 32) : Fin 3 → Nat :=
  let c0_488 : Index := 0#32
  let c7_i32_487 : BitVec 32 := 7#32
  let v778 : BitVec 32 := Scalar.andi v777 c7_i32_487
  let v779 : BitVec 32 := Scalar.subi v777 v778
  let v780 : BitVec 32 := v779
  let v781 : Index := Scalar.indexCast v780
  let c0_489 : Index := 0#32
  ![0, v781.toNat, 0]

def k0_chk63 (v777 : BitVec 32) : Prop :=
  (8 ∣ (k0_mult64 v777).toNat) ∧
  (∀ a, (k0_off79 v777) a + S1x8x1024.size a ≤ S1x4096x1024.size a)
theorem k0_mult64_dvd : ∀ (v777 : BitVec 32) (k0_hw63 : k0_chk63 v777), 8 ∣ (k0_mult64 v777).toNat := fun v777 k0_hw63 => k0_hw63.1
theorem k0_off79_inb : ∀ (v777 : BitVec 32) (k0_hw63 : k0_chk63 v777), ∀ a, (k0_off79 v777) a + S1x8x1024.size a ≤ S1x4096x1024.size a := fun v777 k0_hw63 => k0_hw63.2

def k0_mult65 (v790 : BitVec 32) : BitVec 32 :=
  let c7_i32_495 : BitVec 32 := 7#32
  let v791 : BitVec 32 := Scalar.andi v790 c7_i32_495
  let v792 : BitVec 32 := Scalar.subi v790 v791
  v792

def k0_off80 (v790 : BitVec 32) : Fin 3 → Nat :=
  let c0_496 : Index := 0#32
  let c7_i32_495 : BitVec 32 := 7#32
  let v791 : BitVec 32 := Scalar.andi v790 c7_i32_495
  let v792 : BitVec 32 := Scalar.subi v790 v791
  let v793 : BitVec 32 := v792
  let v794 : Index := Scalar.indexCast v793
  let c0_497 : Index := 0#32
  ![0, v794.toNat, 0]

def k0_chk64 (v790 : BitVec 32) : Prop :=
  (8 ∣ (k0_mult65 v790).toNat) ∧
  (∀ a, (k0_off80 v790) a + S1x8x1024.size a ≤ S1x4096x1024.size a)
theorem k0_mult65_dvd : ∀ (v790 : BitVec 32) (k0_hw64 : k0_chk64 v790), 8 ∣ (k0_mult65 v790).toNat := fun v790 k0_hw64 => k0_hw64.1
theorem k0_off80_inb : ∀ (v790 : BitVec 32) (k0_hw64 : k0_chk64 v790), ∀ a, (k0_off80 v790) a + S1x8x1024.size a ≤ S1x4096x1024.size a := fun v790 k0_hw64 => k0_hw64.2

def k0_off81 (i : grid0.Coords) : Fin 3 → Nat :=
  let c1_i32_435 : BitVec 32 := 1#32
  let arg1 : BitVec 32 := BitVec.ofNat 32 (i 1).val
  let c1_i32 : BitVec 32 := 1#32
  let v1 : BitVec 32 := Scalar.andi arg1 c1_i32
  let v697 : BitVec 32 := Scalar.subi c1_i32_435 v1
  let c0_i32_501 : BitVec 32 := 0#32
  let c0_i32_502 : BitVec 32 := 0#32
  ![v697.toNat, 0, 0]
def k0_mult66 (v810 : BitVec 32) : BitVec 32 :=
  let c7_i32_509 : BitVec 32 := 7#32
  let v811 : BitVec 32 := Scalar.andi v810 c7_i32_509
  let v812 : BitVec 32 := Scalar.subi v810 v811
  v812

def k0_off82 (v810 : BitVec 32) : Fin 3 → Nat :=
  let c0_510 : Index := 0#32
  let c7_i32_509 : BitVec 32 := 7#32
  let v811 : BitVec 32 := Scalar.andi v810 c7_i32_509
  let v812 : BitVec 32 := Scalar.subi v810 v811
  let v813 : BitVec 32 := v812
  let v814 : Index := Scalar.indexCast v813
  let c0_511 : Index := 0#32
  ![0, v814.toNat, 0]

def k0_chk65 (v810 : BitVec 32) : Prop :=
  (8 ∣ (k0_mult66 v810).toNat) ∧
  (∀ a, (k0_off82 v810) a + S1x8x1024.size a ≤ S1x4096x1024.size a)
theorem k0_mult66_dvd : ∀ (v810 : BitVec 32) (k0_hw65 : k0_chk65 v810), 8 ∣ (k0_mult66 v810).toNat := fun v810 k0_hw65 => k0_hw65.1
theorem k0_off82_inb : ∀ (v810 : BitVec 32) (k0_hw65 : k0_chk65 v810), ∀ a, (k0_off82 v810) a + S1x8x1024.size a ≤ S1x4096x1024.size a := fun v810 k0_hw65 => k0_hw65.2

def k0_mult67 (v823 : BitVec 32) : BitVec 32 :=
  let c7_i32_517 : BitVec 32 := 7#32
  let v824 : BitVec 32 := Scalar.andi v823 c7_i32_517
  let v825 : BitVec 32 := Scalar.subi v823 v824
  v825

def k0_off83 (v823 : BitVec 32) : Fin 3 → Nat :=
  let c0_518 : Index := 0#32
  let c7_i32_517 : BitVec 32 := 7#32
  let v824 : BitVec 32 := Scalar.andi v823 c7_i32_517
  let v825 : BitVec 32 := Scalar.subi v823 v824
  let v826 : BitVec 32 := v825
  let v827 : Index := Scalar.indexCast v826
  let c0_519 : Index := 0#32
  ![0, v827.toNat, 0]

def k0_chk66 (v823 : BitVec 32) : Prop :=
  (8 ∣ (k0_mult67 v823).toNat) ∧
  (∀ a, (k0_off83 v823) a + S1x8x1024.size a ≤ S1x4096x1024.size a)
theorem k0_mult67_dvd : ∀ (v823 : BitVec 32) (k0_hw66 : k0_chk66 v823), 8 ∣ (k0_mult67 v823).toNat := fun v823 k0_hw66 => k0_hw66.1
theorem k0_off83_inb : ∀ (v823 : BitVec 32) (k0_hw66 : k0_chk66 v823), ∀ a, (k0_off83 v823) a + S1x8x1024.size a ≤ S1x4096x1024.size a := fun v823 k0_hw66 => k0_hw66.2

def k0_mult68 (v836 : BitVec 32) : BitVec 32 :=
  let c7_i32_525 : BitVec 32 := 7#32
  let v837 : BitVec 32 := Scalar.andi v836 c7_i32_525
  let v838 : BitVec 32 := Scalar.subi v836 v837
  v838

def k0_off84 (v836 : BitVec 32) : Fin 3 → Nat :=
  let c0_526 : Index := 0#32
  let c7_i32_525 : BitVec 32 := 7#32
  let v837 : BitVec 32 := Scalar.andi v836 c7_i32_525
  let v838 : BitVec 32 := Scalar.subi v836 v837
  let v839 : BitVec 32 := v838
  let v840 : Index := Scalar.indexCast v839
  let c0_527 : Index := 0#32
  ![0, v840.toNat, 0]

def k0_chk67 (v836 : BitVec 32) : Prop :=
  (8 ∣ (k0_mult68 v836).toNat) ∧
  (∀ a, (k0_off84 v836) a + S1x8x1024.size a ≤ S1x4096x1024.size a)
theorem k0_mult68_dvd : ∀ (v836 : BitVec 32) (k0_hw67 : k0_chk67 v836), 8 ∣ (k0_mult68 v836).toNat := fun v836 k0_hw67 => k0_hw67.1
theorem k0_off84_inb : ∀ (v836 : BitVec 32) (k0_hw67 : k0_chk67 v836), ∀ a, (k0_off84 v836) a + S1x8x1024.size a ≤ S1x4096x1024.size a := fun v836 k0_hw67 => k0_hw67.2

def k0_mult69 (v849 : BitVec 32) : BitVec 32 :=
  let c7_i32_533 : BitVec 32 := 7#32
  let v850 : BitVec 32 := Scalar.andi v849 c7_i32_533
  let v851 : BitVec 32 := Scalar.subi v849 v850
  v851

def k0_off85 (v849 : BitVec 32) : Fin 3 → Nat :=
  let c0_534 : Index := 0#32
  let c7_i32_533 : BitVec 32 := 7#32
  let v850 : BitVec 32 := Scalar.andi v849 c7_i32_533
  let v851 : BitVec 32 := Scalar.subi v849 v850
  let v852 : BitVec 32 := v851
  let v853 : Index := Scalar.indexCast v852
  let c0_535 : Index := 0#32
  ![0, v853.toNat, 0]

def k0_chk68 (v849 : BitVec 32) : Prop :=
  (8 ∣ (k0_mult69 v849).toNat) ∧
  (∀ a, (k0_off85 v849) a + S1x8x1024.size a ≤ S1x4096x1024.size a)
theorem k0_mult69_dvd : ∀ (v849 : BitVec 32) (k0_hw68 : k0_chk68 v849), 8 ∣ (k0_mult69 v849).toNat := fun v849 k0_hw68 => k0_hw68.1
theorem k0_off85_inb : ∀ (v849 : BitVec 32) (k0_hw68 : k0_chk68 v849), ∀ a, (k0_off85 v849) a + S1x8x1024.size a ≤ S1x4096x1024.size a := fun v849 k0_hw68 => k0_hw68.2

def k0_mult70 (v862 : BitVec 32) : BitVec 32 :=
  let c7_i32_541 : BitVec 32 := 7#32
  let v863 : BitVec 32 := Scalar.andi v862 c7_i32_541
  let v864 : BitVec 32 := Scalar.subi v862 v863
  v864

def k0_off86 (v862 : BitVec 32) : Fin 3 → Nat :=
  let c0_542 : Index := 0#32
  let c7_i32_541 : BitVec 32 := 7#32
  let v863 : BitVec 32 := Scalar.andi v862 c7_i32_541
  let v864 : BitVec 32 := Scalar.subi v862 v863
  let v865 : BitVec 32 := v864
  let v866 : Index := Scalar.indexCast v865
  let c0_543 : Index := 0#32
  ![0, v866.toNat, 0]

def k0_chk69 (v862 : BitVec 32) : Prop :=
  (8 ∣ (k0_mult70 v862).toNat) ∧
  (∀ a, (k0_off86 v862) a + S1x8x1024.size a ≤ S1x4096x1024.size a)
theorem k0_mult70_dvd : ∀ (v862 : BitVec 32) (k0_hw69 : k0_chk69 v862), 8 ∣ (k0_mult70 v862).toNat := fun v862 k0_hw69 => k0_hw69.1
theorem k0_off86_inb : ∀ (v862 : BitVec 32) (k0_hw69 : k0_chk69 v862), ∀ a, (k0_off86 v862) a + S1x8x1024.size a ≤ S1x4096x1024.size a := fun v862 k0_hw69 => k0_hw69.2

def k0_mult71 (v875 : BitVec 32) : BitVec 32 :=
  let c7_i32_549 : BitVec 32 := 7#32
  let v876 : BitVec 32 := Scalar.andi v875 c7_i32_549
  let v877 : BitVec 32 := Scalar.subi v875 v876
  v877

def k0_off87 (v875 : BitVec 32) : Fin 3 → Nat :=
  let c0_550 : Index := 0#32
  let c7_i32_549 : BitVec 32 := 7#32
  let v876 : BitVec 32 := Scalar.andi v875 c7_i32_549
  let v877 : BitVec 32 := Scalar.subi v875 v876
  let v878 : BitVec 32 := v877
  let v879 : Index := Scalar.indexCast v878
  let c0_551 : Index := 0#32
  ![0, v879.toNat, 0]

def k0_chk70 (v875 : BitVec 32) : Prop :=
  (8 ∣ (k0_mult71 v875).toNat) ∧
  (∀ a, (k0_off87 v875) a + S1x8x1024.size a ≤ S1x4096x1024.size a)
theorem k0_mult71_dvd : ∀ (v875 : BitVec 32) (k0_hw70 : k0_chk70 v875), 8 ∣ (k0_mult71 v875).toNat := fun v875 k0_hw70 => k0_hw70.1
theorem k0_off87_inb : ∀ (v875 : BitVec 32) (k0_hw70 : k0_chk70 v875), ∀ a, (k0_off87 v875) a + S1x8x1024.size a ≤ S1x4096x1024.size a := fun v875 k0_hw70 => k0_hw70.2

def k0_mult72 (v888 : BitVec 32) : BitVec 32 :=
  let c7_i32_557 : BitVec 32 := 7#32
  let v889 : BitVec 32 := Scalar.andi v888 c7_i32_557
  let v890 : BitVec 32 := Scalar.subi v888 v889
  v890

def k0_off88 (v888 : BitVec 32) : Fin 3 → Nat :=
  let c0_558 : Index := 0#32
  let c7_i32_557 : BitVec 32 := 7#32
  let v889 : BitVec 32 := Scalar.andi v888 c7_i32_557
  let v890 : BitVec 32 := Scalar.subi v888 v889
  let v891 : BitVec 32 := v890
  let v892 : Index := Scalar.indexCast v891
  let c0_559 : Index := 0#32
  ![0, v892.toNat, 0]

def k0_chk71 (v888 : BitVec 32) : Prop :=
  (8 ∣ (k0_mult72 v888).toNat) ∧
  (∀ a, (k0_off88 v888) a + S1x8x1024.size a ≤ S1x4096x1024.size a)
theorem k0_mult72_dvd : ∀ (v888 : BitVec 32) (k0_hw71 : k0_chk71 v888), 8 ∣ (k0_mult72 v888).toNat := fun v888 k0_hw71 => k0_hw71.1
theorem k0_off88_inb : ∀ (v888 : BitVec 32) (k0_hw71 : k0_chk71 v888), ∀ a, (k0_off88 v888) a + S1x8x1024.size a ≤ S1x4096x1024.size a := fun v888 k0_hw71 => k0_hw71.2

def k0_mult73 (v901 : BitVec 32) : BitVec 32 :=
  let c7_i32_565 : BitVec 32 := 7#32
  let v902 : BitVec 32 := Scalar.andi v901 c7_i32_565
  let v903 : BitVec 32 := Scalar.subi v901 v902
  v903

def k0_off89 (v901 : BitVec 32) : Fin 3 → Nat :=
  let c0_566 : Index := 0#32
  let c7_i32_565 : BitVec 32 := 7#32
  let v902 : BitVec 32 := Scalar.andi v901 c7_i32_565
  let v903 : BitVec 32 := Scalar.subi v901 v902
  let v904 : BitVec 32 := v903
  let v905 : Index := Scalar.indexCast v904
  let c0_567 : Index := 0#32
  ![0, v905.toNat, 0]

def k0_chk72 (v901 : BitVec 32) : Prop :=
  (8 ∣ (k0_mult73 v901).toNat) ∧
  (∀ a, (k0_off89 v901) a + S1x8x1024.size a ≤ S1x4096x1024.size a)
theorem k0_mult73_dvd : ∀ (v901 : BitVec 32) (k0_hw72 : k0_chk72 v901), 8 ∣ (k0_mult73 v901).toNat := fun v901 k0_hw72 => k0_hw72.1
theorem k0_off89_inb : ∀ (v901 : BitVec 32) (k0_hw72 : k0_chk72 v901), ∀ a, (k0_off89 v901) a + S1x8x1024.size a ≤ S1x4096x1024.size a := fun v901 k0_hw72 => k0_hw72.2

def k0_off90 (i : grid0.Coords) : Fin 3 → Nat :=
  let c1_i32_505 : BitVec 32 := 1#32
  let arg1 : BitVec 32 := BitVec.ofNat 32 (i 1).val
  let c1_i32 : BitVec 32 := 1#32
  let v1 : BitVec 32 := Scalar.andi arg1 c1_i32
  let v808 : BitVec 32 := Scalar.subi c1_i32_505 v1
  let c0_i32_571 : BitVec 32 := 0#32
  let c0_i32_572 : BitVec 32 := 0#32
  ![v808.toNat, 0, 0]
def k0_mult74 (v921 : BitVec 32) : BitVec 32 :=
  let c7_i32_579 : BitVec 32 := 7#32
  let v922 : BitVec 32 := Scalar.andi v921 c7_i32_579
  let v923 : BitVec 32 := Scalar.subi v921 v922
  v923

def k0_off91 (v921 : BitVec 32) : Fin 3 → Nat :=
  let c0_580 : Index := 0#32
  let c7_i32_579 : BitVec 32 := 7#32
  let v922 : BitVec 32 := Scalar.andi v921 c7_i32_579
  let v923 : BitVec 32 := Scalar.subi v921 v922
  let v924 : BitVec 32 := v923
  let v925 : Index := Scalar.indexCast v924
  let c0_581 : Index := 0#32
  ![0, v925.toNat, 0]

def k0_chk73 (v921 : BitVec 32) : Prop :=
  (8 ∣ (k0_mult74 v921).toNat) ∧
  (∀ a, (k0_off91 v921) a + S1x8x1024.size a ≤ S1x4096x1024.size a)
theorem k0_mult74_dvd : ∀ (v921 : BitVec 32) (k0_hw73 : k0_chk73 v921), 8 ∣ (k0_mult74 v921).toNat := fun v921 k0_hw73 => k0_hw73.1
theorem k0_off91_inb : ∀ (v921 : BitVec 32) (k0_hw73 : k0_chk73 v921), ∀ a, (k0_off91 v921) a + S1x8x1024.size a ≤ S1x4096x1024.size a := fun v921 k0_hw73 => k0_hw73.2

def k0_mult75 (v934 : BitVec 32) : BitVec 32 :=
  let c7_i32_587 : BitVec 32 := 7#32
  let v935 : BitVec 32 := Scalar.andi v934 c7_i32_587
  let v936 : BitVec 32 := Scalar.subi v934 v935
  v936

def k0_off92 (v934 : BitVec 32) : Fin 3 → Nat :=
  let c0_588 : Index := 0#32
  let c7_i32_587 : BitVec 32 := 7#32
  let v935 : BitVec 32 := Scalar.andi v934 c7_i32_587
  let v936 : BitVec 32 := Scalar.subi v934 v935
  let v937 : BitVec 32 := v936
  let v938 : Index := Scalar.indexCast v937
  let c0_589 : Index := 0#32
  ![0, v938.toNat, 0]

def k0_chk74 (v934 : BitVec 32) : Prop :=
  (8 ∣ (k0_mult75 v934).toNat) ∧
  (∀ a, (k0_off92 v934) a + S1x8x1024.size a ≤ S1x4096x1024.size a)
theorem k0_mult75_dvd : ∀ (v934 : BitVec 32) (k0_hw74 : k0_chk74 v934), 8 ∣ (k0_mult75 v934).toNat := fun v934 k0_hw74 => k0_hw74.1
theorem k0_off92_inb : ∀ (v934 : BitVec 32) (k0_hw74 : k0_chk74 v934), ∀ a, (k0_off92 v934) a + S1x8x1024.size a ≤ S1x4096x1024.size a := fun v934 k0_hw74 => k0_hw74.2

def k0_mult76 (v947 : BitVec 32) : BitVec 32 :=
  let c7_i32_595 : BitVec 32 := 7#32
  let v948 : BitVec 32 := Scalar.andi v947 c7_i32_595
  let v949 : BitVec 32 := Scalar.subi v947 v948
  v949

def k0_off93 (v947 : BitVec 32) : Fin 3 → Nat :=
  let c0_596 : Index := 0#32
  let c7_i32_595 : BitVec 32 := 7#32
  let v948 : BitVec 32 := Scalar.andi v947 c7_i32_595
  let v949 : BitVec 32 := Scalar.subi v947 v948
  let v950 : BitVec 32 := v949
  let v951 : Index := Scalar.indexCast v950
  let c0_597 : Index := 0#32
  ![0, v951.toNat, 0]

def k0_chk75 (v947 : BitVec 32) : Prop :=
  (8 ∣ (k0_mult76 v947).toNat) ∧
  (∀ a, (k0_off93 v947) a + S1x8x1024.size a ≤ S1x4096x1024.size a)
theorem k0_mult76_dvd : ∀ (v947 : BitVec 32) (k0_hw75 : k0_chk75 v947), 8 ∣ (k0_mult76 v947).toNat := fun v947 k0_hw75 => k0_hw75.1
theorem k0_off93_inb : ∀ (v947 : BitVec 32) (k0_hw75 : k0_chk75 v947), ∀ a, (k0_off93 v947) a + S1x8x1024.size a ≤ S1x4096x1024.size a := fun v947 k0_hw75 => k0_hw75.2

def k0_mult77 (v960 : BitVec 32) : BitVec 32 :=
  let c7_i32_603 : BitVec 32 := 7#32
  let v961 : BitVec 32 := Scalar.andi v960 c7_i32_603
  let v962 : BitVec 32 := Scalar.subi v960 v961
  v962

def k0_off94 (v960 : BitVec 32) : Fin 3 → Nat :=
  let c0_604 : Index := 0#32
  let c7_i32_603 : BitVec 32 := 7#32
  let v961 : BitVec 32 := Scalar.andi v960 c7_i32_603
  let v962 : BitVec 32 := Scalar.subi v960 v961
  let v963 : BitVec 32 := v962
  let v964 : Index := Scalar.indexCast v963
  let c0_605 : Index := 0#32
  ![0, v964.toNat, 0]

def k0_chk76 (v960 : BitVec 32) : Prop :=
  (8 ∣ (k0_mult77 v960).toNat) ∧
  (∀ a, (k0_off94 v960) a + S1x8x1024.size a ≤ S1x4096x1024.size a)
theorem k0_mult77_dvd : ∀ (v960 : BitVec 32) (k0_hw76 : k0_chk76 v960), 8 ∣ (k0_mult77 v960).toNat := fun v960 k0_hw76 => k0_hw76.1
theorem k0_off94_inb : ∀ (v960 : BitVec 32) (k0_hw76 : k0_chk76 v960), ∀ a, (k0_off94 v960) a + S1x8x1024.size a ≤ S1x4096x1024.size a := fun v960 k0_hw76 => k0_hw76.2

def k0_mult78 (v973 : BitVec 32) : BitVec 32 :=
  let c7_i32_611 : BitVec 32 := 7#32
  let v974 : BitVec 32 := Scalar.andi v973 c7_i32_611
  let v975 : BitVec 32 := Scalar.subi v973 v974
  v975

def k0_off95 (v973 : BitVec 32) : Fin 3 → Nat :=
  let c0_612 : Index := 0#32
  let c7_i32_611 : BitVec 32 := 7#32
  let v974 : BitVec 32 := Scalar.andi v973 c7_i32_611
  let v975 : BitVec 32 := Scalar.subi v973 v974
  let v976 : BitVec 32 := v975
  let v977 : Index := Scalar.indexCast v976
  let c0_613 : Index := 0#32
  ![0, v977.toNat, 0]

def k0_chk77 (v973 : BitVec 32) : Prop :=
  (8 ∣ (k0_mult78 v973).toNat) ∧
  (∀ a, (k0_off95 v973) a + S1x8x1024.size a ≤ S1x4096x1024.size a)
theorem k0_mult78_dvd : ∀ (v973 : BitVec 32) (k0_hw77 : k0_chk77 v973), 8 ∣ (k0_mult78 v973).toNat := fun v973 k0_hw77 => k0_hw77.1
theorem k0_off95_inb : ∀ (v973 : BitVec 32) (k0_hw77 : k0_chk77 v973), ∀ a, (k0_off95 v973) a + S1x8x1024.size a ≤ S1x4096x1024.size a := fun v973 k0_hw77 => k0_hw77.2

def k0_mult79 (v986 : BitVec 32) : BitVec 32 :=
  let c7_i32_619 : BitVec 32 := 7#32
  let v987 : BitVec 32 := Scalar.andi v986 c7_i32_619
  let v988 : BitVec 32 := Scalar.subi v986 v987
  v988

def k0_off96 (v986 : BitVec 32) : Fin 3 → Nat :=
  let c0_620 : Index := 0#32
  let c7_i32_619 : BitVec 32 := 7#32
  let v987 : BitVec 32 := Scalar.andi v986 c7_i32_619
  let v988 : BitVec 32 := Scalar.subi v986 v987
  let v989 : BitVec 32 := v988
  let v990 : Index := Scalar.indexCast v989
  let c0_621 : Index := 0#32
  ![0, v990.toNat, 0]

def k0_chk78 (v986 : BitVec 32) : Prop :=
  (8 ∣ (k0_mult79 v986).toNat) ∧
  (∀ a, (k0_off96 v986) a + S1x8x1024.size a ≤ S1x4096x1024.size a)
theorem k0_mult79_dvd : ∀ (v986 : BitVec 32) (k0_hw78 : k0_chk78 v986), 8 ∣ (k0_mult79 v986).toNat := fun v986 k0_hw78 => k0_hw78.1
theorem k0_off96_inb : ∀ (v986 : BitVec 32) (k0_hw78 : k0_chk78 v986), ∀ a, (k0_off96 v986) a + S1x8x1024.size a ≤ S1x4096x1024.size a := fun v986 k0_hw78 => k0_hw78.2

def k0_mult80 (v999 : BitVec 32) : BitVec 32 :=
  let c7_i32_627 : BitVec 32 := 7#32
  let v1000 : BitVec 32 := Scalar.andi v999 c7_i32_627
  let v1001 : BitVec 32 := Scalar.subi v999 v1000
  v1001

def k0_off97 (v999 : BitVec 32) : Fin 3 → Nat :=
  let c0_628 : Index := 0#32
  let c7_i32_627 : BitVec 32 := 7#32
  let v1000 : BitVec 32 := Scalar.andi v999 c7_i32_627
  let v1001 : BitVec 32 := Scalar.subi v999 v1000
  let v1002 : BitVec 32 := v1001
  let v1003 : Index := Scalar.indexCast v1002
  let c0_629 : Index := 0#32
  ![0, v1003.toNat, 0]

def k0_chk79 (v999 : BitVec 32) : Prop :=
  (8 ∣ (k0_mult80 v999).toNat) ∧
  (∀ a, (k0_off97 v999) a + S1x8x1024.size a ≤ S1x4096x1024.size a)
theorem k0_mult80_dvd : ∀ (v999 : BitVec 32) (k0_hw79 : k0_chk79 v999), 8 ∣ (k0_mult80 v999).toNat := fun v999 k0_hw79 => k0_hw79.1
theorem k0_off97_inb : ∀ (v999 : BitVec 32) (k0_hw79 : k0_chk79 v999), ∀ a, (k0_off97 v999) a + S1x8x1024.size a ≤ S1x4096x1024.size a := fun v999 k0_hw79 => k0_hw79.2

def k0_mult81 (v1012 : BitVec 32) : BitVec 32 :=
  let c7_i32_635 : BitVec 32 := 7#32
  let v1013 : BitVec 32 := Scalar.andi v1012 c7_i32_635
  let v1014 : BitVec 32 := Scalar.subi v1012 v1013
  v1014

def k0_off98 (v1012 : BitVec 32) : Fin 3 → Nat :=
  let c0_636 : Index := 0#32
  let c7_i32_635 : BitVec 32 := 7#32
  let v1013 : BitVec 32 := Scalar.andi v1012 c7_i32_635
  let v1014 : BitVec 32 := Scalar.subi v1012 v1013
  let v1015 : BitVec 32 := v1014
  let v1016 : Index := Scalar.indexCast v1015
  let c0_637 : Index := 0#32
  ![0, v1016.toNat, 0]

def k0_chk80 (v1012 : BitVec 32) : Prop :=
  (8 ∣ (k0_mult81 v1012).toNat) ∧
  (∀ a, (k0_off98 v1012) a + S1x8x1024.size a ≤ S1x4096x1024.size a)
theorem k0_mult81_dvd : ∀ (v1012 : BitVec 32) (k0_hw80 : k0_chk80 v1012), 8 ∣ (k0_mult81 v1012).toNat := fun v1012 k0_hw80 => k0_hw80.1
theorem k0_off98_inb : ∀ (v1012 : BitVec 32) (k0_hw80 : k0_chk80 v1012), ∀ a, (k0_off98 v1012) a + S1x8x1024.size a ≤ S1x4096x1024.size a := fun v1012 k0_hw80 => k0_hw80.2

def k0_off99 (i : grid0.Coords) : Fin 3 → Nat :=
  let c1_i32_575 : BitVec 32 := 1#32
  let arg1 : BitVec 32 := BitVec.ofNat 32 (i 1).val
  let c1_i32 : BitVec 32 := 1#32
  let v1 : BitVec 32 := Scalar.andi arg1 c1_i32
  let v919 : BitVec 32 := Scalar.subi c1_i32_575 v1
  let c0_i32_641 : BitVec 32 := 0#32
  let c0_i32_642 : BitVec 32 := 0#32
  ![v919.toNat, 0, 0]
def k0_mult82 (v1032 : BitVec 32) : BitVec 32 :=
  let c7_i32_649 : BitVec 32 := 7#32
  let v1033 : BitVec 32 := Scalar.andi v1032 c7_i32_649
  let v1034 : BitVec 32 := Scalar.subi v1032 v1033
  v1034

def k0_off100 (v1032 : BitVec 32) : Fin 3 → Nat :=
  let c0_650 : Index := 0#32
  let c7_i32_649 : BitVec 32 := 7#32
  let v1033 : BitVec 32 := Scalar.andi v1032 c7_i32_649
  let v1034 : BitVec 32 := Scalar.subi v1032 v1033
  let v1035 : BitVec 32 := v1034
  let v1036 : Index := Scalar.indexCast v1035
  let c0_651 : Index := 0#32
  ![0, v1036.toNat, 0]

def k0_chk81 (v1032 : BitVec 32) : Prop :=
  (8 ∣ (k0_mult82 v1032).toNat) ∧
  (∀ a, (k0_off100 v1032) a + S1x8x1024.size a ≤ S1x4096x1024.size a)
theorem k0_mult82_dvd : ∀ (v1032 : BitVec 32) (k0_hw81 : k0_chk81 v1032), 8 ∣ (k0_mult82 v1032).toNat := fun v1032 k0_hw81 => k0_hw81.1
theorem k0_off100_inb : ∀ (v1032 : BitVec 32) (k0_hw81 : k0_chk81 v1032), ∀ a, (k0_off100 v1032) a + S1x8x1024.size a ≤ S1x4096x1024.size a := fun v1032 k0_hw81 => k0_hw81.2

def k0_mult83 (v1045 : BitVec 32) : BitVec 32 :=
  let c7_i32_657 : BitVec 32 := 7#32
  let v1046 : BitVec 32 := Scalar.andi v1045 c7_i32_657
  let v1047 : BitVec 32 := Scalar.subi v1045 v1046
  v1047

def k0_off101 (v1045 : BitVec 32) : Fin 3 → Nat :=
  let c0_658 : Index := 0#32
  let c7_i32_657 : BitVec 32 := 7#32
  let v1046 : BitVec 32 := Scalar.andi v1045 c7_i32_657
  let v1047 : BitVec 32 := Scalar.subi v1045 v1046
  let v1048 : BitVec 32 := v1047
  let v1049 : Index := Scalar.indexCast v1048
  let c0_659 : Index := 0#32
  ![0, v1049.toNat, 0]

def k0_chk82 (v1045 : BitVec 32) : Prop :=
  (8 ∣ (k0_mult83 v1045).toNat) ∧
  (∀ a, (k0_off101 v1045) a + S1x8x1024.size a ≤ S1x4096x1024.size a)
theorem k0_mult83_dvd : ∀ (v1045 : BitVec 32) (k0_hw82 : k0_chk82 v1045), 8 ∣ (k0_mult83 v1045).toNat := fun v1045 k0_hw82 => k0_hw82.1
theorem k0_off101_inb : ∀ (v1045 : BitVec 32) (k0_hw82 : k0_chk82 v1045), ∀ a, (k0_off101 v1045) a + S1x8x1024.size a ≤ S1x4096x1024.size a := fun v1045 k0_hw82 => k0_hw82.2

def k0_mult84 (v1058 : BitVec 32) : BitVec 32 :=
  let c7_i32_665 : BitVec 32 := 7#32
  let v1059 : BitVec 32 := Scalar.andi v1058 c7_i32_665
  let v1060 : BitVec 32 := Scalar.subi v1058 v1059
  v1060

def k0_off102 (v1058 : BitVec 32) : Fin 3 → Nat :=
  let c0_666 : Index := 0#32
  let c7_i32_665 : BitVec 32 := 7#32
  let v1059 : BitVec 32 := Scalar.andi v1058 c7_i32_665
  let v1060 : BitVec 32 := Scalar.subi v1058 v1059
  let v1061 : BitVec 32 := v1060
  let v1062 : Index := Scalar.indexCast v1061
  let c0_667 : Index := 0#32
  ![0, v1062.toNat, 0]

def k0_chk83 (v1058 : BitVec 32) : Prop :=
  (8 ∣ (k0_mult84 v1058).toNat) ∧
  (∀ a, (k0_off102 v1058) a + S1x8x1024.size a ≤ S1x4096x1024.size a)
theorem k0_mult84_dvd : ∀ (v1058 : BitVec 32) (k0_hw83 : k0_chk83 v1058), 8 ∣ (k0_mult84 v1058).toNat := fun v1058 k0_hw83 => k0_hw83.1
theorem k0_off102_inb : ∀ (v1058 : BitVec 32) (k0_hw83 : k0_chk83 v1058), ∀ a, (k0_off102 v1058) a + S1x8x1024.size a ≤ S1x4096x1024.size a := fun v1058 k0_hw83 => k0_hw83.2

def k0_mult85 (v1071 : BitVec 32) : BitVec 32 :=
  let c7_i32_673 : BitVec 32 := 7#32
  let v1072 : BitVec 32 := Scalar.andi v1071 c7_i32_673
  let v1073 : BitVec 32 := Scalar.subi v1071 v1072
  v1073

def k0_off103 (v1071 : BitVec 32) : Fin 3 → Nat :=
  let c0_674 : Index := 0#32
  let c7_i32_673 : BitVec 32 := 7#32
  let v1072 : BitVec 32 := Scalar.andi v1071 c7_i32_673
  let v1073 : BitVec 32 := Scalar.subi v1071 v1072
  let v1074 : BitVec 32 := v1073
  let v1075 : Index := Scalar.indexCast v1074
  let c0_675 : Index := 0#32
  ![0, v1075.toNat, 0]

def k0_chk84 (v1071 : BitVec 32) : Prop :=
  (8 ∣ (k0_mult85 v1071).toNat) ∧
  (∀ a, (k0_off103 v1071) a + S1x8x1024.size a ≤ S1x4096x1024.size a)
theorem k0_mult85_dvd : ∀ (v1071 : BitVec 32) (k0_hw84 : k0_chk84 v1071), 8 ∣ (k0_mult85 v1071).toNat := fun v1071 k0_hw84 => k0_hw84.1
theorem k0_off103_inb : ∀ (v1071 : BitVec 32) (k0_hw84 : k0_chk84 v1071), ∀ a, (k0_off103 v1071) a + S1x8x1024.size a ≤ S1x4096x1024.size a := fun v1071 k0_hw84 => k0_hw84.2

def k0_mult86 (v1084 : BitVec 32) : BitVec 32 :=
  let c7_i32_681 : BitVec 32 := 7#32
  let v1085 : BitVec 32 := Scalar.andi v1084 c7_i32_681
  let v1086 : BitVec 32 := Scalar.subi v1084 v1085
  v1086

def k0_off104 (v1084 : BitVec 32) : Fin 3 → Nat :=
  let c0_682 : Index := 0#32
  let c7_i32_681 : BitVec 32 := 7#32
  let v1085 : BitVec 32 := Scalar.andi v1084 c7_i32_681
  let v1086 : BitVec 32 := Scalar.subi v1084 v1085
  let v1087 : BitVec 32 := v1086
  let v1088 : Index := Scalar.indexCast v1087
  let c0_683 : Index := 0#32
  ![0, v1088.toNat, 0]

def k0_chk85 (v1084 : BitVec 32) : Prop :=
  (8 ∣ (k0_mult86 v1084).toNat) ∧
  (∀ a, (k0_off104 v1084) a + S1x8x1024.size a ≤ S1x4096x1024.size a)
theorem k0_mult86_dvd : ∀ (v1084 : BitVec 32) (k0_hw85 : k0_chk85 v1084), 8 ∣ (k0_mult86 v1084).toNat := fun v1084 k0_hw85 => k0_hw85.1
theorem k0_off104_inb : ∀ (v1084 : BitVec 32) (k0_hw85 : k0_chk85 v1084), ∀ a, (k0_off104 v1084) a + S1x8x1024.size a ≤ S1x4096x1024.size a := fun v1084 k0_hw85 => k0_hw85.2

def k0_mult87 (v1097 : BitVec 32) : BitVec 32 :=
  let c7_i32_689 : BitVec 32 := 7#32
  let v1098 : BitVec 32 := Scalar.andi v1097 c7_i32_689
  let v1099 : BitVec 32 := Scalar.subi v1097 v1098
  v1099

def k0_off105 (v1097 : BitVec 32) : Fin 3 → Nat :=
  let c0_690 : Index := 0#32
  let c7_i32_689 : BitVec 32 := 7#32
  let v1098 : BitVec 32 := Scalar.andi v1097 c7_i32_689
  let v1099 : BitVec 32 := Scalar.subi v1097 v1098
  let v1100 : BitVec 32 := v1099
  let v1101 : Index := Scalar.indexCast v1100
  let c0_691 : Index := 0#32
  ![0, v1101.toNat, 0]

def k0_chk86 (v1097 : BitVec 32) : Prop :=
  (8 ∣ (k0_mult87 v1097).toNat) ∧
  (∀ a, (k0_off105 v1097) a + S1x8x1024.size a ≤ S1x4096x1024.size a)
theorem k0_mult87_dvd : ∀ (v1097 : BitVec 32) (k0_hw86 : k0_chk86 v1097), 8 ∣ (k0_mult87 v1097).toNat := fun v1097 k0_hw86 => k0_hw86.1
theorem k0_off105_inb : ∀ (v1097 : BitVec 32) (k0_hw86 : k0_chk86 v1097), ∀ a, (k0_off105 v1097) a + S1x8x1024.size a ≤ S1x4096x1024.size a := fun v1097 k0_hw86 => k0_hw86.2

def k0_mult88 (v1110 : BitVec 32) : BitVec 32 :=
  let c7_i32_697 : BitVec 32 := 7#32
  let v1111 : BitVec 32 := Scalar.andi v1110 c7_i32_697
  let v1112 : BitVec 32 := Scalar.subi v1110 v1111
  v1112

def k0_off106 (v1110 : BitVec 32) : Fin 3 → Nat :=
  let c0_698 : Index := 0#32
  let c7_i32_697 : BitVec 32 := 7#32
  let v1111 : BitVec 32 := Scalar.andi v1110 c7_i32_697
  let v1112 : BitVec 32 := Scalar.subi v1110 v1111
  let v1113 : BitVec 32 := v1112
  let v1114 : Index := Scalar.indexCast v1113
  let c0_699 : Index := 0#32
  ![0, v1114.toNat, 0]

def k0_chk87 (v1110 : BitVec 32) : Prop :=
  (8 ∣ (k0_mult88 v1110).toNat) ∧
  (∀ a, (k0_off106 v1110) a + S1x8x1024.size a ≤ S1x4096x1024.size a)
theorem k0_mult88_dvd : ∀ (v1110 : BitVec 32) (k0_hw87 : k0_chk87 v1110), 8 ∣ (k0_mult88 v1110).toNat := fun v1110 k0_hw87 => k0_hw87.1
theorem k0_off106_inb : ∀ (v1110 : BitVec 32) (k0_hw87 : k0_chk87 v1110), ∀ a, (k0_off106 v1110) a + S1x8x1024.size a ≤ S1x4096x1024.size a := fun v1110 k0_hw87 => k0_hw87.2

def k0_mult89 (v1123 : BitVec 32) : BitVec 32 :=
  let c7_i32_705 : BitVec 32 := 7#32
  let v1124 : BitVec 32 := Scalar.andi v1123 c7_i32_705
  let v1125 : BitVec 32 := Scalar.subi v1123 v1124
  v1125

def k0_off107 (v1123 : BitVec 32) : Fin 3 → Nat :=
  let c0_706 : Index := 0#32
  let c7_i32_705 : BitVec 32 := 7#32
  let v1124 : BitVec 32 := Scalar.andi v1123 c7_i32_705
  let v1125 : BitVec 32 := Scalar.subi v1123 v1124
  let v1126 : BitVec 32 := v1125
  let v1127 : Index := Scalar.indexCast v1126
  let c0_707 : Index := 0#32
  ![0, v1127.toNat, 0]

def k0_chk88 (v1123 : BitVec 32) : Prop :=
  (8 ∣ (k0_mult89 v1123).toNat) ∧
  (∀ a, (k0_off107 v1123) a + S1x8x1024.size a ≤ S1x4096x1024.size a)
theorem k0_mult89_dvd : ∀ (v1123 : BitVec 32) (k0_hw88 : k0_chk88 v1123), 8 ∣ (k0_mult89 v1123).toNat := fun v1123 k0_hw88 => k0_hw88.1
theorem k0_off107_inb : ∀ (v1123 : BitVec 32) (k0_hw88 : k0_chk88 v1123), ∀ a, (k0_off107 v1123) a + S1x8x1024.size a ≤ S1x4096x1024.size a := fun v1123 k0_hw88 => k0_hw88.2

def k0_off108 (i : grid0.Coords) : Fin 3 → Nat :=
  let c1_i32_645 : BitVec 32 := 1#32
  let arg1 : BitVec 32 := BitVec.ofNat 32 (i 1).val
  let c1_i32 : BitVec 32 := 1#32
  let v1 : BitVec 32 := Scalar.andi arg1 c1_i32
  let v1030 : BitVec 32 := Scalar.subi c1_i32_645 v1
  let c0_i32_711 : BitVec 32 := 0#32
  let c0_i32_712 : BitVec 32 := 0#32
  ![v1030.toNat, 0, 0]
def k0_mult90 (v1143 : BitVec 32) : BitVec 32 :=
  let c7_i32_719 : BitVec 32 := 7#32
  let v1144 : BitVec 32 := Scalar.andi v1143 c7_i32_719
  let v1145 : BitVec 32 := Scalar.subi v1143 v1144
  v1145

def k0_off109 (v1143 : BitVec 32) : Fin 3 → Nat :=
  let c0_720 : Index := 0#32
  let c7_i32_719 : BitVec 32 := 7#32
  let v1144 : BitVec 32 := Scalar.andi v1143 c7_i32_719
  let v1145 : BitVec 32 := Scalar.subi v1143 v1144
  let v1146 : BitVec 32 := v1145
  let v1147 : Index := Scalar.indexCast v1146
  let c0_721 : Index := 0#32
  ![0, v1147.toNat, 0]

def k0_chk89 (v1143 : BitVec 32) : Prop :=
  (8 ∣ (k0_mult90 v1143).toNat) ∧
  (∀ a, (k0_off109 v1143) a + S1x8x1024.size a ≤ S1x4096x1024.size a)
theorem k0_mult90_dvd : ∀ (v1143 : BitVec 32) (k0_hw89 : k0_chk89 v1143), 8 ∣ (k0_mult90 v1143).toNat := fun v1143 k0_hw89 => k0_hw89.1
theorem k0_off109_inb : ∀ (v1143 : BitVec 32) (k0_hw89 : k0_chk89 v1143), ∀ a, (k0_off109 v1143) a + S1x8x1024.size a ≤ S1x4096x1024.size a := fun v1143 k0_hw89 => k0_hw89.2

def k0_mult91 (v1156 : BitVec 32) : BitVec 32 :=
  let c7_i32_727 : BitVec 32 := 7#32
  let v1157 : BitVec 32 := Scalar.andi v1156 c7_i32_727
  let v1158 : BitVec 32 := Scalar.subi v1156 v1157
  v1158

def k0_off110 (v1156 : BitVec 32) : Fin 3 → Nat :=
  let c0_728 : Index := 0#32
  let c7_i32_727 : BitVec 32 := 7#32
  let v1157 : BitVec 32 := Scalar.andi v1156 c7_i32_727
  let v1158 : BitVec 32 := Scalar.subi v1156 v1157
  let v1159 : BitVec 32 := v1158
  let v1160 : Index := Scalar.indexCast v1159
  let c0_729 : Index := 0#32
  ![0, v1160.toNat, 0]

def k0_chk90 (v1156 : BitVec 32) : Prop :=
  (8 ∣ (k0_mult91 v1156).toNat) ∧
  (∀ a, (k0_off110 v1156) a + S1x8x1024.size a ≤ S1x4096x1024.size a)
theorem k0_mult91_dvd : ∀ (v1156 : BitVec 32) (k0_hw90 : k0_chk90 v1156), 8 ∣ (k0_mult91 v1156).toNat := fun v1156 k0_hw90 => k0_hw90.1
theorem k0_off110_inb : ∀ (v1156 : BitVec 32) (k0_hw90 : k0_chk90 v1156), ∀ a, (k0_off110 v1156) a + S1x8x1024.size a ≤ S1x4096x1024.size a := fun v1156 k0_hw90 => k0_hw90.2

def k0_mult92 (v1169 : BitVec 32) : BitVec 32 :=
  let c7_i32_735 : BitVec 32 := 7#32
  let v1170 : BitVec 32 := Scalar.andi v1169 c7_i32_735
  let v1171 : BitVec 32 := Scalar.subi v1169 v1170
  v1171

def k0_off111 (v1169 : BitVec 32) : Fin 3 → Nat :=
  let c0_736 : Index := 0#32
  let c7_i32_735 : BitVec 32 := 7#32
  let v1170 : BitVec 32 := Scalar.andi v1169 c7_i32_735
  let v1171 : BitVec 32 := Scalar.subi v1169 v1170
  let v1172 : BitVec 32 := v1171
  let v1173 : Index := Scalar.indexCast v1172
  let c0_737 : Index := 0#32
  ![0, v1173.toNat, 0]

def k0_chk91 (v1169 : BitVec 32) : Prop :=
  (8 ∣ (k0_mult92 v1169).toNat) ∧
  (∀ a, (k0_off111 v1169) a + S1x8x1024.size a ≤ S1x4096x1024.size a)
theorem k0_mult92_dvd : ∀ (v1169 : BitVec 32) (k0_hw91 : k0_chk91 v1169), 8 ∣ (k0_mult92 v1169).toNat := fun v1169 k0_hw91 => k0_hw91.1
theorem k0_off111_inb : ∀ (v1169 : BitVec 32) (k0_hw91 : k0_chk91 v1169), ∀ a, (k0_off111 v1169) a + S1x8x1024.size a ≤ S1x4096x1024.size a := fun v1169 k0_hw91 => k0_hw91.2

def k0_mult93 (v1182 : BitVec 32) : BitVec 32 :=
  let c7_i32_743 : BitVec 32 := 7#32
  let v1183 : BitVec 32 := Scalar.andi v1182 c7_i32_743
  let v1184 : BitVec 32 := Scalar.subi v1182 v1183
  v1184

def k0_off112 (v1182 : BitVec 32) : Fin 3 → Nat :=
  let c0_744 : Index := 0#32
  let c7_i32_743 : BitVec 32 := 7#32
  let v1183 : BitVec 32 := Scalar.andi v1182 c7_i32_743
  let v1184 : BitVec 32 := Scalar.subi v1182 v1183
  let v1185 : BitVec 32 := v1184
  let v1186 : Index := Scalar.indexCast v1185
  let c0_745 : Index := 0#32
  ![0, v1186.toNat, 0]

def k0_chk92 (v1182 : BitVec 32) : Prop :=
  (8 ∣ (k0_mult93 v1182).toNat) ∧
  (∀ a, (k0_off112 v1182) a + S1x8x1024.size a ≤ S1x4096x1024.size a)
theorem k0_mult93_dvd : ∀ (v1182 : BitVec 32) (k0_hw92 : k0_chk92 v1182), 8 ∣ (k0_mult93 v1182).toNat := fun v1182 k0_hw92 => k0_hw92.1
theorem k0_off112_inb : ∀ (v1182 : BitVec 32) (k0_hw92 : k0_chk92 v1182), ∀ a, (k0_off112 v1182) a + S1x8x1024.size a ≤ S1x4096x1024.size a := fun v1182 k0_hw92 => k0_hw92.2

def k0_mult94 (v1195 : BitVec 32) : BitVec 32 :=
  let c7_i32_751 : BitVec 32 := 7#32
  let v1196 : BitVec 32 := Scalar.andi v1195 c7_i32_751
  let v1197 : BitVec 32 := Scalar.subi v1195 v1196
  v1197

def k0_off113 (v1195 : BitVec 32) : Fin 3 → Nat :=
  let c0_752 : Index := 0#32
  let c7_i32_751 : BitVec 32 := 7#32
  let v1196 : BitVec 32 := Scalar.andi v1195 c7_i32_751
  let v1197 : BitVec 32 := Scalar.subi v1195 v1196
  let v1198 : BitVec 32 := v1197
  let v1199 : Index := Scalar.indexCast v1198
  let c0_753 : Index := 0#32
  ![0, v1199.toNat, 0]

def k0_chk93 (v1195 : BitVec 32) : Prop :=
  (8 ∣ (k0_mult94 v1195).toNat) ∧
  (∀ a, (k0_off113 v1195) a + S1x8x1024.size a ≤ S1x4096x1024.size a)
theorem k0_mult94_dvd : ∀ (v1195 : BitVec 32) (k0_hw93 : k0_chk93 v1195), 8 ∣ (k0_mult94 v1195).toNat := fun v1195 k0_hw93 => k0_hw93.1
theorem k0_off113_inb : ∀ (v1195 : BitVec 32) (k0_hw93 : k0_chk93 v1195), ∀ a, (k0_off113 v1195) a + S1x8x1024.size a ≤ S1x4096x1024.size a := fun v1195 k0_hw93 => k0_hw93.2

def k0_mult95 (v1208 : BitVec 32) : BitVec 32 :=
  let c7_i32_759 : BitVec 32 := 7#32
  let v1209 : BitVec 32 := Scalar.andi v1208 c7_i32_759
  let v1210 : BitVec 32 := Scalar.subi v1208 v1209
  v1210

def k0_off114 (v1208 : BitVec 32) : Fin 3 → Nat :=
  let c0_760 : Index := 0#32
  let c7_i32_759 : BitVec 32 := 7#32
  let v1209 : BitVec 32 := Scalar.andi v1208 c7_i32_759
  let v1210 : BitVec 32 := Scalar.subi v1208 v1209
  let v1211 : BitVec 32 := v1210
  let v1212 : Index := Scalar.indexCast v1211
  let c0_761 : Index := 0#32
  ![0, v1212.toNat, 0]

def k0_chk94 (v1208 : BitVec 32) : Prop :=
  (8 ∣ (k0_mult95 v1208).toNat) ∧
  (∀ a, (k0_off114 v1208) a + S1x8x1024.size a ≤ S1x4096x1024.size a)
theorem k0_mult95_dvd : ∀ (v1208 : BitVec 32) (k0_hw94 : k0_chk94 v1208), 8 ∣ (k0_mult95 v1208).toNat := fun v1208 k0_hw94 => k0_hw94.1
theorem k0_off114_inb : ∀ (v1208 : BitVec 32) (k0_hw94 : k0_chk94 v1208), ∀ a, (k0_off114 v1208) a + S1x8x1024.size a ≤ S1x4096x1024.size a := fun v1208 k0_hw94 => k0_hw94.2

def k0_mult96 (v1221 : BitVec 32) : BitVec 32 :=
  let c7_i32_767 : BitVec 32 := 7#32
  let v1222 : BitVec 32 := Scalar.andi v1221 c7_i32_767
  let v1223 : BitVec 32 := Scalar.subi v1221 v1222
  v1223

def k0_off115 (v1221 : BitVec 32) : Fin 3 → Nat :=
  let c0_768 : Index := 0#32
  let c7_i32_767 : BitVec 32 := 7#32
  let v1222 : BitVec 32 := Scalar.andi v1221 c7_i32_767
  let v1223 : BitVec 32 := Scalar.subi v1221 v1222
  let v1224 : BitVec 32 := v1223
  let v1225 : Index := Scalar.indexCast v1224
  let c0_769 : Index := 0#32
  ![0, v1225.toNat, 0]

def k0_chk95 (v1221 : BitVec 32) : Prop :=
  (8 ∣ (k0_mult96 v1221).toNat) ∧
  (∀ a, (k0_off115 v1221) a + S1x8x1024.size a ≤ S1x4096x1024.size a)
theorem k0_mult96_dvd : ∀ (v1221 : BitVec 32) (k0_hw95 : k0_chk95 v1221), 8 ∣ (k0_mult96 v1221).toNat := fun v1221 k0_hw95 => k0_hw95.1
theorem k0_off115_inb : ∀ (v1221 : BitVec 32) (k0_hw95 : k0_chk95 v1221), ∀ a, (k0_off115 v1221) a + S1x8x1024.size a ≤ S1x4096x1024.size a := fun v1221 k0_hw95 => k0_hw95.2

def k0_mult97 (v1234 : BitVec 32) : BitVec 32 :=
  let c7_i32_775 : BitVec 32 := 7#32
  let v1235 : BitVec 32 := Scalar.andi v1234 c7_i32_775
  let v1236 : BitVec 32 := Scalar.subi v1234 v1235
  v1236

def k0_off116 (v1234 : BitVec 32) : Fin 3 → Nat :=
  let c0_776 : Index := 0#32
  let c7_i32_775 : BitVec 32 := 7#32
  let v1235 : BitVec 32 := Scalar.andi v1234 c7_i32_775
  let v1236 : BitVec 32 := Scalar.subi v1234 v1235
  let v1237 : BitVec 32 := v1236
  let v1238 : Index := Scalar.indexCast v1237
  let c0_777 : Index := 0#32
  ![0, v1238.toNat, 0]

def k0_chk96 (v1234 : BitVec 32) : Prop :=
  (8 ∣ (k0_mult97 v1234).toNat) ∧
  (∀ a, (k0_off116 v1234) a + S1x8x1024.size a ≤ S1x4096x1024.size a)
theorem k0_mult97_dvd : ∀ (v1234 : BitVec 32) (k0_hw96 : k0_chk96 v1234), 8 ∣ (k0_mult97 v1234).toNat := fun v1234 k0_hw96 => k0_hw96.1
theorem k0_off116_inb : ∀ (v1234 : BitVec 32) (k0_hw96 : k0_chk96 v1234), ∀ a, (k0_off116 v1234) a + S1x8x1024.size a ≤ S1x4096x1024.size a := fun v1234 k0_hw96 => k0_hw96.2

def k0_off117 (i : grid0.Coords) : Fin 3 → Nat :=
  let c1_i32_715 : BitVec 32 := 1#32
  let arg1 : BitVec 32 := BitVec.ofNat 32 (i 1).val
  let c1_i32 : BitVec 32 := 1#32
  let v1 : BitVec 32 := Scalar.andi arg1 c1_i32
  let v1141 : BitVec 32 := Scalar.subi c1_i32_715 v1
  let c0_i32_781 : BitVec 32 := 0#32
  let c0_i32_782 : BitVec 32 := 0#32
  ![v1141.toNat, 0, 0]
def k0_mult98 (v1254 : BitVec 32) : BitVec 32 :=
  let c7_i32_789 : BitVec 32 := 7#32
  let v1255 : BitVec 32 := Scalar.andi v1254 c7_i32_789
  let v1256 : BitVec 32 := Scalar.subi v1254 v1255
  v1256

def k0_off118 (v1254 : BitVec 32) : Fin 3 → Nat :=
  let c0_790 : Index := 0#32
  let c7_i32_789 : BitVec 32 := 7#32
  let v1255 : BitVec 32 := Scalar.andi v1254 c7_i32_789
  let v1256 : BitVec 32 := Scalar.subi v1254 v1255
  let v1257 : BitVec 32 := v1256
  let v1258 : Index := Scalar.indexCast v1257
  let c0_791 : Index := 0#32
  ![0, v1258.toNat, 0]

def k0_chk97 (v1254 : BitVec 32) : Prop :=
  (8 ∣ (k0_mult98 v1254).toNat) ∧
  (∀ a, (k0_off118 v1254) a + S1x8x1024.size a ≤ S1x4096x1024.size a)
theorem k0_mult98_dvd : ∀ (v1254 : BitVec 32) (k0_hw97 : k0_chk97 v1254), 8 ∣ (k0_mult98 v1254).toNat := fun v1254 k0_hw97 => k0_hw97.1
theorem k0_off118_inb : ∀ (v1254 : BitVec 32) (k0_hw97 : k0_chk97 v1254), ∀ a, (k0_off118 v1254) a + S1x8x1024.size a ≤ S1x4096x1024.size a := fun v1254 k0_hw97 => k0_hw97.2

def k0_mult99 (v1267 : BitVec 32) : BitVec 32 :=
  let c7_i32_797 : BitVec 32 := 7#32
  let v1268 : BitVec 32 := Scalar.andi v1267 c7_i32_797
  let v1269 : BitVec 32 := Scalar.subi v1267 v1268
  v1269

def k0_off119 (v1267 : BitVec 32) : Fin 3 → Nat :=
  let c0_798 : Index := 0#32
  let c7_i32_797 : BitVec 32 := 7#32
  let v1268 : BitVec 32 := Scalar.andi v1267 c7_i32_797
  let v1269 : BitVec 32 := Scalar.subi v1267 v1268
  let v1270 : BitVec 32 := v1269
  let v1271 : Index := Scalar.indexCast v1270
  let c0_799 : Index := 0#32
  ![0, v1271.toNat, 0]

def k0_chk98 (v1267 : BitVec 32) : Prop :=
  (8 ∣ (k0_mult99 v1267).toNat) ∧
  (∀ a, (k0_off119 v1267) a + S1x8x1024.size a ≤ S1x4096x1024.size a)
theorem k0_mult99_dvd : ∀ (v1267 : BitVec 32) (k0_hw98 : k0_chk98 v1267), 8 ∣ (k0_mult99 v1267).toNat := fun v1267 k0_hw98 => k0_hw98.1
theorem k0_off119_inb : ∀ (v1267 : BitVec 32) (k0_hw98 : k0_chk98 v1267), ∀ a, (k0_off119 v1267) a + S1x8x1024.size a ≤ S1x4096x1024.size a := fun v1267 k0_hw98 => k0_hw98.2

def k0_mult100 (v1280 : BitVec 32) : BitVec 32 :=
  let c7_i32_805 : BitVec 32 := 7#32
  let v1281 : BitVec 32 := Scalar.andi v1280 c7_i32_805
  let v1282 : BitVec 32 := Scalar.subi v1280 v1281
  v1282

def k0_off120 (v1280 : BitVec 32) : Fin 3 → Nat :=
  let c0_806 : Index := 0#32
  let c7_i32_805 : BitVec 32 := 7#32
  let v1281 : BitVec 32 := Scalar.andi v1280 c7_i32_805
  let v1282 : BitVec 32 := Scalar.subi v1280 v1281
  let v1283 : BitVec 32 := v1282
  let v1284 : Index := Scalar.indexCast v1283
  let c0_807 : Index := 0#32
  ![0, v1284.toNat, 0]

def k0_chk99 (v1280 : BitVec 32) : Prop :=
  (8 ∣ (k0_mult100 v1280).toNat) ∧
  (∀ a, (k0_off120 v1280) a + S1x8x1024.size a ≤ S1x4096x1024.size a)
theorem k0_mult100_dvd : ∀ (v1280 : BitVec 32) (k0_hw99 : k0_chk99 v1280), 8 ∣ (k0_mult100 v1280).toNat := fun v1280 k0_hw99 => k0_hw99.1
theorem k0_off120_inb : ∀ (v1280 : BitVec 32) (k0_hw99 : k0_chk99 v1280), ∀ a, (k0_off120 v1280) a + S1x8x1024.size a ≤ S1x4096x1024.size a := fun v1280 k0_hw99 => k0_hw99.2

def k0_mult101 (v1293 : BitVec 32) : BitVec 32 :=
  let c7_i32_813 : BitVec 32 := 7#32
  let v1294 : BitVec 32 := Scalar.andi v1293 c7_i32_813
  let v1295 : BitVec 32 := Scalar.subi v1293 v1294
  v1295

def k0_off121 (v1293 : BitVec 32) : Fin 3 → Nat :=
  let c0_814 : Index := 0#32
  let c7_i32_813 : BitVec 32 := 7#32
  let v1294 : BitVec 32 := Scalar.andi v1293 c7_i32_813
  let v1295 : BitVec 32 := Scalar.subi v1293 v1294
  let v1296 : BitVec 32 := v1295
  let v1297 : Index := Scalar.indexCast v1296
  let c0_815 : Index := 0#32
  ![0, v1297.toNat, 0]

def k0_chk100 (v1293 : BitVec 32) : Prop :=
  (8 ∣ (k0_mult101 v1293).toNat) ∧
  (∀ a, (k0_off121 v1293) a + S1x8x1024.size a ≤ S1x4096x1024.size a)
theorem k0_mult101_dvd : ∀ (v1293 : BitVec 32) (k0_hw100 : k0_chk100 v1293), 8 ∣ (k0_mult101 v1293).toNat := fun v1293 k0_hw100 => k0_hw100.1
theorem k0_off121_inb : ∀ (v1293 : BitVec 32) (k0_hw100 : k0_chk100 v1293), ∀ a, (k0_off121 v1293) a + S1x8x1024.size a ≤ S1x4096x1024.size a := fun v1293 k0_hw100 => k0_hw100.2

def k0_mult102 (v1306 : BitVec 32) : BitVec 32 :=
  let c7_i32_821 : BitVec 32 := 7#32
  let v1307 : BitVec 32 := Scalar.andi v1306 c7_i32_821
  let v1308 : BitVec 32 := Scalar.subi v1306 v1307
  v1308

def k0_off122 (v1306 : BitVec 32) : Fin 3 → Nat :=
  let c0_822 : Index := 0#32
  let c7_i32_821 : BitVec 32 := 7#32
  let v1307 : BitVec 32 := Scalar.andi v1306 c7_i32_821
  let v1308 : BitVec 32 := Scalar.subi v1306 v1307
  let v1309 : BitVec 32 := v1308
  let v1310 : Index := Scalar.indexCast v1309
  let c0_823 : Index := 0#32
  ![0, v1310.toNat, 0]

def k0_chk101 (v1306 : BitVec 32) : Prop :=
  (8 ∣ (k0_mult102 v1306).toNat) ∧
  (∀ a, (k0_off122 v1306) a + S1x8x1024.size a ≤ S1x4096x1024.size a)
theorem k0_mult102_dvd : ∀ (v1306 : BitVec 32) (k0_hw101 : k0_chk101 v1306), 8 ∣ (k0_mult102 v1306).toNat := fun v1306 k0_hw101 => k0_hw101.1
theorem k0_off122_inb : ∀ (v1306 : BitVec 32) (k0_hw101 : k0_chk101 v1306), ∀ a, (k0_off122 v1306) a + S1x8x1024.size a ≤ S1x4096x1024.size a := fun v1306 k0_hw101 => k0_hw101.2

def k0_mult103 (v1319 : BitVec 32) : BitVec 32 :=
  let c7_i32_829 : BitVec 32 := 7#32
  let v1320 : BitVec 32 := Scalar.andi v1319 c7_i32_829
  let v1321 : BitVec 32 := Scalar.subi v1319 v1320
  v1321

def k0_off123 (v1319 : BitVec 32) : Fin 3 → Nat :=
  let c0_830 : Index := 0#32
  let c7_i32_829 : BitVec 32 := 7#32
  let v1320 : BitVec 32 := Scalar.andi v1319 c7_i32_829
  let v1321 : BitVec 32 := Scalar.subi v1319 v1320
  let v1322 : BitVec 32 := v1321
  let v1323 : Index := Scalar.indexCast v1322
  let c0_831 : Index := 0#32
  ![0, v1323.toNat, 0]

def k0_chk102 (v1319 : BitVec 32) : Prop :=
  (8 ∣ (k0_mult103 v1319).toNat) ∧
  (∀ a, (k0_off123 v1319) a + S1x8x1024.size a ≤ S1x4096x1024.size a)
theorem k0_mult103_dvd : ∀ (v1319 : BitVec 32) (k0_hw102 : k0_chk102 v1319), 8 ∣ (k0_mult103 v1319).toNat := fun v1319 k0_hw102 => k0_hw102.1
theorem k0_off123_inb : ∀ (v1319 : BitVec 32) (k0_hw102 : k0_chk102 v1319), ∀ a, (k0_off123 v1319) a + S1x8x1024.size a ≤ S1x4096x1024.size a := fun v1319 k0_hw102 => k0_hw102.2

def k0_mult104 (v1332 : BitVec 32) : BitVec 32 :=
  let c7_i32_837 : BitVec 32 := 7#32
  let v1333 : BitVec 32 := Scalar.andi v1332 c7_i32_837
  let v1334 : BitVec 32 := Scalar.subi v1332 v1333
  v1334

def k0_off124 (v1332 : BitVec 32) : Fin 3 → Nat :=
  let c0_838 : Index := 0#32
  let c7_i32_837 : BitVec 32 := 7#32
  let v1333 : BitVec 32 := Scalar.andi v1332 c7_i32_837
  let v1334 : BitVec 32 := Scalar.subi v1332 v1333
  let v1335 : BitVec 32 := v1334
  let v1336 : Index := Scalar.indexCast v1335
  let c0_839 : Index := 0#32
  ![0, v1336.toNat, 0]

def k0_chk103 (v1332 : BitVec 32) : Prop :=
  (8 ∣ (k0_mult104 v1332).toNat) ∧
  (∀ a, (k0_off124 v1332) a + S1x8x1024.size a ≤ S1x4096x1024.size a)
theorem k0_mult104_dvd : ∀ (v1332 : BitVec 32) (k0_hw103 : k0_chk103 v1332), 8 ∣ (k0_mult104 v1332).toNat := fun v1332 k0_hw103 => k0_hw103.1
theorem k0_off124_inb : ∀ (v1332 : BitVec 32) (k0_hw103 : k0_chk103 v1332), ∀ a, (k0_off124 v1332) a + S1x8x1024.size a ≤ S1x4096x1024.size a := fun v1332 k0_hw103 => k0_hw103.2

def k0_mult105 (v1345 : BitVec 32) : BitVec 32 :=
  let c7_i32_845 : BitVec 32 := 7#32
  let v1346 : BitVec 32 := Scalar.andi v1345 c7_i32_845
  let v1347 : BitVec 32 := Scalar.subi v1345 v1346
  v1347

def k0_off125 (v1345 : BitVec 32) : Fin 3 → Nat :=
  let c0_846 : Index := 0#32
  let c7_i32_845 : BitVec 32 := 7#32
  let v1346 : BitVec 32 := Scalar.andi v1345 c7_i32_845
  let v1347 : BitVec 32 := Scalar.subi v1345 v1346
  let v1348 : BitVec 32 := v1347
  let v1349 : Index := Scalar.indexCast v1348
  let c0_847 : Index := 0#32
  ![0, v1349.toNat, 0]

def k0_chk104 (v1345 : BitVec 32) : Prop :=
  (8 ∣ (k0_mult105 v1345).toNat) ∧
  (∀ a, (k0_off125 v1345) a + S1x8x1024.size a ≤ S1x4096x1024.size a)
theorem k0_mult105_dvd : ∀ (v1345 : BitVec 32) (k0_hw104 : k0_chk104 v1345), 8 ∣ (k0_mult105 v1345).toNat := fun v1345 k0_hw104 => k0_hw104.1
theorem k0_off125_inb : ∀ (v1345 : BitVec 32) (k0_hw104 : k0_chk104 v1345), ∀ a, (k0_off125 v1345) a + S1x8x1024.size a ≤ S1x4096x1024.size a := fun v1345 k0_hw104 => k0_hw104.2

def k0_off126 (i : grid0.Coords) : Fin 3 → Nat :=
  let c1_i32_785 : BitVec 32 := 1#32
  let arg1 : BitVec 32 := BitVec.ofNat 32 (i 1).val
  let c1_i32 : BitVec 32 := 1#32
  let v1 : BitVec 32 := Scalar.andi arg1 c1_i32
  let v1252 : BitVec 32 := Scalar.subi c1_i32_785 v1
  let c0_i32_851 : BitVec 32 := 0#32
  let c0_i32_852 : BitVec 32 := 0#32
  ![v1252.toNat, 0, 0]
def k0_mult106 (v1365 : BitVec 32) : BitVec 32 :=
  let c7_i32_859 : BitVec 32 := 7#32
  let v1366 : BitVec 32 := Scalar.andi v1365 c7_i32_859
  let v1367 : BitVec 32 := Scalar.subi v1365 v1366
  v1367

def k0_off127 (v1365 : BitVec 32) : Fin 3 → Nat :=
  let c0_860 : Index := 0#32
  let c7_i32_859 : BitVec 32 := 7#32
  let v1366 : BitVec 32 := Scalar.andi v1365 c7_i32_859
  let v1367 : BitVec 32 := Scalar.subi v1365 v1366
  let v1368 : BitVec 32 := v1367
  let v1369 : Index := Scalar.indexCast v1368
  let c0_861 : Index := 0#32
  ![0, v1369.toNat, 0]

def k0_chk105 (v1365 : BitVec 32) : Prop :=
  (8 ∣ (k0_mult106 v1365).toNat) ∧
  (∀ a, (k0_off127 v1365) a + S1x8x1024.size a ≤ S1x4096x1024.size a)
theorem k0_mult106_dvd : ∀ (v1365 : BitVec 32) (k0_hw105 : k0_chk105 v1365), 8 ∣ (k0_mult106 v1365).toNat := fun v1365 k0_hw105 => k0_hw105.1
theorem k0_off127_inb : ∀ (v1365 : BitVec 32) (k0_hw105 : k0_chk105 v1365), ∀ a, (k0_off127 v1365) a + S1x8x1024.size a ≤ S1x4096x1024.size a := fun v1365 k0_hw105 => k0_hw105.2

def k0_mult107 (v1378 : BitVec 32) : BitVec 32 :=
  let c7_i32_867 : BitVec 32 := 7#32
  let v1379 : BitVec 32 := Scalar.andi v1378 c7_i32_867
  let v1380 : BitVec 32 := Scalar.subi v1378 v1379
  v1380

def k0_off128 (v1378 : BitVec 32) : Fin 3 → Nat :=
  let c0_868 : Index := 0#32
  let c7_i32_867 : BitVec 32 := 7#32
  let v1379 : BitVec 32 := Scalar.andi v1378 c7_i32_867
  let v1380 : BitVec 32 := Scalar.subi v1378 v1379
  let v1381 : BitVec 32 := v1380
  let v1382 : Index := Scalar.indexCast v1381
  let c0_869 : Index := 0#32
  ![0, v1382.toNat, 0]

def k0_chk106 (v1378 : BitVec 32) : Prop :=
  (8 ∣ (k0_mult107 v1378).toNat) ∧
  (∀ a, (k0_off128 v1378) a + S1x8x1024.size a ≤ S1x4096x1024.size a)
theorem k0_mult107_dvd : ∀ (v1378 : BitVec 32) (k0_hw106 : k0_chk106 v1378), 8 ∣ (k0_mult107 v1378).toNat := fun v1378 k0_hw106 => k0_hw106.1
theorem k0_off128_inb : ∀ (v1378 : BitVec 32) (k0_hw106 : k0_chk106 v1378), ∀ a, (k0_off128 v1378) a + S1x8x1024.size a ≤ S1x4096x1024.size a := fun v1378 k0_hw106 => k0_hw106.2

def k0_mult108 (v1391 : BitVec 32) : BitVec 32 :=
  let c7_i32_875 : BitVec 32 := 7#32
  let v1392 : BitVec 32 := Scalar.andi v1391 c7_i32_875
  let v1393 : BitVec 32 := Scalar.subi v1391 v1392
  v1393

def k0_off129 (v1391 : BitVec 32) : Fin 3 → Nat :=
  let c0_876 : Index := 0#32
  let c7_i32_875 : BitVec 32 := 7#32
  let v1392 : BitVec 32 := Scalar.andi v1391 c7_i32_875
  let v1393 : BitVec 32 := Scalar.subi v1391 v1392
  let v1394 : BitVec 32 := v1393
  let v1395 : Index := Scalar.indexCast v1394
  let c0_877 : Index := 0#32
  ![0, v1395.toNat, 0]

def k0_chk107 (v1391 : BitVec 32) : Prop :=
  (8 ∣ (k0_mult108 v1391).toNat) ∧
  (∀ a, (k0_off129 v1391) a + S1x8x1024.size a ≤ S1x4096x1024.size a)
theorem k0_mult108_dvd : ∀ (v1391 : BitVec 32) (k0_hw107 : k0_chk107 v1391), 8 ∣ (k0_mult108 v1391).toNat := fun v1391 k0_hw107 => k0_hw107.1
theorem k0_off129_inb : ∀ (v1391 : BitVec 32) (k0_hw107 : k0_chk107 v1391), ∀ a, (k0_off129 v1391) a + S1x8x1024.size a ≤ S1x4096x1024.size a := fun v1391 k0_hw107 => k0_hw107.2

def k0_mult109 (v1404 : BitVec 32) : BitVec 32 :=
  let c7_i32_883 : BitVec 32 := 7#32
  let v1405 : BitVec 32 := Scalar.andi v1404 c7_i32_883
  let v1406 : BitVec 32 := Scalar.subi v1404 v1405
  v1406

def k0_off130 (v1404 : BitVec 32) : Fin 3 → Nat :=
  let c0_884 : Index := 0#32
  let c7_i32_883 : BitVec 32 := 7#32
  let v1405 : BitVec 32 := Scalar.andi v1404 c7_i32_883
  let v1406 : BitVec 32 := Scalar.subi v1404 v1405
  let v1407 : BitVec 32 := v1406
  let v1408 : Index := Scalar.indexCast v1407
  let c0_885 : Index := 0#32
  ![0, v1408.toNat, 0]

def k0_chk108 (v1404 : BitVec 32) : Prop :=
  (8 ∣ (k0_mult109 v1404).toNat) ∧
  (∀ a, (k0_off130 v1404) a + S1x8x1024.size a ≤ S1x4096x1024.size a)
theorem k0_mult109_dvd : ∀ (v1404 : BitVec 32) (k0_hw108 : k0_chk108 v1404), 8 ∣ (k0_mult109 v1404).toNat := fun v1404 k0_hw108 => k0_hw108.1
theorem k0_off130_inb : ∀ (v1404 : BitVec 32) (k0_hw108 : k0_chk108 v1404), ∀ a, (k0_off130 v1404) a + S1x8x1024.size a ≤ S1x4096x1024.size a := fun v1404 k0_hw108 => k0_hw108.2

def k0_mult110 (v1417 : BitVec 32) : BitVec 32 :=
  let c7_i32_891 : BitVec 32 := 7#32
  let v1418 : BitVec 32 := Scalar.andi v1417 c7_i32_891
  let v1419 : BitVec 32 := Scalar.subi v1417 v1418
  v1419

def k0_off131 (v1417 : BitVec 32) : Fin 3 → Nat :=
  let c0_892 : Index := 0#32
  let c7_i32_891 : BitVec 32 := 7#32
  let v1418 : BitVec 32 := Scalar.andi v1417 c7_i32_891
  let v1419 : BitVec 32 := Scalar.subi v1417 v1418
  let v1420 : BitVec 32 := v1419
  let v1421 : Index := Scalar.indexCast v1420
  let c0_893 : Index := 0#32
  ![0, v1421.toNat, 0]

def k0_chk109 (v1417 : BitVec 32) : Prop :=
  (8 ∣ (k0_mult110 v1417).toNat) ∧
  (∀ a, (k0_off131 v1417) a + S1x8x1024.size a ≤ S1x4096x1024.size a)
theorem k0_mult110_dvd : ∀ (v1417 : BitVec 32) (k0_hw109 : k0_chk109 v1417), 8 ∣ (k0_mult110 v1417).toNat := fun v1417 k0_hw109 => k0_hw109.1
theorem k0_off131_inb : ∀ (v1417 : BitVec 32) (k0_hw109 : k0_chk109 v1417), ∀ a, (k0_off131 v1417) a + S1x8x1024.size a ≤ S1x4096x1024.size a := fun v1417 k0_hw109 => k0_hw109.2

def k0_mult111 (v1430 : BitVec 32) : BitVec 32 :=
  let c7_i32_899 : BitVec 32 := 7#32
  let v1431 : BitVec 32 := Scalar.andi v1430 c7_i32_899
  let v1432 : BitVec 32 := Scalar.subi v1430 v1431
  v1432

def k0_off132 (v1430 : BitVec 32) : Fin 3 → Nat :=
  let c0_900 : Index := 0#32
  let c7_i32_899 : BitVec 32 := 7#32
  let v1431 : BitVec 32 := Scalar.andi v1430 c7_i32_899
  let v1432 : BitVec 32 := Scalar.subi v1430 v1431
  let v1433 : BitVec 32 := v1432
  let v1434 : Index := Scalar.indexCast v1433
  let c0_901 : Index := 0#32
  ![0, v1434.toNat, 0]

def k0_chk110 (v1430 : BitVec 32) : Prop :=
  (8 ∣ (k0_mult111 v1430).toNat) ∧
  (∀ a, (k0_off132 v1430) a + S1x8x1024.size a ≤ S1x4096x1024.size a)
theorem k0_mult111_dvd : ∀ (v1430 : BitVec 32) (k0_hw110 : k0_chk110 v1430), 8 ∣ (k0_mult111 v1430).toNat := fun v1430 k0_hw110 => k0_hw110.1
theorem k0_off132_inb : ∀ (v1430 : BitVec 32) (k0_hw110 : k0_chk110 v1430), ∀ a, (k0_off132 v1430) a + S1x8x1024.size a ≤ S1x4096x1024.size a := fun v1430 k0_hw110 => k0_hw110.2

def k0_mult112 (v1443 : BitVec 32) : BitVec 32 :=
  let c7_i32_907 : BitVec 32 := 7#32
  let v1444 : BitVec 32 := Scalar.andi v1443 c7_i32_907
  let v1445 : BitVec 32 := Scalar.subi v1443 v1444
  v1445

def k0_off133 (v1443 : BitVec 32) : Fin 3 → Nat :=
  let c0_908 : Index := 0#32
  let c7_i32_907 : BitVec 32 := 7#32
  let v1444 : BitVec 32 := Scalar.andi v1443 c7_i32_907
  let v1445 : BitVec 32 := Scalar.subi v1443 v1444
  let v1446 : BitVec 32 := v1445
  let v1447 : Index := Scalar.indexCast v1446
  let c0_909 : Index := 0#32
  ![0, v1447.toNat, 0]

def k0_chk111 (v1443 : BitVec 32) : Prop :=
  (8 ∣ (k0_mult112 v1443).toNat) ∧
  (∀ a, (k0_off133 v1443) a + S1x8x1024.size a ≤ S1x4096x1024.size a)
theorem k0_mult112_dvd : ∀ (v1443 : BitVec 32) (k0_hw111 : k0_chk111 v1443), 8 ∣ (k0_mult112 v1443).toNat := fun v1443 k0_hw111 => k0_hw111.1
theorem k0_off133_inb : ∀ (v1443 : BitVec 32) (k0_hw111 : k0_chk111 v1443), ∀ a, (k0_off133 v1443) a + S1x8x1024.size a ≤ S1x4096x1024.size a := fun v1443 k0_hw111 => k0_hw111.2

def k0_mult113 (v1456 : BitVec 32) : BitVec 32 :=
  let c7_i32_915 : BitVec 32 := 7#32
  let v1457 : BitVec 32 := Scalar.andi v1456 c7_i32_915
  let v1458 : BitVec 32 := Scalar.subi v1456 v1457
  v1458

def k0_off134 (v1456 : BitVec 32) : Fin 3 → Nat :=
  let c0_916 : Index := 0#32
  let c7_i32_915 : BitVec 32 := 7#32
  let v1457 : BitVec 32 := Scalar.andi v1456 c7_i32_915
  let v1458 : BitVec 32 := Scalar.subi v1456 v1457
  let v1459 : BitVec 32 := v1458
  let v1460 : Index := Scalar.indexCast v1459
  let c0_917 : Index := 0#32
  ![0, v1460.toNat, 0]

def k0_chk112 (v1456 : BitVec 32) : Prop :=
  (8 ∣ (k0_mult113 v1456).toNat) ∧
  (∀ a, (k0_off134 v1456) a + S1x8x1024.size a ≤ S1x4096x1024.size a)
theorem k0_mult113_dvd : ∀ (v1456 : BitVec 32) (k0_hw112 : k0_chk112 v1456), 8 ∣ (k0_mult113 v1456).toNat := fun v1456 k0_hw112 => k0_hw112.1
theorem k0_off134_inb : ∀ (v1456 : BitVec 32) (k0_hw112 : k0_chk112 v1456), ∀ a, (k0_off134 v1456) a + S1x8x1024.size a ≤ S1x4096x1024.size a := fun v1456 k0_hw112 => k0_hw112.2

def k0_off135 (i : grid0.Coords) : Fin 3 → Nat :=
  let c1_i32_855 : BitVec 32 := 1#32
  let arg1 : BitVec 32 := BitVec.ofNat 32 (i 1).val
  let c1_i32 : BitVec 32 := 1#32
  let v1 : BitVec 32 := Scalar.andi arg1 c1_i32
  let v1363 : BitVec 32 := Scalar.subi c1_i32_855 v1
  let c0_i32_921 : BitVec 32 := 0#32
  let c0_i32_922 : BitVec 32 := 0#32
  ![v1363.toNat, 0, 0]
def k0_mult114 (v1476 : BitVec 32) : BitVec 32 :=
  let c7_i32_929 : BitVec 32 := 7#32
  let v1477 : BitVec 32 := Scalar.andi v1476 c7_i32_929
  let v1478 : BitVec 32 := Scalar.subi v1476 v1477
  v1478

def k0_off136 (v1476 : BitVec 32) : Fin 3 → Nat :=
  let c0_930 : Index := 0#32
  let c7_i32_929 : BitVec 32 := 7#32
  let v1477 : BitVec 32 := Scalar.andi v1476 c7_i32_929
  let v1478 : BitVec 32 := Scalar.subi v1476 v1477
  let v1479 : BitVec 32 := v1478
  let v1480 : Index := Scalar.indexCast v1479
  let c0_931 : Index := 0#32
  ![0, v1480.toNat, 0]

def k0_chk113 (v1476 : BitVec 32) : Prop :=
  (8 ∣ (k0_mult114 v1476).toNat) ∧
  (∀ a, (k0_off136 v1476) a + S1x8x1024.size a ≤ S1x4096x1024.size a)
theorem k0_mult114_dvd : ∀ (v1476 : BitVec 32) (k0_hw113 : k0_chk113 v1476), 8 ∣ (k0_mult114 v1476).toNat := fun v1476 k0_hw113 => k0_hw113.1
theorem k0_off136_inb : ∀ (v1476 : BitVec 32) (k0_hw113 : k0_chk113 v1476), ∀ a, (k0_off136 v1476) a + S1x8x1024.size a ≤ S1x4096x1024.size a := fun v1476 k0_hw113 => k0_hw113.2

def k0_mult115 (v1489 : BitVec 32) : BitVec 32 :=
  let c7_i32_937 : BitVec 32 := 7#32
  let v1490 : BitVec 32 := Scalar.andi v1489 c7_i32_937
  let v1491 : BitVec 32 := Scalar.subi v1489 v1490
  v1491

def k0_off137 (v1489 : BitVec 32) : Fin 3 → Nat :=
  let c0_938 : Index := 0#32
  let c7_i32_937 : BitVec 32 := 7#32
  let v1490 : BitVec 32 := Scalar.andi v1489 c7_i32_937
  let v1491 : BitVec 32 := Scalar.subi v1489 v1490
  let v1492 : BitVec 32 := v1491
  let v1493 : Index := Scalar.indexCast v1492
  let c0_939 : Index := 0#32
  ![0, v1493.toNat, 0]

def k0_chk114 (v1489 : BitVec 32) : Prop :=
  (8 ∣ (k0_mult115 v1489).toNat) ∧
  (∀ a, (k0_off137 v1489) a + S1x8x1024.size a ≤ S1x4096x1024.size a)
theorem k0_mult115_dvd : ∀ (v1489 : BitVec 32) (k0_hw114 : k0_chk114 v1489), 8 ∣ (k0_mult115 v1489).toNat := fun v1489 k0_hw114 => k0_hw114.1
theorem k0_off137_inb : ∀ (v1489 : BitVec 32) (k0_hw114 : k0_chk114 v1489), ∀ a, (k0_off137 v1489) a + S1x8x1024.size a ≤ S1x4096x1024.size a := fun v1489 k0_hw114 => k0_hw114.2

def k0_mult116 (v1502 : BitVec 32) : BitVec 32 :=
  let c7_i32_945 : BitVec 32 := 7#32
  let v1503 : BitVec 32 := Scalar.andi v1502 c7_i32_945
  let v1504 : BitVec 32 := Scalar.subi v1502 v1503
  v1504

def k0_off138 (v1502 : BitVec 32) : Fin 3 → Nat :=
  let c0_946 : Index := 0#32
  let c7_i32_945 : BitVec 32 := 7#32
  let v1503 : BitVec 32 := Scalar.andi v1502 c7_i32_945
  let v1504 : BitVec 32 := Scalar.subi v1502 v1503
  let v1505 : BitVec 32 := v1504
  let v1506 : Index := Scalar.indexCast v1505
  let c0_947 : Index := 0#32
  ![0, v1506.toNat, 0]

def k0_chk115 (v1502 : BitVec 32) : Prop :=
  (8 ∣ (k0_mult116 v1502).toNat) ∧
  (∀ a, (k0_off138 v1502) a + S1x8x1024.size a ≤ S1x4096x1024.size a)
theorem k0_mult116_dvd : ∀ (v1502 : BitVec 32) (k0_hw115 : k0_chk115 v1502), 8 ∣ (k0_mult116 v1502).toNat := fun v1502 k0_hw115 => k0_hw115.1
theorem k0_off138_inb : ∀ (v1502 : BitVec 32) (k0_hw115 : k0_chk115 v1502), ∀ a, (k0_off138 v1502) a + S1x8x1024.size a ≤ S1x4096x1024.size a := fun v1502 k0_hw115 => k0_hw115.2

def k0_mult117 (v1515 : BitVec 32) : BitVec 32 :=
  let c7_i32_953 : BitVec 32 := 7#32
  let v1516 : BitVec 32 := Scalar.andi v1515 c7_i32_953
  let v1517 : BitVec 32 := Scalar.subi v1515 v1516
  v1517

def k0_off139 (v1515 : BitVec 32) : Fin 3 → Nat :=
  let c0_954 : Index := 0#32
  let c7_i32_953 : BitVec 32 := 7#32
  let v1516 : BitVec 32 := Scalar.andi v1515 c7_i32_953
  let v1517 : BitVec 32 := Scalar.subi v1515 v1516
  let v1518 : BitVec 32 := v1517
  let v1519 : Index := Scalar.indexCast v1518
  let c0_955 : Index := 0#32
  ![0, v1519.toNat, 0]

def k0_chk116 (v1515 : BitVec 32) : Prop :=
  (8 ∣ (k0_mult117 v1515).toNat) ∧
  (∀ a, (k0_off139 v1515) a + S1x8x1024.size a ≤ S1x4096x1024.size a)
theorem k0_mult117_dvd : ∀ (v1515 : BitVec 32) (k0_hw116 : k0_chk116 v1515), 8 ∣ (k0_mult117 v1515).toNat := fun v1515 k0_hw116 => k0_hw116.1
theorem k0_off139_inb : ∀ (v1515 : BitVec 32) (k0_hw116 : k0_chk116 v1515), ∀ a, (k0_off139 v1515) a + S1x8x1024.size a ≤ S1x4096x1024.size a := fun v1515 k0_hw116 => k0_hw116.2

def k0_mult118 (v1528 : BitVec 32) : BitVec 32 :=
  let c7_i32_961 : BitVec 32 := 7#32
  let v1529 : BitVec 32 := Scalar.andi v1528 c7_i32_961
  let v1530 : BitVec 32 := Scalar.subi v1528 v1529
  v1530

def k0_off140 (v1528 : BitVec 32) : Fin 3 → Nat :=
  let c0_962 : Index := 0#32
  let c7_i32_961 : BitVec 32 := 7#32
  let v1529 : BitVec 32 := Scalar.andi v1528 c7_i32_961
  let v1530 : BitVec 32 := Scalar.subi v1528 v1529
  let v1531 : BitVec 32 := v1530
  let v1532 : Index := Scalar.indexCast v1531
  let c0_963 : Index := 0#32
  ![0, v1532.toNat, 0]

def k0_chk117 (v1528 : BitVec 32) : Prop :=
  (8 ∣ (k0_mult118 v1528).toNat) ∧
  (∀ a, (k0_off140 v1528) a + S1x8x1024.size a ≤ S1x4096x1024.size a)
theorem k0_mult118_dvd : ∀ (v1528 : BitVec 32) (k0_hw117 : k0_chk117 v1528), 8 ∣ (k0_mult118 v1528).toNat := fun v1528 k0_hw117 => k0_hw117.1
theorem k0_off140_inb : ∀ (v1528 : BitVec 32) (k0_hw117 : k0_chk117 v1528), ∀ a, (k0_off140 v1528) a + S1x8x1024.size a ≤ S1x4096x1024.size a := fun v1528 k0_hw117 => k0_hw117.2

def k0_mult119 (v1541 : BitVec 32) : BitVec 32 :=
  let c7_i32_969 : BitVec 32 := 7#32
  let v1542 : BitVec 32 := Scalar.andi v1541 c7_i32_969
  let v1543 : BitVec 32 := Scalar.subi v1541 v1542
  v1543

def k0_off141 (v1541 : BitVec 32) : Fin 3 → Nat :=
  let c0_970 : Index := 0#32
  let c7_i32_969 : BitVec 32 := 7#32
  let v1542 : BitVec 32 := Scalar.andi v1541 c7_i32_969
  let v1543 : BitVec 32 := Scalar.subi v1541 v1542
  let v1544 : BitVec 32 := v1543
  let v1545 : Index := Scalar.indexCast v1544
  let c0_971 : Index := 0#32
  ![0, v1545.toNat, 0]

def k0_chk118 (v1541 : BitVec 32) : Prop :=
  (8 ∣ (k0_mult119 v1541).toNat) ∧
  (∀ a, (k0_off141 v1541) a + S1x8x1024.size a ≤ S1x4096x1024.size a)
theorem k0_mult119_dvd : ∀ (v1541 : BitVec 32) (k0_hw118 : k0_chk118 v1541), 8 ∣ (k0_mult119 v1541).toNat := fun v1541 k0_hw118 => k0_hw118.1
theorem k0_off141_inb : ∀ (v1541 : BitVec 32) (k0_hw118 : k0_chk118 v1541), ∀ a, (k0_off141 v1541) a + S1x8x1024.size a ≤ S1x4096x1024.size a := fun v1541 k0_hw118 => k0_hw118.2

def k0_mult120 (v1554 : BitVec 32) : BitVec 32 :=
  let c7_i32_977 : BitVec 32 := 7#32
  let v1555 : BitVec 32 := Scalar.andi v1554 c7_i32_977
  let v1556 : BitVec 32 := Scalar.subi v1554 v1555
  v1556

def k0_off142 (v1554 : BitVec 32) : Fin 3 → Nat :=
  let c0_978 : Index := 0#32
  let c7_i32_977 : BitVec 32 := 7#32
  let v1555 : BitVec 32 := Scalar.andi v1554 c7_i32_977
  let v1556 : BitVec 32 := Scalar.subi v1554 v1555
  let v1557 : BitVec 32 := v1556
  let v1558 : Index := Scalar.indexCast v1557
  let c0_979 : Index := 0#32
  ![0, v1558.toNat, 0]

def k0_chk119 (v1554 : BitVec 32) : Prop :=
  (8 ∣ (k0_mult120 v1554).toNat) ∧
  (∀ a, (k0_off142 v1554) a + S1x8x1024.size a ≤ S1x4096x1024.size a)
theorem k0_mult120_dvd : ∀ (v1554 : BitVec 32) (k0_hw119 : k0_chk119 v1554), 8 ∣ (k0_mult120 v1554).toNat := fun v1554 k0_hw119 => k0_hw119.1
theorem k0_off142_inb : ∀ (v1554 : BitVec 32) (k0_hw119 : k0_chk119 v1554), ∀ a, (k0_off142 v1554) a + S1x8x1024.size a ≤ S1x4096x1024.size a := fun v1554 k0_hw119 => k0_hw119.2

def k0_mult121 (v1567 : BitVec 32) : BitVec 32 :=
  let c7_i32_985 : BitVec 32 := 7#32
  let v1568 : BitVec 32 := Scalar.andi v1567 c7_i32_985
  let v1569 : BitVec 32 := Scalar.subi v1567 v1568
  v1569

def k0_off143 (v1567 : BitVec 32) : Fin 3 → Nat :=
  let c0_986 : Index := 0#32
  let c7_i32_985 : BitVec 32 := 7#32
  let v1568 : BitVec 32 := Scalar.andi v1567 c7_i32_985
  let v1569 : BitVec 32 := Scalar.subi v1567 v1568
  let v1570 : BitVec 32 := v1569
  let v1571 : Index := Scalar.indexCast v1570
  let c0_987 : Index := 0#32
  ![0, v1571.toNat, 0]

def k0_chk120 (v1567 : BitVec 32) : Prop :=
  (8 ∣ (k0_mult121 v1567).toNat) ∧
  (∀ a, (k0_off143 v1567) a + S1x8x1024.size a ≤ S1x4096x1024.size a)
theorem k0_mult121_dvd : ∀ (v1567 : BitVec 32) (k0_hw120 : k0_chk120 v1567), 8 ∣ (k0_mult121 v1567).toNat := fun v1567 k0_hw120 => k0_hw120.1
theorem k0_off143_inb : ∀ (v1567 : BitVec 32) (k0_hw120 : k0_chk120 v1567), ∀ a, (k0_off143 v1567) a + S1x8x1024.size a ≤ S1x4096x1024.size a := fun v1567 k0_hw120 => k0_hw120.2

def k0_off144 (i : grid0.Coords) : Fin 3 → Nat :=
  let c1_i32_925 : BitVec 32 := 1#32
  let arg1 : BitVec 32 := BitVec.ofNat 32 (i 1).val
  let c1_i32 : BitVec 32 := 1#32
  let v1 : BitVec 32 := Scalar.andi arg1 c1_i32
  let v1474 : BitVec 32 := Scalar.subi c1_i32_925 v1
  let c0_i32_991 : BitVec 32 := 0#32
  let c0_i32_992 : BitVec 32 := 0#32
  ![v1474.toNat, 0, 0]
def k0_mult122 (v1587 : BitVec 32) : BitVec 32 :=
  let c7_i32_999 : BitVec 32 := 7#32
  let v1588 : BitVec 32 := Scalar.andi v1587 c7_i32_999
  let v1589 : BitVec 32 := Scalar.subi v1587 v1588
  v1589

def k0_off145 (v1587 : BitVec 32) : Fin 3 → Nat :=
  let c0_1000 : Index := 0#32
  let c7_i32_999 : BitVec 32 := 7#32
  let v1588 : BitVec 32 := Scalar.andi v1587 c7_i32_999
  let v1589 : BitVec 32 := Scalar.subi v1587 v1588
  let v1590 : BitVec 32 := v1589
  let v1591 : Index := Scalar.indexCast v1590
  let c0_1001 : Index := 0#32
  ![0, v1591.toNat, 0]

def k0_chk121 (v1587 : BitVec 32) : Prop :=
  (8 ∣ (k0_mult122 v1587).toNat) ∧
  (∀ a, (k0_off145 v1587) a + S1x8x1024.size a ≤ S1x4096x1024.size a)
theorem k0_mult122_dvd : ∀ (v1587 : BitVec 32) (k0_hw121 : k0_chk121 v1587), 8 ∣ (k0_mult122 v1587).toNat := fun v1587 k0_hw121 => k0_hw121.1
theorem k0_off145_inb : ∀ (v1587 : BitVec 32) (k0_hw121 : k0_chk121 v1587), ∀ a, (k0_off145 v1587) a + S1x8x1024.size a ≤ S1x4096x1024.size a := fun v1587 k0_hw121 => k0_hw121.2

def k0_mult123 (v1600 : BitVec 32) : BitVec 32 :=
  let c7_i32_1007 : BitVec 32 := 7#32
  let v1601 : BitVec 32 := Scalar.andi v1600 c7_i32_1007
  let v1602 : BitVec 32 := Scalar.subi v1600 v1601
  v1602

def k0_off146 (v1600 : BitVec 32) : Fin 3 → Nat :=
  let c0_1008 : Index := 0#32
  let c7_i32_1007 : BitVec 32 := 7#32
  let v1601 : BitVec 32 := Scalar.andi v1600 c7_i32_1007
  let v1602 : BitVec 32 := Scalar.subi v1600 v1601
  let v1603 : BitVec 32 := v1602
  let v1604 : Index := Scalar.indexCast v1603
  let c0_1009 : Index := 0#32
  ![0, v1604.toNat, 0]

def k0_chk122 (v1600 : BitVec 32) : Prop :=
  (8 ∣ (k0_mult123 v1600).toNat) ∧
  (∀ a, (k0_off146 v1600) a + S1x8x1024.size a ≤ S1x4096x1024.size a)
theorem k0_mult123_dvd : ∀ (v1600 : BitVec 32) (k0_hw122 : k0_chk122 v1600), 8 ∣ (k0_mult123 v1600).toNat := fun v1600 k0_hw122 => k0_hw122.1
theorem k0_off146_inb : ∀ (v1600 : BitVec 32) (k0_hw122 : k0_chk122 v1600), ∀ a, (k0_off146 v1600) a + S1x8x1024.size a ≤ S1x4096x1024.size a := fun v1600 k0_hw122 => k0_hw122.2

def k0_mult124 (v1613 : BitVec 32) : BitVec 32 :=
  let c7_i32_1015 : BitVec 32 := 7#32
  let v1614 : BitVec 32 := Scalar.andi v1613 c7_i32_1015
  let v1615 : BitVec 32 := Scalar.subi v1613 v1614
  v1615

def k0_off147 (v1613 : BitVec 32) : Fin 3 → Nat :=
  let c0_1016 : Index := 0#32
  let c7_i32_1015 : BitVec 32 := 7#32
  let v1614 : BitVec 32 := Scalar.andi v1613 c7_i32_1015
  let v1615 : BitVec 32 := Scalar.subi v1613 v1614
  let v1616 : BitVec 32 := v1615
  let v1617 : Index := Scalar.indexCast v1616
  let c0_1017 : Index := 0#32
  ![0, v1617.toNat, 0]

def k0_chk123 (v1613 : BitVec 32) : Prop :=
  (8 ∣ (k0_mult124 v1613).toNat) ∧
  (∀ a, (k0_off147 v1613) a + S1x8x1024.size a ≤ S1x4096x1024.size a)
theorem k0_mult124_dvd : ∀ (v1613 : BitVec 32) (k0_hw123 : k0_chk123 v1613), 8 ∣ (k0_mult124 v1613).toNat := fun v1613 k0_hw123 => k0_hw123.1
theorem k0_off147_inb : ∀ (v1613 : BitVec 32) (k0_hw123 : k0_chk123 v1613), ∀ a, (k0_off147 v1613) a + S1x8x1024.size a ≤ S1x4096x1024.size a := fun v1613 k0_hw123 => k0_hw123.2

def k0_mult125 (v1626 : BitVec 32) : BitVec 32 :=
  let c7_i32_1023 : BitVec 32 := 7#32
  let v1627 : BitVec 32 := Scalar.andi v1626 c7_i32_1023
  let v1628 : BitVec 32 := Scalar.subi v1626 v1627
  v1628

def k0_off148 (v1626 : BitVec 32) : Fin 3 → Nat :=
  let c0_1024 : Index := 0#32
  let c7_i32_1023 : BitVec 32 := 7#32
  let v1627 : BitVec 32 := Scalar.andi v1626 c7_i32_1023
  let v1628 : BitVec 32 := Scalar.subi v1626 v1627
  let v1629 : BitVec 32 := v1628
  let v1630 : Index := Scalar.indexCast v1629
  let c0_1025 : Index := 0#32
  ![0, v1630.toNat, 0]

def k0_chk124 (v1626 : BitVec 32) : Prop :=
  (8 ∣ (k0_mult125 v1626).toNat) ∧
  (∀ a, (k0_off148 v1626) a + S1x8x1024.size a ≤ S1x4096x1024.size a)
theorem k0_mult125_dvd : ∀ (v1626 : BitVec 32) (k0_hw124 : k0_chk124 v1626), 8 ∣ (k0_mult125 v1626).toNat := fun v1626 k0_hw124 => k0_hw124.1
theorem k0_off148_inb : ∀ (v1626 : BitVec 32) (k0_hw124 : k0_chk124 v1626), ∀ a, (k0_off148 v1626) a + S1x8x1024.size a ≤ S1x4096x1024.size a := fun v1626 k0_hw124 => k0_hw124.2

def k0_mult126 (v1639 : BitVec 32) : BitVec 32 :=
  let c7_i32_1031 : BitVec 32 := 7#32
  let v1640 : BitVec 32 := Scalar.andi v1639 c7_i32_1031
  let v1641 : BitVec 32 := Scalar.subi v1639 v1640
  v1641

def k0_off149 (v1639 : BitVec 32) : Fin 3 → Nat :=
  let c0_1032 : Index := 0#32
  let c7_i32_1031 : BitVec 32 := 7#32
  let v1640 : BitVec 32 := Scalar.andi v1639 c7_i32_1031
  let v1641 : BitVec 32 := Scalar.subi v1639 v1640
  let v1642 : BitVec 32 := v1641
  let v1643 : Index := Scalar.indexCast v1642
  let c0_1033 : Index := 0#32
  ![0, v1643.toNat, 0]

def k0_chk125 (v1639 : BitVec 32) : Prop :=
  (8 ∣ (k0_mult126 v1639).toNat) ∧
  (∀ a, (k0_off149 v1639) a + S1x8x1024.size a ≤ S1x4096x1024.size a)
theorem k0_mult126_dvd : ∀ (v1639 : BitVec 32) (k0_hw125 : k0_chk125 v1639), 8 ∣ (k0_mult126 v1639).toNat := fun v1639 k0_hw125 => k0_hw125.1
theorem k0_off149_inb : ∀ (v1639 : BitVec 32) (k0_hw125 : k0_chk125 v1639), ∀ a, (k0_off149 v1639) a + S1x8x1024.size a ≤ S1x4096x1024.size a := fun v1639 k0_hw125 => k0_hw125.2

def k0_mult127 (v1652 : BitVec 32) : BitVec 32 :=
  let c7_i32_1039 : BitVec 32 := 7#32
  let v1653 : BitVec 32 := Scalar.andi v1652 c7_i32_1039
  let v1654 : BitVec 32 := Scalar.subi v1652 v1653
  v1654

def k0_off150 (v1652 : BitVec 32) : Fin 3 → Nat :=
  let c0_1040 : Index := 0#32
  let c7_i32_1039 : BitVec 32 := 7#32
  let v1653 : BitVec 32 := Scalar.andi v1652 c7_i32_1039
  let v1654 : BitVec 32 := Scalar.subi v1652 v1653
  let v1655 : BitVec 32 := v1654
  let v1656 : Index := Scalar.indexCast v1655
  let c0_1041 : Index := 0#32
  ![0, v1656.toNat, 0]

def k0_chk126 (v1652 : BitVec 32) : Prop :=
  (8 ∣ (k0_mult127 v1652).toNat) ∧
  (∀ a, (k0_off150 v1652) a + S1x8x1024.size a ≤ S1x4096x1024.size a)
theorem k0_mult127_dvd : ∀ (v1652 : BitVec 32) (k0_hw126 : k0_chk126 v1652), 8 ∣ (k0_mult127 v1652).toNat := fun v1652 k0_hw126 => k0_hw126.1
theorem k0_off150_inb : ∀ (v1652 : BitVec 32) (k0_hw126 : k0_chk126 v1652), ∀ a, (k0_off150 v1652) a + S1x8x1024.size a ≤ S1x4096x1024.size a := fun v1652 k0_hw126 => k0_hw126.2

def k0_mult128 (v1665 : BitVec 32) : BitVec 32 :=
  let c7_i32_1047 : BitVec 32 := 7#32
  let v1666 : BitVec 32 := Scalar.andi v1665 c7_i32_1047
  let v1667 : BitVec 32 := Scalar.subi v1665 v1666
  v1667

def k0_off151 (v1665 : BitVec 32) : Fin 3 → Nat :=
  let c0_1048 : Index := 0#32
  let c7_i32_1047 : BitVec 32 := 7#32
  let v1666 : BitVec 32 := Scalar.andi v1665 c7_i32_1047
  let v1667 : BitVec 32 := Scalar.subi v1665 v1666
  let v1668 : BitVec 32 := v1667
  let v1669 : Index := Scalar.indexCast v1668
  let c0_1049 : Index := 0#32
  ![0, v1669.toNat, 0]

def k0_chk127 (v1665 : BitVec 32) : Prop :=
  (8 ∣ (k0_mult128 v1665).toNat) ∧
  (∀ a, (k0_off151 v1665) a + S1x8x1024.size a ≤ S1x4096x1024.size a)
theorem k0_mult128_dvd : ∀ (v1665 : BitVec 32) (k0_hw127 : k0_chk127 v1665), 8 ∣ (k0_mult128 v1665).toNat := fun v1665 k0_hw127 => k0_hw127.1
theorem k0_off151_inb : ∀ (v1665 : BitVec 32) (k0_hw127 : k0_chk127 v1665), ∀ a, (k0_off151 v1665) a + S1x8x1024.size a ≤ S1x4096x1024.size a := fun v1665 k0_hw127 => k0_hw127.2

def k0_mult129 (v1678 : BitVec 32) : BitVec 32 :=
  let c7_i32_1055 : BitVec 32 := 7#32
  let v1679 : BitVec 32 := Scalar.andi v1678 c7_i32_1055
  let v1680 : BitVec 32 := Scalar.subi v1678 v1679
  v1680

def k0_off152 (v1678 : BitVec 32) : Fin 3 → Nat :=
  let c0_1056 : Index := 0#32
  let c7_i32_1055 : BitVec 32 := 7#32
  let v1679 : BitVec 32 := Scalar.andi v1678 c7_i32_1055
  let v1680 : BitVec 32 := Scalar.subi v1678 v1679
  let v1681 : BitVec 32 := v1680
  let v1682 : Index := Scalar.indexCast v1681
  let c0_1057 : Index := 0#32
  ![0, v1682.toNat, 0]

def k0_chk128 (v1678 : BitVec 32) : Prop :=
  (8 ∣ (k0_mult129 v1678).toNat) ∧
  (∀ a, (k0_off152 v1678) a + S1x8x1024.size a ≤ S1x4096x1024.size a)
theorem k0_mult129_dvd : ∀ (v1678 : BitVec 32) (k0_hw128 : k0_chk128 v1678), 8 ∣ (k0_mult129 v1678).toNat := fun v1678 k0_hw128 => k0_hw128.1
theorem k0_off152_inb : ∀ (v1678 : BitVec 32) (k0_hw128 : k0_chk128 v1678), ∀ a, (k0_off152 v1678) a + S1x8x1024.size a ≤ S1x4096x1024.size a := fun v1678 k0_hw128 => k0_hw128.2

def k0_off153 (i : grid0.Coords) : Fin 3 → Nat :=
  let c1_i32_995 : BitVec 32 := 1#32
  let arg1 : BitVec 32 := BitVec.ofNat 32 (i 1).val
  let c1_i32 : BitVec 32 := 1#32
  let v1 : BitVec 32 := Scalar.andi arg1 c1_i32
  let v1585 : BitVec 32 := Scalar.subi c1_i32_995 v1
  let c0_i32_1061 : BitVec 32 := 0#32
  let c0_i32_1062 : BitVec 32 := 0#32
  ![v1585.toNat, 0, 0]
def k0_mult130 (v1698 : BitVec 32) : BitVec 32 :=
  let c7_i32_1069 : BitVec 32 := 7#32
  let v1699 : BitVec 32 := Scalar.andi v1698 c7_i32_1069
  let v1700 : BitVec 32 := Scalar.subi v1698 v1699
  v1700

def k0_off154 (v1698 : BitVec 32) : Fin 3 → Nat :=
  let c0_1070 : Index := 0#32
  let c7_i32_1069 : BitVec 32 := 7#32
  let v1699 : BitVec 32 := Scalar.andi v1698 c7_i32_1069
  let v1700 : BitVec 32 := Scalar.subi v1698 v1699
  let v1701 : BitVec 32 := v1700
  let v1702 : Index := Scalar.indexCast v1701
  let c0_1071 : Index := 0#32
  ![0, v1702.toNat, 0]

def k0_chk129 (v1698 : BitVec 32) : Prop :=
  (8 ∣ (k0_mult130 v1698).toNat) ∧
  (∀ a, (k0_off154 v1698) a + S1x8x1024.size a ≤ S1x4096x1024.size a)
theorem k0_mult130_dvd : ∀ (v1698 : BitVec 32) (k0_hw129 : k0_chk129 v1698), 8 ∣ (k0_mult130 v1698).toNat := fun v1698 k0_hw129 => k0_hw129.1
theorem k0_off154_inb : ∀ (v1698 : BitVec 32) (k0_hw129 : k0_chk129 v1698), ∀ a, (k0_off154 v1698) a + S1x8x1024.size a ≤ S1x4096x1024.size a := fun v1698 k0_hw129 => k0_hw129.2

def k0_mult131 (v1711 : BitVec 32) : BitVec 32 :=
  let c7_i32_1077 : BitVec 32 := 7#32
  let v1712 : BitVec 32 := Scalar.andi v1711 c7_i32_1077
  let v1713 : BitVec 32 := Scalar.subi v1711 v1712
  v1713

def k0_off155 (v1711 : BitVec 32) : Fin 3 → Nat :=
  let c0_1078 : Index := 0#32
  let c7_i32_1077 : BitVec 32 := 7#32
  let v1712 : BitVec 32 := Scalar.andi v1711 c7_i32_1077
  let v1713 : BitVec 32 := Scalar.subi v1711 v1712
  let v1714 : BitVec 32 := v1713
  let v1715 : Index := Scalar.indexCast v1714
  let c0_1079 : Index := 0#32
  ![0, v1715.toNat, 0]

def k0_chk130 (v1711 : BitVec 32) : Prop :=
  (8 ∣ (k0_mult131 v1711).toNat) ∧
  (∀ a, (k0_off155 v1711) a + S1x8x1024.size a ≤ S1x4096x1024.size a)
theorem k0_mult131_dvd : ∀ (v1711 : BitVec 32) (k0_hw130 : k0_chk130 v1711), 8 ∣ (k0_mult131 v1711).toNat := fun v1711 k0_hw130 => k0_hw130.1
theorem k0_off155_inb : ∀ (v1711 : BitVec 32) (k0_hw130 : k0_chk130 v1711), ∀ a, (k0_off155 v1711) a + S1x8x1024.size a ≤ S1x4096x1024.size a := fun v1711 k0_hw130 => k0_hw130.2

def k0_mult132 (v1724 : BitVec 32) : BitVec 32 :=
  let c7_i32_1085 : BitVec 32 := 7#32
  let v1725 : BitVec 32 := Scalar.andi v1724 c7_i32_1085
  let v1726 : BitVec 32 := Scalar.subi v1724 v1725
  v1726

def k0_off156 (v1724 : BitVec 32) : Fin 3 → Nat :=
  let c0_1086 : Index := 0#32
  let c7_i32_1085 : BitVec 32 := 7#32
  let v1725 : BitVec 32 := Scalar.andi v1724 c7_i32_1085
  let v1726 : BitVec 32 := Scalar.subi v1724 v1725
  let v1727 : BitVec 32 := v1726
  let v1728 : Index := Scalar.indexCast v1727
  let c0_1087 : Index := 0#32
  ![0, v1728.toNat, 0]

def k0_chk131 (v1724 : BitVec 32) : Prop :=
  (8 ∣ (k0_mult132 v1724).toNat) ∧
  (∀ a, (k0_off156 v1724) a + S1x8x1024.size a ≤ S1x4096x1024.size a)
theorem k0_mult132_dvd : ∀ (v1724 : BitVec 32) (k0_hw131 : k0_chk131 v1724), 8 ∣ (k0_mult132 v1724).toNat := fun v1724 k0_hw131 => k0_hw131.1
theorem k0_off156_inb : ∀ (v1724 : BitVec 32) (k0_hw131 : k0_chk131 v1724), ∀ a, (k0_off156 v1724) a + S1x8x1024.size a ≤ S1x4096x1024.size a := fun v1724 k0_hw131 => k0_hw131.2

def k0_mult133 (v1737 : BitVec 32) : BitVec 32 :=
  let c7_i32_1093 : BitVec 32 := 7#32
  let v1738 : BitVec 32 := Scalar.andi v1737 c7_i32_1093
  let v1739 : BitVec 32 := Scalar.subi v1737 v1738
  v1739

def k0_off157 (v1737 : BitVec 32) : Fin 3 → Nat :=
  let c0_1094 : Index := 0#32
  let c7_i32_1093 : BitVec 32 := 7#32
  let v1738 : BitVec 32 := Scalar.andi v1737 c7_i32_1093
  let v1739 : BitVec 32 := Scalar.subi v1737 v1738
  let v1740 : BitVec 32 := v1739
  let v1741 : Index := Scalar.indexCast v1740
  let c0_1095 : Index := 0#32
  ![0, v1741.toNat, 0]

def k0_chk132 (v1737 : BitVec 32) : Prop :=
  (8 ∣ (k0_mult133 v1737).toNat) ∧
  (∀ a, (k0_off157 v1737) a + S1x8x1024.size a ≤ S1x4096x1024.size a)
theorem k0_mult133_dvd : ∀ (v1737 : BitVec 32) (k0_hw132 : k0_chk132 v1737), 8 ∣ (k0_mult133 v1737).toNat := fun v1737 k0_hw132 => k0_hw132.1
theorem k0_off157_inb : ∀ (v1737 : BitVec 32) (k0_hw132 : k0_chk132 v1737), ∀ a, (k0_off157 v1737) a + S1x8x1024.size a ≤ S1x4096x1024.size a := fun v1737 k0_hw132 => k0_hw132.2

def k0_mult134 (v1750 : BitVec 32) : BitVec 32 :=
  let c7_i32_1101 : BitVec 32 := 7#32
  let v1751 : BitVec 32 := Scalar.andi v1750 c7_i32_1101
  let v1752 : BitVec 32 := Scalar.subi v1750 v1751
  v1752

def k0_off158 (v1750 : BitVec 32) : Fin 3 → Nat :=
  let c0_1102 : Index := 0#32
  let c7_i32_1101 : BitVec 32 := 7#32
  let v1751 : BitVec 32 := Scalar.andi v1750 c7_i32_1101
  let v1752 : BitVec 32 := Scalar.subi v1750 v1751
  let v1753 : BitVec 32 := v1752
  let v1754 : Index := Scalar.indexCast v1753
  let c0_1103 : Index := 0#32
  ![0, v1754.toNat, 0]

def k0_chk133 (v1750 : BitVec 32) : Prop :=
  (8 ∣ (k0_mult134 v1750).toNat) ∧
  (∀ a, (k0_off158 v1750) a + S1x8x1024.size a ≤ S1x4096x1024.size a)
theorem k0_mult134_dvd : ∀ (v1750 : BitVec 32) (k0_hw133 : k0_chk133 v1750), 8 ∣ (k0_mult134 v1750).toNat := fun v1750 k0_hw133 => k0_hw133.1
theorem k0_off158_inb : ∀ (v1750 : BitVec 32) (k0_hw133 : k0_chk133 v1750), ∀ a, (k0_off158 v1750) a + S1x8x1024.size a ≤ S1x4096x1024.size a := fun v1750 k0_hw133 => k0_hw133.2

def k0_mult135 (v1763 : BitVec 32) : BitVec 32 :=
  let c7_i32_1109 : BitVec 32 := 7#32
  let v1764 : BitVec 32 := Scalar.andi v1763 c7_i32_1109
  let v1765 : BitVec 32 := Scalar.subi v1763 v1764
  v1765

def k0_off159 (v1763 : BitVec 32) : Fin 3 → Nat :=
  let c0_1110 : Index := 0#32
  let c7_i32_1109 : BitVec 32 := 7#32
  let v1764 : BitVec 32 := Scalar.andi v1763 c7_i32_1109
  let v1765 : BitVec 32 := Scalar.subi v1763 v1764
  let v1766 : BitVec 32 := v1765
  let v1767 : Index := Scalar.indexCast v1766
  let c0_1111 : Index := 0#32
  ![0, v1767.toNat, 0]

def k0_chk134 (v1763 : BitVec 32) : Prop :=
  (8 ∣ (k0_mult135 v1763).toNat) ∧
  (∀ a, (k0_off159 v1763) a + S1x8x1024.size a ≤ S1x4096x1024.size a)
theorem k0_mult135_dvd : ∀ (v1763 : BitVec 32) (k0_hw134 : k0_chk134 v1763), 8 ∣ (k0_mult135 v1763).toNat := fun v1763 k0_hw134 => k0_hw134.1
theorem k0_off159_inb : ∀ (v1763 : BitVec 32) (k0_hw134 : k0_chk134 v1763), ∀ a, (k0_off159 v1763) a + S1x8x1024.size a ≤ S1x4096x1024.size a := fun v1763 k0_hw134 => k0_hw134.2

def k0_mult136 (v1776 : BitVec 32) : BitVec 32 :=
  let c7_i32_1117 : BitVec 32 := 7#32
  let v1777 : BitVec 32 := Scalar.andi v1776 c7_i32_1117
  let v1778 : BitVec 32 := Scalar.subi v1776 v1777
  v1778

def k0_off160 (v1776 : BitVec 32) : Fin 3 → Nat :=
  let c0_1118 : Index := 0#32
  let c7_i32_1117 : BitVec 32 := 7#32
  let v1777 : BitVec 32 := Scalar.andi v1776 c7_i32_1117
  let v1778 : BitVec 32 := Scalar.subi v1776 v1777
  let v1779 : BitVec 32 := v1778
  let v1780 : Index := Scalar.indexCast v1779
  let c0_1119 : Index := 0#32
  ![0, v1780.toNat, 0]

def k0_chk135 (v1776 : BitVec 32) : Prop :=
  (8 ∣ (k0_mult136 v1776).toNat) ∧
  (∀ a, (k0_off160 v1776) a + S1x8x1024.size a ≤ S1x4096x1024.size a)
theorem k0_mult136_dvd : ∀ (v1776 : BitVec 32) (k0_hw135 : k0_chk135 v1776), 8 ∣ (k0_mult136 v1776).toNat := fun v1776 k0_hw135 => k0_hw135.1
theorem k0_off160_inb : ∀ (v1776 : BitVec 32) (k0_hw135 : k0_chk135 v1776), ∀ a, (k0_off160 v1776) a + S1x8x1024.size a ≤ S1x4096x1024.size a := fun v1776 k0_hw135 => k0_hw135.2

def k0_mult137 (v1789 : BitVec 32) : BitVec 32 :=
  let c7_i32_1125 : BitVec 32 := 7#32
  let v1790 : BitVec 32 := Scalar.andi v1789 c7_i32_1125
  let v1791 : BitVec 32 := Scalar.subi v1789 v1790
  v1791

def k0_off161 (v1789 : BitVec 32) : Fin 3 → Nat :=
  let c0_1126 : Index := 0#32
  let c7_i32_1125 : BitVec 32 := 7#32
  let v1790 : BitVec 32 := Scalar.andi v1789 c7_i32_1125
  let v1791 : BitVec 32 := Scalar.subi v1789 v1790
  let v1792 : BitVec 32 := v1791
  let v1793 : Index := Scalar.indexCast v1792
  let c0_1127 : Index := 0#32
  ![0, v1793.toNat, 0]

def k0_chk136 (v1789 : BitVec 32) : Prop :=
  (8 ∣ (k0_mult137 v1789).toNat) ∧
  (∀ a, (k0_off161 v1789) a + S1x8x1024.size a ≤ S1x4096x1024.size a)
theorem k0_mult137_dvd : ∀ (v1789 : BitVec 32) (k0_hw136 : k0_chk136 v1789), 8 ∣ (k0_mult137 v1789).toNat := fun v1789 k0_hw136 => k0_hw136.1
theorem k0_off161_inb : ∀ (v1789 : BitVec 32) (k0_hw136 : k0_chk136 v1789), ∀ a, (k0_off161 v1789) a + S1x8x1024.size a ≤ S1x4096x1024.size a := fun v1789 k0_hw136 => k0_hw136.2

def k0_off162 (i : grid0.Coords) : Fin 3 → Nat :=
  let c1_i32_1065 : BitVec 32 := 1#32
  let arg1 : BitVec 32 := BitVec.ofNat 32 (i 1).val
  let c1_i32 : BitVec 32 := 1#32
  let v1 : BitVec 32 := Scalar.andi arg1 c1_i32
  let v1696 : BitVec 32 := Scalar.subi c1_i32_1065 v1
  let c0_i32_1131 : BitVec 32 := 0#32
  let c0_i32_1132 : BitVec 32 := 0#32
  ![v1696.toNat, 0, 0]
def k0_mult138 (v1809 : BitVec 32) : BitVec 32 :=
  let c7_i32_1139 : BitVec 32 := 7#32
  let v1810 : BitVec 32 := Scalar.andi v1809 c7_i32_1139
  let v1811 : BitVec 32 := Scalar.subi v1809 v1810
  v1811

def k0_off163 (v1809 : BitVec 32) : Fin 3 → Nat :=
  let c0_1140 : Index := 0#32
  let c7_i32_1139 : BitVec 32 := 7#32
  let v1810 : BitVec 32 := Scalar.andi v1809 c7_i32_1139
  let v1811 : BitVec 32 := Scalar.subi v1809 v1810
  let v1812 : BitVec 32 := v1811
  let v1813 : Index := Scalar.indexCast v1812
  let c0_1141 : Index := 0#32
  ![0, v1813.toNat, 0]

def k0_chk137 (v1809 : BitVec 32) : Prop :=
  (8 ∣ (k0_mult138 v1809).toNat) ∧
  (∀ a, (k0_off163 v1809) a + S1x8x1024.size a ≤ S1x4096x1024.size a)
theorem k0_mult138_dvd : ∀ (v1809 : BitVec 32) (k0_hw137 : k0_chk137 v1809), 8 ∣ (k0_mult138 v1809).toNat := fun v1809 k0_hw137 => k0_hw137.1
theorem k0_off163_inb : ∀ (v1809 : BitVec 32) (k0_hw137 : k0_chk137 v1809), ∀ a, (k0_off163 v1809) a + S1x8x1024.size a ≤ S1x4096x1024.size a := fun v1809 k0_hw137 => k0_hw137.2

def k0_mult139 (v1822 : BitVec 32) : BitVec 32 :=
  let c7_i32_1147 : BitVec 32 := 7#32
  let v1823 : BitVec 32 := Scalar.andi v1822 c7_i32_1147
  let v1824 : BitVec 32 := Scalar.subi v1822 v1823
  v1824

def k0_off164 (v1822 : BitVec 32) : Fin 3 → Nat :=
  let c0_1148 : Index := 0#32
  let c7_i32_1147 : BitVec 32 := 7#32
  let v1823 : BitVec 32 := Scalar.andi v1822 c7_i32_1147
  let v1824 : BitVec 32 := Scalar.subi v1822 v1823
  let v1825 : BitVec 32 := v1824
  let v1826 : Index := Scalar.indexCast v1825
  let c0_1149 : Index := 0#32
  ![0, v1826.toNat, 0]

def k0_chk138 (v1822 : BitVec 32) : Prop :=
  (8 ∣ (k0_mult139 v1822).toNat) ∧
  (∀ a, (k0_off164 v1822) a + S1x8x1024.size a ≤ S1x4096x1024.size a)
theorem k0_mult139_dvd : ∀ (v1822 : BitVec 32) (k0_hw138 : k0_chk138 v1822), 8 ∣ (k0_mult139 v1822).toNat := fun v1822 k0_hw138 => k0_hw138.1
theorem k0_off164_inb : ∀ (v1822 : BitVec 32) (k0_hw138 : k0_chk138 v1822), ∀ a, (k0_off164 v1822) a + S1x8x1024.size a ≤ S1x4096x1024.size a := fun v1822 k0_hw138 => k0_hw138.2

def k0_mult140 (v1835 : BitVec 32) : BitVec 32 :=
  let c7_i32_1155 : BitVec 32 := 7#32
  let v1836 : BitVec 32 := Scalar.andi v1835 c7_i32_1155
  let v1837 : BitVec 32 := Scalar.subi v1835 v1836
  v1837

def k0_off165 (v1835 : BitVec 32) : Fin 3 → Nat :=
  let c0_1156 : Index := 0#32
  let c7_i32_1155 : BitVec 32 := 7#32
  let v1836 : BitVec 32 := Scalar.andi v1835 c7_i32_1155
  let v1837 : BitVec 32 := Scalar.subi v1835 v1836
  let v1838 : BitVec 32 := v1837
  let v1839 : Index := Scalar.indexCast v1838
  let c0_1157 : Index := 0#32
  ![0, v1839.toNat, 0]

def k0_chk139 (v1835 : BitVec 32) : Prop :=
  (8 ∣ (k0_mult140 v1835).toNat) ∧
  (∀ a, (k0_off165 v1835) a + S1x8x1024.size a ≤ S1x4096x1024.size a)
theorem k0_mult140_dvd : ∀ (v1835 : BitVec 32) (k0_hw139 : k0_chk139 v1835), 8 ∣ (k0_mult140 v1835).toNat := fun v1835 k0_hw139 => k0_hw139.1
theorem k0_off165_inb : ∀ (v1835 : BitVec 32) (k0_hw139 : k0_chk139 v1835), ∀ a, (k0_off165 v1835) a + S1x8x1024.size a ≤ S1x4096x1024.size a := fun v1835 k0_hw139 => k0_hw139.2

def k0_mult141 (v1848 : BitVec 32) : BitVec 32 :=
  let c7_i32_1163 : BitVec 32 := 7#32
  let v1849 : BitVec 32 := Scalar.andi v1848 c7_i32_1163
  let v1850 : BitVec 32 := Scalar.subi v1848 v1849
  v1850

def k0_off166 (v1848 : BitVec 32) : Fin 3 → Nat :=
  let c0_1164 : Index := 0#32
  let c7_i32_1163 : BitVec 32 := 7#32
  let v1849 : BitVec 32 := Scalar.andi v1848 c7_i32_1163
  let v1850 : BitVec 32 := Scalar.subi v1848 v1849
  let v1851 : BitVec 32 := v1850
  let v1852 : Index := Scalar.indexCast v1851
  let c0_1165 : Index := 0#32
  ![0, v1852.toNat, 0]

def k0_chk140 (v1848 : BitVec 32) : Prop :=
  (8 ∣ (k0_mult141 v1848).toNat) ∧
  (∀ a, (k0_off166 v1848) a + S1x8x1024.size a ≤ S1x4096x1024.size a)
theorem k0_mult141_dvd : ∀ (v1848 : BitVec 32) (k0_hw140 : k0_chk140 v1848), 8 ∣ (k0_mult141 v1848).toNat := fun v1848 k0_hw140 => k0_hw140.1
theorem k0_off166_inb : ∀ (v1848 : BitVec 32) (k0_hw140 : k0_chk140 v1848), ∀ a, (k0_off166 v1848) a + S1x8x1024.size a ≤ S1x4096x1024.size a := fun v1848 k0_hw140 => k0_hw140.2

def k0_mult142 (v1861 : BitVec 32) : BitVec 32 :=
  let c7_i32_1171 : BitVec 32 := 7#32
  let v1862 : BitVec 32 := Scalar.andi v1861 c7_i32_1171
  let v1863 : BitVec 32 := Scalar.subi v1861 v1862
  v1863

def k0_off167 (v1861 : BitVec 32) : Fin 3 → Nat :=
  let c0_1172 : Index := 0#32
  let c7_i32_1171 : BitVec 32 := 7#32
  let v1862 : BitVec 32 := Scalar.andi v1861 c7_i32_1171
  let v1863 : BitVec 32 := Scalar.subi v1861 v1862
  let v1864 : BitVec 32 := v1863
  let v1865 : Index := Scalar.indexCast v1864
  let c0_1173 : Index := 0#32
  ![0, v1865.toNat, 0]

def k0_chk141 (v1861 : BitVec 32) : Prop :=
  (8 ∣ (k0_mult142 v1861).toNat) ∧
  (∀ a, (k0_off167 v1861) a + S1x8x1024.size a ≤ S1x4096x1024.size a)
theorem k0_mult142_dvd : ∀ (v1861 : BitVec 32) (k0_hw141 : k0_chk141 v1861), 8 ∣ (k0_mult142 v1861).toNat := fun v1861 k0_hw141 => k0_hw141.1
theorem k0_off167_inb : ∀ (v1861 : BitVec 32) (k0_hw141 : k0_chk141 v1861), ∀ a, (k0_off167 v1861) a + S1x8x1024.size a ≤ S1x4096x1024.size a := fun v1861 k0_hw141 => k0_hw141.2

def k0_mult143 (v1874 : BitVec 32) : BitVec 32 :=
  let c7_i32_1179 : BitVec 32 := 7#32
  let v1875 : BitVec 32 := Scalar.andi v1874 c7_i32_1179
  let v1876 : BitVec 32 := Scalar.subi v1874 v1875
  v1876

def k0_off168 (v1874 : BitVec 32) : Fin 3 → Nat :=
  let c0_1180 : Index := 0#32
  let c7_i32_1179 : BitVec 32 := 7#32
  let v1875 : BitVec 32 := Scalar.andi v1874 c7_i32_1179
  let v1876 : BitVec 32 := Scalar.subi v1874 v1875
  let v1877 : BitVec 32 := v1876
  let v1878 : Index := Scalar.indexCast v1877
  let c0_1181 : Index := 0#32
  ![0, v1878.toNat, 0]

def k0_chk142 (v1874 : BitVec 32) : Prop :=
  (8 ∣ (k0_mult143 v1874).toNat) ∧
  (∀ a, (k0_off168 v1874) a + S1x8x1024.size a ≤ S1x4096x1024.size a)
theorem k0_mult143_dvd : ∀ (v1874 : BitVec 32) (k0_hw142 : k0_chk142 v1874), 8 ∣ (k0_mult143 v1874).toNat := fun v1874 k0_hw142 => k0_hw142.1
theorem k0_off168_inb : ∀ (v1874 : BitVec 32) (k0_hw142 : k0_chk142 v1874), ∀ a, (k0_off168 v1874) a + S1x8x1024.size a ≤ S1x4096x1024.size a := fun v1874 k0_hw142 => k0_hw142.2

def k0_mult144 (v1887 : BitVec 32) : BitVec 32 :=
  let c7_i32_1187 : BitVec 32 := 7#32
  let v1888 : BitVec 32 := Scalar.andi v1887 c7_i32_1187
  let v1889 : BitVec 32 := Scalar.subi v1887 v1888
  v1889

def k0_off169 (v1887 : BitVec 32) : Fin 3 → Nat :=
  let c0_1188 : Index := 0#32
  let c7_i32_1187 : BitVec 32 := 7#32
  let v1888 : BitVec 32 := Scalar.andi v1887 c7_i32_1187
  let v1889 : BitVec 32 := Scalar.subi v1887 v1888
  let v1890 : BitVec 32 := v1889
  let v1891 : Index := Scalar.indexCast v1890
  let c0_1189 : Index := 0#32
  ![0, v1891.toNat, 0]

def k0_chk143 (v1887 : BitVec 32) : Prop :=
  (8 ∣ (k0_mult144 v1887).toNat) ∧
  (∀ a, (k0_off169 v1887) a + S1x8x1024.size a ≤ S1x4096x1024.size a)
theorem k0_mult144_dvd : ∀ (v1887 : BitVec 32) (k0_hw143 : k0_chk143 v1887), 8 ∣ (k0_mult144 v1887).toNat := fun v1887 k0_hw143 => k0_hw143.1
theorem k0_off169_inb : ∀ (v1887 : BitVec 32) (k0_hw143 : k0_chk143 v1887), ∀ a, (k0_off169 v1887) a + S1x8x1024.size a ≤ S1x4096x1024.size a := fun v1887 k0_hw143 => k0_hw143.2

def k0_mult145 (v1900 : BitVec 32) : BitVec 32 :=
  let c7_i32_1195 : BitVec 32 := 7#32
  let v1901 : BitVec 32 := Scalar.andi v1900 c7_i32_1195
  let v1902 : BitVec 32 := Scalar.subi v1900 v1901
  v1902

def k0_off170 (v1900 : BitVec 32) : Fin 3 → Nat :=
  let c0_1196 : Index := 0#32
  let c7_i32_1195 : BitVec 32 := 7#32
  let v1901 : BitVec 32 := Scalar.andi v1900 c7_i32_1195
  let v1902 : BitVec 32 := Scalar.subi v1900 v1901
  let v1903 : BitVec 32 := v1902
  let v1904 : Index := Scalar.indexCast v1903
  let c0_1197 : Index := 0#32
  ![0, v1904.toNat, 0]

def k0_chk144 (v1900 : BitVec 32) : Prop :=
  (8 ∣ (k0_mult145 v1900).toNat) ∧
  (∀ a, (k0_off170 v1900) a + S1x8x1024.size a ≤ S1x4096x1024.size a)
theorem k0_mult145_dvd : ∀ (v1900 : BitVec 32) (k0_hw144 : k0_chk144 v1900), 8 ∣ (k0_mult145 v1900).toNat := fun v1900 k0_hw144 => k0_hw144.1
theorem k0_off170_inb : ∀ (v1900 : BitVec 32) (k0_hw144 : k0_chk144 v1900), ∀ a, (k0_off170 v1900) a + S1x8x1024.size a ≤ S1x4096x1024.size a := fun v1900 k0_hw144 => k0_hw144.2

def k0_off171 (i : grid0.Coords) : Fin 3 → Nat :=
  let c1_i32_1135 : BitVec 32 := 1#32
  let arg1 : BitVec 32 := BitVec.ofNat 32 (i 1).val
  let c1_i32 : BitVec 32 := 1#32
  let v1 : BitVec 32 := Scalar.andi arg1 c1_i32
  let v1807 : BitVec 32 := Scalar.subi c1_i32_1135 v1
  let c0_i32_1201 : BitVec 32 := 0#32
  let c0_i32_1202 : BitVec 32 := 0#32
  ![v1807.toNat, 0, 0]
def k0_mult146 (v1920 : BitVec 32) : BitVec 32 :=
  let c7_i32_1209 : BitVec 32 := 7#32
  let v1921 : BitVec 32 := Scalar.andi v1920 c7_i32_1209
  let v1922 : BitVec 32 := Scalar.subi v1920 v1921
  v1922

def k0_off172 (v1920 : BitVec 32) : Fin 3 → Nat :=
  let c0_1210 : Index := 0#32
  let c7_i32_1209 : BitVec 32 := 7#32
  let v1921 : BitVec 32 := Scalar.andi v1920 c7_i32_1209
  let v1922 : BitVec 32 := Scalar.subi v1920 v1921
  let v1923 : BitVec 32 := v1922
  let v1924 : Index := Scalar.indexCast v1923
  let c0_1211 : Index := 0#32
  ![0, v1924.toNat, 0]

def k0_chk145 (v1920 : BitVec 32) : Prop :=
  (8 ∣ (k0_mult146 v1920).toNat) ∧
  (∀ a, (k0_off172 v1920) a + S1x8x1024.size a ≤ S1x4096x1024.size a)
theorem k0_mult146_dvd : ∀ (v1920 : BitVec 32) (k0_hw145 : k0_chk145 v1920), 8 ∣ (k0_mult146 v1920).toNat := fun v1920 k0_hw145 => k0_hw145.1
theorem k0_off172_inb : ∀ (v1920 : BitVec 32) (k0_hw145 : k0_chk145 v1920), ∀ a, (k0_off172 v1920) a + S1x8x1024.size a ≤ S1x4096x1024.size a := fun v1920 k0_hw145 => k0_hw145.2

def k0_mult147 (v1933 : BitVec 32) : BitVec 32 :=
  let c7_i32_1217 : BitVec 32 := 7#32
  let v1934 : BitVec 32 := Scalar.andi v1933 c7_i32_1217
  let v1935 : BitVec 32 := Scalar.subi v1933 v1934
  v1935

def k0_off173 (v1933 : BitVec 32) : Fin 3 → Nat :=
  let c0_1218 : Index := 0#32
  let c7_i32_1217 : BitVec 32 := 7#32
  let v1934 : BitVec 32 := Scalar.andi v1933 c7_i32_1217
  let v1935 : BitVec 32 := Scalar.subi v1933 v1934
  let v1936 : BitVec 32 := v1935
  let v1937 : Index := Scalar.indexCast v1936
  let c0_1219 : Index := 0#32
  ![0, v1937.toNat, 0]

def k0_chk146 (v1933 : BitVec 32) : Prop :=
  (8 ∣ (k0_mult147 v1933).toNat) ∧
  (∀ a, (k0_off173 v1933) a + S1x8x1024.size a ≤ S1x4096x1024.size a)
theorem k0_mult147_dvd : ∀ (v1933 : BitVec 32) (k0_hw146 : k0_chk146 v1933), 8 ∣ (k0_mult147 v1933).toNat := fun v1933 k0_hw146 => k0_hw146.1
theorem k0_off173_inb : ∀ (v1933 : BitVec 32) (k0_hw146 : k0_chk146 v1933), ∀ a, (k0_off173 v1933) a + S1x8x1024.size a ≤ S1x4096x1024.size a := fun v1933 k0_hw146 => k0_hw146.2

def k0_mult148 (v1946 : BitVec 32) : BitVec 32 :=
  let c7_i32_1225 : BitVec 32 := 7#32
  let v1947 : BitVec 32 := Scalar.andi v1946 c7_i32_1225
  let v1948 : BitVec 32 := Scalar.subi v1946 v1947
  v1948

def k0_off174 (v1946 : BitVec 32) : Fin 3 → Nat :=
  let c0_1226 : Index := 0#32
  let c7_i32_1225 : BitVec 32 := 7#32
  let v1947 : BitVec 32 := Scalar.andi v1946 c7_i32_1225
  let v1948 : BitVec 32 := Scalar.subi v1946 v1947
  let v1949 : BitVec 32 := v1948
  let v1950 : Index := Scalar.indexCast v1949
  let c0_1227 : Index := 0#32
  ![0, v1950.toNat, 0]

def k0_chk147 (v1946 : BitVec 32) : Prop :=
  (8 ∣ (k0_mult148 v1946).toNat) ∧
  (∀ a, (k0_off174 v1946) a + S1x8x1024.size a ≤ S1x4096x1024.size a)
theorem k0_mult148_dvd : ∀ (v1946 : BitVec 32) (k0_hw147 : k0_chk147 v1946), 8 ∣ (k0_mult148 v1946).toNat := fun v1946 k0_hw147 => k0_hw147.1
theorem k0_off174_inb : ∀ (v1946 : BitVec 32) (k0_hw147 : k0_chk147 v1946), ∀ a, (k0_off174 v1946) a + S1x8x1024.size a ≤ S1x4096x1024.size a := fun v1946 k0_hw147 => k0_hw147.2

def k0_mult149 (v1959 : BitVec 32) : BitVec 32 :=
  let c7_i32_1233 : BitVec 32 := 7#32
  let v1960 : BitVec 32 := Scalar.andi v1959 c7_i32_1233
  let v1961 : BitVec 32 := Scalar.subi v1959 v1960
  v1961

def k0_off175 (v1959 : BitVec 32) : Fin 3 → Nat :=
  let c0_1234 : Index := 0#32
  let c7_i32_1233 : BitVec 32 := 7#32
  let v1960 : BitVec 32 := Scalar.andi v1959 c7_i32_1233
  let v1961 : BitVec 32 := Scalar.subi v1959 v1960
  let v1962 : BitVec 32 := v1961
  let v1963 : Index := Scalar.indexCast v1962
  let c0_1235 : Index := 0#32
  ![0, v1963.toNat, 0]

def k0_chk148 (v1959 : BitVec 32) : Prop :=
  (8 ∣ (k0_mult149 v1959).toNat) ∧
  (∀ a, (k0_off175 v1959) a + S1x8x1024.size a ≤ S1x4096x1024.size a)
theorem k0_mult149_dvd : ∀ (v1959 : BitVec 32) (k0_hw148 : k0_chk148 v1959), 8 ∣ (k0_mult149 v1959).toNat := fun v1959 k0_hw148 => k0_hw148.1
theorem k0_off175_inb : ∀ (v1959 : BitVec 32) (k0_hw148 : k0_chk148 v1959), ∀ a, (k0_off175 v1959) a + S1x8x1024.size a ≤ S1x4096x1024.size a := fun v1959 k0_hw148 => k0_hw148.2

def k0_mult150 (v1972 : BitVec 32) : BitVec 32 :=
  let c7_i32_1241 : BitVec 32 := 7#32
  let v1973 : BitVec 32 := Scalar.andi v1972 c7_i32_1241
  let v1974 : BitVec 32 := Scalar.subi v1972 v1973
  v1974

def k0_off176 (v1972 : BitVec 32) : Fin 3 → Nat :=
  let c0_1242 : Index := 0#32
  let c7_i32_1241 : BitVec 32 := 7#32
  let v1973 : BitVec 32 := Scalar.andi v1972 c7_i32_1241
  let v1974 : BitVec 32 := Scalar.subi v1972 v1973
  let v1975 : BitVec 32 := v1974
  let v1976 : Index := Scalar.indexCast v1975
  let c0_1243 : Index := 0#32
  ![0, v1976.toNat, 0]

def k0_chk149 (v1972 : BitVec 32) : Prop :=
  (8 ∣ (k0_mult150 v1972).toNat) ∧
  (∀ a, (k0_off176 v1972) a + S1x8x1024.size a ≤ S1x4096x1024.size a)
theorem k0_mult150_dvd : ∀ (v1972 : BitVec 32) (k0_hw149 : k0_chk149 v1972), 8 ∣ (k0_mult150 v1972).toNat := fun v1972 k0_hw149 => k0_hw149.1
theorem k0_off176_inb : ∀ (v1972 : BitVec 32) (k0_hw149 : k0_chk149 v1972), ∀ a, (k0_off176 v1972) a + S1x8x1024.size a ≤ S1x4096x1024.size a := fun v1972 k0_hw149 => k0_hw149.2

def k0_mult151 (v1985 : BitVec 32) : BitVec 32 :=
  let c7_i32_1249 : BitVec 32 := 7#32
  let v1986 : BitVec 32 := Scalar.andi v1985 c7_i32_1249
  let v1987 : BitVec 32 := Scalar.subi v1985 v1986
  v1987

def k0_off177 (v1985 : BitVec 32) : Fin 3 → Nat :=
  let c0_1250 : Index := 0#32
  let c7_i32_1249 : BitVec 32 := 7#32
  let v1986 : BitVec 32 := Scalar.andi v1985 c7_i32_1249
  let v1987 : BitVec 32 := Scalar.subi v1985 v1986
  let v1988 : BitVec 32 := v1987
  let v1989 : Index := Scalar.indexCast v1988
  let c0_1251 : Index := 0#32
  ![0, v1989.toNat, 0]

def k0_chk150 (v1985 : BitVec 32) : Prop :=
  (8 ∣ (k0_mult151 v1985).toNat) ∧
  (∀ a, (k0_off177 v1985) a + S1x8x1024.size a ≤ S1x4096x1024.size a)
theorem k0_mult151_dvd : ∀ (v1985 : BitVec 32) (k0_hw150 : k0_chk150 v1985), 8 ∣ (k0_mult151 v1985).toNat := fun v1985 k0_hw150 => k0_hw150.1
theorem k0_off177_inb : ∀ (v1985 : BitVec 32) (k0_hw150 : k0_chk150 v1985), ∀ a, (k0_off177 v1985) a + S1x8x1024.size a ≤ S1x4096x1024.size a := fun v1985 k0_hw150 => k0_hw150.2

def k0_mult152 (v1998 : BitVec 32) : BitVec 32 :=
  let c7_i32_1257 : BitVec 32 := 7#32
  let v1999 : BitVec 32 := Scalar.andi v1998 c7_i32_1257
  let v2000 : BitVec 32 := Scalar.subi v1998 v1999
  v2000

def k0_off178 (v1998 : BitVec 32) : Fin 3 → Nat :=
  let c0_1258 : Index := 0#32
  let c7_i32_1257 : BitVec 32 := 7#32
  let v1999 : BitVec 32 := Scalar.andi v1998 c7_i32_1257
  let v2000 : BitVec 32 := Scalar.subi v1998 v1999
  let v2001 : BitVec 32 := v2000
  let v2002 : Index := Scalar.indexCast v2001
  let c0_1259 : Index := 0#32
  ![0, v2002.toNat, 0]

def k0_chk151 (v1998 : BitVec 32) : Prop :=
  (8 ∣ (k0_mult152 v1998).toNat) ∧
  (∀ a, (k0_off178 v1998) a + S1x8x1024.size a ≤ S1x4096x1024.size a)
theorem k0_mult152_dvd : ∀ (v1998 : BitVec 32) (k0_hw151 : k0_chk151 v1998), 8 ∣ (k0_mult152 v1998).toNat := fun v1998 k0_hw151 => k0_hw151.1
theorem k0_off178_inb : ∀ (v1998 : BitVec 32) (k0_hw151 : k0_chk151 v1998), ∀ a, (k0_off178 v1998) a + S1x8x1024.size a ≤ S1x4096x1024.size a := fun v1998 k0_hw151 => k0_hw151.2

def k0_mult153 (v2011 : BitVec 32) : BitVec 32 :=
  let c7_i32_1265 : BitVec 32 := 7#32
  let v2012 : BitVec 32 := Scalar.andi v2011 c7_i32_1265
  let v2013 : BitVec 32 := Scalar.subi v2011 v2012
  v2013

def k0_off179 (v2011 : BitVec 32) : Fin 3 → Nat :=
  let c0_1266 : Index := 0#32
  let c7_i32_1265 : BitVec 32 := 7#32
  let v2012 : BitVec 32 := Scalar.andi v2011 c7_i32_1265
  let v2013 : BitVec 32 := Scalar.subi v2011 v2012
  let v2014 : BitVec 32 := v2013
  let v2015 : Index := Scalar.indexCast v2014
  let c0_1267 : Index := 0#32
  ![0, v2015.toNat, 0]

def k0_chk152 (v2011 : BitVec 32) : Prop :=
  (8 ∣ (k0_mult153 v2011).toNat) ∧
  (∀ a, (k0_off179 v2011) a + S1x8x1024.size a ≤ S1x4096x1024.size a)
theorem k0_mult153_dvd : ∀ (v2011 : BitVec 32) (k0_hw152 : k0_chk152 v2011), 8 ∣ (k0_mult153 v2011).toNat := fun v2011 k0_hw152 => k0_hw152.1
theorem k0_off179_inb : ∀ (v2011 : BitVec 32) (k0_hw152 : k0_chk152 v2011), ∀ a, (k0_off179 v2011) a + S1x8x1024.size a ≤ S1x4096x1024.size a := fun v2011 k0_hw152 => k0_hw152.2

def k0_off180 (i : grid0.Coords) : Fin 3 → Nat :=
  let c1_i32_1205 : BitVec 32 := 1#32
  let arg1 : BitVec 32 := BitVec.ofNat 32 (i 1).val
  let c1_i32 : BitVec 32 := 1#32
  let v1 : BitVec 32 := Scalar.andi arg1 c1_i32
  let v1918 : BitVec 32 := Scalar.subi c1_i32_1205 v1
  let c0_i32_1271 : BitVec 32 := 0#32
  let c0_i32_1272 : BitVec 32 := 0#32
  ![v1918.toNat, 0, 0]
def k0_mult154 (v2031 : BitVec 32) : BitVec 32 :=
  let c7_i32_1279 : BitVec 32 := 7#32
  let v2032 : BitVec 32 := Scalar.andi v2031 c7_i32_1279
  let v2033 : BitVec 32 := Scalar.subi v2031 v2032
  v2033

def k0_off181 (v2031 : BitVec 32) : Fin 3 → Nat :=
  let c0_1280 : Index := 0#32
  let c7_i32_1279 : BitVec 32 := 7#32
  let v2032 : BitVec 32 := Scalar.andi v2031 c7_i32_1279
  let v2033 : BitVec 32 := Scalar.subi v2031 v2032
  let v2034 : BitVec 32 := v2033
  let v2035 : Index := Scalar.indexCast v2034
  let c0_1281 : Index := 0#32
  ![0, v2035.toNat, 0]

def k0_chk153 (v2031 : BitVec 32) : Prop :=
  (8 ∣ (k0_mult154 v2031).toNat) ∧
  (∀ a, (k0_off181 v2031) a + S1x8x1024.size a ≤ S1x4096x1024.size a)
theorem k0_mult154_dvd : ∀ (v2031 : BitVec 32) (k0_hw153 : k0_chk153 v2031), 8 ∣ (k0_mult154 v2031).toNat := fun v2031 k0_hw153 => k0_hw153.1
theorem k0_off181_inb : ∀ (v2031 : BitVec 32) (k0_hw153 : k0_chk153 v2031), ∀ a, (k0_off181 v2031) a + S1x8x1024.size a ≤ S1x4096x1024.size a := fun v2031 k0_hw153 => k0_hw153.2

def k0_mult155 (v2044 : BitVec 32) : BitVec 32 :=
  let c7_i32_1287 : BitVec 32 := 7#32
  let v2045 : BitVec 32 := Scalar.andi v2044 c7_i32_1287
  let v2046 : BitVec 32 := Scalar.subi v2044 v2045
  v2046

def k0_off182 (v2044 : BitVec 32) : Fin 3 → Nat :=
  let c0_1288 : Index := 0#32
  let c7_i32_1287 : BitVec 32 := 7#32
  let v2045 : BitVec 32 := Scalar.andi v2044 c7_i32_1287
  let v2046 : BitVec 32 := Scalar.subi v2044 v2045
  let v2047 : BitVec 32 := v2046
  let v2048 : Index := Scalar.indexCast v2047
  let c0_1289 : Index := 0#32
  ![0, v2048.toNat, 0]

def k0_chk154 (v2044 : BitVec 32) : Prop :=
  (8 ∣ (k0_mult155 v2044).toNat) ∧
  (∀ a, (k0_off182 v2044) a + S1x8x1024.size a ≤ S1x4096x1024.size a)
theorem k0_mult155_dvd : ∀ (v2044 : BitVec 32) (k0_hw154 : k0_chk154 v2044), 8 ∣ (k0_mult155 v2044).toNat := fun v2044 k0_hw154 => k0_hw154.1
theorem k0_off182_inb : ∀ (v2044 : BitVec 32) (k0_hw154 : k0_chk154 v2044), ∀ a, (k0_off182 v2044) a + S1x8x1024.size a ≤ S1x4096x1024.size a := fun v2044 k0_hw154 => k0_hw154.2

def k0_mult156 (v2057 : BitVec 32) : BitVec 32 :=
  let c7_i32_1295 : BitVec 32 := 7#32
  let v2058 : BitVec 32 := Scalar.andi v2057 c7_i32_1295
  let v2059 : BitVec 32 := Scalar.subi v2057 v2058
  v2059

def k0_off183 (v2057 : BitVec 32) : Fin 3 → Nat :=
  let c0_1296 : Index := 0#32
  let c7_i32_1295 : BitVec 32 := 7#32
  let v2058 : BitVec 32 := Scalar.andi v2057 c7_i32_1295
  let v2059 : BitVec 32 := Scalar.subi v2057 v2058
  let v2060 : BitVec 32 := v2059
  let v2061 : Index := Scalar.indexCast v2060
  let c0_1297 : Index := 0#32
  ![0, v2061.toNat, 0]

def k0_chk155 (v2057 : BitVec 32) : Prop :=
  (8 ∣ (k0_mult156 v2057).toNat) ∧
  (∀ a, (k0_off183 v2057) a + S1x8x1024.size a ≤ S1x4096x1024.size a)
theorem k0_mult156_dvd : ∀ (v2057 : BitVec 32) (k0_hw155 : k0_chk155 v2057), 8 ∣ (k0_mult156 v2057).toNat := fun v2057 k0_hw155 => k0_hw155.1
theorem k0_off183_inb : ∀ (v2057 : BitVec 32) (k0_hw155 : k0_chk155 v2057), ∀ a, (k0_off183 v2057) a + S1x8x1024.size a ≤ S1x4096x1024.size a := fun v2057 k0_hw155 => k0_hw155.2

def k0_mult157 (v2070 : BitVec 32) : BitVec 32 :=
  let c7_i32_1303 : BitVec 32 := 7#32
  let v2071 : BitVec 32 := Scalar.andi v2070 c7_i32_1303
  let v2072 : BitVec 32 := Scalar.subi v2070 v2071
  v2072

def k0_off184 (v2070 : BitVec 32) : Fin 3 → Nat :=
  let c0_1304 : Index := 0#32
  let c7_i32_1303 : BitVec 32 := 7#32
  let v2071 : BitVec 32 := Scalar.andi v2070 c7_i32_1303
  let v2072 : BitVec 32 := Scalar.subi v2070 v2071
  let v2073 : BitVec 32 := v2072
  let v2074 : Index := Scalar.indexCast v2073
  let c0_1305 : Index := 0#32
  ![0, v2074.toNat, 0]

def k0_chk156 (v2070 : BitVec 32) : Prop :=
  (8 ∣ (k0_mult157 v2070).toNat) ∧
  (∀ a, (k0_off184 v2070) a + S1x8x1024.size a ≤ S1x4096x1024.size a)
theorem k0_mult157_dvd : ∀ (v2070 : BitVec 32) (k0_hw156 : k0_chk156 v2070), 8 ∣ (k0_mult157 v2070).toNat := fun v2070 k0_hw156 => k0_hw156.1
theorem k0_off184_inb : ∀ (v2070 : BitVec 32) (k0_hw156 : k0_chk156 v2070), ∀ a, (k0_off184 v2070) a + S1x8x1024.size a ≤ S1x4096x1024.size a := fun v2070 k0_hw156 => k0_hw156.2

def k0_mult158 (v2083 : BitVec 32) : BitVec 32 :=
  let c7_i32_1311 : BitVec 32 := 7#32
  let v2084 : BitVec 32 := Scalar.andi v2083 c7_i32_1311
  let v2085 : BitVec 32 := Scalar.subi v2083 v2084
  v2085

def k0_off185 (v2083 : BitVec 32) : Fin 3 → Nat :=
  let c0_1312 : Index := 0#32
  let c7_i32_1311 : BitVec 32 := 7#32
  let v2084 : BitVec 32 := Scalar.andi v2083 c7_i32_1311
  let v2085 : BitVec 32 := Scalar.subi v2083 v2084
  let v2086 : BitVec 32 := v2085
  let v2087 : Index := Scalar.indexCast v2086
  let c0_1313 : Index := 0#32
  ![0, v2087.toNat, 0]

def k0_chk157 (v2083 : BitVec 32) : Prop :=
  (8 ∣ (k0_mult158 v2083).toNat) ∧
  (∀ a, (k0_off185 v2083) a + S1x8x1024.size a ≤ S1x4096x1024.size a)
theorem k0_mult158_dvd : ∀ (v2083 : BitVec 32) (k0_hw157 : k0_chk157 v2083), 8 ∣ (k0_mult158 v2083).toNat := fun v2083 k0_hw157 => k0_hw157.1
theorem k0_off185_inb : ∀ (v2083 : BitVec 32) (k0_hw157 : k0_chk157 v2083), ∀ a, (k0_off185 v2083) a + S1x8x1024.size a ≤ S1x4096x1024.size a := fun v2083 k0_hw157 => k0_hw157.2

def k0_mult159 (v2096 : BitVec 32) : BitVec 32 :=
  let c7_i32_1319 : BitVec 32 := 7#32
  let v2097 : BitVec 32 := Scalar.andi v2096 c7_i32_1319
  let v2098 : BitVec 32 := Scalar.subi v2096 v2097
  v2098

def k0_off186 (v2096 : BitVec 32) : Fin 3 → Nat :=
  let c0_1320 : Index := 0#32
  let c7_i32_1319 : BitVec 32 := 7#32
  let v2097 : BitVec 32 := Scalar.andi v2096 c7_i32_1319
  let v2098 : BitVec 32 := Scalar.subi v2096 v2097
  let v2099 : BitVec 32 := v2098
  let v2100 : Index := Scalar.indexCast v2099
  let c0_1321 : Index := 0#32
  ![0, v2100.toNat, 0]

def k0_chk158 (v2096 : BitVec 32) : Prop :=
  (8 ∣ (k0_mult159 v2096).toNat) ∧
  (∀ a, (k0_off186 v2096) a + S1x8x1024.size a ≤ S1x4096x1024.size a)
theorem k0_mult159_dvd : ∀ (v2096 : BitVec 32) (k0_hw158 : k0_chk158 v2096), 8 ∣ (k0_mult159 v2096).toNat := fun v2096 k0_hw158 => k0_hw158.1
theorem k0_off186_inb : ∀ (v2096 : BitVec 32) (k0_hw158 : k0_chk158 v2096), ∀ a, (k0_off186 v2096) a + S1x8x1024.size a ≤ S1x4096x1024.size a := fun v2096 k0_hw158 => k0_hw158.2

def k0_mult160 (v2109 : BitVec 32) : BitVec 32 :=
  let c7_i32_1327 : BitVec 32 := 7#32
  let v2110 : BitVec 32 := Scalar.andi v2109 c7_i32_1327
  let v2111 : BitVec 32 := Scalar.subi v2109 v2110
  v2111

def k0_off187 (v2109 : BitVec 32) : Fin 3 → Nat :=
  let c0_1328 : Index := 0#32
  let c7_i32_1327 : BitVec 32 := 7#32
  let v2110 : BitVec 32 := Scalar.andi v2109 c7_i32_1327
  let v2111 : BitVec 32 := Scalar.subi v2109 v2110
  let v2112 : BitVec 32 := v2111
  let v2113 : Index := Scalar.indexCast v2112
  let c0_1329 : Index := 0#32
  ![0, v2113.toNat, 0]

def k0_chk159 (v2109 : BitVec 32) : Prop :=
  (8 ∣ (k0_mult160 v2109).toNat) ∧
  (∀ a, (k0_off187 v2109) a + S1x8x1024.size a ≤ S1x4096x1024.size a)
theorem k0_mult160_dvd : ∀ (v2109 : BitVec 32) (k0_hw159 : k0_chk159 v2109), 8 ∣ (k0_mult160 v2109).toNat := fun v2109 k0_hw159 => k0_hw159.1
theorem k0_off187_inb : ∀ (v2109 : BitVec 32) (k0_hw159 : k0_chk159 v2109), ∀ a, (k0_off187 v2109) a + S1x8x1024.size a ≤ S1x4096x1024.size a := fun v2109 k0_hw159 => k0_hw159.2

def k0_mult161 (v2122 : BitVec 32) : BitVec 32 :=
  let c7_i32_1335 : BitVec 32 := 7#32
  let v2123 : BitVec 32 := Scalar.andi v2122 c7_i32_1335
  let v2124 : BitVec 32 := Scalar.subi v2122 v2123
  v2124

def k0_off188 (v2122 : BitVec 32) : Fin 3 → Nat :=
  let c0_1336 : Index := 0#32
  let c7_i32_1335 : BitVec 32 := 7#32
  let v2123 : BitVec 32 := Scalar.andi v2122 c7_i32_1335
  let v2124 : BitVec 32 := Scalar.subi v2122 v2123
  let v2125 : BitVec 32 := v2124
  let v2126 : Index := Scalar.indexCast v2125
  let c0_1337 : Index := 0#32
  ![0, v2126.toNat, 0]

def k0_chk160 (v2122 : BitVec 32) : Prop :=
  (8 ∣ (k0_mult161 v2122).toNat) ∧
  (∀ a, (k0_off188 v2122) a + S1x8x1024.size a ≤ S1x4096x1024.size a)
theorem k0_mult161_dvd : ∀ (v2122 : BitVec 32) (k0_hw160 : k0_chk160 v2122), 8 ∣ (k0_mult161 v2122).toNat := fun v2122 k0_hw160 => k0_hw160.1
theorem k0_off188_inb : ∀ (v2122 : BitVec 32) (k0_hw160 : k0_chk160 v2122), ∀ a, (k0_off188 v2122) a + S1x8x1024.size a ≤ S1x4096x1024.size a := fun v2122 k0_hw160 => k0_hw160.2

def k0_off189 (i : grid0.Coords) : Fin 3 → Nat :=
  let c1_i32_1275 : BitVec 32 := 1#32
  let arg1 : BitVec 32 := BitVec.ofNat 32 (i 1).val
  let c1_i32 : BitVec 32 := 1#32
  let v1 : BitVec 32 := Scalar.andi arg1 c1_i32
  let v2029 : BitVec 32 := Scalar.subi c1_i32_1275 v1
  let c0_i32_1341 : BitVec 32 := 0#32
  let c0_i32_1342 : BitVec 32 := 0#32
  ![v2029.toNat, 0, 0]
def k0_mult162 (v2142 : BitVec 32) : BitVec 32 :=
  let c7_i32_1349 : BitVec 32 := 7#32
  let v2143 : BitVec 32 := Scalar.andi v2142 c7_i32_1349
  let v2144 : BitVec 32 := Scalar.subi v2142 v2143
  v2144

def k0_off190 (v2142 : BitVec 32) : Fin 3 → Nat :=
  let c0_1350 : Index := 0#32
  let c7_i32_1349 : BitVec 32 := 7#32
  let v2143 : BitVec 32 := Scalar.andi v2142 c7_i32_1349
  let v2144 : BitVec 32 := Scalar.subi v2142 v2143
  let v2145 : BitVec 32 := v2144
  let v2146 : Index := Scalar.indexCast v2145
  let c0_1351 : Index := 0#32
  ![0, v2146.toNat, 0]

def k0_chk161 (v2142 : BitVec 32) : Prop :=
  (8 ∣ (k0_mult162 v2142).toNat) ∧
  (∀ a, (k0_off190 v2142) a + S1x8x1024.size a ≤ S1x4096x1024.size a)
theorem k0_mult162_dvd : ∀ (v2142 : BitVec 32) (k0_hw161 : k0_chk161 v2142), 8 ∣ (k0_mult162 v2142).toNat := fun v2142 k0_hw161 => k0_hw161.1
theorem k0_off190_inb : ∀ (v2142 : BitVec 32) (k0_hw161 : k0_chk161 v2142), ∀ a, (k0_off190 v2142) a + S1x8x1024.size a ≤ S1x4096x1024.size a := fun v2142 k0_hw161 => k0_hw161.2

def k0_mult163 (v2155 : BitVec 32) : BitVec 32 :=
  let c7_i32_1357 : BitVec 32 := 7#32
  let v2156 : BitVec 32 := Scalar.andi v2155 c7_i32_1357
  let v2157 : BitVec 32 := Scalar.subi v2155 v2156
  v2157

def k0_off191 (v2155 : BitVec 32) : Fin 3 → Nat :=
  let c0_1358 : Index := 0#32
  let c7_i32_1357 : BitVec 32 := 7#32
  let v2156 : BitVec 32 := Scalar.andi v2155 c7_i32_1357
  let v2157 : BitVec 32 := Scalar.subi v2155 v2156
  let v2158 : BitVec 32 := v2157
  let v2159 : Index := Scalar.indexCast v2158
  let c0_1359 : Index := 0#32
  ![0, v2159.toNat, 0]

def k0_chk162 (v2155 : BitVec 32) : Prop :=
  (8 ∣ (k0_mult163 v2155).toNat) ∧
  (∀ a, (k0_off191 v2155) a + S1x8x1024.size a ≤ S1x4096x1024.size a)
theorem k0_mult163_dvd : ∀ (v2155 : BitVec 32) (k0_hw162 : k0_chk162 v2155), 8 ∣ (k0_mult163 v2155).toNat := fun v2155 k0_hw162 => k0_hw162.1
theorem k0_off191_inb : ∀ (v2155 : BitVec 32) (k0_hw162 : k0_chk162 v2155), ∀ a, (k0_off191 v2155) a + S1x8x1024.size a ≤ S1x4096x1024.size a := fun v2155 k0_hw162 => k0_hw162.2

def k0_mult164 (v2168 : BitVec 32) : BitVec 32 :=
  let c7_i32_1365 : BitVec 32 := 7#32
  let v2169 : BitVec 32 := Scalar.andi v2168 c7_i32_1365
  let v2170 : BitVec 32 := Scalar.subi v2168 v2169
  v2170

def k0_off192 (v2168 : BitVec 32) : Fin 3 → Nat :=
  let c0_1366 : Index := 0#32
  let c7_i32_1365 : BitVec 32 := 7#32
  let v2169 : BitVec 32 := Scalar.andi v2168 c7_i32_1365
  let v2170 : BitVec 32 := Scalar.subi v2168 v2169
  let v2171 : BitVec 32 := v2170
  let v2172 : Index := Scalar.indexCast v2171
  let c0_1367 : Index := 0#32
  ![0, v2172.toNat, 0]

def k0_chk163 (v2168 : BitVec 32) : Prop :=
  (8 ∣ (k0_mult164 v2168).toNat) ∧
  (∀ a, (k0_off192 v2168) a + S1x8x1024.size a ≤ S1x4096x1024.size a)
theorem k0_mult164_dvd : ∀ (v2168 : BitVec 32) (k0_hw163 : k0_chk163 v2168), 8 ∣ (k0_mult164 v2168).toNat := fun v2168 k0_hw163 => k0_hw163.1
theorem k0_off192_inb : ∀ (v2168 : BitVec 32) (k0_hw163 : k0_chk163 v2168), ∀ a, (k0_off192 v2168) a + S1x8x1024.size a ≤ S1x4096x1024.size a := fun v2168 k0_hw163 => k0_hw163.2

def k0_mult165 (v2181 : BitVec 32) : BitVec 32 :=
  let c7_i32_1373 : BitVec 32 := 7#32
  let v2182 : BitVec 32 := Scalar.andi v2181 c7_i32_1373
  let v2183 : BitVec 32 := Scalar.subi v2181 v2182
  v2183

def k0_off193 (v2181 : BitVec 32) : Fin 3 → Nat :=
  let c0_1374 : Index := 0#32
  let c7_i32_1373 : BitVec 32 := 7#32
  let v2182 : BitVec 32 := Scalar.andi v2181 c7_i32_1373
  let v2183 : BitVec 32 := Scalar.subi v2181 v2182
  let v2184 : BitVec 32 := v2183
  let v2185 : Index := Scalar.indexCast v2184
  let c0_1375 : Index := 0#32
  ![0, v2185.toNat, 0]

def k0_chk164 (v2181 : BitVec 32) : Prop :=
  (8 ∣ (k0_mult165 v2181).toNat) ∧
  (∀ a, (k0_off193 v2181) a + S1x8x1024.size a ≤ S1x4096x1024.size a)
theorem k0_mult165_dvd : ∀ (v2181 : BitVec 32) (k0_hw164 : k0_chk164 v2181), 8 ∣ (k0_mult165 v2181).toNat := fun v2181 k0_hw164 => k0_hw164.1
theorem k0_off193_inb : ∀ (v2181 : BitVec 32) (k0_hw164 : k0_chk164 v2181), ∀ a, (k0_off193 v2181) a + S1x8x1024.size a ≤ S1x4096x1024.size a := fun v2181 k0_hw164 => k0_hw164.2

def k0_mult166 (v2194 : BitVec 32) : BitVec 32 :=
  let c7_i32_1381 : BitVec 32 := 7#32
  let v2195 : BitVec 32 := Scalar.andi v2194 c7_i32_1381
  let v2196 : BitVec 32 := Scalar.subi v2194 v2195
  v2196

def k0_off194 (v2194 : BitVec 32) : Fin 3 → Nat :=
  let c0_1382 : Index := 0#32
  let c7_i32_1381 : BitVec 32 := 7#32
  let v2195 : BitVec 32 := Scalar.andi v2194 c7_i32_1381
  let v2196 : BitVec 32 := Scalar.subi v2194 v2195
  let v2197 : BitVec 32 := v2196
  let v2198 : Index := Scalar.indexCast v2197
  let c0_1383 : Index := 0#32
  ![0, v2198.toNat, 0]

def k0_chk165 (v2194 : BitVec 32) : Prop :=
  (8 ∣ (k0_mult166 v2194).toNat) ∧
  (∀ a, (k0_off194 v2194) a + S1x8x1024.size a ≤ S1x4096x1024.size a)
theorem k0_mult166_dvd : ∀ (v2194 : BitVec 32) (k0_hw165 : k0_chk165 v2194), 8 ∣ (k0_mult166 v2194).toNat := fun v2194 k0_hw165 => k0_hw165.1
theorem k0_off194_inb : ∀ (v2194 : BitVec 32) (k0_hw165 : k0_chk165 v2194), ∀ a, (k0_off194 v2194) a + S1x8x1024.size a ≤ S1x4096x1024.size a := fun v2194 k0_hw165 => k0_hw165.2

def k0_mult167 (v2207 : BitVec 32) : BitVec 32 :=
  let c7_i32_1389 : BitVec 32 := 7#32
  let v2208 : BitVec 32 := Scalar.andi v2207 c7_i32_1389
  let v2209 : BitVec 32 := Scalar.subi v2207 v2208
  v2209

def k0_off195 (v2207 : BitVec 32) : Fin 3 → Nat :=
  let c0_1390 : Index := 0#32
  let c7_i32_1389 : BitVec 32 := 7#32
  let v2208 : BitVec 32 := Scalar.andi v2207 c7_i32_1389
  let v2209 : BitVec 32 := Scalar.subi v2207 v2208
  let v2210 : BitVec 32 := v2209
  let v2211 : Index := Scalar.indexCast v2210
  let c0_1391 : Index := 0#32
  ![0, v2211.toNat, 0]

def k0_chk166 (v2207 : BitVec 32) : Prop :=
  (8 ∣ (k0_mult167 v2207).toNat) ∧
  (∀ a, (k0_off195 v2207) a + S1x8x1024.size a ≤ S1x4096x1024.size a)
theorem k0_mult167_dvd : ∀ (v2207 : BitVec 32) (k0_hw166 : k0_chk166 v2207), 8 ∣ (k0_mult167 v2207).toNat := fun v2207 k0_hw166 => k0_hw166.1
theorem k0_off195_inb : ∀ (v2207 : BitVec 32) (k0_hw166 : k0_chk166 v2207), ∀ a, (k0_off195 v2207) a + S1x8x1024.size a ≤ S1x4096x1024.size a := fun v2207 k0_hw166 => k0_hw166.2

def k0_mult168 (v2220 : BitVec 32) : BitVec 32 :=
  let c7_i32_1397 : BitVec 32 := 7#32
  let v2221 : BitVec 32 := Scalar.andi v2220 c7_i32_1397
  let v2222 : BitVec 32 := Scalar.subi v2220 v2221
  v2222

def k0_off196 (v2220 : BitVec 32) : Fin 3 → Nat :=
  let c0_1398 : Index := 0#32
  let c7_i32_1397 : BitVec 32 := 7#32
  let v2221 : BitVec 32 := Scalar.andi v2220 c7_i32_1397
  let v2222 : BitVec 32 := Scalar.subi v2220 v2221
  let v2223 : BitVec 32 := v2222
  let v2224 : Index := Scalar.indexCast v2223
  let c0_1399 : Index := 0#32
  ![0, v2224.toNat, 0]

def k0_chk167 (v2220 : BitVec 32) : Prop :=
  (8 ∣ (k0_mult168 v2220).toNat) ∧
  (∀ a, (k0_off196 v2220) a + S1x8x1024.size a ≤ S1x4096x1024.size a)
theorem k0_mult168_dvd : ∀ (v2220 : BitVec 32) (k0_hw167 : k0_chk167 v2220), 8 ∣ (k0_mult168 v2220).toNat := fun v2220 k0_hw167 => k0_hw167.1
theorem k0_off196_inb : ∀ (v2220 : BitVec 32) (k0_hw167 : k0_chk167 v2220), ∀ a, (k0_off196 v2220) a + S1x8x1024.size a ≤ S1x4096x1024.size a := fun v2220 k0_hw167 => k0_hw167.2

def k0_mult169 (v2233 : BitVec 32) : BitVec 32 :=
  let c7_i32_1405 : BitVec 32 := 7#32
  let v2234 : BitVec 32 := Scalar.andi v2233 c7_i32_1405
  let v2235 : BitVec 32 := Scalar.subi v2233 v2234
  v2235

def k0_off197 (v2233 : BitVec 32) : Fin 3 → Nat :=
  let c0_1406 : Index := 0#32
  let c7_i32_1405 : BitVec 32 := 7#32
  let v2234 : BitVec 32 := Scalar.andi v2233 c7_i32_1405
  let v2235 : BitVec 32 := Scalar.subi v2233 v2234
  let v2236 : BitVec 32 := v2235
  let v2237 : Index := Scalar.indexCast v2236
  let c0_1407 : Index := 0#32
  ![0, v2237.toNat, 0]

def k0_chk168 (v2233 : BitVec 32) : Prop :=
  (8 ∣ (k0_mult169 v2233).toNat) ∧
  (∀ a, (k0_off197 v2233) a + S1x8x1024.size a ≤ S1x4096x1024.size a)
theorem k0_mult169_dvd : ∀ (v2233 : BitVec 32) (k0_hw168 : k0_chk168 v2233), 8 ∣ (k0_mult169 v2233).toNat := fun v2233 k0_hw168 => k0_hw168.1
theorem k0_off197_inb : ∀ (v2233 : BitVec 32) (k0_hw168 : k0_chk168 v2233), ∀ a, (k0_off197 v2233) a + S1x8x1024.size a ≤ S1x4096x1024.size a := fun v2233 k0_hw168 => k0_hw168.2

def k0_off198 (i : grid0.Coords) : Fin 3 → Nat :=
  let c1_i32_1345 : BitVec 32 := 1#32
  let arg1 : BitVec 32 := BitVec.ofNat 32 (i 1).val
  let c1_i32 : BitVec 32 := 1#32
  let v1 : BitVec 32 := Scalar.andi arg1 c1_i32
  let v2140 : BitVec 32 := Scalar.subi c1_i32_1345 v1
  let c0_i32_1411 : BitVec 32 := 0#32
  let c0_i32_1412 : BitVec 32 := 0#32
  ![v2140.toNat, 0, 0]
def k0_mult170 (v2253 : BitVec 32) : BitVec 32 :=
  let c7_i32_1419 : BitVec 32 := 7#32
  let v2254 : BitVec 32 := Scalar.andi v2253 c7_i32_1419
  let v2255 : BitVec 32 := Scalar.subi v2253 v2254
  v2255

def k0_off199 (v2253 : BitVec 32) : Fin 3 → Nat :=
  let c0_1420 : Index := 0#32
  let c7_i32_1419 : BitVec 32 := 7#32
  let v2254 : BitVec 32 := Scalar.andi v2253 c7_i32_1419
  let v2255 : BitVec 32 := Scalar.subi v2253 v2254
  let v2256 : BitVec 32 := v2255
  let v2257 : Index := Scalar.indexCast v2256
  let c0_1421 : Index := 0#32
  ![0, v2257.toNat, 0]

def k0_chk169 (v2253 : BitVec 32) : Prop :=
  (8 ∣ (k0_mult170 v2253).toNat) ∧
  (∀ a, (k0_off199 v2253) a + S1x8x1024.size a ≤ S1x4096x1024.size a)
theorem k0_mult170_dvd : ∀ (v2253 : BitVec 32) (k0_hw169 : k0_chk169 v2253), 8 ∣ (k0_mult170 v2253).toNat := fun v2253 k0_hw169 => k0_hw169.1
theorem k0_off199_inb : ∀ (v2253 : BitVec 32) (k0_hw169 : k0_chk169 v2253), ∀ a, (k0_off199 v2253) a + S1x8x1024.size a ≤ S1x4096x1024.size a := fun v2253 k0_hw169 => k0_hw169.2

def k0_mult171 (v2266 : BitVec 32) : BitVec 32 :=
  let c7_i32_1427 : BitVec 32 := 7#32
  let v2267 : BitVec 32 := Scalar.andi v2266 c7_i32_1427
  let v2268 : BitVec 32 := Scalar.subi v2266 v2267
  v2268

def k0_off200 (v2266 : BitVec 32) : Fin 3 → Nat :=
  let c0_1428 : Index := 0#32
  let c7_i32_1427 : BitVec 32 := 7#32
  let v2267 : BitVec 32 := Scalar.andi v2266 c7_i32_1427
  let v2268 : BitVec 32 := Scalar.subi v2266 v2267
  let v2269 : BitVec 32 := v2268
  let v2270 : Index := Scalar.indexCast v2269
  let c0_1429 : Index := 0#32
  ![0, v2270.toNat, 0]

def k0_chk170 (v2266 : BitVec 32) : Prop :=
  (8 ∣ (k0_mult171 v2266).toNat) ∧
  (∀ a, (k0_off200 v2266) a + S1x8x1024.size a ≤ S1x4096x1024.size a)
theorem k0_mult171_dvd : ∀ (v2266 : BitVec 32) (k0_hw170 : k0_chk170 v2266), 8 ∣ (k0_mult171 v2266).toNat := fun v2266 k0_hw170 => k0_hw170.1
theorem k0_off200_inb : ∀ (v2266 : BitVec 32) (k0_hw170 : k0_chk170 v2266), ∀ a, (k0_off200 v2266) a + S1x8x1024.size a ≤ S1x4096x1024.size a := fun v2266 k0_hw170 => k0_hw170.2

def k0_mult172 (v2279 : BitVec 32) : BitVec 32 :=
  let c7_i32_1435 : BitVec 32 := 7#32
  let v2280 : BitVec 32 := Scalar.andi v2279 c7_i32_1435
  let v2281 : BitVec 32 := Scalar.subi v2279 v2280
  v2281

def k0_off201 (v2279 : BitVec 32) : Fin 3 → Nat :=
  let c0_1436 : Index := 0#32
  let c7_i32_1435 : BitVec 32 := 7#32
  let v2280 : BitVec 32 := Scalar.andi v2279 c7_i32_1435
  let v2281 : BitVec 32 := Scalar.subi v2279 v2280
  let v2282 : BitVec 32 := v2281
  let v2283 : Index := Scalar.indexCast v2282
  let c0_1437 : Index := 0#32
  ![0, v2283.toNat, 0]

def k0_chk171 (v2279 : BitVec 32) : Prop :=
  (8 ∣ (k0_mult172 v2279).toNat) ∧
  (∀ a, (k0_off201 v2279) a + S1x8x1024.size a ≤ S1x4096x1024.size a)
theorem k0_mult172_dvd : ∀ (v2279 : BitVec 32) (k0_hw171 : k0_chk171 v2279), 8 ∣ (k0_mult172 v2279).toNat := fun v2279 k0_hw171 => k0_hw171.1
theorem k0_off201_inb : ∀ (v2279 : BitVec 32) (k0_hw171 : k0_chk171 v2279), ∀ a, (k0_off201 v2279) a + S1x8x1024.size a ≤ S1x4096x1024.size a := fun v2279 k0_hw171 => k0_hw171.2

def k0_mult173 (v2292 : BitVec 32) : BitVec 32 :=
  let c7_i32_1443 : BitVec 32 := 7#32
  let v2293 : BitVec 32 := Scalar.andi v2292 c7_i32_1443
  let v2294 : BitVec 32 := Scalar.subi v2292 v2293
  v2294

def k0_off202 (v2292 : BitVec 32) : Fin 3 → Nat :=
  let c0_1444 : Index := 0#32
  let c7_i32_1443 : BitVec 32 := 7#32
  let v2293 : BitVec 32 := Scalar.andi v2292 c7_i32_1443
  let v2294 : BitVec 32 := Scalar.subi v2292 v2293
  let v2295 : BitVec 32 := v2294
  let v2296 : Index := Scalar.indexCast v2295
  let c0_1445 : Index := 0#32
  ![0, v2296.toNat, 0]

def k0_chk172 (v2292 : BitVec 32) : Prop :=
  (8 ∣ (k0_mult173 v2292).toNat) ∧
  (∀ a, (k0_off202 v2292) a + S1x8x1024.size a ≤ S1x4096x1024.size a)
theorem k0_mult173_dvd : ∀ (v2292 : BitVec 32) (k0_hw172 : k0_chk172 v2292), 8 ∣ (k0_mult173 v2292).toNat := fun v2292 k0_hw172 => k0_hw172.1
theorem k0_off202_inb : ∀ (v2292 : BitVec 32) (k0_hw172 : k0_chk172 v2292), ∀ a, (k0_off202 v2292) a + S1x8x1024.size a ≤ S1x4096x1024.size a := fun v2292 k0_hw172 => k0_hw172.2

def k0_mult174 (v2305 : BitVec 32) : BitVec 32 :=
  let c7_i32_1451 : BitVec 32 := 7#32
  let v2306 : BitVec 32 := Scalar.andi v2305 c7_i32_1451
  let v2307 : BitVec 32 := Scalar.subi v2305 v2306
  v2307

def k0_off203 (v2305 : BitVec 32) : Fin 3 → Nat :=
  let c0_1452 : Index := 0#32
  let c7_i32_1451 : BitVec 32 := 7#32
  let v2306 : BitVec 32 := Scalar.andi v2305 c7_i32_1451
  let v2307 : BitVec 32 := Scalar.subi v2305 v2306
  let v2308 : BitVec 32 := v2307
  let v2309 : Index := Scalar.indexCast v2308
  let c0_1453 : Index := 0#32
  ![0, v2309.toNat, 0]

def k0_chk173 (v2305 : BitVec 32) : Prop :=
  (8 ∣ (k0_mult174 v2305).toNat) ∧
  (∀ a, (k0_off203 v2305) a + S1x8x1024.size a ≤ S1x4096x1024.size a)
theorem k0_mult174_dvd : ∀ (v2305 : BitVec 32) (k0_hw173 : k0_chk173 v2305), 8 ∣ (k0_mult174 v2305).toNat := fun v2305 k0_hw173 => k0_hw173.1
theorem k0_off203_inb : ∀ (v2305 : BitVec 32) (k0_hw173 : k0_chk173 v2305), ∀ a, (k0_off203 v2305) a + S1x8x1024.size a ≤ S1x4096x1024.size a := fun v2305 k0_hw173 => k0_hw173.2

def k0_mult175 (v2318 : BitVec 32) : BitVec 32 :=
  let c7_i32_1459 : BitVec 32 := 7#32
  let v2319 : BitVec 32 := Scalar.andi v2318 c7_i32_1459
  let v2320 : BitVec 32 := Scalar.subi v2318 v2319
  v2320

def k0_off204 (v2318 : BitVec 32) : Fin 3 → Nat :=
  let c0_1460 : Index := 0#32
  let c7_i32_1459 : BitVec 32 := 7#32
  let v2319 : BitVec 32 := Scalar.andi v2318 c7_i32_1459
  let v2320 : BitVec 32 := Scalar.subi v2318 v2319
  let v2321 : BitVec 32 := v2320
  let v2322 : Index := Scalar.indexCast v2321
  let c0_1461 : Index := 0#32
  ![0, v2322.toNat, 0]

def k0_chk174 (v2318 : BitVec 32) : Prop :=
  (8 ∣ (k0_mult175 v2318).toNat) ∧
  (∀ a, (k0_off204 v2318) a + S1x8x1024.size a ≤ S1x4096x1024.size a)
theorem k0_mult175_dvd : ∀ (v2318 : BitVec 32) (k0_hw174 : k0_chk174 v2318), 8 ∣ (k0_mult175 v2318).toNat := fun v2318 k0_hw174 => k0_hw174.1
theorem k0_off204_inb : ∀ (v2318 : BitVec 32) (k0_hw174 : k0_chk174 v2318), ∀ a, (k0_off204 v2318) a + S1x8x1024.size a ≤ S1x4096x1024.size a := fun v2318 k0_hw174 => k0_hw174.2

def k0_mult176 (v2331 : BitVec 32) : BitVec 32 :=
  let c7_i32_1467 : BitVec 32 := 7#32
  let v2332 : BitVec 32 := Scalar.andi v2331 c7_i32_1467
  let v2333 : BitVec 32 := Scalar.subi v2331 v2332
  v2333

def k0_off205 (v2331 : BitVec 32) : Fin 3 → Nat :=
  let c0_1468 : Index := 0#32
  let c7_i32_1467 : BitVec 32 := 7#32
  let v2332 : BitVec 32 := Scalar.andi v2331 c7_i32_1467
  let v2333 : BitVec 32 := Scalar.subi v2331 v2332
  let v2334 : BitVec 32 := v2333
  let v2335 : Index := Scalar.indexCast v2334
  let c0_1469 : Index := 0#32
  ![0, v2335.toNat, 0]

def k0_chk175 (v2331 : BitVec 32) : Prop :=
  (8 ∣ (k0_mult176 v2331).toNat) ∧
  (∀ a, (k0_off205 v2331) a + S1x8x1024.size a ≤ S1x4096x1024.size a)
theorem k0_mult176_dvd : ∀ (v2331 : BitVec 32) (k0_hw175 : k0_chk175 v2331), 8 ∣ (k0_mult176 v2331).toNat := fun v2331 k0_hw175 => k0_hw175.1
theorem k0_off205_inb : ∀ (v2331 : BitVec 32) (k0_hw175 : k0_chk175 v2331), ∀ a, (k0_off205 v2331) a + S1x8x1024.size a ≤ S1x4096x1024.size a := fun v2331 k0_hw175 => k0_hw175.2

def k0_mult177 (v2344 : BitVec 32) : BitVec 32 :=
  let c7_i32_1475 : BitVec 32 := 7#32
  let v2345 : BitVec 32 := Scalar.andi v2344 c7_i32_1475
  let v2346 : BitVec 32 := Scalar.subi v2344 v2345
  v2346

def k0_off206 (v2344 : BitVec 32) : Fin 3 → Nat :=
  let c0_1476 : Index := 0#32
  let c7_i32_1475 : BitVec 32 := 7#32
  let v2345 : BitVec 32 := Scalar.andi v2344 c7_i32_1475
  let v2346 : BitVec 32 := Scalar.subi v2344 v2345
  let v2347 : BitVec 32 := v2346
  let v2348 : Index := Scalar.indexCast v2347
  let c0_1477 : Index := 0#32
  ![0, v2348.toNat, 0]

def k0_chk176 (v2344 : BitVec 32) : Prop :=
  (8 ∣ (k0_mult177 v2344).toNat) ∧
  (∀ a, (k0_off206 v2344) a + S1x8x1024.size a ≤ S1x4096x1024.size a)
theorem k0_mult177_dvd : ∀ (v2344 : BitVec 32) (k0_hw176 : k0_chk176 v2344), 8 ∣ (k0_mult177 v2344).toNat := fun v2344 k0_hw176 => k0_hw176.1
theorem k0_off206_inb : ∀ (v2344 : BitVec 32) (k0_hw176 : k0_chk176 v2344), ∀ a, (k0_off206 v2344) a + S1x8x1024.size a ≤ S1x4096x1024.size a := fun v2344 k0_hw176 => k0_hw176.2

def k0_off207 (i : grid0.Coords) : Fin 3 → Nat :=
  let c1_i32_1415 : BitVec 32 := 1#32
  let arg1 : BitVec 32 := BitVec.ofNat 32 (i 1).val
  let c1_i32 : BitVec 32 := 1#32
  let v1 : BitVec 32 := Scalar.andi arg1 c1_i32
  let v2251 : BitVec 32 := Scalar.subi c1_i32_1415 v1
  let c0_i32_1481 : BitVec 32 := 0#32
  let c0_i32_1482 : BitVec 32 := 0#32
  ![v2251.toNat, 0, 0]
def k0_mult178 (v2364 : BitVec 32) : BitVec 32 :=
  let c7_i32_1489 : BitVec 32 := 7#32
  let v2365 : BitVec 32 := Scalar.andi v2364 c7_i32_1489
  let v2366 : BitVec 32 := Scalar.subi v2364 v2365
  v2366

def k0_off208 (v2364 : BitVec 32) : Fin 3 → Nat :=
  let c0_1490 : Index := 0#32
  let c7_i32_1489 : BitVec 32 := 7#32
  let v2365 : BitVec 32 := Scalar.andi v2364 c7_i32_1489
  let v2366 : BitVec 32 := Scalar.subi v2364 v2365
  let v2367 : BitVec 32 := v2366
  let v2368 : Index := Scalar.indexCast v2367
  let c0_1491 : Index := 0#32
  ![0, v2368.toNat, 0]

def k0_chk177 (v2364 : BitVec 32) : Prop :=
  (8 ∣ (k0_mult178 v2364).toNat) ∧
  (∀ a, (k0_off208 v2364) a + S1x8x1024.size a ≤ S1x4096x1024.size a)
theorem k0_mult178_dvd : ∀ (v2364 : BitVec 32) (k0_hw177 : k0_chk177 v2364), 8 ∣ (k0_mult178 v2364).toNat := fun v2364 k0_hw177 => k0_hw177.1
theorem k0_off208_inb : ∀ (v2364 : BitVec 32) (k0_hw177 : k0_chk177 v2364), ∀ a, (k0_off208 v2364) a + S1x8x1024.size a ≤ S1x4096x1024.size a := fun v2364 k0_hw177 => k0_hw177.2

def k0_mult179 (v2377 : BitVec 32) : BitVec 32 :=
  let c7_i32_1497 : BitVec 32 := 7#32
  let v2378 : BitVec 32 := Scalar.andi v2377 c7_i32_1497
  let v2379 : BitVec 32 := Scalar.subi v2377 v2378
  v2379

def k0_off209 (v2377 : BitVec 32) : Fin 3 → Nat :=
  let c0_1498 : Index := 0#32
  let c7_i32_1497 : BitVec 32 := 7#32
  let v2378 : BitVec 32 := Scalar.andi v2377 c7_i32_1497
  let v2379 : BitVec 32 := Scalar.subi v2377 v2378
  let v2380 : BitVec 32 := v2379
  let v2381 : Index := Scalar.indexCast v2380
  let c0_1499 : Index := 0#32
  ![0, v2381.toNat, 0]

def k0_chk178 (v2377 : BitVec 32) : Prop :=
  (8 ∣ (k0_mult179 v2377).toNat) ∧
  (∀ a, (k0_off209 v2377) a + S1x8x1024.size a ≤ S1x4096x1024.size a)
theorem k0_mult179_dvd : ∀ (v2377 : BitVec 32) (k0_hw178 : k0_chk178 v2377), 8 ∣ (k0_mult179 v2377).toNat := fun v2377 k0_hw178 => k0_hw178.1
theorem k0_off209_inb : ∀ (v2377 : BitVec 32) (k0_hw178 : k0_chk178 v2377), ∀ a, (k0_off209 v2377) a + S1x8x1024.size a ≤ S1x4096x1024.size a := fun v2377 k0_hw178 => k0_hw178.2

def k0_mult180 (v2390 : BitVec 32) : BitVec 32 :=
  let c7_i32_1505 : BitVec 32 := 7#32
  let v2391 : BitVec 32 := Scalar.andi v2390 c7_i32_1505
  let v2392 : BitVec 32 := Scalar.subi v2390 v2391
  v2392

def k0_off210 (v2390 : BitVec 32) : Fin 3 → Nat :=
  let c0_1506 : Index := 0#32
  let c7_i32_1505 : BitVec 32 := 7#32
  let v2391 : BitVec 32 := Scalar.andi v2390 c7_i32_1505
  let v2392 : BitVec 32 := Scalar.subi v2390 v2391
  let v2393 : BitVec 32 := v2392
  let v2394 : Index := Scalar.indexCast v2393
  let c0_1507 : Index := 0#32
  ![0, v2394.toNat, 0]

def k0_chk179 (v2390 : BitVec 32) : Prop :=
  (8 ∣ (k0_mult180 v2390).toNat) ∧
  (∀ a, (k0_off210 v2390) a + S1x8x1024.size a ≤ S1x4096x1024.size a)
theorem k0_mult180_dvd : ∀ (v2390 : BitVec 32) (k0_hw179 : k0_chk179 v2390), 8 ∣ (k0_mult180 v2390).toNat := fun v2390 k0_hw179 => k0_hw179.1
theorem k0_off210_inb : ∀ (v2390 : BitVec 32) (k0_hw179 : k0_chk179 v2390), ∀ a, (k0_off210 v2390) a + S1x8x1024.size a ≤ S1x4096x1024.size a := fun v2390 k0_hw179 => k0_hw179.2

def k0_mult181 (v2403 : BitVec 32) : BitVec 32 :=
  let c7_i32_1513 : BitVec 32 := 7#32
  let v2404 : BitVec 32 := Scalar.andi v2403 c7_i32_1513
  let v2405 : BitVec 32 := Scalar.subi v2403 v2404
  v2405

def k0_off211 (v2403 : BitVec 32) : Fin 3 → Nat :=
  let c0_1514 : Index := 0#32
  let c7_i32_1513 : BitVec 32 := 7#32
  let v2404 : BitVec 32 := Scalar.andi v2403 c7_i32_1513
  let v2405 : BitVec 32 := Scalar.subi v2403 v2404
  let v2406 : BitVec 32 := v2405
  let v2407 : Index := Scalar.indexCast v2406
  let c0_1515 : Index := 0#32
  ![0, v2407.toNat, 0]

def k0_chk180 (v2403 : BitVec 32) : Prop :=
  (8 ∣ (k0_mult181 v2403).toNat) ∧
  (∀ a, (k0_off211 v2403) a + S1x8x1024.size a ≤ S1x4096x1024.size a)
theorem k0_mult181_dvd : ∀ (v2403 : BitVec 32) (k0_hw180 : k0_chk180 v2403), 8 ∣ (k0_mult181 v2403).toNat := fun v2403 k0_hw180 => k0_hw180.1
theorem k0_off211_inb : ∀ (v2403 : BitVec 32) (k0_hw180 : k0_chk180 v2403), ∀ a, (k0_off211 v2403) a + S1x8x1024.size a ≤ S1x4096x1024.size a := fun v2403 k0_hw180 => k0_hw180.2

def k0_mult182 (v2416 : BitVec 32) : BitVec 32 :=
  let c7_i32_1521 : BitVec 32 := 7#32
  let v2417 : BitVec 32 := Scalar.andi v2416 c7_i32_1521
  let v2418 : BitVec 32 := Scalar.subi v2416 v2417
  v2418

def k0_off212 (v2416 : BitVec 32) : Fin 3 → Nat :=
  let c0_1522 : Index := 0#32
  let c7_i32_1521 : BitVec 32 := 7#32
  let v2417 : BitVec 32 := Scalar.andi v2416 c7_i32_1521
  let v2418 : BitVec 32 := Scalar.subi v2416 v2417
  let v2419 : BitVec 32 := v2418
  let v2420 : Index := Scalar.indexCast v2419
  let c0_1523 : Index := 0#32
  ![0, v2420.toNat, 0]

def k0_chk181 (v2416 : BitVec 32) : Prop :=
  (8 ∣ (k0_mult182 v2416).toNat) ∧
  (∀ a, (k0_off212 v2416) a + S1x8x1024.size a ≤ S1x4096x1024.size a)
theorem k0_mult182_dvd : ∀ (v2416 : BitVec 32) (k0_hw181 : k0_chk181 v2416), 8 ∣ (k0_mult182 v2416).toNat := fun v2416 k0_hw181 => k0_hw181.1
theorem k0_off212_inb : ∀ (v2416 : BitVec 32) (k0_hw181 : k0_chk181 v2416), ∀ a, (k0_off212 v2416) a + S1x8x1024.size a ≤ S1x4096x1024.size a := fun v2416 k0_hw181 => k0_hw181.2

def k0_mult183 (v2429 : BitVec 32) : BitVec 32 :=
  let c7_i32_1529 : BitVec 32 := 7#32
  let v2430 : BitVec 32 := Scalar.andi v2429 c7_i32_1529
  let v2431 : BitVec 32 := Scalar.subi v2429 v2430
  v2431

def k0_off213 (v2429 : BitVec 32) : Fin 3 → Nat :=
  let c0_1530 : Index := 0#32
  let c7_i32_1529 : BitVec 32 := 7#32
  let v2430 : BitVec 32 := Scalar.andi v2429 c7_i32_1529
  let v2431 : BitVec 32 := Scalar.subi v2429 v2430
  let v2432 : BitVec 32 := v2431
  let v2433 : Index := Scalar.indexCast v2432
  let c0_1531 : Index := 0#32
  ![0, v2433.toNat, 0]

def k0_chk182 (v2429 : BitVec 32) : Prop :=
  (8 ∣ (k0_mult183 v2429).toNat) ∧
  (∀ a, (k0_off213 v2429) a + S1x8x1024.size a ≤ S1x4096x1024.size a)
theorem k0_mult183_dvd : ∀ (v2429 : BitVec 32) (k0_hw182 : k0_chk182 v2429), 8 ∣ (k0_mult183 v2429).toNat := fun v2429 k0_hw182 => k0_hw182.1
theorem k0_off213_inb : ∀ (v2429 : BitVec 32) (k0_hw182 : k0_chk182 v2429), ∀ a, (k0_off213 v2429) a + S1x8x1024.size a ≤ S1x4096x1024.size a := fun v2429 k0_hw182 => k0_hw182.2

def k0_mult184 (v2442 : BitVec 32) : BitVec 32 :=
  let c7_i32_1537 : BitVec 32 := 7#32
  let v2443 : BitVec 32 := Scalar.andi v2442 c7_i32_1537
  let v2444 : BitVec 32 := Scalar.subi v2442 v2443
  v2444

def k0_off214 (v2442 : BitVec 32) : Fin 3 → Nat :=
  let c0_1538 : Index := 0#32
  let c7_i32_1537 : BitVec 32 := 7#32
  let v2443 : BitVec 32 := Scalar.andi v2442 c7_i32_1537
  let v2444 : BitVec 32 := Scalar.subi v2442 v2443
  let v2445 : BitVec 32 := v2444
  let v2446 : Index := Scalar.indexCast v2445
  let c0_1539 : Index := 0#32
  ![0, v2446.toNat, 0]

def k0_chk183 (v2442 : BitVec 32) : Prop :=
  (8 ∣ (k0_mult184 v2442).toNat) ∧
  (∀ a, (k0_off214 v2442) a + S1x8x1024.size a ≤ S1x4096x1024.size a)
theorem k0_mult184_dvd : ∀ (v2442 : BitVec 32) (k0_hw183 : k0_chk183 v2442), 8 ∣ (k0_mult184 v2442).toNat := fun v2442 k0_hw183 => k0_hw183.1
theorem k0_off214_inb : ∀ (v2442 : BitVec 32) (k0_hw183 : k0_chk183 v2442), ∀ a, (k0_off214 v2442) a + S1x8x1024.size a ≤ S1x4096x1024.size a := fun v2442 k0_hw183 => k0_hw183.2

def k0_mult185 (v2455 : BitVec 32) : BitVec 32 :=
  let c7_i32_1545 : BitVec 32 := 7#32
  let v2456 : BitVec 32 := Scalar.andi v2455 c7_i32_1545
  let v2457 : BitVec 32 := Scalar.subi v2455 v2456
  v2457

def k0_off215 (v2455 : BitVec 32) : Fin 3 → Nat :=
  let c0_1546 : Index := 0#32
  let c7_i32_1545 : BitVec 32 := 7#32
  let v2456 : BitVec 32 := Scalar.andi v2455 c7_i32_1545
  let v2457 : BitVec 32 := Scalar.subi v2455 v2456
  let v2458 : BitVec 32 := v2457
  let v2459 : Index := Scalar.indexCast v2458
  let c0_1547 : Index := 0#32
  ![0, v2459.toNat, 0]

def k0_chk184 (v2455 : BitVec 32) : Prop :=
  (8 ∣ (k0_mult185 v2455).toNat) ∧
  (∀ a, (k0_off215 v2455) a + S1x8x1024.size a ≤ S1x4096x1024.size a)
theorem k0_mult185_dvd : ∀ (v2455 : BitVec 32) (k0_hw184 : k0_chk184 v2455), 8 ∣ (k0_mult185 v2455).toNat := fun v2455 k0_hw184 => k0_hw184.1
theorem k0_off215_inb : ∀ (v2455 : BitVec 32) (k0_hw184 : k0_chk184 v2455), ∀ a, (k0_off215 v2455) a + S1x8x1024.size a ≤ S1x4096x1024.size a := fun v2455 k0_hw184 => k0_hw184.2

def k0_off216 (i : grid0.Coords) : Fin 3 → Nat :=
  let c1_i32_1485 : BitVec 32 := 1#32
  let arg1 : BitVec 32 := BitVec.ofNat 32 (i 1).val
  let c1_i32 : BitVec 32 := 1#32
  let v1 : BitVec 32 := Scalar.andi arg1 c1_i32
  let v2362 : BitVec 32 := Scalar.subi c1_i32_1485 v1
  let c0_i32_1551 : BitVec 32 := 0#32
  let c0_i32_1552 : BitVec 32 := 0#32
  ![v2362.toNat, 0, 0]
def k0_mult186 (v2475 : BitVec 32) : BitVec 32 :=
  let c7_i32_1559 : BitVec 32 := 7#32
  let v2476 : BitVec 32 := Scalar.andi v2475 c7_i32_1559
  let v2477 : BitVec 32 := Scalar.subi v2475 v2476
  v2477

def k0_off217 (v2475 : BitVec 32) : Fin 3 → Nat :=
  let c0_1560 : Index := 0#32
  let c7_i32_1559 : BitVec 32 := 7#32
  let v2476 : BitVec 32 := Scalar.andi v2475 c7_i32_1559
  let v2477 : BitVec 32 := Scalar.subi v2475 v2476
  let v2478 : BitVec 32 := v2477
  let v2479 : Index := Scalar.indexCast v2478
  let c0_1561 : Index := 0#32
  ![0, v2479.toNat, 0]

def k0_chk185 (v2475 : BitVec 32) : Prop :=
  (8 ∣ (k0_mult186 v2475).toNat) ∧
  (∀ a, (k0_off217 v2475) a + S1x8x1024.size a ≤ S1x4096x1024.size a)
theorem k0_mult186_dvd : ∀ (v2475 : BitVec 32) (k0_hw185 : k0_chk185 v2475), 8 ∣ (k0_mult186 v2475).toNat := fun v2475 k0_hw185 => k0_hw185.1
theorem k0_off217_inb : ∀ (v2475 : BitVec 32) (k0_hw185 : k0_chk185 v2475), ∀ a, (k0_off217 v2475) a + S1x8x1024.size a ≤ S1x4096x1024.size a := fun v2475 k0_hw185 => k0_hw185.2

def k0_mult187 (v2488 : BitVec 32) : BitVec 32 :=
  let c7_i32_1567 : BitVec 32 := 7#32
  let v2489 : BitVec 32 := Scalar.andi v2488 c7_i32_1567
  let v2490 : BitVec 32 := Scalar.subi v2488 v2489
  v2490

def k0_off218 (v2488 : BitVec 32) : Fin 3 → Nat :=
  let c0_1568 : Index := 0#32
  let c7_i32_1567 : BitVec 32 := 7#32
  let v2489 : BitVec 32 := Scalar.andi v2488 c7_i32_1567
  let v2490 : BitVec 32 := Scalar.subi v2488 v2489
  let v2491 : BitVec 32 := v2490
  let v2492 : Index := Scalar.indexCast v2491
  let c0_1569 : Index := 0#32
  ![0, v2492.toNat, 0]

def k0_chk186 (v2488 : BitVec 32) : Prop :=
  (8 ∣ (k0_mult187 v2488).toNat) ∧
  (∀ a, (k0_off218 v2488) a + S1x8x1024.size a ≤ S1x4096x1024.size a)
theorem k0_mult187_dvd : ∀ (v2488 : BitVec 32) (k0_hw186 : k0_chk186 v2488), 8 ∣ (k0_mult187 v2488).toNat := fun v2488 k0_hw186 => k0_hw186.1
theorem k0_off218_inb : ∀ (v2488 : BitVec 32) (k0_hw186 : k0_chk186 v2488), ∀ a, (k0_off218 v2488) a + S1x8x1024.size a ≤ S1x4096x1024.size a := fun v2488 k0_hw186 => k0_hw186.2

def k0_mult188 (v2501 : BitVec 32) : BitVec 32 :=
  let c7_i32_1575 : BitVec 32 := 7#32
  let v2502 : BitVec 32 := Scalar.andi v2501 c7_i32_1575
  let v2503 : BitVec 32 := Scalar.subi v2501 v2502
  v2503

def k0_off219 (v2501 : BitVec 32) : Fin 3 → Nat :=
  let c0_1576 : Index := 0#32
  let c7_i32_1575 : BitVec 32 := 7#32
  let v2502 : BitVec 32 := Scalar.andi v2501 c7_i32_1575
  let v2503 : BitVec 32 := Scalar.subi v2501 v2502
  let v2504 : BitVec 32 := v2503
  let v2505 : Index := Scalar.indexCast v2504
  let c0_1577 : Index := 0#32
  ![0, v2505.toNat, 0]

def k0_chk187 (v2501 : BitVec 32) : Prop :=
  (8 ∣ (k0_mult188 v2501).toNat) ∧
  (∀ a, (k0_off219 v2501) a + S1x8x1024.size a ≤ S1x4096x1024.size a)
theorem k0_mult188_dvd : ∀ (v2501 : BitVec 32) (k0_hw187 : k0_chk187 v2501), 8 ∣ (k0_mult188 v2501).toNat := fun v2501 k0_hw187 => k0_hw187.1
theorem k0_off219_inb : ∀ (v2501 : BitVec 32) (k0_hw187 : k0_chk187 v2501), ∀ a, (k0_off219 v2501) a + S1x8x1024.size a ≤ S1x4096x1024.size a := fun v2501 k0_hw187 => k0_hw187.2

def k0_mult189 (v2514 : BitVec 32) : BitVec 32 :=
  let c7_i32_1583 : BitVec 32 := 7#32
  let v2515 : BitVec 32 := Scalar.andi v2514 c7_i32_1583
  let v2516 : BitVec 32 := Scalar.subi v2514 v2515
  v2516

def k0_off220 (v2514 : BitVec 32) : Fin 3 → Nat :=
  let c0_1584 : Index := 0#32
  let c7_i32_1583 : BitVec 32 := 7#32
  let v2515 : BitVec 32 := Scalar.andi v2514 c7_i32_1583
  let v2516 : BitVec 32 := Scalar.subi v2514 v2515
  let v2517 : BitVec 32 := v2516
  let v2518 : Index := Scalar.indexCast v2517
  let c0_1585 : Index := 0#32
  ![0, v2518.toNat, 0]

def k0_chk188 (v2514 : BitVec 32) : Prop :=
  (8 ∣ (k0_mult189 v2514).toNat) ∧
  (∀ a, (k0_off220 v2514) a + S1x8x1024.size a ≤ S1x4096x1024.size a)
theorem k0_mult189_dvd : ∀ (v2514 : BitVec 32) (k0_hw188 : k0_chk188 v2514), 8 ∣ (k0_mult189 v2514).toNat := fun v2514 k0_hw188 => k0_hw188.1
theorem k0_off220_inb : ∀ (v2514 : BitVec 32) (k0_hw188 : k0_chk188 v2514), ∀ a, (k0_off220 v2514) a + S1x8x1024.size a ≤ S1x4096x1024.size a := fun v2514 k0_hw188 => k0_hw188.2

def k0_mult190 (v2527 : BitVec 32) : BitVec 32 :=
  let c7_i32_1591 : BitVec 32 := 7#32
  let v2528 : BitVec 32 := Scalar.andi v2527 c7_i32_1591
  let v2529 : BitVec 32 := Scalar.subi v2527 v2528
  v2529

def k0_off221 (v2527 : BitVec 32) : Fin 3 → Nat :=
  let c0_1592 : Index := 0#32
  let c7_i32_1591 : BitVec 32 := 7#32
  let v2528 : BitVec 32 := Scalar.andi v2527 c7_i32_1591
  let v2529 : BitVec 32 := Scalar.subi v2527 v2528
  let v2530 : BitVec 32 := v2529
  let v2531 : Index := Scalar.indexCast v2530
  let c0_1593 : Index := 0#32
  ![0, v2531.toNat, 0]

def k0_chk189 (v2527 : BitVec 32) : Prop :=
  (8 ∣ (k0_mult190 v2527).toNat) ∧
  (∀ a, (k0_off221 v2527) a + S1x8x1024.size a ≤ S1x4096x1024.size a)
theorem k0_mult190_dvd : ∀ (v2527 : BitVec 32) (k0_hw189 : k0_chk189 v2527), 8 ∣ (k0_mult190 v2527).toNat := fun v2527 k0_hw189 => k0_hw189.1
theorem k0_off221_inb : ∀ (v2527 : BitVec 32) (k0_hw189 : k0_chk189 v2527), ∀ a, (k0_off221 v2527) a + S1x8x1024.size a ≤ S1x4096x1024.size a := fun v2527 k0_hw189 => k0_hw189.2

def k0_mult191 (v2540 : BitVec 32) : BitVec 32 :=
  let c7_i32_1599 : BitVec 32 := 7#32
  let v2541 : BitVec 32 := Scalar.andi v2540 c7_i32_1599
  let v2542 : BitVec 32 := Scalar.subi v2540 v2541
  v2542

def k0_off222 (v2540 : BitVec 32) : Fin 3 → Nat :=
  let c0_1600 : Index := 0#32
  let c7_i32_1599 : BitVec 32 := 7#32
  let v2541 : BitVec 32 := Scalar.andi v2540 c7_i32_1599
  let v2542 : BitVec 32 := Scalar.subi v2540 v2541
  let v2543 : BitVec 32 := v2542
  let v2544 : Index := Scalar.indexCast v2543
  let c0_1601 : Index := 0#32
  ![0, v2544.toNat, 0]

def k0_chk190 (v2540 : BitVec 32) : Prop :=
  (8 ∣ (k0_mult191 v2540).toNat) ∧
  (∀ a, (k0_off222 v2540) a + S1x8x1024.size a ≤ S1x4096x1024.size a)
theorem k0_mult191_dvd : ∀ (v2540 : BitVec 32) (k0_hw190 : k0_chk190 v2540), 8 ∣ (k0_mult191 v2540).toNat := fun v2540 k0_hw190 => k0_hw190.1
theorem k0_off222_inb : ∀ (v2540 : BitVec 32) (k0_hw190 : k0_chk190 v2540), ∀ a, (k0_off222 v2540) a + S1x8x1024.size a ≤ S1x4096x1024.size a := fun v2540 k0_hw190 => k0_hw190.2

def k0_mult192 (v2553 : BitVec 32) : BitVec 32 :=
  let c7_i32_1607 : BitVec 32 := 7#32
  let v2554 : BitVec 32 := Scalar.andi v2553 c7_i32_1607
  let v2555 : BitVec 32 := Scalar.subi v2553 v2554
  v2555

def k0_off223 (v2553 : BitVec 32) : Fin 3 → Nat :=
  let c0_1608 : Index := 0#32
  let c7_i32_1607 : BitVec 32 := 7#32
  let v2554 : BitVec 32 := Scalar.andi v2553 c7_i32_1607
  let v2555 : BitVec 32 := Scalar.subi v2553 v2554
  let v2556 : BitVec 32 := v2555
  let v2557 : Index := Scalar.indexCast v2556
  let c0_1609 : Index := 0#32
  ![0, v2557.toNat, 0]

def k0_chk191 (v2553 : BitVec 32) : Prop :=
  (8 ∣ (k0_mult192 v2553).toNat) ∧
  (∀ a, (k0_off223 v2553) a + S1x8x1024.size a ≤ S1x4096x1024.size a)
theorem k0_mult192_dvd : ∀ (v2553 : BitVec 32) (k0_hw191 : k0_chk191 v2553), 8 ∣ (k0_mult192 v2553).toNat := fun v2553 k0_hw191 => k0_hw191.1
theorem k0_off223_inb : ∀ (v2553 : BitVec 32) (k0_hw191 : k0_chk191 v2553), ∀ a, (k0_off223 v2553) a + S1x8x1024.size a ≤ S1x4096x1024.size a := fun v2553 k0_hw191 => k0_hw191.2

def k0_mult193 (v2566 : BitVec 32) : BitVec 32 :=
  let c7_i32_1615 : BitVec 32 := 7#32
  let v2567 : BitVec 32 := Scalar.andi v2566 c7_i32_1615
  let v2568 : BitVec 32 := Scalar.subi v2566 v2567
  v2568

def k0_off224 (v2566 : BitVec 32) : Fin 3 → Nat :=
  let c0_1616 : Index := 0#32
  let c7_i32_1615 : BitVec 32 := 7#32
  let v2567 : BitVec 32 := Scalar.andi v2566 c7_i32_1615
  let v2568 : BitVec 32 := Scalar.subi v2566 v2567
  let v2569 : BitVec 32 := v2568
  let v2570 : Index := Scalar.indexCast v2569
  let c0_1617 : Index := 0#32
  ![0, v2570.toNat, 0]

def k0_chk192 (v2566 : BitVec 32) : Prop :=
  (8 ∣ (k0_mult193 v2566).toNat) ∧
  (∀ a, (k0_off224 v2566) a + S1x8x1024.size a ≤ S1x4096x1024.size a)
theorem k0_mult193_dvd : ∀ (v2566 : BitVec 32) (k0_hw192 : k0_chk192 v2566), 8 ∣ (k0_mult193 v2566).toNat := fun v2566 k0_hw192 => k0_hw192.1
theorem k0_off224_inb : ∀ (v2566 : BitVec 32) (k0_hw192 : k0_chk192 v2566), ∀ a, (k0_off224 v2566) a + S1x8x1024.size a ≤ S1x4096x1024.size a := fun v2566 k0_hw192 => k0_hw192.2

def k0_off225 (i : grid0.Coords) : Fin 3 → Nat :=
  let c1_i32_1555 : BitVec 32 := 1#32
  let arg1 : BitVec 32 := BitVec.ofNat 32 (i 1).val
  let c1_i32 : BitVec 32 := 1#32
  let v1 : BitVec 32 := Scalar.andi arg1 c1_i32
  let v2473 : BitVec 32 := Scalar.subi c1_i32_1555 v1
  let c0_i32_1621 : BitVec 32 := 0#32
  let c0_i32_1622 : BitVec 32 := 0#32
  ![v2473.toNat, 0, 0]
def k0_mult194 (v2586 : BitVec 32) : BitVec 32 :=
  let c7_i32_1629 : BitVec 32 := 7#32
  let v2587 : BitVec 32 := Scalar.andi v2586 c7_i32_1629
  let v2588 : BitVec 32 := Scalar.subi v2586 v2587
  v2588

def k0_off226 (v2586 : BitVec 32) : Fin 3 → Nat :=
  let c0_1630 : Index := 0#32
  let c7_i32_1629 : BitVec 32 := 7#32
  let v2587 : BitVec 32 := Scalar.andi v2586 c7_i32_1629
  let v2588 : BitVec 32 := Scalar.subi v2586 v2587
  let v2589 : BitVec 32 := v2588
  let v2590 : Index := Scalar.indexCast v2589
  let c0_1631 : Index := 0#32
  ![0, v2590.toNat, 0]

def k0_chk193 (v2586 : BitVec 32) : Prop :=
  (8 ∣ (k0_mult194 v2586).toNat) ∧
  (∀ a, (k0_off226 v2586) a + S1x8x1024.size a ≤ S1x4096x1024.size a)
theorem k0_mult194_dvd : ∀ (v2586 : BitVec 32) (k0_hw193 : k0_chk193 v2586), 8 ∣ (k0_mult194 v2586).toNat := fun v2586 k0_hw193 => k0_hw193.1
theorem k0_off226_inb : ∀ (v2586 : BitVec 32) (k0_hw193 : k0_chk193 v2586), ∀ a, (k0_off226 v2586) a + S1x8x1024.size a ≤ S1x4096x1024.size a := fun v2586 k0_hw193 => k0_hw193.2

def k0_mult195 (v2599 : BitVec 32) : BitVec 32 :=
  let c7_i32_1637 : BitVec 32 := 7#32
  let v2600 : BitVec 32 := Scalar.andi v2599 c7_i32_1637
  let v2601 : BitVec 32 := Scalar.subi v2599 v2600
  v2601

def k0_off227 (v2599 : BitVec 32) : Fin 3 → Nat :=
  let c0_1638 : Index := 0#32
  let c7_i32_1637 : BitVec 32 := 7#32
  let v2600 : BitVec 32 := Scalar.andi v2599 c7_i32_1637
  let v2601 : BitVec 32 := Scalar.subi v2599 v2600
  let v2602 : BitVec 32 := v2601
  let v2603 : Index := Scalar.indexCast v2602
  let c0_1639 : Index := 0#32
  ![0, v2603.toNat, 0]

def k0_chk194 (v2599 : BitVec 32) : Prop :=
  (8 ∣ (k0_mult195 v2599).toNat) ∧
  (∀ a, (k0_off227 v2599) a + S1x8x1024.size a ≤ S1x4096x1024.size a)
theorem k0_mult195_dvd : ∀ (v2599 : BitVec 32) (k0_hw194 : k0_chk194 v2599), 8 ∣ (k0_mult195 v2599).toNat := fun v2599 k0_hw194 => k0_hw194.1
theorem k0_off227_inb : ∀ (v2599 : BitVec 32) (k0_hw194 : k0_chk194 v2599), ∀ a, (k0_off227 v2599) a + S1x8x1024.size a ≤ S1x4096x1024.size a := fun v2599 k0_hw194 => k0_hw194.2

def k0_mult196 (v2612 : BitVec 32) : BitVec 32 :=
  let c7_i32_1645 : BitVec 32 := 7#32
  let v2613 : BitVec 32 := Scalar.andi v2612 c7_i32_1645
  let v2614 : BitVec 32 := Scalar.subi v2612 v2613
  v2614

def k0_off228 (v2612 : BitVec 32) : Fin 3 → Nat :=
  let c0_1646 : Index := 0#32
  let c7_i32_1645 : BitVec 32 := 7#32
  let v2613 : BitVec 32 := Scalar.andi v2612 c7_i32_1645
  let v2614 : BitVec 32 := Scalar.subi v2612 v2613
  let v2615 : BitVec 32 := v2614
  let v2616 : Index := Scalar.indexCast v2615
  let c0_1647 : Index := 0#32
  ![0, v2616.toNat, 0]

def k0_chk195 (v2612 : BitVec 32) : Prop :=
  (8 ∣ (k0_mult196 v2612).toNat) ∧
  (∀ a, (k0_off228 v2612) a + S1x8x1024.size a ≤ S1x4096x1024.size a)
theorem k0_mult196_dvd : ∀ (v2612 : BitVec 32) (k0_hw195 : k0_chk195 v2612), 8 ∣ (k0_mult196 v2612).toNat := fun v2612 k0_hw195 => k0_hw195.1
theorem k0_off228_inb : ∀ (v2612 : BitVec 32) (k0_hw195 : k0_chk195 v2612), ∀ a, (k0_off228 v2612) a + S1x8x1024.size a ≤ S1x4096x1024.size a := fun v2612 k0_hw195 => k0_hw195.2

def k0_mult197 (v2625 : BitVec 32) : BitVec 32 :=
  let c7_i32_1653 : BitVec 32 := 7#32
  let v2626 : BitVec 32 := Scalar.andi v2625 c7_i32_1653
  let v2627 : BitVec 32 := Scalar.subi v2625 v2626
  v2627

def k0_off229 (v2625 : BitVec 32) : Fin 3 → Nat :=
  let c0_1654 : Index := 0#32
  let c7_i32_1653 : BitVec 32 := 7#32
  let v2626 : BitVec 32 := Scalar.andi v2625 c7_i32_1653
  let v2627 : BitVec 32 := Scalar.subi v2625 v2626
  let v2628 : BitVec 32 := v2627
  let v2629 : Index := Scalar.indexCast v2628
  let c0_1655 : Index := 0#32
  ![0, v2629.toNat, 0]

def k0_chk196 (v2625 : BitVec 32) : Prop :=
  (8 ∣ (k0_mult197 v2625).toNat) ∧
  (∀ a, (k0_off229 v2625) a + S1x8x1024.size a ≤ S1x4096x1024.size a)
theorem k0_mult197_dvd : ∀ (v2625 : BitVec 32) (k0_hw196 : k0_chk196 v2625), 8 ∣ (k0_mult197 v2625).toNat := fun v2625 k0_hw196 => k0_hw196.1
theorem k0_off229_inb : ∀ (v2625 : BitVec 32) (k0_hw196 : k0_chk196 v2625), ∀ a, (k0_off229 v2625) a + S1x8x1024.size a ≤ S1x4096x1024.size a := fun v2625 k0_hw196 => k0_hw196.2

def k0_mult198 (v2638 : BitVec 32) : BitVec 32 :=
  let c7_i32_1661 : BitVec 32 := 7#32
  let v2639 : BitVec 32 := Scalar.andi v2638 c7_i32_1661
  let v2640 : BitVec 32 := Scalar.subi v2638 v2639
  v2640

def k0_off230 (v2638 : BitVec 32) : Fin 3 → Nat :=
  let c0_1662 : Index := 0#32
  let c7_i32_1661 : BitVec 32 := 7#32
  let v2639 : BitVec 32 := Scalar.andi v2638 c7_i32_1661
  let v2640 : BitVec 32 := Scalar.subi v2638 v2639
  let v2641 : BitVec 32 := v2640
  let v2642 : Index := Scalar.indexCast v2641
  let c0_1663 : Index := 0#32
  ![0, v2642.toNat, 0]

def k0_chk197 (v2638 : BitVec 32) : Prop :=
  (8 ∣ (k0_mult198 v2638).toNat) ∧
  (∀ a, (k0_off230 v2638) a + S1x8x1024.size a ≤ S1x4096x1024.size a)
theorem k0_mult198_dvd : ∀ (v2638 : BitVec 32) (k0_hw197 : k0_chk197 v2638), 8 ∣ (k0_mult198 v2638).toNat := fun v2638 k0_hw197 => k0_hw197.1
theorem k0_off230_inb : ∀ (v2638 : BitVec 32) (k0_hw197 : k0_chk197 v2638), ∀ a, (k0_off230 v2638) a + S1x8x1024.size a ≤ S1x4096x1024.size a := fun v2638 k0_hw197 => k0_hw197.2

def k0_mult199 (v2651 : BitVec 32) : BitVec 32 :=
  let c7_i32_1669 : BitVec 32 := 7#32
  let v2652 : BitVec 32 := Scalar.andi v2651 c7_i32_1669
  let v2653 : BitVec 32 := Scalar.subi v2651 v2652
  v2653

def k0_off231 (v2651 : BitVec 32) : Fin 3 → Nat :=
  let c0_1670 : Index := 0#32
  let c7_i32_1669 : BitVec 32 := 7#32
  let v2652 : BitVec 32 := Scalar.andi v2651 c7_i32_1669
  let v2653 : BitVec 32 := Scalar.subi v2651 v2652
  let v2654 : BitVec 32 := v2653
  let v2655 : Index := Scalar.indexCast v2654
  let c0_1671 : Index := 0#32
  ![0, v2655.toNat, 0]

def k0_chk198 (v2651 : BitVec 32) : Prop :=
  (8 ∣ (k0_mult199 v2651).toNat) ∧
  (∀ a, (k0_off231 v2651) a + S1x8x1024.size a ≤ S1x4096x1024.size a)
theorem k0_mult199_dvd : ∀ (v2651 : BitVec 32) (k0_hw198 : k0_chk198 v2651), 8 ∣ (k0_mult199 v2651).toNat := fun v2651 k0_hw198 => k0_hw198.1
theorem k0_off231_inb : ∀ (v2651 : BitVec 32) (k0_hw198 : k0_chk198 v2651), ∀ a, (k0_off231 v2651) a + S1x8x1024.size a ≤ S1x4096x1024.size a := fun v2651 k0_hw198 => k0_hw198.2

def k0_mult200 (v2664 : BitVec 32) : BitVec 32 :=
  let c7_i32_1677 : BitVec 32 := 7#32
  let v2665 : BitVec 32 := Scalar.andi v2664 c7_i32_1677
  let v2666 : BitVec 32 := Scalar.subi v2664 v2665
  v2666

def k0_off232 (v2664 : BitVec 32) : Fin 3 → Nat :=
  let c0_1678 : Index := 0#32
  let c7_i32_1677 : BitVec 32 := 7#32
  let v2665 : BitVec 32 := Scalar.andi v2664 c7_i32_1677
  let v2666 : BitVec 32 := Scalar.subi v2664 v2665
  let v2667 : BitVec 32 := v2666
  let v2668 : Index := Scalar.indexCast v2667
  let c0_1679 : Index := 0#32
  ![0, v2668.toNat, 0]

def k0_chk199 (v2664 : BitVec 32) : Prop :=
  (8 ∣ (k0_mult200 v2664).toNat) ∧
  (∀ a, (k0_off232 v2664) a + S1x8x1024.size a ≤ S1x4096x1024.size a)
theorem k0_mult200_dvd : ∀ (v2664 : BitVec 32) (k0_hw199 : k0_chk199 v2664), 8 ∣ (k0_mult200 v2664).toNat := fun v2664 k0_hw199 => k0_hw199.1
theorem k0_off232_inb : ∀ (v2664 : BitVec 32) (k0_hw199 : k0_chk199 v2664), ∀ a, (k0_off232 v2664) a + S1x8x1024.size a ≤ S1x4096x1024.size a := fun v2664 k0_hw199 => k0_hw199.2

def k0_mult201 (v2677 : BitVec 32) : BitVec 32 :=
  let c7_i32_1685 : BitVec 32 := 7#32
  let v2678 : BitVec 32 := Scalar.andi v2677 c7_i32_1685
  let v2679 : BitVec 32 := Scalar.subi v2677 v2678
  v2679

def k0_off233 (v2677 : BitVec 32) : Fin 3 → Nat :=
  let c0_1686 : Index := 0#32
  let c7_i32_1685 : BitVec 32 := 7#32
  let v2678 : BitVec 32 := Scalar.andi v2677 c7_i32_1685
  let v2679 : BitVec 32 := Scalar.subi v2677 v2678
  let v2680 : BitVec 32 := v2679
  let v2681 : Index := Scalar.indexCast v2680
  let c0_1687 : Index := 0#32
  ![0, v2681.toNat, 0]

def k0_chk200 (v2677 : BitVec 32) : Prop :=
  (8 ∣ (k0_mult201 v2677).toNat) ∧
  (∀ a, (k0_off233 v2677) a + S1x8x1024.size a ≤ S1x4096x1024.size a)
theorem k0_mult201_dvd : ∀ (v2677 : BitVec 32) (k0_hw200 : k0_chk200 v2677), 8 ∣ (k0_mult201 v2677).toNat := fun v2677 k0_hw200 => k0_hw200.1
theorem k0_off233_inb : ∀ (v2677 : BitVec 32) (k0_hw200 : k0_chk200 v2677), ∀ a, (k0_off233 v2677) a + S1x8x1024.size a ≤ S1x4096x1024.size a := fun v2677 k0_hw200 => k0_hw200.2

def k0_off234 (i : grid0.Coords) : Fin 3 → Nat :=
  let c1_i32_1625 : BitVec 32 := 1#32
  let arg1 : BitVec 32 := BitVec.ofNat 32 (i 1).val
  let c1_i32 : BitVec 32 := 1#32
  let v1 : BitVec 32 := Scalar.andi arg1 c1_i32
  let v2584 : BitVec 32 := Scalar.subi c1_i32_1625 v1
  let c0_i32_1691 : BitVec 32 := 0#32
  let c0_i32_1692 : BitVec 32 := 0#32
  ![v2584.toNat, 0, 0]
def k0_mult202 (v2697 : BitVec 32) : BitVec 32 :=
  let c7_i32_1699 : BitVec 32 := 7#32
  let v2698 : BitVec 32 := Scalar.andi v2697 c7_i32_1699
  let v2699 : BitVec 32 := Scalar.subi v2697 v2698
  v2699

def k0_off235 (v2697 : BitVec 32) : Fin 3 → Nat :=
  let c0_1700 : Index := 0#32
  let c7_i32_1699 : BitVec 32 := 7#32
  let v2698 : BitVec 32 := Scalar.andi v2697 c7_i32_1699
  let v2699 : BitVec 32 := Scalar.subi v2697 v2698
  let v2700 : BitVec 32 := v2699
  let v2701 : Index := Scalar.indexCast v2700
  let c0_1701 : Index := 0#32
  ![0, v2701.toNat, 0]

def k0_chk201 (v2697 : BitVec 32) : Prop :=
  (8 ∣ (k0_mult202 v2697).toNat) ∧
  (∀ a, (k0_off235 v2697) a + S1x8x1024.size a ≤ S1x4096x1024.size a)
theorem k0_mult202_dvd : ∀ (v2697 : BitVec 32) (k0_hw201 : k0_chk201 v2697), 8 ∣ (k0_mult202 v2697).toNat := fun v2697 k0_hw201 => k0_hw201.1
theorem k0_off235_inb : ∀ (v2697 : BitVec 32) (k0_hw201 : k0_chk201 v2697), ∀ a, (k0_off235 v2697) a + S1x8x1024.size a ≤ S1x4096x1024.size a := fun v2697 k0_hw201 => k0_hw201.2

def k0_mult203 (v2710 : BitVec 32) : BitVec 32 :=
  let c7_i32_1707 : BitVec 32 := 7#32
  let v2711 : BitVec 32 := Scalar.andi v2710 c7_i32_1707
  let v2712 : BitVec 32 := Scalar.subi v2710 v2711
  v2712

def k0_off236 (v2710 : BitVec 32) : Fin 3 → Nat :=
  let c0_1708 : Index := 0#32
  let c7_i32_1707 : BitVec 32 := 7#32
  let v2711 : BitVec 32 := Scalar.andi v2710 c7_i32_1707
  let v2712 : BitVec 32 := Scalar.subi v2710 v2711
  let v2713 : BitVec 32 := v2712
  let v2714 : Index := Scalar.indexCast v2713
  let c0_1709 : Index := 0#32
  ![0, v2714.toNat, 0]

def k0_chk202 (v2710 : BitVec 32) : Prop :=
  (8 ∣ (k0_mult203 v2710).toNat) ∧
  (∀ a, (k0_off236 v2710) a + S1x8x1024.size a ≤ S1x4096x1024.size a)
theorem k0_mult203_dvd : ∀ (v2710 : BitVec 32) (k0_hw202 : k0_chk202 v2710), 8 ∣ (k0_mult203 v2710).toNat := fun v2710 k0_hw202 => k0_hw202.1
theorem k0_off236_inb : ∀ (v2710 : BitVec 32) (k0_hw202 : k0_chk202 v2710), ∀ a, (k0_off236 v2710) a + S1x8x1024.size a ≤ S1x4096x1024.size a := fun v2710 k0_hw202 => k0_hw202.2

def k0_mult204 (v2723 : BitVec 32) : BitVec 32 :=
  let c7_i32_1715 : BitVec 32 := 7#32
  let v2724 : BitVec 32 := Scalar.andi v2723 c7_i32_1715
  let v2725 : BitVec 32 := Scalar.subi v2723 v2724
  v2725

def k0_off237 (v2723 : BitVec 32) : Fin 3 → Nat :=
  let c0_1716 : Index := 0#32
  let c7_i32_1715 : BitVec 32 := 7#32
  let v2724 : BitVec 32 := Scalar.andi v2723 c7_i32_1715
  let v2725 : BitVec 32 := Scalar.subi v2723 v2724
  let v2726 : BitVec 32 := v2725
  let v2727 : Index := Scalar.indexCast v2726
  let c0_1717 : Index := 0#32
  ![0, v2727.toNat, 0]

def k0_chk203 (v2723 : BitVec 32) : Prop :=
  (8 ∣ (k0_mult204 v2723).toNat) ∧
  (∀ a, (k0_off237 v2723) a + S1x8x1024.size a ≤ S1x4096x1024.size a)
theorem k0_mult204_dvd : ∀ (v2723 : BitVec 32) (k0_hw203 : k0_chk203 v2723), 8 ∣ (k0_mult204 v2723).toNat := fun v2723 k0_hw203 => k0_hw203.1
theorem k0_off237_inb : ∀ (v2723 : BitVec 32) (k0_hw203 : k0_chk203 v2723), ∀ a, (k0_off237 v2723) a + S1x8x1024.size a ≤ S1x4096x1024.size a := fun v2723 k0_hw203 => k0_hw203.2

def k0_mult205 (v2736 : BitVec 32) : BitVec 32 :=
  let c7_i32_1723 : BitVec 32 := 7#32
  let v2737 : BitVec 32 := Scalar.andi v2736 c7_i32_1723
  let v2738 : BitVec 32 := Scalar.subi v2736 v2737
  v2738

def k0_off238 (v2736 : BitVec 32) : Fin 3 → Nat :=
  let c0_1724 : Index := 0#32
  let c7_i32_1723 : BitVec 32 := 7#32
  let v2737 : BitVec 32 := Scalar.andi v2736 c7_i32_1723
  let v2738 : BitVec 32 := Scalar.subi v2736 v2737
  let v2739 : BitVec 32 := v2738
  let v2740 : Index := Scalar.indexCast v2739
  let c0_1725 : Index := 0#32
  ![0, v2740.toNat, 0]

def k0_chk204 (v2736 : BitVec 32) : Prop :=
  (8 ∣ (k0_mult205 v2736).toNat) ∧
  (∀ a, (k0_off238 v2736) a + S1x8x1024.size a ≤ S1x4096x1024.size a)
theorem k0_mult205_dvd : ∀ (v2736 : BitVec 32) (k0_hw204 : k0_chk204 v2736), 8 ∣ (k0_mult205 v2736).toNat := fun v2736 k0_hw204 => k0_hw204.1
theorem k0_off238_inb : ∀ (v2736 : BitVec 32) (k0_hw204 : k0_chk204 v2736), ∀ a, (k0_off238 v2736) a + S1x8x1024.size a ≤ S1x4096x1024.size a := fun v2736 k0_hw204 => k0_hw204.2

def k0_mult206 (v2749 : BitVec 32) : BitVec 32 :=
  let c7_i32_1731 : BitVec 32 := 7#32
  let v2750 : BitVec 32 := Scalar.andi v2749 c7_i32_1731
  let v2751 : BitVec 32 := Scalar.subi v2749 v2750
  v2751

def k0_off239 (v2749 : BitVec 32) : Fin 3 → Nat :=
  let c0_1732 : Index := 0#32
  let c7_i32_1731 : BitVec 32 := 7#32
  let v2750 : BitVec 32 := Scalar.andi v2749 c7_i32_1731
  let v2751 : BitVec 32 := Scalar.subi v2749 v2750
  let v2752 : BitVec 32 := v2751
  let v2753 : Index := Scalar.indexCast v2752
  let c0_1733 : Index := 0#32
  ![0, v2753.toNat, 0]

def k0_chk205 (v2749 : BitVec 32) : Prop :=
  (8 ∣ (k0_mult206 v2749).toNat) ∧
  (∀ a, (k0_off239 v2749) a + S1x8x1024.size a ≤ S1x4096x1024.size a)
theorem k0_mult206_dvd : ∀ (v2749 : BitVec 32) (k0_hw205 : k0_chk205 v2749), 8 ∣ (k0_mult206 v2749).toNat := fun v2749 k0_hw205 => k0_hw205.1
theorem k0_off239_inb : ∀ (v2749 : BitVec 32) (k0_hw205 : k0_chk205 v2749), ∀ a, (k0_off239 v2749) a + S1x8x1024.size a ≤ S1x4096x1024.size a := fun v2749 k0_hw205 => k0_hw205.2

def k0_mult207 (v2762 : BitVec 32) : BitVec 32 :=
  let c7_i32_1739 : BitVec 32 := 7#32
  let v2763 : BitVec 32 := Scalar.andi v2762 c7_i32_1739
  let v2764 : BitVec 32 := Scalar.subi v2762 v2763
  v2764

def k0_off240 (v2762 : BitVec 32) : Fin 3 → Nat :=
  let c0_1740 : Index := 0#32
  let c7_i32_1739 : BitVec 32 := 7#32
  let v2763 : BitVec 32 := Scalar.andi v2762 c7_i32_1739
  let v2764 : BitVec 32 := Scalar.subi v2762 v2763
  let v2765 : BitVec 32 := v2764
  let v2766 : Index := Scalar.indexCast v2765
  let c0_1741 : Index := 0#32
  ![0, v2766.toNat, 0]

def k0_chk206 (v2762 : BitVec 32) : Prop :=
  (8 ∣ (k0_mult207 v2762).toNat) ∧
  (∀ a, (k0_off240 v2762) a + S1x8x1024.size a ≤ S1x4096x1024.size a)
theorem k0_mult207_dvd : ∀ (v2762 : BitVec 32) (k0_hw206 : k0_chk206 v2762), 8 ∣ (k0_mult207 v2762).toNat := fun v2762 k0_hw206 => k0_hw206.1
theorem k0_off240_inb : ∀ (v2762 : BitVec 32) (k0_hw206 : k0_chk206 v2762), ∀ a, (k0_off240 v2762) a + S1x8x1024.size a ≤ S1x4096x1024.size a := fun v2762 k0_hw206 => k0_hw206.2

def k0_mult208 (v2775 : BitVec 32) : BitVec 32 :=
  let c7_i32_1747 : BitVec 32 := 7#32
  let v2776 : BitVec 32 := Scalar.andi v2775 c7_i32_1747
  let v2777 : BitVec 32 := Scalar.subi v2775 v2776
  v2777

def k0_off241 (v2775 : BitVec 32) : Fin 3 → Nat :=
  let c0_1748 : Index := 0#32
  let c7_i32_1747 : BitVec 32 := 7#32
  let v2776 : BitVec 32 := Scalar.andi v2775 c7_i32_1747
  let v2777 : BitVec 32 := Scalar.subi v2775 v2776
  let v2778 : BitVec 32 := v2777
  let v2779 : Index := Scalar.indexCast v2778
  let c0_1749 : Index := 0#32
  ![0, v2779.toNat, 0]

def k0_chk207 (v2775 : BitVec 32) : Prop :=
  (8 ∣ (k0_mult208 v2775).toNat) ∧
  (∀ a, (k0_off241 v2775) a + S1x8x1024.size a ≤ S1x4096x1024.size a)
theorem k0_mult208_dvd : ∀ (v2775 : BitVec 32) (k0_hw207 : k0_chk207 v2775), 8 ∣ (k0_mult208 v2775).toNat := fun v2775 k0_hw207 => k0_hw207.1
theorem k0_off241_inb : ∀ (v2775 : BitVec 32) (k0_hw207 : k0_chk207 v2775), ∀ a, (k0_off241 v2775) a + S1x8x1024.size a ≤ S1x4096x1024.size a := fun v2775 k0_hw207 => k0_hw207.2

def k0_mult209 (v2788 : BitVec 32) : BitVec 32 :=
  let c7_i32_1755 : BitVec 32 := 7#32
  let v2789 : BitVec 32 := Scalar.andi v2788 c7_i32_1755
  let v2790 : BitVec 32 := Scalar.subi v2788 v2789
  v2790

def k0_off242 (v2788 : BitVec 32) : Fin 3 → Nat :=
  let c0_1756 : Index := 0#32
  let c7_i32_1755 : BitVec 32 := 7#32
  let v2789 : BitVec 32 := Scalar.andi v2788 c7_i32_1755
  let v2790 : BitVec 32 := Scalar.subi v2788 v2789
  let v2791 : BitVec 32 := v2790
  let v2792 : Index := Scalar.indexCast v2791
  let c0_1757 : Index := 0#32
  ![0, v2792.toNat, 0]

def k0_chk208 (v2788 : BitVec 32) : Prop :=
  (8 ∣ (k0_mult209 v2788).toNat) ∧
  (∀ a, (k0_off242 v2788) a + S1x8x1024.size a ≤ S1x4096x1024.size a)
theorem k0_mult209_dvd : ∀ (v2788 : BitVec 32) (k0_hw208 : k0_chk208 v2788), 8 ∣ (k0_mult209 v2788).toNat := fun v2788 k0_hw208 => k0_hw208.1
theorem k0_off242_inb : ∀ (v2788 : BitVec 32) (k0_hw208 : k0_chk208 v2788), ∀ a, (k0_off242 v2788) a + S1x8x1024.size a ≤ S1x4096x1024.size a := fun v2788 k0_hw208 => k0_hw208.2

def k0_off243 (i : grid0.Coords) : Fin 3 → Nat :=
  let c1_i32_1695 : BitVec 32 := 1#32
  let arg1 : BitVec 32 := BitVec.ofNat 32 (i 1).val
  let c1_i32 : BitVec 32 := 1#32
  let v1 : BitVec 32 := Scalar.andi arg1 c1_i32
  let v2695 : BitVec 32 := Scalar.subi c1_i32_1695 v1
  let c0_i32_1761 : BitVec 32 := 0#32
  let c0_i32_1762 : BitVec 32 := 0#32
  ![v2695.toNat, 0, 0]
def k0_mult210 (v2808 : BitVec 32) : BitVec 32 :=
  let c7_i32_1769 : BitVec 32 := 7#32
  let v2809 : BitVec 32 := Scalar.andi v2808 c7_i32_1769
  let v2810 : BitVec 32 := Scalar.subi v2808 v2809
  v2810

def k0_off244 (v2808 : BitVec 32) : Fin 3 → Nat :=
  let c0_1770 : Index := 0#32
  let c7_i32_1769 : BitVec 32 := 7#32
  let v2809 : BitVec 32 := Scalar.andi v2808 c7_i32_1769
  let v2810 : BitVec 32 := Scalar.subi v2808 v2809
  let v2811 : BitVec 32 := v2810
  let v2812 : Index := Scalar.indexCast v2811
  let c0_1771 : Index := 0#32
  ![0, v2812.toNat, 0]

def k0_chk209 (v2808 : BitVec 32) : Prop :=
  (8 ∣ (k0_mult210 v2808).toNat) ∧
  (∀ a, (k0_off244 v2808) a + S1x8x1024.size a ≤ S1x4096x1024.size a)
theorem k0_mult210_dvd : ∀ (v2808 : BitVec 32) (k0_hw209 : k0_chk209 v2808), 8 ∣ (k0_mult210 v2808).toNat := fun v2808 k0_hw209 => k0_hw209.1
theorem k0_off244_inb : ∀ (v2808 : BitVec 32) (k0_hw209 : k0_chk209 v2808), ∀ a, (k0_off244 v2808) a + S1x8x1024.size a ≤ S1x4096x1024.size a := fun v2808 k0_hw209 => k0_hw209.2

def k0_mult211 (v2821 : BitVec 32) : BitVec 32 :=
  let c7_i32_1777 : BitVec 32 := 7#32
  let v2822 : BitVec 32 := Scalar.andi v2821 c7_i32_1777
  let v2823 : BitVec 32 := Scalar.subi v2821 v2822
  v2823

def k0_off245 (v2821 : BitVec 32) : Fin 3 → Nat :=
  let c0_1778 : Index := 0#32
  let c7_i32_1777 : BitVec 32 := 7#32
  let v2822 : BitVec 32 := Scalar.andi v2821 c7_i32_1777
  let v2823 : BitVec 32 := Scalar.subi v2821 v2822
  let v2824 : BitVec 32 := v2823
  let v2825 : Index := Scalar.indexCast v2824
  let c0_1779 : Index := 0#32
  ![0, v2825.toNat, 0]

def k0_chk210 (v2821 : BitVec 32) : Prop :=
  (8 ∣ (k0_mult211 v2821).toNat) ∧
  (∀ a, (k0_off245 v2821) a + S1x8x1024.size a ≤ S1x4096x1024.size a)
theorem k0_mult211_dvd : ∀ (v2821 : BitVec 32) (k0_hw210 : k0_chk210 v2821), 8 ∣ (k0_mult211 v2821).toNat := fun v2821 k0_hw210 => k0_hw210.1
theorem k0_off245_inb : ∀ (v2821 : BitVec 32) (k0_hw210 : k0_chk210 v2821), ∀ a, (k0_off245 v2821) a + S1x8x1024.size a ≤ S1x4096x1024.size a := fun v2821 k0_hw210 => k0_hw210.2

def k0_mult212 (v2834 : BitVec 32) : BitVec 32 :=
  let c7_i32_1785 : BitVec 32 := 7#32
  let v2835 : BitVec 32 := Scalar.andi v2834 c7_i32_1785
  let v2836 : BitVec 32 := Scalar.subi v2834 v2835
  v2836

def k0_off246 (v2834 : BitVec 32) : Fin 3 → Nat :=
  let c0_1786 : Index := 0#32
  let c7_i32_1785 : BitVec 32 := 7#32
  let v2835 : BitVec 32 := Scalar.andi v2834 c7_i32_1785
  let v2836 : BitVec 32 := Scalar.subi v2834 v2835
  let v2837 : BitVec 32 := v2836
  let v2838 : Index := Scalar.indexCast v2837
  let c0_1787 : Index := 0#32
  ![0, v2838.toNat, 0]

def k0_chk211 (v2834 : BitVec 32) : Prop :=
  (8 ∣ (k0_mult212 v2834).toNat) ∧
  (∀ a, (k0_off246 v2834) a + S1x8x1024.size a ≤ S1x4096x1024.size a)
theorem k0_mult212_dvd : ∀ (v2834 : BitVec 32) (k0_hw211 : k0_chk211 v2834), 8 ∣ (k0_mult212 v2834).toNat := fun v2834 k0_hw211 => k0_hw211.1
theorem k0_off246_inb : ∀ (v2834 : BitVec 32) (k0_hw211 : k0_chk211 v2834), ∀ a, (k0_off246 v2834) a + S1x8x1024.size a ≤ S1x4096x1024.size a := fun v2834 k0_hw211 => k0_hw211.2

def k0_mult213 (v2847 : BitVec 32) : BitVec 32 :=
  let c7_i32_1793 : BitVec 32 := 7#32
  let v2848 : BitVec 32 := Scalar.andi v2847 c7_i32_1793
  let v2849 : BitVec 32 := Scalar.subi v2847 v2848
  v2849

def k0_off247 (v2847 : BitVec 32) : Fin 3 → Nat :=
  let c0_1794 : Index := 0#32
  let c7_i32_1793 : BitVec 32 := 7#32
  let v2848 : BitVec 32 := Scalar.andi v2847 c7_i32_1793
  let v2849 : BitVec 32 := Scalar.subi v2847 v2848
  let v2850 : BitVec 32 := v2849
  let v2851 : Index := Scalar.indexCast v2850
  let c0_1795 : Index := 0#32
  ![0, v2851.toNat, 0]

def k0_chk212 (v2847 : BitVec 32) : Prop :=
  (8 ∣ (k0_mult213 v2847).toNat) ∧
  (∀ a, (k0_off247 v2847) a + S1x8x1024.size a ≤ S1x4096x1024.size a)
theorem k0_mult213_dvd : ∀ (v2847 : BitVec 32) (k0_hw212 : k0_chk212 v2847), 8 ∣ (k0_mult213 v2847).toNat := fun v2847 k0_hw212 => k0_hw212.1
theorem k0_off247_inb : ∀ (v2847 : BitVec 32) (k0_hw212 : k0_chk212 v2847), ∀ a, (k0_off247 v2847) a + S1x8x1024.size a ≤ S1x4096x1024.size a := fun v2847 k0_hw212 => k0_hw212.2

def k0_mult214 (v2860 : BitVec 32) : BitVec 32 :=
  let c7_i32_1801 : BitVec 32 := 7#32
  let v2861 : BitVec 32 := Scalar.andi v2860 c7_i32_1801
  let v2862 : BitVec 32 := Scalar.subi v2860 v2861
  v2862

def k0_off248 (v2860 : BitVec 32) : Fin 3 → Nat :=
  let c0_1802 : Index := 0#32
  let c7_i32_1801 : BitVec 32 := 7#32
  let v2861 : BitVec 32 := Scalar.andi v2860 c7_i32_1801
  let v2862 : BitVec 32 := Scalar.subi v2860 v2861
  let v2863 : BitVec 32 := v2862
  let v2864 : Index := Scalar.indexCast v2863
  let c0_1803 : Index := 0#32
  ![0, v2864.toNat, 0]

def k0_chk213 (v2860 : BitVec 32) : Prop :=
  (8 ∣ (k0_mult214 v2860).toNat) ∧
  (∀ a, (k0_off248 v2860) a + S1x8x1024.size a ≤ S1x4096x1024.size a)
theorem k0_mult214_dvd : ∀ (v2860 : BitVec 32) (k0_hw213 : k0_chk213 v2860), 8 ∣ (k0_mult214 v2860).toNat := fun v2860 k0_hw213 => k0_hw213.1
theorem k0_off248_inb : ∀ (v2860 : BitVec 32) (k0_hw213 : k0_chk213 v2860), ∀ a, (k0_off248 v2860) a + S1x8x1024.size a ≤ S1x4096x1024.size a := fun v2860 k0_hw213 => k0_hw213.2

def k0_mult215 (v2873 : BitVec 32) : BitVec 32 :=
  let c7_i32_1809 : BitVec 32 := 7#32
  let v2874 : BitVec 32 := Scalar.andi v2873 c7_i32_1809
  let v2875 : BitVec 32 := Scalar.subi v2873 v2874
  v2875

def k0_off249 (v2873 : BitVec 32) : Fin 3 → Nat :=
  let c0_1810 : Index := 0#32
  let c7_i32_1809 : BitVec 32 := 7#32
  let v2874 : BitVec 32 := Scalar.andi v2873 c7_i32_1809
  let v2875 : BitVec 32 := Scalar.subi v2873 v2874
  let v2876 : BitVec 32 := v2875
  let v2877 : Index := Scalar.indexCast v2876
  let c0_1811 : Index := 0#32
  ![0, v2877.toNat, 0]

def k0_chk214 (v2873 : BitVec 32) : Prop :=
  (8 ∣ (k0_mult215 v2873).toNat) ∧
  (∀ a, (k0_off249 v2873) a + S1x8x1024.size a ≤ S1x4096x1024.size a)
theorem k0_mult215_dvd : ∀ (v2873 : BitVec 32) (k0_hw214 : k0_chk214 v2873), 8 ∣ (k0_mult215 v2873).toNat := fun v2873 k0_hw214 => k0_hw214.1
theorem k0_off249_inb : ∀ (v2873 : BitVec 32) (k0_hw214 : k0_chk214 v2873), ∀ a, (k0_off249 v2873) a + S1x8x1024.size a ≤ S1x4096x1024.size a := fun v2873 k0_hw214 => k0_hw214.2

def k0_mult216 (v2886 : BitVec 32) : BitVec 32 :=
  let c7_i32_1817 : BitVec 32 := 7#32
  let v2887 : BitVec 32 := Scalar.andi v2886 c7_i32_1817
  let v2888 : BitVec 32 := Scalar.subi v2886 v2887
  v2888

def k0_off250 (v2886 : BitVec 32) : Fin 3 → Nat :=
  let c0_1818 : Index := 0#32
  let c7_i32_1817 : BitVec 32 := 7#32
  let v2887 : BitVec 32 := Scalar.andi v2886 c7_i32_1817
  let v2888 : BitVec 32 := Scalar.subi v2886 v2887
  let v2889 : BitVec 32 := v2888
  let v2890 : Index := Scalar.indexCast v2889
  let c0_1819 : Index := 0#32
  ![0, v2890.toNat, 0]

def k0_chk215 (v2886 : BitVec 32) : Prop :=
  (8 ∣ (k0_mult216 v2886).toNat) ∧
  (∀ a, (k0_off250 v2886) a + S1x8x1024.size a ≤ S1x4096x1024.size a)
theorem k0_mult216_dvd : ∀ (v2886 : BitVec 32) (k0_hw215 : k0_chk215 v2886), 8 ∣ (k0_mult216 v2886).toNat := fun v2886 k0_hw215 => k0_hw215.1
theorem k0_off250_inb : ∀ (v2886 : BitVec 32) (k0_hw215 : k0_chk215 v2886), ∀ a, (k0_off250 v2886) a + S1x8x1024.size a ≤ S1x4096x1024.size a := fun v2886 k0_hw215 => k0_hw215.2

def k0_mult217 (v2899 : BitVec 32) : BitVec 32 :=
  let c7_i32_1825 : BitVec 32 := 7#32
  let v2900 : BitVec 32 := Scalar.andi v2899 c7_i32_1825
  let v2901 : BitVec 32 := Scalar.subi v2899 v2900
  v2901

def k0_off251 (v2899 : BitVec 32) : Fin 3 → Nat :=
  let c0_1826 : Index := 0#32
  let c7_i32_1825 : BitVec 32 := 7#32
  let v2900 : BitVec 32 := Scalar.andi v2899 c7_i32_1825
  let v2901 : BitVec 32 := Scalar.subi v2899 v2900
  let v2902 : BitVec 32 := v2901
  let v2903 : Index := Scalar.indexCast v2902
  let c0_1827 : Index := 0#32
  ![0, v2903.toNat, 0]

def k0_chk216 (v2899 : BitVec 32) : Prop :=
  (8 ∣ (k0_mult217 v2899).toNat) ∧
  (∀ a, (k0_off251 v2899) a + S1x8x1024.size a ≤ S1x4096x1024.size a)
theorem k0_mult217_dvd : ∀ (v2899 : BitVec 32) (k0_hw216 : k0_chk216 v2899), 8 ∣ (k0_mult217 v2899).toNat := fun v2899 k0_hw216 => k0_hw216.1
theorem k0_off251_inb : ∀ (v2899 : BitVec 32) (k0_hw216 : k0_chk216 v2899), ∀ a, (k0_off251 v2899) a + S1x8x1024.size a ≤ S1x4096x1024.size a := fun v2899 k0_hw216 => k0_hw216.2

def k0_off252 (i : grid0.Coords) : Fin 3 → Nat :=
  let c1_i32_1765 : BitVec 32 := 1#32
  let arg1 : BitVec 32 := BitVec.ofNat 32 (i 1).val
  let c1_i32 : BitVec 32 := 1#32
  let v1 : BitVec 32 := Scalar.andi arg1 c1_i32
  let v2806 : BitVec 32 := Scalar.subi c1_i32_1765 v1
  let c0_i32_1831 : BitVec 32 := 0#32
  let c0_i32_1832 : BitVec 32 := 0#32
  ![v2806.toNat, 0, 0]
def k0_mult218 (v2919 : BitVec 32) : BitVec 32 :=
  let c7_i32_1839 : BitVec 32 := 7#32
  let v2920 : BitVec 32 := Scalar.andi v2919 c7_i32_1839
  let v2921 : BitVec 32 := Scalar.subi v2919 v2920
  v2921

def k0_off253 (v2919 : BitVec 32) : Fin 3 → Nat :=
  let c0_1840 : Index := 0#32
  let c7_i32_1839 : BitVec 32 := 7#32
  let v2920 : BitVec 32 := Scalar.andi v2919 c7_i32_1839
  let v2921 : BitVec 32 := Scalar.subi v2919 v2920
  let v2922 : BitVec 32 := v2921
  let v2923 : Index := Scalar.indexCast v2922
  let c0_1841 : Index := 0#32
  ![0, v2923.toNat, 0]

def k0_chk217 (v2919 : BitVec 32) : Prop :=
  (8 ∣ (k0_mult218 v2919).toNat) ∧
  (∀ a, (k0_off253 v2919) a + S1x8x1024.size a ≤ S1x4096x1024.size a)
theorem k0_mult218_dvd : ∀ (v2919 : BitVec 32) (k0_hw217 : k0_chk217 v2919), 8 ∣ (k0_mult218 v2919).toNat := fun v2919 k0_hw217 => k0_hw217.1
theorem k0_off253_inb : ∀ (v2919 : BitVec 32) (k0_hw217 : k0_chk217 v2919), ∀ a, (k0_off253 v2919) a + S1x8x1024.size a ≤ S1x4096x1024.size a := fun v2919 k0_hw217 => k0_hw217.2

def k0_mult219 (v2932 : BitVec 32) : BitVec 32 :=
  let c7_i32_1847 : BitVec 32 := 7#32
  let v2933 : BitVec 32 := Scalar.andi v2932 c7_i32_1847
  let v2934 : BitVec 32 := Scalar.subi v2932 v2933
  v2934

def k0_off254 (v2932 : BitVec 32) : Fin 3 → Nat :=
  let c0_1848 : Index := 0#32
  let c7_i32_1847 : BitVec 32 := 7#32
  let v2933 : BitVec 32 := Scalar.andi v2932 c7_i32_1847
  let v2934 : BitVec 32 := Scalar.subi v2932 v2933
  let v2935 : BitVec 32 := v2934
  let v2936 : Index := Scalar.indexCast v2935
  let c0_1849 : Index := 0#32
  ![0, v2936.toNat, 0]

def k0_chk218 (v2932 : BitVec 32) : Prop :=
  (8 ∣ (k0_mult219 v2932).toNat) ∧
  (∀ a, (k0_off254 v2932) a + S1x8x1024.size a ≤ S1x4096x1024.size a)
theorem k0_mult219_dvd : ∀ (v2932 : BitVec 32) (k0_hw218 : k0_chk218 v2932), 8 ∣ (k0_mult219 v2932).toNat := fun v2932 k0_hw218 => k0_hw218.1
theorem k0_off254_inb : ∀ (v2932 : BitVec 32) (k0_hw218 : k0_chk218 v2932), ∀ a, (k0_off254 v2932) a + S1x8x1024.size a ≤ S1x4096x1024.size a := fun v2932 k0_hw218 => k0_hw218.2

def k0_mult220 (v2945 : BitVec 32) : BitVec 32 :=
  let c7_i32_1855 : BitVec 32 := 7#32
  let v2946 : BitVec 32 := Scalar.andi v2945 c7_i32_1855
  let v2947 : BitVec 32 := Scalar.subi v2945 v2946
  v2947

def k0_off255 (v2945 : BitVec 32) : Fin 3 → Nat :=
  let c0_1856 : Index := 0#32
  let c7_i32_1855 : BitVec 32 := 7#32
  let v2946 : BitVec 32 := Scalar.andi v2945 c7_i32_1855
  let v2947 : BitVec 32 := Scalar.subi v2945 v2946
  let v2948 : BitVec 32 := v2947
  let v2949 : Index := Scalar.indexCast v2948
  let c0_1857 : Index := 0#32
  ![0, v2949.toNat, 0]

def k0_chk219 (v2945 : BitVec 32) : Prop :=
  (8 ∣ (k0_mult220 v2945).toNat) ∧
  (∀ a, (k0_off255 v2945) a + S1x8x1024.size a ≤ S1x4096x1024.size a)
theorem k0_mult220_dvd : ∀ (v2945 : BitVec 32) (k0_hw219 : k0_chk219 v2945), 8 ∣ (k0_mult220 v2945).toNat := fun v2945 k0_hw219 => k0_hw219.1
theorem k0_off255_inb : ∀ (v2945 : BitVec 32) (k0_hw219 : k0_chk219 v2945), ∀ a, (k0_off255 v2945) a + S1x8x1024.size a ≤ S1x4096x1024.size a := fun v2945 k0_hw219 => k0_hw219.2

def k0_mult221 (v2958 : BitVec 32) : BitVec 32 :=
  let c7_i32_1863 : BitVec 32 := 7#32
  let v2959 : BitVec 32 := Scalar.andi v2958 c7_i32_1863
  let v2960 : BitVec 32 := Scalar.subi v2958 v2959
  v2960

def k0_off256 (v2958 : BitVec 32) : Fin 3 → Nat :=
  let c0_1864 : Index := 0#32
  let c7_i32_1863 : BitVec 32 := 7#32
  let v2959 : BitVec 32 := Scalar.andi v2958 c7_i32_1863
  let v2960 : BitVec 32 := Scalar.subi v2958 v2959
  let v2961 : BitVec 32 := v2960
  let v2962 : Index := Scalar.indexCast v2961
  let c0_1865 : Index := 0#32
  ![0, v2962.toNat, 0]

def k0_chk220 (v2958 : BitVec 32) : Prop :=
  (8 ∣ (k0_mult221 v2958).toNat) ∧
  (∀ a, (k0_off256 v2958) a + S1x8x1024.size a ≤ S1x4096x1024.size a)
theorem k0_mult221_dvd : ∀ (v2958 : BitVec 32) (k0_hw220 : k0_chk220 v2958), 8 ∣ (k0_mult221 v2958).toNat := fun v2958 k0_hw220 => k0_hw220.1
theorem k0_off256_inb : ∀ (v2958 : BitVec 32) (k0_hw220 : k0_chk220 v2958), ∀ a, (k0_off256 v2958) a + S1x8x1024.size a ≤ S1x4096x1024.size a := fun v2958 k0_hw220 => k0_hw220.2

def k0_mult222 (v2971 : BitVec 32) : BitVec 32 :=
  let c7_i32_1871 : BitVec 32 := 7#32
  let v2972 : BitVec 32 := Scalar.andi v2971 c7_i32_1871
  let v2973 : BitVec 32 := Scalar.subi v2971 v2972
  v2973

def k0_off257 (v2971 : BitVec 32) : Fin 3 → Nat :=
  let c0_1872 : Index := 0#32
  let c7_i32_1871 : BitVec 32 := 7#32
  let v2972 : BitVec 32 := Scalar.andi v2971 c7_i32_1871
  let v2973 : BitVec 32 := Scalar.subi v2971 v2972
  let v2974 : BitVec 32 := v2973
  let v2975 : Index := Scalar.indexCast v2974
  let c0_1873 : Index := 0#32
  ![0, v2975.toNat, 0]

def k0_chk221 (v2971 : BitVec 32) : Prop :=
  (8 ∣ (k0_mult222 v2971).toNat) ∧
  (∀ a, (k0_off257 v2971) a + S1x8x1024.size a ≤ S1x4096x1024.size a)
theorem k0_mult222_dvd : ∀ (v2971 : BitVec 32) (k0_hw221 : k0_chk221 v2971), 8 ∣ (k0_mult222 v2971).toNat := fun v2971 k0_hw221 => k0_hw221.1
theorem k0_off257_inb : ∀ (v2971 : BitVec 32) (k0_hw221 : k0_chk221 v2971), ∀ a, (k0_off257 v2971) a + S1x8x1024.size a ≤ S1x4096x1024.size a := fun v2971 k0_hw221 => k0_hw221.2

def k0_mult223 (v2984 : BitVec 32) : BitVec 32 :=
  let c7_i32_1879 : BitVec 32 := 7#32
  let v2985 : BitVec 32 := Scalar.andi v2984 c7_i32_1879
  let v2986 : BitVec 32 := Scalar.subi v2984 v2985
  v2986

def k0_off258 (v2984 : BitVec 32) : Fin 3 → Nat :=
  let c0_1880 : Index := 0#32
  let c7_i32_1879 : BitVec 32 := 7#32
  let v2985 : BitVec 32 := Scalar.andi v2984 c7_i32_1879
  let v2986 : BitVec 32 := Scalar.subi v2984 v2985
  let v2987 : BitVec 32 := v2986
  let v2988 : Index := Scalar.indexCast v2987
  let c0_1881 : Index := 0#32
  ![0, v2988.toNat, 0]

def k0_chk222 (v2984 : BitVec 32) : Prop :=
  (8 ∣ (k0_mult223 v2984).toNat) ∧
  (∀ a, (k0_off258 v2984) a + S1x8x1024.size a ≤ S1x4096x1024.size a)
theorem k0_mult223_dvd : ∀ (v2984 : BitVec 32) (k0_hw222 : k0_chk222 v2984), 8 ∣ (k0_mult223 v2984).toNat := fun v2984 k0_hw222 => k0_hw222.1
theorem k0_off258_inb : ∀ (v2984 : BitVec 32) (k0_hw222 : k0_chk222 v2984), ∀ a, (k0_off258 v2984) a + S1x8x1024.size a ≤ S1x4096x1024.size a := fun v2984 k0_hw222 => k0_hw222.2

def k0_mult224 (v2997 : BitVec 32) : BitVec 32 :=
  let c7_i32_1887 : BitVec 32 := 7#32
  let v2998 : BitVec 32 := Scalar.andi v2997 c7_i32_1887
  let v2999 : BitVec 32 := Scalar.subi v2997 v2998
  v2999

def k0_off259 (v2997 : BitVec 32) : Fin 3 → Nat :=
  let c0_1888 : Index := 0#32
  let c7_i32_1887 : BitVec 32 := 7#32
  let v2998 : BitVec 32 := Scalar.andi v2997 c7_i32_1887
  let v2999 : BitVec 32 := Scalar.subi v2997 v2998
  let v3000 : BitVec 32 := v2999
  let v3001 : Index := Scalar.indexCast v3000
  let c0_1889 : Index := 0#32
  ![0, v3001.toNat, 0]

def k0_chk223 (v2997 : BitVec 32) : Prop :=
  (8 ∣ (k0_mult224 v2997).toNat) ∧
  (∀ a, (k0_off259 v2997) a + S1x8x1024.size a ≤ S1x4096x1024.size a)
theorem k0_mult224_dvd : ∀ (v2997 : BitVec 32) (k0_hw223 : k0_chk223 v2997), 8 ∣ (k0_mult224 v2997).toNat := fun v2997 k0_hw223 => k0_hw223.1
theorem k0_off259_inb : ∀ (v2997 : BitVec 32) (k0_hw223 : k0_chk223 v2997), ∀ a, (k0_off259 v2997) a + S1x8x1024.size a ≤ S1x4096x1024.size a := fun v2997 k0_hw223 => k0_hw223.2

def k0_mult225 (v3010 : BitVec 32) : BitVec 32 :=
  let c7_i32_1895 : BitVec 32 := 7#32
  let v3011 : BitVec 32 := Scalar.andi v3010 c7_i32_1895
  let v3012 : BitVec 32 := Scalar.subi v3010 v3011
  v3012

def k0_off260 (v3010 : BitVec 32) : Fin 3 → Nat :=
  let c0_1896 : Index := 0#32
  let c7_i32_1895 : BitVec 32 := 7#32
  let v3011 : BitVec 32 := Scalar.andi v3010 c7_i32_1895
  let v3012 : BitVec 32 := Scalar.subi v3010 v3011
  let v3013 : BitVec 32 := v3012
  let v3014 : Index := Scalar.indexCast v3013
  let c0_1897 : Index := 0#32
  ![0, v3014.toNat, 0]

def k0_chk224 (v3010 : BitVec 32) : Prop :=
  (8 ∣ (k0_mult225 v3010).toNat) ∧
  (∀ a, (k0_off260 v3010) a + S1x8x1024.size a ≤ S1x4096x1024.size a)
theorem k0_mult225_dvd : ∀ (v3010 : BitVec 32) (k0_hw224 : k0_chk224 v3010), 8 ∣ (k0_mult225 v3010).toNat := fun v3010 k0_hw224 => k0_hw224.1
theorem k0_off260_inb : ∀ (v3010 : BitVec 32) (k0_hw224 : k0_chk224 v3010), ∀ a, (k0_off260 v3010) a + S1x8x1024.size a ≤ S1x4096x1024.size a := fun v3010 k0_hw224 => k0_hw224.2

def k0_off261 (i : grid0.Coords) : Fin 3 → Nat :=
  let c1_i32_1835 : BitVec 32 := 1#32
  let arg1 : BitVec 32 := BitVec.ofNat 32 (i 1).val
  let c1_i32 : BitVec 32 := 1#32
  let v1 : BitVec 32 := Scalar.andi arg1 c1_i32
  let v2917 : BitVec 32 := Scalar.subi c1_i32_1835 v1
  let c0_i32_1901 : BitVec 32 := 0#32
  let c0_i32_1902 : BitVec 32 := 0#32
  ![v2917.toNat, 0, 0]
def k0_mult226 (v3030 : BitVec 32) : BitVec 32 :=
  let c7_i32_1909 : BitVec 32 := 7#32
  let v3031 : BitVec 32 := Scalar.andi v3030 c7_i32_1909
  let v3032 : BitVec 32 := Scalar.subi v3030 v3031
  v3032

def k0_off262 (v3030 : BitVec 32) : Fin 3 → Nat :=
  let c0_1910 : Index := 0#32
  let c7_i32_1909 : BitVec 32 := 7#32
  let v3031 : BitVec 32 := Scalar.andi v3030 c7_i32_1909
  let v3032 : BitVec 32 := Scalar.subi v3030 v3031
  let v3033 : BitVec 32 := v3032
  let v3034 : Index := Scalar.indexCast v3033
  let c0_1911 : Index := 0#32
  ![0, v3034.toNat, 0]

def k0_chk225 (v3030 : BitVec 32) : Prop :=
  (8 ∣ (k0_mult226 v3030).toNat) ∧
  (∀ a, (k0_off262 v3030) a + S1x8x1024.size a ≤ S1x4096x1024.size a)
theorem k0_mult226_dvd : ∀ (v3030 : BitVec 32) (k0_hw225 : k0_chk225 v3030), 8 ∣ (k0_mult226 v3030).toNat := fun v3030 k0_hw225 => k0_hw225.1
theorem k0_off262_inb : ∀ (v3030 : BitVec 32) (k0_hw225 : k0_chk225 v3030), ∀ a, (k0_off262 v3030) a + S1x8x1024.size a ≤ S1x4096x1024.size a := fun v3030 k0_hw225 => k0_hw225.2

def k0_mult227 (v3043 : BitVec 32) : BitVec 32 :=
  let c7_i32_1917 : BitVec 32 := 7#32
  let v3044 : BitVec 32 := Scalar.andi v3043 c7_i32_1917
  let v3045 : BitVec 32 := Scalar.subi v3043 v3044
  v3045

def k0_off263 (v3043 : BitVec 32) : Fin 3 → Nat :=
  let c0_1918 : Index := 0#32
  let c7_i32_1917 : BitVec 32 := 7#32
  let v3044 : BitVec 32 := Scalar.andi v3043 c7_i32_1917
  let v3045 : BitVec 32 := Scalar.subi v3043 v3044
  let v3046 : BitVec 32 := v3045
  let v3047 : Index := Scalar.indexCast v3046
  let c0_1919 : Index := 0#32
  ![0, v3047.toNat, 0]

def k0_chk226 (v3043 : BitVec 32) : Prop :=
  (8 ∣ (k0_mult227 v3043).toNat) ∧
  (∀ a, (k0_off263 v3043) a + S1x8x1024.size a ≤ S1x4096x1024.size a)
theorem k0_mult227_dvd : ∀ (v3043 : BitVec 32) (k0_hw226 : k0_chk226 v3043), 8 ∣ (k0_mult227 v3043).toNat := fun v3043 k0_hw226 => k0_hw226.1
theorem k0_off263_inb : ∀ (v3043 : BitVec 32) (k0_hw226 : k0_chk226 v3043), ∀ a, (k0_off263 v3043) a + S1x8x1024.size a ≤ S1x4096x1024.size a := fun v3043 k0_hw226 => k0_hw226.2

def k0_mult228 (v3056 : BitVec 32) : BitVec 32 :=
  let c7_i32_1925 : BitVec 32 := 7#32
  let v3057 : BitVec 32 := Scalar.andi v3056 c7_i32_1925
  let v3058 : BitVec 32 := Scalar.subi v3056 v3057
  v3058

def k0_off264 (v3056 : BitVec 32) : Fin 3 → Nat :=
  let c0_1926 : Index := 0#32
  let c7_i32_1925 : BitVec 32 := 7#32
  let v3057 : BitVec 32 := Scalar.andi v3056 c7_i32_1925
  let v3058 : BitVec 32 := Scalar.subi v3056 v3057
  let v3059 : BitVec 32 := v3058
  let v3060 : Index := Scalar.indexCast v3059
  let c0_1927 : Index := 0#32
  ![0, v3060.toNat, 0]

def k0_chk227 (v3056 : BitVec 32) : Prop :=
  (8 ∣ (k0_mult228 v3056).toNat) ∧
  (∀ a, (k0_off264 v3056) a + S1x8x1024.size a ≤ S1x4096x1024.size a)
theorem k0_mult228_dvd : ∀ (v3056 : BitVec 32) (k0_hw227 : k0_chk227 v3056), 8 ∣ (k0_mult228 v3056).toNat := fun v3056 k0_hw227 => k0_hw227.1
theorem k0_off264_inb : ∀ (v3056 : BitVec 32) (k0_hw227 : k0_chk227 v3056), ∀ a, (k0_off264 v3056) a + S1x8x1024.size a ≤ S1x4096x1024.size a := fun v3056 k0_hw227 => k0_hw227.2

def k0_mult229 (v3069 : BitVec 32) : BitVec 32 :=
  let c7_i32_1933 : BitVec 32 := 7#32
  let v3070 : BitVec 32 := Scalar.andi v3069 c7_i32_1933
  let v3071 : BitVec 32 := Scalar.subi v3069 v3070
  v3071

def k0_off265 (v3069 : BitVec 32) : Fin 3 → Nat :=
  let c0_1934 : Index := 0#32
  let c7_i32_1933 : BitVec 32 := 7#32
  let v3070 : BitVec 32 := Scalar.andi v3069 c7_i32_1933
  let v3071 : BitVec 32 := Scalar.subi v3069 v3070
  let v3072 : BitVec 32 := v3071
  let v3073 : Index := Scalar.indexCast v3072
  let c0_1935 : Index := 0#32
  ![0, v3073.toNat, 0]

def k0_chk228 (v3069 : BitVec 32) : Prop :=
  (8 ∣ (k0_mult229 v3069).toNat) ∧
  (∀ a, (k0_off265 v3069) a + S1x8x1024.size a ≤ S1x4096x1024.size a)
theorem k0_mult229_dvd : ∀ (v3069 : BitVec 32) (k0_hw228 : k0_chk228 v3069), 8 ∣ (k0_mult229 v3069).toNat := fun v3069 k0_hw228 => k0_hw228.1
theorem k0_off265_inb : ∀ (v3069 : BitVec 32) (k0_hw228 : k0_chk228 v3069), ∀ a, (k0_off265 v3069) a + S1x8x1024.size a ≤ S1x4096x1024.size a := fun v3069 k0_hw228 => k0_hw228.2

def k0_mult230 (v3082 : BitVec 32) : BitVec 32 :=
  let c7_i32_1941 : BitVec 32 := 7#32
  let v3083 : BitVec 32 := Scalar.andi v3082 c7_i32_1941
  let v3084 : BitVec 32 := Scalar.subi v3082 v3083
  v3084

def k0_off266 (v3082 : BitVec 32) : Fin 3 → Nat :=
  let c0_1942 : Index := 0#32
  let c7_i32_1941 : BitVec 32 := 7#32
  let v3083 : BitVec 32 := Scalar.andi v3082 c7_i32_1941
  let v3084 : BitVec 32 := Scalar.subi v3082 v3083
  let v3085 : BitVec 32 := v3084
  let v3086 : Index := Scalar.indexCast v3085
  let c0_1943 : Index := 0#32
  ![0, v3086.toNat, 0]

def k0_chk229 (v3082 : BitVec 32) : Prop :=
  (8 ∣ (k0_mult230 v3082).toNat) ∧
  (∀ a, (k0_off266 v3082) a + S1x8x1024.size a ≤ S1x4096x1024.size a)
theorem k0_mult230_dvd : ∀ (v3082 : BitVec 32) (k0_hw229 : k0_chk229 v3082), 8 ∣ (k0_mult230 v3082).toNat := fun v3082 k0_hw229 => k0_hw229.1
theorem k0_off266_inb : ∀ (v3082 : BitVec 32) (k0_hw229 : k0_chk229 v3082), ∀ a, (k0_off266 v3082) a + S1x8x1024.size a ≤ S1x4096x1024.size a := fun v3082 k0_hw229 => k0_hw229.2

def k0_mult231 (v3095 : BitVec 32) : BitVec 32 :=
  let c7_i32_1949 : BitVec 32 := 7#32
  let v3096 : BitVec 32 := Scalar.andi v3095 c7_i32_1949
  let v3097 : BitVec 32 := Scalar.subi v3095 v3096
  v3097

def k0_off267 (v3095 : BitVec 32) : Fin 3 → Nat :=
  let c0_1950 : Index := 0#32
  let c7_i32_1949 : BitVec 32 := 7#32
  let v3096 : BitVec 32 := Scalar.andi v3095 c7_i32_1949
  let v3097 : BitVec 32 := Scalar.subi v3095 v3096
  let v3098 : BitVec 32 := v3097
  let v3099 : Index := Scalar.indexCast v3098
  let c0_1951 : Index := 0#32
  ![0, v3099.toNat, 0]

def k0_chk230 (v3095 : BitVec 32) : Prop :=
  (8 ∣ (k0_mult231 v3095).toNat) ∧
  (∀ a, (k0_off267 v3095) a + S1x8x1024.size a ≤ S1x4096x1024.size a)
theorem k0_mult231_dvd : ∀ (v3095 : BitVec 32) (k0_hw230 : k0_chk230 v3095), 8 ∣ (k0_mult231 v3095).toNat := fun v3095 k0_hw230 => k0_hw230.1
theorem k0_off267_inb : ∀ (v3095 : BitVec 32) (k0_hw230 : k0_chk230 v3095), ∀ a, (k0_off267 v3095) a + S1x8x1024.size a ≤ S1x4096x1024.size a := fun v3095 k0_hw230 => k0_hw230.2

def k0_mult232 (v3108 : BitVec 32) : BitVec 32 :=
  let c7_i32_1957 : BitVec 32 := 7#32
  let v3109 : BitVec 32 := Scalar.andi v3108 c7_i32_1957
  let v3110 : BitVec 32 := Scalar.subi v3108 v3109
  v3110

def k0_off268 (v3108 : BitVec 32) : Fin 3 → Nat :=
  let c0_1958 : Index := 0#32
  let c7_i32_1957 : BitVec 32 := 7#32
  let v3109 : BitVec 32 := Scalar.andi v3108 c7_i32_1957
  let v3110 : BitVec 32 := Scalar.subi v3108 v3109
  let v3111 : BitVec 32 := v3110
  let v3112 : Index := Scalar.indexCast v3111
  let c0_1959 : Index := 0#32
  ![0, v3112.toNat, 0]

def k0_chk231 (v3108 : BitVec 32) : Prop :=
  (8 ∣ (k0_mult232 v3108).toNat) ∧
  (∀ a, (k0_off268 v3108) a + S1x8x1024.size a ≤ S1x4096x1024.size a)
theorem k0_mult232_dvd : ∀ (v3108 : BitVec 32) (k0_hw231 : k0_chk231 v3108), 8 ∣ (k0_mult232 v3108).toNat := fun v3108 k0_hw231 => k0_hw231.1
theorem k0_off268_inb : ∀ (v3108 : BitVec 32) (k0_hw231 : k0_chk231 v3108), ∀ a, (k0_off268 v3108) a + S1x8x1024.size a ≤ S1x4096x1024.size a := fun v3108 k0_hw231 => k0_hw231.2

def k0_mult233 (v3121 : BitVec 32) : BitVec 32 :=
  let c7_i32_1965 : BitVec 32 := 7#32
  let v3122 : BitVec 32 := Scalar.andi v3121 c7_i32_1965
  let v3123 : BitVec 32 := Scalar.subi v3121 v3122
  v3123

def k0_off269 (v3121 : BitVec 32) : Fin 3 → Nat :=
  let c0_1966 : Index := 0#32
  let c7_i32_1965 : BitVec 32 := 7#32
  let v3122 : BitVec 32 := Scalar.andi v3121 c7_i32_1965
  let v3123 : BitVec 32 := Scalar.subi v3121 v3122
  let v3124 : BitVec 32 := v3123
  let v3125 : Index := Scalar.indexCast v3124
  let c0_1967 : Index := 0#32
  ![0, v3125.toNat, 0]

def k0_chk232 (v3121 : BitVec 32) : Prop :=
  (8 ∣ (k0_mult233 v3121).toNat) ∧
  (∀ a, (k0_off269 v3121) a + S1x8x1024.size a ≤ S1x4096x1024.size a)
theorem k0_mult233_dvd : ∀ (v3121 : BitVec 32) (k0_hw232 : k0_chk232 v3121), 8 ∣ (k0_mult233 v3121).toNat := fun v3121 k0_hw232 => k0_hw232.1
theorem k0_off269_inb : ∀ (v3121 : BitVec 32) (k0_hw232 : k0_chk232 v3121), ∀ a, (k0_off269 v3121) a + S1x8x1024.size a ≤ S1x4096x1024.size a := fun v3121 k0_hw232 => k0_hw232.2

def k0_off270 (i : grid0.Coords) : Fin 3 → Nat :=
  let c1_i32_1905 : BitVec 32 := 1#32
  let arg1 : BitVec 32 := BitVec.ofNat 32 (i 1).val
  let c1_i32 : BitVec 32 := 1#32
  let v1 : BitVec 32 := Scalar.andi arg1 c1_i32
  let v3028 : BitVec 32 := Scalar.subi c1_i32_1905 v1
  let c0_i32_1971 : BitVec 32 := 0#32
  let c0_i32_1972 : BitVec 32 := 0#32
  ![v3028.toNat, 0, 0]
def k0_mult234 (v3141 : BitVec 32) : BitVec 32 :=
  let c7_i32_1979 : BitVec 32 := 7#32
  let v3142 : BitVec 32 := Scalar.andi v3141 c7_i32_1979
  let v3143 : BitVec 32 := Scalar.subi v3141 v3142
  v3143

def k0_off271 (v3141 : BitVec 32) : Fin 3 → Nat :=
  let c0_1980 : Index := 0#32
  let c7_i32_1979 : BitVec 32 := 7#32
  let v3142 : BitVec 32 := Scalar.andi v3141 c7_i32_1979
  let v3143 : BitVec 32 := Scalar.subi v3141 v3142
  let v3144 : BitVec 32 := v3143
  let v3145 : Index := Scalar.indexCast v3144
  let c0_1981 : Index := 0#32
  ![0, v3145.toNat, 0]

def k0_chk233 (v3141 : BitVec 32) : Prop :=
  (8 ∣ (k0_mult234 v3141).toNat) ∧
  (∀ a, (k0_off271 v3141) a + S1x8x1024.size a ≤ S1x4096x1024.size a)
theorem k0_mult234_dvd : ∀ (v3141 : BitVec 32) (k0_hw233 : k0_chk233 v3141), 8 ∣ (k0_mult234 v3141).toNat := fun v3141 k0_hw233 => k0_hw233.1
theorem k0_off271_inb : ∀ (v3141 : BitVec 32) (k0_hw233 : k0_chk233 v3141), ∀ a, (k0_off271 v3141) a + S1x8x1024.size a ≤ S1x4096x1024.size a := fun v3141 k0_hw233 => k0_hw233.2

def k0_mult235 (v3154 : BitVec 32) : BitVec 32 :=
  let c7_i32_1987 : BitVec 32 := 7#32
  let v3155 : BitVec 32 := Scalar.andi v3154 c7_i32_1987
  let v3156 : BitVec 32 := Scalar.subi v3154 v3155
  v3156

def k0_off272 (v3154 : BitVec 32) : Fin 3 → Nat :=
  let c0_1988 : Index := 0#32
  let c7_i32_1987 : BitVec 32 := 7#32
  let v3155 : BitVec 32 := Scalar.andi v3154 c7_i32_1987
  let v3156 : BitVec 32 := Scalar.subi v3154 v3155
  let v3157 : BitVec 32 := v3156
  let v3158 : Index := Scalar.indexCast v3157
  let c0_1989 : Index := 0#32
  ![0, v3158.toNat, 0]

def k0_chk234 (v3154 : BitVec 32) : Prop :=
  (8 ∣ (k0_mult235 v3154).toNat) ∧
  (∀ a, (k0_off272 v3154) a + S1x8x1024.size a ≤ S1x4096x1024.size a)
theorem k0_mult235_dvd : ∀ (v3154 : BitVec 32) (k0_hw234 : k0_chk234 v3154), 8 ∣ (k0_mult235 v3154).toNat := fun v3154 k0_hw234 => k0_hw234.1
theorem k0_off272_inb : ∀ (v3154 : BitVec 32) (k0_hw234 : k0_chk234 v3154), ∀ a, (k0_off272 v3154) a + S1x8x1024.size a ≤ S1x4096x1024.size a := fun v3154 k0_hw234 => k0_hw234.2

def k0_mult236 (v3167 : BitVec 32) : BitVec 32 :=
  let c7_i32_1995 : BitVec 32 := 7#32
  let v3168 : BitVec 32 := Scalar.andi v3167 c7_i32_1995
  let v3169 : BitVec 32 := Scalar.subi v3167 v3168
  v3169

def k0_off273 (v3167 : BitVec 32) : Fin 3 → Nat :=
  let c0_1996 : Index := 0#32
  let c7_i32_1995 : BitVec 32 := 7#32
  let v3168 : BitVec 32 := Scalar.andi v3167 c7_i32_1995
  let v3169 : BitVec 32 := Scalar.subi v3167 v3168
  let v3170 : BitVec 32 := v3169
  let v3171 : Index := Scalar.indexCast v3170
  let c0_1997 : Index := 0#32
  ![0, v3171.toNat, 0]

def k0_chk235 (v3167 : BitVec 32) : Prop :=
  (8 ∣ (k0_mult236 v3167).toNat) ∧
  (∀ a, (k0_off273 v3167) a + S1x8x1024.size a ≤ S1x4096x1024.size a)
theorem k0_mult236_dvd : ∀ (v3167 : BitVec 32) (k0_hw235 : k0_chk235 v3167), 8 ∣ (k0_mult236 v3167).toNat := fun v3167 k0_hw235 => k0_hw235.1
theorem k0_off273_inb : ∀ (v3167 : BitVec 32) (k0_hw235 : k0_chk235 v3167), ∀ a, (k0_off273 v3167) a + S1x8x1024.size a ≤ S1x4096x1024.size a := fun v3167 k0_hw235 => k0_hw235.2

def k0_mult237 (v3180 : BitVec 32) : BitVec 32 :=
  let c7_i32_2003 : BitVec 32 := 7#32
  let v3181 : BitVec 32 := Scalar.andi v3180 c7_i32_2003
  let v3182 : BitVec 32 := Scalar.subi v3180 v3181
  v3182

def k0_off274 (v3180 : BitVec 32) : Fin 3 → Nat :=
  let c0_2004 : Index := 0#32
  let c7_i32_2003 : BitVec 32 := 7#32
  let v3181 : BitVec 32 := Scalar.andi v3180 c7_i32_2003
  let v3182 : BitVec 32 := Scalar.subi v3180 v3181
  let v3183 : BitVec 32 := v3182
  let v3184 : Index := Scalar.indexCast v3183
  let c0_2005 : Index := 0#32
  ![0, v3184.toNat, 0]

def k0_chk236 (v3180 : BitVec 32) : Prop :=
  (8 ∣ (k0_mult237 v3180).toNat) ∧
  (∀ a, (k0_off274 v3180) a + S1x8x1024.size a ≤ S1x4096x1024.size a)
theorem k0_mult237_dvd : ∀ (v3180 : BitVec 32) (k0_hw236 : k0_chk236 v3180), 8 ∣ (k0_mult237 v3180).toNat := fun v3180 k0_hw236 => k0_hw236.1
theorem k0_off274_inb : ∀ (v3180 : BitVec 32) (k0_hw236 : k0_chk236 v3180), ∀ a, (k0_off274 v3180) a + S1x8x1024.size a ≤ S1x4096x1024.size a := fun v3180 k0_hw236 => k0_hw236.2

def k0_mult238 (v3193 : BitVec 32) : BitVec 32 :=
  let c7_i32_2011 : BitVec 32 := 7#32
  let v3194 : BitVec 32 := Scalar.andi v3193 c7_i32_2011
  let v3195 : BitVec 32 := Scalar.subi v3193 v3194
  v3195

def k0_off275 (v3193 : BitVec 32) : Fin 3 → Nat :=
  let c0_2012 : Index := 0#32
  let c7_i32_2011 : BitVec 32 := 7#32
  let v3194 : BitVec 32 := Scalar.andi v3193 c7_i32_2011
  let v3195 : BitVec 32 := Scalar.subi v3193 v3194
  let v3196 : BitVec 32 := v3195
  let v3197 : Index := Scalar.indexCast v3196
  let c0_2013 : Index := 0#32
  ![0, v3197.toNat, 0]

def k0_chk237 (v3193 : BitVec 32) : Prop :=
  (8 ∣ (k0_mult238 v3193).toNat) ∧
  (∀ a, (k0_off275 v3193) a + S1x8x1024.size a ≤ S1x4096x1024.size a)
theorem k0_mult238_dvd : ∀ (v3193 : BitVec 32) (k0_hw237 : k0_chk237 v3193), 8 ∣ (k0_mult238 v3193).toNat := fun v3193 k0_hw237 => k0_hw237.1
theorem k0_off275_inb : ∀ (v3193 : BitVec 32) (k0_hw237 : k0_chk237 v3193), ∀ a, (k0_off275 v3193) a + S1x8x1024.size a ≤ S1x4096x1024.size a := fun v3193 k0_hw237 => k0_hw237.2

def k0_mult239 (v3206 : BitVec 32) : BitVec 32 :=
  let c7_i32_2019 : BitVec 32 := 7#32
  let v3207 : BitVec 32 := Scalar.andi v3206 c7_i32_2019
  let v3208 : BitVec 32 := Scalar.subi v3206 v3207
  v3208

def k0_off276 (v3206 : BitVec 32) : Fin 3 → Nat :=
  let c0_2020 : Index := 0#32
  let c7_i32_2019 : BitVec 32 := 7#32
  let v3207 : BitVec 32 := Scalar.andi v3206 c7_i32_2019
  let v3208 : BitVec 32 := Scalar.subi v3206 v3207
  let v3209 : BitVec 32 := v3208
  let v3210 : Index := Scalar.indexCast v3209
  let c0_2021 : Index := 0#32
  ![0, v3210.toNat, 0]

def k0_chk238 (v3206 : BitVec 32) : Prop :=
  (8 ∣ (k0_mult239 v3206).toNat) ∧
  (∀ a, (k0_off276 v3206) a + S1x8x1024.size a ≤ S1x4096x1024.size a)
theorem k0_mult239_dvd : ∀ (v3206 : BitVec 32) (k0_hw238 : k0_chk238 v3206), 8 ∣ (k0_mult239 v3206).toNat := fun v3206 k0_hw238 => k0_hw238.1
theorem k0_off276_inb : ∀ (v3206 : BitVec 32) (k0_hw238 : k0_chk238 v3206), ∀ a, (k0_off276 v3206) a + S1x8x1024.size a ≤ S1x4096x1024.size a := fun v3206 k0_hw238 => k0_hw238.2

def k0_mult240 (v3219 : BitVec 32) : BitVec 32 :=
  let c7_i32_2027 : BitVec 32 := 7#32
  let v3220 : BitVec 32 := Scalar.andi v3219 c7_i32_2027
  let v3221 : BitVec 32 := Scalar.subi v3219 v3220
  v3221

def k0_off277 (v3219 : BitVec 32) : Fin 3 → Nat :=
  let c0_2028 : Index := 0#32
  let c7_i32_2027 : BitVec 32 := 7#32
  let v3220 : BitVec 32 := Scalar.andi v3219 c7_i32_2027
  let v3221 : BitVec 32 := Scalar.subi v3219 v3220
  let v3222 : BitVec 32 := v3221
  let v3223 : Index := Scalar.indexCast v3222
  let c0_2029 : Index := 0#32
  ![0, v3223.toNat, 0]

def k0_chk239 (v3219 : BitVec 32) : Prop :=
  (8 ∣ (k0_mult240 v3219).toNat) ∧
  (∀ a, (k0_off277 v3219) a + S1x8x1024.size a ≤ S1x4096x1024.size a)
theorem k0_mult240_dvd : ∀ (v3219 : BitVec 32) (k0_hw239 : k0_chk239 v3219), 8 ∣ (k0_mult240 v3219).toNat := fun v3219 k0_hw239 => k0_hw239.1
theorem k0_off277_inb : ∀ (v3219 : BitVec 32) (k0_hw239 : k0_chk239 v3219), ∀ a, (k0_off277 v3219) a + S1x8x1024.size a ≤ S1x4096x1024.size a := fun v3219 k0_hw239 => k0_hw239.2

def k0_mult241 (v3232 : BitVec 32) : BitVec 32 :=
  let c7_i32_2035 : BitVec 32 := 7#32
  let v3233 : BitVec 32 := Scalar.andi v3232 c7_i32_2035
  let v3234 : BitVec 32 := Scalar.subi v3232 v3233
  v3234

def k0_off278 (v3232 : BitVec 32) : Fin 3 → Nat :=
  let c0_2036 : Index := 0#32
  let c7_i32_2035 : BitVec 32 := 7#32
  let v3233 : BitVec 32 := Scalar.andi v3232 c7_i32_2035
  let v3234 : BitVec 32 := Scalar.subi v3232 v3233
  let v3235 : BitVec 32 := v3234
  let v3236 : Index := Scalar.indexCast v3235
  let c0_2037 : Index := 0#32
  ![0, v3236.toNat, 0]

def k0_chk240 (v3232 : BitVec 32) : Prop :=
  (8 ∣ (k0_mult241 v3232).toNat) ∧
  (∀ a, (k0_off278 v3232) a + S1x8x1024.size a ≤ S1x4096x1024.size a)
theorem k0_mult241_dvd : ∀ (v3232 : BitVec 32) (k0_hw240 : k0_chk240 v3232), 8 ∣ (k0_mult241 v3232).toNat := fun v3232 k0_hw240 => k0_hw240.1
theorem k0_off278_inb : ∀ (v3232 : BitVec 32) (k0_hw240 : k0_chk240 v3232), ∀ a, (k0_off278 v3232) a + S1x8x1024.size a ≤ S1x4096x1024.size a := fun v3232 k0_hw240 => k0_hw240.2

def k0_off279 (i : grid0.Coords) : Fin 3 → Nat :=
  let c1_i32_1975 : BitVec 32 := 1#32
  let arg1 : BitVec 32 := BitVec.ofNat 32 (i 1).val
  let c1_i32 : BitVec 32 := 1#32
  let v1 : BitVec 32 := Scalar.andi arg1 c1_i32
  let v3139 : BitVec 32 := Scalar.subi c1_i32_1975 v1
  let c0_i32_2041 : BitVec 32 := 0#32
  let c0_i32_2042 : BitVec 32 := 0#32
  ![v3139.toNat, 0, 0]
def k0_mult242 (v3252 : BitVec 32) : BitVec 32 :=
  let c7_i32_2049 : BitVec 32 := 7#32
  let v3253 : BitVec 32 := Scalar.andi v3252 c7_i32_2049
  let v3254 : BitVec 32 := Scalar.subi v3252 v3253
  v3254

def k0_off280 (v3252 : BitVec 32) : Fin 3 → Nat :=
  let c0_2050 : Index := 0#32
  let c7_i32_2049 : BitVec 32 := 7#32
  let v3253 : BitVec 32 := Scalar.andi v3252 c7_i32_2049
  let v3254 : BitVec 32 := Scalar.subi v3252 v3253
  let v3255 : BitVec 32 := v3254
  let v3256 : Index := Scalar.indexCast v3255
  let c0_2051 : Index := 0#32
  ![0, v3256.toNat, 0]

def k0_chk241 (v3252 : BitVec 32) : Prop :=
  (8 ∣ (k0_mult242 v3252).toNat) ∧
  (∀ a, (k0_off280 v3252) a + S1x8x1024.size a ≤ S1x4096x1024.size a)
theorem k0_mult242_dvd : ∀ (v3252 : BitVec 32) (k0_hw241 : k0_chk241 v3252), 8 ∣ (k0_mult242 v3252).toNat := fun v3252 k0_hw241 => k0_hw241.1
theorem k0_off280_inb : ∀ (v3252 : BitVec 32) (k0_hw241 : k0_chk241 v3252), ∀ a, (k0_off280 v3252) a + S1x8x1024.size a ≤ S1x4096x1024.size a := fun v3252 k0_hw241 => k0_hw241.2

def k0_mult243 (v3265 : BitVec 32) : BitVec 32 :=
  let c7_i32_2057 : BitVec 32 := 7#32
  let v3266 : BitVec 32 := Scalar.andi v3265 c7_i32_2057
  let v3267 : BitVec 32 := Scalar.subi v3265 v3266
  v3267

def k0_off281 (v3265 : BitVec 32) : Fin 3 → Nat :=
  let c0_2058 : Index := 0#32
  let c7_i32_2057 : BitVec 32 := 7#32
  let v3266 : BitVec 32 := Scalar.andi v3265 c7_i32_2057
  let v3267 : BitVec 32 := Scalar.subi v3265 v3266
  let v3268 : BitVec 32 := v3267
  let v3269 : Index := Scalar.indexCast v3268
  let c0_2059 : Index := 0#32
  ![0, v3269.toNat, 0]

def k0_chk242 (v3265 : BitVec 32) : Prop :=
  (8 ∣ (k0_mult243 v3265).toNat) ∧
  (∀ a, (k0_off281 v3265) a + S1x8x1024.size a ≤ S1x4096x1024.size a)
theorem k0_mult243_dvd : ∀ (v3265 : BitVec 32) (k0_hw242 : k0_chk242 v3265), 8 ∣ (k0_mult243 v3265).toNat := fun v3265 k0_hw242 => k0_hw242.1
theorem k0_off281_inb : ∀ (v3265 : BitVec 32) (k0_hw242 : k0_chk242 v3265), ∀ a, (k0_off281 v3265) a + S1x8x1024.size a ≤ S1x4096x1024.size a := fun v3265 k0_hw242 => k0_hw242.2

def k0_mult244 (v3278 : BitVec 32) : BitVec 32 :=
  let c7_i32_2065 : BitVec 32 := 7#32
  let v3279 : BitVec 32 := Scalar.andi v3278 c7_i32_2065
  let v3280 : BitVec 32 := Scalar.subi v3278 v3279
  v3280

def k0_off282 (v3278 : BitVec 32) : Fin 3 → Nat :=
  let c0_2066 : Index := 0#32
  let c7_i32_2065 : BitVec 32 := 7#32
  let v3279 : BitVec 32 := Scalar.andi v3278 c7_i32_2065
  let v3280 : BitVec 32 := Scalar.subi v3278 v3279
  let v3281 : BitVec 32 := v3280
  let v3282 : Index := Scalar.indexCast v3281
  let c0_2067 : Index := 0#32
  ![0, v3282.toNat, 0]

def k0_chk243 (v3278 : BitVec 32) : Prop :=
  (8 ∣ (k0_mult244 v3278).toNat) ∧
  (∀ a, (k0_off282 v3278) a + S1x8x1024.size a ≤ S1x4096x1024.size a)
theorem k0_mult244_dvd : ∀ (v3278 : BitVec 32) (k0_hw243 : k0_chk243 v3278), 8 ∣ (k0_mult244 v3278).toNat := fun v3278 k0_hw243 => k0_hw243.1
theorem k0_off282_inb : ∀ (v3278 : BitVec 32) (k0_hw243 : k0_chk243 v3278), ∀ a, (k0_off282 v3278) a + S1x8x1024.size a ≤ S1x4096x1024.size a := fun v3278 k0_hw243 => k0_hw243.2

def k0_mult245 (v3291 : BitVec 32) : BitVec 32 :=
  let c7_i32_2073 : BitVec 32 := 7#32
  let v3292 : BitVec 32 := Scalar.andi v3291 c7_i32_2073
  let v3293 : BitVec 32 := Scalar.subi v3291 v3292
  v3293

def k0_off283 (v3291 : BitVec 32) : Fin 3 → Nat :=
  let c0_2074 : Index := 0#32
  let c7_i32_2073 : BitVec 32 := 7#32
  let v3292 : BitVec 32 := Scalar.andi v3291 c7_i32_2073
  let v3293 : BitVec 32 := Scalar.subi v3291 v3292
  let v3294 : BitVec 32 := v3293
  let v3295 : Index := Scalar.indexCast v3294
  let c0_2075 : Index := 0#32
  ![0, v3295.toNat, 0]

def k0_chk244 (v3291 : BitVec 32) : Prop :=
  (8 ∣ (k0_mult245 v3291).toNat) ∧
  (∀ a, (k0_off283 v3291) a + S1x8x1024.size a ≤ S1x4096x1024.size a)
theorem k0_mult245_dvd : ∀ (v3291 : BitVec 32) (k0_hw244 : k0_chk244 v3291), 8 ∣ (k0_mult245 v3291).toNat := fun v3291 k0_hw244 => k0_hw244.1
theorem k0_off283_inb : ∀ (v3291 : BitVec 32) (k0_hw244 : k0_chk244 v3291), ∀ a, (k0_off283 v3291) a + S1x8x1024.size a ≤ S1x4096x1024.size a := fun v3291 k0_hw244 => k0_hw244.2

def k0_mult246 (v3304 : BitVec 32) : BitVec 32 :=
  let c7_i32_2081 : BitVec 32 := 7#32
  let v3305 : BitVec 32 := Scalar.andi v3304 c7_i32_2081
  let v3306 : BitVec 32 := Scalar.subi v3304 v3305
  v3306

def k0_off284 (v3304 : BitVec 32) : Fin 3 → Nat :=
  let c0_2082 : Index := 0#32
  let c7_i32_2081 : BitVec 32 := 7#32
  let v3305 : BitVec 32 := Scalar.andi v3304 c7_i32_2081
  let v3306 : BitVec 32 := Scalar.subi v3304 v3305
  let v3307 : BitVec 32 := v3306
  let v3308 : Index := Scalar.indexCast v3307
  let c0_2083 : Index := 0#32
  ![0, v3308.toNat, 0]

def k0_chk245 (v3304 : BitVec 32) : Prop :=
  (8 ∣ (k0_mult246 v3304).toNat) ∧
  (∀ a, (k0_off284 v3304) a + S1x8x1024.size a ≤ S1x4096x1024.size a)
theorem k0_mult246_dvd : ∀ (v3304 : BitVec 32) (k0_hw245 : k0_chk245 v3304), 8 ∣ (k0_mult246 v3304).toNat := fun v3304 k0_hw245 => k0_hw245.1
theorem k0_off284_inb : ∀ (v3304 : BitVec 32) (k0_hw245 : k0_chk245 v3304), ∀ a, (k0_off284 v3304) a + S1x8x1024.size a ≤ S1x4096x1024.size a := fun v3304 k0_hw245 => k0_hw245.2

def k0_mult247 (v3317 : BitVec 32) : BitVec 32 :=
  let c7_i32_2089 : BitVec 32 := 7#32
  let v3318 : BitVec 32 := Scalar.andi v3317 c7_i32_2089
  let v3319 : BitVec 32 := Scalar.subi v3317 v3318
  v3319

def k0_off285 (v3317 : BitVec 32) : Fin 3 → Nat :=
  let c0_2090 : Index := 0#32
  let c7_i32_2089 : BitVec 32 := 7#32
  let v3318 : BitVec 32 := Scalar.andi v3317 c7_i32_2089
  let v3319 : BitVec 32 := Scalar.subi v3317 v3318
  let v3320 : BitVec 32 := v3319
  let v3321 : Index := Scalar.indexCast v3320
  let c0_2091 : Index := 0#32
  ![0, v3321.toNat, 0]

def k0_chk246 (v3317 : BitVec 32) : Prop :=
  (8 ∣ (k0_mult247 v3317).toNat) ∧
  (∀ a, (k0_off285 v3317) a + S1x8x1024.size a ≤ S1x4096x1024.size a)
theorem k0_mult247_dvd : ∀ (v3317 : BitVec 32) (k0_hw246 : k0_chk246 v3317), 8 ∣ (k0_mult247 v3317).toNat := fun v3317 k0_hw246 => k0_hw246.1
theorem k0_off285_inb : ∀ (v3317 : BitVec 32) (k0_hw246 : k0_chk246 v3317), ∀ a, (k0_off285 v3317) a + S1x8x1024.size a ≤ S1x4096x1024.size a := fun v3317 k0_hw246 => k0_hw246.2

def k0_mult248 (v3330 : BitVec 32) : BitVec 32 :=
  let c7_i32_2097 : BitVec 32 := 7#32
  let v3331 : BitVec 32 := Scalar.andi v3330 c7_i32_2097
  let v3332 : BitVec 32 := Scalar.subi v3330 v3331
  v3332

def k0_off286 (v3330 : BitVec 32) : Fin 3 → Nat :=
  let c0_2098 : Index := 0#32
  let c7_i32_2097 : BitVec 32 := 7#32
  let v3331 : BitVec 32 := Scalar.andi v3330 c7_i32_2097
  let v3332 : BitVec 32 := Scalar.subi v3330 v3331
  let v3333 : BitVec 32 := v3332
  let v3334 : Index := Scalar.indexCast v3333
  let c0_2099 : Index := 0#32
  ![0, v3334.toNat, 0]

def k0_chk247 (v3330 : BitVec 32) : Prop :=
  (8 ∣ (k0_mult248 v3330).toNat) ∧
  (∀ a, (k0_off286 v3330) a + S1x8x1024.size a ≤ S1x4096x1024.size a)
theorem k0_mult248_dvd : ∀ (v3330 : BitVec 32) (k0_hw247 : k0_chk247 v3330), 8 ∣ (k0_mult248 v3330).toNat := fun v3330 k0_hw247 => k0_hw247.1
theorem k0_off286_inb : ∀ (v3330 : BitVec 32) (k0_hw247 : k0_chk247 v3330), ∀ a, (k0_off286 v3330) a + S1x8x1024.size a ≤ S1x4096x1024.size a := fun v3330 k0_hw247 => k0_hw247.2

def k0_mult249 (v3343 : BitVec 32) : BitVec 32 :=
  let c7_i32_2105 : BitVec 32 := 7#32
  let v3344 : BitVec 32 := Scalar.andi v3343 c7_i32_2105
  let v3345 : BitVec 32 := Scalar.subi v3343 v3344
  v3345

def k0_off287 (v3343 : BitVec 32) : Fin 3 → Nat :=
  let c0_2106 : Index := 0#32
  let c7_i32_2105 : BitVec 32 := 7#32
  let v3344 : BitVec 32 := Scalar.andi v3343 c7_i32_2105
  let v3345 : BitVec 32 := Scalar.subi v3343 v3344
  let v3346 : BitVec 32 := v3345
  let v3347 : Index := Scalar.indexCast v3346
  let c0_2107 : Index := 0#32
  ![0, v3347.toNat, 0]

def k0_chk248 (v3343 : BitVec 32) : Prop :=
  (8 ∣ (k0_mult249 v3343).toNat) ∧
  (∀ a, (k0_off287 v3343) a + S1x8x1024.size a ≤ S1x4096x1024.size a)
theorem k0_mult249_dvd : ∀ (v3343 : BitVec 32) (k0_hw248 : k0_chk248 v3343), 8 ∣ (k0_mult249 v3343).toNat := fun v3343 k0_hw248 => k0_hw248.1
theorem k0_off287_inb : ∀ (v3343 : BitVec 32) (k0_hw248 : k0_chk248 v3343), ∀ a, (k0_off287 v3343) a + S1x8x1024.size a ≤ S1x4096x1024.size a := fun v3343 k0_hw248 => k0_hw248.2

def k0_off288 (i : grid0.Coords) : Fin 3 → Nat :=
  let c1_i32_2045 : BitVec 32 := 1#32
  let arg1 : BitVec 32 := BitVec.ofNat 32 (i 1).val
  let c1_i32 : BitVec 32 := 1#32
  let v1 : BitVec 32 := Scalar.andi arg1 c1_i32
  let v3250 : BitVec 32 := Scalar.subi c1_i32_2045 v1
  let c0_i32_2111 : BitVec 32 := 0#32
  let c0_i32_2112 : BitVec 32 := 0#32
  ![v3250.toNat, 0, 0]
def k0_mult250 (v3363 : BitVec 32) : BitVec 32 :=
  let c7_i32_2119 : BitVec 32 := 7#32
  let v3364 : BitVec 32 := Scalar.andi v3363 c7_i32_2119
  let v3365 : BitVec 32 := Scalar.subi v3363 v3364
  v3365

def k0_off289 (v3363 : BitVec 32) : Fin 3 → Nat :=
  let c0_2120 : Index := 0#32
  let c7_i32_2119 : BitVec 32 := 7#32
  let v3364 : BitVec 32 := Scalar.andi v3363 c7_i32_2119
  let v3365 : BitVec 32 := Scalar.subi v3363 v3364
  let v3366 : BitVec 32 := v3365
  let v3367 : Index := Scalar.indexCast v3366
  let c0_2121 : Index := 0#32
  ![0, v3367.toNat, 0]

def k0_chk249 (v3363 : BitVec 32) : Prop :=
  (8 ∣ (k0_mult250 v3363).toNat) ∧
  (∀ a, (k0_off289 v3363) a + S1x8x1024.size a ≤ S1x4096x1024.size a)
theorem k0_mult250_dvd : ∀ (v3363 : BitVec 32) (k0_hw249 : k0_chk249 v3363), 8 ∣ (k0_mult250 v3363).toNat := fun v3363 k0_hw249 => k0_hw249.1
theorem k0_off289_inb : ∀ (v3363 : BitVec 32) (k0_hw249 : k0_chk249 v3363), ∀ a, (k0_off289 v3363) a + S1x8x1024.size a ≤ S1x4096x1024.size a := fun v3363 k0_hw249 => k0_hw249.2

def k0_mult251 (v3376 : BitVec 32) : BitVec 32 :=
  let c7_i32_2127 : BitVec 32 := 7#32
  let v3377 : BitVec 32 := Scalar.andi v3376 c7_i32_2127
  let v3378 : BitVec 32 := Scalar.subi v3376 v3377
  v3378

def k0_off290 (v3376 : BitVec 32) : Fin 3 → Nat :=
  let c0_2128 : Index := 0#32
  let c7_i32_2127 : BitVec 32 := 7#32
  let v3377 : BitVec 32 := Scalar.andi v3376 c7_i32_2127
  let v3378 : BitVec 32 := Scalar.subi v3376 v3377
  let v3379 : BitVec 32 := v3378
  let v3380 : Index := Scalar.indexCast v3379
  let c0_2129 : Index := 0#32
  ![0, v3380.toNat, 0]

def k0_chk250 (v3376 : BitVec 32) : Prop :=
  (8 ∣ (k0_mult251 v3376).toNat) ∧
  (∀ a, (k0_off290 v3376) a + S1x8x1024.size a ≤ S1x4096x1024.size a)
theorem k0_mult251_dvd : ∀ (v3376 : BitVec 32) (k0_hw250 : k0_chk250 v3376), 8 ∣ (k0_mult251 v3376).toNat := fun v3376 k0_hw250 => k0_hw250.1
theorem k0_off290_inb : ∀ (v3376 : BitVec 32) (k0_hw250 : k0_chk250 v3376), ∀ a, (k0_off290 v3376) a + S1x8x1024.size a ≤ S1x4096x1024.size a := fun v3376 k0_hw250 => k0_hw250.2

def k0_mult252 (v3389 : BitVec 32) : BitVec 32 :=
  let c7_i32_2135 : BitVec 32 := 7#32
  let v3390 : BitVec 32 := Scalar.andi v3389 c7_i32_2135
  let v3391 : BitVec 32 := Scalar.subi v3389 v3390
  v3391

def k0_off291 (v3389 : BitVec 32) : Fin 3 → Nat :=
  let c0_2136 : Index := 0#32
  let c7_i32_2135 : BitVec 32 := 7#32
  let v3390 : BitVec 32 := Scalar.andi v3389 c7_i32_2135
  let v3391 : BitVec 32 := Scalar.subi v3389 v3390
  let v3392 : BitVec 32 := v3391
  let v3393 : Index := Scalar.indexCast v3392
  let c0_2137 : Index := 0#32
  ![0, v3393.toNat, 0]

def k0_chk251 (v3389 : BitVec 32) : Prop :=
  (8 ∣ (k0_mult252 v3389).toNat) ∧
  (∀ a, (k0_off291 v3389) a + S1x8x1024.size a ≤ S1x4096x1024.size a)
theorem k0_mult252_dvd : ∀ (v3389 : BitVec 32) (k0_hw251 : k0_chk251 v3389), 8 ∣ (k0_mult252 v3389).toNat := fun v3389 k0_hw251 => k0_hw251.1
theorem k0_off291_inb : ∀ (v3389 : BitVec 32) (k0_hw251 : k0_chk251 v3389), ∀ a, (k0_off291 v3389) a + S1x8x1024.size a ≤ S1x4096x1024.size a := fun v3389 k0_hw251 => k0_hw251.2

def k0_mult253 (v3402 : BitVec 32) : BitVec 32 :=
  let c7_i32_2143 : BitVec 32 := 7#32
  let v3403 : BitVec 32 := Scalar.andi v3402 c7_i32_2143
  let v3404 : BitVec 32 := Scalar.subi v3402 v3403
  v3404

def k0_off292 (v3402 : BitVec 32) : Fin 3 → Nat :=
  let c0_2144 : Index := 0#32
  let c7_i32_2143 : BitVec 32 := 7#32
  let v3403 : BitVec 32 := Scalar.andi v3402 c7_i32_2143
  let v3404 : BitVec 32 := Scalar.subi v3402 v3403
  let v3405 : BitVec 32 := v3404
  let v3406 : Index := Scalar.indexCast v3405
  let c0_2145 : Index := 0#32
  ![0, v3406.toNat, 0]

def k0_chk252 (v3402 : BitVec 32) : Prop :=
  (8 ∣ (k0_mult253 v3402).toNat) ∧
  (∀ a, (k0_off292 v3402) a + S1x8x1024.size a ≤ S1x4096x1024.size a)
theorem k0_mult253_dvd : ∀ (v3402 : BitVec 32) (k0_hw252 : k0_chk252 v3402), 8 ∣ (k0_mult253 v3402).toNat := fun v3402 k0_hw252 => k0_hw252.1
theorem k0_off292_inb : ∀ (v3402 : BitVec 32) (k0_hw252 : k0_chk252 v3402), ∀ a, (k0_off292 v3402) a + S1x8x1024.size a ≤ S1x4096x1024.size a := fun v3402 k0_hw252 => k0_hw252.2

def k0_mult254 (v3415 : BitVec 32) : BitVec 32 :=
  let c7_i32_2151 : BitVec 32 := 7#32
  let v3416 : BitVec 32 := Scalar.andi v3415 c7_i32_2151
  let v3417 : BitVec 32 := Scalar.subi v3415 v3416
  v3417

def k0_off293 (v3415 : BitVec 32) : Fin 3 → Nat :=
  let c0_2152 : Index := 0#32
  let c7_i32_2151 : BitVec 32 := 7#32
  let v3416 : BitVec 32 := Scalar.andi v3415 c7_i32_2151
  let v3417 : BitVec 32 := Scalar.subi v3415 v3416
  let v3418 : BitVec 32 := v3417
  let v3419 : Index := Scalar.indexCast v3418
  let c0_2153 : Index := 0#32
  ![0, v3419.toNat, 0]

def k0_chk253 (v3415 : BitVec 32) : Prop :=
  (8 ∣ (k0_mult254 v3415).toNat) ∧
  (∀ a, (k0_off293 v3415) a + S1x8x1024.size a ≤ S1x4096x1024.size a)
theorem k0_mult254_dvd : ∀ (v3415 : BitVec 32) (k0_hw253 : k0_chk253 v3415), 8 ∣ (k0_mult254 v3415).toNat := fun v3415 k0_hw253 => k0_hw253.1
theorem k0_off293_inb : ∀ (v3415 : BitVec 32) (k0_hw253 : k0_chk253 v3415), ∀ a, (k0_off293 v3415) a + S1x8x1024.size a ≤ S1x4096x1024.size a := fun v3415 k0_hw253 => k0_hw253.2

def k0_mult255 (v3428 : BitVec 32) : BitVec 32 :=
  let c7_i32_2159 : BitVec 32 := 7#32
  let v3429 : BitVec 32 := Scalar.andi v3428 c7_i32_2159
  let v3430 : BitVec 32 := Scalar.subi v3428 v3429
  v3430

def k0_off294 (v3428 : BitVec 32) : Fin 3 → Nat :=
  let c0_2160 : Index := 0#32
  let c7_i32_2159 : BitVec 32 := 7#32
  let v3429 : BitVec 32 := Scalar.andi v3428 c7_i32_2159
  let v3430 : BitVec 32 := Scalar.subi v3428 v3429
  let v3431 : BitVec 32 := v3430
  let v3432 : Index := Scalar.indexCast v3431
  let c0_2161 : Index := 0#32
  ![0, v3432.toNat, 0]

def k0_chk254 (v3428 : BitVec 32) : Prop :=
  (8 ∣ (k0_mult255 v3428).toNat) ∧
  (∀ a, (k0_off294 v3428) a + S1x8x1024.size a ≤ S1x4096x1024.size a)
theorem k0_mult255_dvd : ∀ (v3428 : BitVec 32) (k0_hw254 : k0_chk254 v3428), 8 ∣ (k0_mult255 v3428).toNat := fun v3428 k0_hw254 => k0_hw254.1
theorem k0_off294_inb : ∀ (v3428 : BitVec 32) (k0_hw254 : k0_chk254 v3428), ∀ a, (k0_off294 v3428) a + S1x8x1024.size a ≤ S1x4096x1024.size a := fun v3428 k0_hw254 => k0_hw254.2

def k0_mult256 (v3441 : BitVec 32) : BitVec 32 :=
  let c7_i32_2167 : BitVec 32 := 7#32
  let v3442 : BitVec 32 := Scalar.andi v3441 c7_i32_2167
  let v3443 : BitVec 32 := Scalar.subi v3441 v3442
  v3443

def k0_off295 (v3441 : BitVec 32) : Fin 3 → Nat :=
  let c0_2168 : Index := 0#32
  let c7_i32_2167 : BitVec 32 := 7#32
  let v3442 : BitVec 32 := Scalar.andi v3441 c7_i32_2167
  let v3443 : BitVec 32 := Scalar.subi v3441 v3442
  let v3444 : BitVec 32 := v3443
  let v3445 : Index := Scalar.indexCast v3444
  let c0_2169 : Index := 0#32
  ![0, v3445.toNat, 0]

def k0_chk255 (v3441 : BitVec 32) : Prop :=
  (8 ∣ (k0_mult256 v3441).toNat) ∧
  (∀ a, (k0_off295 v3441) a + S1x8x1024.size a ≤ S1x4096x1024.size a)
theorem k0_mult256_dvd : ∀ (v3441 : BitVec 32) (k0_hw255 : k0_chk255 v3441), 8 ∣ (k0_mult256 v3441).toNat := fun v3441 k0_hw255 => k0_hw255.1
theorem k0_off295_inb : ∀ (v3441 : BitVec 32) (k0_hw255 : k0_chk255 v3441), ∀ a, (k0_off295 v3441) a + S1x8x1024.size a ≤ S1x4096x1024.size a := fun v3441 k0_hw255 => k0_hw255.2

def k0_mult257 (v3454 : BitVec 32) : BitVec 32 :=
  let c7_i32_2175 : BitVec 32 := 7#32
  let v3455 : BitVec 32 := Scalar.andi v3454 c7_i32_2175
  let v3456 : BitVec 32 := Scalar.subi v3454 v3455
  v3456

def k0_off296 (v3454 : BitVec 32) : Fin 3 → Nat :=
  let c0_2176 : Index := 0#32
  let c7_i32_2175 : BitVec 32 := 7#32
  let v3455 : BitVec 32 := Scalar.andi v3454 c7_i32_2175
  let v3456 : BitVec 32 := Scalar.subi v3454 v3455
  let v3457 : BitVec 32 := v3456
  let v3458 : Index := Scalar.indexCast v3457
  let c0_2177 : Index := 0#32
  ![0, v3458.toNat, 0]

def k0_chk256 (v3454 : BitVec 32) : Prop :=
  (8 ∣ (k0_mult257 v3454).toNat) ∧
  (∀ a, (k0_off296 v3454) a + S1x8x1024.size a ≤ S1x4096x1024.size a)
theorem k0_mult257_dvd : ∀ (v3454 : BitVec 32) (k0_hw256 : k0_chk256 v3454), 8 ∣ (k0_mult257 v3454).toNat := fun v3454 k0_hw256 => k0_hw256.1
theorem k0_off296_inb : ∀ (v3454 : BitVec 32) (k0_hw256 : k0_chk256 v3454), ∀ a, (k0_off296 v3454) a + S1x8x1024.size a ≤ S1x4096x1024.size a := fun v3454 k0_hw256 => k0_hw256.2

def k0_off297 (i : grid0.Coords) : Fin 3 → Nat :=
  let c1_i32_2115 : BitVec 32 := 1#32
  let arg1 : BitVec 32 := BitVec.ofNat 32 (i 1).val
  let c1_i32 : BitVec 32 := 1#32
  let v1 : BitVec 32 := Scalar.andi arg1 c1_i32
  let v3361 : BitVec 32 := Scalar.subi c1_i32_2115 v1
  let c0_i32_2181 : BitVec 32 := 0#32
  let c0_i32_2182 : BitVec 32 := 0#32
  ![v3361.toNat, 0, 0]
def k0_mult258 (v3474 : BitVec 32) : BitVec 32 :=
  let c7_i32_2189 : BitVec 32 := 7#32
  let v3475 : BitVec 32 := Scalar.andi v3474 c7_i32_2189
  let v3476 : BitVec 32 := Scalar.subi v3474 v3475
  v3476

def k0_off298 (v3474 : BitVec 32) : Fin 3 → Nat :=
  let c0_2190 : Index := 0#32
  let c7_i32_2189 : BitVec 32 := 7#32
  let v3475 : BitVec 32 := Scalar.andi v3474 c7_i32_2189
  let v3476 : BitVec 32 := Scalar.subi v3474 v3475
  let v3477 : BitVec 32 := v3476
  let v3478 : Index := Scalar.indexCast v3477
  let c0_2191 : Index := 0#32
  ![0, v3478.toNat, 0]

def k0_chk257 (v3474 : BitVec 32) : Prop :=
  (8 ∣ (k0_mult258 v3474).toNat) ∧
  (∀ a, (k0_off298 v3474) a + S1x8x1024.size a ≤ S1x4096x1024.size a)
theorem k0_mult258_dvd : ∀ (v3474 : BitVec 32) (k0_hw257 : k0_chk257 v3474), 8 ∣ (k0_mult258 v3474).toNat := fun v3474 k0_hw257 => k0_hw257.1
theorem k0_off298_inb : ∀ (v3474 : BitVec 32) (k0_hw257 : k0_chk257 v3474), ∀ a, (k0_off298 v3474) a + S1x8x1024.size a ≤ S1x4096x1024.size a := fun v3474 k0_hw257 => k0_hw257.2

def k0_mult259 (v3487 : BitVec 32) : BitVec 32 :=
  let c7_i32_2197 : BitVec 32 := 7#32
  let v3488 : BitVec 32 := Scalar.andi v3487 c7_i32_2197
  let v3489 : BitVec 32 := Scalar.subi v3487 v3488
  v3489

def k0_off299 (v3487 : BitVec 32) : Fin 3 → Nat :=
  let c0_2198 : Index := 0#32
  let c7_i32_2197 : BitVec 32 := 7#32
  let v3488 : BitVec 32 := Scalar.andi v3487 c7_i32_2197
  let v3489 : BitVec 32 := Scalar.subi v3487 v3488
  let v3490 : BitVec 32 := v3489
  let v3491 : Index := Scalar.indexCast v3490
  let c0_2199 : Index := 0#32
  ![0, v3491.toNat, 0]

def k0_chk258 (v3487 : BitVec 32) : Prop :=
  (8 ∣ (k0_mult259 v3487).toNat) ∧
  (∀ a, (k0_off299 v3487) a + S1x8x1024.size a ≤ S1x4096x1024.size a)
theorem k0_mult259_dvd : ∀ (v3487 : BitVec 32) (k0_hw258 : k0_chk258 v3487), 8 ∣ (k0_mult259 v3487).toNat := fun v3487 k0_hw258 => k0_hw258.1
theorem k0_off299_inb : ∀ (v3487 : BitVec 32) (k0_hw258 : k0_chk258 v3487), ∀ a, (k0_off299 v3487) a + S1x8x1024.size a ≤ S1x4096x1024.size a := fun v3487 k0_hw258 => k0_hw258.2

def k0_mult260 (v3500 : BitVec 32) : BitVec 32 :=
  let c7_i32_2205 : BitVec 32 := 7#32
  let v3501 : BitVec 32 := Scalar.andi v3500 c7_i32_2205
  let v3502 : BitVec 32 := Scalar.subi v3500 v3501
  v3502

def k0_off300 (v3500 : BitVec 32) : Fin 3 → Nat :=
  let c0_2206 : Index := 0#32
  let c7_i32_2205 : BitVec 32 := 7#32
  let v3501 : BitVec 32 := Scalar.andi v3500 c7_i32_2205
  let v3502 : BitVec 32 := Scalar.subi v3500 v3501
  let v3503 : BitVec 32 := v3502
  let v3504 : Index := Scalar.indexCast v3503
  let c0_2207 : Index := 0#32
  ![0, v3504.toNat, 0]

def k0_chk259 (v3500 : BitVec 32) : Prop :=
  (8 ∣ (k0_mult260 v3500).toNat) ∧
  (∀ a, (k0_off300 v3500) a + S1x8x1024.size a ≤ S1x4096x1024.size a)
theorem k0_mult260_dvd : ∀ (v3500 : BitVec 32) (k0_hw259 : k0_chk259 v3500), 8 ∣ (k0_mult260 v3500).toNat := fun v3500 k0_hw259 => k0_hw259.1
theorem k0_off300_inb : ∀ (v3500 : BitVec 32) (k0_hw259 : k0_chk259 v3500), ∀ a, (k0_off300 v3500) a + S1x8x1024.size a ≤ S1x4096x1024.size a := fun v3500 k0_hw259 => k0_hw259.2

def k0_mult261 (v3513 : BitVec 32) : BitVec 32 :=
  let c7_i32_2213 : BitVec 32 := 7#32
  let v3514 : BitVec 32 := Scalar.andi v3513 c7_i32_2213
  let v3515 : BitVec 32 := Scalar.subi v3513 v3514
  v3515

def k0_off301 (v3513 : BitVec 32) : Fin 3 → Nat :=
  let c0_2214 : Index := 0#32
  let c7_i32_2213 : BitVec 32 := 7#32
  let v3514 : BitVec 32 := Scalar.andi v3513 c7_i32_2213
  let v3515 : BitVec 32 := Scalar.subi v3513 v3514
  let v3516 : BitVec 32 := v3515
  let v3517 : Index := Scalar.indexCast v3516
  let c0_2215 : Index := 0#32
  ![0, v3517.toNat, 0]

def k0_chk260 (v3513 : BitVec 32) : Prop :=
  (8 ∣ (k0_mult261 v3513).toNat) ∧
  (∀ a, (k0_off301 v3513) a + S1x8x1024.size a ≤ S1x4096x1024.size a)
theorem k0_mult261_dvd : ∀ (v3513 : BitVec 32) (k0_hw260 : k0_chk260 v3513), 8 ∣ (k0_mult261 v3513).toNat := fun v3513 k0_hw260 => k0_hw260.1
theorem k0_off301_inb : ∀ (v3513 : BitVec 32) (k0_hw260 : k0_chk260 v3513), ∀ a, (k0_off301 v3513) a + S1x8x1024.size a ≤ S1x4096x1024.size a := fun v3513 k0_hw260 => k0_hw260.2

def k0_mult262 (v3526 : BitVec 32) : BitVec 32 :=
  let c7_i32_2221 : BitVec 32 := 7#32
  let v3527 : BitVec 32 := Scalar.andi v3526 c7_i32_2221
  let v3528 : BitVec 32 := Scalar.subi v3526 v3527
  v3528

def k0_off302 (v3526 : BitVec 32) : Fin 3 → Nat :=
  let c0_2222 : Index := 0#32
  let c7_i32_2221 : BitVec 32 := 7#32
  let v3527 : BitVec 32 := Scalar.andi v3526 c7_i32_2221
  let v3528 : BitVec 32 := Scalar.subi v3526 v3527
  let v3529 : BitVec 32 := v3528
  let v3530 : Index := Scalar.indexCast v3529
  let c0_2223 : Index := 0#32
  ![0, v3530.toNat, 0]

def k0_chk261 (v3526 : BitVec 32) : Prop :=
  (8 ∣ (k0_mult262 v3526).toNat) ∧
  (∀ a, (k0_off302 v3526) a + S1x8x1024.size a ≤ S1x4096x1024.size a)
theorem k0_mult262_dvd : ∀ (v3526 : BitVec 32) (k0_hw261 : k0_chk261 v3526), 8 ∣ (k0_mult262 v3526).toNat := fun v3526 k0_hw261 => k0_hw261.1
theorem k0_off302_inb : ∀ (v3526 : BitVec 32) (k0_hw261 : k0_chk261 v3526), ∀ a, (k0_off302 v3526) a + S1x8x1024.size a ≤ S1x4096x1024.size a := fun v3526 k0_hw261 => k0_hw261.2

def k0_mult263 (v3539 : BitVec 32) : BitVec 32 :=
  let c7_i32_2229 : BitVec 32 := 7#32
  let v3540 : BitVec 32 := Scalar.andi v3539 c7_i32_2229
  let v3541 : BitVec 32 := Scalar.subi v3539 v3540
  v3541

def k0_off303 (v3539 : BitVec 32) : Fin 3 → Nat :=
  let c0_2230 : Index := 0#32
  let c7_i32_2229 : BitVec 32 := 7#32
  let v3540 : BitVec 32 := Scalar.andi v3539 c7_i32_2229
  let v3541 : BitVec 32 := Scalar.subi v3539 v3540
  let v3542 : BitVec 32 := v3541
  let v3543 : Index := Scalar.indexCast v3542
  let c0_2231 : Index := 0#32
  ![0, v3543.toNat, 0]

def k0_chk262 (v3539 : BitVec 32) : Prop :=
  (8 ∣ (k0_mult263 v3539).toNat) ∧
  (∀ a, (k0_off303 v3539) a + S1x8x1024.size a ≤ S1x4096x1024.size a)
theorem k0_mult263_dvd : ∀ (v3539 : BitVec 32) (k0_hw262 : k0_chk262 v3539), 8 ∣ (k0_mult263 v3539).toNat := fun v3539 k0_hw262 => k0_hw262.1
theorem k0_off303_inb : ∀ (v3539 : BitVec 32) (k0_hw262 : k0_chk262 v3539), ∀ a, (k0_off303 v3539) a + S1x8x1024.size a ≤ S1x4096x1024.size a := fun v3539 k0_hw262 => k0_hw262.2

def k0_mult264 (v3552 : BitVec 32) : BitVec 32 :=
  let c7_i32_2237 : BitVec 32 := 7#32
  let v3553 : BitVec 32 := Scalar.andi v3552 c7_i32_2237
  let v3554 : BitVec 32 := Scalar.subi v3552 v3553
  v3554

def k0_off304 (v3552 : BitVec 32) : Fin 3 → Nat :=
  let c0_2238 : Index := 0#32
  let c7_i32_2237 : BitVec 32 := 7#32
  let v3553 : BitVec 32 := Scalar.andi v3552 c7_i32_2237
  let v3554 : BitVec 32 := Scalar.subi v3552 v3553
  let v3555 : BitVec 32 := v3554
  let v3556 : Index := Scalar.indexCast v3555
  let c0_2239 : Index := 0#32
  ![0, v3556.toNat, 0]

def k0_chk263 (v3552 : BitVec 32) : Prop :=
  (8 ∣ (k0_mult264 v3552).toNat) ∧
  (∀ a, (k0_off304 v3552) a + S1x8x1024.size a ≤ S1x4096x1024.size a)
theorem k0_mult264_dvd : ∀ (v3552 : BitVec 32) (k0_hw263 : k0_chk263 v3552), 8 ∣ (k0_mult264 v3552).toNat := fun v3552 k0_hw263 => k0_hw263.1
theorem k0_off304_inb : ∀ (v3552 : BitVec 32) (k0_hw263 : k0_chk263 v3552), ∀ a, (k0_off304 v3552) a + S1x8x1024.size a ≤ S1x4096x1024.size a := fun v3552 k0_hw263 => k0_hw263.2

def k0_mult265 (v3565 : BitVec 32) : BitVec 32 :=
  let c7_i32_2245 : BitVec 32 := 7#32
  let v3566 : BitVec 32 := Scalar.andi v3565 c7_i32_2245
  let v3567 : BitVec 32 := Scalar.subi v3565 v3566
  v3567

def k0_off305 (v3565 : BitVec 32) : Fin 3 → Nat :=
  let c0_2246 : Index := 0#32
  let c7_i32_2245 : BitVec 32 := 7#32
  let v3566 : BitVec 32 := Scalar.andi v3565 c7_i32_2245
  let v3567 : BitVec 32 := Scalar.subi v3565 v3566
  let v3568 : BitVec 32 := v3567
  let v3569 : Index := Scalar.indexCast v3568
  let c0_2247 : Index := 0#32
  ![0, v3569.toNat, 0]

def k0_chk264 (v3565 : BitVec 32) : Prop :=
  (8 ∣ (k0_mult265 v3565).toNat) ∧
  (∀ a, (k0_off305 v3565) a + S1x8x1024.size a ≤ S1x4096x1024.size a)
theorem k0_mult265_dvd : ∀ (v3565 : BitVec 32) (k0_hw264 : k0_chk264 v3565), 8 ∣ (k0_mult265 v3565).toNat := fun v3565 k0_hw264 => k0_hw264.1
theorem k0_off305_inb : ∀ (v3565 : BitVec 32) (k0_hw264 : k0_chk264 v3565), ∀ a, (k0_off305 v3565) a + S1x8x1024.size a ≤ S1x4096x1024.size a := fun v3565 k0_hw264 => k0_hw264.2

def k0_off306 (i : grid0.Coords) : Fin 3 → Nat :=
  let c1_i32_2185 : BitVec 32 := 1#32
  let arg1 : BitVec 32 := BitVec.ofNat 32 (i 1).val
  let c1_i32 : BitVec 32 := 1#32
  let v1 : BitVec 32 := Scalar.andi arg1 c1_i32
  let v3472 : BitVec 32 := Scalar.subi c1_i32_2185 v1
  let c0_i32_2251 : BitVec 32 := 0#32
  let c0_i32_2252 : BitVec 32 := 0#32
  ![v3472.toNat, 0, 0]
def k0_mult266 (v3585 : BitVec 32) : BitVec 32 :=
  let c7_i32_2259 : BitVec 32 := 7#32
  let v3586 : BitVec 32 := Scalar.andi v3585 c7_i32_2259
  let v3587 : BitVec 32 := Scalar.subi v3585 v3586
  v3587

def k0_off307 (v3585 : BitVec 32) : Fin 3 → Nat :=
  let c0_2260 : Index := 0#32
  let c7_i32_2259 : BitVec 32 := 7#32
  let v3586 : BitVec 32 := Scalar.andi v3585 c7_i32_2259
  let v3587 : BitVec 32 := Scalar.subi v3585 v3586
  let v3588 : BitVec 32 := v3587
  let v3589 : Index := Scalar.indexCast v3588
  let c0_2261 : Index := 0#32
  ![0, v3589.toNat, 0]

def k0_chk265 (v3585 : BitVec 32) : Prop :=
  (8 ∣ (k0_mult266 v3585).toNat) ∧
  (∀ a, (k0_off307 v3585) a + S1x8x1024.size a ≤ S1x4096x1024.size a)
theorem k0_mult266_dvd : ∀ (v3585 : BitVec 32) (k0_hw265 : k0_chk265 v3585), 8 ∣ (k0_mult266 v3585).toNat := fun v3585 k0_hw265 => k0_hw265.1
theorem k0_off307_inb : ∀ (v3585 : BitVec 32) (k0_hw265 : k0_chk265 v3585), ∀ a, (k0_off307 v3585) a + S1x8x1024.size a ≤ S1x4096x1024.size a := fun v3585 k0_hw265 => k0_hw265.2

def k0_mult267 (v3598 : BitVec 32) : BitVec 32 :=
  let c7_i32_2267 : BitVec 32 := 7#32
  let v3599 : BitVec 32 := Scalar.andi v3598 c7_i32_2267
  let v3600 : BitVec 32 := Scalar.subi v3598 v3599
  v3600

def k0_off308 (v3598 : BitVec 32) : Fin 3 → Nat :=
  let c0_2268 : Index := 0#32
  let c7_i32_2267 : BitVec 32 := 7#32
  let v3599 : BitVec 32 := Scalar.andi v3598 c7_i32_2267
  let v3600 : BitVec 32 := Scalar.subi v3598 v3599
  let v3601 : BitVec 32 := v3600
  let v3602 : Index := Scalar.indexCast v3601
  let c0_2269 : Index := 0#32
  ![0, v3602.toNat, 0]

def k0_chk266 (v3598 : BitVec 32) : Prop :=
  (8 ∣ (k0_mult267 v3598).toNat) ∧
  (∀ a, (k0_off308 v3598) a + S1x8x1024.size a ≤ S1x4096x1024.size a)
theorem k0_mult267_dvd : ∀ (v3598 : BitVec 32) (k0_hw266 : k0_chk266 v3598), 8 ∣ (k0_mult267 v3598).toNat := fun v3598 k0_hw266 => k0_hw266.1
theorem k0_off308_inb : ∀ (v3598 : BitVec 32) (k0_hw266 : k0_chk266 v3598), ∀ a, (k0_off308 v3598) a + S1x8x1024.size a ≤ S1x4096x1024.size a := fun v3598 k0_hw266 => k0_hw266.2

def k0_mult268 (v3611 : BitVec 32) : BitVec 32 :=
  let c7_i32_2275 : BitVec 32 := 7#32
  let v3612 : BitVec 32 := Scalar.andi v3611 c7_i32_2275
  let v3613 : BitVec 32 := Scalar.subi v3611 v3612
  v3613

def k0_off309 (v3611 : BitVec 32) : Fin 3 → Nat :=
  let c0_2276 : Index := 0#32
  let c7_i32_2275 : BitVec 32 := 7#32
  let v3612 : BitVec 32 := Scalar.andi v3611 c7_i32_2275
  let v3613 : BitVec 32 := Scalar.subi v3611 v3612
  let v3614 : BitVec 32 := v3613
  let v3615 : Index := Scalar.indexCast v3614
  let c0_2277 : Index := 0#32
  ![0, v3615.toNat, 0]

def k0_chk267 (v3611 : BitVec 32) : Prop :=
  (8 ∣ (k0_mult268 v3611).toNat) ∧
  (∀ a, (k0_off309 v3611) a + S1x8x1024.size a ≤ S1x4096x1024.size a)
theorem k0_mult268_dvd : ∀ (v3611 : BitVec 32) (k0_hw267 : k0_chk267 v3611), 8 ∣ (k0_mult268 v3611).toNat := fun v3611 k0_hw267 => k0_hw267.1
theorem k0_off309_inb : ∀ (v3611 : BitVec 32) (k0_hw267 : k0_chk267 v3611), ∀ a, (k0_off309 v3611) a + S1x8x1024.size a ≤ S1x4096x1024.size a := fun v3611 k0_hw267 => k0_hw267.2

def k0_mult269 (v3624 : BitVec 32) : BitVec 32 :=
  let c7_i32_2283 : BitVec 32 := 7#32
  let v3625 : BitVec 32 := Scalar.andi v3624 c7_i32_2283
  let v3626 : BitVec 32 := Scalar.subi v3624 v3625
  v3626

def k0_off310 (v3624 : BitVec 32) : Fin 3 → Nat :=
  let c0_2284 : Index := 0#32
  let c7_i32_2283 : BitVec 32 := 7#32
  let v3625 : BitVec 32 := Scalar.andi v3624 c7_i32_2283
  let v3626 : BitVec 32 := Scalar.subi v3624 v3625
  let v3627 : BitVec 32 := v3626
  let v3628 : Index := Scalar.indexCast v3627
  let c0_2285 : Index := 0#32
  ![0, v3628.toNat, 0]

def k0_chk268 (v3624 : BitVec 32) : Prop :=
  (8 ∣ (k0_mult269 v3624).toNat) ∧
  (∀ a, (k0_off310 v3624) a + S1x8x1024.size a ≤ S1x4096x1024.size a)
theorem k0_mult269_dvd : ∀ (v3624 : BitVec 32) (k0_hw268 : k0_chk268 v3624), 8 ∣ (k0_mult269 v3624).toNat := fun v3624 k0_hw268 => k0_hw268.1
theorem k0_off310_inb : ∀ (v3624 : BitVec 32) (k0_hw268 : k0_chk268 v3624), ∀ a, (k0_off310 v3624) a + S1x8x1024.size a ≤ S1x4096x1024.size a := fun v3624 k0_hw268 => k0_hw268.2

def k0_mult270 (v3637 : BitVec 32) : BitVec 32 :=
  let c7_i32_2291 : BitVec 32 := 7#32
  let v3638 : BitVec 32 := Scalar.andi v3637 c7_i32_2291
  let v3639 : BitVec 32 := Scalar.subi v3637 v3638
  v3639

def k0_off311 (v3637 : BitVec 32) : Fin 3 → Nat :=
  let c0_2292 : Index := 0#32
  let c7_i32_2291 : BitVec 32 := 7#32
  let v3638 : BitVec 32 := Scalar.andi v3637 c7_i32_2291
  let v3639 : BitVec 32 := Scalar.subi v3637 v3638
  let v3640 : BitVec 32 := v3639
  let v3641 : Index := Scalar.indexCast v3640
  let c0_2293 : Index := 0#32
  ![0, v3641.toNat, 0]

def k0_chk269 (v3637 : BitVec 32) : Prop :=
  (8 ∣ (k0_mult270 v3637).toNat) ∧
  (∀ a, (k0_off311 v3637) a + S1x8x1024.size a ≤ S1x4096x1024.size a)
theorem k0_mult270_dvd : ∀ (v3637 : BitVec 32) (k0_hw269 : k0_chk269 v3637), 8 ∣ (k0_mult270 v3637).toNat := fun v3637 k0_hw269 => k0_hw269.1
theorem k0_off311_inb : ∀ (v3637 : BitVec 32) (k0_hw269 : k0_chk269 v3637), ∀ a, (k0_off311 v3637) a + S1x8x1024.size a ≤ S1x4096x1024.size a := fun v3637 k0_hw269 => k0_hw269.2

def k0_mult271 (v3650 : BitVec 32) : BitVec 32 :=
  let c7_i32_2299 : BitVec 32 := 7#32
  let v3651 : BitVec 32 := Scalar.andi v3650 c7_i32_2299
  let v3652 : BitVec 32 := Scalar.subi v3650 v3651
  v3652

def k0_off312 (v3650 : BitVec 32) : Fin 3 → Nat :=
  let c0_2300 : Index := 0#32
  let c7_i32_2299 : BitVec 32 := 7#32
  let v3651 : BitVec 32 := Scalar.andi v3650 c7_i32_2299
  let v3652 : BitVec 32 := Scalar.subi v3650 v3651
  let v3653 : BitVec 32 := v3652
  let v3654 : Index := Scalar.indexCast v3653
  let c0_2301 : Index := 0#32
  ![0, v3654.toNat, 0]

def k0_chk270 (v3650 : BitVec 32) : Prop :=
  (8 ∣ (k0_mult271 v3650).toNat) ∧
  (∀ a, (k0_off312 v3650) a + S1x8x1024.size a ≤ S1x4096x1024.size a)
theorem k0_mult271_dvd : ∀ (v3650 : BitVec 32) (k0_hw270 : k0_chk270 v3650), 8 ∣ (k0_mult271 v3650).toNat := fun v3650 k0_hw270 => k0_hw270.1
theorem k0_off312_inb : ∀ (v3650 : BitVec 32) (k0_hw270 : k0_chk270 v3650), ∀ a, (k0_off312 v3650) a + S1x8x1024.size a ≤ S1x4096x1024.size a := fun v3650 k0_hw270 => k0_hw270.2

def k0_mult272 (v3663 : BitVec 32) : BitVec 32 :=
  let c7_i32_2307 : BitVec 32 := 7#32
  let v3664 : BitVec 32 := Scalar.andi v3663 c7_i32_2307
  let v3665 : BitVec 32 := Scalar.subi v3663 v3664
  v3665

def k0_off313 (v3663 : BitVec 32) : Fin 3 → Nat :=
  let c0_2308 : Index := 0#32
  let c7_i32_2307 : BitVec 32 := 7#32
  let v3664 : BitVec 32 := Scalar.andi v3663 c7_i32_2307
  let v3665 : BitVec 32 := Scalar.subi v3663 v3664
  let v3666 : BitVec 32 := v3665
  let v3667 : Index := Scalar.indexCast v3666
  let c0_2309 : Index := 0#32
  ![0, v3667.toNat, 0]

def k0_chk271 (v3663 : BitVec 32) : Prop :=
  (8 ∣ (k0_mult272 v3663).toNat) ∧
  (∀ a, (k0_off313 v3663) a + S1x8x1024.size a ≤ S1x4096x1024.size a)
theorem k0_mult272_dvd : ∀ (v3663 : BitVec 32) (k0_hw271 : k0_chk271 v3663), 8 ∣ (k0_mult272 v3663).toNat := fun v3663 k0_hw271 => k0_hw271.1
theorem k0_off313_inb : ∀ (v3663 : BitVec 32) (k0_hw271 : k0_chk271 v3663), ∀ a, (k0_off313 v3663) a + S1x8x1024.size a ≤ S1x4096x1024.size a := fun v3663 k0_hw271 => k0_hw271.2

def k0_mult273 (v3676 : BitVec 32) : BitVec 32 :=
  let c7_i32_2315 : BitVec 32 := 7#32
  let v3677 : BitVec 32 := Scalar.andi v3676 c7_i32_2315
  let v3678 : BitVec 32 := Scalar.subi v3676 v3677
  v3678

def k0_off314 (v3676 : BitVec 32) : Fin 3 → Nat :=
  let c0_2316 : Index := 0#32
  let c7_i32_2315 : BitVec 32 := 7#32
  let v3677 : BitVec 32 := Scalar.andi v3676 c7_i32_2315
  let v3678 : BitVec 32 := Scalar.subi v3676 v3677
  let v3679 : BitVec 32 := v3678
  let v3680 : Index := Scalar.indexCast v3679
  let c0_2317 : Index := 0#32
  ![0, v3680.toNat, 0]

def k0_chk272 (v3676 : BitVec 32) : Prop :=
  (8 ∣ (k0_mult273 v3676).toNat) ∧
  (∀ a, (k0_off314 v3676) a + S1x8x1024.size a ≤ S1x4096x1024.size a)
theorem k0_mult273_dvd : ∀ (v3676 : BitVec 32) (k0_hw272 : k0_chk272 v3676), 8 ∣ (k0_mult273 v3676).toNat := fun v3676 k0_hw272 => k0_hw272.1
theorem k0_off314_inb : ∀ (v3676 : BitVec 32) (k0_hw272 : k0_chk272 v3676), ∀ a, (k0_off314 v3676) a + S1x8x1024.size a ≤ S1x4096x1024.size a := fun v3676 k0_hw272 => k0_hw272.2

def k0_off315 (i : grid0.Coords) : Fin 3 → Nat :=
  let c1_i32_2255 : BitVec 32 := 1#32
  let arg1 : BitVec 32 := BitVec.ofNat 32 (i 1).val
  let c1_i32 : BitVec 32 := 1#32
  let v1 : BitVec 32 := Scalar.andi arg1 c1_i32
  let v3583 : BitVec 32 := Scalar.subi c1_i32_2255 v1
  let c0_i32_2321 : BitVec 32 := 0#32
  let c0_i32_2322 : BitVec 32 := 0#32
  ![v3583.toNat, 0, 0]
def k0_mult274 (v3696 : BitVec 32) : BitVec 32 :=
  let c7_i32_2329 : BitVec 32 := 7#32
  let v3697 : BitVec 32 := Scalar.andi v3696 c7_i32_2329
  let v3698 : BitVec 32 := Scalar.subi v3696 v3697
  v3698

def k0_off316 (v3696 : BitVec 32) : Fin 3 → Nat :=
  let c0_2330 : Index := 0#32
  let c7_i32_2329 : BitVec 32 := 7#32
  let v3697 : BitVec 32 := Scalar.andi v3696 c7_i32_2329
  let v3698 : BitVec 32 := Scalar.subi v3696 v3697
  let v3699 : BitVec 32 := v3698
  let v3700 : Index := Scalar.indexCast v3699
  let c0_2331 : Index := 0#32
  ![0, v3700.toNat, 0]

def k0_chk273 (v3696 : BitVec 32) : Prop :=
  (8 ∣ (k0_mult274 v3696).toNat) ∧
  (∀ a, (k0_off316 v3696) a + S1x8x1024.size a ≤ S1x4096x1024.size a)
theorem k0_mult274_dvd : ∀ (v3696 : BitVec 32) (k0_hw273 : k0_chk273 v3696), 8 ∣ (k0_mult274 v3696).toNat := fun v3696 k0_hw273 => k0_hw273.1
theorem k0_off316_inb : ∀ (v3696 : BitVec 32) (k0_hw273 : k0_chk273 v3696), ∀ a, (k0_off316 v3696) a + S1x8x1024.size a ≤ S1x4096x1024.size a := fun v3696 k0_hw273 => k0_hw273.2

def k0_mult275 (v3709 : BitVec 32) : BitVec 32 :=
  let c7_i32_2337 : BitVec 32 := 7#32
  let v3710 : BitVec 32 := Scalar.andi v3709 c7_i32_2337
  let v3711 : BitVec 32 := Scalar.subi v3709 v3710
  v3711

def k0_off317 (v3709 : BitVec 32) : Fin 3 → Nat :=
  let c0_2338 : Index := 0#32
  let c7_i32_2337 : BitVec 32 := 7#32
  let v3710 : BitVec 32 := Scalar.andi v3709 c7_i32_2337
  let v3711 : BitVec 32 := Scalar.subi v3709 v3710
  let v3712 : BitVec 32 := v3711
  let v3713 : Index := Scalar.indexCast v3712
  let c0_2339 : Index := 0#32
  ![0, v3713.toNat, 0]

def k0_chk274 (v3709 : BitVec 32) : Prop :=
  (8 ∣ (k0_mult275 v3709).toNat) ∧
  (∀ a, (k0_off317 v3709) a + S1x8x1024.size a ≤ S1x4096x1024.size a)
theorem k0_mult275_dvd : ∀ (v3709 : BitVec 32) (k0_hw274 : k0_chk274 v3709), 8 ∣ (k0_mult275 v3709).toNat := fun v3709 k0_hw274 => k0_hw274.1
theorem k0_off317_inb : ∀ (v3709 : BitVec 32) (k0_hw274 : k0_chk274 v3709), ∀ a, (k0_off317 v3709) a + S1x8x1024.size a ≤ S1x4096x1024.size a := fun v3709 k0_hw274 => k0_hw274.2

def k0_mult276 (v3722 : BitVec 32) : BitVec 32 :=
  let c7_i32_2345 : BitVec 32 := 7#32
  let v3723 : BitVec 32 := Scalar.andi v3722 c7_i32_2345
  let v3724 : BitVec 32 := Scalar.subi v3722 v3723
  v3724

def k0_off318 (v3722 : BitVec 32) : Fin 3 → Nat :=
  let c0_2346 : Index := 0#32
  let c7_i32_2345 : BitVec 32 := 7#32
  let v3723 : BitVec 32 := Scalar.andi v3722 c7_i32_2345
  let v3724 : BitVec 32 := Scalar.subi v3722 v3723
  let v3725 : BitVec 32 := v3724
  let v3726 : Index := Scalar.indexCast v3725
  let c0_2347 : Index := 0#32
  ![0, v3726.toNat, 0]

def k0_chk275 (v3722 : BitVec 32) : Prop :=
  (8 ∣ (k0_mult276 v3722).toNat) ∧
  (∀ a, (k0_off318 v3722) a + S1x8x1024.size a ≤ S1x4096x1024.size a)
theorem k0_mult276_dvd : ∀ (v3722 : BitVec 32) (k0_hw275 : k0_chk275 v3722), 8 ∣ (k0_mult276 v3722).toNat := fun v3722 k0_hw275 => k0_hw275.1
theorem k0_off318_inb : ∀ (v3722 : BitVec 32) (k0_hw275 : k0_chk275 v3722), ∀ a, (k0_off318 v3722) a + S1x8x1024.size a ≤ S1x4096x1024.size a := fun v3722 k0_hw275 => k0_hw275.2

def k0_mult277 (v3735 : BitVec 32) : BitVec 32 :=
  let c7_i32_2353 : BitVec 32 := 7#32
  let v3736 : BitVec 32 := Scalar.andi v3735 c7_i32_2353
  let v3737 : BitVec 32 := Scalar.subi v3735 v3736
  v3737

def k0_off319 (v3735 : BitVec 32) : Fin 3 → Nat :=
  let c0_2354 : Index := 0#32
  let c7_i32_2353 : BitVec 32 := 7#32
  let v3736 : BitVec 32 := Scalar.andi v3735 c7_i32_2353
  let v3737 : BitVec 32 := Scalar.subi v3735 v3736
  let v3738 : BitVec 32 := v3737
  let v3739 : Index := Scalar.indexCast v3738
  let c0_2355 : Index := 0#32
  ![0, v3739.toNat, 0]

def k0_chk276 (v3735 : BitVec 32) : Prop :=
  (8 ∣ (k0_mult277 v3735).toNat) ∧
  (∀ a, (k0_off319 v3735) a + S1x8x1024.size a ≤ S1x4096x1024.size a)
theorem k0_mult277_dvd : ∀ (v3735 : BitVec 32) (k0_hw276 : k0_chk276 v3735), 8 ∣ (k0_mult277 v3735).toNat := fun v3735 k0_hw276 => k0_hw276.1
theorem k0_off319_inb : ∀ (v3735 : BitVec 32) (k0_hw276 : k0_chk276 v3735), ∀ a, (k0_off319 v3735) a + S1x8x1024.size a ≤ S1x4096x1024.size a := fun v3735 k0_hw276 => k0_hw276.2

def k0_mult278 (v3748 : BitVec 32) : BitVec 32 :=
  let c7_i32_2361 : BitVec 32 := 7#32
  let v3749 : BitVec 32 := Scalar.andi v3748 c7_i32_2361
  let v3750 : BitVec 32 := Scalar.subi v3748 v3749
  v3750

def k0_off320 (v3748 : BitVec 32) : Fin 3 → Nat :=
  let c0_2362 : Index := 0#32
  let c7_i32_2361 : BitVec 32 := 7#32
  let v3749 : BitVec 32 := Scalar.andi v3748 c7_i32_2361
  let v3750 : BitVec 32 := Scalar.subi v3748 v3749
  let v3751 : BitVec 32 := v3750
  let v3752 : Index := Scalar.indexCast v3751
  let c0_2363 : Index := 0#32
  ![0, v3752.toNat, 0]

def k0_chk277 (v3748 : BitVec 32) : Prop :=
  (8 ∣ (k0_mult278 v3748).toNat) ∧
  (∀ a, (k0_off320 v3748) a + S1x8x1024.size a ≤ S1x4096x1024.size a)
theorem k0_mult278_dvd : ∀ (v3748 : BitVec 32) (k0_hw277 : k0_chk277 v3748), 8 ∣ (k0_mult278 v3748).toNat := fun v3748 k0_hw277 => k0_hw277.1
theorem k0_off320_inb : ∀ (v3748 : BitVec 32) (k0_hw277 : k0_chk277 v3748), ∀ a, (k0_off320 v3748) a + S1x8x1024.size a ≤ S1x4096x1024.size a := fun v3748 k0_hw277 => k0_hw277.2

def k0_mult279 (v3761 : BitVec 32) : BitVec 32 :=
  let c7_i32_2369 : BitVec 32 := 7#32
  let v3762 : BitVec 32 := Scalar.andi v3761 c7_i32_2369
  let v3763 : BitVec 32 := Scalar.subi v3761 v3762
  v3763

def k0_off321 (v3761 : BitVec 32) : Fin 3 → Nat :=
  let c0_2370 : Index := 0#32
  let c7_i32_2369 : BitVec 32 := 7#32
  let v3762 : BitVec 32 := Scalar.andi v3761 c7_i32_2369
  let v3763 : BitVec 32 := Scalar.subi v3761 v3762
  let v3764 : BitVec 32 := v3763
  let v3765 : Index := Scalar.indexCast v3764
  let c0_2371 : Index := 0#32
  ![0, v3765.toNat, 0]

def k0_chk278 (v3761 : BitVec 32) : Prop :=
  (8 ∣ (k0_mult279 v3761).toNat) ∧
  (∀ a, (k0_off321 v3761) a + S1x8x1024.size a ≤ S1x4096x1024.size a)
theorem k0_mult279_dvd : ∀ (v3761 : BitVec 32) (k0_hw278 : k0_chk278 v3761), 8 ∣ (k0_mult279 v3761).toNat := fun v3761 k0_hw278 => k0_hw278.1
theorem k0_off321_inb : ∀ (v3761 : BitVec 32) (k0_hw278 : k0_chk278 v3761), ∀ a, (k0_off321 v3761) a + S1x8x1024.size a ≤ S1x4096x1024.size a := fun v3761 k0_hw278 => k0_hw278.2

def k0_mult280 (v3774 : BitVec 32) : BitVec 32 :=
  let c7_i32_2377 : BitVec 32 := 7#32
  let v3775 : BitVec 32 := Scalar.andi v3774 c7_i32_2377
  let v3776 : BitVec 32 := Scalar.subi v3774 v3775
  v3776

def k0_off322 (v3774 : BitVec 32) : Fin 3 → Nat :=
  let c0_2378 : Index := 0#32
  let c7_i32_2377 : BitVec 32 := 7#32
  let v3775 : BitVec 32 := Scalar.andi v3774 c7_i32_2377
  let v3776 : BitVec 32 := Scalar.subi v3774 v3775
  let v3777 : BitVec 32 := v3776
  let v3778 : Index := Scalar.indexCast v3777
  let c0_2379 : Index := 0#32
  ![0, v3778.toNat, 0]

def k0_chk279 (v3774 : BitVec 32) : Prop :=
  (8 ∣ (k0_mult280 v3774).toNat) ∧
  (∀ a, (k0_off322 v3774) a + S1x8x1024.size a ≤ S1x4096x1024.size a)
theorem k0_mult280_dvd : ∀ (v3774 : BitVec 32) (k0_hw279 : k0_chk279 v3774), 8 ∣ (k0_mult280 v3774).toNat := fun v3774 k0_hw279 => k0_hw279.1
theorem k0_off322_inb : ∀ (v3774 : BitVec 32) (k0_hw279 : k0_chk279 v3774), ∀ a, (k0_off322 v3774) a + S1x8x1024.size a ≤ S1x4096x1024.size a := fun v3774 k0_hw279 => k0_hw279.2

def k0_mult281 (v3787 : BitVec 32) : BitVec 32 :=
  let c7_i32_2385 : BitVec 32 := 7#32
  let v3788 : BitVec 32 := Scalar.andi v3787 c7_i32_2385
  let v3789 : BitVec 32 := Scalar.subi v3787 v3788
  v3789

def k0_off323 (v3787 : BitVec 32) : Fin 3 → Nat :=
  let c0_2386 : Index := 0#32
  let c7_i32_2385 : BitVec 32 := 7#32
  let v3788 : BitVec 32 := Scalar.andi v3787 c7_i32_2385
  let v3789 : BitVec 32 := Scalar.subi v3787 v3788
  let v3790 : BitVec 32 := v3789
  let v3791 : Index := Scalar.indexCast v3790
  let c0_2387 : Index := 0#32
  ![0, v3791.toNat, 0]

def k0_chk280 (v3787 : BitVec 32) : Prop :=
  (8 ∣ (k0_mult281 v3787).toNat) ∧
  (∀ a, (k0_off323 v3787) a + S1x8x1024.size a ≤ S1x4096x1024.size a)
theorem k0_mult281_dvd : ∀ (v3787 : BitVec 32) (k0_hw280 : k0_chk280 v3787), 8 ∣ (k0_mult281 v3787).toNat := fun v3787 k0_hw280 => k0_hw280.1
theorem k0_off323_inb : ∀ (v3787 : BitVec 32) (k0_hw280 : k0_chk280 v3787), ∀ a, (k0_off323 v3787) a + S1x8x1024.size a ≤ S1x4096x1024.size a := fun v3787 k0_hw280 => k0_hw280.2

def k0_off324 (i : grid0.Coords) : Fin 3 → Nat :=
  let c1_i32_2325 : BitVec 32 := 1#32
  let arg1 : BitVec 32 := BitVec.ofNat 32 (i 1).val
  let c1_i32 : BitVec 32 := 1#32
  let v1 : BitVec 32 := Scalar.andi arg1 c1_i32
  let v3694 : BitVec 32 := Scalar.subi c1_i32_2325 v1
  let c0_i32_2391 : BitVec 32 := 0#32
  let c0_i32_2392 : BitVec 32 := 0#32
  ![v3694.toNat, 0, 0]
def k0_mult282 (v3807 : BitVec 32) : BitVec 32 :=
  let c7_i32_2399 : BitVec 32 := 7#32
  let v3808 : BitVec 32 := Scalar.andi v3807 c7_i32_2399
  let v3809 : BitVec 32 := Scalar.subi v3807 v3808
  v3809

def k0_off325 (v3807 : BitVec 32) : Fin 3 → Nat :=
  let c0_2400 : Index := 0#32
  let c7_i32_2399 : BitVec 32 := 7#32
  let v3808 : BitVec 32 := Scalar.andi v3807 c7_i32_2399
  let v3809 : BitVec 32 := Scalar.subi v3807 v3808
  let v3810 : BitVec 32 := v3809
  let v3811 : Index := Scalar.indexCast v3810
  let c0_2401 : Index := 0#32
  ![0, v3811.toNat, 0]

def k0_chk281 (v3807 : BitVec 32) : Prop :=
  (8 ∣ (k0_mult282 v3807).toNat) ∧
  (∀ a, (k0_off325 v3807) a + S1x8x1024.size a ≤ S1x4096x1024.size a)
theorem k0_mult282_dvd : ∀ (v3807 : BitVec 32) (k0_hw281 : k0_chk281 v3807), 8 ∣ (k0_mult282 v3807).toNat := fun v3807 k0_hw281 => k0_hw281.1
theorem k0_off325_inb : ∀ (v3807 : BitVec 32) (k0_hw281 : k0_chk281 v3807), ∀ a, (k0_off325 v3807) a + S1x8x1024.size a ≤ S1x4096x1024.size a := fun v3807 k0_hw281 => k0_hw281.2

def k0_mult283 (v3820 : BitVec 32) : BitVec 32 :=
  let c7_i32_2407 : BitVec 32 := 7#32
  let v3821 : BitVec 32 := Scalar.andi v3820 c7_i32_2407
  let v3822 : BitVec 32 := Scalar.subi v3820 v3821
  v3822

def k0_off326 (v3820 : BitVec 32) : Fin 3 → Nat :=
  let c0_2408 : Index := 0#32
  let c7_i32_2407 : BitVec 32 := 7#32
  let v3821 : BitVec 32 := Scalar.andi v3820 c7_i32_2407
  let v3822 : BitVec 32 := Scalar.subi v3820 v3821
  let v3823 : BitVec 32 := v3822
  let v3824 : Index := Scalar.indexCast v3823
  let c0_2409 : Index := 0#32
  ![0, v3824.toNat, 0]

def k0_chk282 (v3820 : BitVec 32) : Prop :=
  (8 ∣ (k0_mult283 v3820).toNat) ∧
  (∀ a, (k0_off326 v3820) a + S1x8x1024.size a ≤ S1x4096x1024.size a)
theorem k0_mult283_dvd : ∀ (v3820 : BitVec 32) (k0_hw282 : k0_chk282 v3820), 8 ∣ (k0_mult283 v3820).toNat := fun v3820 k0_hw282 => k0_hw282.1
theorem k0_off326_inb : ∀ (v3820 : BitVec 32) (k0_hw282 : k0_chk282 v3820), ∀ a, (k0_off326 v3820) a + S1x8x1024.size a ≤ S1x4096x1024.size a := fun v3820 k0_hw282 => k0_hw282.2

def k0_mult284 (v3833 : BitVec 32) : BitVec 32 :=
  let c7_i32_2415 : BitVec 32 := 7#32
  let v3834 : BitVec 32 := Scalar.andi v3833 c7_i32_2415
  let v3835 : BitVec 32 := Scalar.subi v3833 v3834
  v3835

def k0_off327 (v3833 : BitVec 32) : Fin 3 → Nat :=
  let c0_2416 : Index := 0#32
  let c7_i32_2415 : BitVec 32 := 7#32
  let v3834 : BitVec 32 := Scalar.andi v3833 c7_i32_2415
  let v3835 : BitVec 32 := Scalar.subi v3833 v3834
  let v3836 : BitVec 32 := v3835
  let v3837 : Index := Scalar.indexCast v3836
  let c0_2417 : Index := 0#32
  ![0, v3837.toNat, 0]

def k0_chk283 (v3833 : BitVec 32) : Prop :=
  (8 ∣ (k0_mult284 v3833).toNat) ∧
  (∀ a, (k0_off327 v3833) a + S1x8x1024.size a ≤ S1x4096x1024.size a)
theorem k0_mult284_dvd : ∀ (v3833 : BitVec 32) (k0_hw283 : k0_chk283 v3833), 8 ∣ (k0_mult284 v3833).toNat := fun v3833 k0_hw283 => k0_hw283.1
theorem k0_off327_inb : ∀ (v3833 : BitVec 32) (k0_hw283 : k0_chk283 v3833), ∀ a, (k0_off327 v3833) a + S1x8x1024.size a ≤ S1x4096x1024.size a := fun v3833 k0_hw283 => k0_hw283.2

def k0_mult285 (v3846 : BitVec 32) : BitVec 32 :=
  let c7_i32_2423 : BitVec 32 := 7#32
  let v3847 : BitVec 32 := Scalar.andi v3846 c7_i32_2423
  let v3848 : BitVec 32 := Scalar.subi v3846 v3847
  v3848

def k0_off328 (v3846 : BitVec 32) : Fin 3 → Nat :=
  let c0_2424 : Index := 0#32
  let c7_i32_2423 : BitVec 32 := 7#32
  let v3847 : BitVec 32 := Scalar.andi v3846 c7_i32_2423
  let v3848 : BitVec 32 := Scalar.subi v3846 v3847
  let v3849 : BitVec 32 := v3848
  let v3850 : Index := Scalar.indexCast v3849
  let c0_2425 : Index := 0#32
  ![0, v3850.toNat, 0]

def k0_chk284 (v3846 : BitVec 32) : Prop :=
  (8 ∣ (k0_mult285 v3846).toNat) ∧
  (∀ a, (k0_off328 v3846) a + S1x8x1024.size a ≤ S1x4096x1024.size a)
theorem k0_mult285_dvd : ∀ (v3846 : BitVec 32) (k0_hw284 : k0_chk284 v3846), 8 ∣ (k0_mult285 v3846).toNat := fun v3846 k0_hw284 => k0_hw284.1
theorem k0_off328_inb : ∀ (v3846 : BitVec 32) (k0_hw284 : k0_chk284 v3846), ∀ a, (k0_off328 v3846) a + S1x8x1024.size a ≤ S1x4096x1024.size a := fun v3846 k0_hw284 => k0_hw284.2

def k0_mult286 (v3859 : BitVec 32) : BitVec 32 :=
  let c7_i32_2431 : BitVec 32 := 7#32
  let v3860 : BitVec 32 := Scalar.andi v3859 c7_i32_2431
  let v3861 : BitVec 32 := Scalar.subi v3859 v3860
  v3861

def k0_off329 (v3859 : BitVec 32) : Fin 3 → Nat :=
  let c0_2432 : Index := 0#32
  let c7_i32_2431 : BitVec 32 := 7#32
  let v3860 : BitVec 32 := Scalar.andi v3859 c7_i32_2431
  let v3861 : BitVec 32 := Scalar.subi v3859 v3860
  let v3862 : BitVec 32 := v3861
  let v3863 : Index := Scalar.indexCast v3862
  let c0_2433 : Index := 0#32
  ![0, v3863.toNat, 0]

def k0_chk285 (v3859 : BitVec 32) : Prop :=
  (8 ∣ (k0_mult286 v3859).toNat) ∧
  (∀ a, (k0_off329 v3859) a + S1x8x1024.size a ≤ S1x4096x1024.size a)
theorem k0_mult286_dvd : ∀ (v3859 : BitVec 32) (k0_hw285 : k0_chk285 v3859), 8 ∣ (k0_mult286 v3859).toNat := fun v3859 k0_hw285 => k0_hw285.1
theorem k0_off329_inb : ∀ (v3859 : BitVec 32) (k0_hw285 : k0_chk285 v3859), ∀ a, (k0_off329 v3859) a + S1x8x1024.size a ≤ S1x4096x1024.size a := fun v3859 k0_hw285 => k0_hw285.2

def k0_mult287 (v3872 : BitVec 32) : BitVec 32 :=
  let c7_i32_2439 : BitVec 32 := 7#32
  let v3873 : BitVec 32 := Scalar.andi v3872 c7_i32_2439
  let v3874 : BitVec 32 := Scalar.subi v3872 v3873
  v3874

def k0_off330 (v3872 : BitVec 32) : Fin 3 → Nat :=
  let c0_2440 : Index := 0#32
  let c7_i32_2439 : BitVec 32 := 7#32
  let v3873 : BitVec 32 := Scalar.andi v3872 c7_i32_2439
  let v3874 : BitVec 32 := Scalar.subi v3872 v3873
  let v3875 : BitVec 32 := v3874
  let v3876 : Index := Scalar.indexCast v3875
  let c0_2441 : Index := 0#32
  ![0, v3876.toNat, 0]

def k0_chk286 (v3872 : BitVec 32) : Prop :=
  (8 ∣ (k0_mult287 v3872).toNat) ∧
  (∀ a, (k0_off330 v3872) a + S1x8x1024.size a ≤ S1x4096x1024.size a)
theorem k0_mult287_dvd : ∀ (v3872 : BitVec 32) (k0_hw286 : k0_chk286 v3872), 8 ∣ (k0_mult287 v3872).toNat := fun v3872 k0_hw286 => k0_hw286.1
theorem k0_off330_inb : ∀ (v3872 : BitVec 32) (k0_hw286 : k0_chk286 v3872), ∀ a, (k0_off330 v3872) a + S1x8x1024.size a ≤ S1x4096x1024.size a := fun v3872 k0_hw286 => k0_hw286.2

def k0_mult288 (v3885 : BitVec 32) : BitVec 32 :=
  let c7_i32_2447 : BitVec 32 := 7#32
  let v3886 : BitVec 32 := Scalar.andi v3885 c7_i32_2447
  let v3887 : BitVec 32 := Scalar.subi v3885 v3886
  v3887

def k0_off331 (v3885 : BitVec 32) : Fin 3 → Nat :=
  let c0_2448 : Index := 0#32
  let c7_i32_2447 : BitVec 32 := 7#32
  let v3886 : BitVec 32 := Scalar.andi v3885 c7_i32_2447
  let v3887 : BitVec 32 := Scalar.subi v3885 v3886
  let v3888 : BitVec 32 := v3887
  let v3889 : Index := Scalar.indexCast v3888
  let c0_2449 : Index := 0#32
  ![0, v3889.toNat, 0]

def k0_chk287 (v3885 : BitVec 32) : Prop :=
  (8 ∣ (k0_mult288 v3885).toNat) ∧
  (∀ a, (k0_off331 v3885) a + S1x8x1024.size a ≤ S1x4096x1024.size a)
theorem k0_mult288_dvd : ∀ (v3885 : BitVec 32) (k0_hw287 : k0_chk287 v3885), 8 ∣ (k0_mult288 v3885).toNat := fun v3885 k0_hw287 => k0_hw287.1
theorem k0_off331_inb : ∀ (v3885 : BitVec 32) (k0_hw287 : k0_chk287 v3885), ∀ a, (k0_off331 v3885) a + S1x8x1024.size a ≤ S1x4096x1024.size a := fun v3885 k0_hw287 => k0_hw287.2

def k0_mult289 (v3898 : BitVec 32) : BitVec 32 :=
  let c7_i32_2455 : BitVec 32 := 7#32
  let v3899 : BitVec 32 := Scalar.andi v3898 c7_i32_2455
  let v3900 : BitVec 32 := Scalar.subi v3898 v3899
  v3900

def k0_off332 (v3898 : BitVec 32) : Fin 3 → Nat :=
  let c0_2456 : Index := 0#32
  let c7_i32_2455 : BitVec 32 := 7#32
  let v3899 : BitVec 32 := Scalar.andi v3898 c7_i32_2455
  let v3900 : BitVec 32 := Scalar.subi v3898 v3899
  let v3901 : BitVec 32 := v3900
  let v3902 : Index := Scalar.indexCast v3901
  let c0_2457 : Index := 0#32
  ![0, v3902.toNat, 0]

def k0_chk288 (v3898 : BitVec 32) : Prop :=
  (8 ∣ (k0_mult289 v3898).toNat) ∧
  (∀ a, (k0_off332 v3898) a + S1x8x1024.size a ≤ S1x4096x1024.size a)
theorem k0_mult289_dvd : ∀ (v3898 : BitVec 32) (k0_hw288 : k0_chk288 v3898), 8 ∣ (k0_mult289 v3898).toNat := fun v3898 k0_hw288 => k0_hw288.1
theorem k0_off332_inb : ∀ (v3898 : BitVec 32) (k0_hw288 : k0_chk288 v3898), ∀ a, (k0_off332 v3898) a + S1x8x1024.size a ≤ S1x4096x1024.size a := fun v3898 k0_hw288 => k0_hw288.2

def k0_off333 (i : grid0.Coords) : Fin 3 → Nat :=
  let c1_i32_2395 : BitVec 32 := 1#32
  let arg1 : BitVec 32 := BitVec.ofNat 32 (i 1).val
  let c1_i32 : BitVec 32 := 1#32
  let v1 : BitVec 32 := Scalar.andi arg1 c1_i32
  let v3805 : BitVec 32 := Scalar.subi c1_i32_2395 v1
  let c0_i32_2461 : BitVec 32 := 0#32
  let c0_i32_2462 : BitVec 32 := 0#32
  ![v3805.toNat, 0, 0]
def k0_mult290 (v3918 : BitVec 32) : BitVec 32 :=
  let c7_i32_2469 : BitVec 32 := 7#32
  let v3919 : BitVec 32 := Scalar.andi v3918 c7_i32_2469
  let v3920 : BitVec 32 := Scalar.subi v3918 v3919
  v3920

def k0_off334 (v3918 : BitVec 32) : Fin 3 → Nat :=
  let c0_2470 : Index := 0#32
  let c7_i32_2469 : BitVec 32 := 7#32
  let v3919 : BitVec 32 := Scalar.andi v3918 c7_i32_2469
  let v3920 : BitVec 32 := Scalar.subi v3918 v3919
  let v3921 : BitVec 32 := v3920
  let v3922 : Index := Scalar.indexCast v3921
  let c0_2471 : Index := 0#32
  ![0, v3922.toNat, 0]

def k0_chk289 (v3918 : BitVec 32) : Prop :=
  (8 ∣ (k0_mult290 v3918).toNat) ∧
  (∀ a, (k0_off334 v3918) a + S1x8x1024.size a ≤ S1x4096x1024.size a)
theorem k0_mult290_dvd : ∀ (v3918 : BitVec 32) (k0_hw289 : k0_chk289 v3918), 8 ∣ (k0_mult290 v3918).toNat := fun v3918 k0_hw289 => k0_hw289.1
theorem k0_off334_inb : ∀ (v3918 : BitVec 32) (k0_hw289 : k0_chk289 v3918), ∀ a, (k0_off334 v3918) a + S1x8x1024.size a ≤ S1x4096x1024.size a := fun v3918 k0_hw289 => k0_hw289.2

def k0_mult291 (v3931 : BitVec 32) : BitVec 32 :=
  let c7_i32_2477 : BitVec 32 := 7#32
  let v3932 : BitVec 32 := Scalar.andi v3931 c7_i32_2477
  let v3933 : BitVec 32 := Scalar.subi v3931 v3932
  v3933

def k0_off335 (v3931 : BitVec 32) : Fin 3 → Nat :=
  let c0_2478 : Index := 0#32
  let c7_i32_2477 : BitVec 32 := 7#32
  let v3932 : BitVec 32 := Scalar.andi v3931 c7_i32_2477
  let v3933 : BitVec 32 := Scalar.subi v3931 v3932
  let v3934 : BitVec 32 := v3933
  let v3935 : Index := Scalar.indexCast v3934
  let c0_2479 : Index := 0#32
  ![0, v3935.toNat, 0]

def k0_chk290 (v3931 : BitVec 32) : Prop :=
  (8 ∣ (k0_mult291 v3931).toNat) ∧
  (∀ a, (k0_off335 v3931) a + S1x8x1024.size a ≤ S1x4096x1024.size a)
theorem k0_mult291_dvd : ∀ (v3931 : BitVec 32) (k0_hw290 : k0_chk290 v3931), 8 ∣ (k0_mult291 v3931).toNat := fun v3931 k0_hw290 => k0_hw290.1
theorem k0_off335_inb : ∀ (v3931 : BitVec 32) (k0_hw290 : k0_chk290 v3931), ∀ a, (k0_off335 v3931) a + S1x8x1024.size a ≤ S1x4096x1024.size a := fun v3931 k0_hw290 => k0_hw290.2

def k0_mult292 (v3944 : BitVec 32) : BitVec 32 :=
  let c7_i32_2485 : BitVec 32 := 7#32
  let v3945 : BitVec 32 := Scalar.andi v3944 c7_i32_2485
  let v3946 : BitVec 32 := Scalar.subi v3944 v3945
  v3946

def k0_off336 (v3944 : BitVec 32) : Fin 3 → Nat :=
  let c0_2486 : Index := 0#32
  let c7_i32_2485 : BitVec 32 := 7#32
  let v3945 : BitVec 32 := Scalar.andi v3944 c7_i32_2485
  let v3946 : BitVec 32 := Scalar.subi v3944 v3945
  let v3947 : BitVec 32 := v3946
  let v3948 : Index := Scalar.indexCast v3947
  let c0_2487 : Index := 0#32
  ![0, v3948.toNat, 0]

def k0_chk291 (v3944 : BitVec 32) : Prop :=
  (8 ∣ (k0_mult292 v3944).toNat) ∧
  (∀ a, (k0_off336 v3944) a + S1x8x1024.size a ≤ S1x4096x1024.size a)
theorem k0_mult292_dvd : ∀ (v3944 : BitVec 32) (k0_hw291 : k0_chk291 v3944), 8 ∣ (k0_mult292 v3944).toNat := fun v3944 k0_hw291 => k0_hw291.1
theorem k0_off336_inb : ∀ (v3944 : BitVec 32) (k0_hw291 : k0_chk291 v3944), ∀ a, (k0_off336 v3944) a + S1x8x1024.size a ≤ S1x4096x1024.size a := fun v3944 k0_hw291 => k0_hw291.2

def k0_mult293 (v3957 : BitVec 32) : BitVec 32 :=
  let c7_i32_2493 : BitVec 32 := 7#32
  let v3958 : BitVec 32 := Scalar.andi v3957 c7_i32_2493
  let v3959 : BitVec 32 := Scalar.subi v3957 v3958
  v3959

def k0_off337 (v3957 : BitVec 32) : Fin 3 → Nat :=
  let c0_2494 : Index := 0#32
  let c7_i32_2493 : BitVec 32 := 7#32
  let v3958 : BitVec 32 := Scalar.andi v3957 c7_i32_2493
  let v3959 : BitVec 32 := Scalar.subi v3957 v3958
  let v3960 : BitVec 32 := v3959
  let v3961 : Index := Scalar.indexCast v3960
  let c0_2495 : Index := 0#32
  ![0, v3961.toNat, 0]

def k0_chk292 (v3957 : BitVec 32) : Prop :=
  (8 ∣ (k0_mult293 v3957).toNat) ∧
  (∀ a, (k0_off337 v3957) a + S1x8x1024.size a ≤ S1x4096x1024.size a)
theorem k0_mult293_dvd : ∀ (v3957 : BitVec 32) (k0_hw292 : k0_chk292 v3957), 8 ∣ (k0_mult293 v3957).toNat := fun v3957 k0_hw292 => k0_hw292.1
theorem k0_off337_inb : ∀ (v3957 : BitVec 32) (k0_hw292 : k0_chk292 v3957), ∀ a, (k0_off337 v3957) a + S1x8x1024.size a ≤ S1x4096x1024.size a := fun v3957 k0_hw292 => k0_hw292.2

def k0_mult294 (v3970 : BitVec 32) : BitVec 32 :=
  let c7_i32_2501 : BitVec 32 := 7#32
  let v3971 : BitVec 32 := Scalar.andi v3970 c7_i32_2501
  let v3972 : BitVec 32 := Scalar.subi v3970 v3971
  v3972

def k0_off338 (v3970 : BitVec 32) : Fin 3 → Nat :=
  let c0_2502 : Index := 0#32
  let c7_i32_2501 : BitVec 32 := 7#32
  let v3971 : BitVec 32 := Scalar.andi v3970 c7_i32_2501
  let v3972 : BitVec 32 := Scalar.subi v3970 v3971
  let v3973 : BitVec 32 := v3972
  let v3974 : Index := Scalar.indexCast v3973
  let c0_2503 : Index := 0#32
  ![0, v3974.toNat, 0]

def k0_chk293 (v3970 : BitVec 32) : Prop :=
  (8 ∣ (k0_mult294 v3970).toNat) ∧
  (∀ a, (k0_off338 v3970) a + S1x8x1024.size a ≤ S1x4096x1024.size a)
theorem k0_mult294_dvd : ∀ (v3970 : BitVec 32) (k0_hw293 : k0_chk293 v3970), 8 ∣ (k0_mult294 v3970).toNat := fun v3970 k0_hw293 => k0_hw293.1
theorem k0_off338_inb : ∀ (v3970 : BitVec 32) (k0_hw293 : k0_chk293 v3970), ∀ a, (k0_off338 v3970) a + S1x8x1024.size a ≤ S1x4096x1024.size a := fun v3970 k0_hw293 => k0_hw293.2

def k0_mult295 (v3983 : BitVec 32) : BitVec 32 :=
  let c7_i32_2509 : BitVec 32 := 7#32
  let v3984 : BitVec 32 := Scalar.andi v3983 c7_i32_2509
  let v3985 : BitVec 32 := Scalar.subi v3983 v3984
  v3985

def k0_off339 (v3983 : BitVec 32) : Fin 3 → Nat :=
  let c0_2510 : Index := 0#32
  let c7_i32_2509 : BitVec 32 := 7#32
  let v3984 : BitVec 32 := Scalar.andi v3983 c7_i32_2509
  let v3985 : BitVec 32 := Scalar.subi v3983 v3984
  let v3986 : BitVec 32 := v3985
  let v3987 : Index := Scalar.indexCast v3986
  let c0_2511 : Index := 0#32
  ![0, v3987.toNat, 0]

def k0_chk294 (v3983 : BitVec 32) : Prop :=
  (8 ∣ (k0_mult295 v3983).toNat) ∧
  (∀ a, (k0_off339 v3983) a + S1x8x1024.size a ≤ S1x4096x1024.size a)
theorem k0_mult295_dvd : ∀ (v3983 : BitVec 32) (k0_hw294 : k0_chk294 v3983), 8 ∣ (k0_mult295 v3983).toNat := fun v3983 k0_hw294 => k0_hw294.1
theorem k0_off339_inb : ∀ (v3983 : BitVec 32) (k0_hw294 : k0_chk294 v3983), ∀ a, (k0_off339 v3983) a + S1x8x1024.size a ≤ S1x4096x1024.size a := fun v3983 k0_hw294 => k0_hw294.2

def k0_mult296 (v3996 : BitVec 32) : BitVec 32 :=
  let c7_i32_2517 : BitVec 32 := 7#32
  let v3997 : BitVec 32 := Scalar.andi v3996 c7_i32_2517
  let v3998 : BitVec 32 := Scalar.subi v3996 v3997
  v3998

def k0_off340 (v3996 : BitVec 32) : Fin 3 → Nat :=
  let c0_2518 : Index := 0#32
  let c7_i32_2517 : BitVec 32 := 7#32
  let v3997 : BitVec 32 := Scalar.andi v3996 c7_i32_2517
  let v3998 : BitVec 32 := Scalar.subi v3996 v3997
  let v3999 : BitVec 32 := v3998
  let v4000 : Index := Scalar.indexCast v3999
  let c0_2519 : Index := 0#32
  ![0, v4000.toNat, 0]

def k0_chk295 (v3996 : BitVec 32) : Prop :=
  (8 ∣ (k0_mult296 v3996).toNat) ∧
  (∀ a, (k0_off340 v3996) a + S1x8x1024.size a ≤ S1x4096x1024.size a)
theorem k0_mult296_dvd : ∀ (v3996 : BitVec 32) (k0_hw295 : k0_chk295 v3996), 8 ∣ (k0_mult296 v3996).toNat := fun v3996 k0_hw295 => k0_hw295.1
theorem k0_off340_inb : ∀ (v3996 : BitVec 32) (k0_hw295 : k0_chk295 v3996), ∀ a, (k0_off340 v3996) a + S1x8x1024.size a ≤ S1x4096x1024.size a := fun v3996 k0_hw295 => k0_hw295.2

def k0_mult297 (v4009 : BitVec 32) : BitVec 32 :=
  let c7_i32_2525 : BitVec 32 := 7#32
  let v4010 : BitVec 32 := Scalar.andi v4009 c7_i32_2525
  let v4011 : BitVec 32 := Scalar.subi v4009 v4010
  v4011

def k0_off341 (v4009 : BitVec 32) : Fin 3 → Nat :=
  let c0_2526 : Index := 0#32
  let c7_i32_2525 : BitVec 32 := 7#32
  let v4010 : BitVec 32 := Scalar.andi v4009 c7_i32_2525
  let v4011 : BitVec 32 := Scalar.subi v4009 v4010
  let v4012 : BitVec 32 := v4011
  let v4013 : Index := Scalar.indexCast v4012
  let c0_2527 : Index := 0#32
  ![0, v4013.toNat, 0]

def k0_chk296 (v4009 : BitVec 32) : Prop :=
  (8 ∣ (k0_mult297 v4009).toNat) ∧
  (∀ a, (k0_off341 v4009) a + S1x8x1024.size a ≤ S1x4096x1024.size a)
theorem k0_mult297_dvd : ∀ (v4009 : BitVec 32) (k0_hw296 : k0_chk296 v4009), 8 ∣ (k0_mult297 v4009).toNat := fun v4009 k0_hw296 => k0_hw296.1
theorem k0_off341_inb : ∀ (v4009 : BitVec 32) (k0_hw296 : k0_chk296 v4009), ∀ a, (k0_off341 v4009) a + S1x8x1024.size a ≤ S1x4096x1024.size a := fun v4009 k0_hw296 => k0_hw296.2

def k0_off342 (i : grid0.Coords) : Fin 3 → Nat :=
  let c1_i32_2465 : BitVec 32 := 1#32
  let arg1 : BitVec 32 := BitVec.ofNat 32 (i 1).val
  let c1_i32 : BitVec 32 := 1#32
  let v1 : BitVec 32 := Scalar.andi arg1 c1_i32
  let v3916 : BitVec 32 := Scalar.subi c1_i32_2465 v1
  let c0_i32_2531 : BitVec 32 := 0#32
  let c0_i32_2532 : BitVec 32 := 0#32
  ![v3916.toNat, 0, 0]
def k0_mult298 (v4029 : BitVec 32) : BitVec 32 :=
  let c7_i32_2539 : BitVec 32 := 7#32
  let v4030 : BitVec 32 := Scalar.andi v4029 c7_i32_2539
  let v4031 : BitVec 32 := Scalar.subi v4029 v4030
  v4031

def k0_off343 (v4029 : BitVec 32) : Fin 3 → Nat :=
  let c0_2540 : Index := 0#32
  let c7_i32_2539 : BitVec 32 := 7#32
  let v4030 : BitVec 32 := Scalar.andi v4029 c7_i32_2539
  let v4031 : BitVec 32 := Scalar.subi v4029 v4030
  let v4032 : BitVec 32 := v4031
  let v4033 : Index := Scalar.indexCast v4032
  let c0_2541 : Index := 0#32
  ![0, v4033.toNat, 0]

def k0_chk297 (v4029 : BitVec 32) : Prop :=
  (8 ∣ (k0_mult298 v4029).toNat) ∧
  (∀ a, (k0_off343 v4029) a + S1x8x1024.size a ≤ S1x4096x1024.size a)
theorem k0_mult298_dvd : ∀ (v4029 : BitVec 32) (k0_hw297 : k0_chk297 v4029), 8 ∣ (k0_mult298 v4029).toNat := fun v4029 k0_hw297 => k0_hw297.1
theorem k0_off343_inb : ∀ (v4029 : BitVec 32) (k0_hw297 : k0_chk297 v4029), ∀ a, (k0_off343 v4029) a + S1x8x1024.size a ≤ S1x4096x1024.size a := fun v4029 k0_hw297 => k0_hw297.2

def k0_mult299 (v4042 : BitVec 32) : BitVec 32 :=
  let c7_i32_2547 : BitVec 32 := 7#32
  let v4043 : BitVec 32 := Scalar.andi v4042 c7_i32_2547
  let v4044 : BitVec 32 := Scalar.subi v4042 v4043
  v4044

def k0_off344 (v4042 : BitVec 32) : Fin 3 → Nat :=
  let c0_2548 : Index := 0#32
  let c7_i32_2547 : BitVec 32 := 7#32
  let v4043 : BitVec 32 := Scalar.andi v4042 c7_i32_2547
  let v4044 : BitVec 32 := Scalar.subi v4042 v4043
  let v4045 : BitVec 32 := v4044
  let v4046 : Index := Scalar.indexCast v4045
  let c0_2549 : Index := 0#32
  ![0, v4046.toNat, 0]

def k0_chk298 (v4042 : BitVec 32) : Prop :=
  (8 ∣ (k0_mult299 v4042).toNat) ∧
  (∀ a, (k0_off344 v4042) a + S1x8x1024.size a ≤ S1x4096x1024.size a)
theorem k0_mult299_dvd : ∀ (v4042 : BitVec 32) (k0_hw298 : k0_chk298 v4042), 8 ∣ (k0_mult299 v4042).toNat := fun v4042 k0_hw298 => k0_hw298.1
theorem k0_off344_inb : ∀ (v4042 : BitVec 32) (k0_hw298 : k0_chk298 v4042), ∀ a, (k0_off344 v4042) a + S1x8x1024.size a ≤ S1x4096x1024.size a := fun v4042 k0_hw298 => k0_hw298.2

def k0_mult300 (v4055 : BitVec 32) : BitVec 32 :=
  let c7_i32_2555 : BitVec 32 := 7#32
  let v4056 : BitVec 32 := Scalar.andi v4055 c7_i32_2555
  let v4057 : BitVec 32 := Scalar.subi v4055 v4056
  v4057

def k0_off345 (v4055 : BitVec 32) : Fin 3 → Nat :=
  let c0_2556 : Index := 0#32
  let c7_i32_2555 : BitVec 32 := 7#32
  let v4056 : BitVec 32 := Scalar.andi v4055 c7_i32_2555
  let v4057 : BitVec 32 := Scalar.subi v4055 v4056
  let v4058 : BitVec 32 := v4057
  let v4059 : Index := Scalar.indexCast v4058
  let c0_2557 : Index := 0#32
  ![0, v4059.toNat, 0]

def k0_chk299 (v4055 : BitVec 32) : Prop :=
  (8 ∣ (k0_mult300 v4055).toNat) ∧
  (∀ a, (k0_off345 v4055) a + S1x8x1024.size a ≤ S1x4096x1024.size a)
theorem k0_mult300_dvd : ∀ (v4055 : BitVec 32) (k0_hw299 : k0_chk299 v4055), 8 ∣ (k0_mult300 v4055).toNat := fun v4055 k0_hw299 => k0_hw299.1
theorem k0_off345_inb : ∀ (v4055 : BitVec 32) (k0_hw299 : k0_chk299 v4055), ∀ a, (k0_off345 v4055) a + S1x8x1024.size a ≤ S1x4096x1024.size a := fun v4055 k0_hw299 => k0_hw299.2

def k0_mult301 (v4068 : BitVec 32) : BitVec 32 :=
  let c7_i32_2563 : BitVec 32 := 7#32
  let v4069 : BitVec 32 := Scalar.andi v4068 c7_i32_2563
  let v4070 : BitVec 32 := Scalar.subi v4068 v4069
  v4070

def k0_off346 (v4068 : BitVec 32) : Fin 3 → Nat :=
  let c0_2564 : Index := 0#32
  let c7_i32_2563 : BitVec 32 := 7#32
  let v4069 : BitVec 32 := Scalar.andi v4068 c7_i32_2563
  let v4070 : BitVec 32 := Scalar.subi v4068 v4069
  let v4071 : BitVec 32 := v4070
  let v4072 : Index := Scalar.indexCast v4071
  let c0_2565 : Index := 0#32
  ![0, v4072.toNat, 0]

def k0_chk300 (v4068 : BitVec 32) : Prop :=
  (8 ∣ (k0_mult301 v4068).toNat) ∧
  (∀ a, (k0_off346 v4068) a + S1x8x1024.size a ≤ S1x4096x1024.size a)
theorem k0_mult301_dvd : ∀ (v4068 : BitVec 32) (k0_hw300 : k0_chk300 v4068), 8 ∣ (k0_mult301 v4068).toNat := fun v4068 k0_hw300 => k0_hw300.1
theorem k0_off346_inb : ∀ (v4068 : BitVec 32) (k0_hw300 : k0_chk300 v4068), ∀ a, (k0_off346 v4068) a + S1x8x1024.size a ≤ S1x4096x1024.size a := fun v4068 k0_hw300 => k0_hw300.2

def k0_mult302 (v4081 : BitVec 32) : BitVec 32 :=
  let c7_i32_2571 : BitVec 32 := 7#32
  let v4082 : BitVec 32 := Scalar.andi v4081 c7_i32_2571
  let v4083 : BitVec 32 := Scalar.subi v4081 v4082
  v4083

def k0_off347 (v4081 : BitVec 32) : Fin 3 → Nat :=
  let c0_2572 : Index := 0#32
  let c7_i32_2571 : BitVec 32 := 7#32
  let v4082 : BitVec 32 := Scalar.andi v4081 c7_i32_2571
  let v4083 : BitVec 32 := Scalar.subi v4081 v4082
  let v4084 : BitVec 32 := v4083
  let v4085 : Index := Scalar.indexCast v4084
  let c0_2573 : Index := 0#32
  ![0, v4085.toNat, 0]

def k0_chk301 (v4081 : BitVec 32) : Prop :=
  (8 ∣ (k0_mult302 v4081).toNat) ∧
  (∀ a, (k0_off347 v4081) a + S1x8x1024.size a ≤ S1x4096x1024.size a)
theorem k0_mult302_dvd : ∀ (v4081 : BitVec 32) (k0_hw301 : k0_chk301 v4081), 8 ∣ (k0_mult302 v4081).toNat := fun v4081 k0_hw301 => k0_hw301.1
theorem k0_off347_inb : ∀ (v4081 : BitVec 32) (k0_hw301 : k0_chk301 v4081), ∀ a, (k0_off347 v4081) a + S1x8x1024.size a ≤ S1x4096x1024.size a := fun v4081 k0_hw301 => k0_hw301.2

def k0_mult303 (v4094 : BitVec 32) : BitVec 32 :=
  let c7_i32_2579 : BitVec 32 := 7#32
  let v4095 : BitVec 32 := Scalar.andi v4094 c7_i32_2579
  let v4096 : BitVec 32 := Scalar.subi v4094 v4095
  v4096

def k0_off348 (v4094 : BitVec 32) : Fin 3 → Nat :=
  let c0_2580 : Index := 0#32
  let c7_i32_2579 : BitVec 32 := 7#32
  let v4095 : BitVec 32 := Scalar.andi v4094 c7_i32_2579
  let v4096 : BitVec 32 := Scalar.subi v4094 v4095
  let v4097 : BitVec 32 := v4096
  let v4098 : Index := Scalar.indexCast v4097
  let c0_2581 : Index := 0#32
  ![0, v4098.toNat, 0]

def k0_chk302 (v4094 : BitVec 32) : Prop :=
  (8 ∣ (k0_mult303 v4094).toNat) ∧
  (∀ a, (k0_off348 v4094) a + S1x8x1024.size a ≤ S1x4096x1024.size a)
theorem k0_mult303_dvd : ∀ (v4094 : BitVec 32) (k0_hw302 : k0_chk302 v4094), 8 ∣ (k0_mult303 v4094).toNat := fun v4094 k0_hw302 => k0_hw302.1
theorem k0_off348_inb : ∀ (v4094 : BitVec 32) (k0_hw302 : k0_chk302 v4094), ∀ a, (k0_off348 v4094) a + S1x8x1024.size a ≤ S1x4096x1024.size a := fun v4094 k0_hw302 => k0_hw302.2

def k0_mult304 (v4107 : BitVec 32) : BitVec 32 :=
  let c7_i32_2587 : BitVec 32 := 7#32
  let v4108 : BitVec 32 := Scalar.andi v4107 c7_i32_2587
  let v4109 : BitVec 32 := Scalar.subi v4107 v4108
  v4109

def k0_off349 (v4107 : BitVec 32) : Fin 3 → Nat :=
  let c0_2588 : Index := 0#32
  let c7_i32_2587 : BitVec 32 := 7#32
  let v4108 : BitVec 32 := Scalar.andi v4107 c7_i32_2587
  let v4109 : BitVec 32 := Scalar.subi v4107 v4108
  let v4110 : BitVec 32 := v4109
  let v4111 : Index := Scalar.indexCast v4110
  let c0_2589 : Index := 0#32
  ![0, v4111.toNat, 0]

def k0_chk303 (v4107 : BitVec 32) : Prop :=
  (8 ∣ (k0_mult304 v4107).toNat) ∧
  (∀ a, (k0_off349 v4107) a + S1x8x1024.size a ≤ S1x4096x1024.size a)
theorem k0_mult304_dvd : ∀ (v4107 : BitVec 32) (k0_hw303 : k0_chk303 v4107), 8 ∣ (k0_mult304 v4107).toNat := fun v4107 k0_hw303 => k0_hw303.1
theorem k0_off349_inb : ∀ (v4107 : BitVec 32) (k0_hw303 : k0_chk303 v4107), ∀ a, (k0_off349 v4107) a + S1x8x1024.size a ≤ S1x4096x1024.size a := fun v4107 k0_hw303 => k0_hw303.2

def k0_mult305 (v4120 : BitVec 32) : BitVec 32 :=
  let c7_i32_2595 : BitVec 32 := 7#32
  let v4121 : BitVec 32 := Scalar.andi v4120 c7_i32_2595
  let v4122 : BitVec 32 := Scalar.subi v4120 v4121
  v4122

def k0_off350 (v4120 : BitVec 32) : Fin 3 → Nat :=
  let c0_2596 : Index := 0#32
  let c7_i32_2595 : BitVec 32 := 7#32
  let v4121 : BitVec 32 := Scalar.andi v4120 c7_i32_2595
  let v4122 : BitVec 32 := Scalar.subi v4120 v4121
  let v4123 : BitVec 32 := v4122
  let v4124 : Index := Scalar.indexCast v4123
  let c0_2597 : Index := 0#32
  ![0, v4124.toNat, 0]

def k0_chk304 (v4120 : BitVec 32) : Prop :=
  (8 ∣ (k0_mult305 v4120).toNat) ∧
  (∀ a, (k0_off350 v4120) a + S1x8x1024.size a ≤ S1x4096x1024.size a)
theorem k0_mult305_dvd : ∀ (v4120 : BitVec 32) (k0_hw304 : k0_chk304 v4120), 8 ∣ (k0_mult305 v4120).toNat := fun v4120 k0_hw304 => k0_hw304.1
theorem k0_off350_inb : ∀ (v4120 : BitVec 32) (k0_hw304 : k0_chk304 v4120), ∀ a, (k0_off350 v4120) a + S1x8x1024.size a ≤ S1x4096x1024.size a := fun v4120 k0_hw304 => k0_hw304.2

def k0_off351 (i : grid0.Coords) : Fin 3 → Nat :=
  let c1_i32_2535 : BitVec 32 := 1#32
  let arg1 : BitVec 32 := BitVec.ofNat 32 (i 1).val
  let c1_i32 : BitVec 32 := 1#32
  let v1 : BitVec 32 := Scalar.andi arg1 c1_i32
  let v4027 : BitVec 32 := Scalar.subi c1_i32_2535 v1
  let c0_i32_2601 : BitVec 32 := 0#32
  let c0_i32_2602 : BitVec 32 := 0#32
  ![v4027.toNat, 0, 0]
def k0_mult306 (v4140 : BitVec 32) : BitVec 32 :=
  let c7_i32_2609 : BitVec 32 := 7#32
  let v4141 : BitVec 32 := Scalar.andi v4140 c7_i32_2609
  let v4142 : BitVec 32 := Scalar.subi v4140 v4141
  v4142

def k0_off352 (v4140 : BitVec 32) : Fin 3 → Nat :=
  let c0_2610 : Index := 0#32
  let c7_i32_2609 : BitVec 32 := 7#32
  let v4141 : BitVec 32 := Scalar.andi v4140 c7_i32_2609
  let v4142 : BitVec 32 := Scalar.subi v4140 v4141
  let v4143 : BitVec 32 := v4142
  let v4144 : Index := Scalar.indexCast v4143
  let c0_2611 : Index := 0#32
  ![0, v4144.toNat, 0]

def k0_chk305 (v4140 : BitVec 32) : Prop :=
  (8 ∣ (k0_mult306 v4140).toNat) ∧
  (∀ a, (k0_off352 v4140) a + S1x8x1024.size a ≤ S1x4096x1024.size a)
theorem k0_mult306_dvd : ∀ (v4140 : BitVec 32) (k0_hw305 : k0_chk305 v4140), 8 ∣ (k0_mult306 v4140).toNat := fun v4140 k0_hw305 => k0_hw305.1
theorem k0_off352_inb : ∀ (v4140 : BitVec 32) (k0_hw305 : k0_chk305 v4140), ∀ a, (k0_off352 v4140) a + S1x8x1024.size a ≤ S1x4096x1024.size a := fun v4140 k0_hw305 => k0_hw305.2

def k0_mult307 (v4153 : BitVec 32) : BitVec 32 :=
  let c7_i32_2617 : BitVec 32 := 7#32
  let v4154 : BitVec 32 := Scalar.andi v4153 c7_i32_2617
  let v4155 : BitVec 32 := Scalar.subi v4153 v4154
  v4155

def k0_off353 (v4153 : BitVec 32) : Fin 3 → Nat :=
  let c0_2618 : Index := 0#32
  let c7_i32_2617 : BitVec 32 := 7#32
  let v4154 : BitVec 32 := Scalar.andi v4153 c7_i32_2617
  let v4155 : BitVec 32 := Scalar.subi v4153 v4154
  let v4156 : BitVec 32 := v4155
  let v4157 : Index := Scalar.indexCast v4156
  let c0_2619 : Index := 0#32
  ![0, v4157.toNat, 0]

def k0_chk306 (v4153 : BitVec 32) : Prop :=
  (8 ∣ (k0_mult307 v4153).toNat) ∧
  (∀ a, (k0_off353 v4153) a + S1x8x1024.size a ≤ S1x4096x1024.size a)
theorem k0_mult307_dvd : ∀ (v4153 : BitVec 32) (k0_hw306 : k0_chk306 v4153), 8 ∣ (k0_mult307 v4153).toNat := fun v4153 k0_hw306 => k0_hw306.1
theorem k0_off353_inb : ∀ (v4153 : BitVec 32) (k0_hw306 : k0_chk306 v4153), ∀ a, (k0_off353 v4153) a + S1x8x1024.size a ≤ S1x4096x1024.size a := fun v4153 k0_hw306 => k0_hw306.2

def k0_mult308 (v4166 : BitVec 32) : BitVec 32 :=
  let c7_i32_2625 : BitVec 32 := 7#32
  let v4167 : BitVec 32 := Scalar.andi v4166 c7_i32_2625
  let v4168 : BitVec 32 := Scalar.subi v4166 v4167
  v4168

def k0_off354 (v4166 : BitVec 32) : Fin 3 → Nat :=
  let c0_2626 : Index := 0#32
  let c7_i32_2625 : BitVec 32 := 7#32
  let v4167 : BitVec 32 := Scalar.andi v4166 c7_i32_2625
  let v4168 : BitVec 32 := Scalar.subi v4166 v4167
  let v4169 : BitVec 32 := v4168
  let v4170 : Index := Scalar.indexCast v4169
  let c0_2627 : Index := 0#32
  ![0, v4170.toNat, 0]

def k0_chk307 (v4166 : BitVec 32) : Prop :=
  (8 ∣ (k0_mult308 v4166).toNat) ∧
  (∀ a, (k0_off354 v4166) a + S1x8x1024.size a ≤ S1x4096x1024.size a)
theorem k0_mult308_dvd : ∀ (v4166 : BitVec 32) (k0_hw307 : k0_chk307 v4166), 8 ∣ (k0_mult308 v4166).toNat := fun v4166 k0_hw307 => k0_hw307.1
theorem k0_off354_inb : ∀ (v4166 : BitVec 32) (k0_hw307 : k0_chk307 v4166), ∀ a, (k0_off354 v4166) a + S1x8x1024.size a ≤ S1x4096x1024.size a := fun v4166 k0_hw307 => k0_hw307.2

def k0_mult309 (v4179 : BitVec 32) : BitVec 32 :=
  let c7_i32_2633 : BitVec 32 := 7#32
  let v4180 : BitVec 32 := Scalar.andi v4179 c7_i32_2633
  let v4181 : BitVec 32 := Scalar.subi v4179 v4180
  v4181

def k0_off355 (v4179 : BitVec 32) : Fin 3 → Nat :=
  let c0_2634 : Index := 0#32
  let c7_i32_2633 : BitVec 32 := 7#32
  let v4180 : BitVec 32 := Scalar.andi v4179 c7_i32_2633
  let v4181 : BitVec 32 := Scalar.subi v4179 v4180
  let v4182 : BitVec 32 := v4181
  let v4183 : Index := Scalar.indexCast v4182
  let c0_2635 : Index := 0#32
  ![0, v4183.toNat, 0]

def k0_chk308 (v4179 : BitVec 32) : Prop :=
  (8 ∣ (k0_mult309 v4179).toNat) ∧
  (∀ a, (k0_off355 v4179) a + S1x8x1024.size a ≤ S1x4096x1024.size a)
theorem k0_mult309_dvd : ∀ (v4179 : BitVec 32) (k0_hw308 : k0_chk308 v4179), 8 ∣ (k0_mult309 v4179).toNat := fun v4179 k0_hw308 => k0_hw308.1
theorem k0_off355_inb : ∀ (v4179 : BitVec 32) (k0_hw308 : k0_chk308 v4179), ∀ a, (k0_off355 v4179) a + S1x8x1024.size a ≤ S1x4096x1024.size a := fun v4179 k0_hw308 => k0_hw308.2

def k0_mult310 (v4192 : BitVec 32) : BitVec 32 :=
  let c7_i32_2641 : BitVec 32 := 7#32
  let v4193 : BitVec 32 := Scalar.andi v4192 c7_i32_2641
  let v4194 : BitVec 32 := Scalar.subi v4192 v4193
  v4194

def k0_off356 (v4192 : BitVec 32) : Fin 3 → Nat :=
  let c0_2642 : Index := 0#32
  let c7_i32_2641 : BitVec 32 := 7#32
  let v4193 : BitVec 32 := Scalar.andi v4192 c7_i32_2641
  let v4194 : BitVec 32 := Scalar.subi v4192 v4193
  let v4195 : BitVec 32 := v4194
  let v4196 : Index := Scalar.indexCast v4195
  let c0_2643 : Index := 0#32
  ![0, v4196.toNat, 0]

def k0_chk309 (v4192 : BitVec 32) : Prop :=
  (8 ∣ (k0_mult310 v4192).toNat) ∧
  (∀ a, (k0_off356 v4192) a + S1x8x1024.size a ≤ S1x4096x1024.size a)
theorem k0_mult310_dvd : ∀ (v4192 : BitVec 32) (k0_hw309 : k0_chk309 v4192), 8 ∣ (k0_mult310 v4192).toNat := fun v4192 k0_hw309 => k0_hw309.1
theorem k0_off356_inb : ∀ (v4192 : BitVec 32) (k0_hw309 : k0_chk309 v4192), ∀ a, (k0_off356 v4192) a + S1x8x1024.size a ≤ S1x4096x1024.size a := fun v4192 k0_hw309 => k0_hw309.2

def k0_mult311 (v4205 : BitVec 32) : BitVec 32 :=
  let c7_i32_2649 : BitVec 32 := 7#32
  let v4206 : BitVec 32 := Scalar.andi v4205 c7_i32_2649
  let v4207 : BitVec 32 := Scalar.subi v4205 v4206
  v4207

def k0_off357 (v4205 : BitVec 32) : Fin 3 → Nat :=
  let c0_2650 : Index := 0#32
  let c7_i32_2649 : BitVec 32 := 7#32
  let v4206 : BitVec 32 := Scalar.andi v4205 c7_i32_2649
  let v4207 : BitVec 32 := Scalar.subi v4205 v4206
  let v4208 : BitVec 32 := v4207
  let v4209 : Index := Scalar.indexCast v4208
  let c0_2651 : Index := 0#32
  ![0, v4209.toNat, 0]

def k0_chk310 (v4205 : BitVec 32) : Prop :=
  (8 ∣ (k0_mult311 v4205).toNat) ∧
  (∀ a, (k0_off357 v4205) a + S1x8x1024.size a ≤ S1x4096x1024.size a)
theorem k0_mult311_dvd : ∀ (v4205 : BitVec 32) (k0_hw310 : k0_chk310 v4205), 8 ∣ (k0_mult311 v4205).toNat := fun v4205 k0_hw310 => k0_hw310.1
theorem k0_off357_inb : ∀ (v4205 : BitVec 32) (k0_hw310 : k0_chk310 v4205), ∀ a, (k0_off357 v4205) a + S1x8x1024.size a ≤ S1x4096x1024.size a := fun v4205 k0_hw310 => k0_hw310.2

def k0_mult312 (v4218 : BitVec 32) : BitVec 32 :=
  let c7_i32_2657 : BitVec 32 := 7#32
  let v4219 : BitVec 32 := Scalar.andi v4218 c7_i32_2657
  let v4220 : BitVec 32 := Scalar.subi v4218 v4219
  v4220

def k0_off358 (v4218 : BitVec 32) : Fin 3 → Nat :=
  let c0_2658 : Index := 0#32
  let c7_i32_2657 : BitVec 32 := 7#32
  let v4219 : BitVec 32 := Scalar.andi v4218 c7_i32_2657
  let v4220 : BitVec 32 := Scalar.subi v4218 v4219
  let v4221 : BitVec 32 := v4220
  let v4222 : Index := Scalar.indexCast v4221
  let c0_2659 : Index := 0#32
  ![0, v4222.toNat, 0]

def k0_chk311 (v4218 : BitVec 32) : Prop :=
  (8 ∣ (k0_mult312 v4218).toNat) ∧
  (∀ a, (k0_off358 v4218) a + S1x8x1024.size a ≤ S1x4096x1024.size a)
theorem k0_mult312_dvd : ∀ (v4218 : BitVec 32) (k0_hw311 : k0_chk311 v4218), 8 ∣ (k0_mult312 v4218).toNat := fun v4218 k0_hw311 => k0_hw311.1
theorem k0_off358_inb : ∀ (v4218 : BitVec 32) (k0_hw311 : k0_chk311 v4218), ∀ a, (k0_off358 v4218) a + S1x8x1024.size a ≤ S1x4096x1024.size a := fun v4218 k0_hw311 => k0_hw311.2

def k0_mult313 (v4231 : BitVec 32) : BitVec 32 :=
  let c7_i32_2665 : BitVec 32 := 7#32
  let v4232 : BitVec 32 := Scalar.andi v4231 c7_i32_2665
  let v4233 : BitVec 32 := Scalar.subi v4231 v4232
  v4233

def k0_off359 (v4231 : BitVec 32) : Fin 3 → Nat :=
  let c0_2666 : Index := 0#32
  let c7_i32_2665 : BitVec 32 := 7#32
  let v4232 : BitVec 32 := Scalar.andi v4231 c7_i32_2665
  let v4233 : BitVec 32 := Scalar.subi v4231 v4232
  let v4234 : BitVec 32 := v4233
  let v4235 : Index := Scalar.indexCast v4234
  let c0_2667 : Index := 0#32
  ![0, v4235.toNat, 0]

def k0_chk312 (v4231 : BitVec 32) : Prop :=
  (8 ∣ (k0_mult313 v4231).toNat) ∧
  (∀ a, (k0_off359 v4231) a + S1x8x1024.size a ≤ S1x4096x1024.size a)
theorem k0_mult313_dvd : ∀ (v4231 : BitVec 32) (k0_hw312 : k0_chk312 v4231), 8 ∣ (k0_mult313 v4231).toNat := fun v4231 k0_hw312 => k0_hw312.1
theorem k0_off359_inb : ∀ (v4231 : BitVec 32) (k0_hw312 : k0_chk312 v4231), ∀ a, (k0_off359 v4231) a + S1x8x1024.size a ≤ S1x4096x1024.size a := fun v4231 k0_hw312 => k0_hw312.2

def k0_off360 (i : grid0.Coords) : Fin 3 → Nat :=
  let c1_i32_2605 : BitVec 32 := 1#32
  let arg1 : BitVec 32 := BitVec.ofNat 32 (i 1).val
  let c1_i32 : BitVec 32 := 1#32
  let v1 : BitVec 32 := Scalar.andi arg1 c1_i32
  let v4138 : BitVec 32 := Scalar.subi c1_i32_2605 v1
  let c0_i32_2671 : BitVec 32 := 0#32
  let c0_i32_2672 : BitVec 32 := 0#32
  ![v4138.toNat, 0, 0]
def k0_mult314 (v4251 : BitVec 32) : BitVec 32 :=
  let c7_i32_2679 : BitVec 32 := 7#32
  let v4252 : BitVec 32 := Scalar.andi v4251 c7_i32_2679
  let v4253 : BitVec 32 := Scalar.subi v4251 v4252
  v4253

def k0_off361 (v4251 : BitVec 32) : Fin 3 → Nat :=
  let c0_2680 : Index := 0#32
  let c7_i32_2679 : BitVec 32 := 7#32
  let v4252 : BitVec 32 := Scalar.andi v4251 c7_i32_2679
  let v4253 : BitVec 32 := Scalar.subi v4251 v4252
  let v4254 : BitVec 32 := v4253
  let v4255 : Index := Scalar.indexCast v4254
  let c0_2681 : Index := 0#32
  ![0, v4255.toNat, 0]

def k0_chk313 (v4251 : BitVec 32) : Prop :=
  (8 ∣ (k0_mult314 v4251).toNat) ∧
  (∀ a, (k0_off361 v4251) a + S1x8x1024.size a ≤ S1x4096x1024.size a)
theorem k0_mult314_dvd : ∀ (v4251 : BitVec 32) (k0_hw313 : k0_chk313 v4251), 8 ∣ (k0_mult314 v4251).toNat := fun v4251 k0_hw313 => k0_hw313.1
theorem k0_off361_inb : ∀ (v4251 : BitVec 32) (k0_hw313 : k0_chk313 v4251), ∀ a, (k0_off361 v4251) a + S1x8x1024.size a ≤ S1x4096x1024.size a := fun v4251 k0_hw313 => k0_hw313.2

def k0_mult315 (v4264 : BitVec 32) : BitVec 32 :=
  let c7_i32_2687 : BitVec 32 := 7#32
  let v4265 : BitVec 32 := Scalar.andi v4264 c7_i32_2687
  let v4266 : BitVec 32 := Scalar.subi v4264 v4265
  v4266

def k0_off362 (v4264 : BitVec 32) : Fin 3 → Nat :=
  let c0_2688 : Index := 0#32
  let c7_i32_2687 : BitVec 32 := 7#32
  let v4265 : BitVec 32 := Scalar.andi v4264 c7_i32_2687
  let v4266 : BitVec 32 := Scalar.subi v4264 v4265
  let v4267 : BitVec 32 := v4266
  let v4268 : Index := Scalar.indexCast v4267
  let c0_2689 : Index := 0#32
  ![0, v4268.toNat, 0]

def k0_chk314 (v4264 : BitVec 32) : Prop :=
  (8 ∣ (k0_mult315 v4264).toNat) ∧
  (∀ a, (k0_off362 v4264) a + S1x8x1024.size a ≤ S1x4096x1024.size a)
theorem k0_mult315_dvd : ∀ (v4264 : BitVec 32) (k0_hw314 : k0_chk314 v4264), 8 ∣ (k0_mult315 v4264).toNat := fun v4264 k0_hw314 => k0_hw314.1
theorem k0_off362_inb : ∀ (v4264 : BitVec 32) (k0_hw314 : k0_chk314 v4264), ∀ a, (k0_off362 v4264) a + S1x8x1024.size a ≤ S1x4096x1024.size a := fun v4264 k0_hw314 => k0_hw314.2

def k0_mult316 (v4277 : BitVec 32) : BitVec 32 :=
  let c7_i32_2695 : BitVec 32 := 7#32
  let v4278 : BitVec 32 := Scalar.andi v4277 c7_i32_2695
  let v4279 : BitVec 32 := Scalar.subi v4277 v4278
  v4279

def k0_off363 (v4277 : BitVec 32) : Fin 3 → Nat :=
  let c0_2696 : Index := 0#32
  let c7_i32_2695 : BitVec 32 := 7#32
  let v4278 : BitVec 32 := Scalar.andi v4277 c7_i32_2695
  let v4279 : BitVec 32 := Scalar.subi v4277 v4278
  let v4280 : BitVec 32 := v4279
  let v4281 : Index := Scalar.indexCast v4280
  let c0_2697 : Index := 0#32
  ![0, v4281.toNat, 0]

def k0_chk315 (v4277 : BitVec 32) : Prop :=
  (8 ∣ (k0_mult316 v4277).toNat) ∧
  (∀ a, (k0_off363 v4277) a + S1x8x1024.size a ≤ S1x4096x1024.size a)
theorem k0_mult316_dvd : ∀ (v4277 : BitVec 32) (k0_hw315 : k0_chk315 v4277), 8 ∣ (k0_mult316 v4277).toNat := fun v4277 k0_hw315 => k0_hw315.1
theorem k0_off363_inb : ∀ (v4277 : BitVec 32) (k0_hw315 : k0_chk315 v4277), ∀ a, (k0_off363 v4277) a + S1x8x1024.size a ≤ S1x4096x1024.size a := fun v4277 k0_hw315 => k0_hw315.2

def k0_mult317 (v4290 : BitVec 32) : BitVec 32 :=
  let c7_i32_2703 : BitVec 32 := 7#32
  let v4291 : BitVec 32 := Scalar.andi v4290 c7_i32_2703
  let v4292 : BitVec 32 := Scalar.subi v4290 v4291
  v4292

def k0_off364 (v4290 : BitVec 32) : Fin 3 → Nat :=
  let c0_2704 : Index := 0#32
  let c7_i32_2703 : BitVec 32 := 7#32
  let v4291 : BitVec 32 := Scalar.andi v4290 c7_i32_2703
  let v4292 : BitVec 32 := Scalar.subi v4290 v4291
  let v4293 : BitVec 32 := v4292
  let v4294 : Index := Scalar.indexCast v4293
  let c0_2705 : Index := 0#32
  ![0, v4294.toNat, 0]

def k0_chk316 (v4290 : BitVec 32) : Prop :=
  (8 ∣ (k0_mult317 v4290).toNat) ∧
  (∀ a, (k0_off364 v4290) a + S1x8x1024.size a ≤ S1x4096x1024.size a)
theorem k0_mult317_dvd : ∀ (v4290 : BitVec 32) (k0_hw316 : k0_chk316 v4290), 8 ∣ (k0_mult317 v4290).toNat := fun v4290 k0_hw316 => k0_hw316.1
theorem k0_off364_inb : ∀ (v4290 : BitVec 32) (k0_hw316 : k0_chk316 v4290), ∀ a, (k0_off364 v4290) a + S1x8x1024.size a ≤ S1x4096x1024.size a := fun v4290 k0_hw316 => k0_hw316.2

def k0_mult318 (v4303 : BitVec 32) : BitVec 32 :=
  let c7_i32_2711 : BitVec 32 := 7#32
  let v4304 : BitVec 32 := Scalar.andi v4303 c7_i32_2711
  let v4305 : BitVec 32 := Scalar.subi v4303 v4304
  v4305

def k0_off365 (v4303 : BitVec 32) : Fin 3 → Nat :=
  let c0_2712 : Index := 0#32
  let c7_i32_2711 : BitVec 32 := 7#32
  let v4304 : BitVec 32 := Scalar.andi v4303 c7_i32_2711
  let v4305 : BitVec 32 := Scalar.subi v4303 v4304
  let v4306 : BitVec 32 := v4305
  let v4307 : Index := Scalar.indexCast v4306
  let c0_2713 : Index := 0#32
  ![0, v4307.toNat, 0]

def k0_chk317 (v4303 : BitVec 32) : Prop :=
  (8 ∣ (k0_mult318 v4303).toNat) ∧
  (∀ a, (k0_off365 v4303) a + S1x8x1024.size a ≤ S1x4096x1024.size a)
theorem k0_mult318_dvd : ∀ (v4303 : BitVec 32) (k0_hw317 : k0_chk317 v4303), 8 ∣ (k0_mult318 v4303).toNat := fun v4303 k0_hw317 => k0_hw317.1
theorem k0_off365_inb : ∀ (v4303 : BitVec 32) (k0_hw317 : k0_chk317 v4303), ∀ a, (k0_off365 v4303) a + S1x8x1024.size a ≤ S1x4096x1024.size a := fun v4303 k0_hw317 => k0_hw317.2

def k0_mult319 (v4316 : BitVec 32) : BitVec 32 :=
  let c7_i32_2719 : BitVec 32 := 7#32
  let v4317 : BitVec 32 := Scalar.andi v4316 c7_i32_2719
  let v4318 : BitVec 32 := Scalar.subi v4316 v4317
  v4318

def k0_off366 (v4316 : BitVec 32) : Fin 3 → Nat :=
  let c0_2720 : Index := 0#32
  let c7_i32_2719 : BitVec 32 := 7#32
  let v4317 : BitVec 32 := Scalar.andi v4316 c7_i32_2719
  let v4318 : BitVec 32 := Scalar.subi v4316 v4317
  let v4319 : BitVec 32 := v4318
  let v4320 : Index := Scalar.indexCast v4319
  let c0_2721 : Index := 0#32
  ![0, v4320.toNat, 0]

def k0_chk318 (v4316 : BitVec 32) : Prop :=
  (8 ∣ (k0_mult319 v4316).toNat) ∧
  (∀ a, (k0_off366 v4316) a + S1x8x1024.size a ≤ S1x4096x1024.size a)
theorem k0_mult319_dvd : ∀ (v4316 : BitVec 32) (k0_hw318 : k0_chk318 v4316), 8 ∣ (k0_mult319 v4316).toNat := fun v4316 k0_hw318 => k0_hw318.1
theorem k0_off366_inb : ∀ (v4316 : BitVec 32) (k0_hw318 : k0_chk318 v4316), ∀ a, (k0_off366 v4316) a + S1x8x1024.size a ≤ S1x4096x1024.size a := fun v4316 k0_hw318 => k0_hw318.2

def k0_mult320 (v4329 : BitVec 32) : BitVec 32 :=
  let c7_i32_2727 : BitVec 32 := 7#32
  let v4330 : BitVec 32 := Scalar.andi v4329 c7_i32_2727
  let v4331 : BitVec 32 := Scalar.subi v4329 v4330
  v4331

def k0_off367 (v4329 : BitVec 32) : Fin 3 → Nat :=
  let c0_2728 : Index := 0#32
  let c7_i32_2727 : BitVec 32 := 7#32
  let v4330 : BitVec 32 := Scalar.andi v4329 c7_i32_2727
  let v4331 : BitVec 32 := Scalar.subi v4329 v4330
  let v4332 : BitVec 32 := v4331
  let v4333 : Index := Scalar.indexCast v4332
  let c0_2729 : Index := 0#32
  ![0, v4333.toNat, 0]

def k0_chk319 (v4329 : BitVec 32) : Prop :=
  (8 ∣ (k0_mult320 v4329).toNat) ∧
  (∀ a, (k0_off367 v4329) a + S1x8x1024.size a ≤ S1x4096x1024.size a)
theorem k0_mult320_dvd : ∀ (v4329 : BitVec 32) (k0_hw319 : k0_chk319 v4329), 8 ∣ (k0_mult320 v4329).toNat := fun v4329 k0_hw319 => k0_hw319.1
theorem k0_off367_inb : ∀ (v4329 : BitVec 32) (k0_hw319 : k0_chk319 v4329), ∀ a, (k0_off367 v4329) a + S1x8x1024.size a ≤ S1x4096x1024.size a := fun v4329 k0_hw319 => k0_hw319.2

def k0_mult321 (v4342 : BitVec 32) : BitVec 32 :=
  let c7_i32_2735 : BitVec 32 := 7#32
  let v4343 : BitVec 32 := Scalar.andi v4342 c7_i32_2735
  let v4344 : BitVec 32 := Scalar.subi v4342 v4343
  v4344

def k0_off368 (v4342 : BitVec 32) : Fin 3 → Nat :=
  let c0_2736 : Index := 0#32
  let c7_i32_2735 : BitVec 32 := 7#32
  let v4343 : BitVec 32 := Scalar.andi v4342 c7_i32_2735
  let v4344 : BitVec 32 := Scalar.subi v4342 v4343
  let v4345 : BitVec 32 := v4344
  let v4346 : Index := Scalar.indexCast v4345
  let c0_2737 : Index := 0#32
  ![0, v4346.toNat, 0]

def k0_chk320 (v4342 : BitVec 32) : Prop :=
  (8 ∣ (k0_mult321 v4342).toNat) ∧
  (∀ a, (k0_off368 v4342) a + S1x8x1024.size a ≤ S1x4096x1024.size a)
theorem k0_mult321_dvd : ∀ (v4342 : BitVec 32) (k0_hw320 : k0_chk320 v4342), 8 ∣ (k0_mult321 v4342).toNat := fun v4342 k0_hw320 => k0_hw320.1
theorem k0_off368_inb : ∀ (v4342 : BitVec 32) (k0_hw320 : k0_chk320 v4342), ∀ a, (k0_off368 v4342) a + S1x8x1024.size a ≤ S1x4096x1024.size a := fun v4342 k0_hw320 => k0_hw320.2

def k0_off369 (i : grid0.Coords) : Fin 3 → Nat :=
  let c1_i32_2675 : BitVec 32 := 1#32
  let arg1 : BitVec 32 := BitVec.ofNat 32 (i 1).val
  let c1_i32 : BitVec 32 := 1#32
  let v1 : BitVec 32 := Scalar.andi arg1 c1_i32
  let v4249 : BitVec 32 := Scalar.subi c1_i32_2675 v1
  let c0_i32_2741 : BitVec 32 := 0#32
  let c0_i32_2742 : BitVec 32 := 0#32
  ![v4249.toNat, 0, 0]
def k0_mult322 (v4362 : BitVec 32) : BitVec 32 :=
  let c7_i32_2749 : BitVec 32 := 7#32
  let v4363 : BitVec 32 := Scalar.andi v4362 c7_i32_2749
  let v4364 : BitVec 32 := Scalar.subi v4362 v4363
  v4364

def k0_off370 (v4362 : BitVec 32) : Fin 3 → Nat :=
  let c0_2750 : Index := 0#32
  let c7_i32_2749 : BitVec 32 := 7#32
  let v4363 : BitVec 32 := Scalar.andi v4362 c7_i32_2749
  let v4364 : BitVec 32 := Scalar.subi v4362 v4363
  let v4365 : BitVec 32 := v4364
  let v4366 : Index := Scalar.indexCast v4365
  let c0_2751 : Index := 0#32
  ![0, v4366.toNat, 0]

def k0_chk321 (v4362 : BitVec 32) : Prop :=
  (8 ∣ (k0_mult322 v4362).toNat) ∧
  (∀ a, (k0_off370 v4362) a + S1x8x1024.size a ≤ S1x4096x1024.size a)
theorem k0_mult322_dvd : ∀ (v4362 : BitVec 32) (k0_hw321 : k0_chk321 v4362), 8 ∣ (k0_mult322 v4362).toNat := fun v4362 k0_hw321 => k0_hw321.1
theorem k0_off370_inb : ∀ (v4362 : BitVec 32) (k0_hw321 : k0_chk321 v4362), ∀ a, (k0_off370 v4362) a + S1x8x1024.size a ≤ S1x4096x1024.size a := fun v4362 k0_hw321 => k0_hw321.2

def k0_mult323 (v4375 : BitVec 32) : BitVec 32 :=
  let c7_i32_2757 : BitVec 32 := 7#32
  let v4376 : BitVec 32 := Scalar.andi v4375 c7_i32_2757
  let v4377 : BitVec 32 := Scalar.subi v4375 v4376
  v4377

def k0_off371 (v4375 : BitVec 32) : Fin 3 → Nat :=
  let c0_2758 : Index := 0#32
  let c7_i32_2757 : BitVec 32 := 7#32
  let v4376 : BitVec 32 := Scalar.andi v4375 c7_i32_2757
  let v4377 : BitVec 32 := Scalar.subi v4375 v4376
  let v4378 : BitVec 32 := v4377
  let v4379 : Index := Scalar.indexCast v4378
  let c0_2759 : Index := 0#32
  ![0, v4379.toNat, 0]

def k0_chk322 (v4375 : BitVec 32) : Prop :=
  (8 ∣ (k0_mult323 v4375).toNat) ∧
  (∀ a, (k0_off371 v4375) a + S1x8x1024.size a ≤ S1x4096x1024.size a)
theorem k0_mult323_dvd : ∀ (v4375 : BitVec 32) (k0_hw322 : k0_chk322 v4375), 8 ∣ (k0_mult323 v4375).toNat := fun v4375 k0_hw322 => k0_hw322.1
theorem k0_off371_inb : ∀ (v4375 : BitVec 32) (k0_hw322 : k0_chk322 v4375), ∀ a, (k0_off371 v4375) a + S1x8x1024.size a ≤ S1x4096x1024.size a := fun v4375 k0_hw322 => k0_hw322.2

def k0_mult324 (v4388 : BitVec 32) : BitVec 32 :=
  let c7_i32_2765 : BitVec 32 := 7#32
  let v4389 : BitVec 32 := Scalar.andi v4388 c7_i32_2765
  let v4390 : BitVec 32 := Scalar.subi v4388 v4389
  v4390

def k0_off372 (v4388 : BitVec 32) : Fin 3 → Nat :=
  let c0_2766 : Index := 0#32
  let c7_i32_2765 : BitVec 32 := 7#32
  let v4389 : BitVec 32 := Scalar.andi v4388 c7_i32_2765
  let v4390 : BitVec 32 := Scalar.subi v4388 v4389
  let v4391 : BitVec 32 := v4390
  let v4392 : Index := Scalar.indexCast v4391
  let c0_2767 : Index := 0#32
  ![0, v4392.toNat, 0]

def k0_chk323 (v4388 : BitVec 32) : Prop :=
  (8 ∣ (k0_mult324 v4388).toNat) ∧
  (∀ a, (k0_off372 v4388) a + S1x8x1024.size a ≤ S1x4096x1024.size a)
theorem k0_mult324_dvd : ∀ (v4388 : BitVec 32) (k0_hw323 : k0_chk323 v4388), 8 ∣ (k0_mult324 v4388).toNat := fun v4388 k0_hw323 => k0_hw323.1
theorem k0_off372_inb : ∀ (v4388 : BitVec 32) (k0_hw323 : k0_chk323 v4388), ∀ a, (k0_off372 v4388) a + S1x8x1024.size a ≤ S1x4096x1024.size a := fun v4388 k0_hw323 => k0_hw323.2

def k0_mult325 (v4401 : BitVec 32) : BitVec 32 :=
  let c7_i32_2773 : BitVec 32 := 7#32
  let v4402 : BitVec 32 := Scalar.andi v4401 c7_i32_2773
  let v4403 : BitVec 32 := Scalar.subi v4401 v4402
  v4403

def k0_off373 (v4401 : BitVec 32) : Fin 3 → Nat :=
  let c0_2774 : Index := 0#32
  let c7_i32_2773 : BitVec 32 := 7#32
  let v4402 : BitVec 32 := Scalar.andi v4401 c7_i32_2773
  let v4403 : BitVec 32 := Scalar.subi v4401 v4402
  let v4404 : BitVec 32 := v4403
  let v4405 : Index := Scalar.indexCast v4404
  let c0_2775 : Index := 0#32
  ![0, v4405.toNat, 0]

def k0_chk324 (v4401 : BitVec 32) : Prop :=
  (8 ∣ (k0_mult325 v4401).toNat) ∧
  (∀ a, (k0_off373 v4401) a + S1x8x1024.size a ≤ S1x4096x1024.size a)
theorem k0_mult325_dvd : ∀ (v4401 : BitVec 32) (k0_hw324 : k0_chk324 v4401), 8 ∣ (k0_mult325 v4401).toNat := fun v4401 k0_hw324 => k0_hw324.1
theorem k0_off373_inb : ∀ (v4401 : BitVec 32) (k0_hw324 : k0_chk324 v4401), ∀ a, (k0_off373 v4401) a + S1x8x1024.size a ≤ S1x4096x1024.size a := fun v4401 k0_hw324 => k0_hw324.2

def k0_mult326 (v4414 : BitVec 32) : BitVec 32 :=
  let c7_i32_2781 : BitVec 32 := 7#32
  let v4415 : BitVec 32 := Scalar.andi v4414 c7_i32_2781
  let v4416 : BitVec 32 := Scalar.subi v4414 v4415
  v4416

def k0_off374 (v4414 : BitVec 32) : Fin 3 → Nat :=
  let c0_2782 : Index := 0#32
  let c7_i32_2781 : BitVec 32 := 7#32
  let v4415 : BitVec 32 := Scalar.andi v4414 c7_i32_2781
  let v4416 : BitVec 32 := Scalar.subi v4414 v4415
  let v4417 : BitVec 32 := v4416
  let v4418 : Index := Scalar.indexCast v4417
  let c0_2783 : Index := 0#32
  ![0, v4418.toNat, 0]

def k0_chk325 (v4414 : BitVec 32) : Prop :=
  (8 ∣ (k0_mult326 v4414).toNat) ∧
  (∀ a, (k0_off374 v4414) a + S1x8x1024.size a ≤ S1x4096x1024.size a)
theorem k0_mult326_dvd : ∀ (v4414 : BitVec 32) (k0_hw325 : k0_chk325 v4414), 8 ∣ (k0_mult326 v4414).toNat := fun v4414 k0_hw325 => k0_hw325.1
theorem k0_off374_inb : ∀ (v4414 : BitVec 32) (k0_hw325 : k0_chk325 v4414), ∀ a, (k0_off374 v4414) a + S1x8x1024.size a ≤ S1x4096x1024.size a := fun v4414 k0_hw325 => k0_hw325.2

def k0_mult327 (v4427 : BitVec 32) : BitVec 32 :=
  let c7_i32_2789 : BitVec 32 := 7#32
  let v4428 : BitVec 32 := Scalar.andi v4427 c7_i32_2789
  let v4429 : BitVec 32 := Scalar.subi v4427 v4428
  v4429

def k0_off375 (v4427 : BitVec 32) : Fin 3 → Nat :=
  let c0_2790 : Index := 0#32
  let c7_i32_2789 : BitVec 32 := 7#32
  let v4428 : BitVec 32 := Scalar.andi v4427 c7_i32_2789
  let v4429 : BitVec 32 := Scalar.subi v4427 v4428
  let v4430 : BitVec 32 := v4429
  let v4431 : Index := Scalar.indexCast v4430
  let c0_2791 : Index := 0#32
  ![0, v4431.toNat, 0]

def k0_chk326 (v4427 : BitVec 32) : Prop :=
  (8 ∣ (k0_mult327 v4427).toNat) ∧
  (∀ a, (k0_off375 v4427) a + S1x8x1024.size a ≤ S1x4096x1024.size a)
theorem k0_mult327_dvd : ∀ (v4427 : BitVec 32) (k0_hw326 : k0_chk326 v4427), 8 ∣ (k0_mult327 v4427).toNat := fun v4427 k0_hw326 => k0_hw326.1
theorem k0_off375_inb : ∀ (v4427 : BitVec 32) (k0_hw326 : k0_chk326 v4427), ∀ a, (k0_off375 v4427) a + S1x8x1024.size a ≤ S1x4096x1024.size a := fun v4427 k0_hw326 => k0_hw326.2

def k0_mult328 (v4440 : BitVec 32) : BitVec 32 :=
  let c7_i32_2797 : BitVec 32 := 7#32
  let v4441 : BitVec 32 := Scalar.andi v4440 c7_i32_2797
  let v4442 : BitVec 32 := Scalar.subi v4440 v4441
  v4442

def k0_off376 (v4440 : BitVec 32) : Fin 3 → Nat :=
  let c0_2798 : Index := 0#32
  let c7_i32_2797 : BitVec 32 := 7#32
  let v4441 : BitVec 32 := Scalar.andi v4440 c7_i32_2797
  let v4442 : BitVec 32 := Scalar.subi v4440 v4441
  let v4443 : BitVec 32 := v4442
  let v4444 : Index := Scalar.indexCast v4443
  let c0_2799 : Index := 0#32
  ![0, v4444.toNat, 0]

def k0_chk327 (v4440 : BitVec 32) : Prop :=
  (8 ∣ (k0_mult328 v4440).toNat) ∧
  (∀ a, (k0_off376 v4440) a + S1x8x1024.size a ≤ S1x4096x1024.size a)
theorem k0_mult328_dvd : ∀ (v4440 : BitVec 32) (k0_hw327 : k0_chk327 v4440), 8 ∣ (k0_mult328 v4440).toNat := fun v4440 k0_hw327 => k0_hw327.1
theorem k0_off376_inb : ∀ (v4440 : BitVec 32) (k0_hw327 : k0_chk327 v4440), ∀ a, (k0_off376 v4440) a + S1x8x1024.size a ≤ S1x4096x1024.size a := fun v4440 k0_hw327 => k0_hw327.2

def k0_mult329 (v4453 : BitVec 32) : BitVec 32 :=
  let c7_i32_2805 : BitVec 32 := 7#32
  let v4454 : BitVec 32 := Scalar.andi v4453 c7_i32_2805
  let v4455 : BitVec 32 := Scalar.subi v4453 v4454
  v4455

def k0_off377 (v4453 : BitVec 32) : Fin 3 → Nat :=
  let c0_2806 : Index := 0#32
  let c7_i32_2805 : BitVec 32 := 7#32
  let v4454 : BitVec 32 := Scalar.andi v4453 c7_i32_2805
  let v4455 : BitVec 32 := Scalar.subi v4453 v4454
  let v4456 : BitVec 32 := v4455
  let v4457 : Index := Scalar.indexCast v4456
  let c0_2807 : Index := 0#32
  ![0, v4457.toNat, 0]

def k0_chk328 (v4453 : BitVec 32) : Prop :=
  (8 ∣ (k0_mult329 v4453).toNat) ∧
  (∀ a, (k0_off377 v4453) a + S1x8x1024.size a ≤ S1x4096x1024.size a)
theorem k0_mult329_dvd : ∀ (v4453 : BitVec 32) (k0_hw328 : k0_chk328 v4453), 8 ∣ (k0_mult329 v4453).toNat := fun v4453 k0_hw328 => k0_hw328.1
theorem k0_off377_inb : ∀ (v4453 : BitVec 32) (k0_hw328 : k0_chk328 v4453), ∀ a, (k0_off377 v4453) a + S1x8x1024.size a ≤ S1x4096x1024.size a := fun v4453 k0_hw328 => k0_hw328.2

def k0_off378 (i : grid0.Coords) : Fin 3 → Nat :=
  let c1_i32_2745 : BitVec 32 := 1#32
  let arg1 : BitVec 32 := BitVec.ofNat 32 (i 1).val
  let c1_i32 : BitVec 32 := 1#32
  let v1 : BitVec 32 := Scalar.andi arg1 c1_i32
  let v4360 : BitVec 32 := Scalar.subi c1_i32_2745 v1
  let c0_i32_2811 : BitVec 32 := 0#32
  let c0_i32_2812 : BitVec 32 := 0#32
  ![v4360.toNat, 0, 0]
def k0_mult330 (v4473 : BitVec 32) : BitVec 32 :=
  let c7_i32_2819 : BitVec 32 := 7#32
  let v4474 : BitVec 32 := Scalar.andi v4473 c7_i32_2819
  let v4475 : BitVec 32 := Scalar.subi v4473 v4474
  v4475

def k0_off379 (v4473 : BitVec 32) : Fin 3 → Nat :=
  let c0_2820 : Index := 0#32
  let c7_i32_2819 : BitVec 32 := 7#32
  let v4474 : BitVec 32 := Scalar.andi v4473 c7_i32_2819
  let v4475 : BitVec 32 := Scalar.subi v4473 v4474
  let v4476 : BitVec 32 := v4475
  let v4477 : Index := Scalar.indexCast v4476
  let c0_2821 : Index := 0#32
  ![0, v4477.toNat, 0]

def k0_chk329 (v4473 : BitVec 32) : Prop :=
  (8 ∣ (k0_mult330 v4473).toNat) ∧
  (∀ a, (k0_off379 v4473) a + S1x8x1024.size a ≤ S1x4096x1024.size a)
theorem k0_mult330_dvd : ∀ (v4473 : BitVec 32) (k0_hw329 : k0_chk329 v4473), 8 ∣ (k0_mult330 v4473).toNat := fun v4473 k0_hw329 => k0_hw329.1
theorem k0_off379_inb : ∀ (v4473 : BitVec 32) (k0_hw329 : k0_chk329 v4473), ∀ a, (k0_off379 v4473) a + S1x8x1024.size a ≤ S1x4096x1024.size a := fun v4473 k0_hw329 => k0_hw329.2

def k0_mult331 (v4486 : BitVec 32) : BitVec 32 :=
  let c7_i32_2827 : BitVec 32 := 7#32
  let v4487 : BitVec 32 := Scalar.andi v4486 c7_i32_2827
  let v4488 : BitVec 32 := Scalar.subi v4486 v4487
  v4488

def k0_off380 (v4486 : BitVec 32) : Fin 3 → Nat :=
  let c0_2828 : Index := 0#32
  let c7_i32_2827 : BitVec 32 := 7#32
  let v4487 : BitVec 32 := Scalar.andi v4486 c7_i32_2827
  let v4488 : BitVec 32 := Scalar.subi v4486 v4487
  let v4489 : BitVec 32 := v4488
  let v4490 : Index := Scalar.indexCast v4489
  let c0_2829 : Index := 0#32
  ![0, v4490.toNat, 0]

def k0_chk330 (v4486 : BitVec 32) : Prop :=
  (8 ∣ (k0_mult331 v4486).toNat) ∧
  (∀ a, (k0_off380 v4486) a + S1x8x1024.size a ≤ S1x4096x1024.size a)
theorem k0_mult331_dvd : ∀ (v4486 : BitVec 32) (k0_hw330 : k0_chk330 v4486), 8 ∣ (k0_mult331 v4486).toNat := fun v4486 k0_hw330 => k0_hw330.1
theorem k0_off380_inb : ∀ (v4486 : BitVec 32) (k0_hw330 : k0_chk330 v4486), ∀ a, (k0_off380 v4486) a + S1x8x1024.size a ≤ S1x4096x1024.size a := fun v4486 k0_hw330 => k0_hw330.2

def k0_mult332 (v4499 : BitVec 32) : BitVec 32 :=
  let c7_i32_2835 : BitVec 32 := 7#32
  let v4500 : BitVec 32 := Scalar.andi v4499 c7_i32_2835
  let v4501 : BitVec 32 := Scalar.subi v4499 v4500
  v4501

def k0_off381 (v4499 : BitVec 32) : Fin 3 → Nat :=
  let c0_2836 : Index := 0#32
  let c7_i32_2835 : BitVec 32 := 7#32
  let v4500 : BitVec 32 := Scalar.andi v4499 c7_i32_2835
  let v4501 : BitVec 32 := Scalar.subi v4499 v4500
  let v4502 : BitVec 32 := v4501
  let v4503 : Index := Scalar.indexCast v4502
  let c0_2837 : Index := 0#32
  ![0, v4503.toNat, 0]

def k0_chk331 (v4499 : BitVec 32) : Prop :=
  (8 ∣ (k0_mult332 v4499).toNat) ∧
  (∀ a, (k0_off381 v4499) a + S1x8x1024.size a ≤ S1x4096x1024.size a)
theorem k0_mult332_dvd : ∀ (v4499 : BitVec 32) (k0_hw331 : k0_chk331 v4499), 8 ∣ (k0_mult332 v4499).toNat := fun v4499 k0_hw331 => k0_hw331.1
theorem k0_off381_inb : ∀ (v4499 : BitVec 32) (k0_hw331 : k0_chk331 v4499), ∀ a, (k0_off381 v4499) a + S1x8x1024.size a ≤ S1x4096x1024.size a := fun v4499 k0_hw331 => k0_hw331.2

def k0_mult333 (v4512 : BitVec 32) : BitVec 32 :=
  let c7_i32_2843 : BitVec 32 := 7#32
  let v4513 : BitVec 32 := Scalar.andi v4512 c7_i32_2843
  let v4514 : BitVec 32 := Scalar.subi v4512 v4513
  v4514

def k0_off382 (v4512 : BitVec 32) : Fin 3 → Nat :=
  let c0_2844 : Index := 0#32
  let c7_i32_2843 : BitVec 32 := 7#32
  let v4513 : BitVec 32 := Scalar.andi v4512 c7_i32_2843
  let v4514 : BitVec 32 := Scalar.subi v4512 v4513
  let v4515 : BitVec 32 := v4514
  let v4516 : Index := Scalar.indexCast v4515
  let c0_2845 : Index := 0#32
  ![0, v4516.toNat, 0]

def k0_chk332 (v4512 : BitVec 32) : Prop :=
  (8 ∣ (k0_mult333 v4512).toNat) ∧
  (∀ a, (k0_off382 v4512) a + S1x8x1024.size a ≤ S1x4096x1024.size a)
theorem k0_mult333_dvd : ∀ (v4512 : BitVec 32) (k0_hw332 : k0_chk332 v4512), 8 ∣ (k0_mult333 v4512).toNat := fun v4512 k0_hw332 => k0_hw332.1
theorem k0_off382_inb : ∀ (v4512 : BitVec 32) (k0_hw332 : k0_chk332 v4512), ∀ a, (k0_off382 v4512) a + S1x8x1024.size a ≤ S1x4096x1024.size a := fun v4512 k0_hw332 => k0_hw332.2

def k0_mult334 (v4525 : BitVec 32) : BitVec 32 :=
  let c7_i32_2851 : BitVec 32 := 7#32
  let v4526 : BitVec 32 := Scalar.andi v4525 c7_i32_2851
  let v4527 : BitVec 32 := Scalar.subi v4525 v4526
  v4527

def k0_off383 (v4525 : BitVec 32) : Fin 3 → Nat :=
  let c0_2852 : Index := 0#32
  let c7_i32_2851 : BitVec 32 := 7#32
  let v4526 : BitVec 32 := Scalar.andi v4525 c7_i32_2851
  let v4527 : BitVec 32 := Scalar.subi v4525 v4526
  let v4528 : BitVec 32 := v4527
  let v4529 : Index := Scalar.indexCast v4528
  let c0_2853 : Index := 0#32
  ![0, v4529.toNat, 0]

def k0_chk333 (v4525 : BitVec 32) : Prop :=
  (8 ∣ (k0_mult334 v4525).toNat) ∧
  (∀ a, (k0_off383 v4525) a + S1x8x1024.size a ≤ S1x4096x1024.size a)
theorem k0_mult334_dvd : ∀ (v4525 : BitVec 32) (k0_hw333 : k0_chk333 v4525), 8 ∣ (k0_mult334 v4525).toNat := fun v4525 k0_hw333 => k0_hw333.1
theorem k0_off383_inb : ∀ (v4525 : BitVec 32) (k0_hw333 : k0_chk333 v4525), ∀ a, (k0_off383 v4525) a + S1x8x1024.size a ≤ S1x4096x1024.size a := fun v4525 k0_hw333 => k0_hw333.2

def k0_mult335 (v4538 : BitVec 32) : BitVec 32 :=
  let c7_i32_2859 : BitVec 32 := 7#32
  let v4539 : BitVec 32 := Scalar.andi v4538 c7_i32_2859
  let v4540 : BitVec 32 := Scalar.subi v4538 v4539
  v4540

def k0_off384 (v4538 : BitVec 32) : Fin 3 → Nat :=
  let c0_2860 : Index := 0#32
  let c7_i32_2859 : BitVec 32 := 7#32
  let v4539 : BitVec 32 := Scalar.andi v4538 c7_i32_2859
  let v4540 : BitVec 32 := Scalar.subi v4538 v4539
  let v4541 : BitVec 32 := v4540
  let v4542 : Index := Scalar.indexCast v4541
  let c0_2861 : Index := 0#32
  ![0, v4542.toNat, 0]

def k0_chk334 (v4538 : BitVec 32) : Prop :=
  (8 ∣ (k0_mult335 v4538).toNat) ∧
  (∀ a, (k0_off384 v4538) a + S1x8x1024.size a ≤ S1x4096x1024.size a)
theorem k0_mult335_dvd : ∀ (v4538 : BitVec 32) (k0_hw334 : k0_chk334 v4538), 8 ∣ (k0_mult335 v4538).toNat := fun v4538 k0_hw334 => k0_hw334.1
theorem k0_off384_inb : ∀ (v4538 : BitVec 32) (k0_hw334 : k0_chk334 v4538), ∀ a, (k0_off384 v4538) a + S1x8x1024.size a ≤ S1x4096x1024.size a := fun v4538 k0_hw334 => k0_hw334.2

def k0_mult336 (v4551 : BitVec 32) : BitVec 32 :=
  let c7_i32_2867 : BitVec 32 := 7#32
  let v4552 : BitVec 32 := Scalar.andi v4551 c7_i32_2867
  let v4553 : BitVec 32 := Scalar.subi v4551 v4552
  v4553

def k0_off385 (v4551 : BitVec 32) : Fin 3 → Nat :=
  let c0_2868 : Index := 0#32
  let c7_i32_2867 : BitVec 32 := 7#32
  let v4552 : BitVec 32 := Scalar.andi v4551 c7_i32_2867
  let v4553 : BitVec 32 := Scalar.subi v4551 v4552
  let v4554 : BitVec 32 := v4553
  let v4555 : Index := Scalar.indexCast v4554
  let c0_2869 : Index := 0#32
  ![0, v4555.toNat, 0]

def k0_chk335 (v4551 : BitVec 32) : Prop :=
  (8 ∣ (k0_mult336 v4551).toNat) ∧
  (∀ a, (k0_off385 v4551) a + S1x8x1024.size a ≤ S1x4096x1024.size a)
theorem k0_mult336_dvd : ∀ (v4551 : BitVec 32) (k0_hw335 : k0_chk335 v4551), 8 ∣ (k0_mult336 v4551).toNat := fun v4551 k0_hw335 => k0_hw335.1
theorem k0_off385_inb : ∀ (v4551 : BitVec 32) (k0_hw335 : k0_chk335 v4551), ∀ a, (k0_off385 v4551) a + S1x8x1024.size a ≤ S1x4096x1024.size a := fun v4551 k0_hw335 => k0_hw335.2

def k0_mult337 (v4564 : BitVec 32) : BitVec 32 :=
  let c7_i32_2875 : BitVec 32 := 7#32
  let v4565 : BitVec 32 := Scalar.andi v4564 c7_i32_2875
  let v4566 : BitVec 32 := Scalar.subi v4564 v4565
  v4566

def k0_off386 (v4564 : BitVec 32) : Fin 3 → Nat :=
  let c0_2876 : Index := 0#32
  let c7_i32_2875 : BitVec 32 := 7#32
  let v4565 : BitVec 32 := Scalar.andi v4564 c7_i32_2875
  let v4566 : BitVec 32 := Scalar.subi v4564 v4565
  let v4567 : BitVec 32 := v4566
  let v4568 : Index := Scalar.indexCast v4567
  let c0_2877 : Index := 0#32
  ![0, v4568.toNat, 0]

def k0_chk336 (v4564 : BitVec 32) : Prop :=
  (8 ∣ (k0_mult337 v4564).toNat) ∧
  (∀ a, (k0_off386 v4564) a + S1x8x1024.size a ≤ S1x4096x1024.size a)
theorem k0_mult337_dvd : ∀ (v4564 : BitVec 32) (k0_hw336 : k0_chk336 v4564), 8 ∣ (k0_mult337 v4564).toNat := fun v4564 k0_hw336 => k0_hw336.1
theorem k0_off386_inb : ∀ (v4564 : BitVec 32) (k0_hw336 : k0_chk336 v4564), ∀ a, (k0_off386 v4564) a + S1x8x1024.size a ≤ S1x4096x1024.size a := fun v4564 k0_hw336 => k0_hw336.2

def k0_off387 (i : grid0.Coords) : Fin 3 → Nat :=
  let c1_i32_2815 : BitVec 32 := 1#32
  let arg1 : BitVec 32 := BitVec.ofNat 32 (i 1).val
  let c1_i32 : BitVec 32 := 1#32
  let v1 : BitVec 32 := Scalar.andi arg1 c1_i32
  let v4471 : BitVec 32 := Scalar.subi c1_i32_2815 v1
  let c0_i32_2881 : BitVec 32 := 0#32
  let c0_i32_2882 : BitVec 32 := 0#32
  ![v4471.toNat, 0, 0]
def k0_mult338 (v4584 : BitVec 32) : BitVec 32 :=
  let c7_i32_2889 : BitVec 32 := 7#32
  let v4585 : BitVec 32 := Scalar.andi v4584 c7_i32_2889
  let v4586 : BitVec 32 := Scalar.subi v4584 v4585
  v4586

def k0_off388 (v4584 : BitVec 32) : Fin 3 → Nat :=
  let c0_2890 : Index := 0#32
  let c7_i32_2889 : BitVec 32 := 7#32
  let v4585 : BitVec 32 := Scalar.andi v4584 c7_i32_2889
  let v4586 : BitVec 32 := Scalar.subi v4584 v4585
  let v4587 : BitVec 32 := v4586
  let v4588 : Index := Scalar.indexCast v4587
  let c0_2891 : Index := 0#32
  ![0, v4588.toNat, 0]

def k0_chk337 (v4584 : BitVec 32) : Prop :=
  (8 ∣ (k0_mult338 v4584).toNat) ∧
  (∀ a, (k0_off388 v4584) a + S1x8x1024.size a ≤ S1x4096x1024.size a)
theorem k0_mult338_dvd : ∀ (v4584 : BitVec 32) (k0_hw337 : k0_chk337 v4584), 8 ∣ (k0_mult338 v4584).toNat := fun v4584 k0_hw337 => k0_hw337.1
theorem k0_off388_inb : ∀ (v4584 : BitVec 32) (k0_hw337 : k0_chk337 v4584), ∀ a, (k0_off388 v4584) a + S1x8x1024.size a ≤ S1x4096x1024.size a := fun v4584 k0_hw337 => k0_hw337.2

def k0_mult339 (v4597 : BitVec 32) : BitVec 32 :=
  let c7_i32_2897 : BitVec 32 := 7#32
  let v4598 : BitVec 32 := Scalar.andi v4597 c7_i32_2897
  let v4599 : BitVec 32 := Scalar.subi v4597 v4598
  v4599

def k0_off389 (v4597 : BitVec 32) : Fin 3 → Nat :=
  let c0_2898 : Index := 0#32
  let c7_i32_2897 : BitVec 32 := 7#32
  let v4598 : BitVec 32 := Scalar.andi v4597 c7_i32_2897
  let v4599 : BitVec 32 := Scalar.subi v4597 v4598
  let v4600 : BitVec 32 := v4599
  let v4601 : Index := Scalar.indexCast v4600
  let c0_2899 : Index := 0#32
  ![0, v4601.toNat, 0]

def k0_chk338 (v4597 : BitVec 32) : Prop :=
  (8 ∣ (k0_mult339 v4597).toNat) ∧
  (∀ a, (k0_off389 v4597) a + S1x8x1024.size a ≤ S1x4096x1024.size a)
theorem k0_mult339_dvd : ∀ (v4597 : BitVec 32) (k0_hw338 : k0_chk338 v4597), 8 ∣ (k0_mult339 v4597).toNat := fun v4597 k0_hw338 => k0_hw338.1
theorem k0_off389_inb : ∀ (v4597 : BitVec 32) (k0_hw338 : k0_chk338 v4597), ∀ a, (k0_off389 v4597) a + S1x8x1024.size a ≤ S1x4096x1024.size a := fun v4597 k0_hw338 => k0_hw338.2

def k0_mult340 (v4610 : BitVec 32) : BitVec 32 :=
  let c7_i32_2905 : BitVec 32 := 7#32
  let v4611 : BitVec 32 := Scalar.andi v4610 c7_i32_2905
  let v4612 : BitVec 32 := Scalar.subi v4610 v4611
  v4612

def k0_off390 (v4610 : BitVec 32) : Fin 3 → Nat :=
  let c0_2906 : Index := 0#32
  let c7_i32_2905 : BitVec 32 := 7#32
  let v4611 : BitVec 32 := Scalar.andi v4610 c7_i32_2905
  let v4612 : BitVec 32 := Scalar.subi v4610 v4611
  let v4613 : BitVec 32 := v4612
  let v4614 : Index := Scalar.indexCast v4613
  let c0_2907 : Index := 0#32
  ![0, v4614.toNat, 0]

def k0_chk339 (v4610 : BitVec 32) : Prop :=
  (8 ∣ (k0_mult340 v4610).toNat) ∧
  (∀ a, (k0_off390 v4610) a + S1x8x1024.size a ≤ S1x4096x1024.size a)
theorem k0_mult340_dvd : ∀ (v4610 : BitVec 32) (k0_hw339 : k0_chk339 v4610), 8 ∣ (k0_mult340 v4610).toNat := fun v4610 k0_hw339 => k0_hw339.1
theorem k0_off390_inb : ∀ (v4610 : BitVec 32) (k0_hw339 : k0_chk339 v4610), ∀ a, (k0_off390 v4610) a + S1x8x1024.size a ≤ S1x4096x1024.size a := fun v4610 k0_hw339 => k0_hw339.2

def k0_mult341 (v4623 : BitVec 32) : BitVec 32 :=
  let c7_i32_2913 : BitVec 32 := 7#32
  let v4624 : BitVec 32 := Scalar.andi v4623 c7_i32_2913
  let v4625 : BitVec 32 := Scalar.subi v4623 v4624
  v4625

def k0_off391 (v4623 : BitVec 32) : Fin 3 → Nat :=
  let c0_2914 : Index := 0#32
  let c7_i32_2913 : BitVec 32 := 7#32
  let v4624 : BitVec 32 := Scalar.andi v4623 c7_i32_2913
  let v4625 : BitVec 32 := Scalar.subi v4623 v4624
  let v4626 : BitVec 32 := v4625
  let v4627 : Index := Scalar.indexCast v4626
  let c0_2915 : Index := 0#32
  ![0, v4627.toNat, 0]

def k0_chk340 (v4623 : BitVec 32) : Prop :=
  (8 ∣ (k0_mult341 v4623).toNat) ∧
  (∀ a, (k0_off391 v4623) a + S1x8x1024.size a ≤ S1x4096x1024.size a)
theorem k0_mult341_dvd : ∀ (v4623 : BitVec 32) (k0_hw340 : k0_chk340 v4623), 8 ∣ (k0_mult341 v4623).toNat := fun v4623 k0_hw340 => k0_hw340.1
theorem k0_off391_inb : ∀ (v4623 : BitVec 32) (k0_hw340 : k0_chk340 v4623), ∀ a, (k0_off391 v4623) a + S1x8x1024.size a ≤ S1x4096x1024.size a := fun v4623 k0_hw340 => k0_hw340.2

def k0_mult342 (v4636 : BitVec 32) : BitVec 32 :=
  let c7_i32_2921 : BitVec 32 := 7#32
  let v4637 : BitVec 32 := Scalar.andi v4636 c7_i32_2921
  let v4638 : BitVec 32 := Scalar.subi v4636 v4637
  v4638

def k0_off392 (v4636 : BitVec 32) : Fin 3 → Nat :=
  let c0_2922 : Index := 0#32
  let c7_i32_2921 : BitVec 32 := 7#32
  let v4637 : BitVec 32 := Scalar.andi v4636 c7_i32_2921
  let v4638 : BitVec 32 := Scalar.subi v4636 v4637
  let v4639 : BitVec 32 := v4638
  let v4640 : Index := Scalar.indexCast v4639
  let c0_2923 : Index := 0#32
  ![0, v4640.toNat, 0]

def k0_chk341 (v4636 : BitVec 32) : Prop :=
  (8 ∣ (k0_mult342 v4636).toNat) ∧
  (∀ a, (k0_off392 v4636) a + S1x8x1024.size a ≤ S1x4096x1024.size a)
theorem k0_mult342_dvd : ∀ (v4636 : BitVec 32) (k0_hw341 : k0_chk341 v4636), 8 ∣ (k0_mult342 v4636).toNat := fun v4636 k0_hw341 => k0_hw341.1
theorem k0_off392_inb : ∀ (v4636 : BitVec 32) (k0_hw341 : k0_chk341 v4636), ∀ a, (k0_off392 v4636) a + S1x8x1024.size a ≤ S1x4096x1024.size a := fun v4636 k0_hw341 => k0_hw341.2

def k0_mult343 (v4649 : BitVec 32) : BitVec 32 :=
  let c7_i32_2929 : BitVec 32 := 7#32
  let v4650 : BitVec 32 := Scalar.andi v4649 c7_i32_2929
  let v4651 : BitVec 32 := Scalar.subi v4649 v4650
  v4651

def k0_off393 (v4649 : BitVec 32) : Fin 3 → Nat :=
  let c0_2930 : Index := 0#32
  let c7_i32_2929 : BitVec 32 := 7#32
  let v4650 : BitVec 32 := Scalar.andi v4649 c7_i32_2929
  let v4651 : BitVec 32 := Scalar.subi v4649 v4650
  let v4652 : BitVec 32 := v4651
  let v4653 : Index := Scalar.indexCast v4652
  let c0_2931 : Index := 0#32
  ![0, v4653.toNat, 0]

def k0_chk342 (v4649 : BitVec 32) : Prop :=
  (8 ∣ (k0_mult343 v4649).toNat) ∧
  (∀ a, (k0_off393 v4649) a + S1x8x1024.size a ≤ S1x4096x1024.size a)
theorem k0_mult343_dvd : ∀ (v4649 : BitVec 32) (k0_hw342 : k0_chk342 v4649), 8 ∣ (k0_mult343 v4649).toNat := fun v4649 k0_hw342 => k0_hw342.1
theorem k0_off393_inb : ∀ (v4649 : BitVec 32) (k0_hw342 : k0_chk342 v4649), ∀ a, (k0_off393 v4649) a + S1x8x1024.size a ≤ S1x4096x1024.size a := fun v4649 k0_hw342 => k0_hw342.2

def k0_mult344 (v4662 : BitVec 32) : BitVec 32 :=
  let c7_i32_2937 : BitVec 32 := 7#32
  let v4663 : BitVec 32 := Scalar.andi v4662 c7_i32_2937
  let v4664 : BitVec 32 := Scalar.subi v4662 v4663
  v4664

def k0_off394 (v4662 : BitVec 32) : Fin 3 → Nat :=
  let c0_2938 : Index := 0#32
  let c7_i32_2937 : BitVec 32 := 7#32
  let v4663 : BitVec 32 := Scalar.andi v4662 c7_i32_2937
  let v4664 : BitVec 32 := Scalar.subi v4662 v4663
  let v4665 : BitVec 32 := v4664
  let v4666 : Index := Scalar.indexCast v4665
  let c0_2939 : Index := 0#32
  ![0, v4666.toNat, 0]

def k0_chk343 (v4662 : BitVec 32) : Prop :=
  (8 ∣ (k0_mult344 v4662).toNat) ∧
  (∀ a, (k0_off394 v4662) a + S1x8x1024.size a ≤ S1x4096x1024.size a)
theorem k0_mult344_dvd : ∀ (v4662 : BitVec 32) (k0_hw343 : k0_chk343 v4662), 8 ∣ (k0_mult344 v4662).toNat := fun v4662 k0_hw343 => k0_hw343.1
theorem k0_off394_inb : ∀ (v4662 : BitVec 32) (k0_hw343 : k0_chk343 v4662), ∀ a, (k0_off394 v4662) a + S1x8x1024.size a ≤ S1x4096x1024.size a := fun v4662 k0_hw343 => k0_hw343.2

def k0_mult345 (v4675 : BitVec 32) : BitVec 32 :=
  let c7_i32_2945 : BitVec 32 := 7#32
  let v4676 : BitVec 32 := Scalar.andi v4675 c7_i32_2945
  let v4677 : BitVec 32 := Scalar.subi v4675 v4676
  v4677

def k0_off395 (v4675 : BitVec 32) : Fin 3 → Nat :=
  let c0_2946 : Index := 0#32
  let c7_i32_2945 : BitVec 32 := 7#32
  let v4676 : BitVec 32 := Scalar.andi v4675 c7_i32_2945
  let v4677 : BitVec 32 := Scalar.subi v4675 v4676
  let v4678 : BitVec 32 := v4677
  let v4679 : Index := Scalar.indexCast v4678
  let c0_2947 : Index := 0#32
  ![0, v4679.toNat, 0]

def k0_chk344 (v4675 : BitVec 32) : Prop :=
  (8 ∣ (k0_mult345 v4675).toNat) ∧
  (∀ a, (k0_off395 v4675) a + S1x8x1024.size a ≤ S1x4096x1024.size a)
theorem k0_mult345_dvd : ∀ (v4675 : BitVec 32) (k0_hw344 : k0_chk344 v4675), 8 ∣ (k0_mult345 v4675).toNat := fun v4675 k0_hw344 => k0_hw344.1
theorem k0_off395_inb : ∀ (v4675 : BitVec 32) (k0_hw344 : k0_chk344 v4675), ∀ a, (k0_off395 v4675) a + S1x8x1024.size a ≤ S1x4096x1024.size a := fun v4675 k0_hw344 => k0_hw344.2

def k0_off396 (i : grid0.Coords) : Fin 3 → Nat :=
  let c1_i32_2885 : BitVec 32 := 1#32
  let arg1 : BitVec 32 := BitVec.ofNat 32 (i 1).val
  let c1_i32 : BitVec 32 := 1#32
  let v1 : BitVec 32 := Scalar.andi arg1 c1_i32
  let v4582 : BitVec 32 := Scalar.subi c1_i32_2885 v1
  let c0_i32_2951 : BitVec 32 := 0#32
  let c0_i32_2952 : BitVec 32 := 0#32
  ![v4582.toNat, 0, 0]
def k0_mult346 (v4695 : BitVec 32) : BitVec 32 :=
  let c7_i32_2959 : BitVec 32 := 7#32
  let v4696 : BitVec 32 := Scalar.andi v4695 c7_i32_2959
  let v4697 : BitVec 32 := Scalar.subi v4695 v4696
  v4697

def k0_off397 (v4695 : BitVec 32) : Fin 3 → Nat :=
  let c0_2960 : Index := 0#32
  let c7_i32_2959 : BitVec 32 := 7#32
  let v4696 : BitVec 32 := Scalar.andi v4695 c7_i32_2959
  let v4697 : BitVec 32 := Scalar.subi v4695 v4696
  let v4698 : BitVec 32 := v4697
  let v4699 : Index := Scalar.indexCast v4698
  let c0_2961 : Index := 0#32
  ![0, v4699.toNat, 0]

def k0_chk345 (v4695 : BitVec 32) : Prop :=
  (8 ∣ (k0_mult346 v4695).toNat) ∧
  (∀ a, (k0_off397 v4695) a + S1x8x1024.size a ≤ S1x4096x1024.size a)
theorem k0_mult346_dvd : ∀ (v4695 : BitVec 32) (k0_hw345 : k0_chk345 v4695), 8 ∣ (k0_mult346 v4695).toNat := fun v4695 k0_hw345 => k0_hw345.1
theorem k0_off397_inb : ∀ (v4695 : BitVec 32) (k0_hw345 : k0_chk345 v4695), ∀ a, (k0_off397 v4695) a + S1x8x1024.size a ≤ S1x4096x1024.size a := fun v4695 k0_hw345 => k0_hw345.2

def k0_mult347 (v4708 : BitVec 32) : BitVec 32 :=
  let c7_i32_2967 : BitVec 32 := 7#32
  let v4709 : BitVec 32 := Scalar.andi v4708 c7_i32_2967
  let v4710 : BitVec 32 := Scalar.subi v4708 v4709
  v4710

def k0_off398 (v4708 : BitVec 32) : Fin 3 → Nat :=
  let c0_2968 : Index := 0#32
  let c7_i32_2967 : BitVec 32 := 7#32
  let v4709 : BitVec 32 := Scalar.andi v4708 c7_i32_2967
  let v4710 : BitVec 32 := Scalar.subi v4708 v4709
  let v4711 : BitVec 32 := v4710
  let v4712 : Index := Scalar.indexCast v4711
  let c0_2969 : Index := 0#32
  ![0, v4712.toNat, 0]

def k0_chk346 (v4708 : BitVec 32) : Prop :=
  (8 ∣ (k0_mult347 v4708).toNat) ∧
  (∀ a, (k0_off398 v4708) a + S1x8x1024.size a ≤ S1x4096x1024.size a)
theorem k0_mult347_dvd : ∀ (v4708 : BitVec 32) (k0_hw346 : k0_chk346 v4708), 8 ∣ (k0_mult347 v4708).toNat := fun v4708 k0_hw346 => k0_hw346.1
theorem k0_off398_inb : ∀ (v4708 : BitVec 32) (k0_hw346 : k0_chk346 v4708), ∀ a, (k0_off398 v4708) a + S1x8x1024.size a ≤ S1x4096x1024.size a := fun v4708 k0_hw346 => k0_hw346.2

def k0_mult348 (v4721 : BitVec 32) : BitVec 32 :=
  let c7_i32_2975 : BitVec 32 := 7#32
  let v4722 : BitVec 32 := Scalar.andi v4721 c7_i32_2975
  let v4723 : BitVec 32 := Scalar.subi v4721 v4722
  v4723

def k0_off399 (v4721 : BitVec 32) : Fin 3 → Nat :=
  let c0_2976 : Index := 0#32
  let c7_i32_2975 : BitVec 32 := 7#32
  let v4722 : BitVec 32 := Scalar.andi v4721 c7_i32_2975
  let v4723 : BitVec 32 := Scalar.subi v4721 v4722
  let v4724 : BitVec 32 := v4723
  let v4725 : Index := Scalar.indexCast v4724
  let c0_2977 : Index := 0#32
  ![0, v4725.toNat, 0]

def k0_chk347 (v4721 : BitVec 32) : Prop :=
  (8 ∣ (k0_mult348 v4721).toNat) ∧
  (∀ a, (k0_off399 v4721) a + S1x8x1024.size a ≤ S1x4096x1024.size a)
theorem k0_mult348_dvd : ∀ (v4721 : BitVec 32) (k0_hw347 : k0_chk347 v4721), 8 ∣ (k0_mult348 v4721).toNat := fun v4721 k0_hw347 => k0_hw347.1
theorem k0_off399_inb : ∀ (v4721 : BitVec 32) (k0_hw347 : k0_chk347 v4721), ∀ a, (k0_off399 v4721) a + S1x8x1024.size a ≤ S1x4096x1024.size a := fun v4721 k0_hw347 => k0_hw347.2

def k0_mult349 (v4734 : BitVec 32) : BitVec 32 :=
  let c7_i32_2983 : BitVec 32 := 7#32
  let v4735 : BitVec 32 := Scalar.andi v4734 c7_i32_2983
  let v4736 : BitVec 32 := Scalar.subi v4734 v4735
  v4736

def k0_off400 (v4734 : BitVec 32) : Fin 3 → Nat :=
  let c0_2984 : Index := 0#32
  let c7_i32_2983 : BitVec 32 := 7#32
  let v4735 : BitVec 32 := Scalar.andi v4734 c7_i32_2983
  let v4736 : BitVec 32 := Scalar.subi v4734 v4735
  let v4737 : BitVec 32 := v4736
  let v4738 : Index := Scalar.indexCast v4737
  let c0_2985 : Index := 0#32
  ![0, v4738.toNat, 0]

def k0_chk348 (v4734 : BitVec 32) : Prop :=
  (8 ∣ (k0_mult349 v4734).toNat) ∧
  (∀ a, (k0_off400 v4734) a + S1x8x1024.size a ≤ S1x4096x1024.size a)
theorem k0_mult349_dvd : ∀ (v4734 : BitVec 32) (k0_hw348 : k0_chk348 v4734), 8 ∣ (k0_mult349 v4734).toNat := fun v4734 k0_hw348 => k0_hw348.1
theorem k0_off400_inb : ∀ (v4734 : BitVec 32) (k0_hw348 : k0_chk348 v4734), ∀ a, (k0_off400 v4734) a + S1x8x1024.size a ≤ S1x4096x1024.size a := fun v4734 k0_hw348 => k0_hw348.2

def k0_mult350 (v4747 : BitVec 32) : BitVec 32 :=
  let c7_i32_2991 : BitVec 32 := 7#32
  let v4748 : BitVec 32 := Scalar.andi v4747 c7_i32_2991
  let v4749 : BitVec 32 := Scalar.subi v4747 v4748
  v4749

def k0_off401 (v4747 : BitVec 32) : Fin 3 → Nat :=
  let c0_2992 : Index := 0#32
  let c7_i32_2991 : BitVec 32 := 7#32
  let v4748 : BitVec 32 := Scalar.andi v4747 c7_i32_2991
  let v4749 : BitVec 32 := Scalar.subi v4747 v4748
  let v4750 : BitVec 32 := v4749
  let v4751 : Index := Scalar.indexCast v4750
  let c0_2993 : Index := 0#32
  ![0, v4751.toNat, 0]

def k0_chk349 (v4747 : BitVec 32) : Prop :=
  (8 ∣ (k0_mult350 v4747).toNat) ∧
  (∀ a, (k0_off401 v4747) a + S1x8x1024.size a ≤ S1x4096x1024.size a)
theorem k0_mult350_dvd : ∀ (v4747 : BitVec 32) (k0_hw349 : k0_chk349 v4747), 8 ∣ (k0_mult350 v4747).toNat := fun v4747 k0_hw349 => k0_hw349.1
theorem k0_off401_inb : ∀ (v4747 : BitVec 32) (k0_hw349 : k0_chk349 v4747), ∀ a, (k0_off401 v4747) a + S1x8x1024.size a ≤ S1x4096x1024.size a := fun v4747 k0_hw349 => k0_hw349.2

def k0_mult351 (v4760 : BitVec 32) : BitVec 32 :=
  let c7_i32_2999 : BitVec 32 := 7#32
  let v4761 : BitVec 32 := Scalar.andi v4760 c7_i32_2999
  let v4762 : BitVec 32 := Scalar.subi v4760 v4761
  v4762

def k0_off402 (v4760 : BitVec 32) : Fin 3 → Nat :=
  let c0_3000 : Index := 0#32
  let c7_i32_2999 : BitVec 32 := 7#32
  let v4761 : BitVec 32 := Scalar.andi v4760 c7_i32_2999
  let v4762 : BitVec 32 := Scalar.subi v4760 v4761
  let v4763 : BitVec 32 := v4762
  let v4764 : Index := Scalar.indexCast v4763
  let c0_3001 : Index := 0#32
  ![0, v4764.toNat, 0]

def k0_chk350 (v4760 : BitVec 32) : Prop :=
  (8 ∣ (k0_mult351 v4760).toNat) ∧
  (∀ a, (k0_off402 v4760) a + S1x8x1024.size a ≤ S1x4096x1024.size a)
theorem k0_mult351_dvd : ∀ (v4760 : BitVec 32) (k0_hw350 : k0_chk350 v4760), 8 ∣ (k0_mult351 v4760).toNat := fun v4760 k0_hw350 => k0_hw350.1
theorem k0_off402_inb : ∀ (v4760 : BitVec 32) (k0_hw350 : k0_chk350 v4760), ∀ a, (k0_off402 v4760) a + S1x8x1024.size a ≤ S1x4096x1024.size a := fun v4760 k0_hw350 => k0_hw350.2

def k0_mult352 (v4773 : BitVec 32) : BitVec 32 :=
  let c7_i32_3007 : BitVec 32 := 7#32
  let v4774 : BitVec 32 := Scalar.andi v4773 c7_i32_3007
  let v4775 : BitVec 32 := Scalar.subi v4773 v4774
  v4775

def k0_off403 (v4773 : BitVec 32) : Fin 3 → Nat :=
  let c0_3008 : Index := 0#32
  let c7_i32_3007 : BitVec 32 := 7#32
  let v4774 : BitVec 32 := Scalar.andi v4773 c7_i32_3007
  let v4775 : BitVec 32 := Scalar.subi v4773 v4774
  let v4776 : BitVec 32 := v4775
  let v4777 : Index := Scalar.indexCast v4776
  let c0_3009 : Index := 0#32
  ![0, v4777.toNat, 0]

def k0_chk351 (v4773 : BitVec 32) : Prop :=
  (8 ∣ (k0_mult352 v4773).toNat) ∧
  (∀ a, (k0_off403 v4773) a + S1x8x1024.size a ≤ S1x4096x1024.size a)
theorem k0_mult352_dvd : ∀ (v4773 : BitVec 32) (k0_hw351 : k0_chk351 v4773), 8 ∣ (k0_mult352 v4773).toNat := fun v4773 k0_hw351 => k0_hw351.1
theorem k0_off403_inb : ∀ (v4773 : BitVec 32) (k0_hw351 : k0_chk351 v4773), ∀ a, (k0_off403 v4773) a + S1x8x1024.size a ≤ S1x4096x1024.size a := fun v4773 k0_hw351 => k0_hw351.2

def k0_mult353 (v4786 : BitVec 32) : BitVec 32 :=
  let c7_i32_3015 : BitVec 32 := 7#32
  let v4787 : BitVec 32 := Scalar.andi v4786 c7_i32_3015
  let v4788 : BitVec 32 := Scalar.subi v4786 v4787
  v4788

def k0_off404 (v4786 : BitVec 32) : Fin 3 → Nat :=
  let c0_3016 : Index := 0#32
  let c7_i32_3015 : BitVec 32 := 7#32
  let v4787 : BitVec 32 := Scalar.andi v4786 c7_i32_3015
  let v4788 : BitVec 32 := Scalar.subi v4786 v4787
  let v4789 : BitVec 32 := v4788
  let v4790 : Index := Scalar.indexCast v4789
  let c0_3017 : Index := 0#32
  ![0, v4790.toNat, 0]

def k0_chk352 (v4786 : BitVec 32) : Prop :=
  (8 ∣ (k0_mult353 v4786).toNat) ∧
  (∀ a, (k0_off404 v4786) a + S1x8x1024.size a ≤ S1x4096x1024.size a)
theorem k0_mult353_dvd : ∀ (v4786 : BitVec 32) (k0_hw352 : k0_chk352 v4786), 8 ∣ (k0_mult353 v4786).toNat := fun v4786 k0_hw352 => k0_hw352.1
theorem k0_off404_inb : ∀ (v4786 : BitVec 32) (k0_hw352 : k0_chk352 v4786), ∀ a, (k0_off404 v4786) a + S1x8x1024.size a ≤ S1x4096x1024.size a := fun v4786 k0_hw352 => k0_hw352.2

def k0_off405 (i : grid0.Coords) : Fin 3 → Nat :=
  let c1_i32_2955 : BitVec 32 := 1#32
  let arg1 : BitVec 32 := BitVec.ofNat 32 (i 1).val
  let c1_i32 : BitVec 32 := 1#32
  let v1 : BitVec 32 := Scalar.andi arg1 c1_i32
  let v4693 : BitVec 32 := Scalar.subi c1_i32_2955 v1
  let c0_i32_3021 : BitVec 32 := 0#32
  let c0_i32_3022 : BitVec 32 := 0#32
  ![v4693.toNat, 0, 0]
def k0_mult354 (v4806 : BitVec 32) : BitVec 32 :=
  let c7_i32_3029 : BitVec 32 := 7#32
  let v4807 : BitVec 32 := Scalar.andi v4806 c7_i32_3029
  let v4808 : BitVec 32 := Scalar.subi v4806 v4807
  v4808

def k0_off406 (v4806 : BitVec 32) : Fin 3 → Nat :=
  let c0_3030 : Index := 0#32
  let c7_i32_3029 : BitVec 32 := 7#32
  let v4807 : BitVec 32 := Scalar.andi v4806 c7_i32_3029
  let v4808 : BitVec 32 := Scalar.subi v4806 v4807
  let v4809 : BitVec 32 := v4808
  let v4810 : Index := Scalar.indexCast v4809
  let c0_3031 : Index := 0#32
  ![0, v4810.toNat, 0]

def k0_chk353 (v4806 : BitVec 32) : Prop :=
  (8 ∣ (k0_mult354 v4806).toNat) ∧
  (∀ a, (k0_off406 v4806) a + S1x8x1024.size a ≤ S1x4096x1024.size a)
theorem k0_mult354_dvd : ∀ (v4806 : BitVec 32) (k0_hw353 : k0_chk353 v4806), 8 ∣ (k0_mult354 v4806).toNat := fun v4806 k0_hw353 => k0_hw353.1
theorem k0_off406_inb : ∀ (v4806 : BitVec 32) (k0_hw353 : k0_chk353 v4806), ∀ a, (k0_off406 v4806) a + S1x8x1024.size a ≤ S1x4096x1024.size a := fun v4806 k0_hw353 => k0_hw353.2

def k0_mult355 (v4819 : BitVec 32) : BitVec 32 :=
  let c7_i32_3037 : BitVec 32 := 7#32
  let v4820 : BitVec 32 := Scalar.andi v4819 c7_i32_3037
  let v4821 : BitVec 32 := Scalar.subi v4819 v4820
  v4821

def k0_off407 (v4819 : BitVec 32) : Fin 3 → Nat :=
  let c0_3038 : Index := 0#32
  let c7_i32_3037 : BitVec 32 := 7#32
  let v4820 : BitVec 32 := Scalar.andi v4819 c7_i32_3037
  let v4821 : BitVec 32 := Scalar.subi v4819 v4820
  let v4822 : BitVec 32 := v4821
  let v4823 : Index := Scalar.indexCast v4822
  let c0_3039 : Index := 0#32
  ![0, v4823.toNat, 0]

def k0_chk354 (v4819 : BitVec 32) : Prop :=
  (8 ∣ (k0_mult355 v4819).toNat) ∧
  (∀ a, (k0_off407 v4819) a + S1x8x1024.size a ≤ S1x4096x1024.size a)
theorem k0_mult355_dvd : ∀ (v4819 : BitVec 32) (k0_hw354 : k0_chk354 v4819), 8 ∣ (k0_mult355 v4819).toNat := fun v4819 k0_hw354 => k0_hw354.1
theorem k0_off407_inb : ∀ (v4819 : BitVec 32) (k0_hw354 : k0_chk354 v4819), ∀ a, (k0_off407 v4819) a + S1x8x1024.size a ≤ S1x4096x1024.size a := fun v4819 k0_hw354 => k0_hw354.2

def k0_mult356 (v4832 : BitVec 32) : BitVec 32 :=
  let c7_i32_3045 : BitVec 32 := 7#32
  let v4833 : BitVec 32 := Scalar.andi v4832 c7_i32_3045
  let v4834 : BitVec 32 := Scalar.subi v4832 v4833
  v4834

def k0_off408 (v4832 : BitVec 32) : Fin 3 → Nat :=
  let c0_3046 : Index := 0#32
  let c7_i32_3045 : BitVec 32 := 7#32
  let v4833 : BitVec 32 := Scalar.andi v4832 c7_i32_3045
  let v4834 : BitVec 32 := Scalar.subi v4832 v4833
  let v4835 : BitVec 32 := v4834
  let v4836 : Index := Scalar.indexCast v4835
  let c0_3047 : Index := 0#32
  ![0, v4836.toNat, 0]

def k0_chk355 (v4832 : BitVec 32) : Prop :=
  (8 ∣ (k0_mult356 v4832).toNat) ∧
  (∀ a, (k0_off408 v4832) a + S1x8x1024.size a ≤ S1x4096x1024.size a)
theorem k0_mult356_dvd : ∀ (v4832 : BitVec 32) (k0_hw355 : k0_chk355 v4832), 8 ∣ (k0_mult356 v4832).toNat := fun v4832 k0_hw355 => k0_hw355.1
theorem k0_off408_inb : ∀ (v4832 : BitVec 32) (k0_hw355 : k0_chk355 v4832), ∀ a, (k0_off408 v4832) a + S1x8x1024.size a ≤ S1x4096x1024.size a := fun v4832 k0_hw355 => k0_hw355.2

def k0_mult357 (v4845 : BitVec 32) : BitVec 32 :=
  let c7_i32_3053 : BitVec 32 := 7#32
  let v4846 : BitVec 32 := Scalar.andi v4845 c7_i32_3053
  let v4847 : BitVec 32 := Scalar.subi v4845 v4846
  v4847

def k0_off409 (v4845 : BitVec 32) : Fin 3 → Nat :=
  let c0_3054 : Index := 0#32
  let c7_i32_3053 : BitVec 32 := 7#32
  let v4846 : BitVec 32 := Scalar.andi v4845 c7_i32_3053
  let v4847 : BitVec 32 := Scalar.subi v4845 v4846
  let v4848 : BitVec 32 := v4847
  let v4849 : Index := Scalar.indexCast v4848
  let c0_3055 : Index := 0#32
  ![0, v4849.toNat, 0]

def k0_chk356 (v4845 : BitVec 32) : Prop :=
  (8 ∣ (k0_mult357 v4845).toNat) ∧
  (∀ a, (k0_off409 v4845) a + S1x8x1024.size a ≤ S1x4096x1024.size a)
theorem k0_mult357_dvd : ∀ (v4845 : BitVec 32) (k0_hw356 : k0_chk356 v4845), 8 ∣ (k0_mult357 v4845).toNat := fun v4845 k0_hw356 => k0_hw356.1
theorem k0_off409_inb : ∀ (v4845 : BitVec 32) (k0_hw356 : k0_chk356 v4845), ∀ a, (k0_off409 v4845) a + S1x8x1024.size a ≤ S1x4096x1024.size a := fun v4845 k0_hw356 => k0_hw356.2

def k0_mult358 (v4858 : BitVec 32) : BitVec 32 :=
  let c7_i32_3061 : BitVec 32 := 7#32
  let v4859 : BitVec 32 := Scalar.andi v4858 c7_i32_3061
  let v4860 : BitVec 32 := Scalar.subi v4858 v4859
  v4860

def k0_off410 (v4858 : BitVec 32) : Fin 3 → Nat :=
  let c0_3062 : Index := 0#32
  let c7_i32_3061 : BitVec 32 := 7#32
  let v4859 : BitVec 32 := Scalar.andi v4858 c7_i32_3061
  let v4860 : BitVec 32 := Scalar.subi v4858 v4859
  let v4861 : BitVec 32 := v4860
  let v4862 : Index := Scalar.indexCast v4861
  let c0_3063 : Index := 0#32
  ![0, v4862.toNat, 0]

def k0_chk357 (v4858 : BitVec 32) : Prop :=
  (8 ∣ (k0_mult358 v4858).toNat) ∧
  (∀ a, (k0_off410 v4858) a + S1x8x1024.size a ≤ S1x4096x1024.size a)
theorem k0_mult358_dvd : ∀ (v4858 : BitVec 32) (k0_hw357 : k0_chk357 v4858), 8 ∣ (k0_mult358 v4858).toNat := fun v4858 k0_hw357 => k0_hw357.1
theorem k0_off410_inb : ∀ (v4858 : BitVec 32) (k0_hw357 : k0_chk357 v4858), ∀ a, (k0_off410 v4858) a + S1x8x1024.size a ≤ S1x4096x1024.size a := fun v4858 k0_hw357 => k0_hw357.2

def k0_mult359 (v4871 : BitVec 32) : BitVec 32 :=
  let c7_i32_3069 : BitVec 32 := 7#32
  let v4872 : BitVec 32 := Scalar.andi v4871 c7_i32_3069
  let v4873 : BitVec 32 := Scalar.subi v4871 v4872
  v4873

def k0_off411 (v4871 : BitVec 32) : Fin 3 → Nat :=
  let c0_3070 : Index := 0#32
  let c7_i32_3069 : BitVec 32 := 7#32
  let v4872 : BitVec 32 := Scalar.andi v4871 c7_i32_3069
  let v4873 : BitVec 32 := Scalar.subi v4871 v4872
  let v4874 : BitVec 32 := v4873
  let v4875 : Index := Scalar.indexCast v4874
  let c0_3071 : Index := 0#32
  ![0, v4875.toNat, 0]

def k0_chk358 (v4871 : BitVec 32) : Prop :=
  (8 ∣ (k0_mult359 v4871).toNat) ∧
  (∀ a, (k0_off411 v4871) a + S1x8x1024.size a ≤ S1x4096x1024.size a)
theorem k0_mult359_dvd : ∀ (v4871 : BitVec 32) (k0_hw358 : k0_chk358 v4871), 8 ∣ (k0_mult359 v4871).toNat := fun v4871 k0_hw358 => k0_hw358.1
theorem k0_off411_inb : ∀ (v4871 : BitVec 32) (k0_hw358 : k0_chk358 v4871), ∀ a, (k0_off411 v4871) a + S1x8x1024.size a ≤ S1x4096x1024.size a := fun v4871 k0_hw358 => k0_hw358.2

def k0_mult360 (v4884 : BitVec 32) : BitVec 32 :=
  let c7_i32_3077 : BitVec 32 := 7#32
  let v4885 : BitVec 32 := Scalar.andi v4884 c7_i32_3077
  let v4886 : BitVec 32 := Scalar.subi v4884 v4885
  v4886

def k0_off412 (v4884 : BitVec 32) : Fin 3 → Nat :=
  let c0_3078 : Index := 0#32
  let c7_i32_3077 : BitVec 32 := 7#32
  let v4885 : BitVec 32 := Scalar.andi v4884 c7_i32_3077
  let v4886 : BitVec 32 := Scalar.subi v4884 v4885
  let v4887 : BitVec 32 := v4886
  let v4888 : Index := Scalar.indexCast v4887
  let c0_3079 : Index := 0#32
  ![0, v4888.toNat, 0]

def k0_chk359 (v4884 : BitVec 32) : Prop :=
  (8 ∣ (k0_mult360 v4884).toNat) ∧
  (∀ a, (k0_off412 v4884) a + S1x8x1024.size a ≤ S1x4096x1024.size a)
theorem k0_mult360_dvd : ∀ (v4884 : BitVec 32) (k0_hw359 : k0_chk359 v4884), 8 ∣ (k0_mult360 v4884).toNat := fun v4884 k0_hw359 => k0_hw359.1
theorem k0_off412_inb : ∀ (v4884 : BitVec 32) (k0_hw359 : k0_chk359 v4884), ∀ a, (k0_off412 v4884) a + S1x8x1024.size a ≤ S1x4096x1024.size a := fun v4884 k0_hw359 => k0_hw359.2

def k0_mult361 (v4897 : BitVec 32) : BitVec 32 :=
  let c7_i32_3085 : BitVec 32 := 7#32
  let v4898 : BitVec 32 := Scalar.andi v4897 c7_i32_3085
  let v4899 : BitVec 32 := Scalar.subi v4897 v4898
  v4899

def k0_off413 (v4897 : BitVec 32) : Fin 3 → Nat :=
  let c0_3086 : Index := 0#32
  let c7_i32_3085 : BitVec 32 := 7#32
  let v4898 : BitVec 32 := Scalar.andi v4897 c7_i32_3085
  let v4899 : BitVec 32 := Scalar.subi v4897 v4898
  let v4900 : BitVec 32 := v4899
  let v4901 : Index := Scalar.indexCast v4900
  let c0_3087 : Index := 0#32
  ![0, v4901.toNat, 0]

def k0_chk360 (v4897 : BitVec 32) : Prop :=
  (8 ∣ (k0_mult361 v4897).toNat) ∧
  (∀ a, (k0_off413 v4897) a + S1x8x1024.size a ≤ S1x4096x1024.size a)
theorem k0_mult361_dvd : ∀ (v4897 : BitVec 32) (k0_hw360 : k0_chk360 v4897), 8 ∣ (k0_mult361 v4897).toNat := fun v4897 k0_hw360 => k0_hw360.1
theorem k0_off413_inb : ∀ (v4897 : BitVec 32) (k0_hw360 : k0_chk360 v4897), ∀ a, (k0_off413 v4897) a + S1x8x1024.size a ≤ S1x4096x1024.size a := fun v4897 k0_hw360 => k0_hw360.2

def k0_off414 (i : grid0.Coords) : Fin 3 → Nat :=
  let c1_i32_3025 : BitVec 32 := 1#32
  let arg1 : BitVec 32 := BitVec.ofNat 32 (i 1).val
  let c1_i32 : BitVec 32 := 1#32
  let v1 : BitVec 32 := Scalar.andi arg1 c1_i32
  let v4804 : BitVec 32 := Scalar.subi c1_i32_3025 v1
  let c0_i32_3091 : BitVec 32 := 0#32
  let c0_i32_3092 : BitVec 32 := 0#32
  ![v4804.toNat, 0, 0]
def k0_mult362 (v4917 : BitVec 32) : BitVec 32 :=
  let c7_i32_3099 : BitVec 32 := 7#32
  let v4918 : BitVec 32 := Scalar.andi v4917 c7_i32_3099
  let v4919 : BitVec 32 := Scalar.subi v4917 v4918
  v4919

def k0_off415 (v4917 : BitVec 32) : Fin 3 → Nat :=
  let c0_3100 : Index := 0#32
  let c7_i32_3099 : BitVec 32 := 7#32
  let v4918 : BitVec 32 := Scalar.andi v4917 c7_i32_3099
  let v4919 : BitVec 32 := Scalar.subi v4917 v4918
  let v4920 : BitVec 32 := v4919
  let v4921 : Index := Scalar.indexCast v4920
  let c0_3101 : Index := 0#32
  ![0, v4921.toNat, 0]

def k0_chk361 (v4917 : BitVec 32) : Prop :=
  (8 ∣ (k0_mult362 v4917).toNat) ∧
  (∀ a, (k0_off415 v4917) a + S1x8x1024.size a ≤ S1x4096x1024.size a)
theorem k0_mult362_dvd : ∀ (v4917 : BitVec 32) (k0_hw361 : k0_chk361 v4917), 8 ∣ (k0_mult362 v4917).toNat := fun v4917 k0_hw361 => k0_hw361.1
theorem k0_off415_inb : ∀ (v4917 : BitVec 32) (k0_hw361 : k0_chk361 v4917), ∀ a, (k0_off415 v4917) a + S1x8x1024.size a ≤ S1x4096x1024.size a := fun v4917 k0_hw361 => k0_hw361.2

def k0_mult363 (v4930 : BitVec 32) : BitVec 32 :=
  let c7_i32_3107 : BitVec 32 := 7#32
  let v4931 : BitVec 32 := Scalar.andi v4930 c7_i32_3107
  let v4932 : BitVec 32 := Scalar.subi v4930 v4931
  v4932

def k0_off416 (v4930 : BitVec 32) : Fin 3 → Nat :=
  let c0_3108 : Index := 0#32
  let c7_i32_3107 : BitVec 32 := 7#32
  let v4931 : BitVec 32 := Scalar.andi v4930 c7_i32_3107
  let v4932 : BitVec 32 := Scalar.subi v4930 v4931
  let v4933 : BitVec 32 := v4932
  let v4934 : Index := Scalar.indexCast v4933
  let c0_3109 : Index := 0#32
  ![0, v4934.toNat, 0]

def k0_chk362 (v4930 : BitVec 32) : Prop :=
  (8 ∣ (k0_mult363 v4930).toNat) ∧
  (∀ a, (k0_off416 v4930) a + S1x8x1024.size a ≤ S1x4096x1024.size a)
theorem k0_mult363_dvd : ∀ (v4930 : BitVec 32) (k0_hw362 : k0_chk362 v4930), 8 ∣ (k0_mult363 v4930).toNat := fun v4930 k0_hw362 => k0_hw362.1
theorem k0_off416_inb : ∀ (v4930 : BitVec 32) (k0_hw362 : k0_chk362 v4930), ∀ a, (k0_off416 v4930) a + S1x8x1024.size a ≤ S1x4096x1024.size a := fun v4930 k0_hw362 => k0_hw362.2

def k0_mult364 (v4943 : BitVec 32) : BitVec 32 :=
  let c7_i32_3115 : BitVec 32 := 7#32
  let v4944 : BitVec 32 := Scalar.andi v4943 c7_i32_3115
  let v4945 : BitVec 32 := Scalar.subi v4943 v4944
  v4945

def k0_off417 (v4943 : BitVec 32) : Fin 3 → Nat :=
  let c0_3116 : Index := 0#32
  let c7_i32_3115 : BitVec 32 := 7#32
  let v4944 : BitVec 32 := Scalar.andi v4943 c7_i32_3115
  let v4945 : BitVec 32 := Scalar.subi v4943 v4944
  let v4946 : BitVec 32 := v4945
  let v4947 : Index := Scalar.indexCast v4946
  let c0_3117 : Index := 0#32
  ![0, v4947.toNat, 0]

def k0_chk363 (v4943 : BitVec 32) : Prop :=
  (8 ∣ (k0_mult364 v4943).toNat) ∧
  (∀ a, (k0_off417 v4943) a + S1x8x1024.size a ≤ S1x4096x1024.size a)
theorem k0_mult364_dvd : ∀ (v4943 : BitVec 32) (k0_hw363 : k0_chk363 v4943), 8 ∣ (k0_mult364 v4943).toNat := fun v4943 k0_hw363 => k0_hw363.1
theorem k0_off417_inb : ∀ (v4943 : BitVec 32) (k0_hw363 : k0_chk363 v4943), ∀ a, (k0_off417 v4943) a + S1x8x1024.size a ≤ S1x4096x1024.size a := fun v4943 k0_hw363 => k0_hw363.2

def k0_mult365 (v4956 : BitVec 32) : BitVec 32 :=
  let c7_i32_3123 : BitVec 32 := 7#32
  let v4957 : BitVec 32 := Scalar.andi v4956 c7_i32_3123
  let v4958 : BitVec 32 := Scalar.subi v4956 v4957
  v4958

def k0_off418 (v4956 : BitVec 32) : Fin 3 → Nat :=
  let c0_3124 : Index := 0#32
  let c7_i32_3123 : BitVec 32 := 7#32
  let v4957 : BitVec 32 := Scalar.andi v4956 c7_i32_3123
  let v4958 : BitVec 32 := Scalar.subi v4956 v4957
  let v4959 : BitVec 32 := v4958
  let v4960 : Index := Scalar.indexCast v4959
  let c0_3125 : Index := 0#32
  ![0, v4960.toNat, 0]

def k0_chk364 (v4956 : BitVec 32) : Prop :=
  (8 ∣ (k0_mult365 v4956).toNat) ∧
  (∀ a, (k0_off418 v4956) a + S1x8x1024.size a ≤ S1x4096x1024.size a)
theorem k0_mult365_dvd : ∀ (v4956 : BitVec 32) (k0_hw364 : k0_chk364 v4956), 8 ∣ (k0_mult365 v4956).toNat := fun v4956 k0_hw364 => k0_hw364.1
theorem k0_off418_inb : ∀ (v4956 : BitVec 32) (k0_hw364 : k0_chk364 v4956), ∀ a, (k0_off418 v4956) a + S1x8x1024.size a ≤ S1x4096x1024.size a := fun v4956 k0_hw364 => k0_hw364.2

def k0_mult366 (v4969 : BitVec 32) : BitVec 32 :=
  let c7_i32_3131 : BitVec 32 := 7#32
  let v4970 : BitVec 32 := Scalar.andi v4969 c7_i32_3131
  let v4971 : BitVec 32 := Scalar.subi v4969 v4970
  v4971

def k0_off419 (v4969 : BitVec 32) : Fin 3 → Nat :=
  let c0_3132 : Index := 0#32
  let c7_i32_3131 : BitVec 32 := 7#32
  let v4970 : BitVec 32 := Scalar.andi v4969 c7_i32_3131
  let v4971 : BitVec 32 := Scalar.subi v4969 v4970
  let v4972 : BitVec 32 := v4971
  let v4973 : Index := Scalar.indexCast v4972
  let c0_3133 : Index := 0#32
  ![0, v4973.toNat, 0]

def k0_chk365 (v4969 : BitVec 32) : Prop :=
  (8 ∣ (k0_mult366 v4969).toNat) ∧
  (∀ a, (k0_off419 v4969) a + S1x8x1024.size a ≤ S1x4096x1024.size a)
theorem k0_mult366_dvd : ∀ (v4969 : BitVec 32) (k0_hw365 : k0_chk365 v4969), 8 ∣ (k0_mult366 v4969).toNat := fun v4969 k0_hw365 => k0_hw365.1
theorem k0_off419_inb : ∀ (v4969 : BitVec 32) (k0_hw365 : k0_chk365 v4969), ∀ a, (k0_off419 v4969) a + S1x8x1024.size a ≤ S1x4096x1024.size a := fun v4969 k0_hw365 => k0_hw365.2

def k0_mult367 (v4982 : BitVec 32) : BitVec 32 :=
  let c7_i32_3139 : BitVec 32 := 7#32
  let v4983 : BitVec 32 := Scalar.andi v4982 c7_i32_3139
  let v4984 : BitVec 32 := Scalar.subi v4982 v4983
  v4984

def k0_off420 (v4982 : BitVec 32) : Fin 3 → Nat :=
  let c0_3140 : Index := 0#32
  let c7_i32_3139 : BitVec 32 := 7#32
  let v4983 : BitVec 32 := Scalar.andi v4982 c7_i32_3139
  let v4984 : BitVec 32 := Scalar.subi v4982 v4983
  let v4985 : BitVec 32 := v4984
  let v4986 : Index := Scalar.indexCast v4985
  let c0_3141 : Index := 0#32
  ![0, v4986.toNat, 0]

def k0_chk366 (v4982 : BitVec 32) : Prop :=
  (8 ∣ (k0_mult367 v4982).toNat) ∧
  (∀ a, (k0_off420 v4982) a + S1x8x1024.size a ≤ S1x4096x1024.size a)
theorem k0_mult367_dvd : ∀ (v4982 : BitVec 32) (k0_hw366 : k0_chk366 v4982), 8 ∣ (k0_mult367 v4982).toNat := fun v4982 k0_hw366 => k0_hw366.1
theorem k0_off420_inb : ∀ (v4982 : BitVec 32) (k0_hw366 : k0_chk366 v4982), ∀ a, (k0_off420 v4982) a + S1x8x1024.size a ≤ S1x4096x1024.size a := fun v4982 k0_hw366 => k0_hw366.2

def k0_mult368 (v4995 : BitVec 32) : BitVec 32 :=
  let c7_i32_3147 : BitVec 32 := 7#32
  let v4996 : BitVec 32 := Scalar.andi v4995 c7_i32_3147
  let v4997 : BitVec 32 := Scalar.subi v4995 v4996
  v4997

def k0_off421 (v4995 : BitVec 32) : Fin 3 → Nat :=
  let c0_3148 : Index := 0#32
  let c7_i32_3147 : BitVec 32 := 7#32
  let v4996 : BitVec 32 := Scalar.andi v4995 c7_i32_3147
  let v4997 : BitVec 32 := Scalar.subi v4995 v4996
  let v4998 : BitVec 32 := v4997
  let v4999 : Index := Scalar.indexCast v4998
  let c0_3149 : Index := 0#32
  ![0, v4999.toNat, 0]

def k0_chk367 (v4995 : BitVec 32) : Prop :=
  (8 ∣ (k0_mult368 v4995).toNat) ∧
  (∀ a, (k0_off421 v4995) a + S1x8x1024.size a ≤ S1x4096x1024.size a)
theorem k0_mult368_dvd : ∀ (v4995 : BitVec 32) (k0_hw367 : k0_chk367 v4995), 8 ∣ (k0_mult368 v4995).toNat := fun v4995 k0_hw367 => k0_hw367.1
theorem k0_off421_inb : ∀ (v4995 : BitVec 32) (k0_hw367 : k0_chk367 v4995), ∀ a, (k0_off421 v4995) a + S1x8x1024.size a ≤ S1x4096x1024.size a := fun v4995 k0_hw367 => k0_hw367.2

def k0_mult369 (v5008 : BitVec 32) : BitVec 32 :=
  let c7_i32_3155 : BitVec 32 := 7#32
  let v5009 : BitVec 32 := Scalar.andi v5008 c7_i32_3155
  let v5010 : BitVec 32 := Scalar.subi v5008 v5009
  v5010

def k0_off422 (v5008 : BitVec 32) : Fin 3 → Nat :=
  let c0_3156 : Index := 0#32
  let c7_i32_3155 : BitVec 32 := 7#32
  let v5009 : BitVec 32 := Scalar.andi v5008 c7_i32_3155
  let v5010 : BitVec 32 := Scalar.subi v5008 v5009
  let v5011 : BitVec 32 := v5010
  let v5012 : Index := Scalar.indexCast v5011
  let c0_3157 : Index := 0#32
  ![0, v5012.toNat, 0]

def k0_chk368 (v5008 : BitVec 32) : Prop :=
  (8 ∣ (k0_mult369 v5008).toNat) ∧
  (∀ a, (k0_off422 v5008) a + S1x8x1024.size a ≤ S1x4096x1024.size a)
theorem k0_mult369_dvd : ∀ (v5008 : BitVec 32) (k0_hw368 : k0_chk368 v5008), 8 ∣ (k0_mult369 v5008).toNat := fun v5008 k0_hw368 => k0_hw368.1
theorem k0_off422_inb : ∀ (v5008 : BitVec 32) (k0_hw368 : k0_chk368 v5008), ∀ a, (k0_off422 v5008) a + S1x8x1024.size a ≤ S1x4096x1024.size a := fun v5008 k0_hw368 => k0_hw368.2

def k0_off423 (i : grid0.Coords) : Fin 3 → Nat :=
  let c1_i32_3095 : BitVec 32 := 1#32
  let arg1 : BitVec 32 := BitVec.ofNat 32 (i 1).val
  let c1_i32 : BitVec 32 := 1#32
  let v1 : BitVec 32 := Scalar.andi arg1 c1_i32
  let v4915 : BitVec 32 := Scalar.subi c1_i32_3095 v1
  let c0_i32_3161 : BitVec 32 := 0#32
  let c0_i32_3162 : BitVec 32 := 0#32
  ![v4915.toNat, 0, 0]
def k0_mult370 (v5028 : BitVec 32) : BitVec 32 :=
  let c7_i32_3169 : BitVec 32 := 7#32
  let v5029 : BitVec 32 := Scalar.andi v5028 c7_i32_3169
  let v5030 : BitVec 32 := Scalar.subi v5028 v5029
  v5030

def k0_off424 (v5028 : BitVec 32) : Fin 3 → Nat :=
  let c0_3170 : Index := 0#32
  let c7_i32_3169 : BitVec 32 := 7#32
  let v5029 : BitVec 32 := Scalar.andi v5028 c7_i32_3169
  let v5030 : BitVec 32 := Scalar.subi v5028 v5029
  let v5031 : BitVec 32 := v5030
  let v5032 : Index := Scalar.indexCast v5031
  let c0_3171 : Index := 0#32
  ![0, v5032.toNat, 0]

def k0_chk369 (v5028 : BitVec 32) : Prop :=
  (8 ∣ (k0_mult370 v5028).toNat) ∧
  (∀ a, (k0_off424 v5028) a + S1x8x1024.size a ≤ S1x4096x1024.size a)
theorem k0_mult370_dvd : ∀ (v5028 : BitVec 32) (k0_hw369 : k0_chk369 v5028), 8 ∣ (k0_mult370 v5028).toNat := fun v5028 k0_hw369 => k0_hw369.1
theorem k0_off424_inb : ∀ (v5028 : BitVec 32) (k0_hw369 : k0_chk369 v5028), ∀ a, (k0_off424 v5028) a + S1x8x1024.size a ≤ S1x4096x1024.size a := fun v5028 k0_hw369 => k0_hw369.2

def k0_mult371 (v5041 : BitVec 32) : BitVec 32 :=
  let c7_i32_3177 : BitVec 32 := 7#32
  let v5042 : BitVec 32 := Scalar.andi v5041 c7_i32_3177
  let v5043 : BitVec 32 := Scalar.subi v5041 v5042
  v5043

def k0_off425 (v5041 : BitVec 32) : Fin 3 → Nat :=
  let c0_3178 : Index := 0#32
  let c7_i32_3177 : BitVec 32 := 7#32
  let v5042 : BitVec 32 := Scalar.andi v5041 c7_i32_3177
  let v5043 : BitVec 32 := Scalar.subi v5041 v5042
  let v5044 : BitVec 32 := v5043
  let v5045 : Index := Scalar.indexCast v5044
  let c0_3179 : Index := 0#32
  ![0, v5045.toNat, 0]

def k0_chk370 (v5041 : BitVec 32) : Prop :=
  (8 ∣ (k0_mult371 v5041).toNat) ∧
  (∀ a, (k0_off425 v5041) a + S1x8x1024.size a ≤ S1x4096x1024.size a)
theorem k0_mult371_dvd : ∀ (v5041 : BitVec 32) (k0_hw370 : k0_chk370 v5041), 8 ∣ (k0_mult371 v5041).toNat := fun v5041 k0_hw370 => k0_hw370.1
theorem k0_off425_inb : ∀ (v5041 : BitVec 32) (k0_hw370 : k0_chk370 v5041), ∀ a, (k0_off425 v5041) a + S1x8x1024.size a ≤ S1x4096x1024.size a := fun v5041 k0_hw370 => k0_hw370.2

def k0_mult372 (v5054 : BitVec 32) : BitVec 32 :=
  let c7_i32_3185 : BitVec 32 := 7#32
  let v5055 : BitVec 32 := Scalar.andi v5054 c7_i32_3185
  let v5056 : BitVec 32 := Scalar.subi v5054 v5055
  v5056

def k0_off426 (v5054 : BitVec 32) : Fin 3 → Nat :=
  let c0_3186 : Index := 0#32
  let c7_i32_3185 : BitVec 32 := 7#32
  let v5055 : BitVec 32 := Scalar.andi v5054 c7_i32_3185
  let v5056 : BitVec 32 := Scalar.subi v5054 v5055
  let v5057 : BitVec 32 := v5056
  let v5058 : Index := Scalar.indexCast v5057
  let c0_3187 : Index := 0#32
  ![0, v5058.toNat, 0]

def k0_chk371 (v5054 : BitVec 32) : Prop :=
  (8 ∣ (k0_mult372 v5054).toNat) ∧
  (∀ a, (k0_off426 v5054) a + S1x8x1024.size a ≤ S1x4096x1024.size a)
theorem k0_mult372_dvd : ∀ (v5054 : BitVec 32) (k0_hw371 : k0_chk371 v5054), 8 ∣ (k0_mult372 v5054).toNat := fun v5054 k0_hw371 => k0_hw371.1
theorem k0_off426_inb : ∀ (v5054 : BitVec 32) (k0_hw371 : k0_chk371 v5054), ∀ a, (k0_off426 v5054) a + S1x8x1024.size a ≤ S1x4096x1024.size a := fun v5054 k0_hw371 => k0_hw371.2

def k0_mult373 (v5067 : BitVec 32) : BitVec 32 :=
  let c7_i32_3193 : BitVec 32 := 7#32
  let v5068 : BitVec 32 := Scalar.andi v5067 c7_i32_3193
  let v5069 : BitVec 32 := Scalar.subi v5067 v5068
  v5069

def k0_off427 (v5067 : BitVec 32) : Fin 3 → Nat :=
  let c0_3194 : Index := 0#32
  let c7_i32_3193 : BitVec 32 := 7#32
  let v5068 : BitVec 32 := Scalar.andi v5067 c7_i32_3193
  let v5069 : BitVec 32 := Scalar.subi v5067 v5068
  let v5070 : BitVec 32 := v5069
  let v5071 : Index := Scalar.indexCast v5070
  let c0_3195 : Index := 0#32
  ![0, v5071.toNat, 0]

def k0_chk372 (v5067 : BitVec 32) : Prop :=
  (8 ∣ (k0_mult373 v5067).toNat) ∧
  (∀ a, (k0_off427 v5067) a + S1x8x1024.size a ≤ S1x4096x1024.size a)
theorem k0_mult373_dvd : ∀ (v5067 : BitVec 32) (k0_hw372 : k0_chk372 v5067), 8 ∣ (k0_mult373 v5067).toNat := fun v5067 k0_hw372 => k0_hw372.1
theorem k0_off427_inb : ∀ (v5067 : BitVec 32) (k0_hw372 : k0_chk372 v5067), ∀ a, (k0_off427 v5067) a + S1x8x1024.size a ≤ S1x4096x1024.size a := fun v5067 k0_hw372 => k0_hw372.2

def k0_mult374 (v5080 : BitVec 32) : BitVec 32 :=
  let c7_i32_3201 : BitVec 32 := 7#32
  let v5081 : BitVec 32 := Scalar.andi v5080 c7_i32_3201
  let v5082 : BitVec 32 := Scalar.subi v5080 v5081
  v5082

def k0_off428 (v5080 : BitVec 32) : Fin 3 → Nat :=
  let c0_3202 : Index := 0#32
  let c7_i32_3201 : BitVec 32 := 7#32
  let v5081 : BitVec 32 := Scalar.andi v5080 c7_i32_3201
  let v5082 : BitVec 32 := Scalar.subi v5080 v5081
  let v5083 : BitVec 32 := v5082
  let v5084 : Index := Scalar.indexCast v5083
  let c0_3203 : Index := 0#32
  ![0, v5084.toNat, 0]

def k0_chk373 (v5080 : BitVec 32) : Prop :=
  (8 ∣ (k0_mult374 v5080).toNat) ∧
  (∀ a, (k0_off428 v5080) a + S1x8x1024.size a ≤ S1x4096x1024.size a)
theorem k0_mult374_dvd : ∀ (v5080 : BitVec 32) (k0_hw373 : k0_chk373 v5080), 8 ∣ (k0_mult374 v5080).toNat := fun v5080 k0_hw373 => k0_hw373.1
theorem k0_off428_inb : ∀ (v5080 : BitVec 32) (k0_hw373 : k0_chk373 v5080), ∀ a, (k0_off428 v5080) a + S1x8x1024.size a ≤ S1x4096x1024.size a := fun v5080 k0_hw373 => k0_hw373.2

def k0_mult375 (v5093 : BitVec 32) : BitVec 32 :=
  let c7_i32_3209 : BitVec 32 := 7#32
  let v5094 : BitVec 32 := Scalar.andi v5093 c7_i32_3209
  let v5095 : BitVec 32 := Scalar.subi v5093 v5094
  v5095

def k0_off429 (v5093 : BitVec 32) : Fin 3 → Nat :=
  let c0_3210 : Index := 0#32
  let c7_i32_3209 : BitVec 32 := 7#32
  let v5094 : BitVec 32 := Scalar.andi v5093 c7_i32_3209
  let v5095 : BitVec 32 := Scalar.subi v5093 v5094
  let v5096 : BitVec 32 := v5095
  let v5097 : Index := Scalar.indexCast v5096
  let c0_3211 : Index := 0#32
  ![0, v5097.toNat, 0]

def k0_chk374 (v5093 : BitVec 32) : Prop :=
  (8 ∣ (k0_mult375 v5093).toNat) ∧
  (∀ a, (k0_off429 v5093) a + S1x8x1024.size a ≤ S1x4096x1024.size a)
theorem k0_mult375_dvd : ∀ (v5093 : BitVec 32) (k0_hw374 : k0_chk374 v5093), 8 ∣ (k0_mult375 v5093).toNat := fun v5093 k0_hw374 => k0_hw374.1
theorem k0_off429_inb : ∀ (v5093 : BitVec 32) (k0_hw374 : k0_chk374 v5093), ∀ a, (k0_off429 v5093) a + S1x8x1024.size a ≤ S1x4096x1024.size a := fun v5093 k0_hw374 => k0_hw374.2

def k0_mult376 (v5106 : BitVec 32) : BitVec 32 :=
  let c7_i32_3217 : BitVec 32 := 7#32
  let v5107 : BitVec 32 := Scalar.andi v5106 c7_i32_3217
  let v5108 : BitVec 32 := Scalar.subi v5106 v5107
  v5108

def k0_off430 (v5106 : BitVec 32) : Fin 3 → Nat :=
  let c0_3218 : Index := 0#32
  let c7_i32_3217 : BitVec 32 := 7#32
  let v5107 : BitVec 32 := Scalar.andi v5106 c7_i32_3217
  let v5108 : BitVec 32 := Scalar.subi v5106 v5107
  let v5109 : BitVec 32 := v5108
  let v5110 : Index := Scalar.indexCast v5109
  let c0_3219 : Index := 0#32
  ![0, v5110.toNat, 0]

def k0_chk375 (v5106 : BitVec 32) : Prop :=
  (8 ∣ (k0_mult376 v5106).toNat) ∧
  (∀ a, (k0_off430 v5106) a + S1x8x1024.size a ≤ S1x4096x1024.size a)
theorem k0_mult376_dvd : ∀ (v5106 : BitVec 32) (k0_hw375 : k0_chk375 v5106), 8 ∣ (k0_mult376 v5106).toNat := fun v5106 k0_hw375 => k0_hw375.1
theorem k0_off430_inb : ∀ (v5106 : BitVec 32) (k0_hw375 : k0_chk375 v5106), ∀ a, (k0_off430 v5106) a + S1x8x1024.size a ≤ S1x4096x1024.size a := fun v5106 k0_hw375 => k0_hw375.2

def k0_mult377 (v5119 : BitVec 32) : BitVec 32 :=
  let c7_i32_3225 : BitVec 32 := 7#32
  let v5120 : BitVec 32 := Scalar.andi v5119 c7_i32_3225
  let v5121 : BitVec 32 := Scalar.subi v5119 v5120
  v5121

def k0_off431 (v5119 : BitVec 32) : Fin 3 → Nat :=
  let c0_3226 : Index := 0#32
  let c7_i32_3225 : BitVec 32 := 7#32
  let v5120 : BitVec 32 := Scalar.andi v5119 c7_i32_3225
  let v5121 : BitVec 32 := Scalar.subi v5119 v5120
  let v5122 : BitVec 32 := v5121
  let v5123 : Index := Scalar.indexCast v5122
  let c0_3227 : Index := 0#32
  ![0, v5123.toNat, 0]

def k0_chk376 (v5119 : BitVec 32) : Prop :=
  (8 ∣ (k0_mult377 v5119).toNat) ∧
  (∀ a, (k0_off431 v5119) a + S1x8x1024.size a ≤ S1x4096x1024.size a)
theorem k0_mult377_dvd : ∀ (v5119 : BitVec 32) (k0_hw376 : k0_chk376 v5119), 8 ∣ (k0_mult377 v5119).toNat := fun v5119 k0_hw376 => k0_hw376.1
theorem k0_off431_inb : ∀ (v5119 : BitVec 32) (k0_hw376 : k0_chk376 v5119), ∀ a, (k0_off431 v5119) a + S1x8x1024.size a ≤ S1x4096x1024.size a := fun v5119 k0_hw376 => k0_hw376.2

def k0_off432 (i : grid0.Coords) : Fin 3 → Nat :=
  let c1_i32_3165 : BitVec 32 := 1#32
  let arg1 : BitVec 32 := BitVec.ofNat 32 (i 1).val
  let c1_i32 : BitVec 32 := 1#32
  let v1 : BitVec 32 := Scalar.andi arg1 c1_i32
  let v5026 : BitVec 32 := Scalar.subi c1_i32_3165 v1
  let c0_i32_3231 : BitVec 32 := 0#32
  let c0_i32_3232 : BitVec 32 := 0#32
  ![v5026.toNat, 0, 0]
def k0_mult378 (v5139 : BitVec 32) : BitVec 32 :=
  let c7_i32_3239 : BitVec 32 := 7#32
  let v5140 : BitVec 32 := Scalar.andi v5139 c7_i32_3239
  let v5141 : BitVec 32 := Scalar.subi v5139 v5140
  v5141

def k0_off433 (v5139 : BitVec 32) : Fin 3 → Nat :=
  let c0_3240 : Index := 0#32
  let c7_i32_3239 : BitVec 32 := 7#32
  let v5140 : BitVec 32 := Scalar.andi v5139 c7_i32_3239
  let v5141 : BitVec 32 := Scalar.subi v5139 v5140
  let v5142 : BitVec 32 := v5141
  let v5143 : Index := Scalar.indexCast v5142
  let c0_3241 : Index := 0#32
  ![0, v5143.toNat, 0]

def k0_chk377 (v5139 : BitVec 32) : Prop :=
  (8 ∣ (k0_mult378 v5139).toNat) ∧
  (∀ a, (k0_off433 v5139) a + S1x8x1024.size a ≤ S1x4096x1024.size a)
theorem k0_mult378_dvd : ∀ (v5139 : BitVec 32) (k0_hw377 : k0_chk377 v5139), 8 ∣ (k0_mult378 v5139).toNat := fun v5139 k0_hw377 => k0_hw377.1
theorem k0_off433_inb : ∀ (v5139 : BitVec 32) (k0_hw377 : k0_chk377 v5139), ∀ a, (k0_off433 v5139) a + S1x8x1024.size a ≤ S1x4096x1024.size a := fun v5139 k0_hw377 => k0_hw377.2

def k0_mult379 (v5152 : BitVec 32) : BitVec 32 :=
  let c7_i32_3247 : BitVec 32 := 7#32
  let v5153 : BitVec 32 := Scalar.andi v5152 c7_i32_3247
  let v5154 : BitVec 32 := Scalar.subi v5152 v5153
  v5154

def k0_off434 (v5152 : BitVec 32) : Fin 3 → Nat :=
  let c0_3248 : Index := 0#32
  let c7_i32_3247 : BitVec 32 := 7#32
  let v5153 : BitVec 32 := Scalar.andi v5152 c7_i32_3247
  let v5154 : BitVec 32 := Scalar.subi v5152 v5153
  let v5155 : BitVec 32 := v5154
  let v5156 : Index := Scalar.indexCast v5155
  let c0_3249 : Index := 0#32
  ![0, v5156.toNat, 0]

def k0_chk378 (v5152 : BitVec 32) : Prop :=
  (8 ∣ (k0_mult379 v5152).toNat) ∧
  (∀ a, (k0_off434 v5152) a + S1x8x1024.size a ≤ S1x4096x1024.size a)
theorem k0_mult379_dvd : ∀ (v5152 : BitVec 32) (k0_hw378 : k0_chk378 v5152), 8 ∣ (k0_mult379 v5152).toNat := fun v5152 k0_hw378 => k0_hw378.1
theorem k0_off434_inb : ∀ (v5152 : BitVec 32) (k0_hw378 : k0_chk378 v5152), ∀ a, (k0_off434 v5152) a + S1x8x1024.size a ≤ S1x4096x1024.size a := fun v5152 k0_hw378 => k0_hw378.2

def k0_mult380 (v5165 : BitVec 32) : BitVec 32 :=
  let c7_i32_3255 : BitVec 32 := 7#32
  let v5166 : BitVec 32 := Scalar.andi v5165 c7_i32_3255
  let v5167 : BitVec 32 := Scalar.subi v5165 v5166
  v5167

def k0_off435 (v5165 : BitVec 32) : Fin 3 → Nat :=
  let c0_3256 : Index := 0#32
  let c7_i32_3255 : BitVec 32 := 7#32
  let v5166 : BitVec 32 := Scalar.andi v5165 c7_i32_3255
  let v5167 : BitVec 32 := Scalar.subi v5165 v5166
  let v5168 : BitVec 32 := v5167
  let v5169 : Index := Scalar.indexCast v5168
  let c0_3257 : Index := 0#32
  ![0, v5169.toNat, 0]

def k0_chk379 (v5165 : BitVec 32) : Prop :=
  (8 ∣ (k0_mult380 v5165).toNat) ∧
  (∀ a, (k0_off435 v5165) a + S1x8x1024.size a ≤ S1x4096x1024.size a)
theorem k0_mult380_dvd : ∀ (v5165 : BitVec 32) (k0_hw379 : k0_chk379 v5165), 8 ∣ (k0_mult380 v5165).toNat := fun v5165 k0_hw379 => k0_hw379.1
theorem k0_off435_inb : ∀ (v5165 : BitVec 32) (k0_hw379 : k0_chk379 v5165), ∀ a, (k0_off435 v5165) a + S1x8x1024.size a ≤ S1x4096x1024.size a := fun v5165 k0_hw379 => k0_hw379.2

def k0_mult381 (v5178 : BitVec 32) : BitVec 32 :=
  let c7_i32_3263 : BitVec 32 := 7#32
  let v5179 : BitVec 32 := Scalar.andi v5178 c7_i32_3263
  let v5180 : BitVec 32 := Scalar.subi v5178 v5179
  v5180

def k0_off436 (v5178 : BitVec 32) : Fin 3 → Nat :=
  let c0_3264 : Index := 0#32
  let c7_i32_3263 : BitVec 32 := 7#32
  let v5179 : BitVec 32 := Scalar.andi v5178 c7_i32_3263
  let v5180 : BitVec 32 := Scalar.subi v5178 v5179
  let v5181 : BitVec 32 := v5180
  let v5182 : Index := Scalar.indexCast v5181
  let c0_3265 : Index := 0#32
  ![0, v5182.toNat, 0]

def k0_chk380 (v5178 : BitVec 32) : Prop :=
  (8 ∣ (k0_mult381 v5178).toNat) ∧
  (∀ a, (k0_off436 v5178) a + S1x8x1024.size a ≤ S1x4096x1024.size a)
theorem k0_mult381_dvd : ∀ (v5178 : BitVec 32) (k0_hw380 : k0_chk380 v5178), 8 ∣ (k0_mult381 v5178).toNat := fun v5178 k0_hw380 => k0_hw380.1
theorem k0_off436_inb : ∀ (v5178 : BitVec 32) (k0_hw380 : k0_chk380 v5178), ∀ a, (k0_off436 v5178) a + S1x8x1024.size a ≤ S1x4096x1024.size a := fun v5178 k0_hw380 => k0_hw380.2

def k0_mult382 (v5191 : BitVec 32) : BitVec 32 :=
  let c7_i32_3271 : BitVec 32 := 7#32
  let v5192 : BitVec 32 := Scalar.andi v5191 c7_i32_3271
  let v5193 : BitVec 32 := Scalar.subi v5191 v5192
  v5193

def k0_off437 (v5191 : BitVec 32) : Fin 3 → Nat :=
  let c0_3272 : Index := 0#32
  let c7_i32_3271 : BitVec 32 := 7#32
  let v5192 : BitVec 32 := Scalar.andi v5191 c7_i32_3271
  let v5193 : BitVec 32 := Scalar.subi v5191 v5192
  let v5194 : BitVec 32 := v5193
  let v5195 : Index := Scalar.indexCast v5194
  let c0_3273 : Index := 0#32
  ![0, v5195.toNat, 0]

def k0_chk381 (v5191 : BitVec 32) : Prop :=
  (8 ∣ (k0_mult382 v5191).toNat) ∧
  (∀ a, (k0_off437 v5191) a + S1x8x1024.size a ≤ S1x4096x1024.size a)
theorem k0_mult382_dvd : ∀ (v5191 : BitVec 32) (k0_hw381 : k0_chk381 v5191), 8 ∣ (k0_mult382 v5191).toNat := fun v5191 k0_hw381 => k0_hw381.1
theorem k0_off437_inb : ∀ (v5191 : BitVec 32) (k0_hw381 : k0_chk381 v5191), ∀ a, (k0_off437 v5191) a + S1x8x1024.size a ≤ S1x4096x1024.size a := fun v5191 k0_hw381 => k0_hw381.2

def k0_mult383 (v5204 : BitVec 32) : BitVec 32 :=
  let c7_i32_3279 : BitVec 32 := 7#32
  let v5205 : BitVec 32 := Scalar.andi v5204 c7_i32_3279
  let v5206 : BitVec 32 := Scalar.subi v5204 v5205
  v5206

def k0_off438 (v5204 : BitVec 32) : Fin 3 → Nat :=
  let c0_3280 : Index := 0#32
  let c7_i32_3279 : BitVec 32 := 7#32
  let v5205 : BitVec 32 := Scalar.andi v5204 c7_i32_3279
  let v5206 : BitVec 32 := Scalar.subi v5204 v5205
  let v5207 : BitVec 32 := v5206
  let v5208 : Index := Scalar.indexCast v5207
  let c0_3281 : Index := 0#32
  ![0, v5208.toNat, 0]

def k0_chk382 (v5204 : BitVec 32) : Prop :=
  (8 ∣ (k0_mult383 v5204).toNat) ∧
  (∀ a, (k0_off438 v5204) a + S1x8x1024.size a ≤ S1x4096x1024.size a)
theorem k0_mult383_dvd : ∀ (v5204 : BitVec 32) (k0_hw382 : k0_chk382 v5204), 8 ∣ (k0_mult383 v5204).toNat := fun v5204 k0_hw382 => k0_hw382.1
theorem k0_off438_inb : ∀ (v5204 : BitVec 32) (k0_hw382 : k0_chk382 v5204), ∀ a, (k0_off438 v5204) a + S1x8x1024.size a ≤ S1x4096x1024.size a := fun v5204 k0_hw382 => k0_hw382.2

def k0_mult384 (v5217 : BitVec 32) : BitVec 32 :=
  let c7_i32_3287 : BitVec 32 := 7#32
  let v5218 : BitVec 32 := Scalar.andi v5217 c7_i32_3287
  let v5219 : BitVec 32 := Scalar.subi v5217 v5218
  v5219

def k0_off439 (v5217 : BitVec 32) : Fin 3 → Nat :=
  let c0_3288 : Index := 0#32
  let c7_i32_3287 : BitVec 32 := 7#32
  let v5218 : BitVec 32 := Scalar.andi v5217 c7_i32_3287
  let v5219 : BitVec 32 := Scalar.subi v5217 v5218
  let v5220 : BitVec 32 := v5219
  let v5221 : Index := Scalar.indexCast v5220
  let c0_3289 : Index := 0#32
  ![0, v5221.toNat, 0]

def k0_chk383 (v5217 : BitVec 32) : Prop :=
  (8 ∣ (k0_mult384 v5217).toNat) ∧
  (∀ a, (k0_off439 v5217) a + S1x8x1024.size a ≤ S1x4096x1024.size a)
theorem k0_mult384_dvd : ∀ (v5217 : BitVec 32) (k0_hw383 : k0_chk383 v5217), 8 ∣ (k0_mult384 v5217).toNat := fun v5217 k0_hw383 => k0_hw383.1
theorem k0_off439_inb : ∀ (v5217 : BitVec 32) (k0_hw383 : k0_chk383 v5217), ∀ a, (k0_off439 v5217) a + S1x8x1024.size a ≤ S1x4096x1024.size a := fun v5217 k0_hw383 => k0_hw383.2

def k0_mult385 (v5230 : BitVec 32) : BitVec 32 :=
  let c7_i32_3295 : BitVec 32 := 7#32
  let v5231 : BitVec 32 := Scalar.andi v5230 c7_i32_3295
  let v5232 : BitVec 32 := Scalar.subi v5230 v5231
  v5232

def k0_off440 (v5230 : BitVec 32) : Fin 3 → Nat :=
  let c0_3296 : Index := 0#32
  let c7_i32_3295 : BitVec 32 := 7#32
  let v5231 : BitVec 32 := Scalar.andi v5230 c7_i32_3295
  let v5232 : BitVec 32 := Scalar.subi v5230 v5231
  let v5233 : BitVec 32 := v5232
  let v5234 : Index := Scalar.indexCast v5233
  let c0_3297 : Index := 0#32
  ![0, v5234.toNat, 0]

def k0_chk384 (v5230 : BitVec 32) : Prop :=
  (8 ∣ (k0_mult385 v5230).toNat) ∧
  (∀ a, (k0_off440 v5230) a + S1x8x1024.size a ≤ S1x4096x1024.size a)
theorem k0_mult385_dvd : ∀ (v5230 : BitVec 32) (k0_hw384 : k0_chk384 v5230), 8 ∣ (k0_mult385 v5230).toNat := fun v5230 k0_hw384 => k0_hw384.1
theorem k0_off440_inb : ∀ (v5230 : BitVec 32) (k0_hw384 : k0_chk384 v5230), ∀ a, (k0_off440 v5230) a + S1x8x1024.size a ≤ S1x4096x1024.size a := fun v5230 k0_hw384 => k0_hw384.2

def k0_off441 (i : grid0.Coords) : Fin 3 → Nat :=
  let c1_i32_3235 : BitVec 32 := 1#32
  let arg1 : BitVec 32 := BitVec.ofNat 32 (i 1).val
  let c1_i32 : BitVec 32 := 1#32
  let v1 : BitVec 32 := Scalar.andi arg1 c1_i32
  let v5137 : BitVec 32 := Scalar.subi c1_i32_3235 v1
  let c0_i32_3301 : BitVec 32 := 0#32
  let c0_i32_3302 : BitVec 32 := 0#32
  ![v5137.toNat, 0, 0]
def k0_mult386 (v5250 : BitVec 32) : BitVec 32 :=
  let c7_i32_3309 : BitVec 32 := 7#32
  let v5251 : BitVec 32 := Scalar.andi v5250 c7_i32_3309
  let v5252 : BitVec 32 := Scalar.subi v5250 v5251
  v5252

def k0_off442 (v5250 : BitVec 32) : Fin 3 → Nat :=
  let c0_3310 : Index := 0#32
  let c7_i32_3309 : BitVec 32 := 7#32
  let v5251 : BitVec 32 := Scalar.andi v5250 c7_i32_3309
  let v5252 : BitVec 32 := Scalar.subi v5250 v5251
  let v5253 : BitVec 32 := v5252
  let v5254 : Index := Scalar.indexCast v5253
  let c0_3311 : Index := 0#32
  ![0, v5254.toNat, 0]

def k0_chk385 (v5250 : BitVec 32) : Prop :=
  (8 ∣ (k0_mult386 v5250).toNat) ∧
  (∀ a, (k0_off442 v5250) a + S1x8x1024.size a ≤ S1x4096x1024.size a)
theorem k0_mult386_dvd : ∀ (v5250 : BitVec 32) (k0_hw385 : k0_chk385 v5250), 8 ∣ (k0_mult386 v5250).toNat := fun v5250 k0_hw385 => k0_hw385.1
theorem k0_off442_inb : ∀ (v5250 : BitVec 32) (k0_hw385 : k0_chk385 v5250), ∀ a, (k0_off442 v5250) a + S1x8x1024.size a ≤ S1x4096x1024.size a := fun v5250 k0_hw385 => k0_hw385.2

def k0_mult387 (v5263 : BitVec 32) : BitVec 32 :=
  let c7_i32_3317 : BitVec 32 := 7#32
  let v5264 : BitVec 32 := Scalar.andi v5263 c7_i32_3317
  let v5265 : BitVec 32 := Scalar.subi v5263 v5264
  v5265

def k0_off443 (v5263 : BitVec 32) : Fin 3 → Nat :=
  let c0_3318 : Index := 0#32
  let c7_i32_3317 : BitVec 32 := 7#32
  let v5264 : BitVec 32 := Scalar.andi v5263 c7_i32_3317
  let v5265 : BitVec 32 := Scalar.subi v5263 v5264
  let v5266 : BitVec 32 := v5265
  let v5267 : Index := Scalar.indexCast v5266
  let c0_3319 : Index := 0#32
  ![0, v5267.toNat, 0]

def k0_chk386 (v5263 : BitVec 32) : Prop :=
  (8 ∣ (k0_mult387 v5263).toNat) ∧
  (∀ a, (k0_off443 v5263) a + S1x8x1024.size a ≤ S1x4096x1024.size a)
theorem k0_mult387_dvd : ∀ (v5263 : BitVec 32) (k0_hw386 : k0_chk386 v5263), 8 ∣ (k0_mult387 v5263).toNat := fun v5263 k0_hw386 => k0_hw386.1
theorem k0_off443_inb : ∀ (v5263 : BitVec 32) (k0_hw386 : k0_chk386 v5263), ∀ a, (k0_off443 v5263) a + S1x8x1024.size a ≤ S1x4096x1024.size a := fun v5263 k0_hw386 => k0_hw386.2

def k0_mult388 (v5276 : BitVec 32) : BitVec 32 :=
  let c7_i32_3325 : BitVec 32 := 7#32
  let v5277 : BitVec 32 := Scalar.andi v5276 c7_i32_3325
  let v5278 : BitVec 32 := Scalar.subi v5276 v5277
  v5278

def k0_off444 (v5276 : BitVec 32) : Fin 3 → Nat :=
  let c0_3326 : Index := 0#32
  let c7_i32_3325 : BitVec 32 := 7#32
  let v5277 : BitVec 32 := Scalar.andi v5276 c7_i32_3325
  let v5278 : BitVec 32 := Scalar.subi v5276 v5277
  let v5279 : BitVec 32 := v5278
  let v5280 : Index := Scalar.indexCast v5279
  let c0_3327 : Index := 0#32
  ![0, v5280.toNat, 0]

def k0_chk387 (v5276 : BitVec 32) : Prop :=
  (8 ∣ (k0_mult388 v5276).toNat) ∧
  (∀ a, (k0_off444 v5276) a + S1x8x1024.size a ≤ S1x4096x1024.size a)
theorem k0_mult388_dvd : ∀ (v5276 : BitVec 32) (k0_hw387 : k0_chk387 v5276), 8 ∣ (k0_mult388 v5276).toNat := fun v5276 k0_hw387 => k0_hw387.1
theorem k0_off444_inb : ∀ (v5276 : BitVec 32) (k0_hw387 : k0_chk387 v5276), ∀ a, (k0_off444 v5276) a + S1x8x1024.size a ≤ S1x4096x1024.size a := fun v5276 k0_hw387 => k0_hw387.2

def k0_mult389 (v5289 : BitVec 32) : BitVec 32 :=
  let c7_i32_3333 : BitVec 32 := 7#32
  let v5290 : BitVec 32 := Scalar.andi v5289 c7_i32_3333
  let v5291 : BitVec 32 := Scalar.subi v5289 v5290
  v5291

def k0_off445 (v5289 : BitVec 32) : Fin 3 → Nat :=
  let c0_3334 : Index := 0#32
  let c7_i32_3333 : BitVec 32 := 7#32
  let v5290 : BitVec 32 := Scalar.andi v5289 c7_i32_3333
  let v5291 : BitVec 32 := Scalar.subi v5289 v5290
  let v5292 : BitVec 32 := v5291
  let v5293 : Index := Scalar.indexCast v5292
  let c0_3335 : Index := 0#32
  ![0, v5293.toNat, 0]

def k0_chk388 (v5289 : BitVec 32) : Prop :=
  (8 ∣ (k0_mult389 v5289).toNat) ∧
  (∀ a, (k0_off445 v5289) a + S1x8x1024.size a ≤ S1x4096x1024.size a)
theorem k0_mult389_dvd : ∀ (v5289 : BitVec 32) (k0_hw388 : k0_chk388 v5289), 8 ∣ (k0_mult389 v5289).toNat := fun v5289 k0_hw388 => k0_hw388.1
theorem k0_off445_inb : ∀ (v5289 : BitVec 32) (k0_hw388 : k0_chk388 v5289), ∀ a, (k0_off445 v5289) a + S1x8x1024.size a ≤ S1x4096x1024.size a := fun v5289 k0_hw388 => k0_hw388.2

def k0_mult390 (v5302 : BitVec 32) : BitVec 32 :=
  let c7_i32_3341 : BitVec 32 := 7#32
  let v5303 : BitVec 32 := Scalar.andi v5302 c7_i32_3341
  let v5304 : BitVec 32 := Scalar.subi v5302 v5303
  v5304

def k0_off446 (v5302 : BitVec 32) : Fin 3 → Nat :=
  let c0_3342 : Index := 0#32
  let c7_i32_3341 : BitVec 32 := 7#32
  let v5303 : BitVec 32 := Scalar.andi v5302 c7_i32_3341
  let v5304 : BitVec 32 := Scalar.subi v5302 v5303
  let v5305 : BitVec 32 := v5304
  let v5306 : Index := Scalar.indexCast v5305
  let c0_3343 : Index := 0#32
  ![0, v5306.toNat, 0]

def k0_chk389 (v5302 : BitVec 32) : Prop :=
  (8 ∣ (k0_mult390 v5302).toNat) ∧
  (∀ a, (k0_off446 v5302) a + S1x8x1024.size a ≤ S1x4096x1024.size a)
theorem k0_mult390_dvd : ∀ (v5302 : BitVec 32) (k0_hw389 : k0_chk389 v5302), 8 ∣ (k0_mult390 v5302).toNat := fun v5302 k0_hw389 => k0_hw389.1
theorem k0_off446_inb : ∀ (v5302 : BitVec 32) (k0_hw389 : k0_chk389 v5302), ∀ a, (k0_off446 v5302) a + S1x8x1024.size a ≤ S1x4096x1024.size a := fun v5302 k0_hw389 => k0_hw389.2

def k0_mult391 (v5315 : BitVec 32) : BitVec 32 :=
  let c7_i32_3349 : BitVec 32 := 7#32
  let v5316 : BitVec 32 := Scalar.andi v5315 c7_i32_3349
  let v5317 : BitVec 32 := Scalar.subi v5315 v5316
  v5317

def k0_off447 (v5315 : BitVec 32) : Fin 3 → Nat :=
  let c0_3350 : Index := 0#32
  let c7_i32_3349 : BitVec 32 := 7#32
  let v5316 : BitVec 32 := Scalar.andi v5315 c7_i32_3349
  let v5317 : BitVec 32 := Scalar.subi v5315 v5316
  let v5318 : BitVec 32 := v5317
  let v5319 : Index := Scalar.indexCast v5318
  let c0_3351 : Index := 0#32
  ![0, v5319.toNat, 0]

def k0_chk390 (v5315 : BitVec 32) : Prop :=
  (8 ∣ (k0_mult391 v5315).toNat) ∧
  (∀ a, (k0_off447 v5315) a + S1x8x1024.size a ≤ S1x4096x1024.size a)
theorem k0_mult391_dvd : ∀ (v5315 : BitVec 32) (k0_hw390 : k0_chk390 v5315), 8 ∣ (k0_mult391 v5315).toNat := fun v5315 k0_hw390 => k0_hw390.1
theorem k0_off447_inb : ∀ (v5315 : BitVec 32) (k0_hw390 : k0_chk390 v5315), ∀ a, (k0_off447 v5315) a + S1x8x1024.size a ≤ S1x4096x1024.size a := fun v5315 k0_hw390 => k0_hw390.2

def k0_mult392 (v5328 : BitVec 32) : BitVec 32 :=
  let c7_i32_3357 : BitVec 32 := 7#32
  let v5329 : BitVec 32 := Scalar.andi v5328 c7_i32_3357
  let v5330 : BitVec 32 := Scalar.subi v5328 v5329
  v5330

def k0_off448 (v5328 : BitVec 32) : Fin 3 → Nat :=
  let c0_3358 : Index := 0#32
  let c7_i32_3357 : BitVec 32 := 7#32
  let v5329 : BitVec 32 := Scalar.andi v5328 c7_i32_3357
  let v5330 : BitVec 32 := Scalar.subi v5328 v5329
  let v5331 : BitVec 32 := v5330
  let v5332 : Index := Scalar.indexCast v5331
  let c0_3359 : Index := 0#32
  ![0, v5332.toNat, 0]

def k0_chk391 (v5328 : BitVec 32) : Prop :=
  (8 ∣ (k0_mult392 v5328).toNat) ∧
  (∀ a, (k0_off448 v5328) a + S1x8x1024.size a ≤ S1x4096x1024.size a)
theorem k0_mult392_dvd : ∀ (v5328 : BitVec 32) (k0_hw391 : k0_chk391 v5328), 8 ∣ (k0_mult392 v5328).toNat := fun v5328 k0_hw391 => k0_hw391.1
theorem k0_off448_inb : ∀ (v5328 : BitVec 32) (k0_hw391 : k0_chk391 v5328), ∀ a, (k0_off448 v5328) a + S1x8x1024.size a ≤ S1x4096x1024.size a := fun v5328 k0_hw391 => k0_hw391.2

def k0_mult393 (v5341 : BitVec 32) : BitVec 32 :=
  let c7_i32_3365 : BitVec 32 := 7#32
  let v5342 : BitVec 32 := Scalar.andi v5341 c7_i32_3365
  let v5343 : BitVec 32 := Scalar.subi v5341 v5342
  v5343

def k0_off449 (v5341 : BitVec 32) : Fin 3 → Nat :=
  let c0_3366 : Index := 0#32
  let c7_i32_3365 : BitVec 32 := 7#32
  let v5342 : BitVec 32 := Scalar.andi v5341 c7_i32_3365
  let v5343 : BitVec 32 := Scalar.subi v5341 v5342
  let v5344 : BitVec 32 := v5343
  let v5345 : Index := Scalar.indexCast v5344
  let c0_3367 : Index := 0#32
  ![0, v5345.toNat, 0]

def k0_chk392 (v5341 : BitVec 32) : Prop :=
  (8 ∣ (k0_mult393 v5341).toNat) ∧
  (∀ a, (k0_off449 v5341) a + S1x8x1024.size a ≤ S1x4096x1024.size a)
theorem k0_mult393_dvd : ∀ (v5341 : BitVec 32) (k0_hw392 : k0_chk392 v5341), 8 ∣ (k0_mult393 v5341).toNat := fun v5341 k0_hw392 => k0_hw392.1
theorem k0_off449_inb : ∀ (v5341 : BitVec 32) (k0_hw392 : k0_chk392 v5341), ∀ a, (k0_off449 v5341) a + S1x8x1024.size a ≤ S1x4096x1024.size a := fun v5341 k0_hw392 => k0_hw392.2

def k0_off450 (i : grid0.Coords) : Fin 3 → Nat :=
  let c1_i32_3305 : BitVec 32 := 1#32
  let arg1 : BitVec 32 := BitVec.ofNat 32 (i 1).val
  let c1_i32 : BitVec 32 := 1#32
  let v1 : BitVec 32 := Scalar.andi arg1 c1_i32
  let v5248 : BitVec 32 := Scalar.subi c1_i32_3305 v1
  let c0_i32_3371 : BitVec 32 := 0#32
  let c0_i32_3372 : BitVec 32 := 0#32
  ![v5248.toNat, 0, 0]
def k0_mult394 (v5361 : BitVec 32) : BitVec 32 :=
  let c7_i32_3379 : BitVec 32 := 7#32
  let v5362 : BitVec 32 := Scalar.andi v5361 c7_i32_3379
  let v5363 : BitVec 32 := Scalar.subi v5361 v5362
  v5363

def k0_off451 (v5361 : BitVec 32) : Fin 3 → Nat :=
  let c0_3380 : Index := 0#32
  let c7_i32_3379 : BitVec 32 := 7#32
  let v5362 : BitVec 32 := Scalar.andi v5361 c7_i32_3379
  let v5363 : BitVec 32 := Scalar.subi v5361 v5362
  let v5364 : BitVec 32 := v5363
  let v5365 : Index := Scalar.indexCast v5364
  let c0_3381 : Index := 0#32
  ![0, v5365.toNat, 0]

def k0_chk393 (v5361 : BitVec 32) : Prop :=
  (8 ∣ (k0_mult394 v5361).toNat) ∧
  (∀ a, (k0_off451 v5361) a + S1x8x1024.size a ≤ S1x4096x1024.size a)
theorem k0_mult394_dvd : ∀ (v5361 : BitVec 32) (k0_hw393 : k0_chk393 v5361), 8 ∣ (k0_mult394 v5361).toNat := fun v5361 k0_hw393 => k0_hw393.1
theorem k0_off451_inb : ∀ (v5361 : BitVec 32) (k0_hw393 : k0_chk393 v5361), ∀ a, (k0_off451 v5361) a + S1x8x1024.size a ≤ S1x4096x1024.size a := fun v5361 k0_hw393 => k0_hw393.2

def k0_mult395 (v5374 : BitVec 32) : BitVec 32 :=
  let c7_i32_3387 : BitVec 32 := 7#32
  let v5375 : BitVec 32 := Scalar.andi v5374 c7_i32_3387
  let v5376 : BitVec 32 := Scalar.subi v5374 v5375
  v5376

def k0_off452 (v5374 : BitVec 32) : Fin 3 → Nat :=
  let c0_3388 : Index := 0#32
  let c7_i32_3387 : BitVec 32 := 7#32
  let v5375 : BitVec 32 := Scalar.andi v5374 c7_i32_3387
  let v5376 : BitVec 32 := Scalar.subi v5374 v5375
  let v5377 : BitVec 32 := v5376
  let v5378 : Index := Scalar.indexCast v5377
  let c0_3389 : Index := 0#32
  ![0, v5378.toNat, 0]

def k0_chk394 (v5374 : BitVec 32) : Prop :=
  (8 ∣ (k0_mult395 v5374).toNat) ∧
  (∀ a, (k0_off452 v5374) a + S1x8x1024.size a ≤ S1x4096x1024.size a)
theorem k0_mult395_dvd : ∀ (v5374 : BitVec 32) (k0_hw394 : k0_chk394 v5374), 8 ∣ (k0_mult395 v5374).toNat := fun v5374 k0_hw394 => k0_hw394.1
theorem k0_off452_inb : ∀ (v5374 : BitVec 32) (k0_hw394 : k0_chk394 v5374), ∀ a, (k0_off452 v5374) a + S1x8x1024.size a ≤ S1x4096x1024.size a := fun v5374 k0_hw394 => k0_hw394.2

def k0_mult396 (v5387 : BitVec 32) : BitVec 32 :=
  let c7_i32_3395 : BitVec 32 := 7#32
  let v5388 : BitVec 32 := Scalar.andi v5387 c7_i32_3395
  let v5389 : BitVec 32 := Scalar.subi v5387 v5388
  v5389

def k0_off453 (v5387 : BitVec 32) : Fin 3 → Nat :=
  let c0_3396 : Index := 0#32
  let c7_i32_3395 : BitVec 32 := 7#32
  let v5388 : BitVec 32 := Scalar.andi v5387 c7_i32_3395
  let v5389 : BitVec 32 := Scalar.subi v5387 v5388
  let v5390 : BitVec 32 := v5389
  let v5391 : Index := Scalar.indexCast v5390
  let c0_3397 : Index := 0#32
  ![0, v5391.toNat, 0]

def k0_chk395 (v5387 : BitVec 32) : Prop :=
  (8 ∣ (k0_mult396 v5387).toNat) ∧
  (∀ a, (k0_off453 v5387) a + S1x8x1024.size a ≤ S1x4096x1024.size a)
theorem k0_mult396_dvd : ∀ (v5387 : BitVec 32) (k0_hw395 : k0_chk395 v5387), 8 ∣ (k0_mult396 v5387).toNat := fun v5387 k0_hw395 => k0_hw395.1
theorem k0_off453_inb : ∀ (v5387 : BitVec 32) (k0_hw395 : k0_chk395 v5387), ∀ a, (k0_off453 v5387) a + S1x8x1024.size a ≤ S1x4096x1024.size a := fun v5387 k0_hw395 => k0_hw395.2

def k0_mult397 (v5400 : BitVec 32) : BitVec 32 :=
  let c7_i32_3403 : BitVec 32 := 7#32
  let v5401 : BitVec 32 := Scalar.andi v5400 c7_i32_3403
  let v5402 : BitVec 32 := Scalar.subi v5400 v5401
  v5402

def k0_off454 (v5400 : BitVec 32) : Fin 3 → Nat :=
  let c0_3404 : Index := 0#32
  let c7_i32_3403 : BitVec 32 := 7#32
  let v5401 : BitVec 32 := Scalar.andi v5400 c7_i32_3403
  let v5402 : BitVec 32 := Scalar.subi v5400 v5401
  let v5403 : BitVec 32 := v5402
  let v5404 : Index := Scalar.indexCast v5403
  let c0_3405 : Index := 0#32
  ![0, v5404.toNat, 0]

def k0_chk396 (v5400 : BitVec 32) : Prop :=
  (8 ∣ (k0_mult397 v5400).toNat) ∧
  (∀ a, (k0_off454 v5400) a + S1x8x1024.size a ≤ S1x4096x1024.size a)
theorem k0_mult397_dvd : ∀ (v5400 : BitVec 32) (k0_hw396 : k0_chk396 v5400), 8 ∣ (k0_mult397 v5400).toNat := fun v5400 k0_hw396 => k0_hw396.1
theorem k0_off454_inb : ∀ (v5400 : BitVec 32) (k0_hw396 : k0_chk396 v5400), ∀ a, (k0_off454 v5400) a + S1x8x1024.size a ≤ S1x4096x1024.size a := fun v5400 k0_hw396 => k0_hw396.2

def k0_mult398 (v5413 : BitVec 32) : BitVec 32 :=
  let c7_i32_3411 : BitVec 32 := 7#32
  let v5414 : BitVec 32 := Scalar.andi v5413 c7_i32_3411
  let v5415 : BitVec 32 := Scalar.subi v5413 v5414
  v5415

def k0_off455 (v5413 : BitVec 32) : Fin 3 → Nat :=
  let c0_3412 : Index := 0#32
  let c7_i32_3411 : BitVec 32 := 7#32
  let v5414 : BitVec 32 := Scalar.andi v5413 c7_i32_3411
  let v5415 : BitVec 32 := Scalar.subi v5413 v5414
  let v5416 : BitVec 32 := v5415
  let v5417 : Index := Scalar.indexCast v5416
  let c0_3413 : Index := 0#32
  ![0, v5417.toNat, 0]

def k0_chk397 (v5413 : BitVec 32) : Prop :=
  (8 ∣ (k0_mult398 v5413).toNat) ∧
  (∀ a, (k0_off455 v5413) a + S1x8x1024.size a ≤ S1x4096x1024.size a)
theorem k0_mult398_dvd : ∀ (v5413 : BitVec 32) (k0_hw397 : k0_chk397 v5413), 8 ∣ (k0_mult398 v5413).toNat := fun v5413 k0_hw397 => k0_hw397.1
theorem k0_off455_inb : ∀ (v5413 : BitVec 32) (k0_hw397 : k0_chk397 v5413), ∀ a, (k0_off455 v5413) a + S1x8x1024.size a ≤ S1x4096x1024.size a := fun v5413 k0_hw397 => k0_hw397.2

def k0_mult399 (v5426 : BitVec 32) : BitVec 32 :=
  let c7_i32_3419 : BitVec 32 := 7#32
  let v5427 : BitVec 32 := Scalar.andi v5426 c7_i32_3419
  let v5428 : BitVec 32 := Scalar.subi v5426 v5427
  v5428

def k0_off456 (v5426 : BitVec 32) : Fin 3 → Nat :=
  let c0_3420 : Index := 0#32
  let c7_i32_3419 : BitVec 32 := 7#32
  let v5427 : BitVec 32 := Scalar.andi v5426 c7_i32_3419
  let v5428 : BitVec 32 := Scalar.subi v5426 v5427
  let v5429 : BitVec 32 := v5428
  let v5430 : Index := Scalar.indexCast v5429
  let c0_3421 : Index := 0#32
  ![0, v5430.toNat, 0]

def k0_chk398 (v5426 : BitVec 32) : Prop :=
  (8 ∣ (k0_mult399 v5426).toNat) ∧
  (∀ a, (k0_off456 v5426) a + S1x8x1024.size a ≤ S1x4096x1024.size a)
theorem k0_mult399_dvd : ∀ (v5426 : BitVec 32) (k0_hw398 : k0_chk398 v5426), 8 ∣ (k0_mult399 v5426).toNat := fun v5426 k0_hw398 => k0_hw398.1
theorem k0_off456_inb : ∀ (v5426 : BitVec 32) (k0_hw398 : k0_chk398 v5426), ∀ a, (k0_off456 v5426) a + S1x8x1024.size a ≤ S1x4096x1024.size a := fun v5426 k0_hw398 => k0_hw398.2

def k0_mult400 (v5439 : BitVec 32) : BitVec 32 :=
  let c7_i32_3427 : BitVec 32 := 7#32
  let v5440 : BitVec 32 := Scalar.andi v5439 c7_i32_3427
  let v5441 : BitVec 32 := Scalar.subi v5439 v5440
  v5441

def k0_off457 (v5439 : BitVec 32) : Fin 3 → Nat :=
  let c0_3428 : Index := 0#32
  let c7_i32_3427 : BitVec 32 := 7#32
  let v5440 : BitVec 32 := Scalar.andi v5439 c7_i32_3427
  let v5441 : BitVec 32 := Scalar.subi v5439 v5440
  let v5442 : BitVec 32 := v5441
  let v5443 : Index := Scalar.indexCast v5442
  let c0_3429 : Index := 0#32
  ![0, v5443.toNat, 0]

def k0_chk399 (v5439 : BitVec 32) : Prop :=
  (8 ∣ (k0_mult400 v5439).toNat) ∧
  (∀ a, (k0_off457 v5439) a + S1x8x1024.size a ≤ S1x4096x1024.size a)
theorem k0_mult400_dvd : ∀ (v5439 : BitVec 32) (k0_hw399 : k0_chk399 v5439), 8 ∣ (k0_mult400 v5439).toNat := fun v5439 k0_hw399 => k0_hw399.1
theorem k0_off457_inb : ∀ (v5439 : BitVec 32) (k0_hw399 : k0_chk399 v5439), ∀ a, (k0_off457 v5439) a + S1x8x1024.size a ≤ S1x4096x1024.size a := fun v5439 k0_hw399 => k0_hw399.2

def k0_mult401 (v5452 : BitVec 32) : BitVec 32 :=
  let c7_i32_3435 : BitVec 32 := 7#32
  let v5453 : BitVec 32 := Scalar.andi v5452 c7_i32_3435
  let v5454 : BitVec 32 := Scalar.subi v5452 v5453
  v5454

def k0_off458 (v5452 : BitVec 32) : Fin 3 → Nat :=
  let c0_3436 : Index := 0#32
  let c7_i32_3435 : BitVec 32 := 7#32
  let v5453 : BitVec 32 := Scalar.andi v5452 c7_i32_3435
  let v5454 : BitVec 32 := Scalar.subi v5452 v5453
  let v5455 : BitVec 32 := v5454
  let v5456 : Index := Scalar.indexCast v5455
  let c0_3437 : Index := 0#32
  ![0, v5456.toNat, 0]

def k0_chk400 (v5452 : BitVec 32) : Prop :=
  (8 ∣ (k0_mult401 v5452).toNat) ∧
  (∀ a, (k0_off458 v5452) a + S1x8x1024.size a ≤ S1x4096x1024.size a)
theorem k0_mult401_dvd : ∀ (v5452 : BitVec 32) (k0_hw400 : k0_chk400 v5452), 8 ∣ (k0_mult401 v5452).toNat := fun v5452 k0_hw400 => k0_hw400.1
theorem k0_off458_inb : ∀ (v5452 : BitVec 32) (k0_hw400 : k0_chk400 v5452), ∀ a, (k0_off458 v5452) a + S1x8x1024.size a ≤ S1x4096x1024.size a := fun v5452 k0_hw400 => k0_hw400.2

def k0_off459 (i : grid0.Coords) : Fin 3 → Nat :=
  let c1_i32_3375 : BitVec 32 := 1#32
  let arg1 : BitVec 32 := BitVec.ofNat 32 (i 1).val
  let c1_i32 : BitVec 32 := 1#32
  let v1 : BitVec 32 := Scalar.andi arg1 c1_i32
  let v5359 : BitVec 32 := Scalar.subi c1_i32_3375 v1
  let c0_i32_3441 : BitVec 32 := 0#32
  let c0_i32_3442 : BitVec 32 := 0#32
  ![v5359.toNat, 0, 0]
def k0_mult402 (v5472 : BitVec 32) : BitVec 32 :=
  let c7_i32_3449 : BitVec 32 := 7#32
  let v5473 : BitVec 32 := Scalar.andi v5472 c7_i32_3449
  let v5474 : BitVec 32 := Scalar.subi v5472 v5473
  v5474

def k0_off460 (v5472 : BitVec 32) : Fin 3 → Nat :=
  let c0_3450 : Index := 0#32
  let c7_i32_3449 : BitVec 32 := 7#32
  let v5473 : BitVec 32 := Scalar.andi v5472 c7_i32_3449
  let v5474 : BitVec 32 := Scalar.subi v5472 v5473
  let v5475 : BitVec 32 := v5474
  let v5476 : Index := Scalar.indexCast v5475
  let c0_3451 : Index := 0#32
  ![0, v5476.toNat, 0]

def k0_chk401 (v5472 : BitVec 32) : Prop :=
  (8 ∣ (k0_mult402 v5472).toNat) ∧
  (∀ a, (k0_off460 v5472) a + S1x8x1024.size a ≤ S1x4096x1024.size a)
theorem k0_mult402_dvd : ∀ (v5472 : BitVec 32) (k0_hw401 : k0_chk401 v5472), 8 ∣ (k0_mult402 v5472).toNat := fun v5472 k0_hw401 => k0_hw401.1
theorem k0_off460_inb : ∀ (v5472 : BitVec 32) (k0_hw401 : k0_chk401 v5472), ∀ a, (k0_off460 v5472) a + S1x8x1024.size a ≤ S1x4096x1024.size a := fun v5472 k0_hw401 => k0_hw401.2

def k0_mult403 (v5485 : BitVec 32) : BitVec 32 :=
  let c7_i32_3457 : BitVec 32 := 7#32
  let v5486 : BitVec 32 := Scalar.andi v5485 c7_i32_3457
  let v5487 : BitVec 32 := Scalar.subi v5485 v5486
  v5487

def k0_off461 (v5485 : BitVec 32) : Fin 3 → Nat :=
  let c0_3458 : Index := 0#32
  let c7_i32_3457 : BitVec 32 := 7#32
  let v5486 : BitVec 32 := Scalar.andi v5485 c7_i32_3457
  let v5487 : BitVec 32 := Scalar.subi v5485 v5486
  let v5488 : BitVec 32 := v5487
  let v5489 : Index := Scalar.indexCast v5488
  let c0_3459 : Index := 0#32
  ![0, v5489.toNat, 0]

def k0_chk402 (v5485 : BitVec 32) : Prop :=
  (8 ∣ (k0_mult403 v5485).toNat) ∧
  (∀ a, (k0_off461 v5485) a + S1x8x1024.size a ≤ S1x4096x1024.size a)
theorem k0_mult403_dvd : ∀ (v5485 : BitVec 32) (k0_hw402 : k0_chk402 v5485), 8 ∣ (k0_mult403 v5485).toNat := fun v5485 k0_hw402 => k0_hw402.1
theorem k0_off461_inb : ∀ (v5485 : BitVec 32) (k0_hw402 : k0_chk402 v5485), ∀ a, (k0_off461 v5485) a + S1x8x1024.size a ≤ S1x4096x1024.size a := fun v5485 k0_hw402 => k0_hw402.2

def k0_mult404 (v5498 : BitVec 32) : BitVec 32 :=
  let c7_i32_3465 : BitVec 32 := 7#32
  let v5499 : BitVec 32 := Scalar.andi v5498 c7_i32_3465
  let v5500 : BitVec 32 := Scalar.subi v5498 v5499
  v5500

def k0_off462 (v5498 : BitVec 32) : Fin 3 → Nat :=
  let c0_3466 : Index := 0#32
  let c7_i32_3465 : BitVec 32 := 7#32
  let v5499 : BitVec 32 := Scalar.andi v5498 c7_i32_3465
  let v5500 : BitVec 32 := Scalar.subi v5498 v5499
  let v5501 : BitVec 32 := v5500
  let v5502 : Index := Scalar.indexCast v5501
  let c0_3467 : Index := 0#32
  ![0, v5502.toNat, 0]

def k0_chk403 (v5498 : BitVec 32) : Prop :=
  (8 ∣ (k0_mult404 v5498).toNat) ∧
  (∀ a, (k0_off462 v5498) a + S1x8x1024.size a ≤ S1x4096x1024.size a)
theorem k0_mult404_dvd : ∀ (v5498 : BitVec 32) (k0_hw403 : k0_chk403 v5498), 8 ∣ (k0_mult404 v5498).toNat := fun v5498 k0_hw403 => k0_hw403.1
theorem k0_off462_inb : ∀ (v5498 : BitVec 32) (k0_hw403 : k0_chk403 v5498), ∀ a, (k0_off462 v5498) a + S1x8x1024.size a ≤ S1x4096x1024.size a := fun v5498 k0_hw403 => k0_hw403.2

def k0_mult405 (v5511 : BitVec 32) : BitVec 32 :=
  let c7_i32_3473 : BitVec 32 := 7#32
  let v5512 : BitVec 32 := Scalar.andi v5511 c7_i32_3473
  let v5513 : BitVec 32 := Scalar.subi v5511 v5512
  v5513

def k0_off463 (v5511 : BitVec 32) : Fin 3 → Nat :=
  let c0_3474 : Index := 0#32
  let c7_i32_3473 : BitVec 32 := 7#32
  let v5512 : BitVec 32 := Scalar.andi v5511 c7_i32_3473
  let v5513 : BitVec 32 := Scalar.subi v5511 v5512
  let v5514 : BitVec 32 := v5513
  let v5515 : Index := Scalar.indexCast v5514
  let c0_3475 : Index := 0#32
  ![0, v5515.toNat, 0]

def k0_chk404 (v5511 : BitVec 32) : Prop :=
  (8 ∣ (k0_mult405 v5511).toNat) ∧
  (∀ a, (k0_off463 v5511) a + S1x8x1024.size a ≤ S1x4096x1024.size a)
theorem k0_mult405_dvd : ∀ (v5511 : BitVec 32) (k0_hw404 : k0_chk404 v5511), 8 ∣ (k0_mult405 v5511).toNat := fun v5511 k0_hw404 => k0_hw404.1
theorem k0_off463_inb : ∀ (v5511 : BitVec 32) (k0_hw404 : k0_chk404 v5511), ∀ a, (k0_off463 v5511) a + S1x8x1024.size a ≤ S1x4096x1024.size a := fun v5511 k0_hw404 => k0_hw404.2

def k0_mult406 (v5524 : BitVec 32) : BitVec 32 :=
  let c7_i32_3481 : BitVec 32 := 7#32
  let v5525 : BitVec 32 := Scalar.andi v5524 c7_i32_3481
  let v5526 : BitVec 32 := Scalar.subi v5524 v5525
  v5526

def k0_off464 (v5524 : BitVec 32) : Fin 3 → Nat :=
  let c0_3482 : Index := 0#32
  let c7_i32_3481 : BitVec 32 := 7#32
  let v5525 : BitVec 32 := Scalar.andi v5524 c7_i32_3481
  let v5526 : BitVec 32 := Scalar.subi v5524 v5525
  let v5527 : BitVec 32 := v5526
  let v5528 : Index := Scalar.indexCast v5527
  let c0_3483 : Index := 0#32
  ![0, v5528.toNat, 0]

def k0_chk405 (v5524 : BitVec 32) : Prop :=
  (8 ∣ (k0_mult406 v5524).toNat) ∧
  (∀ a, (k0_off464 v5524) a + S1x8x1024.size a ≤ S1x4096x1024.size a)
theorem k0_mult406_dvd : ∀ (v5524 : BitVec 32) (k0_hw405 : k0_chk405 v5524), 8 ∣ (k0_mult406 v5524).toNat := fun v5524 k0_hw405 => k0_hw405.1
theorem k0_off464_inb : ∀ (v5524 : BitVec 32) (k0_hw405 : k0_chk405 v5524), ∀ a, (k0_off464 v5524) a + S1x8x1024.size a ≤ S1x4096x1024.size a := fun v5524 k0_hw405 => k0_hw405.2

def k0_mult407 (v5537 : BitVec 32) : BitVec 32 :=
  let c7_i32_3489 : BitVec 32 := 7#32
  let v5538 : BitVec 32 := Scalar.andi v5537 c7_i32_3489
  let v5539 : BitVec 32 := Scalar.subi v5537 v5538
  v5539

def k0_off465 (v5537 : BitVec 32) : Fin 3 → Nat :=
  let c0_3490 : Index := 0#32
  let c7_i32_3489 : BitVec 32 := 7#32
  let v5538 : BitVec 32 := Scalar.andi v5537 c7_i32_3489
  let v5539 : BitVec 32 := Scalar.subi v5537 v5538
  let v5540 : BitVec 32 := v5539
  let v5541 : Index := Scalar.indexCast v5540
  let c0_3491 : Index := 0#32
  ![0, v5541.toNat, 0]

def k0_chk406 (v5537 : BitVec 32) : Prop :=
  (8 ∣ (k0_mult407 v5537).toNat) ∧
  (∀ a, (k0_off465 v5537) a + S1x8x1024.size a ≤ S1x4096x1024.size a)
theorem k0_mult407_dvd : ∀ (v5537 : BitVec 32) (k0_hw406 : k0_chk406 v5537), 8 ∣ (k0_mult407 v5537).toNat := fun v5537 k0_hw406 => k0_hw406.1
theorem k0_off465_inb : ∀ (v5537 : BitVec 32) (k0_hw406 : k0_chk406 v5537), ∀ a, (k0_off465 v5537) a + S1x8x1024.size a ≤ S1x4096x1024.size a := fun v5537 k0_hw406 => k0_hw406.2

def k0_mult408 (v5550 : BitVec 32) : BitVec 32 :=
  let c7_i32_3497 : BitVec 32 := 7#32
  let v5551 : BitVec 32 := Scalar.andi v5550 c7_i32_3497
  let v5552 : BitVec 32 := Scalar.subi v5550 v5551
  v5552

def k0_off466 (v5550 : BitVec 32) : Fin 3 → Nat :=
  let c0_3498 : Index := 0#32
  let c7_i32_3497 : BitVec 32 := 7#32
  let v5551 : BitVec 32 := Scalar.andi v5550 c7_i32_3497
  let v5552 : BitVec 32 := Scalar.subi v5550 v5551
  let v5553 : BitVec 32 := v5552
  let v5554 : Index := Scalar.indexCast v5553
  let c0_3499 : Index := 0#32
  ![0, v5554.toNat, 0]

def k0_chk407 (v5550 : BitVec 32) : Prop :=
  (8 ∣ (k0_mult408 v5550).toNat) ∧
  (∀ a, (k0_off466 v5550) a + S1x8x1024.size a ≤ S1x4096x1024.size a)
theorem k0_mult408_dvd : ∀ (v5550 : BitVec 32) (k0_hw407 : k0_chk407 v5550), 8 ∣ (k0_mult408 v5550).toNat := fun v5550 k0_hw407 => k0_hw407.1
theorem k0_off466_inb : ∀ (v5550 : BitVec 32) (k0_hw407 : k0_chk407 v5550), ∀ a, (k0_off466 v5550) a + S1x8x1024.size a ≤ S1x4096x1024.size a := fun v5550 k0_hw407 => k0_hw407.2

def k0_mult409 (v5563 : BitVec 32) : BitVec 32 :=
  let c7_i32_3505 : BitVec 32 := 7#32
  let v5564 : BitVec 32 := Scalar.andi v5563 c7_i32_3505
  let v5565 : BitVec 32 := Scalar.subi v5563 v5564
  v5565

def k0_off467 (v5563 : BitVec 32) : Fin 3 → Nat :=
  let c0_3506 : Index := 0#32
  let c7_i32_3505 : BitVec 32 := 7#32
  let v5564 : BitVec 32 := Scalar.andi v5563 c7_i32_3505
  let v5565 : BitVec 32 := Scalar.subi v5563 v5564
  let v5566 : BitVec 32 := v5565
  let v5567 : Index := Scalar.indexCast v5566
  let c0_3507 : Index := 0#32
  ![0, v5567.toNat, 0]

def k0_chk408 (v5563 : BitVec 32) : Prop :=
  (8 ∣ (k0_mult409 v5563).toNat) ∧
  (∀ a, (k0_off467 v5563) a + S1x8x1024.size a ≤ S1x4096x1024.size a)
theorem k0_mult409_dvd : ∀ (v5563 : BitVec 32) (k0_hw408 : k0_chk408 v5563), 8 ∣ (k0_mult409 v5563).toNat := fun v5563 k0_hw408 => k0_hw408.1
theorem k0_off467_inb : ∀ (v5563 : BitVec 32) (k0_hw408 : k0_chk408 v5563), ∀ a, (k0_off467 v5563) a + S1x8x1024.size a ≤ S1x4096x1024.size a := fun v5563 k0_hw408 => k0_hw408.2

def k0_off468 (i : grid0.Coords) : Fin 3 → Nat :=
  let c1_i32_3445 : BitVec 32 := 1#32
  let arg1 : BitVec 32 := BitVec.ofNat 32 (i 1).val
  let c1_i32 : BitVec 32 := 1#32
  let v1 : BitVec 32 := Scalar.andi arg1 c1_i32
  let v5470 : BitVec 32 := Scalar.subi c1_i32_3445 v1
  let c0_i32_3511 : BitVec 32 := 0#32
  let c0_i32_3512 : BitVec 32 := 0#32
  ![v5470.toNat, 0, 0]
def k0_mult410 (v5583 : BitVec 32) : BitVec 32 :=
  let c7_i32_3519 : BitVec 32 := 7#32
  let v5584 : BitVec 32 := Scalar.andi v5583 c7_i32_3519
  let v5585 : BitVec 32 := Scalar.subi v5583 v5584
  v5585

def k0_off469 (v5583 : BitVec 32) : Fin 3 → Nat :=
  let c0_3520 : Index := 0#32
  let c7_i32_3519 : BitVec 32 := 7#32
  let v5584 : BitVec 32 := Scalar.andi v5583 c7_i32_3519
  let v5585 : BitVec 32 := Scalar.subi v5583 v5584
  let v5586 : BitVec 32 := v5585
  let v5587 : Index := Scalar.indexCast v5586
  let c0_3521 : Index := 0#32
  ![0, v5587.toNat, 0]

def k0_chk409 (v5583 : BitVec 32) : Prop :=
  (8 ∣ (k0_mult410 v5583).toNat) ∧
  (∀ a, (k0_off469 v5583) a + S1x8x1024.size a ≤ S1x4096x1024.size a)
theorem k0_mult410_dvd : ∀ (v5583 : BitVec 32) (k0_hw409 : k0_chk409 v5583), 8 ∣ (k0_mult410 v5583).toNat := fun v5583 k0_hw409 => k0_hw409.1
theorem k0_off469_inb : ∀ (v5583 : BitVec 32) (k0_hw409 : k0_chk409 v5583), ∀ a, (k0_off469 v5583) a + S1x8x1024.size a ≤ S1x4096x1024.size a := fun v5583 k0_hw409 => k0_hw409.2

def k0_mult411 (v5596 : BitVec 32) : BitVec 32 :=
  let c7_i32_3527 : BitVec 32 := 7#32
  let v5597 : BitVec 32 := Scalar.andi v5596 c7_i32_3527
  let v5598 : BitVec 32 := Scalar.subi v5596 v5597
  v5598

def k0_off470 (v5596 : BitVec 32) : Fin 3 → Nat :=
  let c0_3528 : Index := 0#32
  let c7_i32_3527 : BitVec 32 := 7#32
  let v5597 : BitVec 32 := Scalar.andi v5596 c7_i32_3527
  let v5598 : BitVec 32 := Scalar.subi v5596 v5597
  let v5599 : BitVec 32 := v5598
  let v5600 : Index := Scalar.indexCast v5599
  let c0_3529 : Index := 0#32
  ![0, v5600.toNat, 0]

def k0_chk410 (v5596 : BitVec 32) : Prop :=
  (8 ∣ (k0_mult411 v5596).toNat) ∧
  (∀ a, (k0_off470 v5596) a + S1x8x1024.size a ≤ S1x4096x1024.size a)
theorem k0_mult411_dvd : ∀ (v5596 : BitVec 32) (k0_hw410 : k0_chk410 v5596), 8 ∣ (k0_mult411 v5596).toNat := fun v5596 k0_hw410 => k0_hw410.1
theorem k0_off470_inb : ∀ (v5596 : BitVec 32) (k0_hw410 : k0_chk410 v5596), ∀ a, (k0_off470 v5596) a + S1x8x1024.size a ≤ S1x4096x1024.size a := fun v5596 k0_hw410 => k0_hw410.2

def k0_mult412 (v5609 : BitVec 32) : BitVec 32 :=
  let c7_i32_3535 : BitVec 32 := 7#32
  let v5610 : BitVec 32 := Scalar.andi v5609 c7_i32_3535
  let v5611 : BitVec 32 := Scalar.subi v5609 v5610
  v5611

def k0_off471 (v5609 : BitVec 32) : Fin 3 → Nat :=
  let c0_3536 : Index := 0#32
  let c7_i32_3535 : BitVec 32 := 7#32
  let v5610 : BitVec 32 := Scalar.andi v5609 c7_i32_3535
  let v5611 : BitVec 32 := Scalar.subi v5609 v5610
  let v5612 : BitVec 32 := v5611
  let v5613 : Index := Scalar.indexCast v5612
  let c0_3537 : Index := 0#32
  ![0, v5613.toNat, 0]

def k0_chk411 (v5609 : BitVec 32) : Prop :=
  (8 ∣ (k0_mult412 v5609).toNat) ∧
  (∀ a, (k0_off471 v5609) a + S1x8x1024.size a ≤ S1x4096x1024.size a)
theorem k0_mult412_dvd : ∀ (v5609 : BitVec 32) (k0_hw411 : k0_chk411 v5609), 8 ∣ (k0_mult412 v5609).toNat := fun v5609 k0_hw411 => k0_hw411.1
theorem k0_off471_inb : ∀ (v5609 : BitVec 32) (k0_hw411 : k0_chk411 v5609), ∀ a, (k0_off471 v5609) a + S1x8x1024.size a ≤ S1x4096x1024.size a := fun v5609 k0_hw411 => k0_hw411.2

def k0_mult413 (v5622 : BitVec 32) : BitVec 32 :=
  let c7_i32_3543 : BitVec 32 := 7#32
  let v5623 : BitVec 32 := Scalar.andi v5622 c7_i32_3543
  let v5624 : BitVec 32 := Scalar.subi v5622 v5623
  v5624

def k0_off472 (v5622 : BitVec 32) : Fin 3 → Nat :=
  let c0_3544 : Index := 0#32
  let c7_i32_3543 : BitVec 32 := 7#32
  let v5623 : BitVec 32 := Scalar.andi v5622 c7_i32_3543
  let v5624 : BitVec 32 := Scalar.subi v5622 v5623
  let v5625 : BitVec 32 := v5624
  let v5626 : Index := Scalar.indexCast v5625
  let c0_3545 : Index := 0#32
  ![0, v5626.toNat, 0]

def k0_chk412 (v5622 : BitVec 32) : Prop :=
  (8 ∣ (k0_mult413 v5622).toNat) ∧
  (∀ a, (k0_off472 v5622) a + S1x8x1024.size a ≤ S1x4096x1024.size a)
theorem k0_mult413_dvd : ∀ (v5622 : BitVec 32) (k0_hw412 : k0_chk412 v5622), 8 ∣ (k0_mult413 v5622).toNat := fun v5622 k0_hw412 => k0_hw412.1
theorem k0_off472_inb : ∀ (v5622 : BitVec 32) (k0_hw412 : k0_chk412 v5622), ∀ a, (k0_off472 v5622) a + S1x8x1024.size a ≤ S1x4096x1024.size a := fun v5622 k0_hw412 => k0_hw412.2

def k0_mult414 (v5635 : BitVec 32) : BitVec 32 :=
  let c7_i32_3551 : BitVec 32 := 7#32
  let v5636 : BitVec 32 := Scalar.andi v5635 c7_i32_3551
  let v5637 : BitVec 32 := Scalar.subi v5635 v5636
  v5637

def k0_off473 (v5635 : BitVec 32) : Fin 3 → Nat :=
  let c0_3552 : Index := 0#32
  let c7_i32_3551 : BitVec 32 := 7#32
  let v5636 : BitVec 32 := Scalar.andi v5635 c7_i32_3551
  let v5637 : BitVec 32 := Scalar.subi v5635 v5636
  let v5638 : BitVec 32 := v5637
  let v5639 : Index := Scalar.indexCast v5638
  let c0_3553 : Index := 0#32
  ![0, v5639.toNat, 0]

def k0_chk413 (v5635 : BitVec 32) : Prop :=
  (8 ∣ (k0_mult414 v5635).toNat) ∧
  (∀ a, (k0_off473 v5635) a + S1x8x1024.size a ≤ S1x4096x1024.size a)
theorem k0_mult414_dvd : ∀ (v5635 : BitVec 32) (k0_hw413 : k0_chk413 v5635), 8 ∣ (k0_mult414 v5635).toNat := fun v5635 k0_hw413 => k0_hw413.1
theorem k0_off473_inb : ∀ (v5635 : BitVec 32) (k0_hw413 : k0_chk413 v5635), ∀ a, (k0_off473 v5635) a + S1x8x1024.size a ≤ S1x4096x1024.size a := fun v5635 k0_hw413 => k0_hw413.2

def k0_mult415 (v5648 : BitVec 32) : BitVec 32 :=
  let c7_i32_3559 : BitVec 32 := 7#32
  let v5649 : BitVec 32 := Scalar.andi v5648 c7_i32_3559
  let v5650 : BitVec 32 := Scalar.subi v5648 v5649
  v5650

def k0_off474 (v5648 : BitVec 32) : Fin 3 → Nat :=
  let c0_3560 : Index := 0#32
  let c7_i32_3559 : BitVec 32 := 7#32
  let v5649 : BitVec 32 := Scalar.andi v5648 c7_i32_3559
  let v5650 : BitVec 32 := Scalar.subi v5648 v5649
  let v5651 : BitVec 32 := v5650
  let v5652 : Index := Scalar.indexCast v5651
  let c0_3561 : Index := 0#32
  ![0, v5652.toNat, 0]

def k0_chk414 (v5648 : BitVec 32) : Prop :=
  (8 ∣ (k0_mult415 v5648).toNat) ∧
  (∀ a, (k0_off474 v5648) a + S1x8x1024.size a ≤ S1x4096x1024.size a)
theorem k0_mult415_dvd : ∀ (v5648 : BitVec 32) (k0_hw414 : k0_chk414 v5648), 8 ∣ (k0_mult415 v5648).toNat := fun v5648 k0_hw414 => k0_hw414.1
theorem k0_off474_inb : ∀ (v5648 : BitVec 32) (k0_hw414 : k0_chk414 v5648), ∀ a, (k0_off474 v5648) a + S1x8x1024.size a ≤ S1x4096x1024.size a := fun v5648 k0_hw414 => k0_hw414.2

def k0_mult416 (v5661 : BitVec 32) : BitVec 32 :=
  let c7_i32_3567 : BitVec 32 := 7#32
  let v5662 : BitVec 32 := Scalar.andi v5661 c7_i32_3567
  let v5663 : BitVec 32 := Scalar.subi v5661 v5662
  v5663

def k0_off475 (v5661 : BitVec 32) : Fin 3 → Nat :=
  let c0_3568 : Index := 0#32
  let c7_i32_3567 : BitVec 32 := 7#32
  let v5662 : BitVec 32 := Scalar.andi v5661 c7_i32_3567
  let v5663 : BitVec 32 := Scalar.subi v5661 v5662
  let v5664 : BitVec 32 := v5663
  let v5665 : Index := Scalar.indexCast v5664
  let c0_3569 : Index := 0#32
  ![0, v5665.toNat, 0]

def k0_chk415 (v5661 : BitVec 32) : Prop :=
  (8 ∣ (k0_mult416 v5661).toNat) ∧
  (∀ a, (k0_off475 v5661) a + S1x8x1024.size a ≤ S1x4096x1024.size a)
theorem k0_mult416_dvd : ∀ (v5661 : BitVec 32) (k0_hw415 : k0_chk415 v5661), 8 ∣ (k0_mult416 v5661).toNat := fun v5661 k0_hw415 => k0_hw415.1
theorem k0_off475_inb : ∀ (v5661 : BitVec 32) (k0_hw415 : k0_chk415 v5661), ∀ a, (k0_off475 v5661) a + S1x8x1024.size a ≤ S1x4096x1024.size a := fun v5661 k0_hw415 => k0_hw415.2

def k0_mult417 (v5674 : BitVec 32) : BitVec 32 :=
  let c7_i32_3575 : BitVec 32 := 7#32
  let v5675 : BitVec 32 := Scalar.andi v5674 c7_i32_3575
  let v5676 : BitVec 32 := Scalar.subi v5674 v5675
  v5676

def k0_off476 (v5674 : BitVec 32) : Fin 3 → Nat :=
  let c0_3576 : Index := 0#32
  let c7_i32_3575 : BitVec 32 := 7#32
  let v5675 : BitVec 32 := Scalar.andi v5674 c7_i32_3575
  let v5676 : BitVec 32 := Scalar.subi v5674 v5675
  let v5677 : BitVec 32 := v5676
  let v5678 : Index := Scalar.indexCast v5677
  let c0_3577 : Index := 0#32
  ![0, v5678.toNat, 0]

def k0_chk416 (v5674 : BitVec 32) : Prop :=
  (8 ∣ (k0_mult417 v5674).toNat) ∧
  (∀ a, (k0_off476 v5674) a + S1x8x1024.size a ≤ S1x4096x1024.size a)
theorem k0_mult417_dvd : ∀ (v5674 : BitVec 32) (k0_hw416 : k0_chk416 v5674), 8 ∣ (k0_mult417 v5674).toNat := fun v5674 k0_hw416 => k0_hw416.1
theorem k0_off476_inb : ∀ (v5674 : BitVec 32) (k0_hw416 : k0_chk416 v5674), ∀ a, (k0_off476 v5674) a + S1x8x1024.size a ≤ S1x4096x1024.size a := fun v5674 k0_hw416 => k0_hw416.2

def k0_off477 (i : grid0.Coords) : Fin 3 → Nat :=
  let c1_i32_3515 : BitVec 32 := 1#32
  let arg1 : BitVec 32 := BitVec.ofNat 32 (i 1).val
  let c1_i32 : BitVec 32 := 1#32
  let v1 : BitVec 32 := Scalar.andi arg1 c1_i32
  let v5581 : BitVec 32 := Scalar.subi c1_i32_3515 v1
  let c0_i32_3581 : BitVec 32 := 0#32
  let c0_i32_3582 : BitVec 32 := 0#32
  ![v5581.toNat, 0, 0]
def k0_mult418 (v5694 : BitVec 32) : BitVec 32 :=
  let c7_i32_3589 : BitVec 32 := 7#32
  let v5695 : BitVec 32 := Scalar.andi v5694 c7_i32_3589
  let v5696 : BitVec 32 := Scalar.subi v5694 v5695
  v5696

def k0_off478 (v5694 : BitVec 32) : Fin 3 → Nat :=
  let c0_3590 : Index := 0#32
  let c7_i32_3589 : BitVec 32 := 7#32
  let v5695 : BitVec 32 := Scalar.andi v5694 c7_i32_3589
  let v5696 : BitVec 32 := Scalar.subi v5694 v5695
  let v5697 : BitVec 32 := v5696
  let v5698 : Index := Scalar.indexCast v5697
  let c0_3591 : Index := 0#32
  ![0, v5698.toNat, 0]

def k0_chk417 (v5694 : BitVec 32) : Prop :=
  (8 ∣ (k0_mult418 v5694).toNat) ∧
  (∀ a, (k0_off478 v5694) a + S1x8x1024.size a ≤ S1x4096x1024.size a)
theorem k0_mult418_dvd : ∀ (v5694 : BitVec 32) (k0_hw417 : k0_chk417 v5694), 8 ∣ (k0_mult418 v5694).toNat := fun v5694 k0_hw417 => k0_hw417.1
theorem k0_off478_inb : ∀ (v5694 : BitVec 32) (k0_hw417 : k0_chk417 v5694), ∀ a, (k0_off478 v5694) a + S1x8x1024.size a ≤ S1x4096x1024.size a := fun v5694 k0_hw417 => k0_hw417.2

def k0_mult419 (v5707 : BitVec 32) : BitVec 32 :=
  let c7_i32_3597 : BitVec 32 := 7#32
  let v5708 : BitVec 32 := Scalar.andi v5707 c7_i32_3597
  let v5709 : BitVec 32 := Scalar.subi v5707 v5708
  v5709

def k0_off479 (v5707 : BitVec 32) : Fin 3 → Nat :=
  let c0_3598 : Index := 0#32
  let c7_i32_3597 : BitVec 32 := 7#32
  let v5708 : BitVec 32 := Scalar.andi v5707 c7_i32_3597
  let v5709 : BitVec 32 := Scalar.subi v5707 v5708
  let v5710 : BitVec 32 := v5709
  let v5711 : Index := Scalar.indexCast v5710
  let c0_3599 : Index := 0#32
  ![0, v5711.toNat, 0]

def k0_chk418 (v5707 : BitVec 32) : Prop :=
  (8 ∣ (k0_mult419 v5707).toNat) ∧
  (∀ a, (k0_off479 v5707) a + S1x8x1024.size a ≤ S1x4096x1024.size a)
theorem k0_mult419_dvd : ∀ (v5707 : BitVec 32) (k0_hw418 : k0_chk418 v5707), 8 ∣ (k0_mult419 v5707).toNat := fun v5707 k0_hw418 => k0_hw418.1
theorem k0_off479_inb : ∀ (v5707 : BitVec 32) (k0_hw418 : k0_chk418 v5707), ∀ a, (k0_off479 v5707) a + S1x8x1024.size a ≤ S1x4096x1024.size a := fun v5707 k0_hw418 => k0_hw418.2

def k0_mult420 (v5720 : BitVec 32) : BitVec 32 :=
  let c7_i32_3605 : BitVec 32 := 7#32
  let v5721 : BitVec 32 := Scalar.andi v5720 c7_i32_3605
  let v5722 : BitVec 32 := Scalar.subi v5720 v5721
  v5722

def k0_off480 (v5720 : BitVec 32) : Fin 3 → Nat :=
  let c0_3606 : Index := 0#32
  let c7_i32_3605 : BitVec 32 := 7#32
  let v5721 : BitVec 32 := Scalar.andi v5720 c7_i32_3605
  let v5722 : BitVec 32 := Scalar.subi v5720 v5721
  let v5723 : BitVec 32 := v5722
  let v5724 : Index := Scalar.indexCast v5723
  let c0_3607 : Index := 0#32
  ![0, v5724.toNat, 0]

def k0_chk419 (v5720 : BitVec 32) : Prop :=
  (8 ∣ (k0_mult420 v5720).toNat) ∧
  (∀ a, (k0_off480 v5720) a + S1x8x1024.size a ≤ S1x4096x1024.size a)
theorem k0_mult420_dvd : ∀ (v5720 : BitVec 32) (k0_hw419 : k0_chk419 v5720), 8 ∣ (k0_mult420 v5720).toNat := fun v5720 k0_hw419 => k0_hw419.1
theorem k0_off480_inb : ∀ (v5720 : BitVec 32) (k0_hw419 : k0_chk419 v5720), ∀ a, (k0_off480 v5720) a + S1x8x1024.size a ≤ S1x4096x1024.size a := fun v5720 k0_hw419 => k0_hw419.2

def k0_mult421 (v5733 : BitVec 32) : BitVec 32 :=
  let c7_i32_3613 : BitVec 32 := 7#32
  let v5734 : BitVec 32 := Scalar.andi v5733 c7_i32_3613
  let v5735 : BitVec 32 := Scalar.subi v5733 v5734
  v5735

def k0_off481 (v5733 : BitVec 32) : Fin 3 → Nat :=
  let c0_3614 : Index := 0#32
  let c7_i32_3613 : BitVec 32 := 7#32
  let v5734 : BitVec 32 := Scalar.andi v5733 c7_i32_3613
  let v5735 : BitVec 32 := Scalar.subi v5733 v5734
  let v5736 : BitVec 32 := v5735
  let v5737 : Index := Scalar.indexCast v5736
  let c0_3615 : Index := 0#32
  ![0, v5737.toNat, 0]

def k0_chk420 (v5733 : BitVec 32) : Prop :=
  (8 ∣ (k0_mult421 v5733).toNat) ∧
  (∀ a, (k0_off481 v5733) a + S1x8x1024.size a ≤ S1x4096x1024.size a)
theorem k0_mult421_dvd : ∀ (v5733 : BitVec 32) (k0_hw420 : k0_chk420 v5733), 8 ∣ (k0_mult421 v5733).toNat := fun v5733 k0_hw420 => k0_hw420.1
theorem k0_off481_inb : ∀ (v5733 : BitVec 32) (k0_hw420 : k0_chk420 v5733), ∀ a, (k0_off481 v5733) a + S1x8x1024.size a ≤ S1x4096x1024.size a := fun v5733 k0_hw420 => k0_hw420.2

def k0_mult422 (v5746 : BitVec 32) : BitVec 32 :=
  let c7_i32_3621 : BitVec 32 := 7#32
  let v5747 : BitVec 32 := Scalar.andi v5746 c7_i32_3621
  let v5748 : BitVec 32 := Scalar.subi v5746 v5747
  v5748

def k0_off482 (v5746 : BitVec 32) : Fin 3 → Nat :=
  let c0_3622 : Index := 0#32
  let c7_i32_3621 : BitVec 32 := 7#32
  let v5747 : BitVec 32 := Scalar.andi v5746 c7_i32_3621
  let v5748 : BitVec 32 := Scalar.subi v5746 v5747
  let v5749 : BitVec 32 := v5748
  let v5750 : Index := Scalar.indexCast v5749
  let c0_3623 : Index := 0#32
  ![0, v5750.toNat, 0]

def k0_chk421 (v5746 : BitVec 32) : Prop :=
  (8 ∣ (k0_mult422 v5746).toNat) ∧
  (∀ a, (k0_off482 v5746) a + S1x8x1024.size a ≤ S1x4096x1024.size a)
theorem k0_mult422_dvd : ∀ (v5746 : BitVec 32) (k0_hw421 : k0_chk421 v5746), 8 ∣ (k0_mult422 v5746).toNat := fun v5746 k0_hw421 => k0_hw421.1
theorem k0_off482_inb : ∀ (v5746 : BitVec 32) (k0_hw421 : k0_chk421 v5746), ∀ a, (k0_off482 v5746) a + S1x8x1024.size a ≤ S1x4096x1024.size a := fun v5746 k0_hw421 => k0_hw421.2

def k0_mult423 (v5759 : BitVec 32) : BitVec 32 :=
  let c7_i32_3629 : BitVec 32 := 7#32
  let v5760 : BitVec 32 := Scalar.andi v5759 c7_i32_3629
  let v5761 : BitVec 32 := Scalar.subi v5759 v5760
  v5761

def k0_off483 (v5759 : BitVec 32) : Fin 3 → Nat :=
  let c0_3630 : Index := 0#32
  let c7_i32_3629 : BitVec 32 := 7#32
  let v5760 : BitVec 32 := Scalar.andi v5759 c7_i32_3629
  let v5761 : BitVec 32 := Scalar.subi v5759 v5760
  let v5762 : BitVec 32 := v5761
  let v5763 : Index := Scalar.indexCast v5762
  let c0_3631 : Index := 0#32
  ![0, v5763.toNat, 0]

def k0_chk422 (v5759 : BitVec 32) : Prop :=
  (8 ∣ (k0_mult423 v5759).toNat) ∧
  (∀ a, (k0_off483 v5759) a + S1x8x1024.size a ≤ S1x4096x1024.size a)
theorem k0_mult423_dvd : ∀ (v5759 : BitVec 32) (k0_hw422 : k0_chk422 v5759), 8 ∣ (k0_mult423 v5759).toNat := fun v5759 k0_hw422 => k0_hw422.1
theorem k0_off483_inb : ∀ (v5759 : BitVec 32) (k0_hw422 : k0_chk422 v5759), ∀ a, (k0_off483 v5759) a + S1x8x1024.size a ≤ S1x4096x1024.size a := fun v5759 k0_hw422 => k0_hw422.2

def k0_mult424 (v5772 : BitVec 32) : BitVec 32 :=
  let c7_i32_3637 : BitVec 32 := 7#32
  let v5773 : BitVec 32 := Scalar.andi v5772 c7_i32_3637
  let v5774 : BitVec 32 := Scalar.subi v5772 v5773
  v5774

def k0_off484 (v5772 : BitVec 32) : Fin 3 → Nat :=
  let c0_3638 : Index := 0#32
  let c7_i32_3637 : BitVec 32 := 7#32
  let v5773 : BitVec 32 := Scalar.andi v5772 c7_i32_3637
  let v5774 : BitVec 32 := Scalar.subi v5772 v5773
  let v5775 : BitVec 32 := v5774
  let v5776 : Index := Scalar.indexCast v5775
  let c0_3639 : Index := 0#32
  ![0, v5776.toNat, 0]

def k0_chk423 (v5772 : BitVec 32) : Prop :=
  (8 ∣ (k0_mult424 v5772).toNat) ∧
  (∀ a, (k0_off484 v5772) a + S1x8x1024.size a ≤ S1x4096x1024.size a)
theorem k0_mult424_dvd : ∀ (v5772 : BitVec 32) (k0_hw423 : k0_chk423 v5772), 8 ∣ (k0_mult424 v5772).toNat := fun v5772 k0_hw423 => k0_hw423.1
theorem k0_off484_inb : ∀ (v5772 : BitVec 32) (k0_hw423 : k0_chk423 v5772), ∀ a, (k0_off484 v5772) a + S1x8x1024.size a ≤ S1x4096x1024.size a := fun v5772 k0_hw423 => k0_hw423.2

def k0_mult425 (v5785 : BitVec 32) : BitVec 32 :=
  let c7_i32_3645 : BitVec 32 := 7#32
  let v5786 : BitVec 32 := Scalar.andi v5785 c7_i32_3645
  let v5787 : BitVec 32 := Scalar.subi v5785 v5786
  v5787

def k0_off485 (v5785 : BitVec 32) : Fin 3 → Nat :=
  let c0_3646 : Index := 0#32
  let c7_i32_3645 : BitVec 32 := 7#32
  let v5786 : BitVec 32 := Scalar.andi v5785 c7_i32_3645
  let v5787 : BitVec 32 := Scalar.subi v5785 v5786
  let v5788 : BitVec 32 := v5787
  let v5789 : Index := Scalar.indexCast v5788
  let c0_3647 : Index := 0#32
  ![0, v5789.toNat, 0]

def k0_chk424 (v5785 : BitVec 32) : Prop :=
  (8 ∣ (k0_mult425 v5785).toNat) ∧
  (∀ a, (k0_off485 v5785) a + S1x8x1024.size a ≤ S1x4096x1024.size a)
theorem k0_mult425_dvd : ∀ (v5785 : BitVec 32) (k0_hw424 : k0_chk424 v5785), 8 ∣ (k0_mult425 v5785).toNat := fun v5785 k0_hw424 => k0_hw424.1
theorem k0_off485_inb : ∀ (v5785 : BitVec 32) (k0_hw424 : k0_chk424 v5785), ∀ a, (k0_off485 v5785) a + S1x8x1024.size a ≤ S1x4096x1024.size a := fun v5785 k0_hw424 => k0_hw424.2

def k0_off486 (i : grid0.Coords) : Fin 3 → Nat :=
  let c1_i32_3585 : BitVec 32 := 1#32
  let arg1 : BitVec 32 := BitVec.ofNat 32 (i 1).val
  let c1_i32 : BitVec 32 := 1#32
  let v1 : BitVec 32 := Scalar.andi arg1 c1_i32
  let v5692 : BitVec 32 := Scalar.subi c1_i32_3585 v1
  let c0_i32_3651 : BitVec 32 := 0#32
  let c0_i32_3652 : BitVec 32 := 0#32
  ![v5692.toNat, 0, 0]
def k0_mult426 (v5805 : BitVec 32) : BitVec 32 :=
  let c7_i32_3659 : BitVec 32 := 7#32
  let v5806 : BitVec 32 := Scalar.andi v5805 c7_i32_3659
  let v5807 : BitVec 32 := Scalar.subi v5805 v5806
  v5807

def k0_off487 (v5805 : BitVec 32) : Fin 3 → Nat :=
  let c0_3660 : Index := 0#32
  let c7_i32_3659 : BitVec 32 := 7#32
  let v5806 : BitVec 32 := Scalar.andi v5805 c7_i32_3659
  let v5807 : BitVec 32 := Scalar.subi v5805 v5806
  let v5808 : BitVec 32 := v5807
  let v5809 : Index := Scalar.indexCast v5808
  let c0_3661 : Index := 0#32
  ![0, v5809.toNat, 0]

def k0_chk425 (v5805 : BitVec 32) : Prop :=
  (8 ∣ (k0_mult426 v5805).toNat) ∧
  (∀ a, (k0_off487 v5805) a + S1x8x1024.size a ≤ S1x4096x1024.size a)
theorem k0_mult426_dvd : ∀ (v5805 : BitVec 32) (k0_hw425 : k0_chk425 v5805), 8 ∣ (k0_mult426 v5805).toNat := fun v5805 k0_hw425 => k0_hw425.1
theorem k0_off487_inb : ∀ (v5805 : BitVec 32) (k0_hw425 : k0_chk425 v5805), ∀ a, (k0_off487 v5805) a + S1x8x1024.size a ≤ S1x4096x1024.size a := fun v5805 k0_hw425 => k0_hw425.2

def k0_mult427 (v5818 : BitVec 32) : BitVec 32 :=
  let c7_i32_3667 : BitVec 32 := 7#32
  let v5819 : BitVec 32 := Scalar.andi v5818 c7_i32_3667
  let v5820 : BitVec 32 := Scalar.subi v5818 v5819
  v5820

def k0_off488 (v5818 : BitVec 32) : Fin 3 → Nat :=
  let c0_3668 : Index := 0#32
  let c7_i32_3667 : BitVec 32 := 7#32
  let v5819 : BitVec 32 := Scalar.andi v5818 c7_i32_3667
  let v5820 : BitVec 32 := Scalar.subi v5818 v5819
  let v5821 : BitVec 32 := v5820
  let v5822 : Index := Scalar.indexCast v5821
  let c0_3669 : Index := 0#32
  ![0, v5822.toNat, 0]

def k0_chk426 (v5818 : BitVec 32) : Prop :=
  (8 ∣ (k0_mult427 v5818).toNat) ∧
  (∀ a, (k0_off488 v5818) a + S1x8x1024.size a ≤ S1x4096x1024.size a)
theorem k0_mult427_dvd : ∀ (v5818 : BitVec 32) (k0_hw426 : k0_chk426 v5818), 8 ∣ (k0_mult427 v5818).toNat := fun v5818 k0_hw426 => k0_hw426.1
theorem k0_off488_inb : ∀ (v5818 : BitVec 32) (k0_hw426 : k0_chk426 v5818), ∀ a, (k0_off488 v5818) a + S1x8x1024.size a ≤ S1x4096x1024.size a := fun v5818 k0_hw426 => k0_hw426.2

def k0_mult428 (v5831 : BitVec 32) : BitVec 32 :=
  let c7_i32_3675 : BitVec 32 := 7#32
  let v5832 : BitVec 32 := Scalar.andi v5831 c7_i32_3675
  let v5833 : BitVec 32 := Scalar.subi v5831 v5832
  v5833

def k0_off489 (v5831 : BitVec 32) : Fin 3 → Nat :=
  let c0_3676 : Index := 0#32
  let c7_i32_3675 : BitVec 32 := 7#32
  let v5832 : BitVec 32 := Scalar.andi v5831 c7_i32_3675
  let v5833 : BitVec 32 := Scalar.subi v5831 v5832
  let v5834 : BitVec 32 := v5833
  let v5835 : Index := Scalar.indexCast v5834
  let c0_3677 : Index := 0#32
  ![0, v5835.toNat, 0]

def k0_chk427 (v5831 : BitVec 32) : Prop :=
  (8 ∣ (k0_mult428 v5831).toNat) ∧
  (∀ a, (k0_off489 v5831) a + S1x8x1024.size a ≤ S1x4096x1024.size a)
theorem k0_mult428_dvd : ∀ (v5831 : BitVec 32) (k0_hw427 : k0_chk427 v5831), 8 ∣ (k0_mult428 v5831).toNat := fun v5831 k0_hw427 => k0_hw427.1
theorem k0_off489_inb : ∀ (v5831 : BitVec 32) (k0_hw427 : k0_chk427 v5831), ∀ a, (k0_off489 v5831) a + S1x8x1024.size a ≤ S1x4096x1024.size a := fun v5831 k0_hw427 => k0_hw427.2

def k0_mult429 (v5844 : BitVec 32) : BitVec 32 :=
  let c7_i32_3683 : BitVec 32 := 7#32
  let v5845 : BitVec 32 := Scalar.andi v5844 c7_i32_3683
  let v5846 : BitVec 32 := Scalar.subi v5844 v5845
  v5846

def k0_off490 (v5844 : BitVec 32) : Fin 3 → Nat :=
  let c0_3684 : Index := 0#32
  let c7_i32_3683 : BitVec 32 := 7#32
  let v5845 : BitVec 32 := Scalar.andi v5844 c7_i32_3683
  let v5846 : BitVec 32 := Scalar.subi v5844 v5845
  let v5847 : BitVec 32 := v5846
  let v5848 : Index := Scalar.indexCast v5847
  let c0_3685 : Index := 0#32
  ![0, v5848.toNat, 0]

def k0_chk428 (v5844 : BitVec 32) : Prop :=
  (8 ∣ (k0_mult429 v5844).toNat) ∧
  (∀ a, (k0_off490 v5844) a + S1x8x1024.size a ≤ S1x4096x1024.size a)
theorem k0_mult429_dvd : ∀ (v5844 : BitVec 32) (k0_hw428 : k0_chk428 v5844), 8 ∣ (k0_mult429 v5844).toNat := fun v5844 k0_hw428 => k0_hw428.1
theorem k0_off490_inb : ∀ (v5844 : BitVec 32) (k0_hw428 : k0_chk428 v5844), ∀ a, (k0_off490 v5844) a + S1x8x1024.size a ≤ S1x4096x1024.size a := fun v5844 k0_hw428 => k0_hw428.2

def k0_mult430 (v5857 : BitVec 32) : BitVec 32 :=
  let c7_i32_3691 : BitVec 32 := 7#32
  let v5858 : BitVec 32 := Scalar.andi v5857 c7_i32_3691
  let v5859 : BitVec 32 := Scalar.subi v5857 v5858
  v5859

def k0_off491 (v5857 : BitVec 32) : Fin 3 → Nat :=
  let c0_3692 : Index := 0#32
  let c7_i32_3691 : BitVec 32 := 7#32
  let v5858 : BitVec 32 := Scalar.andi v5857 c7_i32_3691
  let v5859 : BitVec 32 := Scalar.subi v5857 v5858
  let v5860 : BitVec 32 := v5859
  let v5861 : Index := Scalar.indexCast v5860
  let c0_3693 : Index := 0#32
  ![0, v5861.toNat, 0]

def k0_chk429 (v5857 : BitVec 32) : Prop :=
  (8 ∣ (k0_mult430 v5857).toNat) ∧
  (∀ a, (k0_off491 v5857) a + S1x8x1024.size a ≤ S1x4096x1024.size a)
theorem k0_mult430_dvd : ∀ (v5857 : BitVec 32) (k0_hw429 : k0_chk429 v5857), 8 ∣ (k0_mult430 v5857).toNat := fun v5857 k0_hw429 => k0_hw429.1
theorem k0_off491_inb : ∀ (v5857 : BitVec 32) (k0_hw429 : k0_chk429 v5857), ∀ a, (k0_off491 v5857) a + S1x8x1024.size a ≤ S1x4096x1024.size a := fun v5857 k0_hw429 => k0_hw429.2

def k0_mult431 (v5870 : BitVec 32) : BitVec 32 :=
  let c7_i32_3699 : BitVec 32 := 7#32
  let v5871 : BitVec 32 := Scalar.andi v5870 c7_i32_3699
  let v5872 : BitVec 32 := Scalar.subi v5870 v5871
  v5872

def k0_off492 (v5870 : BitVec 32) : Fin 3 → Nat :=
  let c0_3700 : Index := 0#32
  let c7_i32_3699 : BitVec 32 := 7#32
  let v5871 : BitVec 32 := Scalar.andi v5870 c7_i32_3699
  let v5872 : BitVec 32 := Scalar.subi v5870 v5871
  let v5873 : BitVec 32 := v5872
  let v5874 : Index := Scalar.indexCast v5873
  let c0_3701 : Index := 0#32
  ![0, v5874.toNat, 0]

def k0_chk430 (v5870 : BitVec 32) : Prop :=
  (8 ∣ (k0_mult431 v5870).toNat) ∧
  (∀ a, (k0_off492 v5870) a + S1x8x1024.size a ≤ S1x4096x1024.size a)
theorem k0_mult431_dvd : ∀ (v5870 : BitVec 32) (k0_hw430 : k0_chk430 v5870), 8 ∣ (k0_mult431 v5870).toNat := fun v5870 k0_hw430 => k0_hw430.1
theorem k0_off492_inb : ∀ (v5870 : BitVec 32) (k0_hw430 : k0_chk430 v5870), ∀ a, (k0_off492 v5870) a + S1x8x1024.size a ≤ S1x4096x1024.size a := fun v5870 k0_hw430 => k0_hw430.2

def k0_mult432 (v5883 : BitVec 32) : BitVec 32 :=
  let c7_i32_3707 : BitVec 32 := 7#32
  let v5884 : BitVec 32 := Scalar.andi v5883 c7_i32_3707
  let v5885 : BitVec 32 := Scalar.subi v5883 v5884
  v5885

def k0_off493 (v5883 : BitVec 32) : Fin 3 → Nat :=
  let c0_3708 : Index := 0#32
  let c7_i32_3707 : BitVec 32 := 7#32
  let v5884 : BitVec 32 := Scalar.andi v5883 c7_i32_3707
  let v5885 : BitVec 32 := Scalar.subi v5883 v5884
  let v5886 : BitVec 32 := v5885
  let v5887 : Index := Scalar.indexCast v5886
  let c0_3709 : Index := 0#32
  ![0, v5887.toNat, 0]

def k0_chk431 (v5883 : BitVec 32) : Prop :=
  (8 ∣ (k0_mult432 v5883).toNat) ∧
  (∀ a, (k0_off493 v5883) a + S1x8x1024.size a ≤ S1x4096x1024.size a)
theorem k0_mult432_dvd : ∀ (v5883 : BitVec 32) (k0_hw431 : k0_chk431 v5883), 8 ∣ (k0_mult432 v5883).toNat := fun v5883 k0_hw431 => k0_hw431.1
theorem k0_off493_inb : ∀ (v5883 : BitVec 32) (k0_hw431 : k0_chk431 v5883), ∀ a, (k0_off493 v5883) a + S1x8x1024.size a ≤ S1x4096x1024.size a := fun v5883 k0_hw431 => k0_hw431.2

def k0_mult433 (v5896 : BitVec 32) : BitVec 32 :=
  let c7_i32_3715 : BitVec 32 := 7#32
  let v5897 : BitVec 32 := Scalar.andi v5896 c7_i32_3715
  let v5898 : BitVec 32 := Scalar.subi v5896 v5897
  v5898

def k0_off494 (v5896 : BitVec 32) : Fin 3 → Nat :=
  let c0_3716 : Index := 0#32
  let c7_i32_3715 : BitVec 32 := 7#32
  let v5897 : BitVec 32 := Scalar.andi v5896 c7_i32_3715
  let v5898 : BitVec 32 := Scalar.subi v5896 v5897
  let v5899 : BitVec 32 := v5898
  let v5900 : Index := Scalar.indexCast v5899
  let c0_3717 : Index := 0#32
  ![0, v5900.toNat, 0]

def k0_chk432 (v5896 : BitVec 32) : Prop :=
  (8 ∣ (k0_mult433 v5896).toNat) ∧
  (∀ a, (k0_off494 v5896) a + S1x8x1024.size a ≤ S1x4096x1024.size a)
theorem k0_mult433_dvd : ∀ (v5896 : BitVec 32) (k0_hw432 : k0_chk432 v5896), 8 ∣ (k0_mult433 v5896).toNat := fun v5896 k0_hw432 => k0_hw432.1
theorem k0_off494_inb : ∀ (v5896 : BitVec 32) (k0_hw432 : k0_chk432 v5896), ∀ a, (k0_off494 v5896) a + S1x8x1024.size a ≤ S1x4096x1024.size a := fun v5896 k0_hw432 => k0_hw432.2

def k0_off495 (i : grid0.Coords) : Fin 3 → Nat :=
  let c1_i32_3655 : BitVec 32 := 1#32
  let arg1 : BitVec 32 := BitVec.ofNat 32 (i 1).val
  let c1_i32 : BitVec 32 := 1#32
  let v1 : BitVec 32 := Scalar.andi arg1 c1_i32
  let v5803 : BitVec 32 := Scalar.subi c1_i32_3655 v1
  let c0_i32_3721 : BitVec 32 := 0#32
  let c0_i32_3722 : BitVec 32 := 0#32
  ![v5803.toNat, 0, 0]
def k0_mult434 (v5916 : BitVec 32) : BitVec 32 :=
  let c7_i32_3729 : BitVec 32 := 7#32
  let v5917 : BitVec 32 := Scalar.andi v5916 c7_i32_3729
  let v5918 : BitVec 32 := Scalar.subi v5916 v5917
  v5918

def k0_off496 (v5916 : BitVec 32) : Fin 3 → Nat :=
  let c0_3730 : Index := 0#32
  let c7_i32_3729 : BitVec 32 := 7#32
  let v5917 : BitVec 32 := Scalar.andi v5916 c7_i32_3729
  let v5918 : BitVec 32 := Scalar.subi v5916 v5917
  let v5919 : BitVec 32 := v5918
  let v5920 : Index := Scalar.indexCast v5919
  let c0_3731 : Index := 0#32
  ![0, v5920.toNat, 0]

def k0_chk433 (v5916 : BitVec 32) : Prop :=
  (8 ∣ (k0_mult434 v5916).toNat) ∧
  (∀ a, (k0_off496 v5916) a + S1x8x1024.size a ≤ S1x4096x1024.size a)
theorem k0_mult434_dvd : ∀ (v5916 : BitVec 32) (k0_hw433 : k0_chk433 v5916), 8 ∣ (k0_mult434 v5916).toNat := fun v5916 k0_hw433 => k0_hw433.1
theorem k0_off496_inb : ∀ (v5916 : BitVec 32) (k0_hw433 : k0_chk433 v5916), ∀ a, (k0_off496 v5916) a + S1x8x1024.size a ≤ S1x4096x1024.size a := fun v5916 k0_hw433 => k0_hw433.2

def k0_mult435 (v5929 : BitVec 32) : BitVec 32 :=
  let c7_i32_3737 : BitVec 32 := 7#32
  let v5930 : BitVec 32 := Scalar.andi v5929 c7_i32_3737
  let v5931 : BitVec 32 := Scalar.subi v5929 v5930
  v5931

def k0_off497 (v5929 : BitVec 32) : Fin 3 → Nat :=
  let c0_3738 : Index := 0#32
  let c7_i32_3737 : BitVec 32 := 7#32
  let v5930 : BitVec 32 := Scalar.andi v5929 c7_i32_3737
  let v5931 : BitVec 32 := Scalar.subi v5929 v5930
  let v5932 : BitVec 32 := v5931
  let v5933 : Index := Scalar.indexCast v5932
  let c0_3739 : Index := 0#32
  ![0, v5933.toNat, 0]

def k0_chk434 (v5929 : BitVec 32) : Prop :=
  (8 ∣ (k0_mult435 v5929).toNat) ∧
  (∀ a, (k0_off497 v5929) a + S1x8x1024.size a ≤ S1x4096x1024.size a)
theorem k0_mult435_dvd : ∀ (v5929 : BitVec 32) (k0_hw434 : k0_chk434 v5929), 8 ∣ (k0_mult435 v5929).toNat := fun v5929 k0_hw434 => k0_hw434.1
theorem k0_off497_inb : ∀ (v5929 : BitVec 32) (k0_hw434 : k0_chk434 v5929), ∀ a, (k0_off497 v5929) a + S1x8x1024.size a ≤ S1x4096x1024.size a := fun v5929 k0_hw434 => k0_hw434.2

def k0_mult436 (v5942 : BitVec 32) : BitVec 32 :=
  let c7_i32_3745 : BitVec 32 := 7#32
  let v5943 : BitVec 32 := Scalar.andi v5942 c7_i32_3745
  let v5944 : BitVec 32 := Scalar.subi v5942 v5943
  v5944

def k0_off498 (v5942 : BitVec 32) : Fin 3 → Nat :=
  let c0_3746 : Index := 0#32
  let c7_i32_3745 : BitVec 32 := 7#32
  let v5943 : BitVec 32 := Scalar.andi v5942 c7_i32_3745
  let v5944 : BitVec 32 := Scalar.subi v5942 v5943
  let v5945 : BitVec 32 := v5944
  let v5946 : Index := Scalar.indexCast v5945
  let c0_3747 : Index := 0#32
  ![0, v5946.toNat, 0]

def k0_chk435 (v5942 : BitVec 32) : Prop :=
  (8 ∣ (k0_mult436 v5942).toNat) ∧
  (∀ a, (k0_off498 v5942) a + S1x8x1024.size a ≤ S1x4096x1024.size a)
theorem k0_mult436_dvd : ∀ (v5942 : BitVec 32) (k0_hw435 : k0_chk435 v5942), 8 ∣ (k0_mult436 v5942).toNat := fun v5942 k0_hw435 => k0_hw435.1
theorem k0_off498_inb : ∀ (v5942 : BitVec 32) (k0_hw435 : k0_chk435 v5942), ∀ a, (k0_off498 v5942) a + S1x8x1024.size a ≤ S1x4096x1024.size a := fun v5942 k0_hw435 => k0_hw435.2

def k0_mult437 (v5955 : BitVec 32) : BitVec 32 :=
  let c7_i32_3753 : BitVec 32 := 7#32
  let v5956 : BitVec 32 := Scalar.andi v5955 c7_i32_3753
  let v5957 : BitVec 32 := Scalar.subi v5955 v5956
  v5957

def k0_off499 (v5955 : BitVec 32) : Fin 3 → Nat :=
  let c0_3754 : Index := 0#32
  let c7_i32_3753 : BitVec 32 := 7#32
  let v5956 : BitVec 32 := Scalar.andi v5955 c7_i32_3753
  let v5957 : BitVec 32 := Scalar.subi v5955 v5956
  let v5958 : BitVec 32 := v5957
  let v5959 : Index := Scalar.indexCast v5958
  let c0_3755 : Index := 0#32
  ![0, v5959.toNat, 0]

def k0_chk436 (v5955 : BitVec 32) : Prop :=
  (8 ∣ (k0_mult437 v5955).toNat) ∧
  (∀ a, (k0_off499 v5955) a + S1x8x1024.size a ≤ S1x4096x1024.size a)
theorem k0_mult437_dvd : ∀ (v5955 : BitVec 32) (k0_hw436 : k0_chk436 v5955), 8 ∣ (k0_mult437 v5955).toNat := fun v5955 k0_hw436 => k0_hw436.1
theorem k0_off499_inb : ∀ (v5955 : BitVec 32) (k0_hw436 : k0_chk436 v5955), ∀ a, (k0_off499 v5955) a + S1x8x1024.size a ≤ S1x4096x1024.size a := fun v5955 k0_hw436 => k0_hw436.2

def k0_mult438 (v5968 : BitVec 32) : BitVec 32 :=
  let c7_i32_3761 : BitVec 32 := 7#32
  let v5969 : BitVec 32 := Scalar.andi v5968 c7_i32_3761
  let v5970 : BitVec 32 := Scalar.subi v5968 v5969
  v5970

def k0_off500 (v5968 : BitVec 32) : Fin 3 → Nat :=
  let c0_3762 : Index := 0#32
  let c7_i32_3761 : BitVec 32 := 7#32
  let v5969 : BitVec 32 := Scalar.andi v5968 c7_i32_3761
  let v5970 : BitVec 32 := Scalar.subi v5968 v5969
  let v5971 : BitVec 32 := v5970
  let v5972 : Index := Scalar.indexCast v5971
  let c0_3763 : Index := 0#32
  ![0, v5972.toNat, 0]

def k0_chk437 (v5968 : BitVec 32) : Prop :=
  (8 ∣ (k0_mult438 v5968).toNat) ∧
  (∀ a, (k0_off500 v5968) a + S1x8x1024.size a ≤ S1x4096x1024.size a)
theorem k0_mult438_dvd : ∀ (v5968 : BitVec 32) (k0_hw437 : k0_chk437 v5968), 8 ∣ (k0_mult438 v5968).toNat := fun v5968 k0_hw437 => k0_hw437.1
theorem k0_off500_inb : ∀ (v5968 : BitVec 32) (k0_hw437 : k0_chk437 v5968), ∀ a, (k0_off500 v5968) a + S1x8x1024.size a ≤ S1x4096x1024.size a := fun v5968 k0_hw437 => k0_hw437.2

def k0_mult439 (v5981 : BitVec 32) : BitVec 32 :=
  let c7_i32_3769 : BitVec 32 := 7#32
  let v5982 : BitVec 32 := Scalar.andi v5981 c7_i32_3769
  let v5983 : BitVec 32 := Scalar.subi v5981 v5982
  v5983

def k0_off501 (v5981 : BitVec 32) : Fin 3 → Nat :=
  let c0_3770 : Index := 0#32
  let c7_i32_3769 : BitVec 32 := 7#32
  let v5982 : BitVec 32 := Scalar.andi v5981 c7_i32_3769
  let v5983 : BitVec 32 := Scalar.subi v5981 v5982
  let v5984 : BitVec 32 := v5983
  let v5985 : Index := Scalar.indexCast v5984
  let c0_3771 : Index := 0#32
  ![0, v5985.toNat, 0]

def k0_chk438 (v5981 : BitVec 32) : Prop :=
  (8 ∣ (k0_mult439 v5981).toNat) ∧
  (∀ a, (k0_off501 v5981) a + S1x8x1024.size a ≤ S1x4096x1024.size a)
theorem k0_mult439_dvd : ∀ (v5981 : BitVec 32) (k0_hw438 : k0_chk438 v5981), 8 ∣ (k0_mult439 v5981).toNat := fun v5981 k0_hw438 => k0_hw438.1
theorem k0_off501_inb : ∀ (v5981 : BitVec 32) (k0_hw438 : k0_chk438 v5981), ∀ a, (k0_off501 v5981) a + S1x8x1024.size a ≤ S1x4096x1024.size a := fun v5981 k0_hw438 => k0_hw438.2

def k0_mult440 (v5994 : BitVec 32) : BitVec 32 :=
  let c7_i32_3777 : BitVec 32 := 7#32
  let v5995 : BitVec 32 := Scalar.andi v5994 c7_i32_3777
  let v5996 : BitVec 32 := Scalar.subi v5994 v5995
  v5996

def k0_off502 (v5994 : BitVec 32) : Fin 3 → Nat :=
  let c0_3778 : Index := 0#32
  let c7_i32_3777 : BitVec 32 := 7#32
  let v5995 : BitVec 32 := Scalar.andi v5994 c7_i32_3777
  let v5996 : BitVec 32 := Scalar.subi v5994 v5995
  let v5997 : BitVec 32 := v5996
  let v5998 : Index := Scalar.indexCast v5997
  let c0_3779 : Index := 0#32
  ![0, v5998.toNat, 0]

def k0_chk439 (v5994 : BitVec 32) : Prop :=
  (8 ∣ (k0_mult440 v5994).toNat) ∧
  (∀ a, (k0_off502 v5994) a + S1x8x1024.size a ≤ S1x4096x1024.size a)
theorem k0_mult440_dvd : ∀ (v5994 : BitVec 32) (k0_hw439 : k0_chk439 v5994), 8 ∣ (k0_mult440 v5994).toNat := fun v5994 k0_hw439 => k0_hw439.1
theorem k0_off502_inb : ∀ (v5994 : BitVec 32) (k0_hw439 : k0_chk439 v5994), ∀ a, (k0_off502 v5994) a + S1x8x1024.size a ≤ S1x4096x1024.size a := fun v5994 k0_hw439 => k0_hw439.2

def k0_mult441 (v6007 : BitVec 32) : BitVec 32 :=
  let c7_i32_3785 : BitVec 32 := 7#32
  let v6008 : BitVec 32 := Scalar.andi v6007 c7_i32_3785
  let v6009 : BitVec 32 := Scalar.subi v6007 v6008
  v6009

def k0_off503 (v6007 : BitVec 32) : Fin 3 → Nat :=
  let c0_3786 : Index := 0#32
  let c7_i32_3785 : BitVec 32 := 7#32
  let v6008 : BitVec 32 := Scalar.andi v6007 c7_i32_3785
  let v6009 : BitVec 32 := Scalar.subi v6007 v6008
  let v6010 : BitVec 32 := v6009
  let v6011 : Index := Scalar.indexCast v6010
  let c0_3787 : Index := 0#32
  ![0, v6011.toNat, 0]

def k0_chk440 (v6007 : BitVec 32) : Prop :=
  (8 ∣ (k0_mult441 v6007).toNat) ∧
  (∀ a, (k0_off503 v6007) a + S1x8x1024.size a ≤ S1x4096x1024.size a)
theorem k0_mult441_dvd : ∀ (v6007 : BitVec 32) (k0_hw440 : k0_chk440 v6007), 8 ∣ (k0_mult441 v6007).toNat := fun v6007 k0_hw440 => k0_hw440.1
theorem k0_off503_inb : ∀ (v6007 : BitVec 32) (k0_hw440 : k0_chk440 v6007), ∀ a, (k0_off503 v6007) a + S1x8x1024.size a ≤ S1x4096x1024.size a := fun v6007 k0_hw440 => k0_hw440.2

def k0_off504 (i : grid0.Coords) : Fin 3 → Nat :=
  let c1_i32_3725 : BitVec 32 := 1#32
  let arg1 : BitVec 32 := BitVec.ofNat 32 (i 1).val
  let c1_i32 : BitVec 32 := 1#32
  let v1 : BitVec 32 := Scalar.andi arg1 c1_i32
  let v5914 : BitVec 32 := Scalar.subi c1_i32_3725 v1
  let c0_i32_3791 : BitVec 32 := 0#32
  let c0_i32_3792 : BitVec 32 := 0#32
  ![v5914.toNat, 0, 0]
def k0_mult442 (v6027 : BitVec 32) : BitVec 32 :=
  let c7_i32_3799 : BitVec 32 := 7#32
  let v6028 : BitVec 32 := Scalar.andi v6027 c7_i32_3799
  let v6029 : BitVec 32 := Scalar.subi v6027 v6028
  v6029

def k0_off505 (v6027 : BitVec 32) : Fin 3 → Nat :=
  let c0_3800 : Index := 0#32
  let c7_i32_3799 : BitVec 32 := 7#32
  let v6028 : BitVec 32 := Scalar.andi v6027 c7_i32_3799
  let v6029 : BitVec 32 := Scalar.subi v6027 v6028
  let v6030 : BitVec 32 := v6029
  let v6031 : Index := Scalar.indexCast v6030
  let c0_3801 : Index := 0#32
  ![0, v6031.toNat, 0]

def k0_chk441 (v6027 : BitVec 32) : Prop :=
  (8 ∣ (k0_mult442 v6027).toNat) ∧
  (∀ a, (k0_off505 v6027) a + S1x8x1024.size a ≤ S1x4096x1024.size a)
theorem k0_mult442_dvd : ∀ (v6027 : BitVec 32) (k0_hw441 : k0_chk441 v6027), 8 ∣ (k0_mult442 v6027).toNat := fun v6027 k0_hw441 => k0_hw441.1
theorem k0_off505_inb : ∀ (v6027 : BitVec 32) (k0_hw441 : k0_chk441 v6027), ∀ a, (k0_off505 v6027) a + S1x8x1024.size a ≤ S1x4096x1024.size a := fun v6027 k0_hw441 => k0_hw441.2

def k0_mult443 (v6040 : BitVec 32) : BitVec 32 :=
  let c7_i32_3807 : BitVec 32 := 7#32
  let v6041 : BitVec 32 := Scalar.andi v6040 c7_i32_3807
  let v6042 : BitVec 32 := Scalar.subi v6040 v6041
  v6042

def k0_off506 (v6040 : BitVec 32) : Fin 3 → Nat :=
  let c0_3808 : Index := 0#32
  let c7_i32_3807 : BitVec 32 := 7#32
  let v6041 : BitVec 32 := Scalar.andi v6040 c7_i32_3807
  let v6042 : BitVec 32 := Scalar.subi v6040 v6041
  let v6043 : BitVec 32 := v6042
  let v6044 : Index := Scalar.indexCast v6043
  let c0_3809 : Index := 0#32
  ![0, v6044.toNat, 0]

def k0_chk442 (v6040 : BitVec 32) : Prop :=
  (8 ∣ (k0_mult443 v6040).toNat) ∧
  (∀ a, (k0_off506 v6040) a + S1x8x1024.size a ≤ S1x4096x1024.size a)
theorem k0_mult443_dvd : ∀ (v6040 : BitVec 32) (k0_hw442 : k0_chk442 v6040), 8 ∣ (k0_mult443 v6040).toNat := fun v6040 k0_hw442 => k0_hw442.1
theorem k0_off506_inb : ∀ (v6040 : BitVec 32) (k0_hw442 : k0_chk442 v6040), ∀ a, (k0_off506 v6040) a + S1x8x1024.size a ≤ S1x4096x1024.size a := fun v6040 k0_hw442 => k0_hw442.2

def k0_mult444 (v6053 : BitVec 32) : BitVec 32 :=
  let c7_i32_3815 : BitVec 32 := 7#32
  let v6054 : BitVec 32 := Scalar.andi v6053 c7_i32_3815
  let v6055 : BitVec 32 := Scalar.subi v6053 v6054
  v6055

def k0_off507 (v6053 : BitVec 32) : Fin 3 → Nat :=
  let c0_3816 : Index := 0#32
  let c7_i32_3815 : BitVec 32 := 7#32
  let v6054 : BitVec 32 := Scalar.andi v6053 c7_i32_3815
  let v6055 : BitVec 32 := Scalar.subi v6053 v6054
  let v6056 : BitVec 32 := v6055
  let v6057 : Index := Scalar.indexCast v6056
  let c0_3817 : Index := 0#32
  ![0, v6057.toNat, 0]

def k0_chk443 (v6053 : BitVec 32) : Prop :=
  (8 ∣ (k0_mult444 v6053).toNat) ∧
  (∀ a, (k0_off507 v6053) a + S1x8x1024.size a ≤ S1x4096x1024.size a)
theorem k0_mult444_dvd : ∀ (v6053 : BitVec 32) (k0_hw443 : k0_chk443 v6053), 8 ∣ (k0_mult444 v6053).toNat := fun v6053 k0_hw443 => k0_hw443.1
theorem k0_off507_inb : ∀ (v6053 : BitVec 32) (k0_hw443 : k0_chk443 v6053), ∀ a, (k0_off507 v6053) a + S1x8x1024.size a ≤ S1x4096x1024.size a := fun v6053 k0_hw443 => k0_hw443.2

def k0_mult445 (v6066 : BitVec 32) : BitVec 32 :=
  let c7_i32_3823 : BitVec 32 := 7#32
  let v6067 : BitVec 32 := Scalar.andi v6066 c7_i32_3823
  let v6068 : BitVec 32 := Scalar.subi v6066 v6067
  v6068

def k0_off508 (v6066 : BitVec 32) : Fin 3 → Nat :=
  let c0_3824 : Index := 0#32
  let c7_i32_3823 : BitVec 32 := 7#32
  let v6067 : BitVec 32 := Scalar.andi v6066 c7_i32_3823
  let v6068 : BitVec 32 := Scalar.subi v6066 v6067
  let v6069 : BitVec 32 := v6068
  let v6070 : Index := Scalar.indexCast v6069
  let c0_3825 : Index := 0#32
  ![0, v6070.toNat, 0]

def k0_chk444 (v6066 : BitVec 32) : Prop :=
  (8 ∣ (k0_mult445 v6066).toNat) ∧
  (∀ a, (k0_off508 v6066) a + S1x8x1024.size a ≤ S1x4096x1024.size a)
theorem k0_mult445_dvd : ∀ (v6066 : BitVec 32) (k0_hw444 : k0_chk444 v6066), 8 ∣ (k0_mult445 v6066).toNat := fun v6066 k0_hw444 => k0_hw444.1
theorem k0_off508_inb : ∀ (v6066 : BitVec 32) (k0_hw444 : k0_chk444 v6066), ∀ a, (k0_off508 v6066) a + S1x8x1024.size a ≤ S1x4096x1024.size a := fun v6066 k0_hw444 => k0_hw444.2

def k0_mult446 (v6079 : BitVec 32) : BitVec 32 :=
  let c7_i32_3831 : BitVec 32 := 7#32
  let v6080 : BitVec 32 := Scalar.andi v6079 c7_i32_3831
  let v6081 : BitVec 32 := Scalar.subi v6079 v6080
  v6081

def k0_off509 (v6079 : BitVec 32) : Fin 3 → Nat :=
  let c0_3832 : Index := 0#32
  let c7_i32_3831 : BitVec 32 := 7#32
  let v6080 : BitVec 32 := Scalar.andi v6079 c7_i32_3831
  let v6081 : BitVec 32 := Scalar.subi v6079 v6080
  let v6082 : BitVec 32 := v6081
  let v6083 : Index := Scalar.indexCast v6082
  let c0_3833 : Index := 0#32
  ![0, v6083.toNat, 0]

def k0_chk445 (v6079 : BitVec 32) : Prop :=
  (8 ∣ (k0_mult446 v6079).toNat) ∧
  (∀ a, (k0_off509 v6079) a + S1x8x1024.size a ≤ S1x4096x1024.size a)
theorem k0_mult446_dvd : ∀ (v6079 : BitVec 32) (k0_hw445 : k0_chk445 v6079), 8 ∣ (k0_mult446 v6079).toNat := fun v6079 k0_hw445 => k0_hw445.1
theorem k0_off509_inb : ∀ (v6079 : BitVec 32) (k0_hw445 : k0_chk445 v6079), ∀ a, (k0_off509 v6079) a + S1x8x1024.size a ≤ S1x4096x1024.size a := fun v6079 k0_hw445 => k0_hw445.2

def k0_mult447 (v6092 : BitVec 32) : BitVec 32 :=
  let c7_i32_3839 : BitVec 32 := 7#32
  let v6093 : BitVec 32 := Scalar.andi v6092 c7_i32_3839
  let v6094 : BitVec 32 := Scalar.subi v6092 v6093
  v6094

def k0_off510 (v6092 : BitVec 32) : Fin 3 → Nat :=
  let c0_3840 : Index := 0#32
  let c7_i32_3839 : BitVec 32 := 7#32
  let v6093 : BitVec 32 := Scalar.andi v6092 c7_i32_3839
  let v6094 : BitVec 32 := Scalar.subi v6092 v6093
  let v6095 : BitVec 32 := v6094
  let v6096 : Index := Scalar.indexCast v6095
  let c0_3841 : Index := 0#32
  ![0, v6096.toNat, 0]

def k0_chk446 (v6092 : BitVec 32) : Prop :=
  (8 ∣ (k0_mult447 v6092).toNat) ∧
  (∀ a, (k0_off510 v6092) a + S1x8x1024.size a ≤ S1x4096x1024.size a)
theorem k0_mult447_dvd : ∀ (v6092 : BitVec 32) (k0_hw446 : k0_chk446 v6092), 8 ∣ (k0_mult447 v6092).toNat := fun v6092 k0_hw446 => k0_hw446.1
theorem k0_off510_inb : ∀ (v6092 : BitVec 32) (k0_hw446 : k0_chk446 v6092), ∀ a, (k0_off510 v6092) a + S1x8x1024.size a ≤ S1x4096x1024.size a := fun v6092 k0_hw446 => k0_hw446.2

def k0_mult448 (v6105 : BitVec 32) : BitVec 32 :=
  let c7_i32_3847 : BitVec 32 := 7#32
  let v6106 : BitVec 32 := Scalar.andi v6105 c7_i32_3847
  let v6107 : BitVec 32 := Scalar.subi v6105 v6106
  v6107

def k0_off511 (v6105 : BitVec 32) : Fin 3 → Nat :=
  let c0_3848 : Index := 0#32
  let c7_i32_3847 : BitVec 32 := 7#32
  let v6106 : BitVec 32 := Scalar.andi v6105 c7_i32_3847
  let v6107 : BitVec 32 := Scalar.subi v6105 v6106
  let v6108 : BitVec 32 := v6107
  let v6109 : Index := Scalar.indexCast v6108
  let c0_3849 : Index := 0#32
  ![0, v6109.toNat, 0]

def k0_chk447 (v6105 : BitVec 32) : Prop :=
  (8 ∣ (k0_mult448 v6105).toNat) ∧
  (∀ a, (k0_off511 v6105) a + S1x8x1024.size a ≤ S1x4096x1024.size a)
theorem k0_mult448_dvd : ∀ (v6105 : BitVec 32) (k0_hw447 : k0_chk447 v6105), 8 ∣ (k0_mult448 v6105).toNat := fun v6105 k0_hw447 => k0_hw447.1
theorem k0_off511_inb : ∀ (v6105 : BitVec 32) (k0_hw447 : k0_chk447 v6105), ∀ a, (k0_off511 v6105) a + S1x8x1024.size a ≤ S1x4096x1024.size a := fun v6105 k0_hw447 => k0_hw447.2

def k0_mult449 (v6118 : BitVec 32) : BitVec 32 :=
  let c7_i32_3855 : BitVec 32 := 7#32
  let v6119 : BitVec 32 := Scalar.andi v6118 c7_i32_3855
  let v6120 : BitVec 32 := Scalar.subi v6118 v6119
  v6120

def k0_off512 (v6118 : BitVec 32) : Fin 3 → Nat :=
  let c0_3856 : Index := 0#32
  let c7_i32_3855 : BitVec 32 := 7#32
  let v6119 : BitVec 32 := Scalar.andi v6118 c7_i32_3855
  let v6120 : BitVec 32 := Scalar.subi v6118 v6119
  let v6121 : BitVec 32 := v6120
  let v6122 : Index := Scalar.indexCast v6121
  let c0_3857 : Index := 0#32
  ![0, v6122.toNat, 0]

def k0_chk448 (v6118 : BitVec 32) : Prop :=
  (8 ∣ (k0_mult449 v6118).toNat) ∧
  (∀ a, (k0_off512 v6118) a + S1x8x1024.size a ≤ S1x4096x1024.size a)
theorem k0_mult449_dvd : ∀ (v6118 : BitVec 32) (k0_hw448 : k0_chk448 v6118), 8 ∣ (k0_mult449 v6118).toNat := fun v6118 k0_hw448 => k0_hw448.1
theorem k0_off512_inb : ∀ (v6118 : BitVec 32) (k0_hw448 : k0_chk448 v6118), ∀ a, (k0_off512 v6118) a + S1x8x1024.size a ≤ S1x4096x1024.size a := fun v6118 k0_hw448 => k0_hw448.2

def k0_off513 (i : grid0.Coords) : Fin 3 → Nat :=
  let c1_i32_3795 : BitVec 32 := 1#32
  let arg1 : BitVec 32 := BitVec.ofNat 32 (i 1).val
  let c1_i32 : BitVec 32 := 1#32
  let v1 : BitVec 32 := Scalar.andi arg1 c1_i32
  let v6025 : BitVec 32 := Scalar.subi c1_i32_3795 v1
  let c0_i32_3861 : BitVec 32 := 0#32
  let c0_i32_3862 : BitVec 32 := 0#32
  ![v6025.toNat, 0, 0]
def k0_mult450 (v6138 : BitVec 32) : BitVec 32 :=
  let c7_i32_3869 : BitVec 32 := 7#32
  let v6139 : BitVec 32 := Scalar.andi v6138 c7_i32_3869
  let v6140 : BitVec 32 := Scalar.subi v6138 v6139
  v6140

def k0_off514 (v6138 : BitVec 32) : Fin 3 → Nat :=
  let c0_3870 : Index := 0#32
  let c7_i32_3869 : BitVec 32 := 7#32
  let v6139 : BitVec 32 := Scalar.andi v6138 c7_i32_3869
  let v6140 : BitVec 32 := Scalar.subi v6138 v6139
  let v6141 : BitVec 32 := v6140
  let v6142 : Index := Scalar.indexCast v6141
  let c0_3871 : Index := 0#32
  ![0, v6142.toNat, 0]

def k0_chk449 (v6138 : BitVec 32) : Prop :=
  (8 ∣ (k0_mult450 v6138).toNat) ∧
  (∀ a, (k0_off514 v6138) a + S1x8x1024.size a ≤ S1x4096x1024.size a)
theorem k0_mult450_dvd : ∀ (v6138 : BitVec 32) (k0_hw449 : k0_chk449 v6138), 8 ∣ (k0_mult450 v6138).toNat := fun v6138 k0_hw449 => k0_hw449.1
theorem k0_off514_inb : ∀ (v6138 : BitVec 32) (k0_hw449 : k0_chk449 v6138), ∀ a, (k0_off514 v6138) a + S1x8x1024.size a ≤ S1x4096x1024.size a := fun v6138 k0_hw449 => k0_hw449.2

def k0_mult451 (v6151 : BitVec 32) : BitVec 32 :=
  let c7_i32_3877 : BitVec 32 := 7#32
  let v6152 : BitVec 32 := Scalar.andi v6151 c7_i32_3877
  let v6153 : BitVec 32 := Scalar.subi v6151 v6152
  v6153

def k0_off515 (v6151 : BitVec 32) : Fin 3 → Nat :=
  let c0_3878 : Index := 0#32
  let c7_i32_3877 : BitVec 32 := 7#32
  let v6152 : BitVec 32 := Scalar.andi v6151 c7_i32_3877
  let v6153 : BitVec 32 := Scalar.subi v6151 v6152
  let v6154 : BitVec 32 := v6153
  let v6155 : Index := Scalar.indexCast v6154
  let c0_3879 : Index := 0#32
  ![0, v6155.toNat, 0]

def k0_chk450 (v6151 : BitVec 32) : Prop :=
  (8 ∣ (k0_mult451 v6151).toNat) ∧
  (∀ a, (k0_off515 v6151) a + S1x8x1024.size a ≤ S1x4096x1024.size a)
theorem k0_mult451_dvd : ∀ (v6151 : BitVec 32) (k0_hw450 : k0_chk450 v6151), 8 ∣ (k0_mult451 v6151).toNat := fun v6151 k0_hw450 => k0_hw450.1
theorem k0_off515_inb : ∀ (v6151 : BitVec 32) (k0_hw450 : k0_chk450 v6151), ∀ a, (k0_off515 v6151) a + S1x8x1024.size a ≤ S1x4096x1024.size a := fun v6151 k0_hw450 => k0_hw450.2

def k0_mult452 (v6164 : BitVec 32) : BitVec 32 :=
  let c7_i32_3885 : BitVec 32 := 7#32
  let v6165 : BitVec 32 := Scalar.andi v6164 c7_i32_3885
  let v6166 : BitVec 32 := Scalar.subi v6164 v6165
  v6166

def k0_off516 (v6164 : BitVec 32) : Fin 3 → Nat :=
  let c0_3886 : Index := 0#32
  let c7_i32_3885 : BitVec 32 := 7#32
  let v6165 : BitVec 32 := Scalar.andi v6164 c7_i32_3885
  let v6166 : BitVec 32 := Scalar.subi v6164 v6165
  let v6167 : BitVec 32 := v6166
  let v6168 : Index := Scalar.indexCast v6167
  let c0_3887 : Index := 0#32
  ![0, v6168.toNat, 0]

def k0_chk451 (v6164 : BitVec 32) : Prop :=
  (8 ∣ (k0_mult452 v6164).toNat) ∧
  (∀ a, (k0_off516 v6164) a + S1x8x1024.size a ≤ S1x4096x1024.size a)
theorem k0_mult452_dvd : ∀ (v6164 : BitVec 32) (k0_hw451 : k0_chk451 v6164), 8 ∣ (k0_mult452 v6164).toNat := fun v6164 k0_hw451 => k0_hw451.1
theorem k0_off516_inb : ∀ (v6164 : BitVec 32) (k0_hw451 : k0_chk451 v6164), ∀ a, (k0_off516 v6164) a + S1x8x1024.size a ≤ S1x4096x1024.size a := fun v6164 k0_hw451 => k0_hw451.2

def k0_mult453 (v6177 : BitVec 32) : BitVec 32 :=
  let c7_i32_3893 : BitVec 32 := 7#32
  let v6178 : BitVec 32 := Scalar.andi v6177 c7_i32_3893
  let v6179 : BitVec 32 := Scalar.subi v6177 v6178
  v6179

def k0_off517 (v6177 : BitVec 32) : Fin 3 → Nat :=
  let c0_3894 : Index := 0#32
  let c7_i32_3893 : BitVec 32 := 7#32
  let v6178 : BitVec 32 := Scalar.andi v6177 c7_i32_3893
  let v6179 : BitVec 32 := Scalar.subi v6177 v6178
  let v6180 : BitVec 32 := v6179
  let v6181 : Index := Scalar.indexCast v6180
  let c0_3895 : Index := 0#32
  ![0, v6181.toNat, 0]

def k0_chk452 (v6177 : BitVec 32) : Prop :=
  (8 ∣ (k0_mult453 v6177).toNat) ∧
  (∀ a, (k0_off517 v6177) a + S1x8x1024.size a ≤ S1x4096x1024.size a)
theorem k0_mult453_dvd : ∀ (v6177 : BitVec 32) (k0_hw452 : k0_chk452 v6177), 8 ∣ (k0_mult453 v6177).toNat := fun v6177 k0_hw452 => k0_hw452.1
theorem k0_off517_inb : ∀ (v6177 : BitVec 32) (k0_hw452 : k0_chk452 v6177), ∀ a, (k0_off517 v6177) a + S1x8x1024.size a ≤ S1x4096x1024.size a := fun v6177 k0_hw452 => k0_hw452.2

def k0_mult454 (v6190 : BitVec 32) : BitVec 32 :=
  let c7_i32_3901 : BitVec 32 := 7#32
  let v6191 : BitVec 32 := Scalar.andi v6190 c7_i32_3901
  let v6192 : BitVec 32 := Scalar.subi v6190 v6191
  v6192

def k0_off518 (v6190 : BitVec 32) : Fin 3 → Nat :=
  let c0_3902 : Index := 0#32
  let c7_i32_3901 : BitVec 32 := 7#32
  let v6191 : BitVec 32 := Scalar.andi v6190 c7_i32_3901
  let v6192 : BitVec 32 := Scalar.subi v6190 v6191
  let v6193 : BitVec 32 := v6192
  let v6194 : Index := Scalar.indexCast v6193
  let c0_3903 : Index := 0#32
  ![0, v6194.toNat, 0]

def k0_chk453 (v6190 : BitVec 32) : Prop :=
  (8 ∣ (k0_mult454 v6190).toNat) ∧
  (∀ a, (k0_off518 v6190) a + S1x8x1024.size a ≤ S1x4096x1024.size a)
theorem k0_mult454_dvd : ∀ (v6190 : BitVec 32) (k0_hw453 : k0_chk453 v6190), 8 ∣ (k0_mult454 v6190).toNat := fun v6190 k0_hw453 => k0_hw453.1
theorem k0_off518_inb : ∀ (v6190 : BitVec 32) (k0_hw453 : k0_chk453 v6190), ∀ a, (k0_off518 v6190) a + S1x8x1024.size a ≤ S1x4096x1024.size a := fun v6190 k0_hw453 => k0_hw453.2

def k0_mult455 (v6203 : BitVec 32) : BitVec 32 :=
  let c7_i32_3909 : BitVec 32 := 7#32
  let v6204 : BitVec 32 := Scalar.andi v6203 c7_i32_3909
  let v6205 : BitVec 32 := Scalar.subi v6203 v6204
  v6205

def k0_off519 (v6203 : BitVec 32) : Fin 3 → Nat :=
  let c0_3910 : Index := 0#32
  let c7_i32_3909 : BitVec 32 := 7#32
  let v6204 : BitVec 32 := Scalar.andi v6203 c7_i32_3909
  let v6205 : BitVec 32 := Scalar.subi v6203 v6204
  let v6206 : BitVec 32 := v6205
  let v6207 : Index := Scalar.indexCast v6206
  let c0_3911 : Index := 0#32
  ![0, v6207.toNat, 0]

def k0_chk454 (v6203 : BitVec 32) : Prop :=
  (8 ∣ (k0_mult455 v6203).toNat) ∧
  (∀ a, (k0_off519 v6203) a + S1x8x1024.size a ≤ S1x4096x1024.size a)
theorem k0_mult455_dvd : ∀ (v6203 : BitVec 32) (k0_hw454 : k0_chk454 v6203), 8 ∣ (k0_mult455 v6203).toNat := fun v6203 k0_hw454 => k0_hw454.1
theorem k0_off519_inb : ∀ (v6203 : BitVec 32) (k0_hw454 : k0_chk454 v6203), ∀ a, (k0_off519 v6203) a + S1x8x1024.size a ≤ S1x4096x1024.size a := fun v6203 k0_hw454 => k0_hw454.2

def k0_mult456 (v6216 : BitVec 32) : BitVec 32 :=
  let c7_i32_3917 : BitVec 32 := 7#32
  let v6217 : BitVec 32 := Scalar.andi v6216 c7_i32_3917
  let v6218 : BitVec 32 := Scalar.subi v6216 v6217
  v6218

def k0_off520 (v6216 : BitVec 32) : Fin 3 → Nat :=
  let c0_3918 : Index := 0#32
  let c7_i32_3917 : BitVec 32 := 7#32
  let v6217 : BitVec 32 := Scalar.andi v6216 c7_i32_3917
  let v6218 : BitVec 32 := Scalar.subi v6216 v6217
  let v6219 : BitVec 32 := v6218
  let v6220 : Index := Scalar.indexCast v6219
  let c0_3919 : Index := 0#32
  ![0, v6220.toNat, 0]

def k0_chk455 (v6216 : BitVec 32) : Prop :=
  (8 ∣ (k0_mult456 v6216).toNat) ∧
  (∀ a, (k0_off520 v6216) a + S1x8x1024.size a ≤ S1x4096x1024.size a)
theorem k0_mult456_dvd : ∀ (v6216 : BitVec 32) (k0_hw455 : k0_chk455 v6216), 8 ∣ (k0_mult456 v6216).toNat := fun v6216 k0_hw455 => k0_hw455.1
theorem k0_off520_inb : ∀ (v6216 : BitVec 32) (k0_hw455 : k0_chk455 v6216), ∀ a, (k0_off520 v6216) a + S1x8x1024.size a ≤ S1x4096x1024.size a := fun v6216 k0_hw455 => k0_hw455.2

def k0_mult457 (v6229 : BitVec 32) : BitVec 32 :=
  let c7_i32_3925 : BitVec 32 := 7#32
  let v6230 : BitVec 32 := Scalar.andi v6229 c7_i32_3925
  let v6231 : BitVec 32 := Scalar.subi v6229 v6230
  v6231

def k0_off521 (v6229 : BitVec 32) : Fin 3 → Nat :=
  let c0_3926 : Index := 0#32
  let c7_i32_3925 : BitVec 32 := 7#32
  let v6230 : BitVec 32 := Scalar.andi v6229 c7_i32_3925
  let v6231 : BitVec 32 := Scalar.subi v6229 v6230
  let v6232 : BitVec 32 := v6231
  let v6233 : Index := Scalar.indexCast v6232
  let c0_3927 : Index := 0#32
  ![0, v6233.toNat, 0]

def k0_chk456 (v6229 : BitVec 32) : Prop :=
  (8 ∣ (k0_mult457 v6229).toNat) ∧
  (∀ a, (k0_off521 v6229) a + S1x8x1024.size a ≤ S1x4096x1024.size a)
theorem k0_mult457_dvd : ∀ (v6229 : BitVec 32) (k0_hw456 : k0_chk456 v6229), 8 ∣ (k0_mult457 v6229).toNat := fun v6229 k0_hw456 => k0_hw456.1
theorem k0_off521_inb : ∀ (v6229 : BitVec 32) (k0_hw456 : k0_chk456 v6229), ∀ a, (k0_off521 v6229) a + S1x8x1024.size a ≤ S1x4096x1024.size a := fun v6229 k0_hw456 => k0_hw456.2

def k0_off522 (i : grid0.Coords) : Fin 3 → Nat :=
  let c1_i32_3865 : BitVec 32 := 1#32
  let arg1 : BitVec 32 := BitVec.ofNat 32 (i 1).val
  let c1_i32 : BitVec 32 := 1#32
  let v1 : BitVec 32 := Scalar.andi arg1 c1_i32
  let v6136 : BitVec 32 := Scalar.subi c1_i32_3865 v1
  let c0_i32_3931 : BitVec 32 := 0#32
  let c0_i32_3932 : BitVec 32 := 0#32
  ![v6136.toNat, 0, 0]
def k0_mult458 (v6249 : BitVec 32) : BitVec 32 :=
  let c7_i32_3939 : BitVec 32 := 7#32
  let v6250 : BitVec 32 := Scalar.andi v6249 c7_i32_3939
  let v6251 : BitVec 32 := Scalar.subi v6249 v6250
  v6251

def k0_off523 (v6249 : BitVec 32) : Fin 3 → Nat :=
  let c0_3940 : Index := 0#32
  let c7_i32_3939 : BitVec 32 := 7#32
  let v6250 : BitVec 32 := Scalar.andi v6249 c7_i32_3939
  let v6251 : BitVec 32 := Scalar.subi v6249 v6250
  let v6252 : BitVec 32 := v6251
  let v6253 : Index := Scalar.indexCast v6252
  let c0_3941 : Index := 0#32
  ![0, v6253.toNat, 0]

def k0_chk457 (v6249 : BitVec 32) : Prop :=
  (8 ∣ (k0_mult458 v6249).toNat) ∧
  (∀ a, (k0_off523 v6249) a + S1x8x1024.size a ≤ S1x4096x1024.size a)
theorem k0_mult458_dvd : ∀ (v6249 : BitVec 32) (k0_hw457 : k0_chk457 v6249), 8 ∣ (k0_mult458 v6249).toNat := fun v6249 k0_hw457 => k0_hw457.1
theorem k0_off523_inb : ∀ (v6249 : BitVec 32) (k0_hw457 : k0_chk457 v6249), ∀ a, (k0_off523 v6249) a + S1x8x1024.size a ≤ S1x4096x1024.size a := fun v6249 k0_hw457 => k0_hw457.2

def k0_mult459 (v6262 : BitVec 32) : BitVec 32 :=
  let c7_i32_3947 : BitVec 32 := 7#32
  let v6263 : BitVec 32 := Scalar.andi v6262 c7_i32_3947
  let v6264 : BitVec 32 := Scalar.subi v6262 v6263
  v6264

def k0_off524 (v6262 : BitVec 32) : Fin 3 → Nat :=
  let c0_3948 : Index := 0#32
  let c7_i32_3947 : BitVec 32 := 7#32
  let v6263 : BitVec 32 := Scalar.andi v6262 c7_i32_3947
  let v6264 : BitVec 32 := Scalar.subi v6262 v6263
  let v6265 : BitVec 32 := v6264
  let v6266 : Index := Scalar.indexCast v6265
  let c0_3949 : Index := 0#32
  ![0, v6266.toNat, 0]

def k0_chk458 (v6262 : BitVec 32) : Prop :=
  (8 ∣ (k0_mult459 v6262).toNat) ∧
  (∀ a, (k0_off524 v6262) a + S1x8x1024.size a ≤ S1x4096x1024.size a)
theorem k0_mult459_dvd : ∀ (v6262 : BitVec 32) (k0_hw458 : k0_chk458 v6262), 8 ∣ (k0_mult459 v6262).toNat := fun v6262 k0_hw458 => k0_hw458.1
theorem k0_off524_inb : ∀ (v6262 : BitVec 32) (k0_hw458 : k0_chk458 v6262), ∀ a, (k0_off524 v6262) a + S1x8x1024.size a ≤ S1x4096x1024.size a := fun v6262 k0_hw458 => k0_hw458.2

def k0_mult460 (v6275 : BitVec 32) : BitVec 32 :=
  let c7_i32_3955 : BitVec 32 := 7#32
  let v6276 : BitVec 32 := Scalar.andi v6275 c7_i32_3955
  let v6277 : BitVec 32 := Scalar.subi v6275 v6276
  v6277

def k0_off525 (v6275 : BitVec 32) : Fin 3 → Nat :=
  let c0_3956 : Index := 0#32
  let c7_i32_3955 : BitVec 32 := 7#32
  let v6276 : BitVec 32 := Scalar.andi v6275 c7_i32_3955
  let v6277 : BitVec 32 := Scalar.subi v6275 v6276
  let v6278 : BitVec 32 := v6277
  let v6279 : Index := Scalar.indexCast v6278
  let c0_3957 : Index := 0#32
  ![0, v6279.toNat, 0]

def k0_chk459 (v6275 : BitVec 32) : Prop :=
  (8 ∣ (k0_mult460 v6275).toNat) ∧
  (∀ a, (k0_off525 v6275) a + S1x8x1024.size a ≤ S1x4096x1024.size a)
theorem k0_mult460_dvd : ∀ (v6275 : BitVec 32) (k0_hw459 : k0_chk459 v6275), 8 ∣ (k0_mult460 v6275).toNat := fun v6275 k0_hw459 => k0_hw459.1
theorem k0_off525_inb : ∀ (v6275 : BitVec 32) (k0_hw459 : k0_chk459 v6275), ∀ a, (k0_off525 v6275) a + S1x8x1024.size a ≤ S1x4096x1024.size a := fun v6275 k0_hw459 => k0_hw459.2

def k0_mult461 (v6288 : BitVec 32) : BitVec 32 :=
  let c7_i32_3963 : BitVec 32 := 7#32
  let v6289 : BitVec 32 := Scalar.andi v6288 c7_i32_3963
  let v6290 : BitVec 32 := Scalar.subi v6288 v6289
  v6290

def k0_off526 (v6288 : BitVec 32) : Fin 3 → Nat :=
  let c0_3964 : Index := 0#32
  let c7_i32_3963 : BitVec 32 := 7#32
  let v6289 : BitVec 32 := Scalar.andi v6288 c7_i32_3963
  let v6290 : BitVec 32 := Scalar.subi v6288 v6289
  let v6291 : BitVec 32 := v6290
  let v6292 : Index := Scalar.indexCast v6291
  let c0_3965 : Index := 0#32
  ![0, v6292.toNat, 0]

def k0_chk460 (v6288 : BitVec 32) : Prop :=
  (8 ∣ (k0_mult461 v6288).toNat) ∧
  (∀ a, (k0_off526 v6288) a + S1x8x1024.size a ≤ S1x4096x1024.size a)
theorem k0_mult461_dvd : ∀ (v6288 : BitVec 32) (k0_hw460 : k0_chk460 v6288), 8 ∣ (k0_mult461 v6288).toNat := fun v6288 k0_hw460 => k0_hw460.1
theorem k0_off526_inb : ∀ (v6288 : BitVec 32) (k0_hw460 : k0_chk460 v6288), ∀ a, (k0_off526 v6288) a + S1x8x1024.size a ≤ S1x4096x1024.size a := fun v6288 k0_hw460 => k0_hw460.2

def k0_mult462 (v6301 : BitVec 32) : BitVec 32 :=
  let c7_i32_3971 : BitVec 32 := 7#32
  let v6302 : BitVec 32 := Scalar.andi v6301 c7_i32_3971
  let v6303 : BitVec 32 := Scalar.subi v6301 v6302
  v6303

def k0_off527 (v6301 : BitVec 32) : Fin 3 → Nat :=
  let c0_3972 : Index := 0#32
  let c7_i32_3971 : BitVec 32 := 7#32
  let v6302 : BitVec 32 := Scalar.andi v6301 c7_i32_3971
  let v6303 : BitVec 32 := Scalar.subi v6301 v6302
  let v6304 : BitVec 32 := v6303
  let v6305 : Index := Scalar.indexCast v6304
  let c0_3973 : Index := 0#32
  ![0, v6305.toNat, 0]

def k0_chk461 (v6301 : BitVec 32) : Prop :=
  (8 ∣ (k0_mult462 v6301).toNat) ∧
  (∀ a, (k0_off527 v6301) a + S1x8x1024.size a ≤ S1x4096x1024.size a)
theorem k0_mult462_dvd : ∀ (v6301 : BitVec 32) (k0_hw461 : k0_chk461 v6301), 8 ∣ (k0_mult462 v6301).toNat := fun v6301 k0_hw461 => k0_hw461.1
theorem k0_off527_inb : ∀ (v6301 : BitVec 32) (k0_hw461 : k0_chk461 v6301), ∀ a, (k0_off527 v6301) a + S1x8x1024.size a ≤ S1x4096x1024.size a := fun v6301 k0_hw461 => k0_hw461.2

def k0_mult463 (v6314 : BitVec 32) : BitVec 32 :=
  let c7_i32_3979 : BitVec 32 := 7#32
  let v6315 : BitVec 32 := Scalar.andi v6314 c7_i32_3979
  let v6316 : BitVec 32 := Scalar.subi v6314 v6315
  v6316

def k0_off528 (v6314 : BitVec 32) : Fin 3 → Nat :=
  let c0_3980 : Index := 0#32
  let c7_i32_3979 : BitVec 32 := 7#32
  let v6315 : BitVec 32 := Scalar.andi v6314 c7_i32_3979
  let v6316 : BitVec 32 := Scalar.subi v6314 v6315
  let v6317 : BitVec 32 := v6316
  let v6318 : Index := Scalar.indexCast v6317
  let c0_3981 : Index := 0#32
  ![0, v6318.toNat, 0]

def k0_chk462 (v6314 : BitVec 32) : Prop :=
  (8 ∣ (k0_mult463 v6314).toNat) ∧
  (∀ a, (k0_off528 v6314) a + S1x8x1024.size a ≤ S1x4096x1024.size a)
theorem k0_mult463_dvd : ∀ (v6314 : BitVec 32) (k0_hw462 : k0_chk462 v6314), 8 ∣ (k0_mult463 v6314).toNat := fun v6314 k0_hw462 => k0_hw462.1
theorem k0_off528_inb : ∀ (v6314 : BitVec 32) (k0_hw462 : k0_chk462 v6314), ∀ a, (k0_off528 v6314) a + S1x8x1024.size a ≤ S1x4096x1024.size a := fun v6314 k0_hw462 => k0_hw462.2

def k0_mult464 (v6327 : BitVec 32) : BitVec 32 :=
  let c7_i32_3987 : BitVec 32 := 7#32
  let v6328 : BitVec 32 := Scalar.andi v6327 c7_i32_3987
  let v6329 : BitVec 32 := Scalar.subi v6327 v6328
  v6329

def k0_off529 (v6327 : BitVec 32) : Fin 3 → Nat :=
  let c0_3988 : Index := 0#32
  let c7_i32_3987 : BitVec 32 := 7#32
  let v6328 : BitVec 32 := Scalar.andi v6327 c7_i32_3987
  let v6329 : BitVec 32 := Scalar.subi v6327 v6328
  let v6330 : BitVec 32 := v6329
  let v6331 : Index := Scalar.indexCast v6330
  let c0_3989 : Index := 0#32
  ![0, v6331.toNat, 0]

def k0_chk463 (v6327 : BitVec 32) : Prop :=
  (8 ∣ (k0_mult464 v6327).toNat) ∧
  (∀ a, (k0_off529 v6327) a + S1x8x1024.size a ≤ S1x4096x1024.size a)
theorem k0_mult464_dvd : ∀ (v6327 : BitVec 32) (k0_hw463 : k0_chk463 v6327), 8 ∣ (k0_mult464 v6327).toNat := fun v6327 k0_hw463 => k0_hw463.1
theorem k0_off529_inb : ∀ (v6327 : BitVec 32) (k0_hw463 : k0_chk463 v6327), ∀ a, (k0_off529 v6327) a + S1x8x1024.size a ≤ S1x4096x1024.size a := fun v6327 k0_hw463 => k0_hw463.2

def k0_mult465 (v6340 : BitVec 32) : BitVec 32 :=
  let c7_i32_3995 : BitVec 32 := 7#32
  let v6341 : BitVec 32 := Scalar.andi v6340 c7_i32_3995
  let v6342 : BitVec 32 := Scalar.subi v6340 v6341
  v6342

def k0_off530 (v6340 : BitVec 32) : Fin 3 → Nat :=
  let c0_3996 : Index := 0#32
  let c7_i32_3995 : BitVec 32 := 7#32
  let v6341 : BitVec 32 := Scalar.andi v6340 c7_i32_3995
  let v6342 : BitVec 32 := Scalar.subi v6340 v6341
  let v6343 : BitVec 32 := v6342
  let v6344 : Index := Scalar.indexCast v6343
  let c0_3997 : Index := 0#32
  ![0, v6344.toNat, 0]

def k0_chk464 (v6340 : BitVec 32) : Prop :=
  (8 ∣ (k0_mult465 v6340).toNat) ∧
  (∀ a, (k0_off530 v6340) a + S1x8x1024.size a ≤ S1x4096x1024.size a)
theorem k0_mult465_dvd : ∀ (v6340 : BitVec 32) (k0_hw464 : k0_chk464 v6340), 8 ∣ (k0_mult465 v6340).toNat := fun v6340 k0_hw464 => k0_hw464.1
theorem k0_off530_inb : ∀ (v6340 : BitVec 32) (k0_hw464 : k0_chk464 v6340), ∀ a, (k0_off530 v6340) a + S1x8x1024.size a ≤ S1x4096x1024.size a := fun v6340 k0_hw464 => k0_hw464.2

def k0_off531 (i : grid0.Coords) : Fin 3 → Nat :=
  let c1_i32_3935 : BitVec 32 := 1#32
  let arg1 : BitVec 32 := BitVec.ofNat 32 (i 1).val
  let c1_i32 : BitVec 32 := 1#32
  let v1 : BitVec 32 := Scalar.andi arg1 c1_i32
  let v6247 : BitVec 32 := Scalar.subi c1_i32_3935 v1
  let c0_i32_4001 : BitVec 32 := 0#32
  let c0_i32_4002 : BitVec 32 := 0#32
  ![v6247.toNat, 0, 0]
def k0_mult466 (v6360 : BitVec 32) : BitVec 32 :=
  let c7_i32_4009 : BitVec 32 := 7#32
  let v6361 : BitVec 32 := Scalar.andi v6360 c7_i32_4009
  let v6362 : BitVec 32 := Scalar.subi v6360 v6361
  v6362

def k0_off532 (v6360 : BitVec 32) : Fin 3 → Nat :=
  let c0_4010 : Index := 0#32
  let c7_i32_4009 : BitVec 32 := 7#32
  let v6361 : BitVec 32 := Scalar.andi v6360 c7_i32_4009
  let v6362 : BitVec 32 := Scalar.subi v6360 v6361
  let v6363 : BitVec 32 := v6362
  let v6364 : Index := Scalar.indexCast v6363
  let c0_4011 : Index := 0#32
  ![0, v6364.toNat, 0]

def k0_chk465 (v6360 : BitVec 32) : Prop :=
  (8 ∣ (k0_mult466 v6360).toNat) ∧
  (∀ a, (k0_off532 v6360) a + S1x8x1024.size a ≤ S1x4096x1024.size a)
theorem k0_mult466_dvd : ∀ (v6360 : BitVec 32) (k0_hw465 : k0_chk465 v6360), 8 ∣ (k0_mult466 v6360).toNat := fun v6360 k0_hw465 => k0_hw465.1
theorem k0_off532_inb : ∀ (v6360 : BitVec 32) (k0_hw465 : k0_chk465 v6360), ∀ a, (k0_off532 v6360) a + S1x8x1024.size a ≤ S1x4096x1024.size a := fun v6360 k0_hw465 => k0_hw465.2

def k0_mult467 (v6373 : BitVec 32) : BitVec 32 :=
  let c7_i32_4017 : BitVec 32 := 7#32
  let v6374 : BitVec 32 := Scalar.andi v6373 c7_i32_4017
  let v6375 : BitVec 32 := Scalar.subi v6373 v6374
  v6375

def k0_off533 (v6373 : BitVec 32) : Fin 3 → Nat :=
  let c0_4018 : Index := 0#32
  let c7_i32_4017 : BitVec 32 := 7#32
  let v6374 : BitVec 32 := Scalar.andi v6373 c7_i32_4017
  let v6375 : BitVec 32 := Scalar.subi v6373 v6374
  let v6376 : BitVec 32 := v6375
  let v6377 : Index := Scalar.indexCast v6376
  let c0_4019 : Index := 0#32
  ![0, v6377.toNat, 0]

def k0_chk466 (v6373 : BitVec 32) : Prop :=
  (8 ∣ (k0_mult467 v6373).toNat) ∧
  (∀ a, (k0_off533 v6373) a + S1x8x1024.size a ≤ S1x4096x1024.size a)
theorem k0_mult467_dvd : ∀ (v6373 : BitVec 32) (k0_hw466 : k0_chk466 v6373), 8 ∣ (k0_mult467 v6373).toNat := fun v6373 k0_hw466 => k0_hw466.1
theorem k0_off533_inb : ∀ (v6373 : BitVec 32) (k0_hw466 : k0_chk466 v6373), ∀ a, (k0_off533 v6373) a + S1x8x1024.size a ≤ S1x4096x1024.size a := fun v6373 k0_hw466 => k0_hw466.2

def k0_mult468 (v6386 : BitVec 32) : BitVec 32 :=
  let c7_i32_4025 : BitVec 32 := 7#32
  let v6387 : BitVec 32 := Scalar.andi v6386 c7_i32_4025
  let v6388 : BitVec 32 := Scalar.subi v6386 v6387
  v6388

def k0_off534 (v6386 : BitVec 32) : Fin 3 → Nat :=
  let c0_4026 : Index := 0#32
  let c7_i32_4025 : BitVec 32 := 7#32
  let v6387 : BitVec 32 := Scalar.andi v6386 c7_i32_4025
  let v6388 : BitVec 32 := Scalar.subi v6386 v6387
  let v6389 : BitVec 32 := v6388
  let v6390 : Index := Scalar.indexCast v6389
  let c0_4027 : Index := 0#32
  ![0, v6390.toNat, 0]

def k0_chk467 (v6386 : BitVec 32) : Prop :=
  (8 ∣ (k0_mult468 v6386).toNat) ∧
  (∀ a, (k0_off534 v6386) a + S1x8x1024.size a ≤ S1x4096x1024.size a)
theorem k0_mult468_dvd : ∀ (v6386 : BitVec 32) (k0_hw467 : k0_chk467 v6386), 8 ∣ (k0_mult468 v6386).toNat := fun v6386 k0_hw467 => k0_hw467.1
theorem k0_off534_inb : ∀ (v6386 : BitVec 32) (k0_hw467 : k0_chk467 v6386), ∀ a, (k0_off534 v6386) a + S1x8x1024.size a ≤ S1x4096x1024.size a := fun v6386 k0_hw467 => k0_hw467.2

def k0_mult469 (v6399 : BitVec 32) : BitVec 32 :=
  let c7_i32_4033 : BitVec 32 := 7#32
  let v6400 : BitVec 32 := Scalar.andi v6399 c7_i32_4033
  let v6401 : BitVec 32 := Scalar.subi v6399 v6400
  v6401

def k0_off535 (v6399 : BitVec 32) : Fin 3 → Nat :=
  let c0_4034 : Index := 0#32
  let c7_i32_4033 : BitVec 32 := 7#32
  let v6400 : BitVec 32 := Scalar.andi v6399 c7_i32_4033
  let v6401 : BitVec 32 := Scalar.subi v6399 v6400
  let v6402 : BitVec 32 := v6401
  let v6403 : Index := Scalar.indexCast v6402
  let c0_4035 : Index := 0#32
  ![0, v6403.toNat, 0]

def k0_chk468 (v6399 : BitVec 32) : Prop :=
  (8 ∣ (k0_mult469 v6399).toNat) ∧
  (∀ a, (k0_off535 v6399) a + S1x8x1024.size a ≤ S1x4096x1024.size a)
theorem k0_mult469_dvd : ∀ (v6399 : BitVec 32) (k0_hw468 : k0_chk468 v6399), 8 ∣ (k0_mult469 v6399).toNat := fun v6399 k0_hw468 => k0_hw468.1
theorem k0_off535_inb : ∀ (v6399 : BitVec 32) (k0_hw468 : k0_chk468 v6399), ∀ a, (k0_off535 v6399) a + S1x8x1024.size a ≤ S1x4096x1024.size a := fun v6399 k0_hw468 => k0_hw468.2

def k0_mult470 (v6412 : BitVec 32) : BitVec 32 :=
  let c7_i32_4041 : BitVec 32 := 7#32
  let v6413 : BitVec 32 := Scalar.andi v6412 c7_i32_4041
  let v6414 : BitVec 32 := Scalar.subi v6412 v6413
  v6414

def k0_off536 (v6412 : BitVec 32) : Fin 3 → Nat :=
  let c0_4042 : Index := 0#32
  let c7_i32_4041 : BitVec 32 := 7#32
  let v6413 : BitVec 32 := Scalar.andi v6412 c7_i32_4041
  let v6414 : BitVec 32 := Scalar.subi v6412 v6413
  let v6415 : BitVec 32 := v6414
  let v6416 : Index := Scalar.indexCast v6415
  let c0_4043 : Index := 0#32
  ![0, v6416.toNat, 0]

def k0_chk469 (v6412 : BitVec 32) : Prop :=
  (8 ∣ (k0_mult470 v6412).toNat) ∧
  (∀ a, (k0_off536 v6412) a + S1x8x1024.size a ≤ S1x4096x1024.size a)
theorem k0_mult470_dvd : ∀ (v6412 : BitVec 32) (k0_hw469 : k0_chk469 v6412), 8 ∣ (k0_mult470 v6412).toNat := fun v6412 k0_hw469 => k0_hw469.1
theorem k0_off536_inb : ∀ (v6412 : BitVec 32) (k0_hw469 : k0_chk469 v6412), ∀ a, (k0_off536 v6412) a + S1x8x1024.size a ≤ S1x4096x1024.size a := fun v6412 k0_hw469 => k0_hw469.2

def k0_mult471 (v6425 : BitVec 32) : BitVec 32 :=
  let c7_i32_4049 : BitVec 32 := 7#32
  let v6426 : BitVec 32 := Scalar.andi v6425 c7_i32_4049
  let v6427 : BitVec 32 := Scalar.subi v6425 v6426
  v6427

def k0_off537 (v6425 : BitVec 32) : Fin 3 → Nat :=
  let c0_4050 : Index := 0#32
  let c7_i32_4049 : BitVec 32 := 7#32
  let v6426 : BitVec 32 := Scalar.andi v6425 c7_i32_4049
  let v6427 : BitVec 32 := Scalar.subi v6425 v6426
  let v6428 : BitVec 32 := v6427
  let v6429 : Index := Scalar.indexCast v6428
  let c0_4051 : Index := 0#32
  ![0, v6429.toNat, 0]

def k0_chk470 (v6425 : BitVec 32) : Prop :=
  (8 ∣ (k0_mult471 v6425).toNat) ∧
  (∀ a, (k0_off537 v6425) a + S1x8x1024.size a ≤ S1x4096x1024.size a)
theorem k0_mult471_dvd : ∀ (v6425 : BitVec 32) (k0_hw470 : k0_chk470 v6425), 8 ∣ (k0_mult471 v6425).toNat := fun v6425 k0_hw470 => k0_hw470.1
theorem k0_off537_inb : ∀ (v6425 : BitVec 32) (k0_hw470 : k0_chk470 v6425), ∀ a, (k0_off537 v6425) a + S1x8x1024.size a ≤ S1x4096x1024.size a := fun v6425 k0_hw470 => k0_hw470.2

def k0_mult472 (v6438 : BitVec 32) : BitVec 32 :=
  let c7_i32_4057 : BitVec 32 := 7#32
  let v6439 : BitVec 32 := Scalar.andi v6438 c7_i32_4057
  let v6440 : BitVec 32 := Scalar.subi v6438 v6439
  v6440

def k0_off538 (v6438 : BitVec 32) : Fin 3 → Nat :=
  let c0_4058 : Index := 0#32
  let c7_i32_4057 : BitVec 32 := 7#32
  let v6439 : BitVec 32 := Scalar.andi v6438 c7_i32_4057
  let v6440 : BitVec 32 := Scalar.subi v6438 v6439
  let v6441 : BitVec 32 := v6440
  let v6442 : Index := Scalar.indexCast v6441
  let c0_4059 : Index := 0#32
  ![0, v6442.toNat, 0]

def k0_chk471 (v6438 : BitVec 32) : Prop :=
  (8 ∣ (k0_mult472 v6438).toNat) ∧
  (∀ a, (k0_off538 v6438) a + S1x8x1024.size a ≤ S1x4096x1024.size a)
theorem k0_mult472_dvd : ∀ (v6438 : BitVec 32) (k0_hw471 : k0_chk471 v6438), 8 ∣ (k0_mult472 v6438).toNat := fun v6438 k0_hw471 => k0_hw471.1
theorem k0_off538_inb : ∀ (v6438 : BitVec 32) (k0_hw471 : k0_chk471 v6438), ∀ a, (k0_off538 v6438) a + S1x8x1024.size a ≤ S1x4096x1024.size a := fun v6438 k0_hw471 => k0_hw471.2

def k0_mult473 (v6451 : BitVec 32) : BitVec 32 :=
  let c7_i32_4065 : BitVec 32 := 7#32
  let v6452 : BitVec 32 := Scalar.andi v6451 c7_i32_4065
  let v6453 : BitVec 32 := Scalar.subi v6451 v6452
  v6453

def k0_off539 (v6451 : BitVec 32) : Fin 3 → Nat :=
  let c0_4066 : Index := 0#32
  let c7_i32_4065 : BitVec 32 := 7#32
  let v6452 : BitVec 32 := Scalar.andi v6451 c7_i32_4065
  let v6453 : BitVec 32 := Scalar.subi v6451 v6452
  let v6454 : BitVec 32 := v6453
  let v6455 : Index := Scalar.indexCast v6454
  let c0_4067 : Index := 0#32
  ![0, v6455.toNat, 0]

def k0_chk472 (v6451 : BitVec 32) : Prop :=
  (8 ∣ (k0_mult473 v6451).toNat) ∧
  (∀ a, (k0_off539 v6451) a + S1x8x1024.size a ≤ S1x4096x1024.size a)
theorem k0_mult473_dvd : ∀ (v6451 : BitVec 32) (k0_hw472 : k0_chk472 v6451), 8 ∣ (k0_mult473 v6451).toNat := fun v6451 k0_hw472 => k0_hw472.1
theorem k0_off539_inb : ∀ (v6451 : BitVec 32) (k0_hw472 : k0_chk472 v6451), ∀ a, (k0_off539 v6451) a + S1x8x1024.size a ≤ S1x4096x1024.size a := fun v6451 k0_hw472 => k0_hw472.2

def k0_off540 (i : grid0.Coords) : Fin 3 → Nat :=
  let c1_i32_4005 : BitVec 32 := 1#32
  let arg1 : BitVec 32 := BitVec.ofNat 32 (i 1).val
  let c1_i32 : BitVec 32 := 1#32
  let v1 : BitVec 32 := Scalar.andi arg1 c1_i32
  let v6358 : BitVec 32 := Scalar.subi c1_i32_4005 v1
  let c0_i32_4071 : BitVec 32 := 0#32
  let c0_i32_4072 : BitVec 32 := 0#32
  ![v6358.toNat, 0, 0]
def k0_mult474 (v6471 : BitVec 32) : BitVec 32 :=
  let c7_i32_4079 : BitVec 32 := 7#32
  let v6472 : BitVec 32 := Scalar.andi v6471 c7_i32_4079
  let v6473 : BitVec 32 := Scalar.subi v6471 v6472
  v6473

def k0_off541 (v6471 : BitVec 32) : Fin 3 → Nat :=
  let c0_4080 : Index := 0#32
  let c7_i32_4079 : BitVec 32 := 7#32
  let v6472 : BitVec 32 := Scalar.andi v6471 c7_i32_4079
  let v6473 : BitVec 32 := Scalar.subi v6471 v6472
  let v6474 : BitVec 32 := v6473
  let v6475 : Index := Scalar.indexCast v6474
  let c0_4081 : Index := 0#32
  ![0, v6475.toNat, 0]

def k0_chk473 (v6471 : BitVec 32) : Prop :=
  (8 ∣ (k0_mult474 v6471).toNat) ∧
  (∀ a, (k0_off541 v6471) a + S1x8x1024.size a ≤ S1x4096x1024.size a)
theorem k0_mult474_dvd : ∀ (v6471 : BitVec 32) (k0_hw473 : k0_chk473 v6471), 8 ∣ (k0_mult474 v6471).toNat := fun v6471 k0_hw473 => k0_hw473.1
theorem k0_off541_inb : ∀ (v6471 : BitVec 32) (k0_hw473 : k0_chk473 v6471), ∀ a, (k0_off541 v6471) a + S1x8x1024.size a ≤ S1x4096x1024.size a := fun v6471 k0_hw473 => k0_hw473.2

def k0_mult475 (v6484 : BitVec 32) : BitVec 32 :=
  let c7_i32_4087 : BitVec 32 := 7#32
  let v6485 : BitVec 32 := Scalar.andi v6484 c7_i32_4087
  let v6486 : BitVec 32 := Scalar.subi v6484 v6485
  v6486

def k0_off542 (v6484 : BitVec 32) : Fin 3 → Nat :=
  let c0_4088 : Index := 0#32
  let c7_i32_4087 : BitVec 32 := 7#32
  let v6485 : BitVec 32 := Scalar.andi v6484 c7_i32_4087
  let v6486 : BitVec 32 := Scalar.subi v6484 v6485
  let v6487 : BitVec 32 := v6486
  let v6488 : Index := Scalar.indexCast v6487
  let c0_4089 : Index := 0#32
  ![0, v6488.toNat, 0]

def k0_chk474 (v6484 : BitVec 32) : Prop :=
  (8 ∣ (k0_mult475 v6484).toNat) ∧
  (∀ a, (k0_off542 v6484) a + S1x8x1024.size a ≤ S1x4096x1024.size a)
theorem k0_mult475_dvd : ∀ (v6484 : BitVec 32) (k0_hw474 : k0_chk474 v6484), 8 ∣ (k0_mult475 v6484).toNat := fun v6484 k0_hw474 => k0_hw474.1
theorem k0_off542_inb : ∀ (v6484 : BitVec 32) (k0_hw474 : k0_chk474 v6484), ∀ a, (k0_off542 v6484) a + S1x8x1024.size a ≤ S1x4096x1024.size a := fun v6484 k0_hw474 => k0_hw474.2

def k0_mult476 (v6497 : BitVec 32) : BitVec 32 :=
  let c7_i32_4095 : BitVec 32 := 7#32
  let v6498 : BitVec 32 := Scalar.andi v6497 c7_i32_4095
  let v6499 : BitVec 32 := Scalar.subi v6497 v6498
  v6499

def k0_off543 (v6497 : BitVec 32) : Fin 3 → Nat :=
  let c0_4096 : Index := 0#32
  let c7_i32_4095 : BitVec 32 := 7#32
  let v6498 : BitVec 32 := Scalar.andi v6497 c7_i32_4095
  let v6499 : BitVec 32 := Scalar.subi v6497 v6498
  let v6500 : BitVec 32 := v6499
  let v6501 : Index := Scalar.indexCast v6500
  let c0_4097 : Index := 0#32
  ![0, v6501.toNat, 0]

def k0_chk475 (v6497 : BitVec 32) : Prop :=
  (8 ∣ (k0_mult476 v6497).toNat) ∧
  (∀ a, (k0_off543 v6497) a + S1x8x1024.size a ≤ S1x4096x1024.size a)
theorem k0_mult476_dvd : ∀ (v6497 : BitVec 32) (k0_hw475 : k0_chk475 v6497), 8 ∣ (k0_mult476 v6497).toNat := fun v6497 k0_hw475 => k0_hw475.1
theorem k0_off543_inb : ∀ (v6497 : BitVec 32) (k0_hw475 : k0_chk475 v6497), ∀ a, (k0_off543 v6497) a + S1x8x1024.size a ≤ S1x4096x1024.size a := fun v6497 k0_hw475 => k0_hw475.2

def k0_mult477 (v6510 : BitVec 32) : BitVec 32 :=
  let c7_i32_4103 : BitVec 32 := 7#32
  let v6511 : BitVec 32 := Scalar.andi v6510 c7_i32_4103
  let v6512 : BitVec 32 := Scalar.subi v6510 v6511
  v6512

def k0_off544 (v6510 : BitVec 32) : Fin 3 → Nat :=
  let c0_4104 : Index := 0#32
  let c7_i32_4103 : BitVec 32 := 7#32
  let v6511 : BitVec 32 := Scalar.andi v6510 c7_i32_4103
  let v6512 : BitVec 32 := Scalar.subi v6510 v6511
  let v6513 : BitVec 32 := v6512
  let v6514 : Index := Scalar.indexCast v6513
  let c0_4105 : Index := 0#32
  ![0, v6514.toNat, 0]

def k0_chk476 (v6510 : BitVec 32) : Prop :=
  (8 ∣ (k0_mult477 v6510).toNat) ∧
  (∀ a, (k0_off544 v6510) a + S1x8x1024.size a ≤ S1x4096x1024.size a)
theorem k0_mult477_dvd : ∀ (v6510 : BitVec 32) (k0_hw476 : k0_chk476 v6510), 8 ∣ (k0_mult477 v6510).toNat := fun v6510 k0_hw476 => k0_hw476.1
theorem k0_off544_inb : ∀ (v6510 : BitVec 32) (k0_hw476 : k0_chk476 v6510), ∀ a, (k0_off544 v6510) a + S1x8x1024.size a ≤ S1x4096x1024.size a := fun v6510 k0_hw476 => k0_hw476.2

def k0_mult478 (v6523 : BitVec 32) : BitVec 32 :=
  let c7_i32_4111 : BitVec 32 := 7#32
  let v6524 : BitVec 32 := Scalar.andi v6523 c7_i32_4111
  let v6525 : BitVec 32 := Scalar.subi v6523 v6524
  v6525

def k0_off545 (v6523 : BitVec 32) : Fin 3 → Nat :=
  let c0_4112 : Index := 0#32
  let c7_i32_4111 : BitVec 32 := 7#32
  let v6524 : BitVec 32 := Scalar.andi v6523 c7_i32_4111
  let v6525 : BitVec 32 := Scalar.subi v6523 v6524
  let v6526 : BitVec 32 := v6525
  let v6527 : Index := Scalar.indexCast v6526
  let c0_4113 : Index := 0#32
  ![0, v6527.toNat, 0]

def k0_chk477 (v6523 : BitVec 32) : Prop :=
  (8 ∣ (k0_mult478 v6523).toNat) ∧
  (∀ a, (k0_off545 v6523) a + S1x8x1024.size a ≤ S1x4096x1024.size a)
theorem k0_mult478_dvd : ∀ (v6523 : BitVec 32) (k0_hw477 : k0_chk477 v6523), 8 ∣ (k0_mult478 v6523).toNat := fun v6523 k0_hw477 => k0_hw477.1
theorem k0_off545_inb : ∀ (v6523 : BitVec 32) (k0_hw477 : k0_chk477 v6523), ∀ a, (k0_off545 v6523) a + S1x8x1024.size a ≤ S1x4096x1024.size a := fun v6523 k0_hw477 => k0_hw477.2

def k0_mult479 (v6536 : BitVec 32) : BitVec 32 :=
  let c7_i32_4119 : BitVec 32 := 7#32
  let v6537 : BitVec 32 := Scalar.andi v6536 c7_i32_4119
  let v6538 : BitVec 32 := Scalar.subi v6536 v6537
  v6538

def k0_off546 (v6536 : BitVec 32) : Fin 3 → Nat :=
  let c0_4120 : Index := 0#32
  let c7_i32_4119 : BitVec 32 := 7#32
  let v6537 : BitVec 32 := Scalar.andi v6536 c7_i32_4119
  let v6538 : BitVec 32 := Scalar.subi v6536 v6537
  let v6539 : BitVec 32 := v6538
  let v6540 : Index := Scalar.indexCast v6539
  let c0_4121 : Index := 0#32
  ![0, v6540.toNat, 0]

def k0_chk478 (v6536 : BitVec 32) : Prop :=
  (8 ∣ (k0_mult479 v6536).toNat) ∧
  (∀ a, (k0_off546 v6536) a + S1x8x1024.size a ≤ S1x4096x1024.size a)
theorem k0_mult479_dvd : ∀ (v6536 : BitVec 32) (k0_hw478 : k0_chk478 v6536), 8 ∣ (k0_mult479 v6536).toNat := fun v6536 k0_hw478 => k0_hw478.1
theorem k0_off546_inb : ∀ (v6536 : BitVec 32) (k0_hw478 : k0_chk478 v6536), ∀ a, (k0_off546 v6536) a + S1x8x1024.size a ≤ S1x4096x1024.size a := fun v6536 k0_hw478 => k0_hw478.2

def k0_mult480 (v6549 : BitVec 32) : BitVec 32 :=
  let c7_i32_4127 : BitVec 32 := 7#32
  let v6550 : BitVec 32 := Scalar.andi v6549 c7_i32_4127
  let v6551 : BitVec 32 := Scalar.subi v6549 v6550
  v6551

def k0_off547 (v6549 : BitVec 32) : Fin 3 → Nat :=
  let c0_4128 : Index := 0#32
  let c7_i32_4127 : BitVec 32 := 7#32
  let v6550 : BitVec 32 := Scalar.andi v6549 c7_i32_4127
  let v6551 : BitVec 32 := Scalar.subi v6549 v6550
  let v6552 : BitVec 32 := v6551
  let v6553 : Index := Scalar.indexCast v6552
  let c0_4129 : Index := 0#32
  ![0, v6553.toNat, 0]

def k0_chk479 (v6549 : BitVec 32) : Prop :=
  (8 ∣ (k0_mult480 v6549).toNat) ∧
  (∀ a, (k0_off547 v6549) a + S1x8x1024.size a ≤ S1x4096x1024.size a)
theorem k0_mult480_dvd : ∀ (v6549 : BitVec 32) (k0_hw479 : k0_chk479 v6549), 8 ∣ (k0_mult480 v6549).toNat := fun v6549 k0_hw479 => k0_hw479.1
theorem k0_off547_inb : ∀ (v6549 : BitVec 32) (k0_hw479 : k0_chk479 v6549), ∀ a, (k0_off547 v6549) a + S1x8x1024.size a ≤ S1x4096x1024.size a := fun v6549 k0_hw479 => k0_hw479.2

def k0_mult481 (v6562 : BitVec 32) : BitVec 32 :=
  let c7_i32_4135 : BitVec 32 := 7#32
  let v6563 : BitVec 32 := Scalar.andi v6562 c7_i32_4135
  let v6564 : BitVec 32 := Scalar.subi v6562 v6563
  v6564

def k0_off548 (v6562 : BitVec 32) : Fin 3 → Nat :=
  let c0_4136 : Index := 0#32
  let c7_i32_4135 : BitVec 32 := 7#32
  let v6563 : BitVec 32 := Scalar.andi v6562 c7_i32_4135
  let v6564 : BitVec 32 := Scalar.subi v6562 v6563
  let v6565 : BitVec 32 := v6564
  let v6566 : Index := Scalar.indexCast v6565
  let c0_4137 : Index := 0#32
  ![0, v6566.toNat, 0]

def k0_chk480 (v6562 : BitVec 32) : Prop :=
  (8 ∣ (k0_mult481 v6562).toNat) ∧
  (∀ a, (k0_off548 v6562) a + S1x8x1024.size a ≤ S1x4096x1024.size a)
theorem k0_mult481_dvd : ∀ (v6562 : BitVec 32) (k0_hw480 : k0_chk480 v6562), 8 ∣ (k0_mult481 v6562).toNat := fun v6562 k0_hw480 => k0_hw480.1
theorem k0_off548_inb : ∀ (v6562 : BitVec 32) (k0_hw480 : k0_chk480 v6562), ∀ a, (k0_off548 v6562) a + S1x8x1024.size a ≤ S1x4096x1024.size a := fun v6562 k0_hw480 => k0_hw480.2

def k0_off549 (i : grid0.Coords) : Fin 3 → Nat :=
  let c1_i32_4075 : BitVec 32 := 1#32
  let arg1 : BitVec 32 := BitVec.ofNat 32 (i 1).val
  let c1_i32 : BitVec 32 := 1#32
  let v1 : BitVec 32 := Scalar.andi arg1 c1_i32
  let v6469 : BitVec 32 := Scalar.subi c1_i32_4075 v1
  let c0_i32_4141 : BitVec 32 := 0#32
  let c0_i32_4142 : BitVec 32 := 0#32
  ![v6469.toNat, 0, 0]
def k0_mult482 (v6582 : BitVec 32) : BitVec 32 :=
  let c7_i32_4149 : BitVec 32 := 7#32
  let v6583 : BitVec 32 := Scalar.andi v6582 c7_i32_4149
  let v6584 : BitVec 32 := Scalar.subi v6582 v6583
  v6584

def k0_off550 (v6582 : BitVec 32) : Fin 3 → Nat :=
  let c0_4150 : Index := 0#32
  let c7_i32_4149 : BitVec 32 := 7#32
  let v6583 : BitVec 32 := Scalar.andi v6582 c7_i32_4149
  let v6584 : BitVec 32 := Scalar.subi v6582 v6583
  let v6585 : BitVec 32 := v6584
  let v6586 : Index := Scalar.indexCast v6585
  let c0_4151 : Index := 0#32
  ![0, v6586.toNat, 0]

def k0_chk481 (v6582 : BitVec 32) : Prop :=
  (8 ∣ (k0_mult482 v6582).toNat) ∧
  (∀ a, (k0_off550 v6582) a + S1x8x1024.size a ≤ S1x4096x1024.size a)
theorem k0_mult482_dvd : ∀ (v6582 : BitVec 32) (k0_hw481 : k0_chk481 v6582), 8 ∣ (k0_mult482 v6582).toNat := fun v6582 k0_hw481 => k0_hw481.1
theorem k0_off550_inb : ∀ (v6582 : BitVec 32) (k0_hw481 : k0_chk481 v6582), ∀ a, (k0_off550 v6582) a + S1x8x1024.size a ≤ S1x4096x1024.size a := fun v6582 k0_hw481 => k0_hw481.2

def k0_mult483 (v6595 : BitVec 32) : BitVec 32 :=
  let c7_i32_4157 : BitVec 32 := 7#32
  let v6596 : BitVec 32 := Scalar.andi v6595 c7_i32_4157
  let v6597 : BitVec 32 := Scalar.subi v6595 v6596
  v6597

def k0_off551 (v6595 : BitVec 32) : Fin 3 → Nat :=
  let c0_4158 : Index := 0#32
  let c7_i32_4157 : BitVec 32 := 7#32
  let v6596 : BitVec 32 := Scalar.andi v6595 c7_i32_4157
  let v6597 : BitVec 32 := Scalar.subi v6595 v6596
  let v6598 : BitVec 32 := v6597
  let v6599 : Index := Scalar.indexCast v6598
  let c0_4159 : Index := 0#32
  ![0, v6599.toNat, 0]

def k0_chk482 (v6595 : BitVec 32) : Prop :=
  (8 ∣ (k0_mult483 v6595).toNat) ∧
  (∀ a, (k0_off551 v6595) a + S1x8x1024.size a ≤ S1x4096x1024.size a)
theorem k0_mult483_dvd : ∀ (v6595 : BitVec 32) (k0_hw482 : k0_chk482 v6595), 8 ∣ (k0_mult483 v6595).toNat := fun v6595 k0_hw482 => k0_hw482.1
theorem k0_off551_inb : ∀ (v6595 : BitVec 32) (k0_hw482 : k0_chk482 v6595), ∀ a, (k0_off551 v6595) a + S1x8x1024.size a ≤ S1x4096x1024.size a := fun v6595 k0_hw482 => k0_hw482.2

def k0_mult484 (v6608 : BitVec 32) : BitVec 32 :=
  let c7_i32_4165 : BitVec 32 := 7#32
  let v6609 : BitVec 32 := Scalar.andi v6608 c7_i32_4165
  let v6610 : BitVec 32 := Scalar.subi v6608 v6609
  v6610

def k0_off552 (v6608 : BitVec 32) : Fin 3 → Nat :=
  let c0_4166 : Index := 0#32
  let c7_i32_4165 : BitVec 32 := 7#32
  let v6609 : BitVec 32 := Scalar.andi v6608 c7_i32_4165
  let v6610 : BitVec 32 := Scalar.subi v6608 v6609
  let v6611 : BitVec 32 := v6610
  let v6612 : Index := Scalar.indexCast v6611
  let c0_4167 : Index := 0#32
  ![0, v6612.toNat, 0]

def k0_chk483 (v6608 : BitVec 32) : Prop :=
  (8 ∣ (k0_mult484 v6608).toNat) ∧
  (∀ a, (k0_off552 v6608) a + S1x8x1024.size a ≤ S1x4096x1024.size a)
theorem k0_mult484_dvd : ∀ (v6608 : BitVec 32) (k0_hw483 : k0_chk483 v6608), 8 ∣ (k0_mult484 v6608).toNat := fun v6608 k0_hw483 => k0_hw483.1
theorem k0_off552_inb : ∀ (v6608 : BitVec 32) (k0_hw483 : k0_chk483 v6608), ∀ a, (k0_off552 v6608) a + S1x8x1024.size a ≤ S1x4096x1024.size a := fun v6608 k0_hw483 => k0_hw483.2

def k0_mult485 (v6621 : BitVec 32) : BitVec 32 :=
  let c7_i32_4173 : BitVec 32 := 7#32
  let v6622 : BitVec 32 := Scalar.andi v6621 c7_i32_4173
  let v6623 : BitVec 32 := Scalar.subi v6621 v6622
  v6623

def k0_off553 (v6621 : BitVec 32) : Fin 3 → Nat :=
  let c0_4174 : Index := 0#32
  let c7_i32_4173 : BitVec 32 := 7#32
  let v6622 : BitVec 32 := Scalar.andi v6621 c7_i32_4173
  let v6623 : BitVec 32 := Scalar.subi v6621 v6622
  let v6624 : BitVec 32 := v6623
  let v6625 : Index := Scalar.indexCast v6624
  let c0_4175 : Index := 0#32
  ![0, v6625.toNat, 0]

def k0_chk484 (v6621 : BitVec 32) : Prop :=
  (8 ∣ (k0_mult485 v6621).toNat) ∧
  (∀ a, (k0_off553 v6621) a + S1x8x1024.size a ≤ S1x4096x1024.size a)
theorem k0_mult485_dvd : ∀ (v6621 : BitVec 32) (k0_hw484 : k0_chk484 v6621), 8 ∣ (k0_mult485 v6621).toNat := fun v6621 k0_hw484 => k0_hw484.1
theorem k0_off553_inb : ∀ (v6621 : BitVec 32) (k0_hw484 : k0_chk484 v6621), ∀ a, (k0_off553 v6621) a + S1x8x1024.size a ≤ S1x4096x1024.size a := fun v6621 k0_hw484 => k0_hw484.2

def k0_mult486 (v6634 : BitVec 32) : BitVec 32 :=
  let c7_i32_4181 : BitVec 32 := 7#32
  let v6635 : BitVec 32 := Scalar.andi v6634 c7_i32_4181
  let v6636 : BitVec 32 := Scalar.subi v6634 v6635
  v6636

def k0_off554 (v6634 : BitVec 32) : Fin 3 → Nat :=
  let c0_4182 : Index := 0#32
  let c7_i32_4181 : BitVec 32 := 7#32
  let v6635 : BitVec 32 := Scalar.andi v6634 c7_i32_4181
  let v6636 : BitVec 32 := Scalar.subi v6634 v6635
  let v6637 : BitVec 32 := v6636
  let v6638 : Index := Scalar.indexCast v6637
  let c0_4183 : Index := 0#32
  ![0, v6638.toNat, 0]

def k0_chk485 (v6634 : BitVec 32) : Prop :=
  (8 ∣ (k0_mult486 v6634).toNat) ∧
  (∀ a, (k0_off554 v6634) a + S1x8x1024.size a ≤ S1x4096x1024.size a)
theorem k0_mult486_dvd : ∀ (v6634 : BitVec 32) (k0_hw485 : k0_chk485 v6634), 8 ∣ (k0_mult486 v6634).toNat := fun v6634 k0_hw485 => k0_hw485.1
theorem k0_off554_inb : ∀ (v6634 : BitVec 32) (k0_hw485 : k0_chk485 v6634), ∀ a, (k0_off554 v6634) a + S1x8x1024.size a ≤ S1x4096x1024.size a := fun v6634 k0_hw485 => k0_hw485.2

def k0_mult487 (v6647 : BitVec 32) : BitVec 32 :=
  let c7_i32_4189 : BitVec 32 := 7#32
  let v6648 : BitVec 32 := Scalar.andi v6647 c7_i32_4189
  let v6649 : BitVec 32 := Scalar.subi v6647 v6648
  v6649

def k0_off555 (v6647 : BitVec 32) : Fin 3 → Nat :=
  let c0_4190 : Index := 0#32
  let c7_i32_4189 : BitVec 32 := 7#32
  let v6648 : BitVec 32 := Scalar.andi v6647 c7_i32_4189
  let v6649 : BitVec 32 := Scalar.subi v6647 v6648
  let v6650 : BitVec 32 := v6649
  let v6651 : Index := Scalar.indexCast v6650
  let c0_4191 : Index := 0#32
  ![0, v6651.toNat, 0]

def k0_chk486 (v6647 : BitVec 32) : Prop :=
  (8 ∣ (k0_mult487 v6647).toNat) ∧
  (∀ a, (k0_off555 v6647) a + S1x8x1024.size a ≤ S1x4096x1024.size a)
theorem k0_mult487_dvd : ∀ (v6647 : BitVec 32) (k0_hw486 : k0_chk486 v6647), 8 ∣ (k0_mult487 v6647).toNat := fun v6647 k0_hw486 => k0_hw486.1
theorem k0_off555_inb : ∀ (v6647 : BitVec 32) (k0_hw486 : k0_chk486 v6647), ∀ a, (k0_off555 v6647) a + S1x8x1024.size a ≤ S1x4096x1024.size a := fun v6647 k0_hw486 => k0_hw486.2

def k0_mult488 (v6660 : BitVec 32) : BitVec 32 :=
  let c7_i32_4197 : BitVec 32 := 7#32
  let v6661 : BitVec 32 := Scalar.andi v6660 c7_i32_4197
  let v6662 : BitVec 32 := Scalar.subi v6660 v6661
  v6662

def k0_off556 (v6660 : BitVec 32) : Fin 3 → Nat :=
  let c0_4198 : Index := 0#32
  let c7_i32_4197 : BitVec 32 := 7#32
  let v6661 : BitVec 32 := Scalar.andi v6660 c7_i32_4197
  let v6662 : BitVec 32 := Scalar.subi v6660 v6661
  let v6663 : BitVec 32 := v6662
  let v6664 : Index := Scalar.indexCast v6663
  let c0_4199 : Index := 0#32
  ![0, v6664.toNat, 0]

def k0_chk487 (v6660 : BitVec 32) : Prop :=
  (8 ∣ (k0_mult488 v6660).toNat) ∧
  (∀ a, (k0_off556 v6660) a + S1x8x1024.size a ≤ S1x4096x1024.size a)
theorem k0_mult488_dvd : ∀ (v6660 : BitVec 32) (k0_hw487 : k0_chk487 v6660), 8 ∣ (k0_mult488 v6660).toNat := fun v6660 k0_hw487 => k0_hw487.1
theorem k0_off556_inb : ∀ (v6660 : BitVec 32) (k0_hw487 : k0_chk487 v6660), ∀ a, (k0_off556 v6660) a + S1x8x1024.size a ≤ S1x4096x1024.size a := fun v6660 k0_hw487 => k0_hw487.2

def k0_mult489 (v6673 : BitVec 32) : BitVec 32 :=
  let c7_i32_4205 : BitVec 32 := 7#32
  let v6674 : BitVec 32 := Scalar.andi v6673 c7_i32_4205
  let v6675 : BitVec 32 := Scalar.subi v6673 v6674
  v6675

def k0_off557 (v6673 : BitVec 32) : Fin 3 → Nat :=
  let c0_4206 : Index := 0#32
  let c7_i32_4205 : BitVec 32 := 7#32
  let v6674 : BitVec 32 := Scalar.andi v6673 c7_i32_4205
  let v6675 : BitVec 32 := Scalar.subi v6673 v6674
  let v6676 : BitVec 32 := v6675
  let v6677 : Index := Scalar.indexCast v6676
  let c0_4207 : Index := 0#32
  ![0, v6677.toNat, 0]

def k0_chk488 (v6673 : BitVec 32) : Prop :=
  (8 ∣ (k0_mult489 v6673).toNat) ∧
  (∀ a, (k0_off557 v6673) a + S1x8x1024.size a ≤ S1x4096x1024.size a)
theorem k0_mult489_dvd : ∀ (v6673 : BitVec 32) (k0_hw488 : k0_chk488 v6673), 8 ∣ (k0_mult489 v6673).toNat := fun v6673 k0_hw488 => k0_hw488.1
theorem k0_off557_inb : ∀ (v6673 : BitVec 32) (k0_hw488 : k0_chk488 v6673), ∀ a, (k0_off557 v6673) a + S1x8x1024.size a ≤ S1x4096x1024.size a := fun v6673 k0_hw488 => k0_hw488.2

def k0_off558 (i : grid0.Coords) : Fin 3 → Nat :=
  let c1_i32_4145 : BitVec 32 := 1#32
  let arg1 : BitVec 32 := BitVec.ofNat 32 (i 1).val
  let c1_i32 : BitVec 32 := 1#32
  let v1 : BitVec 32 := Scalar.andi arg1 c1_i32
  let v6580 : BitVec 32 := Scalar.subi c1_i32_4145 v1
  let c0_i32_4211 : BitVec 32 := 0#32
  let c0_i32_4212 : BitVec 32 := 0#32
  ![v6580.toNat, 0, 0]
def k0_mult490 (v6693 : BitVec 32) : BitVec 32 :=
  let c7_i32_4219 : BitVec 32 := 7#32
  let v6694 : BitVec 32 := Scalar.andi v6693 c7_i32_4219
  let v6695 : BitVec 32 := Scalar.subi v6693 v6694
  v6695

def k0_off559 (v6693 : BitVec 32) : Fin 3 → Nat :=
  let c0_4220 : Index := 0#32
  let c7_i32_4219 : BitVec 32 := 7#32
  let v6694 : BitVec 32 := Scalar.andi v6693 c7_i32_4219
  let v6695 : BitVec 32 := Scalar.subi v6693 v6694
  let v6696 : BitVec 32 := v6695
  let v6697 : Index := Scalar.indexCast v6696
  let c0_4221 : Index := 0#32
  ![0, v6697.toNat, 0]

def k0_chk489 (v6693 : BitVec 32) : Prop :=
  (8 ∣ (k0_mult490 v6693).toNat) ∧
  (∀ a, (k0_off559 v6693) a + S1x8x1024.size a ≤ S1x4096x1024.size a)
theorem k0_mult490_dvd : ∀ (v6693 : BitVec 32) (k0_hw489 : k0_chk489 v6693), 8 ∣ (k0_mult490 v6693).toNat := fun v6693 k0_hw489 => k0_hw489.1
theorem k0_off559_inb : ∀ (v6693 : BitVec 32) (k0_hw489 : k0_chk489 v6693), ∀ a, (k0_off559 v6693) a + S1x8x1024.size a ≤ S1x4096x1024.size a := fun v6693 k0_hw489 => k0_hw489.2

def k0_mult491 (v6706 : BitVec 32) : BitVec 32 :=
  let c7_i32_4227 : BitVec 32 := 7#32
  let v6707 : BitVec 32 := Scalar.andi v6706 c7_i32_4227
  let v6708 : BitVec 32 := Scalar.subi v6706 v6707
  v6708

def k0_off560 (v6706 : BitVec 32) : Fin 3 → Nat :=
  let c0_4228 : Index := 0#32
  let c7_i32_4227 : BitVec 32 := 7#32
  let v6707 : BitVec 32 := Scalar.andi v6706 c7_i32_4227
  let v6708 : BitVec 32 := Scalar.subi v6706 v6707
  let v6709 : BitVec 32 := v6708
  let v6710 : Index := Scalar.indexCast v6709
  let c0_4229 : Index := 0#32
  ![0, v6710.toNat, 0]

def k0_chk490 (v6706 : BitVec 32) : Prop :=
  (8 ∣ (k0_mult491 v6706).toNat) ∧
  (∀ a, (k0_off560 v6706) a + S1x8x1024.size a ≤ S1x4096x1024.size a)
theorem k0_mult491_dvd : ∀ (v6706 : BitVec 32) (k0_hw490 : k0_chk490 v6706), 8 ∣ (k0_mult491 v6706).toNat := fun v6706 k0_hw490 => k0_hw490.1
theorem k0_off560_inb : ∀ (v6706 : BitVec 32) (k0_hw490 : k0_chk490 v6706), ∀ a, (k0_off560 v6706) a + S1x8x1024.size a ≤ S1x4096x1024.size a := fun v6706 k0_hw490 => k0_hw490.2

def k0_mult492 (v6719 : BitVec 32) : BitVec 32 :=
  let c7_i32_4235 : BitVec 32 := 7#32
  let v6720 : BitVec 32 := Scalar.andi v6719 c7_i32_4235
  let v6721 : BitVec 32 := Scalar.subi v6719 v6720
  v6721

def k0_off561 (v6719 : BitVec 32) : Fin 3 → Nat :=
  let c0_4236 : Index := 0#32
  let c7_i32_4235 : BitVec 32 := 7#32
  let v6720 : BitVec 32 := Scalar.andi v6719 c7_i32_4235
  let v6721 : BitVec 32 := Scalar.subi v6719 v6720
  let v6722 : BitVec 32 := v6721
  let v6723 : Index := Scalar.indexCast v6722
  let c0_4237 : Index := 0#32
  ![0, v6723.toNat, 0]

def k0_chk491 (v6719 : BitVec 32) : Prop :=
  (8 ∣ (k0_mult492 v6719).toNat) ∧
  (∀ a, (k0_off561 v6719) a + S1x8x1024.size a ≤ S1x4096x1024.size a)
theorem k0_mult492_dvd : ∀ (v6719 : BitVec 32) (k0_hw491 : k0_chk491 v6719), 8 ∣ (k0_mult492 v6719).toNat := fun v6719 k0_hw491 => k0_hw491.1
theorem k0_off561_inb : ∀ (v6719 : BitVec 32) (k0_hw491 : k0_chk491 v6719), ∀ a, (k0_off561 v6719) a + S1x8x1024.size a ≤ S1x4096x1024.size a := fun v6719 k0_hw491 => k0_hw491.2

def k0_mult493 (v6732 : BitVec 32) : BitVec 32 :=
  let c7_i32_4243 : BitVec 32 := 7#32
  let v6733 : BitVec 32 := Scalar.andi v6732 c7_i32_4243
  let v6734 : BitVec 32 := Scalar.subi v6732 v6733
  v6734

def k0_off562 (v6732 : BitVec 32) : Fin 3 → Nat :=
  let c0_4244 : Index := 0#32
  let c7_i32_4243 : BitVec 32 := 7#32
  let v6733 : BitVec 32 := Scalar.andi v6732 c7_i32_4243
  let v6734 : BitVec 32 := Scalar.subi v6732 v6733
  let v6735 : BitVec 32 := v6734
  let v6736 : Index := Scalar.indexCast v6735
  let c0_4245 : Index := 0#32
  ![0, v6736.toNat, 0]

def k0_chk492 (v6732 : BitVec 32) : Prop :=
  (8 ∣ (k0_mult493 v6732).toNat) ∧
  (∀ a, (k0_off562 v6732) a + S1x8x1024.size a ≤ S1x4096x1024.size a)
theorem k0_mult493_dvd : ∀ (v6732 : BitVec 32) (k0_hw492 : k0_chk492 v6732), 8 ∣ (k0_mult493 v6732).toNat := fun v6732 k0_hw492 => k0_hw492.1
theorem k0_off562_inb : ∀ (v6732 : BitVec 32) (k0_hw492 : k0_chk492 v6732), ∀ a, (k0_off562 v6732) a + S1x8x1024.size a ≤ S1x4096x1024.size a := fun v6732 k0_hw492 => k0_hw492.2

def k0_mult494 (v6745 : BitVec 32) : BitVec 32 :=
  let c7_i32_4251 : BitVec 32 := 7#32
  let v6746 : BitVec 32 := Scalar.andi v6745 c7_i32_4251
  let v6747 : BitVec 32 := Scalar.subi v6745 v6746
  v6747

def k0_off563 (v6745 : BitVec 32) : Fin 3 → Nat :=
  let c0_4252 : Index := 0#32
  let c7_i32_4251 : BitVec 32 := 7#32
  let v6746 : BitVec 32 := Scalar.andi v6745 c7_i32_4251
  let v6747 : BitVec 32 := Scalar.subi v6745 v6746
  let v6748 : BitVec 32 := v6747
  let v6749 : Index := Scalar.indexCast v6748
  let c0_4253 : Index := 0#32
  ![0, v6749.toNat, 0]

def k0_chk493 (v6745 : BitVec 32) : Prop :=
  (8 ∣ (k0_mult494 v6745).toNat) ∧
  (∀ a, (k0_off563 v6745) a + S1x8x1024.size a ≤ S1x4096x1024.size a)
theorem k0_mult494_dvd : ∀ (v6745 : BitVec 32) (k0_hw493 : k0_chk493 v6745), 8 ∣ (k0_mult494 v6745).toNat := fun v6745 k0_hw493 => k0_hw493.1
theorem k0_off563_inb : ∀ (v6745 : BitVec 32) (k0_hw493 : k0_chk493 v6745), ∀ a, (k0_off563 v6745) a + S1x8x1024.size a ≤ S1x4096x1024.size a := fun v6745 k0_hw493 => k0_hw493.2

def k0_mult495 (v6758 : BitVec 32) : BitVec 32 :=
  let c7_i32_4259 : BitVec 32 := 7#32
  let v6759 : BitVec 32 := Scalar.andi v6758 c7_i32_4259
  let v6760 : BitVec 32 := Scalar.subi v6758 v6759
  v6760

def k0_off564 (v6758 : BitVec 32) : Fin 3 → Nat :=
  let c0_4260 : Index := 0#32
  let c7_i32_4259 : BitVec 32 := 7#32
  let v6759 : BitVec 32 := Scalar.andi v6758 c7_i32_4259
  let v6760 : BitVec 32 := Scalar.subi v6758 v6759
  let v6761 : BitVec 32 := v6760
  let v6762 : Index := Scalar.indexCast v6761
  let c0_4261 : Index := 0#32
  ![0, v6762.toNat, 0]

def k0_chk494 (v6758 : BitVec 32) : Prop :=
  (8 ∣ (k0_mult495 v6758).toNat) ∧
  (∀ a, (k0_off564 v6758) a + S1x8x1024.size a ≤ S1x4096x1024.size a)
theorem k0_mult495_dvd : ∀ (v6758 : BitVec 32) (k0_hw494 : k0_chk494 v6758), 8 ∣ (k0_mult495 v6758).toNat := fun v6758 k0_hw494 => k0_hw494.1
theorem k0_off564_inb : ∀ (v6758 : BitVec 32) (k0_hw494 : k0_chk494 v6758), ∀ a, (k0_off564 v6758) a + S1x8x1024.size a ≤ S1x4096x1024.size a := fun v6758 k0_hw494 => k0_hw494.2

def k0_mult496 (v6771 : BitVec 32) : BitVec 32 :=
  let c7_i32_4267 : BitVec 32 := 7#32
  let v6772 : BitVec 32 := Scalar.andi v6771 c7_i32_4267
  let v6773 : BitVec 32 := Scalar.subi v6771 v6772
  v6773

def k0_off565 (v6771 : BitVec 32) : Fin 3 → Nat :=
  let c0_4268 : Index := 0#32
  let c7_i32_4267 : BitVec 32 := 7#32
  let v6772 : BitVec 32 := Scalar.andi v6771 c7_i32_4267
  let v6773 : BitVec 32 := Scalar.subi v6771 v6772
  let v6774 : BitVec 32 := v6773
  let v6775 : Index := Scalar.indexCast v6774
  let c0_4269 : Index := 0#32
  ![0, v6775.toNat, 0]

def k0_chk495 (v6771 : BitVec 32) : Prop :=
  (8 ∣ (k0_mult496 v6771).toNat) ∧
  (∀ a, (k0_off565 v6771) a + S1x8x1024.size a ≤ S1x4096x1024.size a)
theorem k0_mult496_dvd : ∀ (v6771 : BitVec 32) (k0_hw495 : k0_chk495 v6771), 8 ∣ (k0_mult496 v6771).toNat := fun v6771 k0_hw495 => k0_hw495.1
theorem k0_off565_inb : ∀ (v6771 : BitVec 32) (k0_hw495 : k0_chk495 v6771), ∀ a, (k0_off565 v6771) a + S1x8x1024.size a ≤ S1x4096x1024.size a := fun v6771 k0_hw495 => k0_hw495.2

def k0_mult497 (v6784 : BitVec 32) : BitVec 32 :=
  let c7_i32_4275 : BitVec 32 := 7#32
  let v6785 : BitVec 32 := Scalar.andi v6784 c7_i32_4275
  let v6786 : BitVec 32 := Scalar.subi v6784 v6785
  v6786

def k0_off566 (v6784 : BitVec 32) : Fin 3 → Nat :=
  let c0_4276 : Index := 0#32
  let c7_i32_4275 : BitVec 32 := 7#32
  let v6785 : BitVec 32 := Scalar.andi v6784 c7_i32_4275
  let v6786 : BitVec 32 := Scalar.subi v6784 v6785
  let v6787 : BitVec 32 := v6786
  let v6788 : Index := Scalar.indexCast v6787
  let c0_4277 : Index := 0#32
  ![0, v6788.toNat, 0]

def k0_chk496 (v6784 : BitVec 32) : Prop :=
  (8 ∣ (k0_mult497 v6784).toNat) ∧
  (∀ a, (k0_off566 v6784) a + S1x8x1024.size a ≤ S1x4096x1024.size a)
theorem k0_mult497_dvd : ∀ (v6784 : BitVec 32) (k0_hw496 : k0_chk496 v6784), 8 ∣ (k0_mult497 v6784).toNat := fun v6784 k0_hw496 => k0_hw496.1
theorem k0_off566_inb : ∀ (v6784 : BitVec 32) (k0_hw496 : k0_chk496 v6784), ∀ a, (k0_off566 v6784) a + S1x8x1024.size a ≤ S1x4096x1024.size a := fun v6784 k0_hw496 => k0_hw496.2

def k0_off567 (i : grid0.Coords) : Fin 3 → Nat :=
  let c1_i32_4215 : BitVec 32 := 1#32
  let arg1 : BitVec 32 := BitVec.ofNat 32 (i 1).val
  let c1_i32 : BitVec 32 := 1#32
  let v1 : BitVec 32 := Scalar.andi arg1 c1_i32
  let v6691 : BitVec 32 := Scalar.subi c1_i32_4215 v1
  let c0_i32_4281 : BitVec 32 := 0#32
  let c0_i32_4282 : BitVec 32 := 0#32
  ![v6691.toNat, 0, 0]
def k0_mult498 (v6804 : BitVec 32) : BitVec 32 :=
  let c7_i32_4289 : BitVec 32 := 7#32
  let v6805 : BitVec 32 := Scalar.andi v6804 c7_i32_4289
  let v6806 : BitVec 32 := Scalar.subi v6804 v6805
  v6806

def k0_off568 (v6804 : BitVec 32) : Fin 3 → Nat :=
  let c0_4290 : Index := 0#32
  let c7_i32_4289 : BitVec 32 := 7#32
  let v6805 : BitVec 32 := Scalar.andi v6804 c7_i32_4289
  let v6806 : BitVec 32 := Scalar.subi v6804 v6805
  let v6807 : BitVec 32 := v6806
  let v6808 : Index := Scalar.indexCast v6807
  let c0_4291 : Index := 0#32
  ![0, v6808.toNat, 0]

def k0_chk497 (v6804 : BitVec 32) : Prop :=
  (8 ∣ (k0_mult498 v6804).toNat) ∧
  (∀ a, (k0_off568 v6804) a + S1x8x1024.size a ≤ S1x4096x1024.size a)
theorem k0_mult498_dvd : ∀ (v6804 : BitVec 32) (k0_hw497 : k0_chk497 v6804), 8 ∣ (k0_mult498 v6804).toNat := fun v6804 k0_hw497 => k0_hw497.1
theorem k0_off568_inb : ∀ (v6804 : BitVec 32) (k0_hw497 : k0_chk497 v6804), ∀ a, (k0_off568 v6804) a + S1x8x1024.size a ≤ S1x4096x1024.size a := fun v6804 k0_hw497 => k0_hw497.2

def k0_mult499 (v6817 : BitVec 32) : BitVec 32 :=
  let c7_i32_4297 : BitVec 32 := 7#32
  let v6818 : BitVec 32 := Scalar.andi v6817 c7_i32_4297
  let v6819 : BitVec 32 := Scalar.subi v6817 v6818
  v6819

def k0_off569 (v6817 : BitVec 32) : Fin 3 → Nat :=
  let c0_4298 : Index := 0#32
  let c7_i32_4297 : BitVec 32 := 7#32
  let v6818 : BitVec 32 := Scalar.andi v6817 c7_i32_4297
  let v6819 : BitVec 32 := Scalar.subi v6817 v6818
  let v6820 : BitVec 32 := v6819
  let v6821 : Index := Scalar.indexCast v6820
  let c0_4299 : Index := 0#32
  ![0, v6821.toNat, 0]

def k0_chk498 (v6817 : BitVec 32) : Prop :=
  (8 ∣ (k0_mult499 v6817).toNat) ∧
  (∀ a, (k0_off569 v6817) a + S1x8x1024.size a ≤ S1x4096x1024.size a)
theorem k0_mult499_dvd : ∀ (v6817 : BitVec 32) (k0_hw498 : k0_chk498 v6817), 8 ∣ (k0_mult499 v6817).toNat := fun v6817 k0_hw498 => k0_hw498.1
theorem k0_off569_inb : ∀ (v6817 : BitVec 32) (k0_hw498 : k0_chk498 v6817), ∀ a, (k0_off569 v6817) a + S1x8x1024.size a ≤ S1x4096x1024.size a := fun v6817 k0_hw498 => k0_hw498.2

def k0_mult500 (v6830 : BitVec 32) : BitVec 32 :=
  let c7_i32_4305 : BitVec 32 := 7#32
  let v6831 : BitVec 32 := Scalar.andi v6830 c7_i32_4305
  let v6832 : BitVec 32 := Scalar.subi v6830 v6831
  v6832

def k0_off570 (v6830 : BitVec 32) : Fin 3 → Nat :=
  let c0_4306 : Index := 0#32
  let c7_i32_4305 : BitVec 32 := 7#32
  let v6831 : BitVec 32 := Scalar.andi v6830 c7_i32_4305
  let v6832 : BitVec 32 := Scalar.subi v6830 v6831
  let v6833 : BitVec 32 := v6832
  let v6834 : Index := Scalar.indexCast v6833
  let c0_4307 : Index := 0#32
  ![0, v6834.toNat, 0]

def k0_chk499 (v6830 : BitVec 32) : Prop :=
  (8 ∣ (k0_mult500 v6830).toNat) ∧
  (∀ a, (k0_off570 v6830) a + S1x8x1024.size a ≤ S1x4096x1024.size a)
theorem k0_mult500_dvd : ∀ (v6830 : BitVec 32) (k0_hw499 : k0_chk499 v6830), 8 ∣ (k0_mult500 v6830).toNat := fun v6830 k0_hw499 => k0_hw499.1
theorem k0_off570_inb : ∀ (v6830 : BitVec 32) (k0_hw499 : k0_chk499 v6830), ∀ a, (k0_off570 v6830) a + S1x8x1024.size a ≤ S1x4096x1024.size a := fun v6830 k0_hw499 => k0_hw499.2

def k0_mult501 (v6843 : BitVec 32) : BitVec 32 :=
  let c7_i32_4313 : BitVec 32 := 7#32
  let v6844 : BitVec 32 := Scalar.andi v6843 c7_i32_4313
  let v6845 : BitVec 32 := Scalar.subi v6843 v6844
  v6845

def k0_off571 (v6843 : BitVec 32) : Fin 3 → Nat :=
  let c0_4314 : Index := 0#32
  let c7_i32_4313 : BitVec 32 := 7#32
  let v6844 : BitVec 32 := Scalar.andi v6843 c7_i32_4313
  let v6845 : BitVec 32 := Scalar.subi v6843 v6844
  let v6846 : BitVec 32 := v6845
  let v6847 : Index := Scalar.indexCast v6846
  let c0_4315 : Index := 0#32
  ![0, v6847.toNat, 0]

def k0_chk500 (v6843 : BitVec 32) : Prop :=
  (8 ∣ (k0_mult501 v6843).toNat) ∧
  (∀ a, (k0_off571 v6843) a + S1x8x1024.size a ≤ S1x4096x1024.size a)
theorem k0_mult501_dvd : ∀ (v6843 : BitVec 32) (k0_hw500 : k0_chk500 v6843), 8 ∣ (k0_mult501 v6843).toNat := fun v6843 k0_hw500 => k0_hw500.1
theorem k0_off571_inb : ∀ (v6843 : BitVec 32) (k0_hw500 : k0_chk500 v6843), ∀ a, (k0_off571 v6843) a + S1x8x1024.size a ≤ S1x4096x1024.size a := fun v6843 k0_hw500 => k0_hw500.2

def k0_mult502 (v6856 : BitVec 32) : BitVec 32 :=
  let c7_i32_4321 : BitVec 32 := 7#32
  let v6857 : BitVec 32 := Scalar.andi v6856 c7_i32_4321
  let v6858 : BitVec 32 := Scalar.subi v6856 v6857
  v6858

def k0_off572 (v6856 : BitVec 32) : Fin 3 → Nat :=
  let c0_4322 : Index := 0#32
  let c7_i32_4321 : BitVec 32 := 7#32
  let v6857 : BitVec 32 := Scalar.andi v6856 c7_i32_4321
  let v6858 : BitVec 32 := Scalar.subi v6856 v6857
  let v6859 : BitVec 32 := v6858
  let v6860 : Index := Scalar.indexCast v6859
  let c0_4323 : Index := 0#32
  ![0, v6860.toNat, 0]

def k0_chk501 (v6856 : BitVec 32) : Prop :=
  (8 ∣ (k0_mult502 v6856).toNat) ∧
  (∀ a, (k0_off572 v6856) a + S1x8x1024.size a ≤ S1x4096x1024.size a)
theorem k0_mult502_dvd : ∀ (v6856 : BitVec 32) (k0_hw501 : k0_chk501 v6856), 8 ∣ (k0_mult502 v6856).toNat := fun v6856 k0_hw501 => k0_hw501.1
theorem k0_off572_inb : ∀ (v6856 : BitVec 32) (k0_hw501 : k0_chk501 v6856), ∀ a, (k0_off572 v6856) a + S1x8x1024.size a ≤ S1x4096x1024.size a := fun v6856 k0_hw501 => k0_hw501.2

def k0_mult503 (v6869 : BitVec 32) : BitVec 32 :=
  let c7_i32_4329 : BitVec 32 := 7#32
  let v6870 : BitVec 32 := Scalar.andi v6869 c7_i32_4329
  let v6871 : BitVec 32 := Scalar.subi v6869 v6870
  v6871

def k0_off573 (v6869 : BitVec 32) : Fin 3 → Nat :=
  let c0_4330 : Index := 0#32
  let c7_i32_4329 : BitVec 32 := 7#32
  let v6870 : BitVec 32 := Scalar.andi v6869 c7_i32_4329
  let v6871 : BitVec 32 := Scalar.subi v6869 v6870
  let v6872 : BitVec 32 := v6871
  let v6873 : Index := Scalar.indexCast v6872
  let c0_4331 : Index := 0#32
  ![0, v6873.toNat, 0]

def k0_chk502 (v6869 : BitVec 32) : Prop :=
  (8 ∣ (k0_mult503 v6869).toNat) ∧
  (∀ a, (k0_off573 v6869) a + S1x8x1024.size a ≤ S1x4096x1024.size a)
theorem k0_mult503_dvd : ∀ (v6869 : BitVec 32) (k0_hw502 : k0_chk502 v6869), 8 ∣ (k0_mult503 v6869).toNat := fun v6869 k0_hw502 => k0_hw502.1
theorem k0_off573_inb : ∀ (v6869 : BitVec 32) (k0_hw502 : k0_chk502 v6869), ∀ a, (k0_off573 v6869) a + S1x8x1024.size a ≤ S1x4096x1024.size a := fun v6869 k0_hw502 => k0_hw502.2

def k0_mult504 (v6882 : BitVec 32) : BitVec 32 :=
  let c7_i32_4337 : BitVec 32 := 7#32
  let v6883 : BitVec 32 := Scalar.andi v6882 c7_i32_4337
  let v6884 : BitVec 32 := Scalar.subi v6882 v6883
  v6884

def k0_off574 (v6882 : BitVec 32) : Fin 3 → Nat :=
  let c0_4338 : Index := 0#32
  let c7_i32_4337 : BitVec 32 := 7#32
  let v6883 : BitVec 32 := Scalar.andi v6882 c7_i32_4337
  let v6884 : BitVec 32 := Scalar.subi v6882 v6883
  let v6885 : BitVec 32 := v6884
  let v6886 : Index := Scalar.indexCast v6885
  let c0_4339 : Index := 0#32
  ![0, v6886.toNat, 0]

def k0_chk503 (v6882 : BitVec 32) : Prop :=
  (8 ∣ (k0_mult504 v6882).toNat) ∧
  (∀ a, (k0_off574 v6882) a + S1x8x1024.size a ≤ S1x4096x1024.size a)
theorem k0_mult504_dvd : ∀ (v6882 : BitVec 32) (k0_hw503 : k0_chk503 v6882), 8 ∣ (k0_mult504 v6882).toNat := fun v6882 k0_hw503 => k0_hw503.1
theorem k0_off574_inb : ∀ (v6882 : BitVec 32) (k0_hw503 : k0_chk503 v6882), ∀ a, (k0_off574 v6882) a + S1x8x1024.size a ≤ S1x4096x1024.size a := fun v6882 k0_hw503 => k0_hw503.2

def k0_mult505 (v6895 : BitVec 32) : BitVec 32 :=
  let c7_i32_4345 : BitVec 32 := 7#32
  let v6896 : BitVec 32 := Scalar.andi v6895 c7_i32_4345
  let v6897 : BitVec 32 := Scalar.subi v6895 v6896
  v6897

def k0_off575 (v6895 : BitVec 32) : Fin 3 → Nat :=
  let c0_4346 : Index := 0#32
  let c7_i32_4345 : BitVec 32 := 7#32
  let v6896 : BitVec 32 := Scalar.andi v6895 c7_i32_4345
  let v6897 : BitVec 32 := Scalar.subi v6895 v6896
  let v6898 : BitVec 32 := v6897
  let v6899 : Index := Scalar.indexCast v6898
  let c0_4347 : Index := 0#32
  ![0, v6899.toNat, 0]

def k0_chk504 (v6895 : BitVec 32) : Prop :=
  (8 ∣ (k0_mult505 v6895).toNat) ∧
  (∀ a, (k0_off575 v6895) a + S1x8x1024.size a ≤ S1x4096x1024.size a)
theorem k0_mult505_dvd : ∀ (v6895 : BitVec 32) (k0_hw504 : k0_chk504 v6895), 8 ∣ (k0_mult505 v6895).toNat := fun v6895 k0_hw504 => k0_hw504.1
theorem k0_off575_inb : ∀ (v6895 : BitVec 32) (k0_hw504 : k0_chk504 v6895), ∀ a, (k0_off575 v6895) a + S1x8x1024.size a ≤ S1x4096x1024.size a := fun v6895 k0_hw504 => k0_hw504.2

def k0_off576 (i : grid0.Coords) : Fin 3 → Nat :=
  let c1_i32_4285 : BitVec 32 := 1#32
  let arg1 : BitVec 32 := BitVec.ofNat 32 (i 1).val
  let c1_i32 : BitVec 32 := 1#32
  let v1 : BitVec 32 := Scalar.andi arg1 c1_i32
  let v6802 : BitVec 32 := Scalar.subi c1_i32_4285 v1
  let c0_i32_4351 : BitVec 32 := 0#32
  let c0_i32_4352 : BitVec 32 := 0#32
  ![v6802.toNat, 0, 0]
def k0_mult506 (v6915 : BitVec 32) : BitVec 32 :=
  let c7_i32_4359 : BitVec 32 := 7#32
  let v6916 : BitVec 32 := Scalar.andi v6915 c7_i32_4359
  let v6917 : BitVec 32 := Scalar.subi v6915 v6916
  v6917

def k0_off577 (v6915 : BitVec 32) : Fin 3 → Nat :=
  let c0_4360 : Index := 0#32
  let c7_i32_4359 : BitVec 32 := 7#32
  let v6916 : BitVec 32 := Scalar.andi v6915 c7_i32_4359
  let v6917 : BitVec 32 := Scalar.subi v6915 v6916
  let v6918 : BitVec 32 := v6917
  let v6919 : Index := Scalar.indexCast v6918
  let c0_4361 : Index := 0#32
  ![0, v6919.toNat, 0]

def k0_chk505 (v6915 : BitVec 32) : Prop :=
  (8 ∣ (k0_mult506 v6915).toNat) ∧
  (∀ a, (k0_off577 v6915) a + S1x8x1024.size a ≤ S1x4096x1024.size a)
theorem k0_mult506_dvd : ∀ (v6915 : BitVec 32) (k0_hw505 : k0_chk505 v6915), 8 ∣ (k0_mult506 v6915).toNat := fun v6915 k0_hw505 => k0_hw505.1
theorem k0_off577_inb : ∀ (v6915 : BitVec 32) (k0_hw505 : k0_chk505 v6915), ∀ a, (k0_off577 v6915) a + S1x8x1024.size a ≤ S1x4096x1024.size a := fun v6915 k0_hw505 => k0_hw505.2

def k0_mult507 (v6928 : BitVec 32) : BitVec 32 :=
  let c7_i32_4367 : BitVec 32 := 7#32
  let v6929 : BitVec 32 := Scalar.andi v6928 c7_i32_4367
  let v6930 : BitVec 32 := Scalar.subi v6928 v6929
  v6930

def k0_off578 (v6928 : BitVec 32) : Fin 3 → Nat :=
  let c0_4368 : Index := 0#32
  let c7_i32_4367 : BitVec 32 := 7#32
  let v6929 : BitVec 32 := Scalar.andi v6928 c7_i32_4367
  let v6930 : BitVec 32 := Scalar.subi v6928 v6929
  let v6931 : BitVec 32 := v6930
  let v6932 : Index := Scalar.indexCast v6931
  let c0_4369 : Index := 0#32
  ![0, v6932.toNat, 0]

def k0_chk506 (v6928 : BitVec 32) : Prop :=
  (8 ∣ (k0_mult507 v6928).toNat) ∧
  (∀ a, (k0_off578 v6928) a + S1x8x1024.size a ≤ S1x4096x1024.size a)
theorem k0_mult507_dvd : ∀ (v6928 : BitVec 32) (k0_hw506 : k0_chk506 v6928), 8 ∣ (k0_mult507 v6928).toNat := fun v6928 k0_hw506 => k0_hw506.1
theorem k0_off578_inb : ∀ (v6928 : BitVec 32) (k0_hw506 : k0_chk506 v6928), ∀ a, (k0_off578 v6928) a + S1x8x1024.size a ≤ S1x4096x1024.size a := fun v6928 k0_hw506 => k0_hw506.2

def k0_mult508 (v6941 : BitVec 32) : BitVec 32 :=
  let c7_i32_4375 : BitVec 32 := 7#32
  let v6942 : BitVec 32 := Scalar.andi v6941 c7_i32_4375
  let v6943 : BitVec 32 := Scalar.subi v6941 v6942
  v6943

def k0_off579 (v6941 : BitVec 32) : Fin 3 → Nat :=
  let c0_4376 : Index := 0#32
  let c7_i32_4375 : BitVec 32 := 7#32
  let v6942 : BitVec 32 := Scalar.andi v6941 c7_i32_4375
  let v6943 : BitVec 32 := Scalar.subi v6941 v6942
  let v6944 : BitVec 32 := v6943
  let v6945 : Index := Scalar.indexCast v6944
  let c0_4377 : Index := 0#32
  ![0, v6945.toNat, 0]

def k0_chk507 (v6941 : BitVec 32) : Prop :=
  (8 ∣ (k0_mult508 v6941).toNat) ∧
  (∀ a, (k0_off579 v6941) a + S1x8x1024.size a ≤ S1x4096x1024.size a)
theorem k0_mult508_dvd : ∀ (v6941 : BitVec 32) (k0_hw507 : k0_chk507 v6941), 8 ∣ (k0_mult508 v6941).toNat := fun v6941 k0_hw507 => k0_hw507.1
theorem k0_off579_inb : ∀ (v6941 : BitVec 32) (k0_hw507 : k0_chk507 v6941), ∀ a, (k0_off579 v6941) a + S1x8x1024.size a ≤ S1x4096x1024.size a := fun v6941 k0_hw507 => k0_hw507.2

def k0_mult509 (v6954 : BitVec 32) : BitVec 32 :=
  let c7_i32_4383 : BitVec 32 := 7#32
  let v6955 : BitVec 32 := Scalar.andi v6954 c7_i32_4383
  let v6956 : BitVec 32 := Scalar.subi v6954 v6955
  v6956

def k0_off580 (v6954 : BitVec 32) : Fin 3 → Nat :=
  let c0_4384 : Index := 0#32
  let c7_i32_4383 : BitVec 32 := 7#32
  let v6955 : BitVec 32 := Scalar.andi v6954 c7_i32_4383
  let v6956 : BitVec 32 := Scalar.subi v6954 v6955
  let v6957 : BitVec 32 := v6956
  let v6958 : Index := Scalar.indexCast v6957
  let c0_4385 : Index := 0#32
  ![0, v6958.toNat, 0]

def k0_chk508 (v6954 : BitVec 32) : Prop :=
  (8 ∣ (k0_mult509 v6954).toNat) ∧
  (∀ a, (k0_off580 v6954) a + S1x8x1024.size a ≤ S1x4096x1024.size a)
theorem k0_mult509_dvd : ∀ (v6954 : BitVec 32) (k0_hw508 : k0_chk508 v6954), 8 ∣ (k0_mult509 v6954).toNat := fun v6954 k0_hw508 => k0_hw508.1
theorem k0_off580_inb : ∀ (v6954 : BitVec 32) (k0_hw508 : k0_chk508 v6954), ∀ a, (k0_off580 v6954) a + S1x8x1024.size a ≤ S1x4096x1024.size a := fun v6954 k0_hw508 => k0_hw508.2

def k0_mult510 (v6967 : BitVec 32) : BitVec 32 :=
  let c7_i32_4391 : BitVec 32 := 7#32
  let v6968 : BitVec 32 := Scalar.andi v6967 c7_i32_4391
  let v6969 : BitVec 32 := Scalar.subi v6967 v6968
  v6969

def k0_off581 (v6967 : BitVec 32) : Fin 3 → Nat :=
  let c0_4392 : Index := 0#32
  let c7_i32_4391 : BitVec 32 := 7#32
  let v6968 : BitVec 32 := Scalar.andi v6967 c7_i32_4391
  let v6969 : BitVec 32 := Scalar.subi v6967 v6968
  let v6970 : BitVec 32 := v6969
  let v6971 : Index := Scalar.indexCast v6970
  let c0_4393 : Index := 0#32
  ![0, v6971.toNat, 0]

def k0_chk509 (v6967 : BitVec 32) : Prop :=
  (8 ∣ (k0_mult510 v6967).toNat) ∧
  (∀ a, (k0_off581 v6967) a + S1x8x1024.size a ≤ S1x4096x1024.size a)
theorem k0_mult510_dvd : ∀ (v6967 : BitVec 32) (k0_hw509 : k0_chk509 v6967), 8 ∣ (k0_mult510 v6967).toNat := fun v6967 k0_hw509 => k0_hw509.1
theorem k0_off581_inb : ∀ (v6967 : BitVec 32) (k0_hw509 : k0_chk509 v6967), ∀ a, (k0_off581 v6967) a + S1x8x1024.size a ≤ S1x4096x1024.size a := fun v6967 k0_hw509 => k0_hw509.2

def k0_mult511 (v6980 : BitVec 32) : BitVec 32 :=
  let c7_i32_4399 : BitVec 32 := 7#32
  let v6981 : BitVec 32 := Scalar.andi v6980 c7_i32_4399
  let v6982 : BitVec 32 := Scalar.subi v6980 v6981
  v6982

def k0_off582 (v6980 : BitVec 32) : Fin 3 → Nat :=
  let c0_4400 : Index := 0#32
  let c7_i32_4399 : BitVec 32 := 7#32
  let v6981 : BitVec 32 := Scalar.andi v6980 c7_i32_4399
  let v6982 : BitVec 32 := Scalar.subi v6980 v6981
  let v6983 : BitVec 32 := v6982
  let v6984 : Index := Scalar.indexCast v6983
  let c0_4401 : Index := 0#32
  ![0, v6984.toNat, 0]

def k0_chk510 (v6980 : BitVec 32) : Prop :=
  (8 ∣ (k0_mult511 v6980).toNat) ∧
  (∀ a, (k0_off582 v6980) a + S1x8x1024.size a ≤ S1x4096x1024.size a)
theorem k0_mult511_dvd : ∀ (v6980 : BitVec 32) (k0_hw510 : k0_chk510 v6980), 8 ∣ (k0_mult511 v6980).toNat := fun v6980 k0_hw510 => k0_hw510.1
theorem k0_off582_inb : ∀ (v6980 : BitVec 32) (k0_hw510 : k0_chk510 v6980), ∀ a, (k0_off582 v6980) a + S1x8x1024.size a ≤ S1x4096x1024.size a := fun v6980 k0_hw510 => k0_hw510.2

def k0_mult512 (v6993 : BitVec 32) : BitVec 32 :=
  let c7_i32_4407 : BitVec 32 := 7#32
  let v6994 : BitVec 32 := Scalar.andi v6993 c7_i32_4407
  let v6995 : BitVec 32 := Scalar.subi v6993 v6994
  v6995

def k0_off583 (v6993 : BitVec 32) : Fin 3 → Nat :=
  let c0_4408 : Index := 0#32
  let c7_i32_4407 : BitVec 32 := 7#32
  let v6994 : BitVec 32 := Scalar.andi v6993 c7_i32_4407
  let v6995 : BitVec 32 := Scalar.subi v6993 v6994
  let v6996 : BitVec 32 := v6995
  let v6997 : Index := Scalar.indexCast v6996
  let c0_4409 : Index := 0#32
  ![0, v6997.toNat, 0]

def k0_chk511 (v6993 : BitVec 32) : Prop :=
  (8 ∣ (k0_mult512 v6993).toNat) ∧
  (∀ a, (k0_off583 v6993) a + S1x8x1024.size a ≤ S1x4096x1024.size a)
theorem k0_mult512_dvd : ∀ (v6993 : BitVec 32) (k0_hw511 : k0_chk511 v6993), 8 ∣ (k0_mult512 v6993).toNat := fun v6993 k0_hw511 => k0_hw511.1
theorem k0_off583_inb : ∀ (v6993 : BitVec 32) (k0_hw511 : k0_chk511 v6993), ∀ a, (k0_off583 v6993) a + S1x8x1024.size a ≤ S1x4096x1024.size a := fun v6993 k0_hw511 => k0_hw511.2

def k0_mult513 (v7006 : BitVec 32) : BitVec 32 :=
  let c7_i32_4415 : BitVec 32 := 7#32
  let v7007 : BitVec 32 := Scalar.andi v7006 c7_i32_4415
  let v7008 : BitVec 32 := Scalar.subi v7006 v7007
  v7008

def k0_off584 (v7006 : BitVec 32) : Fin 3 → Nat :=
  let c0_4416 : Index := 0#32
  let c7_i32_4415 : BitVec 32 := 7#32
  let v7007 : BitVec 32 := Scalar.andi v7006 c7_i32_4415
  let v7008 : BitVec 32 := Scalar.subi v7006 v7007
  let v7009 : BitVec 32 := v7008
  let v7010 : Index := Scalar.indexCast v7009
  let c0_4417 : Index := 0#32
  ![0, v7010.toNat, 0]

def k0_chk512 (v7006 : BitVec 32) : Prop :=
  (8 ∣ (k0_mult513 v7006).toNat) ∧
  (∀ a, (k0_off584 v7006) a + S1x8x1024.size a ≤ S1x4096x1024.size a)
theorem k0_mult513_dvd : ∀ (v7006 : BitVec 32) (k0_hw512 : k0_chk512 v7006), 8 ∣ (k0_mult513 v7006).toNat := fun v7006 k0_hw512 => k0_hw512.1
theorem k0_off584_inb : ∀ (v7006 : BitVec 32) (k0_hw512 : k0_chk512 v7006), ∀ a, (k0_off584 v7006) a + S1x8x1024.size a ≤ S1x4096x1024.size a := fun v7006 k0_hw512 => k0_hw512.2

def k0_off585 (i : grid0.Coords) : Fin 3 → Nat :=
  let c1_i32_4355 : BitVec 32 := 1#32
  let arg1 : BitVec 32 := BitVec.ofNat 32 (i 1).val
  let c1_i32 : BitVec 32 := 1#32
  let v1 : BitVec 32 := Scalar.andi arg1 c1_i32
  let v6913 : BitVec 32 := Scalar.subi c1_i32_4355 v1
  let c0_i32_4421 : BitVec 32 := 0#32
  let c0_i32_4422 : BitVec 32 := 0#32
  ![v6913.toNat, 0, 0]
def k0_mult514 (v7026 : BitVec 32) : BitVec 32 :=
  let c7_i32_4429 : BitVec 32 := 7#32
  let v7027 : BitVec 32 := Scalar.andi v7026 c7_i32_4429
  let v7028 : BitVec 32 := Scalar.subi v7026 v7027
  v7028

def k0_off586 (v7026 : BitVec 32) : Fin 3 → Nat :=
  let c0_4430 : Index := 0#32
  let c7_i32_4429 : BitVec 32 := 7#32
  let v7027 : BitVec 32 := Scalar.andi v7026 c7_i32_4429
  let v7028 : BitVec 32 := Scalar.subi v7026 v7027
  let v7029 : BitVec 32 := v7028
  let v7030 : Index := Scalar.indexCast v7029
  let c0_4431 : Index := 0#32
  ![0, v7030.toNat, 0]

def k0_chk513 (v7026 : BitVec 32) : Prop :=
  (8 ∣ (k0_mult514 v7026).toNat) ∧
  (∀ a, (k0_off586 v7026) a + S1x8x1024.size a ≤ S1x4096x1024.size a)
theorem k0_mult514_dvd : ∀ (v7026 : BitVec 32) (k0_hw513 : k0_chk513 v7026), 8 ∣ (k0_mult514 v7026).toNat := fun v7026 k0_hw513 => k0_hw513.1
theorem k0_off586_inb : ∀ (v7026 : BitVec 32) (k0_hw513 : k0_chk513 v7026), ∀ a, (k0_off586 v7026) a + S1x8x1024.size a ≤ S1x4096x1024.size a := fun v7026 k0_hw513 => k0_hw513.2

def k0_mult515 (v7039 : BitVec 32) : BitVec 32 :=
  let c7_i32_4437 : BitVec 32 := 7#32
  let v7040 : BitVec 32 := Scalar.andi v7039 c7_i32_4437
  let v7041 : BitVec 32 := Scalar.subi v7039 v7040
  v7041

def k0_off587 (v7039 : BitVec 32) : Fin 3 → Nat :=
  let c0_4438 : Index := 0#32
  let c7_i32_4437 : BitVec 32 := 7#32
  let v7040 : BitVec 32 := Scalar.andi v7039 c7_i32_4437
  let v7041 : BitVec 32 := Scalar.subi v7039 v7040
  let v7042 : BitVec 32 := v7041
  let v7043 : Index := Scalar.indexCast v7042
  let c0_4439 : Index := 0#32
  ![0, v7043.toNat, 0]

def k0_chk514 (v7039 : BitVec 32) : Prop :=
  (8 ∣ (k0_mult515 v7039).toNat) ∧
  (∀ a, (k0_off587 v7039) a + S1x8x1024.size a ≤ S1x4096x1024.size a)
theorem k0_mult515_dvd : ∀ (v7039 : BitVec 32) (k0_hw514 : k0_chk514 v7039), 8 ∣ (k0_mult515 v7039).toNat := fun v7039 k0_hw514 => k0_hw514.1
theorem k0_off587_inb : ∀ (v7039 : BitVec 32) (k0_hw514 : k0_chk514 v7039), ∀ a, (k0_off587 v7039) a + S1x8x1024.size a ≤ S1x4096x1024.size a := fun v7039 k0_hw514 => k0_hw514.2

def k0_mult516 (v7052 : BitVec 32) : BitVec 32 :=
  let c7_i32_4445 : BitVec 32 := 7#32
  let v7053 : BitVec 32 := Scalar.andi v7052 c7_i32_4445
  let v7054 : BitVec 32 := Scalar.subi v7052 v7053
  v7054

def k0_off588 (v7052 : BitVec 32) : Fin 3 → Nat :=
  let c0_4446 : Index := 0#32
  let c7_i32_4445 : BitVec 32 := 7#32
  let v7053 : BitVec 32 := Scalar.andi v7052 c7_i32_4445
  let v7054 : BitVec 32 := Scalar.subi v7052 v7053
  let v7055 : BitVec 32 := v7054
  let v7056 : Index := Scalar.indexCast v7055
  let c0_4447 : Index := 0#32
  ![0, v7056.toNat, 0]

def k0_chk515 (v7052 : BitVec 32) : Prop :=
  (8 ∣ (k0_mult516 v7052).toNat) ∧
  (∀ a, (k0_off588 v7052) a + S1x8x1024.size a ≤ S1x4096x1024.size a)
theorem k0_mult516_dvd : ∀ (v7052 : BitVec 32) (k0_hw515 : k0_chk515 v7052), 8 ∣ (k0_mult516 v7052).toNat := fun v7052 k0_hw515 => k0_hw515.1
theorem k0_off588_inb : ∀ (v7052 : BitVec 32) (k0_hw515 : k0_chk515 v7052), ∀ a, (k0_off588 v7052) a + S1x8x1024.size a ≤ S1x4096x1024.size a := fun v7052 k0_hw515 => k0_hw515.2

def k0_mult517 (v7065 : BitVec 32) : BitVec 32 :=
  let c7_i32_4453 : BitVec 32 := 7#32
  let v7066 : BitVec 32 := Scalar.andi v7065 c7_i32_4453
  let v7067 : BitVec 32 := Scalar.subi v7065 v7066
  v7067

def k0_off589 (v7065 : BitVec 32) : Fin 3 → Nat :=
  let c0_4454 : Index := 0#32
  let c7_i32_4453 : BitVec 32 := 7#32
  let v7066 : BitVec 32 := Scalar.andi v7065 c7_i32_4453
  let v7067 : BitVec 32 := Scalar.subi v7065 v7066
  let v7068 : BitVec 32 := v7067
  let v7069 : Index := Scalar.indexCast v7068
  let c0_4455 : Index := 0#32
  ![0, v7069.toNat, 0]

def k0_chk516 (v7065 : BitVec 32) : Prop :=
  (8 ∣ (k0_mult517 v7065).toNat) ∧
  (∀ a, (k0_off589 v7065) a + S1x8x1024.size a ≤ S1x4096x1024.size a)
theorem k0_mult517_dvd : ∀ (v7065 : BitVec 32) (k0_hw516 : k0_chk516 v7065), 8 ∣ (k0_mult517 v7065).toNat := fun v7065 k0_hw516 => k0_hw516.1
theorem k0_off589_inb : ∀ (v7065 : BitVec 32) (k0_hw516 : k0_chk516 v7065), ∀ a, (k0_off589 v7065) a + S1x8x1024.size a ≤ S1x4096x1024.size a := fun v7065 k0_hw516 => k0_hw516.2

def k0_mult518 (v7078 : BitVec 32) : BitVec 32 :=
  let c7_i32_4461 : BitVec 32 := 7#32
  let v7079 : BitVec 32 := Scalar.andi v7078 c7_i32_4461
  let v7080 : BitVec 32 := Scalar.subi v7078 v7079
  v7080

def k0_off590 (v7078 : BitVec 32) : Fin 3 → Nat :=
  let c0_4462 : Index := 0#32
  let c7_i32_4461 : BitVec 32 := 7#32
  let v7079 : BitVec 32 := Scalar.andi v7078 c7_i32_4461
  let v7080 : BitVec 32 := Scalar.subi v7078 v7079
  let v7081 : BitVec 32 := v7080
  let v7082 : Index := Scalar.indexCast v7081
  let c0_4463 : Index := 0#32
  ![0, v7082.toNat, 0]

def k0_chk517 (v7078 : BitVec 32) : Prop :=
  (8 ∣ (k0_mult518 v7078).toNat) ∧
  (∀ a, (k0_off590 v7078) a + S1x8x1024.size a ≤ S1x4096x1024.size a)
theorem k0_mult518_dvd : ∀ (v7078 : BitVec 32) (k0_hw517 : k0_chk517 v7078), 8 ∣ (k0_mult518 v7078).toNat := fun v7078 k0_hw517 => k0_hw517.1
theorem k0_off590_inb : ∀ (v7078 : BitVec 32) (k0_hw517 : k0_chk517 v7078), ∀ a, (k0_off590 v7078) a + S1x8x1024.size a ≤ S1x4096x1024.size a := fun v7078 k0_hw517 => k0_hw517.2

def k0_mult519 (v7091 : BitVec 32) : BitVec 32 :=
  let c7_i32_4469 : BitVec 32 := 7#32
  let v7092 : BitVec 32 := Scalar.andi v7091 c7_i32_4469
  let v7093 : BitVec 32 := Scalar.subi v7091 v7092
  v7093

def k0_off591 (v7091 : BitVec 32) : Fin 3 → Nat :=
  let c0_4470 : Index := 0#32
  let c7_i32_4469 : BitVec 32 := 7#32
  let v7092 : BitVec 32 := Scalar.andi v7091 c7_i32_4469
  let v7093 : BitVec 32 := Scalar.subi v7091 v7092
  let v7094 : BitVec 32 := v7093
  let v7095 : Index := Scalar.indexCast v7094
  let c0_4471 : Index := 0#32
  ![0, v7095.toNat, 0]

def k0_chk518 (v7091 : BitVec 32) : Prop :=
  (8 ∣ (k0_mult519 v7091).toNat) ∧
  (∀ a, (k0_off591 v7091) a + S1x8x1024.size a ≤ S1x4096x1024.size a)
theorem k0_mult519_dvd : ∀ (v7091 : BitVec 32) (k0_hw518 : k0_chk518 v7091), 8 ∣ (k0_mult519 v7091).toNat := fun v7091 k0_hw518 => k0_hw518.1
theorem k0_off591_inb : ∀ (v7091 : BitVec 32) (k0_hw518 : k0_chk518 v7091), ∀ a, (k0_off591 v7091) a + S1x8x1024.size a ≤ S1x4096x1024.size a := fun v7091 k0_hw518 => k0_hw518.2

def k0_mult520 (v7104 : BitVec 32) : BitVec 32 :=
  let c7_i32_4477 : BitVec 32 := 7#32
  let v7105 : BitVec 32 := Scalar.andi v7104 c7_i32_4477
  let v7106 : BitVec 32 := Scalar.subi v7104 v7105
  v7106

def k0_off592 (v7104 : BitVec 32) : Fin 3 → Nat :=
  let c0_4478 : Index := 0#32
  let c7_i32_4477 : BitVec 32 := 7#32
  let v7105 : BitVec 32 := Scalar.andi v7104 c7_i32_4477
  let v7106 : BitVec 32 := Scalar.subi v7104 v7105
  let v7107 : BitVec 32 := v7106
  let v7108 : Index := Scalar.indexCast v7107
  let c0_4479 : Index := 0#32
  ![0, v7108.toNat, 0]

def k0_chk519 (v7104 : BitVec 32) : Prop :=
  (8 ∣ (k0_mult520 v7104).toNat) ∧
  (∀ a, (k0_off592 v7104) a + S1x8x1024.size a ≤ S1x4096x1024.size a)
theorem k0_mult520_dvd : ∀ (v7104 : BitVec 32) (k0_hw519 : k0_chk519 v7104), 8 ∣ (k0_mult520 v7104).toNat := fun v7104 k0_hw519 => k0_hw519.1
theorem k0_off592_inb : ∀ (v7104 : BitVec 32) (k0_hw519 : k0_chk519 v7104), ∀ a, (k0_off592 v7104) a + S1x8x1024.size a ≤ S1x4096x1024.size a := fun v7104 k0_hw519 => k0_hw519.2

def k0_mult521 (v7117 : BitVec 32) : BitVec 32 :=
  let c7_i32_4485 : BitVec 32 := 7#32
  let v7118 : BitVec 32 := Scalar.andi v7117 c7_i32_4485
  let v7119 : BitVec 32 := Scalar.subi v7117 v7118
  v7119

def k0_off593 (v7117 : BitVec 32) : Fin 3 → Nat :=
  let c0_4486 : Index := 0#32
  let c7_i32_4485 : BitVec 32 := 7#32
  let v7118 : BitVec 32 := Scalar.andi v7117 c7_i32_4485
  let v7119 : BitVec 32 := Scalar.subi v7117 v7118
  let v7120 : BitVec 32 := v7119
  let v7121 : Index := Scalar.indexCast v7120
  let c0_4487 : Index := 0#32
  ![0, v7121.toNat, 0]

def k0_chk520 (v7117 : BitVec 32) : Prop :=
  (8 ∣ (k0_mult521 v7117).toNat) ∧
  (∀ a, (k0_off593 v7117) a + S1x8x1024.size a ≤ S1x4096x1024.size a)
theorem k0_mult521_dvd : ∀ (v7117 : BitVec 32) (k0_hw520 : k0_chk520 v7117), 8 ∣ (k0_mult521 v7117).toNat := fun v7117 k0_hw520 => k0_hw520.1
theorem k0_off593_inb : ∀ (v7117 : BitVec 32) (k0_hw520 : k0_chk520 v7117), ∀ a, (k0_off593 v7117) a + S1x8x1024.size a ≤ S1x4096x1024.size a := fun v7117 k0_hw520 => k0_hw520.2

def k0_off594 (i : grid0.Coords) : Fin 3 → Nat :=
  let c1_i32_4425 : BitVec 32 := 1#32
  let arg1 : BitVec 32 := BitVec.ofNat 32 (i 1).val
  let c1_i32 : BitVec 32 := 1#32
  let v1 : BitVec 32 := Scalar.andi arg1 c1_i32
  let v7024 : BitVec 32 := Scalar.subi c1_i32_4425 v1
  let c0_i32_4491 : BitVec 32 := 0#32
  let c0_i32_4492 : BitVec 32 := 0#32
  ![v7024.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .smem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S128x1x512 : Shape := ⟨3, ![128, 1, 512]⟩
abbrev S8x4096x1024 : Shape := ⟨3, ![8, 4096, 1024]⟩
abbrev S16x1024x1024 : Shape := ⟨3, ![16, 1024, 1024]⟩
abbrev S8x16x512 : Shape := ⟨3, ![8, 16, 512]⟩
abbrev S8 : Shape := ⟨1, ![8]⟩
abbrev S8x1x1 : Shape := ⟨3, ![8, 1, 1]⟩
abbrev S_ : Shape := ⟨0, ![]⟩
abbrev S8x16x512x1 : Shape := ⟨4, ![8, 16, 512, 1]⟩
abbrev S8x16x512x2 : Shape := ⟨4, ![8, 16, 512, 2]⟩
abbrev S8x16x512x1024 : Shape := ⟨4, ![8, 16, 512, 1024]⟩
abbrev S16x1024x8x512 : Shape := ⟨4, ![16, 1024, 8, 512]⟩

abbrev nBuf : Space → Nat
  | .hbm => 46
  | .vmem => 0
  | .smem => 0
  | _ => 0

abbrev bufTy : (tb : Table) → Fin (tcTables nBuf tb) → BufTy
  | .hbm, ⟨0, _⟩ => ⟨S128x1x512, .i32⟩
  | .hbm, ⟨1, _⟩ => ⟨S8x4096x1024, .f32⟩
  | .hbm, ⟨2, _⟩ => ⟨S16x1024x1024, .bf16⟩
  | .hbm, ⟨3, _⟩ => ⟨S16x1024x1024, .bf16⟩
  | .hbm, ⟨4, _⟩ => ⟨S16x1024x1024, .bf16⟩
  | .hbm, ⟨5, _⟩ => ⟨S8x16x512, .i32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S_, .i32⟩
  | .hbm, ⟨12, _⟩ => ⟨S8x1x1, .i32⟩
  | .hbm, ⟨13, _⟩ => ⟨S8x1x1, .i32⟩
  | .hbm, ⟨14, _⟩ => ⟨S8x1x1, .i32⟩
  | .hbm, ⟨15, _⟩ => ⟨S_, .i32⟩
  | .hbm, ⟨16, _⟩ => ⟨S8x16x512, .i32⟩
  | .hbm, ⟨17, _⟩ => ⟨S8x16x512, .i1⟩
  | .hbm, ⟨18, _⟩ => ⟨S_, .i32⟩
  | .hbm, ⟨19, _⟩ => ⟨S8x16x512, .i32⟩
  | .hbm, ⟨20, _⟩ => ⟨S8x16x512, .i32⟩
  | .hbm, ⟨21, _⟩ => ⟨S8x16x512, .i32⟩
  | .hbm, ⟨22, _⟩ => ⟨S8x16x512, .i32⟩
  | .hbm, ⟨23, _⟩ => ⟨S8x16x512x1, .i32⟩
  | .hbm, ⟨24, _⟩ => ⟨S8x16x512x1, .i32⟩
  | .hbm, ⟨25, _⟩ => ⟨S8x16x512x2, .i32⟩
  | .hbm, ⟨26, _⟩ => ⟨S8x16x512x1024, .f32⟩
  | .hbm, ⟨27, _⟩ => ⟨S16x1024x1024, .f32⟩
  | .hbm, ⟨28, _⟩ => ⟨S16x1024x8x512, .f32⟩
  | .hbm, ⟨29, _⟩ => ⟨S8x16x512x1024, .f32⟩
  | .hbm, ⟨30, _⟩ => ⟨S8x16x512x1024, .f32⟩
  | .hbm, ⟨31, _⟩ => ⟨S8x16x512x1024, .f32⟩
  | .hbm, ⟨32, _⟩ => ⟨S_, .f32⟩
  | .hbm, ⟨33, _⟩ => ⟨S8x16x512x1024, .f32⟩
  | .hbm, ⟨34, _⟩ => ⟨S8x16x512x1024, .f32⟩
  | .hbm, ⟨35, _⟩ => ⟨S_, .f32⟩
  | .hbm, ⟨36, _⟩ => ⟨S8x16x512x1024, .f32⟩
  | .hbm, ⟨37, _⟩ => ⟨S8x16x512x1024, .f32⟩
  | .hbm, ⟨38, _⟩ => ⟨S8x16x512x1024, .f32⟩
  | .hbm, ⟨39, _⟩ => ⟨S16x1024x1024, .f32⟩
  | .hbm, ⟨40, _⟩ => ⟨S16x1024x8x512, .f32⟩
  | .hbm, ⟨41, _⟩ => ⟨S8x16x512x1024, .f32⟩
  | .hbm, ⟨42, _⟩ => ⟨S8x16x512x1024, .f32⟩
  | .hbm, ⟨43, _⟩ => ⟨S16x1024x1024, .f32⟩
  | .hbm, ⟨44, _⟩ => ⟨S16x1024x8x512, .f32⟩
  | .hbm, ⟨45, _⟩ => ⟨S8x16x512x1024, .f32⟩
  | _, _ => ⟨S128x1x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S8x1x1024 : Shape := ⟨3, ![8, 1, 1024]⟩
abbrev S1024x3072 : Shape := ⟨2, ![1024, 3072]⟩
abbrev S4096x128 : Shape := ⟨2, ![4096, 128]⟩
abbrev S1x1024 : Shape := ⟨2, ![1, 1024]⟩
abbrev S8x4096x512 : Shape := ⟨3, ![8, 4096, 512]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩

abbrev nBuf : Space → Nat
  | .hbm => 14
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x3072, .bf16⟩
  | .hbm, ⟨5, _⟩ => ⟨S4096x128, .f32⟩
  | .hbm, ⟨6, _⟩ => ⟨S4096x128, .f32⟩
  | .hbm, ⟨7, _⟩ => ⟨S1x1024, .f32⟩
  | .hbm, ⟨8, _⟩ => ⟨S8x4096x512, .bf16⟩
  | .hbm, ⟨9, _⟩ => ⟨S8x4096x512, .bf16⟩
  | .hbm, ⟨10, _⟩ => ⟨S8x4096x512, .bf16⟩
  | .hbm, ⟨11, _⟩ => ⟨S8x4096x512, .bf16⟩
  | .hbm, ⟨12, _⟩ => ⟨S8x4096x512, .bf16⟩
  | .hbm, ⟨13, _⟩ => ⟨S8x4096x512, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x3072, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1x512x512, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x512, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev main_v1_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference3Ideal.lean ====
abbrev S8x4096x1024 : Shape := ⟨3, ![8, 4096, 1024]⟩
abbrev S1024 : Shape := ⟨1, ![1024]⟩
abbrev S8x1x1024 : Shape := ⟨3, ![8, 1, 1024]⟩
abbrev S1024x3072 : Shape := ⟨2, ![1024, 3072]⟩
abbrev S4096x128 : Shape := ⟨2, ![4096, 128]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x3072 : Shape := ⟨3, ![8, 4096, 3072]⟩
abbrev S8x4096x512 : Shape := ⟨3, ![8, 4096, 512]⟩
abbrev S8x4096x8x2x32 : Shape := ⟨5, ![8, 4096, 8, 2, 32]⟩
abbrev S8x4096x8x1x32 : Shape := ⟨5, ![8, 4096, 8, 1, 32]⟩
abbrev S8x4096x8x32 : Shape := ⟨4, ![8, 4096, 8, 32]⟩
abbrev S4096x2x2x32 : Shape := ⟨4, ![4096, 2, 2, 32]⟩
abbrev S4096x2x1x32 : Shape := ⟨4, ![4096, 2, 1, 32]⟩
abbrev S4096x2x32 : Shape := ⟨3, ![4096, 2, 32]⟩
abbrev S4096x1x2x32 : Shape := ⟨4, ![4096, 1, 2, 32]⟩
abbrev S4096x4x2x32 : Shape := ⟨4, ![4096, 4, 2, 32]⟩
abbrev S4096x8x32 : Shape := ⟨3, ![4096, 8, 32]⟩
abbrev S1x4096x8x32 : Shape := ⟨4, ![1, 4096, 8, 32]⟩

abbrev nBuf : Space → Nat
  | .hbm => 133
  | .vmem => 0
  | .smem => 0
  | _ => 0

abbrev hbmTy0_0 (i : Nat) : BufTy := match i % 128 with
  | 0 => ⟨S8x4096x1024, .f32⟩
  | 1 => ⟨S1024, .f32⟩
  | 2 => ⟨S8x1x1024, .f32⟩
  | 3 => ⟨S8x1x1024, .f32⟩
  | 4 => ⟨S1024x3072, .bf16⟩
  | 5 => ⟨S4096x128, .f32⟩
  | 6 => ⟨S4096x128, .f32⟩
  | 7 => ⟨S8x4096x1024, .f32⟩
  | 8 => ⟨S_, .f32⟩
  | 9 => ⟨S8x4096, .f32⟩
  | 10 => ⟨S8x4096x1, .f32⟩
  | 11 => ⟨S_, .f32⟩
  | 12 => ⟨S8x4096x1, .f32⟩
  | 13 => ⟨S8x4096x1, .f32⟩
  | 14 => ⟨S_, .f32⟩
  | 15 => ⟨S8x4096x1, .f32⟩
  | 16 => ⟨S8x4096x1, .f32⟩
  | 17 => ⟨S8x4096x1, .f32⟩
  | 18 => ⟨S8x4096x1024, .f32⟩
  | 19 => ⟨S8x4096x1024, .f32⟩
  | 20 => ⟨S1x1x1024, .f32⟩
  | 21 => ⟨S8x4096x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S8x4096x1024, .f32⟩
  | 27 => ⟨S1024x3072, .f32⟩
  | 28 => ⟨S8x4096x3072, .f32⟩
  | 29 => ⟨S8x4096x512, .f32⟩
  | 30 => ⟨S8x4096x512, .f32⟩
  | 31 => ⟨S8x4096x512, .f32⟩
  | 32 => ⟨S8x4096x512, .f32⟩
  | 33 => ⟨S8x4096x512, .f32⟩
  | 34 => ⟨S8x4096x512, .f32⟩
  | 35 => ⟨S8x4096x8x2x32, .f32⟩
  | 36 => ⟨S8x4096x8x1x32, .f32⟩
  | 37 => ⟨S8x4096x8x32, .f32⟩
  | 38 => ⟨S8x4096x8x2x32, .f32⟩
  | 39 => ⟨S8x4096x8x1x32, .f32⟩
  | 40 => ⟨S8x4096x8x32, .f32⟩
  | 41 => ⟨S4096x2x2x32, .f32⟩
  | 42 => ⟨S4096x2x2x32, .f32⟩
  | 43 => ⟨S4096x2x1x32, .f32⟩
  | 44 => ⟨S4096x2x32, .f32⟩
  | 45 => ⟨S4096x1x2x32, .f32⟩
  | 46 => ⟨S4096x4x2x32, .f32⟩
  | 47 => ⟨S4096x8x32, .f32⟩
  | 48 => ⟨S1x4096x8x32, .f32⟩
  | 49 => ⟨S8x4096x8x32, .f32⟩
  | 50 => ⟨S8x4096x8x32, .f32⟩
  | 51 => ⟨S4096x2x1x32, .f32⟩
  | 52 => ⟨S4096x2x32, .f32⟩
  | 53 => ⟨S4096x1x2x32, .f32⟩
  | 54 => ⟨S4096x4x2x32, .f32⟩
  | 55 => ⟨S4096x8x32, .f32⟩
  | 56 => ⟨S1x4096x8x32, .f32⟩
  | 57 => ⟨S8x4096x8x32, .f32⟩
  | 58 => ⟨S8x4096x8x32, .f32⟩
  | 59 => ⟨S8x4096x8x32, .f32⟩
  | 60 => ⟨S4096x2x1x32, .f32⟩
  | 61 => ⟨S4096x2x32, .f32⟩
  | 62 => ⟨S4096x1x2x32, .f32⟩
  | 63 => ⟨S4096x4x2x32, .f32⟩
  | 64 => ⟨S4096x8x32, .f32⟩
  | 65 => ⟨S1x4096x8x32, .f32⟩
  | 66 => ⟨S8x4096x8x32, .f32⟩
  | 67 => ⟨S8x4096x8x32, .f32⟩
  | 68 => ⟨S4096x2x1x32, .f32⟩
  | 69 => ⟨S4096x2x32, .f32⟩
  | 70 => ⟨S4096x1x2x32, .f32⟩
  | 71 => ⟨S4096x4x2x32, .f32⟩
  | 72 => ⟨S4096x8x32, .f32⟩
  | 73 => ⟨S1x4096x8x32, .f32⟩
  | 74 => ⟨S8x4096x8x32, .f32⟩
  | 75 => ⟨S8x4096x8x32, .f32⟩
  | 76 => ⟨S8x4096x8x32, .f32⟩
  | 77 => ⟨S8x4096x8x1x32, .f32⟩
  | 78 => ⟨S8x4096x8x1x32, .f32⟩
  | 79 => ⟨S8x4096x8x2x32, .f32⟩
  | 80 => ⟨S8x4096x512, .f32⟩
  | 81 => ⟨S8x4096x8x2x32, .f32⟩
  | 82 => ⟨S8x4096x8x1x32, .f32⟩
  | 83 => ⟨S8x4096x8x32, .f32⟩
  | 84 => ⟨S8x4096x8x2x32, .f32⟩
  | 85 => ⟨S8x4096x8x1x32, .f32⟩
  | 86 => ⟨S8x4096x8x32, .f32⟩
  | 87 => ⟨S4096x2x2x32, .f32⟩
  | 88 => ⟨S4096x2x2x32, .f32⟩
  | 89 => ⟨S4096x2x1x32, .f32⟩
  | 90 => ⟨S4096x2x32, .f32⟩
  | 91 => ⟨S4096x1x2x32, .f32⟩
  | 92 => ⟨S4096x4x2x32, .f32⟩
  | 93 => ⟨S4096x8x32, .f32⟩
  | 94 => ⟨S1x4096x8x32, .f32⟩
  | 95 => ⟨S8x4096x8x32, .f32⟩
  | 96 => ⟨S8x4096x8x32, .f32⟩
  | 97 => ⟨S4096x2x1x32, .f32⟩
  | 98 => ⟨S4096x2x32, .f32⟩
  | 99 => ⟨S4096x1x2x32, .f32⟩
  | 100 => ⟨S4096x4x2x32, .f32⟩
  | 101 => ⟨S4096x8x32, .f32⟩
  | 102 => ⟨S1x4096x8x32, .f32⟩
  | 103 => ⟨S8x4096x8x32, .f32⟩
  | 104 => ⟨S8x4096x8x32, .f32⟩
  | 105 => ⟨S8x4096x8x32, .f32⟩
  | 106 => ⟨S4096x2x1x32, .f32⟩
  | 107 => ⟨S4096x2x32, .f32⟩
  | 108 => ⟨S4096x1x2x32, .f32⟩
  | 109 => ⟨S4096x4x2x32, .f32⟩
  | 110 => ⟨S4096x8x32, .f32⟩
  | 111 => ⟨S1x4096x8x32, .f32⟩
  | 112 => ⟨S8x4096x8x32, .f32⟩
  | 113 => ⟨S8x4096x8x32, .f32⟩
  | 114 => ⟨S4096x2x1x32, .f32⟩
  | 115 => ⟨S4096x2x32, .f32⟩
  | 116 => ⟨S4096x1x2x32, .f32⟩
  | 117 => ⟨S4096x4x2x32, .f32⟩
  | 118 => ⟨S4096x8x32, .f32⟩
  | 119 => ⟨S1x4096x8x32, .f32⟩
  | 120 => ⟨S8x4096x8x32, .f32⟩
  | 121 => ⟨S8x4096x8x32, .f32⟩
  | 122 => ⟨S8x4096x8x32, .f32⟩
  | 123 => ⟨S8x4096x8x1x32, .f32⟩
  | 124 => ⟨S8x4096x8x1x32, .f32⟩
  | 125 => ⟨S8x4096x8x2x32, .f32⟩
  | 126 => ⟨S8x4096x512, .f32⟩
  | 127 => ⟨S8x4096x512, .bf16⟩
  | _ => ⟨S8x4096x1024, .f32⟩

abbrev hbmTy0_1 (i : Nat) : BufTy := match i % 128 with
  | 0 => ⟨S8x4096x512, .bf16⟩
  | 1 => ⟨S8x4096x512, .bf16⟩
  | 2 => ⟨S8x4096x512, .bf16⟩
  | 3 => ⟨S8x4096x512, .bf16⟩
  | 4 => ⟨S8x4096x512, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024 : Shape := ⟨1, ![1024]⟩
abbrev S8x1x1024 : Shape := ⟨3, ![8, 1, 1024]⟩
abbrev S1024x2576 : Shape := ⟨2, ![1024, 2576]⟩
abbrev S4096x128 : Shape := ⟨2, ![4096, 128]⟩
abbrev S16x1024 : Shape := ⟨2, ![16, 1024]⟩
abbrev S1x1024 : Shape := ⟨2, ![1, 1024]⟩
abbrev S8x4096x512 : Shape := ⟨3, ![8, 4096, 512]⟩
abbrev S8x4096x256 : Shape := ⟨3, ![8, 4096, 256]⟩
abbrev S8x4096x16 : Shape := ⟨3, ![8, 4096, 16]⟩
abbrev S8x16x4096 : Shape := ⟨3, ![8, 16, 4096]⟩
abbrev S1x512x1024 : Shape := ⟨3, ![1, 512, 1024]⟩
abbrev S1x1x1024 : Shape := ⟨3, ![1, 1, 1024]⟩
abbrev S512x128 : Shape := ⟨2, ![512, 128]⟩
abbrev S1x512x512 : Shape := ⟨3, ![1, 512, 512]⟩
abbrev S1x512x256 : Shape := ⟨3, ![1, 512, 256]⟩
abbrev S1x512x16 : Shape := ⟨3, ![1, 512, 16]⟩
abbrev S1x16x512 : Shape := ⟨3, ![1, 16, 512]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S1024x256 : Shape := ⟨2, ![1024, 256]⟩
abbrev S512x256 : Shape := ⟨2, ![512, 256]⟩
abbrev S1024x16 : Shape := ⟨2, ![1024, 16]⟩
abbrev S512x16 : Shape := ⟨2, ![512, 16]⟩
abbrev S16x512 : Shape := ⟨2, ![16, 512]⟩

abbrev nBuf : Space → Nat
  | .hbm => 16
  | .vmem => 27
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x2576, .bf16⟩
  | .hbm, ⟨5, _⟩ => ⟨S4096x128, .f32⟩
  | .hbm, ⟨6, _⟩ => ⟨S4096x128, .f32⟩
  | .hbm, ⟨7, _⟩ => ⟨S16x1024, .bf16⟩
  | .hbm, ⟨8, _⟩ => ⟨S1x1024, .f32⟩
  | .hbm, ⟨9, _⟩ => ⟨S8x4096x512, .bf16⟩
  | .hbm, ⟨10, _⟩ => ⟨S8x4096x256, .bf16⟩
  | .hbm, ⟨11, _⟩ => ⟨S8x4096x256, .bf16⟩
  | .hbm, ⟨12, _⟩ => ⟨S8x4096x1024, .f32⟩
  | .hbm, ⟨13, _⟩ => ⟨S8x4096x512, .f32⟩
  | .hbm, ⟨14, _⟩ => ⟨S8x4096x16, .f32⟩
  | .hbm, ⟨15, _⟩ => ⟨S8x16x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2576, .bf16⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S16x1024, .bf16⟩
  | .local _ .vmem, ⟨13, _⟩ => ⟨S1x512x512, .bf16⟩
  | .local _ .vmem, ⟨14, _⟩ => ⟨S1x512x512, .bf16⟩
  | .local _ .vmem, ⟨15, _⟩ => ⟨S1x512x256, .bf16⟩
  | .local _ .vmem, ⟨16, _⟩ => ⟨S1x512x256, .bf16⟩
  | .local _ .vmem, ⟨17, _⟩ => ⟨S1x512x256, .bf16⟩
  | .local _ .vmem, ⟨18, _⟩ => ⟨S1x512x256, .bf16⟩
  | .local _ .vmem, ⟨19, _⟩ => ⟨S1x512x1024, .f32⟩
  | .local _ .vmem, ⟨20, _⟩ => ⟨S1x512x1024, .f32⟩
  | .local _ .vmem, ⟨21, _⟩ => ⟨S1x512x512, .f32⟩
  | .local _ .vmem, ⟨22, _⟩ => ⟨S1x512x512, .f32⟩
  | .local _ .vmem, ⟨23, _⟩ => ⟨S1x512x16, .f32⟩
  | .local _ .vmem, ⟨24, _⟩ => ⟨S1x512x16, .f32⟩
  | .local _ .vmem, ⟨25, _⟩ => ⟨S1x16x512, .f32⟩
  | .local _ .vmem, ⟨26, _⟩ => ⟨S1x16x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S16x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x16 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x16x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== Reference4Ideal.lean ====
abbrev S8x4096x1024 : Shape := ⟨3, ![8, 4096, 1024]⟩
abbrev S1024 : Shape := ⟨1, ![1024]⟩
abbrev S8x1x1024 : Shape := ⟨3, ![8, 1, 1024]⟩
abbrev S1024x2576 : Shape := ⟨2, ![1024, 2576]⟩
abbrev S4096x128 : Shape := ⟨2, ![4096, 128]⟩
abbrev S16x1024 : Shape := ⟨2, ![16, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2576 : Shape := ⟨3, ![8, 4096, 2576]⟩
abbrev S8x4096x512 : Shape := ⟨3, ![8, 4096, 512]⟩
abbrev S8x4096x256 : Shape := ⟨3, ![8, 4096, 256]⟩
abbrev S8x4096x16 : Shape := ⟨3, ![8, 4096, 16]⟩
abbrev S8x16x4096 : Shape := ⟨3, ![8, 16, 4096]⟩
abbrev S8x4096x8x2x32 : Shape := ⟨5, ![8, 4096, 8, 2, 32]⟩
abbrev S8x4096x8x1x32 : Shape := ⟨5, ![8, 4096, 8, 1, 32]⟩
abbrev S8x4096x8x32 : Shape := ⟨4, ![8, 4096, 8, 32]⟩
abbrev S4096x2x2x32 : Shape := ⟨4, ![4096, 2, 2, 32]⟩
abbrev S4096x2x1x32 : Shape := ⟨4, ![4096, 2, 1, 32]⟩
abbrev S4096x2x32 : Shape := ⟨3, ![4096, 2, 32]⟩
abbrev S4096x1x2x32 : Shape := ⟨4, ![4096, 1, 2, 32]⟩
abbrev S4096x4x2x32 : Shape := ⟨4, ![4096, 4, 2, 32]⟩
abbrev S4096x8x32 : Shape := ⟨3, ![4096, 8, 32]⟩
abbrev S1x4096x8x32 : Shape := ⟨4, ![1, 4096, 8, 32]⟩
abbrev S8x4096x4x2x32 : Shape := ⟨5, ![8, 4096, 4, 2, 32]⟩
abbrev S8x4096x4x1x32 : Shape := ⟨5, ![8, 4096, 4, 1, 32]⟩
abbrev S8x4096x4x32 : Shape := ⟨4, ![8, 4096, 4, 32]⟩
abbrev S4096x4x32 : Shape := ⟨3, ![4096, 4, 32]⟩
abbrev S1x4096x4x32 : Shape := ⟨4, ![1, 4096, 4, 32]⟩

abbrev nBuf : Space → Nat
  | .hbm => 134
  | .vmem => 0
  | .smem => 0
  | _ => 0

abbrev hbmTy0_0 (i : Nat) : BufTy := match i % 128 with
  | 0 => ⟨S8x4096x1024, .f32⟩
  | 1 => ⟨S1024, .f32⟩
  | 2 => ⟨S8x1x1024, .f32⟩
  | 3 => ⟨S8x1x1024, .f32⟩
  | 4 => ⟨S1024x2576, .bf16⟩
  | 5 => ⟨S4096x128, .f32⟩
  | 6 => ⟨S4096x128, .f32⟩
  | 7 => ⟨S16x1024, .bf16⟩
  | 8 => ⟨S8x4096x1024, .f32⟩
  | 9 => ⟨S_, .f32⟩
  | 10 => ⟨S8x4096, .f32⟩
  | 11 => ⟨S8x4096x1, .f32⟩
  | 12 => ⟨S_, .f32⟩
  | 13 => ⟨S8x4096x1, .f32⟩
  | 14 => ⟨S8x4096x1, .f32⟩
  | 15 => ⟨S_, .f32⟩
  | 16 => ⟨S8x4096x1, .f32⟩
  | 17 => ⟨S8x4096x1, .f32⟩
  | 18 => ⟨S8x4096x1, .f32⟩
  | 19 => ⟨S8x4096x1024, .f32⟩
  | 20 => ⟨S8x4096x1024, .f32⟩
  | 21 => ⟨S1x1x1024, .f32⟩
  | 22 => ⟨S8x4096x1024, .f32⟩
  | 23 => ⟨S8x4096x1024, .f32⟩
  | 24 => ⟨S8x4096x1024, .f32⟩
  | 25 => ⟨S8x4096x1024, .f32⟩
  | 26 => ⟨S8x4096x1024, .f32⟩
  | 27 => ⟨S8x4096x1024, .f32⟩
  | 28 => ⟨S1024x2576, .f32⟩
  | 29 => ⟨S8x4096x2576, .f32⟩
  | 30 => ⟨S8x4096x512, .f32⟩
  | 31 => ⟨S8x4096x256, .f32⟩
  | 32 => ⟨S8x4096x256, .f32⟩
  | 33 => ⟨S8x4096x1024, .f32⟩
  | 34 => ⟨S8x4096x512, .f32⟩
  | 35 => ⟨S8x4096x16, .f32⟩
  | 36 => ⟨S16x1024, .f32⟩
  | 37 => ⟨S8x4096x16, .f32⟩
  | 38 => ⟨S8x16x4096, .f32⟩
  | 39 => ⟨S8x4096x8x2x32, .f32⟩
  | 40 => ⟨S8x4096x8x1x32, .f32⟩
  | 41 => ⟨S8x4096x8x32, .f32⟩
  | 42 => ⟨S8x4096x8x2x32, .f32⟩
  | 43 => ⟨S8x4096x8x1x32, .f32⟩
  | 44 => ⟨S8x4096x8x32, .f32⟩
  | 45 => ⟨S4096x2x2x32, .f32⟩
  | 46 => ⟨S4096x2x2x32, .f32⟩
  | 47 => ⟨S4096x2x1x32, .f32⟩
  | 48 => ⟨S4096x2x32, .f32⟩
  | 49 => ⟨S4096x1x2x32, .f32⟩
  | 50 => ⟨S4096x4x2x32, .f32⟩
  | 51 => ⟨S4096x8x32, .f32⟩
  | 52 => ⟨S1x4096x8x32, .f32⟩
  | 53 => ⟨S8x4096x8x32, .f32⟩
  | 54 => ⟨S8x4096x8x32, .f32⟩
  | 55 => ⟨S4096x2x1x32, .f32⟩
  | 56 => ⟨S4096x2x32, .f32⟩
  | 57 => ⟨S4096x1x2x32, .f32⟩
  | 58 => ⟨S4096x4x2x32, .f32⟩
  | 59 => ⟨S4096x8x32, .f32⟩
  | 60 => ⟨S1x4096x8x32, .f32⟩
  | 61 => ⟨S8x4096x8x32, .f32⟩
  | 62 => ⟨S8x4096x8x32, .f32⟩
  | 63 => ⟨S8x4096x8x32, .f32⟩
  | 64 => ⟨S4096x2x1x32, .f32⟩
  | 65 => ⟨S4096x2x32, .f32⟩
  | 66 => ⟨S4096x1x2x32, .f32⟩
  | 67 => ⟨S4096x4x2x32, .f32⟩
  | 68 => ⟨S4096x8x32, .f32⟩
  | 69 => ⟨S1x4096x8x32, .f32⟩
  | 70 => ⟨S8x4096x8x32, .f32⟩
  | 71 => ⟨S8x4096x8x32, .f32⟩
  | 72 => ⟨S4096x2x1x32, .f32⟩
  | 73 => ⟨S4096x2x32, .f32⟩
  | 74 => ⟨S4096x1x2x32, .f32⟩
  | 75 => ⟨S4096x4x2x32, .f32⟩
  | 76 => ⟨S4096x8x32, .f32⟩
  | 77 => ⟨S1x4096x8x32, .f32⟩
  | 78 => ⟨S8x4096x8x32, .f32⟩
  | 79 => ⟨S8x4096x8x32, .f32⟩
  | 80 => ⟨S8x4096x8x32, .f32⟩
  | 81 => ⟨S8x4096x8x1x32, .f32⟩
  | 82 => ⟨S8x4096x8x1x32, .f32⟩
  | 83 => ⟨S8x4096x8x2x32, .f32⟩
  | 84 => ⟨S8x4096x512, .f32⟩
  | 85 => ⟨S8x4096x512, .bf16⟩
  | 86 => ⟨S8x4096x4x2x32, .f32⟩
  | 87 => ⟨S8x4096x4x1x32, .f32⟩
  | 88 => ⟨S8x4096x4x32, .f32⟩
  | 89 => ⟨S8x4096x4x2x32, .f32⟩
  | 90 => ⟨S8x4096x4x1x32, .f32⟩
  | 91 => ⟨S8x4096x4x32, .f32⟩
  | 92 => ⟨S4096x2x2x32, .f32⟩
  | 93 => ⟨S4096x2x2x32, .f32⟩
  | 94 => ⟨S4096x2x1x32, .f32⟩
  | 95 => ⟨S4096x2x32, .f32⟩
  | 96 => ⟨S4096x1x2x32, .f32⟩
  | 97 => ⟨S4096x2x2x32, .f32⟩
  | 98 => ⟨S4096x4x32, .f32⟩
  | 99 => ⟨S1x4096x4x32, .f32⟩
  | 100 => ⟨S8x4096x4x32, .f32⟩
  | 101 => ⟨S8x4096x4x32, .f32⟩
  | 102 => ⟨S4096x2x1x32, .f32⟩
  | 103 => ⟨S4096x2x32, .f32⟩
  | 104 => ⟨S4096x1x2x32, .f32⟩
  | 105 => ⟨S4096x2x2x32, .f32⟩
  | 106 => ⟨S4096x4x32, .f32⟩
  | 107 => ⟨S1x4096x4x32, .f32⟩
  | 108 => ⟨S8x4096x4x32, .f32⟩
  | 109 => ⟨S8x4096x4x32, .f32⟩
  | 110 => ⟨S8x4096x4x32, .f32⟩
  | 111 => ⟨S4096x2x1x32, .f32⟩
  | 112 => ⟨S4096x2x32, .f32⟩
  | 113 => ⟨S4096x1x2x32, .f32⟩
  | 114 => ⟨S4096x2x2x32, .f32⟩
  | 115 => ⟨S4096x4x32, .f32⟩
  | 116 => ⟨S1x4096x4x32, .f32⟩
  | 117 => ⟨S8x4096x4x32, .f32⟩
  | 118 => ⟨S8x4096x4x32, .f32⟩
  | 119 => ⟨S4096x2x1x32, .f32⟩
  | 120 => ⟨S4096x2x32, .f32⟩
  | 121 => ⟨S4096x1x2x32, .f32⟩
  | 122 => ⟨S4096x2x2x32, .f32⟩
  | 123 => ⟨S4096x4x32, .f32⟩
  | 124 => ⟨S1x4096x4x32, .f32⟩
  | 125 => ⟨S8x4096x4x32, .f32⟩
  | 126 => ⟨S8x4096x4x32, .f32⟩
  | 127 => ⟨S8x4096x4x32, .f32⟩
  | _ => ⟨S8x4096x1024, .f32⟩

abbrev hbmTy0_1 (i : Nat) : BufTy := match i % 128 with
  | 0 => ⟨S8x4096x4x1x32, .f32⟩
  | 1 => ⟨S8x4096x4x1x32, .f32⟩
  | 2 => ⟨S8x4096x4x2x32, .f32⟩
  | 3 => ⟨S8x4096x256, .f32⟩
  | 4 => ⟨S8x4096x256, .bf16⟩
  | 5 => ⟨S8x4096x256, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩

abbrev nD : Nat := 1
abbrev τ : Topo := Topo.v7x

variable {F : FTy → Type} [FloatOps F]
-- ==== Kernel5.lean ====
abbrev S8x4096x512 : Shape := ⟨3, ![8, 4096, 512]⟩
abbrev S1024x1024 : Shape := ⟨2, ![1024, 1024]⟩
abbrev S8x4096x1024 : Shape := ⟨3, ![8, 4096, 1024]⟩
abbrev S1024 : Shape := ⟨1, ![1024]⟩
abbrev S8x1x1024 : Shape := ⟨3, ![8, 1, 1024]⟩
abbrev S1024x16 : Shape := ⟨2, ![1024, 16]⟩
abbrev S16x1024 : Shape := ⟨2, ![16, 1024]⟩
abbrev S1x1024 : Shape := ⟨2, ![1, 1024]⟩
abbrev S8x16x4096 : Shape := ⟨3, ![8, 16, 4096]⟩
abbrev S1x1024x512 : Shape := ⟨3, ![1, 1024, 512]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1x512x512 : Shape := ⟨3, ![1, 512, 512]⟩
abbrev S512x512 : Shape := ⟨2, ![512, 512]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S16x512 : Shape := ⟨2, ![16, 512]⟩
abbrev S1x512 : Shape := ⟨2, ![1, 512]⟩
abbrev S1x16x512 : Shape := ⟨3, ![1, 16, 512]⟩

abbrev nBuf : Space → Nat
  | .hbm => 20
  | .vmem => 23
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S1024x1024, .bf16⟩
  | .hbm, ⟨3, _⟩ => ⟨S8x4096x1024, .f32⟩
  | .hbm, ⟨4, _⟩ => ⟨S1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x16, .f32⟩
  | .hbm, ⟨10, _⟩ => ⟨S16x1024, .f32⟩
  | .hbm, ⟨11, _⟩ => ⟨S16x1024, .bf16⟩
  | .hbm, ⟨12, _⟩ => ⟨S16x1024, .f32⟩
  | .hbm, ⟨13, _⟩ => ⟨S16x1024, .f32⟩
  | .hbm, ⟨14, _⟩ => ⟨S16x1024, .bf16⟩
  | .hbm, ⟨15, _⟩ => ⟨S1x1024, .f32⟩
  | .hbm, ⟨16, _⟩ => ⟨S1x1024, .f32⟩
  | .hbm, ⟨17, _⟩ => ⟨S8x4096x1024, .f32⟩
  | .hbm, ⟨18, _⟩ => ⟨S8x4096x1024, .f32⟩
  | .hbm, ⟨19, _⟩ => ⟨S8x16x4096, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .bf16⟩
  | .local _ .vmem, ⟨5, _⟩ => ⟨S1x1024x1024, .f32⟩
  | .local _ .vmem, ⟨6, _⟩ => ⟨S1x1024x1024, .f32⟩
  | .local _ .vmem, ⟨7, _⟩ => ⟨S1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S16x1024, .bf16⟩
  | .local _ .vmem, ⟨16, _⟩ => ⟨S16x1024, .bf16⟩
  | .local _ .vmem, ⟨17, _⟩ => ⟨S1x1024x1024, .f32⟩
  | .local _ .vmem, ⟨18, _⟩ => ⟨S1x1024x1024, .f32⟩
  | .local _ .vmem, ⟨19, _⟩ => ⟨S1x1024x1024, .f32⟩
  | .local _ .vmem, ⟨20, _⟩ => ⟨S1x1024x1024, .f32⟩
  | .local _ .vmem, ⟨21, _⟩ => ⟨S1x16x1024, .f32⟩
  | .local _ .vmem, ⟨22, _⟩ => ⟨S1x16x1024, .f32⟩
  | _, _ => ⟨S8x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x16x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference5Ideal.lean ====
abbrev S8x4096x512 : Shape := ⟨3, ![8, 4096, 512]⟩
abbrev S1024x1024 : Shape := ⟨2, ![1024, 1024]⟩
abbrev S8x4096x1024 : Shape := ⟨3, ![8, 4096, 1024]⟩
abbrev S1024 : Shape := ⟨1, ![1024]⟩
abbrev S8x1x1024 : Shape := ⟨3, ![8, 1, 1024]⟩
abbrev S1024x16 : Shape := ⟨2, ![1024, 16]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x16 : Shape := ⟨3, ![8, 4096, 16]⟩
abbrev S8x16x4096 : Shape := ⟨3, ![8, 16, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8x4096x512, .bf16⟩
  | .hbm, ⟨1, _⟩ => ⟨S8x4096x512, .bf16⟩
  | .hbm, ⟨2, _⟩ => ⟨S1024x1024, .bf16⟩
  | .hbm, ⟨3, _⟩ => ⟨S8x4096x1024, .f32⟩
  | .hbm, ⟨4, _⟩ => ⟨S1024, .f32⟩
  | .hbm, ⟨5, _⟩ => ⟨S8x1x1024, .f32⟩
  | .hbm, ⟨6, _⟩ => ⟨S1024, .f32⟩
  | .hbm, ⟨7, _⟩ => ⟨S8x1x1024, .f32⟩
  | .hbm, ⟨8, _⟩ => ⟨S8x1x1024, .f32⟩
  | .hbm, ⟨9, _⟩ => ⟨S1024x16, .f32⟩
  | .hbm, ⟨10, _⟩ => ⟨S8x4096x1024, .bf16⟩
  | .hbm, ⟨11, _⟩ => ⟨S8x4096x1024, .f32⟩
  | .hbm, ⟨12, _⟩ => ⟨S1024x1024, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S_, .f32⟩
  | .hbm, ⟨22, _⟩ => ⟨S8x4096x1, .f32⟩
  | .hbm, ⟨23, _⟩ => ⟨S8x4096x1, .f32⟩
  | .hbm, ⟨24, _⟩ => ⟨S8x4096x1, .f32⟩
  | .hbm, ⟨25, _⟩ => ⟨S8x4096x1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S_, .f32⟩
  | .hbm, ⟨35, _⟩ => ⟨S8x4096, .f32⟩
  | .hbm, ⟨36, _⟩ => ⟨S8x4096x1, .f32⟩
  | .hbm, ⟨37, _⟩ => ⟨S_, .f32⟩
  | .hbm, ⟨38, _⟩ => ⟨S8x4096x1, .f32⟩
  | .hbm, ⟨39, _⟩ => ⟨S8x4096x1, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S8x4096x1024, .f32⟩
  | .hbm, ⟨53, _⟩ => ⟨S8x4096x16, .f32⟩
  | .hbm, ⟨54, _⟩ => ⟨S_, .f32⟩
  | .hbm, ⟨55, _⟩ => ⟨S8x4096, .f32⟩
  | .hbm, ⟨56, _⟩ => ⟨S_, .f32⟩
  | .hbm, ⟨57, _⟩ => ⟨S8x4096, .f32⟩
  | .hbm, ⟨58, _⟩ => ⟨S8x4096, .f32⟩
  | .hbm, ⟨59, _⟩ => ⟨S8x4096x1, .f32⟩
  | .hbm, ⟨60, _⟩ => ⟨S8x4096x16, .f32⟩
  | .hbm, ⟨61, _⟩ => ⟨S8x4096x16, .f32⟩
  | .hbm, ⟨62, _⟩ => ⟨S8x4096x16, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S8x4096x16, .f32⟩
  | .hbm, ⟨67, _⟩ => ⟨S8x4096x16, .f32⟩
  | .hbm, ⟨68, _⟩ => ⟨S8x16x4096, .f32⟩
  | _, _ => ⟨S8x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_cst_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_5 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩

abbrev nD : Nat := 1
abbrev τ : Topo := Topo.v7x

variable {F : FTy → Type} [FloatOps F]
-- ==== Kernel6.lean ====
abbrev S16x1x256 : Shape := ⟨3, ![16, 1, 256]⟩
abbrev S1x2048x1024 : Shape := ⟨3, ![1, 2048, 1024]⟩
abbrev S16x1024x1024 : Shape := ⟨3, ![16, 1024, 1024]⟩
abbrev S1x16x256x1024 : Shape := ⟨4, ![1, 16, 256, 1024]⟩
abbrev S1x1x256 : Shape := ⟨3, ![1, 1, 256]⟩
abbrev S1x1024x1024 : Shape := ⟨3, ![1, 1024, 1024]⟩
abbrev S1x1x256x1024 : Shape := ⟨4, ![1, 1, 256, 1024]⟩
abbrev S2x256x1024 : Shape := ⟨3, ![2, 256, 1024]⟩
abbrev S8x1024 : Shape := ⟨2, ![8, 1024]⟩
abbrev S1x1x1 : Shape := ⟨3, ![1, 1, 1]⟩
abbrev S1x8x1024 : Shape := ⟨3, ![1, 8, 1024]⟩
abbrev S1x256x1024 : Shape := ⟨3, ![1, 256, 1024]⟩
abbrev S256x1024 : Shape := ⟨2, ![256, 1024]⟩
abbrev S1024x1024 : Shape := ⟨2, ![1024, 1024]⟩

abbrev nBuf : Space → Nat
  | .hbm => 6
  | .vmem => 10
  | .smem => 4
  | _ => 0

abbrev bufTy : (tb : Table) → Fin (tcTables nBuf tb) → BufTy
  | .hbm, ⟨0, _⟩ => ⟨S16x1x256, .i32⟩
  | .hbm, ⟨1, _⟩ => ⟨S1x2048x1024, .f32⟩
  | .hbm, ⟨2, _⟩ => ⟨S16x1024x1024, .bf16⟩
  | .hbm, ⟨3, _⟩ => ⟨S16x1024x1024, .bf16⟩
  | .hbm, ⟨4, _⟩ => ⟨S16x1024x1024, .bf16⟩
  | .hbm, ⟨5, _⟩ => ⟨S1x16x256x1024, .f32⟩
  | .local _ .vmem, ⟨0, _⟩ => ⟨S1x2048x1024, .f32⟩
  | .local _ .vmem, ⟨1, _⟩ => ⟨S1x1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1x256x1024, .f32⟩
  | .local _ .vmem, ⟨8, _⟩ => ⟨S1x1x256x1024, .f32⟩
  | .local _ .vmem, ⟨9, _⟩ => ⟨S2x256x1024, .f32⟩
  | .local _ .smem, ⟨0, _⟩ => ⟨S1x1x256, .i32⟩
  | .local _ .smem, ⟨1, _⟩ => ⟨S1x1x256, .i32⟩
  | .local _ .smem, ⟨2, _⟩ => ⟨S1x1x256, .i32⟩
  | .local _ .smem, ⟨3, _⟩ => ⟨S1x1x256, .i32⟩
  | _, _ => ⟨S16x1x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![1, 16], ![false, false]⟩

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

@[reducible] def k0_t1_loop : Scf.Loop 32 :=
  let c0_i32_2256 : BitVec 32 := 0#32
  let c32_i32 : BitVec 32 := 32#32
  let v3583 : BitVec 32 := Scalar.addi c0_i32_2256 c32_i32
  let c1_i32_2257 : BitVec 32 := 1#32
  ⟨c0_i32_2256, v3583, c1_i32_2257⟩
def k0_mult1 (k0_t1 : Fin k0_t1_loop.trips) : BitVec 32 :=
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  v3584
def k0_off1 (k0_t1 : Fin k0_t1_loop.trips) : Fin 3 → Nat :=
  let c0_2261 : Index := 0#32
  let c0_2262 : Index := 0#32
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let c0_i32_2260 : BitVec 32 := 0#32
  let v3587 : BitVec 32 := Scalar.addi v3585 c0_i32_2260
  let v3588 : Index := Scalar.indexCast v3587
  ![0, 0, v3588.toNat]
def k0_mult2 (v3589 : BitVec 32) : BitVec 32 :=
  let c7_i32_2263 : BitVec 32 := 7#32
  let v3590 : BitVec 32 := Scalar.andi v3589 c7_i32_2263
  let v3591 : BitVec 32 := Scalar.subi v3589 v3590
  v3591

def k0_off2 (v3589 : BitVec 32) : Fin 3 → Nat :=
  let c0_2264 : Index := 0#32
  let c7_i32_2263 : BitVec 32 := 7#32
  let v3590 : BitVec 32 := Scalar.andi v3589 c7_i32_2263
  let v3591 : BitVec 32 := Scalar.subi v3589 v3590
  let v3592 : BitVec 32 := v3591
  let v3593 : Index := Scalar.indexCast v3592
  let c0_2265 : Index := 0#32
  ![0, v3593.toNat, 0]

def k0_chk1 (i : grid0.Coords) (v3589 : BitVec 32) : Prop :=
  (∀ (k0_h1 : k0_cond1 i = 1#1), 8 ∣ (k0_mult2 v3589).toNat) ∧
  (∀ (k0_h1 : k0_cond1 i = 1#1), ∀ a, (k0_off2 v3589) a + S1x8x1024.size a ≤ S1x2048x1024.size a)
theorem k0_mult2_dvd : ∀ (i : grid0.Coords) (v3589 : BitVec 32) (k0_hw1 : k0_chk1 i v3589), ∀ (k0_h1 : k0_cond1 i = 1#1), 8 ∣ (k0_mult2 v3589).toNat := fun i v3589 k0_hw1 k0_h1 => k0_hw1.1 k0_h1
theorem k0_off2_inb : ∀ (i : grid0.Coords) (v3589 : BitVec 32) (k0_hw1 : k0_chk1 i v3589), ∀ (k0_h1 : k0_cond1 i = 1#1), ∀ a, (k0_off2 v3589) a + S1x8x1024.size a ≤ S1x2048x1024.size a := fun i v3589 k0_hw1 k0_h1 => k0_hw1.2 k0_h1

def k0_off3 (k0_t1 : Fin k0_t1_loop.trips) : Fin 3 → Nat :=
  let c0_2270 : Index := 0#32
  let c0_2271 : Index := 0#32
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let c1_i32_2269 : BitVec 32 := 1#32
  let v3602 : BitVec 32 := Scalar.addi v3585 c1_i32_2269
  let v3603 : Index := Scalar.indexCast v3602
  ![0, 0, v3603.toNat]
def k0_mult3 (v3604 : BitVec 32) : BitVec 32 :=
  let c7_i32_2272 : BitVec 32 := 7#32
  let v3605 : BitVec 32 := Scalar.andi v3604 c7_i32_2272
  let v3606 : BitVec 32 := Scalar.subi v3604 v3605
  v3606

def k0_off4 (v3604 : BitVec 32) : Fin 3 → Nat :=
  let c0_2273 : Index := 0#32
  let c7_i32_2272 : BitVec 32 := 7#32
  let v3605 : BitVec 32 := Scalar.andi v3604 c7_i32_2272
  let v3606 : BitVec 32 := Scalar.subi v3604 v3605
  let v3607 : BitVec 32 := v3606
  let v3608 : Index := Scalar.indexCast v3607
  let c0_2274 : Index := 0#32
  ![0, v3608.toNat, 0]

def k0_chk2 (i : grid0.Coords) (v3604 : BitVec 32) : Prop :=
  (∀ (k0_h1 : k0_cond1 i = 1#1), 8 ∣ (k0_mult3 v3604).toNat) ∧
  (∀ (k0_h1 : k0_cond1 i = 1#1), ∀ a, (k0_off4 v3604) a + S1x8x1024.size a ≤ S1x2048x1024.size a)
theorem k0_mult3_dvd : ∀ (i : grid0.Coords) (v3604 : BitVec 32) (k0_hw2 : k0_chk2 i v3604), ∀ (k0_h1 : k0_cond1 i = 1#1), 8 ∣ (k0_mult3 v3604).toNat := fun i v3604 k0_hw2 k0_h1 => k0_hw2.1 k0_h1
theorem k0_off4_inb : ∀ (i : grid0.Coords) (v3604 : BitVec 32) (k0_hw2 : k0_chk2 i v3604), ∀ (k0_h1 : k0_cond1 i = 1#1), ∀ a, (k0_off4 v3604) a + S1x8x1024.size a ≤ S1x2048x1024.size a := fun i v3604 k0_hw2 k0_h1 => k0_hw2.2 k0_h1

def k0_off5 (k0_t1 : Fin k0_t1_loop.trips) : Fin 3 → Nat :=
  let c0_2279 : Index := 0#32
  let c0_2280 : Index := 0#32
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let c2_i32_2278 : BitVec 32 := 2#32
  let v3617 : BitVec 32 := Scalar.addi v3585 c2_i32_2278
  let v3618 : Index := Scalar.indexCast v3617
  ![0, 0, v3618.toNat]
def k0_mult4 (v3619 : BitVec 32) : BitVec 32 :=
  let c7_i32_2281 : BitVec 32 := 7#32
  let v3620 : BitVec 32 := Scalar.andi v3619 c7_i32_2281
  let v3621 : BitVec 32 := Scalar.subi v3619 v3620
  v3621

def k0_off6 (v3619 : BitVec 32) : Fin 3 → Nat :=
  let c0_2282 : Index := 0#32
  let c7_i32_2281 : BitVec 32 := 7#32
  let v3620 : BitVec 32 := Scalar.andi v3619 c7_i32_2281
  let v3621 : BitVec 32 := Scalar.subi v3619 v3620
  let v3622 : BitVec 32 := v3621
  let v3623 : Index := Scalar.indexCast v3622
  let c0_2283 : Index := 0#32
  ![0, v3623.toNat, 0]

def k0_chk3 (i : grid0.Coords) (v3619 : BitVec 32) : Prop :=
  (∀ (k0_h1 : k0_cond1 i = 1#1), 8 ∣ (k0_mult4 v3619).toNat) ∧
  (∀ (k0_h1 : k0_cond1 i = 1#1), ∀ a, (k0_off6 v3619) a + S1x8x1024.size a ≤ S1x2048x1024.size a)
theorem k0_mult4_dvd : ∀ (i : grid0.Coords) (v3619 : BitVec 32) (k0_hw3 : k0_chk3 i v3619), ∀ (k0_h1 : k0_cond1 i = 1#1), 8 ∣ (k0_mult4 v3619).toNat := fun i v3619 k0_hw3 k0_h1 => k0_hw3.1 k0_h1
theorem k0_off6_inb : ∀ (i : grid0.Coords) (v3619 : BitVec 32) (k0_hw3 : k0_chk3 i v3619), ∀ (k0_h1 : k0_cond1 i = 1#1), ∀ a, (k0_off6 v3619) a + S1x8x1024.size a ≤ S1x2048x1024.size a := fun i v3619 k0_hw3 k0_h1 => k0_hw3.2 k0_h1

def k0_off7 (k0_t1 : Fin k0_t1_loop.trips) : Fin 3 → Nat :=
  let c0_2288 : Index := 0#32
  let c0_2289 : Index := 0#32
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let c3_i32_2287 : BitVec 32 := 3#32
  let v3632 : BitVec 32 := Scalar.addi v3585 c3_i32_2287
  let v3633 : Index := Scalar.indexCast v3632
  ![0, 0, v3633.toNat]
def k0_mult5 (v3634 : BitVec 32) : BitVec 32 :=
  let c7_i32_2290 : BitVec 32 := 7#32
  let v3635 : BitVec 32 := Scalar.andi v3634 c7_i32_2290
  let v3636 : BitVec 32 := Scalar.subi v3634 v3635
  v3636

def k0_off8 (v3634 : BitVec 32) : Fin 3 → Nat :=
  let c0_2291 : Index := 0#32
  let c7_i32_2290 : BitVec 32 := 7#32
  let v3635 : BitVec 32 := Scalar.andi v3634 c7_i32_2290
  let v3636 : BitVec 32 := Scalar.subi v3634 v3635
  let v3637 : BitVec 32 := v3636
  let v3638 : Index := Scalar.indexCast v3637
  let c0_2292 : Index := 0#32
  ![0, v3638.toNat, 0]

def k0_chk4 (i : grid0.Coords) (v3634 : BitVec 32) : Prop :=
  (∀ (k0_h1 : k0_cond1 i = 1#1), 8 ∣ (k0_mult5 v3634).toNat) ∧
  (∀ (k0_h1 : k0_cond1 i = 1#1), ∀ a, (k0_off8 v3634) a + S1x8x1024.size a ≤ S1x2048x1024.size a)
theorem k0_mult5_dvd : ∀ (i : grid0.Coords) (v3634 : BitVec 32) (k0_hw4 : k0_chk4 i v3634), ∀ (k0_h1 : k0_cond1 i = 1#1), 8 ∣ (k0_mult5 v3634).toNat := fun i v3634 k0_hw4 k0_h1 => k0_hw4.1 k0_h1
theorem k0_off8_inb : ∀ (i : grid0.Coords) (v3634 : BitVec 32) (k0_hw4 : k0_chk4 i v3634), ∀ (k0_h1 : k0_cond1 i = 1#1), ∀ a, (k0_off8 v3634) a + S1x8x1024.size a ≤ S1x2048x1024.size a := fun i v3634 k0_hw4 k0_h1 => k0_hw4.2 k0_h1

def k0_off9 (k0_t1 : Fin k0_t1_loop.trips) : Fin 3 → Nat :=
  let c0_2297 : Index := 0#32
  let c0_2298 : Index := 0#32
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let c4_i32_2296 : BitVec 32 := 4#32
  let v3647 : BitVec 32 := Scalar.addi v3585 c4_i32_2296
  let v3648 : Index := Scalar.indexCast v3647
  ![0, 0, v3648.toNat]
def k0_mult6 (v3649 : BitVec 32) : BitVec 32 :=
  let c7_i32_2299 : BitVec 32 := 7#32
  let v3650 : BitVec 32 := Scalar.andi v3649 c7_i32_2299
  let v3651 : BitVec 32 := Scalar.subi v3649 v3650
  v3651

def k0_off10 (v3649 : BitVec 32) : Fin 3 → Nat :=
  let c0_2300 : Index := 0#32
  let c7_i32_2299 : BitVec 32 := 7#32
  let v3650 : BitVec 32 := Scalar.andi v3649 c7_i32_2299
  let v3651 : BitVec 32 := Scalar.subi v3649 v3650
  let v3652 : BitVec 32 := v3651
  let v3653 : Index := Scalar.indexCast v3652
  let c0_2301 : Index := 0#32
  ![0, v3653.toNat, 0]

def k0_chk5 (i : grid0.Coords) (v3649 : BitVec 32) : Prop :=
  (∀ (k0_h1 : k0_cond1 i = 1#1), 8 ∣ (k0_mult6 v3649).toNat) ∧
  (∀ (k0_h1 : k0_cond1 i = 1#1), ∀ a, (k0_off10 v3649) a + S1x8x1024.size a ≤ S1x2048x1024.size a)
theorem k0_mult6_dvd : ∀ (i : grid0.Coords) (v3649 : BitVec 32) (k0_hw5 : k0_chk5 i v3649), ∀ (k0_h1 : k0_cond1 i = 1#1), 8 ∣ (k0_mult6 v3649).toNat := fun i v3649 k0_hw5 k0_h1 => k0_hw5.1 k0_h1
theorem k0_off10_inb : ∀ (i : grid0.Coords) (v3649 : BitVec 32) (k0_hw5 : k0_chk5 i v3649), ∀ (k0_h1 : k0_cond1 i = 1#1), ∀ a, (k0_off10 v3649) a + S1x8x1024.size a ≤ S1x2048x1024.size a := fun i v3649 k0_hw5 k0_h1 => k0_hw5.2 k0_h1

def k0_off11 (k0_t1 : Fin k0_t1_loop.trips) : Fin 3 → Nat :=
  let c0_2306 : Index := 0#32
  let c0_2307 : Index := 0#32
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let c5_i32_2305 : BitVec 32 := 5#32
  let v3662 : BitVec 32 := Scalar.addi v3585 c5_i32_2305
  let v3663 : Index := Scalar.indexCast v3662
  ![0, 0, v3663.toNat]
def k0_mult7 (v3664 : BitVec 32) : BitVec 32 :=
  let c7_i32_2308 : BitVec 32 := 7#32
  let v3665 : BitVec 32 := Scalar.andi v3664 c7_i32_2308
  let v3666 : BitVec 32 := Scalar.subi v3664 v3665
  v3666

def k0_off12 (v3664 : BitVec 32) : Fin 3 → Nat :=
  let c0_2309 : Index := 0#32
  let c7_i32_2308 : BitVec 32 := 7#32
  let v3665 : BitVec 32 := Scalar.andi v3664 c7_i32_2308
  let v3666 : BitVec 32 := Scalar.subi v3664 v3665
  let v3667 : BitVec 32 := v3666
  let v3668 : Index := Scalar.indexCast v3667
  let c0_2310 : Index := 0#32
  ![0, v3668.toNat, 0]

def k0_chk6 (i : grid0.Coords) (v3664 : BitVec 32) : Prop :=
  (∀ (k0_h1 : k0_cond1 i = 1#1), 8 ∣ (k0_mult7 v3664).toNat) ∧
  (∀ (k0_h1 : k0_cond1 i = 1#1), ∀ a, (k0_off12 v3664) a + S1x8x1024.size a ≤ S1x2048x1024.size a)
theorem k0_mult7_dvd : ∀ (i : grid0.Coords) (v3664 : BitVec 32) (k0_hw6 : k0_chk6 i v3664), ∀ (k0_h1 : k0_cond1 i = 1#1), 8 ∣ (k0_mult7 v3664).toNat := fun i v3664 k0_hw6 k0_h1 => k0_hw6.1 k0_h1
theorem k0_off12_inb : ∀ (i : grid0.Coords) (v3664 : BitVec 32) (k0_hw6 : k0_chk6 i v3664), ∀ (k0_h1 : k0_cond1 i = 1#1), ∀ a, (k0_off12 v3664) a + S1x8x1024.size a ≤ S1x2048x1024.size a := fun i v3664 k0_hw6 k0_h1 => k0_hw6.2 k0_h1

def k0_off13 (k0_t1 : Fin k0_t1_loop.trips) : Fin 3 → Nat :=
  let c0_2315 : Index := 0#32
  let c0_2316 : Index := 0#32
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let c6_i32_2314 : BitVec 32 := 6#32
  let v3677 : BitVec 32 := Scalar.addi v3585 c6_i32_2314
  let v3678 : Index := Scalar.indexCast v3677
  ![0, 0, v3678.toNat]
def k0_mult8 (v3679 : BitVec 32) : BitVec 32 :=
  let c7_i32_2317 : BitVec 32 := 7#32
  let v3680 : BitVec 32 := Scalar.andi v3679 c7_i32_2317
  let v3681 : BitVec 32 := Scalar.subi v3679 v3680
  v3681

def k0_off14 (v3679 : BitVec 32) : Fin 3 → Nat :=
  let c0_2318 : Index := 0#32
  let c7_i32_2317 : BitVec 32 := 7#32
  let v3680 : BitVec 32 := Scalar.andi v3679 c7_i32_2317
  let v3681 : BitVec 32 := Scalar.subi v3679 v3680
  let v3682 : BitVec 32 := v3681
  let v3683 : Index := Scalar.indexCast v3682
  let c0_2319 : Index := 0#32
  ![0, v3683.toNat, 0]

def k0_chk7 (i : grid0.Coords) (v3679 : BitVec 32) : Prop :=
  (∀ (k0_h1 : k0_cond1 i = 1#1), 8 ∣ (k0_mult8 v3679).toNat) ∧
  (∀ (k0_h1 : k0_cond1 i = 1#1), ∀ a, (k0_off14 v3679) a + S1x8x1024.size a ≤ S1x2048x1024.size a)
theorem k0_mult8_dvd : ∀ (i : grid0.Coords) (v3679 : BitVec 32) (k0_hw7 : k0_chk7 i v3679), ∀ (k0_h1 : k0_cond1 i = 1#1), 8 ∣ (k0_mult8 v3679).toNat := fun i v3679 k0_hw7 k0_h1 => k0_hw7.1 k0_h1
theorem k0_off14_inb : ∀ (i : grid0.Coords) (v3679 : BitVec 32) (k0_hw7 : k0_chk7 i v3679), ∀ (k0_h1 : k0_cond1 i = 1#1), ∀ a, (k0_off14 v3679) a + S1x8x1024.size a ≤ S1x2048x1024.size a := fun i v3679 k0_hw7 k0_h1 => k0_hw7.2 k0_h1

def k0_off15 (k0_t1 : Fin k0_t1_loop.trips) : Fin 3 → Nat :=
  let c0_2324 : Index := 0#32
  let c0_2325 : Index := 0#32
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let c7_i32_2323 : BitVec 32 := 7#32
  let v3692 : BitVec 32 := Scalar.addi v3585 c7_i32_2323
  let v3693 : Index := Scalar.indexCast v3692
  ![0, 0, v3693.toNat]
def k0_mult9 (v3694 : BitVec 32) : BitVec 32 :=
  let c7_i32_2326 : BitVec 32 := 7#32
  let v3695 : BitVec 32 := Scalar.andi v3694 c7_i32_2326
  let v3696 : BitVec 32 := Scalar.subi v3694 v3695
  v3696

def k0_off16 (v3694 : BitVec 32) : Fin 3 → Nat :=
  let c0_2327 : Index := 0#32
  let c7_i32_2326 : BitVec 32 := 7#32
  let v3695 : BitVec 32 := Scalar.andi v3694 c7_i32_2326
  let v3696 : BitVec 32 := Scalar.subi v3694 v3695
  let v3697 : BitVec 32 := v3696
  let v3698 : Index := Scalar.indexCast v3697
  let c0_2328 : Index := 0#32
  ![0, v3698.toNat, 0]

def k0_chk8 (i : grid0.Coords) (v3694 : BitVec 32) : Prop :=
  (∀ (k0_h1 : k0_cond1 i = 1#1), 8 ∣ (k0_mult9 v3694).toNat) ∧
  (∀ (k0_h1 : k0_cond1 i = 1#1), ∀ a, (k0_off16 v3694) a + S1x8x1024.size a ≤ S1x2048x1024.size a)
theorem k0_mult9_dvd : ∀ (i : grid0.Coords) (v3694 : BitVec 32) (k0_hw8 : k0_chk8 i v3694), ∀ (k0_h1 : k0_cond1 i = 1#1), 8 ∣ (k0_mult9 v3694).toNat := fun i v3694 k0_hw8 k0_h1 => k0_hw8.1 k0_h1
theorem k0_off16_inb : ∀ (i : grid0.Coords) (v3694 : BitVec 32) (k0_hw8 : k0_chk8 i v3694), ∀ (k0_h1 : k0_cond1 i = 1#1), ∀ a, (k0_off16 v3694) a + S1x8x1024.size a ≤ S1x2048x1024.size a := fun i v3694 k0_hw8 k0_h1 => k0_hw8.2 k0_h1

def k0_off17 (k0_t1 : Fin k0_t1_loop.trips) : Fin 2 → Nat :=
  let c0_i32_2256 : BitVec 32 := 0#32
  let c1_i32_2257 : BitVec 32 := 1#32
  let arg10 : BitVec 32 := Scf.iv c0_i32_2256 c1_i32_2257 k0_t1
  let c8_i32 : BitVec 32 := 8#32
  let v3584 : BitVec 32 := Scalar.muli arg10 c8_i32
  let v3585 : BitVec 32 := v3584
  let v3709 : Index := Scalar.indexCast v3585
  let c0_2334 : Index := 0#32
  ![v3709.toNat, 0]
def k0_off18 (i : grid0.Coords) : Fin 3 → Nat :=
  let arg1 : BitVec 32 := BitVec.ofNat 32 (i 1).val
  let c1_i32 : BitVec 32 := 1#32
  let v1 : BitVec 32 := Scalar.andi arg1 c1_i32
  let v5 : Index := Scalar.indexCast v1
  let c0 : Index := 0#32
  let c0_1 : Index := 0#32
  ![v5.toNat, 0, 0]
def k0_mult10 (v33 : BitVec 32) : BitVec 32 :=
  let c7_i32 : BitVec 32 := 7#32
  let v34 : BitVec 32 := Scalar.andi v33 c7_i32
  let v35 : BitVec 32 := Scalar.subi v33 v34
  v35

def k0_off19 (v33 : BitVec 32) : Fin 3 → Nat :=
  let c0_25 : Index := 0#32
  let c7_i32 : BitVec 32 := 7#32
  let v34 : BitVec 32 := Scalar.andi v33 c7_i32
  let v35 : BitVec 32 := Scalar.subi v33 v34
  let v36 : BitVec 32 := v35
  let v37 : Index := Scalar.indexCast v36
  let c0_26 : Index := 0#32
  ![0, v37.toNat, 0]

def k0_chk9 (v33 : BitVec 32) : Prop :=
  (8 ∣ (k0_mult10 v33).toNat) ∧
  (∀ a, (k0_off19 v33) a + S1x8x1024.size a ≤ S1x2048x1024.size a)
theorem k0_mult10_dvd : ∀ (v33 : BitVec 32) (k0_hw9 : k0_chk9 v33), 8 ∣ (k0_mult10 v33).toNat := fun v33 k0_hw9 => k0_hw9.1
theorem k0_off19_inb : ∀ (v33 : BitVec 32) (k0_hw9 : k0_chk9 v33), ∀ a, (k0_off19 v33) a + S1x8x1024.size a ≤ S1x2048x1024.size a := fun v33 k0_hw9 => k0_hw9.2

def k0_mult11 (v46 : BitVec 32) : BitVec 32 :=
  let c7_i32_32 : BitVec 32 := 7#32
  let v47 : BitVec 32 := Scalar.andi v46 c7_i32_32
  let v48 : BitVec 32 := Scalar.subi v46 v47
  v48

def k0_off20 (v46 : BitVec 32) : Fin 3 → Nat :=
  let c0_33 : Index := 0#32
  let c7_i32_32 : BitVec 32 := 7#32
  let v47 : BitVec 32 := Scalar.andi v46 c7_i32_32
  let v48 : BitVec 32 := Scalar.subi v46 v47
  let v49 : BitVec 32 := v48
  let v50 : Index := Scalar.indexCast v49
  let c0_34 : Index := 0#32
  ![0, v50.toNat, 0]

def k0_chk10 (v46 : BitVec 32) : Prop :=
  (8 ∣ (k0_mult11 v46).toNat) ∧
  (∀ a, (k0_off20 v46) a + S1x8x1024.size a ≤ S1x2048x1024.size a)
theorem k0_mult11_dvd : ∀ (v46 : BitVec 32) (k0_hw10 : k0_chk10 v46), 8 ∣ (k0_mult11 v46).toNat := fun v46 k0_hw10 => k0_hw10.1
theorem k0_off20_inb : ∀ (v46 : BitVec 32) (k0_hw10 : k0_chk10 v46), ∀ a, (k0_off20 v46) a + S1x8x1024.size a ≤ S1x2048x1024.size a := fun v46 k0_hw10 => k0_hw10.2

def k0_mult12 (v59 : BitVec 32) : BitVec 32 :=
  let c7_i32_40 : BitVec 32 := 7#32
  let v60 : BitVec 32 := Scalar.andi v59 c7_i32_40
  let v61 : BitVec 32 := Scalar.subi v59 v60
  v61

def k0_off21 (v59 : BitVec 32) : Fin 3 → Nat :=
  let c0_41 : Index := 0#32
  let c7_i32_40 : BitVec 32 := 7#32
  let v60 : BitVec 32 := Scalar.andi v59 c7_i32_40
  let v61 : BitVec 32 := Scalar.subi v59 v60
  let v62 : BitVec 32 := v61
  let v63 : Index := Scalar.indexCast v62
  let c0_42 : Index := 0#32
  ![0, v63.toNat, 0]

def k0_chk11 (v59 : BitVec 32) : Prop :=
  (8 ∣ (k0_mult12 v59).toNat) ∧
  (∀ a, (k0_off21 v59) a + S1x8x1024.size a ≤ S1x2048x1024.size a)
theorem k0_mult12_dvd : ∀ (v59 : BitVec 32) (k0_hw11 : k0_chk11 v59), 8 ∣ (k0_mult12 v59).toNat := fun v59 k0_hw11 => k0_hw11.1
theorem k0_off21_inb : ∀ (v59 : BitVec 32) (k0_hw11 : k0_chk11 v59), ∀ a, (k0_off21 v59) a + S1x8x1024.size a ≤ S1x2048x1024.size a := fun v59 k0_hw11 => k0_hw11.2

def k0_mult13 (v72 : BitVec 32) : BitVec 32 :=
  let c7_i32_47 : BitVec 32 := 7#32
  let v73 : BitVec 32 := Scalar.andi v72 c7_i32_47
  let v74 : BitVec 32 := Scalar.subi v72 v73
  v74

def k0_off22 (v72 : BitVec 32) : Fin 3 → Nat :=
  let c0_48 : Index := 0#32
  let c7_i32_47 : BitVec 32 := 7#32
  let v73 : BitVec 32 := Scalar.andi v72 c7_i32_47
  let v74 : BitVec 32 := Scalar.subi v72 v73
  let v75 : BitVec 32 := v74
  let v76 : Index := Scalar.indexCast v75
  let c0_49 : Index := 0#32
  ![0, v76.toNat, 0]

def k0_chk12 (v72 : BitVec 32) : Prop :=
  (8 ∣ (k0_mult13 v72).toNat) ∧
  (∀ a, (k0_off22 v72) a + S1x8x1024.size a ≤ S1x2048x1024.size a)
theorem k0_mult13_dvd : ∀ (v72 : BitVec 32) (k0_hw12 : k0_chk12 v72), 8 ∣ (k0_mult13 v72).toNat := fun v72 k0_hw12 => k0_hw12.1
theorem k0_off22_inb : ∀ (v72 : BitVec 32) (k0_hw12 : k0_chk12 v72), ∀ a, (k0_off22 v72) a + S1x8x1024.size a ≤ S1x2048x1024.size a := fun v72 k0_hw12 => k0_hw12.2

def k0_mult14 (v85 : BitVec 32) : BitVec 32 :=
  let c7_i32_54 : BitVec 32 := 7#32
  let v86 : BitVec 32 := Scalar.andi v85 c7_i32_54
  let v87 : BitVec 32 := Scalar.subi v85 v86
  v87

def k0_off23 (v85 : BitVec 32) : Fin 3 → Nat :=
  let c0_55 : Index := 0#32
  let c7_i32_54 : BitVec 32 := 7#32
  let v86 : BitVec 32 := Scalar.andi v85 c7_i32_54
  let v87 : BitVec 32 := Scalar.subi v85 v86
  let v88 : BitVec 32 := v87
  let v89 : Index := Scalar.indexCast v88
  let c0_56 : Index := 0#32
  ![0, v89.toNat, 0]

def k0_chk13 (v85 : BitVec 32) : Prop :=
  (8 ∣ (k0_mult14 v85).toNat) ∧
  (∀ a, (k0_off23 v85) a + S1x8x1024.size a ≤ S1x2048x1024.size a)
theorem k0_mult14_dvd : ∀ (v85 : BitVec 32) (k0_hw13 : k0_chk13 v85), 8 ∣ (k0_mult14 v85).toNat := fun v85 k0_hw13 => k0_hw13.1
theorem k0_off23_inb : ∀ (v85 : BitVec 32) (k0_hw13 : k0_chk13 v85), ∀ a, (k0_off23 v85) a + S1x8x1024.size a ≤ S1x2048x1024.size a := fun v85 k0_hw13 => k0_hw13.2

def k0_mult15 (v98 : BitVec 32) : BitVec 32 :=
  let c7_i32_61 : BitVec 32 := 7#32
  let v99 : BitVec 32 := Scalar.andi v98 c7_i32_61
  let v100 : BitVec 32 := Scalar.subi v98 v99
  v100

def k0_off24 (v98 : BitVec 32) : Fin 3 → Nat :=
  let c0_62 : Index := 0#32
  let c7_i32_61 : BitVec 32 := 7#32
  let v99 : BitVec 32 := Scalar.andi v98 c7_i32_61
  let v100 : BitVec 32 := Scalar.subi v98 v99
  let v101 : BitVec 32 := v100
  let v102 : Index := Scalar.indexCast v101
  let c0_63 : Index := 0#32
  ![0, v102.toNat, 0]

def k0_chk14 (v98 : BitVec 32) : Prop :=
  (8 ∣ (k0_mult15 v98).toNat) ∧
  (∀ a, (k0_off24 v98) a + S1x8x1024.size a ≤ S1x2048x1024.size a)
theorem k0_mult15_dvd : ∀ (v98 : BitVec 32) (k0_hw14 : k0_chk14 v98), 8 ∣ (k0_mult15 v98).toNat := fun v98 k0_hw14 => k0_hw14.1
theorem k0_off24_inb : ∀ (v98 : BitVec 32) (k0_hw14 : k0_chk14 v98), ∀ a, (k0_off24 v98) a + S1x8x1024.size a ≤ S1x2048x1024.size a := fun v98 k0_hw14 => k0_hw14.2

def k0_mult16 (v111 : BitVec 32) : BitVec 32 :=
  let c7_i32_68 : BitVec 32 := 7#32
  let v112 : BitVec 32 := Scalar.andi v111 c7_i32_68
  let v113 : BitVec 32 := Scalar.subi v111 v112
  v113

def k0_off25 (v111 : BitVec 32) : Fin 3 → Nat :=
  let c0_69 : Index := 0#32
  let c7_i32_68 : BitVec 32 := 7#32
  let v112 : BitVec 32 := Scalar.andi v111 c7_i32_68
  let v113 : BitVec 32 := Scalar.subi v111 v112
  let v114 : BitVec 32 := v113
  let v115 : Index := Scalar.indexCast v114
  let c0_70 : Index := 0#32
  ![0, v115.toNat, 0]

def k0_chk15 (v111 : BitVec 32) : Prop :=
  (8 ∣ (k0_mult16 v111).toNat) ∧
  (∀ a, (k0_off25 v111) a + S1x8x1024.size a ≤ S1x2048x1024.size a)
theorem k0_mult16_dvd : ∀ (v111 : BitVec 32) (k0_hw15 : k0_chk15 v111), 8 ∣ (k0_mult16 v111).toNat := fun v111 k0_hw15 => k0_hw15.1
theorem k0_off25_inb : ∀ (v111 : BitVec 32) (k0_hw15 : k0_chk15 v111), ∀ a, (k0_off25 v111) a + S1x8x1024.size a ≤ S1x2048x1024.size a := fun v111 k0_hw15 => k0_hw15.2

def k0_mult17 (v124 : BitVec 32) : BitVec 32 :=
  let c7_i32_75 : BitVec 32 := 7#32
  let v125 : BitVec 32 := Scalar.andi v124 c7_i32_75
  let v126 : BitVec 32 := Scalar.subi v124 v125
  v126

def k0_off26 (v124 : BitVec 32) : Fin 3 → Nat :=
  let c0_76 : Index := 0#32
  let c7_i32_75 : BitVec 32 := 7#32
  let v125 : BitVec 32 := Scalar.andi v124 c7_i32_75
  let v126 : BitVec 32 := Scalar.subi v124 v125
  let v127 : BitVec 32 := v126
  let v128 : Index := Scalar.indexCast v127
  let c0_77 : Index := 0#32
  ![0, v128.toNat, 0]

def k0_chk16 (v124 : BitVec 32) : Prop :=
  (8 ∣ (k0_mult17 v124).toNat) ∧
  (∀ a, (k0_off26 v124) a + S1x8x1024.size a ≤ S1x2048x1024.size a)
theorem k0_mult17_dvd : ∀ (v124 : BitVec 32) (k0_hw16 : k0_chk16 v124), 8 ∣ (k0_mult17 v124).toNat := fun v124 k0_hw16 => k0_hw16.1
theorem k0_off26_inb : ∀ (v124 : BitVec 32) (k0_hw16 : k0_chk16 v124), ∀ a, (k0_off26 v124) a + S1x8x1024.size a ≤ S1x2048x1024.size a := fun v124 k0_hw16 => k0_hw16.2

def k0_off27 (i : grid0.Coords) : Fin 3 → Nat :=
  let c1_i32_20 : BitVec 32 := 1#32
  let arg1 : BitVec 32 := BitVec.ofNat 32 (i 1).val
  let c1_i32 : BitVec 32 := 1#32
  let v1 : BitVec 32 := Scalar.andi arg1 c1_i32
  let v31 : BitVec 32 := Scalar.subi c1_i32_20 v1
  let c0_i32_81 : BitVec 32 := 0#32
  let c0_i32_82 : BitVec 32 := 0#32
  ![v31.toNat, 0, 0]
def k0_mult18 (v144 : BitVec 32) : BitVec 32 :=
  let c7_i32_89 : BitVec 32 := 7#32
  let v145 : BitVec 32 := Scalar.andi v144 c7_i32_89
  let v146 : BitVec 32 := Scalar.subi v144 v145
  v146

def k0_off28 (v144 : BitVec 32) : Fin 3 → Nat :=
  let c0_90 : Index := 0#32
  let c7_i32_89 : BitVec 32 := 7#32
  let v145 : BitVec 32 := Scalar.andi v144 c7_i32_89
  let v146 : BitVec 32 := Scalar.subi v144 v145
  let v147 : BitVec 32 := v146
  let v148 : Index := Scalar.indexCast v147
  let c0_91 : Index := 0#32
  ![0, v148.toNat, 0]

def k0_chk17 (v144 : BitVec 32) : Prop :=
  (8 ∣ (k0_mult18 v144).toNat) ∧
  (∀ a, (k0_off28 v144) a + S1x8x1024.size a ≤ S1x2048x1024.size a)
theorem k0_mult18_dvd : ∀ (v144 : BitVec 32) (k0_hw17 : k0_chk17 v144), 8 ∣ (k0_mult18 v144).toNat := fun v144 k0_hw17 => k0_hw17.1
theorem k0_off28_inb : ∀ (v144 : BitVec 32) (k0_hw17 : k0_chk17 v144), ∀ a, (k0_off28 v144) a + S1x8x1024.size a ≤ S1x2048x1024.size a := fun v144 k0_hw17 => k0_hw17.2

def k0_mult19 (v157 : BitVec 32) : BitVec 32 :=
  let c7_i32_97 : BitVec 32 := 7#32
  let v158 : BitVec 32 := Scalar.andi v157 c7_i32_97
  let v159 : BitVec 32 := Scalar.subi v157 v158
  v159

def k0_off29 (v157 : BitVec 32) : Fin 3 → Nat :=
  let c0_98 : Index := 0#32
  let c7_i32_97 : BitVec 32 := 7#32
  let v158 : BitVec 32 := Scalar.andi v157 c7_i32_97
  let v159 : BitVec 32 := Scalar.subi v157 v158
  let v160 : BitVec 32 := v159
  let v161 : Index := Scalar.indexCast v160
  let c0_99 : Index := 0#32
  ![0, v161.toNat, 0]

def k0_chk18 (v157 : BitVec 32) : Prop :=
  (8 ∣ (k0_mult19 v157).toNat) ∧
  (∀ a, (k0_off29 v157) a + S1x8x1024.size a ≤ S1x2048x1024.size a)
theorem k0_mult19_dvd : ∀ (v157 : BitVec 32) (k0_hw18 : k0_chk18 v157), 8 ∣ (k0_mult19 v157).toNat := fun v157 k0_hw18 => k0_hw18.1
theorem k0_off29_inb : ∀ (v157 : BitVec 32) (k0_hw18 : k0_chk18 v157), ∀ a, (k0_off29 v157) a + S1x8x1024.size a ≤ S1x2048x1024.size a := fun v157 k0_hw18 => k0_hw18.2

def k0_mult20 (v170 : BitVec 32) : BitVec 32 :=
  let c7_i32_105 : BitVec 32 := 7#32
  let v171 : BitVec 32 := Scalar.andi v170 c7_i32_105
  let v172 : BitVec 32 := Scalar.subi v170 v171
  v172

def k0_off30 (v170 : BitVec 32) : Fin 3 → Nat :=
  let c0_106 : Index := 0#32
  let c7_i32_105 : BitVec 32 := 7#32
  let v171 : BitVec 32 := Scalar.andi v170 c7_i32_105
  let v172 : BitVec 32 := Scalar.subi v170 v171
  let v173 : BitVec 32 := v172
  let v174 : Index := Scalar.indexCast v173
  let c0_107 : Index := 0#32
  ![0, v174.toNat, 0]

def k0_chk19 (v170 : BitVec 32) : Prop :=
  (8 ∣ (k0_mult20 v170).toNat) ∧
  (∀ a, (k0_off30 v170) a + S1x8x1024.size a ≤ S1x2048x1024.size a)
theorem k0_mult20_dvd : ∀ (v170 : BitVec 32) (k0_hw19 : k0_chk19 v170), 8 ∣ (k0_mult20 v170).toNat := fun v170 k0_hw19 => k0_hw19.1
theorem k0_off30_inb : ∀ (v170 : BitVec 32) (k0_hw19 : k0_chk19 v170), ∀ a, (k0_off30 v170) a + S1x8x1024.size a ≤ S1x2048x1024.size a := fun v170 k0_hw19 => k0_hw19.2

def k0_mult21 (v183 : BitVec 32) : BitVec 32 :=
  let c7_i32_113 : BitVec 32 := 7#32
  let v184 : BitVec 32 := Scalar.andi v183 c7_i32_113
  let v185 : BitVec 32 := Scalar.subi v183 v184
  v185

def k0_off31 (v183 : BitVec 32) : Fin 3 → Nat :=
  let c0_114 : Index := 0#32
  let c7_i32_113 : BitVec 32 := 7#32
  let v184 : BitVec 32 := Scalar.andi v183 c7_i32_113
  let v185 : BitVec 32 := Scalar.subi v183 v184
  let v186 : BitVec 32 := v185
  let v187 : Index := Scalar.indexCast v186
  let c0_115 : Index := 0#32
  ![0, v187.toNat, 0]

def k0_chk20 (v183 : BitVec 32) : Prop :=
  (8 ∣ (k0_mult21 v183).toNat) ∧
  (∀ a, (k0_off31 v183) a + S1x8x1024.size a ≤ S1x2048x1024.size a)
theorem k0_mult21_dvd : ∀ (v183 : BitVec 32) (k0_hw20 : k0_chk20 v183), 8 ∣ (k0_mult21 v183).toNat := fun v183 k0_hw20 => k0_hw20.1
theorem k0_off31_inb : ∀ (v183 : BitVec 32) (k0_hw20 : k0_chk20 v183), ∀ a, (k0_off31 v183) a + S1x8x1024.size a ≤ S1x2048x1024.size a := fun v183 k0_hw20 => k0_hw20.2

def k0_mult22 (v196 : BitVec 32) : BitVec 32 :=
  let c7_i32_121 : BitVec 32 := 7#32
  let v197 : BitVec 32 := Scalar.andi v196 c7_i32_121
  let v198 : BitVec 32 := Scalar.subi v196 v197
  v198

def k0_off32 (v196 : BitVec 32) : Fin 3 → Nat :=
  let c0_122 : Index := 0#32
  let c7_i32_121 : BitVec 32 := 7#32
  let v197 : BitVec 32 := Scalar.andi v196 c7_i32_121
  let v198 : BitVec 32 := Scalar.subi v196 v197
  let v199 : BitVec 32 := v198
  let v200 : Index := Scalar.indexCast v199
  let c0_123 : Index := 0#32
  ![0, v200.toNat, 0]

def k0_chk21 (v196 : BitVec 32) : Prop :=
  (8 ∣ (k0_mult22 v196).toNat) ∧
  (∀ a, (k0_off32 v196) a + S1x8x1024.size a ≤ S1x2048x1024.size a)
theorem k0_mult22_dvd : ∀ (v196 : BitVec 32) (k0_hw21 : k0_chk21 v196), 8 ∣ (k0_mult22 v196).toNat := fun v196 k0_hw21 => k0_hw21.1
theorem k0_off32_inb : ∀ (v196 : BitVec 32) (k0_hw21 : k0_chk21 v196), ∀ a, (k0_off32 v196) a + S1x8x1024.size a ≤ S1x2048x1024.size a := fun v196 k0_hw21 => k0_hw21.2

def k0_mult23 (v209 : BitVec 32) : BitVec 32 :=
  let c7_i32_129 : BitVec 32 := 7#32
  let v210 : BitVec 32 := Scalar.andi v209 c7_i32_129
  let v211 : BitVec 32 := Scalar.subi v209 v210
  v211

def k0_off33 (v209 : BitVec 32) : Fin 3 → Nat :=
  let c0_130 : Index := 0#32
  let c7_i32_129 : BitVec 32 := 7#32
  let v210 : BitVec 32 := Scalar.andi v209 c7_i32_129
  let v211 : BitVec 32 := Scalar.subi v209 v210
  let v212 : BitVec 32 := v211
  let v213 : Index := Scalar.indexCast v212
  let c0_131 : Index := 0#32
  ![0, v213.toNat, 0]

def k0_chk22 (v209 : BitVec 32) : Prop :=
  (8 ∣ (k0_mult23 v209).toNat) ∧
  (∀ a, (k0_off33 v209) a + S1x8x1024.size a ≤ S1x2048x1024.size a)
theorem k0_mult23_dvd : ∀ (v209 : BitVec 32) (k0_hw22 : k0_chk22 v209), 8 ∣ (k0_mult23 v209).toNat := fun v209 k0_hw22 => k0_hw22.1
theorem k0_off33_inb : ∀ (v209 : BitVec 32) (k0_hw22 : k0_chk22 v209), ∀ a, (k0_off33 v209) a + S1x8x1024.size a ≤ S1x2048x1024.size a := fun v209 k0_hw22 => k0_hw22.2

def k0_mult24 (v222 : BitVec 32) : BitVec 32 :=
  let c7_i32_137 : BitVec 32 := 7#32
  let v223 : BitVec 32 := Scalar.andi v222 c7_i32_137
  let v224 : BitVec 32 := Scalar.subi v222 v223
  v224

def k0_off34 (v222 : BitVec 32) : Fin 3 → Nat :=
  let c0_138 : Index := 0#32
  let c7_i32_137 : BitVec 32 := 7#32
  let v223 : BitVec 32 := Scalar.andi v222 c7_i32_137
  let v224 : BitVec 32 := Scalar.subi v222 v223
  let v225 : BitVec 32 := v224
  let v226 : Index := Scalar.indexCast v225
  let c0_139 : Index := 0#32
  ![0, v226.toNat, 0]

def k0_chk23 (v222 : BitVec 32) : Prop :=
  (8 ∣ (k0_mult24 v222).toNat) ∧
  (∀ a, (k0_off34 v222) a + S1x8x1024.size a ≤ S1x2048x1024.size a)
theorem k0_mult24_dvd : ∀ (v222 : BitVec 32) (k0_hw23 : k0_chk23 v222), 8 ∣ (k0_mult24 v222).toNat := fun v222 k0_hw23 => k0_hw23.1
theorem k0_off34_inb : ∀ (v222 : BitVec 32) (k0_hw23 : k0_chk23 v222), ∀ a, (k0_off34 v222) a + S1x8x1024.size a ≤ S1x2048x1024.size a := fun v222 k0_hw23 => k0_hw23.2

def k0_mult25 (v235 : BitVec 32) : BitVec 32 :=
  let c7_i32_145 : BitVec 32 := 7#32
  let v236 : BitVec 32 := Scalar.andi v235 c7_i32_145
  let v237 : BitVec 32 := Scalar.subi v235 v236
  v237

def k0_off35 (v235 : BitVec 32) : Fin 3 → Nat :=
  let c0_146 : Index := 0#32
  let c7_i32_145 : BitVec 32 := 7#32
  let v236 : BitVec 32 := Scalar.andi v235 c7_i32_145
  let v237 : BitVec 32 := Scalar.subi v235 v236
  let v238 : BitVec 32 := v237
  let v239 : Index := Scalar.indexCast v238
  let c0_147 : Index := 0#32
  ![0, v239.toNat, 0]

def k0_chk24 (v235 : BitVec 32) : Prop :=
  (8 ∣ (k0_mult25 v235).toNat) ∧
  (∀ a, (k0_off35 v235) a + S1x8x1024.size a ≤ S1x2048x1024.size a)
theorem k0_mult25_dvd : ∀ (v235 : BitVec 32) (k0_hw24 : k0_chk24 v235), 8 ∣ (k0_mult25 v235).toNat := fun v235 k0_hw24 => k0_hw24.1
theorem k0_off35_inb : ∀ (v235 : BitVec 32) (k0_hw24 : k0_chk24 v235), ∀ a, (k0_off35 v235) a + S1x8x1024.size a ≤ S1x2048x1024.size a := fun v235 k0_hw24 => k0_hw24.2

def k0_off36 (i : grid0.Coords) : Fin 3 → Nat :=
  let c1_i32_85 : BitVec 32 := 1#32
  let arg1 : BitVec 32 := BitVec.ofNat 32 (i 1).val
  let c1_i32 : BitVec 32 := 1#32
  let v1 : BitVec 32 := Scalar.andi arg1 c1_i32
  let v142 : BitVec 32 := Scalar.subi c1_i32_85 v1
  let c0_i32_151 : BitVec 32 := 0#32
  let c0_i32_152 : BitVec 32 := 0#32
  ![v142.toNat, 0, 0]
def k0_mult26 (v255 : BitVec 32) : BitVec 32 :=
  let c7_i32_159 : BitVec 32 := 7#32
  let v256 : BitVec 32 := Scalar.andi v255 c7_i32_159
  let v257 : BitVec 32 := Scalar.subi v255 v256
  v257

def k0_off37 (v255 : BitVec 32) : Fin 3 → Nat :=
  let c0_160 : Index := 0#32
  let c7_i32_159 : BitVec 32 := 7#32
  let v256 : BitVec 32 := Scalar.andi v255 c7_i32_159
  let v257 : BitVec 32 := Scalar.subi v255 v256
  let v258 : BitVec 32 := v257
  let v259 : Index := Scalar.indexCast v258
  let c0_161 : Index := 0#32
  ![0, v259.toNat, 0]

def k0_chk25 (v255 : BitVec 32) : Prop :=
  (8 ∣ (k0_mult26 v255).toNat) ∧
  (∀ a, (k0_off37 v255) a + S1x8x1024.size a ≤ S1x2048x1024.size a)
theorem k0_mult26_dvd : ∀ (v255 : BitVec 32) (k0_hw25 : k0_chk25 v255), 8 ∣ (k0_mult26 v255).toNat := fun v255 k0_hw25 => k0_hw25.1
theorem k0_off37_inb : ∀ (v255 : BitVec 32) (k0_hw25 : k0_chk25 v255), ∀ a, (k0_off37 v255) a + S1x8x1024.size a ≤ S1x2048x1024.size a := fun v255 k0_hw25 => k0_hw25.2

def k0_mult27 (v268 : BitVec 32) : BitVec 32 :=
  let c7_i32_167 : BitVec 32 := 7#32
  let v269 : BitVec 32 := Scalar.andi v268 c7_i32_167
  let v270 : BitVec 32 := Scalar.subi v268 v269
  v270

def k0_off38 (v268 : BitVec 32) : Fin 3 → Nat :=
  let c0_168 : Index := 0#32
  let c7_i32_167 : BitVec 32 := 7#32
  let v269 : BitVec 32 := Scalar.andi v268 c7_i32_167
  let v270 : BitVec 32 := Scalar.subi v268 v269
  let v271 : BitVec 32 := v270
  let v272 : Index := Scalar.indexCast v271
  let c0_169 : Index := 0#32
  ![0, v272.toNat, 0]

def k0_chk26 (v268 : BitVec 32) : Prop :=
  (8 ∣ (k0_mult27 v268).toNat) ∧
  (∀ a, (k0_off38 v268) a + S1x8x1024.size a ≤ S1x2048x1024.size a)
theorem k0_mult27_dvd : ∀ (v268 : BitVec 32) (k0_hw26 : k0_chk26 v268), 8 ∣ (k0_mult27 v268).toNat := fun v268 k0_hw26 => k0_hw26.1
theorem k0_off38_inb : ∀ (v268 : BitVec 32) (k0_hw26 : k0_chk26 v268), ∀ a, (k0_off38 v268) a + S1x8x1024.size a ≤ S1x2048x1024.size a := fun v268 k0_hw26 => k0_hw26.2

def k0_mult28 (v281 : BitVec 32) : BitVec 32 :=
  let c7_i32_175 : BitVec 32 := 7#32
  let v282 : BitVec 32 := Scalar.andi v281 c7_i32_175
  let v283 : BitVec 32 := Scalar.subi v281 v282
  v283

def k0_off39 (v281 : BitVec 32) : Fin 3 → Nat :=
  let c0_176 : Index := 0#32
  let c7_i32_175 : BitVec 32 := 7#32
  let v282 : BitVec 32 := Scalar.andi v281 c7_i32_175
  let v283 : BitVec 32 := Scalar.subi v281 v282
  let v284 : BitVec 32 := v283
  let v285 : Index := Scalar.indexCast v284
  let c0_177 : Index := 0#32
  ![0, v285.toNat, 0]

def k0_chk27 (v281 : BitVec 32) : Prop :=
  (8 ∣ (k0_mult28 v281).toNat) ∧
  (∀ a, (k0_off39 v281) a + S1x8x1024.size a ≤ S1x2048x1024.size a)
theorem k0_mult28_dvd : ∀ (v281 : BitVec 32) (k0_hw27 : k0_chk27 v281), 8 ∣ (k0_mult28 v281).toNat := fun v281 k0_hw27 => k0_hw27.1
theorem k0_off39_inb : ∀ (v281 : BitVec 32) (k0_hw27 : k0_chk27 v281), ∀ a, (k0_off39 v281) a + S1x8x1024.size a ≤ S1x2048x1024.size a := fun v281 k0_hw27 => k0_hw27.2

def k0_mult29 (v294 : BitVec 32) : BitVec 32 :=
  let c7_i32_183 : BitVec 32 := 7#32
  let v295 : BitVec 32 := Scalar.andi v294 c7_i32_183
  let v296 : BitVec 32 := Scalar.subi v294 v295
  v296

def k0_off40 (v294 : BitVec 32) : Fin 3 → Nat :=
  let c0_184 : Index := 0#32
  let c7_i32_183 : BitVec 32 := 7#32
  let v295 : BitVec 32 := Scalar.andi v294 c7_i32_183
  let v296 : BitVec 32 := Scalar.subi v294 v295
  let v297 : BitVec 32 := v296
  let v298 : Index := Scalar.indexCast v297
  let c0_185 : Index := 0#32
  ![0, v298.toNat, 0]

def k0_chk28 (v294 : BitVec 32) : Prop :=
  (8 ∣ (k0_mult29 v294).toNat) ∧
  (∀ a, (k0_off40 v294) a + S1x8x1024.size a ≤ S1x2048x1024.size a)
theorem k0_mult29_dvd : ∀ (v294 : BitVec 32) (k0_hw28 : k0_chk28 v294), 8 ∣ (k0_mult29 v294).toNat := fun v294 k0_hw28 => k0_hw28.1
theorem k0_off40_inb : ∀ (v294 : BitVec 32) (k0_hw28 : k0_chk28 v294), ∀ a, (k0_off40 v294) a + S1x8x1024.size a ≤ S1x2048x1024.size a := fun v294 k0_hw28 => k0_hw28.2

def k0_mult30 (v307 : BitVec 32) : BitVec 32 :=
  let c7_i32_191 : BitVec 32 := 7#32
  let v308 : BitVec 32 := Scalar.andi v307 c7_i32_191
  let v309 : BitVec 32 := Scalar.subi v307 v308
  v309

def k0_off41 (v307 : BitVec 32) : Fin 3 → Nat :=
  let c0_192 : Index := 0#32
  let c7_i32_191 : BitVec 32 := 7#32
  let v308 : BitVec 32 := Scalar.andi v307 c7_i32_191
  let v309 : BitVec 32 := Scalar.subi v307 v308
  let v310 : BitVec 32 := v309
  let v311 : Index := Scalar.indexCast v310
  let c0_193 : Index := 0#32
  ![0, v311.toNat, 0]

def k0_chk29 (v307 : BitVec 32) : Prop :=
  (8 ∣ (k0_mult30 v307).toNat) ∧
  (∀ a, (k0_off41 v307) a + S1x8x1024.size a ≤ S1x2048x1024.size a)
theorem k0_mult30_dvd : ∀ (v307 : BitVec 32) (k0_hw29 : k0_chk29 v307), 8 ∣ (k0_mult30 v307).toNat := fun v307 k0_hw29 => k0_hw29.1
theorem k0_off41_inb : ∀ (v307 : BitVec 32) (k0_hw29 : k0_chk29 v307), ∀ a, (k0_off41 v307) a + S1x8x1024.size a ≤ S1x2048x1024.size a := fun v307 k0_hw29 => k0_hw29.2

def k0_mult31 (v320 : BitVec 32) : BitVec 32 :=
  let c7_i32_199 : BitVec 32 := 7#32
  let v321 : BitVec 32 := Scalar.andi v320 c7_i32_199
  let v322 : BitVec 32 := Scalar.subi v320 v321
  v322

def k0_off42 (v320 : BitVec 32) : Fin 3 → Nat :=
  let c0_200 : Index := 0#32
  let c7_i32_199 : BitVec 32 := 7#32
  let v321 : BitVec 32 := Scalar.andi v320 c7_i32_199
  let v322 : BitVec 32 := Scalar.subi v320 v321
  let v323 : BitVec 32 := v322
  let v324 : Index := Scalar.indexCast v323
  let c0_201 : Index := 0#32
  ![0, v324.toNat, 0]

def k0_chk30 (v320 : BitVec 32) : Prop :=
  (8 ∣ (k0_mult31 v320).toNat) ∧
  (∀ a, (k0_off42 v320) a + S1x8x1024.size a ≤ S1x2048x1024.size a)
theorem k0_mult31_dvd : ∀ (v320 : BitVec 32) (k0_hw30 : k0_chk30 v320), 8 ∣ (k0_mult31 v320).toNat := fun v320 k0_hw30 => k0_hw30.1
theorem k0_off42_inb : ∀ (v320 : BitVec 32) (k0_hw30 : k0_chk30 v320), ∀ a, (k0_off42 v320) a + S1x8x1024.size a ≤ S1x2048x1024.size a := fun v320 k0_hw30 => k0_hw30.2

def k0_mult32 (v333 : BitVec 32) : BitVec 32 :=
  let c7_i32_207 : BitVec 32 := 7#32
  let v334 : BitVec 32 := Scalar.andi v333 c7_i32_207
  let v335 : BitVec 32 := Scalar.subi v333 v334
  v335

def k0_off43 (v333 : BitVec 32) : Fin 3 → Nat :=
  let c0_208 : Index := 0#32
  let c7_i32_207 : BitVec 32 := 7#32
  let v334 : BitVec 32 := Scalar.andi v333 c7_i32_207
  let v335 : BitVec 32 := Scalar.subi v333 v334
  let v336 : BitVec 32 := v335
  let v337 : Index := Scalar.indexCast v336
  let c0_209 : Index := 0#32
  ![0, v337.toNat, 0]

def k0_chk31 (v333 : BitVec 32) : Prop :=
  (8 ∣ (k0_mult32 v333).toNat) ∧
  (∀ a, (k0_off43 v333) a + S1x8x1024.size a ≤ S1x2048x1024.size a)
theorem k0_mult32_dvd : ∀ (v333 : BitVec 32) (k0_hw31 : k0_chk31 v333), 8 ∣ (k0_mult32 v333).toNat := fun v333 k0_hw31 => k0_hw31.1
theorem k0_off43_inb : ∀ (v333 : BitVec 32) (k0_hw31 : k0_chk31 v333), ∀ a, (k0_off43 v333) a + S1x8x1024.size a ≤ S1x2048x1024.size a := fun v333 k0_hw31 => k0_hw31.2

def k0_mult33 (v346 : BitVec 32) : BitVec 32 :=
  let c7_i32_215 : BitVec 32 := 7#32
  let v347 : BitVec 32 := Scalar.andi v346 c7_i32_215
  let v348 : BitVec 32 := Scalar.subi v346 v347
  v348

def k0_off44 (v346 : BitVec 32) : Fin 3 → Nat :=
  let c0_216 : Index := 0#32
  let c7_i32_215 : BitVec 32 := 7#32
  let v347 : BitVec 32 := Scalar.andi v346 c7_i32_215
  let v348 : BitVec 32 := Scalar.subi v346 v347
  let v349 : BitVec 32 := v348
  let v350 : Index := Scalar.indexCast v349
  let c0_217 : Index := 0#32
  ![0, v350.toNat, 0]

def k0_chk32 (v346 : BitVec 32) : Prop :=
  (8 ∣ (k0_mult33 v346).toNat) ∧
  (∀ a, (k0_off44 v346) a + S1x8x1024.size a ≤ S1x2048x1024.size a)
theorem k0_mult33_dvd : ∀ (v346 : BitVec 32) (k0_hw32 : k0_chk32 v346), 8 ∣ (k0_mult33 v346).toNat := fun v346 k0_hw32 => k0_hw32.1
theorem k0_off44_inb : ∀ (v346 : BitVec 32) (k0_hw32 : k0_chk32 v346), ∀ a, (k0_off44 v346) a + S1x8x1024.size a ≤ S1x2048x1024.size a := fun v346 k0_hw32 => k0_hw32.2

def k0_off45 (i : grid0.Coords) : Fin 3 → Nat :=
  let c1_i32_155 : BitVec 32 := 1#32
  let arg1 : BitVec 32 := BitVec.ofNat 32 (i 1).val
  let c1_i32 : BitVec 32 := 1#32
  let v1 : BitVec 32 := Scalar.andi arg1 c1_i32
  let v253 : BitVec 32 := Scalar.subi c1_i32_155 v1
  let c0_i32_221 : BitVec 32 := 0#32
  let c0_i32_222 : BitVec 32 := 0#32
  ![v253.toNat, 0, 0]
def k0_mult34 (v366 : BitVec 32) : BitVec 32 :=
  let c7_i32_229 : BitVec 32 := 7#32
  let v367 : BitVec 32 := Scalar.andi v366 c7_i32_229
  let v368 : BitVec 32 := Scalar.subi v366 v367
  v368

def k0_off46 (v366 : BitVec 32) : Fin 3 → Nat :=
  let c0_230 : Index := 0#32
  let c7_i32_229 : BitVec 32 := 7#32
  let v367 : BitVec 32 := Scalar.andi v366 c7_i32_229
  let v368 : BitVec 32 := Scalar.subi v366 v367
  let v369 : BitVec 32 := v368
  let v370 : Index := Scalar.indexCast v369
  let c0_231 : Index := 0#32
  ![0, v370.toNat, 0]

def k0_chk33 (v366 : BitVec 32) : Prop :=
  (8 ∣ (k0_mult34 v366).toNat) ∧
  (∀ a, (k0_off46 v366) a + S1x8x1024.size a ≤ S1x2048x1024.size a)
theorem k0_mult34_dvd : ∀ (v366 : BitVec 32) (k0_hw33 : k0_chk33 v366), 8 ∣ (k0_mult34 v366).toNat := fun v366 k0_hw33 => k0_hw33.1
theorem k0_off46_inb : ∀ (v366 : BitVec 32) (k0_hw33 : k0_chk33 v366), ∀ a, (k0_off46 v366) a + S1x8x1024.size a ≤ S1x2048x1024.size a := fun v366 k0_hw33 => k0_hw33.2

def k0_mult35 (v379 : BitVec 32) : BitVec 32 :=
  let c7_i32_237 : BitVec 32 := 7#32
  let v380 : BitVec 32 := Scalar.andi v379 c7_i32_237
  let v381 : BitVec 32 := Scalar.subi v379 v380
  v381

def k0_off47 (v379 : BitVec 32) : Fin 3 → Nat :=
  let c0_238 : Index := 0#32
  let c7_i32_237 : BitVec 32 := 7#32
  let v380 : BitVec 32 := Scalar.andi v379 c7_i32_237
  let v381 : BitVec 32 := Scalar.subi v379 v380
  let v382 : BitVec 32 := v381
  let v383 : Index := Scalar.indexCast v382
  let c0_239 : Index := 0#32
  ![0, v383.toNat, 0]

def k0_chk34 (v379 : BitVec 32) : Prop :=
  (8 ∣ (k0_mult35 v379).toNat) ∧
  (∀ a, (k0_off47 v379) a + S1x8x1024.size a ≤ S1x2048x1024.size a)
theorem k0_mult35_dvd : ∀ (v379 : BitVec 32) (k0_hw34 : k0_chk34 v379), 8 ∣ (k0_mult35 v379).toNat := fun v379 k0_hw34 => k0_hw34.1
theorem k0_off47_inb : ∀ (v379 : BitVec 32) (k0_hw34 : k0_chk34 v379), ∀ a, (k0_off47 v379) a + S1x8x1024.size a ≤ S1x2048x1024.size a := fun v379 k0_hw34 => k0_hw34.2

def k0_mult36 (v392 : BitVec 32) : BitVec 32 :=
  let c7_i32_245 : BitVec 32 := 7#32
  let v393 : BitVec 32 := Scalar.andi v392 c7_i32_245
  let v394 : BitVec 32 := Scalar.subi v392 v393
  v394

def k0_off48 (v392 : BitVec 32) : Fin 3 → Nat :=
  let c0_246 : Index := 0#32
  let c7_i32_245 : BitVec 32 := 7#32
  let v393 : BitVec 32 := Scalar.andi v392 c7_i32_245
  let v394 : BitVec 32 := Scalar.subi v392 v393
  let v395 : BitVec 32 := v394
  let v396 : Index := Scalar.indexCast v395
  let c0_247 : Index := 0#32
  ![0, v396.toNat, 0]

def k0_chk35 (v392 : BitVec 32) : Prop :=
  (8 ∣ (k0_mult36 v392).toNat) ∧
  (∀ a, (k0_off48 v392) a + S1x8x1024.size a ≤ S1x2048x1024.size a)
theorem k0_mult36_dvd : ∀ (v392 : BitVec 32) (k0_hw35 : k0_chk35 v392), 8 ∣ (k0_mult36 v392).toNat := fun v392 k0_hw35 => k0_hw35.1
theorem k0_off48_inb : ∀ (v392 : BitVec 32) (k0_hw35 : k0_chk35 v392), ∀ a, (k0_off48 v392) a + S1x8x1024.size a ≤ S1x2048x1024.size a := fun v392 k0_hw35 => k0_hw35.2

def k0_mult37 (v405 : BitVec 32) : BitVec 32 :=
  let c7_i32_253 : BitVec 32 := 7#32
  let v406 : BitVec 32 := Scalar.andi v405 c7_i32_253
  let v407 : BitVec 32 := Scalar.subi v405 v406
  v407

def k0_off49 (v405 : BitVec 32) : Fin 3 → Nat :=
  let c0_254 : Index := 0#32
  let c7_i32_253 : BitVec 32 := 7#32
  let v406 : BitVec 32 := Scalar.andi v405 c7_i32_253
  let v407 : BitVec 32 := Scalar.subi v405 v406
  let v408 : BitVec 32 := v407
  let v409 : Index := Scalar.indexCast v408
  let c0_255 : Index := 0#32
  ![0, v409.toNat, 0]

def k0_chk36 (v405 : BitVec 32) : Prop :=
  (8 ∣ (k0_mult37 v405).toNat) ∧
  (∀ a, (k0_off49 v405) a + S1x8x1024.size a ≤ S1x2048x1024.size a)
theorem k0_mult37_dvd : ∀ (v405 : BitVec 32) (k0_hw36 : k0_chk36 v405), 8 ∣ (k0_mult37 v405).toNat := fun v405 k0_hw36 => k0_hw36.1
theorem k0_off49_inb : ∀ (v405 : BitVec 32) (k0_hw36 : k0_chk36 v405), ∀ a, (k0_off49 v405) a + S1x8x1024.size a ≤ S1x2048x1024.size a := fun v405 k0_hw36 => k0_hw36.2

def k0_mult38 (v418 : BitVec 32) : BitVec 32 :=
  let c7_i32_261 : BitVec 32 := 7#32
  let v419 : BitVec 32 := Scalar.andi v418 c7_i32_261
  let v420 : BitVec 32 := Scalar.subi v418 v419
  v420

def k0_off50 (v418 : BitVec 32) : Fin 3 → Nat :=
  let c0_262 : Index := 0#32
  let c7_i32_261 : BitVec 32 := 7#32
  let v419 : BitVec 32 := Scalar.andi v418 c7_i32_261
  let v420 : BitVec 32 := Scalar.subi v418 v419
  let v421 : BitVec 32 := v420
  let v422 : Index := Scalar.indexCast v421
  let c0_263 : Index := 0#32
  ![0, v422.toNat, 0]

def k0_chk37 (v418 : BitVec 32) : Prop :=
  (8 ∣ (k0_mult38 v418).toNat) ∧
  (∀ a, (k0_off50 v418) a + S1x8x1024.size a ≤ S1x2048x1024.size a)
theorem k0_mult38_dvd : ∀ (v418 : BitVec 32) (k0_hw37 : k0_chk37 v418), 8 ∣ (k0_mult38 v418).toNat := fun v418 k0_hw37 => k0_hw37.1
theorem k0_off50_inb : ∀ (v418 : BitVec 32) (k0_hw37 : k0_chk37 v418), ∀ a, (k0_off50 v418) a + S1x8x1024.size a ≤ S1x2048x1024.size a := fun v418 k0_hw37 => k0_hw37.2

def k0_mult39 (v431 : BitVec 32) : BitVec 32 :=
  let c7_i32_269 : BitVec 32 := 7#32
  let v432 : BitVec 32 := Scalar.andi v431 c7_i32_269
  let v433 : BitVec 32 := Scalar.subi v431 v432
  v433

def k0_off51 (v431 : BitVec 32) : Fin 3 → Nat :=
  let c0_270 : Index := 0#32
  let c7_i32_269 : BitVec 32 := 7#32
  let v432 : BitVec 32 := Scalar.andi v431 c7_i32_269
  let v433 : BitVec 32 := Scalar.subi v431 v432
  let v434 : BitVec 32 := v433
  let v435 : Index := Scalar.indexCast v434
  let c0_271 : Index := 0#32
  ![0, v435.toNat, 0]

def k0_chk38 (v431 : BitVec 32) : Prop :=
  (8 ∣ (k0_mult39 v431).toNat) ∧
  (∀ a, (k0_off51 v431) a + S1x8x1024.size a ≤ S1x2048x1024.size a)
theorem k0_mult39_dvd : ∀ (v431 : BitVec 32) (k0_hw38 : k0_chk38 v431), 8 ∣ (k0_mult39 v431).toNat := fun v431 k0_hw38 => k0_hw38.1
theorem k0_off51_inb : ∀ (v431 : BitVec 32) (k0_hw38 : k0_chk38 v431), ∀ a, (k0_off51 v431) a + S1x8x1024.size a ≤ S1x2048x1024.size a := fun v431 k0_hw38 => k0_hw38.2

def k0_mult40 (v444 : BitVec 32) : BitVec 32 :=
  let c7_i32_277 : BitVec 32 := 7#32
  let v445 : BitVec 32 := Scalar.andi v444 c7_i32_277
  let v446 : BitVec 32 := Scalar.subi v444 v445
  v446

def k0_off52 (v444 : BitVec 32) : Fin 3 → Nat :=
  let c0_278 : Index := 0#32
  let c7_i32_277 : BitVec 32 := 7#32
  let v445 : BitVec 32 := Scalar.andi v444 c7_i32_277
  let v446 : BitVec 32 := Scalar.subi v444 v445
  let v447 : BitVec 32 := v446
  let v448 : Index := Scalar.indexCast v447
  let c0_279 : Index := 0#32
  ![0, v448.toNat, 0]

def k0_chk39 (v444 : BitVec 32) : Prop :=
  (8 ∣ (k0_mult40 v444).toNat) ∧
  (∀ a, (k0_off52 v444) a + S1x8x1024.size a ≤ S1x2048x1024.size a)
theorem k0_mult40_dvd : ∀ (v444 : BitVec 32) (k0_hw39 : k0_chk39 v444), 8 ∣ (k0_mult40 v444).toNat := fun v444 k0_hw39 => k0_hw39.1
theorem k0_off52_inb : ∀ (v444 : BitVec 32) (k0_hw39 : k0_chk39 v444), ∀ a, (k0_off52 v444) a + S1x8x1024.size a ≤ S1x2048x1024.size a := fun v444 k0_hw39 => k0_hw39.2

def k0_mult41 (v457 : BitVec 32) : BitVec 32 :=
  let c7_i32_285 : BitVec 32 := 7#32
  let v458 : BitVec 32 := Scalar.andi v457 c7_i32_285
  let v459 : BitVec 32 := Scalar.subi v457 v458
  v459

def k0_off53 (v457 : BitVec 32) : Fin 3 → Nat :=
  let c0_286 : Index := 0#32
  let c7_i32_285 : BitVec 32 := 7#32
  let v458 : BitVec 32 := Scalar.andi v457 c7_i32_285
  let v459 : BitVec 32 := Scalar.subi v457 v458
  let v460 : BitVec 32 := v459
  let v461 : Index := Scalar.indexCast v460
  let c0_287 : Index := 0#32
  ![0, v461.toNat, 0]

def k0_chk40 (v457 : BitVec 32) : Prop :=
  (8 ∣ (k0_mult41 v457).toNat) ∧
  (∀ a, (k0_off53 v457) a + S1x8x1024.size a ≤ S1x2048x1024.size a)
theorem k0_mult41_dvd : ∀ (v457 : BitVec 32) (k0_hw40 : k0_chk40 v457), 8 ∣ (k0_mult41 v457).toNat := fun v457 k0_hw40 => k0_hw40.1
theorem k0_off53_inb : ∀ (v457 : BitVec 32) (k0_hw40 : k0_chk40 v457), ∀ a, (k0_off53 v457) a + S1x8x1024.size a ≤ S1x2048x1024.size a := fun v457 k0_hw40 => k0_hw40.2

def k0_off54 (i : grid0.Coords) : Fin 3 → Nat :=
  let c1_i32_225 : BitVec 32 := 1#32
  let arg1 : BitVec 32 := BitVec.ofNat 32 (i 1).val
  let c1_i32 : BitVec 32 := 1#32
  let v1 : BitVec 32 := Scalar.andi arg1 c1_i32
  let v364 : BitVec 32 := Scalar.subi c1_i32_225 v1
  let c0_i32_291 : BitVec 32 := 0#32
  let c0_i32_292 : BitVec 32 := 0#32
  ![v364.toNat, 0, 0]
def k0_mult42 (v477 : BitVec 32) : BitVec 32 :=
  let c7_i32_299 : BitVec 32 := 7#32
  let v478 : BitVec 32 := Scalar.andi v477 c7_i32_299
  let v479 : BitVec 32 := Scalar.subi v477 v478
  v479

def k0_off55 (v477 : BitVec 32) : Fin 3 → Nat :=
  let c0_300 : Index := 0#32
  let c7_i32_299 : BitVec 32 := 7#32
  let v478 : BitVec 32 := Scalar.andi v477 c7_i32_299
  let v479 : BitVec 32 := Scalar.subi v477 v478
  let v480 : BitVec 32 := v479
  let v481 : Index := Scalar.indexCast v480
  let c0_301 : Index := 0#32
  ![0, v481.toNat, 0]

def k0_chk41 (v477 : BitVec 32) : Prop :=
  (8 ∣ (k0_mult42 v477).toNat) ∧
  (∀ a, (k0_off55 v477) a + S1x8x1024.size a ≤ S1x2048x1024.size a)
theorem k0_mult42_dvd : ∀ (v477 : BitVec 32) (k0_hw41 : k0_chk41 v477), 8 ∣ (k0_mult42 v477).toNat := fun v477 k0_hw41 => k0_hw41.1
theorem k0_off55_inb : ∀ (v477 : BitVec 32) (k0_hw41 : k0_chk41 v477), ∀ a, (k0_off55 v477) a + S1x8x1024.size a ≤ S1x2048x1024.size a := fun v477 k0_hw41 => k0_hw41.2

def k0_mult43 (v490 : BitVec 32) : BitVec 32 :=
  let c7_i32_307 : BitVec 32 := 7#32
  let v491 : BitVec 32 := Scalar.andi v490 c7_i32_307
  let v492 : BitVec 32 := Scalar.subi v490 v491
  v492

def k0_off56 (v490 : BitVec 32) : Fin 3 → Nat :=
  let c0_308 : Index := 0#32
  let c7_i32_307 : BitVec 32 := 7#32
  let v491 : BitVec 32 := Scalar.andi v490 c7_i32_307
  let v492 : BitVec 32 := Scalar.subi v490 v491
  let v493 : BitVec 32 := v492
  let v494 : Index := Scalar.indexCast v493
  let c0_309 : Index := 0#32
  ![0, v494.toNat, 0]

def k0_chk42 (v490 : BitVec 32) : Prop :=
  (8 ∣ (k0_mult43 v490).toNat) ∧
  (∀ a, (k0_off56 v490) a + S1x8x1024.size a ≤ S1x2048x1024.size a)
theorem k0_mult43_dvd : ∀ (v490 : BitVec 32) (k0_hw42 : k0_chk42 v490), 8 ∣ (k0_mult43 v490).toNat := fun v490 k0_hw42 => k0_hw42.1
theorem k0_off56_inb : ∀ (v490 : BitVec 32) (k0_hw42 : k0_chk42 v490), ∀ a, (k0_off56 v490) a + S1x8x1024.size a ≤ S1x2048x1024.size a := fun v490 k0_hw42 => k0_hw42.2

def k0_mult44 (v503 : BitVec 32) : BitVec 32 :=
  let c7_i32_315 : BitVec 32 := 7#32
  let v504 : BitVec 32 := Scalar.andi v503 c7_i32_315
  let v505 : BitVec 32 := Scalar.subi v503 v504
  v505

def k0_off57 (v503 : BitVec 32) : Fin 3 → Nat :=
  let c0_316 : Index := 0#32
  let c7_i32_315 : BitVec 32 := 7#32
  let v504 : BitVec 32 := Scalar.andi v503 c7_i32_315
  let v505 : BitVec 32 := Scalar.subi v503 v504
  let v506 : BitVec 32 := v505
  let v507 : Index := Scalar.indexCast v506
  let c0_317 : Index := 0#32
  ![0, v507.toNat, 0]

def k0_chk43 (v503 : BitVec 32) : Prop :=
  (8 ∣ (k0_mult44 v503).toNat) ∧
  (∀ a, (k0_off57 v503) a + S1x8x1024.size a ≤ S1x2048x1024.size a)
theorem k0_mult44_dvd : ∀ (v503 : BitVec 32) (k0_hw43 : k0_chk43 v503), 8 ∣ (k0_mult44 v503).toNat := fun v503 k0_hw43 => k0_hw43.1
theorem k0_off57_inb : ∀ (v503 : BitVec 32) (k0_hw43 : k0_chk43 v503), ∀ a, (k0_off57 v503) a + S1x8x1024.size a ≤ S1x2048x1024.size a := fun v503 k0_hw43 => k0_hw43.2

def k0_mult45 (v516 : BitVec 32) : BitVec 32 :=
  let c7_i32_323 : BitVec 32 := 7#32
  let v517 : BitVec 32 := Scalar.andi v516 c7_i32_323
  let v518 : BitVec 32 := Scalar.subi v516 v517
  v518

def k0_off58 (v516 : BitVec 32) : Fin 3 → Nat :=
  let c0_324 : Index := 0#32
  let c7_i32_323 : BitVec 32 := 7#32
  let v517 : BitVec 32 := Scalar.andi v516 c7_i32_323
  let v518 : BitVec 32 := Scalar.subi v516 v517
  let v519 : BitVec 32 := v518
  let v520 : Index := Scalar.indexCast v519
  let c0_325 : Index := 0#32
  ![0, v520.toNat, 0]

def k0_chk44 (v516 : BitVec 32) : Prop :=
  (8 ∣ (k0_mult45 v516).toNat) ∧
  (∀ a, (k0_off58 v516) a + S1x8x1024.size a ≤ S1x2048x1024.size a)
theorem k0_mult45_dvd : ∀ (v516 : BitVec 32) (k0_hw44 : k0_chk44 v516), 8 ∣ (k0_mult45 v516).toNat := fun v516 k0_hw44 => k0_hw44.1
theorem k0_off58_inb : ∀ (v516 : BitVec 32) (k0_hw44 : k0_chk44 v516), ∀ a, (k0_off58 v516) a + S1x8x1024.size a ≤ S1x2048x1024.size a := fun v516 k0_hw44 => k0_hw44.2

def k0_mult46 (v529 : BitVec 32) : BitVec 32 :=
  let c7_i32_331 : BitVec 32 := 7#32
  let v530 : BitVec 32 := Scalar.andi v529 c7_i32_331
  let v531 : BitVec 32 := Scalar.subi v529 v530
  v531

def k0_off59 (v529 : BitVec 32) : Fin 3 → Nat :=
  let c0_332 : Index := 0#32
  let c7_i32_331 : BitVec 32 := 7#32
  let v530 : BitVec 32 := Scalar.andi v529 c7_i32_331
  let v531 : BitVec 32 := Scalar.subi v529 v530
  let v532 : BitVec 32 := v531
  let v533 : Index := Scalar.indexCast v532
  let c0_333 : Index := 0#32
  ![0, v533.toNat, 0]

def k0_chk45 (v529 : BitVec 32) : Prop :=
  (8 ∣ (k0_mult46 v529).toNat) ∧
  (∀ a, (k0_off59 v529) a + S1x8x1024.size a ≤ S1x2048x1024.size a)
theorem k0_mult46_dvd : ∀ (v529 : BitVec 32) (k0_hw45 : k0_chk45 v529), 8 ∣ (k0_mult46 v529).toNat := fun v529 k0_hw45 => k0_hw45.1
theorem k0_off59_inb : ∀ (v529 : BitVec 32) (k0_hw45 : k0_chk45 v529), ∀ a, (k0_off59 v529) a + S1x8x1024.size a ≤ S1x2048x1024.size a := fun v529 k0_hw45 => k0_hw45.2

def k0_mult47 (v542 : BitVec 32) : BitVec 32 :=
  let c7_i32_339 : BitVec 32 := 7#32
  let v543 : BitVec 32 := Scalar.andi v542 c7_i32_339
  let v544 : BitVec 32 := Scalar.subi v542 v543
  v544

def k0_off60 (v542 : BitVec 32) : Fin 3 → Nat :=
  let c0_340 : Index := 0#32
  let c7_i32_339 : BitVec 32 := 7#32
  let v543 : BitVec 32 := Scalar.andi v542 c7_i32_339
  let v544 : BitVec 32 := Scalar.subi v542 v543
  let v545 : BitVec 32 := v544
  let v546 : Index := Scalar.indexCast v545
  let c0_341 : Index := 0#32
  ![0, v546.toNat, 0]

def k0_chk46 (v542 : BitVec 32) : Prop :=
  (8 ∣ (k0_mult47 v542).toNat) ∧
  (∀ a, (k0_off60 v542) a + S1x8x1024.size a ≤ S1x2048x1024.size a)
theorem k0_mult47_dvd : ∀ (v542 : BitVec 32) (k0_hw46 : k0_chk46 v542), 8 ∣ (k0_mult47 v542).toNat := fun v542 k0_hw46 => k0_hw46.1
theorem k0_off60_inb : ∀ (v542 : BitVec 32) (k0_hw46 : k0_chk46 v542), ∀ a, (k0_off60 v542) a + S1x8x1024.size a ≤ S1x2048x1024.size a := fun v542 k0_hw46 => k0_hw46.2

def k0_mult48 (v555 : BitVec 32) : BitVec 32 :=
  let c7_i32_347 : BitVec 32 := 7#32
  let v556 : BitVec 32 := Scalar.andi v555 c7_i32_347
  let v557 : BitVec 32 := Scalar.subi v555 v556
  v557

def k0_off61 (v555 : BitVec 32) : Fin 3 → Nat :=
  let c0_348 : Index := 0#32
  let c7_i32_347 : BitVec 32 := 7#32
  let v556 : BitVec 32 := Scalar.andi v555 c7_i32_347
  let v557 : BitVec 32 := Scalar.subi v555 v556
  let v558 : BitVec 32 := v557
  let v559 : Index := Scalar.indexCast v558
  let c0_349 : Index := 0#32
  ![0, v559.toNat, 0]

def k0_chk47 (v555 : BitVec 32) : Prop :=
  (8 ∣ (k0_mult48 v555).toNat) ∧
  (∀ a, (k0_off61 v555) a + S1x8x1024.size a ≤ S1x2048x1024.size a)
theorem k0_mult48_dvd : ∀ (v555 : BitVec 32) (k0_hw47 : k0_chk47 v555), 8 ∣ (k0_mult48 v555).toNat := fun v555 k0_hw47 => k0_hw47.1
theorem k0_off61_inb : ∀ (v555 : BitVec 32) (k0_hw47 : k0_chk47 v555), ∀ a, (k0_off61 v555) a + S1x8x1024.size a ≤ S1x2048x1024.size a := fun v555 k0_hw47 => k0_hw47.2

def k0_mult49 (v568 : BitVec 32) : BitVec 32 :=
  let c7_i32_355 : BitVec 32 := 7#32
  let v569 : BitVec 32 := Scalar.andi v568 c7_i32_355
  let v570 : BitVec 32 := Scalar.subi v568 v569
  v570

def k0_off62 (v568 : BitVec 32) : Fin 3 → Nat :=
  let c0_356 : Index := 0#32
  let c7_i32_355 : BitVec 32 := 7#32
  let v569 : BitVec 32 := Scalar.andi v568 c7_i32_355
  let v570 : BitVec 32 := Scalar.subi v568 v569
  let v571 : BitVec 32 := v570
  let v572 : Index := Scalar.indexCast v571
  let c0_357 : Index := 0#32
  ![0, v572.toNat, 0]

def k0_chk48 (v568 : BitVec 32) : Prop :=
  (8 ∣ (k0_mult49 v568).toNat) ∧
  (∀ a, (k0_off62 v568) a + S1x8x1024.size a ≤ S1x2048x1024.size a)
theorem k0_mult49_dvd : ∀ (v568 : BitVec 32) (k0_hw48 : k0_chk48 v568), 8 ∣ (k0_mult49 v568).toNat := fun v568 k0_hw48 => k0_hw48.1
theorem k0_off62_inb : ∀ (v568 : BitVec 32) (k0_hw48 : k0_chk48 v568), ∀ a, (k0_off62 v568) a + S1x8x1024.size a ≤ S1x2048x1024.size a := fun v568 k0_hw48 => k0_hw48.2

def k0_off63 (i : grid0.Coords) : Fin 3 → Nat :=
  let c1_i32_295 : BitVec 32 := 1#32
  let arg1 : BitVec 32 := BitVec.ofNat 32 (i 1).val
  let c1_i32 : BitVec 32 := 1#32
  let v1 : BitVec 32 := Scalar.andi arg1 c1_i32
  let v475 : BitVec 32 := Scalar.subi c1_i32_295 v1
  let c0_i32_361 : BitVec 32 := 0#32
  let c0_i32_362 : BitVec 32 := 0#32
  ![v475.toNat, 0, 0]
def k0_mult50 (v588 : BitVec 32) : BitVec 32 :=
  let c7_i32_369 : BitVec 32 := 7#32
  let v589 : BitVec 32 := Scalar.andi v588 c7_i32_369
  let v590 : BitVec 32 := Scalar.subi v588 v589
  v590

def k0_off64 (v588 : BitVec 32) : Fin 3 → Nat :=
  let c0_370 : Index := 0#32
  let c7_i32_369 : BitVec 32 := 7#32
  let v589 : BitVec 32 := Scalar.andi v588 c7_i32_369
  let v590 : BitVec 32 := Scalar.subi v588 v589
  let v591 : BitVec 32 := v590
  let v592 : Index := Scalar.indexCast v591
  let c0_371 : Index := 0#32
  ![0, v592.toNat, 0]

def k0_chk49 (v588 : BitVec 32) : Prop :=
  (8 ∣ (k0_mult50 v588).toNat) ∧
  (∀ a, (k0_off64 v588) a + S1x8x1024.size a ≤ S1x2048x1024.size a)
theorem k0_mult50_dvd : ∀ (v588 : BitVec 32) (k0_hw49 : k0_chk49 v588), 8 ∣ (k0_mult50 v588).toNat := fun v588 k0_hw49 => k0_hw49.1
theorem k0_off64_inb : ∀ (v588 : BitVec 32) (k0_hw49 : k0_chk49 v588), ∀ a, (k0_off64 v588) a + S1x8x1024.size a ≤ S1x2048x1024.size a := fun v588 k0_hw49 => k0_hw49.2

def k0_mult51 (v601 : BitVec 32) : BitVec 32 :=
  let c7_i32_377 : BitVec 32 := 7#32
  let v602 : BitVec 32 := Scalar.andi v601 c7_i32_377
  let v603 : BitVec 32 := Scalar.subi v601 v602
  v603

def k0_off65 (v601 : BitVec 32) : Fin 3 → Nat :=
  let c0_378 : Index := 0#32
  let c7_i32_377 : BitVec 32 := 7#32
  let v602 : BitVec 32 := Scalar.andi v601 c7_i32_377
  let v603 : BitVec 32 := Scalar.subi v601 v602
  let v604 : BitVec 32 := v603
  let v605 : Index := Scalar.indexCast v604
  let c0_379 : Index := 0#32
  ![0, v605.toNat, 0]

def k0_chk50 (v601 : BitVec 32) : Prop :=
  (8 ∣ (k0_mult51 v601).toNat) ∧
  (∀ a, (k0_off65 v601) a + S1x8x1024.size a ≤ S1x2048x1024.size a)
theorem k0_mult51_dvd : ∀ (v601 : BitVec 32) (k0_hw50 : k0_chk50 v601), 8 ∣ (k0_mult51 v601).toNat := fun v601 k0_hw50 => k0_hw50.1
theorem k0_off65_inb : ∀ (v601 : BitVec 32) (k0_hw50 : k0_chk50 v601), ∀ a, (k0_off65 v601) a + S1x8x1024.size a ≤ S1x2048x1024.size a := fun v601 k0_hw50 => k0_hw50.2

def k0_mult52 (v614 : BitVec 32) : BitVec 32 :=
  let c7_i32_385 : BitVec 32 := 7#32
  let v615 : BitVec 32 := Scalar.andi v614 c7_i32_385
  let v616 : BitVec 32 := Scalar.subi v614 v615
  v616

def k0_off66 (v614 : BitVec 32) : Fin 3 → Nat :=
  let c0_386 : Index := 0#32
  let c7_i32_385 : BitVec 32 := 7#32
  let v615 : BitVec 32 := Scalar.andi v614 c7_i32_385
  let v616 : BitVec 32 := Scalar.subi v614 v615
  let v617 : BitVec 32 := v616
  let v618 : Index := Scalar.indexCast v617
  let c0_387 : Index := 0#32
  ![0, v618.toNat, 0]

def k0_chk51 (v614 : BitVec 32) : Prop :=
  (8 ∣ (k0_mult52 v614).toNat) ∧
  (∀ a, (k0_off66 v614) a + S1x8x1024.size a ≤ S1x2048x1024.size a)
theorem k0_mult52_dvd : ∀ (v614 : BitVec 32) (k0_hw51 : k0_chk51 v614), 8 ∣ (k0_mult52 v614).toNat := fun v614 k0_hw51 => k0_hw51.1
theorem k0_off66_inb : ∀ (v614 : BitVec 32) (k0_hw51 : k0_chk51 v614), ∀ a, (k0_off66 v614) a + S1x8x1024.size a ≤ S1x2048x1024.size a := fun v614 k0_hw51 => k0_hw51.2

def k0_mult53 (v627 : BitVec 32) : BitVec 32 :=
  let c7_i32_393 : BitVec 32 := 7#32
  let v628 : BitVec 32 := Scalar.andi v627 c7_i32_393
  let v629 : BitVec 32 := Scalar.subi v627 v628
  v629

def k0_off67 (v627 : BitVec 32) : Fin 3 → Nat :=
  let c0_394 : Index := 0#32
  let c7_i32_393 : BitVec 32 := 7#32
  let v628 : BitVec 32 := Scalar.andi v627 c7_i32_393
  let v629 : BitVec 32 := Scalar.subi v627 v628
  let v630 : BitVec 32 := v629
  let v631 : Index := Scalar.indexCast v630
  let c0_395 : Index := 0#32
  ![0, v631.toNat, 0]

def k0_chk52 (v627 : BitVec 32) : Prop :=
  (8 ∣ (k0_mult53 v627).toNat) ∧
  (∀ a, (k0_off67 v627) a + S1x8x1024.size a ≤ S1x2048x1024.size a)
theorem k0_mult53_dvd : ∀ (v627 : BitVec 32) (k0_hw52 : k0_chk52 v627), 8 ∣ (k0_mult53 v627).toNat := fun v627 k0_hw52 => k0_hw52.1
theorem k0_off67_inb : ∀ (v627 : BitVec 32) (k0_hw52 : k0_chk52 v627), ∀ a, (k0_off67 v627) a + S1x8x1024.size a ≤ S1x2048x1024.size a := fun v627 k0_hw52 => k0_hw52.2

def k0_mult54 (v640 : BitVec 32) : BitVec 32 :=
  let c7_i32_401 : BitVec 32 := 7#32
  let v641 : BitVec 32 := Scalar.andi v640 c7_i32_401
  let v642 : BitVec 32 := Scalar.subi v640 v641
  v642

def k0_off68 (v640 : BitVec 32) : Fin 3 → Nat :=
  let c0_402 : Index := 0#32
  let c7_i32_401 : BitVec 32 := 7#32
  let v641 : BitVec 32 := Scalar.andi v640 c7_i32_401
  let v642 : BitVec 32 := Scalar.subi v640 v641
  let v643 : BitVec 32 := v642
  let v644 : Index := Scalar.indexCast v643
  let c0_403 : Index := 0#32
  ![0, v644.toNat, 0]

def k0_chk53 (v640 : BitVec 32) : Prop :=
  (8 ∣ (k0_mult54 v640).toNat) ∧
  (∀ a, (k0_off68 v640) a + S1x8x1024.size a ≤ S1x2048x1024.size a)
theorem k0_mult54_dvd : ∀ (v640 : BitVec 32) (k0_hw53 : k0_chk53 v640), 8 ∣ (k0_mult54 v640).toNat := fun v640 k0_hw53 => k0_hw53.1
theorem k0_off68_inb : ∀ (v640 : BitVec 32) (k0_hw53 : k0_chk53 v640), ∀ a, (k0_off68 v640) a + S1x8x1024.size a ≤ S1x2048x1024.size a := fun v640 k0_hw53 => k0_hw53.2

def k0_mult55 (v653 : BitVec 32) : BitVec 32 :=
  let c7_i32_409 : BitVec 32 := 7#32
  let v654 : BitVec 32 := Scalar.andi v653 c7_i32_409
  let v655 : BitVec 32 := Scalar.subi v653 v654
  v655

def k0_off69 (v653 : BitVec 32) : Fin 3 → Nat :=
  let c0_410 : Index := 0#32
  let c7_i32_409 : BitVec 32 := 7#32
  let v654 : BitVec 32 := Scalar.andi v653 c7_i32_409
  let v655 : BitVec 32 := Scalar.subi v653 v654
  let v656 : BitVec 32 := v655
  let v657 : Index := Scalar.indexCast v656
  let c0_411 : Index := 0#32
  ![0, v657.toNat, 0]

def k0_chk54 (v653 : BitVec 32) : Prop :=
  (8 ∣ (k0_mult55 v653).toNat) ∧
  (∀ a, (k0_off69 v653) a + S1x8x1024.size a ≤ S1x2048x1024.size a)
theorem k0_mult55_dvd : ∀ (v653 : BitVec 32) (k0_hw54 : k0_chk54 v653), 8 ∣ (k0_mult55 v653).toNat := fun v653 k0_hw54 => k0_hw54.1
theorem k0_off69_inb : ∀ (v653 : BitVec 32) (k0_hw54 : k0_chk54 v653), ∀ a, (k0_off69 v653) a + S1x8x1024.size a ≤ S1x2048x1024.size a := fun v653 k0_hw54 => k0_hw54.2

def k0_mult56 (v666 : BitVec 32) : BitVec 32 :=
  let c7_i32_417 : BitVec 32 := 7#32
  let v667 : BitVec 32 := Scalar.andi v666 c7_i32_417
  let v668 : BitVec 32 := Scalar.subi v666 v667
  v668

def k0_off70 (v666 : BitVec 32) : Fin 3 → Nat :=
  let c0_418 : Index := 0#32
  let c7_i32_417 : BitVec 32 := 7#32
  let v667 : BitVec 32 := Scalar.andi v666 c7_i32_417
  let v668 : BitVec 32 := Scalar.subi v666 v667
  let v669 : BitVec 32 := v668
  let v670 : Index := Scalar.indexCast v669
  let c0_419 : Index := 0#32
  ![0, v670.toNat, 0]

def k0_chk55 (v666 : BitVec 32) : Prop :=
  (8 ∣ (k0_mult56 v666).toNat) ∧
  (∀ a, (k0_off70 v666) a + S1x8x1024.size a ≤ S1x2048x1024.size a)
theorem k0_mult56_dvd : ∀ (v666 : BitVec 32) (k0_hw55 : k0_chk55 v666), 8 ∣ (k0_mult56 v666).toNat := fun v666 k0_hw55 => k0_hw55.1
theorem k0_off70_inb : ∀ (v666 : BitVec 32) (k0_hw55 : k0_chk55 v666), ∀ a, (k0_off70 v666) a + S1x8x1024.size a ≤ S1x2048x1024.size a := fun v666 k0_hw55 => k0_hw55.2

def k0_mult57 (v679 : BitVec 32) : BitVec 32 :=
  let c7_i32_425 : BitVec 32 := 7#32
  let v680 : BitVec 32 := Scalar.andi v679 c7_i32_425
  let v681 : BitVec 32 := Scalar.subi v679 v680
  v681

def k0_off71 (v679 : BitVec 32) : Fin 3 → Nat :=
  let c0_426 : Index := 0#32
  let c7_i32_425 : BitVec 32 := 7#32
  let v680 : BitVec 32 := Scalar.andi v679 c7_i32_425
  let v681 : BitVec 32 := Scalar.subi v679 v680
  let v682 : BitVec 32 := v681
  let v683 : Index := Scalar.indexCast v682
  let c0_427 : Index := 0#32
  ![0, v683.toNat, 0]

def k0_chk56 (v679 : BitVec 32) : Prop :=
  (8 ∣ (k0_mult57 v679).toNat) ∧
  (∀ a, (k0_off71 v679) a + S1x8x1024.size a ≤ S1x2048x1024.size a)
theorem k0_mult57_dvd : ∀ (v679 : BitVec 32) (k0_hw56 : k0_chk56 v679), 8 ∣ (k0_mult57 v679).toNat := fun v679 k0_hw56 => k0_hw56.1
theorem k0_off71_inb : ∀ (v679 : BitVec 32) (k0_hw56 : k0_chk56 v679), ∀ a, (k0_off71 v679) a + S1x8x1024.size a ≤ S1x2048x1024.size a := fun v679 k0_hw56 => k0_hw56.2

def k0_off72 (i : grid0.Coords) : Fin 3 → Nat :=
  let c1_i32_365 : BitVec 32 := 1#32
  let arg1 : BitVec 32 := BitVec.ofNat 32 (i 1).val
  let c1_i32 : BitVec 32 := 1#32
  let v1 : BitVec 32 := Scalar.andi arg1 c1_i32
  let v586 : BitVec 32 := Scalar.subi c1_i32_365 v1
  let c0_i32_431 : BitVec 32 := 0#32
  let c0_i32_432 : BitVec 32 := 0#32
  ![v586.toNat, 0, 0]
def k0_mult58 (v699 : BitVec 32) : BitVec 32 :=
  let c7_i32_439 : BitVec 32 := 7#32
  let v700 : BitVec 32 := Scalar.andi v699 c7_i32_439
  let v701 : BitVec 32 := Scalar.subi v699 v700
  v701

def k0_off73 (v699 : BitVec 32) : Fin 3 → Nat :=
  let c0_440 : Index := 0#32
  let c7_i32_439 : BitVec 32 := 7#32
  let v700 : BitVec 32 := Scalar.andi v699 c7_i32_439
  let v701 : BitVec 32 := Scalar.subi v699 v700
  let v702 : BitVec 32 := v701
  let v703 : Index := Scalar.indexCast v702
  let c0_441 : Index := 0#32
  ![0, v703.toNat, 0]

def k0_chk57 (v699 : BitVec 32) : Prop :=
  (8 ∣ (k0_mult58 v699).toNat) ∧
  (∀ a, (k0_off73 v699) a + S1x8x1024.size a ≤ S1x2048x1024.size a)
theorem k0_mult58_dvd : ∀ (v699 : BitVec 32) (k0_hw57 : k0_chk57 v699), 8 ∣ (k0_mult58 v699).toNat := fun v699 k0_hw57 => k0_hw57.1
theorem k0_off73_inb : ∀ (v699 : BitVec 32) (k0_hw57 : k0_chk57 v699), ∀ a, (k0_off73 v699) a + S1x8x1024.size a ≤ S1x2048x1024.size a := fun v699 k0_hw57 => k0_hw57.2

def k0_mult59 (v712 : BitVec 32) : BitVec 32 :=
  let c7_i32_447 : BitVec 32 := 7#32
  let v713 : BitVec 32 := Scalar.andi v712 c7_i32_447
  let v714 : BitVec 32 := Scalar.subi v712 v713
  v714

def k0_off74 (v712 : BitVec 32) : Fin 3 → Nat :=
  let c0_448 : Index := 0#32
  let c7_i32_447 : BitVec 32 := 7#32
  let v713 : BitVec 32 := Scalar.andi v712 c7_i32_447
  let v714 : BitVec 32 := Scalar.subi v712 v713
  let v715 : BitVec 32 := v714
  let v716 : Index := Scalar.indexCast v715
  let c0_449 : Index := 0#32
  ![0, v716.toNat, 0]

def k0_chk58 (v712 : BitVec 32) : Prop :=
  (8 ∣ (k0_mult59 v712).toNat) ∧
  (∀ a, (k0_off74 v712) a + S1x8x1024.size a ≤ S1x2048x1024.size a)
theorem k0_mult59_dvd : ∀ (v712 : BitVec 32) (k0_hw58 : k0_chk58 v712), 8 ∣ (k0_mult59 v712).toNat := fun v712 k0_hw58 => k0_hw58.1
theorem k0_off74_inb : ∀ (v712 : BitVec 32) (k0_hw58 : k0_chk58 v712), ∀ a, (k0_off74 v712) a + S1x8x1024.size a ≤ S1x2048x1024.size a := fun v712 k0_hw58 => k0_hw58.2

def k0_mult60 (v725 : BitVec 32) : BitVec 32 :=
  let c7_i32_455 : BitVec 32 := 7#32
  let v726 : BitVec 32 := Scalar.andi v725 c7_i32_455
  let v727 : BitVec 32 := Scalar.subi v725 v726
  v727

def k0_off75 (v725 : BitVec 32) : Fin 3 → Nat :=
  let c0_456 : Index := 0#32
  let c7_i32_455 : BitVec 32 := 7#32
  let v726 : BitVec 32 := Scalar.andi v725 c7_i32_455
  let v727 : BitVec 32 := Scalar.subi v725 v726
  let v728 : BitVec 32 := v727
  let v729 : Index := Scalar.indexCast v728
  let c0_457 : Index := 0#32
  ![0, v729.toNat, 0]

def k0_chk59 (v725 : BitVec 32) : Prop :=
  (8 ∣ (k0_mult60 v725).toNat) ∧
  (∀ a, (k0_off75 v725) a + S1x8x1024.size a ≤ S1x2048x1024.size a)
theorem k0_mult60_dvd : ∀ (v725 : BitVec 32) (k0_hw59 : k0_chk59 v725), 8 ∣ (k0_mult60 v725).toNat := fun v725 k0_hw59 => k0_hw59.1
theorem k0_off75_inb : ∀ (v725 : BitVec 32) (k0_hw59 : k0_chk59 v725), ∀ a, (k0_off75 v725) a + S1x8x1024.size a ≤ S1x2048x1024.size a := fun v725 k0_hw59 => k0_hw59.2

def k0_mult61 (v738 : BitVec 32) : BitVec 32 :=
  let c7_i32_463 : BitVec 32 := 7#32
  let v739 : BitVec 32 := Scalar.andi v738 c7_i32_463
  let v740 : BitVec 32 := Scalar.subi v738 v739
  v740

def k0_off76 (v738 : BitVec 32) : Fin 3 → Nat :=
  let c0_464 : Index := 0#32
  let c7_i32_463 : BitVec 32 := 7#32
  let v739 : BitVec 32 := Scalar.andi v738 c7_i32_463
  let v740 : BitVec 32 := Scalar.subi v738 v739
  let v741 : BitVec 32 := v740
  let v742 : Index := Scalar.indexCast v741
  let c0_465 : Index := 0#32
  ![0, v742.toNat, 0]

def k0_chk60 (v738 : BitVec 32) : Prop :=
  (8 ∣ (k0_mult61 v738).toNat) ∧
  (∀ a, (k0_off76 v738) a + S1x8x1024.size a ≤ S1x2048x1024.size a)
theorem k0_mult61_dvd : ∀ (v738 : BitVec 32) (k0_hw60 : k0_chk60 v738), 8 ∣ (k0_mult61 v738).toNat := fun v738 k0_hw60 => k0_hw60.1
theorem k0_off76_inb : ∀ (v738 : BitVec 32) (k0_hw60 : k0_chk60 v738), ∀ a, (k0_off76 v738) a + S1x8x1024.size a ≤ S1x2048x1024.size a := fun v738 k0_hw60 => k0_hw60.2

def k0_mult62 (v751 : BitVec 32) : BitVec 32 :=
  let c7_i32_471 : BitVec 32 := 7#32
  let v752 : BitVec 32 := Scalar.andi v751 c7_i32_471
  let v753 : BitVec 32 := Scalar.subi v751 v752
  v753

def k0_off77 (v751 : BitVec 32) : Fin 3 → Nat :=
  let c0_472 : Index := 0#32
  let c7_i32_471 : BitVec 32 := 7#32
  let v752 : BitVec 32 := Scalar.andi v751 c7_i32_471
  let v753 : BitVec 32 := Scalar.subi v751 v752
  let v754 : BitVec 32 := v753
  let v755 : Index := Scalar.indexCast v754
  let c0_473 : Index := 0#32
  ![0, v755.toNat, 0]

def k0_chk61 (v751 : BitVec 32) : Prop :=
  (8 ∣ (k0_mult62 v751).toNat) ∧
  (∀ a, (k0_off77 v751) a + S1x8x1024.size a ≤ S1x2048x1024.size a)
theorem k0_mult62_dvd : ∀ (v751 : BitVec 32) (k0_hw61 : k0_chk61 v751), 8 ∣ (k0_mult62 v751).toNat := fun v751 k0_hw61 => k0_hw61.1
theorem k0_off77_inb : ∀ (v751 : BitVec 32) (k0_hw61 : k0_chk61 v751), ∀ a, (k0_off77 v751) a + S1x8x1024.size a ≤ S1x2048x1024.size a := fun v751 k0_hw61 => k0_hw61.2

def k0_mult63 (v764 : BitVec 32) : BitVec 32 :=
  let c7_i32_479 : BitVec 32 := 7#32
  let v765 : BitVec 32 := Scalar.andi v764 c7_i32_479
  let v766 : BitVec 32 := Scalar.subi v764 v765
  v766

def k0_off78 (v764 : BitVec 32) : Fin 3 → Nat :=
  let c0_480 : Index := 0#32
  let c7_i32_479 : BitVec 32 := 7#32
  let v765 : BitVec 32 := Scalar.andi v764 c7_i32_479
  let v766 : BitVec 32 := Scalar.subi v764 v765
  let v767 : BitVec 32 := v766
  let v768 : Index := Scalar.indexCast v767
  let c0_481 : Index := 0#32
  ![0, v768.toNat, 0]

def k0_chk62 (v764 : BitVec 32) : Prop :=
  (8 ∣ (k0_mult63 v764).toNat) ∧
  (∀ a, (k0_off78 v764) a + S1x8x1024.size a ≤ S1x2048x1024.size a)
theorem k0_mult63_dvd : ∀ (v764 : BitVec 32) (k0_hw62 : k0_chk62 v764), 8 ∣ (k0_mult63 v764).toNat := fun v764 k0_hw62 => k0_hw62.1
theorem k0_off78_inb : ∀ (v764 : BitVec 32) (k0_hw62 : k0_chk62 v764), ∀ a, (k0_off78 v764) a + S1x8x1024.size a ≤ S1x2048x1024.size a := fun v764 k0_hw62 => k0_hw62.2

def k0_mult64 (v777 : BitVec 32) : BitVec 32 :=
  let c7_i32_487 : BitVec 32 := 7#32
  let v778 : BitVec 32 := Scalar.andi v777 c7_i32_487
  let v779 : BitVec 32 := Scalar.subi v777 v778
  v779

def k0_off79 (v777 : BitVec 32) : Fin 3 → Nat :=
  let c0_488 : Index := 0#32
  let c7_i32_487 : BitVec 32 := 7#32
  let v778 : BitVec 32 := Scalar.andi v777 c7_i32_487
  let v779 : BitVec 32 := Scalar.subi v777 v778
  let v780 : BitVec 32 := v779
  let v781 : Index := Scalar.indexCast v780
  let c0_489 : Index := 0#32
  ![0, v781.toNat, 0]

def k0_chk63 (v777 : BitVec 32) : Prop :=
  (8 ∣ (k0_mult64 v777).toNat) ∧
  (∀ a, (k0_off79 v777) a + S1x8x1024.size a ≤ S1x2048x1024.size a)
theorem k0_mult64_dvd : ∀ (v777 : BitVec 32) (k0_hw63 : k0_chk63 v777), 8 ∣ (k0_mult64 v777).toNat := fun v777 k0_hw63 => k0_hw63.1
theorem k0_off79_inb : ∀ (v777 : BitVec 32) (k0_hw63 : k0_chk63 v777), ∀ a, (k0_off79 v777) a + S1x8x1024.size a ≤ S1x2048x1024.size a := fun v777 k0_hw63 => k0_hw63.2

def k0_mult65 (v790 : BitVec 32) : BitVec 32 :=
  let c7_i32_495 : BitVec 32 := 7#32
  let v791 : BitVec 32 := Scalar.andi v790 c7_i32_495
  let v792 : BitVec 32 := Scalar.subi v790 v791
  v792

def k0_off80 (v790 : BitVec 32) : Fin 3 → Nat :=
  let c0_496 : Index := 0#32
  let c7_i32_495 : BitVec 32 := 7#32
  let v791 : BitVec 32 := Scalar.andi v790 c7_i32_495
  let v792 : BitVec 32 := Scalar.subi v790 v791
  let v793 : BitVec 32 := v792
  let v794 : Index := Scalar.indexCast v793
  let c0_497 : Index := 0#32
  ![0, v794.toNat, 0]

def k0_chk64 (v790 : BitVec 32) : Prop :=
  (8 ∣ (k0_mult65 v790).toNat) ∧
  (∀ a, (k0_off80 v790) a + S1x8x1024.size a ≤ S1x2048x1024.size a)
theorem k0_mult65_dvd : ∀ (v790 : BitVec 32) (k0_hw64 : k0_chk64 v790), 8 ∣ (k0_mult65 v790).toNat := fun v790 k0_hw64 => k0_hw64.1
theorem k0_off80_inb : ∀ (v790 : BitVec 32) (k0_hw64 : k0_chk64 v790), ∀ a, (k0_off80 v790) a + S1x8x1024.size a ≤ S1x2048x1024.size a := fun v790 k0_hw64 => k0_hw64.2

def k0_off81 (i : grid0.Coords) : Fin 3 → Nat :=
  let c1_i32_435 : BitVec 32 := 1#32
  let arg1 : BitVec 32 := BitVec.ofNat 32 (i 1).val
  let c1_i32 : BitVec 32 := 1#32
  let v1 : BitVec 32 := Scalar.andi arg1 c1_i32
  let v697 : BitVec 32 := Scalar.subi c1_i32_435 v1
  let c0_i32_501 : BitVec 32 := 0#32
  let c0_i32_502 : BitVec 32 := 0#32
  ![v697.toNat, 0, 0]
def k0_mult66 (v810 : BitVec 32) : BitVec 32 :=
  let c7_i32_509 : BitVec 32 := 7#32
  let v811 : BitVec 32 := Scalar.andi v810 c7_i32_509
  let v812 : BitVec 32 := Scalar.subi v810 v811
  v812

def k0_off82 (v810 : BitVec 32) : Fin 3 → Nat :=
  let c0_510 : Index := 0#32
  let c7_i32_509 : BitVec 32 := 7#32
  let v811 : BitVec 32 := Scalar.andi v810 c7_i32_509
  let v812 : BitVec 32 := Scalar.subi v810 v811
  let v813 : BitVec 32 := v812
  let v814 : Index := Scalar.indexCast v813
  let c0_511 : Index := 0#32
  ![0, v814.toNat, 0]

def k0_chk65 (v810 : BitVec 32) : Prop :=
  (8 ∣ (k0_mult66 v810).toNat) ∧
  (∀ a, (k0_off82 v810) a + S1x8x1024.size a ≤ S1x2048x1024.size a)
theorem k0_mult66_dvd : ∀ (v810 : BitVec 32) (k0_hw65 : k0_chk65 v810), 8 ∣ (k0_mult66 v810).toNat := fun v810 k0_hw65 => k0_hw65.1
theorem k0_off82_inb : ∀ (v810 : BitVec 32) (k0_hw65 : k0_chk65 v810), ∀ a, (k0_off82 v810) a + S1x8x1024.size a ≤ S1x2048x1024.size a := fun v810 k0_hw65 => k0_hw65.2

def k0_mult67 (v823 : BitVec 32) : BitVec 32 :=
  let c7_i32_517 : BitVec 32 := 7#32
  let v824 : BitVec 32 := Scalar.andi v823 c7_i32_517
  let v825 : BitVec 32 := Scalar.subi v823 v824
  v825

def k0_off83 (v823 : BitVec 32) : Fin 3 → Nat :=
  let c0_518 : Index := 0#32
  let c7_i32_517 : BitVec 32 := 7#32
  let v824 : BitVec 32 := Scalar.andi v823 c7_i32_517
  let v825 : BitVec 32 := Scalar.subi v823 v824
  let v826 : BitVec 32 := v825
  let v827 : Index := Scalar.indexCast v826
  let c0_519 : Index := 0#32
  ![0, v827.toNat, 0]

def k0_chk66 (v823 : BitVec 32) : Prop :=
  (8 ∣ (k0_mult67 v823).toNat) ∧
  (∀ a, (k0_off83 v823) a + S1x8x1024.size a ≤ S1x2048x1024.size a)
theorem k0_mult67_dvd : ∀ (v823 : BitVec 32) (k0_hw66 : k0_chk66 v823), 8 ∣ (k0_mult67 v823).toNat := fun v823 k0_hw66 => k0_hw66.1
theorem k0_off83_inb : ∀ (v823 : BitVec 32) (k0_hw66 : k0_chk66 v823), ∀ a, (k0_off83 v823) a + S1x8x1024.size a ≤ S1x2048x1024.size a := fun v823 k0_hw66 => k0_hw66.2

def k0_mult68 (v836 : BitVec 32) : BitVec 32 :=
  let c7_i32_525 : BitVec 32 := 7#32
  let v837 : BitVec 32 := Scalar.andi v836 c7_i32_525
  let v838 : BitVec 32 := Scalar.subi v836 v837
  v838

def k0_off84 (v836 : BitVec 32) : Fin 3 → Nat :=
  let c0_526 : Index := 0#32
  let c7_i32_525 : BitVec 32 := 7#32
  let v837 : BitVec 32 := Scalar.andi v836 c7_i32_525
  let v838 : BitVec 32 := Scalar.subi v836 v837
  let v839 : BitVec 32 := v838
  let v840 : Index := Scalar.indexCast v839
  let c0_527 : Index := 0#32
  ![0, v840.toNat, 0]

def k0_chk67 (v836 : BitVec 32) : Prop :=
  (8 ∣ (k0_mult68 v836).toNat) ∧
  (∀ a, (k0_off84 v836) a + S1x8x1024.size a ≤ S1x2048x1024.size a)
theorem k0_mult68_dvd : ∀ (v836 : BitVec 32) (k0_hw67 : k0_chk67 v836), 8 ∣ (k0_mult68 v836).toNat := fun v836 k0_hw67 => k0_hw67.1
theorem k0_off84_inb : ∀ (v836 : BitVec 32) (k0_hw67 : k0_chk67 v836), ∀ a, (k0_off84 v836) a + S1x8x1024.size a ≤ S1x2048x1024.size a := fun v836 k0_hw67 => k0_hw67.2

def k0_mult69 (v849 : BitVec 32) : BitVec 32 :=
  let c7_i32_533 : BitVec 32 := 7#32
  let v850 : BitVec 32 := Scalar.andi v849 c7_i32_533
  let v851 : BitVec 32 := Scalar.subi v849 v850
  v851

def k0_off85 (v849 : BitVec 32) : Fin 3 → Nat :=
  let c0_534 : Index := 0#32
  let c7_i32_533 : BitVec 32 := 7#32
  let v850 : BitVec 32 := Scalar.andi v849 c7_i32_533
  let v851 : BitVec 32 := Scalar.subi v849 v850
  let v852 : BitVec 32 := v851
  let v853 : Index := Scalar.indexCast v852
  let c0_535 : Index := 0#32
  ![0, v853.toNat, 0]

def k0_chk68 (v849 : BitVec 32) : Prop :=
  (8 ∣ (k0_mult69 v849).toNat) ∧
  (∀ a, (k0_off85 v849) a + S1x8x1024.size a ≤ S1x2048x1024.size a)
theorem k0_mult69_dvd : ∀ (v849 : BitVec 32) (k0_hw68 : k0_chk68 v849), 8 ∣ (k0_mult69 v849).toNat := fun v849 k0_hw68 => k0_hw68.1
theorem k0_off85_inb : ∀ (v849 : BitVec 32) (k0_hw68 : k0_chk68 v849), ∀ a, (k0_off85 v849) a + S1x8x1024.size a ≤ S1x2048x1024.size a := fun v849 k0_hw68 => k0_hw68.2

def k0_mult70 (v862 : BitVec 32) : BitVec 32 :=
  let c7_i32_541 : BitVec 32 := 7#32
  let v863 : BitVec 32 := Scalar.andi v862 c7_i32_541
  let v864 : BitVec 32 := Scalar.subi v862 v863
  v864

def k0_off86 (v862 : BitVec 32) : Fin 3 → Nat :=
  let c0_542 : Index := 0#32
  let c7_i32_541 : BitVec 32 := 7#32
  let v863 : BitVec 32 := Scalar.andi v862 c7_i32_541
  let v864 : BitVec 32 := Scalar.subi v862 v863
  let v865 : BitVec 32 := v864
  let v866 : Index := Scalar.indexCast v865
  let c0_543 : Index := 0#32
  ![0, v866.toNat, 0]

def k0_chk69 (v862 : BitVec 32) : Prop :=
  (8 ∣ (k0_mult70 v862).toNat) ∧
  (∀ a, (k0_off86 v862) a + S1x8x1024.size a ≤ S1x2048x1024.size a)
theorem k0_mult70_dvd : ∀ (v862 : BitVec 32) (k0_hw69 : k0_chk69 v862), 8 ∣ (k0_mult70 v862).toNat := fun v862 k0_hw69 => k0_hw69.1
theorem k0_off86_inb : ∀ (v862 : BitVec 32) (k0_hw69 : k0_chk69 v862), ∀ a, (k0_off86 v862) a + S1x8x1024.size a ≤ S1x2048x1024.size a := fun v862 k0_hw69 => k0_hw69.2

def k0_mult71 (v875 : BitVec 32) : BitVec 32 :=
  let c7_i32_549 : BitVec 32 := 7#32
  let v876 : BitVec 32 := Scalar.andi v875 c7_i32_549
  let v877 : BitVec 32 := Scalar.subi v875 v876
  v877

def k0_off87 (v875 : BitVec 32) : Fin 3 → Nat :=
  let c0_550 : Index := 0#32
  let c7_i32_549 : BitVec 32 := 7#32
  let v876 : BitVec 32 := Scalar.andi v875 c7_i32_549
  let v877 : BitVec 32 := Scalar.subi v875 v876
  let v878 : BitVec 32 := v877
  let v879 : Index := Scalar.indexCast v878
  let c0_551 : Index := 0#32
  ![0, v879.toNat, 0]

def k0_chk70 (v875 : BitVec 32) : Prop :=
  (8 ∣ (k0_mult71 v875).toNat) ∧
  (∀ a, (k0_off87 v875) a + S1x8x1024.size a ≤ S1x2048x1024.size a)
theorem k0_mult71_dvd : ∀ (v875 : BitVec 32) (k0_hw70 : k0_chk70 v875), 8 ∣ (k0_mult71 v875).toNat := fun v875 k0_hw70 => k0_hw70.1
theorem k0_off87_inb : ∀ (v875 : BitVec 32) (k0_hw70 : k0_chk70 v875), ∀ a, (k0_off87 v875) a + S1x8x1024.size a ≤ S1x2048x1024.size a := fun v875 k0_hw70 => k0_hw70.2

def k0_mult72 (v888 : BitVec 32) : BitVec 32 :=
  let c7_i32_557 : BitVec 32 := 7#32
  let v889 : BitVec 32 := Scalar.andi v888 c7_i32_557
  let v890 : BitVec 32 := Scalar.subi v888 v889
  v890

def k0_off88 (v888 : BitVec 32) : Fin 3 → Nat :=
  let c0_558 : Index := 0#32
  let c7_i32_557 : BitVec 32 := 7#32
  let v889 : BitVec 32 := Scalar.andi v888 c7_i32_557
  let v890 : BitVec 32 := Scalar.subi v888 v889
  let v891 : BitVec 32 := v890
  let v892 : Index := Scalar.indexCast v891
  let c0_559 : Index := 0#32
  ![0, v892.toNat, 0]

def k0_chk71 (v888 : BitVec 32) : Prop :=
  (8 ∣ (k0_mult72 v888).toNat) ∧
  (∀ a, (k0_off88 v888) a + S1x8x1024.size a ≤ S1x2048x1024.size a)
theorem k0_mult72_dvd : ∀ (v888 : BitVec 32) (k0_hw71 : k0_chk71 v888), 8 ∣ (k0_mult72 v888).toNat := fun v888 k0_hw71 => k0_hw71.1
theorem k0_off88_inb : ∀ (v888 : BitVec 32) (k0_hw71 : k0_chk71 v888), ∀ a, (k0_off88 v888) a + S1x8x1024.size a ≤ S1x2048x1024.size a := fun v888 k0_hw71 => k0_hw71.2

def k0_mult73 (v901 : BitVec 32) : BitVec 32 :=
  let c7_i32_565 : BitVec 32 := 7#32
  let v902 : BitVec 32 := Scalar.andi v901 c7_i32_565
  let v903 : BitVec 32 := Scalar.subi v901 v902
  v903

def k0_off89 (v901 : BitVec 32) : Fin 3 → Nat :=
  let c0_566 : Index := 0#32
  let c7_i32_565 : BitVec 32 := 7#32
  let v902 : BitVec 32 := Scalar.andi v901 c7_i32_565
  let v903 : BitVec 32 := Scalar.subi v901 v902
  let v904 : BitVec 32 := v903
  let v905 : Index := Scalar.indexCast v904
  let c0_567 : Index := 0#32
  ![0, v905.toNat, 0]

def k0_chk72 (v901 : BitVec 32) : Prop :=
  (8 ∣ (k0_mult73 v901).toNat) ∧
  (∀ a, (k0_off89 v901) a + S1x8x1024.size a ≤ S1x2048x1024.size a)
theorem k0_mult73_dvd : ∀ (v901 : BitVec 32) (k0_hw72 : k0_chk72 v901), 8 ∣ (k0_mult73 v901).toNat := fun v901 k0_hw72 => k0_hw72.1
theorem k0_off89_inb : ∀ (v901 : BitVec 32) (k0_hw72 : k0_chk72 v901), ∀ a, (k0_off89 v901) a + S1x8x1024.size a ≤ S1x2048x1024.size a := fun v901 k0_hw72 => k0_hw72.2

def k0_off90 (i : grid0.Coords) : Fin 3 → Nat :=
  let c1_i32_505 : BitVec 32 := 1#32
  let arg1 : BitVec 32 := BitVec.ofNat 32 (i 1).val
  let c1_i32 : BitVec 32 := 1#32
  let v1 : BitVec 32 := Scalar.andi arg1 c1_i32
  let v808 : BitVec 32 := Scalar.subi c1_i32_505 v1
  let c0_i32_571 : BitVec 32 := 0#32
  let c0_i32_572 : BitVec 32 := 0#32
  ![v808.toNat, 0, 0]
def k0_mult74 (v921 : BitVec 32) : BitVec 32 :=
  let c7_i32_579 : BitVec 32 := 7#32
  let v922 : BitVec 32 := Scalar.andi v921 c7_i32_579
  let v923 : BitVec 32 := Scalar.subi v921 v922
  v923

def k0_off91 (v921 : BitVec 32) : Fin 3 → Nat :=
  let c0_580 : Index := 0#32
  let c7_i32_579 : BitVec 32 := 7#32
  let v922 : BitVec 32 := Scalar.andi v921 c7_i32_579
  let v923 : BitVec 32 := Scalar.subi v921 v922
  let v924 : BitVec 32 := v923
  let v925 : Index := Scalar.indexCast v924
  let c0_581 : Index := 0#32
  ![0, v925.toNat, 0]

def k0_chk73 (v921 : BitVec 32) : Prop :=
  (8 ∣ (k0_mult74 v921).toNat) ∧
  (∀ a, (k0_off91 v921) a + S1x8x1024.size a ≤ S1x2048x1024.size a)
theorem k0_mult74_dvd : ∀ (v921 : BitVec 32) (k0_hw73 : k0_chk73 v921), 8 ∣ (k0_mult74 v921).toNat := fun v921 k0_hw73 => k0_hw73.1
theorem k0_off91_inb : ∀ (v921 : BitVec 32) (k0_hw73 : k0_chk73 v921), ∀ a, (k0_off91 v921) a + S1x8x1024.size a ≤ S1x2048x1024.size a := fun v921 k0_hw73 => k0_hw73.2

def k0_mult75 (v934 : BitVec 32) : BitVec 32 :=
  let c7_i32_587 : BitVec 32 := 7#32
  let v935 : BitVec 32 := Scalar.andi v934 c7_i32_587
  let v936 : BitVec 32 := Scalar.subi v934 v935
  v936

def k0_off92 (v934 : BitVec 32) : Fin 3 → Nat :=
  let c0_588 : Index := 0#32
  let c7_i32_587 : BitVec 32 := 7#32
  let v935 : BitVec 32 := Scalar.andi v934 c7_i32_587
  let v936 : BitVec 32 := Scalar.subi v934 v935
  let v937 : BitVec 32 := v936
  let v938 : Index := Scalar.indexCast v937
  let c0_589 : Index := 0#32
  ![0, v938.toNat, 0]

def k0_chk74 (v934 : BitVec 32) : Prop :=
  (8 ∣ (k0_mult75 v934).toNat) ∧
  (∀ a, (k0_off92 v934) a + S1x8x1024.size a ≤ S1x2048x1024.size a)
theorem k0_mult75_dvd : ∀ (v934 : BitVec 32) (k0_hw74 : k0_chk74 v934), 8 ∣ (k0_mult75 v934).toNat := fun v934 k0_hw74 => k0_hw74.1
theorem k0_off92_inb : ∀ (v934 : BitVec 32) (k0_hw74 : k0_chk74 v934), ∀ a, (k0_off92 v934) a + S1x8x1024.size a ≤ S1x2048x1024.size a := fun v934 k0_hw74 => k0_hw74.2

def k0_mult76 (v947 : BitVec 32) : BitVec 32 :=
  let c7_i32_595 : BitVec 32 := 7#32
  let v948 : BitVec 32 := Scalar.andi v947 c7_i32_595
  let v949 : BitVec 32 := Scalar.subi v947 v948
  v949

def k0_off93 (v947 : BitVec 32) : Fin 3 → Nat :=
  let c0_596 : Index := 0#32
  let c7_i32_595 : BitVec 32 := 7#32
  let v948 : BitVec 32 := Scalar.andi v947 c7_i32_595
  let v949 : BitVec 32 := Scalar.subi v947 v948
  let v950 : BitVec 32 := v949
  let v951 : Index := Scalar.indexCast v950
  let c0_597 : Index := 0#32
  ![0, v951.toNat, 0]

def k0_chk75 (v947 : BitVec 32) : Prop :=
  (8 ∣ (k0_mult76 v947).toNat) ∧
  (∀ a, (k0_off93 v947) a + S1x8x1024.size a ≤ S1x2048x1024.size a)
theorem k0_mult76_dvd : ∀ (v947 : BitVec 32) (k0_hw75 : k0_chk75 v947), 8 ∣ (k0_mult76 v947).toNat := fun v947 k0_hw75 => k0_hw75.1
theorem k0_off93_inb : ∀ (v947 : BitVec 32) (k0_hw75 : k0_chk75 v947), ∀ a, (k0_off93 v947) a + S1x8x1024.size a ≤ S1x2048x1024.size a := fun v947 k0_hw75 => k0_hw75.2

def k0_mult77 (v960 : BitVec 32) : BitVec 32 :=
  let c7_i32_603 : BitVec 32 := 7#32
  let v961 : BitVec 32 := Scalar.andi v960 c7_i32_603
  let v962 : BitVec 32 := Scalar.subi v960 v961
  v962

def k0_off94 (v960 : BitVec 32) : Fin 3 → Nat :=
  let c0_604 : Index := 0#32
  let c7_i32_603 : BitVec 32 := 7#32
  let v961 : BitVec 32 := Scalar.andi v960 c7_i32_603
  let v962 : BitVec 32 := Scalar.subi v960 v961
  let v963 : BitVec 32 := v962
  let v964 : Index := Scalar.indexCast v963
  let c0_605 : Index := 0#32
  ![0, v964.toNat, 0]

def k0_chk76 (v960 : BitVec 32) : Prop :=
  (8 ∣ (k0_mult77 v960).toNat) ∧
  (∀ a, (k0_off94 v960) a + S1x8x1024.size a ≤ S1x2048x1024.size a)
theorem k0_mult77_dvd : ∀ (v960 : BitVec 32) (k0_hw76 : k0_chk76 v960), 8 ∣ (k0_mult77 v960).toNat := fun v960 k0_hw76 => k0_hw76.1
theorem k0_off94_inb : ∀ (v960 : BitVec 32) (k0_hw76 : k0_chk76 v960), ∀ a, (k0_off94 v960) a + S1x8x1024.size a ≤ S1x2048x1024.size a := fun v960 k0_hw76 => k0_hw76.2

def k0_mult78 (v973 : BitVec 32) : BitVec 32 :=
  let c7_i32_611 : BitVec 32 := 7#32
  let v974 : BitVec 32 := Scalar.andi v973 c7_i32_611
  let v975 : BitVec 32 := Scalar.subi v973 v974
  v975

def k0_off95 (v973 : BitVec 32) : Fin 3 → Nat :=
  let c0_612 : Index := 0#32
  let c7_i32_611 : BitVec 32 := 7#32
  let v974 : BitVec 32 := Scalar.andi v973 c7_i32_611
  let v975 : BitVec 32 := Scalar.subi v973 v974
  let v976 : BitVec 32 := v975
  let v977 : Index := Scalar.indexCast v976
  let c0_613 : Index := 0#32
  ![0, v977.toNat, 0]

def k0_chk77 (v973 : BitVec 32) : Prop :=
  (8 ∣ (k0_mult78 v973).toNat) ∧
  (∀ a, (k0_off95 v973) a + S1x8x1024.size a ≤ S1x2048x1024.size a)
theorem k0_mult78_dvd : ∀ (v973 : BitVec 32) (k0_hw77 : k0_chk77 v973), 8 ∣ (k0_mult78 v973).toNat := fun v973 k0_hw77 => k0_hw77.1
theorem k0_off95_inb : ∀ (v973 : BitVec 32) (k0_hw77 : k0_chk77 v973), ∀ a, (k0_off95 v973) a + S1x8x1024.size a ≤ S1x2048x1024.size a := fun v973 k0_hw77 => k0_hw77.2

def k0_mult79 (v986 : BitVec 32) : BitVec 32 :=
  let c7_i32_619 : BitVec 32 := 7#32
  let v987 : BitVec 32 := Scalar.andi v986 c7_i32_619
  let v988 : BitVec 32 := Scalar.subi v986 v987
  v988

def k0_off96 (v986 : BitVec 32) : Fin 3 → Nat :=
  let c0_620 : Index := 0#32
  let c7_i32_619 : BitVec 32 := 7#32
  let v987 : BitVec 32 := Scalar.andi v986 c7_i32_619
  let v988 : BitVec 32 := Scalar.subi v986 v987
  let v989 : BitVec 32 := v988
  let v990 : Index := Scalar.indexCast v989
  let c0_621 : Index := 0#32
  ![0, v990.toNat, 0]

def k0_chk78 (v986 : BitVec 32) : Prop :=
  (8 ∣ (k0_mult79 v986).toNat) ∧
  (∀ a, (k0_off96 v986) a + S1x8x1024.size a ≤ S1x2048x1024.size a)
theorem k0_mult79_dvd : ∀ (v986 : BitVec 32) (k0_hw78 : k0_chk78 v986), 8 ∣ (k0_mult79 v986).toNat := fun v986 k0_hw78 => k0_hw78.1
theorem k0_off96_inb : ∀ (v986 : BitVec 32) (k0_hw78 : k0_chk78 v986), ∀ a, (k0_off96 v986) a + S1x8x1024.size a ≤ S1x2048x1024.size a := fun v986 k0_hw78 => k0_hw78.2

def k0_mult80 (v999 : BitVec 32) : BitVec 32 :=
  let c7_i32_627 : BitVec 32 := 7#32
  let v1000 : BitVec 32 := Scalar.andi v999 c7_i32_627
  let v1001 : BitVec 32 := Scalar.subi v999 v1000
  v1001

def k0_off97 (v999 : BitVec 32) : Fin 3 → Nat :=
  let c0_628 : Index := 0#32
  let c7_i32_627 : BitVec 32 := 7#32
  let v1000 : BitVec 32 := Scalar.andi v999 c7_i32_627
  let v1001 : BitVec 32 := Scalar.subi v999 v1000
  let v1002 : BitVec 32 := v1001
  let v1003 : Index := Scalar.indexCast v1002
  let c0_629 : Index := 0#32
  ![0, v1003.toNat, 0]

def k0_chk79 (v999 : BitVec 32) : Prop :=
  (8 ∣ (k0_mult80 v999).toNat) ∧
  (∀ a, (k0_off97 v999) a + S1x8x1024.size a ≤ S1x2048x1024.size a)
theorem k0_mult80_dvd : ∀ (v999 : BitVec 32) (k0_hw79 : k0_chk79 v999), 8 ∣ (k0_mult80 v999).toNat := fun v999 k0_hw79 => k0_hw79.1
theorem k0_off97_inb : ∀ (v999 : BitVec 32) (k0_hw79 : k0_chk79 v999), ∀ a, (k0_off97 v999) a + S1x8x1024.size a ≤ S1x2048x1024.size a := fun v999 k0_hw79 => k0_hw79.2

def k0_mult81 (v1012 : BitVec 32) : BitVec 32 :=
  let c7_i32_635 : BitVec 32 := 7#32
  let v1013 : BitVec 32 := Scalar.andi v1012 c7_i32_635
  let v1014 : BitVec 32 := Scalar.subi v1012 v1013
  v1014

def k0_off98 (v1012 : BitVec 32) : Fin 3 → Nat :=
  let c0_636 : Index := 0#32
  let c7_i32_635 : BitVec 32 := 7#32
  let v1013 : BitVec 32 := Scalar.andi v1012 c7_i32_635
  let v1014 : BitVec 32 := Scalar.subi v1012 v1013
  let v1015 : BitVec 32 := v1014
  let v1016 : Index := Scalar.indexCast v1015
  let c0_637 : Index := 0#32
  ![0, v1016.toNat, 0]

def k0_chk80 (v1012 : BitVec 32) : Prop :=
  (8 ∣ (k0_mult81 v1012).toNat) ∧
  (∀ a, (k0_off98 v1012) a + S1x8x1024.size a ≤ S1x2048x1024.size a)
theorem k0_mult81_dvd : ∀ (v1012 : BitVec 32) (k0_hw80 : k0_chk80 v1012), 8 ∣ (k0_mult81 v1012).toNat := fun v1012 k0_hw80 => k0_hw80.1
theorem k0_off98_inb : ∀ (v1012 : BitVec 32) (k0_hw80 : k0_chk80 v1012), ∀ a, (k0_off98 v1012) a + S1x8x1024.size a ≤ S1x2048x1024.size a := fun v1012 k0_hw80 => k0_hw80.2

def k0_off99 (i : grid0.Coords) : Fin 3 → Nat :=
  let c1_i32_575 : BitVec 32 := 1#32
  let arg1 : BitVec 32 := BitVec.ofNat 32 (i 1).val
  let c1_i32 : BitVec 32 := 1#32
  let v1 : BitVec 32 := Scalar.andi arg1 c1_i32
  let v919 : BitVec 32 := Scalar.subi c1_i32_575 v1
  let c0_i32_641 : BitVec 32 := 0#32
  let c0_i32_642 : BitVec 32 := 0#32
  ![v919.toNat, 0, 0]
def k0_mult82 (v1032 : BitVec 32) : BitVec 32 :=
  let c7_i32_649 : BitVec 32 := 7#32
  let v1033 : BitVec 32 := Scalar.andi v1032 c7_i32_649
  let v1034 : BitVec 32 := Scalar.subi v1032 v1033
  v1034

def k0_off100 (v1032 : BitVec 32) : Fin 3 → Nat :=
  let c0_650 : Index := 0#32
  let c7_i32_649 : BitVec 32 := 7#32
  let v1033 : BitVec 32 := Scalar.andi v1032 c7_i32_649
  let v1034 : BitVec 32 := Scalar.subi v1032 v1033
  let v1035 : BitVec 32 := v1034
  let v1036 : Index := Scalar.indexCast v1035
  let c0_651 : Index := 0#32
  ![0, v1036.toNat, 0]

def k0_chk81 (v1032 : BitVec 32) : Prop :=
  (8 ∣ (k0_mult82 v1032).toNat) ∧
  (∀ a, (k0_off100 v1032) a + S1x8x1024.size a ≤ S1x2048x1024.size a)
theorem k0_mult82_dvd : ∀ (v1032 : BitVec 32) (k0_hw81 : k0_chk81 v1032), 8 ∣ (k0_mult82 v1032).toNat := fun v1032 k0_hw81 => k0_hw81.1
theorem k0_off100_inb : ∀ (v1032 : BitVec 32) (k0_hw81 : k0_chk81 v1032), ∀ a, (k0_off100 v1032) a + S1x8x1024.size a ≤ S1x2048x1024.size a := fun v1032 k0_hw81 => k0_hw81.2

def k0_mult83 (v1045 : BitVec 32) : BitVec 32 :=
  let c7_i32_657 : BitVec 32 := 7#32
  let v1046 : BitVec 32 := Scalar.andi v1045 c7_i32_657
  let v1047 : BitVec 32 := Scalar.subi v1045 v1046
  v1047

def k0_off101 (v1045 : BitVec 32) : Fin 3 → Nat :=
  let c0_658 : Index := 0#32
  let c7_i32_657 : BitVec 32 := 7#32
  let v1046 : BitVec 32 := Scalar.andi v1045 c7_i32_657
  let v1047 : BitVec 32 := Scalar.subi v1045 v1046
  let v1048 : BitVec 32 := v1047
  let v1049 : Index := Scalar.indexCast v1048
  let c0_659 : Index := 0#32
  ![0, v1049.toNat, 0]

def k0_chk82 (v1045 : BitVec 32) : Prop :=
  (8 ∣ (k0_mult83 v1045).toNat) ∧
  (∀ a, (k0_off101 v1045) a + S1x8x1024.size a ≤ S1x2048x1024.size a)
theorem k0_mult83_dvd : ∀ (v1045 : BitVec 32) (k0_hw82 : k0_chk82 v1045), 8 ∣ (k0_mult83 v1045).toNat := fun v1045 k0_hw82 => k0_hw82.1
theorem k0_off101_inb : ∀ (v1045 : BitVec 32) (k0_hw82 : k0_chk82 v1045), ∀ a, (k0_off101 v1045) a + S1x8x1024.size a ≤ S1x2048x1024.size a := fun v1045 k0_hw82 => k0_hw82.2

def k0_mult84 (v1058 : BitVec 32) : BitVec 32 :=
  let c7_i32_665 : BitVec 32 := 7#32
  let v1059 : BitVec 32 := Scalar.andi v1058 c7_i32_665
  let v1060 : BitVec 32 := Scalar.subi v1058 v1059
  v1060

def k0_off102 (v1058 : BitVec 32) : Fin 3 → Nat :=
  let c0_666 : Index := 0#32
  let c7_i32_665 : BitVec 32 := 7#32
  let v1059 : BitVec 32 := Scalar.andi v1058 c7_i32_665
  let v1060 : BitVec 32 := Scalar.subi v1058 v1059
  let v1061 : BitVec 32 := v1060
  let v1062 : Index := Scalar.indexCast v1061
  let c0_667 : Index := 0#32
  ![0, v1062.toNat, 0]

def k0_chk83 (v1058 : BitVec 32) : Prop :=
  (8 ∣ (k0_mult84 v1058).toNat) ∧
  (∀ a, (k0_off102 v1058) a + S1x8x1024.size a ≤ S1x2048x1024.size a)
theorem k0_mult84_dvd : ∀ (v1058 : BitVec 32) (k0_hw83 : k0_chk83 v1058), 8 ∣ (k0_mult84 v1058).toNat := fun v1058 k0_hw83 => k0_hw83.1
theorem k0_off102_inb : ∀ (v1058 : BitVec 32) (k0_hw83 : k0_chk83 v1058), ∀ a, (k0_off102 v1058) a + S1x8x1024.size a ≤ S1x2048x1024.size a := fun v1058 k0_hw83 => k0_hw83.2

def k0_mult85 (v1071 : BitVec 32) : BitVec 32 :=
  let c7_i32_673 : BitVec 32 := 7#32
  let v1072 : BitVec 32 := Scalar.andi v1071 c7_i32_673
  let v1073 : BitVec 32 := Scalar.subi v1071 v1072
  v1073

def k0_off103 (v1071 : BitVec 32) : Fin 3 → Nat :=
  let c0_674 : Index := 0#32
  let c7_i32_673 : BitVec 32 := 7#32
  let v1072 : BitVec 32 := Scalar.andi v1071 c7_i32_673
  let v1073 : BitVec 32 := Scalar.subi v1071 v1072
  let v1074 : BitVec 32 := v1073
  let v1075 : Index := Scalar.indexCast v1074
  let c0_675 : Index := 0#32
  ![0, v1075.toNat, 0]

def k0_chk84 (v1071 : BitVec 32) : Prop :=
  (8 ∣ (k0_mult85 v1071).toNat) ∧
  (∀ a, (k0_off103 v1071) a + S1x8x1024.size a ≤ S1x2048x1024.size a)
theorem k0_mult85_dvd : ∀ (v1071 : BitVec 32) (k0_hw84 : k0_chk84 v1071), 8 ∣ (k0_mult85 v1071).toNat := fun v1071 k0_hw84 => k0_hw84.1
theorem k0_off103_inb : ∀ (v1071 : BitVec 32) (k0_hw84 : k0_chk84 v1071), ∀ a, (k0_off103 v1071) a + S1x8x1024.size a ≤ S1x2048x1024.size a := fun v1071 k0_hw84 => k0_hw84.2

def k0_mult86 (v1084 : BitVec 32) : BitVec 32 :=
  let c7_i32_681 : BitVec 32 := 7#32
  let v1085 : BitVec 32 := Scalar.andi v1084 c7_i32_681
  let v1086 : BitVec 32 := Scalar.subi v1084 v1085
  v1086

def k0_off104 (v1084 : BitVec 32) : Fin 3 → Nat :=
  let c0_682 : Index := 0#32
  let c7_i32_681 : BitVec 32 := 7#32
  let v1085 : BitVec 32 := Scalar.andi v1084 c7_i32_681
  let v1086 : BitVec 32 := Scalar.subi v1084 v1085
  let v1087 : BitVec 32 := v1086
  let v1088 : Index := Scalar.indexCast v1087
  let c0_683 : Index := 0#32
  ![0, v1088.toNat, 0]

def k0_chk85 (v1084 : BitVec 32) : Prop :=
  (8 ∣ (k0_mult86 v1084).toNat) ∧
  (∀ a, (k0_off104 v1084) a + S1x8x1024.size a ≤ S1x2048x1024.size a)
theorem k0_mult86_dvd : ∀ (v1084 : BitVec 32) (k0_hw85 : k0_chk85 v1084), 8 ∣ (k0_mult86 v1084).toNat := fun v1084 k0_hw85 => k0_hw85.1
theorem k0_off104_inb : ∀ (v1084 : BitVec 32) (k0_hw85 : k0_chk85 v1084), ∀ a, (k0_off104 v1084) a + S1x8x1024.size a ≤ S1x2048x1024.size a := fun v1084 k0_hw85 => k0_hw85.2

def k0_mult87 (v1097 : BitVec 32) : BitVec 32 :=
  let c7_i32_689 : BitVec 32 := 7#32
  let v1098 : BitVec 32 := Scalar.andi v1097 c7_i32_689
  let v1099 : BitVec 32 := Scalar.subi v1097 v1098
  v1099

def k0_off105 (v1097 : BitVec 32) : Fin 3 → Nat :=
  let c0_690 : Index := 0#32
  let c7_i32_689 : BitVec 32 := 7#32
  let v1098 : BitVec 32 := Scalar.andi v1097 c7_i32_689
  let v1099 : BitVec 32 := Scalar.subi v1097 v1098
  let v1100 : BitVec 32 := v1099
  let v1101 : Index := Scalar.indexCast v1100
  let c0_691 : Index := 0#32
  ![0, v1101.toNat, 0]

def k0_chk86 (v1097 : BitVec 32) : Prop :=
  (8 ∣ (k0_mult87 v1097).toNat) ∧
  (∀ a, (k0_off105 v1097) a + S1x8x1024.size a ≤ S1x2048x1024.size a)
theorem k0_mult87_dvd : ∀ (v1097 : BitVec 32) (k0_hw86 : k0_chk86 v1097), 8 ∣ (k0_mult87 v1097).toNat := fun v1097 k0_hw86 => k0_hw86.1
theorem k0_off105_inb : ∀ (v1097 : BitVec 32) (k0_hw86 : k0_chk86 v1097), ∀ a, (k0_off105 v1097) a + S1x8x1024.size a ≤ S1x2048x1024.size a := fun v1097 k0_hw86 => k0_hw86.2

def k0_mult88 (v1110 : BitVec 32) : BitVec 32 :=
  let c7_i32_697 : BitVec 32 := 7#32
  let v1111 : BitVec 32 := Scalar.andi v1110 c7_i32_697
  let v1112 : BitVec 32 := Scalar.subi v1110 v1111
  v1112

def k0_off106 (v1110 : BitVec 32) : Fin 3 → Nat :=
  let c0_698 : Index := 0#32
  let c7_i32_697 : BitVec 32 := 7#32
  let v1111 : BitVec 32 := Scalar.andi v1110 c7_i32_697
  let v1112 : BitVec 32 := Scalar.subi v1110 v1111
  let v1113 : BitVec 32 := v1112
  let v1114 : Index := Scalar.indexCast v1113
  let c0_699 : Index := 0#32
  ![0, v1114.toNat, 0]

def k0_chk87 (v1110 : BitVec 32) : Prop :=
  (8 ∣ (k0_mult88 v1110).toNat) ∧
  (∀ a, (k0_off106 v1110) a + S1x8x1024.size a ≤ S1x2048x1024.size a)
theorem k0_mult88_dvd : ∀ (v1110 : BitVec 32) (k0_hw87 : k0_chk87 v1110), 8 ∣ (k0_mult88 v1110).toNat := fun v1110 k0_hw87 => k0_hw87.1
theorem k0_off106_inb : ∀ (v1110 : BitVec 32) (k0_hw87 : k0_chk87 v1110), ∀ a, (k0_off106 v1110) a + S1x8x1024.size a ≤ S1x2048x1024.size a := fun v1110 k0_hw87 => k0_hw87.2

def k0_mult89 (v1123 : BitVec 32) : BitVec 32 :=
  let c7_i32_705 : BitVec 32 := 7#32
  let v1124 : BitVec 32 := Scalar.andi v1123 c7_i32_705
  let v1125 : BitVec 32 := Scalar.subi v1123 v1124
  v1125

def k0_off107 (v1123 : BitVec 32) : Fin 3 → Nat :=
  let c0_706 : Index := 0#32
  let c7_i32_705 : BitVec 32 := 7#32
  let v1124 : BitVec 32 := Scalar.andi v1123 c7_i32_705
  let v1125 : BitVec 32 := Scalar.subi v1123 v1124
  let v1126 : BitVec 32 := v1125
  let v1127 : Index := Scalar.indexCast v1126
  let c0_707 : Index := 0#32
  ![0, v1127.toNat, 0]

def k0_chk88 (v1123 : BitVec 32) : Prop :=
  (8 ∣ (k0_mult89 v1123).toNat) ∧
  (∀ a, (k0_off107 v1123) a + S1x8x1024.size a ≤ S1x2048x1024.size a)
theorem k0_mult89_dvd : ∀ (v1123 : BitVec 32) (k0_hw88 : k0_chk88 v1123), 8 ∣ (k0_mult89 v1123).toNat := fun v1123 k0_hw88 => k0_hw88.1
theorem k0_off107_inb : ∀ (v1123 : BitVec 32) (k0_hw88 : k0_chk88 v1123), ∀ a, (k0_off107 v1123) a + S1x8x1024.size a ≤ S1x2048x1024.size a := fun v1123 k0_hw88 => k0_hw88.2

def k0_off108 (i : grid0.Coords) : Fin 3 → Nat :=
  let c1_i32_645 : BitVec 32 := 1#32
  let arg1 : BitVec 32 := BitVec.ofNat 32 (i 1).val
  let c1_i32 : BitVec 32 := 1#32
  let v1 : BitVec 32 := Scalar.andi arg1 c1_i32
  let v1030 : BitVec 32 := Scalar.subi c1_i32_645 v1
  let c0_i32_711 : BitVec 32 := 0#32
  let c0_i32_712 : BitVec 32 := 0#32
  ![v1030.toNat, 0, 0]
def k0_mult90 (v1143 : BitVec 32) : BitVec 32 :=
  let c7_i32_719 : BitVec 32 := 7#32
  let v1144 : BitVec 32 := Scalar.andi v1143 c7_i32_719
  let v1145 : BitVec 32 := Scalar.subi v1143 v1144
  v1145

def k0_off109 (v1143 : BitVec 32) : Fin 3 → Nat :=
  let c0_720 : Index := 0#32
  let c7_i32_719 : BitVec 32 := 7#32
  let v1144 : BitVec 32 := Scalar.andi v1143 c7_i32_719
  let v1145 : BitVec 32 := Scalar.subi v1143 v1144
  let v1146 : BitVec 32 := v1145
  let v1147 : Index := Scalar.indexCast v1146
  let c0_721 : Index := 0#32
  ![0, v1147.toNat, 0]

def k0_chk89 (v1143 : BitVec 32) : Prop :=
  (8 ∣ (k0_mult90 v1143).toNat) ∧
  (∀ a, (k0_off109 v1143) a + S1x8x1024.size a ≤ S1x2048x1024.size a)
theorem k0_mult90_dvd : ∀ (v1143 : BitVec 32) (k0_hw89 : k0_chk89 v1143), 8 ∣ (k0_mult90 v1143).toNat := fun v1143 k0_hw89 => k0_hw89.1
theorem k0_off109_inb : ∀ (v1143 : BitVec 32) (k0_hw89 : k0_chk89 v1143), ∀ a, (k0_off109 v1143) a + S1x8x1024.size a ≤ S1x2048x1024.size a := fun v1143 k0_hw89 => k0_hw89.2

def k0_mult91 (v1156 : BitVec 32) : BitVec 32 :=
  let c7_i32_727 : BitVec 32 := 7#32
  let v1157 : BitVec 32 := Scalar.andi v1156 c7_i32_727
  let v1158 : BitVec 32 := Scalar.subi v1156 v1157
  v1158

def k0_off110 (v1156 : BitVec 32) : Fin 3 → Nat :=
  let c0_728 : Index := 0#32
  let c7_i32_727 : BitVec 32 := 7#32
  let v1157 : BitVec 32 := Scalar.andi v1156 c7_i32_727
  let v1158 : BitVec 32 := Scalar.subi v1156 v1157
  let v1159 : BitVec 32 := v1158
  let v1160 : Index := Scalar.indexCast v1159
  let c0_729 : Index := 0#32
  ![0, v1160.toNat, 0]

def k0_chk90 (v1156 : BitVec 32) : Prop :=
  (8 ∣ (k0_mult91 v1156).toNat) ∧
  (∀ a, (k0_off110 v1156) a + S1x8x1024.size a ≤ S1x2048x1024.size a)
theorem k0_mult91_dvd : ∀ (v1156 : BitVec 32) (k0_hw90 : k0_chk90 v1156), 8 ∣ (k0_mult91 v1156).toNat := fun v1156 k0_hw90 => k0_hw90.1
theorem k0_off110_inb : ∀ (v1156 : BitVec 32) (k0_hw90 : k0_chk90 v1156), ∀ a, (k0_off110 v1156) a + S1x8x1024.size a ≤ S1x2048x1024.size a := fun v1156 k0_hw90 => k0_hw90.2

def k0_mult92 (v1169 : BitVec 32) : BitVec 32 :=
  let c7_i32_735 : BitVec 32 := 7#32
  let v1170 : BitVec 32 := Scalar.andi v1169 c7_i32_735
  let v1171 : BitVec 32 := Scalar.subi v1169 v1170
  v1171

def k0_off111 (v1169 : BitVec 32) : Fin 3 → Nat :=
  let c0_736 : Index := 0#32
  let c7_i32_735 : BitVec 32 := 7#32
  let v1170 : BitVec 32 := Scalar.andi v1169 c7_i32_735
  let v1171 : BitVec 32 := Scalar.subi v1169 v1170
  let v1172 : BitVec 32 := v1171
  let v1173 : Index := Scalar.indexCast v1172
  let c0_737 : Index := 0#32
  ![0, v1173.toNat, 0]

def k0_chk91 (v1169 : BitVec 32) : Prop :=
  (8 ∣ (k0_mult92 v1169).toNat) ∧
  (∀ a, (k0_off111 v1169) a + S1x8x1024.size a ≤ S1x2048x1024.size a)
theorem k0_mult92_dvd : ∀ (v1169 : BitVec 32) (k0_hw91 : k0_chk91 v1169), 8 ∣ (k0_mult92 v1169).toNat := fun v1169 k0_hw91 => k0_hw91.1
theorem k0_off111_inb : ∀ (v1169 : BitVec 32) (k0_hw91 : k0_chk91 v1169), ∀ a, (k0_off111 v1169) a + S1x8x1024.size a ≤ S1x2048x1024.size a := fun v1169 k0_hw91 => k0_hw91.2

def k0_mult93 (v1182 : BitVec 32) : BitVec 32 :=
  let c7_i32_743 : BitVec 32 := 7#32
  let v1183 : BitVec 32 := Scalar.andi v1182 c7_i32_743
  let v1184 : BitVec 32 := Scalar.subi v1182 v1183
  v1184

def k0_off112 (v1182 : BitVec 32) : Fin 3 → Nat :=
  let c0_744 : Index := 0#32
  let c7_i32_743 : BitVec 32 := 7#32
  let v1183 : BitVec 32 := Scalar.andi v1182 c7_i32_743
  let v1184 : BitVec 32 := Scalar.subi v1182 v1183
  let v1185 : BitVec 32 := v1184
  let v1186 : Index := Scalar.indexCast v1185
  let c0_745 : Index := 0#32
  ![0, v1186.toNat, 0]

def k0_chk92 (v1182 : BitVec 32) : Prop :=
  (8 ∣ (k0_mult93 v1182).toNat) ∧
  (∀ a, (k0_off112 v1182) a + S1x8x1024.size a ≤ S1x2048x1024.size a)
theorem k0_mult93_dvd : ∀ (v1182 : BitVec 32) (k0_hw92 : k0_chk92 v1182), 8 ∣ (k0_mult93 v1182).toNat := fun v1182 k0_hw92 => k0_hw92.1
theorem k0_off112_inb : ∀ (v1182 : BitVec 32) (k0_hw92 : k0_chk92 v1182), ∀ a, (k0_off112 v1182) a + S1x8x1024.size a ≤ S1x2048x1024.size a := fun v1182 k0_hw92 => k0_hw92.2

def k0_mult94 (v1195 : BitVec 32) : BitVec 32 :=
  let c7_i32_751 : BitVec 32 := 7#32
  let v1196 : BitVec 32 := Scalar.andi v1195 c7_i32_751
  let v1197 : BitVec 32 := Scalar.subi v1195 v1196
  v1197

def k0_off113 (v1195 : BitVec 32) : Fin 3 → Nat :=
  let c0_752 : Index := 0#32
  let c7_i32_751 : BitVec 32 := 7#32
  let v1196 : BitVec 32 := Scalar.andi v1195 c7_i32_751
  let v1197 : BitVec 32 := Scalar.subi v1195 v1196
  let v1198 : BitVec 32 := v1197
  let v1199 : Index := Scalar.indexCast v1198
  let c0_753 : Index := 0#32
  ![0, v1199.toNat, 0]

def k0_chk93 (v1195 : BitVec 32) : Prop :=
  (8 ∣ (k0_mult94 v1195).toNat) ∧
  (∀ a, (k0_off113 v1195) a + S1x8x1024.size a ≤ S1x2048x1024.size a)
theorem k0_mult94_dvd : ∀ (v1195 : BitVec 32) (k0_hw93 : k0_chk93 v1195), 8 ∣ (k0_mult94 v1195).toNat := fun v1195 k0_hw93 => k0_hw93.1
theorem k0_off113_inb : ∀ (v1195 : BitVec 32) (k0_hw93 : k0_chk93 v1195), ∀ a, (k0_off113 v1195) a + S1x8x1024.size a ≤ S1x2048x1024.size a := fun v1195 k0_hw93 => k0_hw93.2

def k0_mult95 (v1208 : BitVec 32) : BitVec 32 :=
  let c7_i32_759 : BitVec 32 := 7#32
  let v1209 : BitVec 32 := Scalar.andi v1208 c7_i32_759
  let v1210 : BitVec 32 := Scalar.subi v1208 v1209
  v1210

def k0_off114 (v1208 : BitVec 32) : Fin 3 → Nat :=
  let c0_760 : Index := 0#32
  let c7_i32_759 : BitVec 32 := 7#32
  let v1209 : BitVec 32 := Scalar.andi v1208 c7_i32_759
  let v1210 : BitVec 32 := Scalar.subi v1208 v1209
  let v1211 : BitVec 32 := v1210
  let v1212 : Index := Scalar.indexCast v1211
  let c0_761 : Index := 0#32
  ![0, v1212.toNat, 0]

def k0_chk94 (v1208 : BitVec 32) : Prop :=
  (8 ∣ (k0_mult95 v1208).toNat) ∧
  (∀ a, (k0_off114 v1208) a + S1x8x1024.size a ≤ S1x2048x1024.size a)
theorem k0_mult95_dvd : ∀ (v1208 : BitVec 32) (k0_hw94 : k0_chk94 v1208), 8 ∣ (k0_mult95 v1208).toNat := fun v1208 k0_hw94 => k0_hw94.1
theorem k0_off114_inb : ∀ (v1208 : BitVec 32) (k0_hw94 : k0_chk94 v1208), ∀ a, (k0_off114 v1208) a + S1x8x1024.size a ≤ S1x2048x1024.size a := fun v1208 k0_hw94 => k0_hw94.2

def k0_mult96 (v1221 : BitVec 32) : BitVec 32 :=
  let c7_i32_767 : BitVec 32 := 7#32
  let v1222 : BitVec 32 := Scalar.andi v1221 c7_i32_767
  let v1223 : BitVec 32 := Scalar.subi v1221 v1222
  v1223

def k0_off115 (v1221 : BitVec 32) : Fin 3 → Nat :=
  let c0_768 : Index := 0#32
  let c7_i32_767 : BitVec 32 := 7#32
  let v1222 : BitVec 32 := Scalar.andi v1221 c7_i32_767
  let v1223 : BitVec 32 := Scalar.subi v1221 v1222
  let v1224 : BitVec 32 := v1223
  let v1225 : Index := Scalar.indexCast v1224
  let c0_769 : Index := 0#32
  ![0, v1225.toNat, 0]

def k0_chk95 (v1221 : BitVec 32) : Prop :=
  (8 ∣ (k0_mult96 v1221).toNat) ∧
  (∀ a, (k0_off115 v1221) a + S1x8x1024.size a ≤ S1x2048x1024.size a)
theorem k0_mult96_dvd : ∀ (v1221 : BitVec 32) (k0_hw95 : k0_chk95 v1221), 8 ∣ (k0_mult96 v1221).toNat := fun v1221 k0_hw95 => k0_hw95.1
theorem k0_off115_inb : ∀ (v1221 : BitVec 32) (k0_hw95 : k0_chk95 v1221), ∀ a, (k0_off115 v1221) a + S1x8x1024.size a ≤ S1x2048x1024.size a := fun v1221 k0_hw95 => k0_hw95.2

def k0_mult97 (v1234 : BitVec 32) : BitVec 32 :=
  let c7_i32_775 : BitVec 32 := 7#32
  let v1235 : BitVec 32 := Scalar.andi v1234 c7_i32_775
  let v1236 : BitVec 32 := Scalar.subi v1234 v1235
  v1236

def k0_off116 (v1234 : BitVec 32) : Fin 3 → Nat :=
  let c0_776 : Index := 0#32
  let c7_i32_775 : BitVec 32 := 7#32
  let v1235 : BitVec 32 := Scalar.andi v1234 c7_i32_775
  let v1236 : BitVec 32 := Scalar.subi v1234 v1235
  let v1237 : BitVec 32 := v1236
  let v1238 : Index := Scalar.indexCast v1237
  let c0_777 : Index := 0#32
  ![0, v1238.toNat, 0]

def k0_chk96 (v1234 : BitVec 32) : Prop :=
  (8 ∣ (k0_mult97 v1234).toNat) ∧
  (∀ a, (k0_off116 v1234) a + S1x8x1024.size a ≤ S1x2048x1024.size a)
theorem k0_mult97_dvd : ∀ (v1234 : BitVec 32) (k0_hw96 : k0_chk96 v1234), 8 ∣ (k0_mult97 v1234).toNat := fun v1234 k0_hw96 => k0_hw96.1
theorem k0_off116_inb : ∀ (v1234 : BitVec 32) (k0_hw96 : k0_chk96 v1234), ∀ a, (k0_off116 v1234) a + S1x8x1024.size a ≤ S1x2048x1024.size a := fun v1234 k0_hw96 => k0_hw96.2

def k0_off117 (i : grid0.Coords) : Fin 3 → Nat :=
  let c1_i32_715 : BitVec 32 := 1#32
  let arg1 : BitVec 32 := BitVec.ofNat 32 (i 1).val
  let c1_i32 : BitVec 32 := 1#32
  let v1 : BitVec 32 := Scalar.andi arg1 c1_i32
  let v1141 : BitVec 32 := Scalar.subi c1_i32_715 v1
  let c0_i32_781 : BitVec 32 := 0#32
  let c0_i32_782 : BitVec 32 := 0#32
  ![v1141.toNat, 0, 0]
def k0_mult98 (v1254 : BitVec 32) : BitVec 32 :=
  let c7_i32_789 : BitVec 32 := 7#32
  let v1255 : BitVec 32 := Scalar.andi v1254 c7_i32_789
  let v1256 : BitVec 32 := Scalar.subi v1254 v1255
  v1256

def k0_off118 (v1254 : BitVec 32) : Fin 3 → Nat :=
  let c0_790 : Index := 0#32
  let c7_i32_789 : BitVec 32 := 7#32
  let v1255 : BitVec 32 := Scalar.andi v1254 c7_i32_789
  let v1256 : BitVec 32 := Scalar.subi v1254 v1255
  let v1257 : BitVec 32 := v1256
  let v1258 : Index := Scalar.indexCast v1257
  let c0_791 : Index := 0#32
  ![0, v1258.toNat, 0]

def k0_chk97 (v1254 : BitVec 32) : Prop :=
  (8 ∣ (k0_mult98 v1254).toNat) ∧
  (∀ a, (k0_off118 v1254) a + S1x8x1024.size a ≤ S1x2048x1024.size a)
theorem k0_mult98_dvd : ∀ (v1254 : BitVec 32) (k0_hw97 : k0_chk97 v1254), 8 ∣ (k0_mult98 v1254).toNat := fun v1254 k0_hw97 => k0_hw97.1
theorem k0_off118_inb : ∀ (v1254 : BitVec 32) (k0_hw97 : k0_chk97 v1254), ∀ a, (k0_off118 v1254) a + S1x8x1024.size a ≤ S1x2048x1024.size a := fun v1254 k0_hw97 => k0_hw97.2

def k0_mult99 (v1267 : BitVec 32) : BitVec 32 :=
  let c7_i32_797 : BitVec 32 := 7#32
  let v1268 : BitVec 32 := Scalar.andi v1267 c7_i32_797
  let v1269 : BitVec 32 := Scalar.subi v1267 v1268
  v1269

def k0_off119 (v1267 : BitVec 32) : Fin 3 → Nat :=
  let c0_798 : Index := 0#32
  let c7_i32_797 : BitVec 32 := 7#32
  let v1268 : BitVec 32 := Scalar.andi v1267 c7_i32_797
  let v1269 : BitVec 32 := Scalar.subi v1267 v1268
  let v1270 : BitVec 32 := v1269
  let v1271 : Index := Scalar.indexCast v1270
  let c0_799 : Index := 0#32
  ![0, v1271.toNat, 0]

def k0_chk98 (v1267 : BitVec 32) : Prop :=
  (8 ∣ (k0_mult99 v1267).toNat) ∧
  (∀ a, (k0_off119 v1267) a + S1x8x1024.size a ≤ S1x2048x1024.size a)
theorem k0_mult99_dvd : ∀ (v1267 : BitVec 32) (k0_hw98 : k0_chk98 v1267), 8 ∣ (k0_mult99 v1267).toNat := fun v1267 k0_hw98 => k0_hw98.1
theorem k0_off119_inb : ∀ (v1267 : BitVec 32) (k0_hw98 : k0_chk98 v1267), ∀ a, (k0_off119 v1267) a + S1x8x1024.size a ≤ S1x2048x1024.size a := fun v1267 k0_hw98 => k0_hw98.2

def k0_mult100 (v1280 : BitVec 32) : BitVec 32 :=
  let c7_i32_805 : BitVec 32 := 7#32
  let v1281 : BitVec 32 := Scalar.andi v1280 c7_i32_805
  let v1282 : BitVec 32 := Scalar.subi v1280 v1281
  v1282

def k0_off120 (v1280 : BitVec 32) : Fin 3 → Nat :=
  let c0_806 : Index := 0#32
  let c7_i32_805 : BitVec 32 := 7#32
  let v1281 : BitVec 32 := Scalar.andi v1280 c7_i32_805
  let v1282 : BitVec 32 := Scalar.subi v1280 v1281
  let v1283 : BitVec 32 := v1282
  let v1284 : Index := Scalar.indexCast v1283
  let c0_807 : Index := 0#32
  ![0, v1284.toNat, 0]

def k0_chk99 (v1280 : BitVec 32) : Prop :=
  (8 ∣ (k0_mult100 v1280).toNat) ∧
  (∀ a, (k0_off120 v1280) a + S1x8x1024.size a ≤ S1x2048x1024.size a)
theorem k0_mult100_dvd : ∀ (v1280 : BitVec 32) (k0_hw99 : k0_chk99 v1280), 8 ∣ (k0_mult100 v1280).toNat := fun v1280 k0_hw99 => k0_hw99.1
theorem k0_off120_inb : ∀ (v1280 : BitVec 32) (k0_hw99 : k0_chk99 v1280), ∀ a, (k0_off120 v1280) a + S1x8x1024.size a ≤ S1x2048x1024.size a := fun v1280 k0_hw99 => k0_hw99.2

def k0_mult101 (v1293 : BitVec 32) : BitVec 32 :=
  let c7_i32_813 : BitVec 32 := 7#32
  let v1294 : BitVec 32 := Scalar.andi v1293 c7_i32_813
  let v1295 : BitVec 32 := Scalar.subi v1293 v1294
  v1295

def k0_off121 (v1293 : BitVec 32) : Fin 3 → Nat :=
  let c0_814 : Index := 0#32
  let c7_i32_813 : BitVec 32 := 7#32
  let v1294 : BitVec 32 := Scalar.andi v1293 c7_i32_813
  let v1295 : BitVec 32 := Scalar.subi v1293 v1294
  let v1296 : BitVec 32 := v1295
  let v1297 : Index := Scalar.indexCast v1296
  let c0_815 : Index := 0#32
  ![0, v1297.toNat, 0]

def k0_chk100 (v1293 : BitVec 32) : Prop :=
  (8 ∣ (k0_mult101 v1293).toNat) ∧
  (∀ a, (k0_off121 v1293) a + S1x8x1024.size a ≤ S1x2048x1024.size a)
theorem k0_mult101_dvd : ∀ (v1293 : BitVec 32) (k0_hw100 : k0_chk100 v1293), 8 ∣ (k0_mult101 v1293).toNat := fun v1293 k0_hw100 => k0_hw100.1
theorem k0_off121_inb : ∀ (v1293 : BitVec 32) (k0_hw100 : k0_chk100 v1293), ∀ a, (k0_off121 v1293) a + S1x8x1024.size a ≤ S1x2048x1024.size a := fun v1293 k0_hw100 => k0_hw100.2

def k0_mult102 (v1306 : BitVec 32) : BitVec 32 :=
  let c7_i32_821 : BitVec 32 := 7#32
  let v1307 : BitVec 32 := Scalar.andi v1306 c7_i32_821
  let v1308 : BitVec 32 := Scalar.subi v1306 v1307
  v1308

def k0_off122 (v1306 : BitVec 32) : Fin 3 → Nat :=
  let c0_822 : Index := 0#32
  let c7_i32_821 : BitVec 32 := 7#32
  let v1307 : BitVec 32 := Scalar.andi v1306 c7_i32_821
  let v1308 : BitVec 32 := Scalar.subi v1306 v1307
  let v1309 : BitVec 32 := v1308
  let v1310 : Index := Scalar.indexCast v1309
  let c0_823 : Index := 0#32
  ![0, v1310.toNat, 0]

def k0_chk101 (v1306 : BitVec 32) : Prop :=
  (8 ∣ (k0_mult102 v1306).toNat) ∧
  (∀ a, (k0_off122 v1306) a + S1x8x1024.size a ≤ S1x2048x1024.size a)
theorem k0_mult102_dvd : ∀ (v1306 : BitVec 32) (k0_hw101 : k0_chk101 v1306), 8 ∣ (k0_mult102 v1306).toNat := fun v1306 k0_hw101 => k0_hw101.1
theorem k0_off122_inb : ∀ (v1306 : BitVec 32) (k0_hw101 : k0_chk101 v1306), ∀ a, (k0_off122 v1306) a + S1x8x1024.size a ≤ S1x2048x1024.size a := fun v1306 k0_hw101 => k0_hw101.2

def k0_mult103 (v1319 : BitVec 32) : BitVec 32 :=
  let c7_i32_829 : BitVec 32 := 7#32
  let v1320 : BitVec 32 := Scalar.andi v1319 c7_i32_829
  let v1321 : BitVec 32 := Scalar.subi v1319 v1320
  v1321

def k0_off123 (v1319 : BitVec 32) : Fin 3 → Nat :=
  let c0_830 : Index := 0#32
  let c7_i32_829 : BitVec 32 := 7#32
  let v1320 : BitVec 32 := Scalar.andi v1319 c7_i32_829
  let v1321 : BitVec 32 := Scalar.subi v1319 v1320
  let v1322 : BitVec 32 := v1321
  let v1323 : Index := Scalar.indexCast v1322
  let c0_831 : Index := 0#32
  ![0, v1323.toNat, 0]

def k0_chk102 (v1319 : BitVec 32) : Prop :=
  (8 ∣ (k0_mult103 v1319).toNat) ∧
  (∀ a, (k0_off123 v1319) a + S1x8x1024.size a ≤ S1x2048x1024.size a)
theorem k0_mult103_dvd : ∀ (v1319 : BitVec 32) (k0_hw102 : k0_chk102 v1319), 8 ∣ (k0_mult103 v1319).toNat := fun v1319 k0_hw102 => k0_hw102.1
theorem k0_off123_inb : ∀ (v1319 : BitVec 32) (k0_hw102 : k0_chk102 v1319), ∀ a, (k0_off123 v1319) a + S1x8x1024.size a ≤ S1x2048x1024.size a := fun v1319 k0_hw102 => k0_hw102.2

def k0_mult104 (v1332 : BitVec 32) : BitVec 32 :=
  let c7_i32_837 : BitVec 32 := 7#32
  let v1333 : BitVec 32 := Scalar.andi v1332 c7_i32_837
  let v1334 : BitVec 32 := Scalar.subi v1332 v1333
  v1334

def k0_off124 (v1332 : BitVec 32) : Fin 3 → Nat :=
  let c0_838 : Index := 0#32
  let c7_i32_837 : BitVec 32 := 7#32
  let v1333 : BitVec 32 := Scalar.andi v1332 c7_i32_837
  let v1334 : BitVec 32 := Scalar.subi v1332 v1333
  let v1335 : BitVec 32 := v1334
  let v1336 : Index := Scalar.indexCast v1335
  let c0_839 : Index := 0#32
  ![0, v1336.toNat, 0]

def k0_chk103 (v1332 : BitVec 32) : Prop :=
  (8 ∣ (k0_mult104 v1332).toNat) ∧
  (∀ a, (k0_off124 v1332) a + S1x8x1024.size a ≤ S1x2048x1024.size a)
theorem k0_mult104_dvd : ∀ (v1332 : BitVec 32) (k0_hw103 : k0_chk103 v1332), 8 ∣ (k0_mult104 v1332).toNat := fun v1332 k0_hw103 => k0_hw103.1
theorem k0_off124_inb : ∀ (v1332 : BitVec 32) (k0_hw103 : k0_chk103 v1332), ∀ a, (k0_off124 v1332) a + S1x8x1024.size a ≤ S1x2048x1024.size a := fun v1332 k0_hw103 => k0_hw103.2

def k0_mult105 (v1345 : BitVec 32) : BitVec 32 :=
  let c7_i32_845 : BitVec 32 := 7#32
  let v1346 : BitVec 32 := Scalar.andi v1345 c7_i32_845
  let v1347 : BitVec 32 := Scalar.subi v1345 v1346
  v1347

def k0_off125 (v1345 : BitVec 32) : Fin 3 → Nat :=
  let c0_846 : Index := 0#32
  let c7_i32_845 : BitVec 32 := 7#32
  let v1346 : BitVec 32 := Scalar.andi v1345 c7_i32_845
  let v1347 : BitVec 32 := Scalar.subi v1345 v1346
  let v1348 : BitVec 32 := v1347
  let v1349 : Index := Scalar.indexCast v1348
  let c0_847 : Index := 0#32
  ![0, v1349.toNat, 0]

def k0_chk104 (v1345 : BitVec 32) : Prop :=
  (8 ∣ (k0_mult105 v1345).toNat) ∧
  (∀ a, (k0_off125 v1345) a + S1x8x1024.size a ≤ S1x2048x1024.size a)
theorem k0_mult105_dvd : ∀ (v1345 : BitVec 32) (k0_hw104 : k0_chk104 v1345), 8 ∣ (k0_mult105 v1345).toNat := fun v1345 k0_hw104 => k0_hw104.1
theorem k0_off125_inb : ∀ (v1345 : BitVec 32) (k0_hw104 : k0_chk104 v1345), ∀ a, (k0_off125 v1345) a + S1x8x1024.size a ≤ S1x2048x1024.size a := fun v1345 k0_hw104 => k0_hw104.2

def k0_off126 (i : grid0.Coords) : Fin 3 → Nat :=
  let c1_i32_785 : BitVec 32 := 1#32
  let arg1 : BitVec 32 := BitVec.ofNat 32 (i 1).val
  let c1_i32 : BitVec 32 := 1#32
  let v1 : BitVec 32 := Scalar.andi arg1 c1_i32
  let v1252 : BitVec 32 := Scalar.subi c1_i32_785 v1
  let c0_i32_851 : BitVec 32 := 0#32
  let c0_i32_852 : BitVec 32 := 0#32
  ![v1252.toNat, 0, 0]
def k0_mult106 (v1365 : BitVec 32) : BitVec 32 :=
  let c7_i32_859 : BitVec 32 := 7#32
  let v1366 : BitVec 32 := Scalar.andi v1365 c7_i32_859
  let v1367 : BitVec 32 := Scalar.subi v1365 v1366
  v1367

def k0_off127 (v1365 : BitVec 32) : Fin 3 → Nat :=
  let c0_860 : Index := 0#32
  let c7_i32_859 : BitVec 32 := 7#32
  let v1366 : BitVec 32 := Scalar.andi v1365 c7_i32_859
  let v1367 : BitVec 32 := Scalar.subi v1365 v1366
  let v1368 : BitVec 32 := v1367
  let v1369 : Index := Scalar.indexCast v1368
  let c0_861 : Index := 0#32
  ![0, v1369.toNat, 0]

def k0_chk105 (v1365 : BitVec 32) : Prop :=
  (8 ∣ (k0_mult106 v1365).toNat) ∧
  (∀ a, (k0_off127 v1365) a + S1x8x1024.size a ≤ S1x2048x1024.size a)
theorem k0_mult106_dvd : ∀ (v1365 : BitVec 32) (k0_hw105 : k0_chk105 v1365), 8 ∣ (k0_mult106 v1365).toNat := fun v1365 k0_hw105 => k0_hw105.1
theorem k0_off127_inb : ∀ (v1365 : BitVec 32) (k0_hw105 : k0_chk105 v1365), ∀ a, (k0_off127 v1365) a + S1x8x1024.size a ≤ S1x2048x1024.size a := fun v1365 k0_hw105 => k0_hw105.2

def k0_mult107 (v1378 : BitVec 32) : BitVec 32 :=
  let c7_i32_867 : BitVec 32 := 7#32
  let v1379 : BitVec 32 := Scalar.andi v1378 c7_i32_867
  let v1380 : BitVec 32 := Scalar.subi v1378 v1379
  v1380

def k0_off128 (v1378 : BitVec 32) : Fin 3 → Nat :=
  let c0_868 : Index := 0#32
  let c7_i32_867 : BitVec 32 := 7#32
  let v1379 : BitVec 32 := Scalar.andi v1378 c7_i32_867
  let v1380 : BitVec 32 := Scalar.subi v1378 v1379
  let v1381 : BitVec 32 := v1380
  let v1382 : Index := Scalar.indexCast v1381
  let c0_869 : Index := 0#32
  ![0, v1382.toNat, 0]

def k0_chk106 (v1378 : BitVec 32) : Prop :=
  (8 ∣ (k0_mult107 v1378).toNat) ∧
  (∀ a, (k0_off128 v1378) a + S1x8x1024.size a ≤ S1x2048x1024.size a)
theorem k0_mult107_dvd : ∀ (v1378 : BitVec 32) (k0_hw106 : k0_chk106 v1378), 8 ∣ (k0_mult107 v1378).toNat := fun v1378 k0_hw106 => k0_hw106.1
theorem k0_off128_inb : ∀ (v1378 : BitVec 32) (k0_hw106 : k0_chk106 v1378), ∀ a, (k0_off128 v1378) a + S1x8x1024.size a ≤ S1x2048x1024.size a := fun v1378 k0_hw106 => k0_hw106.2

def k0_mult108 (v1391 : BitVec 32) : BitVec 32 :=
  let c7_i32_875 : BitVec 32 := 7#32
  let v1392 : BitVec 32 := Scalar.andi v1391 c7_i32_875
  let v1393 : BitVec 32 := Scalar.subi v1391 v1392
  v1393

def k0_off129 (v1391 : BitVec 32) : Fin 3 → Nat :=
  let c0_876 : Index := 0#32
  let c7_i32_875 : BitVec 32 := 7#32
  let v1392 : BitVec 32 := Scalar.andi v1391 c7_i32_875
  let v1393 : BitVec 32 := Scalar.subi v1391 v1392
  let v1394 : BitVec 32 := v1393
  let v1395 : Index := Scalar.indexCast v1394
  let c0_877 : Index := 0#32
  ![0, v1395.toNat, 0]

def k0_chk107 (v1391 : BitVec 32) : Prop :=
  (8 ∣ (k0_mult108 v1391).toNat) ∧
  (∀ a, (k0_off129 v1391) a + S1x8x1024.size a ≤ S1x2048x1024.size a)
theorem k0_mult108_dvd : ∀ (v1391 : BitVec 32) (k0_hw107 : k0_chk107 v1391), 8 ∣ (k0_mult108 v1391).toNat := fun v1391 k0_hw107 => k0_hw107.1
theorem k0_off129_inb : ∀ (v1391 : BitVec 32) (k0_hw107 : k0_chk107 v1391), ∀ a, (k0_off129 v1391) a + S1x8x1024.size a ≤ S1x2048x1024.size a := fun v1391 k0_hw107 => k0_hw107.2

def k0_mult109 (v1404 : BitVec 32) : BitVec 32 :=
  let c7_i32_883 : BitVec 32 := 7#32
  let v1405 : BitVec 32 := Scalar.andi v1404 c7_i32_883
  let v1406 : BitVec 32 := Scalar.subi v1404 v1405
  v1406

def k0_off130 (v1404 : BitVec 32) : Fin 3 → Nat :=
  let c0_884 : Index := 0#32
  let c7_i32_883 : BitVec 32 := 7#32
  let v1405 : BitVec 32 := Scalar.andi v1404 c7_i32_883
  let v1406 : BitVec 32 := Scalar.subi v1404 v1405
  let v1407 : BitVec 32 := v1406
  let v1408 : Index := Scalar.indexCast v1407
  let c0_885 : Index := 0#32
  ![0, v1408.toNat, 0]

def k0_chk108 (v1404 : BitVec 32) : Prop :=
  (8 ∣ (k0_mult109 v1404).toNat) ∧
  (∀ a, (k0_off130 v1404) a + S1x8x1024.size a ≤ S1x2048x1024.size a)
theorem k0_mult109_dvd : ∀ (v1404 : BitVec 32) (k0_hw108 : k0_chk108 v1404), 8 ∣ (k0_mult109 v1404).toNat := fun v1404 k0_hw108 => k0_hw108.1
theorem k0_off130_inb : ∀ (v1404 : BitVec 32) (k0_hw108 : k0_chk108 v1404), ∀ a, (k0_off130 v1404) a + S1x8x1024.size a ≤ S1x2048x1024.size a := fun v1404 k0_hw108 => k0_hw108.2

def k0_mult110 (v1417 : BitVec 32) : BitVec 32 :=
  let c7_i32_891 : BitVec 32 := 7#32
  let v1418 : BitVec 32 := Scalar.andi v1417 c7_i32_891
  let v1419 : BitVec 32 := Scalar.subi v1417 v1418
  v1419

def k0_off131 (v1417 : BitVec 32) : Fin 3 → Nat :=
  let c0_892 : Index := 0#32
  let c7_i32_891 : BitVec 32 := 7#32
  let v1418 : BitVec 32 := Scalar.andi v1417 c7_i32_891
  let v1419 : BitVec 32 := Scalar.subi v1417 v1418
  let v1420 : BitVec 32 := v1419
  let v1421 : Index := Scalar.indexCast v1420
  let c0_893 : Index := 0#32
  ![0, v1421.toNat, 0]

def k0_chk109 (v1417 : BitVec 32) : Prop :=
  (8 ∣ (k0_mult110 v1417).toNat) ∧
  (∀ a, (k0_off131 v1417) a + S1x8x1024.size a ≤ S1x2048x1024.size a)
theorem k0_mult110_dvd : ∀ (v1417 : BitVec 32) (k0_hw109 : k0_chk109 v1417), 8 ∣ (k0_mult110 v1417).toNat := fun v1417 k0_hw109 => k0_hw109.1
theorem k0_off131_inb : ∀ (v1417 : BitVec 32) (k0_hw109 : k0_chk109 v1417), ∀ a, (k0_off131 v1417) a + S1x8x1024.size a ≤ S1x2048x1024.size a := fun v1417 k0_hw109 => k0_hw109.2

def k0_mult111 (v1430 : BitVec 32) : BitVec 32 :=
  let c7_i32_899 : BitVec 32 := 7#32
  let v1431 : BitVec 32 := Scalar.andi v1430 c7_i32_899
  let v1432 : BitVec 32 := Scalar.subi v1430 v1431
  v1432

def k0_off132 (v1430 : BitVec 32) : Fin 3 → Nat :=
  let c0_900 : Index := 0#32
  let c7_i32_899 : BitVec 32 := 7#32
  let v1431 : BitVec 32 := Scalar.andi v1430 c7_i32_899
  let v1432 : BitVec 32 := Scalar.subi v1430 v1431
  let v1433 : BitVec 32 := v1432
  let v1434 : Index := Scalar.indexCast v1433
  let c0_901 : Index := 0#32
  ![0, v1434.toNat, 0]

def k0_chk110 (v1430 : BitVec 32) : Prop :=
  (8 ∣ (k0_mult111 v1430).toNat) ∧
  (∀ a, (k0_off132 v1430) a + S1x8x1024.size a ≤ S1x2048x1024.size a)
theorem k0_mult111_dvd : ∀ (v1430 : BitVec 32) (k0_hw110 : k0_chk110 v1430), 8 ∣ (k0_mult111 v1430).toNat := fun v1430 k0_hw110 => k0_hw110.1
theorem k0_off132_inb : ∀ (v1430 : BitVec 32) (k0_hw110 : k0_chk110 v1430), ∀ a, (k0_off132 v1430) a + S1x8x1024.size a ≤ S1x2048x1024.size a := fun v1430 k0_hw110 => k0_hw110.2

def k0_mult112 (v1443 : BitVec 32) : BitVec 32 :=
  let c7_i32_907 : BitVec 32 := 7#32
  let v1444 : BitVec 32 := Scalar.andi v1443 c7_i32_907
  let v1445 : BitVec 32 := Scalar.subi v1443 v1444
  v1445

def k0_off133 (v1443 : BitVec 32) : Fin 3 → Nat :=
  let c0_908 : Index := 0#32
  let c7_i32_907 : BitVec 32 := 7#32
  let v1444 : BitVec 32 := Scalar.andi v1443 c7_i32_907
  let v1445 : BitVec 32 := Scalar.subi v1443 v1444
  let v1446 : BitVec 32 := v1445
  let v1447 : Index := Scalar.indexCast v1446
  let c0_909 : Index := 0#32
  ![0, v1447.toNat, 0]

def k0_chk111 (v1443 : BitVec 32) : Prop :=
  (8 ∣ (k0_mult112 v1443).toNat) ∧
  (∀ a, (k0_off133 v1443) a + S1x8x1024.size a ≤ S1x2048x1024.size a)
theorem k0_mult112_dvd : ∀ (v1443 : BitVec 32) (k0_hw111 : k0_chk111 v1443), 8 ∣ (k0_mult112 v1443).toNat := fun v1443 k0_hw111 => k0_hw111.1
theorem k0_off133_inb : ∀ (v1443 : BitVec 32) (k0_hw111 : k0_chk111 v1443), ∀ a, (k0_off133 v1443) a + S1x8x1024.size a ≤ S1x2048x1024.size a := fun v1443 k0_hw111 => k0_hw111.2

def k0_mult113 (v1456 : BitVec 32) : BitVec 32 :=
  let c7_i32_915 : BitVec 32 := 7#32
  let v1457 : BitVec 32 := Scalar.andi v1456 c7_i32_915
  let v1458 : BitVec 32 := Scalar.subi v1456 v1457
  v1458

def k0_off134 (v1456 : BitVec 32) : Fin 3 → Nat :=
  let c0_916 : Index := 0#32
  let c7_i32_915 : BitVec 32 := 7#32
  let v1457 : BitVec 32 := Scalar.andi v1456 c7_i32_915
  let v1458 : BitVec 32 := Scalar.subi v1456 v1457
  let v1459 : BitVec 32 := v1458
  let v1460 : Index := Scalar.indexCast v1459
  let c0_917 : Index := 0#32
  ![0, v1460.toNat, 0]

def k0_chk112 (v1456 : BitVec 32) : Prop :=
  (8 ∣ (k0_mult113 v1456).toNat) ∧
  (∀ a, (k0_off134 v1456) a + S1x8x1024.size a ≤ S1x2048x1024.size a)
theorem k0_mult113_dvd : ∀ (v1456 : BitVec 32) (k0_hw112 : k0_chk112 v1456), 8 ∣ (k0_mult113 v1456).toNat := fun v1456 k0_hw112 => k0_hw112.1
theorem k0_off134_inb : ∀ (v1456 : BitVec 32) (k0_hw112 : k0_chk112 v1456), ∀ a, (k0_off134 v1456) a + S1x8x1024.size a ≤ S1x2048x1024.size a := fun v1456 k0_hw112 => k0_hw112.2

def k0_off135 (i : grid0.Coords) : Fin 3 → Nat :=
  let c1_i32_855 : BitVec 32 := 1#32
  let arg1 : BitVec 32 := BitVec.ofNat 32 (i 1).val
  let c1_i32 : BitVec 32 := 1#32
  let v1 : BitVec 32 := Scalar.andi arg1 c1_i32
  let v1363 : BitVec 32 := Scalar.subi c1_i32_855 v1
  let c0_i32_921 : BitVec 32 := 0#32
  let c0_i32_922 : BitVec 32 := 0#32
  ![v1363.toNat, 0, 0]
def k0_mult114 (v1476 : BitVec 32) : BitVec 32 :=
  let c7_i32_929 : BitVec 32 := 7#32
  let v1477 : BitVec 32 := Scalar.andi v1476 c7_i32_929
  let v1478 : BitVec 32 := Scalar.subi v1476 v1477
  v1478

def k0_off136 (v1476 : BitVec 32) : Fin 3 → Nat :=
  let c0_930 : Index := 0#32
  let c7_i32_929 : BitVec 32 := 7#32
  let v1477 : BitVec 32 := Scalar.andi v1476 c7_i32_929
  let v1478 : BitVec 32 := Scalar.subi v1476 v1477
  let v1479 : BitVec 32 := v1478
  let v1480 : Index := Scalar.indexCast v1479
  let c0_931 : Index := 0#32
  ![0, v1480.toNat, 0]

def k0_chk113 (v1476 : BitVec 32) : Prop :=
  (8 ∣ (k0_mult114 v1476).toNat) ∧
  (∀ a, (k0_off136 v1476) a + S1x8x1024.size a ≤ S1x2048x1024.size a)
theorem k0_mult114_dvd : ∀ (v1476 : BitVec 32) (k0_hw113 : k0_chk113 v1476), 8 ∣ (k0_mult114 v1476).toNat := fun v1476 k0_hw113 => k0_hw113.1
theorem k0_off136_inb : ∀ (v1476 : BitVec 32) (k0_hw113 : k0_chk113 v1476), ∀ a, (k0_off136 v1476) a + S1x8x1024.size a ≤ S1x2048x1024.size a := fun v1476 k0_hw113 => k0_hw113.2

def k0_mult115 (v1489 : BitVec 32) : BitVec 32 :=
  let c7_i32_937 : BitVec 32 := 7#32
  let v1490 : BitVec 32 := Scalar.andi v1489 c7_i32_937
  let v1491 : BitVec 32 := Scalar.subi v1489 v1490
  v1491

def k0_off137 (v1489 : BitVec 32) : Fin 3 → Nat :=
  let c0_938 : Index := 0#32
  let c7_i32_937 : BitVec 32 := 7#32
  let v1490 : BitVec 32 := Scalar.andi v1489 c7_i32_937
  let v1491 : BitVec 32 := Scalar.subi v1489 v1490
  let v1492 : BitVec 32 := v1491
  let v1493 : Index := Scalar.indexCast v1492
  let c0_939 : Index := 0#32
  ![0, v1493.toNat, 0]

def k0_chk114 (v1489 : BitVec 32) : Prop :=
  (8 ∣ (k0_mult115 v1489).toNat) ∧
  (∀ a, (k0_off137 v1489) a + S1x8x1024.size a ≤ S1x2048x1024.size a)
theorem k0_mult115_dvd : ∀ (v1489 : BitVec 32) (k0_hw114 : k0_chk114 v1489), 8 ∣ (k0_mult115 v1489).toNat := fun v1489 k0_hw114 => k0_hw114.1
theorem k0_off137_inb : ∀ (v1489 : BitVec 32) (k0_hw114 : k0_chk114 v1489), ∀ a, (k0_off137 v1489) a + S1x8x1024.size a ≤ S1x2048x1024.size a := fun v1489 k0_hw114 => k0_hw114.2

def k0_mult116 (v1502 : BitVec 32) : BitVec 32 :=
  let c7_i32_945 : BitVec 32 := 7#32
  let v1503 : BitVec 32 := Scalar.andi v1502 c7_i32_945
  let v1504 : BitVec 32 := Scalar.subi v1502 v1503
  v1504

def k0_off138 (v1502 : BitVec 32) : Fin 3 → Nat :=
  let c0_946 : Index := 0#32
  let c7_i32_945 : BitVec 32 := 7#32
  let v1503 : BitVec 32 := Scalar.andi v1502 c7_i32_945
  let v1504 : BitVec 32 := Scalar.subi v1502 v1503
  let v1505 : BitVec 32 := v1504
  let v1506 : Index := Scalar.indexCast v1505
  let c0_947 : Index := 0#32
  ![0, v1506.toNat, 0]

def k0_chk115 (v1502 : BitVec 32) : Prop :=
  (8 ∣ (k0_mult116 v1502).toNat) ∧
  (∀ a, (k0_off138 v1502) a + S1x8x1024.size a ≤ S1x2048x1024.size a)
theorem k0_mult116_dvd : ∀ (v1502 : BitVec 32) (k0_hw115 : k0_chk115 v1502), 8 ∣ (k0_mult116 v1502).toNat := fun v1502 k0_hw115 => k0_hw115.1
theorem k0_off138_inb : ∀ (v1502 : BitVec 32) (k0_hw115 : k0_chk115 v1502), ∀ a, (k0_off138 v1502) a + S1x8x1024.size a ≤ S1x2048x1024.size a := fun v1502 k0_hw115 => k0_hw115.2

def k0_mult117 (v1515 : BitVec 32) : BitVec 32 :=
  let c7_i32_953 : BitVec 32 := 7#32
  let v1516 : BitVec 32 := Scalar.andi v1515 c7_i32_953
  let v1517 : BitVec 32 := Scalar.subi v1515 v1516
  v1517

def k0_off139 (v1515 : BitVec 32) : Fin 3 → Nat :=
  let c0_954 : Index := 0#32
  let c7_i32_953 : BitVec 32 := 7#32
  let v1516 : BitVec 32 := Scalar.andi v1515 c7_i32_953
  let v1517 : BitVec 32 := Scalar.subi v1515 v1516
  let v1518 : BitVec 32 := v1517
  let v1519 : Index := Scalar.indexCast v1518
  let c0_955 : Index := 0#32
  ![0, v1519.toNat, 0]

def k0_chk116 (v1515 : BitVec 32) : Prop :=
  (8 ∣ (k0_mult117 v1515).toNat) ∧
  (∀ a, (k0_off139 v1515) a + S1x8x1024.size a ≤ S1x2048x1024.size a)
theorem k0_mult117_dvd : ∀ (v1515 : BitVec 32) (k0_hw116 : k0_chk116 v1515), 8 ∣ (k0_mult117 v1515).toNat := fun v1515 k0_hw116 => k0_hw116.1
theorem k0_off139_inb : ∀ (v1515 : BitVec 32) (k0_hw116 : k0_chk116 v1515), ∀ a, (k0_off139 v1515) a + S1x8x1024.size a ≤ S1x2048x1024.size a := fun v1515 k0_hw116 => k0_hw116.2

def k0_mult118 (v1528 : BitVec 32) : BitVec 32 :=
  let c7_i32_961 : BitVec 32 := 7#32
  let v1529 : BitVec 32 := Scalar.andi v1528 c7_i32_961
  let v1530 : BitVec 32 := Scalar.subi v1528 v1529
  v1530

def k0_off140 (v1528 : BitVec 32) : Fin 3 → Nat :=
  let c0_962 : Index := 0#32
  let c7_i32_961 : BitVec 32 := 7#32
  let v1529 : BitVec 32 := Scalar.andi v1528 c7_i32_961
  let v1530 : BitVec 32 := Scalar.subi v1528 v1529
  let v1531 : BitVec 32 := v1530
  let v1532 : Index := Scalar.indexCast v1531
  let c0_963 : Index := 0#32
  ![0, v1532.toNat, 0]

def k0_chk117 (v1528 : BitVec 32) : Prop :=
  (8 ∣ (k0_mult118 v1528).toNat) ∧
  (∀ a, (k0_off140 v1528) a + S1x8x1024.size a ≤ S1x2048x1024.size a)
theorem k0_mult118_dvd : ∀ (v1528 : BitVec 32) (k0_hw117 : k0_chk117 v1528), 8 ∣ (k0_mult118 v1528).toNat := fun v1528 k0_hw117 => k0_hw117.1
theorem k0_off140_inb : ∀ (v1528 : BitVec 32) (k0_hw117 : k0_chk117 v1528), ∀ a, (k0_off140 v1528) a + S1x8x1024.size a ≤ S1x2048x1024.size a := fun v1528 k0_hw117 => k0_hw117.2

def k0_mult119 (v1541 : BitVec 32) : BitVec 32 :=
  let c7_i32_969 : BitVec 32 := 7#32
  let v1542 : BitVec 32 := Scalar.andi v1541 c7_i32_969
  let v1543 : BitVec 32 := Scalar.subi v1541 v1542
  v1543

def k0_off141 (v1541 : BitVec 32) : Fin 3 → Nat :=
  let c0_970 : Index := 0#32
  let c7_i32_969 : BitVec 32 := 7#32
  let v1542 : BitVec 32 := Scalar.andi v1541 c7_i32_969
  let v1543 : BitVec 32 := Scalar.subi v1541 v1542
  let v1544 : BitVec 32 := v1543
  let v1545 : Index := Scalar.indexCast v1544
  let c0_971 : Index := 0#32
  ![0, v1545.toNat, 0]

def k0_chk118 (v1541 : BitVec 32) : Prop :=
  (8 ∣ (k0_mult119 v1541).toNat) ∧
  (∀ a, (k0_off141 v1541) a + S1x8x1024.size a ≤ S1x2048x1024.size a)
theorem k0_mult119_dvd : ∀ (v1541 : BitVec 32) (k0_hw118 : k0_chk118 v1541), 8 ∣ (k0_mult119 v1541).toNat := fun v1541 k0_hw118 => k0_hw118.1
theorem k0_off141_inb : ∀ (v1541 : BitVec 32) (k0_hw118 : k0_chk118 v1541), ∀ a, (k0_off141 v1541) a + S1x8x1024.size a ≤ S1x2048x1024.size a := fun v1541 k0_hw118 => k0_hw118.2

def k0_mult120 (v1554 : BitVec 32) : BitVec 32 :=
  let c7_i32_977 : BitVec 32 := 7#32
  let v1555 : BitVec 32 := Scalar.andi v1554 c7_i32_977
  let v1556 : BitVec 32 := Scalar.subi v1554 v1555
  v1556

def k0_off142 (v1554 : BitVec 32) : Fin 3 → Nat :=
  let c0_978 : Index := 0#32
  let c7_i32_977 : BitVec 32 := 7#32
  let v1555 : BitVec 32 := Scalar.andi v1554 c7_i32_977
  let v1556 : BitVec 32 := Scalar.subi v1554 v1555
  let v1557 : BitVec 32 := v1556
  let v1558 : Index := Scalar.indexCast v1557
  let c0_979 : Index := 0#32
  ![0, v1558.toNat, 0]

def k0_chk119 (v1554 : BitVec 32) : Prop :=
  (8 ∣ (k0_mult120 v1554).toNat) ∧
  (∀ a, (k0_off142 v1554) a + S1x8x1024.size a ≤ S1x2048x1024.size a)
theorem k0_mult120_dvd : ∀ (v1554 : BitVec 32) (k0_hw119 : k0_chk119 v1554), 8 ∣ (k0_mult120 v1554).toNat := fun v1554 k0_hw119 => k0_hw119.1
theorem k0_off142_inb : ∀ (v1554 : BitVec 32) (k0_hw119 : k0_chk119 v1554), ∀ a, (k0_off142 v1554) a + S1x8x1024.size a ≤ S1x2048x1024.size a := fun v1554 k0_hw119 => k0_hw119.2

def k0_mult121 (v1567 : BitVec 32) : BitVec 32 :=
  let c7_i32_985 : BitVec 32 := 7#32
  let v1568 : BitVec 32 := Scalar.andi v1567 c7_i32_985
  let v1569 : BitVec 32 := Scalar.subi v1567 v1568
  v1569

def k0_off143 (v1567 : BitVec 32) : Fin 3 → Nat :=
  let c0_986 : Index := 0#32
  let c7_i32_985 : BitVec 32 := 7#32
  let v1568 : BitVec 32 := Scalar.andi v1567 c7_i32_985
  let v1569 : BitVec 32 := Scalar.subi v1567 v1568
  let v1570 : BitVec 32 := v1569
  let v1571 : Index := Scalar.indexCast v1570
  let c0_987 : Index := 0#32
  ![0, v1571.toNat, 0]

def k0_chk120 (v1567 : BitVec 32) : Prop :=
  (8 ∣ (k0_mult121 v1567).toNat) ∧
  (∀ a, (k0_off143 v1567) a + S1x8x1024.size a ≤ S1x2048x1024.size a)
theorem k0_mult121_dvd : ∀ (v1567 : BitVec 32) (k0_hw120 : k0_chk120 v1567), 8 ∣ (k0_mult121 v1567).toNat := fun v1567 k0_hw120 => k0_hw120.1
theorem k0_off143_inb : ∀ (v1567 : BitVec 32) (k0_hw120 : k0_chk120 v1567), ∀ a, (k0_off143 v1567) a + S1x8x1024.size a ≤ S1x2048x1024.size a := fun v1567 k0_hw120 => k0_hw120.2

def k0_off144 (i : grid0.Coords) : Fin 3 → Nat :=
  let c1_i32_925 : BitVec 32 := 1#32
  let arg1 : BitVec 32 := BitVec.ofNat 32 (i 1).val
  let c1_i32 : BitVec 32 := 1#32
  let v1 : BitVec 32 := Scalar.andi arg1 c1_i32
  let v1474 : BitVec 32 := Scalar.subi c1_i32_925 v1
  let c0_i32_991 : BitVec 32 := 0#32
  let c0_i32_992 : BitVec 32 := 0#32
  ![v1474.toNat, 0, 0]
def k0_mult122 (v1587 : BitVec 32) : BitVec 32 :=
  let c7_i32_999 : BitVec 32 := 7#32
  let v1588 : BitVec 32 := Scalar.andi v1587 c7_i32_999
  let v1589 : BitVec 32 := Scalar.subi v1587 v1588
  v1589

def k0_off145 (v1587 : BitVec 32) : Fin 3 → Nat :=
  let c0_1000 : Index := 0#32
  let c7_i32_999 : BitVec 32 := 7#32
  let v1588 : BitVec 32 := Scalar.andi v1587 c7_i32_999
  let v1589 : BitVec 32 := Scalar.subi v1587 v1588
  let v1590 : BitVec 32 := v1589
  let v1591 : Index := Scalar.indexCast v1590
  let c0_1001 : Index := 0#32
  ![0, v1591.toNat, 0]

def k0_chk121 (v1587 : BitVec 32) : Prop :=
  (8 ∣ (k0_mult122 v1587).toNat) ∧
  (∀ a, (k0_off145 v1587) a + S1x8x1024.size a ≤ S1x2048x1024.size a)
theorem k0_mult122_dvd : ∀ (v1587 : BitVec 32) (k0_hw121 : k0_chk121 v1587), 8 ∣ (k0_mult122 v1587).toNat := fun v1587 k0_hw121 => k0_hw121.1
theorem k0_off145_inb : ∀ (v1587 : BitVec 32) (k0_hw121 : k0_chk121 v1587), ∀ a, (k0_off145 v1587) a + S1x8x1024.size a ≤ S1x2048x1024.size a := fun v1587 k0_hw121 => k0_hw121.2

def k0_mult123 (v1600 : BitVec 32) : BitVec 32 :=
  let c7_i32_1007 : BitVec 32 := 7#32
  let v1601 : BitVec 32 := Scalar.andi v1600 c7_i32_1007
  let v1602 : BitVec 32 := Scalar.subi v1600 v1601
  v1602

def k0_off146 (v1600 : BitVec 32) : Fin 3 → Nat :=
  let c0_1008 : Index := 0#32
  let c7_i32_1007 : BitVec 32 := 7#32
  let v1601 : BitVec 32 := Scalar.andi v1600 c7_i32_1007
  let v1602 : BitVec 32 := Scalar.subi v1600 v1601
  let v1603 : BitVec 32 := v1602
  let v1604 : Index := Scalar.indexCast v1603
  let c0_1009 : Index := 0#32
  ![0, v1604.toNat, 0]

def k0_chk122 (v1600 : BitVec 32) : Prop :=
  (8 ∣ (k0_mult123 v1600).toNat) ∧
  (∀ a, (k0_off146 v1600) a + S1x8x1024.size a ≤ S1x2048x1024.size a)
theorem k0_mult123_dvd : ∀ (v1600 : BitVec 32) (k0_hw122 : k0_chk122 v1600), 8 ∣ (k0_mult123 v1600).toNat := fun v1600 k0_hw122 => k0_hw122.1
theorem k0_off146_inb : ∀ (v1600 : BitVec 32) (k0_hw122 : k0_chk122 v1600), ∀ a, (k0_off146 v1600) a + S1x8x1024.size a ≤ S1x2048x1024.size a := fun v1600 k0_hw122 => k0_hw122.2

def k0_mult124 (v1613 : BitVec 32) : BitVec 32 :=
  let c7_i32_1015 : BitVec 32 := 7#32
  let v1614 : BitVec 32 := Scalar.andi v1613 c7_i32_1015
  let v1615 : BitVec 32 := Scalar.subi v1613 v1614
  v1615

def k0_off147 (v1613 : BitVec 32) : Fin 3 → Nat :=
  let c0_1016 : Index := 0#32
  let c7_i32_1015 : BitVec 32 := 7#32
  let v1614 : BitVec 32 := Scalar.andi v1613 c7_i32_1015
  let v1615 : BitVec 32 := Scalar.subi v1613 v1614
  let v1616 : BitVec 32 := v1615
  let v1617 : Index := Scalar.indexCast v1616
  let c0_1017 : Index := 0#32
  ![0, v1617.toNat, 0]

def k0_chk123 (v1613 : BitVec 32) : Prop :=
  (8 ∣ (k0_mult124 v1613).toNat) ∧
  (∀ a, (k0_off147 v1613) a + S1x8x1024.size a ≤ S1x2048x1024.size a)
theorem k0_mult124_dvd : ∀ (v1613 : BitVec 32) (k0_hw123 : k0_chk123 v1613), 8 ∣ (k0_mult124 v1613).toNat := fun v1613 k0_hw123 => k0_hw123.1
theorem k0_off147_inb : ∀ (v1613 : BitVec 32) (k0_hw123 : k0_chk123 v1613), ∀ a, (k0_off147 v1613) a + S1x8x1024.size a ≤ S1x2048x1024.size a := fun v1613 k0_hw123 => k0_hw123.2

def k0_mult125 (v1626 : BitVec 32) : BitVec 32 :=
  let c7_i32_1023 : BitVec 32 := 7#32
  let v1627 : BitVec 32 := Scalar.andi v1626 c7_i32_1023
  let v1628 : BitVec 32 := Scalar.subi v1626 v1627
  v1628

def k0_off148 (v1626 : BitVec 32) : Fin 3 → Nat :=
  let c0_1024 : Index := 0#32
  let c7_i32_1023 : BitVec 32 := 7#32
  let v1627 : BitVec 32 := Scalar.andi v1626 c7_i32_1023
  let v1628 : BitVec 32 := Scalar.subi v1626 v1627
  let v1629 : BitVec 32 := v1628
  let v1630 : Index := Scalar.indexCast v1629
  let c0_1025 : Index := 0#32
  ![0, v1630.toNat, 0]

def k0_chk124 (v1626 : BitVec 32) : Prop :=
  (8 ∣ (k0_mult125 v1626).toNat) ∧
  (∀ a, (k0_off148 v1626) a + S1x8x1024.size a ≤ S1x2048x1024.size a)
theorem k0_mult125_dvd : ∀ (v1626 : BitVec 32) (k0_hw124 : k0_chk124 v1626), 8 ∣ (k0_mult125 v1626).toNat := fun v1626 k0_hw124 => k0_hw124.1
theorem k0_off148_inb : ∀ (v1626 : BitVec 32) (k0_hw124 : k0_chk124 v1626), ∀ a, (k0_off148 v1626) a + S1x8x1024.size a ≤ S1x2048x1024.size a := fun v1626 k0_hw124 => k0_hw124.2

def k0_mult126 (v1639 : BitVec 32) : BitVec 32 :=
  let c7_i32_1031 : BitVec 32 := 7#32
  let v1640 : BitVec 32 := Scalar.andi v1639 c7_i32_1031
  let v1641 : BitVec 32 := Scalar.subi v1639 v1640
  v1641

def k0_off149 (v1639 : BitVec 32) : Fin 3 → Nat :=
  let c0_1032 : Index := 0#32
  let c7_i32_1031 : BitVec 32 := 7#32
  let v1640 : BitVec 32 := Scalar.andi v1639 c7_i32_1031
  let v1641 : BitVec 32 := Scalar.subi v1639 v1640
  let v1642 : BitVec 32 := v1641
  let v1643 : Index := Scalar.indexCast v1642
  let c0_1033 : Index := 0#32
  ![0, v1643.toNat, 0]

def k0_chk125 (v1639 : BitVec 32) : Prop :=
  (8 ∣ (k0_mult126 v1639).toNat) ∧
  (∀ a, (k0_off149 v1639) a + S1x8x1024.size a ≤ S1x2048x1024.size a)
theorem k0_mult126_dvd : ∀ (v1639 : BitVec 32) (k0_hw125 : k0_chk125 v1639), 8 ∣ (k0_mult126 v1639).toNat := fun v1639 k0_hw125 => k0_hw125.1
theorem k0_off149_inb : ∀ (v1639 : BitVec 32) (k0_hw125 : k0_chk125 v1639), ∀ a, (k0_off149 v1639) a + S1x8x1024.size a ≤ S1x2048x1024.size a := fun v1639 k0_hw125 => k0_hw125.2

def k0_mult127 (v1652 : BitVec 32) : BitVec 32 :=
  let c7_i32_1039 : BitVec 32 := 7#32
  let v1653 : BitVec 32 := Scalar.andi v1652 c7_i32_1039
  let v1654 : BitVec 32 := Scalar.subi v1652 v1653
  v1654

def k0_off150 (v1652 : BitVec 32) : Fin 3 → Nat :=
  let c0_1040 : Index := 0#32
  let c7_i32_1039 : BitVec 32 := 7#32
  let v1653 : BitVec 32 := Scalar.andi v1652 c7_i32_1039
  let v1654 : BitVec 32 := Scalar.subi v1652 v1653
  let v1655 : BitVec 32 := v1654
  let v1656 : Index := Scalar.indexCast v1655
  let c0_1041 : Index := 0#32
  ![0, v1656.toNat, 0]

def k0_chk126 (v1652 : BitVec 32) : Prop :=
  (8 ∣ (k0_mult127 v1652).toNat) ∧
  (∀ a, (k0_off150 v1652) a + S1x8x1024.size a ≤ S1x2048x1024.size a)
theorem k0_mult127_dvd : ∀ (v1652 : BitVec 32) (k0_hw126 : k0_chk126 v1652), 8 ∣ (k0_mult127 v1652).toNat := fun v1652 k0_hw126 => k0_hw126.1
theorem k0_off150_inb : ∀ (v1652 : BitVec 32) (k0_hw126 : k0_chk126 v1652), ∀ a, (k0_off150 v1652) a + S1x8x1024.size a ≤ S1x2048x1024.size a := fun v1652 k0_hw126 => k0_hw126.2

def k0_mult128 (v1665 : BitVec 32) : BitVec 32 :=
  let c7_i32_1047 : BitVec 32 := 7#32
  let v1666 : BitVec 32 := Scalar.andi v1665 c7_i32_1047
  let v1667 : BitVec 32 := Scalar.subi v1665 v1666
  v1667

def k0_off151 (v1665 : BitVec 32) : Fin 3 → Nat :=
  let c0_1048 : Index := 0#32
  let c7_i32_1047 : BitVec 32 := 7#32
  let v1666 : BitVec 32 := Scalar.andi v1665 c7_i32_1047
  let v1667 : BitVec 32 := Scalar.subi v1665 v1666
  let v1668 : BitVec 32 := v1667
  let v1669 : Index := Scalar.indexCast v1668
  let c0_1049 : Index := 0#32
  ![0, v1669.toNat, 0]

def k0_chk127 (v1665 : BitVec 32) : Prop :=
  (8 ∣ (k0_mult128 v1665).toNat) ∧
  (∀ a, (k0_off151 v1665) a + S1x8x1024.size a ≤ S1x2048x1024.size a)
theorem k0_mult128_dvd : ∀ (v1665 : BitVec 32) (k0_hw127 : k0_chk127 v1665), 8 ∣ (k0_mult128 v1665).toNat := fun v1665 k0_hw127 => k0_hw127.1
theorem k0_off151_inb : ∀ (v1665 : BitVec 32) (k0_hw127 : k0_chk127 v1665), ∀ a, (k0_off151 v1665) a + S1x8x1024.size a ≤ S1x2048x1024.size a := fun v1665 k0_hw127 => k0_hw127.2

def k0_mult129 (v1678 : BitVec 32) : BitVec 32 :=
  let c7_i32_1055 : BitVec 32 := 7#32
  let v1679 : BitVec 32 := Scalar.andi v1678 c7_i32_1055
  let v1680 : BitVec 32 := Scalar.subi v1678 v1679
  v1680

def k0_off152 (v1678 : BitVec 32) : Fin 3 → Nat :=
  let c0_1056 : Index := 0#32
  let c7_i32_1055 : BitVec 32 := 7#32
  let v1679 : BitVec 32 := Scalar.andi v1678 c7_i32_1055
  let v1680 : BitVec 32 := Scalar.subi v1678 v1679
  let v1681 : BitVec 32 := v1680
  let v1682 : Index := Scalar.indexCast v1681
  let c0_1057 : Index := 0#32
  ![0, v1682.toNat, 0]

def k0_chk128 (v1678 : BitVec 32) : Prop :=
  (8 ∣ (k0_mult129 v1678).toNat) ∧
  (∀ a, (k0_off152 v1678) a + S1x8x1024.size a ≤ S1x2048x1024.size a)
theorem k0_mult129_dvd : ∀ (v1678 : BitVec 32) (k0_hw128 : k0_chk128 v1678), 8 ∣ (k0_mult129 v1678).toNat := fun v1678 k0_hw128 => k0_hw128.1
theorem k0_off152_inb : ∀ (v1678 : BitVec 32) (k0_hw128 : k0_chk128 v1678), ∀ a, (k0_off152 v1678) a + S1x8x1024.size a ≤ S1x2048x1024.size a := fun v1678 k0_hw128 => k0_hw128.2

def k0_off153 (i : grid0.Coords) : Fin 3 → Nat :=
  let c1_i32_995 : BitVec 32 := 1#32
  let arg1 : BitVec 32 := BitVec.ofNat 32 (i 1).val
  let c1_i32 : BitVec 32 := 1#32
  let v1 : BitVec 32 := Scalar.andi arg1 c1_i32
  let v1585 : BitVec 32 := Scalar.subi c1_i32_995 v1
  let c0_i32_1061 : BitVec 32 := 0#32
  let c0_i32_1062 : BitVec 32 := 0#32
  ![v1585.toNat, 0, 0]
def k0_mult130 (v1698 : BitVec 32) : BitVec 32 :=
  let c7_i32_1069 : BitVec 32 := 7#32
  let v1699 : BitVec 32 := Scalar.andi v1698 c7_i32_1069
  let v1700 : BitVec 32 := Scalar.subi v1698 v1699
  v1700

def k0_off154 (v1698 : BitVec 32) : Fin 3 → Nat :=
  let c0_1070 : Index := 0#32
  let c7_i32_1069 : BitVec 32 := 7#32
  let v1699 : BitVec 32 := Scalar.andi v1698 c7_i32_1069
  let v1700 : BitVec 32 := Scalar.subi v1698 v1699
  let v1701 : BitVec 32 := v1700
  let v1702 : Index := Scalar.indexCast v1701
  let c0_1071 : Index := 0#32
  ![0, v1702.toNat, 0]

def k0_chk129 (v1698 : BitVec 32) : Prop :=
  (8 ∣ (k0_mult130 v1698).toNat) ∧
  (∀ a, (k0_off154 v1698) a + S1x8x1024.size a ≤ S1x2048x1024.size a)
theorem k0_mult130_dvd : ∀ (v1698 : BitVec 32) (k0_hw129 : k0_chk129 v1698), 8 ∣ (k0_mult130 v1698).toNat := fun v1698 k0_hw129 => k0_hw129.1
theorem k0_off154_inb : ∀ (v1698 : BitVec 32) (k0_hw129 : k0_chk129 v1698), ∀ a, (k0_off154 v1698) a + S1x8x1024.size a ≤ S1x2048x1024.size a := fun v1698 k0_hw129 => k0_hw129.2

def k0_mult131 (v1711 : BitVec 32) : BitVec 32 :=
  let c7_i32_1077 : BitVec 32 := 7#32
  let v1712 : BitVec 32 := Scalar.andi v1711 c7_i32_1077
  let v1713 : BitVec 32 := Scalar.subi v1711 v1712
  v1713

def k0_off155 (v1711 : BitVec 32) : Fin 3 → Nat :=
  let c0_1078 : Index := 0#32
  let c7_i32_1077 : BitVec 32 := 7#32
  let v1712 : BitVec 32 := Scalar.andi v1711 c7_i32_1077
  let v1713 : BitVec 32 := Scalar.subi v1711 v1712
  let v1714 : BitVec 32 := v1713
  let v1715 : Index := Scalar.indexCast v1714
  let c0_1079 : Index := 0#32
  ![0, v1715.toNat, 0]

def k0_chk130 (v1711 : BitVec 32) : Prop :=
  (8 ∣ (k0_mult131 v1711).toNat) ∧
  (∀ a, (k0_off155 v1711) a + S1x8x1024.size a ≤ S1x2048x1024.size a)
theorem k0_mult131_dvd : ∀ (v1711 : BitVec 32) (k0_hw130 : k0_chk130 v1711), 8 ∣ (k0_mult131 v1711).toNat := fun v1711 k0_hw130 => k0_hw130.1
theorem k0_off155_inb : ∀ (v1711 : BitVec 32) (k0_hw130 : k0_chk130 v1711), ∀ a, (k0_off155 v1711) a + S1x8x1024.size a ≤ S1x2048x1024.size a := fun v1711 k0_hw130 => k0_hw130.2

def k0_mult132 (v1724 : BitVec 32) : BitVec 32 :=
  let c7_i32_1085 : BitVec 32 := 7#32
  let v1725 : BitVec 32 := Scalar.andi v1724 c7_i32_1085
  let v1726 : BitVec 32 := Scalar.subi v1724 v1725
  v1726

def k0_off156 (v1724 : BitVec 32) : Fin 3 → Nat :=
  let c0_1086 : Index := 0#32
  let c7_i32_1085 : BitVec 32 := 7#32
  let v1725 : BitVec 32 := Scalar.andi v1724 c7_i32_1085
  let v1726 : BitVec 32 := Scalar.subi v1724 v1725
  let v1727 : BitVec 32 := v1726
  let v1728 : Index := Scalar.indexCast v1727
  let c0_1087 : Index := 0#32
  ![0, v1728.toNat, 0]

def k0_chk131 (v1724 : BitVec 32) : Prop :=
  (8 ∣ (k0_mult132 v1724).toNat) ∧
  (∀ a, (k0_off156 v1724) a + S1x8x1024.size a ≤ S1x2048x1024.size a)
theorem k0_mult132_dvd : ∀ (v1724 : BitVec 32) (k0_hw131 : k0_chk131 v1724), 8 ∣ (k0_mult132 v1724).toNat := fun v1724 k0_hw131 => k0_hw131.1
theorem k0_off156_inb : ∀ (v1724 : BitVec 32) (k0_hw131 : k0_chk131 v1724), ∀ a, (k0_off156 v1724) a + S1x8x1024.size a ≤ S1x2048x1024.size a := fun v1724 k0_hw131 => k0_hw131.2

def k0_mult133 (v1737 : BitVec 32) : BitVec 32 :=
  let c7_i32_1093 : BitVec 32 := 7#32
  let v1738 : BitVec 32 := Scalar.andi v1737 c7_i32_1093
  let v1739 : BitVec 32 := Scalar.subi v1737 v1738
  v1739

def k0_off157 (v1737 : BitVec 32) : Fin 3 → Nat :=
  let c0_1094 : Index := 0#32
  let c7_i32_1093 : BitVec 32 := 7#32
  let v1738 : BitVec 32 := Scalar.andi v1737 c7_i32_1093
  let v1739 : BitVec 32 := Scalar.subi v1737 v1738
  let v1740 : BitVec 32 := v1739
  let v1741 : Index := Scalar.indexCast v1740
  let c0_1095 : Index := 0#32
  ![0, v1741.toNat, 0]

def k0_chk132 (v1737 : BitVec 32) : Prop :=
  (8 ∣ (k0_mult133 v1737).toNat) ∧
  (∀ a, (k0_off157 v1737) a + S1x8x1024.size a ≤ S1x2048x1024.size a)
theorem k0_mult133_dvd : ∀ (v1737 : BitVec 32) (k0_hw132 : k0_chk132 v1737), 8 ∣ (k0_mult133 v1737).toNat := fun v1737 k0_hw132 => k0_hw132.1
theorem k0_off157_inb : ∀ (v1737 : BitVec 32) (k0_hw132 : k0_chk132 v1737), ∀ a, (k0_off157 v1737) a + S1x8x1024.size a ≤ S1x2048x1024.size a := fun v1737 k0_hw132 => k0_hw132.2

def k0_mult134 (v1750 : BitVec 32) : BitVec 32 :=
  let c7_i32_1101 : BitVec 32 := 7#32
  let v1751 : BitVec 32 := Scalar.andi v1750 c7_i32_1101
  let v1752 : BitVec 32 := Scalar.subi v1750 v1751
  v1752

def k0_off158 (v1750 : BitVec 32) : Fin 3 → Nat :=
  let c0_1102 : Index := 0#32
  let c7_i32_1101 : BitVec 32 := 7#32
  let v1751 : BitVec 32 := Scalar.andi v1750 c7_i32_1101
  let v1752 : BitVec 32 := Scalar.subi v1750 v1751
  let v1753 : BitVec 32 := v1752
  let v1754 : Index := Scalar.indexCast v1753
  let c0_1103 : Index := 0#32
  ![0, v1754.toNat, 0]

def k0_chk133 (v1750 : BitVec 32) : Prop :=
  (8 ∣ (k0_mult134 v1750).toNat) ∧
  (∀ a, (k0_off158 v1750) a + S1x8x1024.size a ≤ S1x2048x1024.size a)
theorem k0_mult134_dvd : ∀ (v1750 : BitVec 32) (k0_hw133 : k0_chk133 v1750), 8 ∣ (k0_mult134 v1750).toNat := fun v1750 k0_hw133 => k0_hw133.1
theorem k0_off158_inb : ∀ (v1750 : BitVec 32) (k0_hw133 : k0_chk133 v1750), ∀ a, (k0_off158 v1750) a + S1x8x1024.size a ≤ S1x2048x1024.size a := fun v1750 k0_hw133 => k0_hw133.2

def k0_mult135 (v1763 : BitVec 32) : BitVec 32 :=
  let c7_i32_1109 : BitVec 32 := 7#32
  let v1764 : BitVec 32 := Scalar.andi v1763 c7_i32_1109
  let v1765 : BitVec 32 := Scalar.subi v1763 v1764
  v1765

def k0_off159 (v1763 : BitVec 32) : Fin 3 → Nat :=
  let c0_1110 : Index := 0#32
  let c7_i32_1109 : BitVec 32 := 7#32
  let v1764 : BitVec 32 := Scalar.andi v1763 c7_i32_1109
  let v1765 : BitVec 32 := Scalar.subi v1763 v1764
  let v1766 : BitVec 32 := v1765
  let v1767 : Index := Scalar.indexCast v1766
  let c0_1111 : Index := 0#32
  ![0, v1767.toNat, 0]

def k0_chk134 (v1763 : BitVec 32) : Prop :=
  (8 ∣ (k0_mult135 v1763).toNat) ∧
  (∀ a, (k0_off159 v1763) a + S1x8x1024.size a ≤ S1x2048x1024.size a)
theorem k0_mult135_dvd : ∀ (v1763 : BitVec 32) (k0_hw134 : k0_chk134 v1763), 8 ∣ (k0_mult135 v1763).toNat := fun v1763 k0_hw134 => k0_hw134.1
theorem k0_off159_inb : ∀ (v1763 : BitVec 32) (k0_hw134 : k0_chk134 v1763), ∀ a, (k0_off159 v1763) a + S1x8x1024.size a ≤ S1x2048x1024.size a := fun v1763 k0_hw134 => k0_hw134.2

def k0_mult136 (v1776 : BitVec 32) : BitVec 32 :=
  let c7_i32_1117 : BitVec 32 := 7#32
  let v1777 : BitVec 32 := Scalar.andi v1776 c7_i32_1117
  let v1778 : BitVec 32 := Scalar.subi v1776 v1777
  v1778

def k0_off160 (v1776 : BitVec 32) : Fin 3 → Nat :=
  let c0_1118 : Index := 0#32
  let c7_i32_1117 : BitVec 32 := 7#32
  let v1777 : BitVec 32 := Scalar.andi v1776 c7_i32_1117
  let v1778 : BitVec 32 := Scalar.subi v1776 v1777
  let v1779 : BitVec 32 := v1778
  let v1780 : Index := Scalar.indexCast v1779
  let c0_1119 : Index := 0#32
  ![0, v1780.toNat, 0]

def k0_chk135 (v1776 : BitVec 32) : Prop :=
  (8 ∣ (k0_mult136 v1776).toNat) ∧
  (∀ a, (k0_off160 v1776) a + S1x8x1024.size a ≤ S1x2048x1024.size a)
theorem k0_mult136_dvd : ∀ (v1776 : BitVec 32) (k0_hw135 : k0_chk135 v1776), 8 ∣ (k0_mult136 v1776).toNat := fun v1776 k0_hw135 => k0_hw135.1
theorem k0_off160_inb : ∀ (v1776 : BitVec 32) (k0_hw135 : k0_chk135 v1776), ∀ a, (k0_off160 v1776) a + S1x8x1024.size a ≤ S1x2048x1024.size a := fun v1776 k0_hw135 => k0_hw135.2

def k0_mult137 (v1789 : BitVec 32) : BitVec 32 :=
  let c7_i32_1125 : BitVec 32 := 7#32
  let v1790 : BitVec 32 := Scalar.andi v1789 c7_i32_1125
  let v1791 : BitVec 32 := Scalar.subi v1789 v1790
  v1791

def k0_off161 (v1789 : BitVec 32) : Fin 3 → Nat :=
  let c0_1126 : Index := 0#32
  let c7_i32_1125 : BitVec 32 := 7#32
  let v1790 : BitVec 32 := Scalar.andi v1789 c7_i32_1125
  let v1791 : BitVec 32 := Scalar.subi v1789 v1790
  let v1792 : BitVec 32 := v1791
  let v1793 : Index := Scalar.indexCast v1792
  let c0_1127 : Index := 0#32
  ![0, v1793.toNat, 0]

def k0_chk136 (v1789 : BitVec 32) : Prop :=
  (8 ∣ (k0_mult137 v1789).toNat) ∧
  (∀ a, (k0_off161 v1789) a + S1x8x1024.size a ≤ S1x2048x1024.size a)
theorem k0_mult137_dvd : ∀ (v1789 : BitVec 32) (k0_hw136 : k0_chk136 v1789), 8 ∣ (k0_mult137 v1789).toNat := fun v1789 k0_hw136 => k0_hw136.1
theorem k0_off161_inb : ∀ (v1789 : BitVec 32) (k0_hw136 : k0_chk136 v1789), ∀ a, (k0_off161 v1789) a + S1x8x1024.size a ≤ S1x2048x1024.size a := fun v1789 k0_hw136 => k0_hw136.2

def k0_off162 (i : grid0.Coords) : Fin 3 → Nat :=
  let c1_i32_1065 : BitVec 32 := 1#32
  let arg1 : BitVec 32 := BitVec.ofNat 32 (i 1).val
  let c1_i32 : BitVec 32 := 1#32
  let v1 : BitVec 32 := Scalar.andi arg1 c1_i32
  let v1696 : BitVec 32 := Scalar.subi c1_i32_1065 v1
  let c0_i32_1131 : BitVec 32 := 0#32
  let c0_i32_1132 : BitVec 32 := 0#32
  ![v1696.toNat, 0, 0]
def k0_mult138 (v1809 : BitVec 32) : BitVec 32 :=
  let c7_i32_1139 : BitVec 32 := 7#32
  let v1810 : BitVec 32 := Scalar.andi v1809 c7_i32_1139
  let v1811 : BitVec 32 := Scalar.subi v1809 v1810
  v1811

def k0_off163 (v1809 : BitVec 32) : Fin 3 → Nat :=
  let c0_1140 : Index := 0#32
  let c7_i32_1139 : BitVec 32 := 7#32
  let v1810 : BitVec 32 := Scalar.andi v1809 c7_i32_1139
  let v1811 : BitVec 32 := Scalar.subi v1809 v1810
  let v1812 : BitVec 32 := v1811
  let v1813 : Index := Scalar.indexCast v1812
  let c0_1141 : Index := 0#32
  ![0, v1813.toNat, 0]

def k0_chk137 (v1809 : BitVec 32) : Prop :=
  (8 ∣ (k0_mult138 v1809).toNat) ∧
  (∀ a, (k0_off163 v1809) a + S1x8x1024.size a ≤ S1x2048x1024.size a)
theorem k0_mult138_dvd : ∀ (v1809 : BitVec 32) (k0_hw137 : k0_chk137 v1809), 8 ∣ (k0_mult138 v1809).toNat := fun v1809 k0_hw137 => k0_hw137.1
theorem k0_off163_inb : ∀ (v1809 : BitVec 32) (k0_hw137 : k0_chk137 v1809), ∀ a, (k0_off163 v1809) a + S1x8x1024.size a ≤ S1x2048x1024.size a := fun v1809 k0_hw137 => k0_hw137.2

def k0_mult139 (v1822 : BitVec 32) : BitVec 32 :=
  let c7_i32_1147 : BitVec 32 := 7#32
  let v1823 : BitVec 32 := Scalar.andi v1822 c7_i32_1147
  let v1824 : BitVec 32 := Scalar.subi v1822 v1823
  v1824

def k0_off164 (v1822 : BitVec 32) : Fin 3 → Nat :=
  let c0_1148 : Index := 0#32
  let c7_i32_1147 : BitVec 32 := 7#32
  let v1823 : BitVec 32 := Scalar.andi v1822 c7_i32_1147
  let v1824 : BitVec 32 := Scalar.subi v1822 v1823
  let v1825 : BitVec 32 := v1824
  let v1826 : Index := Scalar.indexCast v1825
  let c0_1149 : Index := 0#32
  ![0, v1826.toNat, 0]

def k0_chk138 (v1822 : BitVec 32) : Prop :=
  (8 ∣ (k0_mult139 v1822).toNat) ∧
  (∀ a, (k0_off164 v1822) a + S1x8x1024.size a ≤ S1x2048x1024.size a)
theorem k0_mult139_dvd : ∀ (v1822 : BitVec 32) (k0_hw138 : k0_chk138 v1822), 8 ∣ (k0_mult139 v1822).toNat := fun v1822 k0_hw138 => k0_hw138.1
theorem k0_off164_inb : ∀ (v1822 : BitVec 32) (k0_hw138 : k0_chk138 v1822), ∀ a, (k0_off164 v1822) a + S1x8x1024.size a ≤ S1x2048x1024.size a := fun v1822 k0_hw138 => k0_hw138.2

def k0_mult140 (v1835 : BitVec 32) : BitVec 32 :=
  let c7_i32_1155 : BitVec 32 := 7#32
  let v1836 : BitVec 32 := Scalar.andi v1835 c7_i32_1155
  let v1837 : BitVec 32 := Scalar.subi v1835 v1836
  v1837

def k0_off165 (v1835 : BitVec 32) : Fin 3 → Nat :=
  let c0_1156 : Index := 0#32
  let c7_i32_1155 : BitVec 32 := 7#32
  let v1836 : BitVec 32 := Scalar.andi v1835 c7_i32_1155
  let v1837 : BitVec 32 := Scalar.subi v1835 v1836
  let v1838 : BitVec 32 := v1837
  let v1839 : Index := Scalar.indexCast v1838
  let c0_1157 : Index := 0#32
  ![0, v1839.toNat, 0]

def k0_chk139 (v1835 : BitVec 32) : Prop :=
  (8 ∣ (k0_mult140 v1835).toNat) ∧
  (∀ a, (k0_off165 v1835) a + S1x8x1024.size a ≤ S1x2048x1024.size a)
theorem k0_mult140_dvd : ∀ (v1835 : BitVec 32) (k0_hw139 : k0_chk139 v1835), 8 ∣ (k0_mult140 v1835).toNat := fun v1835 k0_hw139 => k0_hw139.1
theorem k0_off165_inb : ∀ (v1835 : BitVec 32) (k0_hw139 : k0_chk139 v1835), ∀ a, (k0_off165 v1835) a + S1x8x1024.size a ≤ S1x2048x1024.size a := fun v1835 k0_hw139 => k0_hw139.2

def k0_mult141 (v1848 : BitVec 32) : BitVec 32 :=
  let c7_i32_1163 : BitVec 32 := 7#32
  let v1849 : BitVec 32 := Scalar.andi v1848 c7_i32_1163
  let v1850 : BitVec 32 := Scalar.subi v1848 v1849
  v1850

def k0_off166 (v1848 : BitVec 32) : Fin 3 → Nat :=
  let c0_1164 : Index := 0#32
  let c7_i32_1163 : BitVec 32 := 7#32
  let v1849 : BitVec 32 := Scalar.andi v1848 c7_i32_1163
  let v1850 : BitVec 32 := Scalar.subi v1848 v1849
  let v1851 : BitVec 32 := v1850
  let v1852 : Index := Scalar.indexCast v1851
  let c0_1165 : Index := 0#32
  ![0, v1852.toNat, 0]

def k0_chk140 (v1848 : BitVec 32) : Prop :=
  (8 ∣ (k0_mult141 v1848).toNat) ∧
  (∀ a, (k0_off166 v1848) a + S1x8x1024.size a ≤ S1x2048x1024.size a)
theorem k0_mult141_dvd : ∀ (v1848 : BitVec 32) (k0_hw140 : k0_chk140 v1848), 8 ∣ (k0_mult141 v1848).toNat := fun v1848 k0_hw140 => k0_hw140.1
theorem k0_off166_inb : ∀ (v1848 : BitVec 32) (k0_hw140 : k0_chk140 v1848), ∀ a, (k0_off166 v1848) a + S1x8x1024.size a ≤ S1x2048x1024.size a := fun v1848 k0_hw140 => k0_hw140.2

def k0_mult142 (v1861 : BitVec 32) : BitVec 32 :=
  let c7_i32_1171 : BitVec 32 := 7#32
  let v1862 : BitVec 32 := Scalar.andi v1861 c7_i32_1171
  let v1863 : BitVec 32 := Scalar.subi v1861 v1862
  v1863

def k0_off167 (v1861 : BitVec 32) : Fin 3 → Nat :=
  let c0_1172 : Index := 0#32
  let c7_i32_1171 : BitVec 32 := 7#32
  let v1862 : BitVec 32 := Scalar.andi v1861 c7_i32_1171
  let v1863 : BitVec 32 := Scalar.subi v1861 v1862
  let v1864 : BitVec 32 := v1863
  let v1865 : Index := Scalar.indexCast v1864
  let c0_1173 : Index := 0#32
  ![0, v1865.toNat, 0]

def k0_chk141 (v1861 : BitVec 32) : Prop :=
  (8 ∣ (k0_mult142 v1861).toNat) ∧
  (∀ a, (k0_off167 v1861) a + S1x8x1024.size a ≤ S1x2048x1024.size a)
theorem k0_mult142_dvd : ∀ (v1861 : BitVec 32) (k0_hw141 : k0_chk141 v1861), 8 ∣ (k0_mult142 v1861).toNat := fun v1861 k0_hw141 => k0_hw141.1
theorem k0_off167_inb : ∀ (v1861 : BitVec 32) (k0_hw141 : k0_chk141 v1861), ∀ a, (k0_off167 v1861) a + S1x8x1024.size a ≤ S1x2048x1024.size a := fun v1861 k0_hw141 => k0_hw141.2

def k0_mult143 (v1874 : BitVec 32) : BitVec 32 :=
  let c7_i32_1179 : BitVec 32 := 7#32
  let v1875 : BitVec 32 := Scalar.andi v1874 c7_i32_1179
  let v1876 : BitVec 32 := Scalar.subi v1874 v1875
  v1876

def k0_off168 (v1874 : BitVec 32) : Fin 3 → Nat :=
  let c0_1180 : Index := 0#32
  let c7_i32_1179 : BitVec 32 := 7#32
  let v1875 : BitVec 32 := Scalar.andi v1874 c7_i32_1179
  let v1876 : BitVec 32 := Scalar.subi v1874 v1875
  let v1877 : BitVec 32 := v1876
  let v1878 : Index := Scalar.indexCast v1877
  let c0_1181 : Index := 0#32
  ![0, v1878.toNat, 0]

def k0_chk142 (v1874 : BitVec 32) : Prop :=
  (8 ∣ (k0_mult143 v1874).toNat) ∧
  (∀ a, (k0_off168 v1874) a + S1x8x1024.size a ≤ S1x2048x1024.size a)
theorem k0_mult143_dvd : ∀ (v1874 : BitVec 32) (k0_hw142 : k0_chk142 v1874), 8 ∣ (k0_mult143 v1874).toNat := fun v1874 k0_hw142 => k0_hw142.1
theorem k0_off168_inb : ∀ (v1874 : BitVec 32) (k0_hw142 : k0_chk142 v1874), ∀ a, (k0_off168 v1874) a + S1x8x1024.size a ≤ S1x2048x1024.size a := fun v1874 k0_hw142 => k0_hw142.2

def k0_mult144 (v1887 : BitVec 32) : BitVec 32 :=
  let c7_i32_1187 : BitVec 32 := 7#32
  let v1888 : BitVec 32 := Scalar.andi v1887 c7_i32_1187
  let v1889 : BitVec 32 := Scalar.subi v1887 v1888
  v1889

def k0_off169 (v1887 : BitVec 32) : Fin 3 → Nat :=
  let c0_1188 : Index := 0#32
  let c7_i32_1187 : BitVec 32 := 7#32
  let v1888 : BitVec 32 := Scalar.andi v1887 c7_i32_1187
  let v1889 : BitVec 32 := Scalar.subi v1887 v1888
  let v1890 : BitVec 32 := v1889
  let v1891 : Index := Scalar.indexCast v1890
  let c0_1189 : Index := 0#32
  ![0, v1891.toNat, 0]

def k0_chk143 (v1887 : BitVec 32) : Prop :=
  (8 ∣ (k0_mult144 v1887).toNat) ∧
  (∀ a, (k0_off169 v1887) a + S1x8x1024.size a ≤ S1x2048x1024.size a)
theorem k0_mult144_dvd : ∀ (v1887 : BitVec 32) (k0_hw143 : k0_chk143 v1887), 8 ∣ (k0_mult144 v1887).toNat := fun v1887 k0_hw143 => k0_hw143.1
theorem k0_off169_inb : ∀ (v1887 : BitVec 32) (k0_hw143 : k0_chk143 v1887), ∀ a, (k0_off169 v1887) a + S1x8x1024.size a ≤ S1x2048x1024.size a := fun v1887 k0_hw143 => k0_hw143.2

def k0_mult145 (v1900 : BitVec 32) : BitVec 32 :=
  let c7_i32_1195 : BitVec 32 := 7#32
  let v1901 : BitVec 32 := Scalar.andi v1900 c7_i32_1195
  let v1902 : BitVec 32 := Scalar.subi v1900 v1901
  v1902

def k0_off170 (v1900 : BitVec 32) : Fin 3 → Nat :=
  let c0_1196 : Index := 0#32
  let c7_i32_1195 : BitVec 32 := 7#32
  let v1901 : BitVec 32 := Scalar.andi v1900 c7_i32_1195
  let v1902 : BitVec 32 := Scalar.subi v1900 v1901
  let v1903 : BitVec 32 := v1902
  let v1904 : Index := Scalar.indexCast v1903
  let c0_1197 : Index := 0#32
  ![0, v1904.toNat, 0]

def k0_chk144 (v1900 : BitVec 32) : Prop :=
  (8 ∣ (k0_mult145 v1900).toNat) ∧
  (∀ a, (k0_off170 v1900) a + S1x8x1024.size a ≤ S1x2048x1024.size a)
theorem k0_mult145_dvd : ∀ (v1900 : BitVec 32) (k0_hw144 : k0_chk144 v1900), 8 ∣ (k0_mult145 v1900).toNat := fun v1900 k0_hw144 => k0_hw144.1
theorem k0_off170_inb : ∀ (v1900 : BitVec 32) (k0_hw144 : k0_chk144 v1900), ∀ a, (k0_off170 v1900) a + S1x8x1024.size a ≤ S1x2048x1024.size a := fun v1900 k0_hw144 => k0_hw144.2

def k0_off171 (i : grid0.Coords) : Fin 3 → Nat :=
  let c1_i32_1135 : BitVec 32 := 1#32
  let arg1 : BitVec 32 := BitVec.ofNat 32 (i 1).val
  let c1_i32 : BitVec 32 := 1#32
  let v1 : BitVec 32 := Scalar.andi arg1 c1_i32
  let v1807 : BitVec 32 := Scalar.subi c1_i32_1135 v1
  let c0_i32_1201 : BitVec 32 := 0#32
  let c0_i32_1202 : BitVec 32 := 0#32
  ![v1807.toNat, 0, 0]
def k0_mult146 (v1920 : BitVec 32) : BitVec 32 :=
  let c7_i32_1209 : BitVec 32 := 7#32
  let v1921 : BitVec 32 := Scalar.andi v1920 c7_i32_1209
  let v1922 : BitVec 32 := Scalar.subi v1920 v1921
  v1922

def k0_off172 (v1920 : BitVec 32) : Fin 3 → Nat :=
  let c0_1210 : Index := 0#32
  let c7_i32_1209 : BitVec 32 := 7#32
  let v1921 : BitVec 32 := Scalar.andi v1920 c7_i32_1209
  let v1922 : BitVec 32 := Scalar.subi v1920 v1921
  let v1923 : BitVec 32 := v1922
  let v1924 : Index := Scalar.indexCast v1923
  let c0_1211 : Index := 0#32
  ![0, v1924.toNat, 0]

def k0_chk145 (v1920 : BitVec 32) : Prop :=
  (8 ∣ (k0_mult146 v1920).toNat) ∧
  (∀ a, (k0_off172 v1920) a + S1x8x1024.size a ≤ S1x2048x1024.size a)
theorem k0_mult146_dvd : ∀ (v1920 : BitVec 32) (k0_hw145 : k0_chk145 v1920), 8 ∣ (k0_mult146 v1920).toNat := fun v1920 k0_hw145 => k0_hw145.1
theorem k0_off172_inb : ∀ (v1920 : BitVec 32) (k0_hw145 : k0_chk145 v1920), ∀ a, (k0_off172 v1920) a + S1x8x1024.size a ≤ S1x2048x1024.size a := fun v1920 k0_hw145 => k0_hw145.2

def k0_mult147 (v1933 : BitVec 32) : BitVec 32 :=
  let c7_i32_1217 : BitVec 32 := 7#32
  let v1934 : BitVec 32 := Scalar.andi v1933 c7_i32_1217
  let v1935 : BitVec 32 := Scalar.subi v1933 v1934
  v1935

def k0_off173 (v1933 : BitVec 32) : Fin 3 → Nat :=
  let c0_1218 : Index := 0#32
  let c7_i32_1217 : BitVec 32 := 7#32
  let v1934 : BitVec 32 := Scalar.andi v1933 c7_i32_1217
  let v1935 : BitVec 32 := Scalar.subi v1933 v1934
  let v1936 : BitVec 32 := v1935
  let v1937 : Index := Scalar.indexCast v1936
  let c0_1219 : Index := 0#32
  ![0, v1937.toNat, 0]

def k0_chk146 (v1933 : BitVec 32) : Prop :=
  (8 ∣ (k0_mult147 v1933).toNat) ∧
  (∀ a, (k0_off173 v1933) a + S1x8x1024.size a ≤ S1x2048x1024.size a)
theorem k0_mult147_dvd : ∀ (v1933 : BitVec 32) (k0_hw146 : k0_chk146 v1933), 8 ∣ (k0_mult147 v1933).toNat := fun v1933 k0_hw146 => k0_hw146.1
theorem k0_off173_inb : ∀ (v1933 : BitVec 32) (k0_hw146 : k0_chk146 v1933), ∀ a, (k0_off173 v1933) a + S1x8x1024.size a ≤ S1x2048x1024.size a := fun v1933 k0_hw146 => k0_hw146.2

def k0_mult148 (v1946 : BitVec 32) : BitVec 32 :=
  let c7_i32_1225 : BitVec 32 := 7#32
  let v1947 : BitVec 32 := Scalar.andi v1946 c7_i32_1225
  let v1948 : BitVec 32 := Scalar.subi v1946 v1947
  v1948

def k0_off174 (v1946 : BitVec 32) : Fin 3 → Nat :=
  let c0_1226 : Index := 0#32
  let c7_i32_1225 : BitVec 32 := 7#32
  let v1947 : BitVec 32 := Scalar.andi v1946 c7_i32_1225
  let v1948 : BitVec 32 := Scalar.subi v1946 v1947
  let v1949 : BitVec 32 := v1948
  let v1950 : Index := Scalar.indexCast v1949
  let c0_1227 : Index := 0#32
  ![0, v1950.toNat, 0]

def k0_chk147 (v1946 : BitVec 32) : Prop :=
  (8 ∣ (k0_mult148 v1946).toNat) ∧
  (∀ a, (k0_off174 v1946) a + S1x8x1024.size a ≤ S1x2048x1024.size a)
theorem k0_mult148_dvd : ∀ (v1946 : BitVec 32) (k0_hw147 : k0_chk147 v1946), 8 ∣ (k0_mult148 v1946).toNat := fun v1946 k0_hw147 => k0_hw147.1
theorem k0_off174_inb : ∀ (v1946 : BitVec 32) (k0_hw147 : k0_chk147 v1946), ∀ a, (k0_off174 v1946) a + S1x8x1024.size a ≤ S1x2048x1024.size a := fun v1946 k0_hw147 => k0_hw147.2

def k0_mult149 (v1959 : BitVec 32) : BitVec 32 :=
  let c7_i32_1233 : BitVec 32 := 7#32
  let v1960 : BitVec 32 := Scalar.andi v1959 c7_i32_1233
  let v1961 : BitVec 32 := Scalar.subi v1959 v1960
  v1961

def k0_off175 (v1959 : BitVec 32) : Fin 3 → Nat :=
  let c0_1234 : Index := 0#32
  let c7_i32_1233 : BitVec 32 := 7#32
  let v1960 : BitVec 32 := Scalar.andi v1959 c7_i32_1233
  let v1961 : BitVec 32 := Scalar.subi v1959 v1960
  let v1962 : BitVec 32 := v1961
  let v1963 : Index := Scalar.indexCast v1962
  let c0_1235 : Index := 0#32
  ![0, v1963.toNat, 0]

def k0_chk148 (v1959 : BitVec 32) : Prop :=
  (8 ∣ (k0_mult149 v1959).toNat) ∧
  (∀ a, (k0_off175 v1959) a + S1x8x1024.size a ≤ S1x2048x1024.size a)
theorem k0_mult149_dvd : ∀ (v1959 : BitVec 32) (k0_hw148 : k0_chk148 v1959), 8 ∣ (k0_mult149 v1959).toNat := fun v1959 k0_hw148 => k0_hw148.1
theorem k0_off175_inb : ∀ (v1959 : BitVec 32) (k0_hw148 : k0_chk148 v1959), ∀ a, (k0_off175 v1959) a + S1x8x1024.size a ≤ S1x2048x1024.size a := fun v1959 k0_hw148 => k0_hw148.2

def k0_mult150 (v1972 : BitVec 32) : BitVec 32 :=
  let c7_i32_1241 : BitVec 32 := 7#32
  let v1973 : BitVec 32 := Scalar.andi v1972 c7_i32_1241
  let v1974 : BitVec 32 := Scalar.subi v1972 v1973
  v1974

def k0_off176 (v1972 : BitVec 32) : Fin 3 → Nat :=
  let c0_1242 : Index := 0#32
  let c7_i32_1241 : BitVec 32 := 7#32
  let v1973 : BitVec 32 := Scalar.andi v1972 c7_i32_1241
  let v1974 : BitVec 32 := Scalar.subi v1972 v1973
  let v1975 : BitVec 32 := v1974
  let v1976 : Index := Scalar.indexCast v1975
  let c0_1243 : Index := 0#32
  ![0, v1976.toNat, 0]

def k0_chk149 (v1972 : BitVec 32) : Prop :=
  (8 ∣ (k0_mult150 v1972).toNat) ∧
  (∀ a, (k0_off176 v1972) a + S1x8x1024.size a ≤ S1x2048x1024.size a)
theorem k0_mult150_dvd : ∀ (v1972 : BitVec 32) (k0_hw149 : k0_chk149 v1972), 8 ∣ (k0_mult150 v1972).toNat := fun v1972 k0_hw149 => k0_hw149.1
theorem k0_off176_inb : ∀ (v1972 : BitVec 32) (k0_hw149 : k0_chk149 v1972), ∀ a, (k0_off176 v1972) a + S1x8x1024.size a ≤ S1x2048x1024.size a := fun v1972 k0_hw149 => k0_hw149.2

def k0_mult151 (v1985 : BitVec 32) : BitVec 32 :=
  let c7_i32_1249 : BitVec 32 := 7#32
  let v1986 : BitVec 32 := Scalar.andi v1985 c7_i32_1249
  let v1987 : BitVec 32 := Scalar.subi v1985 v1986
  v1987

def k0_off177 (v1985 : BitVec 32) : Fin 3 → Nat :=
  let c0_1250 : Index := 0#32
  let c7_i32_1249 : BitVec 32 := 7#32
  let v1986 : BitVec 32 := Scalar.andi v1985 c7_i32_1249
  let v1987 : BitVec 32 := Scalar.subi v1985 v1986
  let v1988 : BitVec 32 := v1987
  let v1989 : Index := Scalar.indexCast v1988
  let c0_1251 : Index := 0#32
  ![0, v1989.toNat, 0]

def k0_chk150 (v1985 : BitVec 32) : Prop :=
  (8 ∣ (k0_mult151 v1985).toNat) ∧
  (∀ a, (k0_off177 v1985) a + S1x8x1024.size a ≤ S1x2048x1024.size a)
theorem k0_mult151_dvd : ∀ (v1985 : BitVec 32) (k0_hw150 : k0_chk150 v1985), 8 ∣ (k0_mult151 v1985).toNat := fun v1985 k0_hw150 => k0_hw150.1
theorem k0_off177_inb : ∀ (v1985 : BitVec 32) (k0_hw150 : k0_chk150 v1985), ∀ a, (k0_off177 v1985) a + S1x8x1024.size a ≤ S1x2048x1024.size a := fun v1985 k0_hw150 => k0_hw150.2

def k0_mult152 (v1998 : BitVec 32) : BitVec 32 :=
  let c7_i32_1257 : BitVec 32 := 7#32
  let v1999 : BitVec 32 := Scalar.andi v1998 c7_i32_1257
  let v2000 : BitVec 32 := Scalar.subi v1998 v1999
  v2000

def k0_off178 (v1998 : BitVec 32) : Fin 3 → Nat :=
  let c0_1258 : Index := 0#32
  let c7_i32_1257 : BitVec 32 := 7#32
  let v1999 : BitVec 32 := Scalar.andi v1998 c7_i32_1257
  let v2000 : BitVec 32 := Scalar.subi v1998 v1999
  let v2001 : BitVec 32 := v2000
  let v2002 : Index := Scalar.indexCast v2001
  let c0_1259 : Index := 0#32
  ![0, v2002.toNat, 0]

def k0_chk151 (v1998 : BitVec 32) : Prop :=
  (8 ∣ (k0_mult152 v1998).toNat) ∧
  (∀ a, (k0_off178 v1998) a + S1x8x1024.size a ≤ S1x2048x1024.size a)
theorem k0_mult152_dvd : ∀ (v1998 : BitVec 32) (k0_hw151 : k0_chk151 v1998), 8 ∣ (k0_mult152 v1998).toNat := fun v1998 k0_hw151 => k0_hw151.1
theorem k0_off178_inb : ∀ (v1998 : BitVec 32) (k0_hw151 : k0_chk151 v1998), ∀ a, (k0_off178 v1998) a + S1x8x1024.size a ≤ S1x2048x1024.size a := fun v1998 k0_hw151 => k0_hw151.2

def k0_mult153 (v2011 : BitVec 32) : BitVec 32 :=
  let c7_i32_1265 : BitVec 32 := 7#32
  let v2012 : BitVec 32 := Scalar.andi v2011 c7_i32_1265
  let v2013 : BitVec 32 := Scalar.subi v2011 v2012
  v2013

def k0_off179 (v2011 : BitVec 32) : Fin 3 → Nat :=
  let c0_1266 : Index := 0#32
  let c7_i32_1265 : BitVec 32 := 7#32
  let v2012 : BitVec 32 := Scalar.andi v2011 c7_i32_1265
  let v2013 : BitVec 32 := Scalar.subi v2011 v2012
  let v2014 : BitVec 32 := v2013
  let v2015 : Index := Scalar.indexCast v2014
  let c0_1267 : Index := 0#32
  ![0, v2015.toNat, 0]

def k0_chk152 (v2011 : BitVec 32) : Prop :=
  (8 ∣ (k0_mult153 v2011).toNat) ∧
  (∀ a, (k0_off179 v2011) a + S1x8x1024.size a ≤ S1x2048x1024.size a)
theorem k0_mult153_dvd : ∀ (v2011 : BitVec 32) (k0_hw152 : k0_chk152 v2011), 8 ∣ (k0_mult153 v2011).toNat := fun v2011 k0_hw152 => k0_hw152.1
theorem k0_off179_inb : ∀ (v2011 : BitVec 32) (k0_hw152 : k0_chk152 v2011), ∀ a, (k0_off179 v2011) a + S1x8x1024.size a ≤ S1x2048x1024.size a := fun v2011 k0_hw152 => k0_hw152.2

def k0_off180 (i : grid0.Coords) : Fin 3 → Nat :=
  let c1_i32_1205 : BitVec 32 := 1#32
  let arg1 : BitVec 32 := BitVec.ofNat 32 (i 1).val
  let c1_i32 : BitVec 32 := 1#32
  let v1 : BitVec 32 := Scalar.andi arg1 c1_i32
  let v1918 : BitVec 32 := Scalar.subi c1_i32_1205 v1
  let c0_i32_1271 : BitVec 32 := 0#32
  let c0_i32_1272 : BitVec 32 := 0#32
  ![v1918.toNat, 0, 0]
def k0_mult154 (v2031 : BitVec 32) : BitVec 32 :=
  let c7_i32_1279 : BitVec 32 := 7#32
  let v2032 : BitVec 32 := Scalar.andi v2031 c7_i32_1279
  let v2033 : BitVec 32 := Scalar.subi v2031 v2032
  v2033

def k0_off181 (v2031 : BitVec 32) : Fin 3 → Nat :=
  let c0_1280 : Index := 0#32
  let c7_i32_1279 : BitVec 32 := 7#32
  let v2032 : BitVec 32 := Scalar.andi v2031 c7_i32_1279
  let v2033 : BitVec 32 := Scalar.subi v2031 v2032
  let v2034 : BitVec 32 := v2033
  let v2035 : Index := Scalar.indexCast v2034
  let c0_1281 : Index := 0#32
  ![0, v2035.toNat, 0]

def k0_chk153 (v2031 : BitVec 32) : Prop :=
  (8 ∣ (k0_mult154 v2031).toNat) ∧
  (∀ a, (k0_off181 v2031) a + S1x8x1024.size a ≤ S1x2048x1024.size a)
theorem k0_mult154_dvd : ∀ (v2031 : BitVec 32) (k0_hw153 : k0_chk153 v2031), 8 ∣ (k0_mult154 v2031).toNat := fun v2031 k0_hw153 => k0_hw153.1
theorem k0_off181_inb : ∀ (v2031 : BitVec 32) (k0_hw153 : k0_chk153 v2031), ∀ a, (k0_off181 v2031) a + S1x8x1024.size a ≤ S1x2048x1024.size a := fun v2031 k0_hw153 => k0_hw153.2

def k0_mult155 (v2044 : BitVec 32) : BitVec 32 :=
  let c7_i32_1287 : BitVec 32 := 7#32
  let v2045 : BitVec 32 := Scalar.andi v2044 c7_i32_1287
  let v2046 : BitVec 32 := Scalar.subi v2044 v2045
  v2046

def k0_off182 (v2044 : BitVec 32) : Fin 3 → Nat :=
  let c0_1288 : Index := 0#32
  let c7_i32_1287 : BitVec 32 := 7#32
  let v2045 : BitVec 32 := Scalar.andi v2044 c7_i32_1287
  let v2046 : BitVec 32 := Scalar.subi v2044 v2045
  let v2047 : BitVec 32 := v2046
  let v2048 : Index := Scalar.indexCast v2047
  let c0_1289 : Index := 0#32
  ![0, v2048.toNat, 0]

def k0_chk154 (v2044 : BitVec 32) : Prop :=
  (8 ∣ (k0_mult155 v2044).toNat) ∧
  (∀ a, (k0_off182 v2044) a + S1x8x1024.size a ≤ S1x2048x1024.size a)
theorem k0_mult155_dvd : ∀ (v2044 : BitVec 32) (k0_hw154 : k0_chk154 v2044), 8 ∣ (k0_mult155 v2044).toNat := fun v2044 k0_hw154 => k0_hw154.1
theorem k0_off182_inb : ∀ (v2044 : BitVec 32) (k0_hw154 : k0_chk154 v2044), ∀ a, (k0_off182 v2044) a + S1x8x1024.size a ≤ S1x2048x1024.size a := fun v2044 k0_hw154 => k0_hw154.2

def k0_mult156 (v2057 : BitVec 32) : BitVec 32 :=
  let c7_i32_1295 : BitVec 32 := 7#32
  let v2058 : BitVec 32 := Scalar.andi v2057 c7_i32_1295
  let v2059 : BitVec 32 := Scalar.subi v2057 v2058
  v2059

def k0_off183 (v2057 : BitVec 32) : Fin 3 → Nat :=
  let c0_1296 : Index := 0#32
  let c7_i32_1295 : BitVec 32 := 7#32
  let v2058 : BitVec 32 := Scalar.andi v2057 c7_i32_1295
  let v2059 : BitVec 32 := Scalar.subi v2057 v2058
  let v2060 : BitVec 32 := v2059
  let v2061 : Index := Scalar.indexCast v2060
  let c0_1297 : Index := 0#32
  ![0, v2061.toNat, 0]

def k0_chk155 (v2057 : BitVec 32) : Prop :=
  (8 ∣ (k0_mult156 v2057).toNat) ∧
  (∀ a, (k0_off183 v2057) a + S1x8x1024.size a ≤ S1x2048x1024.size a)
theorem k0_mult156_dvd : ∀ (v2057 : BitVec 32) (k0_hw155 : k0_chk155 v2057), 8 ∣ (k0_mult156 v2057).toNat := fun v2057 k0_hw155 => k0_hw155.1
theorem k0_off183_inb : ∀ (v2057 : BitVec 32) (k0_hw155 : k0_chk155 v2057), ∀ a, (k0_off183 v2057) a + S1x8x1024.size a ≤ S1x2048x1024.size a := fun v2057 k0_hw155 => k0_hw155.2

def k0_mult157 (v2070 : BitVec 32) : BitVec 32 :=
  let c7_i32_1303 : BitVec 32 := 7#32
  let v2071 : BitVec 32 := Scalar.andi v2070 c7_i32_1303
  let v2072 : BitVec 32 := Scalar.subi v2070 v2071
  v2072

def k0_off184 (v2070 : BitVec 32) : Fin 3 → Nat :=
  let c0_1304 : Index := 0#32
  let c7_i32_1303 : BitVec 32 := 7#32
  let v2071 : BitVec 32 := Scalar.andi v2070 c7_i32_1303
  let v2072 : BitVec 32 := Scalar.subi v2070 v2071
  let v2073 : BitVec 32 := v2072
  let v2074 : Index := Scalar.indexCast v2073
  let c0_1305 : Index := 0#32
  ![0, v2074.toNat, 0]

def k0_chk156 (v2070 : BitVec 32) : Prop :=
  (8 ∣ (k0_mult157 v2070).toNat) ∧
  (∀ a, (k0_off184 v2070) a + S1x8x1024.size a ≤ S1x2048x1024.size a)
theorem k0_mult157_dvd : ∀ (v2070 : BitVec 32) (k0_hw156 : k0_chk156 v2070), 8 ∣ (k0_mult157 v2070).toNat := fun v2070 k0_hw156 => k0_hw156.1
theorem k0_off184_inb : ∀ (v2070 : BitVec 32) (k0_hw156 : k0_chk156 v2070), ∀ a, (k0_off184 v2070) a + S1x8x1024.size a ≤ S1x2048x1024.size a := fun v2070 k0_hw156 => k0_hw156.2

def k0_mult158 (v2083 : BitVec 32) : BitVec 32 :=
  let c7_i32_1311 : BitVec 32 := 7#32
  let v2084 : BitVec 32 := Scalar.andi v2083 c7_i32_1311
  let v2085 : BitVec 32 := Scalar.subi v2083 v2084
  v2085

def k0_off185 (v2083 : BitVec 32) : Fin 3 → Nat :=
  let c0_1312 : Index := 0#32
  let c7_i32_1311 : BitVec 32 := 7#32
  let v2084 : BitVec 32 := Scalar.andi v2083 c7_i32_1311
  let v2085 : BitVec 32 := Scalar.subi v2083 v2084
  let v2086 : BitVec 32 := v2085
  let v2087 : Index := Scalar.indexCast v2086
  let c0_1313 : Index := 0#32
  ![0, v2087.toNat, 0]

def k0_chk157 (v2083 : BitVec 32) : Prop :=
  (8 ∣ (k0_mult158 v2083).toNat) ∧
  (∀ a, (k0_off185 v2083) a + S1x8x1024.size a ≤ S1x2048x1024.size a)
theorem k0_mult158_dvd : ∀ (v2083 : BitVec 32) (k0_hw157 : k0_chk157 v2083), 8 ∣ (k0_mult158 v2083).toNat := fun v2083 k0_hw157 => k0_hw157.1
theorem k0_off185_inb : ∀ (v2083 : BitVec 32) (k0_hw157 : k0_chk157 v2083), ∀ a, (k0_off185 v2083) a + S1x8x1024.size a ≤ S1x2048x1024.size a := fun v2083 k0_hw157 => k0_hw157.2

def k0_mult159 (v2096 : BitVec 32) : BitVec 32 :=
  let c7_i32_1319 : BitVec 32 := 7#32
  let v2097 : BitVec 32 := Scalar.andi v2096 c7_i32_1319
  let v2098 : BitVec 32 := Scalar.subi v2096 v2097
  v2098

def k0_off186 (v2096 : BitVec 32) : Fin 3 → Nat :=
  let c0_1320 : Index := 0#32
  let c7_i32_1319 : BitVec 32 := 7#32
  let v2097 : BitVec 32 := Scalar.andi v2096 c7_i32_1319
  let v2098 : BitVec 32 := Scalar.subi v2096 v2097
  let v2099 : BitVec 32 := v2098
  let v2100 : Index := Scalar.indexCast v2099
  let c0_1321 : Index := 0#32
  ![0, v2100.toNat, 0]

def k0_chk158 (v2096 : BitVec 32) : Prop :=
  (8 ∣ (k0_mult159 v2096).toNat) ∧
  (∀ a, (k0_off186 v2096) a + S1x8x1024.size a ≤ S1x2048x1024.size a)
theorem k0_mult159_dvd : ∀ (v2096 : BitVec 32) (k0_hw158 : k0_chk158 v2096), 8 ∣ (k0_mult159 v2096).toNat := fun v2096 k0_hw158 => k0_hw158.1
theorem k0_off186_inb : ∀ (v2096 : BitVec 32) (k0_hw158 : k0_chk158 v2096), ∀ a, (k0_off186 v2096) a + S1x8x1024.size a ≤ S1x2048x1024.size a := fun v2096 k0_hw158 => k0_hw158.2

def k0_mult160 (v2109 : BitVec 32) : BitVec 32 :=
  let c7_i32_1327 : BitVec 32 := 7#32
  let v2110 : BitVec 32 := Scalar.andi v2109 c7_i32_1327
  let v2111 : BitVec 32 := Scalar.subi v2109 v2110
  v2111

def k0_off187 (v2109 : BitVec 32) : Fin 3 → Nat :=
  let c0_1328 : Index := 0#32
  let c7_i32_1327 : BitVec 32 := 7#32
  let v2110 : BitVec 32 := Scalar.andi v2109 c7_i32_1327
  let v2111 : BitVec 32 := Scalar.subi v2109 v2110
  let v2112 : BitVec 32 := v2111
  let v2113 : Index := Scalar.indexCast v2112
  let c0_1329 : Index := 0#32
  ![0, v2113.toNat, 0]

def k0_chk159 (v2109 : BitVec 32) : Prop :=
  (8 ∣ (k0_mult160 v2109).toNat) ∧
  (∀ a, (k0_off187 v2109) a + S1x8x1024.size a ≤ S1x2048x1024.size a)
theorem k0_mult160_dvd : ∀ (v2109 : BitVec 32) (k0_hw159 : k0_chk159 v2109), 8 ∣ (k0_mult160 v2109).toNat := fun v2109 k0_hw159 => k0_hw159.1
theorem k0_off187_inb : ∀ (v2109 : BitVec 32) (k0_hw159 : k0_chk159 v2109), ∀ a, (k0_off187 v2109) a + S1x8x1024.size a ≤ S1x2048x1024.size a := fun v2109 k0_hw159 => k0_hw159.2

def k0_mult161 (v2122 : BitVec 32) : BitVec 32 :=
  let c7_i32_1335 : BitVec 32 := 7#32
  let v2123 : BitVec 32 := Scalar.andi v2122 c7_i32_1335
  let v2124 : BitVec 32 := Scalar.subi v2122 v2123
  v2124

def k0_off188 (v2122 : BitVec 32) : Fin 3 → Nat :=
  let c0_1336 : Index := 0#32
  let c7_i32_1335 : BitVec 32 := 7#32
  let v2123 : BitVec 32 := Scalar.andi v2122 c7_i32_1335
  let v2124 : BitVec 32 := Scalar.subi v2122 v2123
  let v2125 : BitVec 32 := v2124
  let v2126 : Index := Scalar.indexCast v2125
  let c0_1337 : Index := 0#32
  ![0, v2126.toNat, 0]

def k0_chk160 (v2122 : BitVec 32) : Prop :=
  (8 ∣ (k0_mult161 v2122).toNat) ∧
  (∀ a, (k0_off188 v2122) a + S1x8x1024.size a ≤ S1x2048x1024.size a)
theorem k0_mult161_dvd : ∀ (v2122 : BitVec 32) (k0_hw160 : k0_chk160 v2122), 8 ∣ (k0_mult161 v2122).toNat := fun v2122 k0_hw160 => k0_hw160.1
theorem k0_off188_inb : ∀ (v2122 : BitVec 32) (k0_hw160 : k0_chk160 v2122), ∀ a, (k0_off188 v2122) a + S1x8x1024.size a ≤ S1x2048x1024.size a := fun v2122 k0_hw160 => k0_hw160.2

def k0_off189 (i : grid0.Coords) : Fin 3 → Nat :=
  let c1_i32_1275 : BitVec 32 := 1#32
  let arg1 : BitVec 32 := BitVec.ofNat 32 (i 1).val
  let c1_i32 : BitVec 32 := 1#32
  let v1 : BitVec 32 := Scalar.andi arg1 c1_i32
  let v2029 : BitVec 32 := Scalar.subi c1_i32_1275 v1
  let c0_i32_1341 : BitVec 32 := 0#32
  let c0_i32_1342 : BitVec 32 := 0#32
  ![v2029.toNat, 0, 0]
def k0_mult162 (v2142 : BitVec 32) : BitVec 32 :=
  let c7_i32_1349 : BitVec 32 := 7#32
  let v2143 : BitVec 32 := Scalar.andi v2142 c7_i32_1349
  let v2144 : BitVec 32 := Scalar.subi v2142 v2143
  v2144

def k0_off190 (v2142 : BitVec 32) : Fin 3 → Nat :=
  let c0_1350 : Index := 0#32
  let c7_i32_1349 : BitVec 32 := 7#32
  let v2143 : BitVec 32 := Scalar.andi v2142 c7_i32_1349
  let v2144 : BitVec 32 := Scalar.subi v2142 v2143
  let v2145 : BitVec 32 := v2144
  let v2146 : Index := Scalar.indexCast v2145
  let c0_1351 : Index := 0#32
  ![0, v2146.toNat, 0]

def k0_chk161 (v2142 : BitVec 32) : Prop :=
  (8 ∣ (k0_mult162 v2142).toNat) ∧
  (∀ a, (k0_off190 v2142) a + S1x8x1024.size a ≤ S1x2048x1024.size a)
theorem k0_mult162_dvd : ∀ (v2142 : BitVec 32) (k0_hw161 : k0_chk161 v2142), 8 ∣ (k0_mult162 v2142).toNat := fun v2142 k0_hw161 => k0_hw161.1
theorem k0_off190_inb : ∀ (v2142 : BitVec 32) (k0_hw161 : k0_chk161 v2142), ∀ a, (k0_off190 v2142) a + S1x8x1024.size a ≤ S1x2048x1024.size a := fun v2142 k0_hw161 => k0_hw161.2

def k0_mult163 (v2155 : BitVec 32) : BitVec 32 :=
  let c7_i32_1357 : BitVec 32 := 7#32
  let v2156 : BitVec 32 := Scalar.andi v2155 c7_i32_1357
  let v2157 : BitVec 32 := Scalar.subi v2155 v2156
  v2157

def k0_off191 (v2155 : BitVec 32) : Fin 3 → Nat :=
  let c0_1358 : Index := 0#32
  let c7_i32_1357 : BitVec 32 := 7#32
  let v2156 : BitVec 32 := Scalar.andi v2155 c7_i32_1357
  let v2157 : BitVec 32 := Scalar.subi v2155 v2156
  let v2158 : BitVec 32 := v2157
  let v2159 : Index := Scalar.indexCast v2158
  let c0_1359 : Index := 0#32
  ![0, v2159.toNat, 0]

def k0_chk162 (v2155 : BitVec 32) : Prop :=
  (8 ∣ (k0_mult163 v2155).toNat) ∧
  (∀ a, (k0_off191 v2155) a + S1x8x1024.size a ≤ S1x2048x1024.size a)
theorem k0_mult163_dvd : ∀ (v2155 : BitVec 32) (k0_hw162 : k0_chk162 v2155), 8 ∣ (k0_mult163 v2155).toNat := fun v2155 k0_hw162 => k0_hw162.1
theorem k0_off191_inb : ∀ (v2155 : BitVec 32) (k0_hw162 : k0_chk162 v2155), ∀ a, (k0_off191 v2155) a + S1x8x1024.size a ≤ S1x2048x1024.size a := fun v2155 k0_hw162 => k0_hw162.2

def k0_mult164 (v2168 : BitVec 32) : BitVec 32 :=
  let c7_i32_1365 : BitVec 32 := 7#32
  let v2169 : BitVec 32 := Scalar.andi v2168 c7_i32_1365
  let v2170 : BitVec 32 := Scalar.subi v2168 v2169
  v2170

def k0_off192 (v2168 : BitVec 32) : Fin 3 → Nat :=
  let c0_1366 : Index := 0#32
  let c7_i32_1365 : BitVec 32 := 7#32
  let v2169 : BitVec 32 := Scalar.andi v2168 c7_i32_1365
  let v2170 : BitVec 32 := Scalar.subi v2168 v2169
  let v2171 : BitVec 32 := v2170
  let v2172 : Index := Scalar.indexCast v2171
  let c0_1367 : Index := 0#32
  ![0, v2172.toNat, 0]

def k0_chk163 (v2168 : BitVec 32) : Prop :=
  (8 ∣ (k0_mult164 v2168).toNat) ∧
  (∀ a, (k0_off192 v2168) a + S1x8x1024.size a ≤ S1x2048x1024.size a)
theorem k0_mult164_dvd : ∀ (v2168 : BitVec 32) (k0_hw163 : k0_chk163 v2168), 8 ∣ (k0_mult164 v2168).toNat := fun v2168 k0_hw163 => k0_hw163.1
theorem k0_off192_inb : ∀ (v2168 : BitVec 32) (k0_hw163 : k0_chk163 v2168), ∀ a, (k0_off192 v2168) a + S1x8x1024.size a ≤ S1x2048x1024.size a := fun v2168 k0_hw163 => k0_hw163.2

def k0_mult165 (v2181 : BitVec 32) : BitVec 32 :=
  let c7_i32_1373 : BitVec 32 := 7#32
  let v2182 : BitVec 32 := Scalar.andi v2181 c7_i32_1373
  let v2183 : BitVec 32 := Scalar.subi v2181 v2182
  v2183

def k0_off193 (v2181 : BitVec 32) : Fin 3 → Nat :=
  let c0_1374 : Index := 0#32
  let c7_i32_1373 : BitVec 32 := 7#32
  let v2182 : BitVec 32 := Scalar.andi v2181 c7_i32_1373
  let v2183 : BitVec 32 := Scalar.subi v2181 v2182
  let v2184 : BitVec 32 := v2183
  let v2185 : Index := Scalar.indexCast v2184
  let c0_1375 : Index := 0#32
  ![0, v2185.toNat, 0]

def k0_chk164 (v2181 : BitVec 32) : Prop :=
  (8 ∣ (k0_mult165 v2181).toNat) ∧
  (∀ a, (k0_off193 v2181) a + S1x8x1024.size a ≤ S1x2048x1024.size a)
theorem k0_mult165_dvd : ∀ (v2181 : BitVec 32) (k0_hw164 : k0_chk164 v2181), 8 ∣ (k0_mult165 v2181).toNat := fun v2181 k0_hw164 => k0_hw164.1
theorem k0_off193_inb : ∀ (v2181 : BitVec 32) (k0_hw164 : k0_chk164 v2181), ∀ a, (k0_off193 v2181) a + S1x8x1024.size a ≤ S1x2048x1024.size a := fun v2181 k0_hw164 => k0_hw164.2

def k0_mult166 (v2194 : BitVec 32) : BitVec 32 :=
  let c7_i32_1381 : BitVec 32 := 7#32
  let v2195 : BitVec 32 := Scalar.andi v2194 c7_i32_1381
  let v2196 : BitVec 32 := Scalar.subi v2194 v2195
  v2196

def k0_off194 (v2194 : BitVec 32) : Fin 3 → Nat :=
  let c0_1382 : Index := 0#32
  let c7_i32_1381 : BitVec 32 := 7#32
  let v2195 : BitVec 32 := Scalar.andi v2194 c7_i32_1381
  let v2196 : BitVec 32 := Scalar.subi v2194 v2195
  let v2197 : BitVec 32 := v2196
  let v2198 : Index := Scalar.indexCast v2197
  let c0_1383 : Index := 0#32
  ![0, v2198.toNat, 0]

def k0_chk165 (v2194 : BitVec 32) : Prop :=
  (8 ∣ (k0_mult166 v2194).toNat) ∧
  (∀ a, (k0_off194 v2194) a + S1x8x1024.size a ≤ S1x2048x1024.size a)
theorem k0_mult166_dvd : ∀ (v2194 : BitVec 32) (k0_hw165 : k0_chk165 v2194), 8 ∣ (k0_mult166 v2194).toNat := fun v2194 k0_hw165 => k0_hw165.1
theorem k0_off194_inb : ∀ (v2194 : BitVec 32) (k0_hw165 : k0_chk165 v2194), ∀ a, (k0_off194 v2194) a + S1x8x1024.size a ≤ S1x2048x1024.size a := fun v2194 k0_hw165 => k0_hw165.2

def k0_mult167 (v2207 : BitVec 32) : BitVec 32 :=
  let c7_i32_1389 : BitVec 32 := 7#32
  let v2208 : BitVec 32 := Scalar.andi v2207 c7_i32_1389
  let v2209 : BitVec 32 := Scalar.subi v2207 v2208
  v2209

def k0_off195 (v2207 : BitVec 32) : Fin 3 → Nat :=
  let c0_1390 : Index := 0#32
  let c7_i32_1389 : BitVec 32 := 7#32
  let v2208 : BitVec 32 := Scalar.andi v2207 c7_i32_1389
  let v2209 : BitVec 32 := Scalar.subi v2207 v2208
  let v2210 : BitVec 32 := v2209
  let v2211 : Index := Scalar.indexCast v2210
  let c0_1391 : Index := 0#32
  ![0, v2211.toNat, 0]

def k0_chk166 (v2207 : BitVec 32) : Prop :=
  (8 ∣ (k0_mult167 v2207).toNat) ∧
  (∀ a, (k0_off195 v2207) a + S1x8x1024.size a ≤ S1x2048x1024.size a)
theorem k0_mult167_dvd : ∀ (v2207 : BitVec 32) (k0_hw166 : k0_chk166 v2207), 8 ∣ (k0_mult167 v2207).toNat := fun v2207 k0_hw166 => k0_hw166.1
theorem k0_off195_inb : ∀ (v2207 : BitVec 32) (k0_hw166 : k0_chk166 v2207), ∀ a, (k0_off195 v2207) a + S1x8x1024.size a ≤ S1x2048x1024.size a := fun v2207 k0_hw166 => k0_hw166.2

def k0_mult168 (v2220 : BitVec 32) : BitVec 32 :=
  let c7_i32_1397 : BitVec 32 := 7#32
  let v2221 : BitVec 32 := Scalar.andi v2220 c7_i32_1397
  let v2222 : BitVec 32 := Scalar.subi v2220 v2221
  v2222

def k0_off196 (v2220 : BitVec 32) : Fin 3 → Nat :=
  let c0_1398 : Index := 0#32
  let c7_i32_1397 : BitVec 32 := 7#32
  let v2221 : BitVec 32 := Scalar.andi v2220 c7_i32_1397
  let v2222 : BitVec 32 := Scalar.subi v2220 v2221
  let v2223 : BitVec 32 := v2222
  let v2224 : Index := Scalar.indexCast v2223
  let c0_1399 : Index := 0#32
  ![0, v2224.toNat, 0]

def k0_chk167 (v2220 : BitVec 32) : Prop :=
  (8 ∣ (k0_mult168 v2220).toNat) ∧
  (∀ a, (k0_off196 v2220) a + S1x8x1024.size a ≤ S1x2048x1024.size a)
theorem k0_mult168_dvd : ∀ (v2220 : BitVec 32) (k0_hw167 : k0_chk167 v2220), 8 ∣ (k0_mult168 v2220).toNat := fun v2220 k0_hw167 => k0_hw167.1
theorem k0_off196_inb : ∀ (v2220 : BitVec 32) (k0_hw167 : k0_chk167 v2220), ∀ a, (k0_off196 v2220) a + S1x8x1024.size a ≤ S1x2048x1024.size a := fun v2220 k0_hw167 => k0_hw167.2

def k0_mult169 (v2233 : BitVec 32) : BitVec 32 :=
  let c7_i32_1405 : BitVec 32 := 7#32
  let v2234 : BitVec 32 := Scalar.andi v2233 c7_i32_1405
  let v2235 : BitVec 32 := Scalar.subi v2233 v2234
  v2235

def k0_off197 (v2233 : BitVec 32) : Fin 3 → Nat :=
  let c0_1406 : Index := 0#32
  let c7_i32_1405 : BitVec 32 := 7#32
  let v2234 : BitVec 32 := Scalar.andi v2233 c7_i32_1405
  let v2235 : BitVec 32 := Scalar.subi v2233 v2234
  let v2236 : BitVec 32 := v2235
  let v2237 : Index := Scalar.indexCast v2236
  let c0_1407 : Index := 0#32
  ![0, v2237.toNat, 0]

def k0_chk168 (v2233 : BitVec 32) : Prop :=
  (8 ∣ (k0_mult169 v2233).toNat) ∧
  (∀ a, (k0_off197 v2233) a + S1x8x1024.size a ≤ S1x2048x1024.size a)
theorem k0_mult169_dvd : ∀ (v2233 : BitVec 32) (k0_hw168 : k0_chk168 v2233), 8 ∣ (k0_mult169 v2233).toNat := fun v2233 k0_hw168 => k0_hw168.1
theorem k0_off197_inb : ∀ (v2233 : BitVec 32) (k0_hw168 : k0_chk168 v2233), ∀ a, (k0_off197 v2233) a + S1x8x1024.size a ≤ S1x2048x1024.size a := fun v2233 k0_hw168 => k0_hw168.2

def k0_off198 (i : grid0.Coords) : Fin 3 → Nat :=
  let c1_i32_1345 : BitVec 32 := 1#32
  let arg1 : BitVec 32 := BitVec.ofNat 32 (i 1).val
  let c1_i32 : BitVec 32 := 1#32
  let v1 : BitVec 32 := Scalar.andi arg1 c1_i32
  let v2140 : BitVec 32 := Scalar.subi c1_i32_1345 v1
  let c0_i32_1411 : BitVec 32 := 0#32
  let c0_i32_1412 : BitVec 32 := 0#32
  ![v2140.toNat, 0, 0]
def k0_mult170 (v2253 : BitVec 32) : BitVec 32 :=
  let c7_i32_1419 : BitVec 32 := 7#32
  let v2254 : BitVec 32 := Scalar.andi v2253 c7_i32_1419
  let v2255 : BitVec 32 := Scalar.subi v2253 v2254
  v2255

def k0_off199 (v2253 : BitVec 32) : Fin 3 → Nat :=
  let c0_1420 : Index := 0#32
  let c7_i32_1419 : BitVec 32 := 7#32
  let v2254 : BitVec 32 := Scalar.andi v2253 c7_i32_1419
  let v2255 : BitVec 32 := Scalar.subi v2253 v2254
  let v2256 : BitVec 32 := v2255
  let v2257 : Index := Scalar.indexCast v2256
  let c0_1421 : Index := 0#32
  ![0, v2257.toNat, 0]

def k0_chk169 (v2253 : BitVec 32) : Prop :=
  (8 ∣ (k0_mult170 v2253).toNat) ∧
  (∀ a, (k0_off199 v2253) a + S1x8x1024.size a ≤ S1x2048x1024.size a)
theorem k0_mult170_dvd : ∀ (v2253 : BitVec 32) (k0_hw169 : k0_chk169 v2253), 8 ∣ (k0_mult170 v2253).toNat := fun v2253 k0_hw169 => k0_hw169.1
theorem k0_off199_inb : ∀ (v2253 : BitVec 32) (k0_hw169 : k0_chk169 v2253), ∀ a, (k0_off199 v2253) a + S1x8x1024.size a ≤ S1x2048x1024.size a := fun v2253 k0_hw169 => k0_hw169.2

def k0_mult171 (v2266 : BitVec 32) : BitVec 32 :=
  let c7_i32_1427 : BitVec 32 := 7#32
  let v2267 : BitVec 32 := Scalar.andi v2266 c7_i32_1427
  let v2268 : BitVec 32 := Scalar.subi v2266 v2267
  v2268

def k0_off200 (v2266 : BitVec 32) : Fin 3 → Nat :=
  let c0_1428 : Index := 0#32
  let c7_i32_1427 : BitVec 32 := 7#32
  let v2267 : BitVec 32 := Scalar.andi v2266 c7_i32_1427
  let v2268 : BitVec 32 := Scalar.subi v2266 v2267
  let v2269 : BitVec 32 := v2268
  let v2270 : Index := Scalar.indexCast v2269
  let c0_1429 : Index := 0#32
  ![0, v2270.toNat, 0]

def k0_chk170 (v2266 : BitVec 32) : Prop :=
  (8 ∣ (k0_mult171 v2266).toNat) ∧
  (∀ a, (k0_off200 v2266) a + S1x8x1024.size a ≤ S1x2048x1024.size a)
theorem k0_mult171_dvd : ∀ (v2266 : BitVec 32) (k0_hw170 : k0_chk170 v2266), 8 ∣ (k0_mult171 v2266).toNat := fun v2266 k0_hw170 => k0_hw170.1
theorem k0_off200_inb : ∀ (v2266 : BitVec 32) (k0_hw170 : k0_chk170 v2266), ∀ a, (k0_off200 v2266) a + S1x8x1024.size a ≤ S1x2048x1024.size a := fun v2266 k0_hw170 => k0_hw170.2

def k0_mult172 (v2279 : BitVec 32) : BitVec 32 :=
  let c7_i32_1435 : BitVec 32 := 7#32
  let v2280 : BitVec 32 := Scalar.andi v2279 c7_i32_1435
  let v2281 : BitVec 32 := Scalar.subi v2279 v2280
  v2281

def k0_off201 (v2279 : BitVec 32) : Fin 3 → Nat :=
  let c0_1436 : Index := 0#32
  let c7_i32_1435 : BitVec 32 := 7#32
  let v2280 : BitVec 32 := Scalar.andi v2279 c7_i32_1435
  let v2281 : BitVec 32 := Scalar.subi v2279 v2280
  let v2282 : BitVec 32 := v2281
  let v2283 : Index := Scalar.indexCast v2282
  let c0_1437 : Index := 0#32
  ![0, v2283.toNat, 0]

def k0_chk171 (v2279 : BitVec 32) : Prop :=
  (8 ∣ (k0_mult172 v2279).toNat) ∧
  (∀ a, (k0_off201 v2279) a + S1x8x1024.size a ≤ S1x2048x1024.size a)
theorem k0_mult172_dvd : ∀ (v2279 : BitVec 32) (k0_hw171 : k0_chk171 v2279), 8 ∣ (k0_mult172 v2279).toNat := fun v2279 k0_hw171 => k0_hw171.1
theorem k0_off201_inb : ∀ (v2279 : BitVec 32) (k0_hw171 : k0_chk171 v2279), ∀ a, (k0_off201 v2279) a + S1x8x1024.size a ≤ S1x2048x1024.size a := fun v2279 k0_hw171 => k0_hw171.2

def k0_mult173 (v2292 : BitVec 32) : BitVec 32 :=
  let c7_i32_1443 : BitVec 32 := 7#32
  let v2293 : BitVec 32 := Scalar.andi v2292 c7_i32_1443
  let v2294 : BitVec 32 := Scalar.subi v2292 v2293
  v2294

def k0_off202 (v2292 : BitVec 32) : Fin 3 → Nat :=
  let c0_1444 : Index := 0#32
  let c7_i32_1443 : BitVec 32 := 7#32
  let v2293 : BitVec 32 := Scalar.andi v2292 c7_i32_1443
  let v2294 : BitVec 32 := Scalar.subi v2292 v2293
  let v2295 : BitVec 32 := v2294
  let v2296 : Index := Scalar.indexCast v2295
  let c0_1445 : Index := 0#32
  ![0, v2296.toNat, 0]

def k0_chk172 (v2292 : BitVec 32) : Prop :=
  (8 ∣ (k0_mult173 v2292).toNat) ∧
  (∀ a, (k0_off202 v2292) a + S1x8x1024.size a ≤ S1x2048x1024.size a)
theorem k0_mult173_dvd : ∀ (v2292 : BitVec 32) (k0_hw172 : k0_chk172 v2292), 8 ∣ (k0_mult173 v2292).toNat := fun v2292 k0_hw172 => k0_hw172.1
theorem k0_off202_inb : ∀ (v2292 : BitVec 32) (k0_hw172 : k0_chk172 v2292), ∀ a, (k0_off202 v2292) a + S1x8x1024.size a ≤ S1x2048x1024.size a := fun v2292 k0_hw172 => k0_hw172.2

def k0_mult174 (v2305 : BitVec 32) : BitVec 32 :=
  let c7_i32_1451 : BitVec 32 := 7#32
  let v2306 : BitVec 32 := Scalar.andi v2305 c7_i32_1451
  let v2307 : BitVec 32 := Scalar.subi v2305 v2306
  v2307

def k0_off203 (v2305 : BitVec 32) : Fin 3 → Nat :=
  let c0_1452 : Index := 0#32
  let c7_i32_1451 : BitVec 32 := 7#32
  let v2306 : BitVec 32 := Scalar.andi v2305 c7_i32_1451
  let v2307 : BitVec 32 := Scalar.subi v2305 v2306
  let v2308 : BitVec 32 := v2307
  let v2309 : Index := Scalar.indexCast v2308
  let c0_1453 : Index := 0#32
  ![0, v2309.toNat, 0]

def k0_chk173 (v2305 : BitVec 32) : Prop :=
  (8 ∣ (k0_mult174 v2305).toNat) ∧
  (∀ a, (k0_off203 v2305) a + S1x8x1024.size a ≤ S1x2048x1024.size a)
theorem k0_mult174_dvd : ∀ (v2305 : BitVec 32) (k0_hw173 : k0_chk173 v2305), 8 ∣ (k0_mult174 v2305).toNat := fun v2305 k0_hw173 => k0_hw173.1
theorem k0_off203_inb : ∀ (v2305 : BitVec 32) (k0_hw173 : k0_chk173 v2305), ∀ a, (k0_off203 v2305) a + S1x8x1024.size a ≤ S1x2048x1024.size a := fun v2305 k0_hw173 => k0_hw173.2

def k0_mult175 (v2318 : BitVec 32) : BitVec 32 :=
  let c7_i32_1459 : BitVec 32 := 7#32
  let v2319 : BitVec 32 := Scalar.andi v2318 c7_i32_1459
  let v2320 : BitVec 32 := Scalar.subi v2318 v2319
  v2320

def k0_off204 (v2318 : BitVec 32) : Fin 3 → Nat :=
  let c0_1460 : Index := 0#32
  let c7_i32_1459 : BitVec 32 := 7#32
  let v2319 : BitVec 32 := Scalar.andi v2318 c7_i32_1459
  let v2320 : BitVec 32 := Scalar.subi v2318 v2319
  let v2321 : BitVec 32 := v2320
  let v2322 : Index := Scalar.indexCast v2321
  let c0_1461 : Index := 0#32
  ![0, v2322.toNat, 0]

def k0_chk174 (v2318 : BitVec 32) : Prop :=
  (8 ∣ (k0_mult175 v2318).toNat) ∧
  (∀ a, (k0_off204 v2318) a + S1x8x1024.size a ≤ S1x2048x1024.size a)
theorem k0_mult175_dvd : ∀ (v2318 : BitVec 32) (k0_hw174 : k0_chk174 v2318), 8 ∣ (k0_mult175 v2318).toNat := fun v2318 k0_hw174 => k0_hw174.1
theorem k0_off204_inb : ∀ (v2318 : BitVec 32) (k0_hw174 : k0_chk174 v2318), ∀ a, (k0_off204 v2318) a + S1x8x1024.size a ≤ S1x2048x1024.size a := fun v2318 k0_hw174 => k0_hw174.2

def k0_mult176 (v2331 : BitVec 32) : BitVec 32 :=
  let c7_i32_1467 : BitVec 32 := 7#32
  let v2332 : BitVec 32 := Scalar.andi v2331 c7_i32_1467
  let v2333 : BitVec 32 := Scalar.subi v2331 v2332
  v2333

def k0_off205 (v2331 : BitVec 32) : Fin 3 → Nat :=
  let c0_1468 : Index := 0#32
  let c7_i32_1467 : BitVec 32 := 7#32
  let v2332 : BitVec 32 := Scalar.andi v2331 c7_i32_1467
  let v2333 : BitVec 32 := Scalar.subi v2331 v2332
  let v2334 : BitVec 32 := v2333
  let v2335 : Index := Scalar.indexCast v2334
  let c0_1469 : Index := 0#32
  ![0, v2335.toNat, 0]

def k0_chk175 (v2331 : BitVec 32) : Prop :=
  (8 ∣ (k0_mult176 v2331).toNat) ∧
  (∀ a, (k0_off205 v2331) a + S1x8x1024.size a ≤ S1x2048x1024.size a)
theorem k0_mult176_dvd : ∀ (v2331 : BitVec 32) (k0_hw175 : k0_chk175 v2331), 8 ∣ (k0_mult176 v2331).toNat := fun v2331 k0_hw175 => k0_hw175.1
theorem k0_off205_inb : ∀ (v2331 : BitVec 32) (k0_hw175 : k0_chk175 v2331), ∀ a, (k0_off205 v2331) a + S1x8x1024.size a ≤ S1x2048x1024.size a := fun v2331 k0_hw175 => k0_hw175.2

def k0_mult177 (v2344 : BitVec 32) : BitVec 32 :=
  let c7_i32_1475 : BitVec 32 := 7#32
  let v2345 : BitVec 32 := Scalar.andi v2344 c7_i32_1475
  let v2346 : BitVec 32 := Scalar.subi v2344 v2345
  v2346

def k0_off206 (v2344 : BitVec 32) : Fin 3 → Nat :=
  let c0_1476 : Index := 0#32
  let c7_i32_1475 : BitVec 32 := 7#32
  let v2345 : BitVec 32 := Scalar.andi v2344 c7_i32_1475
  let v2346 : BitVec 32 := Scalar.subi v2344 v2345
  let v2347 : BitVec 32 := v2346
  let v2348 : Index := Scalar.indexCast v2347
  let c0_1477 : Index := 0#32
  ![0, v2348.toNat, 0]

def k0_chk176 (v2344 : BitVec 32) : Prop :=
  (8 ∣ (k0_mult177 v2344).toNat) ∧
  (∀ a, (k0_off206 v2344) a + S1x8x1024.size a ≤ S1x2048x1024.size a)
theorem k0_mult177_dvd : ∀ (v2344 : BitVec 32) (k0_hw176 : k0_chk176 v2344), 8 ∣ (k0_mult177 v2344).toNat := fun v2344 k0_hw176 => k0_hw176.1
theorem k0_off206_inb : ∀ (v2344 : BitVec 32) (k0_hw176 : k0_chk176 v2344), ∀ a, (k0_off206 v2344) a + S1x8x1024.size a ≤ S1x2048x1024.size a := fun v2344 k0_hw176 => k0_hw176.2

def k0_off207 (i : grid0.Coords) : Fin 3 → Nat :=
  let c1_i32_1415 : BitVec 32 := 1#32
  let arg1 : BitVec 32 := BitVec.ofNat 32 (i 1).val
  let c1_i32 : BitVec 32 := 1#32
  let v1 : BitVec 32 := Scalar.andi arg1 c1_i32
  let v2251 : BitVec 32 := Scalar.subi c1_i32_1415 v1
  let c0_i32_1481 : BitVec 32 := 0#32
  let c0_i32_1482 : BitVec 32 := 0#32
  ![v2251.toNat, 0, 0]
def k0_mult178 (v2364 : BitVec 32) : BitVec 32 :=
  let c7_i32_1489 : BitVec 32 := 7#32
  let v2365 : BitVec 32 := Scalar.andi v2364 c7_i32_1489
  let v2366 : BitVec 32 := Scalar.subi v2364 v2365
  v2366

def k0_off208 (v2364 : BitVec 32) : Fin 3 → Nat :=
  let c0_1490 : Index := 0#32
  let c7_i32_1489 : BitVec 32 := 7#32
  let v2365 : BitVec 32 := Scalar.andi v2364 c7_i32_1489
  let v2366 : BitVec 32 := Scalar.subi v2364 v2365
  let v2367 : BitVec 32 := v2366
  let v2368 : Index := Scalar.indexCast v2367
  let c0_1491 : Index := 0#32
  ![0, v2368.toNat, 0]

def k0_chk177 (v2364 : BitVec 32) : Prop :=
  (8 ∣ (k0_mult178 v2364).toNat) ∧
  (∀ a, (k0_off208 v2364) a + S1x8x1024.size a ≤ S1x2048x1024.size a)
theorem k0_mult178_dvd : ∀ (v2364 : BitVec 32) (k0_hw177 : k0_chk177 v2364), 8 ∣ (k0_mult178 v2364).toNat := fun v2364 k0_hw177 => k0_hw177.1
theorem k0_off208_inb : ∀ (v2364 : BitVec 32) (k0_hw177 : k0_chk177 v2364), ∀ a, (k0_off208 v2364) a + S1x8x1024.size a ≤ S1x2048x1024.size a := fun v2364 k0_hw177 => k0_hw177.2

def k0_mult179 (v2377 : BitVec 32) : BitVec 32 :=
  let c7_i32_1497 : BitVec 32 := 7#32
  let v2378 : BitVec 32 := Scalar.andi v2377 c7_i32_1497
  let v2379 : BitVec 32 := Scalar.subi v2377 v2378
  v2379

def k0_off209 (v2377 : BitVec 32) : Fin 3 → Nat :=
  let c0_1498 : Index := 0#32
  let c7_i32_1497 : BitVec 32 := 7#32
  let v2378 : BitVec 32 := Scalar.andi v2377 c7_i32_1497
  let v2379 : BitVec 32 := Scalar.subi v2377 v2378
  let v2380 : BitVec 32 := v2379
  let v2381 : Index := Scalar.indexCast v2380
  let c0_1499 : Index := 0#32
  ![0, v2381.toNat, 0]

def k0_chk178 (v2377 : BitVec 32) : Prop :=
  (8 ∣ (k0_mult179 v2377).toNat) ∧
  (∀ a, (k0_off209 v2377) a + S1x8x1024.size a ≤ S1x2048x1024.size a)
theorem k0_mult179_dvd : ∀ (v2377 : BitVec 32) (k0_hw178 : k0_chk178 v2377), 8 ∣ (k0_mult179 v2377).toNat := fun v2377 k0_hw178 => k0_hw178.1
theorem k0_off209_inb : ∀ (v2377 : BitVec 32) (k0_hw178 : k0_chk178 v2377), ∀ a, (k0_off209 v2377) a + S1x8x1024.size a ≤ S1x2048x1024.size a := fun v2377 k0_hw178 => k0_hw178.2

def k0_mult180 (v2390 : BitVec 32) : BitVec 32 :=
  let c7_i32_1505 : BitVec 32 := 7#32
  let v2391 : BitVec 32 := Scalar.andi v2390 c7_i32_1505
  let v2392 : BitVec 32 := Scalar.subi v2390 v2391
  v2392

def k0_off210 (v2390 : BitVec 32) : Fin 3 → Nat :=
  let c0_1506 : Index := 0#32
  let c7_i32_1505 : BitVec 32 := 7#32
  let v2391 : BitVec 32 := Scalar.andi v2390 c7_i32_1505
  let v2392 : BitVec 32 := Scalar.subi v2390 v2391
  let v2393 : BitVec 32 := v2392
  let v2394 : Index := Scalar.indexCast v2393
  let c0_1507 : Index := 0#32
  ![0, v2394.toNat, 0]

def k0_chk179 (v2390 : BitVec 32) : Prop :=
  (8 ∣ (k0_mult180 v2390).toNat) ∧
  (∀ a, (k0_off210 v2390) a + S1x8x1024.size a ≤ S1x2048x1024.size a)
theorem k0_mult180_dvd : ∀ (v2390 : BitVec 32) (k0_hw179 : k0_chk179 v2390), 8 ∣ (k0_mult180 v2390).toNat := fun v2390 k0_hw179 => k0_hw179.1
theorem k0_off210_inb : ∀ (v2390 : BitVec 32) (k0_hw179 : k0_chk179 v2390), ∀ a, (k0_off210 v2390) a + S1x8x1024.size a ≤ S1x2048x1024.size a := fun v2390 k0_hw179 => k0_hw179.2

def k0_mult181 (v2403 : BitVec 32) : BitVec 32 :=
  let c7_i32_1513 : BitVec 32 := 7#32
  let v2404 : BitVec 32 := Scalar.andi v2403 c7_i32_1513
  let v2405 : BitVec 32 := Scalar.subi v2403 v2404
  v2405

def k0_off211 (v2403 : BitVec 32) : Fin 3 → Nat :=
  let c0_1514 : Index := 0#32
  let c7_i32_1513 : BitVec 32 := 7#32
  let v2404 : BitVec 32 := Scalar.andi v2403 c7_i32_1513
  let v2405 : BitVec 32 := Scalar.subi v2403 v2404
  let v2406 : BitVec 32 := v2405
  let v2407 : Index := Scalar.indexCast v2406
  let c0_1515 : Index := 0#32
  ![0, v2407.toNat, 0]

def k0_chk180 (v2403 : BitVec 32) : Prop :=
  (8 ∣ (k0_mult181 v2403).toNat) ∧
  (∀ a, (k0_off211 v2403) a + S1x8x1024.size a ≤ S1x2048x1024.size a)
theorem k0_mult181_dvd : ∀ (v2403 : BitVec 32) (k0_hw180 : k0_chk180 v2403), 8 ∣ (k0_mult181 v2403).toNat := fun v2403 k0_hw180 => k0_hw180.1
theorem k0_off211_inb : ∀ (v2403 : BitVec 32) (k0_hw180 : k0_chk180 v2403), ∀ a, (k0_off211 v2403) a + S1x8x1024.size a ≤ S1x2048x1024.size a := fun v2403 k0_hw180 => k0_hw180.2

def k0_mult182 (v2416 : BitVec 32) : BitVec 32 :=
  let c7_i32_1521 : BitVec 32 := 7#32
  let v2417 : BitVec 32 := Scalar.andi v2416 c7_i32_1521
  let v2418 : BitVec 32 := Scalar.subi v2416 v2417
  v2418

def k0_off212 (v2416 : BitVec 32) : Fin 3 → Nat :=
  let c0_1522 : Index := 0#32
  let c7_i32_1521 : BitVec 32 := 7#32
  let v2417 : BitVec 32 := Scalar.andi v2416 c7_i32_1521
  let v2418 : BitVec 32 := Scalar.subi v2416 v2417
  let v2419 : BitVec 32 := v2418
  let v2420 : Index := Scalar.indexCast v2419
  let c0_1523 : Index := 0#32
  ![0, v2420.toNat, 0]

def k0_chk181 (v2416 : BitVec 32) : Prop :=
  (8 ∣ (k0_mult182 v2416).toNat) ∧
  (∀ a, (k0_off212 v2416) a + S1x8x1024.size a ≤ S1x2048x1024.size a)
theorem k0_mult182_dvd : ∀ (v2416 : BitVec 32) (k0_hw181 : k0_chk181 v2416), 8 ∣ (k0_mult182 v2416).toNat := fun v2416 k0_hw181 => k0_hw181.1
theorem k0_off212_inb : ∀ (v2416 : BitVec 32) (k0_hw181 : k0_chk181 v2416), ∀ a, (k0_off212 v2416) a + S1x8x1024.size a ≤ S1x2048x1024.size a := fun v2416 k0_hw181 => k0_hw181.2

def k0_mult183 (v2429 : BitVec 32) : BitVec 32 :=
  let c7_i32_1529 : BitVec 32 := 7#32
  let v2430 : BitVec 32 := Scalar.andi v2429 c7_i32_1529
  let v2431 : BitVec 32 := Scalar.subi v2429 v2430
  v2431

def k0_off213 (v2429 : BitVec 32) : Fin 3 → Nat :=
  let c0_1530 : Index := 0#32
  let c7_i32_1529 : BitVec 32 := 7#32
  let v2430 : BitVec 32 := Scalar.andi v2429 c7_i32_1529
  let v2431 : BitVec 32 := Scalar.subi v2429 v2430
  let v2432 : BitVec 32 := v2431
  let v2433 : Index := Scalar.indexCast v2432
  let c0_1531 : Index := 0#32
  ![0, v2433.toNat, 0]

def k0_chk182 (v2429 : BitVec 32) : Prop :=
  (8 ∣ (k0_mult183 v2429).toNat) ∧
  (∀ a, (k0_off213 v2429) a + S1x8x1024.size a ≤ S1x2048x1024.size a)
theorem k0_mult183_dvd : ∀ (v2429 : BitVec 32) (k0_hw182 : k0_chk182 v2429), 8 ∣ (k0_mult183 v2429).toNat := fun v2429 k0_hw182 => k0_hw182.1
theorem k0_off213_inb : ∀ (v2429 : BitVec 32) (k0_hw182 : k0_chk182 v2429), ∀ a, (k0_off213 v2429) a + S1x8x1024.size a ≤ S1x2048x1024.size a := fun v2429 k0_hw182 => k0_hw182.2

def k0_mult184 (v2442 : BitVec 32) : BitVec 32 :=
  let c7_i32_1537 : BitVec 32 := 7#32
  let v2443 : BitVec 32 := Scalar.andi v2442 c7_i32_1537
  let v2444 : BitVec 32 := Scalar.subi v2442 v2443
  v2444

def k0_off214 (v2442 : BitVec 32) : Fin 3 → Nat :=
  let c0_1538 : Index := 0#32
  let c7_i32_1537 : BitVec 32 := 7#32
  let v2443 : BitVec 32 := Scalar.andi v2442 c7_i32_1537
  let v2444 : BitVec 32 := Scalar.subi v2442 v2443
  let v2445 : BitVec 32 := v2444
  let v2446 : Index := Scalar.indexCast v2445
  let c0_1539 : Index := 0#32
  ![0, v2446.toNat, 0]

def k0_chk183 (v2442 : BitVec 32) : Prop :=
  (8 ∣ (k0_mult184 v2442).toNat) ∧
  (∀ a, (k0_off214 v2442) a + S1x8x1024.size a ≤ S1x2048x1024.size a)
theorem k0_mult184_dvd : ∀ (v2442 : BitVec 32) (k0_hw183 : k0_chk183 v2442), 8 ∣ (k0_mult184 v2442).toNat := fun v2442 k0_hw183 => k0_hw183.1
theorem k0_off214_inb : ∀ (v2442 : BitVec 32) (k0_hw183 : k0_chk183 v2442), ∀ a, (k0_off214 v2442) a + S1x8x1024.size a ≤ S1x2048x1024.size a := fun v2442 k0_hw183 => k0_hw183.2

def k0_mult185 (v2455 : BitVec 32) : BitVec 32 :=
  let c7_i32_1545 : BitVec 32 := 7#32
  let v2456 : BitVec 32 := Scalar.andi v2455 c7_i32_1545
  let v2457 : BitVec 32 := Scalar.subi v2455 v2456
  v2457

def k0_off215 (v2455 : BitVec 32) : Fin 3 → Nat :=
  let c0_1546 : Index := 0#32
  let c7_i32_1545 : BitVec 32 := 7#32
  let v2456 : BitVec 32 := Scalar.andi v2455 c7_i32_1545
  let v2457 : BitVec 32 := Scalar.subi v2455 v2456
  let v2458 : BitVec 32 := v2457
  let v2459 : Index := Scalar.indexCast v2458
  let c0_1547 : Index := 0#32
  ![0, v2459.toNat, 0]

def k0_chk184 (v2455 : BitVec 32) : Prop :=
  (8 ∣ (k0_mult185 v2455).toNat) ∧
  (∀ a, (k0_off215 v2455) a + S1x8x1024.size a ≤ S1x2048x1024.size a)
theorem k0_mult185_dvd : ∀ (v2455 : BitVec 32) (k0_hw184 : k0_chk184 v2455), 8 ∣ (k0_mult185 v2455).toNat := fun v2455 k0_hw184 => k0_hw184.1
theorem k0_off215_inb : ∀ (v2455 : BitVec 32) (k0_hw184 : k0_chk184 v2455), ∀ a, (k0_off215 v2455) a + S1x8x1024.size a ≤ S1x2048x1024.size a := fun v2455 k0_hw184 => k0_hw184.2

def k0_off216 (i : grid0.Coords) : Fin 3 → Nat :=
  let c1_i32_1485 : BitVec 32 := 1#32
  let arg1 : BitVec 32 := BitVec.ofNat 32 (i 1).val
  let c1_i32 : BitVec 32 := 1#32
  let v1 : BitVec 32 := Scalar.andi arg1 c1_i32
  let v2362 : BitVec 32 := Scalar.subi c1_i32_1485 v1
  let c0_i32_1551 : BitVec 32 := 0#32
  let c0_i32_1552 : BitVec 32 := 0#32
  ![v2362.toNat, 0, 0]
def k0_mult186 (v2475 : BitVec 32) : BitVec 32 :=
  let c7_i32_1559 : BitVec 32 := 7#32
  let v2476 : BitVec 32 := Scalar.andi v2475 c7_i32_1559
  let v2477 : BitVec 32 := Scalar.subi v2475 v2476
  v2477

def k0_off217 (v2475 : BitVec 32) : Fin 3 → Nat :=
  let c0_1560 : Index := 0#32
  let c7_i32_1559 : BitVec 32 := 7#32
  let v2476 : BitVec 32 := Scalar.andi v2475 c7_i32_1559
  let v2477 : BitVec 32 := Scalar.subi v2475 v2476
  let v2478 : BitVec 32 := v2477
  let v2479 : Index := Scalar.indexCast v2478
  let c0_1561 : Index := 0#32
  ![0, v2479.toNat, 0]

def k0_chk185 (v2475 : BitVec 32) : Prop :=
  (8 ∣ (k0_mult186 v2475).toNat) ∧
  (∀ a, (k0_off217 v2475) a + S1x8x1024.size a ≤ S1x2048x1024.size a)
theorem k0_mult186_dvd : ∀ (v2475 : BitVec 32) (k0_hw185 : k0_chk185 v2475), 8 ∣ (k0_mult186 v2475).toNat := fun v2475 k0_hw185 => k0_hw185.1
theorem k0_off217_inb : ∀ (v2475 : BitVec 32) (k0_hw185 : k0_chk185 v2475), ∀ a, (k0_off217 v2475) a + S1x8x1024.size a ≤ S1x2048x1024.size a := fun v2475 k0_hw185 => k0_hw185.2

def k0_mult187 (v2488 : BitVec 32) : BitVec 32 :=
  let c7_i32_1567 : BitVec 32 := 7#32
  let v2489 : BitVec 32 := Scalar.andi v2488 c7_i32_1567
  let v2490 : BitVec 32 := Scalar.subi v2488 v2489
  v2490

def k0_off218 (v2488 : BitVec 32) : Fin 3 → Nat :=
  let c0_1568 : Index := 0#32
  let c7_i32_1567 : BitVec 32 := 7#32
  let v2489 : BitVec 32 := Scalar.andi v2488 c7_i32_1567
  let v2490 : BitVec 32 := Scalar.subi v2488 v2489
  let v2491 : BitVec 32 := v2490
  let v2492 : Index := Scalar.indexCast v2491
  let c0_1569 : Index := 0#32
  ![0, v2492.toNat, 0]

def k0_chk186 (v2488 : BitVec 32) : Prop :=
  (8 ∣ (k0_mult187 v2488).toNat) ∧
  (∀ a, (k0_off218 v2488) a + S1x8x1024.size a ≤ S1x2048x1024.size a)
theorem k0_mult187_dvd : ∀ (v2488 : BitVec 32) (k0_hw186 : k0_chk186 v2488), 8 ∣ (k0_mult187 v2488).toNat := fun v2488 k0_hw186 => k0_hw186.1
theorem k0_off218_inb : ∀ (v2488 : BitVec 32) (k0_hw186 : k0_chk186 v2488), ∀ a, (k0_off218 v2488) a + S1x8x1024.size a ≤ S1x2048x1024.size a := fun v2488 k0_hw186 => k0_hw186.2

def k0_mult188 (v2501 : BitVec 32) : BitVec 32 :=
  let c7_i32_1575 : BitVec 32 := 7#32
  let v2502 : BitVec 32 := Scalar.andi v2501 c7_i32_1575
  let v2503 : BitVec 32 := Scalar.subi v2501 v2502
  v2503

def k0_off219 (v2501 : BitVec 32) : Fin 3 → Nat :=
  let c0_1576 : Index := 0#32
  let c7_i32_1575 : BitVec 32 := 7#32
  let v2502 : BitVec 32 := Scalar.andi v2501 c7_i32_1575
  let v2503 : BitVec 32 := Scalar.subi v2501 v2502
  let v2504 : BitVec 32 := v2503
  let v2505 : Index := Scalar.indexCast v2504
  let c0_1577 : Index := 0#32
  ![0, v2505.toNat, 0]

def k0_chk187 (v2501 : BitVec 32) : Prop :=
  (8 ∣ (k0_mult188 v2501).toNat) ∧
  (∀ a, (k0_off219 v2501) a + S1x8x1024.size a ≤ S1x2048x1024.size a)
theorem k0_mult188_dvd : ∀ (v2501 : BitVec 32) (k0_hw187 : k0_chk187 v2501), 8 ∣ (k0_mult188 v2501).toNat := fun v2501 k0_hw187 => k0_hw187.1
theorem k0_off219_inb : ∀ (v2501 : BitVec 32) (k0_hw187 : k0_chk187 v2501), ∀ a, (k0_off219 v2501) a + S1x8x1024.size a ≤ S1x2048x1024.size a := fun v2501 k0_hw187 => k0_hw187.2

def k0_mult189 (v2514 : BitVec 32) : BitVec 32 :=
  let c7_i32_1583 : BitVec 32 := 7#32
  let v2515 : BitVec 32 := Scalar.andi v2514 c7_i32_1583
  let v2516 : BitVec 32 := Scalar.subi v2514 v2515
  v2516

def k0_off220 (v2514 : BitVec 32) : Fin 3 → Nat :=
  let c0_1584 : Index := 0#32
  let c7_i32_1583 : BitVec 32 := 7#32
  let v2515 : BitVec 32 := Scalar.andi v2514 c7_i32_1583
  let v2516 : BitVec 32 := Scalar.subi v2514 v2515
  let v2517 : BitVec 32 := v2516
  let v2518 : Index := Scalar.indexCast v2517
  let c0_1585 : Index := 0#32
  ![0, v2518.toNat, 0]

def k0_chk188 (v2514 : BitVec 32) : Prop :=
  (8 ∣ (k0_mult189 v2514).toNat) ∧
  (∀ a, (k0_off220 v2514) a + S1x8x1024.size a ≤ S1x2048x1024.size a)
theorem k0_mult189_dvd : ∀ (v2514 : BitVec 32) (k0_hw188 : k0_chk188 v2514), 8 ∣ (k0_mult189 v2514).toNat := fun v2514 k0_hw188 => k0_hw188.1
theorem k0_off220_inb : ∀ (v2514 : BitVec 32) (k0_hw188 : k0_chk188 v2514), ∀ a, (k0_off220 v2514) a + S1x8x1024.size a ≤ S1x2048x1024.size a := fun v2514 k0_hw188 => k0_hw188.2

def k0_mult190 (v2527 : BitVec 32) : BitVec 32 :=
  let c7_i32_1591 : BitVec 32 := 7#32
  let v2528 : BitVec 32 := Scalar.andi v2527 c7_i32_1591
  let v2529 : BitVec 32 := Scalar.subi v2527 v2528
  v2529

def k0_off221 (v2527 : BitVec 32) : Fin 3 → Nat :=
  let c0_1592 : Index := 0#32
  let c7_i32_1591 : BitVec 32 := 7#32
  let v2528 : BitVec 32 := Scalar.andi v2527 c7_i32_1591
  let v2529 : BitVec 32 := Scalar.subi v2527 v2528
  let v2530 : BitVec 32 := v2529
  let v2531 : Index := Scalar.indexCast v2530
  let c0_1593 : Index := 0#32
  ![0, v2531.toNat, 0]

def k0_chk189 (v2527 : BitVec 32) : Prop :=
  (8 ∣ (k0_mult190 v2527).toNat) ∧
  (∀ a, (k0_off221 v2527) a + S1x8x1024.size a ≤ S1x2048x1024.size a)
theorem k0_mult190_dvd : ∀ (v2527 : BitVec 32) (k0_hw189 : k0_chk189 v2527), 8 ∣ (k0_mult190 v2527).toNat := fun v2527 k0_hw189 => k0_hw189.1
theorem k0_off221_inb : ∀ (v2527 : BitVec 32) (k0_hw189 : k0_chk189 v2527), ∀ a, (k0_off221 v2527) a + S1x8x1024.size a ≤ S1x2048x1024.size a := fun v2527 k0_hw189 => k0_hw189.2

def k0_mult191 (v2540 : BitVec 32) : BitVec 32 :=
  let c7_i32_1599 : BitVec 32 := 7#32
  let v2541 : BitVec 32 := Scalar.andi v2540 c7_i32_1599
  let v2542 : BitVec 32 := Scalar.subi v2540 v2541
  v2542

def k0_off222 (v2540 : BitVec 32) : Fin 3 → Nat :=
  let c0_1600 : Index := 0#32
  let c7_i32_1599 : BitVec 32 := 7#32
  let v2541 : BitVec 32 := Scalar.andi v2540 c7_i32_1599
  let v2542 : BitVec 32 := Scalar.subi v2540 v2541
  let v2543 : BitVec 32 := v2542
  let v2544 : Index := Scalar.indexCast v2543
  let c0_1601 : Index := 0#32
  ![0, v2544.toNat, 0]

def k0_chk190 (v2540 : BitVec 32) : Prop :=
  (8 ∣ (k0_mult191 v2540).toNat) ∧
  (∀ a, (k0_off222 v2540) a + S1x8x1024.size a ≤ S1x2048x1024.size a)
theorem k0_mult191_dvd : ∀ (v2540 : BitVec 32) (k0_hw190 : k0_chk190 v2540), 8 ∣ (k0_mult191 v2540).toNat := fun v2540 k0_hw190 => k0_hw190.1
theorem k0_off222_inb : ∀ (v2540 : BitVec 32) (k0_hw190 : k0_chk190 v2540), ∀ a, (k0_off222 v2540) a + S1x8x1024.size a ≤ S1x2048x1024.size a := fun v2540 k0_hw190 => k0_hw190.2

def k0_mult192 (v2553 : BitVec 32) : BitVec 32 :=
  let c7_i32_1607 : BitVec 32 := 7#32
  let v2554 : BitVec 32 := Scalar.andi v2553 c7_i32_1607
  let v2555 : BitVec 32 := Scalar.subi v2553 v2554
  v2555

def k0_off223 (v2553 : BitVec 32) : Fin 3 → Nat :=
  let c0_1608 : Index := 0#32
  let c7_i32_1607 : BitVec 32 := 7#32
  let v2554 : BitVec 32 := Scalar.andi v2553 c7_i32_1607
  let v2555 : BitVec 32 := Scalar.subi v2553 v2554
  let v2556 : BitVec 32 := v2555
  let v2557 : Index := Scalar.indexCast v2556
  let c0_1609 : Index := 0#32
  ![0, v2557.toNat, 0]

def k0_chk191 (v2553 : BitVec 32) : Prop :=
  (8 ∣ (k0_mult192 v2553).toNat) ∧
  (∀ a, (k0_off223 v2553) a + S1x8x1024.size a ≤ S1x2048x1024.size a)
theorem k0_mult192_dvd : ∀ (v2553 : BitVec 32) (k0_hw191 : k0_chk191 v2553), 8 ∣ (k0_mult192 v2553).toNat := fun v2553 k0_hw191 => k0_hw191.1
theorem k0_off223_inb : ∀ (v2553 : BitVec 32) (k0_hw191 : k0_chk191 v2553), ∀ a, (k0_off223 v2553) a + S1x8x1024.size a ≤ S1x2048x1024.size a := fun v2553 k0_hw191 => k0_hw191.2

def k0_mult193 (v2566 : BitVec 32) : BitVec 32 :=
  let c7_i32_1615 : BitVec 32 := 7#32
  let v2567 : BitVec 32 := Scalar.andi v2566 c7_i32_1615
  let v2568 : BitVec 32 := Scalar.subi v2566 v2567
  v2568

def k0_off224 (v2566 : BitVec 32) : Fin 3 → Nat :=
  let c0_1616 : Index := 0#32
  let c7_i32_1615 : BitVec 32 := 7#32
  let v2567 : BitVec 32 := Scalar.andi v2566 c7_i32_1615
  let v2568 : BitVec 32 := Scalar.subi v2566 v2567
  let v2569 : BitVec 32 := v2568
  let v2570 : Index := Scalar.indexCast v2569
  let c0_1617 : Index := 0#32
  ![0, v2570.toNat, 0]

def k0_chk192 (v2566 : BitVec 32) : Prop :=
  (8 ∣ (k0_mult193 v2566).toNat) ∧
  (∀ a, (k0_off224 v2566) a + S1x8x1024.size a ≤ S1x2048x1024.size a)
theorem k0_mult193_dvd : ∀ (v2566 : BitVec 32) (k0_hw192 : k0_chk192 v2566), 8 ∣ (k0_mult193 v2566).toNat := fun v2566 k0_hw192 => k0_hw192.1
theorem k0_off224_inb : ∀ (v2566 : BitVec 32) (k0_hw192 : k0_chk192 v2566), ∀ a, (k0_off224 v2566) a + S1x8x1024.size a ≤ S1x2048x1024.size a := fun v2566 k0_hw192 => k0_hw192.2

def k0_off225 (i : grid0.Coords) : Fin 3 → Nat :=
  let c1_i32_1555 : BitVec 32 := 1#32
  let arg1 : BitVec 32 := BitVec.ofNat 32 (i 1).val
  let c1_i32 : BitVec 32 := 1#32
  let v1 : BitVec 32 := Scalar.andi arg1 c1_i32
  let v2473 : BitVec 32 := Scalar.subi c1_i32_1555 v1
  let c0_i32_1621 : BitVec 32 := 0#32
  let c0_i32_1622 : BitVec 32 := 0#32
  ![v2473.toNat, 0, 0]
def k0_mult194 (v2586 : BitVec 32) : BitVec 32 :=
  let c7_i32_1629 : BitVec 32 := 7#32
  let v2587 : BitVec 32 := Scalar.andi v2586 c7_i32_1629
  let v2588 : BitVec 32 := Scalar.subi v2586 v2587
  v2588

def k0_off226 (v2586 : BitVec 32) : Fin 3 → Nat :=
  let c0_1630 : Index := 0#32
  let c7_i32_1629 : BitVec 32 := 7#32
  let v2587 : BitVec 32 := Scalar.andi v2586 c7_i32_1629
  let v2588 : BitVec 32 := Scalar.subi v2586 v2587
  let v2589 : BitVec 32 := v2588
  let v2590 : Index := Scalar.indexCast v2589
  let c0_1631 : Index := 0#32
  ![0, v2590.toNat, 0]

def k0_chk193 (v2586 : BitVec 32) : Prop :=
  (8 ∣ (k0_mult194 v2586).toNat) ∧
  (∀ a, (k0_off226 v2586) a + S1x8x1024.size a ≤ S1x2048x1024.size a)
theorem k0_mult194_dvd : ∀ (v2586 : BitVec 32) (k0_hw193 : k0_chk193 v2586), 8 ∣ (k0_mult194 v2586).toNat := fun v2586 k0_hw193 => k0_hw193.1
theorem k0_off226_inb : ∀ (v2586 : BitVec 32) (k0_hw193 : k0_chk193 v2586), ∀ a, (k0_off226 v2586) a + S1x8x1024.size a ≤ S1x2048x1024.size a := fun v2586 k0_hw193 => k0_hw193.2

def k0_mult195 (v2599 : BitVec 32) : BitVec 32 :=
  let c7_i32_1637 : BitVec 32 := 7#32
  let v2600 : BitVec 32 := Scalar.andi v2599 c7_i32_1637
  let v2601 : BitVec 32 := Scalar.subi v2599 v2600
  v2601

def k0_off227 (v2599 : BitVec 32) : Fin 3 → Nat :=
  let c0_1638 : Index := 0#32
  let c7_i32_1637 : BitVec 32 := 7#32
  let v2600 : BitVec 32 := Scalar.andi v2599 c7_i32_1637
  let v2601 : BitVec 32 := Scalar.subi v2599 v2600
  let v2602 : BitVec 32 := v2601
  let v2603 : Index := Scalar.indexCast v2602
  let c0_1639 : Index := 0#32
  ![0, v2603.toNat, 0]

def k0_chk194 (v2599 : BitVec 32) : Prop :=
  (8 ∣ (k0_mult195 v2599).toNat) ∧
  (∀ a, (k0_off227 v2599) a + S1x8x1024.size a ≤ S1x2048x1024.size a)
theorem k0_mult195_dvd : ∀ (v2599 : BitVec 32) (k0_hw194 : k0_chk194 v2599), 8 ∣ (k0_mult195 v2599).toNat := fun v2599 k0_hw194 => k0_hw194.1
theorem k0_off227_inb : ∀ (v2599 : BitVec 32) (k0_hw194 : k0_chk194 v2599), ∀ a, (k0_off227 v2599) a + S1x8x1024.size a ≤ S1x2048x1024.size a := fun v2599 k0_hw194 => k0_hw194.2

def k0_mult196 (v2612 : BitVec 32) : BitVec 32 :=
  let c7_i32_1645 : BitVec 32 := 7#32
  let v2613 : BitVec 32 := Scalar.andi v2612 c7_i32_1645
  let v2614 : BitVec 32 := Scalar.subi v2612 v2613
  v2614

def k0_off228 (v2612 : BitVec 32) : Fin 3 → Nat :=
  let c0_1646 : Index := 0#32
  let c7_i32_1645 : BitVec 32 := 7#32
  let v2613 : BitVec 32 := Scalar.andi v2612 c7_i32_1645
  let v2614 : BitVec 32 := Scalar.subi v2612 v2613
  let v2615 : BitVec 32 := v2614
  let v2616 : Index := Scalar.indexCast v2615
  let c0_1647 : Index := 0#32
  ![0, v2616.toNat, 0]

def k0_chk195 (v2612 : BitVec 32) : Prop :=
  (8 ∣ (k0_mult196 v2612).toNat) ∧
  (∀ a, (k0_off228 v2612) a + S1x8x1024.size a ≤ S1x2048x1024.size a)
theorem k0_mult196_dvd : ∀ (v2612 : BitVec 32) (k0_hw195 : k0_chk195 v2612), 8 ∣ (k0_mult196 v2612).toNat := fun v2612 k0_hw195 => k0_hw195.1
theorem k0_off228_inb : ∀ (v2612 : BitVec 32) (k0_hw195 : k0_chk195 v2612), ∀ a, (k0_off228 v2612) a + S1x8x1024.size a ≤ S1x2048x1024.size a := fun v2612 k0_hw195 => k0_hw195.2

def k0_mult197 (v2625 : BitVec 32) : BitVec 32 :=
  let c7_i32_1653 : BitVec 32 := 7#32
  let v2626 : BitVec 32 := Scalar.andi v2625 c7_i32_1653
  let v2627 : BitVec 32 := Scalar.subi v2625 v2626
  v2627

def k0_off229 (v2625 : BitVec 32) : Fin 3 → Nat :=
  let c0_1654 : Index := 0#32
  let c7_i32_1653 : BitVec 32 := 7#32
  let v2626 : BitVec 32 := Scalar.andi v2625 c7_i32_1653
  let v2627 : BitVec 32 := Scalar.subi v2625 v2626
  let v2628 : BitVec 32 := v2627
  let v2629 : Index := Scalar.indexCast v2628
  let c0_1655 : Index := 0#32
  ![0, v2629.toNat, 0]

def k0_chk196 (v2625 : BitVec 32) : Prop :=
  (8 ∣ (k0_mult197 v2625).toNat) ∧
  (∀ a, (k0_off229 v2625) a + S1x8x1024.size a ≤ S1x2048x1024.size a)
theorem k0_mult197_dvd : ∀ (v2625 : BitVec 32) (k0_hw196 : k0_chk196 v2625), 8 ∣ (k0_mult197 v2625).toNat := fun v2625 k0_hw196 => k0_hw196.1
theorem k0_off229_inb : ∀ (v2625 : BitVec 32) (k0_hw196 : k0_chk196 v2625), ∀ a, (k0_off229 v2625) a + S1x8x1024.size a ≤ S1x2048x1024.size a := fun v2625 k0_hw196 => k0_hw196.2

def k0_mult198 (v2638 : BitVec 32) : BitVec 32 :=
  let c7_i32_1661 : BitVec 32 := 7#32
  let v2639 : BitVec 32 := Scalar.andi v2638 c7_i32_1661
  let v2640 : BitVec 32 := Scalar.subi v2638 v2639
  v2640

def k0_off230 (v2638 : BitVec 32) : Fin 3 → Nat :=
  let c0_1662 : Index := 0#32
  let c7_i32_1661 : BitVec 32 := 7#32
  let v2639 : BitVec 32 := Scalar.andi v2638 c7_i32_1661
  let v2640 : BitVec 32 := Scalar.subi v2638 v2639
  let v2641 : BitVec 32 := v2640
  let v2642 : Index := Scalar.indexCast v2641
  let c0_1663 : Index := 0#32
  ![0, v2642.toNat, 0]

def k0_chk197 (v2638 : BitVec 32) : Prop :=
  (8 ∣ (k0_mult198 v2638).toNat) ∧
  (∀ a, (k0_off230 v2638) a + S1x8x1024.size a ≤ S1x2048x1024.size a)
theorem k0_mult198_dvd : ∀ (v2638 : BitVec 32) (k0_hw197 : k0_chk197 v2638), 8 ∣ (k0_mult198 v2638).toNat := fun v2638 k0_hw197 => k0_hw197.1
theorem k0_off230_inb : ∀ (v2638 : BitVec 32) (k0_hw197 : k0_chk197 v2638), ∀ a, (k0_off230 v2638) a + S1x8x1024.size a ≤ S1x2048x1024.size a := fun v2638 k0_hw197 => k0_hw197.2

def k0_mult199 (v2651 : BitVec 32) : BitVec 32 :=
  let c7_i32_1669 : BitVec 32 := 7#32
  let v2652 : BitVec 32 := Scalar.andi v2651 c7_i32_1669
  let v2653 : BitVec 32 := Scalar.subi v2651 v2652
  v2653

def k0_off231 (v2651 : BitVec 32) : Fin 3 → Nat :=
  let c0_1670 : Index := 0#32
  let c7_i32_1669 : BitVec 32 := 7#32
  let v2652 : BitVec 32 := Scalar.andi v2651 c7_i32_1669
  let v2653 : BitVec 32 := Scalar.subi v2651 v2652
  let v2654 : BitVec 32 := v2653
  let v2655 : Index := Scalar.indexCast v2654
  let c0_1671 : Index := 0#32
  ![0, v2655.toNat, 0]

def k0_chk198 (v2651 : BitVec 32) : Prop :=
  (8 ∣ (k0_mult199 v2651).toNat) ∧
  (∀ a, (k0_off231 v2651) a + S1x8x1024.size a ≤ S1x2048x1024.size a)
theorem k0_mult199_dvd : ∀ (v2651 : BitVec 32) (k0_hw198 : k0_chk198 v2651), 8 ∣ (k0_mult199 v2651).toNat := fun v2651 k0_hw198 => k0_hw198.1
theorem k0_off231_inb : ∀ (v2651 : BitVec 32) (k0_hw198 : k0_chk198 v2651), ∀ a, (k0_off231 v2651) a + S1x8x1024.size a ≤ S1x2048x1024.size a := fun v2651 k0_hw198 => k0_hw198.2

def k0_mult200 (v2664 : BitVec 32) : BitVec 32 :=
  let c7_i32_1677 : BitVec 32 := 7#32
  let v2665 : BitVec 32 := Scalar.andi v2664 c7_i32_1677
  let v2666 : BitVec 32 := Scalar.subi v2664 v2665
  v2666

def k0_off232 (v2664 : BitVec 32) : Fin 3 → Nat :=
  let c0_1678 : Index := 0#32
  let c7_i32_1677 : BitVec 32 := 7#32
  let v2665 : BitVec 32 := Scalar.andi v2664 c7_i32_1677
  let v2666 : BitVec 32 := Scalar.subi v2664 v2665
  let v2667 : BitVec 32 := v2666
  let v2668 : Index := Scalar.indexCast v2667
  let c0_1679 : Index := 0#32
  ![0, v2668.toNat, 0]

def k0_chk199 (v2664 : BitVec 32) : Prop :=
  (8 ∣ (k0_mult200 v2664).toNat) ∧
  (∀ a, (k0_off232 v2664) a + S1x8x1024.size a ≤ S1x2048x1024.size a)
theorem k0_mult200_dvd : ∀ (v2664 : BitVec 32) (k0_hw199 : k0_chk199 v2664), 8 ∣ (k0_mult200 v2664).toNat := fun v2664 k0_hw199 => k0_hw199.1
theorem k0_off232_inb : ∀ (v2664 : BitVec 32) (k0_hw199 : k0_chk199 v2664), ∀ a, (k0_off232 v2664) a + S1x8x1024.size a ≤ S1x2048x1024.size a := fun v2664 k0_hw199 => k0_hw199.2

def k0_mult201 (v2677 : BitVec 32) : BitVec 32 :=
  let c7_i32_1685 : BitVec 32 := 7#32
  let v2678 : BitVec 32 := Scalar.andi v2677 c7_i32_1685
  let v2679 : BitVec 32 := Scalar.subi v2677 v2678
  v2679

def k0_off233 (v2677 : BitVec 32) : Fin 3 → Nat :=
  let c0_1686 : Index := 0#32
  let c7_i32_1685 : BitVec 32 := 7#32
  let v2678 : BitVec 32 := Scalar.andi v2677 c7_i32_1685
  let v2679 : BitVec 32 := Scalar.subi v2677 v2678
  let v2680 : BitVec 32 := v2679
  let v2681 : Index := Scalar.indexCast v2680
  let c0_1687 : Index := 0#32
  ![0, v2681.toNat, 0]

def k0_chk200 (v2677 : BitVec 32) : Prop :=
  (8 ∣ (k0_mult201 v2677).toNat) ∧
  (∀ a, (k0_off233 v2677) a + S1x8x1024.size a ≤ S1x2048x1024.size a)
theorem k0_mult201_dvd : ∀ (v2677 : BitVec 32) (k0_hw200 : k0_chk200 v2677), 8 ∣ (k0_mult201 v2677).toNat := fun v2677 k0_hw200 => k0_hw200.1
theorem k0_off233_inb : ∀ (v2677 : BitVec 32) (k0_hw200 : k0_chk200 v2677), ∀ a, (k0_off233 v2677) a + S1x8x1024.size a ≤ S1x2048x1024.size a := fun v2677 k0_hw200 => k0_hw200.2

def k0_off234 (i : grid0.Coords) : Fin 3 → Nat :=
  let c1_i32_1625 : BitVec 32 := 1#32
  let arg1 : BitVec 32 := BitVec.ofNat 32 (i 1).val
  let c1_i32 : BitVec 32 := 1#32
  let v1 : BitVec 32 := Scalar.andi arg1 c1_i32
  let v2584 : BitVec 32 := Scalar.subi c1_i32_1625 v1
  let c0_i32_1691 : BitVec 32 := 0#32
  let c0_i32_1692 : BitVec 32 := 0#32
  ![v2584.toNat, 0, 0]
def k0_mult202 (v2697 : BitVec 32) : BitVec 32 :=
  let c7_i32_1699 : BitVec 32 := 7#32
  let v2698 : BitVec 32 := Scalar.andi v2697 c7_i32_1699
  let v2699 : BitVec 32 := Scalar.subi v2697 v2698
  v2699

def k0_off235 (v2697 : BitVec 32) : Fin 3 → Nat :=
  let c0_1700 : Index := 0#32
  let c7_i32_1699 : BitVec 32 := 7#32
  let v2698 : BitVec 32 := Scalar.andi v2697 c7_i32_1699
  let v2699 : BitVec 32 := Scalar.subi v2697 v2698
  let v2700 : BitVec 32 := v2699
  let v2701 : Index := Scalar.indexCast v2700
  let c0_1701 : Index := 0#32
  ![0, v2701.toNat, 0]

def k0_chk201 (v2697 : BitVec 32) : Prop :=
  (8 ∣ (k0_mult202 v2697).toNat) ∧
  (∀ a, (k0_off235 v2697) a + S1x8x1024.size a ≤ S1x2048x1024.size a)
theorem k0_mult202_dvd : ∀ (v2697 : BitVec 32) (k0_hw201 : k0_chk201 v2697), 8 ∣ (k0_mult202 v2697).toNat := fun v2697 k0_hw201 => k0_hw201.1
theorem k0_off235_inb : ∀ (v2697 : BitVec 32) (k0_hw201 : k0_chk201 v2697), ∀ a, (k0_off235 v2697) a + S1x8x1024.size a ≤ S1x2048x1024.size a := fun v2697 k0_hw201 => k0_hw201.2

def k0_mult203 (v2710 : BitVec 32) : BitVec 32 :=
  let c7_i32_1707 : BitVec 32 := 7#32
  let v2711 : BitVec 32 := Scalar.andi v2710 c7_i32_1707
  let v2712 : BitVec 32 := Scalar.subi v2710 v2711
  v2712

def k0_off236 (v2710 : BitVec 32) : Fin 3 → Nat :=
  let c0_1708 : Index := 0#32
  let c7_i32_1707 : BitVec 32 := 7#32
  let v2711 : BitVec 32 := Scalar.andi v2710 c7_i32_1707
  let v2712 : BitVec 32 := Scalar.subi v2710 v2711
  let v2713 : BitVec 32 := v2712
  let v2714 : Index := Scalar.indexCast v2713
  let c0_1709 : Index := 0#32
  ![0, v2714.toNat, 0]

def k0_chk202 (v2710 : BitVec 32) : Prop :=
  (8 ∣ (k0_mult203 v2710).toNat) ∧
  (∀ a, (k0_off236 v2710) a + S1x8x1024.size a ≤ S1x2048x1024.size a)
theorem k0_mult203_dvd : ∀ (v2710 : BitVec 32) (k0_hw202 : k0_chk202 v2710), 8 ∣ (k0_mult203 v2710).toNat := fun v2710 k0_hw202 => k0_hw202.1
theorem k0_off236_inb : ∀ (v2710 : BitVec 32) (k0_hw202 : k0_chk202 v2710), ∀ a, (k0_off236 v2710) a + S1x8x1024.size a ≤ S1x2048x1024.size a := fun v2710 k0_hw202 => k0_hw202.2

def k0_mult204 (v2723 : BitVec 32) : BitVec 32 :=
  let c7_i32_1715 : BitVec 32 := 7#32
  let v2724 : BitVec 32 := Scalar.andi v2723 c7_i32_1715
  let v2725 : BitVec 32 := Scalar.subi v2723 v2724
  v2725

def k0_off237 (v2723 : BitVec 32) : Fin 3 → Nat :=
  let c0_1716 : Index := 0#32
  let c7_i32_1715 : BitVec 32 := 7#32
  let v2724 : BitVec 32 := Scalar.andi v2723 c7_i32_1715
  let v2725 : BitVec 32 := Scalar.subi v2723 v2724
  let v2726 : BitVec 32 := v2725
  let v2727 : Index := Scalar.indexCast v2726
  let c0_1717 : Index := 0#32
  ![0, v2727.toNat, 0]

def k0_chk203 (v2723 : BitVec 32) : Prop :=
  (8 ∣ (k0_mult204 v2723).toNat) ∧
  (∀ a, (k0_off237 v2723) a + S1x8x1024.size a ≤ S1x2048x1024.size a)
theorem k0_mult204_dvd : ∀ (v2723 : BitVec 32) (k0_hw203 : k0_chk203 v2723), 8 ∣ (k0_mult204 v2723).toNat := fun v2723 k0_hw203 => k0_hw203.1
theorem k0_off237_inb : ∀ (v2723 : BitVec 32) (k0_hw203 : k0_chk203 v2723), ∀ a, (k0_off237 v2723) a + S1x8x1024.size a ≤ S1x2048x1024.size a := fun v2723 k0_hw203 => k0_hw203.2

def k0_mult205 (v2736 : BitVec 32) : BitVec 32 :=
  let c7_i32_1723 : BitVec 32 := 7#32
  let v2737 : BitVec 32 := Scalar.andi v2736 c7_i32_1723
  let v2738 : BitVec 32 := Scalar.subi v2736 v2737
  v2738

def k0_off238 (v2736 : BitVec 32) : Fin 3 → Nat :=
  let c0_1724 : Index := 0#32
  let c7_i32_1723 : BitVec 32 := 7#32
  let v2737 : BitVec 32 := Scalar.andi v2736 c7_i32_1723
  let v2738 : BitVec 32 := Scalar.subi v2736 v2737
  let v2739 : BitVec 32 := v2738
  let v2740 : Index := Scalar.indexCast v2739
  let c0_1725 : Index := 0#32
  ![0, v2740.toNat, 0]

def k0_chk204 (v2736 : BitVec 32) : Prop :=
  (8 ∣ (k0_mult205 v2736).toNat) ∧
  (∀ a, (k0_off238 v2736) a + S1x8x1024.size a ≤ S1x2048x1024.size a)
theorem k0_mult205_dvd : ∀ (v2736 : BitVec 32) (k0_hw204 : k0_chk204 v2736), 8 ∣ (k0_mult205 v2736).toNat := fun v2736 k0_hw204 => k0_hw204.1
theorem k0_off238_inb : ∀ (v2736 : BitVec 32) (k0_hw204 : k0_chk204 v2736), ∀ a, (k0_off238 v2736) a + S1x8x1024.size a ≤ S1x2048x1024.size a := fun v2736 k0_hw204 => k0_hw204.2

def k0_mult206 (v2749 : BitVec 32) : BitVec 32 :=
  let c7_i32_1731 : BitVec 32 := 7#32
  let v2750 : BitVec 32 := Scalar.andi v2749 c7_i32_1731
  let v2751 : BitVec 32 := Scalar.subi v2749 v2750
  v2751

def k0_off239 (v2749 : BitVec 32) : Fin 3 → Nat :=
  let c0_1732 : Index := 0#32
  let c7_i32_1731 : BitVec 32 := 7#32
  let v2750 : BitVec 32 := Scalar.andi v2749 c7_i32_1731
  let v2751 : BitVec 32 := Scalar.subi v2749 v2750
  let v2752 : BitVec 32 := v2751
  let v2753 : Index := Scalar.indexCast v2752
  let c0_1733 : Index := 0#32
  ![0, v2753.toNat, 0]

def k0_chk205 (v2749 : BitVec 32) : Prop :=
  (8 ∣ (k0_mult206 v2749).toNat) ∧
  (∀ a, (k0_off239 v2749) a + S1x8x1024.size a ≤ S1x2048x1024.size a)
theorem k0_mult206_dvd : ∀ (v2749 : BitVec 32) (k0_hw205 : k0_chk205 v2749), 8 ∣ (k0_mult206 v2749).toNat := fun v2749 k0_hw205 => k0_hw205.1
theorem k0_off239_inb : ∀ (v2749 : BitVec 32) (k0_hw205 : k0_chk205 v2749), ∀ a, (k0_off239 v2749) a + S1x8x1024.size a ≤ S1x2048x1024.size a := fun v2749 k0_hw205 => k0_hw205.2

def k0_mult207 (v2762 : BitVec 32) : BitVec 32 :=
  let c7_i32_1739 : BitVec 32 := 7#32
  let v2763 : BitVec 32 := Scalar.andi v2762 c7_i32_1739
  let v2764 : BitVec 32 := Scalar.subi v2762 v2763
  v2764

def k0_off240 (v2762 : BitVec 32) : Fin 3 → Nat :=
  let c0_1740 : Index := 0#32
  let c7_i32_1739 : BitVec 32 := 7#32
  let v2763 : BitVec 32 := Scalar.andi v2762 c7_i32_1739
  let v2764 : BitVec 32 := Scalar.subi v2762 v2763
  let v2765 : BitVec 32 := v2764
  let v2766 : Index := Scalar.indexCast v2765
  let c0_1741 : Index := 0#32
  ![0, v2766.toNat, 0]

def k0_chk206 (v2762 : BitVec 32) : Prop :=
  (8 ∣ (k0_mult207 v2762).toNat) ∧
  (∀ a, (k0_off240 v2762) a + S1x8x1024.size a ≤ S1x2048x1024.size a)
theorem k0_mult207_dvd : ∀ (v2762 : BitVec 32) (k0_hw206 : k0_chk206 v2762), 8 ∣ (k0_mult207 v2762).toNat := fun v2762 k0_hw206 => k0_hw206.1
theorem k0_off240_inb : ∀ (v2762 : BitVec 32) (k0_hw206 : k0_chk206 v2762), ∀ a, (k0_off240 v2762) a + S1x8x1024.size a ≤ S1x2048x1024.size a := fun v2762 k0_hw206 => k0_hw206.2

def k0_mult208 (v2775 : BitVec 32) : BitVec 32 :=
  let c7_i32_1747 : BitVec 32 := 7#32
  let v2776 : BitVec 32 := Scalar.andi v2775 c7_i32_1747
  let v2777 : BitVec 32 := Scalar.subi v2775 v2776
  v2777

def k0_off241 (v2775 : BitVec 32) : Fin 3 → Nat :=
  let c0_1748 : Index := 0#32
  let c7_i32_1747 : BitVec 32 := 7#32
  let v2776 : BitVec 32 := Scalar.andi v2775 c7_i32_1747
  let v2777 : BitVec 32 := Scalar.subi v2775 v2776
  let v2778 : BitVec 32 := v2777
  let v2779 : Index := Scalar.indexCast v2778
  let c0_1749 : Index := 0#32
  ![0, v2779.toNat, 0]

def k0_chk207 (v2775 : BitVec 32) : Prop :=
  (8 ∣ (k0_mult208 v2775).toNat) ∧
  (∀ a, (k0_off241 v2775) a + S1x8x1024.size a ≤ S1x2048x1024.size a)
theorem k0_mult208_dvd : ∀ (v2775 : BitVec 32) (k0_hw207 : k0_chk207 v2775), 8 ∣ (k0_mult208 v2775).toNat := fun v2775 k0_hw207 => k0_hw207.1
theorem k0_off241_inb : ∀ (v2775 : BitVec 32) (k0_hw207 : k0_chk207 v2775), ∀ a, (k0_off241 v2775) a + S1x8x1024.size a ≤ S1x2048x1024.size a := fun v2775 k0_hw207 => k0_hw207.2

def k0_mult209 (v2788 : BitVec 32) : BitVec 32 :=
  let c7_i32_1755 : BitVec 32 := 7#32
  let v2789 : BitVec 32 := Scalar.andi v2788 c7_i32_1755
  let v2790 : BitVec 32 := Scalar.subi v2788 v2789
  v2790

def k0_off242 (v2788 : BitVec 32) : Fin 3 → Nat :=
  let c0_1756 : Index := 0#32
  let c7_i32_1755 : BitVec 32 := 7#32
  let v2789 : BitVec 32 := Scalar.andi v2788 c7_i32_1755
  let v2790 : BitVec 32 := Scalar.subi v2788 v2789
  let v2791 : BitVec 32 := v2790
  let v2792 : Index := Scalar.indexCast v2791
  let c0_1757 : Index := 0#32
  ![0, v2792.toNat, 0]

def k0_chk208 (v2788 : BitVec 32) : Prop :=
  (8 ∣ (k0_mult209 v2788).toNat) ∧
  (∀ a, (k0_off242 v2788) a + S1x8x1024.size a ≤ S1x2048x1024.size a)
theorem k0_mult209_dvd : ∀ (v2788 : BitVec 32) (k0_hw208 : k0_chk208 v2788), 8 ∣ (k0_mult209 v2788).toNat := fun v2788 k0_hw208 => k0_hw208.1
theorem k0_off242_inb : ∀ (v2788 : BitVec 32) (k0_hw208 : k0_chk208 v2788), ∀ a, (k0_off242 v2788) a + S1x8x1024.size a ≤ S1x2048x1024.size a := fun v2788 k0_hw208 => k0_hw208.2

def k0_off243 (i : grid0.Coords) : Fin 3 → Nat :=
  let c1_i32_1695 : BitVec 32 := 1#32
  let arg1 : BitVec 32 := BitVec.ofNat 32 (i 1).val
  let c1_i32 : BitVec 32 := 1#32
  let v1 : BitVec 32 := Scalar.andi arg1 c1_i32
  let v2695 : BitVec 32 := Scalar.subi c1_i32_1695 v1
  let c0_i32_1761 : BitVec 32 := 0#32
  let c0_i32_1762 : BitVec 32 := 0#32
  ![v2695.toNat, 0, 0]
def k0_mult210 (v2808 : BitVec 32) : BitVec 32 :=
  let c7_i32_1769 : BitVec 32 := 7#32
  let v2809 : BitVec 32 := Scalar.andi v2808 c7_i32_1769
  let v2810 : BitVec 32 := Scalar.subi v2808 v2809
  v2810

def k0_off244 (v2808 : BitVec 32) : Fin 3 → Nat :=
  let c0_1770 : Index := 0#32
  let c7_i32_1769 : BitVec 32 := 7#32
  let v2809 : BitVec 32 := Scalar.andi v2808 c7_i32_1769
  let v2810 : BitVec 32 := Scalar.subi v2808 v2809
  let v2811 : BitVec 32 := v2810
  let v2812 : Index := Scalar.indexCast v2811
  let c0_1771 : Index := 0#32
  ![0, v2812.toNat, 0]

def k0_chk209 (v2808 : BitVec 32) : Prop :=
  (8 ∣ (k0_mult210 v2808).toNat) ∧
  (∀ a, (k0_off244 v2808) a + S1x8x1024.size a ≤ S1x2048x1024.size a)
theorem k0_mult210_dvd : ∀ (v2808 : BitVec 32) (k0_hw209 : k0_chk209 v2808), 8 ∣ (k0_mult210 v2808).toNat := fun v2808 k0_hw209 => k0_hw209.1
theorem k0_off244_inb : ∀ (v2808 : BitVec 32) (k0_hw209 : k0_chk209 v2808), ∀ a, (k0_off244 v2808) a + S1x8x1024.size a ≤ S1x2048x1024.size a := fun v2808 k0_hw209 => k0_hw209.2

def k0_mult211 (v2821 : BitVec 32) : BitVec 32 :=
  let c7_i32_1777 : BitVec 32 := 7#32
  let v2822 : BitVec 32 := Scalar.andi v2821 c7_i32_1777
  let v2823 : BitVec 32 := Scalar.subi v2821 v2822
  v2823

def k0_off245 (v2821 : BitVec 32) : Fin 3 → Nat :=
  let c0_1778 : Index := 0#32
  let c7_i32_1777 : BitVec 32 := 7#32
  let v2822 : BitVec 32 := Scalar.andi v2821 c7_i32_1777
  let v2823 : BitVec 32 := Scalar.subi v2821 v2822
  let v2824 : BitVec 32 := v2823
  let v2825 : Index := Scalar.indexCast v2824
  let c0_1779 : Index := 0#32
  ![0, v2825.toNat, 0]

def k0_chk210 (v2821 : BitVec 32) : Prop :=
  (8 ∣ (k0_mult211 v2821).toNat) ∧
  (∀ a, (k0_off245 v2821) a + S1x8x1024.size a ≤ S1x2048x1024.size a)
theorem k0_mult211_dvd : ∀ (v2821 : BitVec 32) (k0_hw210 : k0_chk210 v2821), 8 ∣ (k0_mult211 v2821).toNat := fun v2821 k0_hw210 => k0_hw210.1
theorem k0_off245_inb : ∀ (v2821 : BitVec 32) (k0_hw210 : k0_chk210 v2821), ∀ a, (k0_off245 v2821) a + S1x8x1024.size a ≤ S1x2048x1024.size a := fun v2821 k0_hw210 => k0_hw210.2

def k0_mult212 (v2834 : BitVec 32) : BitVec 32 :=
  let c7_i32_1785 : BitVec 32 := 7#32
  let v2835 : BitVec 32 := Scalar.andi v2834 c7_i32_1785
  let v2836 : BitVec 32 := Scalar.subi v2834 v2835
  v2836

def k0_off246 (v2834 : BitVec 32) : Fin 3 → Nat :=
  let c0_1786 : Index := 0#32
  let c7_i32_1785 : BitVec 32 := 7#32
  let v2835 : BitVec 32 := Scalar.andi v2834 c7_i32_1785
  let v2836 : BitVec 32 := Scalar.subi v2834 v2835
  let v2837 : BitVec 32 := v2836
  let v2838 : Index := Scalar.indexCast v2837
  let c0_1787 : Index := 0#32
  ![0, v2838.toNat, 0]

def k0_chk211 (v2834 : BitVec 32) : Prop :=
  (8 ∣ (k0_mult212 v2834).toNat) ∧
  (∀ a, (k0_off246 v2834) a + S1x8x1024.size a ≤ S1x2048x1024.size a)
theorem k0_mult212_dvd : ∀ (v2834 : BitVec 32) (k0_hw211 : k0_chk211 v2834), 8 ∣ (k0_mult212 v2834).toNat := fun v2834 k0_hw211 => k0_hw211.1
theorem k0_off246_inb : ∀ (v2834 : BitVec 32) (k0_hw211 : k0_chk211 v2834), ∀ a, (k0_off246 v2834) a + S1x8x1024.size a ≤ S1x2048x1024.size a := fun v2834 k0_hw211 => k0_hw211.2

def k0_mult213 (v2847 : BitVec 32) : BitVec 32 :=
  let c7_i32_1793 : BitVec 32 := 7#32
  let v2848 : BitVec 32 := Scalar.andi v2847 c7_i32_1793
  let v2849 : BitVec 32 := Scalar.subi v2847 v2848
  v2849

def k0_off247 (v2847 : BitVec 32) : Fin 3 → Nat :=
  let c0_1794 : Index := 0#32
  let c7_i32_1793 : BitVec 32 := 7#32
  let v2848 : BitVec 32 := Scalar.andi v2847 c7_i32_1793
  let v2849 : BitVec 32 := Scalar.subi v2847 v2848
  let v2850 : BitVec 32 := v2849
  let v2851 : Index := Scalar.indexCast v2850
  let c0_1795 : Index := 0#32
  ![0, v2851.toNat, 0]

def k0_chk212 (v2847 : BitVec 32) : Prop :=
  (8 ∣ (k0_mult213 v2847).toNat) ∧
  (∀ a, (k0_off247 v2847) a + S1x8x1024.size a ≤ S1x2048x1024.size a)
theorem k0_mult213_dvd : ∀ (v2847 : BitVec 32) (k0_hw212 : k0_chk212 v2847), 8 ∣ (k0_mult213 v2847).toNat := fun v2847 k0_hw212 => k0_hw212.1
theorem k0_off247_inb : ∀ (v2847 : BitVec 32) (k0_hw212 : k0_chk212 v2847), ∀ a, (k0_off247 v2847) a + S1x8x1024.size a ≤ S1x2048x1024.size a := fun v2847 k0_hw212 => k0_hw212.2

def k0_mult214 (v2860 : BitVec 32) : BitVec 32 :=
  let c7_i32_1801 : BitVec 32 := 7#32
  let v2861 : BitVec 32 := Scalar.andi v2860 c7_i32_1801
  let v2862 : BitVec 32 := Scalar.subi v2860 v2861
  v2862

def k0_off248 (v2860 : BitVec 32) : Fin 3 → Nat :=
  let c0_1802 : Index := 0#32
  let c7_i32_1801 : BitVec 32 := 7#32
  let v2861 : BitVec 32 := Scalar.andi v2860 c7_i32_1801
  let v2862 : BitVec 32 := Scalar.subi v2860 v2861
  let v2863 : BitVec 32 := v2862
  let v2864 : Index := Scalar.indexCast v2863
  let c0_1803 : Index := 0#32
  ![0, v2864.toNat, 0]

def k0_chk213 (v2860 : BitVec 32) : Prop :=
  (8 ∣ (k0_mult214 v2860).toNat) ∧
  (∀ a, (k0_off248 v2860) a + S1x8x1024.size a ≤ S1x2048x1024.size a)
theorem k0_mult214_dvd : ∀ (v2860 : BitVec 32) (k0_hw213 : k0_chk213 v2860), 8 ∣ (k0_mult214 v2860).toNat := fun v2860 k0_hw213 => k0_hw213.1
theorem k0_off248_inb : ∀ (v2860 : BitVec 32) (k0_hw213 : k0_chk213 v2860), ∀ a, (k0_off248 v2860) a + S1x8x1024.size a ≤ S1x2048x1024.size a := fun v2860 k0_hw213 => k0_hw213.2

def k0_mult215 (v2873 : BitVec 32) : BitVec 32 :=
  let c7_i32_1809 : BitVec 32 := 7#32
  let v2874 : BitVec 32 := Scalar.andi v2873 c7_i32_1809
  let v2875 : BitVec 32 := Scalar.subi v2873 v2874
  v2875

def k0_off249 (v2873 : BitVec 32) : Fin 3 → Nat :=
  let c0_1810 : Index := 0#32
  let c7_i32_1809 : BitVec 32 := 7#32
  let v2874 : BitVec 32 := Scalar.andi v2873 c7_i32_1809
  let v2875 : BitVec 32 := Scalar.subi v2873 v2874
  let v2876 : BitVec 32 := v2875
  let v2877 : Index := Scalar.indexCast v2876
  let c0_1811 : Index := 0#32
  ![0, v2877.toNat, 0]

def k0_chk214 (v2873 : BitVec 32) : Prop :=
  (8 ∣ (k0_mult215 v2873).toNat) ∧
  (∀ a, (k0_off249 v2873) a + S1x8x1024.size a ≤ S1x2048x1024.size a)
theorem k0_mult215_dvd : ∀ (v2873 : BitVec 32) (k0_hw214 : k0_chk214 v2873), 8 ∣ (k0_mult215 v2873).toNat := fun v2873 k0_hw214 => k0_hw214.1
theorem k0_off249_inb : ∀ (v2873 : BitVec 32) (k0_hw214 : k0_chk214 v2873), ∀ a, (k0_off249 v2873) a + S1x8x1024.size a ≤ S1x2048x1024.size a := fun v2873 k0_hw214 => k0_hw214.2

def k0_mult216 (v2886 : BitVec 32) : BitVec 32 :=
  let c7_i32_1817 : BitVec 32 := 7#32
  let v2887 : BitVec 32 := Scalar.andi v2886 c7_i32_1817
  let v2888 : BitVec 32 := Scalar.subi v2886 v2887
  v2888

def k0_off250 (v2886 : BitVec 32) : Fin 3 → Nat :=
  let c0_1818 : Index := 0#32
  let c7_i32_1817 : BitVec 32 := 7#32
  let v2887 : BitVec 32 := Scalar.andi v2886 c7_i32_1817
  let v2888 : BitVec 32 := Scalar.subi v2886 v2887
  let v2889 : BitVec 32 := v2888
  let v2890 : Index := Scalar.indexCast v2889
  let c0_1819 : Index := 0#32
  ![0, v2890.toNat, 0]

def k0_chk215 (v2886 : BitVec 32) : Prop :=
  (8 ∣ (k0_mult216 v2886).toNat) ∧
  (∀ a, (k0_off250 v2886) a + S1x8x1024.size a ≤ S1x2048x1024.size a)
theorem k0_mult216_dvd : ∀ (v2886 : BitVec 32) (k0_hw215 : k0_chk215 v2886), 8 ∣ (k0_mult216 v2886).toNat := fun v2886 k0_hw215 => k0_hw215.1
theorem k0_off250_inb : ∀ (v2886 : BitVec 32) (k0_hw215 : k0_chk215 v2886), ∀ a, (k0_off250 v2886) a + S1x8x1024.size a ≤ S1x2048x1024.size a := fun v2886 k0_hw215 => k0_hw215.2

def k0_mult217 (v2899 : BitVec 32) : BitVec 32 :=
  let c7_i32_1825 : BitVec 32 := 7#32
  let v2900 : BitVec 32 := Scalar.andi v2899 c7_i32_1825
  let v2901 : BitVec 32 := Scalar.subi v2899 v2900
  v2901

def k0_off251 (v2899 : BitVec 32) : Fin 3 → Nat :=
  let c0_1826 : Index := 0#32
  let c7_i32_1825 : BitVec 32 := 7#32
  let v2900 : BitVec 32 := Scalar.andi v2899 c7_i32_1825
  let v2901 : BitVec 32 := Scalar.subi v2899 v2900
  let v2902 : BitVec 32 := v2901
  let v2903 : Index := Scalar.indexCast v2902
  let c0_1827 : Index := 0#32
  ![0, v2903.toNat, 0]

def k0_chk216 (v2899 : BitVec 32) : Prop :=
  (8 ∣ (k0_mult217 v2899).toNat) ∧
  (∀ a, (k0_off251 v2899) a + S1x8x1024.size a ≤ S1x2048x1024.size a)
theorem k0_mult217_dvd : ∀ (v2899 : BitVec 32) (k0_hw216 : k0_chk216 v2899), 8 ∣ (k0_mult217 v2899).toNat := fun v2899 k0_hw216 => k0_hw216.1
theorem k0_off251_inb : ∀ (v2899 : BitVec 32) (k0_hw216 : k0_chk216 v2899), ∀ a, (k0_off251 v2899) a + S1x8x1024.size a ≤ S1x2048x1024.size a := fun v2899 k0_hw216 => k0_hw216.2

def k0_off252 (i : grid0.Coords) : Fin 3 → Nat :=
  let c1_i32_1765 : BitVec 32 := 1#32
  let arg1 : BitVec 32 := BitVec.ofNat 32 (i 1).val
  let c1_i32 : BitVec 32 := 1#32
  let v1 : BitVec 32 := Scalar.andi arg1 c1_i32
  let v2806 : BitVec 32 := Scalar.subi c1_i32_1765 v1
  let c0_i32_1831 : BitVec 32 := 0#32
  let c0_i32_1832 : BitVec 32 := 0#32
  ![v2806.toNat, 0, 0]
def k0_mult218 (v2919 : BitVec 32) : BitVec 32 :=
  let c7_i32_1839 : BitVec 32 := 7#32
  let v2920 : BitVec 32 := Scalar.andi v2919 c7_i32_1839
  let v2921 : BitVec 32 := Scalar.subi v2919 v2920
  v2921

def k0_off253 (v2919 : BitVec 32) : Fin 3 → Nat :=
  let c0_1840 : Index := 0#32
  let c7_i32_1839 : BitVec 32 := 7#32
  let v2920 : BitVec 32 := Scalar.andi v2919 c7_i32_1839
  let v2921 : BitVec 32 := Scalar.subi v2919 v2920
  let v2922 : BitVec 32 := v2921
  let v2923 : Index := Scalar.indexCast v2922
  let c0_1841 : Index := 0#32
  ![0, v2923.toNat, 0]

def k0_chk217 (v2919 : BitVec 32) : Prop :=
  (8 ∣ (k0_mult218 v2919).toNat) ∧
  (∀ a, (k0_off253 v2919) a + S1x8x1024.size a ≤ S1x2048x1024.size a)
theorem k0_mult218_dvd : ∀ (v2919 : BitVec 32) (k0_hw217 : k0_chk217 v2919), 8 ∣ (k0_mult218 v2919).toNat := fun v2919 k0_hw217 => k0_hw217.1
theorem k0_off253_inb : ∀ (v2919 : BitVec 32) (k0_hw217 : k0_chk217 v2919), ∀ a, (k0_off253 v2919) a + S1x8x1024.size a ≤ S1x2048x1024.size a := fun v2919 k0_hw217 => k0_hw217.2

def k0_mult219 (v2932 : BitVec 32) : BitVec 32 :=
  let c7_i32_1847 : BitVec 32 := 7#32
  let v2933 : BitVec 32 := Scalar.andi v2932 c7_i32_1847
  let v2934 : BitVec 32 := Scalar.subi v2932 v2933
  v2934

def k0_off254 (v2932 : BitVec 32) : Fin 3 → Nat :=
  let c0_1848 : Index := 0#32
  let c7_i32_1847 : BitVec 32 := 7#32
  let v2933 : BitVec 32 := Scalar.andi v2932 c7_i32_1847
  let v2934 : BitVec 32 := Scalar.subi v2932 v2933
  let v2935 : BitVec 32 := v2934
  let v2936 : Index := Scalar.indexCast v2935
  let c0_1849 : Index := 0#32
  ![0, v2936.toNat, 0]

def k0_chk218 (v2932 : BitVec 32) : Prop :=
  (8 ∣ (k0_mult219 v2932).toNat) ∧
  (∀ a, (k0_off254 v2932) a + S1x8x1024.size a ≤ S1x2048x1024.size a)
theorem k0_mult219_dvd : ∀ (v2932 : BitVec 32) (k0_hw218 : k0_chk218 v2932), 8 ∣ (k0_mult219 v2932).toNat := fun v2932 k0_hw218 => k0_hw218.1
theorem k0_off254_inb : ∀ (v2932 : BitVec 32) (k0_hw218 : k0_chk218 v2932), ∀ a, (k0_off254 v2932) a + S1x8x1024.size a ≤ S1x2048x1024.size a := fun v2932 k0_hw218 => k0_hw218.2

def k0_mult220 (v2945 : BitVec 32) : BitVec 32 :=
  let c7_i32_1855 : BitVec 32 := 7#32
  let v2946 : BitVec 32 := Scalar.andi v2945 c7_i32_1855
  let v2947 : BitVec 32 := Scalar.subi v2945 v2946
  v2947

def k0_off255 (v2945 : BitVec 32) : Fin 3 → Nat :=
  let c0_1856 : Index := 0#32
  let c7_i32_1855 : BitVec 32 := 7#32
  let v2946 : BitVec 32 := Scalar.andi v2945 c7_i32_1855
  let v2947 : BitVec 32 := Scalar.subi v2945 v2946
  let v2948 : BitVec 32 := v2947
  let v2949 : Index := Scalar.indexCast v2948
  let c0_1857 : Index := 0#32
  ![0, v2949.toNat, 0]

def k0_chk219 (v2945 : BitVec 32) : Prop :=
  (8 ∣ (k0_mult220 v2945).toNat) ∧
  (∀ a, (k0_off255 v2945) a + S1x8x1024.size a ≤ S1x2048x1024.size a)
theorem k0_mult220_dvd : ∀ (v2945 : BitVec 32) (k0_hw219 : k0_chk219 v2945), 8 ∣ (k0_mult220 v2945).toNat := fun v2945 k0_hw219 => k0_hw219.1
theorem k0_off255_inb : ∀ (v2945 : BitVec 32) (k0_hw219 : k0_chk219 v2945), ∀ a, (k0_off255 v2945) a + S1x8x1024.size a ≤ S1x2048x1024.size a := fun v2945 k0_hw219 => k0_hw219.2

def k0_mult221 (v2958 : BitVec 32) : BitVec 32 :=
  let c7_i32_1863 : BitVec 32 := 7#32
  let v2959 : BitVec 32 := Scalar.andi v2958 c7_i32_1863
  let v2960 : BitVec 32 := Scalar.subi v2958 v2959
  v2960

def k0_off256 (v2958 : BitVec 32) : Fin 3 → Nat :=
  let c0_1864 : Index := 0#32
  let c7_i32_1863 : BitVec 32 := 7#32
  let v2959 : BitVec 32 := Scalar.andi v2958 c7_i32_1863
  let v2960 : BitVec 32 := Scalar.subi v2958 v2959
  let v2961 : BitVec 32 := v2960
  let v2962 : Index := Scalar.indexCast v2961
  let c0_1865 : Index := 0#32
  ![0, v2962.toNat, 0]

def k0_chk220 (v2958 : BitVec 32) : Prop :=
  (8 ∣ (k0_mult221 v2958).toNat) ∧
  (∀ a, (k0_off256 v2958) a + S1x8x1024.size a ≤ S1x2048x1024.size a)
theorem k0_mult221_dvd : ∀ (v2958 : BitVec 32) (k0_hw220 : k0_chk220 v2958), 8 ∣ (k0_mult221 v2958).toNat := fun v2958 k0_hw220 => k0_hw220.1
theorem k0_off256_inb : ∀ (v2958 : BitVec 32) (k0_hw220 : k0_chk220 v2958), ∀ a, (k0_off256 v2958) a + S1x8x1024.size a ≤ S1x2048x1024.size a := fun v2958 k0_hw220 => k0_hw220.2

def k0_mult222 (v2971 : BitVec 32) : BitVec 32 :=
  let c7_i32_1871 : BitVec 32 := 7#32
  let v2972 : BitVec 32 := Scalar.andi v2971 c7_i32_1871
  let v2973 : BitVec 32 := Scalar.subi v2971 v2972
  v2973

def k0_off257 (v2971 : BitVec 32) : Fin 3 → Nat :=
  let c0_1872 : Index := 0#32
  let c7_i32_1871 : BitVec 32 := 7#32
  let v2972 : BitVec 32 := Scalar.andi v2971 c7_i32_1871
  let v2973 : BitVec 32 := Scalar.subi v2971 v2972
  let v2974 : BitVec 32 := v2973
  let v2975 : Index := Scalar.indexCast v2974
  let c0_1873 : Index := 0#32
  ![0, v2975.toNat, 0]

def k0_chk221 (v2971 : BitVec 32) : Prop :=
  (8 ∣ (k0_mult222 v2971).toNat) ∧
  (∀ a, (k0_off257 v2971) a + S1x8x1024.size a ≤ S1x2048x1024.size a)
theorem k0_mult222_dvd : ∀ (v2971 : BitVec 32) (k0_hw221 : k0_chk221 v2971), 8 ∣ (k0_mult222 v2971).toNat := fun v2971 k0_hw221 => k0_hw221.1
theorem k0_off257_inb : ∀ (v2971 : BitVec 32) (k0_hw221 : k0_chk221 v2971), ∀ a, (k0_off257 v2971) a + S1x8x1024.size a ≤ S1x2048x1024.size a := fun v2971 k0_hw221 => k0_hw221.2

def k0_mult223 (v2984 : BitVec 32) : BitVec 32 :=
  let c7_i32_1879 : BitVec 32 := 7#32
  let v2985 : BitVec 32 := Scalar.andi v2984 c7_i32_1879
  let v2986 : BitVec 32 := Scalar.subi v2984 v2985
  v2986

def k0_off258 (v2984 : BitVec 32) : Fin 3 → Nat :=
  let c0_1880 : Index := 0#32
  let c7_i32_1879 : BitVec 32 := 7#32
  let v2985 : BitVec 32 := Scalar.andi v2984 c7_i32_1879
  let v2986 : BitVec 32 := Scalar.subi v2984 v2985
  let v2987 : BitVec 32 := v2986
  let v2988 : Index := Scalar.indexCast v2987
  let c0_1881 : Index := 0#32
  ![0, v2988.toNat, 0]

def k0_chk222 (v2984 : BitVec 32) : Prop :=
  (8 ∣ (k0_mult223 v2984).toNat) ∧
  (∀ a, (k0_off258 v2984) a + S1x8x1024.size a ≤ S1x2048x1024.size a)
theorem k0_mult223_dvd : ∀ (v2984 : BitVec 32) (k0_hw222 : k0_chk222 v2984), 8 ∣ (k0_mult223 v2984).toNat := fun v2984 k0_hw222 => k0_hw222.1
theorem k0_off258_inb : ∀ (v2984 : BitVec 32) (k0_hw222 : k0_chk222 v2984), ∀ a, (k0_off258 v2984) a + S1x8x1024.size a ≤ S1x2048x1024.size a := fun v2984 k0_hw222 => k0_hw222.2

def k0_mult224 (v2997 : BitVec 32) : BitVec 32 :=
  let c7_i32_1887 : BitVec 32 := 7#32
  let v2998 : BitVec 32 := Scalar.andi v2997 c7_i32_1887
  let v2999 : BitVec 32 := Scalar.subi v2997 v2998
  v2999

def k0_off259 (v2997 : BitVec 32) : Fin 3 → Nat :=
  let c0_1888 : Index := 0#32
  let c7_i32_1887 : BitVec 32 := 7#32
  let v2998 : BitVec 32 := Scalar.andi v2997 c7_i32_1887
  let v2999 : BitVec 32 := Scalar.subi v2997 v2998
  let v3000 : BitVec 32 := v2999
  let v3001 : Index := Scalar.indexCast v3000
  let c0_1889 : Index := 0#32
  ![0, v3001.toNat, 0]

def k0_chk223 (v2997 : BitVec 32) : Prop :=
  (8 ∣ (k0_mult224 v2997).toNat) ∧
  (∀ a, (k0_off259 v2997) a + S1x8x1024.size a ≤ S1x2048x1024.size a)
theorem k0_mult224_dvd : ∀ (v2997 : BitVec 32) (k0_hw223 : k0_chk223 v2997), 8 ∣ (k0_mult224 v2997).toNat := fun v2997 k0_hw223 => k0_hw223.1
theorem k0_off259_inb : ∀ (v2997 : BitVec 32) (k0_hw223 : k0_chk223 v2997), ∀ a, (k0_off259 v2997) a + S1x8x1024.size a ≤ S1x2048x1024.size a := fun v2997 k0_hw223 => k0_hw223.2

def k0_mult225 (v3010 : BitVec 32) : BitVec 32 :=
  let c7_i32_1895 : BitVec 32 := 7#32
  let v3011 : BitVec 32 := Scalar.andi v3010 c7_i32_1895
  let v3012 : BitVec 32 := Scalar.subi v3010 v3011
  v3012

def k0_off260 (v3010 : BitVec 32) : Fin 3 → Nat :=
  let c0_1896 : Index := 0#32
  let c7_i32_1895 : BitVec 32 := 7#32
  let v3011 : BitVec 32 := Scalar.andi v3010 c7_i32_1895
  let v3012 : BitVec 32 := Scalar.subi v3010 v3011
  let v3013 : BitVec 32 := v3012
  let v3014 : Index := Scalar.indexCast v3013
  let c0_1897 : Index := 0#32
  ![0, v3014.toNat, 0]

def k0_chk224 (v3010 : BitVec 32) : Prop :=
  (8 ∣ (k0_mult225 v3010).toNat) ∧
  (∀ a, (k0_off260 v3010) a + S1x8x1024.size a ≤ S1x2048x1024.size a)
theorem k0_mult225_dvd : ∀ (v3010 : BitVec 32) (k0_hw224 : k0_chk224 v3010), 8 ∣ (k0_mult225 v3010).toNat := fun v3010 k0_hw224 => k0_hw224.1
theorem k0_off260_inb : ∀ (v3010 : BitVec 32) (k0_hw224 : k0_chk224 v3010), ∀ a, (k0_off260 v3010) a + S1x8x1024.size a ≤ S1x2048x1024.size a := fun v3010 k0_hw224 => k0_hw224.2

def k0_off261 (i : grid0.Coords) : Fin 3 → Nat :=
  let c1_i32_1835 : BitVec 32 := 1#32
  let arg1 : BitVec 32 := BitVec.ofNat 32 (i 1).val
  let c1_i32 : BitVec 32 := 1#32
  let v1 : BitVec 32 := Scalar.andi arg1 c1_i32
  let v2917 : BitVec 32 := Scalar.subi c1_i32_1835 v1
  let c0_i32_1901 : BitVec 32 := 0#32
  let c0_i32_1902 : BitVec 32 := 0#32
  ![v2917.toNat, 0, 0]
def k0_mult226 (v3030 : BitVec 32) : BitVec 32 :=
  let c7_i32_1909 : BitVec 32 := 7#32
  let v3031 : BitVec 32 := Scalar.andi v3030 c7_i32_1909
  let v3032 : BitVec 32 := Scalar.subi v3030 v3031
  v3032

def k0_off262 (v3030 : BitVec 32) : Fin 3 → Nat :=
  let c0_1910 : Index := 0#32
  let c7_i32_1909 : BitVec 32 := 7#32
  let v3031 : BitVec 32 := Scalar.andi v3030 c7_i32_1909
  let v3032 : BitVec 32 := Scalar.subi v3030 v3031
  let v3033 : BitVec 32 := v3032
  let v3034 : Index := Scalar.indexCast v3033
  let c0_1911 : Index := 0#32
  ![0, v3034.toNat, 0]

def k0_chk225 (v3030 : BitVec 32) : Prop :=
  (8 ∣ (k0_mult226 v3030).toNat) ∧
  (∀ a, (k0_off262 v3030) a + S1x8x1024.size a ≤ S1x2048x1024.size a)
theorem k0_mult226_dvd : ∀ (v3030 : BitVec 32) (k0_hw225 : k0_chk225 v3030), 8 ∣ (k0_mult226 v3030).toNat := fun v3030 k0_hw225 => k0_hw225.1
theorem k0_off262_inb : ∀ (v3030 : BitVec 32) (k0_hw225 : k0_chk225 v3030), ∀ a, (k0_off262 v3030) a + S1x8x1024.size a ≤ S1x2048x1024.size a := fun v3030 k0_hw225 => k0_hw225.2

def k0_mult227 (v3043 : BitVec 32) : BitVec 32 :=
  let c7_i32_1917 : BitVec 32 := 7#32
  let v3044 : BitVec 32 := Scalar.andi v3043 c7_i32_1917
  let v3045 : BitVec 32 := Scalar.subi v3043 v3044
  v3045

def k0_off263 (v3043 : BitVec 32) : Fin 3 → Nat :=
  let c0_1918 : Index := 0#32
  let c7_i32_1917 : BitVec 32 := 7#32
  let v3044 : BitVec 32 := Scalar.andi v3043 c7_i32_1917
  let v3045 : BitVec 32 := Scalar.subi v3043 v3044
  let v3046 : BitVec 32 := v3045
  let v3047 : Index := Scalar.indexCast v3046
  let c0_1919 : Index := 0#32
  ![0, v3047.toNat, 0]

def k0_chk226 (v3043 : BitVec 32) : Prop :=
  (8 ∣ (k0_mult227 v3043).toNat) ∧
  (∀ a, (k0_off263 v3043) a + S1x8x1024.size a ≤ S1x2048x1024.size a)
theorem k0_mult227_dvd : ∀ (v3043 : BitVec 32) (k0_hw226 : k0_chk226 v3043), 8 ∣ (k0_mult227 v3043).toNat := fun v3043 k0_hw226 => k0_hw226.1
theorem k0_off263_inb : ∀ (v3043 : BitVec 32) (k0_hw226 : k0_chk226 v3043), ∀ a, (k0_off263 v3043) a + S1x8x1024.size a ≤ S1x2048x1024.size a := fun v3043 k0_hw226 => k0_hw226.2

def k0_mult228 (v3056 : BitVec 32) : BitVec 32 :=
  let c7_i32_1925 : BitVec 32 := 7#32
  let v3057 : BitVec 32 := Scalar.andi v3056 c7_i32_1925
  let v3058 : BitVec 32 := Scalar.subi v3056 v3057
  v3058

def k0_off264 (v3056 : BitVec 32) : Fin 3 → Nat :=
  let c0_1926 : Index := 0#32
  let c7_i32_1925 : BitVec 32 := 7#32
  let v3057 : BitVec 32 := Scalar.andi v3056 c7_i32_1925
  let v3058 : BitVec 32 := Scalar.subi v3056 v3057
  let v3059 : BitVec 32 := v3058
  let v3060 : Index := Scalar.indexCast v3059
  let c0_1927 : Index := 0#32
  ![0, v3060.toNat, 0]

def k0_chk227 (v3056 : BitVec 32) : Prop :=
  (8 ∣ (k0_mult228 v3056).toNat) ∧
  (∀ a, (k0_off264 v3056) a + S1x8x1024.size a ≤ S1x2048x1024.size a)
theorem k0_mult228_dvd : ∀ (v3056 : BitVec 32) (k0_hw227 : k0_chk227 v3056), 8 ∣ (k0_mult228 v3056).toNat := fun v3056 k0_hw227 => k0_hw227.1
theorem k0_off264_inb : ∀ (v3056 : BitVec 32) (k0_hw227 : k0_chk227 v3056), ∀ a, (k0_off264 v3056) a + S1x8x1024.size a ≤ S1x2048x1024.size a := fun v3056 k0_hw227 => k0_hw227.2

def k0_mult229 (v3069 : BitVec 32) : BitVec 32 :=
  let c7_i32_1933 : BitVec 32 := 7#32
  let v3070 : BitVec 32 := Scalar.andi v3069 c7_i32_1933
  let v3071 : BitVec 32 := Scalar.subi v3069 v3070
  v3071

def k0_off265 (v3069 : BitVec 32) : Fin 3 → Nat :=
  let c0_1934 : Index := 0#32
  let c7_i32_1933 : BitVec 32 := 7#32
  let v3070 : BitVec 32 := Scalar.andi v3069 c7_i32_1933
  let v3071 : BitVec 32 := Scalar.subi v3069 v3070
  let v3072 : BitVec 32 := v3071
  let v3073 : Index := Scalar.indexCast v3072
  let c0_1935 : Index := 0#32
  ![0, v3073.toNat, 0]

def k0_chk228 (v3069 : BitVec 32) : Prop :=
  (8 ∣ (k0_mult229 v3069).toNat) ∧
  (∀ a, (k0_off265 v3069) a + S1x8x1024.size a ≤ S1x2048x1024.size a)
theorem k0_mult229_dvd : ∀ (v3069 : BitVec 32) (k0_hw228 : k0_chk228 v3069), 8 ∣ (k0_mult229 v3069).toNat := fun v3069 k0_hw228 => k0_hw228.1
theorem k0_off265_inb : ∀ (v3069 : BitVec 32) (k0_hw228 : k0_chk228 v3069), ∀ a, (k0_off265 v3069) a + S1x8x1024.size a ≤ S1x2048x1024.size a := fun v3069 k0_hw228 => k0_hw228.2

def k0_mult230 (v3082 : BitVec 32) : BitVec 32 :=
  let c7_i32_1941 : BitVec 32 := 7#32
  let v3083 : BitVec 32 := Scalar.andi v3082 c7_i32_1941
  let v3084 : BitVec 32 := Scalar.subi v3082 v3083
  v3084

def k0_off266 (v3082 : BitVec 32) : Fin 3 → Nat :=
  let c0_1942 : Index := 0#32
  let c7_i32_1941 : BitVec 32 := 7#32
  let v3083 : BitVec 32 := Scalar.andi v3082 c7_i32_1941
  let v3084 : BitVec 32 := Scalar.subi v3082 v3083
  let v3085 : BitVec 32 := v3084
  let v3086 : Index := Scalar.indexCast v3085
  let c0_1943 : Index := 0#32
  ![0, v3086.toNat, 0]

def k0_chk229 (v3082 : BitVec 32) : Prop :=
  (8 ∣ (k0_mult230 v3082).toNat) ∧
  (∀ a, (k0_off266 v3082) a + S1x8x1024.size a ≤ S1x2048x1024.size a)
theorem k0_mult230_dvd : ∀ (v3082 : BitVec 32) (k0_hw229 : k0_chk229 v3082), 8 ∣ (k0_mult230 v3082).toNat := fun v3082 k0_hw229 => k0_hw229.1
theorem k0_off266_inb : ∀ (v3082 : BitVec 32) (k0_hw229 : k0_chk229 v3082), ∀ a, (k0_off266 v3082) a + S1x8x1024.size a ≤ S1x2048x1024.size a := fun v3082 k0_hw229 => k0_hw229.2

def k0_mult231 (v3095 : BitVec 32) : BitVec 32 :=
  let c7_i32_1949 : BitVec 32 := 7#32
  let v3096 : BitVec 32 := Scalar.andi v3095 c7_i32_1949
  let v3097 : BitVec 32 := Scalar.subi v3095 v3096
  v3097

def k0_off267 (v3095 : BitVec 32) : Fin 3 → Nat :=
  let c0_1950 : Index := 0#32
  let c7_i32_1949 : BitVec 32 := 7#32
  let v3096 : BitVec 32 := Scalar.andi v3095 c7_i32_1949
  let v3097 : BitVec 32 := Scalar.subi v3095 v3096
  let v3098 : BitVec 32 := v3097
  let v3099 : Index := Scalar.indexCast v3098
  let c0_1951 : Index := 0#32
  ![0, v3099.toNat, 0]

def k0_chk230 (v3095 : BitVec 32) : Prop :=
  (8 ∣ (k0_mult231 v3095).toNat) ∧
  (∀ a, (k0_off267 v3095) a + S1x8x1024.size a ≤ S1x2048x1024.size a)
theorem k0_mult231_dvd : ∀ (v3095 : BitVec 32) (k0_hw230 : k0_chk230 v3095), 8 ∣ (k0_mult231 v3095).toNat := fun v3095 k0_hw230 => k0_hw230.1
theorem k0_off267_inb : ∀ (v3095 : BitVec 32) (k0_hw230 : k0_chk230 v3095), ∀ a, (k0_off267 v3095) a + S1x8x1024.size a ≤ S1x2048x1024.size a := fun v3095 k0_hw230 => k0_hw230.2

def k0_mult232 (v3108 : BitVec 32) : BitVec 32 :=
  let c7_i32_1957 : BitVec 32 := 7#32
  let v3109 : BitVec 32 := Scalar.andi v3108 c7_i32_1957
  let v3110 : BitVec 32 := Scalar.subi v3108 v3109
  v3110

def k0_off268 (v3108 : BitVec 32) : Fin 3 → Nat :=
  let c0_1958 : Index := 0#32
  let c7_i32_1957 : BitVec 32 := 7#32
  let v3109 : BitVec 32 := Scalar.andi v3108 c7_i32_1957
  let v3110 : BitVec 32 := Scalar.subi v3108 v3109
  let v3111 : BitVec 32 := v3110
  let v3112 : Index := Scalar.indexCast v3111
  let c0_1959 : Index := 0#32
  ![0, v3112.toNat, 0]

def k0_chk231 (v3108 : BitVec 32) : Prop :=
  (8 ∣ (k0_mult232 v3108).toNat) ∧
  (∀ a, (k0_off268 v3108) a + S1x8x1024.size a ≤ S1x2048x1024.size a)
theorem k0_mult232_dvd : ∀ (v3108 : BitVec 32) (k0_hw231 : k0_chk231 v3108), 8 ∣ (k0_mult232 v3108).toNat := fun v3108 k0_hw231 => k0_hw231.1
theorem k0_off268_inb : ∀ (v3108 : BitVec 32) (k0_hw231 : k0_chk231 v3108), ∀ a, (k0_off268 v3108) a + S1x8x1024.size a ≤ S1x2048x1024.size a := fun v3108 k0_hw231 => k0_hw231.2

def k0_mult233 (v3121 : BitVec 32) : BitVec 32 :=
  let c7_i32_1965 : BitVec 32 := 7#32
  let v3122 : BitVec 32 := Scalar.andi v3121 c7_i32_1965
  let v3123 : BitVec 32 := Scalar.subi v3121 v3122
  v3123

def k0_off269 (v3121 : BitVec 32) : Fin 3 → Nat :=
  let c0_1966 : Index := 0#32
  let c7_i32_1965 : BitVec 32 := 7#32
  let v3122 : BitVec 32 := Scalar.andi v3121 c7_i32_1965
  let v3123 : BitVec 32 := Scalar.subi v3121 v3122
  let v3124 : BitVec 32 := v3123
  let v3125 : Index := Scalar.indexCast v3124
  let c0_1967 : Index := 0#32
  ![0, v3125.toNat, 0]

def k0_chk232 (v3121 : BitVec 32) : Prop :=
  (8 ∣ (k0_mult233 v3121).toNat) ∧
  (∀ a, (k0_off269 v3121) a + S1x8x1024.size a ≤ S1x2048x1024.size a)
theorem k0_mult233_dvd : ∀ (v3121 : BitVec 32) (k0_hw232 : k0_chk232 v3121), 8 ∣ (k0_mult233 v3121).toNat := fun v3121 k0_hw232 => k0_hw232.1
theorem k0_off269_inb : ∀ (v3121 : BitVec 32) (k0_hw232 : k0_chk232 v3121), ∀ a, (k0_off269 v3121) a + S1x8x1024.size a ≤ S1x2048x1024.size a := fun v3121 k0_hw232 => k0_hw232.2

def k0_off270 (i : grid0.Coords) : Fin 3 → Nat :=
  let c1_i32_1905 : BitVec 32 := 1#32
  let arg1 : BitVec 32 := BitVec.ofNat 32 (i 1).val
  let c1_i32 : BitVec 32 := 1#32
  let v1 : BitVec 32 := Scalar.andi arg1 c1_i32
  let v3028 : BitVec 32 := Scalar.subi c1_i32_1905 v1
  let c0_i32_1971 : BitVec 32 := 0#32
  let c0_i32_1972 : BitVec 32 := 0#32
  ![v3028.toNat, 0, 0]
def k0_mult234 (v3141 : BitVec 32) : BitVec 32 :=
  let c7_i32_1979 : BitVec 32 := 7#32
  let v3142 : BitVec 32 := Scalar.andi v3141 c7_i32_1979
  let v3143 : BitVec 32 := Scalar.subi v3141 v3142
  v3143

def k0_off271 (v3141 : BitVec 32) : Fin 3 → Nat :=
  let c0_1980 : Index := 0#32
  let c7_i32_1979 : BitVec 32 := 7#32
  let v3142 : BitVec 32 := Scalar.andi v3141 c7_i32_1979
  let v3143 : BitVec 32 := Scalar.subi v3141 v3142
  let v3144 : BitVec 32 := v3143
  let v3145 : Index := Scalar.indexCast v3144
  let c0_1981 : Index := 0#32
  ![0, v3145.toNat, 0]

def k0_chk233 (v3141 : BitVec 32) : Prop :=
  (8 ∣ (k0_mult234 v3141).toNat) ∧
  (∀ a, (k0_off271 v3141) a + S1x8x1024.size a ≤ S1x2048x1024.size a)
theorem k0_mult234_dvd : ∀ (v3141 : BitVec 32) (k0_hw233 : k0_chk233 v3141), 8 ∣ (k0_mult234 v3141).toNat := fun v3141 k0_hw233 => k0_hw233.1
theorem k0_off271_inb : ∀ (v3141 : BitVec 32) (k0_hw233 : k0_chk233 v3141), ∀ a, (k0_off271 v3141) a + S1x8x1024.size a ≤ S1x2048x1024.size a := fun v3141 k0_hw233 => k0_hw233.2

def k0_mult235 (v3154 : BitVec 32) : BitVec 32 :=
  let c7_i32_1987 : BitVec 32 := 7#32
  let v3155 : BitVec 32 := Scalar.andi v3154 c7_i32_1987
  let v3156 : BitVec 32 := Scalar.subi v3154 v3155
  v3156

def k0_off272 (v3154 : BitVec 32) : Fin 3 → Nat :=
  let c0_1988 : Index := 0#32
  let c7_i32_1987 : BitVec 32 := 7#32
  let v3155 : BitVec 32 := Scalar.andi v3154 c7_i32_1987
  let v3156 : BitVec 32 := Scalar.subi v3154 v3155
  let v3157 : BitVec 32 := v3156
  let v3158 : Index := Scalar.indexCast v3157
  let c0_1989 : Index := 0#32
  ![0, v3158.toNat, 0]

def k0_chk234 (v3154 : BitVec 32) : Prop :=
  (8 ∣ (k0_mult235 v3154).toNat) ∧
  (∀ a, (k0_off272 v3154) a + S1x8x1024.size a ≤ S1x2048x1024.size a)
theorem k0_mult235_dvd : ∀ (v3154 : BitVec 32) (k0_hw234 : k0_chk234 v3154), 8 ∣ (k0_mult235 v3154).toNat := fun v3154 k0_hw234 => k0_hw234.1
theorem k0_off272_inb : ∀ (v3154 : BitVec 32) (k0_hw234 : k0_chk234 v3154), ∀ a, (k0_off272 v3154) a + S1x8x1024.size a ≤ S1x2048x1024.size a := fun v3154 k0_hw234 => k0_hw234.2

def k0_mult236 (v3167 : BitVec 32) : BitVec 32 :=
  let c7_i32_1995 : BitVec 32 := 7#32
  let v3168 : BitVec 32 := Scalar.andi v3167 c7_i32_1995
  let v3169 : BitVec 32 := Scalar.subi v3167 v3168
  v3169

def k0_off273 (v3167 : BitVec 32) : Fin 3 → Nat :=
  let c0_1996 : Index := 0#32
  let c7_i32_1995 : BitVec 32 := 7#32
  let v3168 : BitVec 32 := Scalar.andi v3167 c7_i32_1995
  let v3169 : BitVec 32 := Scalar.subi v3167 v3168
  let v3170 : BitVec 32 := v3169
  let v3171 : Index := Scalar.indexCast v3170
  let c0_1997 : Index := 0#32
  ![0, v3171.toNat, 0]

def k0_chk235 (v3167 : BitVec 32) : Prop :=
  (8 ∣ (k0_mult236 v3167).toNat) ∧
  (∀ a, (k0_off273 v3167) a + S1x8x1024.size a ≤ S1x2048x1024.size a)
theorem k0_mult236_dvd : ∀ (v3167 : BitVec 32) (k0_hw235 : k0_chk235 v3167), 8 ∣ (k0_mult236 v3167).toNat := fun v3167 k0_hw235 => k0_hw235.1
theorem k0_off273_inb : ∀ (v3167 : BitVec 32) (k0_hw235 : k0_chk235 v3167), ∀ a, (k0_off273 v3167) a + S1x8x1024.size a ≤ S1x2048x1024.size a := fun v3167 k0_hw235 => k0_hw235.2

def k0_mult237 (v3180 : BitVec 32) : BitVec 32 :=
  let c7_i32_2003 : BitVec 32 := 7#32
  let v3181 : BitVec 32 := Scalar.andi v3180 c7_i32_2003
  let v3182 : BitVec 32 := Scalar.subi v3180 v3181
  v3182

def k0_off274 (v3180 : BitVec 32) : Fin 3 → Nat :=
  let c0_2004 : Index := 0#32
  let c7_i32_2003 : BitVec 32 := 7#32
  let v3181 : BitVec 32 := Scalar.andi v3180 c7_i32_2003
  let v3182 : BitVec 32 := Scalar.subi v3180 v3181
  let v3183 : BitVec 32 := v3182
  let v3184 : Index := Scalar.indexCast v3183
  let c0_2005 : Index := 0#32
  ![0, v3184.toNat, 0]

def k0_chk236 (v3180 : BitVec 32) : Prop :=
  (8 ∣ (k0_mult237 v3180).toNat) ∧
  (∀ a, (k0_off274 v3180) a + S1x8x1024.size a ≤ S1x2048x1024.size a)
theorem k0_mult237_dvd : ∀ (v3180 : BitVec 32) (k0_hw236 : k0_chk236 v3180), 8 ∣ (k0_mult237 v3180).toNat := fun v3180 k0_hw236 => k0_hw236.1
theorem k0_off274_inb : ∀ (v3180 : BitVec 32) (k0_hw236 : k0_chk236 v3180), ∀ a, (k0_off274 v3180) a + S1x8x1024.size a ≤ S1x2048x1024.size a := fun v3180 k0_hw236 => k0_hw236.2

def k0_mult238 (v3193 : BitVec 32) : BitVec 32 :=
  let c7_i32_2011 : BitVec 32 := 7#32
  let v3194 : BitVec 32 := Scalar.andi v3193 c7_i32_2011
  let v3195 : BitVec 32 := Scalar.subi v3193 v3194
  v3195

def k0_off275 (v3193 : BitVec 32) : Fin 3 → Nat :=
  let c0_2012 : Index := 0#32
  let c7_i32_2011 : BitVec 32 := 7#32
  let v3194 : BitVec 32 := Scalar.andi v3193 c7_i32_2011
  let v3195 : BitVec 32 := Scalar.subi v3193 v3194
  let v3196 : BitVec 32 := v3195
  let v3197 : Index := Scalar.indexCast v3196
  let c0_2013 : Index := 0#32
  ![0, v3197.toNat, 0]

def k0_chk237 (v3193 : BitVec 32) : Prop :=
  (8 ∣ (k0_mult238 v3193).toNat) ∧
  (∀ a, (k0_off275 v3193) a + S1x8x1024.size a ≤ S1x2048x1024.size a)
theorem k0_mult238_dvd : ∀ (v3193 : BitVec 32) (k0_hw237 : k0_chk237 v3193), 8 ∣ (k0_mult238 v3193).toNat := fun v3193 k0_hw237 => k0_hw237.1
theorem k0_off275_inb : ∀ (v3193 : BitVec 32) (k0_hw237 : k0_chk237 v3193), ∀ a, (k0_off275 v3193) a + S1x8x1024.size a ≤ S1x2048x1024.size a := fun v3193 k0_hw237 => k0_hw237.2

def k0_mult239 (v3206 : BitVec 32) : BitVec 32 :=
  let c7_i32_2019 : BitVec 32 := 7#32
  let v3207 : BitVec 32 := Scalar.andi v3206 c7_i32_2019
  let v3208 : BitVec 32 := Scalar.subi v3206 v3207
  v3208

def k0_off276 (v3206 : BitVec 32) : Fin 3 → Nat :=
  let c0_2020 : Index := 0#32
  let c7_i32_2019 : BitVec 32 := 7#32
  let v3207 : BitVec 32 := Scalar.andi v3206 c7_i32_2019
  let v3208 : BitVec 32 := Scalar.subi v3206 v3207
  let v3209 : BitVec 32 := v3208
  let v3210 : Index := Scalar.indexCast v3209
  let c0_2021 : Index := 0#32
  ![0, v3210.toNat, 0]

def k0_chk238 (v3206 : BitVec 32) : Prop :=
  (8 ∣ (k0_mult239 v3206).toNat) ∧
  (∀ a, (k0_off276 v3206) a + S1x8x1024.size a ≤ S1x2048x1024.size a)
theorem k0_mult239_dvd : ∀ (v3206 : BitVec 32) (k0_hw238 : k0_chk238 v3206), 8 ∣ (k0_mult239 v3206).toNat := fun v3206 k0_hw238 => k0_hw238.1
theorem k0_off276_inb : ∀ (v3206 : BitVec 32) (k0_hw238 : k0_chk238 v3206), ∀ a, (k0_off276 v3206) a + S1x8x1024.size a ≤ S1x2048x1024.size a := fun v3206 k0_hw238 => k0_hw238.2

def k0_mult240 (v3219 : BitVec 32) : BitVec 32 :=
  let c7_i32_2027 : BitVec 32 := 7#32
  let v3220 : BitVec 32 := Scalar.andi v3219 c7_i32_2027
  let v3221 : BitVec 32 := Scalar.subi v3219 v3220
  v3221

def k0_off277 (v3219 : BitVec 32) : Fin 3 → Nat :=
  let c0_2028 : Index := 0#32
  let c7_i32_2027 : BitVec 32 := 7#32
  let v3220 : BitVec 32 := Scalar.andi v3219 c7_i32_2027
  let v3221 : BitVec 32 := Scalar.subi v3219 v3220
  let v3222 : BitVec 32 := v3221
  let v3223 : Index := Scalar.indexCast v3222
  let c0_2029 : Index := 0#32
  ![0, v3223.toNat, 0]

def k0_chk239 (v3219 : BitVec 32) : Prop :=
  (8 ∣ (k0_mult240 v3219).toNat) ∧
  (∀ a, (k0_off277 v3219) a + S1x8x1024.size a ≤ S1x2048x1024.size a)
theorem k0_mult240_dvd : ∀ (v3219 : BitVec 32) (k0_hw239 : k0_chk239 v3219), 8 ∣ (k0_mult240 v3219).toNat := fun v3219 k0_hw239 => k0_hw239.1
theorem k0_off277_inb : ∀ (v3219 : BitVec 32) (k0_hw239 : k0_chk239 v3219), ∀ a, (k0_off277 v3219) a + S1x8x1024.size a ≤ S1x2048x1024.size a := fun v3219 k0_hw239 => k0_hw239.2

def k0_mult241 (v3232 : BitVec 32) : BitVec 32 :=
  let c7_i32_2035 : BitVec 32 := 7#32
  let v3233 : BitVec 32 := Scalar.andi v3232 c7_i32_2035
  let v3234 : BitVec 32 := Scalar.subi v3232 v3233
  v3234

def k0_off278 (v3232 : BitVec 32) : Fin 3 → Nat :=
  let c0_2036 : Index := 0#32
  let c7_i32_2035 : BitVec 32 := 7#32
  let v3233 : BitVec 32 := Scalar.andi v3232 c7_i32_2035
  let v3234 : BitVec 32 := Scalar.subi v3232 v3233
  let v3235 : BitVec 32 := v3234
  let v3236 : Index := Scalar.indexCast v3235
  let c0_2037 : Index := 0#32
  ![0, v3236.toNat, 0]

def k0_chk240 (v3232 : BitVec 32) : Prop :=
  (8 ∣ (k0_mult241 v3232).toNat) ∧
  (∀ a, (k0_off278 v3232) a + S1x8x1024.size a ≤ S1x2048x1024.size a)
theorem k0_mult241_dvd : ∀ (v3232 : BitVec 32) (k0_hw240 : k0_chk240 v3232), 8 ∣ (k0_mult241 v3232).toNat := fun v3232 k0_hw240 => k0_hw240.1
theorem k0_off278_inb : ∀ (v3232 : BitVec 32) (k0_hw240 : k0_chk240 v3232), ∀ a, (k0_off278 v3232) a + S1x8x1024.size a ≤ S1x2048x1024.size a := fun v3232 k0_hw240 => k0_hw240.2

def k0_off279 (i : grid0.Coords) : Fin 3 → Nat :=
  let c1_i32_1975 : BitVec 32 := 1#32
  let arg1 : BitVec 32 := BitVec.ofNat 32 (i 1).val
  let c1_i32 : BitVec 32 := 1#32
  let v1 : BitVec 32 := Scalar.andi arg1 c1_i32
  let v3139 : BitVec 32 := Scalar.subi c1_i32_1975 v1
  let c0_i32_2041 : BitVec 32 := 0#32
  let c0_i32_2042 : BitVec 32 := 0#32
  ![v3139.toNat, 0, 0]
def k0_mult242 (v3252 : BitVec 32) : BitVec 32 :=
  let c7_i32_2049 : BitVec 32 := 7#32
  let v3253 : BitVec 32 := Scalar.andi v3252 c7_i32_2049
  let v3254 : BitVec 32 := Scalar.subi v3252 v3253
  v3254

def k0_off280 (v3252 : BitVec 32) : Fin 3 → Nat :=
  let c0_2050 : Index := 0#32
  let c7_i32_2049 : BitVec 32 := 7#32
  let v3253 : BitVec 32 := Scalar.andi v3252 c7_i32_2049
  let v3254 : BitVec 32 := Scalar.subi v3252 v3253
  let v3255 : BitVec 32 := v3254
  let v3256 : Index := Scalar.indexCast v3255
  let c0_2051 : Index := 0#32
  ![0, v3256.toNat, 0]

def k0_chk241 (v3252 : BitVec 32) : Prop :=
  (8 ∣ (k0_mult242 v3252).toNat) ∧
  (∀ a, (k0_off280 v3252) a + S1x8x1024.size a ≤ S1x2048x1024.size a)
theorem k0_mult242_dvd : ∀ (v3252 : BitVec 32) (k0_hw241 : k0_chk241 v3252), 8 ∣ (k0_mult242 v3252).toNat := fun v3252 k0_hw241 => k0_hw241.1
theorem k0_off280_inb : ∀ (v3252 : BitVec 32) (k0_hw241 : k0_chk241 v3252), ∀ a, (k0_off280 v3252) a + S1x8x1024.size a ≤ S1x2048x1024.size a := fun v3252 k0_hw241 => k0_hw241.2

def k0_mult243 (v3265 : BitVec 32) : BitVec 32 :=
  let c7_i32_2057 : BitVec 32 := 7#32
  let v3266 : BitVec 32 := Scalar.andi v3265 c7_i32_2057
  let v3267 : BitVec 32 := Scalar.subi v3265 v3266
  v3267

def k0_off281 (v3265 : BitVec 32) : Fin 3 → Nat :=
  let c0_2058 : Index := 0#32
  let c7_i32_2057 : BitVec 32 := 7#32
  let v3266 : BitVec 32 := Scalar.andi v3265 c7_i32_2057
  let v3267 : BitVec 32 := Scalar.subi v3265 v3266
  let v3268 : BitVec 32 := v3267
  let v3269 : Index := Scalar.indexCast v3268
  let c0_2059 : Index := 0#32
  ![0, v3269.toNat, 0]

def k0_chk242 (v3265 : BitVec 32) : Prop :=
  (8 ∣ (k0_mult243 v3265).toNat) ∧
  (∀ a, (k0_off281 v3265) a + S1x8x1024.size a ≤ S1x2048x1024.size a)
theorem k0_mult243_dvd : ∀ (v3265 : BitVec 32) (k0_hw242 : k0_chk242 v3265), 8 ∣ (k0_mult243 v3265).toNat := fun v3265 k0_hw242 => k0_hw242.1
theorem k0_off281_inb : ∀ (v3265 : BitVec 32) (k0_hw242 : k0_chk242 v3265), ∀ a, (k0_off281 v3265) a + S1x8x1024.size a ≤ S1x2048x1024.size a := fun v3265 k0_hw242 => k0_hw242.2

def k0_mult244 (v3278 : BitVec 32) : BitVec 32 :=
  let c7_i32_2065 : BitVec 32 := 7#32
  let v3279 : BitVec 32 := Scalar.andi v3278 c7_i32_2065
  let v3280 : BitVec 32 := Scalar.subi v3278 v3279
  v3280

def k0_off282 (v3278 : BitVec 32) : Fin 3 → Nat :=
  let c0_2066 : Index := 0#32
  let c7_i32_2065 : BitVec 32 := 7#32
  let v3279 : BitVec 32 := Scalar.andi v3278 c7_i32_2065
  let v3280 : BitVec 32 := Scalar.subi v3278 v3279
  let v3281 : BitVec 32 := v3280
  let v3282 : Index := Scalar.indexCast v3281
  let c0_2067 : Index := 0#32
  ![0, v3282.toNat, 0]

def k0_chk243 (v3278 : BitVec 32) : Prop :=
  (8 ∣ (k0_mult244 v3278).toNat) ∧
  (∀ a, (k0_off282 v3278) a + S1x8x1024.size a ≤ S1x2048x1024.size a)
theorem k0_mult244_dvd : ∀ (v3278 : BitVec 32) (k0_hw243 : k0_chk243 v3278), 8 ∣ (k0_mult244 v3278).toNat := fun v3278 k0_hw243 => k0_hw243.1
theorem k0_off282_inb : ∀ (v3278 : BitVec 32) (k0_hw243 : k0_chk243 v3278), ∀ a, (k0_off282 v3278) a + S1x8x1024.size a ≤ S1x2048x1024.size a := fun v3278 k0_hw243 => k0_hw243.2

def k0_mult245 (v3291 : BitVec 32) : BitVec 32 :=
  let c7_i32_2073 : BitVec 32 := 7#32
  let v3292 : BitVec 32 := Scalar.andi v3291 c7_i32_2073
  let v3293 : BitVec 32 := Scalar.subi v3291 v3292
  v3293

def k0_off283 (v3291 : BitVec 32) : Fin 3 → Nat :=
  let c0_2074 : Index := 0#32
  let c7_i32_2073 : BitVec 32 := 7#32
  let v3292 : BitVec 32 := Scalar.andi v3291 c7_i32_2073
  let v3293 : BitVec 32 := Scalar.subi v3291 v3292
  let v3294 : BitVec 32 := v3293
  let v3295 : Index := Scalar.indexCast v3294
  let c0_2075 : Index := 0#32
  ![0, v3295.toNat, 0]

def k0_chk244 (v3291 : BitVec 32) : Prop :=
  (8 ∣ (k0_mult245 v3291).toNat) ∧
  (∀ a, (k0_off283 v3291) a + S1x8x1024.size a ≤ S1x2048x1024.size a)
theorem k0_mult245_dvd : ∀ (v3291 : BitVec 32) (k0_hw244 : k0_chk244 v3291), 8 ∣ (k0_mult245 v3291).toNat := fun v3291 k0_hw244 => k0_hw244.1
theorem k0_off283_inb : ∀ (v3291 : BitVec 32) (k0_hw244 : k0_chk244 v3291), ∀ a, (k0_off283 v3291) a + S1x8x1024.size a ≤ S1x2048x1024.size a := fun v3291 k0_hw244 => k0_hw244.2

def k0_mult246 (v3304 : BitVec 32) : BitVec 32 :=
  let c7_i32_2081 : BitVec 32 := 7#32
  let v3305 : BitVec 32 := Scalar.andi v3304 c7_i32_2081
  let v3306 : BitVec 32 := Scalar.subi v3304 v3305
  v3306

def k0_off284 (v3304 : BitVec 32) : Fin 3 → Nat :=
  let c0_2082 : Index := 0#32
  let c7_i32_2081 : BitVec 32 := 7#32
  let v3305 : BitVec 32 := Scalar.andi v3304 c7_i32_2081
  let v3306 : BitVec 32 := Scalar.subi v3304 v3305
  let v3307 : BitVec 32 := v3306
  let v3308 : Index := Scalar.indexCast v3307
  let c0_2083 : Index := 0#32
  ![0, v3308.toNat, 0]

def k0_chk245 (v3304 : BitVec 32) : Prop :=
  (8 ∣ (k0_mult246 v3304).toNat) ∧
  (∀ a, (k0_off284 v3304) a + S1x8x1024.size a ≤ S1x2048x1024.size a)
theorem k0_mult246_dvd : ∀ (v3304 : BitVec 32) (k0_hw245 : k0_chk245 v3304), 8 ∣ (k0_mult246 v3304).toNat := fun v3304 k0_hw245 => k0_hw245.1
theorem k0_off284_inb : ∀ (v3304 : BitVec 32) (k0_hw245 : k0_chk245 v3304), ∀ a, (k0_off284 v3304) a + S1x8x1024.size a ≤ S1x2048x1024.size a := fun v3304 k0_hw245 => k0_hw245.2

def k0_mult247 (v3317 : BitVec 32) : BitVec 32 :=
  let c7_i32_2089 : BitVec 32 := 7#32
  let v3318 : BitVec 32 := Scalar.andi v3317 c7_i32_2089
  let v3319 : BitVec 32 := Scalar.subi v3317 v3318
  v3319

def k0_off285 (v3317 : BitVec 32) : Fin 3 → Nat :=
  let c0_2090 : Index := 0#32
  let c7_i32_2089 : BitVec 32 := 7#32
  let v3318 : BitVec 32 := Scalar.andi v3317 c7_i32_2089
  let v3319 : BitVec 32 := Scalar.subi v3317 v3318
  let v3320 : BitVec 32 := v3319
  let v3321 : Index := Scalar.indexCast v3320
  let c0_2091 : Index := 0#32
  ![0, v3321.toNat, 0]

def k0_chk246 (v3317 : BitVec 32) : Prop :=
  (8 ∣ (k0_mult247 v3317).toNat) ∧
  (∀ a, (k0_off285 v3317) a + S1x8x1024.size a ≤ S1x2048x1024.size a)
theorem k0_mult247_dvd : ∀ (v3317 : BitVec 32) (k0_hw246 : k0_chk246 v3317), 8 ∣ (k0_mult247 v3317).toNat := fun v3317 k0_hw246 => k0_hw246.1
theorem k0_off285_inb : ∀ (v3317 : BitVec 32) (k0_hw246 : k0_chk246 v3317), ∀ a, (k0_off285 v3317) a + S1x8x1024.size a ≤ S1x2048x1024.size a := fun v3317 k0_hw246 => k0_hw246.2

def k0_mult248 (v3330 : BitVec 32) : BitVec 32 :=
  let c7_i32_2097 : BitVec 32 := 7#32
  let v3331 : BitVec 32 := Scalar.andi v3330 c7_i32_2097
  let v3332 : BitVec 32 := Scalar.subi v3330 v3331
  v3332

def k0_off286 (v3330 : BitVec 32) : Fin 3 → Nat :=
  let c0_2098 : Index := 0#32
  let c7_i32_2097 : BitVec 32 := 7#32
  let v3331 : BitVec 32 := Scalar.andi v3330 c7_i32_2097
  let v3332 : BitVec 32 := Scalar.subi v3330 v3331
  let v3333 : BitVec 32 := v3332
  let v3334 : Index := Scalar.indexCast v3333
  let c0_2099 : Index := 0#32
  ![0, v3334.toNat, 0]

def k0_chk247 (v3330 : BitVec 32) : Prop :=
  (8 ∣ (k0_mult248 v3330).toNat) ∧
  (∀ a, (k0_off286 v3330) a + S1x8x1024.size a ≤ S1x2048x1024.size a)
theorem k0_mult248_dvd : ∀ (v3330 : BitVec 32) (k0_hw247 : k0_chk247 v3330), 8 ∣ (k0_mult248 v3330).toNat := fun v3330 k0_hw247 => k0_hw247.1
theorem k0_off286_inb : ∀ (v3330 : BitVec 32) (k0_hw247 : k0_chk247 v3330), ∀ a, (k0_off286 v3330) a + S1x8x1024.size a ≤ S1x2048x1024.size a := fun v3330 k0_hw247 => k0_hw247.2

def k0_mult249 (v3343 : BitVec 32) : BitVec 32 :=
  let c7_i32_2105 : BitVec 32 := 7#32
  let v3344 : BitVec 32 := Scalar.andi v3343 c7_i32_2105
  let v3345 : BitVec 32 := Scalar.subi v3343 v3344
  v3345

def k0_off287 (v3343 : BitVec 32) : Fin 3 → Nat :=
  let c0_2106 : Index := 0#32
  let c7_i32_2105 : BitVec 32 := 7#32
  let v3344 : BitVec 32 := Scalar.andi v3343 c7_i32_2105
  let v3345 : BitVec 32 := Scalar.subi v3343 v3344
  let v3346 : BitVec 32 := v3345
  let v3347 : Index := Scalar.indexCast v3346
  let c0_2107 : Index := 0#32
  ![0, v3347.toNat, 0]

def k0_chk248 (v3343 : BitVec 32) : Prop :=
  (8 ∣ (k0_mult249 v3343).toNat) ∧
  (∀ a, (k0_off287 v3343) a + S1x8x1024.size a ≤ S1x2048x1024.size a)
theorem k0_mult249_dvd : ∀ (v3343 : BitVec 32) (k0_hw248 : k0_chk248 v3343), 8 ∣ (k0_mult249 v3343).toNat := fun v3343 k0_hw248 => k0_hw248.1
theorem k0_off287_inb : ∀ (v3343 : BitVec 32) (k0_hw248 : k0_chk248 v3343), ∀ a, (k0_off287 v3343) a + S1x8x1024.size a ≤ S1x2048x1024.size a := fun v3343 k0_hw248 => k0_hw248.2

def k0_off288 (i : grid0.Coords) : Fin 3 → Nat :=
  let c1_i32_2045 : BitVec 32 := 1#32
  let arg1 : BitVec 32 := BitVec.ofNat 32 (i 1).val
  let c1_i32 : BitVec 32 := 1#32
  let v1 : BitVec 32 := Scalar.andi arg1 c1_i32
  let v3250 : BitVec 32 := Scalar.subi c1_i32_2045 v1
  let c0_i32_2111 : BitVec 32 := 0#32
  let c0_i32_2112 : BitVec 32 := 0#32
  ![v3250.toNat, 0, 0]
def k0_mult250 (v3363 : BitVec 32) : BitVec 32 :=
  let c7_i32_2119 : BitVec 32 := 7#32
  let v3364 : BitVec 32 := Scalar.andi v3363 c7_i32_2119
  let v3365 : BitVec 32 := Scalar.subi v3363 v3364
  v3365

def k0_off289 (v3363 : BitVec 32) : Fin 3 → Nat :=
  let c0_2120 : Index := 0#32
  let c7_i32_2119 : BitVec 32 := 7#32
  let v3364 : BitVec 32 := Scalar.andi v3363 c7_i32_2119
  let v3365 : BitVec 32 := Scalar.subi v3363 v3364
  let v3366 : BitVec 32 := v3365
  let v3367 : Index := Scalar.indexCast v3366
  let c0_2121 : Index := 0#32
  ![0, v3367.toNat, 0]

def k0_chk249 (v3363 : BitVec 32) : Prop :=
  (8 ∣ (k0_mult250 v3363).toNat) ∧
  (∀ a, (k0_off289 v3363) a + S1x8x1024.size a ≤ S1x2048x1024.size a)
theorem k0_mult250_dvd : ∀ (v3363 : BitVec 32) (k0_hw249 : k0_chk249 v3363), 8 ∣ (k0_mult250 v3363).toNat := fun v3363 k0_hw249 => k0_hw249.1
theorem k0_off289_inb : ∀ (v3363 : BitVec 32) (k0_hw249 : k0_chk249 v3363), ∀ a, (k0_off289 v3363) a + S1x8x1024.size a ≤ S1x2048x1024.size a := fun v3363 k0_hw249 => k0_hw249.2

def k0_mult251 (v3376 : BitVec 32) : BitVec 32 :=
  let c7_i32_2127 : BitVec 32 := 7#32
  let v3377 : BitVec 32 := Scalar.andi v3376 c7_i32_2127
  let v3378 : BitVec 32 := Scalar.subi v3376 v3377
  v3378

def k0_off290 (v3376 : BitVec 32) : Fin 3 → Nat :=
  let c0_2128 : Index := 0#32
  let c7_i32_2127 : BitVec 32 := 7#32
  let v3377 : BitVec 32 := Scalar.andi v3376 c7_i32_2127
  let v3378 : BitVec 32 := Scalar.subi v3376 v3377
  let v3379 : BitVec 32 := v3378
  let v3380 : Index := Scalar.indexCast v3379
  let c0_2129 : Index := 0#32
  ![0, v3380.toNat, 0]

def k0_chk250 (v3376 : BitVec 32) : Prop :=
  (8 ∣ (k0_mult251 v3376).toNat) ∧
  (∀ a, (k0_off290 v3376) a + S1x8x1024.size a ≤ S1x2048x1024.size a)
theorem k0_mult251_dvd : ∀ (v3376 : BitVec 32) (k0_hw250 : k0_chk250 v3376), 8 ∣ (k0_mult251 v3376).toNat := fun v3376 k0_hw250 => k0_hw250.1
theorem k0_off290_inb : ∀ (v3376 : BitVec 32) (k0_hw250 : k0_chk250 v3376), ∀ a, (k0_off290 v3376) a + S1x8x1024.size a ≤ S1x2048x1024.size a := fun v3376 k0_hw250 => k0_hw250.2

def k0_mult252 (v3389 : BitVec 32) : BitVec 32 :=
  let c7_i32_2135 : BitVec 32 := 7#32
  let v3390 : BitVec 32 := Scalar.andi v3389 c7_i32_2135
  let v3391 : BitVec 32 := Scalar.subi v3389 v3390
  v3391

def k0_off291 (v3389 : BitVec 32) : Fin 3 → Nat :=
  let c0_2136 : Index := 0#32
  let c7_i32_2135 : BitVec 32 := 7#32
  let v3390 : BitVec 32 := Scalar.andi v3389 c7_i32_2135
  let v3391 : BitVec 32 := Scalar.subi v3389 v3390
  let v3392 : BitVec 32 := v3391
  let v3393 : Index := Scalar.indexCast v3392
  let c0_2137 : Index := 0#32
  ![0, v3393.toNat, 0]

def k0_chk251 (v3389 : BitVec 32) : Prop :=
  (8 ∣ (k0_mult252 v3389).toNat) ∧
  (∀ a, (k0_off291 v3389) a + S1x8x1024.size a ≤ S1x2048x1024.size a)
theorem k0_mult252_dvd : ∀ (v3389 : BitVec 32) (k0_hw251 : k0_chk251 v3389), 8 ∣ (k0_mult252 v3389).toNat := fun v3389 k0_hw251 => k0_hw251.1
theorem k0_off291_inb : ∀ (v3389 : BitVec 32) (k0_hw251 : k0_chk251 v3389), ∀ a, (k0_off291 v3389) a + S1x8x1024.size a ≤ S1x2048x1024.size a := fun v3389 k0_hw251 => k0_hw251.2

def k0_mult253 (v3402 : BitVec 32) : BitVec 32 :=
  let c7_i32_2143 : BitVec 32 := 7#32
  let v3403 : BitVec 32 := Scalar.andi v3402 c7_i32_2143
  let v3404 : BitVec 32 := Scalar.subi v3402 v3403
  v3404

def k0_off292 (v3402 : BitVec 32) : Fin 3 → Nat :=
  let c0_2144 : Index := 0#32
  let c7_i32_2143 : BitVec 32 := 7#32
  let v3403 : BitVec 32 := Scalar.andi v3402 c7_i32_2143
  let v3404 : BitVec 32 := Scalar.subi v3402 v3403
  let v3405 : BitVec 32 := v3404
  let v3406 : Index := Scalar.indexCast v3405
  let c0_2145 : Index := 0#32
  ![0, v3406.toNat, 0]

def k0_chk252 (v3402 : BitVec 32) : Prop :=
  (8 ∣ (k0_mult253 v3402).toNat) ∧
  (∀ a, (k0_off292 v3402) a + S1x8x1024.size a ≤ S1x2048x1024.size a)
theorem k0_mult253_dvd : ∀ (v3402 : BitVec 32) (k0_hw252 : k0_chk252 v3402), 8 ∣ (k0_mult253 v3402).toNat := fun v3402 k0_hw252 => k0_hw252.1
theorem k0_off292_inb : ∀ (v3402 : BitVec 32) (k0_hw252 : k0_chk252 v3402), ∀ a, (k0_off292 v3402) a + S1x8x1024.size a ≤ S1x2048x1024.size a := fun v3402 k0_hw252 => k0_hw252.2

def k0_mult254 (v3415 : BitVec 32) : BitVec 32 :=
  let c7_i32_2151 : BitVec 32 := 7#32
  let v3416 : BitVec 32 := Scalar.andi v3415 c7_i32_2151
  let v3417 : BitVec 32 := Scalar.subi v3415 v3416
  v3417

def k0_off293 (v3415 : BitVec 32) : Fin 3 → Nat :=
  let c0_2152 : Index := 0#32
  let c7_i32_2151 : BitVec 32 := 7#32
  let v3416 : BitVec 32 := Scalar.andi v3415 c7_i32_2151
  let v3417 : BitVec 32 := Scalar.subi v3415 v3416
  let v3418 : BitVec 32 := v3417
  let v3419 : Index := Scalar.indexCast v3418
  let c0_2153 : Index := 0#32
  ![0, v3419.toNat, 0]

def k0_chk253 (v3415 : BitVec 32) : Prop :=
  (8 ∣ (k0_mult254 v3415).toNat) ∧
  (∀ a, (k0_off293 v3415) a + S1x8x1024.size a ≤ S1x2048x1024.size a)
theorem k0_mult254_dvd : ∀ (v3415 : BitVec 32) (k0_hw253 : k0_chk253 v3415), 8 ∣ (k0_mult254 v3415).toNat := fun v3415 k0_hw253 => k0_hw253.1
theorem k0_off293_inb : ∀ (v3415 : BitVec 32) (k0_hw253 : k0_chk253 v3415), ∀ a, (k0_off293 v3415) a + S1x8x1024.size a ≤ S1x2048x1024.size a := fun v3415 k0_hw253 => k0_hw253.2

def k0_mult255 (v3428 : BitVec 32) : BitVec 32 :=
  let c7_i32_2159 : BitVec 32 := 7#32
  let v3429 : BitVec 32 := Scalar.andi v3428 c7_i32_2159
  let v3430 : BitVec 32 := Scalar.subi v3428 v3429
  v3430

def k0_off294 (v3428 : BitVec 32) : Fin 3 → Nat :=
  let c0_2160 : Index := 0#32
  let c7_i32_2159 : BitVec 32 := 7#32
  let v3429 : BitVec 32 := Scalar.andi v3428 c7_i32_2159
  let v3430 : BitVec 32 := Scalar.subi v3428 v3429
  let v3431 : BitVec 32 := v3430
  let v3432 : Index := Scalar.indexCast v3431
  let c0_2161 : Index := 0#32
  ![0, v3432.toNat, 0]

def k0_chk254 (v3428 : BitVec 32) : Prop :=
  (8 ∣ (k0_mult255 v3428).toNat) ∧
  (∀ a, (k0_off294 v3428) a + S1x8x1024.size a ≤ S1x2048x1024.size a)
theorem k0_mult255_dvd : ∀ (v3428 : BitVec 32) (k0_hw254 : k0_chk254 v3428), 8 ∣ (k0_mult255 v3428).toNat := fun v3428 k0_hw254 => k0_hw254.1
theorem k0_off294_inb : ∀ (v3428 : BitVec 32) (k0_hw254 : k0_chk254 v3428), ∀ a, (k0_off294 v3428) a + S1x8x1024.size a ≤ S1x2048x1024.size a := fun v3428 k0_hw254 => k0_hw254.2

def k0_mult256 (v3441 : BitVec 32) : BitVec 32 :=
  let c7_i32_2167 : BitVec 32 := 7#32
  let v3442 : BitVec 32 := Scalar.andi v3441 c7_i32_2167
  let v3443 : BitVec 32 := Scalar.subi v3441 v3442
  v3443

def k0_off295 (v3441 : BitVec 32) : Fin 3 → Nat :=
  let c0_2168 : Index := 0#32
  let c7_i32_2167 : BitVec 32 := 7#32
  let v3442 : BitVec 32 := Scalar.andi v3441 c7_i32_2167
  let v3443 : BitVec 32 := Scalar.subi v3441 v3442
  let v3444 : BitVec 32 := v3443
  let v3445 : Index := Scalar.indexCast v3444
  let c0_2169 : Index := 0#32
  ![0, v3445.toNat, 0]

def k0_chk255 (v3441 : BitVec 32) : Prop :=
  (8 ∣ (k0_mult256 v3441).toNat) ∧
  (∀ a, (k0_off295 v3441) a + S1x8x1024.size a ≤ S1x2048x1024.size a)
theorem k0_mult256_dvd : ∀ (v3441 : BitVec 32) (k0_hw255 : k0_chk255 v3441), 8 ∣ (k0_mult256 v3441).toNat := fun v3441 k0_hw255 => k0_hw255.1
theorem k0_off295_inb : ∀ (v3441 : BitVec 32) (k0_hw255 : k0_chk255 v3441), ∀ a, (k0_off295 v3441) a + S1x8x1024.size a ≤ S1x2048x1024.size a := fun v3441 k0_hw255 => k0_hw255.2

def k0_mult257 (v3454 : BitVec 32) : BitVec 32 :=
  let c7_i32_2175 : BitVec 32 := 7#32
  let v3455 : BitVec 32 := Scalar.andi v3454 c7_i32_2175
  let v3456 : BitVec 32 := Scalar.subi v3454 v3455
  v3456

def k0_off296 (v3454 : BitVec 32) : Fin 3 → Nat :=
  let c0_2176 : Index := 0#32
  let c7_i32_2175 : BitVec 32 := 7#32
  let v3455 : BitVec 32 := Scalar.andi v3454 c7_i32_2175
  let v3456 : BitVec 32 := Scalar.subi v3454 v3455
  let v3457 : BitVec 32 := v3456
  let v3458 : Index := Scalar.indexCast v3457
  let c0_2177 : Index := 0#32
  ![0, v3458.toNat, 0]

def k0_chk256 (v3454 : BitVec 32) : Prop :=
  (8 ∣ (k0_mult257 v3454).toNat) ∧
  (∀ a, (k0_off296 v3454) a + S1x8x1024.size a ≤ S1x2048x1024.size a)
theorem k0_mult257_dvd : ∀ (v3454 : BitVec 32) (k0_hw256 : k0_chk256 v3454), 8 ∣ (k0_mult257 v3454).toNat := fun v3454 k0_hw256 => k0_hw256.1
theorem k0_off296_inb : ∀ (v3454 : BitVec 32) (k0_hw256 : k0_chk256 v3454), ∀ a, (k0_off296 v3454) a + S1x8x1024.size a ≤ S1x2048x1024.size a := fun v3454 k0_hw256 => k0_hw256.2

def k0_off297 (i : grid0.Coords) : Fin 3 → Nat :=
  let c1_i32_2115 : BitVec 32 := 1#32
  let arg1 : BitVec 32 := BitVec.ofNat 32 (i 1).val
  let c1_i32 : BitVec 32 := 1#32
  let v1 : BitVec 32 := Scalar.andi arg1 c1_i32
  let v3361 : BitVec 32 := Scalar.subi c1_i32_2115 v1
  let c0_i32_2181 : BitVec 32 := 0#32
  let c0_i32_2182 : BitVec 32 := 0#32
  ![v3361.toNat, 0, 0]
def k0_mult258 (v3474 : BitVec 32) : BitVec 32 :=
  let c7_i32_2189 : BitVec 32 := 7#32
  let v3475 : BitVec 32 := Scalar.andi v3474 c7_i32_2189
  let v3476 : BitVec 32 := Scalar.subi v3474 v3475
  v3476

def k0_off298 (v3474 : BitVec 32) : Fin 3 → Nat :=
  let c0_2190 : Index := 0#32
  let c7_i32_2189 : BitVec 32 := 7#32
  let v3475 : BitVec 32 := Scalar.andi v3474 c7_i32_2189
  let v3476 : BitVec 32 := Scalar.subi v3474 v3475
  let v3477 : BitVec 32 := v3476
  let v3478 : Index := Scalar.indexCast v3477
  let c0_2191 : Index := 0#32
  ![0, v3478.toNat, 0]

def k0_chk257 (v3474 : BitVec 32) : Prop :=
  (8 ∣ (k0_mult258 v3474).toNat) ∧
  (∀ a, (k0_off298 v3474) a + S1x8x1024.size a ≤ S1x2048x1024.size a)
theorem k0_mult258_dvd : ∀ (v3474 : BitVec 32) (k0_hw257 : k0_chk257 v3474), 8 ∣ (k0_mult258 v3474).toNat := fun v3474 k0_hw257 => k0_hw257.1
theorem k0_off298_inb : ∀ (v3474 : BitVec 32) (k0_hw257 : k0_chk257 v3474), ∀ a, (k0_off298 v3474) a + S1x8x1024.size a ≤ S1x2048x1024.size a := fun v3474 k0_hw257 => k0_hw257.2

def k0_mult259 (v3487 : BitVec 32) : BitVec 32 :=
  let c7_i32_2197 : BitVec 32 := 7#32
  let v3488 : BitVec 32 := Scalar.andi v3487 c7_i32_2197
  let v3489 : BitVec 32 := Scalar.subi v3487 v3488
  v3489

def k0_off299 (v3487 : BitVec 32) : Fin 3 → Nat :=
  let c0_2198 : Index := 0#32
  let c7_i32_2197 : BitVec 32 := 7#32
  let v3488 : BitVec 32 := Scalar.andi v3487 c7_i32_2197
  let v3489 : BitVec 32 := Scalar.subi v3487 v3488
  let v3490 : BitVec 32 := v3489
  let v3491 : Index := Scalar.indexCast v3490
  let c0_2199 : Index := 0#32
  ![0, v3491.toNat, 0]

def k0_chk258 (v3487 : BitVec 32) : Prop :=
  (8 ∣ (k0_mult259 v3487).toNat) ∧
  (∀ a, (k0_off299 v3487) a + S1x8x1024.size a ≤ S1x2048x1024.size a)
theorem k0_mult259_dvd : ∀ (v3487 : BitVec 32) (k0_hw258 : k0_chk258 v3487), 8 ∣ (k0_mult259 v3487).toNat := fun v3487 k0_hw258 => k0_hw258.1
theorem k0_off299_inb : ∀ (v3487 : BitVec 32) (k0_hw258 : k0_chk258 v3487), ∀ a, (k0_off299 v3487) a + S1x8x1024.size a ≤ S1x2048x1024.size a := fun v3487 k0_hw258 => k0_hw258.2

def k0_mult260 (v3500 : BitVec 32) : BitVec 32 :=
  let c7_i32_2205 : BitVec 32 := 7#32
  let v3501 : BitVec 32 := Scalar.andi v3500 c7_i32_2205
  let v3502 : BitVec 32 := Scalar.subi v3500 v3501
  v3502

def k0_off300 (v3500 : BitVec 32) : Fin 3 → Nat :=
  let c0_2206 : Index := 0#32
  let c7_i32_2205 : BitVec 32 := 7#32
  let v3501 : BitVec 32 := Scalar.andi v3500 c7_i32_2205
  let v3502 : BitVec 32 := Scalar.subi v3500 v3501
  let v3503 : BitVec 32 := v3502
  let v3504 : Index := Scalar.indexCast v3503
  let c0_2207 : Index := 0#32
  ![0, v3504.toNat, 0]

def k0_chk259 (v3500 : BitVec 32) : Prop :=
  (8 ∣ (k0_mult260 v3500).toNat) ∧
  (∀ a, (k0_off300 v3500) a + S1x8x1024.size a ≤ S1x2048x1024.size a)
theorem k0_mult260_dvd : ∀ (v3500 : BitVec 32) (k0_hw259 : k0_chk259 v3500), 8 ∣ (k0_mult260 v3500).toNat := fun v3500 k0_hw259 => k0_hw259.1
theorem k0_off300_inb : ∀ (v3500 : BitVec 32) (k0_hw259 : k0_chk259 v3500), ∀ a, (k0_off300 v3500) a + S1x8x1024.size a ≤ S1x2048x1024.size a := fun v3500 k0_hw259 => k0_hw259.2

def k0_mult261 (v3513 : BitVec 32) : BitVec 32 :=
  let c7_i32_2213 : BitVec 32 := 7#32
  let v3514 : BitVec 32 := Scalar.andi v3513 c7_i32_2213
  let v3515 : BitVec 32 := Scalar.subi v3513 v3514
  v3515

def k0_off301 (v3513 : BitVec 32) : Fin 3 → Nat :=
  let c0_2214 : Index := 0#32
  let c7_i32_2213 : BitVec 32 := 7#32
  let v3514 : BitVec 32 := Scalar.andi v3513 c7_i32_2213
  let v3515 : BitVec 32 := Scalar.subi v3513 v3514
  let v3516 : BitVec 32 := v3515
  let v3517 : Index := Scalar.indexCast v3516
  let c0_2215 : Index := 0#32
  ![0, v3517.toNat, 0]

def k0_chk260 (v3513 : BitVec 32) : Prop :=
  (8 ∣ (k0_mult261 v3513).toNat) ∧
  (∀ a, (k0_off301 v3513) a + S1x8x1024.size a ≤ S1x2048x1024.size a)
theorem k0_mult261_dvd : ∀ (v3513 : BitVec 32) (k0_hw260 : k0_chk260 v3513), 8 ∣ (k0_mult261 v3513).toNat := fun v3513 k0_hw260 => k0_hw260.1
theorem k0_off301_inb : ∀ (v3513 : BitVec 32) (k0_hw260 : k0_chk260 v3513), ∀ a, (k0_off301 v3513) a + S1x8x1024.size a ≤ S1x2048x1024.size a := fun v3513 k0_hw260 => k0_hw260.2

def k0_mult262 (v3526 : BitVec 32) : BitVec 32 :=
  let c7_i32_2221 : BitVec 32 := 7#32
  let v3527 : BitVec 32 := Scalar.andi v3526 c7_i32_2221
  let v3528 : BitVec 32 := Scalar.subi v3526 v3527
  v3528

def k0_off302 (v3526 : BitVec 32) : Fin 3 → Nat :=
  let c0_2222 : Index := 0#32
  let c7_i32_2221 : BitVec 32 := 7#32
  let v3527 : BitVec 32 := Scalar.andi v3526 c7_i32_2221
  let v3528 : BitVec 32 := Scalar.subi v3526 v3527
  let v3529 : BitVec 32 := v3528
  let v3530 : Index := Scalar.indexCast v3529
  let c0_2223 : Index := 0#32
  ![0, v3530.toNat, 0]

def k0_chk261 (v3526 : BitVec 32) : Prop :=
  (8 ∣ (k0_mult262 v3526).toNat) ∧
  (∀ a, (k0_off302 v3526) a + S1x8x1024.size a ≤ S1x2048x1024.size a)
theorem k0_mult262_dvd : ∀ (v3526 : BitVec 32) (k0_hw261 : k0_chk261 v3526), 8 ∣ (k0_mult262 v3526).toNat := fun v3526 k0_hw261 => k0_hw261.1
theorem k0_off302_inb : ∀ (v3526 : BitVec 32) (k0_hw261 : k0_chk261 v3526), ∀ a, (k0_off302 v3526) a + S1x8x1024.size a ≤ S1x2048x1024.size a := fun v3526 k0_hw261 => k0_hw261.2

def k0_mult263 (v3539 : BitVec 32) : BitVec 32 :=
  let c7_i32_2229 : BitVec 32 := 7#32
  let v3540 : BitVec 32 := Scalar.andi v3539 c7_i32_2229
  let v3541 : BitVec 32 := Scalar.subi v3539 v3540
  v3541

def k0_off303 (v3539 : BitVec 32) : Fin 3 → Nat :=
  let c0_2230 : Index := 0#32
  let c7_i32_2229 : BitVec 32 := 7#32
  let v3540 : BitVec 32 := Scalar.andi v3539 c7_i32_2229
  let v3541 : BitVec 32 := Scalar.subi v3539 v3540
  let v3542 : BitVec 32 := v3541
  let v3543 : Index := Scalar.indexCast v3542
  let c0_2231 : Index := 0#32
  ![0, v3543.toNat, 0]

def k0_chk262 (v3539 : BitVec 32) : Prop :=
  (8 ∣ (k0_mult263 v3539).toNat) ∧
  (∀ a, (k0_off303 v3539) a + S1x8x1024.size a ≤ S1x2048x1024.size a)
theorem k0_mult263_dvd : ∀ (v3539 : BitVec 32) (k0_hw262 : k0_chk262 v3539), 8 ∣ (k0_mult263 v3539).toNat := fun v3539 k0_hw262 => k0_hw262.1
theorem k0_off303_inb : ∀ (v3539 : BitVec 32) (k0_hw262 : k0_chk262 v3539), ∀ a, (k0_off303 v3539) a + S1x8x1024.size a ≤ S1x2048x1024.size a := fun v3539 k0_hw262 => k0_hw262.2

def k0_mult264 (v3552 : BitVec 32) : BitVec 32 :=
  let c7_i32_2237 : BitVec 32 := 7#32
  let v3553 : BitVec 32 := Scalar.andi v3552 c7_i32_2237
  let v3554 : BitVec 32 := Scalar.subi v3552 v3553
  v3554

def k0_off304 (v3552 : BitVec 32) : Fin 3 → Nat :=
  let c0_2238 : Index := 0#32
  let c7_i32_2237 : BitVec 32 := 7#32
  let v3553 : BitVec 32 := Scalar.andi v3552 c7_i32_2237
  let v3554 : BitVec 32 := Scalar.subi v3552 v3553
  let v3555 : BitVec 32 := v3554
  let v3556 : Index := Scalar.indexCast v3555
  let c0_2239 : Index := 0#32
  ![0, v3556.toNat, 0]

def k0_chk263 (v3552 : BitVec 32) : Prop :=
  (8 ∣ (k0_mult264 v3552).toNat) ∧
  (∀ a, (k0_off304 v3552) a + S1x8x1024.size a ≤ S1x2048x1024.size a)
theorem k0_mult264_dvd : ∀ (v3552 : BitVec 32) (k0_hw263 : k0_chk263 v3552), 8 ∣ (k0_mult264 v3552).toNat := fun v3552 k0_hw263 => k0_hw263.1
theorem k0_off304_inb : ∀ (v3552 : BitVec 32) (k0_hw263 : k0_chk263 v3552), ∀ a, (k0_off304 v3552) a + S1x8x1024.size a ≤ S1x2048x1024.size a := fun v3552 k0_hw263 => k0_hw263.2

def k0_mult265 (v3565 : BitVec 32) : BitVec 32 :=
  let c7_i32_2245 : BitVec 32 := 7#32
  let v3566 : BitVec 32 := Scalar.andi v3565 c7_i32_2245
  let v3567 : BitVec 32 := Scalar.subi v3565 v3566
  v3567

def k0_off305 (v3565 : BitVec 32) : Fin 3 → Nat :=
  let c0_2246 : Index := 0#32
  let c7_i32_2245 : BitVec 32 := 7#32
  let v3566 : BitVec 32 := Scalar.andi v3565 c7_i32_2245
  let v3567 : BitVec 32 := Scalar.subi v3565 v3566
  let v3568 : BitVec 32 := v3567
  let v3569 : Index := Scalar.indexCast v3568
  let c0_2247 : Index := 0#32
  ![0, v3569.toNat, 0]

def k0_chk264 (v3565 : BitVec 32) : Prop :=
  (8 ∣ (k0_mult265 v3565).toNat) ∧
  (∀ a, (k0_off305 v3565) a + S1x8x1024.size a ≤ S1x2048x1024.size a)
theorem k0_mult265_dvd : ∀ (v3565 : BitVec 32) (k0_hw264 : k0_chk264 v3565), 8 ∣ (k0_mult265 v3565).toNat := fun v3565 k0_hw264 => k0_hw264.1
theorem k0_off305_inb : ∀ (v3565 : BitVec 32) (k0_hw264 : k0_chk264 v3565), ∀ a, (k0_off305 v3565) a + S1x8x1024.size a ≤ S1x2048x1024.size a := fun v3565 k0_hw264 => k0_hw264.2

def k0_off306 (i : grid0.Coords) : Fin 3 → Nat :=
  let c1_i32_2185 : BitVec 32 := 1#32
  let arg1 : BitVec 32 := BitVec.ofNat 32 (i 1).val
  let c1_i32 : BitVec 32 := 1#32
  let v1 : BitVec 32 := Scalar.andi arg1 c1_i32
  let v3472 : BitVec 32 := Scalar.subi c1_i32_2185 v1
  let c0_i32_2251 : BitVec 32 := 0#32
  let c0_i32_2252 : BitVec 32 := 0#32
  ![v3472.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.addi arg1 c1_i32
  let c15_i32 : BitVec 32 := 15#32
  let v2 : BitVec 32 := Scalar.minsi v1 c15_i32
  let v3 : BitVec 32 := Scalar.addi v0 v2
  let c0_i32 : BitVec 32 := 0#32
  let c0_i32_0 : BitVec 32 := 0#32
  let c0_i32_1 : BitVec 32 := 0#32
  ![v3.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .smem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .smem S1x1x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16x1x256 : Shape := ⟨3, ![16, 1, 256]⟩
abbrev S1x2048x1024 : Shape := ⟨3, ![1, 2048, 1024]⟩
abbrev S16x1024x1024 : Shape := ⟨3, ![16, 1024, 1024]⟩
abbrev S1x16x256 : Shape := ⟨3, ![1, 16, 256]⟩
abbrev S1 : Shape := ⟨1, ![1]⟩
abbrev S1x1x1 : Shape := ⟨3, ![1, 1, 1]⟩
abbrev S_ : Shape := ⟨0, ![]⟩
abbrev S1x16x256x1 : Shape := ⟨4, ![1, 16, 256, 1]⟩
abbrev S1x16x256x2 : Shape := ⟨4, ![1, 16, 256, 2]⟩
abbrev S1x16x256x1024 : Shape := ⟨4, ![1, 16, 256, 1024]⟩
abbrev S16x1024x1x256 : Shape := ⟨4, ![16, 1024, 1, 256]⟩

abbrev nBuf : Space → Nat
  | .hbm => 46
  | .vmem => 0
  | .smem => 0
  | _ => 0

abbrev bufTy : (tb : Table) → Fin (tcTables nBuf tb) → BufTy
  | .hbm, ⟨0, _⟩ => ⟨S16x1x256, .i32⟩
  | .hbm, ⟨1, _⟩ => ⟨S1x2048x1024, .f32⟩
  | .hbm, ⟨2, _⟩ => ⟨S16x1024x1024, .bf16⟩
  | .hbm, ⟨3, _⟩ => ⟨S16x1024x1024, .bf16⟩
  | .hbm, ⟨4, _⟩ => ⟨S16x1024x1024, .bf16⟩
  | .hbm, ⟨5, _⟩ => ⟨S1x16x256, .i32⟩
  | .hbm, ⟨6, _⟩ => ⟨S1, .i32⟩
  | .hbm, ⟨7, _⟩ => ⟨S1x1x1, .i32⟩
  | .hbm, ⟨8, _⟩ => ⟨S_, .i32⟩
  | .hbm, ⟨9, _⟩ => ⟨S1x1x1, .i32⟩
  | .hbm, ⟨10, _⟩ => ⟨S1x1x1, .i1⟩
  | .hbm, ⟨11, _⟩ => ⟨S_, .i32⟩
  | .hbm, ⟨12, _⟩ => ⟨S1x1x1, .i32⟩
  | .hbm, ⟨13, _⟩ => ⟨S1x1x1, .i32⟩
  | .hbm, ⟨14, _⟩ => ⟨S1x1x1, .i32⟩
  | .hbm, ⟨15, _⟩ => ⟨S_, .i32⟩
  | .hbm, ⟨16, _⟩ => ⟨S1x16x256, .i32⟩
  | .hbm, ⟨17, _⟩ => ⟨S1x16x256, .i1⟩
  | .hbm, ⟨18, _⟩ => ⟨S_, .i32⟩
  | .hbm, ⟨19, _⟩ => ⟨S1x16x256, .i32⟩
  | .hbm, ⟨20, _⟩ => ⟨S1x16x256, .i32⟩
  | .hbm, ⟨21, _⟩ => ⟨S1x16x256, .i32⟩
  | .hbm, ⟨22, _⟩ => ⟨S1x16x256, .i32⟩
  | .hbm, ⟨23, _⟩ => ⟨S1x16x256x1, .i32⟩
  | .hbm, ⟨24, _⟩ => ⟨S1x16x256x1, .i32⟩
  | .hbm, ⟨25, _⟩ => ⟨S1x16x256x2, .i32⟩
  | .hbm, ⟨26, _⟩ => ⟨S1x16x256x1024, .f32⟩
  | .hbm, ⟨27, _⟩ => ⟨S16x1024x1024, .f32⟩
  | .hbm, ⟨28, _⟩ => ⟨S16x1024x1x256, .f32⟩
  | .hbm, ⟨29, _⟩ => ⟨S1x16x256x1024, .f32⟩
  | .hbm, ⟨30, _⟩ => ⟨S1x16x256x1024, .f32⟩
  | .hbm, ⟨31, _⟩ => ⟨S1x16x256x1024, .f32⟩
  | .hbm, ⟨32, _⟩ => ⟨S_, .f32⟩
  | .hbm, ⟨33, _⟩ => ⟨S1x16x256x1024, .f32⟩
  | .hbm, ⟨34, _⟩ => ⟨S1x16x256x1024, .f32⟩
  | .hbm, ⟨35, _⟩ => ⟨S_, .f32⟩
  | .hbm, ⟨36, _⟩ => ⟨S1x16x256x1024, .f32⟩
  | .hbm, ⟨37, _⟩ => ⟨S1x16x256x1024, .f32⟩
  | .hbm, ⟨38, _⟩ => ⟨S1x16x256x1024, .f32⟩
  | .hbm, ⟨39, _⟩ => ⟨S16x1024x1024, .f32⟩
  | .hbm, ⟨40, _⟩ => ⟨S16x1024x1x256, .f32⟩
  | .hbm, ⟨41, _⟩ => ⟨S1x16x256x1024, .f32⟩
  | .hbm, ⟨42, _⟩ => ⟨S1x16x256x1024, .f32⟩
  | .hbm, ⟨43, _⟩ => ⟨S16x1024x1024, .f32⟩
  | .hbm, ⟨44, _⟩ => ⟨S16x1024x1x256, .f32⟩
  | .hbm, ⟨45, _⟩ => ⟨S1x16x256x1024, .f32⟩
  | _, _ => ⟨S16x1x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel7.lean ====
abbrev S8x256x1024 : Shape := ⟨3, ![8, 256, 1024]⟩
abbrev S1024 : Shape := ⟨1, ![1024]⟩
abbrev S1x1x1024 : Shape := ⟨3, ![1, 1, 1024]⟩
abbrev S1024x3072 : Shape := ⟨2, ![1024, 3072]⟩
abbrev S1x1024 : Shape := ⟨2, ![1, 1024]⟩
abbrev S8x256x512 : Shape := ⟨3, ![8, 256, 512]⟩
abbrev S1x256x1024 : Shape := ⟨3, ![1, 256, 1024]⟩
abbrev S1x256x512 : Shape := ⟨3, ![1, 256, 512]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩

abbrev nBuf : Space → Nat
  | .hbm => 12
  | .vmem => 18
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x3072, .bf16⟩
  | .hbm, ⟨5, _⟩ => ⟨S1x1024, .f32⟩
  | .hbm, ⟨6, _⟩ => ⟨S8x256x512, .bf16⟩
  | .hbm, ⟨7, _⟩ => ⟨S8x256x512, .bf16⟩
  | .hbm, ⟨8, _⟩ => ⟨S8x256x512, .bf16⟩
  | .hbm, ⟨9, _⟩ => ⟨S8x256x512, .bf16⟩
  | .hbm, ⟨10, _⟩ => ⟨S8x256x512, .bf16⟩
  | .hbm, ⟨11, _⟩ => ⟨S8x256x512, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1024x3072, .bf16⟩
  | .local _ .vmem, ⟨6, _⟩ => ⟨S1x256x512, .bf16⟩
  | .local _ .vmem, ⟨7, _⟩ => ⟨S1x256x512, .bf16⟩
  | .local _ .vmem, ⟨8, _⟩ => ⟨S1x256x512, .bf16⟩
  | .local _ .vmem, ⟨9, _⟩ => ⟨S1x256x512, .bf16⟩
  | .local _ .vmem, ⟨10, _⟩ => ⟨S1x256x512, .bf16⟩
  | .local _ .vmem, ⟨11, _⟩ => ⟨S1x256x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x512, .bf16⟩
  | .local _ .vmem, ⟨16, _⟩ => ⟨S1x256x512, .bf16⟩
  | .local _ .vmem, ⟨17, _⟩ => ⟨S1x256x512, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v1_4 : Ref sig .tc := ⟨.hbm, 10, rfl⟩
abbrev main_v1_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference7Ideal.lean ====
abbrev S8x256x1024 : Shape := ⟨3, ![8, 256, 1024]⟩
abbrev S1024 : Shape := ⟨1, ![1024]⟩
abbrev S1x1x1024 : Shape := ⟨3, ![1, 1, 1024]⟩
abbrev S1024x3072 : Shape := ⟨2, ![1024, 3072]⟩
abbrev S_ : Shape := ⟨0, ![]⟩
abbrev S8x256 : Shape := ⟨2, ![8, 256]⟩
abbrev S8x256x1 : Shape := ⟨3, ![8, 256, 1]⟩
abbrev S8x256x3072 : Shape := ⟨3, ![8, 256, 3072]⟩
abbrev S8x256x512 : Shape := ⟨3, ![8, 256, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1x1x1024, .f32⟩
  | .hbm, ⟨3, _⟩ => ⟨S1x1x1024, .f32⟩
  | .hbm, ⟨4, _⟩ => ⟨S1024x3072, .bf16⟩
  | .hbm, ⟨5, _⟩ => ⟨S8x256x1024, .f32⟩
  | .hbm, ⟨6, _⟩ => ⟨S_, .f32⟩
  | .hbm, ⟨7, _⟩ => ⟨S8x256, .f32⟩
  | .hbm, ⟨8, _⟩ => ⟨S8x256x1, .f32⟩
  | .hbm, ⟨9, _⟩ => ⟨S_, .f32⟩
  | .hbm, ⟨10, _⟩ => ⟨S8x256x1, .f32⟩
  | .hbm, ⟨11, _⟩ => ⟨S8x256x1, .f32⟩
  | .hbm, ⟨12, _⟩ => ⟨S_, .f32⟩
  | .hbm, ⟨13, _⟩ => ⟨S8x256x1, .f32⟩
  | .hbm, ⟨14, _⟩ => ⟨S8x256x1, .f32⟩
  | .hbm, ⟨15, _⟩ => ⟨S8x256x1, .f32⟩
  | .hbm, ⟨16, _⟩ => ⟨S8x256x1024, .f32⟩
  | .hbm, ⟨17, _⟩ => ⟨S8x256x1024, .f32⟩
  | .hbm, ⟨18, _⟩ => ⟨S1x1x1024, .f32⟩
  | .hbm, ⟨19, _⟩ => ⟨S8x256x1024, .f32⟩
  | .hbm, ⟨20, _⟩ => ⟨S8x256x1024, .f32⟩
  | .hbm, ⟨21, _⟩ => ⟨S8x256x1024, .f32⟩
  | .hbm, ⟨22, _⟩ => ⟨S8x256x1024, .f32⟩
  | .hbm, ⟨23, _⟩ => ⟨S8x256x1024, .f32⟩
  | .hbm, ⟨24, _⟩ => ⟨S8x256x1024, .f32⟩
  | .hbm, ⟨25, _⟩ => ⟨S1024x3072, .f32⟩
  | .hbm, ⟨26, _⟩ => ⟨S8x256x3072, .f32⟩
  | .hbm, ⟨27, _⟩ => ⟨S8x256x512, .f32⟩
  | .hbm, ⟨28, _⟩ => ⟨S8x256x512, .f32⟩
  | .hbm, ⟨29, _⟩ => ⟨S8x256x512, .f32⟩
  | .hbm, ⟨30, _⟩ => ⟨S8x256x512, .f32⟩
  | .hbm, ⟨31, _⟩ => ⟨S8x256x512, .f32⟩
  | .hbm, ⟨32, _⟩ => ⟨S8x256x512, .f32⟩
  | .hbm, ⟨33, _⟩ => ⟨S8x256x512, .bf16⟩
  | .hbm, ⟨34, _⟩ => ⟨S8x256x512, .bf16⟩
  | .hbm, ⟨35, _⟩ => ⟨S8x256x512, .bf16⟩
  | .hbm, ⟨36, _⟩ => ⟨S8x256x512, .bf16⟩
  | .hbm, ⟨37, _⟩ => ⟨S8x256x512, .bf16⟩
  | .hbm, ⟨38, _⟩ => ⟨S8x256x512, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== Kernel8.lean ====
abbrev S8x4096x1024 : Shape := ⟨3, ![8, 4096, 1024]⟩
abbrev S1024 : Shape := ⟨1, ![1024]⟩
abbrev S8x1x1024 : Shape := ⟨3, ![8, 1, 1024]⟩
abbrev S1x1024 : Shape := ⟨2, ![1, 1024]⟩
abbrev S1x512x1024 : Shape := ⟨3, ![1, 512, 1024]⟩
abbrev S1x1x1024 : Shape := ⟨3, ![1, 1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S8x1x1024, .f32⟩
  | .hbm, ⟨4, _⟩ => ⟨S1x1024, .f32⟩
  | .hbm, ⟨5, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x512x1024, .f32⟩
  | .local _ .vmem, ⟨8, _⟩ => ⟨S1x512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference8Ideal.lean ====
abbrev S8x4096x1024 : Shape := ⟨3, ![8, 4096, 1024]⟩
abbrev S1024 : Shape := ⟨1, ![1024]⟩
abbrev S8x1x1024 : Shape := ⟨3, ![8, 1, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024, .f32⟩
  | .hbm, ⟨3, _⟩ => ⟨S8x1x1024, .f32⟩
  | .hbm, ⟨4, _⟩ => ⟨S8x4096x1024, .f32⟩
  | .hbm, ⟨5, _⟩ => ⟨S_, .f32⟩
  | .hbm, ⟨6, _⟩ => ⟨S8x4096, .f32⟩
  | .hbm, ⟨7, _⟩ => ⟨S8x4096x1, .f32⟩
  | .hbm, ⟨8, _⟩ => ⟨S_, .f32⟩
  | .hbm, ⟨9, _⟩ => ⟨S8x4096x1, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S8x4096x1, .f32⟩
  | .hbm, ⟨15, _⟩ => ⟨S8x4096x1024, .f32⟩
  | .hbm, ⟨16, _⟩ => ⟨S8x4096x1024, .f32⟩
  | .hbm, ⟨17, _⟩ => ⟨S1x1x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Tile.lean ====
/-
  The operation chain of one stored tile of the window attention, named once.

  A grid point stores 32 tiles: for each of 8 row blocks of 128 queries, 2 key/value groups and 2 pairs of query heads, a
  tile of 128 rows by 128 lanes (two heads of 64 lanes side by side). The printed body repeats the same operations for
  each of them; `tile` is that chain with the row block, the group and the pair as parameters, and `out_of_tiles` of `Pieces.lean` says
  that the block a point leaves is made of these tiles.
-/
module

public import proofs.«01_k».proof.Proof.Gen.KernelIdeal.Value

@[expose] public section

set_option maxRecDepth 16384

noncomputable section

namespace Cert.KernelIdeal.Window

open Cert.KernelIdeal Cert.KernelIdeal.Gen Idealize.ShloMosaic Idealize.ShloMosaic.TcCoe Idealize.SL.Sem Idealize.ShloMosaic.Tactic

variable {F : FTy → Type} [FloatOps F] [Named F]

/-- The lane mask of the first head of a pair: lanes 0 to 63 of 128. -/
def firstHalf : IVec S128x128 1 :=
  k0_pay10 (Scalar.select (Scalar.cmpi .eq 128#32 0#32) 1#32 128#32) k0_pay7 k0_pay8 k0_pay9

/-- Which of a window's 384 keys the row's query may see, from the words of the query block and of the window's start:
    those at a distance of at most 128 positions. -/
def inBand (blk start : BitVec 32) : IVec S512x384 1 := k0_pay11 blk start

/-- The four heads of a group stacked as 512 rows, each head's rows zero on the other head's lanes. -/
def stackQ (qa qb : FVec F S128x128 .f32) : FVec F S512x128 .bf16 :=
  truncf .bf16 (concatenate S512x128 0
    [⟨S128x128, select firstHalf qa (broadcast S128x128 (Scalar.ofBits .f32 0x00000000#32))⟩,
      ⟨S128x128, select firstHalf (broadcast S128x128 (Scalar.ofBits .f32 0x00000000#32)) qa⟩,
      ⟨S128x128, select firstHalf qb (broadcast S128x128 (Scalar.ofBits .f32 0x00000000#32))⟩,
      ⟨S128x128, select firstHalf (broadcast S128x128 (Scalar.ofBits .f32 0x00000000#32)) qb⟩]
    concatenates_S128x128_S128x128_S128x128_S128x128_S512x128_d0) bitsLt_bf16_f32

/-- The sink logit of each of the 512 stacked rows: one scalar per head. -/
def sinkCol (a b c d : Elt F .f32) : FVec F S512x1 .f32 :=
  select (cmpi .eq k0_pay12 (broadcast S512x1 3#32)) (broadcast S512x1 d)
    (select (cmpi .eq k0_pay12 (broadcast S512x1 2#32)) (broadcast S512x1 c)
      (select (cmpi .eq k0_pay12 (broadcast S512x1 1#32)) (broadcast S512x1 b)
        (select (cmpi .eq k0_pay12 (broadcast S512x1 0#32)) (broadcast S512x1 a)
          (broadcast S512x1 (Scalar.ofBits .f32 0x00000000#32)))))

/-- The masked logits against the window's keys. -/
def locLogits (k : FVec F S384x128 .bf16) (ok : IVec S512x384 1) (q : FVec F S512x128 .bf16) : FVec F S512x384 .f32 :=
  select ok (matmul dot_S512x128_S384x128_S512x384_1_1_0_0_n_n none q k (constant S512x384 .f32 0x00000000#32))
    (broadcast S512x384 (Named.named κ "mask" 0xF149F2CA#32))

/-- The logits against the context keys. -/
def ctxLogits (kc : FVec F S256x128 .bf16) (q : FVec F S512x128 .bf16) : FVec F S512x256 .f32 :=
  matmul dot_S512x128_S256x128_S512x256_1_1_0_0_n_n none q kc (constant S512x256 .f32 0x00000000#32)

/-- Each row's greatest logit, the sink among them. -/
def rowMax (s : FVec F S512x384 .f32) (t : FVec F S512x256 .f32) (z : FVec F S512x1 .f32) : FVec F S512x1 .f32 :=
  maximumf (maximumf (shapeCast S512x1 (multiReduction .maximumf [1] S512 s 0xFF800000#32 reduces_S512x384_S512 (.inl rfl) rfl) shapeCasts_S512_S512x1)
    (shapeCast S512x1 (multiReduction .maximumf [1] S512 t 0xFF800000#32 reduces_S512x256_S512 (.inl rfl) rfl) shapeCasts_S512_S512x1)) z

/-- The two products with the weights: lanes 0 to 127 weigh the values, lanes 128 to 255 weigh ones, which sums the weights. -/
def weigh (v : FVec F S384x128 .bf16) (vc : FVec F S256x128 .bf16) (s : FVec F S512x384 .f32) (t : FVec F S512x256 .f32)
    (m : FVec F S512x1 .f32) : FVec F S512x256 .f32 :=
  addf
    (matmul dot_S512x384_S384x256_S512x256_1_0_0_1_n_n none
      (truncf .bf16 (exp2 (subf s (broadcastTo S512x384 m broadcasts_S512x1_S512x384))) bitsLt_bf16_f32)
      (concatenate S384x256 1 [⟨S384x128, v⟩, ⟨S384x128, broadcast S384x128 (Scalar.ofBits .bf16 0x3F80#16)⟩] concatenates_S384x128_S384x128_S384x256_d1)
      (constant S512x256 .f32 0x00000000#32))
    (matmul dot_S512x256_S256x256_S512x256_1_0_0_1_n_n none
      (truncf .bf16 (exp2 (subf t (broadcastTo S512x256 m broadcasts_S512x1_S512x256))) bitsLt_bf16_f32)
      (concatenate S256x256 1 [⟨S256x128, vc⟩, ⟨S256x128, broadcast S256x128 (Scalar.ofBits .bf16 0x3F80#16)⟩] concatenates_S256x128_S256x128_S256x256_d1)
      (constant S512x256 .f32 0x00000000#32))

/-- The weighted values over the sum of the weights, the sink's weight added to that sum. -/
def quot (w : FVec F S512x256 .f32) (z m : FVec F S512x1 .f32) : FVec F S512x128 .f32 :=
  divf (extractStridedSlice S512x128 ![0, 0] w slices_S512x256_o0_0_S512x128)
    (addf (extractStridedSlice S512x128 ![0, 128] w slices_S512x256_o0_128_S512x128)
      (broadcastTo S512x128 (exp2 (subf z m)) broadcasts_S512x1_S512x128))

/-- One group's attention: 512 stacked rows by 128 lanes. -/
def attend (k v : FVec F S384x128 .bf16) (kc vc : FVec F S256x128 .bf16) (ok : IVec S512x384 1) (q : FVec F S512x128 .bf16)
    (z : FVec F S512x1 .f32) : FVec F S512x128 .f32 :=
  quot (weigh v vc (locLogits k ok q) (ctxLogits kc q) (rowMax (locLogits k ok q) (ctxLogits kc q) z)) z
    (rowMax (locLogits k ok q) (ctxLogits kc q) z)

/-- A pair's tile: each of its two heads' rows on that head's lanes. -/
def pairTile (top bot : FVec F S128x128 .f32) : FVec F S1x128x128 .bf16 :=
  shapeCast S1x128x128 (truncf .bf16 (select firstHalf top bot) bitsLt_bf16_f32) shapeCasts_S128x128_S1x128x128

/-- The word of the 128-query block a row block is in. -/
def blkWord (a : BitVec 32) (sb : Fin 8) : BitVec 32 := Scalar.addi (Scalar.muli a 8#32) (BitVec.ofNat 32 sb.val)

/-- The word of the window's first key: one block before the query's, held inside the sequence. -/
def startWord (a : BitVec 32) (sb : Fin 8) : BitVec 32 :=
  Scalar.muli (Scalar.minsi 29#32 (Scalar.maxsi 0#32 (Scalar.subi (blkWord a sb) 1#32))) 128#32

theorem startWord_inb (i : Fin 4) (sb : Fin 8) : (startWord (BitVec.ofNat 32 i.val) sb).toNat + 384 ≤ 4096 := by
  revert i sb; decide

theorem slices_q (g pr : Fin 2) : S128x512.Slices ![0, 256 * g.val + 128 * pr.val] S128x128 := by
  revert g pr; decide
theorem slices_kw (g : Fin 2) : S384x256.Slices ![0, 128 * g.val] S384x128 := by revert g; decide
theorem slices_kc (g : Fin 2) : S256x256.Slices ![0, 128 * g.val] S256x128 := by revert g; decide
theorem slices_top (pr : Fin 2) : S512x128.Slices ![256 * pr.val, 0] S128x128 := by revert pr; decide
theorem slices_bot (pr : Fin 2) : S512x128.Slices ![256 * pr.val + 128, 0] S128x128 := by revert pr; decide

theorem inb_rows (sb : Fin 8) : ∀ a : Fin 3, (![0, 128 * sb.val, 0] : Fin 3 → ℕ) a + (![1, 128, 512] : Fin 3 → ℕ) a ≤ S1x1024x512.size a := by
  revert sb; decide
theorem inb_win (i : Fin 4) (sb : Fin 8) :
    ∀ a : Fin 3, (![0, (Scalar.indexCast (startWord (BitVec.ofNat 32 i.val) sb)).toNat, 0] : Fin 3 → ℕ) a + (![1, 384, 256] : Fin 3 → ℕ) a ≤ S1x4096x256.size a := by
  revert i sb; decide
theorem inb_ctx : ∀ a : Fin 3, (![0, 0, 0] : Fin 3 → ℕ) a + (![1, 256, 256] : Fin 3 → ℕ) a ≤ S1x256x256.size a := by decide
theorem inb_sink (n : Fin 8) : ∀ a : Fin 1, (![n.val] : Fin 1 → ℕ) a + (![1] : Fin 1 → ℕ) a ≤ S8.size a := by revert n; decide

/-- The 128 query rows of a row block. -/
def rowsQ (x1 : Vec F S1x1024x512 .bf16) (sb : Fin 8) : FVec F S128x512 .f32 :=
  extf .f32 (shapeCast S128x512 (View.ld x1 (Rect.unit ![0, 128 * sb.val, 0] ![1, 128, 512] (inb_rows sb))) shapeCasts_S1x128x512_S128x512) bitsLt_bf16_f32

/-- The 384 rows of the window of a block of keys or of values. -/
def rowsK (x : Vec F S1x4096x256 .bf16) (i : Fin 4) (sb : Fin 8) : FVec F S384x256 .bf16 :=
  shapeCast S384x256 (View.ld x (Rect.unit ![0, (Scalar.indexCast (startWord (BitVec.ofNat 32 i.val) sb)).toNat, 0] ![1, 384, 256] (inb_win i sb))) shapeCasts_S1x384x256_S384x256

/-- The context's keys or values. -/
def rowsC (x : Vec F S1x256x256 .bf16) : FVec F S256x256 .bf16 :=
  shapeCast S256x256 (View.ld x (Rect.unit ![0, 0, 0] ![1, 256, 256] inb_ctx)) shapeCasts_S1x256x256_S256x256

/-- One head's sink logit. -/
def sinkAt (x0 : Vec F S8 .f32) (n : Fin 8) : Elt F .f32 :=
  View.ld x0 (Rect.unit ![n.val] ![1] (inb_sink n)) (Shape.Idx.first (s := S1) (by decide))

/-- A group's attention at a grid point and row block. -/
def groupAt (i : Fin 4) (x0 : Vec F S8 .f32) (x1 : Vec F S1x1024x512 .bf16) (x2 x3 : Vec F S1x4096x256 .bf16)
    (x4 x5 : Vec F S1x256x256 .bf16) (sb : Fin 8) (g : Fin 2) : FVec F S512x128 .f32 :=
  attend (extractStridedSlice S384x128 ![0, 128 * g.val] (rowsK x2 i sb) (slices_kw g))
    (extractStridedSlice S384x128 ![0, 128 * g.val] (rowsK x3 i sb) (slices_kw g))
    (extractStridedSlice S256x128 ![0, 128 * g.val] (rowsC x4) (slices_kc g))
    (extractStridedSlice S256x128 ![0, 128 * g.val] (rowsC x5) (slices_kc g))
    (inBand (blkWord (BitVec.ofNat 32 i.val) sb) (startWord (BitVec.ofNat 32 i.val) sb))
    (stackQ (extractStridedSlice S128x128 ![0, 256 * g.val + 128 * (0 : Fin 2).val] (rowsQ x1 sb) (slices_q g 0))
      (extractStridedSlice S128x128 ![0, 256 * g.val + 128 * (1 : Fin 2).val] (rowsQ x1 sb) (slices_q g 1)))
    (sinkCol (sinkAt x0 ⟨4 * g.val, by omega⟩) (sinkAt x0 ⟨4 * g.val + 1, by omega⟩) (sinkAt x0 ⟨4 * g.val + 2, by omega⟩)
      (sinkAt x0 ⟨4 * g.val + 3, by omega⟩))

/-- The tile stored for a row block, a group and a pair. -/
def tile (i : Fin 4) (x0 : Vec F S8 .f32) (x1 : Vec F S1x1024x512 .bf16) (x2 x3 : Vec F S1x4096x256 .bf16)
    (x4 x5 : Vec F S1x256x256 .bf16) (sb : Fin 8) (g pr : Fin 2) : FVec F S1x128x128 .bf16 :=
  pairTile (extractStridedSlice S128x128 ![256 * pr.val, 0] (groupAt i x0 x1 x2 x3 x4 x5 sb g) (slices_top pr))
    (extractStridedSlice S128x128 ![256 * pr.val + 128, 0] (groupAt i x0 x1 x2 x3 x4 x5 sb g) (slices_bot pr))

end Cert.KernelIdeal.Window

end
-- ==== Proof.Pieces.lean ====
/-
  The block a grid point leaves is made of the 32 tiles of `Tile.lean`.
-/
module

public import proofs.«01_k».proof.Proof.Tile

@[expose] public section

set_option maxRecDepth 16384

noncomputable section

namespace Cert.KernelIdeal.Window

open Cert.KernelIdeal Cert.KernelIdeal.Gen Idealize.ShloMosaic Idealize.ShloMosaic.TcCoe Idealize.SL.Sem Idealize.ShloMosaic.Tactic

variable {F : FTy → Type} [FloatOps F] [Named F]

theorem inb_tile (sb : Fin 8) (g pr : Fin 2) :
    ∀ a : Fin 3, (![0, 128 * sb.val, 256 * g.val + 128 * pr.val] : Fin 3 → ℕ) a + (![1, 128, 128] : Fin 3 → ℕ) a ≤ S1x1024x512.size a := by
  revert sb g pr; decide

/-- Where in the block a tile is stored. -/
def place (sb : Fin 8) (g pr : Fin 2) : Rect S1x1024x512 := Rect.unit ![0, 128 * sb.val, 256 * g.val + 128 * pr.val] ![1, 128, 128] (inb_tile sb g pr)

set_option maxHeartbeats 4000000 in
/-- If each tile agrees with `G` on its place, the whole block a point leaves is `G`. -/
theorem out_of_tiles (c : Dev nD) (i : grid0.Coords) (arg2 : Memref sig .tc .smem S8 .f32) (harg2 : arg2.IsWhole)
    (arg3 : Memref sig .tc .vmem S1x1024x512 .bf16) (harg3 : arg3.IsWhole) (arg4 : Memref sig .tc .vmem S1x4096x256 .bf16) (harg4 : arg4.IsWhole)
    (arg5 : Memref sig .tc .vmem S1x4096x256 .bf16) (harg5 : arg5.IsWhole) (arg6 : Memref sig .tc .vmem S1x256x256 .bf16) (harg6 : arg6.IsWhole)
    (arg7 : Memref sig .tc .vmem S1x256x256 .bf16) (harg7 : arg7.IsWhole) (arg8 : Memref sig .tc .vmem S1x1024x512 .bf16) (harg8 : arg8.IsWhole)
    (x0 : Vec F S8 .f32) (x1 : Vec F S1x1024x512 .bf16) (x2 x3 : Vec F S1x4096x256 .bf16) (x4 x5 : Vec F S1x256x256 .bf16)
    (G : Vec F S1x1024x512 .bf16)
    (hG : ∀ (sb : Fin 8) (g pr : Fin 2) (x : S1x128x128.Idx), tile (i 1) x0 x1 x2 x3 x4 x5 sb g pr x = G ((place sb g pr).emb x))
    (y : S1x1024x512.Idx) :
    out0_A_6 c i arg2 harg2 arg3 harg3 arg4 harg4 arg5 harg5 arg6 harg6 arg7 harg7 arg8 harg8 x0 x1 x2 x3 x4 x5 y = G y := by
  have hG' : ∀ (sb : Fin 8) (g pr : Fin 2) (x : S1x128x128.Idx),
      tile (i 1) (View.read (Elt F) arg2.view (harg2.unread x0)) (View.read (Elt F) arg3.view (harg3.unread x1))
        (View.read (Elt F) arg4.view (harg4.unread x2)) (View.read (Elt F) arg5.view (harg5.unread x3))
        (View.read (Elt F) arg6.view (harg6.unread x4)) (View.read (Elt F) arg7.view (harg7.unread x5)) sb g pr x
        = G ((place sb g pr).emb x) := by
    rw [harg2.read_unread, harg3.read_unread, harg4.read_unread, harg5.read_unread, harg6.read_unread, harg7.read_unread]
    exact hG
  clear hG
  unfold out0_A_6
  refine View.read_writes_apply_of_pieces _ _ G _ ?_ y (cover0_A_6 c i arg2 harg2 arg3 harg3 arg4 harg4 arg5 harg5 arg6 harg6 arg7 harg7 arg8 harg8 x0 x1 x2 x3 x4 x5 y)
  unfold kernelRun0_A
  dsimp only
  repeat rw [List.forall_mem_cons]
  exact ⟨hG' 7 1 1, hG' 7 1 0, hG' 7 0 1, hG' 7 0 0, hG' 6 1 1, hG' 6 1 0, hG' 6 0 1, hG' 6 0 0,
    hG' 5 1 1, hG' 5 1 0, hG' 5 0 1, hG' 5 0 0, hG' 4 1 1, hG' 4 1 0, hG' 4 0 1, hG' 4 0 0,
    hG' 3 1 1, hG' 3 1 0, hG' 3 0 1, hG' 3 0 0, hG' 2 1 1, hG' 2 1 0, hG' 2 0 1, hG' 2 0 0,
    hG' 1 1 1, hG' 1 1 0, hG' 1 0 1, hG' 1 0 0, hG' 0 1 1, hG' 0 1 0, hG' 0 0 1, hG' 0 0 0,
    fun _ h => absurd h List.not_mem_nil⟩

end Cert.KernelIdeal.Window

end
-- ==== Proof.Softmax.lean ====
/-
  A softmax with a mask, extra logits and a sink, over the extended reals.

  The kernel weighs with `2 ^ (s - m)` and divides once at the end; the reference weighs with `exp (s * log 2 - m')` and
  divides every weight. Both are the same real number `att`, whatever finite numbers `m` and `m'` are subtracted.
-/
module

public import Idealize.ShloMosaic.PureOps.Ideal
public import Idealize.ShloMosaic.PureOps.Ideal.Laws

@[expose] public section

noncomputable section

namespace Cert.Softmax

open Idealize.ShloMosaic

/-- The weight of a logit in base 2, zero off the mask. -/
def wt (ok : Prop) [Decidable ok] (s : ℝ) : ℝ := if ok then Real.rpow 2 s else 0

theorem wt_nonneg (ok : Prop) [Decidable ok] (s : ℝ) : 0 ≤ wt ok s := by
  unfold wt
  split
  · exact Real.rpow_nonneg (by norm_num) s
  · exact le_refl 0

theorem two_pos (s : ℝ) : 0 < Real.rpow 2 s := Real.rpow_pos_of_pos (by norm_num) s

/-- Attention over `n` masked keys, `c` context keys and a sink: weighted values over the sum of the weights. -/
def att {n c : ℕ} (ok : Fin n → Prop) [DecidablePred ok] (s v : Fin n → ℝ) (t u : Fin c → ℝ) (z : ℝ) : ℝ :=
  (∑ k, wt (ok k) (s k) * v k + ∑ y, Real.rpow 2 (t y) * u y)
    / (∑ k, wt (ok k) (s k) + ∑ y, Real.rpow 2 (t y) + Real.rpow 2 z)

theorem total_pos {n c : ℕ} (ok : Fin n → Prop) [DecidablePred ok] (s : Fin n → ℝ) (t : Fin c → ℝ) (z : ℝ) :
    0 < ∑ k, wt (ok k) (s k) + ∑ y, Real.rpow 2 (t y) + Real.rpow 2 z := by
  have h1 : 0 ≤ ∑ k, wt (ok k) (s k) := Finset.sum_nonneg fun k _ => wt_nonneg _ _
  have h2 : 0 ≤ ∑ y, Real.rpow 2 (t y) := Finset.sum_nonneg fun y _ => (two_pos _).le
  have h3 := two_pos z
  linarith

theorem coe_sum {ι : Type} (S : Finset ι) (f : ι → ℝ) : ((∑ k ∈ S, f k : ℝ) : EReal) = ∑ k ∈ S, ((f k : ℝ) : EReal) := by
  classical
  induction S using Finset.induction_on with
  | empty => simp
  | insert a S h ih => rw [Finset.sum_insert h, Finset.sum_insert h, EReal.coe_add, ih]

/-- The greatest of finitely many logits below `⊤`, and of a real one, is real. -/
theorem real_max (x : EReal) (hx : x ≠ ⊤) (z : ℝ) : ∃ M : ℝ, max x (z : EReal) = (M : EReal) := by
  rcases max_choice x (z : EReal) with h | h
  · have hb : x ≠ ⊥ := by
      rintro rfl
      have : (z : EReal) ≤ ⊥ := by rw [← h]; exact le_max_right _ _
      exact absurd (le_bot_iff.mp this) (EReal.coe_ne_bot z)
    exact ⟨x.toReal, by rw [h, EReal.coe_toReal hx hb]⟩
  · exact ⟨z, h⟩

theorem fold_max_ne_top {ι : Type} (S : Finset ι) (f : ι → EReal) (h : ∀ k, f k ≠ ⊤) : S.fold max ⊥ f ≠ ⊤ := by
  classical
  induction S using Finset.induction_on with
  | empty => simp
  | insert a S ha ih =>
    rw [Finset.fold_insert ha]
    rcases max_choice (f a) (S.fold max ⊥ f) with e | e
    · rw [e]; exact h a
    · rw [e]; exact ih

theorem le_fold_max {ι : Type} [Fintype ι] (f : ι → EReal) (k : ι) : f k ≤ Finset.univ.fold max ⊥ f :=
  (Finset.le_fold_max (f k)).mpr (Or.inr ⟨k, Finset.mem_univ k, le_refl _⟩)

/-- The fold itself is real where one of the logits is. -/
theorem real_fold {ι : Type} [Fintype ι] (f : ι → EReal) (h : ∀ k, f k ≠ ⊤) (k : ι) (z : ℝ) (hk : f k = (z : EReal)) :
    ∃ M : ℝ, Finset.univ.fold max ⊥ f = (M : EReal) := by
  obtain ⟨M, hM⟩ := real_max _ (fold_max_ne_top Finset.univ f h) z
  refine ⟨M, ?_⟩
  rw [← hM, max_eq_left]
  rw [← hk]
  exact le_fold_max f k

theorem masked_ne_top (ok : Prop) [Decidable ok] (s : ℝ) : (if ok then (s : EReal) else ⊥) ≠ ⊤ := by
  split
  · exact EReal.coe_ne_top s
  · exact bot_ne_top

theorem exp2_sub (s M : ℝ) : Ideal.exp2 ((s : EReal) - (M : EReal)) = ((Real.rpow 2 s * Real.rpow 2 (-M) : ℝ) : EReal) := by
  rw [← EReal.coe_sub, Ideal.exp2_coe, sub_eq_add_neg]
  congr 1
  exact Real.rpow_add (by norm_num) s (-M)

theorem exp2_masked (ok : Prop) [Decidable ok] (s M : ℝ) :
    Ideal.exp2 ((if ok then (s : EReal) else ⊥) - (M : EReal)) = ((wt ok s * Real.rpow 2 (-M) : ℝ) : EReal) := by
  unfold wt
  split
  · exact exp2_sub s M
  · rw [EReal.bot_sub, Ideal.exp2_bot, zero_mul, EReal.coe_zero]

theorem exp_log2 (s : ℝ) : Real.exp (s * Real.log 2) = Real.rpow 2 s := by
  rw [mul_comm]
  exact (Real.rpow_def_of_pos (by norm_num) s).symm

theorem exp_sub (s M : ℝ) : Ideal.exp (((s * Real.log 2 : ℝ) : EReal) - (M : EReal)) = ((Real.rpow 2 s * Real.exp (-M) : ℝ) : EReal) := by
  rw [← EReal.coe_sub, Ideal.exp_coe, sub_eq_add_neg, Real.exp_add, exp_log2]

theorem exp_masked (ok : Prop) [Decidable ok] (s M : ℝ) :
    Ideal.exp ((if ok then ((s * Real.log 2 : ℝ) : EReal) else ⊥) - (M : EReal)) = ((wt ok s * Real.exp (-M) : ℝ) : EReal) := by
  unfold wt
  split
  · exact exp_sub s M
  · rw [EReal.bot_sub, Ideal.exp_bot, zero_mul, EReal.coe_zero]

theorem div_coe_coe (x y : ℝ) (h : y ≠ 0) : Ideal.div (x : EReal) (y : EReal) = ((x / y : ℝ) : EReal) := by
  rw [Ideal.div_coe h, ← EReal.coe_mul]
  congr 1
  rw [mul_one_div]

/-- The kernel's form: weights in base 2 less a common real number, one division at the end. -/
theorem one_division {n c : ℕ} (ok : Fin n → Prop) [DecidablePred ok] (s v : Fin n → ℝ) (t u : Fin c → ℝ) (z M : ℝ) :
    Ideal.div
      (∑ k, Ideal.exp2 ((if ok k then (s k : EReal) else ⊥) - (M : EReal)) * (v k : EReal)
        + ∑ y, Ideal.exp2 ((t y : EReal) - (M : EReal)) * (u y : EReal))
      (∑ k, Ideal.exp2 ((if ok k then (s k : EReal) else ⊥) - (M : EReal)) * 1
        + ∑ y, Ideal.exp2 ((t y : EReal) - (M : EReal)) * 1 + Ideal.exp2 ((z : EReal) - (M : EReal)))
      = ((att ok s v t u z : ℝ) : EReal) := by
  simp only [exp2_masked, exp2_sub, mul_one, ← EReal.coe_mul, ← coe_sum, ← EReal.coe_add]
  have hM := two_pos (-M)
  have hD := total_pos ok s t z
  have e1 : ∑ k, wt (ok k) (s k) * Real.rpow 2 (-M) * v k + ∑ y, Real.rpow 2 (t y) * Real.rpow 2 (-M) * u y
      = Real.rpow 2 (-M) * (∑ k, wt (ok k) (s k) * v k + ∑ y, Real.rpow 2 (t y) * u y) := by
    rw [mul_add, Finset.mul_sum, Finset.mul_sum]
    congr 1 <;> exact Finset.sum_congr rfl fun k _ => by ring
  have e2 : ∑ k, wt (ok k) (s k) * Real.rpow 2 (-M) + ∑ y, Real.rpow 2 (t y) * Real.rpow 2 (-M) + Real.rpow 2 z * Real.rpow 2 (-M)
      = Real.rpow 2 (-M) * (∑ k, wt (ok k) (s k) + ∑ y, Real.rpow 2 (t y) + Real.rpow 2 z) := by
    rw [mul_add, mul_add, Finset.mul_sum, Finset.mul_sum]
    congr 1
    · congr 1 <;> exact Finset.sum_congr rfl fun k _ => by ring
    · ring
  rw [e1, e2, div_coe_coe _ _ (mul_pos hM hD).ne', mul_div_mul_left _ _ hM.ne', att]

/-- The concatenated weights of the reference: masked keys, context keys, sink. -/
def joined {n c : ℕ} (ok : Fin n → Prop) [DecidablePred ok] (s : Fin n → ℝ) (t : Fin c → ℝ) (z : ℝ) (j : Fin (n + c + 1)) : ℝ :=
  if h : j.val < n then wt (ok ⟨j.val, h⟩) (s ⟨j.val, h⟩)
  else if h' : j.val - n < c then Real.rpow 2 (t ⟨j.val - n, h'⟩) else Real.rpow 2 z

theorem sum_joined {n c : ℕ} (ok : Fin n → Prop) [DecidablePred ok] (s : Fin n → ℝ) (t : Fin c → ℝ) (z : ℝ) :
    ∑ j, joined ok s t z j = ∑ k, wt (ok k) (s k) + ∑ y, Real.rpow 2 (t y) + Real.rpow 2 z := by
  rw [Fin.sum_univ_add, Fin.sum_univ_add]
  congr 1
  · congr 1
    · refine Finset.sum_congr rfl fun k _ => ?_
      unfold joined
      rw [dif_pos (by simp)]
      rfl
    · refine Finset.sum_congr rfl fun y _ => ?_
      unfold joined
      rw [dif_neg (by simp), dif_pos (by simp)]
      congr 2
      exact Fin.ext (by simp)
  · rw [Fin.sum_univ_one]
    unfold joined
    rw [dif_neg (by simp), dif_neg (by simp)]

/-- The reference's form: every weight divided by the total, the weighted sums taken afterwards. -/
theorem each_divided {n c : ℕ} (ok : Fin n → Prop) [DecidablePred ok] (s v : Fin n → ℝ) (t u : Fin c → ℝ) (z M : ℝ) :
    ∑ k : Fin n, (v k : EReal) * Ideal.div ((joined ok s t z ⟨k.val, by omega⟩ * Real.exp (-M) : ℝ) : EReal)
        (0 + ∑ j, ((joined ok s t z j * Real.exp (-M) : ℝ) : EReal))
      + ∑ y : Fin c, (u y : EReal) * Ideal.div ((joined ok s t z ⟨n + y.val, by omega⟩ * Real.exp (-M) : ℝ) : EReal)
        (0 + ∑ j, ((joined ok s t z j * Real.exp (-M) : ℝ) : EReal))
      = ((att ok s v t u z : ℝ) : EReal) := by
  have hM := Real.exp_pos (-M)
  have hD := total_pos ok s t z
  have hS : (0 : EReal) + ∑ j, ((joined ok s t z j * Real.exp (-M) : ℝ) : EReal)
      = (((∑ k, wt (ok k) (s k) + ∑ y, Real.rpow 2 (t y) + Real.rpow 2 z) * Real.exp (-M) : ℝ) : EReal) := by
    rw [zero_add, ← coe_sum, ← Finset.sum_mul, sum_joined]
  rw [hS]
  simp only [div_coe_coe _ _ (mul_pos hD hM).ne', mul_div_mul_right _ _ hM.ne', ← EReal.coe_mul, ← coe_sum, ← EReal.coe_add]
  congr 1
  rw [att, add_div, Finset.sum_div, Finset.sum_div]
  congr 1
  · refine Finset.sum_congr rfl fun k _ => ?_
    unfold joined
    rw [dif_pos k.isLt]
    ring
  · refine Finset.sum_congr rfl fun y _ => ?_
    unfold joined
    rw [dif_neg (by simp), dif_pos (by simp)]
    have : (⟨n + y.val - n, by omega⟩ : Fin c) = y := Fin.ext (by simp)
    rw [this]
    ring

/-- Keys off the mask do not count: attention over a window that holds every key the mask keeps is attention over all. -/
theorem att_window {n w c : ℕ} (σ : ℕ) (hσ : σ + w ≤ n) (ok : Fin n → Prop) [DecidablePred ok]
    (hok : ∀ j, ok j → σ ≤ j.val ∧ j.val < σ + w) (s v : Fin n → ℝ) (t u : Fin c → ℝ) (z : ℝ) :
    att (fun k : Fin w => ok ⟨σ + k.val, by omega⟩) (fun k => s ⟨σ + k.val, by omega⟩) (fun k => v ⟨σ + k.val, by omega⟩) t u z
      = att ok s v t u z := by
  have key : ∀ f : Fin n → ℝ, (∀ j, ¬ ok j → f j = 0) → ∑ k : Fin w, f ⟨σ + k.val, by omega⟩ = ∑ j, f j := by
    intro f hf
    let e : Fin w ↪ Fin n := ⟨fun k => ⟨σ + k.val, by omega⟩, fun a b h => by
      have := congrArg Fin.val h
      simp only at this
      exact Fin.ext (by omega)⟩
    have h1 : ∑ k : Fin w, f ⟨σ + k.val, by omega⟩ = ∑ j ∈ Finset.univ.map e, f j := by
      rw [Finset.sum_map]
      rfl
    rw [h1]
    refine Finset.sum_subset (Finset.subset_univ _) fun j _ hj => hf j fun h => hj ?_
    obtain ⟨a, b⟩ := hok j h
    exact Finset.mem_map.mpr ⟨⟨j.val - σ, by omega⟩, Finset.mem_univ _, Fin.ext (by show σ + (j.val - σ) = j.val; omega)⟩
  unfold att
  rw [key (fun j => wt (ok j) (s j) * v j) (fun j h => by simp only [wt, if_neg h, zero_mul]),
    key (fun j => wt (ok j) (s j)) (fun j h => by simp only [wt, if_neg h])]

end Cert.Softmax

end
-- ==== Proof.Spec.lean ====
/-
  What both programs compute: sliding-window attention with context keys and sinks, as a real number per output element.
-/
module

public import proofs.«01_k».proof.Proof.Softmax
public import Idealize.ShloMosaic.Lib.Pointwise
public import Idealize.ShloMosaic.PureOps

@[expose] public section

noncomputable section

namespace Cert.Spec

open Idealize.ShloMosaic Cert.Softmax

/-- Query position `n` sees key position `j`: at most 128 positions apart. -/
def near (n j : ℕ) : Prop := n ≤ j + 128 ∧ j ≤ n + 128

instance (n j : ℕ) : Decidable (near n j) := inferInstanceAs (Decidable (_ ∧ _))

/-- The test both programs make, on words: the absolute difference is at most 128. -/
theorem near_word (a b : ℕ) (ha : a < 2 ^ 20) (hb : b < 2 ^ 20) :
    IntOp.cmpi .sle (IntOp.absi (IntOp.subi (BitVec.ofNat 32 a) (BitVec.ofNat 32 b))) 128#32 = BitVec.ofBool (decide (near a b)) := by
  have hsub : IntOp.absi (IntOp.subi (BitVec.ofNat 32 a) (BitVec.ofNat 32 b)) = BitVec.ofNat 32 (if b ≤ a then a - b else b - a) := by
    unfold IntOp.absi IntOp.subi
    split_ifs with h1 h2 h2
    · exfalso
      rw [BitVec.msb_eq_decide] at h1
      simp at h1
      omega
    · bv_omega
    · bv_omega
    · exfalso
      rw [BitVec.msb_eq_decide] at h1
      simp at h1
      omega
  rw [hsub]
  show BitVec.ofBool (BitVec.sle _ _) = _
  congr 1
  rw [BitVec.sle_eq_decide, decide_eq_decide]
  have h : (BitVec.ofNat 32 (if b ≤ a then a - b else b - a)).toInt = ((if b ≤ a then a - b else b - a : ℕ) : ℤ) := by
    have hc : (if b ≤ a then a - b else b - a) < 2 ^ 20 := by split_ifs <;> omega
    rw [BitVec.toInt_eq_toNat_of_lt (by rw [BitVec.toNat_ofNat]; omega), BitVec.toNat_ofNat, Nat.mod_eq_of_lt (by omega)]
  rw [h]
  unfold near
  have h' : (128#32 : BitVec 32).toInt = 128 := by decide
  rw [h']
  split_ifs <;> omega

/-- The real number at batch `b`, position `n`, channel `l` of the output. Channel `l` is lane `l % 64` of query head
    `l / 64`; heads `4 g` to `4 g + 3` read key/value head `g`, the odd ones its second copy. -/
def out (q : (⟨3, ![8, 4096, 512]⟩ : Shape).Idx → EReal) (k v : (⟨3, ![8, 4096, 256]⟩ : Shape).Idx → EReal)
    (kc vc : (⟨3, ![8, 256, 256]⟩ : Shape).Idx → EReal) (z : (⟨1, ![8]⟩ : Shape).Idx → EReal) (b : Fin 8) (n : Fin 4096) (l : Fin 512) : ℝ :=
  att (fun j : Fin 4096 => near n.val j.val)
    (fun j => ∑ d : Fin 64, (q (ix3 b n ⟨l.val / 64 * 64 + d.val, by omega⟩)).toReal * (k (ix3 b j ⟨l.val / 256 * 128 + l.val / 64 % 2 * 64 + d.val, by omega⟩)).toReal)
    (fun j => (v (ix3 b j ⟨l.val / 256 * 128 + l.val % 128, by omega⟩)).toReal)
    (fun y : Fin 256 => ∑ d : Fin 64, (q (ix3 b n ⟨l.val / 64 * 64 + d.val, by omega⟩)).toReal * (kc (ix3 b y ⟨l.val / 256 * 128 + l.val / 64 % 2 * 64 + d.val, by omega⟩)).toReal)
    (fun y => (vc (ix3 b y ⟨l.val / 256 * 128 + l.val % 128, by omega⟩)).toReal)
    (z (ix1 ⟨l.val / 64, by omega⟩)).toReal

/-- An array with no infinite entry. -/
def IsReal {s : Shape} (x : s.Idx → EReal) : Prop := ∀ i, x i = ((x i).toReal : EReal)

end Cert.Spec

end
-- ==== Proof.TileValue.lean ====
/-
  A tile of the window attention, read at an index: with finite inputs it is the real number of `Spec.lean`.
-/
module

public import proofs.«01_k».proof.Proof.Tile
public import proofs.«01_k».proof.Proof.Spec

@[expose] public section

set_option maxRecDepth 16384

noncomputable section

namespace Cert.KernelIdeal.Window

open Cert.KernelIdeal Cert.KernelIdeal.Gen Idealize.ShloMosaic Idealize.ShloMosaic.TcCoe Idealize.SL.Sem Idealize.ShloMosaic.Tactic
open Cert.Softmax Cert.Spec

/-! ### The integer parts -/

theorem firstHalf_apply (r l : Fin 128) : firstHalf (ix2 r l) = BitVec.ofBool (decide (l.val < 64)) := by
  pointwise [firstHalf, k0_pay10, k0_pay7, k0_pay8, k0_pay9]
  revert l
  decide +kernel

theorem blkWord_eq (i : Fin 4) (sb : Fin 8) :
    Scalar.muli (blkWord (BitVec.ofNat 32 i.val) sb) 128#32 = BitVec.ofNat 32 (1024 * i.val + 128 * sb.val) := by
  revert i sb; decide +kernel

/-- The first key of the window. -/
def start (i : Fin 4) (sb : Fin 8) : ℕ := 128 * min 29 (8 * i.val + sb.val - 1)

theorem startWord_eq (i : Fin 4) (sb : Fin 8) : startWord (BitVec.ofNat 32 i.val) sb = BitVec.ofNat 32 (start i sb) := by
  revert i sb; decide +kernel

theorem start_le (i : Fin 4) (sb : Fin 8) : start i sb + 384 ≤ 4096 := by unfold start; omega

theorem andi_127 (r : Fin 512) : IntOp.andi (BitVec.ofNat 32 r.val) 127#32 = BitVec.ofNat 32 (r.val % 128) := by
  revert r; decide +kernel

theorem shrsi_7 (r : Fin 512) : IntOp.shrsi ArithUnit.vector (BitVec.ofNat 32 r.val) 7#32 = BitVec.ofNat 32 (r.val / 128) := by
  revert r; decide +kernel

theorem select_ofBool {α : Type} (p : Prop) [Decidable p] (x y : α) :
    Scalar.select (BitVec.ofBool (decide p)) x y = if p then x else y := by
  by_cases h : p <;> simp [Scalar.select, h]

theorem inBand_apply (i : Fin 4) (sb : Fin 8) (r : Fin 512) (y : Fin 384) :
    inBand (blkWord (BitVec.ofNat 32 i.val) sb) (startWord (BitVec.ofNat 32 i.val) sb) (ix2 r y)
      = BitVec.ofBool (decide (near (1024 * i.val + 128 * sb.val + r.val % 128) (start i sb + y.val))) := by
  pointwise [inBand, k0_pay11]
  rw [blkWord_eq, startWord_eq, andi_127]
  show IntOp.cmpi .sle (IntOp.absi (IntOp.subi (BitVec.ofNat 32 _ + BitVec.ofNat 32 _) (BitVec.ofNat 32 _ + BitVec.ofNat 32 _))) 128#32 = _
  rw [← BitVec.ofNat_add, ← BitVec.ofNat_add]
  have := start_le i sb
  exact near_word _ _ (by omega) (by omega)

/-! ### The float parts at an index -/

theorem rowsQ_apply (x1 : Vec Ideal S1x1024x512 .bf16) (sb : Fin 8) (r : Fin 128) (l : Fin 512) :
    rowsQ x1 sb (ix2 r l) = x1 (ix3 0 ⟨128 * sb.val + r.val, by omega⟩ l) := by
  have h : ∀ X : Vec Ideal S1x128x512 .bf16, shapeCast S128x512 X shapeCasts_S1x128x512_S128x512 (ix2 r l) = X (ix3 0 r l) := by
    intro X
    pointwise []
  exact (h (View.ld x1 (Rect.unit ![0, 128 * sb.val, 0] ![1, 128, 512] (inb_rows sb)))).trans (congrArg x1 (funext fun a => Fin.ext (by
    match a with
    | ⟨0, _⟩ => rfl
    | ⟨1, _⟩ => show 128 * sb.val + 1 * r.val = 128 * sb.val + r.val; omega
    | ⟨2, _⟩ => show 0 + 1 * l.val = l.val; omega)))

theorem rowsK_apply (x : Vec Ideal S1x4096x256 .bf16) (i : Fin 4) (sb : Fin 8) (r : Fin 384) (l : Fin 256) :
    rowsK x i sb (ix2 r l) = x (ix3 0 ⟨start i sb + r.val, by have := start_le i sb; omega⟩ l) := by
  have h : ∀ X : Vec Ideal S1x384x256 .bf16, shapeCast S384x256 X shapeCasts_S1x384x256_S384x256 (ix2 r l) = X (ix3 0 r l) := by
    intro X
    pointwise []
  have hs : (Scalar.indexCast (startWord (BitVec.ofNat 32 i.val) sb)).toNat = start i sb := by
    revert i sb; decide +kernel
  exact (h _).trans (congrArg x (funext fun a => Fin.ext (by
    match a with
    | ⟨0, _⟩ => rfl
    | ⟨1, _⟩ => show (Scalar.indexCast (startWord (BitVec.ofNat 32 i.val) sb)).toNat + 1 * r.val = start i sb + r.val; rw [hs]; omega
    | ⟨2, _⟩ => show 0 + 1 * l.val = l.val; omega)))

theorem rowsC_apply (x : Vec Ideal S1x256x256 .bf16) (r l : Fin 256) : rowsC x (ix2 r l) = x (ix3 0 r l) := by
  have h : ∀ X : Vec Ideal S1x256x256 .bf16, shapeCast S256x256 X shapeCasts_S1x256x256_S256x256 (ix2 r l) = X (ix3 0 r l) := by
    intro X
    pointwise []
  exact (h _).trans (congrArg x (funext fun a => Fin.ext (by
    match a with
    | ⟨0, _⟩ => rfl
    | ⟨1, _⟩ => show 0 + 1 * r.val = r.val; omega
    | ⟨2, _⟩ => show 0 + 1 * l.val = l.val; omega)))

theorem sinkAt_apply (x : Vec Ideal S8 .f32) (n : Fin 8) : sinkAt x n = x (ix1 n) := by
  pointwise [sinkAt]

/-- Row `256 a + 128 p + r` of the stack is row `r` of pair `a`'s queries, zero off the lanes of place `p`. -/
theorem stackQ_apply (qa qb : FVec Ideal S128x128 .f32) (a p : Fin 2) (r l : Fin 128) :
    stackQ qa qb (ix2 ⟨256 * a.val + 128 * p.val + r.val, by omega⟩ l)
      = if l.val / 64 = p.val then (if a = 0 then qa else qb) (ix2 r l) else 0 := by
  pointwise [stackQ]
  simp only [firstHalf_apply, select_ofBool]
  have hl : l.val / 64 = 0 ∧ l.val < 64 ∨ l.val / 64 = 1 ∧ ¬ l.val < 64 := by omega
  rcases hl with ⟨e, f⟩ | ⟨e, f⟩ <;> fin_cases a <;> fin_cases p <;> simp [e, f] <;> split_ifs <;>
    first
    | rfl
    | omega
    | exact congrArg (fun t => qa (ix2 t l)) (Fin.ext (by first | omega | (simp; done) | (simp; omega)))
    | exact congrArg (fun t => qb (ix2 t l)) (Fin.ext (by first | omega | (simp; done) | (simp; omega)))
    | exact fun _ => rfl

theorem sinkCol_apply (x0 : Vec Ideal S8 .f32) (g : Fin 2) (r : Fin 512) :
    sinkCol (sinkAt x0 ⟨4 * g.val, by omega⟩) (sinkAt x0 ⟨4 * g.val + 1, by omega⟩) (sinkAt x0 ⟨4 * g.val + 2, by omega⟩)
      (sinkAt x0 ⟨4 * g.val + 3, by omega⟩) (ix2 r 0) = x0 (ix1 ⟨4 * g.val + r.val / 128, by omega⟩) := by
  pointwise [sinkCol, k0_pay12]
  simp only [sinkAt_apply, shrsi_7]
  have h4 : r.val / 128 = 0 ∨ r.val / 128 = 1 ∨ r.val / 128 = 2 ∨ r.val / 128 = 3 := by omega
  rcases h4 with h | h | h | h <;> simp [Scalar.select, IntOp.cmpi, h]

theorem half_sum (p : Fin 2) (f : Fin 128 → ℝ) :
    ∑ x : Fin 128, (if x.val / 64 = p.val then f x else 0) = ∑ d : Fin 64, f ⟨64 * p.val + d.val, by omega⟩ := by
  rw [← Finset.sum_filter]
  let e : Fin 64 ↪ Fin 128 := ⟨fun d => ⟨64 * p.val + d.val, by omega⟩, fun a b h => by
    have := congrArg Fin.val h
    simp only at this
    exact Fin.ext (by omega)⟩
  have h1 : ∑ d : Fin 64, f ⟨64 * p.val + d.val, by omega⟩ = ∑ x ∈ Finset.univ.map e, f x := by
    rw [Finset.sum_map]
    rfl
  rw [h1]
  congr 1
  ext x
  simp only [Finset.mem_filter, Finset.mem_univ, true_and, Finset.mem_map, e]
  constructor
  · intro h
    exact ⟨⟨x.val - 64 * p.val, by omega⟩, Fin.ext (by show 64 * p.val + (x.val - 64 * p.val) = x.val; omega)⟩
  · rintro ⟨d, rfl⟩
    show (64 * p.val + d.val) / 64 = p.val
    omega

/-- A product over 128 lanes of which only one place's 64 count. -/
theorem half_dot (p : Fin 2) (q k : Fin 128 → ℝ) :
    ∑ x : Fin 128, (if x.val / 64 = p.val then (q x : EReal) else 0) * (k x : EReal)
      = ((∑ d : Fin 64, q ⟨64 * p.val + d.val, by omega⟩ * k ⟨64 * p.val + d.val, by omega⟩ : ℝ) : EReal) := by
  rw [← half_sum p (fun x => q x * k x), coe_sum]
  refine Finset.sum_congr rfl fun x _ => ?_
  split_ifs
  · rw [EReal.coe_mul]
  · rw [zero_mul, EReal.coe_zero]

theorem locLogits_apply (k : FVec Ideal S384x128 .bf16) (ok : IVec S512x384 1) (q : FVec Ideal S512x128 .bf16) (r : Fin 512) (y : Fin 384) :
    locLogits k ok q (ix2 r y) = Scalar.select (ok (ix2 r y)) (∑ x : Fin 128, q (ix2 r x) * k (ix2 y x)) ⊥ := by
  pointwise [locLogits]
  rfl

theorem ctxLogits_apply (kc : FVec Ideal S256x128 .bf16) (q : FVec Ideal S512x128 .bf16) (r : Fin 512) (y : Fin 256) :
    ctxLogits kc q (ix2 r y) = ∑ x : Fin 128, q (ix2 r x) * kc (ix2 y x) := by
  pointwise [ctxLogits]

theorem neg_inf : Ideal.ofBits FTy.f32 4286578688#32 = ⊥ := by simp [Ideal.ofBits, Ideal.ieee]

theorem rowMax_apply (s : FVec Ideal S512x384 .f32) (t : FVec Ideal S512x256 .f32) (z : FVec Ideal S512x1 .f32) (r : Fin 512) :
    rowMax s t z (ix2 r 0) = max (max (Finset.univ.fold max ⊥ fun x : Fin 384 => s (ix2 r x)) (Finset.univ.fold max ⊥ fun x : Fin 256 => t (ix2 r x))) (z (ix2 r 0)) := by
  pointwise [rowMax]
  rw [neg_inf]

theorem weigh_left (v : FVec Ideal S384x128 .bf16) (vc : FVec Ideal S256x128 .bf16) (s : FVec Ideal S512x384 .f32) (t : FVec Ideal S512x256 .f32)
    (m : FVec Ideal S512x1 .f32) (r : Fin 512) (l : Fin 128) :
    weigh v vc s t m (ix2 r ⟨l.val, by omega⟩)
      = ∑ x : Fin 384, Ideal.exp2 (s (ix2 r x) - m (ix2 r 0)) * v (ix2 x l) + ∑ x : Fin 256, Ideal.exp2 (t (ix2 r x) - m (ix2 r 0)) * vc (ix2 x l) := by
  pointwise [weigh]
  rfl

theorem weigh_right (v : FVec Ideal S384x128 .bf16) (vc : FVec Ideal S256x128 .bf16) (s : FVec Ideal S512x384 .f32) (t : FVec Ideal S512x256 .f32)
    (m : FVec Ideal S512x1 .f32) (r : Fin 512) (l : Fin 128) :
    weigh v vc s t m (ix2 r ⟨128 + l.val, by omega⟩)
      = ∑ x : Fin 384, Ideal.exp2 (s (ix2 r x) - m (ix2 r 0)) * 1 + ∑ x : Fin 256, Ideal.exp2 (t (ix2 r x) - m (ix2 r 0)) * 1 := by
  pointwise [weigh]
  first | rfl | (simp only [mul_one]; rfl)

theorem quot_apply (w : FVec Ideal S512x256 .f32) (z m : FVec Ideal S512x1 .f32) (r : Fin 512) (l : Fin 128) :
    quot w z m (ix2 r l) = Ideal.div (w (ix2 r ⟨l.val, by omega⟩)) (w (ix2 r ⟨128 + l.val, by omega⟩) + Ideal.exp2 (z (ix2 r 0) - m (ix2 r 0))) := by
  pointwise [quot]
  rfl

/-- One row of a group's attention, from the row's logits as real numbers. -/
theorem attend_apply (k v : FVec Ideal S384x128 .bf16) (kc vc : FVec Ideal S256x128 .bf16) (ok : IVec S512x384 1) (q : FVec Ideal S512x128 .bf16)
    (z : FVec Ideal S512x1 .f32) (r : Fin 512) (l : Fin 128) (P : Fin 384 → Prop) [DecidablePred P] (s w : Fin 384 → ℝ) (t u : Fin 256 → ℝ) (ζ : ℝ)
    (hs : ∀ y, locLogits k ok q (ix2 r y) = if P y then (s y : EReal) else ⊥) (ht : ∀ y, ctxLogits kc q (ix2 r y) = (t y : EReal))
    (hw : ∀ y, v (ix2 y l) = (w y : EReal)) (hu : ∀ y, vc (ix2 y l) = (u y : EReal)) (hz : z (ix2 r 0) = (ζ : EReal)) :
    attend k v kc vc ok q z (ix2 r l) = ((att P s w t u ζ : ℝ) : EReal) := by
  unfold attend
  rw [quot_apply, weigh_left, weigh_right]
  obtain ⟨M, hM⟩ := real_max (max (Finset.univ.fold max ⊥ fun x : Fin 384 => locLogits k ok q (ix2 r x)) (Finset.univ.fold max ⊥ fun x : Fin 256 => ctxLogits kc q (ix2 r x)))
    (by
      rcases max_choice (Finset.univ.fold max ⊥ fun x : Fin 384 => locLogits k ok q (ix2 r x)) (Finset.univ.fold max ⊥ fun x : Fin 256 => ctxLogits kc q (ix2 r x)) with e | e
      · rw [e]
        exact fold_max_ne_top _ _ fun y => by rw [hs]; exact masked_ne_top _ _
      · rw [e]
        exact fold_max_ne_top _ _ fun y => by rw [ht]; exact EReal.coe_ne_top _) ζ
  have hm : rowMax (locLogits k ok q) (ctxLogits kc q) z (ix2 r 0) = (M : EReal) := by rw [rowMax_apply, hz, hM]
  rw [hm, hz]
  simp only [hs, ht, hw, hu]
  exact one_division P s w t u ζ M

/-! ### A group's attention and a tile, from real inputs -/

variable (i : Fin 4) (x0 : Vec Ideal S8 .f32) (x1 : Vec Ideal S1x1024x512 .bf16) (x2 x3 : Vec Ideal S1x4096x256 .bf16)
  (x4 x5 : Vec Ideal S1x256x256 .bf16)

theorem groupAt_apply (h0 : IsReal x0) (h1 : IsReal x1) (h2 : IsReal x2) (h3 : IsReal x3) (h4 : IsReal x4) (h5 : IsReal x5)
    (sb : Fin 8) (g a p : Fin 2) (r l : Fin 128) :
    groupAt i x0 x1 x2 x3 x4 x5 sb g (ix2 ⟨256 * a.val + 128 * p.val + r.val, by omega⟩ l)
      = ((att (fun j : Fin 4096 => near (1024 * i.val + 128 * sb.val + r.val) j.val)
        (fun j => ∑ d : Fin 64, (x1 (ix3 0 ⟨128 * sb.val + r.val, by omega⟩ ⟨256 * g.val + 128 * a.val + (64 * p.val + d.val), by omega⟩)).toReal
          * (x2 (ix3 0 j ⟨128 * g.val + (64 * p.val + d.val), by omega⟩)).toReal)
        (fun j => (x3 (ix3 0 j ⟨128 * g.val + l.val, by omega⟩)).toReal)
        (fun y : Fin 256 => ∑ d : Fin 64, (x1 (ix3 0 ⟨128 * sb.val + r.val, by omega⟩ ⟨256 * g.val + 128 * a.val + (64 * p.val + d.val), by omega⟩)).toReal
          * (x4 (ix3 0 y ⟨128 * g.val + (64 * p.val + d.val), by omega⟩)).toReal)
        (fun y => (x5 (ix3 0 y ⟨128 * g.val + l.val, by omega⟩)).toReal)
        (x0 (ix1 ⟨4 * g.val + 2 * a.val + p.val, by omega⟩)).toReal : ℝ) : EReal) := by
  have hσ := start_le i sb
  have hdiv : (256 * a.val + 128 * p.val + r.val) / 128 = 2 * a.val + p.val := by omega
  have hmod : (256 * a.val + 128 * p.val + r.val) % 128 = r.val := by omega
  have hq : ∀ x : Fin 128, stackQ (extractStridedSlice S128x128 ![0, 256 * g.val + 128 * (0 : Fin 2).val] (rowsQ x1 sb) (slices_q g 0))
      (extractStridedSlice S128x128 ![0, 256 * g.val + 128 * (1 : Fin 2).val] (rowsQ x1 sb) (slices_q g 1))
      (ix2 ⟨256 * a.val + 128 * p.val + r.val, by omega⟩ x)
      = if x.val / 64 = p.val then (((x1 (ix3 0 ⟨128 * sb.val + r.val, by omega⟩ ⟨256 * g.val + 128 * a.val + x.val, by omega⟩)).toReal : ℝ) : EReal) else 0 := by
    intro x
    rw [stackQ_apply]
    congr 1
    rw [← h1]
    have ha : a = 0 ∨ a = 1 := by omega
    rcases ha with rfl | rfl
    · rw [if_pos rfl]
      pointwise []
      rw [rowsQ_apply]
    · rw [if_neg (by decide)]
      pointwise []
      rw [rowsQ_apply]
  rw [← att_window (start i sb) hσ (fun j : Fin 4096 => near (1024 * i.val + 128 * sb.val + r.val) j.val) (by
    intro j hj
    unfold near at hj
    unfold start
    omega)]
  unfold groupAt
  refine attend_apply _ _ _ _ _ _ _ _ _ _ _ _ _ _ _ ?_ ?_ ?_ ?_ ?_
  · intro y
    rw [locLogits_apply, inBand_apply, select_ofBool, hmod]
    congr 1
    simp only [hq]
    have hk : ∀ x : Fin 128, extractStridedSlice S384x128 ![0, 128 * g.val] (rowsK x2 i sb) (slices_kw g) (ix2 y x)
        = (((x2 (ix3 0 ⟨start i sb + y.val, by omega⟩ ⟨128 * g.val + x.val, by omega⟩)).toReal : ℝ) : EReal) := by
      intro x
      rw [← h2]
      pointwise []
      rw [rowsK_apply]
    simp only [hk]
    exact half_dot p _ _
  · intro y
    rw [ctxLogits_apply]
    simp only [hq]
    have hk : ∀ x : Fin 128, extractStridedSlice S256x128 ![0, 128 * g.val] (rowsC x4) (slices_kc g) (ix2 y x)
        = (((x4 (ix3 0 y ⟨128 * g.val + x.val, by omega⟩)).toReal : ℝ) : EReal) := by
      intro x
      rw [← h4]
      pointwise []
      rw [rowsC_apply]
    simp only [hk]
    exact half_dot p _ _
  · intro y
    rw [← h3]
    pointwise []
    rw [rowsK_apply]
  · intro y
    rw [← h5]
    pointwise []
    rw [rowsC_apply]
  · rw [sinkCol_apply, ← h0]
    congr 2
    exact Fin.ext (by show 4 * g.val + (256 * a.val + 128 * p.val + r.val) / 128 = 4 * g.val + 2 * a.val + p.val; omega)

theorem tile_apply (sb : Fin 8) (g a : Fin 2) (e : Fin 1) (r l : Fin 128) :
    tile i x0 x1 x2 x3 x4 x5 sb g a (ix3 e r l)
      = groupAt i x0 x1 x2 x3 x4 x5 sb g (ix2 ⟨256 * a.val + 128 * (l.val / 64) + r.val, by omega⟩ l) := by
  unfold tile
  generalize groupAt i x0 x1 x2 x3 x4 x5 sb g = G
  pointwise [pairTile]
  rw [firstHalf_apply, select_ofBool]
  split_ifs with h
  · congr 2
    exact Fin.ext (by show 256 * a.val + r.val = 256 * a.val + 128 * (l.val / 64) + r.val; omega)
  · congr 2
    exact Fin.ext (by show 256 * a.val + 128 + r.val = 256 * a.val + 128 * (l.val / 64) + r.val; omega)

end Cert.KernelIdeal.Window

end
-- ==== Proof.KernelValue.lean ====
/-
  The kernel's output array after the run, as the function of its arguments in `Spec.lean`: block `t` of the grid is read at the
  array's own indices, the tiles of the block are the tiles of the specification, and the 32 blocks cover the array.
-/
module

public import proofs.«01_k».proof.Proof.Gen.KernelIdeal.Value
public import proofs.«01_k».proof.Proof.Pieces
public import proofs.«01_k».proof.Proof.TileValue
public import proofs.«01_k».proof.Proof.Spec

@[expose] public section

set_option maxRecDepth 16384

noncomputable section

namespace Cert.KernelIdeal.Window

open Cert.KernelIdeal Cert.KernelIdeal.Gen Cert.KernelIdeal.Value Idealize.ShloMosaic Idealize.ShloMosaic.TcCoe Idealize.SL.Sem
open Idealize.ShloMosaic.Pipeline (Dat Window)
open Cert.Softmax Cert.Spec

/-- The block index of the query window (and of the output's) is the grid point: batch, then block of 1024 rows. -/
theorem index_q : ∀ t : Fin grid0.N, win0_1.index t (0 : Fin 3) = (grid0.coords t 0).val ∧ win0_1.index t (1 : Fin 3) = (grid0.coords t 1).val ∧ win0_1.index t (2 : Fin 3) = 0 := by
  decide +kernel

theorem index_out : ∀ t : Fin grid0.N, win0_6.index t (0 : Fin 3) = (grid0.coords t 0).val ∧ win0_6.index t (1 : Fin 3) = (grid0.coords t 1).val ∧ win0_6.index t (2 : Fin 3) = 0 := by
  decide +kernel

/-- The key, value and context windows are at the batch. -/
theorem index_k : ∀ t : Fin grid0.N, win0_2.index t (0 : Fin 3) = (grid0.coords t 0).val ∧ win0_2.index t (1 : Fin 3) = 0 ∧ win0_2.index t (2 : Fin 3) = 0 := by
  decide +kernel

theorem index_v : ∀ t : Fin grid0.N, win0_3.index t (0 : Fin 3) = (grid0.coords t 0).val ∧ win0_3.index t (1 : Fin 3) = 0 ∧ win0_3.index t (2 : Fin 3) = 0 := by
  decide +kernel

theorem index_kc : ∀ t : Fin grid0.N, win0_4.index t (0 : Fin 3) = (grid0.coords t 0).val ∧ win0_4.index t (1 : Fin 3) = 0 ∧ win0_4.index t (2 : Fin 3) = 0 := by
  decide +kernel

theorem index_vc : ∀ t : Fin grid0.N, win0_5.index t (0 : Fin 3) = (grid0.coords t 0).val ∧ win0_5.index t (1 : Fin 3) = 0 ∧ win0_5.index t (2 : Fin 3) = 0 := by
  decide +kernel

theorem index_z : ∀ t : Fin grid0.N, win0_0.index t (0 : Fin 1) = 0 := by
  decide +kernel

variable (m : (ℓ : Loc nD τ sig) → Buf (Elt Ideal) ℓ) (c : Dev nD) (t : Fin cfg0.N)

/-- The batch of a grid point. -/
abbrev batch (t : Fin cfg0.N) : Fin 8 := grid0.coords t 0

/-- Its block of 1024 query rows. -/
abbrev qblk (t : Fin cfg0.N) : Fin 4 := grid0.coords t 1

theorem iblk_q (y : Fin 1024) (l : Fin 512) :
    (iblk m c 1 t : Vec Ideal S1x1024x512 .bf16) (ix3 0 y l)
      = (m ((c.tc : Thread nD τ).loc main_arg0) : Vec Ideal S8x4096x512 .bf16) (ix3 (batch t) ⟨1024 * (qblk t).val + y.val, by omega⟩ l) := by
  obtain ⟨e0, e1, e2⟩ := index_q t
  unfold iblk
  rw [View.read_apply]
  refine congrArg (m ((c.tc : Thread nD τ).loc main_arg0)) (funext fun a => Fin.ext ?_)
  refine (Window.rect_emb_val win0_1 t _ a).trans ?_
  fin_cases a
  · exact (congrArg (· * 1 + 0) e0).trans (by show (batch t).val * 1 + 0 = (batch t).val; omega)
  · exact (congrArg (· * 1024 + y.val) e1).trans (by show (qblk t).val * 1024 + y.val = 1024 * (qblk t).val + y.val; omega)
  · exact (congrArg (· * 512 + l.val) e2).trans (by show _ = l.val; omega)

theorem iblk_k (j : Fin 4096) (l : Fin 256) :
    (iblk m c 2 t : Vec Ideal S1x4096x256 .bf16) (ix3 0 j l)
      = (m ((c.tc : Thread nD τ).loc main_arg1) : Vec Ideal S8x4096x256 .bf16) (ix3 (batch t) j l) := by
  obtain ⟨e0, e1, e2⟩ := index_k t
  unfold iblk
  rw [View.read_apply]
  refine congrArg (m ((c.tc : Thread nD τ).loc main_arg1)) (funext fun a => Fin.ext ?_)
  refine (Window.rect_emb_val win0_2 t _ a).trans ?_
  fin_cases a
  · exact (congrArg (· * 1 + 0) e0).trans (by show (batch t).val * 1 + 0 = (batch t).val; omega)
  · exact (congrArg (· * 4096 + j.val) e1).trans (by show _ = j.val; omega)
  · exact (congrArg (· * 256 + l.val) e2).trans (by show _ = l.val; omega)

theorem iblk_v (j : Fin 4096) (l : Fin 256) :
    (iblk m c 3 t : Vec Ideal S1x4096x256 .bf16) (ix3 0 j l)
      = (m ((c.tc : Thread nD τ).loc main_arg2) : Vec Ideal S8x4096x256 .bf16) (ix3 (batch t) j l) := by
  obtain ⟨e0, e1, e2⟩ := index_v t
  unfold iblk
  rw [View.read_apply]
  refine congrArg (m ((c.tc : Thread nD τ).loc main_arg2)) (funext fun a => Fin.ext ?_)
  refine (Window.rect_emb_val win0_3 t _ a).trans ?_
  fin_cases a
  · exact (congrArg (· * 1 + 0) e0).trans (by show (batch t).val * 1 + 0 = (batch t).val; omega)
  · exact (congrArg (· * 4096 + j.val) e1).trans (by show _ = j.val; omega)
  · exact (congrArg (· * 256 + l.val) e2).trans (by show _ = l.val; omega)

theorem iblk_kc (j l : Fin 256) :
    (iblk m c 4 t : Vec Ideal S1x256x256 .bf16) (ix3 0 j l)
      = (m ((c.tc : Thread nD τ).loc main_arg3) : Vec Ideal S8x256x256 .bf16) (ix3 (batch t) j l) := by
  obtain ⟨e0, e1, e2⟩ := index_kc t
  unfold iblk
  rw [View.read_apply]
  refine congrArg (m ((c.tc : Thread nD τ).loc main_arg3)) (funext fun a => Fin.ext ?_)
  refine (Window.rect_emb_val win0_4 t _ a).trans ?_
  fin_cases a
  · exact (congrArg (· * 1 + 0) e0).trans (by show (batch t).val * 1 + 0 = (batch t).val; omega)
  · exact (congrArg (· * 256 + j.val) e1).trans (by show _ = j.val; omega)
  · exact (congrArg (· * 256 + l.val) e2).trans (by show _ = l.val; omega)

theorem iblk_vc (j l : Fin 256) :
    (iblk m c 5 t : Vec Ideal S1x256x256 .bf16) (ix3 0 j l)
      = (m ((c.tc : Thread nD τ).loc main_arg4) : Vec Ideal S8x256x256 .bf16) (ix3 (batch t) j l) := by
  obtain ⟨e0, e1, e2⟩ := index_vc t
  unfold iblk
  rw [View.read_apply]
  refine congrArg (m ((c.tc : Thread nD τ).loc main_arg4)) (funext fun a => Fin.ext ?_)
  refine (Window.rect_emb_val win0_5 t _ a).trans ?_
  fin_cases a
  · exact (congrArg (· * 1 + 0) e0).trans (by show (batch t).val * 1 + 0 = (batch t).val; omega)
  · exact (congrArg (· * 256 + j.val) e1).trans (by show _ = j.val; omega)
  · exact (congrArg (· * 256 + l.val) e2).trans (by show _ = l.val; omega)

theorem iblk_z (h : Fin 8) :
    (iblk m c 0 t : Vec Ideal S8 .f32) (ix1 h) = (m ((c.tc : Thread nD τ).loc main_arg5) : Vec Ideal S8 .f32) (ix1 h) := by
  have e0 := index_z t
  unfold iblk
  rw [View.read_apply]
  refine congrArg (m ((c.tc : Thread nD τ).loc main_arg5)) (funext fun a => Fin.ext ?_)
  refine (Window.rect_emb_val win0_0 t _ a).trans ?_
  fin_cases a
  exact (congrArg (· * 8 + h.val) e0).trans (by show _ = h.val; omega)

/-- The finite arguments of a launch. -/
structure Finite : Prop where
  q : IsReal (m ((c.tc : Thread nD τ).loc main_arg0) : Vec Ideal S8x4096x512 .bf16)
  k : IsReal (m ((c.tc : Thread nD τ).loc main_arg1) : Vec Ideal S8x4096x256 .bf16)
  v : IsReal (m ((c.tc : Thread nD τ).loc main_arg2) : Vec Ideal S8x4096x256 .bf16)
  kc : IsReal (m ((c.tc : Thread nD τ).loc main_arg3) : Vec Ideal S8x256x256 .bf16)
  vc : IsReal (m ((c.tc : Thread nD τ).loc main_arg4) : Vec Ideal S8x256x256 .bf16)
  z : IsReal (m ((c.tc : Thread nD τ).loc main_arg5) : Vec Ideal S8 .f32)

/-- The specification on the launch's arguments. -/
def spec (b : Fin 8) (n : Fin 4096) (l : Fin 512) : ℝ :=
  out (m ((c.tc : Thread nD τ).loc main_arg0) : Vec Ideal S8x4096x512 .bf16) (m ((c.tc : Thread nD τ).loc main_arg1) : Vec Ideal S8x4096x256 .bf16)
    (m ((c.tc : Thread nD τ).loc main_arg2) : Vec Ideal S8x4096x256 .bf16) (m ((c.tc : Thread nD τ).loc main_arg3) : Vec Ideal S8x256x256 .bf16)
    (m ((c.tc : Thread nD τ).loc main_arg4) : Vec Ideal S8x256x256 .bf16) (m ((c.tc : Thread nD τ).loc main_arg5) : Vec Ideal S8 .f32) b n l

/-- … and as the contents of the output array. -/
def specArr : Vec Ideal S8x4096x512 .bf16 := fun i => ((spec m c (i 0) (i 1) (i 2) : ℝ) : EReal)

theorem isReal3 {n0 n1 n2 : ℕ} {f : (⟨3, ![n0, n1, n2]⟩ : Shape).Idx → EReal}
    (h : ∀ (a : Fin n0) (b : Fin n1) (d : Fin n2), f (ix3 a b d) = ((f (ix3 a b d)).toReal : EReal)) : IsReal f := by
  intro i
  have e : i = ix3 (i 0) (i 1) (i 2) := by
    funext a
    match a with
    | 0 => rfl
    | 1 => rfl
    | 2 => rfl
  rw [e]
  exact h _ _ _

variable {m c}

theorem real_q (H : Finite m c) : IsReal (iblk m c 1 t : Vec Ideal S1x1024x512 .bf16) :=
  isReal3 fun a b d => by rw [Subsingleton.elim a 0, iblk_q]; exact H.q _

theorem real_k (H : Finite m c) : IsReal (iblk m c 2 t : Vec Ideal S1x4096x256 .bf16) :=
  isReal3 fun a b d => by rw [Subsingleton.elim a 0, iblk_k]; exact H.k _

theorem real_v (H : Finite m c) : IsReal (iblk m c 3 t : Vec Ideal S1x4096x256 .bf16) :=
  isReal3 fun a b d => by rw [Subsingleton.elim a 0, iblk_v]; exact H.v _

theorem real_kc (H : Finite m c) : IsReal (iblk m c 4 t : Vec Ideal S1x256x256 .bf16) :=
  isReal3 fun a b d => by rw [Subsingleton.elim a 0, iblk_kc]; exact H.kc _

theorem real_vc (H : Finite m c) : IsReal (iblk m c 5 t : Vec Ideal S1x256x256 .bf16) :=
  isReal3 fun a b d => by rw [Subsingleton.elim a 0, iblk_vc]; exact H.vc _

theorem real_z (H : Finite m c) : IsReal (iblk m c 0 t : Vec Ideal S8 .f32) := by
  intro i
  have e : i = (ix1 (i 0 : Fin 8) : S8.Idx) := by
    funext a
    match a with
    | 0 => rfl
  have h := iblk_z m c t (i 0 : Fin 8)
  rw [← e] at h
  rw [h]
  exact H.z _

/-- A tile of a grid point's block is the specification's tile at the same place. -/
theorem tile_spec (H : Finite m c) (sb : Fin 8) (g a : Fin 2) (e : Fin 1) (r l : Fin 128) :
    tile (F := Ideal) (qblk t) (iblk m c 0 t) (iblk m c 1 t) (iblk m c 2 t) (iblk m c 3 t) (iblk m c 4 t) (iblk m c 5 t) sb g a (ix3 e r l)
      = ((spec m c (batch t) ⟨1024 * (qblk t).val + (128 * sb.val + r.val), by omega⟩ ⟨256 * g.val + 128 * a.val + l.val, by omega⟩ : ℝ) : EReal) := by
  rw [tile_apply]
  refine (groupAt_apply (qblk t) (iblk m c 0 t) (iblk m c 1 t) (iblk m c 2 t) (iblk m c 3 t) (iblk m c 4 t) (iblk m c 5 t)
    (real_z t H) (real_q t H) (real_k t H) (real_v t H) (real_kc t H) (real_vc t H) sb g a ⟨l.val / 64, by omega⟩ r l).trans ?_
  simp only [iblk_q, iblk_k, iblk_v, iblk_kc, iblk_vc, iblk_z]
  unfold spec out
  have h1 : (4 * g.val + 2 * a.val + l.val / 64) * 64 = 256 * g.val + 128 * a.val + 64 * (l.val / 64) := by omega
  have h2 : (256 * g.val + 128 * a.val + l.val) / 256 * 128 = 128 * g.val := by omega
  have h3 : (4 * g.val + 2 * a.val + l.val / 64) % 2 * 64 = 64 * (l.val / 64) := by omega
  have h4 : (256 * g.val + 128 * a.val + l.val) % 128 = l.val := by omega
  have h5 : (256 * g.val + 128 * a.val + l.val) / 64 = 4 * g.val + 2 * a.val + l.val / 64 := by omega
  simp only [h2, h4, h5]
  simp only [h1, h3]
  simp only [Nat.add_assoc]

theorem place_emb (sb : Fin 8) (g a : Fin 2) (e : Fin 1) (r l : Fin 128) :
    (place sb g a).emb (ix3 e r l) = (ix3 (0 : Fin 1) (⟨128 * sb.val + r.val, by omega⟩ : Fin 1024) (⟨256 * g.val + 128 * a.val + l.val, by omega⟩ : Fin 512)) := by
  funext x
  refine Fin.ext ?_
  match x with
  | 0 => show 0 + 1 * e.val = 0; omega
  | 1 => show 128 * sb.val + 1 * r.val = 128 * sb.val + r.val; omega
  | 2 => show 256 * g.val + 128 * a.val + 1 * l.val = 256 * g.val + 128 * a.val + l.val; omega

/-- The specification's block at a grid point. -/
def blockSpec (m : (ℓ : Loc nD τ sig) → Buf (Elt Ideal) ℓ) (c : Dev nD) (t : Fin cfg0.N) : Vec Ideal S1x1024x512 .bf16 := fun y =>
  ((spec m c (batch t) ⟨1024 * (qblk t).val + (y 1).val, by have h : (y 1).val < 1024 := (y 1).isLt; omega⟩ (y 2) : ℝ) : EReal)

theorem tile_blockSpec (H : Finite m c) (sb : Fin 8) (g a : Fin 2) (x : S1x128x128.Idx) :
    tile (F := Ideal) (qblk t) (iblk m c 0 t) (iblk m c 1 t) (iblk m c 2 t) (iblk m c 3 t) (iblk m c 4 t) (iblk m c 5 t) sb g a x
      = blockSpec m c t ((place sb g a).emb x) := by
  obtain ⟨e, r, l, rfl⟩ : ∃ (e : Fin 1) (r l : Fin 128), x = ix3 e r l := ⟨x 0, x 1, x 2, by
    funext a
    match a with
    | 0 => rfl
    | 1 => rfl
    | 2 => rfl⟩
  exact (tile_spec t H sb g a e r l).trans (congrArg (blockSpec m c t) (place_emb sb g a e r l)).symm

/-- What a grid point writes, at an element of its block. -/
theorem block_spec (H : Finite m c) (y : S1x1024x512.Idx) :
    out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (iblk m c 0 t) (iblk m c 1 t) (iblk m c 2 t) (iblk m c 3 t) (iblk m c 4 t) (iblk m c 5 t) y
      = blockSpec m c t y :=
  out_of_tiles (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
      (ms0_6 t) (hs0_6 t) (iblk m c 0 t) (iblk m c 1 t) (iblk m c 2 t) (iblk m c 3 t) (iblk m c 4 t) (iblk m c 5 t)
      (blockSpec m c t) (tile_blockSpec t H) y

/-- Where an element of a grid point's output block lies in the array. -/
theorem out_emb (y : ((cfg0.win 6).xblock (grid0.coords t)).Idx) (a : Fin 3) :
    ((((cfg0.win 6).blk t).view.emb y : S8x4096x512.Idx) a).val
      = win0_6.index t a * S1x1024x512.size a + (y a).val :=
  Window.rect_emb_val win0_6 t y a

/-- Every batch and every block of rows has its grid point. -/
theorem point_of : ∀ (b : Fin 8) (s : Fin 4), ∃ t : Fin grid0.N, (grid0.coords t 0).val = b.val ∧ (grid0.coords t 1).val = s.val := by
  decide +kernel

/-- THE OUTPUT ARRAY AFTER THE RUN IS THE SPECIFICATION. -/
theorem arr_spec (H : Finite m c) : (dats m 0 c).arrAt 6 cfg0.N = (specArr m c : Vec Ideal S8x4096x512 .bf16) := by
  refine (dats m 0 c).arrAt_eq_of_cover 6 (specArr m c) ?_ ?_
  · intro t _
    rw [flushed6_A]
    funext y
    obtain ⟨e0, e1, e2⟩ := index_out t
    rw [View.read_apply]
    refine (block_spec t H y).trans ?_
    have h0 : (y 0).val = 0 := Nat.lt_one_iff.mp (y 0).isLt
    have i0 : ((((cfg0.win 6).blk t).view.emb y : S8x4096x512.Idx) 0) = batch t :=
      Fin.ext ((out_emb t y 0).trans ((congrArg (· * 1 + (y 0).val) e0).trans (by rw [h0]; show (batch t).val * 1 + 0 = (batch t).val; omega)))
    have i1 : ((((cfg0.win 6).blk t).view.emb y : S8x4096x512.Idx) 1).val = 1024 * (qblk t).val + (y 1).val :=
      (out_emb t y 1).trans ((congrArg (· * 1024 + (y 1).val) e1).trans (by show (qblk t).val * 1024 + _ = _; omega))
    have i2 : ((((cfg0.win 6).blk t).view.emb y : S8x4096x512.Idx) 2) = y 2 :=
      Fin.ext ((out_emb t y 2).trans ((congrArg (· * 512 + (y 2).val) e2).trans (by omega)))
    unfold blockSpec
    show _ = ((spec m c ((((cfg0.win 6).blk t).view.emb y : S8x4096x512.Idx) 0) ((((cfg0.win 6).blk t).view.emb y : S8x4096x512.Idx) 1)
      ((((cfg0.win 6).blk t).view.emb y : S8x4096x512.Idx) 2) : ℝ) : EReal)
    rw [i0, i2]
    congr 2
    exact Fin.ext i1.symm
  · intro i
    have hi0 : (i 0).val < 8 := (i 0).isLt
    have hi1 : (i 1).val < 4096 := (i 1).isLt
    obtain ⟨t, ht0, ht1⟩ := point_of ⟨(i 0).val, hi0⟩ ⟨(i 1).val / 1024, by omega⟩
    obtain ⟨e0, e1, e2⟩ := index_out t
    refine ⟨t, flush0_6 t, ?_⟩
    let y : S1x1024x512.Idx := ix3 (0 : Fin 1) (⟨(i 1).val % 1024, by omega⟩ : Fin 1024) (i 2 : Fin 512)
    have e : (((cfg0.win 6).blk t).view.emb y : S8x4096x512.Idx) = i := by
      funext a
      refine Fin.ext ((out_emb t y a).trans ?_)
      match a with
      | 0 => exact (congrArg (· * 1 + 0) (e0.trans ht0)).trans (by show (i 0).val * 1 + 0 = (i 0).val; omega)
      | 1 => exact (congrArg (· * 1024 + (i 1).val % 1024) (e1.trans ht1)).trans (by show (i 1).val / 1024 * 1024 + (i 1).val % 1024 = (i 1).val; omega)
      | 2 => exact (congrArg (· * 512 + (i 2).val) e2).trans (by show 0 * 512 + (i 2).val = (i 2).val; omega)
    exact e ▸ ((cfg0.win 6).blk t).view.emb_mem_set y

end Cert.KernelIdeal.Window

end
-- ==== Proof.RefValue.lean ====
/-
  The reference attention read at an index: with finite inputs it is the real number of `Spec.lean`.
-/
module

public import proofs.«01_k».proof.Proof.Gen.ReferenceIdeal.Read
public import proofs.«01_k».proof.Proof.Spec

@[expose] public section

set_option maxRecDepth 16384

noncomputable section

namespace Cert.ReferenceIdeal.Window

open Cert.ReferenceIdeal Cert.ReferenceIdeal.Gen Cert.ReferenceIdeal.Read Idealize.ShloMosaic Idealize.ShloMosaic.TcCoe Idealize.SL.Sem
open Cert.Softmax Cert.Spec

variable (x0 : (⟨S8x4096x512, .bf16⟩ : BufTy).Contents (Elt Ideal)) (x1 x2 : (⟨S8x4096x256, .bf16⟩ : BufTy).Contents (Elt Ideal))
  (x3 x4 : (⟨S8x256x256, .bf16⟩ : BufTy).Contents (Elt Ideal)) (x5 : (⟨S8, .f32⟩ : BufTy).Contents (Elt Ideal))

theorem neg_inf : Ideal.ofBits FTy.f32 4286578688#32 = ⊥ := by simp [Ideal.ofBits, Ideal.ieee]

/-- The factor on every logit: the natural logarithm of 2. -/
theorem unit_eq : Ideal.log (Ideal.ofBits FTy.f32 1073741824#32) = ((Real.log 2 : ℝ) : EReal) := by
  have h : Ideal.ofBits FTy.f32 1073741824#32 = ((2 : ℝ) : EReal) := by
    simp [Ideal.ofBits, Ideal.ieee, -EReal.coe_mul]
    norm_num
  rw [h, Ideal.log_coe, if_neg (by norm_num)]

/-- The logit of a key in base 2. -/
def sc (b : Fin 8) (g r t : Fin 2) (n j : Fin 4096) : ℝ :=
  ∑ d : Fin 64, (x0 (ix3 b n ⟨g.val * 256 + r.val * 128 + t.val * 64 + d.val, by omega⟩)).toReal * (x1 (ix3 b j ⟨g.val * 128 + t.val * 64 + d.val, by omega⟩)).toReal

/-- The logit of a context key in base 2. -/
def sx (b : Fin 8) (g r t : Fin 2) (n : Fin 4096) (j : Fin 256) : ℝ :=
  ∑ d : Fin 64, (x0 (ix3 b n ⟨g.val * 256 + r.val * 128 + t.val * 64 + d.val, by omega⟩)).toReal * (x3 (ix3 b j ⟨g.val * 128 + t.val * 64 + d.val, by omega⟩)).toReal

theorem v24_at (b : Fin 8) (g t : Fin 2) (k q : Fin 4096) (r : Fin 2) :
    val_main_v24 x0 x1 (ix6 b g t k q r)
      = ∑ x : Fin 64, x1 (ix3 b k ⟨g.val * 128 + t.val * 64 + x.val, by omega⟩) * x0 (ix3 b q ⟨g.val * 256 + r.val * 128 + t.val * 64 + x.val, by omega⟩) := by
  pointwise [val_main_v24, val_main_v4, val_main_v2, val_main_v1, val_main_v3]

theorem v24_real (h0 : IsReal x0) (h1 : IsReal x1) (b : Fin 8) (g t : Fin 2) (k q : Fin 4096) (r : Fin 2) :
    val_main_v24 x0 x1 (ix6 b g t k q r) = ((sc x0 x1 b g r t q k : ℝ) : EReal) := by
  rw [v24_at, sc, coe_sum]
  refine Finset.sum_congr rfl fun d _ => ?_
  rw [EReal.coe_mul, mul_comm, ← h0, ← h1]

theorem select_ofBool {α : Type} (p : Prop) [Decidable p] (x y : α) :
    Scalar.select (BitVec.ofBool (decide p)) x y = if p then x else y := by
  by_cases h : p <;> simp [Scalar.select, h]

theorem v28_at (h0 : IsReal x0) (h1 : IsReal x1) (b : Fin 8) (g r t : Fin 2) (n j : Fin 4096) :
    val_main_v28 x0 x1 (ix6 b g r t n j) = if near n.val j.val then ((sc x0 x1 b g r t n j * Real.log 2 : ℝ) : EReal) else ⊥ := by
  pointwise [val_main_v28, val_main_call0_v1, val_main_call0_v2, val_main_call0_v0, val_main_cst_0, val_main_v23, val_main_v27, val_main_v26, val_main_v25, val_main_v21, val_main_v22, val_main_v20, val_main_v19, val_main_v18, val_main_v17, val_main_v16, val_main_v15, val_main_c, val_main_v0, val_main_cst]
  rw [near_word _ _ (by omega) (by omega), select_ofBool, v24_real x0 x1 h0 h1, unit_eq, ← EReal.coe_mul]
  exact congrArg _ neg_inf

theorem v32_at (h0 : IsReal x0) (h3 : IsReal x3) (b : Fin 8) (g r t : Fin 2) (n : Fin 4096) (j : Fin 256) :
    val_main_v32 x0 x3 (ix6 b g r t n j) = ((sx x0 x3 b g r t n j * Real.log 2 : ℝ) : EReal) := by
  pointwise [val_main_v32, val_main_v31, val_main_v30, val_main_v29, val_main_v2, val_main_v8, val_main_v7, val_main_v1, val_main_v0, val_main_cst]
  rw [unit_eq, EReal.coe_mul]
  congr 1
  rw [sx, coe_sum]
  refine Finset.sum_congr rfl fun d _ => ?_
  rw [EReal.coe_mul, mul_comm, ← h0, ← h3]

theorem v14_at (h5 : IsReal x5) (b : Fin 8) (g r t : Fin 2) (n : Fin 4096) (j : Fin 1) :
    val_main_v14 x5 (ix6 b g r t n j) = (((x5 (ix1 ⟨g.val * 4 + r.val * 2 + t.val, by omega⟩)).toReal * Real.log 2 : ℝ) : EReal) := by
  pointwise [val_main_v14, val_main_v13, val_main_v11, val_main_v12, val_main_v0, val_main_cst]
  rw [unit_eq, EReal.coe_mul, ← h5]

theorem v33_at (b : Fin 8) (g r t : Fin 2) (n : Fin 4096) (j : Fin 4353) :
    val_main_v33 x0 x1 x3 x5 (ix6 b g r t n j)
      = if h : j.val < 4096 then val_main_v28 x0 x1 (ix6 b g r t n ⟨j.val, h⟩)
        else if h' : j.val - 4096 < 256 then val_main_v32 x0 x3 (ix6 b g r t n ⟨j.val - 4096, h'⟩)
        else val_main_v14 x5 (ix6 b g r t n ⟨j.val - 4096 - 256, by omega⟩) := by
  pointwise [val_main_v33]

/-- The joined logits less a real number, exponentiated. -/
theorem exp_v33 (h0 : IsReal x0) (h1 : IsReal x1) (h3 : IsReal x3) (h5 : IsReal x5) (b : Fin 8) (g r t : Fin 2) (n : Fin 4096) (j : Fin 4353) (M : ℝ) :
    Ideal.exp (val_main_v33 x0 x1 x3 x5 (ix6 b g r t n j) - (M : EReal))
      = ((joined (n := 4096) (c := 256) (fun j => near n.val j.val) (sc x0 x1 b g r t n) (sx x0 x3 b g r t n)
          (x5 (ix1 ⟨g.val * 4 + r.val * 2 + t.val, by omega⟩)).toReal j * Real.exp (-M) : ℝ) : EReal) := by
  rw [v33_at]
  unfold joined
  split_ifs with h h'
  · rw [v28_at x0 x1 h0 h1, exp_masked]
  · rw [v32_at x0 x3 h0 h3, exp_sub]
  · rw [v14_at x5 h5, exp_sub]

theorem v33_ne_top (h0 : IsReal x0) (h1 : IsReal x1) (h3 : IsReal x3) (h5 : IsReal x5) (b : Fin 8) (g r t : Fin 2) (n : Fin 4096) (j : Fin 4353) :
    val_main_v33 x0 x1 x3 x5 (ix6 b g r t n j) ≠ ⊤ := by
  rw [v33_at]
  split_ifs with h h'
  · rw [v28_at x0 x1 h0 h1]; exact masked_ne_top _ _
  · rw [v32_at x0 x3 h0 h3]; exact EReal.coe_ne_top _
  · rw [v14_at x5 h5]; exact EReal.coe_ne_top _

theorem fold_at (y : S8x2x2x2x4096x4353.Idx → Ideal .f32) (init : S_.Idx → Ideal .f32) (b : Fin 8) (g r t : Fin 2) (n : Fin 4096) :
    Host.reduce FloatOps.maximumf y init reducesTo_S8x2x2x2x4096x4353_S8x2x2x2x4096_d5 h_S_ (ix5 b g r t n)
      = Finset.univ.fold max (init (Shape.Idx.first h_S_)) fun j : Fin 4353 => y (ix6 b g r t n j) := by
  refine (Host.reduce_eq_fold_single FloatOps.maximumf y init reducesTo_S8x2x2x2x4096x4353_S8x2x2x2x4096_d5 (by decide) h_S_ (ix5 b g r t n)).trans ?_
  refine congrArg (fun f => Finset.fold max (init (Shape.Idx.first h_S_)) f (Finset.univ : Finset (Fin 4353))) (funext fun j => congrArg y (funext fun a => Fin.ext ?_))
  match a with
  | ⟨0, _⟩ => rfl
  | ⟨1, _⟩ => rfl
  | ⟨2, _⟩ => rfl
  | ⟨3, _⟩ => rfl
  | ⟨4, _⟩ => rfl
  | ⟨5, _⟩ => rfl

/-- The number subtracted from a row's logits is real. -/
theorem v36_real (h0 : IsReal x0) (h1 : IsReal x1) (h3 : IsReal x3) (h5 : IsReal x5) (b : Fin 8) (g r t : Fin 2) (n : Fin 4096) :
    ∃ M : ℝ, val_main_v36 x0 x1 x3 x5 (ix5 b g r t n) = (M : EReal) := by
  have hlast : val_main_v33 x0 x1 x3 x5 (ix6 b g r t n ⟨4352, by omega⟩)
      = (((x5 (ix1 ⟨g.val * 4 + r.val * 2 + t.val, by omega⟩)).toReal * Real.log 2 : ℝ) : EReal) := by
    rw [v33_at, dif_neg (by decide), dif_neg (by decide), v14_at x5 h5]
  obtain ⟨M, hM⟩ := real_fold (fun j : Fin 4353 => val_main_v33 x0 x1 x3 x5 (ix6 b g r t n j)) (fun j => v33_ne_top x0 x1 x3 x5 h0 h1 h3 h5 b g r t n j) _ _ hlast
  refine ⟨M, ?_⟩
  rw [val_main_v36_apply, val_main_v35_apply, ← hM]
  have e : val_main_v34 x0 x1 x3 x5 (ix5 b g r t n) = Finset.univ.fold max ⊥ fun j : Fin 4353 => val_main_v33 x0 x1 x3 x5 (ix6 b g r t n j) := by
    unfold val_main_v34
    refine (fold_at _ _ b g r t n).trans ?_
    rw [val_main_cst_1_apply]
    exact congrArg (fun i => Finset.fold max i _ _) neg_inf
  rw [e, val_main_cst_2_apply]
  show max (Ideal.ofBits FTy.f32 4286578688#32) _ = _
  rw [neg_inf]
  exact max_eq_right bot_le

/-- A row's weights, each divided by their sum. -/
theorem v44_at (h0 : IsReal x0) (h1 : IsReal x1) (h3 : IsReal x3) (h5 : IsReal x5) (b : Fin 8) (g r t : Fin 2) (n : Fin 4096) (M : ℝ)
    (hM : val_main_v36 x0 x1 x3 x5 (ix5 b g r t n) = (M : EReal)) (j : Fin 4353) :
    val_main_v44 x0 x1 x3 x5 (ix6 b g r t n j)
      = Ideal.div ((joined (n := 4096) (c := 256) (fun j => near n.val j.val) (sc x0 x1 b g r t n) (sx x0 x3 b g r t n)
          (x5 (ix1 ⟨g.val * 4 + r.val * 2 + t.val, by omega⟩)).toReal j * Real.exp (-M) : ℝ) : EReal)
        (0 + ∑ j : Fin (4096 + 256 + 1), ((joined (n := 4096) (c := 256) (fun j => near n.val j.val) (sc x0 x1 b g r t n) (sx x0 x3 b g r t n)
          (x5 (ix1 ⟨g.val * 4 + r.val * 2 + t.val, by omega⟩)).toReal j * Real.exp (-M) : ℝ) : EReal)) := by
  have h40 : ∀ j : Fin 4353, val_main_v40 x0 x1 x3 x5 (ix6 b g r t n j)
      = ((joined (n := 4096) (c := 256) (fun j => near n.val j.val) (sc x0 x1 b g r t n) (sx x0 x3 b g r t n)
          (x5 (ix1 ⟨g.val * 4 + r.val * 2 + t.val, by omega⟩)).toReal j * Real.exp (-M) : ℝ) : EReal) := by
    intro j
    rw [← exp_v33 x0 x1 x3 x5 h0 h1 h3 h5, val_main_v40_apply, val_main_v39_apply, val_main_v38_apply, val_main_v37_apply]
    have e : idx_main_v37 (idx_main_v38 (ix6 b g r t n j)) = ix5 b g r t n := by
      funext a
      match a with
      | ⟨0, _⟩ => rfl
      | ⟨1, _⟩ => rfl
      | ⟨2, _⟩ => rfl
      | ⟨3, _⟩ => rfl
      | ⟨4, _⟩ => rfl
    rw [e, hM]
    rfl
  rw [val_main_v44_apply, val_main_v43_apply, val_main_v42_apply, val_main_v41_apply, val_main_cst_3_apply, h40]
  have e : ∀ k : Fin 4353, idx_main_v41 (idx_main_v42 (idx_main_v43 (ix6 b g r t n j))) k = ix6 b g r t n k := by
    intro k
    funext a
    match a with
    | ⟨0, _⟩ => rfl
    | ⟨1, _⟩ => rfl
    | ⟨2, _⟩ => rfl
    | ⟨3, _⟩ => rfl
    | ⟨4, _⟩ => rfl
    | ⟨5, _⟩ => rfl
  simp only [e, h40]
  show Ideal.div _ (Ideal.ofBits FTy.f32 0x00000000#32 + _) = _
  rw [Ideal.ofBits_zero_f32]

theorem v55_at (b : Fin 8) (n : Fin 4096) (l : Fin 512) :
    val_main_v55 x0 x1 x2 x3 x4 x5 (ix3 b n l)
      = ∑ x : Fin 4096, x2 (ix3 b x ⟨l.val / 256 * 128 + l.val / 64 % 2 * 64 + l.val % 64, by omega⟩)
            * val_main_v44 x0 x1 x3 x5 (ix6 b ⟨l.val / 256, by omega⟩ ⟨l.val / 128 % 2, by omega⟩ ⟨l.val / 64 % 2, by omega⟩ n ⟨x.val, by omega⟩)
        + ∑ x : Fin 256, x4 (ix3 b x ⟨l.val / 256 * 128 + l.val / 64 % 2 * 64 + l.val % 64, by omega⟩)
            * val_main_v44 x0 x1 x3 x5 (ix6 b ⟨l.val / 256, by omega⟩ ⟨l.val / 128 % 2, by omega⟩ ⟨l.val / 64 % 2, by omega⟩ n ⟨4096 + x.val, by omega⟩) := by
  pointwise [val_main_v55, val_main_v54, val_main_v53, val_main_v52, val_main_v51, val_main_v50, val_main_v49, val_main_v48, val_main_v47, val_main_v46, val_main_v45, val_main_v10, val_main_v9, val_main_v6, val_main_v5]

/-- The reference's output is the specification's number. -/
theorem v55_eq (h0 : IsReal x0) (h1 : IsReal x1) (h2 : IsReal x2) (h3 : IsReal x3) (h4 : IsReal x4) (h5 : IsReal x5)
    (b : Fin 8) (n : Fin 4096) (l : Fin 512) :
    val_main_v55 x0 x1 x2 x3 x4 x5 (ix3 b n l) = ((out x0 x1 x2 x3 x4 x5 b n l : ℝ) : EReal) := by
  obtain ⟨M, hM⟩ := v36_real x0 x1 x3 x5 h0 h1 h3 h5 b ⟨l.val / 256, by omega⟩ ⟨l.val / 128 % 2, by omega⟩ ⟨l.val / 64 % 2, by omega⟩ n
  have e1 : l.val / 256 * 128 + l.val / 64 % 2 * 64 + l.val % 64 = l.val / 256 * 128 + l.val % 128 := by omega
  have e2 : l.val / 256 * 4 + l.val / 128 % 2 * 2 + l.val / 64 % 2 = l.val / 64 := by omega
  have e3 : l.val / 256 * 256 + l.val / 128 % 2 * 128 + l.val / 64 % 2 * 64 = l.val / 64 * 64 := by omega
  rw [v55_at]
  simp only [v44_at x0 x1 x3 x5 h0 h1 h3 h5 b _ _ _ n M hM]
  have k2 : ∀ x : Fin 4096, x2 (ix3 b x ⟨l.val / 256 * 128 + l.val / 64 % 2 * 64 + l.val % 64, by omega⟩)
      = (((x2 (ix3 b x ⟨l.val / 256 * 128 + l.val % 128, by omega⟩)).toReal : ℝ) : EReal) := by
    intro x
    rw [← h2]
    exact congrArg (fun t => x2 (ix3 b x t)) (Fin.ext e1)
  have k4 : ∀ x : Fin 256, x4 (ix3 b x ⟨l.val / 256 * 128 + l.val / 64 % 2 * 64 + l.val % 64, by omega⟩)
      = (((x4 (ix3 b x ⟨l.val / 256 * 128 + l.val % 128, by omega⟩)).toReal : ℝ) : EReal) := by
    intro x
    rw [← h4]
    exact congrArg (fun t => x4 (ix3 b x t)) (Fin.ext e1)
  simp only [k2, k4]
  refine (each_divided (n := 4096) (c := 256) (fun j => near n.val j.val) _ _ _ _ _ M).trans ?_
  have ksc : sc x0 x1 b ⟨l.val / 256, by omega⟩ ⟨l.val / 128 % 2, by omega⟩ ⟨l.val / 64 % 2, by omega⟩ n
      = fun j => ∑ d : Fin 64, (x0 (ix3 b n ⟨l.val / 64 * 64 + d.val, by omega⟩)).toReal * (x1 (ix3 b j ⟨l.val / 256 * 128 + l.val / 64 % 2 * 64 + d.val, by omega⟩)).toReal := by
    funext j
    simp only [sc, e3]
  have ksx : sx x0 x3 b ⟨l.val / 256, by omega⟩ ⟨l.val / 128 % 2, by omega⟩ ⟨l.val / 64 % 2, by omega⟩ n
      = fun y => ∑ d : Fin 64, (x0 (ix3 b n ⟨l.val / 64 * 64 + d.val, by omega⟩)).toReal * (x3 (ix3 b y ⟨l.val / 256 * 128 + l.val / 64 % 2 * 64 + d.val, by omega⟩)).toReal := by
    funext y
    simp only [sx, e3]
  rw [ksc, ksx]
  unfold out
  simp only [e2]

end Cert.ReferenceIdeal.Window

end
-- ==== Proof.Assembly.lean ====
/-
  The claims about the window attention: the precondition read as six arrays of real numbers, and the two runs set beside each
  other, both ending at the specification of `Spec.lean`.
-/
module

public import proofs.«01_k».proof.Defs
public import proofs.«01_k».proof.Proof.Gen.Pre_finite
public import proofs.«01_k».proof.Proof.Gen.ReferenceIdeal.Run
public import proofs.«01_k».proof.Proof.KernelValue
public import proofs.«01_k».proof.Proof.RefValue

@[expose] public section

set_option maxRecDepth 16384

noncomputable section

namespace Cert.WindowClaims

open Cert.KernelIdeal.Window Idealize.ShloMosaic Idealize.ShloMosaic.TcCoe Idealize.SL.Sem Cert.Spec

theorem pos_inf : Ideal.ofBits FTy.f32 0x7F800000#32 = ⊤ := by simp [Ideal.ofBits, Ideal.ieee]

/-- A value whose magnitude compares below infinity is a real number. -/
theorem real_of_olt (x : EReal) (h : Ideal.cmp .olt (max x (-x)) (Ideal.ofBits FTy.f32 0x7F800000#32) = 1#1) :
    x = (x.toReal : EReal) := by
  rw [pos_inf] at h
  induction x with
  | bot => simp [Ideal.cmp] at h
  | top => simp [Ideal.cmp] at h
  | coe r => rfl

/-- The precondition says that every argument is an array of real numbers. -/
theorem finite_of_pre (m : (ℓ : Loc Cert.KernelIdeal.nD Cert.KernelIdeal.τ Cert.KernelIdeal.sig) → Buf (Elt Ideal) ℓ)
    (h : Cert.Pre_KernelIdeal_finite (hPre_finite := Cert.Pre_finite.Gen.facts) m) (c : Dev Cert.KernelIdeal.nD) : Finite m c := by
  obtain ⟨h0, h1, h2, h3, h4, h5⟩ := h c
  exact ⟨fun i => real_of_olt _ (congrFun h0 i), fun i => real_of_olt _ (congrFun h1 i), fun i => real_of_olt _ (congrFun h2 i),
    fun i => real_of_olt _ (congrFun h3 i), fun i => real_of_olt _ (congrFun h4 i), fun i => real_of_olt _ (congrFun h5 i)⟩

/-- The reference's result on the kernel's arguments is the specification. -/
theorem ref_spec (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (H : Finite m c)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v55 (F := Ideal) m' c = specArr m c := by
  rw [Cert.ReferenceIdeal.Read.val_main_v55_eq, e0, e1, e2, e3, e4, e5]
  funext i
  have e : i = ix3 (i 0 : Fin 8) (i 1 : Fin 4096) (i 2 : Fin 512) := by
    funext a
    match a with
    | 0 => rfl
    | 1 => rfl
    | 2 => rfl
  refine (congrArg _ e).trans ?_
  exact Cert.ReferenceIdeal.Window.v55_eq _ _ _ _ _ _ H.q H.k H.v H.kc H.vc H.z (i 0) (i 1) (i 2)

/-- The mask's name: the word is a finite stand-in for −∞, which it is named as. -/
theorem preserves : Cert.preserves_Kernel_KernelIdeal := ⟨rfl, fun _ => rfl, rfl⟩

/-- Kernel and reference end with the same array, the specification's. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m ρ m' ρ' hpre hag
  refine ⟨fun c => specArr m c, ?_, ?_⟩
  · exact (θ_run _ _ _).mono (fun r h c => ⟨(h c).1.trans (arr_spec (finite_of_pre m hpre c)), (h c).2⟩)
      (Cert.KernelIdeal.Value.run_blocks (F := Ideal) m ρ)
  · refine (θ_run _ _ _).mono (fun r h c => ⟨(h c).1.trans ?_, (h c).2⟩) (Cert.ReferenceIdeal.Value.run (F := Ideal) m' ρ')
    obtain ⟨e0, e1, e2, e3, e4, e5⟩ := hag c
    exact ref_spec m m' c (finite_of_pre m hpre c) e0 e1 e2 e3 e4 e5

/-- The reference runs and keeps its arguments. -/
theorem frame_ri : Cert.quiescent_ReferenceIdeal (hReferenceIdeal := Cert.ReferenceIdeal.Gen.facts) := fun m ρ _ =>
  (θ_run _ _ _).mono (fun r h => ⟨fun c => (h c).2, sem_eq_zero_of_no_sems (by decide) r.2⟩)
    (Cert.ReferenceIdeal.Value.run (F := Ideal) m ρ)

end Cert.WindowClaims

end
-- ==== Proof.Experts.lean ====
/-
  The body of the expert feed-forward kernel, written with its repetition: gathering one row of the token array
  is one program, eight rows make one group, groups of eight fill a slot of the scratch.
-/
module

public import Idealize.ShloMosaic.Lib.Tactic
public import Idealize.ShloMosaic.Lib.Pipeline
public import Idealize.ShloMosaic.Lib.Scf
public import Idealize.ShloMosaic.Lib.Sig
public import Idealize.ShloMosaic.Lib.StableHlo
public import Idealize.ShloMosaic.PureOps

@[expose] public section

set_option maxRecDepth 16384

noncomputable section

namespace Cert.Experts

open Idealize.ShloMosaic Idealize.SL.Sem

/-! The sizes: `N` tokens, and `C` of them to an expert, in `G` groups of eight. -/

abbrev SIdx (C : ℕ) : Shape := ⟨3, ![1, 1, C]⟩
abbrev SWord : Shape := ⟨3, ![1, 1, 1]⟩
abbrev STok (N : ℕ) : Shape := ⟨3, ![1, N, 1024]⟩
abbrev STile1 : Shape := ⟨3, ![1, 8, 1024]⟩
abbrev STile : Shape := ⟨2, ![8, 1024]⟩
abbrev SSlot (C : ℕ) : Shape := ⟨2, ![C, 1024]⟩
abbrev SSlot1 (C : ℕ) : Shape := ⟨3, ![1, C, 1024]⟩
abbrev SScr (C : ℕ) : Shape := ⟨3, ![2, C, 1024]⟩
abbrev SW1 : Shape := ⟨3, ![1, 1024, 1024]⟩
abbrev SW : Shape := ⟨2, ![1024, 1024]⟩
abbrev SOut (C : ℕ) : Shape := ⟨4, ![1, 1, C, 1024]⟩

/-- The loop over the `G` groups. -/
@[reducible] def trips (G : ℕ) : Scf.Loop 32 := ⟨0#32, Scalar.addi 0#32 (BitVec.ofNat 32 G), 1#32⟩

/-- The number of the first row of group `k`, as the loop computes it. -/
def base (k : ℕ) : BitVec 32 := Scalar.muli (Scf.iv 0#32 1#32 k) 8#32

/-- The word of row `u` of group `k`. -/
def loopOff (k : ℕ) (u : Fin 8) : Fin 3 → Nat :=
  ![0, 0, (Scalar.addi (base k) (BitVec.ofNat 32 u.val)).toNat]

/-- The tokens come in whole tiles. -/
class Tokens (N : ℕ) : Prop where
  eight : 8 ∣ N
  pos : 0 < N

/-- What the program needs of the number of rows of a slot. -/
class Slots (C : ℕ) (G : outParam ℕ) : Prop where
  rows_eq : C = 8 * G
  slot_squeeze : (SSlot1 C).Squeezes (SSlot C)
  cast_slot : (SSlot1 C).ShapeCasts (SSlot C)
  cast_out : (SSlot C).ShapeCasts (SOut C)
  pos_slot1 : 0 < (SSlot1 C).numel
  pos_out : 0 < (SOut C).numel
  dims_wf : DotDims.WF (SSlot C) SW (SSlot C) [1] [0] [0] [1] [] []
  trips_ok : (trips G).OK
  trips_eq : (trips G).trips = G
  base_eq : ∀ k : Fin (trips G).trips, (![(base k).toNat, 0] : Fin 2 → Nat) = ![8 * k.val, 0]
  loopOff_eq : ∀ (k : Fin (trips G).trips) (u : Fin 8), loopOff k u = ![0, 0, 8 * k.val + u.val]

export Slots (slot_squeeze cast_slot cast_out pos_slot1 pos_out trips_ok trips_eq base_eq loopOff_eq)

/-- The latent stream: 4096 tokens, 512 to an expert. -/
instance : Tokens 4096 := ⟨by decide, by decide⟩
instance : Slots 512 64 := by constructor <;> decide +kernel

/-- The context stream: 2048 tokens, 256 to an expert. -/
instance : Tokens 2048 := ⟨by decide, by decide⟩
instance : Slots 256 32 := by constructor <;> decide +kernel

variable {C N G : ℕ}
variable {F : FTy → Type} [FloatOps F] {nD : Nat} {τ : Topo} {sig : RefSig} {Λ : Labels}

/-- Where the tile of eight rows that holds row `v` of the token array begins. -/
def tileOff (v : BitVec 32) : Fin 3 → Nat := ![0, (Scalar.subi v (Scalar.andi v 7#32)).toNat, 0]

/-- The tile of row `v` begins at a multiple of eight and lies inside the token array. -/
def InTile (N : ℕ) (v : BitVec 32) : Prop :=
  8 ∣ (Scalar.subi v (Scalar.andi v 7#32)).toNat ∧ ∀ a, tileOff v a + STile1.size a ≤ (STok N).size a

instance InTile.dec (N : ℕ) (v : BitVec 32) : Decidable (InTile N v) := decidable_of_iff' _ (Iff.of_eq (InTile.eq_1 N v))

theorem cast_tile : STile1.ShapeCasts STile := by decide +kernel
theorem cast_same : STile.ShapeCasts STile := by decide +kernel
theorem rot_tile : STile.Rotates 0 none := by decide +kernel
theorem pos_tile1 : 0 < STile1.numel := by decide +kernel
theorem pos_tile : 0 < STile.numel := by decide +kernel

/-- Row `u` of the tile under construction: read the word at `off`, read the tile that holds the token it names,
    turn that tile until the token's row is row `u`, and keep `acc` on every other row. -/
def row (idx : Memref sig .tc .smem (SIdx C) .i32) (tok : Memref sig .tc .vmem (STok N) .f32)
    (P : BitVec 32 → Prop) (dec : ∀ v, Decidable (P v)) (hP : ∀ v, P v → ∀ a, tileOff v a + STile1.size a ≤ (STok N).size a)
    (lane : IVec STile 32) (off : Fin 3 → Nat) (hoff : ∀ a, off a + SWord.size a ≤ (SIdx C).size a) (u : BitVec 32)
    (acc : FVec F STile .f32) : Prog (TpuEff nD τ sig (Elt F) Λ .tc) (FVec F STile .f32) := do
  let v : Elt F .i32 ← smemLoad idx (Rect.unit (s := (SIdx C)) off SWord.size hoff) rfl rfl
  have hv : P v := (← Prog.lift (TpuEff.assume (P v) (dec v))).down
  let t : Vec F STile1 .f32 ← Prog.lift (.load tok (Rect.unit (s := (STok N)) (tileOff v) STile1.size (hP v hv)).toLoadRect
    (View.loadsAt_vmem pos_tile1))
  pure (select (cmpi .eq lane (broadcast STile u))
    (dynamicRotate 0 (Scalar.andi (Scalar.subi u (Scalar.andi v 7#32)) 7#32) none (shapeCast STile t cast_tile) rot_tile) acc)

/-- One group: eight rows, stored as one tile of the slot at `soff`. -/
def group (idx : Memref sig .tc .smem (SIdx C) .i32) (tok : Memref sig .tc .vmem (STok N) .f32)
    (P : BitVec 32 → Prop) (dec : ∀ v, Decidable (P v)) (hP : ∀ v, P v → ∀ a, tileOff v a + STile1.size a ≤ (STok N).size a)
    (lane : IVec STile 32) (off : Fin 8 → Fin 3 → Nat) (hoff : ∀ u a, off u a + SWord.size a ≤ (SIdx C).size a)
    (slot : Memref sig .tc .vmem (SSlot C) .f32) (soff : Fin 2 → Nat) (hs : ∀ a, soff a + STile.size a ≤ (SSlot C).size a) :
    Prog (TpuEff nD τ sig (Elt F) Λ .tc) PUnit := do
  let a0 : FVec F STile .f32 ← row idx tok P dec hP lane (off 0) (hoff 0) 0#32 (broadcast STile (Scalar.ofBits .f32 0x00000000#32))
  let a1 : FVec F STile .f32 ← row idx tok P dec hP lane (off 1) (hoff 1) 1#32 a0
  let a2 : FVec F STile .f32 ← row idx tok P dec hP lane (off 2) (hoff 2) 2#32 a1
  let a3 : FVec F STile .f32 ← row idx tok P dec hP lane (off 3) (hoff 3) 3#32 a2
  let a4 : FVec F STile .f32 ← row idx tok P dec hP lane (off 4) (hoff 4) 4#32 a3
  let a5 : FVec F STile .f32 ← row idx tok P dec hP lane (off 5) (hoff 5) 5#32 a4
  let a6 : FVec F STile .f32 ← row idx tok P dec hP lane (off 6) (hoff 6) 6#32 a5
  let a7 : FVec F STile .f32 ← row idx tok P dec hP lane (off 7) (hoff 7) 7#32 a6
  let _ : Vec F STile .f32 ← Prog.lift (.load slot (Rect.unit (s := (SSlot C)) soff STile.size hs).toLoadRect (View.loadsAt_vmem pos_tile))
  Prog.lift (.store slot (Rect.unit (s := (SSlot C)) soff STile.size hs) (shapeCast STile a7 cast_same) Finset.univ
    (View.stores_vmem_bits_univ pos_tile rfl) (.inl rfl))

theorem wordIn (k : Nat) (hk : k < C) : ∀ a, (![0, 0, k] : Fin 3 → Nat) a + SWord.size a ≤ (SIdx C).size a := by
  intro a; fin_cases a <;> simp [SWord, SIdx]; omega

theorem tileIn [Slots C G] (g : Nat) (hg : g < G) : ∀ a, (![8 * g, 0] : Fin 2 → Nat) a + STile.size a ≤ (SSlot C).size a := by
  have h := Slots.rows_eq (C := C)
  intro a; fin_cases a <;> simp [STile, SSlot]; omega

/-- The `n` groups from group `g` on, group `g` from the words `8g … 8g+7` into rows `8g … 8g+7` of the slot. -/
def groups [Slots C G] (idx : Memref sig .tc .smem (SIdx C) .i32) (tok : Memref sig .tc .vmem (STok N) .f32) (lane : IVec STile 32)
    (slot : Memref sig .tc .vmem (SSlot C) .f32) : (n g : Nat) → g + n ≤ G → Prog (TpuEff nD τ sig (Elt F) Λ .tc) PUnit
  | 0, _, _ => pure ⟨⟩
  | n + 1, g, h => do
    group idx tok (InTile N) (InTile.dec N) (fun _ h => h.2) lane (fun u => ![0, 0, 8 * g + u.val])
      (fun u => wordIn _ (by have := u.isLt; have := Slots.rows_eq (C := C); omega)) slot ![8 * g, 0] (tileIn g (by omega))
    groups idx tok lane slot n (g + 1) (by omega)

/-! ## Filling slot 0 for the first expert: the same groups in a counted loop -/

/-- The point is the first of its batch, as the kernel decides it from the expert's number `e`. -/
def atFirst (e : BitVec 32) : BitVec 1 := Scalar.cmpi .ne (Scalar.extui (Scalar.cmpi .eq e 0#32) : BitVec 32) 0#32

/-- The condition on a token's number inside the conditional. -/
def InTileIf (N : ℕ) (e v : BitVec 32) : Prop :=
  (∀ (_ : atFirst e = 1#1), 8 ∣ (Scalar.subi v (Scalar.andi v 7#32)).toNat)
    ∧ (∀ (_ : atFirst e = 1#1), ∀ a, tileOff v a + STile1.size a ≤ (STok N).size a)

instance InTileIf.dec (N : ℕ) (e v : BitVec 32) : Decidable (InTileIf N e v) := decidable_of_iff' _ (Iff.of_eq (InTileIf.eq_1 N e v))

theorem cast_w : SW1.ShapeCasts SW := by decide +kernel
theorem pos_w1 : 0 < SW1.numel := by decide +kernel
theorem iota_tile : STile.Iotas .tc 32 [0] := by decide +kernel

/-- The slot of the scratch at `off`, as a matrix. -/
def slotAt [Slots C G] (scr : Memref sig .tc .vmem (SScr C) .f32) (off : Fin 3 → Nat) (h : ∀ a, off a + (SSlot1 C).size a ≤ (SScr C).size a) :
    Memref sig .tc .vmem (SSlot C) .f32 :=
  (scr.slice (Rect.unit (s := (SScr C)) off (SSlot1 C).size h) (fun _ => rfl)).squeeze (SSlot C) slot_squeeze

theorem slot0In : ∀ a, (![0, 0, 0] : Fin 3 → Nat) a + (SSlot1 C).size a ≤ (SScr C).size a := by
  intro a; fin_cases a <;> simp [SSlot1, SScr]

theorem group_lt [Slots C G] (k : Fin (trips G).trips) : k.val < G := Nat.lt_of_lt_of_eq k.isLt (trips_eq (C := C))

theorem loopOff_in [Slots C G] (k : Fin (trips G).trips) (u : Fin 8) : ∀ a, loopOff k u a + SWord.size a ≤ (SIdx C).size a := by
  have h := Slots.rows_eq (C := C)
  have := group_lt (C := C) k
  have := u.isLt
  rw [loopOff_eq (C := C)]
  exact wordIn _ (by omega)

theorem base_in [Slots C G] (k : Fin (trips G).trips) : ∀ a, (![(base k).toNat, 0] : Fin 2 → Nat) a + STile.size a ≤ (SSlot C).size a := by
  rw [base_eq (C := C)]
  exact tileIn _ (group_lt (C := C) k)

/-- At a batch's first point: gather the first expert's rows into slot 0. -/
def first [Slots C G] (e : BitVec 32) (idx : Memref sig .tc .smem (SIdx C) .i32) (tok : Memref sig .tc .vmem (STok N) .f32)
    (scr : Memref sig .tc .vmem (SScr C) .f32) (lane : IVec STile 32) : Prog (TpuEff nD τ sig (Elt F) Λ .tc) PUnit :=
  if c : atFirst e = 1#1 then do
    Scf.Loop.for (trips G) (trips_ok (C := C)) ⟨⟩ fun k _ => do
      group idx tok (InTileIf N e) (InTileIf.dec N e) (fun _ h => h.2 c) lane (loopOff k) (loopOff_in k)
        (slotAt scr ![0, 0, 0] slot0In) ![(base k).toNat, 0] (base_in k)
      pure ⟨⟩
    pure ⟨⟩
  else pure ⟨⟩

/-! ## The expert's product -/

/-- The dimensions of the products: rows of the left against columns of the right. -/
def dims [Slots C G] : DotDims (SSlot C) SW (SSlot C) where
  lhsContracting := [1]
  rhsContracting := [0]
  lhsNonContracting := [0]
  rhsNonContracting := [1]
  lhsBatch := []
  rhsBatch := []
  wf := Slots.dims_wf

/-- A weight block as a matrix. -/
abbrev asW (w : Vec F SW1 .bf16) : FVec F SW .bf16 := shapeCast SW w cast_w

/-- The rows gathered for the expert, rounded. -/
def rows [Slots C G] (x : Vec F (SSlot1 C) .f32) : FVec F (SSlot C) .bf16 := truncf .bf16 (shapeCast (SSlot C) x cast_slot : FVec F (SSlot C) .f32) (by decide)

/-- One product, from zero. -/
def prod [Slots C G] (x : FVec F (SSlot C) .bf16) (w : Vec F SW1 .bf16) : FVec F (SSlot C) .f32 :=
  matmul dims none x (asW w) (constant (SSlot C) .f32 0x00000000#32)

/-- The hidden layer `silu(x·wg) * (x·wu)`, rounded. -/
def hidden [Slots C G] (x : Vec F (SSlot1 C) .f32) (wg wu : Vec F SW1 .bf16) : FVec F (SSlot C) .bf16 :=
  truncf .bf16 (mulf (mulf (prod (rows x) wg)
    (divf (broadcast (SSlot C) (Scalar.ofBits .f32 0x3F800000#32))
      (addf (broadcast (SSlot C) (Scalar.ofBits .f32 0x3F800000#32))
        (exp (subf (broadcast (SSlot C) (Scalar.ofBits .f32 0x00000000#32)) (prod (rows x) wg))))))
    (prod (rows x) wu)) (by decide)

/-- The output block of the expert. -/
def outBlock [Slots C G] (x : Vec F (SSlot1 C) .f32) (wg wu wd : Vec F SW1 .bf16) : Vec F (SOut C) .f32 :=
  shapeCast (SOut C) (prod (hidden x wg wu) wd) cast_out

theorem wIn : ∀ a, (![0, 0, 0] : Fin 3 → Nat) a + SW1.size a ≤ SW1.size a := by decide +kernel
theorem outIn : ∀ a, (![0, 0, 0, 0] : Fin 4 → Nat) a + (SOut C).size a ≤ (SOut C).size a := by
  intro a; fin_cases a <;> simp [SOut]

/-- From the expert's slot and its weights, its output block. -/
def product [Slots C G] (scr : Memref sig .tc .vmem (SScr C) .f32) (off : Fin 3 → Nat) (h : ∀ a, off a + (SSlot1 C).size a ≤ (SScr C).size a)
    (wg wu wd : Memref sig .tc .vmem SW1 .bf16) (out : Memref sig .tc .vmem (SOut C) .f32) :
    Prog (TpuEff nD τ sig (Elt F) Λ .tc) PUnit := do
  let x : Vec F (SSlot1 C) .f32 ← Prog.lift (.load scr (Rect.unit (s := (SScr C)) off (SSlot1 C).size h).toLoadRect (View.loadsAt_vmem pos_slot1))
  let g : Vec F SW1 .bf16 ← Prog.lift (.load wg (Rect.unit (s := SW1) ![0, 0, 0] SW1.size wIn).toLoadRect (View.loadsAt_vmem pos_w1))
  let u : Vec F SW1 .bf16 ← Prog.lift (.load wu (Rect.unit (s := SW1) ![0, 0, 0] SW1.size wIn).toLoadRect (View.loadsAt_vmem pos_w1))
  let d : Vec F SW1 .bf16 ← Prog.lift (.load wd (Rect.unit (s := SW1) ![0, 0, 0] SW1.size wIn).toLoadRect (View.loadsAt_vmem pos_w1))
  let _ : Vec F (SOut C) .f32 ← Prog.lift (.load out (Rect.unit (s := (SOut C)) ![0, 0, 0, 0] (SOut C).size outIn).toLoadRect (View.loadsAt_vmem pos_out))
  Prog.lift (.store out (Rect.unit (s := (SOut C)) ![0, 0, 0, 0] (SOut C).size outIn) (outBlock x g u d) Finset.univ
    (View.stores_vmem_bits_univ pos_out rfl) (.inl rfl))

/-- The slot the point reads, and the slot it fills for the next. -/
def curOff (e : BitVec 32) : Fin 3 → Nat := ![(Scalar.andi e 1#32).toNat, 0, 0]
def nxtOff (e : BitVec 32) : Fin 3 → Nat := ![(Scalar.subi 1#32 (Scalar.andi e 1#32)).toNat, 0, 0]

/-- The body at expert `e`: fill slot 0 if this is the batch's first point, multiply the expert's rows, fill the other
    slot with the next expert's rows. -/
def body [Slots C G] (e : BitVec 32) (hcur : ∀ a, curOff e a + (SSlot1 C).size a ≤ (SScr C).size a) (hnxt : ∀ a, nxtOff e a + (SSlot1 C).size a ≤ (SScr C).size a)
    (idx nxt : Memref sig .tc .smem (SIdx C) .i32) (tok : Memref sig .tc .vmem (STok N) .f32)
    (wg wu wd : Memref sig .tc .vmem SW1 .bf16) (out : Memref sig .tc .vmem (SOut C) .f32) (scr : Memref sig .tc .vmem (SScr C) .f32) :
    Prog (TpuEff nD τ sig (Elt F) Λ .tc) PUnit := do
  first e idx tok scr (iota .tc STile 32 [0] iota_tile)
  product scr (curOff e) hcur wg wu wd out
  groups nxt tok (iota .tc STile 32 [0] iota_tile) (slotAt scr (nxtOff e) hnxt) G 0 (Nat.zero_add G).le

end Cert.Experts

end
-- ==== Proof.ExpertsTile.lean ====
/-
  One tile of gathered rows, read at an index: turning the tile that holds a token until the token's row is row `u`,
  and keeping row `u` alone, leaves the eight tokens' rows one below the other.
-/
module

public import proofs.«01_k».proof.Proof.Experts
public import Idealize.ShloMosaic.Lib.KernelVsHost
public import Idealize.ShloMosaic.Lib.Pointwise
public import Idealize.ShloMosaic.Lib.WritesUnit

@[expose] public section

set_option maxRecDepth 16384

noncomputable section

namespace Cert.Experts

open Idealize.ShloMosaic Idealize.SL.Sem Idealize.ShloMosaic.Tactic

variable {C N G : ℕ} [Tokens N] {F : FTy → Type} [FloatOps F] {nD : Nat} {τ : Topo} {sig : RefSig} {Λ : Labels}

/-! ## Where a token's tile begins, and its row inside the tile -/

theorem and_seven (v : BitVec 32) : (Scalar.andi v 7#32).toNat = v.toNat % 8 := by
  show (v &&& 7#32).toNat = _
  rw [BitVec.toNat_and]
  exact Nat.and_two_pow_sub_one_eq_mod v.toNat 3

theorem tile_start (v : BitVec 32) : (Scalar.subi v (Scalar.andi v 7#32)).toNat = 8 * (v.toNat / 8) := by
  have h := and_seven v
  have hv := v.isLt
  show (v - Scalar.andi v 7#32).toNat = _
  rw [BitVec.toNat_sub, h]
  omega

/-- A token's number below N satisfies what the body assumes of it. -/
theorem inTile_of_lt {v : BitVec 32} (h : v.toNat < N) : InTile N v := by
  refine ⟨⟨_, tile_start v⟩, fun a => ?_⟩
  fin_cases a
  · show 0 + 1 ≤ 1; omega
  · have := Tokens.eight (N := N)
    show (Scalar.subi v (Scalar.andi v 7#32)).toNat + 8 ≤ N
    rw [tile_start]; omega
  · show 0 + 1024 ≤ 1024; omega

theorem inTileIf_of_lt (e : BitVec 32) {v : BitVec 32} (h : v.toNat < N) : InTileIf N e v :=
  ⟨fun _ => (inTile_of_lt h).1, fun _ => (inTile_of_lt h).2⟩

/-- The distance by which the tile of a token at row `x` is turned, for row `u`. -/
theorem turn (v : BitVec 32) (u : Fin 8) :
    (Scalar.andi (Scalar.subi (BitVec.ofNat 32 u.val) (Scalar.andi v 7#32)) 7#32).toNat = (u.val + 8 - v.toNat % 8) % 8 := by
  rw [and_seven]
  have h := and_seven v
  have hu := u.isLt
  show (BitVec.ofNat 32 u.val - Scalar.andi v 7#32).toNat % 8 = _
  rw [BitVec.toNat_sub, h, BitVec.toNat_ofNat]
  omega

/-! ## The rows gathered -/

/-- The token a word names. -/
def token (v : BitVec 32) : Fin N := ⟨v.toNat % N, Nat.mod_lt _ Tokens.pos⟩

/-- Row `r` is the row of the token array that word `r` names. -/
def gathered (I : (SIdx C).Idx → BitVec 32) (T : (STok N).Idx → F .f32) (r : Fin C) (y : Fin 1024) : F .f32 :=
  T (ix3 (0 : Fin 1) (token (I (ix3 (0 : Fin 1) (0 : Fin 1) r))) y)

/-- One step of the tile under construction, on what was read. -/
def rowVal (lane : IVec STile 32) (u v : BitVec 32) (t : Vec F STile1 .f32) (acc : FVec F STile .f32) : FVec F STile .f32 :=
  select (cmpi .eq lane (broadcast STile u))
    (dynamicRotate 0 (Scalar.andi (Scalar.subi u (Scalar.andi v 7#32)) 7#32) none (shapeCast STile t cast_tile) rot_tile) acc

theorem lane_apply (x : Fin 8) (y : Fin 1024) : iota .tc STile 32 [0] iota_tile (ix2 x y) = BitVec.ofNat 32 x.val := by
  pointwise

theorem lane_eq (x u : Fin 8) : IntOp.cmpi .eq (BitVec.ofNat 32 x.val) (BitVec.ofNat 32 u.val) = BitVec.ofBool (decide (x = u)) := by
  revert x u; decide +kernel

/-- At row `u` the step puts the token's row, elsewhere it keeps what was there. -/
theorem rowVal_apply (u : Fin 8) (v : BitVec 32) (hv : v.toNat < N) (T : (STok N).Idx → F .f32)
    (h : ∀ a, tileOff v a + STile1.size a ≤ (STok N).size a) (acc : FVec F STile .f32) (x : Fin 8) (y : Fin 1024) :
    rowVal (iota .tc STile 32 [0] iota_tile) (BitVec.ofNat 32 u.val) v
        (fun z => T ((Rect.unit (s := (STok N)) (tileOff v) STile1.size h).emb z)) acc (ix2 x y)
      = if x = u then T (ix3 (0 : Fin 1) (token v) y) else acc (ix2 x y) := by
  unfold rowVal
  show Scalar.select (IntOp.cmpi .eq (iota .tc STile 32 [0] iota_tile (ix2 x y)) (BitVec.ofNat 32 u.val)) _ _ = _
  rw [lane_apply, lane_eq]
  by_cases hx : x = u
  · subst hx
    rw [if_pos rfl]
    show (if BitVec.ofBool (decide (x = x)) = 1 then _ else _) = _
    rw [if_pos (by rw [decide_eq_true rfl]; rfl)]
    have hx := x.isLt
    rw [dynamicRotate_apply (s := STile) 0 _ _ rot_tile (ix2 x y) (ix2 (⟨v.toNat % 8, Nat.mod_lt _ (by decide)⟩ : Fin 8) y) ?_]
    · rw [shapeCast_apply _ cast_tile _ (ix3 (0 : Fin 1) (⟨v.toNat % 8, Nat.mod_lt _ (by decide)⟩ : Fin 8) y) ?_]
      · refine congrArg T (funext fun a => Fin.ext ?_)
        fin_cases a
        · rfl
        · show (Scalar.subi v (Scalar.andi v 7#32)).toNat + 1 * (v.toNat % 8) = v.toNat % N
          rw [tile_start, Nat.mod_eq_of_lt hv]; omega
        · show 0 + 1 * y.val = y.val; omega
      · rw [Shape.rowMajor_val_three, Shape.rowMajor_val_two]
        show (0 * 8 + v.toNat % 8) * 1024 + y.val = (v.toNat % 8) * 1024 + y.val
        omega
    · intro b
      fin_cases b
      · show v.toNat % 8 = (x.val + 8 - (Scalar.andi (Scalar.subi (BitVec.ofNat 32 x.val) (Scalar.andi v 7#32)) 7#32).toNat % 8) % 8
        rw [turn]; omega
      · rfl
  · rw [if_neg hx]
    show (if BitVec.ofBool (decide (x = u)) = 1 then _ else _) = _
    rw [if_neg (by rw [decide_eq_false hx]; decide)]

/-- Eight steps leave the eight tokens' rows. -/
theorem eight_rows (T : (STok N).Idx → F .f32) (v : Fin 8 → BitVec 32) (hv : ∀ u, (v u).toNat < N)
    (h : ∀ u a, tileOff (v u) a + STile1.size a ≤ (STok N).size a) (z : FVec F STile .f32) (x : Fin 8) (y : Fin 1024) :
    rowVal (iota .tc STile 32 [0] iota_tile) 7#32 (v 7) (fun i => T ((Rect.unit (s := (STok N)) (tileOff (v 7)) STile1.size (h 7)).emb i))
      (rowVal (iota .tc STile 32 [0] iota_tile) 6#32 (v 6) (fun i => T ((Rect.unit (s := (STok N)) (tileOff (v 6)) STile1.size (h 6)).emb i))
      (rowVal (iota .tc STile 32 [0] iota_tile) 5#32 (v 5) (fun i => T ((Rect.unit (s := (STok N)) (tileOff (v 5)) STile1.size (h 5)).emb i))
      (rowVal (iota .tc STile 32 [0] iota_tile) 4#32 (v 4) (fun i => T ((Rect.unit (s := (STok N)) (tileOff (v 4)) STile1.size (h 4)).emb i))
      (rowVal (iota .tc STile 32 [0] iota_tile) 3#32 (v 3) (fun i => T ((Rect.unit (s := (STok N)) (tileOff (v 3)) STile1.size (h 3)).emb i))
      (rowVal (iota .tc STile 32 [0] iota_tile) 2#32 (v 2) (fun i => T ((Rect.unit (s := (STok N)) (tileOff (v 2)) STile1.size (h 2)).emb i))
      (rowVal (iota .tc STile 32 [0] iota_tile) 1#32 (v 1) (fun i => T ((Rect.unit (s := (STok N)) (tileOff (v 1)) STile1.size (h 1)).emb i))
      (rowVal (iota .tc STile 32 [0] iota_tile) 0#32 (v 0) (fun i => T ((Rect.unit (s := (STok N)) (tileOff (v 0)) STile1.size (h 0)).emb i)) z)))))))
      (ix2 x y) = T (ix3 (0 : Fin 1) (token (v x)) y) := by
  have step (u : Fin 8) (acc : FVec F STile .f32) := rowVal_apply u (v u) (hv u) T (h u) acc x y
  refine (step 7 _).trans ?_
  by_cases h7 : x = 7
  · subst h7; rw [if_pos rfl]
  rw [if_neg h7]
  refine (step 6 _).trans ?_
  by_cases h6 : x = 6
  · subst h6; rw [if_pos rfl]
  rw [if_neg h6]
  refine (step 5 _).trans ?_
  by_cases h5 : x = 5
  · subst h5; rw [if_pos rfl]
  rw [if_neg h5]
  refine (step 4 _).trans ?_
  by_cases h4 : x = 4
  · subst h4; rw [if_pos rfl]
  rw [if_neg h4]
  refine (step 3 _).trans ?_
  by_cases h3 : x = 3
  · subst h3; rw [if_pos rfl]
  rw [if_neg h3]
  refine (step 2 _).trans ?_
  by_cases h2 : x = 2
  · subst h2; rw [if_pos rfl]
  rw [if_neg h2]
  refine (step 1 _).trans ?_
  by_cases h1 : x = 1
  · subst h1; rw [if_pos rfl]
  rw [if_neg h1]
  refine (step 0 _).trans ?_
  obtain rfl : x = 0 := by
    have := x.isLt
    simp only [Fin.ext_iff] at h1 h2 h3 h4 h5 h6 h7 ⊢
    omega
  rw [if_pos rfl]

/-- The first `8 n` rows of the slot hold what they are to. -/
def Filled (slot : Memref sig .tc .vmem (SSlot C) .f32) (I : (SIdx C).Idx → BitVec 32) (T : (STok N).Idx → F .f32) (n : Nat)
    (f : slot.view.ty.Contents (Elt F)) : Prop :=
  ∀ (r : Fin C) (y : Fin 1024), r.val < 8 * n → slot.view.read (Elt F) f (ix2 r y) = gathered I T r y

/-- A tile of eight such rows stored below them extends them by eight. -/
theorem Filled.step {slot : Memref sig .tc .vmem (SSlot C) .f32} {I : (SIdx C).Idx → BitVec 32} {T : (STok N).Idx → F .f32} {g : Nat}
    {f : slot.view.ty.Contents (Elt F)} (hf : Filled slot I T g f) (hg : 8 * g + 8 ≤ C)
    (hs : ∀ a, (![8 * g, 0] : Fin 2 → Nat) a + STile.size a ≤ (SSlot C).size a) (w : FVec F STile .f32)
    (hw : ∀ (x : Fin 8) (y : Fin 1024), w (ix2 x y) = gathered I T ⟨8 * g + x.val, by have := x.isLt; omega⟩ y) :
    Filled slot I T (g + 1) (slot.view.writes (Elt F) f [⟨Rect.unit (s := (SSlot C)) ![8 * g, 0] STile.size hs, w⟩]) := by
  intro r y hr
  by_cases h : r.val < 8 * g
  · refine (View.read_writes_cons_rows_of_not_mem slot.view f hs w [] (ix2 r y) (W := 8) rfl ?_ ?_).trans (hf r y h)
    · rfl
    · left; exact h
  · refine (View.read_writes_cons_rows_of_mem slot.view f hs w [] (ix2 r y) (ix2 (⟨r.val - 8 * g, by omega⟩ : Fin 8) y) rfl ?_ rfl).trans ?_
    · show r.val = 8 * g + (r.val - 8 * g); omega
    · rw [hw]
      refine congrArg (fun r => gathered I T r y) (Fin.ext ?_)
      show 8 * g + (r.val - 8 * g) = r.val; omega

end Cert.Experts

end
-- ==== Proof.ExpertsRun.lean ====
/-
  The run of the expert kernel's body: what each part leaves in the buffers it is given.
-/
module

public import proofs.«01_k».proof.Proof.ExpertsTile
public import Idealize.ShloMosaic.Lib.Writes
public import Idealize.ShloMosaic.Lib.VecWindow
public import Idealize.ShloMosaic.Lib.ValueLayout
public import Idealize.ShloMosaic.Lib.Pipeline.Regions

@[expose] public section

set_option maxRecDepth 16384

noncomputable section

namespace Cert.Experts

open Idealize.ShloMosaic Idealize.SL.Sem Idealize.ShloMosaic.Tactic Idealize.ShloMosaic.TcCoe
open Idealize.SL Idealize.SL.RA Idealize.SL.BI
open scoped Idealize.SL.BI
open Idealize.SL.BI.BIBase Idealize.SL.BI.Laws Idealize.SL.ProofMode

variable {C N G : ℕ} [Tokens N] [Slots C G] {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ) (𝒱 : Variants) (c : Dev nD) (E : Set Name)

/-- The words and the token array, held at some shares. -/
def reads (c : Dev nD) (idx : Memref sig .tc .smem (SIdx C) .i32) (q : PosShare TreeShare) (fi : idx.view.ty.Contents (Elt F))
    (tok : Memref sig .tc .vmem (STok N) .f32) (q' : PosShare TreeShare) (ft : tok.view.ty.Contents (Elt F)) : sProp 𝕄 :=
  iprop((idx.view.loc (c : Thread nD τ) ↦[idx.view.set]{q} fi) ∗ (tok.view.loc (c : Thread nD τ) ↦[tok.view.set]{q'} ft))

/-- The one word at `![0, 0, k]` is word `k`. -/
theorem word_emb (k : Fin C) (h : ∀ a, (![0, 0, k.val] : Fin 3 → Nat) a + SWord.size a ≤ (SIdx C).size a) (z : SWord.Idx) :
    (Rect.unit (s := (SIdx C)) ![0, 0, k.val] SWord.size h).emb z = ix3 (0 : Fin 1) (0 : Fin 1) k := by
  funext a
  refine Fin.ext ?_
  have hz := (z a).isLt
  fin_cases a
  · show 0 + 1 * (z 0).val = 0; have : (z 0).val < 1 := (z 0).isLt; omega
  · show 0 + 1 * (z 1).val = 0; have : (z 1).val < 1 := (z 1).isLt; omega
  · show k.val + 1 * (z 2).val = k.val; have : (z 2).val < 1 := (z 2).isLt; omega

theorem one_pos : 0 < SWord.numel := by decide +kernel

/-- One row, as its three effects in order. -/
theorem row_eq (idx : Memref sig .tc .smem (SIdx C) .i32) (tok : Memref sig .tc .vmem (STok N) .f32)
    (P : BitVec 32 → Prop) (dec : ∀ v, Decidable (P v)) (hP : ∀ v, P v → ∀ a, tileOff v a + STile1.size a ≤ (STok N).size a)
    (lane : IVec STile 32) (off : Fin 3 → Nat) (hoff : ∀ a, off a + SWord.size a ≤ (SIdx C).size a) (u : BitVec 32)
    (acc : FVec F STile .f32) :
    (row idx tok P dec hP lane off hoff u acc : Prog (TpuEff nD τ sig (Elt F) Λ .tc) _)
      = smemLoadElt idx (Rect.unit (s := (SIdx C)) off SWord.size hoff) (View.loads_smem_one rfl rfl)
          (Shape.Idx.first one_pos)
          fun (v : Elt F .i32) => .op (.assume (P v) (dec v)) fun (hv : PLift (P v)) =>
            have hv' : P v := hv.down
            .op (.load tok (Rect.unit (s := (STok N)) (tileOff v) STile1.size (hP v hv')).toLoadRect (View.loadsAt_vmem pos_tile1))
              fun (t : Vec F STile1 .f32) => .ret (rowVal lane u v t acc) := by
  unfold row smemLoad
  rw [smemLoadElt_bind]
  chain_rfl

section Row

variable {idx : Memref sig .tc .smem (SIdx C) .i32} {q : PosShare TreeShare} {fi : idx.view.ty.Contents (Elt F)}
  {tok : Memref sig .tc .vmem (STok N) .f32} {q' : PosShare TreeShare} {ft : tok.view.ty.Contents (Elt F)}
  {P : BitVec 32 → Prop} {dec : ∀ v, Decidable (P v)} {hP : ∀ v, P v → ∀ a, tileOff v a + STile1.size a ≤ (STok N).size a}

/-- One row: the word and its tile are read, nothing is written. -/
theorem row_wp {lane : IVec STile 32} {off : Fin 3 → Nat} {hoff : ∀ a, off a + SWord.size a ≤ (SIdx C).size a} {u : BitVec 32}
    {acc : FVec F STile .f32} {Q : FVec F STile .f32 → sProp 𝕄} (k : Fin C) (hk : off = ![0, 0, k.val]) (v : BitVec 32)
    (hv : idx.view.read (Elt F) fi (ix3 (0 : Fin 1) (0 : Fin 1) k) = v) (h : P v) :
    iprop(reads c idx q fi tok q' ft ∗ (reads c idx q fi tok q' ft -∗
        Q (rowVal lane u v ((tok.access (Rect.unit (s := (STok N)) (tileOff v) STile1.size (hP v h))).read (Elt F) ft) acc)))
      ⊢ wp (M := 𝕄) frame (wpE defs 𝒱 (c : Thread nD τ) none) E (row idx tok P dec hP lane off hoff u acc) Q := by
  subst hk
  have hw : ∀ z, (idx.access (Rect.unit (s := (SIdx C)) ![0, 0, k.val] SWord.size hoff)).read (Elt F) fi z = v := by
    intro z
    rw [← hv]
    exact congrArg (idx.view.read (Elt F) fi) (word_emb k hoff z)
  rw [row_eq]
  unfold reads
  iintro ⟨⟨H0, H1⟩, HQ⟩
  iapply (wp_smemLoadElt 𝒱 (c : Thread nD τ) none E (m := idx) (r := Rect.unit (s := (SIdx C)) ![0, 0, k.val] SWord.size hoff) (S := idx.view.set) (View.set_slice_subset _ _)) $$ H0
  iintro H0
  rw [hw]
  iapply (wp_assume 𝒱 (c : Thread nD τ) none E h)
  iapply (wp_load_rect 𝒱 (c : Thread nD τ) none E (m := tok) (r := Rect.unit (s := (STok N)) (tileOff v) STile1.size (hP v h)) (S := tok.view.set) (View.set_slice_subset _ _)) $$ H1
  iintro H1
  sl_step
  iapply HQ
  isplitl [H0]
  · iexact H0
  · iexact H1

/-- One group: eight more rows of the slot hold what they are to. -/
theorem group_wp {off : Fin 8 → Fin 3 → Nat} {hoff : ∀ u a, off u a + SWord.size a ≤ (SIdx C).size a}
    {slot : Memref sig .tc .vmem (SSlot C) .f32} {soff : Fin 2 → Nat} {hs : ∀ a, soff a + STile.size a ≤ (SSlot C).size a}
    {S : Finset slot.view.ty.Idx} {fs : slot.view.ty.Contents (Elt F)} {Q : PUnit → sProp 𝕄} (g : Nat) (hg : g < G)
    (ho : ∀ u, off u = ![0, 0, 8 * g + u.val]) (hso : soff = ![8 * g, 0])
    (hlt : ∀ r, (idx.view.read (Elt F) fi r : BitVec 32).toNat < N) (hv : ∀ r, P (idx.view.read (Elt F) fi r))
    (hS : slot.view.set ⊆ S) (hf : Filled slot (idx.view.read (Elt F) fi) (tok.view.read (Elt F) ft) g fs) :
    iprop(reads c idx q fi tok q' ft ∗ (slot.view.loc (c : Thread nD τ) ↦[S]{fullShare} fs)
        ∗ (reads c idx q fi tok q' ft
            -∗ (∃ fs', ⌜Filled slot (idx.view.read (Elt F) fi) (tok.view.read (Elt F) ft) (g + 1) fs'⌝
                  ∗ (slot.view.loc (c : Thread nD τ) ↦[S]{fullShare} fs'))
            -∗ Q ⟨⟩))
      ⊢ wp (M := 𝕄) frame (wpE defs 𝒱 (c : Thread nD τ) none) E
          (group idx tok P dec hP (iota .tc STile 32 [0] iota_tile) off hoff slot soff hs) Q := by
  subst hso
  obtain rfl : off = fun u => ![0, 0, 8 * g + u.val] := funext ho
  have hC : 8 * g + 8 ≤ C := by have := Slots.rows_eq (C := C); omega
  unfold group
  iintro ⟨HR, HS, HQ⟩
  rw [wp_bind]
  iapply (row_wp defs 𝒱 c E ⟨8 * g + 0, by omega⟩ rfl (idx.view.read (Elt F) fi (ix3 (0 : Fin 1) (0 : Fin 1) ⟨8 * g + 0, by omega⟩)) rfl (hv _))
  isplitl [HR]
  · iexact HR
  iintro HR
  rw [wp_bind]
  iapply (row_wp defs 𝒱 c E ⟨8 * g + 1, by omega⟩ rfl (idx.view.read (Elt F) fi (ix3 (0 : Fin 1) (0 : Fin 1) ⟨8 * g + 1, by omega⟩)) rfl (hv _))
  isplitl [HR]
  · iexact HR
  iintro HR
  rw [wp_bind]
  iapply (row_wp defs 𝒱 c E ⟨8 * g + 2, by omega⟩ rfl (idx.view.read (Elt F) fi (ix3 (0 : Fin 1) (0 : Fin 1) ⟨8 * g + 2, by omega⟩)) rfl (hv _))
  isplitl [HR]
  · iexact HR
  iintro HR
  rw [wp_bind]
  iapply (row_wp defs 𝒱 c E ⟨8 * g + 3, by omega⟩ rfl (idx.view.read (Elt F) fi (ix3 (0 : Fin 1) (0 : Fin 1) ⟨8 * g + 3, by omega⟩)) rfl (hv _))
  isplitl [HR]
  · iexact HR
  iintro HR
  rw [wp_bind]
  iapply (row_wp defs 𝒱 c E ⟨8 * g + 4, by omega⟩ rfl (idx.view.read (Elt F) fi (ix3 (0 : Fin 1) (0 : Fin 1) ⟨8 * g + 4, by omega⟩)) rfl (hv _))
  isplitl [HR]
  · iexact HR
  iintro HR
  rw [wp_bind]
  iapply (row_wp defs 𝒱 c E ⟨8 * g + 5, by omega⟩ rfl (idx.view.read (Elt F) fi (ix3 (0 : Fin 1) (0 : Fin 1) ⟨8 * g + 5, by omega⟩)) rfl (hv _))
  isplitl [HR]
  · iexact HR
  iintro HR
  rw [wp_bind]
  iapply (row_wp defs 𝒱 c E ⟨8 * g + 6, by omega⟩ rfl (idx.view.read (Elt F) fi (ix3 (0 : Fin 1) (0 : Fin 1) ⟨8 * g + 6, by omega⟩)) rfl (hv _))
  isplitl [HR]
  · iexact HR
  iintro HR
  rw [wp_bind]
  iapply (row_wp defs 𝒱 c E ⟨8 * g + 7, by omega⟩ rfl (idx.view.read (Elt F) fi (ix3 (0 : Fin 1) (0 : Fin 1) ⟨8 * g + 7, by omega⟩)) rfl (hv _))
  isplitl [HR]
  · iexact HR
  iintro HR
  iapply (wp_load_rect 𝒱 (c : Thread nD τ) none E (m := slot) (r := Rect.unit (s := (SSlot C)) ![8 * g, 0] STile.size hs) (S := S)
    ((View.set_slice_subset _ _).trans hS)) $$ HS
  iintro HS
  iapply (wp_store_writes₀ 𝒱 (c : Thread nD τ) none E (m := slot) (r := Rect.unit (s := (SSlot C)) ![8 * g, 0] STile.size hs) (S := S)
    ((View.set_slice_subset _ _).trans hS)) $$ HS
  iintro HS
  sl_step
  iapply HQ $$ HR
  iexists _
  isplitr
  swap
  · iexact HS
  ipureintro
  refine hf.step hC hs _ fun x y => ?_
  rw [shapeCast_self]
  exact eight_rows (tok.view.read (Elt F) ft)
    (fun u => idx.view.read (Elt F) fi (ix3 (0 : Fin 1) (0 : Fin 1) ⟨8 * g + u.val, by have := u.isLt; omega⟩))
    (fun u => hlt _) (fun u => hP _ (hv _)) _ x y

/-- `n` groups from group `g` on. -/
theorem groups_wp {slot : Memref sig .tc .vmem (SSlot C) .f32} {S : Finset slot.view.ty.Idx}
    (hlt : ∀ r, (idx.view.read (Elt F) fi r : BitVec 32).toNat < N) (hS : slot.view.set ⊆ S) (n : Nat) :
    ∀ (g : Nat) (h : g + n ≤ G) (fs : slot.view.ty.Contents (Elt F)) (Q : PUnit → sProp 𝕄)
      (_ : Filled slot (idx.view.read (Elt F) fi) (tok.view.read (Elt F) ft) g fs),
    iprop(reads c idx q fi tok q' ft ∗ (slot.view.loc (c : Thread nD τ) ↦[S]{fullShare} fs)
        ∗ (reads c idx q fi tok q' ft
            -∗ (∃ fs', ⌜Filled slot (idx.view.read (Elt F) fi) (tok.view.read (Elt F) ft) (g + n) fs'⌝
                  ∗ (slot.view.loc (c : Thread nD τ) ↦[S]{fullShare} fs'))
            -∗ Q ⟨⟩))
      ⊢ wp (M := 𝕄) frame (wpE defs 𝒱 (c : Thread nD τ) none) E
          (groups idx tok (iota .tc STile 32 [0] iota_tile) slot n g h) Q := by
  induction n with
  | zero =>
    intro g h fs Q hf
    unfold groups
    iintro ⟨HR, HS, HQ⟩
    sl_step
    iapply HQ $$ HR
    iexists fs
    isplitr
    swap
    · iexact HS
    ipureintro
    exact hf
  | succ n ih =>
    intro g h fs Q hf
    unfold groups
    rw [wp_bind]
    iintro ⟨HR, HS, HQ⟩
    iapply (group_wp defs 𝒱 c E g (by omega) (fun _ => rfl) rfl hlt (fun r => inTile_of_lt (hlt r)) hS hf)
    isplitl [HR]
    · iexact HR
    isplitl [HS]
    · iexact HS
    iintro HR ⟨%fs1, %hf1, HS⟩
    iapply (ih (g + 1) _ fs1 Q hf1)
    isplitl [HR]
    · iexact HR
    isplitl [HS]
    · iexact HS
    rw [Nat.add_assoc g 1 n, Nat.add_comm 1 n]
    iexact HQ

end Row

/-! ## Slot 0, filled at a batch's first point -/

section First

variable {idx : Memref sig .tc .smem (SIdx C) .i32} {q : PosShare TreeShare} {fi : idx.view.ty.Contents (Elt F)}
  {tok : Memref sig .tc .vmem (STok N) .f32} {q' : PosShare TreeShare} {ft : tok.view.ty.Contents (Elt F)}

/-- A slot's elements are the scratch's. -/
theorem slot_subset (scr : Memref sig .tc .vmem (SScr C) .f32) (off : Fin 3 → Nat) (h : ∀ a, off a + (SSlot1 C).size a ≤ (SScr C).size a) :
    (slotAt scr off h).view.set ⊆ scr.view.set := by
  unfold slotAt
  exact (View.set_reshape _ _).le.trans (View.set_slice_subset scr.view _)

/-- One trip of the loop. -/
theorem trip_wp {scr : Memref sig .tc .vmem (SScr C) .f32} {fs : scr.view.ty.Contents (Elt F)} {Q : PUnit → sProp 𝕄} (e : BitVec 32)
    (h : atFirst e = 1#1) (hlt : ∀ r, (idx.view.read (Elt F) fi r : BitVec 32).toNat < N) (k : Fin (trips G).trips)
    (hf : Filled (slotAt scr ![0, 0, 0] slot0In) (idx.view.read (Elt F) fi) (tok.view.read (Elt F) ft) k.val fs) :
    iprop(reads c idx q fi tok q' ft ∗ (scr.view.loc (c : Thread nD τ) ↦[scr.view.set]{fullShare} fs)
        ∗ (reads c idx q fi tok q' ft
            -∗ (∃ fs' : scr.view.ty.Contents (Elt F),
                  ⌜Filled (slotAt scr ![0, 0, 0] slot0In) (idx.view.read (Elt F) fi) (tok.view.read (Elt F) ft) (k.val + 1) fs'⌝
                  ∗ (scr.view.loc (c : Thread nD τ) ↦[scr.view.set]{fullShare} fs'))
            -∗ Q ⟨⟩))
      ⊢ wp (M := 𝕄) frame (wpE defs 𝒱 (c : Thread nD τ) none) E
          (group idx tok (InTileIf N e) (InTileIf.dec N e) (fun _ h' => h'.2 h) (iota .tc STile 32 [0] iota_tile) (loopOff k) (loopOff_in k)
            (slotAt scr ![0, 0, 0] slot0In) ![(base k).toNat, 0] (base_in k)) Q :=
  group_wp defs 𝒱 c E (P := InTileIf N e) (dec := InTileIf.dec N e) (hP := fun _ h' => h'.2 h) (off := loopOff k) (hoff := loopOff_in k)
    (slot := slotAt scr ![0, 0, 0] slot0In) (soff := ![(base k).toNat, 0]) (hs := base_in k) (S := scr.view.set) (fs := fs) (Q := Q)
    k.val (Nat.lt_of_lt_of_eq k.isLt (trips_eq (C := C))) (loopOff_eq (C := C) k) (base_eq (C := C) k) hlt (fun r => inTileIf_of_lt e (hlt r))
    (slot_subset scr _ _) hf

/-- After the conditional fill, slot 0 is filled if the condition holds and is as it was if not. -/
theorem first_wp {scr : Memref sig .tc .vmem (SScr C) .f32} {fs : scr.view.ty.Contents (Elt F)} {Q : PUnit → sProp 𝕄} (e : BitVec 32)
    (hlt : ∀ r, (idx.view.read (Elt F) fi r : BitVec 32).toNat < N) :
    iprop(reads c idx q fi tok q' ft ∗ (scr.view.loc (c : Thread nD τ) ↦[scr.view.set]{fullShare} fs)
        ∗ (reads c idx q fi tok q' ft
            -∗ (∃ fs', ⌜(atFirst e = 1#1 → Filled (slotAt scr ![0, 0, 0] slot0In) (idx.view.read (Elt F) fi) (tok.view.read (Elt F) ft) G fs')
                    ∧ (atFirst e ≠ 1#1 → fs' = fs)⌝
                  ∗ (scr.view.loc (c : Thread nD τ) ↦[scr.view.set]{fullShare} fs'))
            -∗ Q ⟨⟩))
      ⊢ wp (M := 𝕄) frame (wpE defs 𝒱 (c : Thread nD τ) none) E
          (first e idx tok scr (iota .tc STile 32 [0] iota_tile)) Q := by
  unfold first
  by_cases h : atFirst e = 1#1
  · rw [dif_pos h, wp_bind]
    iintro ⟨HR, HS, HQ⟩
    iapply (Scf.wp_for frame (wpE defs 𝒱 (c : Thread nD τ) none) E _ _ _ (trips_ok (C := C)) ⟨⟩ _
      (fun k _ => iprop(reads c idx q fi tok q' ft
        ∗ ∃ fs', ⌜Filled (slotAt scr ![0, 0, 0] slot0In) (idx.view.read (Elt F) fi) (tok.view.read (Elt F) ft) k fs'⌝
            ∗ (scr.view.loc (c : Thread nD τ) ↦[scr.view.set]{fullShare} fs'))) ?_)
    · intro k acc
      rw [wp_bind]
      iintro ⟨HR, ⟨%fs', %hf, HS⟩⟩
      iapply (trip_wp defs 𝒱 c E e h hlt k hf)
      isplitl [HR]
      · iexact HR
      isplitl [HS]
      · iexact HS
      iintro HR HS
      sl_step
      isplitl [HR]
      · iexact HR
      iexact HS
    · isplitl [HR HS]
      · isplitl [HR]
        · iexact HR
        iexists fs
        isplitr
        swap
        · iexact HS
        ipureintro
        intro r y hr
        omega
      iintro %acc ⟨HR, ⟨%fs', %hf, HS⟩⟩
      sl_step
      iapply HQ $$ HR
      iexists fs'
      isplitr
      swap
      · iexact HS
      ipureintro
      exact ⟨fun _ => Eq.mp (congrArg (fun n => Filled (slotAt scr ![0, 0, 0] slot0In) (idx.view.read (Elt F) fi) (tok.view.read (Elt F) ft) n fs')
        (trips_eq (C := C))) hf, fun h' => absurd h h'⟩
  · rw [dif_neg h]
    iintro ⟨HR, HS, HQ⟩
    sl_step
    iapply HQ $$ HR
    iexists fs
    isplitr
    swap
    · iexact HS
    ipureintro
    exact ⟨fun h' => absurd h' h, fun _ => rfl⟩

end First

end Cert.Experts

end
-- ==== Proof.ExpertsPoint.lean ====
/-
  One grid point of the expert kernel: from the buffers' contents before the body to their contents after it.
-/
module

public import proofs.«01_k».proof.Proof.ExpertsRun

@[expose] public section

set_option maxRecDepth 16384

noncomputable section

namespace Cert.Experts

open Idealize.ShloMosaic Idealize.SL.Sem Idealize.ShloMosaic.Tactic Idealize.ShloMosaic.TcCoe
open Idealize.SL Idealize.SL.RA Idealize.SL.BI
open scoped Idealize.SL.BI
open Idealize.SL.BI.BIBase Idealize.SL.BI.Laws Idealize.SL.ProofMode

variable {C N G : ℕ} [Tokens N] [Slots C G] {F : FTy → Type} [FloatOps F] {nD : Nat} {τ : Topo} {sig : RefSig} {Λ : Labels}
variable {Ix : Type} [DecidableEq Ix] {Name : Type} [DecidableEq Name] {U : Type} [URA U] {Lvl : Type} [Preorder Lvl]

local notation "𝕄" => MT nD τ sig Ix (Elt F) Name U Lvl

variable (defs : Defs nD τ sig (Elt F) Λ) (𝒱 : Variants) (c : Dev nD) (E : Set Name)

/-- The expert's rows, as the product reads them. -/
def slotVal (I : (SIdx C).Idx → BitVec 32) (T : (STok N).Idx → F .f32) : Vec F (SSlot1 C) .f32 :=
  fun z => gathered I T (z (1 : Fin 3)) (z (2 : Fin 3))

/-- A filled slot, read through the scratch. -/
theorem slot_read {scr : Memref sig .tc .vmem (SScr C) .f32} {off : Fin 3 → Nat} {h : ∀ a, off a + (SSlot1 C).size a ≤ (SScr C).size a}
    {I : (SIdx C).Idx → BitVec 32} {T : (STok N).Idx → F .f32} {fs : scr.view.ty.Contents (Elt F)}
    (hf : Filled (slotAt scr off h) I T G fs) :
    (scr.access (Rect.unit (s := (SScr C)) off (SSlot1 C).size h)).read (Elt F) fs = slotVal I T := by
  funext z
  have hz0 : (z (0 : Fin 3)).val < 1 := (z (0 : Fin 3)).isLt
  refine Eq.trans ?_ (hf (z (1 : Fin 3)) (z (2 : Fin 3)) (Nat.lt_of_lt_of_eq (z (1 : Fin 3)).isLt (Slots.rows_eq (C := C))))
  show (scr.access (Rect.unit (s := (SScr C)) off (SSlot1 C).size h)).read (Elt F) fs z
    = (scr.access (Rect.unit (s := (SScr C)) off (SSlot1 C).size h)).read (Elt F) fs
        (Shape.reshapeEquiv slot_squeeze.numel_eq (ix2 (z (1 : Fin 3)) (z (2 : Fin 3))))
  refine congrArg _ ((Shape.reshapeEquiv_eq_of_rowMajor slot_squeeze.numel_eq ?_).symm)
  rw [Shape.rowMajor_val_three, Shape.rowMajor_val_two]
  rw [show (z (0 : Fin 3)).val = 0 by omega]
  show (0 * C + (z (1 : Fin 3)).val) * 1024 + (z (2 : Fin 3)).val = (z (1 : Fin 3)).val * 1024 + (z (2 : Fin 3)).val
  omega

section Product

variable {scr : Memref sig .tc .vmem (SScr C) .f32} {fs : scr.view.ty.Contents (Elt F)} {q : PosShare TreeShare}
  {wg wu wd : Memref sig .tc .vmem SW1 .bf16} {fg : wg.view.ty.Contents (Elt F)} {fu : wu.view.ty.Contents (Elt F)}
  {fd : wd.view.ty.Contents (Elt F)} {out : Memref sig .tc .vmem (SOut C) .f32} {fo : out.view.ty.Contents (Elt F)}

/-- The product: the slot and the weights are read, the output block is written. -/
theorem product_wp {off : Fin 3 → Nat} {h : ∀ a, off a + (SSlot1 C).size a ≤ (SScr C).size a} {Q : PUnit → sProp 𝕄}
    (x : Vec F (SSlot1 C) .f32) (hx : (scr.access (Rect.unit (s := (SScr C)) off (SSlot1 C).size h)).read (Elt F) fs = x) :
    iprop((scr.view.loc (c : Thread nD τ) ↦[scr.view.set]{fullShare} fs)
        ∗ (wg.view.loc (c : Thread nD τ) ↦[wg.view.set]{q} fg)
        ∗ (wu.view.loc (c : Thread nD τ) ↦[wu.view.set]{q} fu)
        ∗ (wd.view.loc (c : Thread nD τ) ↦[wd.view.set]{q} fd)
        ∗ (out.view.loc (c : Thread nD τ) ↦[out.view.set]{fullShare} fo)
        ∗ ((scr.view.loc (c : Thread nD τ) ↦[scr.view.set]{fullShare} fs)
            -∗ (wg.view.loc (c : Thread nD τ) ↦[wg.view.set]{q} fg)
            -∗ (wu.view.loc (c : Thread nD τ) ↦[wu.view.set]{q} fu)
            -∗ (wd.view.loc (c : Thread nD τ) ↦[wd.view.set]{q} fd)
            -∗ (∃ fo' : out.view.ty.Contents (Elt F), ⌜out.view.read (Elt F) fo' = outBlock x (wg.view.read (Elt F) fg)
                    (wu.view.read (Elt F) fu) (wd.view.read (Elt F) fd)⌝
                  ∗ (out.view.loc (c : Thread nD τ) ↦[out.view.set]{fullShare} fo'))
            -∗ Q ⟨⟩))
      ⊢ wp (M := 𝕄) frame (wpE defs 𝒱 (c : Thread nD τ) none) E (product scr off h wg wu wd out) Q := by
  subst hx
  have hw {w : Memref sig .tc .vmem SW1 .bf16} (f : w.view.ty.Contents (Elt F)) :
      (w.access (Rect.unit (s := SW1) ![0, 0, 0] SW1.size wIn)).read (Elt F) f = w.view.read (Elt F) f :=
    View.readAt_full w.view f wIn
  unfold product
  iintro ⟨HS, HG, HU, HD, HO, HQ⟩
  iapply (wp_load_rect 𝒱 (c : Thread nD τ) none E (m := scr) (r := Rect.unit (s := (SScr C)) off (SSlot1 C).size h) (S := scr.view.set)
    (View.set_slice_subset _ _)) $$ HS
  iintro HS
  iapply (wp_load_rect 𝒱 (c : Thread nD τ) none E (m := wg) (r := Rect.unit (s := SW1) ![0, 0, 0] SW1.size wIn) (S := wg.view.set)
    (View.set_slice_subset _ _)) $$ HG
  iintro HG
  iapply (wp_load_rect 𝒱 (c : Thread nD τ) none E (m := wu) (r := Rect.unit (s := SW1) ![0, 0, 0] SW1.size wIn) (S := wu.view.set)
    (View.set_slice_subset _ _)) $$ HU
  iintro HU
  iapply (wp_load_rect 𝒱 (c : Thread nD τ) none E (m := wd) (r := Rect.unit (s := SW1) ![0, 0, 0] SW1.size wIn) (S := wd.view.set)
    (View.set_slice_subset _ _)) $$ HD
  iintro HD
  iapply (wp_load_rect 𝒱 (c : Thread nD τ) none E (m := out) (r := Rect.unit (s := (SOut C)) ![0, 0, 0, 0] (SOut C).size outIn) (S := out.view.set)
    (View.set_slice_subset _ _)) $$ HO
  iintro HO
  iapply (wp_store_writes₀ 𝒱 (c : Thread nD τ) none E (m := out) (r := Rect.unit (s := (SOut C)) ![0, 0, 0, 0] (SOut C).size outIn)
    (S := out.view.set) (View.set_slice_subset _ _)) $$ HO
  iintro HO
  sl_step
  iapply HQ $$ HS HG HU HD
  iexists _
  isplitr
  swap
  · iexact HO
  ipureintro
  rw [← hw fg, ← hw fu, ← hw fd]
  exact View.read_writes_full out.view fo outIn _ []

end Product

/-! ## The whole body -/

theorem curOff_zero : curOff 0#32 = ![0, 0, 0] := by decide +kernel
theorem atFirst_iff : ∀ e : Fin 16, atFirst (BitVec.ofNat 32 e.val) = 1#1 ↔ e = 0 := by decide +kernel

/-- The body at expert `e`: the inputs are read, the output block is the expert's, the other slot holds the next
    expert's rows. -/
theorem body_wp (e : Fin 16) {hcur : ∀ a, curOff (BitVec.ofNat 32 e.val) a + (SSlot1 C).size a ≤ (SScr C).size a}
    {hnxt : ∀ a, nxtOff (BitVec.ofNat 32 e.val) a + (SSlot1 C).size a ≤ (SScr C).size a}
    {idx nxt : Memref sig .tc .smem (SIdx C) .i32} {tok : Memref sig .tc .vmem (STok N) .f32}
    {wg wu wd : Memref sig .tc .vmem SW1 .bf16} {out : Memref sig .tc .vmem (SOut C) .f32} {scr : Memref sig .tc .vmem (SScr C) .f32}
    (I J : (SIdx C).Idx → Elt F .i32) (T : (STok N).Idx → Elt F .f32) (g u d : Vec F SW1 .bf16)
    (hI : ∀ r, (I r : BitVec 32).toNat < N) (hJ : ∀ r, (J r : BitVec 32).toNat < N) {Q : PUnit → sProp 𝕄} :
    iprop(owns (c : Thread nD τ) idx fullShare I ∗ owns (c : Thread nD τ) nxt fullShare J ∗ owns (c : Thread nD τ) tok fullShare T
        ∗ owns (c : Thread nD τ) wg fullShare g ∗ owns (c : Thread nD τ) wu fullShare u ∗ owns (c : Thread nD τ) wd fullShare d
        ∗ (∃ o, owns (c : Thread nD τ) out fullShare o)
        ∗ (∃ fs : scr.view.ty.Contents (Elt F), ⌜e ≠ 0 → Filled (slotAt scr (curOff (BitVec.ofNat 32 e.val)) hcur) I T G fs⌝
            ∗ (scr.view.loc (c : Thread nD τ) ↦[scr.view.set]{fullShare} fs))
        ∗ (owns (c : Thread nD τ) idx fullShare I -∗ owns (c : Thread nD τ) nxt fullShare J -∗ owns (c : Thread nD τ) tok fullShare T
            -∗ owns (c : Thread nD τ) wg fullShare g -∗ owns (c : Thread nD τ) wu fullShare u -∗ owns (c : Thread nD τ) wd fullShare d
            -∗ owns (c : Thread nD τ) out fullShare (outBlock (slotVal I T) g u d)
            -∗ (∃ fs : scr.view.ty.Contents (Elt F), ⌜Filled (slotAt scr (nxtOff (BitVec.ofNat 32 e.val)) hnxt) J T G fs⌝
                ∗ (scr.view.loc (c : Thread nD τ) ↦[scr.view.set]{fullShare} fs))
            -∗ Q ⟨⟩))
      ⊢ wp (M := 𝕄) frame (wpE defs 𝒱 (c : Thread nD τ) none) E
          (body (BitVec.ofNat 32 e.val) hcur hnxt idx nxt tok wg wu wd out scr) Q := by
  unfold owns body
  iintro ⟨⟨%fi, %hi, Hi⟩, ⟨%fj, %hj, Hj⟩, ⟨%ft, %ht, Ht⟩, ⟨%fg, %hg, Hg⟩, ⟨%fu, %hu, Hu⟩, ⟨%fd, %hd, Hd⟩, ⟨%o, %fo, -, Ho⟩, ⟨%fs, %hs, Hs⟩, HQ⟩
  subst hi hj ht hg hu hd
  rw [wp_bind]
  iapply (first_wp defs 𝒱 c E (idx := idx) (q := fullShare) (fi := fi) (tok := tok) (q' := fullShare) (ft := ft) (scr := scr) (fs := fs)
    (BitVec.ofNat 32 e.val) hI)
  isplitl [Hi Ht]
  · unfold reads
    isplitl [Hi]
    · iexact Hi
    iexact Ht
  isplitl [Hs]
  · iexact Hs
  unfold reads
  iintro ⟨Hi, Ht⟩ ⟨%fs1, %h1, Hs⟩
  have hf : Filled (slotAt scr (curOff (BitVec.ofNat 32 e.val)) hcur) (idx.view.read (Elt F) fi) (tok.view.read (Elt F) ft) G fs1 := by
    by_cases h0 : e = 0
    · subst h0
      exact h1.1 ((atFirst_iff 0).mpr rfl)
    · have := h1.2 (fun h => h0 ((atFirst_iff e).mp h))
      subst this
      exact hs h0
  rw [wp_bind]
  iapply (product_wp defs 𝒱 c E (scr := scr) (fs := fs1) (q := fullShare) (wg := wg) (wu := wu) (wd := wd) (fg := fg) (fu := fu) (fd := fd)
    (out := out) (fo := fo) _ (slot_read hf))
  isplitl [Hs]
  · iexact Hs
  isplitl [Hg]
  · iexact Hg
  isplitl [Hu]
  · iexact Hu
  isplitl [Hd]
  · iexact Hd
  isplitl [Ho]
  · iexact Ho
  iintro Hs Hg Hu Hd ⟨%fo', %ho, Ho⟩
  iapply (groups_wp defs 𝒱 c E (idx := nxt) (q := fullShare) (fi := fj) (tok := tok) (q' := fullShare) (ft := ft)
    (slot := slotAt scr (nxtOff (BitVec.ofNat 32 e.val)) hnxt) (S := scr.view.set) hJ (slot_subset scr _ _) G 0 _ fs1 _
    (fun r y hr => absurd hr (by omega)))
  isplitl [Hj Ht]
  · unfold reads
    isplitl [Hj]
    · iexact Hj
    iexact Ht
  isplitl [Hs]
  · iexact Hs
  unfold reads
  iintro ⟨Hj, Ht⟩ ⟨%fs2, %h2, Hs⟩
  iapply HQ $$ [Hi] [Hj] [Ht] [Hg] [Hu] [Hd] [Ho]
  · iexists fi; isplitr; · ipureintro; rfl
    iexact Hi
  · iexists fj; isplitr; · ipureintro; rfl
    iexact Hj
  · iexists ft; isplitr; · ipureintro; rfl
    iexact Ht
  · iexists fg; isplitr; · ipureintro; rfl
    iexact Hg
  · iexists fu; isplitr; · ipureintro; rfl
    iexact Hu
  · iexists fd; isplitr; · ipureintro; rfl
    iexact Hd
  · iexists fo'; isplitr; · ipureintro; exact ho
    iexact Ho
  iexists fs2
  isplitr
  swap
  · iexact Hs
  ipureintro
  rw [Nat.zero_add] at h2
  exact h2

end Cert.Experts

end
-- ==== Proof.ExpertsBodyIdeal.lean ====
/-
  The printed body of the expert feed-forward kernel (idealized) is the body written with its repetition
  (Experts.lean): the two are equal as programs, by unfolding.
-/
module

public import proofs.«01_k».proof.Kernel2Ideal
public import proofs.«01_k».proof.Proof.Experts
public import Idealize.ShloMosaic.Lib.Pipeline.Regions

@[expose] public section

set_option maxRecDepth 65536

noncomputable section

namespace Cert.Kernel2Ideal

open Idealize.ShloMosaic Idealize.SL.Sem Cert.Experts

variable {F : FTy → Type} [FloatOps F] [Facts]
open Facts₀ Facts

-- (the printed body has some ten thousand operations: the unfolding exceeds the default budget)
set_option maxHeartbeats 0 in
/-- The body's first part: fill slot 0 at a batch's first point, then the expert's product. -/
theorem first_eq (i : grid0.Coords) (arg2 : Memref sig .tc .smem S1x1x512 .i32) (harg2 : arg2.IsWhole) (arg3 : Memref sig .tc .smem S1x1x512 .i32) (harg3 : arg3.IsWhole) (arg4 : Memref sig .tc .vmem S1x4096x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x512x1024 .f32) (harg8 : arg8.IsWhole) (arg9 : Memref sig .tc .vmem S2x512x1024 .f32) (harg9 : arg9.IsWhole) :
    k0_part4 (F := F) i arg2 harg2 arg3 harg3 arg4 harg4 arg5 harg5 arg6 harg6 arg7 harg7 arg8 harg8 arg9 harg9 =
      (do
        first (BitVec.ofNat 32 (i 1).val) arg2 arg4 arg9 (iota .tc STile 32 [0] iota_tile)
        product arg9 (curOff (BitVec.ofNat 32 (i 1).val)) (k0_off18_inb i) arg5 arg6 arg7 arg8
        pure ⟨iota .tc STile 32 [0] iota_tile, Scalar.andi (BitVec.ofNat 32 (i 1).val) 1#32, 1#32⟩) := by
  by_cases c : atFirst (BitVec.ofNat 32 (i 1).val) = 1#1
  · have c2 : k0_cond1 i = 1#1 := c
    unfold k0_part4 first
    rw [dif_pos c2, dif_pos c, bind_assoc]
    refine congrArg₂ (fun p q => p >>= q) ?_ ?_
    · rfl
    · rfl
  · have c2 : ¬ k0_cond1 i = 1#1 := c
    unfold k0_part4 first
    rw [dif_neg c2, dif_neg c]
    rfl

set_option maxHeartbeats 0 in
/-- The whole body. -/
theorem body_eq (i : grid0.Coords) (arg2 : Memref sig .tc .smem S1x1x512 .i32) (harg2 : arg2.IsWhole) (arg3 : Memref sig .tc .smem S1x1x512 .i32) (harg3 : arg3.IsWhole) (arg4 : Memref sig .tc .vmem S1x4096x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x512x1024 .f32) (harg8 : arg8.IsWhole) (arg9 : Memref sig .tc .vmem S2x512x1024 .f32) (harg9 : arg9.IsWhole) :
    cc0_expert_ffn (F := F) i arg2 harg2 arg3 harg3 arg4 harg4 arg5 harg5 arg6 harg6 arg7 harg7 arg8 harg8 arg9 harg9 =
      body (BitVec.ofNat 32 (i 1).val) (k0_off18_inb i) (k0_off27_inb i) arg2 arg3 arg4 arg5 arg6 arg7 arg8 arg9 := by
  unfold cc0_expert_ffn k0_part216 body
  rw [first_eq, bind_assoc, bind_assoc]
  refine congrArg (fun q => first _ arg2 arg4 arg9 _ >>= q) (funext fun _ => ?_)
  rw [bind_assoc]
  refine congrArg (fun q => product arg9 _ _ arg5 arg6 arg7 arg8 >>= q) (funext fun _ => ?_)
  show Eq _ _
  chain_rfl

end Cert.Kernel2Ideal

end
-- ==== Proof.ExpertsFrameIdeal.lean ====
/-
  The expert feed-forward kernel (idealized) over its grid: what the scratch holds between the grid points, the proof
  data of the pipeline, and the run — for token words below 4096.
-/
module

public import proofs.«01_k».proof.Proof.Gen.Kernel2Ideal.Frame
public import proofs.«01_k».proof.Proof.ExpertsBodyIdeal
public import proofs.«01_k».proof.Proof.ExpertsPoint
public import Idealize.ShloMosaic.Lib.Claim

@[expose] public section

set_option maxRecDepth 16384

noncomputable section

namespace Cert.Kernel2Ideal.Run

open Cert.Kernel2Ideal Cert.Kernel2Ideal.Gen Cert.Experts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

/-- The batch of a grid point, -/
abbrev batch (t : Fin cfg0.N) : Fin 8 := grid0.coords t 0

/-- and its expert. -/
abbrev expert (t : Fin cfg0.N) : Fin 16 := grid0.coords t 1

/-- The token words are in blocks of 512, one per grid point; the second window is at the next expert's. -/
theorem index_idx : ∀ t : Fin cfg0.N, win0_0.index t (0 : Fin 3) = 16 * (batch t).val + (expert t).val ∧ win0_0.index t (1 : Fin 3) = 0 ∧ win0_0.index t (2 : Fin 3) = 0 := by
  decide +kernel

theorem index_nxt : ∀ t : Fin cfg0.N, win0_1.index t (0 : Fin 3) = 16 * (batch t).val + min ((expert t).val + 1) 15 ∧ win0_1.index t (1 : Fin 3) = 0 ∧ win0_1.index t (2 : Fin 3) = 0 := by
  decide +kernel

/-- The tokens are the batch's, -/
theorem index_tok : ∀ t : Fin cfg0.N, win0_2.index t (0 : Fin 3) = (batch t).val ∧ win0_2.index t (1 : Fin 3) = 0 ∧ win0_2.index t (2 : Fin 3) = 0 := by
  decide +kernel

/-- the weights the expert's, -/
theorem index_wg : ∀ t : Fin cfg0.N, win0_3.index t (0 : Fin 3) = (expert t).val ∧ win0_3.index t (1 : Fin 3) = 0 ∧ win0_3.index t (2 : Fin 3) = 0 := by
  decide +kernel

theorem index_wu : ∀ t : Fin cfg0.N, win0_4.index t (0 : Fin 3) = (expert t).val ∧ win0_4.index t (1 : Fin 3) = 0 ∧ win0_4.index t (2 : Fin 3) = 0 := by
  decide +kernel

theorem index_wd : ∀ t : Fin cfg0.N, win0_5.index t (0 : Fin 3) = (expert t).val ∧ win0_5.index t (1 : Fin 3) = 0 ∧ win0_5.index t (2 : Fin 3) = 0 := by
  decide +kernel

/-- the output both. -/
theorem index_out : ∀ t : Fin cfg0.N, win0_6.index t (0 : Fin 4) = (batch t).val ∧ win0_6.index t (1 : Fin 4) = (expert t).val ∧ win0_6.index t (2 : Fin 4) = 0 ∧ win0_6.index t (3 : Fin 4) = 0 := by
  decide +kernel

theorem lt_points {k : ℕ} (h : k < 128) : k < cfg0.N := h.trans_eq (show 128 = cfg0.N from N_0.symm)

theorem coords_table : ∀ k : Fin 127, expert ⟨k.val + 1, lt_points (by omega)⟩ ≠ 0 →
    (batch ⟨k.val + 1, lt_points (by omega)⟩).val = (batch ⟨k.val, lt_points (by omega)⟩).val
      ∧ (expert ⟨k.val + 1, lt_points (by omega)⟩).val = (expert ⟨k.val, lt_points (by omega)⟩).val + 1 := by
  decide +kernel

/-- Within a batch the next grid point is the next expert of the same batch. -/
theorem coords_succ (t t' : Fin cfg0.N) (h : t'.val = t.val + 1) (h0 : expert t' ≠ 0) :
    (batch t').val = (batch t).val ∧ (expert t').val = (expert t).val + 1 := by
  have hN : cfg0.N = 128 := N_0
  obtain ⟨k, hk⟩ := t
  obtain ⟨k', hk'⟩ := t'
  dsimp only at h
  subst h
  exact coords_table ⟨k, by omega⟩ h0

/-- The grid begins at expert 0. -/
theorem expert_zero : expert ⟨0, lt_points (by omega)⟩ = 0 := by decide +kernel

/-- Its slot is this one's other slot. -/
theorem off_succ : ∀ e : Fin 15, nxtOff (BitVec.ofNat 32 e.val) = curOff (BitVec.ofNat 32 (e.val + 1)) := by decide +kernel

variable (m : (ℓ : Loc nD τ sig) → Buf (Elt F) ℓ) (ρ : Dev nD → PrngReg) (c : Dev nD) (t : Fin cfg0.N)

/-! ## The blocks, read in the arguments -/

/-- The windows' blocks at a grid point. -/
abbrev bIdx : (SIdx 512).Idx → Elt F .i32 := iblk m c 0 t
abbrev bNxt : (SIdx 512).Idx → Elt F .i32 := iblk m c 1 t
abbrev bTok : (STok 4096).Idx → Elt F .f32 := iblk m c 2 t
abbrev bWg : Vec F SW1 .bf16 := iblk m c 3 t
abbrev bWu : Vec F SW1 .bf16 := iblk m c 4 t
abbrev bWd : Vec F SW1 .bf16 := iblk m c 5 t

/-- The arguments. -/
abbrev aIdx : S128x1x512.Idx → Elt F .i32 := m ((c.tc : Thread nD τ).loc main_arg0)
abbrev aTok : Vec F S8x4096x1024 .f32 := m ((c.tc : Thread nD τ).loc main_arg1)
abbrev aWg : Vec F S16x1024x1024 .bf16 := m ((c.tc : Thread nD τ).loc main_arg2)
abbrev aWu : Vec F S16x1024x1024 .bf16 := m ((c.tc : Thread nD τ).loc main_arg3)
abbrev aWd : Vec F S16x1024x1024 .bf16 := m ((c.tc : Thread nD τ).loc main_arg4)

theorem bIdx_apply (a b : Fin 1) (r : Fin 512) :
    bIdx m c t (ix3 a b r) = aIdx m c (ix3 ⟨16 * (batch t).val + (expert t).val, by omega⟩ 0 r) := by
  obtain ⟨e0, e1, e2⟩ := index_idx t
  unfold bIdx iblk
  rw [View.read_apply]
  refine congrArg (m ((c.tc : Thread nD τ).loc main_arg0)) (funext fun x => Fin.ext ?_)
  refine (Window.rect_emb_val win0_0 t _ x).trans ?_
  fin_cases x
  · exact (congrArg (· * 1 + a.val) e0).trans (by show (_ : ℕ) = 16 * (batch t).val + (expert t).val; have := a.isLt; omega)
  · exact (congrArg (· * 1 + b.val) e1).trans (by show (_ : ℕ) = 0; have := b.isLt; omega)
  · exact (congrArg (· * 512 + r.val) e2).trans (by show (_ : ℕ) = r.val; omega)

theorem bNxt_apply (a b : Fin 1) (r : Fin 512) :
    bNxt m c t (ix3 a b r) = aIdx m c (ix3 ⟨16 * (batch t).val + min ((expert t).val + 1) 15, by omega⟩ 0 r) := by
  obtain ⟨e0, e1, e2⟩ := index_nxt t
  unfold bNxt iblk
  rw [View.read_apply]
  refine congrArg (m ((c.tc : Thread nD τ).loc main_arg0)) (funext fun x => Fin.ext ?_)
  refine (Window.rect_emb_val win0_1 t _ x).trans ?_
  fin_cases x
  · exact (congrArg (· * 1 + a.val) e0).trans (by show (_ : ℕ) = 16 * (batch t).val + min ((expert t).val + 1) 15; have := a.isLt; omega)
  · exact (congrArg (· * 1 + b.val) e1).trans (by show (_ : ℕ) = 0; have := b.isLt; omega)
  · exact (congrArg (· * 512 + r.val) e2).trans (by show (_ : ℕ) = r.val; omega)

theorem bTok_apply (n : Fin 4096) (y : Fin 1024) : bTok m c t (ix3 0 n y) = aTok m c (ix3 (batch t) n y) := by
  obtain ⟨e0, e1, e2⟩ := index_tok t
  unfold bTok iblk
  rw [View.read_apply]
  refine congrArg (m ((c.tc : Thread nD τ).loc main_arg1)) (funext fun x => Fin.ext ?_)
  refine (Window.rect_emb_val win0_2 t _ x).trans ?_
  fin_cases x
  · exact (congrArg (· * 1 + 0) e0).trans (by show (_ : ℕ) = (batch t).val; omega)
  · exact (congrArg (· * 4096 + n.val) e1).trans (by show (_ : ℕ) = n.val; omega)
  · exact (congrArg (· * 1024 + y.val) e2).trans (by show (_ : ℕ) = y.val; omega)

theorem bWg_apply (x y : Fin 1024) : bWg m c t (ix3 0 x y) = aWg m c (ix3 (expert t) x y) := by
  obtain ⟨e0, e1, e2⟩ := index_wg t
  unfold bWg iblk
  rw [View.read_apply]
  refine congrArg (m ((c.tc : Thread nD τ).loc main_arg2)) (funext fun z => Fin.ext ?_)
  refine (Window.rect_emb_val win0_3 t _ z).trans ?_
  fin_cases z
  · exact (congrArg (· * 1 + 0) e0).trans (by show (_ : ℕ) = (expert t).val; omega)
  · exact (congrArg (· * 1024 + x.val) e1).trans (by show (_ : ℕ) = x.val; omega)
  · exact (congrArg (· * 1024 + y.val) e2).trans (by show (_ : ℕ) = y.val; omega)

theorem bWu_apply (x y : Fin 1024) : bWu m c t (ix3 0 x y) = aWu m c (ix3 (expert t) x y) := by
  obtain ⟨e0, e1, e2⟩ := index_wu t
  unfold bWu iblk
  rw [View.read_apply]
  refine congrArg (m ((c.tc : Thread nD τ).loc main_arg3)) (funext fun z => Fin.ext ?_)
  refine (Window.rect_emb_val win0_4 t _ z).trans ?_
  fin_cases z
  · exact (congrArg (· * 1 + 0) e0).trans (by show (_ : ℕ) = (expert t).val; omega)
  · exact (congrArg (· * 1024 + x.val) e1).trans (by show (_ : ℕ) = x.val; omega)
  · exact (congrArg (· * 1024 + y.val) e2).trans (by show (_ : ℕ) = y.val; omega)

theorem bWd_apply (x y : Fin 1024) : bWd m c t (ix3 0 x y) = aWd m c (ix3 (expert t) x y) := by
  obtain ⟨e0, e1, e2⟩ := index_wd t
  unfold bWd iblk
  rw [View.read_apply]
  refine congrArg (m ((c.tc : Thread nD τ).loc main_arg4)) (funext fun z => Fin.ext ?_)
  refine (Window.rect_emb_val win0_5 t _ z).trans ?_
  fin_cases z
  · exact (congrArg (· * 1 + 0) e0).trans (by show (_ : ℕ) = (expert t).val; omega)
  · exact (congrArg (· * 1024 + x.val) e1).trans (by show (_ : ℕ) = x.val; omega)
  · exact (congrArg (· * 1024 + y.val) e2).trans (by show (_ : ℕ) = y.val; omega)

/-- Every token word is a row of the token array. -/
def Words (m : (ℓ : Loc nD τ sig) → Buf (Elt F) ℓ) : Prop := ∀ (c : Dev nD) (i : S128x1x512.Idx), (aIdx m c i : BitVec 32).toNat < 4096

theorem ix3_self (r : (SIdx 512).Idx) : r = ix3 (r 0 : Fin 1) (r 1 : Fin 1) (r 2 : Fin 512) := by
  funext a
  match a with
  | 0 => rfl
  | 1 => rfl
  | 2 => rfl

theorem bIdx_lt (hw : Words m) (r : (SIdx 512).Idx) : (bIdx m c t r : BitVec 32).toNat < 4096 := by
  rw [show bIdx m c t r = _ from (congrArg (bIdx m c t) (ix3_self r)).trans (bIdx_apply m c t (r 0) (r 1) (r 2))]; exact hw c _

theorem bNxt_lt (hw : Words m) (r : (SIdx 512).Idx) : (bNxt m c t r : BitVec 32).toNat < 4096 := by
  rw [show bNxt m c t r = _ from (congrArg (bNxt m c t) (ix3_self r)).trans (bNxt_apply m c t (r 0) (r 1) (r 2))]; exact hw c _

/-- The rows gathered ahead at a grid point are those the next one multiplies. -/
theorem gathered_next {t t' : Fin cfg0.N} (h : t'.val = t.val + 1) (h0 : expert t' ≠ 0) (r : Fin 512) (y : Fin 1024) :
    gathered (bNxt m c t) (bTok m c t) r y = gathered (bIdx m c t') (bTok m c t') r y := by
  obtain ⟨hb, he⟩ := coords_succ t t' h h0
  have hlt : (expert t').val < 16 := (expert t').isLt
  have e1 : bNxt m c t (ix3 0 0 r) = bIdx m c t' (ix3 0 0 r) := by
    rw [bNxt_apply, bIdx_apply]
    refine congrArg (fun k => aIdx m c (ix3 k 0 r)) (Fin.ext ?_)
    show 16 * (batch t).val + min ((expert t).val + 1) 15 = 16 * (batch t').val + (expert t').val
    omega
  unfold gathered
  rw [e1, bTok_apply, bTok_apply, show batch t = batch t' from Fin.ext hb.symm]

/-! ## The proof data -/

/-- The output block at a grid point. -/
def outsAt : Vec F (SOut 512) .f32 := outBlock (slotVal (bIdx m c t) (bTok m c t)) (bWg m c t) (bWu m c t) (bWd m c t)

/-- The scratch of two slots. -/
abbrev scr : Memref sig .tc .vmem (SScr 512) .f32 := Memref.whole cc0_scratch0

/-- The expert's slot, of the two. -/
abbrev curSlot : Memref sig .tc .vmem (SSlot 512) .f32 := slotAt scr (curOff (BitVec.ofNat 32 (expert t).val)) (k0_off18_inb (grid0.coords t))

/-- Between the grid points: the slot of the next point holds its rows, unless that point begins a batch. -/
def held (n : ℕ) : sProp 𝕄 :=
  iprop((∃ fs : scr.view.ty.Contents (Elt F),
      ⌜∀ h : n < cfg0.N, expert ⟨n, h⟩ ≠ 0 → Filled (curSlot ⟨n, h⟩) (bIdx m c ⟨n, h⟩) (bTok m c ⟨n, h⟩) 64 fs⌝
        ∗ (scr.view.loc (c : Thread nD τ) ↦[scr.view.set]{fullShare} fs))
    ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ n := held m c n.val
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = outsAt m c t := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d

/-! ## One point -/

/-- What the body is called with at a grid point, -/
def bodyPre : sProp 𝕄 :=
  iprop(held m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost : sProp 𝕄 :=
  iprop(held m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A slot's contents say the same of any words and tokens that gather the same rows; and a slot is its place. -/
theorem filled_next {t t' : Fin cfg0.N} (h : t'.val = t.val + 1) (h0 : expert t' ≠ 0) {fs : scr.view.ty.Contents (Elt F)}
    (hf : Filled (slotAt scr (nxtOff (BitVec.ofNat 32 (expert t).val)) (k0_off27_inb (grid0.coords t))) (bNxt m c t) (bTok m c t) 64 fs) :
    Filled (curSlot t') (bIdx m c t') (bTok m c t') 64 fs := by
  obtain ⟨hb, he⟩ := coords_succ t t' h h0
  have hlt : (expert t').val < 16 := (expert t').isLt
  have ho : nxtOff (BitVec.ofNat 32 (expert t).val) = curOff (BitVec.ofNat 32 (expert t').val) := by
    rw [he]
    exact off_succ ⟨(expert t).val, by omega⟩
  have key : ∀ (o : Fin 3 → ℕ) (e : o = curOff (BitVec.ofNat 32 (expert t').val)) (hi : ∀ a, o a + (SSlot1 512).size a ≤ (SScr 512).size a),
      Filled (slotAt scr o hi) (bNxt m c t) (bTok m c t) 64 fs → Filled (curSlot t') (bIdx m c t') (bTok m c t') 64 fs := by
    intro o e hi hf r y hr
    subst e
    exact (hf r y hr).trans (gathered_next m c h h0 r y)
  exact key _ ho _ hf

theorem sound_body (hw : Words m) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, body_eq]
  unfold outsAt
  unfold held
  iintro ⟨⟨⟨%fs, %hs, HS⟩, HP⟩, Ho, ⟨%d0, H0⟩, ⟨%d1, H1⟩, ⟨%d2, H2⟩, ⟨%d3, H3⟩, ⟨%d4, H4⟩, ⟨%d5, H5⟩, ⟨%d6, H6⟩⟩
  iapply (body_wp (defs₀ (F := F)) Variants.none c Set.univ (expert t) (idx := st0_0 t) (nxt := st0_1 t) (tok := st0_2 t) (wg := st0_3 t)
    (wu := st0_4 t) (wd := st0_5 t) (out := st0_6 t) (scr := scr) (bIdx m c t) (bNxt m c t) (bTok m c t) (bWg m c t) (bWu m c t) (bWd m c t)
    (bIdx_lt m c t hw) (bNxt_lt m c t hw))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]
  · iexists fs
    isplitr
    swap
    · iexact HS
    ipureintro
    exact fun h0 => hs t.isLt h0
  iintro H0 H1 H2 H3 H4 H5 H6 ⟨%fs', %hs', HS⟩
  isplitl [HS HP]
  · isplitl [HS]
    · iexists fs'
      isplitr
      swap
      · iexact HS
      ipureintro
      exact fun h h0 => filled_next m c (t := t) (t' := ⟨t.val + 1, h⟩) rfl h0 hs'
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a grid point's slots is the body. -/
theorem defs₀_row : defs₀ (F := F) .tc cfg0.body (cfg0.bodyArgs t (cfg0.slots t)) = bodyAt0 t := by
  unfold defs₀; rw [Defs.onTc_tc]

theorem body_obligation (hw : Words m) : BodyObligation (dats (F := F) m 0 c) (defs₀ (F := F)) Variants.none () Set.univ := fun t => by
  rw [bigSep_W0, bigSep_W0, defs₀_row]
  exact triple_restated (sound_body m c t hw) rfl .rfl fun _ => .rfl

/-! ## The run -/

/-- The first point begins a batch: nothing is asked of the scratch before it, -/
theorem held_start : (Pipeline.ΦA spec0 c : sProp 𝕄) ⊢ held m c 0 := by
  unfold Pipeline.ΦA held
  rw [scopedRest0_eq]
  iintro ⟨⟨%f, Hf⟩, HP⟩
  isplitl [Hf]
  · iexists f
    isplitr
    swap
    · rw [show scr.view.set = Finset.univ from View.set_whole _]
      iexact Hf
    ipureintro
    exact fun _ h0 => absurd expert_zero h0
  iexact HP

/-- and nothing after the last. -/
theorem held_end : held m c cfg0.N ⊢ (Pipeline.ΦA spec0 c : sProp 𝕄) := by
  unfold Pipeline.ΦA held
  rw [scopedRest0_eq]
  iintro ⟨⟨%f, -, Hf⟩, HP⟩
  isplitl [Hf]
  · iexists f
    rw [show scr.view.set = Finset.univ from View.set_whole _]
    iexact Hf
  iexact HP

set_option backward.isDefEq.respectTransparency.types false in
/-- Every execution of @main terminates, with the pipeline's arrays as the proof data gives them and every counter at zero. -/
theorem run_main (hw : Words m) : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c hw).loose) (hq := fun _ _ _ => rfl)
    (howed := fun _ _ => rfl) (V := V m) (hmain := hmain m Variants.none) (hA := A_eq m)
    (hin := held_start m) (hout := held_end m)

/-- The frame: the argument arrays end unchanged and every counter is zero. -/
theorem frame (hw : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ hw)))
    ((θ_run defs _ _).mono (fun _ h => h.2) (run_main m ρ hw))

end Cert.Kernel2Ideal.Run

end
-- ==== Proof.ExpertsValue.lean ====
/-
  The expert feed-forward block over the extended reals: `silu (x·wg) * (x·wu)` against `wd`, as sums.
-/
module

public import proofs.«01_k».proof.Proof.ExpertsPoint
public import Idealize.ShloMosaic.PureOps.Ideal.Laws
public import Idealize.ShloMosaic.Lib.IdealHost

@[expose] public section

set_option maxRecDepth 16384

noncomputable section

namespace Cert.Experts

open Idealize.ShloMosaic Idealize.ShloMosaic.Tactic

variable {B C N G : ℕ} [Tokens N] [Slots C G]

/-- Rows against columns. -/
def lin {n : ℕ} (X : Fin n → Fin 1024 → EReal) (W : Fin 1024 → Fin 1024 → EReal) (r : Fin n) (f : Fin 1024) : EReal :=
  ∑ k : Fin 1024, X r k * W k f

/-- `g / (1 + exp (-g))`. -/
def swish (g : EReal) : EReal := g * Ideal.div 1 (1 + Ideal.exp (-g))

/-- The feed-forward part of one expert on the rows `X`. -/
def ffn {n : ℕ} (X : Fin n → Fin 1024 → EReal) (G U D : Fin 1024 → Fin 1024 → EReal) : Fin n → Fin 1024 → EReal :=
  lin (fun r f => swish (lin X G r f) * lin X U r f) D

/-- The layer's feed-forward experts: row `r` of expert `e` in batch `b` is the token its index word names, through expert `e`'s
    three weight matrices. -/
def experts (I : Vec Ideal ⟨3, ![16 * B, 1, C]⟩ .i32) (T : Vec Ideal ⟨3, ![B, N, 1024]⟩ .f32)
    (G U D : Vec Ideal ⟨3, ![16, 1024, 1024]⟩ .bf16) (b : Fin B) (e : Fin 16) : Fin C → Fin 1024 → EReal :=
  ffn (fun r k => T (ix3 b (token (I (ix3 (⟨16 * b.val + e.val, by omega⟩ : Fin (16 * B)) (0 : Fin 1) r))) k))
    (fun k f => G (ix3 e k f)) (fun k f => U (ix3 e k f)) (fun f d => D (ix3 e f d))

theorem asW_apply (w : Vec Ideal SW1 .bf16) (k f : Fin 1024) : asW w (ix2 k f) = w (ix3 0 k f) := by
  unfold asW
  refine shapeCast_apply _ cast_w _ (ix3 (0 : Fin 1) k f) ?_
  rw [Shape.rowMajor_val_three, Shape.rowMajor_val_two]
  show (0 * 1024 + k.val) * 1024 + f.val = k.val * 1024 + f.val
  omega

theorem prod_apply (x : FVec Ideal (SSlot C) .bf16) (w : Vec Ideal SW1 .bf16) (r : Fin C) (f : Fin 1024) :
    prod x w (ix2 r f) = ∑ k : Fin 1024, x (ix2 r k) * w (ix3 0 k f) := by
  unfold prod
  generalize hw : asW w = y
  have h : matmul dims none x y (constant (SSlot C) .f32 0x00000000#32) (ix2 r f) = ∑ k : Fin 1024, x (ix2 r k) * y (ix2 k f) := by
    pointwise [dims]
    refine Finset.sum_congr rfl fun k _ => congrArg (fun i => x i * y (ix2 k f)) (funext fun a => ?_)
    match a with
    | 0 => rfl
    | 1 => rfl
  rw [h, ← hw]
  exact Finset.sum_congr rfl fun k _ => by rw [asW_apply]

theorem rows_apply (x : Vec Ideal (SSlot1 C) .f32) (r : Fin C) (k : Fin 1024) : rows x (ix2 r k) = x (ix3 0 r k) := by
  unfold rows
  refine Eq.trans (show _ = shapeCast (SSlot C) x cast_slot (ix2 r k) from rfl) ?_
  refine shapeCast_apply _ cast_slot _ (ix3 (0 : Fin 1) r k) ?_
  rw [Shape.rowMajor_val_three, Shape.rowMajor_val_two]
  show (0 * C + r.val) * 1024 + k.val = r.val * 1024 + k.val
  omega

theorem hidden_apply (x : Vec Ideal (SSlot1 C) .f32) (wg wu : Vec Ideal SW1 .bf16) (r : Fin C) (f : Fin 1024) :
    hidden x wg wu (ix2 r f) = swish (prod (rows x) wg (ix2 r f)) * prod (rows x) wu (ix2 r f) := by
  unfold hidden
  generalize prod (rows x) wg = p
  generalize prod (rows x) wu = q
  show p (ix2 r f) * Ideal.div (Ideal.ofBits .f32 0x3F800000#32) (Ideal.ofBits .f32 0x3F800000#32 + Ideal.exp (Ideal.ofBits .f32 0x00000000#32 - p (ix2 r f))) * q (ix2 r f) = _
  rw [Ideal.ofBits_one_f32, Ideal.ofBits_zero_f32, zero_sub]
  rfl

/-- The block the kernel stores for an expert is the feed-forward part on the slot's rows. -/
theorem outBlock_apply (x : Vec Ideal (SSlot1 C) .f32) (wg wu wd : Vec Ideal SW1 .bf16) (a b : Fin 1) (r : Fin C) (d : Fin 1024) :
    outBlock x wg wu wd (ix4 a b r d)
      = ffn (fun r k => x (ix3 0 r k)) (fun k f => wg (ix3 0 k f)) (fun k f => wu (ix3 0 k f)) (fun f d => wd (ix3 0 f d)) r d := by
  unfold outBlock
  rw [shapeCast_apply _ cast_out _ (ix2 r d) ?_]
  · rw [prod_apply]
    simp only [hidden_apply, prod_apply, rows_apply]
    rfl
  · rw [Shape.rowMajor_val_two, Shape.rowMajor_val_four]
    obtain rfl : a = 0 := Subsingleton.elim _ _
    obtain rfl : b = 0 := Subsingleton.elim _ _
    show r.val * 1024 + d.val = ((0 * 1 + 0) * C + r.val) * 1024 + d.val
    omega

end Cert.Experts

end
-- ==== Proof.ExpertsArray.lean ====
/-
  The array the expert feed-forward kernel leaves: every grid point's block is that batch's and that expert's part of the layer.
-/
module

public import proofs.«01_k».proof.Proof.ExpertsFrameIdeal
public import proofs.«01_k».proof.Proof.ExpertsValue
public import Idealize.ShloMosaic.Lib.Pipeline.Value

@[expose] public section

set_option maxRecDepth 16384

noncomputable section

namespace Cert.Kernel2Ideal.Run

open Cert.Kernel2Ideal Cert.Kernel2Ideal.Gen Cert.Experts
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg) (c : Dev nD) (t : Fin cfg0.N)

/-- The layer's experts on the kernel's arguments. -/
def expertsArr : Vec Ideal S8x16x512x1024 .f32 := fun i =>
  experts (aIdx m c) (aTok m c) (aWg m c) (aWu m c) (aWd m c) (i 0) (i 1) (i 2) (i 3)

/-- What a grid point leaves in its block. -/
theorem outsAt_apply (y : (SOut 512).Idx) : outsAt m c t y
    = experts (aIdx m c) (aTok m c) (aWg m c) (aWu m c) (aWd m c) (batch t) (expert t) (y 2) (y 3) := by
  refine (congrArg (outsAt m c t) (eq_ix4 y)).trans ?_
  refine (outBlock_apply (slotVal (bIdx m c t) (bTok m c t)) (bWg m c t) (bWu m c t) (bWd m c t) (y 0) (y 1) (y 2) (y 3)).trans ?_
  unfold experts
  have h1 : (fun (r : Fin 512) (k : Fin 1024) => slotVal (bIdx m c t) (bTok m c t) (ix3 0 r k))
      = fun r k => aTok m c (ix3 (batch t) (token (aIdx m c (ix3 (⟨16 * (batch t).val + (expert t).val, by omega⟩ : Fin 128) (0 : Fin 1) r))) k) := by
    funext r k
    show gathered (bIdx m c t) (bTok m c t) r k = _
    unfold gathered
    rw [bTok_apply, bIdx_apply]
  rw [h1]
  simp only [bWg_apply, bWu_apply, bWd_apply]
  rfl

/-- Where an element of a grid point's block lies in the array. -/
theorem out_emb (y : ((cfg0.win 6).xblock (grid0.coords t)).Idx) (a : Fin 4) :
    ((((cfg0.win 6).blk t).view.emb y : S8x16x512x1024.Idx) a).val
      = win0_6.index t a * (SOut 512).size a + (y a).val :=
  Window.rect_emb_val win0_6 t y a

/-- Every batch and every expert has its grid point. -/
theorem point_of : ∀ (b : Fin 8) (e : Fin 16), ∃ t : Fin grid0.N, (grid0.coords t 0).val = b.val ∧ (grid0.coords t 1).val = e.val := by
  decide +kernel

/-- THE OUTPUT ARRAY AFTER THE RUN IS THE LAYER'S EXPERTS. -/
theorem arr_experts : (dats m 0 c).arrAt 6 cfg0.N = (expertsArr m c : Vec Ideal S8x16x512x1024 .f32) := by
  refine (dats m 0 c).arrAt_eq_of_cover 6 (expertsArr m c) ?_ ?_
  · intro t _
    have hf : (dats m 0 c).flushed 6 t = (cfg0.win 6).cut (grid0.coords t) (outsAt m c t) := by
      show (cfg0.win 6).cut (grid0.coords t) ((dats m 0 c).after 6 t) = _
      rw [after_6]
    rw [hf]
    funext y
    obtain ⟨e0, e1, e2, e3⟩ := index_out t
    rw [View.read_apply]
    refine (outsAt_apply m c t y).trans ?_
    have h0 : (y 0).val = 0 := Nat.lt_one_iff.mp (y 0).isLt
    have h1 : (y 1).val = 0 := Nat.lt_one_iff.mp (y 1).isLt
    have i0 : ((((cfg0.win 6).blk t).view.emb y : S8x16x512x1024.Idx) 0) = batch t :=
      Fin.ext ((out_emb t y 0).trans ((congrArg (· * 1 + (y 0).val) e0).trans (by rw [h0]; show (batch t).val * 1 + 0 = (batch t).val; omega)))
    have i1 : ((((cfg0.win 6).blk t).view.emb y : S8x16x512x1024.Idx) 1) = expert t :=
      Fin.ext ((out_emb t y 1).trans ((congrArg (· * 1 + (y 1).val) e1).trans (by rw [h1]; show (expert t).val * 1 + 0 = (expert t).val; omega)))
    have i2 : ((((cfg0.win 6).blk t).view.emb y : S8x16x512x1024.Idx) 2) = y 2 :=
      Fin.ext ((out_emb t y 2).trans ((congrArg (· * 512 + (y 2).val) e2).trans (by omega)))
    have i3 : ((((cfg0.win 6).blk t).view.emb y : S8x16x512x1024.Idx) 3) = y 3 :=
      Fin.ext ((out_emb t y 3).trans ((congrArg (· * 1024 + (y 3).val) e3).trans (by omega)))
    show _ = experts (aIdx m c) (aTok m c) (aWg m c) (aWu m c) (aWd m c) ((((cfg0.win 6).blk t).view.emb y : S8x16x512x1024.Idx) 0)
      ((((cfg0.win 6).blk t).view.emb y : S8x16x512x1024.Idx) 1) ((((cfg0.win 6).blk t).view.emb y : S8x16x512x1024.Idx) 2)
      ((((cfg0.win 6).blk t).view.emb y : S8x16x512x1024.Idx) 3)
    rw [i0, i1, i2, i3]
    rfl
  · intro i
    have hi0 : (i 0).val < 8 := (i 0).isLt
    have hi1 : (i 1).val < 16 := (i 1).isLt
    obtain ⟨t, ht0, ht1⟩ := point_of ⟨(i 0).val, hi0⟩ ⟨(i 1).val, hi1⟩
    obtain ⟨e0, e1, e2, e3⟩ := index_out t
    refine ⟨t, flush0_6 t, ?_⟩
    let y : (SOut 512).Idx := ix4 (0 : Fin 1) (0 : Fin 1) (i 2 : Fin 512) (i 3 : Fin 1024)
    have e : (((cfg0.win 6).blk t).view.emb y : S8x16x512x1024.Idx) = i := by
      funext a
      refine Fin.ext ((out_emb t y a).trans ?_)
      match a with
      | 0 => exact (congrArg (· * 1 + 0) (e0.trans ht0)).trans (by show (i 0).val * 1 + 0 = (i 0).val; omega)
      | 1 => exact (congrArg (· * 1 + 0) (e1.trans ht1)).trans (by show (i 1).val * 1 + 0 = (i 1).val; omega)
      | 2 => exact (congrArg (· * 512 + (i 2).val) e2).trans (by show 0 * 512 + (i 2).val = (i 2).val; omega)
      | 3 => exact (congrArg (· * 1024 + (i 3).val) e3).trans (by show 0 * 1024 + (i 3).val = (i 3).val; omega)
    exact e ▸ ((cfg0.win 6).blk t).view.emb_mem_set y

/-- The run: the result is the layer's experts, the arguments end unchanged. -/
theorem run_experts (hw : Words m) : θ_run defs (onTc (τ := τ) (main (F := Ideal))) ⟨m, fun _ => 0, ρ⟩ (fun r => ∀ c : Dev nD,
      r.2.mem ((c.tc : Thread nD τ).loc main_v0) = expertsArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 6).trans (arr_experts m c), h.2.1 c⟩)
    (θ_run_and (run_main m ρ hw) (frame m ρ hw))

end Cert.Kernel2Ideal.Run

end
-- ==== Proof.ExpertsRef.lean ====
/-
  The reference of the experts, read element by element: the gather takes the token an index word names, the rest is the
  feed-forward part with the weights on the left of the products.
-/
module

public import proofs.«01_k».proof.Proof.Gen.Reference2Ideal.Read
public import proofs.«01_k».proof.Proof.ExpertsValue

@[expose] public section

set_option maxRecDepth 2000

noncomputable section

namespace Cert.Reference2Ideal.Experts

open Cert.Reference2Ideal Cert.Reference2Ideal.Gen Cert.Reference2Ideal.Read Cert.Experts
open Idealize.ShloMosaic Idealize.ShloMosaic.TcCoe

variable (x0 : Vec Ideal S128x1x512 .i32) (x1 : Vec Ideal S8x4096x1024 .f32) (x2 x3 x4 : Vec Ideal S16x1024x1024 .bf16)

/-- A word that is not negative is kept by the wrap-around select. -/
theorem kept (v n : BitVec 32) (h : v.toNat < 4096) :
    Scalar.select (IntOp.cmpi .slt v 0#32) (IntOp.addi v n) v = v := by
  have : IntOp.cmpi .slt v 0#32 = 0#1 := by
    simp only [IntOp.cmpi, BitVec.slt]
    rw [decide_eq_false (by rw [BitVec.toInt_eq_toNat_of_lt (by omega)]; simp)]
    rfl
  rw [this]
  rfl

/-- The first start index is the batch, -/
theorem start_batch (b : Fin 8) (e : Fin 16) (r : Fin 512) : val_main_v16 (F := Ideal) x0 (ix4 b e r (0 : Fin 2)) = BitVec.ofNat 32 b.val := by
  unfold val_main_v16
  refine (concatenate_pair_apply_left (s₁ := S8x16x512x1) (s₂ := S8x16x512x1) (3 : Fin 4) _ _ _ (ix4 b e r (0 : Fin 2)) rfl (ix4 b e r (0 : Fin 1)) ?_).trans ?_
  · intro a
    match a with
    | 0 => rfl
    | 1 => rfl
    | 2 => rfl
    | 3 => rfl
  · rw [val_main_v14_apply, val_main_v13_apply, val_main_v7_apply, val_main_v4_apply, val_main_v6_apply, val_main_v2_apply, val_main_v1_apply,
      val_main_v3_apply, val_main_v5_apply, val_main_c_apply]
    exact kept (BitVec.ofNat 32 b.val) _ (by rw [BitVec.toNat_ofNat]; omega)

/-- and the second the index word. -/
theorem start_word (b : Fin 8) (e : Fin 16) (r : Fin 512) (hw : ∀ i, (x0 i : BitVec 32).toNat < 4096) :
    val_main_v16 (F := Ideal) x0 (ix4 b e r (1 : Fin 2)) = x0 (ix3 (⟨16 * b.val + e.val, by omega⟩ : Fin 128) (0 : Fin 1) r) := by
  unfold val_main_v16
  refine (concatenate_pair_apply_right (s₁ := S8x16x512x1) (s₂ := S8x16x512x1) (3 : Fin 4) _ _ _ (ix4 b e r (1 : Fin 2)) rfl rfl (ix4 b e r (0 : Fin 1)) ?_ ?_).trans ?_
  · intro a ha
    match a with
    | 0 => rfl
    | 1 => rfl
    | 2 => rfl
    | 3 => exact absurd rfl ha
  · rfl
  · rw [val_main_v15_apply, val_main_v12_apply, val_main_v9_apply, val_main_v11_apply, val_main_v0_apply, val_main_v8_apply, val_main_c_1_apply]
    have e0 : idx_main_v0 (idx_main_v15 (ix4 b e r (0 : Fin 1))) = (ix3 (⟨16 * b.val + e.val, by omega⟩ : Fin 128) (0 : Fin 1) r) := by
      funext a
      refine Fin.ext ?_
      have := b.isLt
      have := e.isLt
      have := r.isLt
      match a with
      | 0 => show ((b.val * 16 + e.val) * 512 + r.val) / 512 = 16 * b.val + e.val; omega
      | 1 => rfl
      | 2 => show ((b.val * 16 + e.val) * 512 + r.val) % 512 = r.val; omega
    rw [e0]
    exact kept _ _ (hw _)

/-- The gather at an element: batch and token from the start indices, read signed and clamped. -/
theorem gather_apply (idx : IVec S8x16x512x2 32) (b : Fin 8) (e : Fin 16) (r : Fin 512) (k : Fin 1024) :
    Host.gather gather_S8x4096x1024_S8x16x512x2_S8x16x512x1024_3_01_n_n_01_3_111024 x1 idx (ix4 b e r k)
      = x1 (ix3 (⟨min (idx (ix4 b e r (0 : Fin 2))).toInt.toNat 7, by omega⟩ : Fin 8)
          (⟨min (idx (ix4 b e r (1 : Fin 2))).toInt.toNat 4095, by omega⟩ : Fin 4096) k) := by
  unfold Host.gather
  congr 1
  funext a
  refine Fin.ext ?_
  generalize hd : gather_S8x4096x1024_S8x16x512x2_S8x16x512x1024_3_01_n_n_01_3_111024 = d
  show d.start (ix4 b e r k) idx a + d.batchCoord (ix4 b e r k) a + d.offCoord (ix4 b e r k) a = _
  subst hd
  match a with
  | 0 =>
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S8x4096x1024_S8x16x512x2_S8x16x512x1024_3_01_n_n_01_3_111024.startIndexMap by decide)]
    have hsi : gather_S8x4096x1024_S8x16x512x2_S8x16x512x1024_3_01_n_n_01_3_111024.siIdx (ix4 b e r k)
        ⟨List.idxOf (0 : Fin 3) gather_S8x4096x1024_S8x16x512x2_S8x16x512x1024_3_01_n_n_01_3_111024.startIndexMap,
          List.idxOf_lt_length_iff.2 (show (0 : Fin 3) ∈ gather_S8x4096x1024_S8x16x512x2_S8x16x512x1024_3_01_n_n_01_3_111024.startIndexMap by decide)⟩ = ix4 b e r (0 : Fin 2) := by
      funext x; refine Fin.ext ?_
      match x with
      | 0 => rfl
      | 1 => rfl
      | 2 => rfl
      | 3 => rfl
    rw [hsi]
    rfl
  | 1 =>
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S8x4096x1024_S8x16x512x2_S8x16x512x1024_3_01_n_n_01_3_111024.startIndexMap by decide)]
    have hsi : gather_S8x4096x1024_S8x16x512x2_S8x16x512x1024_3_01_n_n_01_3_111024.siIdx (ix4 b e r k)
        ⟨List.idxOf (1 : Fin 3) gather_S8x4096x1024_S8x16x512x2_S8x16x512x1024_3_01_n_n_01_3_111024.startIndexMap,
          List.idxOf_lt_length_iff.2 (show (1 : Fin 3) ∈ gather_S8x4096x1024_S8x16x512x2_S8x16x512x1024_3_01_n_n_01_3_111024.startIndexMap by decide)⟩ = ix4 b e r (1 : Fin 2) := by
      funext x; refine Fin.ext ?_
      match x with
      | 0 => rfl
      | 1 => rfl
      | 2 => rfl
      | 3 => rfl
    rw [hsi]
    rfl
  | 2 =>
    rw [GatherDims.batchCoord_eq_zero _ _ _ List.not_mem_nil]
    unfold GatherDims.start
    rw [dif_neg (show ¬(2 : Fin 3) ∈ gather_S8x4096x1024_S8x16x512x2_S8x16x512x1024_3_01_n_n_01_3_111024.startIndexMap by decide)]
    unfold GatherDims.offCoord
    rw [dif_pos ((GatherDims.mem_sKept _ _).mpr ⟨by decide, by decide⟩)]
    simp only [Nat.zero_add]
    rfl

/-- The gathered rows. -/
theorem rows_eq (b : Fin 8) (e : Fin 16) (r : Fin 512) (k : Fin 1024) (hw : ∀ i, (x0 i : BitVec 32).toNat < 4096) :
    val_main_v17 (F := Ideal) x0 x1 (ix4 b e r k)
      = x1 (ix3 b (token (x0 (ix3 (⟨16 * b.val + e.val, by omega⟩ : Fin 128) (0 : Fin 1) r))) k) := by
  unfold val_main_v17
  refine (gather_apply x1 (val_main_v16 (F := Ideal) x0) b e r k).trans (congrArg₂ (fun i j => x1 (ix3 i j k)) (Fin.ext ?_) (Fin.ext ?_))
  · show min (val_main_v16 (F := Ideal) x0 (ix4 b e r (0 : Fin 2)) : BitVec 32).toInt.toNat 7 = b.val
    rw [start_batch]
    have := b.isLt
    have h : (BitVec.ofNat 32 b.val).toNat = b.val := by rw [BitVec.toNat_ofNat]; omega
    rw [BitVec.toInt_eq_toNat_of_lt (by omega), h]
    omega
  · show min (val_main_v16 (F := Ideal) x0 (ix4 b e r (1 : Fin 2)) : BitVec 32).toInt.toNat 4095 = (x0 (ix3 (⟨16 * b.val + e.val, by omega⟩ : Fin 128) (0 : Fin 1) r) : BitVec 32).toNat % 4096
    rw [start_word x0 b e r hw]
    have hlt := hw (ix3 (⟨16 * b.val + e.val, by omega⟩ : Fin 128) (0 : Fin 1) r)
    rw [BitVec.toInt_eq_toNat_of_lt (by omega)]
    omega

/-- The rows one product's operand takes for one expert. -/
abbrev rowsOf (b : Fin 8) (e : Fin 16) : Fin 512 → Fin 1024 → EReal := fun r k =>
  x1 (ix3 b (token (x0 (ix3 (⟨16 * b.val + e.val, by omega⟩ : Fin 128) (0 : Fin 1) r))) k)

theorem gate_eq (b : Fin 8) (e : Fin 16) (r : Fin 512) (f : Fin 1024) (hw : ∀ i, (x0 i : BitVec 32).toNat < 4096) :
    val_main_v20 (F := Ideal) x0 x1 x2 (ix4 b e r f) = lin (rowsOf x0 x1 b e) (fun k f => x2 (ix3 e k f)) r f := by
  rw [val_main_v20_apply, val_main_v19_apply]
  unfold lin
  refine Finset.sum_congr rfl fun k _ => ?_
  have er : ridx_main_v19 (idx_main_v20 (ix4 b e r f)) k = ix4 b e r k := by
    funext a
    match a with
    | 0 => rfl
    | 1 => rfl
    | 2 => rfl
    | 3 => rfl
  have el : lidx_main_v19 (idx_main_v20 (ix4 b e r f)) k = ix3 e k f := by
    funext a
    match a with
    | 0 => rfl
    | 1 => rfl
    | 2 => rfl
  rw [er, el, rows_eq x0 x1 b e r k hw, mul_comm]
  rfl

theorem up_eq (b : Fin 8) (e : Fin 16) (r : Fin 512) (f : Fin 1024) (hw : ∀ i, (x0 i : BitVec 32).toNat < 4096) :
    val_main_v24 (F := Ideal) x0 x1 x3 (ix4 b e r f) = lin (rowsOf x0 x1 b e) (fun k f => x3 (ix3 e k f)) r f :=
  gate_eq x0 x1 x3 b e r f hw

theorem silu_eq (i : S8x16x512x1024.Idx) : val_main_v21 (F := Ideal) x0 x1 x2 i = swish (val_main_v20 (F := Ideal) x0 x1 x2 i) := by
  rw [val_main_v21_apply, val_main_call0_v5_apply, val_main_call0_v4_apply, val_main_call0_v3_apply, val_main_call0_v2_apply,
    val_main_call0_v1_apply, val_main_call0_v0_apply, val_main_call0_cst_apply, val_main_call0_cst_0_apply]
  generalize val_main_v20 (F := Ideal) x0 x1 x2 i = g
  show g * Ideal.div (Ideal.ofBits .f32 0x3F800000#32) (Ideal.ofBits .f32 0x3F800000#32 + Ideal.exp (-g)) = _
  rw [Ideal.ofBits_one_f32]
  rfl

/-- The reference's result is the layer's experts. -/
theorem result_eq (b : Fin 8) (e : Fin 16) (r : Fin 512) (d : Fin 1024) (hw : ∀ i, (x0 i : BitVec 32).toNat < 4096) :
    val_main_v28 (F := Ideal) x0 x1 x2 x3 x4 (ix4 b e r d) = experts x0 x1 x2 x3 x4 b e r d := by
  rw [val_main_v28_apply, val_main_v27_apply]
  unfold experts ffn
  refine Finset.sum_congr rfl fun k _ => ?_
  have er : ridx_main_v27 (idx_main_v28 (ix4 b e r d)) k = ix4 b e r k := by
    funext a
    match a with
    | 0 => rfl
    | 1 => rfl
    | 2 => rfl
    | 3 => rfl
  have el : lidx_main_v27 (idx_main_v28 (ix4 b e r d)) k = ix3 e k d := by
    funext a
    match a with
    | 0 => rfl
    | 1 => rfl
    | 2 => rfl
  rw [er, el, val_main_v25_apply, silu_eq, gate_eq x0 x1 x2 b e r k hw, up_eq x0 x1 x3 b e r k hw]
  exact mul_comm _ _

end Cert.Reference2Ideal.Experts

end
-- ==== Proof.ExpertsClaims.lean ====
/-
  The claims about the expert feed-forward kernel, put together.
-/
module

public import proofs.«01_k».proof.Defs
public import proofs.«01_k».proof.Proof.Gen.Pre_tokens
public import proofs.«01_k».proof.Proof.Gen.Reference2Ideal.Run
public import proofs.«01_k».proof.Proof.ExpertsFrame
public import proofs.«01_k».proof.Proof.ExpertsArray
public import proofs.«01_k».proof.Proof.ExpertsRef

@[expose] public section

set_option maxRecDepth 16384

noncomputable section

namespace Cert.ExpertsClaims

open Idealize.ShloMosaic Idealize.ShloMosaic.TcCoe Idealize.SL.Sem

theorem andi_ofBool (p q : Bool) : IntOp.andi (BitVec.ofBool p) (BitVec.ofBool q) = BitVec.ofBool (p && q) := by
  cases p <;> cases q <;> rfl

theorem ofBool_eq_one (p : Bool) : BitVec.ofBool p = 1#1 ↔ p = true := by cases p <;> decide

/-- A word that compares at least zero and below 4096, both signed, is below 4096. -/
theorem word_lt (v : BitVec 32) (h : IntOp.andi (IntOp.cmpi .sge v 0#32) (IntOp.cmpi .slt v 4096#32) = 1#1) : v.toNat < 4096 := by
  simp only [IntOp.cmpi, andi_ofBool, ofBool_eq_one, Bool.and_eq_true, BitVec.sle, BitVec.slt, decide_eq_true_eq] at h
  obtain ⟨h0, h1⟩ := h
  have e0 : (0#32 : BitVec 32).toInt = 0 := by decide
  have e1 : (4096#32 : BitVec 32).toInt = 4096 := by decide
  rw [e0] at h0
  rw [e1] at h1
  rw [BitVec.toInt_eq_toNat_cond] at h0 h1
  have := v.isLt
  split at h0 <;> omega

/-- The precondition, at an element of the index array. -/
theorem word_of_pre {F : FTy → Type} [FloatOps F] [Cert.Pre_tokens.Facts] (x0 : IVec Cert.Pre_tokens.S128x1x512 32)
    (x1 : FVec F Cert.Pre_tokens.S8x4096x1024 .f32) (x2 x3 x4 : FVec F Cert.Pre_tokens.S16x1024x1024 .bf16)
    (h : Cert.Pre_tokens.fn (F := F) x0 x1 x2 x3 x4 = fun _ => 1#1) (i : Cert.Pre_tokens.S128x1x512.Idx) : (x0 i).toNat < 4096 :=
  word_lt (x0 i) (congrFun h i)

theorem words_kernel (m : (ℓ : Loc Cert.Kernel2.nD Cert.Kernel2.τ Cert.Kernel2.sig) → Buf (Elt Bits) ℓ)
    (h : Cert.Pre_Kernel2 (hPre_tokens := Cert.Pre_tokens.Gen.facts) m) : Cert.Kernel2.Run.Words m := fun c i =>
  @word_of_pre Bits _ Cert.Pre_tokens.Gen.facts _ _ _ _ _ (h c) i

theorem words_ideal (m : (ℓ : Loc Cert.Kernel2Ideal.nD Cert.Kernel2Ideal.τ Cert.Kernel2Ideal.sig) → Buf (Elt Ideal) ℓ)
    (h : Cert.Pre_Kernel2Ideal (hPre_tokens := Cert.Pre_tokens.Gen.facts) m) : Cert.Kernel2Ideal.Run.Words m := fun c i =>
  @word_of_pre Ideal _ Cert.Pre_tokens.Gen.facts _ _ _ _ _ (h c) i

/-- The kernel runs and keeps its arguments. -/
theorem frame_k : Cert.quiescent_Kernel2 (hKernel2 := Cert.Kernel2.Gen.facts) (hPre_tokens := Cert.Pre_tokens.Gen.facts) :=
  fun m ρ h => Cert.Kernel2.Run.frame m ρ (words_kernel m h)

/-- So does the idealized kernel, -/
theorem frame_ki : Cert.quiescent_Kernel2Ideal (hKernel2Ideal := Cert.Kernel2Ideal.Gen.facts) (hPre_tokens := Cert.Pre_tokens.Gen.facts) :=
  fun m ρ h => Cert.Kernel2Ideal.Run.frame m ρ (words_ideal m h)

/-- and the reference. -/
theorem frame_ri : Cert.quiescent_Reference2Ideal (hReference2Ideal := Cert.Reference2Ideal.Gen.facts) := fun m ρ _ =>
  (θ_run _ _ _).mono (fun r h => ⟨fun c => (h c).2, sem_eq_zero_of_no_sems (by decide) r.2⟩)
    (Cert.Reference2Ideal.Value.run (F := Ideal) m ρ)

/-- Kernel and reference end with the same array, the layer's experts. -/
theorem algebraic : Cert.algebraic_Kernel2Ideal_Reference2Ideal (hKernel2Ideal := Cert.Kernel2Ideal.Gen.facts)
    (hReference2Ideal := Cert.Reference2Ideal.Gen.facts) (hPre_tokens := Cert.Pre_tokens.Gen.facts) := by
  intro m ρ m' ρ' hpre hag
  have hw := words_ideal m hpre
  refine ⟨fun c => Cert.Kernel2Ideal.Run.expertsArr m c, Cert.Kernel2Ideal.Run.run_experts m ρ hw, ?_⟩
  refine (θ_run _ _ _).mono (fun r h c => ⟨(h c).1.trans ?_, (h c).2⟩) (Cert.Reference2Ideal.Value.run (F := Ideal) m' ρ')
  obtain ⟨e0, e1, e2, e3, e4⟩ := hag c
  rw [Cert.Reference2Ideal.Read.val_main_v28_eq, e0, e1, e2, e3, e4]
  funext i
  refine (congrArg _ (eq_ix4 (n0 := 8) (n1 := 16) (n2 := 512) (n3 := 1024) i)).trans ?_
  exact Cert.Reference2Ideal.Experts.result_eq _ _ _ _ _ (i 0) (i 1) (i 2) (i 3) (hw c)

end Cert.ExpertsClaims

end
-- ==== Proof.Project.lean ====
/-
  The input projection over the extended reals: a row's modulated RMS norm, its products with the columns of the weight, and
  the rotation of the pairs of a head.
-/
module

public import Idealize.ShloMosaic.PureOps.Ideal.Laws
public import Idealize.ShloMosaic.Lib.IdealHost
public import Idealize.ShloMosaic.Lib.Pointwise

@[expose] public section

noncomputable section

namespace Cert.Project

open Idealize.ShloMosaic

/-- A row of the stream, divided by the root of its mean square (with 1e-6 under the root), times the gain and one plus the
    scale, plus the shift. The two words are 1024 and 1e-6 in `f32`. -/
def normed (x g s t : Fin 1024 → EReal) (k : Fin 1024) : EReal :=
  x k * Ideal.rsqrt (Ideal.div (∑ l : Fin 1024, x l * x l) (Ideal.ofBits .f32 0x44800000#32) + Ideal.ofBits .f32 0x358637BD#32) * g k * s k + t k

/-- A row against the columns of a matrix. -/
def lin {n : ℕ} (y : Fin 1024 → EReal) (w : Fin 1024 → Fin n → EReal) (j : Fin n) : EReal := ∑ k : Fin 1024, y k * w k j

/-- The other member of a pair: 32 lanes further, or 32 lanes back. -/
def partner (j : Fin 512) : Fin 512 := if h : j.val % 64 < 32 then ⟨j.val + 32, by omega⟩ else ⟨j.val - 32, by omega⟩

/-- The rotation of every pair: each member times the cosine of its angle, plus the other member times the signed sine. The tables hold
    the angles of two heads, 128 lanes. -/
def rotated (p : Fin 512 → EReal) (cos sin : Fin 128 → EReal) (j : Fin 512) : EReal :=
  p j * cos ⟨j.val % 128, by omega⟩ + p (partner j) * sin ⟨j.val % 128, by omega⟩

/-- The columns `o … o + 511` of the projection of row `n` of batch `b`. -/
def columns (x : Vec Ideal ⟨3, ![8, 4096, 1024]⟩ .f32) (g : Vec Ideal ⟨1, ![1024]⟩ .f32) (s t : Vec Ideal ⟨3, ![8, 1, 1024]⟩ .f32)
    (w : Vec Ideal ⟨2, ![1024, 3072]⟩ .bf16) (o : ℕ) (ho : o + 512 ≤ 3072) (b : Fin 8) (n : Fin 4096) : Fin 512 → EReal :=
  lin (normed (fun k => x (ix3 b n k)) (fun k => g (ix1 k)) (fun k => s (ix3 b 0 k)) (fun k => t (ix3 b 0 k)))
    (fun k j => w (ix2 k (⟨o + j.val, by omega⟩ : Fin 3072)))

/-- A result that is not rotated. -/
def plainOut (x : Vec Ideal ⟨3, ![8, 4096, 1024]⟩ .f32) (g : Vec Ideal ⟨1, ![1024]⟩ .f32) (s t : Vec Ideal ⟨3, ![8, 1, 1024]⟩ .f32)
    (w : Vec Ideal ⟨2, ![1024, 3072]⟩ .bf16) (o : ℕ) (ho : o + 512 ≤ 3072) : Vec Ideal ⟨3, ![8, 4096, 512]⟩ .bf16 :=
  fun i => columns x g s t w o ho (i 0) (i 1) (i 2)

/-- A result that is. -/
def rotatedOut (x : Vec Ideal ⟨3, ![8, 4096, 1024]⟩ .f32) (g : Vec Ideal ⟨1, ![1024]⟩ .f32) (s t : Vec Ideal ⟨3, ![8, 1, 1024]⟩ .f32)
    (w : Vec Ideal ⟨2, ![1024, 3072]⟩ .bf16) (cos sin : Vec Ideal ⟨2, ![4096, 128]⟩ .f32) (o : ℕ) (ho : o + 512 ≤ 3072) :
    Vec Ideal ⟨3, ![8, 4096, 512]⟩ .bf16 :=
  fun i => rotated (columns x g s t w o ho (i 0) (i 1)) (fun l => cos (ix2 (i 1) l)) (fun l => sin (ix2 (i 1) l)) (i 2)

end Cert.Project

end
-- ==== Proof.ProjectValue.lean ====
/-
  What the projection kernel computes at a grid point, read element by element: the normed rows, the products with 512 columns of the
  weight, and the rotation, four slices of 128 lanes side by side.
-/
module

public import proofs.«01_k».proof.Proof.Gen.Kernel3Ideal.Value
public import proofs.«01_k».proof.Proof.Project
public import Idealize.ShloMosaic.Lib.KernelVsHost
public import Idealize.ShloMosaic.Lib.Pointwise

@[expose] public section

set_option maxRecDepth 16384

noncomputable section

namespace Cert.Kernel3Ideal.Project

open Cert.Kernel3Ideal Cert.Kernel3Ideal.Gen Cert.Project
open Idealize.ShloMosaic Idealize.ShloMosaic.TcCoe Idealize.SL.Sem Idealize.ShloMosaic.Tactic

/-- The normed rows. -/
theorem normed_apply (x : Vec Ideal S1x512x1024 .f32) (g : Vec Ideal S1x1024 .f32) (s t : Vec Ideal S1x1x1024 .f32) (r : Fin 512) (k : Fin 1024) :
    k0_pay5 x g s t (ix2 r k) = normed (fun l => x (ix3 0 r l)) (fun l => g (ix2 0 l)) (fun l => s (ix3 0 0 l)) (fun l => t (ix3 0 0 l)) k := by
  unfold normed
  pointwise [k0_pay5]

/-- A row against a column. -/
theorem prod_apply (y : FVec Ideal S512x1024 .bf16) (w : FVec Ideal S1024x512 .bf16) (r j : Fin 512) :
    matmul dot_S512x1024_S1024x512_S512x512_1_0_0_1_n_n none y w (constant (F := Ideal) S512x512 .f32 0x00000000#32) (ix2 r j)
      = lin (fun k => y (ix2 r k)) (fun k j => w (ix2 k j)) j := by
  unfold lin
  pointwise [dot_S512x1024_S1024x512_S512x512_1_0_0_1_n_n]

/-- The lanes of the first members. -/
abbrev first : IVec S512x128 1 := k0_pay9 (Scalar.select (Scalar.cmpi .eq 64#32 0#32) 1#32 64#32) k0_pay6 k0_pay7 k0_pay8

/-- In each half of 128 lanes the first 32 are the first members. -/
theorem first_apply (r : Fin 512) (l : Fin 128) : first (ix2 r l) = if l.val % 64 < 32 then 1#1 else 0#1 := by
  pointwise [first, k0_pay9, k0_pay6, k0_pay7, k0_pay8]
  revert l
  decide +kernel

/-- The stored block is the computed one, with a leading axis. -/
theorem store_apply (v : FVec Ideal S512x512 .bf16) (a : Fin 1) (r j : Fin 512) : k0_pay11 v (ix3 a r j) = v (ix2 r j) := by
  pointwise [k0_pay11]

/-- The slice of 128 lanes at `o`, and the rotation of its pairs. -/
def piece (o : ℕ) (h : S512x512.Slices ![0, o] S512x128) (p : FVec Ideal S512x512 .f32) (cos sin : Vec Ideal S512x128 .f32) (v : IVec S512x128 1) : FVec Ideal S512x128 .f32 :=
  addf (mulf (extractStridedSlice S512x128 ![0, o] p h) cos)
    (mulf (select v (dynamicRotate 1 96#32 none (extractStridedSlice S512x128 ![0, o] p h) rotates_S512x128_d1)
      (dynamicRotate 1 32#32 none (extractStridedSlice S512x128 ![0, o] p h) rotates_S512x128_d1)) sin)

theorem slice_apply (o : ℕ) (h : S512x512.Slices ![0, o] S512x128) (p : FVec Ideal S512x512 .f32) (r : Fin 512) (l : Fin 128) (hl : o + l.val < 512) :
    extractStridedSlice S512x128 ![0, o] p h (ix2 r l) = p (ix2 r ⟨o + l.val, hl⟩) :=
  extractStridedSlice_apply _ _ _ _ _ (fun a => match a with
    | 0 => by show r.val = 0 + r.val; omega
    | 1 => rfl)

/-- A piece is the rotation of its columns. -/
theorem piece_apply (o : ℕ) (h : S512x512.Slices ![0, o] S512x128) (p : FVec Ideal S512x512 .f32) (cos sin : Vec Ideal S512x128 .f32)
    (r : Fin 512) (l : Fin 128) (j : Fin 512) (ho : o % 128 = 0) (hj : j.val = o + l.val) :
    piece o h p cos sin first (ix2 r l) = rotated (fun j => p (ix2 r j)) (fun l => cos (ix2 r l)) (fun l => sin (ix2 r l)) j := by
  have := j.isLt
  have el : (⟨j.val % 128, by omega⟩ : Fin 128) = l := Fin.ext (by show j.val % 128 = l.val; omega)
  have e1 : extractStridedSlice S512x128 ![0, o] p h (ix2 r l) = p (ix2 r j) :=
    (slice_apply o h p r l (by omega)).trans (congrArg (fun j => p (ix2 r j)) (Fin.ext hj.symm))
  unfold rotated
  rw [el]
  show extractStridedSlice S512x128 ![0, o] p h (ix2 r l) * cos (ix2 r l)
    + Scalar.select (first (ix2 r l)) (dynamicRotate 1 96#32 none (extractStridedSlice S512x128 ![0, o] p h) rotates_S512x128_d1 (ix2 r l))
      (dynamicRotate 1 32#32 none (extractStridedSlice S512x128 ![0, o] p h) rotates_S512x128_d1 (ix2 r l)) * sin (ix2 r l) = _
  rw [e1, first_apply]
  refine congrArg (fun z => p (ix2 r j) * cos (ix2 r l) + z * sin (ix2 r l)) ?_
  unfold partner
  by_cases hlt : l.val % 64 < 32
  · rw [if_pos hlt, dif_pos (show j.val % 64 < 32 by omega)]
    show dynamicRotate 1 96#32 none (extractStridedSlice S512x128 ![0, o] p h) rotates_S512x128_d1 (ix2 r l) = _
    refine (dynamicRotate_apply (1 : Fin 2) 96#32 _ rotates_S512x128_d1 (ix2 r l) (ix2 r (⟨l.val + 32, by omega⟩ : Fin 128)) ?_).trans ?_
    · intro a
      match a with
      | 0 => rfl
      | 1 => show l.val + 32 = (l.val + 128 - 96) % 128; omega
    · refine (slice_apply o h p r _ (by show o + (l.val + 32) < 512; omega)).trans (congrArg (fun j => p (ix2 r j)) (Fin.ext ?_))
      show o + (l.val + 32) = j.val + 32
      omega
  · rw [if_neg hlt, dif_neg (show ¬ j.val % 64 < 32 by omega)]
    show dynamicRotate 1 32#32 none (extractStridedSlice S512x128 ![0, o] p h) rotates_S512x128_d1 (ix2 r l) = _
    refine (dynamicRotate_apply (1 : Fin 2) 32#32 _ rotates_S512x128_d1 (ix2 r l) (ix2 r (⟨l.val - 32, by omega⟩ : Fin 128)) ?_).trans ?_
    · intro a
      match a with
      | 0 => rfl
      | 1 => show l.val - 32 = (l.val + 128 - 32) % 128; omega
    · refine (slice_apply o h p r _ (by show o + (l.val - 32) < 512; omega)).trans (congrArg (fun j => p (ix2 r j)) (Fin.ext ?_))
      show o + (l.val - 32) = j.val - 32
      omega

/-- The four pieces side by side. -/
def turned (p : FVec Ideal S512x512 .f32) (cos sin : Vec Ideal S512x128 .f32) (v : IVec S512x128 1) : FVec Ideal S512x512 .f32 :=
  concatenate S512x512 1 [⟨S512x128, piece 0 slices_S512x512_o0_0_S512x128 p cos sin v⟩, ⟨S512x128, piece 128 slices_S512x512_o0_128_S512x128 p cos sin v⟩,
    ⟨S512x128, piece 256 slices_S512x512_o0_256_S512x128 p cos sin v⟩, ⟨S512x128, piece 384 slices_S512x512_o0_384_S512x128 p cos sin v⟩]
    concatenates_S512x128_S512x128_S512x128_S512x128_S512x512_d1

/-- … and together they are the rotation of all columns. -/
theorem turned_apply (p : FVec Ideal S512x512 .f32) (cos sin : Vec Ideal S512x128 .f32) (r j : Fin 512) :
    turned p cos sin first (ix2 r j) = rotated (fun j => p (ix2 r j)) (fun l => cos (ix2 r l)) (fun l => sin (ix2 r l)) j := by
  have hjlt := j.isLt
  unfold turned
  have cut (k : ℕ) (hk : k < 4) (o : ℕ) (ho : o = 128 * k) (h : S512x512.Slices ![0, o] S512x128) (hj : j.val / 128 = k)
      (xs : List ((s : Shape) × (s.Idx → EReal))) (hlen : xs.length = 4) (hx : xs[k]'(by omega) = ⟨S512x128, piece o h p cos sin first⟩)
      (hc : Shape.Concatenates (xs.map (·.1)) S512x512 1)
      (hpre : (((xs.take k).map (·.1)).map fun s => if h : s.rank = S512x512.rank then s.size ((1 : Fin 2).cast h.symm) else 0).sum = o) :
      concatenate S512x512 1 xs hc (ix2 r j) = rotated (fun j => p (ix2 r j)) (fun l => cos (ix2 r l)) (fun l => sin (ix2 r l)) j := by
    refine (concatenate_apply_piece (1 : Fin 2) xs hc (ix2 r j) k (by omega) S512x128 _ hx rfl o hpre (ix2 r (⟨j.val - o, by omega⟩ : Fin 128)) ?_ ?_).trans ?_
    · intro b hb
      match b with
      | 0 => rfl
      | 1 => exact absurd rfl hb
    · show o + (j.val - o) = j.val
      omega
    · exact piece_apply o h p cos sin r _ j (by omega) (by show j.val = o + (j.val - o); omega)
  have h4 : j.val / 128 = 0 ∨ j.val / 128 = 1 ∨ j.val / 128 = 2 ∨ j.val / 128 = 3 := by omega
  rcases h4 with h0 | h0 | h0 | h0
  · exact cut 0 (by decide) 0 rfl _ h0 _ rfl rfl _ rfl
  · exact cut 1 (by decide) 128 rfl _ h0 _ rfl rfl _ rfl
  · exact cut 2 (by decide) 256 rfl _ h0 _ rfl rfl _ rfl
  · exact cut 3 (by decide) 384 rfl _ h0 _ rfl rfl _ rfl

/-- The second and the first rotated results, in these words. -/
theorem pay12_eq (y : FVec Ideal S512x1024 .bf16) (cos sin : Vec Ideal S512x128 .f32) (v : IVec S512x128 1) (w : FVec Ideal S1024x512 .bf16) :
    k0_pay12 y cos sin v w = k0_pay11 (F := Ideal) (turned (matmul dot_S512x1024_S1024x512_S512x512_1_0_0_1_n_n none y w (constant S512x512 .f32 0x00000000#32)) cos sin v) := rfl

theorem pay10_eq (y : FVec Ideal S512x1024 .bf16) (cos sin : Vec Ideal S512x128 .f32) (w : FVec Ideal S1024x512 .bf16) :
    k0_pay10 y cos sin (Scalar.select (Scalar.cmpi .eq 64#32 0#32) 1#32 64#32) k0_pay6 k0_pay7 k0_pay8 w
      = turned (matmul dot_S512x1024_S1024x512_S512x512_1_0_0_1_n_n none y w (constant S512x512 .f32 0x00000000#32)) cos sin first := rfl

end Cert.Kernel3Ideal.Project
end
-- ==== Proof.ProjectArray.lean ====
/-
  The arrays the projection kernel leaves: every grid point's blocks are 512 rows of one batch, of every result.
-/
module

public import proofs.«01_k».proof.Proof.ProjectValue
public import Idealize.ShloMosaic.Lib.Claim
public import Idealize.ShloMosaic.Lib.Pipeline.ValueKit.Tiles

@[expose] public section

set_option maxRecDepth 16384

noncomputable section

namespace Cert.Kernel3Ideal.Project

open Cert.Kernel3Ideal Cert.Kernel3Ideal.Gen Cert.Kernel3Ideal.Value Cert.Project
open Idealize.ShloMosaic Idealize.ShloMosaic.TcCoe Idealize.SL.Sem Idealize.ShloMosaic.Tactic
open Idealize.ShloMosaic.Pipeline (Dat Window)

variable (m : (ℓ : Loc nD τ sig) → Buf (Elt Ideal) ℓ) (ρ : Dev nD → PrngReg) (c : Dev nD) (t : Fin cfg0.N)

/-- The arguments. -/
abbrev aX : Vec Ideal S8x4096x1024 .f32 := m ((c.tc : Thread nD τ).loc main_arg0)
abbrev aG : Vec Ideal S1024 .f32 := m ((c.tc : Thread nD τ).loc main_arg1)
abbrev aS : Vec Ideal S8x1x1024 .f32 := m ((c.tc : Thread nD τ).loc main_arg2)
abbrev aT : Vec Ideal S8x1x1024 .f32 := m ((c.tc : Thread nD τ).loc main_arg3)
abbrev aW : Vec Ideal S1024x3072 .bf16 := m ((c.tc : Thread nD τ).loc main_arg4)
abbrev aC : Vec Ideal S4096x128 .f32 := m ((c.tc : Thread nD τ).loc main_arg5)
abbrev aN : Vec Ideal S4096x128 .f32 := m ((c.tc : Thread nD τ).loc main_arg6)

/-- The batch of a grid point, -/
abbrev batch (t : Fin cfg0.N) : Fin 8 := grid0.coords t 0

/-- and its block of 512 rows. -/
abbrev rowBlk (t : Fin cfg0.N) : Fin 8 := grid0.coords t 1

/-- A row of the block, among the batch's rows. -/
abbrev row (t : Fin cfg0.N) (r : Fin 512) : Fin 4096 := ⟨512 * (rowBlk t).val + r.val, by have := (rowBlk t).isLt; omega⟩

theorem index_x : ∀ t : Fin grid0.N, win0_0.index t (0 : Fin 3) = (grid0.coords t 0).val ∧ win0_0.index t (1 : Fin 3) = (grid0.coords t 1).val ∧ win0_0.index t (2 : Fin 3) = 0 := by
  decide +kernel
theorem index_g : ∀ t : Fin grid0.N, win0_1.index t (0 : Fin 2) = 0 ∧ win0_1.index t (1 : Fin 2) = 0 := by
  decide +kernel
theorem index_s : ∀ t : Fin grid0.N, win0_2.index t (0 : Fin 3) = (grid0.coords t 0).val ∧ win0_2.index t (1 : Fin 3) = 0 ∧ win0_2.index t (2 : Fin 3) = 0 := by
  decide +kernel
theorem index_t : ∀ t : Fin grid0.N, win0_3.index t (0 : Fin 3) = (grid0.coords t 0).val ∧ win0_3.index t (1 : Fin 3) = 0 ∧ win0_3.index t (2 : Fin 3) = 0 := by
  decide +kernel
theorem index_w : ∀ t : Fin grid0.N, win0_4.index t (0 : Fin 2) = 0 ∧ win0_4.index t (1 : Fin 2) = 0 := by
  decide +kernel
theorem index_c : ∀ t : Fin grid0.N, win0_5.index t (0 : Fin 2) = (grid0.coords t 1).val ∧ win0_5.index t (1 : Fin 2) = 0 := by
  decide +kernel
theorem index_n : ∀ t : Fin grid0.N, win0_6.index t (0 : Fin 2) = (grid0.coords t 1).val ∧ win0_6.index t (1 : Fin 2) = 0 := by
  decide +kernel

/-- The blocks a grid point reads, at the arguments' own indices. -/
theorem blk_x (r : Fin 512) (k : Fin 1024) : (iblk m c 0 t : Vec Ideal S1x512x1024 .f32) (ix3 0 r k) = aX m c (ix3 (batch t) (row t r) k) := by
  obtain ⟨e0, e1, e2⟩ := index_x t
  unfold iblk
  rw [View.read_apply]
  refine (congrFun (V_main_arg0 m c) _).trans ?_
  refine congrArg (aX m c) (funext fun a => Fin.ext ?_)
  refine (Window.rect_emb_val win0_0 t _ a).trans ?_
  fin_cases a
  · exact (congrArg (· * 1 + 0) e0).trans (by show (batch t).val * 1 + 0 = (batch t).val; omega)
  · exact (congrArg (· * 512 + r.val) e1).trans (by show (rowBlk t).val * 512 + r.val = 512 * (rowBlk t).val + r.val; omega)
  · exact (congrArg (· * 1024 + k.val) e2).trans (by show _ = k.val; omega)

theorem blk_s (k : Fin 1024) : (iblk m c 2 t : Vec Ideal S1x1x1024 .f32) (ix3 0 0 k) = aS m c (ix3 (batch t) 0 k) := by
  obtain ⟨e0, e1, e2⟩ := index_s t
  unfold iblk
  rw [View.read_apply]
  refine (congrFun (V_main_arg2 m c) _).trans ?_
  refine congrArg (aS m c) (funext fun a => Fin.ext ?_)
  refine (Window.rect_emb_val win0_2 t _ a).trans ?_
  fin_cases a
  · exact (congrArg (· * 1 + 0) e0).trans (by show (batch t).val * 1 + 0 = (batch t).val; omega)
  · exact (congrArg (· * 1 + 0) e1)
  · exact (congrArg (· * 1024 + k.val) e2).trans (by show _ = k.val; omega)

theorem blk_t (k : Fin 1024) : (iblk m c 3 t : Vec Ideal S1x1x1024 .f32) (ix3 0 0 k) = aT m c (ix3 (batch t) 0 k) := by
  obtain ⟨e0, e1, e2⟩ := index_t t
  unfold iblk
  rw [View.read_apply]
  refine (congrFun (V_main_arg3 m c) _).trans ?_
  refine congrArg (aT m c) (funext fun a => Fin.ext ?_)
  refine (Window.rect_emb_val win0_3 t _ a).trans ?_
  fin_cases a
  · exact (congrArg (· * 1 + 0) e0).trans (by show (batch t).val * 1 + 0 = (batch t).val; omega)
  · exact (congrArg (· * 1 + 0) e1)
  · exact (congrArg (· * 1024 + k.val) e2).trans (by show _ = k.val; omega)

theorem blk_w (k : Fin 1024) (j : Fin 3072) : (iblk m c 4 t : Vec Ideal S1024x3072 .bf16) (ix2 k j) = aW m c (ix2 k j) := by
  obtain ⟨e0, e1⟩ := index_w t
  unfold iblk
  rw [View.read_apply]
  refine (congrFun (V_main_arg4 m c) _).trans ?_
  refine congrArg (aW m c) (funext fun a => Fin.ext ?_)
  refine (Window.rect_emb_val win0_4 t _ a).trans ?_
  fin_cases a
  · exact (congrArg (· * 1024 + k.val) e0).trans (by show _ = k.val; omega)
  · exact (congrArg (· * 3072 + j.val) e1).trans (by show _ = j.val; omega)

theorem blk_c (r : Fin 512) (l : Fin 128) : (iblk m c 5 t : Vec Ideal S512x128 .f32) (ix2 r l) = aC m c (ix2 (row t r) l) := by
  obtain ⟨e0, e1⟩ := index_c t
  unfold iblk
  rw [View.read_apply]
  refine (congrFun (V_main_arg5 m c) _).trans ?_
  refine congrArg (aC m c) (funext fun a => Fin.ext ?_)
  refine (Window.rect_emb_val win0_5 t _ a).trans ?_
  fin_cases a
  · exact (congrArg (· * 512 + r.val) e0).trans (by show (rowBlk t).val * 512 + r.val = 512 * (rowBlk t).val + r.val; omega)
  · exact (congrArg (· * 128 + l.val) e1).trans (by show _ = l.val; omega)

theorem blk_n (r : Fin 512) (l : Fin 128) : (iblk m c 6 t : Vec Ideal S512x128 .f32) (ix2 r l) = aN m c (ix2 (row t r) l) := by
  obtain ⟨e0, e1⟩ := index_n t
  unfold iblk
  rw [View.read_apply]
  refine (congrFun (V_main_arg6 m c) _).trans ?_
  refine congrArg (aN m c) (funext fun a => Fin.ext ?_)
  refine (Window.rect_emb_val win0_6 t _ a).trans ?_
  fin_cases a
  · exact (congrArg (· * 512 + r.val) e0).trans (by show (rowBlk t).val * 512 + r.val = 512 * (rowBlk t).val + r.val; omega)
  · exact (congrArg (· * 128 + l.val) e1).trans (by show _ = l.val; omega)

/-- The gain is laid out as one row before the call. -/
theorem gain_row (k : Fin 1024) : (V m c main_v0 : Vec Ideal S1x1024 .f32) (ix2 0 k) = aG m c (ix1 k) := by
  show V m c main_v0 (ix2 0 k) = _
  entry_read
  refine shapeCast_apply _ shapeCasts_S1024_S1x1024 (ix2 0 k) (ix1 k) ?_
  rw [Shape.rowMajor_val_one, Shape.rowMajor_val_two]
  show k.val = 0 * 1024 + k.val
  omega

theorem blk_g (k : Fin 1024) : (iblk m c 1 t : Vec Ideal S1x1024 .f32) (ix2 0 k) = aG m c (ix1 k) := by
  obtain ⟨e0, e1⟩ := index_g t
  unfold iblk
  rw [View.read_apply]
  refine Eq.trans ?_ (gain_row m c k)
  refine congrArg (V m c main_v0 : Vec Ideal S1x1024 .f32) (funext fun a => Fin.ext ?_)
  refine (Window.rect_emb_val win0_1 t _ a).trans ?_
  fin_cases a
  · exact (congrArg (· * 1 + 0) e0)
  · exact (congrArg (· * 1024 + k.val) e1).trans (by show _ = k.val; omega)

/-- The blocks of a grid point are loaded whole. -/
theorem load_x : (View.ld (iblk m c 0 t : Vec Ideal S1x512x1024 .f32) r0_0 : S1x512x1024.Idx → EReal) = iblk m c 0 t :=
  View.ld_unit_zero (by funext a; fin_cases a <;> rfl) _ _

theorem load_g : (View.ld (iblk m c 1 t : Vec Ideal S1x1024 .f32) r0_1 : S1x1024.Idx → EReal) = iblk m c 1 t :=
  View.ld_unit_zero (by funext a; fin_cases a <;> rfl) _ _

theorem load_s : (View.ld (iblk m c 2 t : Vec Ideal S1x1x1024 .f32) r0_2 : S1x1x1024.Idx → EReal) = iblk m c 2 t :=
  View.ld_unit_zero (by funext a; fin_cases a <;> rfl) _ _

theorem load_t : (View.ld (iblk m c 3 t : Vec Ideal S1x1x1024 .f32) r0_2 : S1x1x1024.Idx → EReal) = iblk m c 3 t :=
  View.ld_unit_zero (by funext a; fin_cases a <;> rfl) _ _

/-- The normalised rows of a grid point. -/
theorem rows_apply (r : Fin 512) (k : Fin 1024) :
    k0_pay14 (iblk m c 0 t) (iblk m c 1 t) (iblk m c 2 t) (iblk m c 3 t) (iblk m c 4 t) (iblk m c 5 t) (iblk m c 6 t) (ix2 r k)
      = normed (fun k => aX m c (ix3 (batch t) (row t r) k)) (fun k => aG m c (ix1 k)) (fun k => aS m c (ix3 (batch t) 0 k)) (fun k => aT m c (ix3 (batch t) 0 k)) k := by
  unfold k0_pay14
  refine (normed_apply _ _ _ _ r k).trans ?_
  rw [load_x, load_g, load_s, load_t]
  simp only [blk_x, blk_g, blk_s, blk_t]

theorem cols_apply (o : ℕ) (ho : o + 512 ≤ 3072) (w : FVec Ideal S1024x512 .bf16)
    (hw : ∀ (k : Fin 1024) (j : Fin 512), w (ix2 k j) = aW m c (ix2 k (⟨o + j.val, by omega⟩ : Fin 3072))) (r j : Fin 512) :
    matmul dot_S512x1024_S1024x512_S512x512_1_0_0_1_n_n none
        (k0_pay14 (iblk m c 0 t) (iblk m c 1 t) (iblk m c 2 t) (iblk m c 3 t) (iblk m c 4 t) (iblk m c 5 t) (iblk m c 6 t)) w
        (constant (F := Ideal) S512x512 .f32 0x00000000#32) (ix2 r j)
      = columns (aX m c) (aG m c) (aS m c) (aT m c) (aW m c) o ho (batch t) (row t r) j := by
  refine (prod_apply _ w r j).trans ?_
  unfold columns
  simp only [rows_apply, hw]

/-- A load of 512 columns of the weight. -/
theorem load_cols (o : ℕ) (ho : o + 512 ≤ 3072) (inb : ∀ a, (![0, o] : Fin 2 → ℕ) a + S1024x512.size a ≤ S1024x3072.size a) (k : Fin 1024) (j : Fin 512) :
    (View.ld (iblk m c 4 t : Vec Ideal S1024x3072 .bf16) (Rect.unit (s := S1024x3072) ![0, o] S1024x512.size inb) : S1024x512.Idx → EReal) (ix2 k j)
      = aW m c (ix2 k (⟨o + j.val, by omega⟩ : Fin 3072)) := by
  refine (View.ld_unit_apply_of _ _ _ inb _ (ix2 k (⟨o + j.val, by omega⟩ : Fin 3072)) ?_).trans (blk_w m c t k _)
  intro a
  match a with
  | 0 => show k.val = 0 + k.val; omega
  | 1 => rfl

/-- The tables' blocks are loaded whole. -/
theorem load_cos : (View.ld (iblk m c 5 t : Vec Ideal S512x128 .f32) r0_3 : S512x128.Idx → EReal) = iblk m c 5 t :=
  View.ld_unit_zero (by funext a; fin_cases a <;> rfl) _ _

theorem load_sin : (View.ld (iblk m c 6 t : Vec Ideal S512x128 .f32) r0_3 : S512x128.Idx → EReal) = iblk m c 6 t :=
  View.ld_unit_zero (by funext a; fin_cases a <;> rfl) _ _

/-- One block stored whole. -/
theorem stored (v : FVec Ideal S1x512x512 .bf16) : View.canon [(⟨r0_5, v⟩ : View.Piece (Elt Ideal) S1x512x512 .bf16)] = v :=
  View.canon_unit_zero (by funext a; fin_cases a <;> rfl) _ _

theorem turned_block (o : ℕ) (ho : o + 512 ≤ 3072) (w : FVec Ideal S1024x512 .bf16)
    (hw : ∀ (k : Fin 1024) (j : Fin 512), w (ix2 k j) = aW m c (ix2 k (⟨o + j.val, by omega⟩ : Fin 3072))) (a : Fin 1) (r j : Fin 512) :
    k0_pay11 (F := Ideal) (turned (matmul dot_S512x1024_S1024x512_S512x512_1_0_0_1_n_n none
        (k0_pay14 (iblk m c 0 t) (iblk m c 1 t) (iblk m c 2 t) (iblk m c 3 t) (iblk m c 4 t) (iblk m c 5 t) (iblk m c 6 t)) w
        (constant (F := Ideal) S512x512 .f32 0x00000000#32)) (iblk m c 5 t) (iblk m c 6 t) first) (ix3 a r j)
      = rotatedOut (aX m c) (aG m c) (aS m c) (aT m c) (aW m c) (aC m c) (aN m c) o ho (ix3 (batch t) (row t r) j) := by
  refine (store_apply _ a r j).trans ((turned_apply _ _ _ r j).trans ?_)
  unfold rotatedOut
  simp only [cols_apply m c t o ho w hw, blk_c, blk_n]
  rfl

theorem plain_block (o : ℕ) (ho : o + 512 ≤ 3072) (w : FVec Ideal S1024x512 .bf16)
    (hw : ∀ (k : Fin 1024) (j : Fin 512), w (ix2 k j) = aW m c (ix2 k (⟨o + j.val, by omega⟩ : Fin 3072))) (a : Fin 1) (r j : Fin 512) :
    k0_pay2 (k0_pay14 (iblk m c 0 t) (iblk m c 1 t) (iblk m c 2 t) (iblk m c 3 t) (iblk m c 4 t) (iblk m c 5 t) (iblk m c 6 t)) w (ix3 a r j)
      = plainOut (aX m c) (aG m c) (aS m c) (aT m c) (aW m c) o ho (ix3 (batch t) (row t r) j) :=
  (store_apply _ a r j).trans (cols_apply m c t o ho w hw r j)

theorem eta3 (y : S1x512x512.Idx) : y = ix3 (y 0 : Fin 1) (y 1 : Fin 512) (y 2 : Fin 512) := by
  funext a
  match a with
  | 0 => rfl
  | 1 => rfl
  | 2 => rfl

/-- Every batch and every block of rows has its grid point. -/
theorem point_of : ∀ (b i : Fin 8), ∃ t : Fin grid0.N, (grid0.coords t 0).val = b.val ∧ (grid0.coords t 1).val = i.val := by
  decide +kernel

theorem index_out : ∀ t : Fin grid0.N, win0_7.index t (0 : Fin 3) = (grid0.coords t 0).val ∧ win0_7.index t (1 : Fin 3) = (grid0.coords t 1).val ∧ win0_7.index t (2 : Fin 3) = 0 := by
  decide +kernel

/-- Where an element of a grid point's block lies in the array, for every result. -/
theorem place {t : Fin cfg0.N} {f : Fin 3 → ℕ} (h : f 0 = (grid0.coords t 0).val ∧ f 1 = (grid0.coords t 1).val ∧ f 2 = 0) (y : S1x512x512.Idx)
    (v : S8x4096x512.Idx) (e : ∀ a : Fin 3, (v a).val = f a * S1x512x512.size a + (y a).val) :
    v = ix3 (batch t) (row t (y 1)) (y 2 : Fin 512) := by
  obtain ⟨e0, e1, e2⟩ := h
  have h0 : (y 0).val = 0 := Nat.lt_one_iff.mp (y 0).isLt
  funext a
  refine Fin.ext ((e a).trans ?_)
  match a with
  | 0 => exact (congrArg (· * 1 + (y 0).val) e0).trans (by rw [h0]; show (batch t).val * 1 + 0 = (batch t).val; omega)
  | 1 => exact (congrArg (· * 512 + (y 1).val) e1).trans (by show (rowBlk t).val * 512 + (y 1).val = 512 * (rowBlk t).val + (y 1).val; omega)
  | 2 => exact (congrArg (· * 512 + (y 2).val) e2).trans (by show 0 * 512 + (y 2).val = (y 2).val; omega)

/-- Every element of an array is in the block of a grid point. -/
theorem back (i : S8x4096x512.Idx) : ∃ (t : Fin cfg0.N) (y : S1x512x512.Idx), (ix3 (batch t) (row t (y 1)) (y 2 : Fin 512) : S8x4096x512.Idx) = i := by
  have hi0 : (i 0).val < 8 := (i 0).isLt
  have hi1 : (i 1).val < 4096 := (i 1).isLt
  obtain ⟨t, ht0, ht1⟩ := point_of ⟨(i 0).val, hi0⟩ ⟨(i 1).val / 512, by omega⟩
  refine ⟨t, ix3 (0 : Fin 1) (⟨(i 1).val % 512, by omega⟩ : Fin 512) (i 2 : Fin 512), ?_⟩
  funext a
  match a with
  | 0 => exact Fin.ext ht0
  | 1 => exact Fin.ext ((congrArg (512 * · + (i 1).val % 512) ht1).trans (by show 512 * ((i 1).val / 512) + (i 1).val % 512 = (i 1).val; omega))
  | 2 => rfl

/-- Result 0: a grid point's block, … -/
theorem out7_apply (y : S1x512x512.Idx) : out0_7 (iblk m c 0 t) (iblk m c 1 t) (iblk m c 2 t) (iblk m c 3 t) (iblk m c 4 t) (iblk m c 5 t) (iblk m c 6 t) y
    = (rotatedOut (aX m c) (aG m c) (aS m c) (aT m c) (aW m c) (aC m c) (aN m c) 0 (by decide)) (ix3 (batch t) (row t (y 1)) (y 2)) := by
  refine (congrArg _ (eta3 y)).trans ?_
  unfold out0_7
  rw [stored, load_cos, load_sin]
  exact turned_block m c t 0 (by decide) _ (load_cols m c t 0 (by decide) _) (y 0) (y 1) (y 2)

/-- … and the array after the run. -/
theorem arr_7 : (dats m 0 c).arrAt 7 cfg0.N = (rotatedOut (aX m c) (aG m c) (aS m c) (aT m c) (aW m c) (aC m c) (aN m c) 0 (by decide)) := by
  have e (t : Fin cfg0.N) (y : S1x512x512.Idx) := place (index_out t) y (((cfg0.win 7).blk t).view.emb y) (Window.rect_emb_val win0_7 t y)
  refine (dats m 0 c).arrAt_eq_of_cover 7 (rotatedOut (aX m c) (aG m c) (aS m c) (aT m c) (aW m c) (aC m c) (aN m c) 0 (by decide)) (fun t _ => ?_) (fun i => ?_)
  · rw [flushed7]
    funext y
    rw [View.read_apply]
    exact (out7_apply m c t y).trans (congrArg (rotatedOut (aX m c) (aG m c) (aS m c) (aT m c) (aW m c) (aC m c) (aN m c) 0 (by decide)) (e t y).symm)
  · obtain ⟨t, y, h⟩ := back i
    exact ⟨t, flush0_7 t, ((e t y).trans h) ▸ ((cfg0.win 7).blk t).view.emb_mem_set _⟩

/-- Result 1: a grid point's block, … -/
theorem out8_apply (y : S1x512x512.Idx) : out0_8 (iblk m c 0 t) (iblk m c 1 t) (iblk m c 2 t) (iblk m c 3 t) (iblk m c 4 t) (iblk m c 5 t) (iblk m c 6 t) y
    = (rotatedOut (aX m c) (aG m c) (aS m c) (aT m c) (aW m c) (aC m c) (aN m c) 512 (by decide)) (ix3 (batch t) (row t (y 1)) (y 2)) := by
  refine (congrArg _ (eta3 y)).trans ?_
  unfold out0_8
  rw [stored, load_cos, load_sin]
  exact turned_block m c t 512 (by decide) _ (load_cols m c t 512 (by decide) _) (y 0) (y 1) (y 2)

/-- … and the array after the run. -/
theorem arr_8 : (dats m 0 c).arrAt 8 cfg0.N = (rotatedOut (aX m c) (aG m c) (aS m c) (aT m c) (aW m c) (aC m c) (aN m c) 512 (by decide)) := by
  have e (t : Fin cfg0.N) (y : S1x512x512.Idx) := place (index_out t) y (((cfg0.win 8).blk t).view.emb y) (Window.rect_emb_val win0_8 t y)
  refine (dats m 0 c).arrAt_eq_of_cover 8 (rotatedOut (aX m c) (aG m c) (aS m c) (aT m c) (aW m c) (aC m c) (aN m c) 512 (by decide)) (fun t _ => ?_) (fun i => ?_)
  · rw [flushed8]
    funext y
    rw [View.read_apply]
    exact (out8_apply m c t y).trans (congrArg (rotatedOut (aX m c) (aG m c) (aS m c) (aT m c) (aW m c) (aC m c) (aN m c) 512 (by decide)) (e t y).symm)
  · obtain ⟨t, y, h⟩ := back i
    exact ⟨t, flush0_8 t, ((e t y).trans h) ▸ ((cfg0.win 8).blk t).view.emb_mem_set _⟩

/-- Result 2: a grid point's block, … -/
theorem out9_apply (y : S1x512x512.Idx) : out0_9 (iblk m c 0 t) (iblk m c 1 t) (iblk m c 2 t) (iblk m c 3 t) (iblk m c 4 t) (iblk m c 5 t) (iblk m c 6 t) y
    = (plainOut (aX m c) (aG m c) (aS m c) (aT m c) (aW m c) 1024 (by decide)) (ix3 (batch t) (row t (y 1)) (y 2)) := by
  refine (congrArg _ (eta3 y)).trans ?_
  unfold out0_9
  rw [stored]
  exact plain_block m c t 1024 (by decide) _ (load_cols m c t 1024 (by decide) _) (y 0) (y 1) (y 2)

/-- … and the array after the run. -/
theorem arr_9 : (dats m 0 c).arrAt 9 cfg0.N = (plainOut (aX m c) (aG m c) (aS m c) (aT m c) (aW m c) 1024 (by decide)) := by
  have e (t : Fin cfg0.N) (y : S1x512x512.Idx) := place (index_out t) y (((cfg0.win 9).blk t).view.emb y) (Window.rect_emb_val win0_9 t y)
  refine (dats m 0 c).arrAt_eq_of_cover 9 (plainOut (aX m c) (aG m c) (aS m c) (aT m c) (aW m c) 1024 (by decide)) (fun t _ => ?_) (fun i => ?_)
  · rw [flushed9]
    funext y
    rw [View.read_apply]
    exact (out9_apply m c t y).trans (congrArg (plainOut (aX m c) (aG m c) (aS m c) (aT m c) (aW m c) 1024 (by decide)) (e t y).symm)
  · obtain ⟨t, y, h⟩ := back i
    exact ⟨t, flush0_9 t, ((e t y).trans h) ▸ ((cfg0.win 9).blk t).view.emb_mem_set _⟩

/-- Result 3: a grid point's block, … -/
theorem out10_apply (y : S1x512x512.Idx) : out0_10 (iblk m c 0 t) (iblk m c 1 t) (iblk m c 2 t) (iblk m c 3 t) (iblk m c 4 t) (iblk m c 5 t) (iblk m c 6 t) y
    = (plainOut (aX m c) (aG m c) (aS m c) (aT m c) (aW m c) 1536 (by decide)) (ix3 (batch t) (row t (y 1)) (y 2)) := by
  refine (congrArg _ (eta3 y)).trans ?_
  unfold out0_10
  rw [stored]
  exact plain_block m c t 1536 (by decide) _ (load_cols m c t 1536 (by decide) _) (y 0) (y 1) (y 2)

/-- … and the array after the run. -/
theorem arr_10 : (dats m 0 c).arrAt 10 cfg0.N = (plainOut (aX m c) (aG m c) (aS m c) (aT m c) (aW m c) 1536 (by decide)) := by
  have e (t : Fin cfg0.N) (y : S1x512x512.Idx) := place (index_out t) y (((cfg0.win 10).blk t).view.emb y) (Window.rect_emb_val win0_10 t y)
  refine (dats m 0 c).arrAt_eq_of_cover 10 (plainOut (aX m c) (aG m c) (aS m c) (aT m c) (aW m c) 1536 (by decide)) (fun t _ => ?_) (fun i => ?_)
  · rw [flushed10]
    funext y
    rw [View.read_apply]
    exact (out10_apply m c t y).trans (congrArg (plainOut (aX m c) (aG m c) (aS m c) (aT m c) (aW m c) 1536 (by decide)) (e t y).symm)
  · obtain ⟨t, y, h⟩ := back i
    exact ⟨t, flush0_10 t, ((e t y).trans h) ▸ ((cfg0.win 10).blk t).view.emb_mem_set _⟩

/-- Result 4: a grid point's block, … -/
theorem out11_apply (y : S1x512x512.Idx) : out0_11 (iblk m c 0 t) (iblk m c 1 t) (iblk m c 2 t) (iblk m c 3 t) (iblk m c 4 t) (iblk m c 5 t) (iblk m c 6 t) y
    = (plainOut (aX m c) (aG m c) (aS m c) (aT m c) (aW m c) 2048 (by decide)) (ix3 (batch t) (row t (y 1)) (y 2)) := by
  refine (congrArg _ (eta3 y)).trans ?_
  unfold out0_11
  rw [stored]
  exact plain_block m c t 2048 (by decide) _ (load_cols m c t 2048 (by decide) _) (y 0) (y 1) (y 2)

/-- … and the array after the run. -/
theorem arr_11 : (dats m 0 c).arrAt 11 cfg0.N = (plainOut (aX m c) (aG m c) (aS m c) (aT m c) (aW m c) 2048 (by decide)) := by
  have e (t : Fin cfg0.N) (y : S1x512x512.Idx) := place (index_out t) y (((cfg0.win 11).blk t).view.emb y) (Window.rect_emb_val win0_11 t y)
  refine (dats m 0 c).arrAt_eq_of_cover 11 (plainOut (aX m c) (aG m c) (aS m c) (aT m c) (aW m c) 2048 (by decide)) (fun t _ => ?_) (fun i => ?_)
  · rw [flushed11]
    funext y
    rw [View.read_apply]
    exact (out11_apply m c t y).trans (congrArg (plainOut (aX m c) (aG m c) (aS m c) (aT m c) (aW m c) 2048 (by decide)) (e t y).symm)
  · obtain ⟨t, y, h⟩ := back i
    exact ⟨t, flush0_11 t, ((e t y).trans h) ▸ ((cfg0.win 11).blk t).view.emb_mem_set _⟩

/-- Result 5: a grid point's block, … -/
theorem out12_apply (y : S1x512x512.Idx) : out0_12 (iblk m c 0 t) (iblk m c 1 t) (iblk m c 2 t) (iblk m c 3 t) (iblk m c 4 t) (iblk m c 5 t) (iblk m c 6 t) y
    = (plainOut (aX m c) (aG m c) (aS m c) (aT m c) (aW m c) 2560 (by decide)) (ix3 (batch t) (row t (y 1)) (y 2)) := by
  refine (congrArg _ (eta3 y)).trans ?_
  unfold out0_12
  rw [stored]
  exact plain_block m c t 2560 (by decide) _ (load_cols m c t 2560 (by decide) _) (y 0) (y 1) (y 2)

/-- … and the array after the run. -/
theorem arr_12 : (dats m 0 c).arrAt 12 cfg0.N = (plainOut (aX m c) (aG m c) (aS m c) (aT m c) (aW m c) 2560 (by decide)) := by
  have e (t : Fin cfg0.N) (y : S1x512x512.Idx) := place (index_out t) y (((cfg0.win 12).blk t).view.emb y) (Window.rect_emb_val win0_12 t y)
  refine (dats m 0 c).arrAt_eq_of_cover 12 (plainOut (aX m c) (aG m c) (aS m c) (aT m c) (aW m c) 2560 (by decide)) (fun t _ => ?_) (fun i => ?_)
  · rw [flushed12]
    funext y
    rw [View.read_apply]
    exact (out12_apply m c t y).trans (congrArg (plainOut (aX m c) (aG m c) (aS m c) (aT m c) (aW m c) 2560 (by decide)) (e t y).symm)
  · obtain ⟨t, y, h⟩ := back i
    exact ⟨t, flush0_12 t, ((e t y).trans h) ▸ ((cfg0.win 12).blk t).view.emb_mem_set _⟩

/-- The run: the six results are the layer's, the arguments end unchanged. -/
theorem run_project : θ_run defs (onTc (τ := τ) (main (F := Ideal))) ⟨m, fun _ => 0, ρ⟩ fun r => ∀ c : Dev nD,
      r.2.mem ((c : Thread nD τ).loc main_v1_0) = (rotatedOut (aX m c) (aG m c) (aS m c) (aT m c) (aW m c) (aC m c) (aN m c) 0 (by decide))
      ∧ r.2.mem ((c : Thread nD τ).loc main_v1_1) = (rotatedOut (aX m c) (aG m c) (aS m c) (aT m c) (aW m c) (aC m c) (aN m c) 512 (by decide))
      ∧ r.2.mem ((c : Thread nD τ).loc main_v1_2) = (plainOut (aX m c) (aG m c) (aS m c) (aT m c) (aW m c) 1024 (by decide))
      ∧ r.2.mem ((c : Thread nD τ).loc main_v1_3) = (plainOut (aX m c) (aG m c) (aS m c) (aT m c) (aW m c) 1536 (by decide))
      ∧ r.2.mem ((c : Thread nD τ).loc main_v1_4) = (plainOut (aX m c) (aG m c) (aS m c) (aT m c) (aW m c) 2048 (by decide))
      ∧ r.2.mem ((c : Thread nD τ).loc main_v1_5) = (plainOut (aX m c) (aG m c) (aS m c) (aT m c) (aW m c) 2560 (by decide))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => by
    obtain ⟨h0, h1, h2, h3, h4, h5, hk⟩ := h c
    exact ⟨h0.trans (arr_7 m c), h1.trans (arr_8 m c), h2.trans (arr_9 m c), h3.trans (arr_10 m c), h4.trans (arr_11 m c), h5.trans (arr_12 m c), hk⟩)
    (run_blocks m ρ)

end Cert.Kernel3Ideal.Project

end
-- ==== Proof.ProjectRef.lean ====
/-
  The reference of the projection, read element by element: the modulated norm, the product, the six slices, and the rotation
  of each head's two halves.
-/
module

public import proofs.«01_k».proof.Proof.Gen.Reference3Ideal.Read
public import proofs.«01_k».proof.Proof.Project
public import Idealize.ShloMosaic.Lib.Pipeline.Value

@[expose] public section

set_option maxRecDepth 2000

noncomputable section

namespace Cert.Reference3Ideal.Project

open Cert.Reference3Ideal Cert.Reference3Ideal.Gen Cert.Reference3Ideal.Read Cert.Project
open Idealize.ShloMosaic Idealize.ShloMosaic.TcCoe

variable (x0 : Vec Ideal S8x4096x1024 .f32) (x1 : Vec Ideal S1024 .f32) (x2 x3 : Vec Ideal S8x1x1024 .f32) (x4 : Vec Ideal S1024x3072 .bf16)
  (x5 x6 : Vec Ideal S4096x128 .f32)

/-- The mean square of a row, with 1e-6, under the root. -/
theorem root_eq (b : Fin 8) (n : Fin 4096) (k : Fin 1024) : val_main_v8 (F := Ideal) x0 (ix3 b n k)
    = Ideal.rsqrt (Ideal.div (∑ l : Fin 1024, x0 (ix3 b n l) * x0 (ix3 b n l)) (Ideal.ofBits .f32 0x44800000#32) + Ideal.ofBits .f32 0x358637BD#32) := by
  have e : ∀ l : Fin 1024, idx_main_v1 (idx_main_v2 (idx_main_v8 (ix3 b n k))) l = ix3 b n l := fun l => by
    funext a
    match a with
    | 0 => rfl
    | 1 => rfl
    | 2 => rfl
  rw [val_main_v8_apply, val_main_v7_apply, val_main_v6_apply, val_main_v5_apply, val_main_v4_apply, val_main_v3_apply, val_main_v2_apply,
    val_main_v1_apply, val_main_cst_apply, val_main_cst_0_apply, val_main_cst_1_apply]
  simp only [val_main_v0_apply, e]
  refine congrArg (fun s => Ideal.rsqrt (Ideal.div s (Ideal.ofBits .f32 0x44800000#32) + Ideal.ofBits .f32 0x358637BD#32)) ?_
  show Ideal.ofBits .f32 0x00000000#32 + _ = _
  rw [Ideal.ofBits_zero_f32, zero_add]
  rfl

/-- The modulated norm. -/
theorem norm_eq (b : Fin 8) (n : Fin 4096) (k : Fin 1024) : val_main_v16 (F := Ideal) x0 x1 x2 x3 (ix3 b n k)
    = normed (fun k => x0 (ix3 b n k)) (fun k => x1 (ix1 k)) (fun k => x2 (ix3 b 0 k)) (fun k => x3 (ix3 b 0 k)) k := by
  have e1 : idx_main_v10 (idx_main_v11 (ix3 b n k)) = ix1 k := by
    funext a
    match a with
    | 0 => rfl
  have e2 : idx_main_v13 (ix3 b n k) = ix3 b (0 : Fin 1) k := by
    funext a
    match a with
    | 0 => rfl
    | 1 => rfl
    | 2 => rfl
  have e3 : idx_main_v15 (ix3 b n k) = ix3 b (0 : Fin 1) k := by
    funext a
    match a with
    | 0 => rfl
    | 1 => rfl
    | 2 => rfl
  rw [val_main_v16_apply, val_main_v15_apply, val_main_v14_apply, val_main_v13_apply, val_main_v12_apply, val_main_v11_apply, val_main_v10_apply,
    val_main_v9_apply, root_eq, e1, e2, e3]
  rfl

/-- One element of the product. -/
theorem product_eq (b : Fin 8) (n : Fin 4096) (j : Fin 3072) : val_main_v18 (F := Ideal) x0 x1 x2 x3 x4 (ix3 b n j)
    = lin (normed (fun k => x0 (ix3 b n k)) (fun k => x1 (ix1 k)) (fun k => x2 (ix3 b 0 k)) (fun k => x3 (ix3 b 0 k))) (fun k j => x4 (ix2 k j)) j := by
  rw [val_main_v18_apply]
  unfold lin
  refine Finset.sum_congr rfl fun k _ => ?_
  have el : lidx_main_v18 (ix3 b n j) k = ix3 b n k := by
    funext a
    match a with
    | 0 => rfl
    | 1 => rfl
    | 2 => rfl
  have er : ridx_main_v18 (ix3 b n j) k = ix2 k j := by
    funext a
    match a with
    | 0 => rfl
    | 1 => rfl
  rw [el, er, norm_eq, val_main_v17_apply]
  rfl

theorem slice_19 (b : Fin 8) (n : Fin 4096) (j : Fin 512) : val_main_v19 (F := Ideal) x0 x1 x2 x3 x4 (ix3 b n j)
    = columns x0 x1 x2 x3 x4 0 (by decide) b n j := by
  have e : idx_main_v19 (ix3 b n j) = ix3 b n (⟨0 + j.val, by omega⟩ : Fin 3072) := by
    funext a
    match a with
    | 0 => rfl
    | 1 => rfl
    | 2 => exact Fin.ext (Nat.zero_add j.val).symm
  rw [val_main_v19_apply, e, product_eq]
  rfl

theorem slice_20 (b : Fin 8) (n : Fin 4096) (j : Fin 512) : val_main_v20 (F := Ideal) x0 x1 x2 x3 x4 (ix3 b n j)
    = columns x0 x1 x2 x3 x4 512 (by decide) b n j := by
  have e : idx_main_v20 (ix3 b n j) = ix3 b n (⟨512 + j.val, by omega⟩ : Fin 3072) := by
    funext a
    match a with
    | 0 => rfl
    | 1 => rfl
    | 2 => rfl
  rw [val_main_v20_apply, e, product_eq]
  rfl

theorem slice_21 (b : Fin 8) (n : Fin 4096) (j : Fin 512) : val_main_v21 (F := Ideal) x0 x1 x2 x3 x4 (ix3 b n j)
    = columns x0 x1 x2 x3 x4 1024 (by decide) b n j := by
  have e : idx_main_v21 (ix3 b n j) = ix3 b n (⟨1024 + j.val, by omega⟩ : Fin 3072) := by
    funext a
    match a with
    | 0 => rfl
    | 1 => rfl
    | 2 => rfl
  rw [val_main_v21_apply, e, product_eq]
  rfl

theorem slice_22 (b : Fin 8) (n : Fin 4096) (j : Fin 512) : val_main_v22 (F := Ideal) x0 x1 x2 x3 x4 (ix3 b n j)
    = columns x0 x1 x2 x3 x4 1536 (by decide) b n j := by
  have e : idx_main_v22 (ix3 b n j) = ix3 b n (⟨1536 + j.val, by omega⟩ : Fin 3072) := by
    funext a
    match a with
    | 0 => rfl
    | 1 => rfl
    | 2 => rfl
  rw [val_main_v22_apply, e, product_eq]
  rfl

theorem slice_23 (b : Fin 8) (n : Fin 4096) (j : Fin 512) : val_main_v23 (F := Ideal) x0 x1 x2 x3 x4 (ix3 b n j)
    = columns x0 x1 x2 x3 x4 2048 (by decide) b n j := by
  have e : idx_main_v23 (ix3 b n j) = ix3 b n (⟨2048 + j.val, by omega⟩ : Fin 3072) := by
    funext a
    match a with
    | 0 => rfl
    | 1 => rfl
    | 2 => rfl
  rw [val_main_v23_apply, e, product_eq]
  rfl

theorem slice_24 (b : Fin 8) (n : Fin 4096) (j : Fin 512) : val_main_v24 (F := Ideal) x0 x1 x2 x3 x4 (ix3 b n j)
    = columns x0 x1 x2 x3 x4 2560 (by decide) b n j := by
  have e : idx_main_v24 (ix3 b n j) = ix3 b n (⟨2560 + j.val, by omega⟩ : Fin 3072) := by
    funext a
    match a with
    | 0 => rfl
    | 1 => rfl
    | 2 => rfl
  rw [val_main_v24_apply, e, product_eq]
  rfl

/-! The layout operations, each at an index. -/

theorem i39 (b : Fin 8) (n : Fin 4096) (h : Fin 8) (l : Fin 32) : idx_main_v39 (ix4 b n h l) = ix4 (0 : Fin 1) n h l := by
  funext a
  match a with
  | 0 => rfl
  | 1 => rfl
  | 2 => rfl
  | 3 => rfl

theorem i38 (n : Fin 4096) (h : Fin 8) (l : Fin 32) : idx_main_v38 (ix4 (0 : Fin 1) n h l) = ix3 n h l := by
  funext a
  match a with
  | 0 => rfl
  | 1 => rfl
  | 2 => rfl

theorem i37 (n : Fin 4096) (h : Fin 8) (l : Fin 32) : idx_main_v37 (ix3 n h l) = ix4 n (⟨h.val / 2, by omega⟩ : Fin 4) (⟨h.val % 2, by omega⟩ : Fin 2) l := by
  funext a
  match a with
  | 0 => exact Fin.ext (by show ((n.val * 8 + h.val) * 32 + l.val) / 256 = n.val; omega)
  | 1 => exact Fin.ext (by show ((n.val * 8 + h.val) * 32 + l.val) / 64 % 4 = h.val / 2; omega)
  | 2 => exact Fin.ext (by show ((n.val * 8 + h.val) * 32 + l.val) / 32 % 2 = h.val % 2; omega)
  | 3 => exact Fin.ext (by show ((n.val * 8 + h.val) * 32 + l.val) % 32 = l.val; omega)

theorem i36 (n : Fin 4096) (g : Fin 4) (q : Fin 2) (l : Fin 32) : idx_main_v36 (ix4 n g q l) = ix4 n (0 : Fin 1) q l := by
  funext a
  match a with
  | 0 => rfl
  | 1 => rfl
  | 2 => rfl
  | 3 => rfl

theorem i35 (n : Fin 4096) (q : Fin 2) (l : Fin 32) : idx_main_v35 (ix4 n (0 : Fin 1) q l) = ix3 n q l := by
  funext a
  match a with
  | 0 => rfl
  | 1 => rfl
  | 2 => rfl

theorem i34 (n : Fin 4096) (q : Fin 2) (l : Fin 32) : idx_main_v34 (ix3 n q l) = ix4 n q (0 : Fin 1) l := by
  funext a
  match a with
  | 0 => exact Fin.ext (by show ((n.val * 2 + q.val) * 32 + l.val) / 64 = n.val; omega)
  | 1 => exact Fin.ext (by show ((n.val * 2 + q.val) * 32 + l.val) / 32 % 2 = q.val; omega)
  | 2 => rfl
  | 3 => exact Fin.ext (by show ((n.val * 2 + q.val) * 32 + l.val) % 32 = l.val; omega)

theorem i33 (n : Fin 4096) (q : Fin 2) (l : Fin 32) : idx_main_v33 (ix4 n q (0 : Fin 1) l) = ix4 n q (0 : Fin 2) l := by
  funext a
  match a with
  | 0 => rfl
  | 1 => rfl
  | 2 => rfl
  | 3 => rfl

theorem i50 (n : Fin 4096) (q : Fin 2) (l : Fin 32) : idx_main_v50 (ix4 n q (0 : Fin 1) l) = ix4 n q (1 : Fin 2) l := by
  funext a
  match a with
  | 0 => rfl
  | 1 => rfl
  | 2 => rfl
  | 3 => rfl

theorem i31 (n : Fin 4096) (q p : Fin 2) (l : Fin 32) : idx_main_v31 (ix4 n q p l) = ix2 n (⟨q.val * 64 + p.val * 32 + l.val, by omega⟩ : Fin 128) := by
  funext a
  match a with
  | 0 => exact Fin.ext (by show (((n.val * 2 + q.val) * 2 + p.val) * 32 + l.val) / 128 = n.val; omega)
  | 1 => exact Fin.ext (by show (((n.val * 2 + q.val) * 2 + p.val) * 32 + l.val) % 128 = q.val * 64 + p.val * 32 + l.val; omega)

theorem i27 (b : Fin 8) (n : Fin 4096) (h : Fin 8) (l : Fin 32) : idx_main_v27 (ix4 b n h l) = ix5 b n h (0 : Fin 1) l := by
  funext a
  match a with
  | 0 => exact Fin.ext (by show (((b.val * 4096 + n.val) * 8 + h.val) * 32 + l.val) / 1048576 = b.val; omega)
  | 1 => exact Fin.ext (by show (((b.val * 4096 + n.val) * 8 + h.val) * 32 + l.val) / 256 % 4096 = n.val; omega)
  | 2 => exact Fin.ext (by show (((b.val * 4096 + n.val) * 8 + h.val) * 32 + l.val) / 32 % 8 = h.val; omega)
  | 3 => rfl
  | 4 => exact Fin.ext (by show (((b.val * 4096 + n.val) * 8 + h.val) * 32 + l.val) % 32 = l.val; omega)

theorem i26 (b : Fin 8) (n : Fin 4096) (h : Fin 8) (l : Fin 32) : idx_main_v26 (ix5 b n h (0 : Fin 1) l) = ix5 b n h (0 : Fin 2) l := by
  funext a
  match a with
  | 0 => rfl
  | 1 => rfl
  | 2 => rfl
  | 3 => rfl
  | 4 => rfl

theorem i29 (b : Fin 8) (n : Fin 4096) (h : Fin 8) (l : Fin 32) : idx_main_v29 (ix5 b n h (0 : Fin 1) l) = ix5 b n h (1 : Fin 2) l := by
  funext a
  match a with
  | 0 => rfl
  | 1 => rfl
  | 2 => rfl
  | 3 => rfl
  | 4 => rfl

theorem i25 (b : Fin 8) (n : Fin 4096) (h : Fin 8) (p : Fin 2) (l : Fin 32) : idx_main_v25 (ix5 b n h p l) = ix3 b n (⟨h.val * 64 + p.val * 32 + l.val, by omega⟩ : Fin 512) := by
  funext a
  match a with
  | 0 => exact Fin.ext (by show ((((b.val * 4096 + n.val) * 8 + h.val) * 2 + p.val) * 32 + l.val) / 2097152 = b.val; omega)
  | 1 => exact Fin.ext (by show ((((b.val * 4096 + n.val) * 8 + h.val) * 2 + p.val) * 32 + l.val) / 512 % 4096 = n.val; omega)
  | 2 => exact Fin.ext (by show ((((b.val * 4096 + n.val) * 8 + h.val) * 2 + p.val) * 32 + l.val) % 512 = h.val * 64 + p.val * 32 + l.val; omega)

theorem i67 (b : Fin 8) (n : Fin 4096) (h : Fin 8) (l : Fin 32) : idx_main_v67 (ix5 b n h (0 : Fin 1) l) = ix4 b n h l := by
  funext a
  match a with
  | 0 => rfl
  | 1 => rfl
  | 2 => rfl
  | 3 => rfl

theorem i70 (b : Fin 8) (n : Fin 4096) (j : Fin 512) : idx_main_v70 (ix3 b n j) = ix5 b n (⟨j.val / 64, by omega⟩ : Fin 8) (⟨j.val / 32 % 2, by omega⟩ : Fin 2) (⟨j.val % 32, by omega⟩ : Fin 32) := by
  funext a
  match a with
  | 0 => exact Fin.ext (by show ((b.val * 4096 + n.val) * 512 + j.val) / 2097152 = b.val; omega)
  | 1 => exact Fin.ext (by show ((b.val * 4096 + n.val) * 512 + j.val) / 512 % 4096 = n.val; omega)
  | 2 => exact Fin.ext (by show ((b.val * 4096 + n.val) * 512 + j.val) / 64 % 8 = j.val / 64; omega)
  | 3 => exact Fin.ext (by show ((b.val * 4096 + n.val) * 512 + j.val) / 32 % 2 = j.val / 32 % 2; omega)
  | 4 => exact Fin.ext (by show ((b.val * 4096 + n.val) * 512 + j.val) % 32 = j.val % 32; omega)

/-- Two halves joined. -/
theorem join_left (u v : FVec Ideal S8x4096x8x1x32 .f32) (b : Fin 8) (n : Fin 4096) (h : Fin 8) (l : Fin 32) :
    concatenate S8x4096x8x2x32 3 [⟨S8x4096x8x1x32, u⟩, ⟨S8x4096x8x1x32, v⟩] concatenates_S8x4096x8x1x32_S8x4096x8x1x32_S8x4096x8x2x32_d3 (ix5 b n h (0 : Fin 2) l)
      = u (ix5 b n h (0 : Fin 1) l) := by
  refine concatenate_pair_apply_left (s₁ := S8x4096x8x1x32) (s₂ := S8x4096x8x1x32) (3 : Fin 5) u v _ (ix5 b n h (0 : Fin 2) l) rfl (ix5 b n h (0 : Fin 1) l) ?_
  intro a
  match a with
  | 0 => rfl
  | 1 => rfl
  | 2 => rfl
  | 3 => rfl
  | 4 => rfl

theorem join_right (u v : FVec Ideal S8x4096x8x1x32 .f32) (b : Fin 8) (n : Fin 4096) (h : Fin 8) (l : Fin 32) :
    concatenate S8x4096x8x2x32 3 [⟨S8x4096x8x1x32, u⟩, ⟨S8x4096x8x1x32, v⟩] concatenates_S8x4096x8x1x32_S8x4096x8x1x32_S8x4096x8x2x32_d3 (ix5 b n h (1 : Fin 2) l)
      = v (ix5 b n h (0 : Fin 1) l) := by
  refine concatenate_pair_apply_right (s₁ := S8x4096x8x1x32) (s₂ := S8x4096x8x1x32) (3 : Fin 5) u v _ (ix5 b n h (1 : Fin 2) l) rfl rfl (ix5 b n h (0 : Fin 1) l) ?_ ?_
  · intro a ha
    match a with
    | 0 => rfl
    | 1 => rfl
    | 2 => rfl
    | 3 => exact absurd rfl ha
    | 4 => rfl
  · rfl

/-! The rotation of the first result. -/

theorem table_39 (b : Fin 8) (n : Fin 4096) (h : Fin 8) (l : Fin 32) : val_main_v39 (F := Ideal) x5 (ix4 b n h l)
    = x5 (ix2 n (⟨h.val % 2 * 64 + 0 * 32 + l.val, by omega⟩ : Fin 128)) := by
  refine (val_main_v39_apply (F := Ideal) x5 _).trans ((congrArg (val_main_v38 (F := Ideal) x5) (i39 b n h l)).trans ?_)
  refine (val_main_v38_apply (F := Ideal) x5 _).trans ((congrArg (val_main_v37 (F := Ideal) x5) (i38 n h l)).trans ?_)
  refine (val_main_v37_apply (F := Ideal) x5 _).trans ((congrArg (val_main_v36 (F := Ideal) x5) (i37 n h l)).trans ?_)
  refine (val_main_v36_apply (F := Ideal) x5 _).trans ((congrArg (val_main_v35 (F := Ideal) x5) (i36 n (⟨h.val / 2, by omega⟩ : Fin 4) (⟨h.val % 2, by omega⟩ : Fin 2) l)).trans ?_)
  refine (val_main_v35_apply (F := Ideal) x5 _).trans ((congrArg (val_main_v34 (F := Ideal) x5) (i35 n (⟨h.val % 2, by omega⟩ : Fin 2) l)).trans ?_)
  refine (val_main_v34_apply (F := Ideal) x5 _).trans ((congrArg (val_main_v33 (F := Ideal) x5) (i34 n (⟨h.val % 2, by omega⟩ : Fin 2) l)).trans ?_)
  refine (val_main_v33_apply (F := Ideal) x5 _).trans ((congrArg (val_main_v31 (F := Ideal) x5) (i33 n (⟨h.val % 2, by omega⟩ : Fin 2) l)).trans ?_)
  exact (val_main_v31_apply (F := Ideal) x5 _).trans (congrArg x5 (i31 n (⟨h.val % 2, by omega⟩ : Fin 2) 0 l))

theorem table_47 (b : Fin 8) (n : Fin 4096) (h : Fin 8) (l : Fin 32) : val_main_v47 (F := Ideal) x6 (ix4 b n h l)
    = x6 (ix2 n (⟨h.val % 2 * 64 + 0 * 32 + l.val, by omega⟩ : Fin 128)) := by
  refine (val_main_v47_apply (F := Ideal) x6 _).trans ((congrArg (val_main_v46 (F := Ideal) x6) (i39 b n h l)).trans ?_)
  refine (val_main_v46_apply (F := Ideal) x6 _).trans ((congrArg (val_main_v45 (F := Ideal) x6) (i38 n h l)).trans ?_)
  refine (val_main_v45_apply (F := Ideal) x6 _).trans ((congrArg (val_main_v44 (F := Ideal) x6) (i37 n h l)).trans ?_)
  refine (val_main_v44_apply (F := Ideal) x6 _).trans ((congrArg (val_main_v43 (F := Ideal) x6) (i36 n (⟨h.val / 2, by omega⟩ : Fin 4) (⟨h.val % 2, by omega⟩ : Fin 2) l)).trans ?_)
  refine (val_main_v43_apply (F := Ideal) x6 _).trans ((congrArg (val_main_v42 (F := Ideal) x6) (i35 n (⟨h.val % 2, by omega⟩ : Fin 2) l)).trans ?_)
  refine (val_main_v42_apply (F := Ideal) x6 _).trans ((congrArg (val_main_v41 (F := Ideal) x6) (i34 n (⟨h.val % 2, by omega⟩ : Fin 2) l)).trans ?_)
  refine (val_main_v41_apply (F := Ideal) x6 _).trans ((congrArg (val_main_v32 (F := Ideal) x6) (i33 n (⟨h.val % 2, by omega⟩ : Fin 2) l)).trans ?_)
  exact (val_main_v32_apply (F := Ideal) x6 _).trans (congrArg x6 (i31 n (⟨h.val % 2, by omega⟩ : Fin 2) 0 l))

theorem table_56 (b : Fin 8) (n : Fin 4096) (h : Fin 8) (l : Fin 32) : val_main_v56 (F := Ideal) x5 (ix4 b n h l)
    = x5 (ix2 n (⟨h.val % 2 * 64 + 1 * 32 + l.val, by omega⟩ : Fin 128)) := by
  refine (val_main_v56_apply (F := Ideal) x5 _).trans ((congrArg (val_main_v55 (F := Ideal) x5) (i39 b n h l)).trans ?_)
  refine (val_main_v55_apply (F := Ideal) x5 _).trans ((congrArg (val_main_v54 (F := Ideal) x5) (i38 n h l)).trans ?_)
  refine (val_main_v54_apply (F := Ideal) x5 _).trans ((congrArg (val_main_v53 (F := Ideal) x5) (i37 n h l)).trans ?_)
  refine (val_main_v53_apply (F := Ideal) x5 _).trans ((congrArg (val_main_v52 (F := Ideal) x5) (i36 n (⟨h.val / 2, by omega⟩ : Fin 4) (⟨h.val % 2, by omega⟩ : Fin 2) l)).trans ?_)
  refine (val_main_v52_apply (F := Ideal) x5 _).trans ((congrArg (val_main_v51 (F := Ideal) x5) (i35 n (⟨h.val % 2, by omega⟩ : Fin 2) l)).trans ?_)
  refine (val_main_v51_apply (F := Ideal) x5 _).trans ((congrArg (val_main_v50 (F := Ideal) x5) (i34 n (⟨h.val % 2, by omega⟩ : Fin 2) l)).trans ?_)
  refine (val_main_v50_apply (F := Ideal) x5 _).trans ((congrArg (val_main_v31 (F := Ideal) x5) (i50 n (⟨h.val % 2, by omega⟩ : Fin 2) l)).trans ?_)
  exact (val_main_v31_apply (F := Ideal) x5 _).trans (congrArg x5 (i31 n (⟨h.val % 2, by omega⟩ : Fin 2) 1 l))

theorem table_64 (b : Fin 8) (n : Fin 4096) (h : Fin 8) (l : Fin 32) : val_main_v64 (F := Ideal) x6 (ix4 b n h l)
    = x6 (ix2 n (⟨h.val % 2 * 64 + 1 * 32 + l.val, by omega⟩ : Fin 128)) := by
  refine (val_main_v64_apply (F := Ideal) x6 _).trans ((congrArg (val_main_v63 (F := Ideal) x6) (i39 b n h l)).trans ?_)
  refine (val_main_v63_apply (F := Ideal) x6 _).trans ((congrArg (val_main_v62 (F := Ideal) x6) (i38 n h l)).trans ?_)
  refine (val_main_v62_apply (F := Ideal) x6 _).trans ((congrArg (val_main_v61 (F := Ideal) x6) (i37 n h l)).trans ?_)
  refine (val_main_v61_apply (F := Ideal) x6 _).trans ((congrArg (val_main_v60 (F := Ideal) x6) (i36 n (⟨h.val / 2, by omega⟩ : Fin 4) (⟨h.val % 2, by omega⟩ : Fin 2) l)).trans ?_)
  refine (val_main_v60_apply (F := Ideal) x6 _).trans ((congrArg (val_main_v59 (F := Ideal) x6) (i35 n (⟨h.val % 2, by omega⟩ : Fin 2) l)).trans ?_)
  refine (val_main_v59_apply (F := Ideal) x6 _).trans ((congrArg (val_main_v58 (F := Ideal) x6) (i34 n (⟨h.val % 2, by omega⟩ : Fin 2) l)).trans ?_)
  refine (val_main_v58_apply (F := Ideal) x6 _).trans ((congrArg (val_main_v32 (F := Ideal) x6) (i50 n (⟨h.val % 2, by omega⟩ : Fin 2) l)).trans ?_)
  exact (val_main_v32_apply (F := Ideal) x6 _).trans (congrArg x6 (i31 n (⟨h.val % 2, by omega⟩ : Fin 2) 1 l))

theorem half_27 (b : Fin 8) (n : Fin 4096) (h : Fin 8) (l : Fin 32) : val_main_v27 (F := Ideal) x0 x1 x2 x3 x4 (ix4 b n h l)
    = val_main_v19 (F := Ideal) x0 x1 x2 x3 x4 (ix3 b n (⟨h.val * 64 + 0 * 32 + l.val, by omega⟩ : Fin 512)) := by
  refine (val_main_v27_apply (F := Ideal) x0 x1 x2 x3 x4 _).trans ((congrArg (val_main_v26 (F := Ideal) x0 x1 x2 x3 x4) (i27 b n h l)).trans ?_)
  refine (val_main_v26_apply (F := Ideal) x0 x1 x2 x3 x4 _).trans ((congrArg (val_main_v25 (F := Ideal) x0 x1 x2 x3 x4) (i26 b n h l)).trans ?_)
  exact (val_main_v25_apply (F := Ideal) x0 x1 x2 x3 x4 _).trans (congrArg (val_main_v19 (F := Ideal) x0 x1 x2 x3 x4) (i25 b n h 0 l))

theorem half_30 (b : Fin 8) (n : Fin 4096) (h : Fin 8) (l : Fin 32) : val_main_v30 (F := Ideal) x0 x1 x2 x3 x4 (ix4 b n h l)
    = val_main_v19 (F := Ideal) x0 x1 x2 x3 x4 (ix3 b n (⟨h.val * 64 + 1 * 32 + l.val, by omega⟩ : Fin 512)) := by
  refine (val_main_v30_apply (F := Ideal) x0 x1 x2 x3 x4 _).trans ((congrArg (val_main_v29 (F := Ideal) x0 x1 x2 x3 x4) (i27 b n h l)).trans ?_)
  refine (val_main_v29_apply (F := Ideal) x0 x1 x2 x3 x4 _).trans ((congrArg (val_main_v28 (F := Ideal) x0 x1 x2 x3 x4) (i29 b n h l)).trans ?_)
  exact (val_main_v28_apply (F := Ideal) x0 x1 x2 x3 x4 _).trans (congrArg (val_main_v19 (F := Ideal) x0 x1 x2 x3 x4) (i25 b n h 1 l))

theorem turn_49 (b : Fin 8) (n : Fin 4096) (h : Fin 8) (l : Fin 32) : val_main_v67 (F := Ideal) x0 x1 x2 x3 x4 x5 x6 (ix5 b n h (0 : Fin 1) l)
    = val_main_v19 (F := Ideal) x0 x1 x2 x3 x4 (ix3 b n (⟨h.val * 64 + 0 * 32 + l.val, by omega⟩ : Fin 512)) * x5 (ix2 n (⟨h.val % 2 * 64 + 0 * 32 + l.val, by omega⟩ : Fin 128))
      + val_main_v19 (F := Ideal) x0 x1 x2 x3 x4 (ix3 b n (⟨h.val * 64 + 1 * 32 + l.val, by omega⟩ : Fin 512)) * x6 (ix2 n (⟨h.val % 2 * 64 + 0 * 32 + l.val, by omega⟩ : Fin 128)) := by
  refine (val_main_v67_apply (F := Ideal) x0 x1 x2 x3 x4 x5 x6 _).trans ((congrArg (val_main_v49 (F := Ideal) x0 x1 x2 x3 x4 x5 x6) (i67 b n h l)).trans ?_)
  rw [val_main_v49_apply, val_main_v40_apply, val_main_v48_apply, half_27, half_30, table_39, table_47]
  rfl

theorem turn_66 (b : Fin 8) (n : Fin 4096) (h : Fin 8) (l : Fin 32) : val_main_v68 (F := Ideal) x0 x1 x2 x3 x4 x5 x6 (ix5 b n h (0 : Fin 1) l)
    = val_main_v19 (F := Ideal) x0 x1 x2 x3 x4 (ix3 b n (⟨h.val * 64 + 1 * 32 + l.val, by omega⟩ : Fin 512)) * x5 (ix2 n (⟨h.val % 2 * 64 + 1 * 32 + l.val, by omega⟩ : Fin 128))
      + val_main_v19 (F := Ideal) x0 x1 x2 x3 x4 (ix3 b n (⟨h.val * 64 + 0 * 32 + l.val, by omega⟩ : Fin 512)) * x6 (ix2 n (⟨h.val % 2 * 64 + 1 * 32 + l.val, by omega⟩ : Fin 128)) := by
  refine (val_main_v68_apply (F := Ideal) x0 x1 x2 x3 x4 x5 x6 _).trans ((congrArg (val_main_v66 (F := Ideal) x0 x1 x2 x3 x4 x5 x6) (i67 b n h l)).trans ?_)
  rw [val_main_v66_apply, val_main_v57_apply, val_main_v65_apply, half_30, half_27, table_56, table_64]
  rfl

theorem rotated_70 (b : Fin 8) (n : Fin 4096) (j : Fin 512) : val_main_v70 (F := Ideal) x0 x1 x2 x3 x4 x5 x6 (ix3 b n j)
    = rotated (fun j => val_main_v19 (F := Ideal) x0 x1 x2 x3 x4 (ix3 b n j)) (fun l => x5 (ix2 n l)) (fun l => x6 (ix2 n l)) j := by
  refine (val_main_v70_apply (F := Ideal) x0 x1 x2 x3 x4 x5 x6 _).trans ((congrArg (val_main_v69 (F := Ideal) x0 x1 x2 x3 x4 x5 x6) (i70 b n j)).trans ?_)
  unfold val_main_v69 rotated partner
  have hj := j.isLt
  by_cases h : j.val % 64 < 32
  · rw [show (⟨j.val / 32 % 2, by omega⟩ : Fin 2) = 0 from Fin.ext (by show j.val / 32 % 2 = 0; omega), join_left, turn_49, dif_pos h]
    refine congr (congrArg _ (congr (congrArg _ ?_) ?_)) (congr (congrArg _ ?_) ?_)
    · exact congrArg (fun i => val_main_v19 (F := Ideal) x0 x1 x2 x3 x4 (ix3 b n i)) (Fin.ext (by show j.val / 64 * 64 + 0 * 32 + j.val % 32 = j.val; omega))
    · exact congrArg (fun i => x5 (ix2 n i)) (Fin.ext (by show j.val / 64 % 2 * 64 + 0 * 32 + j.val % 32 = j.val % 128; omega))
    · exact congrArg (fun i => val_main_v19 (F := Ideal) x0 x1 x2 x3 x4 (ix3 b n i)) (Fin.ext (by show j.val / 64 * 64 + 1 * 32 + j.val % 32 = j.val + 32; omega))
    · exact congrArg (fun i => x6 (ix2 n i)) (Fin.ext (by show j.val / 64 % 2 * 64 + 0 * 32 + j.val % 32 = j.val % 128; omega))
  · rw [show (⟨j.val / 32 % 2, by omega⟩ : Fin 2) = 1 from Fin.ext (by show j.val / 32 % 2 = 1; omega), join_right, turn_66, dif_neg h]
    refine congr (congrArg _ (congr (congrArg _ ?_) ?_)) (congr (congrArg _ ?_) ?_)
    · exact congrArg (fun i => val_main_v19 (F := Ideal) x0 x1 x2 x3 x4 (ix3 b n i)) (Fin.ext (by show j.val / 64 * 64 + 1 * 32 + j.val % 32 = j.val; omega))
    · exact congrArg (fun i => x5 (ix2 n i)) (Fin.ext (by show j.val / 64 % 2 * 64 + 1 * 32 + j.val % 32 = j.val % 128; omega))
    · exact congrArg (fun i => val_main_v19 (F := Ideal) x0 x1 x2 x3 x4 (ix3 b n i)) (Fin.ext (by show j.val / 64 * 64 + 0 * 32 + j.val % 32 = j.val - 32; omega))
    · exact congrArg (fun i => x6 (ix2 n i)) (Fin.ext (by show j.val / 64 % 2 * 64 + 1 * 32 + j.val % 32 = j.val % 128; omega))

/-! The rotation of the second result. -/

theorem table_85 (b : Fin 8) (n : Fin 4096) (h : Fin 8) (l : Fin 32) : val_main_v85 (F := Ideal) x5 (ix4 b n h l)
    = x5 (ix2 n (⟨h.val % 2 * 64 + 0 * 32 + l.val, by omega⟩ : Fin 128)) := by
  refine (val_main_v85_apply (F := Ideal) x5 _).trans ((congrArg (val_main_v84 (F := Ideal) x5) (i39 b n h l)).trans ?_)
  refine (val_main_v84_apply (F := Ideal) x5 _).trans ((congrArg (val_main_v83 (F := Ideal) x5) (i38 n h l)).trans ?_)
  refine (val_main_v83_apply (F := Ideal) x5 _).trans ((congrArg (val_main_v82 (F := Ideal) x5) (i37 n h l)).trans ?_)
  refine (val_main_v82_apply (F := Ideal) x5 _).trans ((congrArg (val_main_v81 (F := Ideal) x5) (i36 n (⟨h.val / 2, by omega⟩ : Fin 4) (⟨h.val % 2, by omega⟩ : Fin 2) l)).trans ?_)
  refine (val_main_v81_apply (F := Ideal) x5 _).trans ((congrArg (val_main_v80 (F := Ideal) x5) (i35 n (⟨h.val % 2, by omega⟩ : Fin 2) l)).trans ?_)
  refine (val_main_v80_apply (F := Ideal) x5 _).trans ((congrArg (val_main_v79 (F := Ideal) x5) (i34 n (⟨h.val % 2, by omega⟩ : Fin 2) l)).trans ?_)
  refine (val_main_v79_apply (F := Ideal) x5 _).trans ((congrArg (val_main_v77 (F := Ideal) x5) (i33 n (⟨h.val % 2, by omega⟩ : Fin 2) l)).trans ?_)
  exact (val_main_v77_apply (F := Ideal) x5 _).trans (congrArg x5 (i31 n (⟨h.val % 2, by omega⟩ : Fin 2) 0 l))

theorem table_93 (b : Fin 8) (n : Fin 4096) (h : Fin 8) (l : Fin 32) : val_main_v93 (F := Ideal) x6 (ix4 b n h l)
    = x6 (ix2 n (⟨h.val % 2 * 64 + 0 * 32 + l.val, by omega⟩ : Fin 128)) := by
  refine (val_main_v93_apply (F := Ideal) x6 _).trans ((congrArg (val_main_v92 (F := Ideal) x6) (i39 b n h l)).trans ?_)
  refine (val_main_v92_apply (F := Ideal) x6 _).trans ((congrArg (val_main_v91 (F := Ideal) x6) (i38 n h l)).trans ?_)
  refine (val_main_v91_apply (F := Ideal) x6 _).trans ((congrArg (val_main_v90 (F := Ideal) x6) (i37 n h l)).trans ?_)
  refine (val_main_v90_apply (F := Ideal) x6 _).trans ((congrArg (val_main_v89 (F := Ideal) x6) (i36 n (⟨h.val / 2, by omega⟩ : Fin 4) (⟨h.val % 2, by omega⟩ : Fin 2) l)).trans ?_)
  refine (val_main_v89_apply (F := Ideal) x6 _).trans ((congrArg (val_main_v88 (F := Ideal) x6) (i35 n (⟨h.val % 2, by omega⟩ : Fin 2) l)).trans ?_)
  refine (val_main_v88_apply (F := Ideal) x6 _).trans ((congrArg (val_main_v87 (F := Ideal) x6) (i34 n (⟨h.val % 2, by omega⟩ : Fin 2) l)).trans ?_)
  refine (val_main_v87_apply (F := Ideal) x6 _).trans ((congrArg (val_main_v78 (F := Ideal) x6) (i33 n (⟨h.val % 2, by omega⟩ : Fin 2) l)).trans ?_)
  exact (val_main_v78_apply (F := Ideal) x6 _).trans (congrArg x6 (i31 n (⟨h.val % 2, by omega⟩ : Fin 2) 0 l))

theorem table_102 (b : Fin 8) (n : Fin 4096) (h : Fin 8) (l : Fin 32) : val_main_v102 (F := Ideal) x5 (ix4 b n h l)
    = x5 (ix2 n (⟨h.val % 2 * 64 + 1 * 32 + l.val, by omega⟩ : Fin 128)) := by
  refine (val_main_v102_apply (F := Ideal) x5 _).trans ((congrArg (val_main_v101 (F := Ideal) x5) (i39 b n h l)).trans ?_)
  refine (val_main_v101_apply (F := Ideal) x5 _).trans ((congrArg (val_main_v100 (F := Ideal) x5) (i38 n h l)).trans ?_)
  refine (val_main_v100_apply (F := Ideal) x5 _).trans ((congrArg (val_main_v99 (F := Ideal) x5) (i37 n h l)).trans ?_)
  refine (val_main_v99_apply (F := Ideal) x5 _).trans ((congrArg (val_main_v98 (F := Ideal) x5) (i36 n (⟨h.val / 2, by omega⟩ : Fin 4) (⟨h.val % 2, by omega⟩ : Fin 2) l)).trans ?_)
  refine (val_main_v98_apply (F := Ideal) x5 _).trans ((congrArg (val_main_v97 (F := Ideal) x5) (i35 n (⟨h.val % 2, by omega⟩ : Fin 2) l)).trans ?_)
  refine (val_main_v97_apply (F := Ideal) x5 _).trans ((congrArg (val_main_v96 (F := Ideal) x5) (i34 n (⟨h.val % 2, by omega⟩ : Fin 2) l)).trans ?_)
  refine (val_main_v96_apply (F := Ideal) x5 _).trans ((congrArg (val_main_v77 (F := Ideal) x5) (i50 n (⟨h.val % 2, by omega⟩ : Fin 2) l)).trans ?_)
  exact (val_main_v77_apply (F := Ideal) x5 _).trans (congrArg x5 (i31 n (⟨h.val % 2, by omega⟩ : Fin 2) 1 l))

theorem table_110 (b : Fin 8) (n : Fin 4096) (h : Fin 8) (l : Fin 32) : val_main_v110 (F := Ideal) x6 (ix4 b n h l)
    = x6 (ix2 n (⟨h.val % 2 * 64 + 1 * 32 + l.val, by omega⟩ : Fin 128)) := by
  refine (val_main_v110_apply (F := Ideal) x6 _).trans ((congrArg (val_main_v109 (F := Ideal) x6) (i39 b n h l)).trans ?_)
  refine (val_main_v109_apply (F := Ideal) x6 _).trans ((congrArg (val_main_v108 (F := Ideal) x6) (i38 n h l)).trans ?_)
  refine (val_main_v108_apply (F := Ideal) x6 _).trans ((congrArg (val_main_v107 (F := Ideal) x6) (i37 n h l)).trans ?_)
  refine (val_main_v107_apply (F := Ideal) x6 _).trans ((congrArg (val_main_v106 (F := Ideal) x6) (i36 n (⟨h.val / 2, by omega⟩ : Fin 4) (⟨h.val % 2, by omega⟩ : Fin 2) l)).trans ?_)
  refine (val_main_v106_apply (F := Ideal) x6 _).trans ((congrArg (val_main_v105 (F := Ideal) x6) (i35 n (⟨h.val % 2, by omega⟩ : Fin 2) l)).trans ?_)
  refine (val_main_v105_apply (F := Ideal) x6 _).trans ((congrArg (val_main_v104 (F := Ideal) x6) (i34 n (⟨h.val % 2, by omega⟩ : Fin 2) l)).trans ?_)
  refine (val_main_v104_apply (F := Ideal) x6 _).trans ((congrArg (val_main_v78 (F := Ideal) x6) (i50 n (⟨h.val % 2, by omega⟩ : Fin 2) l)).trans ?_)
  exact (val_main_v78_apply (F := Ideal) x6 _).trans (congrArg x6 (i31 n (⟨h.val % 2, by omega⟩ : Fin 2) 1 l))

theorem half_73 (b : Fin 8) (n : Fin 4096) (h : Fin 8) (l : Fin 32) : val_main_v73 (F := Ideal) x0 x1 x2 x3 x4 (ix4 b n h l)
    = val_main_v20 (F := Ideal) x0 x1 x2 x3 x4 (ix3 b n (⟨h.val * 64 + 0 * 32 + l.val, by omega⟩ : Fin 512)) := by
  refine (val_main_v73_apply (F := Ideal) x0 x1 x2 x3 x4 _).trans ((congrArg (val_main_v72 (F := Ideal) x0 x1 x2 x3 x4) (i27 b n h l)).trans ?_)
  refine (val_main_v72_apply (F := Ideal) x0 x1 x2 x3 x4 _).trans ((congrArg (val_main_v71 (F := Ideal) x0 x1 x2 x3 x4) (i26 b n h l)).trans ?_)
  exact (val_main_v71_apply (F := Ideal) x0 x1 x2 x3 x4 _).trans (congrArg (val_main_v20 (F := Ideal) x0 x1 x2 x3 x4) (i25 b n h 0 l))

theorem half_76 (b : Fin 8) (n : Fin 4096) (h : Fin 8) (l : Fin 32) : val_main_v76 (F := Ideal) x0 x1 x2 x3 x4 (ix4 b n h l)
    = val_main_v20 (F := Ideal) x0 x1 x2 x3 x4 (ix3 b n (⟨h.val * 64 + 1 * 32 + l.val, by omega⟩ : Fin 512)) := by
  refine (val_main_v76_apply (F := Ideal) x0 x1 x2 x3 x4 _).trans ((congrArg (val_main_v75 (F := Ideal) x0 x1 x2 x3 x4) (i27 b n h l)).trans ?_)
  refine (val_main_v75_apply (F := Ideal) x0 x1 x2 x3 x4 _).trans ((congrArg (val_main_v74 (F := Ideal) x0 x1 x2 x3 x4) (i29 b n h l)).trans ?_)
  exact (val_main_v74_apply (F := Ideal) x0 x1 x2 x3 x4 _).trans (congrArg (val_main_v20 (F := Ideal) x0 x1 x2 x3 x4) (i25 b n h 1 l))

theorem turn_95 (b : Fin 8) (n : Fin 4096) (h : Fin 8) (l : Fin 32) : val_main_v113 (F := Ideal) x0 x1 x2 x3 x4 x5 x6 (ix5 b n h (0 : Fin 1) l)
    = val_main_v20 (F := Ideal) x0 x1 x2 x3 x4 (ix3 b n (⟨h.val * 64 + 0 * 32 + l.val, by omega⟩ : Fin 512)) * x5 (ix2 n (⟨h.val % 2 * 64 + 0 * 32 + l.val, by omega⟩ : Fin 128))
      + val_main_v20 (F := Ideal) x0 x1 x2 x3 x4 (ix3 b n (⟨h.val * 64 + 1 * 32 + l.val, by omega⟩ : Fin 512)) * x6 (ix2 n (⟨h.val % 2 * 64 + 0 * 32 + l.val, by omega⟩ : Fin 128)) := by
  refine (val_main_v113_apply (F := Ideal) x0 x1 x2 x3 x4 x5 x6 _).trans ((congrArg (val_main_v95 (F := Ideal) x0 x1 x2 x3 x4 x5 x6) (i67 b n h l)).trans ?_)
  rw [val_main_v95_apply, val_main_v86_apply, val_main_v94_apply, half_73, half_76, table_85, table_93]
  rfl

theorem turn_112 (b : Fin 8) (n : Fin 4096) (h : Fin 8) (l : Fin 32) : val_main_v114 (F := Ideal) x0 x1 x2 x3 x4 x5 x6 (ix5 b n h (0 : Fin 1) l)
    = val_main_v20 (F := Ideal) x0 x1 x2 x3 x4 (ix3 b n (⟨h.val * 64 + 1 * 32 + l.val, by omega⟩ : Fin 512)) * x5 (ix2 n (⟨h.val % 2 * 64 + 1 * 32 + l.val, by omega⟩ : Fin 128))
      + val_main_v20 (F := Ideal) x0 x1 x2 x3 x4 (ix3 b n (⟨h.val * 64 + 0 * 32 + l.val, by omega⟩ : Fin 512)) * x6 (ix2 n (⟨h.val % 2 * 64 + 1 * 32 + l.val, by omega⟩ : Fin 128)) := by
  refine (val_main_v114_apply (F := Ideal) x0 x1 x2 x3 x4 x5 x6 _).trans ((congrArg (val_main_v112 (F := Ideal) x0 x1 x2 x3 x4 x5 x6) (i67 b n h l)).trans ?_)
  rw [val_main_v112_apply, val_main_v103_apply, val_main_v111_apply, half_76, half_73, table_102, table_110]
  rfl

theorem rotated_116 (b : Fin 8) (n : Fin 4096) (j : Fin 512) : val_main_v116 (F := Ideal) x0 x1 x2 x3 x4 x5 x6 (ix3 b n j)
    = rotated (fun j => val_main_v20 (F := Ideal) x0 x1 x2 x3 x4 (ix3 b n j)) (fun l => x5 (ix2 n l)) (fun l => x6 (ix2 n l)) j := by
  refine (val_main_v116_apply (F := Ideal) x0 x1 x2 x3 x4 x5 x6 _).trans ((congrArg (val_main_v115 (F := Ideal) x0 x1 x2 x3 x4 x5 x6) (i70 b n j)).trans ?_)
  unfold val_main_v115 rotated partner
  have hj := j.isLt
  by_cases h : j.val % 64 < 32
  · rw [show (⟨j.val / 32 % 2, by omega⟩ : Fin 2) = 0 from Fin.ext (by show j.val / 32 % 2 = 0; omega), join_left, turn_95, dif_pos h]
    refine congr (congrArg _ (congr (congrArg _ ?_) ?_)) (congr (congrArg _ ?_) ?_)
    · exact congrArg (fun i => val_main_v20 (F := Ideal) x0 x1 x2 x3 x4 (ix3 b n i)) (Fin.ext (by show j.val / 64 * 64 + 0 * 32 + j.val % 32 = j.val; omega))
    · exact congrArg (fun i => x5 (ix2 n i)) (Fin.ext (by show j.val / 64 % 2 * 64 + 0 * 32 + j.val % 32 = j.val % 128; omega))
    · exact congrArg (fun i => val_main_v20 (F := Ideal) x0 x1 x2 x3 x4 (ix3 b n i)) (Fin.ext (by show j.val / 64 * 64 + 1 * 32 + j.val % 32 = j.val + 32; omega))
    · exact congrArg (fun i => x6 (ix2 n i)) (Fin.ext (by show j.val / 64 % 2 * 64 + 0 * 32 + j.val % 32 = j.val % 128; omega))
  · rw [show (⟨j.val / 32 % 2, by omega⟩ : Fin 2) = 1 from Fin.ext (by show j.val / 32 % 2 = 1; omega), join_right, turn_112, dif_neg h]
    refine congr (congrArg _ (congr (congrArg _ ?_) ?_)) (congr (congrArg _ ?_) ?_)
    · exact congrArg (fun i => val_main_v20 (F := Ideal) x0 x1 x2 x3 x4 (ix3 b n i)) (Fin.ext (by show j.val / 64 * 64 + 1 * 32 + j.val % 32 = j.val; omega))
    · exact congrArg (fun i => x5 (ix2 n i)) (Fin.ext (by show j.val / 64 % 2 * 64 + 1 * 32 + j.val % 32 = j.val % 128; omega))
    · exact congrArg (fun i => val_main_v20 (F := Ideal) x0 x1 x2 x3 x4 (ix3 b n i)) (Fin.ext (by show j.val / 64 * 64 + 0 * 32 + j.val % 32 = j.val - 32; omega))
    · exact congrArg (fun i => x6 (ix2 n i)) (Fin.ext (by show j.val / 64 % 2 * 64 + 1 * 32 + j.val % 32 = j.val % 128; omega))

/-! The six results. -/

theorem element_0 (b : Fin 8) (n : Fin 4096) (j : Fin 512) : val_main_v117 (F := Ideal) x0 x1 x2 x3 x4 x5 x6 (ix3 b n j) = rotatedOut x0 x1 x2 x3 x4 x5 x6 0 (by decide) (ix3 b n j) := by
  rw [val_main_v117_apply, rotated_70]
  simp only [slice_19]
  rfl

theorem result_0 : val_main_v117 (F := Ideal) x0 x1 x2 x3 x4 x5 x6 = rotatedOut x0 x1 x2 x3 x4 x5 x6 0 (by decide) :=
  funext fun i => (congrArg _ (eq_ix3 (n0 := 8) (n1 := 4096) (n2 := 512) i)).trans
    ((element_0 x0 x1 x2 x3 x4 x5 x6 (i 0) (i 1) (i 2)).trans (congrArg _ (eq_ix3 (n0 := 8) (n1 := 4096) (n2 := 512) i).symm))

theorem element_1 (b : Fin 8) (n : Fin 4096) (j : Fin 512) : val_main_v118 (F := Ideal) x0 x1 x2 x3 x4 x5 x6 (ix3 b n j) = rotatedOut x0 x1 x2 x3 x4 x5 x6 512 (by decide) (ix3 b n j) := by
  rw [val_main_v118_apply, rotated_116]
  simp only [slice_20]
  rfl

theorem result_1 : val_main_v118 (F := Ideal) x0 x1 x2 x3 x4 x5 x6 = rotatedOut x0 x1 x2 x3 x4 x5 x6 512 (by decide) :=
  funext fun i => (congrArg _ (eq_ix3 (n0 := 8) (n1 := 4096) (n2 := 512) i)).trans
    ((element_1 x0 x1 x2 x3 x4 x5 x6 (i 0) (i 1) (i 2)).trans (congrArg _ (eq_ix3 (n0 := 8) (n1 := 4096) (n2 := 512) i).symm))

theorem element_2 (b : Fin 8) (n : Fin 4096) (j : Fin 512) : val_main_v119 (F := Ideal) x0 x1 x2 x3 x4 (ix3 b n j) = plainOut x0 x1 x2 x3 x4 1024 (by decide) (ix3 b n j) := by
  rw [val_main_v119_apply, slice_21]
  rfl

theorem result_2 : val_main_v119 (F := Ideal) x0 x1 x2 x3 x4 = plainOut x0 x1 x2 x3 x4 1024 (by decide) :=
  funext fun i => (congrArg _ (eq_ix3 (n0 := 8) (n1 := 4096) (n2 := 512) i)).trans
    ((element_2 x0 x1 x2 x3 x4 (i 0) (i 1) (i 2)).trans (congrArg _ (eq_ix3 (n0 := 8) (n1 := 4096) (n2 := 512) i).symm))

theorem element_3 (b : Fin 8) (n : Fin 4096) (j : Fin 512) : val_main_v120 (F := Ideal) x0 x1 x2 x3 x4 (ix3 b n j) = plainOut x0 x1 x2 x3 x4 1536 (by decide) (ix3 b n j) := by
  rw [val_main_v120_apply, slice_22]
  rfl

theorem result_3 : val_main_v120 (F := Ideal) x0 x1 x2 x3 x4 = plainOut x0 x1 x2 x3 x4 1536 (by decide) :=
  funext fun i => (congrArg _ (eq_ix3 (n0 := 8) (n1 := 4096) (n2 := 512) i)).trans
    ((element_3 x0 x1 x2 x3 x4 (i 0) (i 1) (i 2)).trans (congrArg _ (eq_ix3 (n0 := 8) (n1 := 4096) (n2 := 512) i).symm))

theorem element_4 (b : Fin 8) (n : Fin 4096) (j : Fin 512) : val_main_v121 (F := Ideal) x0 x1 x2 x3 x4 (ix3 b n j) = plainOut x0 x1 x2 x3 x4 2048 (by decide) (ix3 b n j) := by
  rw [val_main_v121_apply, slice_23]
  rfl

theorem result_4 : val_main_v121 (F := Ideal) x0 x1 x2 x3 x4 = plainOut x0 x1 x2 x3 x4 2048 (by decide) :=
  funext fun i => (congrArg _ (eq_ix3 (n0 := 8) (n1 := 4096) (n2 := 512) i)).trans
    ((element_4 x0 x1 x2 x3 x4 (i 0) (i 1) (i 2)).trans (congrArg _ (eq_ix3 (n0 := 8) (n1 := 4096) (n2 := 512) i).symm))

theorem element_5 (b : Fin 8) (n : Fin 4096) (j : Fin 512) : val_main_v122 (F := Ideal) x0 x1 x2 x3 x4 (ix3 b n j) = plainOut x0 x1 x2 x3 x4 2560 (by decide) (ix3 b n j) := by
  rw [val_main_v122_apply, slice_24]
  rfl

theorem result_5 : val_main_v122 (F := Ideal) x0 x1 x2 x3 x4 = plainOut x0 x1 x2 x3 x4 2560 (by decide) :=
  funext fun i => (congrArg _ (eq_ix3 (n0 := 8) (n1 := 4096) (n2 := 512) i)).trans
    ((element_5 x0 x1 x2 x3 x4 (i 0) (i 1) (i 2)).trans (congrArg _ (eq_ix3 (n0 := 8) (n1 := 4096) (n2 := 512) i).symm))

end Cert.Reference3Ideal.Project

end
-- ==== Proof.ProjectClaims.lean ====
/-
  The claims about the projection, put together.
-/
module

public import proofs.«01_k».proof.Defs
public import proofs.«01_k».proof.Proof.Gen.Kernel3.Frame
public import proofs.«01_k».proof.Proof.Gen.Reference3Ideal.Run
public import proofs.«01_k».proof.Proof.ProjectArray
public import proofs.«01_k».proof.Proof.ProjectRef

@[expose] public section

set_option maxRecDepth 2000

noncomputable section

namespace Cert.ProjectClaims

open Cert.Project
open Idealize.ShloMosaic Idealize.ShloMosaic.TcCoe Idealize.SL.Sem

/-- The reference runs and keeps its arguments. -/
theorem frame_ri : Cert.quiescent_Reference3Ideal (hReference3Ideal := Cert.Reference3Ideal.Gen.facts) := fun m ρ _ =>
  (θ_run _ _ _).mono (fun r h => ⟨fun c => (h c).2.2.2.2.2.2, sem_eq_zero_of_no_sems (by decide) r.2⟩)
    (Cert.Reference3Ideal.Value.run (F := Ideal) m ρ)

/-- Kernel and reference end with the same six arrays: queries and keys rotated, the other four plain. -/
theorem algebraic : Cert.algebraic_Kernel3Ideal_Reference3Ideal (hKernel3Ideal := Cert.Kernel3Ideal.Gen.facts)
    (hReference3Ideal := Cert.Reference3Ideal.Gen.facts) := by
  intro m ρ m' ρ' hpre hag
  refine ⟨fun c => rotatedOut (Cert.Kernel3Ideal.Project.aX m c) (Cert.Kernel3Ideal.Project.aG m c) (Cert.Kernel3Ideal.Project.aS m c) (Cert.Kernel3Ideal.Project.aT m c) (Cert.Kernel3Ideal.Project.aW m c) (Cert.Kernel3Ideal.Project.aC m c) (Cert.Kernel3Ideal.Project.aN m c) 0 (by decide),
    fun c => rotatedOut (Cert.Kernel3Ideal.Project.aX m c) (Cert.Kernel3Ideal.Project.aG m c) (Cert.Kernel3Ideal.Project.aS m c) (Cert.Kernel3Ideal.Project.aT m c) (Cert.Kernel3Ideal.Project.aW m c) (Cert.Kernel3Ideal.Project.aC m c) (Cert.Kernel3Ideal.Project.aN m c) 512 (by decide),
    fun c => plainOut (Cert.Kernel3Ideal.Project.aX m c) (Cert.Kernel3Ideal.Project.aG m c) (Cert.Kernel3Ideal.Project.aS m c) (Cert.Kernel3Ideal.Project.aT m c) (Cert.Kernel3Ideal.Project.aW m c) 1024 (by decide),
    fun c => plainOut (Cert.Kernel3Ideal.Project.aX m c) (Cert.Kernel3Ideal.Project.aG m c) (Cert.Kernel3Ideal.Project.aS m c) (Cert.Kernel3Ideal.Project.aT m c) (Cert.Kernel3Ideal.Project.aW m c) 1536 (by decide),
    fun c => plainOut (Cert.Kernel3Ideal.Project.aX m c) (Cert.Kernel3Ideal.Project.aG m c) (Cert.Kernel3Ideal.Project.aS m c) (Cert.Kernel3Ideal.Project.aT m c) (Cert.Kernel3Ideal.Project.aW m c) 2048 (by decide),
    fun c => plainOut (Cert.Kernel3Ideal.Project.aX m c) (Cert.Kernel3Ideal.Project.aG m c) (Cert.Kernel3Ideal.Project.aS m c) (Cert.Kernel3Ideal.Project.aT m c) (Cert.Kernel3Ideal.Project.aW m c) 2560 (by decide),
    Cert.Kernel3Ideal.Project.run_project m ρ, ?_⟩
  refine (θ_run _ _ _).mono (fun r h c => ?_) (Cert.Reference3Ideal.Value.run (F := Ideal) m' ρ')
  obtain ⟨e0, e1, e2, e3, e4, e5, e6⟩ := hag c
  obtain ⟨h0, h1, h2, h3, h4, h5, hk⟩ := h c
  refine ⟨h0.trans ?_, h1.trans ?_, h2.trans ?_, h3.trans ?_, h4.trans ?_, h5.trans ?_, hk⟩
  · rw [Cert.Reference3Ideal.Read.val_main_v117_eq, e0, e1, e2, e3, e4, e5, e6]
    exact Cert.Reference3Ideal.Project.result_0 _ _ _ _ _ _ _
  · rw [Cert.Reference3Ideal.Read.val_main_v118_eq, e0, e1, e2, e3, e4, e5, e6]
    exact Cert.Reference3Ideal.Project.result_1 _ _ _ _ _ _ _
  · rw [Cert.Reference3Ideal.Read.val_main_v119_eq, e0, e1, e2, e3, e4]
    exact Cert.Reference3Ideal.Project.result_2 _ _ _ _ _
  · rw [Cert.Reference3Ideal.Read.val_main_v120_eq, e0, e1, e2, e3, e4]
    exact Cert.Reference3Ideal.Project.result_3 _ _ _ _ _
  · rw [Cert.Reference3Ideal.Read.val_main_v121_eq, e0, e1, e2, e3, e4]
    exact Cert.Reference3Ideal.Project.result_4 _ _ _ _ _
  · rw [Cert.Reference3Ideal.Read.val_main_v122_eq, e0, e1, e2, e3, e4]
    exact Cert.Reference3Ideal.Project.result_5 _ _ _ _ _

end Cert.ProjectClaims

end
-- ==== Proof.ProjectOdd.lean ====
/-
  The input projection of the odd layers: the weight's columns fall into results of different widths, two of them rotated, and
  one small result comes from a second weight and is laid out with its channels first.
-/
module

public import proofs.«01_k».proof.Proof.Project

@[expose] public section

noncomputable section

namespace Cert.ProjectOdd

open Idealize.ShloMosaic
open Cert.Project (normed lin)

/-- The other member of a pair, among `W` columns that are whole heads of 64. -/
def partner {W : ℕ} (hW : W % 64 = 0) (j : Fin W) : Fin W := if h : j.val % 64 < 32 then ⟨j.val + 32, by omega⟩ else ⟨j.val - 32, by omega⟩

/-- The rotation of every pair: each member times the cosine of its angle, plus the other member times the signed sine. The tables hold
    the angles of two heads, 128 lanes. -/
def rotated {W : ℕ} (hW : W % 64 = 0) (p : Fin W → EReal) (cos sin : Fin 128 → EReal) (j : Fin W) : EReal :=
  p j * cos ⟨j.val % 128, by omega⟩ + p (partner hW j) * sin ⟨j.val % 128, by omega⟩

/-- The normed row `n` of batch `b`. -/
def normRow (x : Vec Ideal ⟨3, ![8, 4096, 1024]⟩ .f32) (g : Vec Ideal ⟨1, ![1024]⟩ .f32) (s t : Vec Ideal ⟨3, ![8, 1, 1024]⟩ .f32)
    (b : Fin 8) (n : Fin 4096) : Fin 1024 → EReal :=
  normed (fun k => x (ix3 b n k)) (fun k => g (ix1 k)) (fun k => s (ix3 b 0 k)) (fun k => t (ix3 b 0 k))

/-- The `W` columns from `o` on of the projection of row `n` of batch `b`. -/
def columns (x : Vec Ideal ⟨3, ![8, 4096, 1024]⟩ .f32) (g : Vec Ideal ⟨1, ![1024]⟩ .f32) (s t : Vec Ideal ⟨3, ![8, 1, 1024]⟩ .f32)
    (w : Vec Ideal ⟨2, ![1024, 2576]⟩ .bf16) (o W : ℕ) (ho : o + W ≤ 2576) (b : Fin 8) (n : Fin 4096) : Fin W → EReal :=
  lin (normRow x g s t b n) (fun k j => w (ix2 k (⟨o + j.val, by omega⟩ : Fin 2576)))

/-- A result that is not rotated. -/
def plainOut (x : Vec Ideal ⟨3, ![8, 4096, 1024]⟩ .f32) (g : Vec Ideal ⟨1, ![1024]⟩ .f32) (s t : Vec Ideal ⟨3, ![8, 1, 1024]⟩ .f32)
    (w : Vec Ideal ⟨2, ![1024, 2576]⟩ .bf16) (o W : ℕ) (ho : o + W ≤ 2576) (i : (⟨3, ![8, 4096, W]⟩ : Shape).Idx) : EReal :=
  columns x g s t w o W ho (i 0) (i 1) (i 2)

/-- A result that is. -/
def rotatedOut (x : Vec Ideal ⟨3, ![8, 4096, 1024]⟩ .f32) (g : Vec Ideal ⟨1, ![1024]⟩ .f32) (s t : Vec Ideal ⟨3, ![8, 1, 1024]⟩ .f32)
    (w : Vec Ideal ⟨2, ![1024, 2576]⟩ .bf16) (cos sin : Vec Ideal ⟨2, ![4096, 128]⟩ .f32) (o W : ℕ) (ho : o + W ≤ 2576) (hW : W % 64 = 0)
    (i : (⟨3, ![8, 4096, W]⟩ : Shape).Idx) : EReal :=
  rotated hW (columns x g s t w o W ho (i 0) (i 1)) (fun l => cos (ix2 (i 1) l)) (fun l => sin (ix2 (i 1) l)) (i 2)

/-- The result with its 16 channels first: the normed rows against the rows of the second weight. -/
def channelsOut (x : Vec Ideal ⟨3, ![8, 4096, 1024]⟩ .f32) (g : Vec Ideal ⟨1, ![1024]⟩ .f32) (s t : Vec Ideal ⟨3, ![8, 1, 1024]⟩ .f32)
    (v : Vec Ideal ⟨2, ![16, 1024]⟩ .bf16) (i : (⟨3, ![8, 16, 4096]⟩ : Shape).Idx) : EReal :=
  lin (normRow x g s t (i 0) (i 2)) (fun k e => v (ix2 e k)) (i 1)

end Cert.ProjectOdd

end
-- ==== Proof.OddValue.lean ====
/-
  What the odd layers' projection kernel computes at a grid point, read element by element: the normed rows, the products with the
  columns of the weight, the rotation in slices of 128 lanes side by side, and the product laid out with the channels first.
-/
module

public import proofs.«01_k».proof.Proof.Gen.Kernel4Ideal.Value
public import proofs.«01_k».proof.Proof.ProjectOdd
public import Idealize.ShloMosaic.Lib.KernelVsHost
public import Idealize.ShloMosaic.Lib.Pointwise

@[expose] public section

set_option maxRecDepth 16384

noncomputable section

namespace Cert.Kernel4Ideal.Project

open Cert.Kernel4Ideal Cert.Kernel4Ideal.Gen Cert.ProjectOdd
open Cert.Project (normed lin)
open Idealize.ShloMosaic Idealize.ShloMosaic.TcCoe Idealize.SL.Sem Idealize.ShloMosaic.Tactic

/-- The normed rows. -/
theorem normed_apply (x : Vec Ideal S1x512x1024 .f32) (g : Vec Ideal S1x1024 .f32) (s t : Vec Ideal S1x1x1024 .f32) (r : Fin 512) (k : Fin 1024) :
    k0_pay5 x g s t (ix2 r k) = normed (fun l => x (ix3 0 r l)) (fun l => g (ix2 0 l)) (fun l => s (ix3 0 0 l)) (fun l => t (ix3 0 0 l)) k := by
  unfold normed
  pointwise [k0_pay5]

/-- A row against a column, 512 columns. -/
theorem prod512_apply (y : FVec Ideal S512x1024 .bf16) (w : FVec Ideal S1024x512 .bf16) (r : Fin 512) (j : Fin 512) :
    matmul dot_S512x1024_S1024x512_S512x512_1_0_0_1_n_n none y w (constant (F := Ideal) S512x512 .f32 0x00000000#32) (ix2 r j)
      = lin (fun k => y (ix2 r k)) (fun k j => w (ix2 k j)) j := by
  unfold lin
  pointwise [dot_S512x1024_S1024x512_S512x512_1_0_0_1_n_n]

/-- A row against a column, 256 columns. -/
theorem prod256_apply (y : FVec Ideal S512x1024 .bf16) (w : FVec Ideal S1024x256 .bf16) (r : Fin 512) (j : Fin 256) :
    matmul dot_S512x1024_S1024x256_S512x256_1_0_0_1_n_n none y w (constant (F := Ideal) S512x256 .f32 0x00000000#32) (ix2 r j)
      = lin (fun k => y (ix2 r k)) (fun k j => w (ix2 k j)) j := by
  unfold lin
  pointwise [dot_S512x1024_S1024x256_S512x256_1_0_0_1_n_n]

/-- A row against a column, 16 columns. -/
theorem prod16_apply (y : FVec Ideal S512x1024 .bf16) (w : FVec Ideal S1024x16 .bf16) (r : Fin 512) (j : Fin 16) :
    matmul dot_S512x1024_S1024x16_S512x16_1_0_0_1_n_n none y w (constant (F := Ideal) S512x16 .f32 0x00000000#32) (ix2 r j)
      = lin (fun k => y (ix2 r k)) (fun k j => w (ix2 k j)) j := by
  unfold lin
  pointwise [dot_S512x1024_S1024x16_S512x16_1_0_0_1_n_n]

/-- A row against a row of the second weight: the kernel multiplies in the other order. -/
theorem prodT_apply (y : FVec Ideal S512x1024 .bf16) (w : FVec Ideal S16x1024 .bf16) (e : Fin 16) (r : Fin 512) :
    matmul dot_S16x1024_S512x1024_S16x512_1_1_0_0_n_n none w y (constant (F := Ideal) S16x512 .f32 0x00000000#32) (ix2 e r)
      = lin (fun k => y (ix2 r k)) (fun k e => w (ix2 e k)) e := by
  unfold lin
  have h : matmul dot_S16x1024_S512x1024_S16x512_1_1_0_0_n_n none w y (constant (F := Ideal) S16x512 .f32 0x00000000#32) (ix2 e r)
      = ∑ k : Fin 1024, w (ix2 e k) * y (ix2 r k) := by
    pointwise [dot_S16x1024_S512x1024_S16x512_1_1_0_0_n_n]
  exact h.trans (Finset.sum_congr rfl fun k _ => mul_comm _ _)

/-- The lanes of the first members. -/
abbrev first : IVec S512x128 1 := k0_pay9 (Scalar.select (Scalar.cmpi .eq 64#32 0#32) 1#32 64#32) k0_pay6 k0_pay7 k0_pay8

/-- In each half of 128 lanes the first 32 are the first members. -/
theorem first_apply (r : Fin 512) (l : Fin 128) : first (ix2 r l) = if l.val % 64 < 32 then 1#1 else 0#1 := by
  pointwise [first, k0_pay9, k0_pay6, k0_pay7, k0_pay8]
  revert l
  decide +kernel

/-- The stored blocks are the computed ones, with a leading axis. -/
theorem lead512_apply (v : S512x512.Idx → EReal) (a : Fin 1) (r j : Fin 512) : shapeCast S1x512x512 v shapeCasts_S512x512_S1x512x512 (ix3 a r j) = v (ix2 r j) := by
  pointwise

theorem lead256_apply (v : S512x256.Idx → EReal) (a : Fin 1) (r : Fin 512) (j : Fin 256) : shapeCast S1x512x256 v shapeCasts_S512x256_S1x512x256 (ix3 a r j) = v (ix2 r j) := by
  pointwise

theorem lead16_apply (v : S512x16.Idx → EReal) (a : Fin 1) (r : Fin 512) (j : Fin 16) : shapeCast S1x512x16 v shapeCasts_S512x16_S1x512x16 (ix3 a r j) = v (ix2 r j) := by
  pointwise

theorem leadT_apply (v : S16x512.Idx → EReal) (a : Fin 1) (e : Fin 16) (r : Fin 512) : shapeCast S1x16x512 v shapeCasts_S16x512_S1x16x512 (ix3 a e r) = v (ix2 e r) := by
  pointwise

/-- Among 512 columns: the slice of 128 lanes at `o`, and the rotation of its pairs. -/
def piece512 (o : ℕ) (h : S512x512.Slices ![0, o] S512x128) (p : FVec Ideal S512x512 .f32) (cos sin : Vec Ideal S512x128 .f32) (v : IVec S512x128 1) : FVec Ideal S512x128 .f32 :=
  addf (mulf (extractStridedSlice S512x128 ![0, o] p h) cos)
    (mulf (select v (dynamicRotate 1 96#32 none (extractStridedSlice S512x128 ![0, o] p h) rotates_S512x128_d1)
      (dynamicRotate 1 32#32 none (extractStridedSlice S512x128 ![0, o] p h) rotates_S512x128_d1)) sin)

theorem slice512_apply (o : ℕ) (h : S512x512.Slices ![0, o] S512x128) (p : FVec Ideal S512x512 .f32) (r : Fin 512) (l : Fin 128) (hl : o + l.val < 512) :
    extractStridedSlice S512x128 ![0, o] p h (ix2 r l) = p (ix2 r ⟨o + l.val, hl⟩) :=
  extractStridedSlice_apply _ _ _ _ _ (fun a => match a with
    | 0 => by show r.val = 0 + r.val; omega
    | 1 => rfl)

/-- A piece512 is the rotation of its columns. -/
theorem piece512_apply (o : ℕ) (h : S512x512.Slices ![0, o] S512x128) (p : FVec Ideal S512x512 .f32) (cos sin : Vec Ideal S512x128 .f32)
    (r : Fin 512) (l : Fin 128) (j : Fin 512) (ho : o % 128 = 0) (hj : j.val = o + l.val) :
    piece512 o h p cos sin first (ix2 r l) = rotated (W := 512) (by decide) (fun j => p (ix2 r j)) (fun l => cos (ix2 r l)) (fun l => sin (ix2 r l)) j := by
  have := j.isLt
  have el : (⟨j.val % 128, by omega⟩ : Fin 128) = l := Fin.ext (by show j.val % 128 = l.val; omega)
  have e1 : extractStridedSlice S512x128 ![0, o] p h (ix2 r l) = p (ix2 r j) :=
    (slice512_apply o h p r l (by omega)).trans (congrArg (fun j => p (ix2 r j)) (Fin.ext hj.symm))
  unfold rotated
  rw [el]
  show extractStridedSlice S512x128 ![0, o] p h (ix2 r l) * cos (ix2 r l)
    + Scalar.select (first (ix2 r l)) (dynamicRotate 1 96#32 none (extractStridedSlice S512x128 ![0, o] p h) rotates_S512x128_d1 (ix2 r l))
      (dynamicRotate 1 32#32 none (extractStridedSlice S512x128 ![0, o] p h) rotates_S512x128_d1 (ix2 r l)) * sin (ix2 r l) = _
  rw [e1, first_apply]
  refine congrArg (fun z => p (ix2 r j) * cos (ix2 r l) + z * sin (ix2 r l)) ?_
  unfold partner
  by_cases hlt : l.val % 64 < 32
  · rw [if_pos hlt, dif_pos (show j.val % 64 < 32 by omega)]
    show dynamicRotate 1 96#32 none (extractStridedSlice S512x128 ![0, o] p h) rotates_S512x128_d1 (ix2 r l) = _
    refine (dynamicRotate_apply (1 : Fin 2) 96#32 _ rotates_S512x128_d1 (ix2 r l) (ix2 r (⟨l.val + 32, by omega⟩ : Fin 128)) ?_).trans ?_
    · intro a
      match a with
      | 0 => rfl
      | 1 => show l.val + 32 = (l.val + 128 - 96) % 128; omega
    · refine (slice512_apply o h p r _ (by show o + (l.val + 32) < 512; omega)).trans (congrArg (fun j => p (ix2 r j)) (Fin.ext ?_))
      show o + (l.val + 32) = j.val + 32
      omega
  · rw [if_neg hlt, dif_neg (show ¬ j.val % 64 < 32 by omega)]
    show dynamicRotate 1 32#32 none (extractStridedSlice S512x128 ![0, o] p h) rotates_S512x128_d1 (ix2 r l) = _
    refine (dynamicRotate_apply (1 : Fin 2) 32#32 _ rotates_S512x128_d1 (ix2 r l) (ix2 r (⟨l.val - 32, by omega⟩ : Fin 128)) ?_).trans ?_
    · intro a
      match a with
      | 0 => rfl
      | 1 => show l.val - 32 = (l.val + 128 - 32) % 128; omega
    · refine (slice512_apply o h p r _ (by show o + (l.val - 32) < 512; omega)).trans (congrArg (fun j => p (ix2 r j)) (Fin.ext ?_))
      show o + (l.val - 32) = j.val - 32
      omega

/-- The four pieces side by side. -/
def turned512 (p : FVec Ideal S512x512 .f32) (cos sin : Vec Ideal S512x128 .f32) (v : IVec S512x128 1) : FVec Ideal S512x512 .f32 :=
  concatenate S512x512 1 [⟨S512x128, piece512 0 slices_S512x512_o0_0_S512x128 p cos sin v⟩, ⟨S512x128, piece512 128 slices_S512x512_o0_128_S512x128 p cos sin v⟩,
    ⟨S512x128, piece512 256 slices_S512x512_o0_256_S512x128 p cos sin v⟩, ⟨S512x128, piece512 384 slices_S512x512_o0_384_S512x128 p cos sin v⟩]
    concatenates_S512x128_S512x128_S512x128_S512x128_S512x512_d1

/-- … and together they are the rotation of all columns. -/
theorem turned512_apply (p : FVec Ideal S512x512 .f32) (cos sin : Vec Ideal S512x128 .f32) (r : Fin 512) (j : Fin 512) :
    turned512 p cos sin first (ix2 r j) = rotated (W := 512) (by decide) (fun j => p (ix2 r j)) (fun l => cos (ix2 r l)) (fun l => sin (ix2 r l)) j := by
  have hjlt := j.isLt
  unfold turned512
  have cut (k : ℕ) (hk : k < 4) (o : ℕ) (ho : o = 128 * k) (h : S512x512.Slices ![0, o] S512x128) (hj : j.val / 128 = k)
      (xs : List ((s : Shape) × (s.Idx → EReal))) (hlen : xs.length = 4) (hx : xs[k]'(by omega) = ⟨S512x128, piece512 o h p cos sin first⟩)
      (hc : Shape.Concatenates (xs.map (·.1)) S512x512 1)
      (hpre : (((xs.take k).map (·.1)).map fun s => if h : s.rank = S512x512.rank then s.size ((1 : Fin 2).cast h.symm) else 0).sum = o) :
      concatenate S512x512 1 xs hc (ix2 r j) = rotated (W := 512) (by decide) (fun j => p (ix2 r j)) (fun l => cos (ix2 r l)) (fun l => sin (ix2 r l)) j := by
    refine (concatenate_apply_piece (1 : Fin 2) xs hc (ix2 r j) k (by omega) S512x128 _ hx rfl o hpre (ix2 r (⟨j.val - o, by omega⟩ : Fin 128)) ?_ ?_).trans ?_
    · intro b hb
      match b with
      | 0 => rfl
      | 1 => exact absurd rfl hb
    · show o + (j.val - o) = j.val
      omega
    · exact piece512_apply o h p cos sin r _ j (by omega) (by show j.val = o + (j.val - o); omega)
  have h4 : j.val / 128 = 0 ∨ j.val / 128 = 1 ∨ j.val / 128 = 2 ∨ j.val / 128 = 3 := by omega
  rcases h4 with h0 | h0 | h0 | h0
  · exact cut 0 (by decide) 0 rfl _ h0 _ rfl rfl _ rfl
  · exact cut 1 (by decide) 128 rfl _ h0 _ rfl rfl _ rfl
  · exact cut 2 (by decide) 256 rfl _ h0 _ rfl rfl _ rfl
  · exact cut 3 (by decide) 384 rfl _ h0 _ rfl rfl _ rfl

/-- Among 256 columns: the slice of 128 lanes at `o`, and the rotation of its pairs. -/
def piece256 (o : ℕ) (h : S512x256.Slices ![0, o] S512x128) (p : FVec Ideal S512x256 .f32) (cos sin : Vec Ideal S512x128 .f32) (v : IVec S512x128 1) : FVec Ideal S512x128 .f32 :=
  addf (mulf (extractStridedSlice S512x128 ![0, o] p h) cos)
    (mulf (select v (dynamicRotate 1 96#32 none (extractStridedSlice S512x128 ![0, o] p h) rotates_S512x128_d1)
      (dynamicRotate 1 32#32 none (extractStridedSlice S512x128 ![0, o] p h) rotates_S512x128_d1)) sin)

theorem slice256_apply (o : ℕ) (h : S512x256.Slices ![0, o] S512x128) (p : FVec Ideal S512x256 .f32) (r : Fin 512) (l : Fin 128) (hl : o + l.val < 256) :
    extractStridedSlice S512x128 ![0, o] p h (ix2 r l) = p (ix2 r ⟨o + l.val, hl⟩) :=
  extractStridedSlice_apply _ _ _ _ _ (fun a => match a with
    | 0 => by show r.val = 0 + r.val; omega
    | 1 => rfl)

/-- A piece256 is the rotation of its columns. -/
theorem piece256_apply (o : ℕ) (h : S512x256.Slices ![0, o] S512x128) (p : FVec Ideal S512x256 .f32) (cos sin : Vec Ideal S512x128 .f32)
    (r : Fin 512) (l : Fin 128) (j : Fin 256) (ho : o % 128 = 0) (hj : j.val = o + l.val) :
    piece256 o h p cos sin first (ix2 r l) = rotated (W := 256) (by decide) (fun j => p (ix2 r j)) (fun l => cos (ix2 r l)) (fun l => sin (ix2 r l)) j := by
  have := j.isLt
  have el : (⟨j.val % 128, by omega⟩ : Fin 128) = l := Fin.ext (by show j.val % 128 = l.val; omega)
  have e1 : extractStridedSlice S512x128 ![0, o] p h (ix2 r l) = p (ix2 r j) :=
    (slice256_apply o h p r l (by omega)).trans (congrArg (fun j => p (ix2 r j)) (Fin.ext hj.symm))
  unfold rotated
  rw [el]
  show extractStridedSlice S512x128 ![0, o] p h (ix2 r l) * cos (ix2 r l)
    + Scalar.select (first (ix2 r l)) (dynamicRotate 1 96#32 none (extractStridedSlice S512x128 ![0, o] p h) rotates_S512x128_d1 (ix2 r l))
      (dynamicRotate 1 32#32 none (extractStridedSlice S512x128 ![0, o] p h) rotates_S512x128_d1 (ix2 r l)) * sin (ix2 r l) = _
  rw [e1, first_apply]
  refine congrArg (fun z => p (ix2 r j) * cos (ix2 r l) + z * sin (ix2 r l)) ?_
  unfold partner
  by_cases hlt : l.val % 64 < 32
  · rw [if_pos hlt, dif_pos (show j.val % 64 < 32 by omega)]
    show dynamicRotate 1 96#32 none (extractStridedSlice S512x128 ![0, o] p h) rotates_S512x128_d1 (ix2 r l) = _
    refine (dynamicRotate_apply (1 : Fin 2) 96#32 _ rotates_S512x128_d1 (ix2 r l) (ix2 r (⟨l.val + 32, by omega⟩ : Fin 128)) ?_).trans ?_
    · intro a
      match a with
      | 0 => rfl
      | 1 => show l.val + 32 = (l.val + 128 - 96) % 128; omega
    · refine (slice256_apply o h p r _ (by show o + (l.val + 32) < 256; omega)).trans (congrArg (fun j => p (ix2 r j)) (Fin.ext ?_))
      show o + (l.val + 32) = j.val + 32
      omega
  · rw [if_neg hlt, dif_neg (show ¬ j.val % 64 < 32 by omega)]
    show dynamicRotate 1 32#32 none (extractStridedSlice S512x128 ![0, o] p h) rotates_S512x128_d1 (ix2 r l) = _
    refine (dynamicRotate_apply (1 : Fin 2) 32#32 _ rotates_S512x128_d1 (ix2 r l) (ix2 r (⟨l.val - 32, by omega⟩ : Fin 128)) ?_).trans ?_
    · intro a
      match a with
      | 0 => rfl
      | 1 => show l.val - 32 = (l.val + 128 - 32) % 128; omega
    · refine (slice256_apply o h p r _ (by show o + (l.val - 32) < 256; omega)).trans (congrArg (fun j => p (ix2 r j)) (Fin.ext ?_))
      show o + (l.val - 32) = j.val - 32
      omega

/-- The two pieces side by side. -/
def turned256 (p : FVec Ideal S512x256 .f32) (cos sin : Vec Ideal S512x128 .f32) (v : IVec S512x128 1) : FVec Ideal S512x256 .f32 :=
  concatenate S512x256 1 [⟨S512x128, piece256 0 slices_S512x256_o0_0_S512x128 p cos sin v⟩, ⟨S512x128, piece256 128 slices_S512x256_o0_128_S512x128 p cos sin v⟩]
    concatenates_S512x128_S512x128_S512x256_d1

/-- … and together they are the rotation of all columns. -/
theorem turned256_apply (p : FVec Ideal S512x256 .f32) (cos sin : Vec Ideal S512x128 .f32) (r : Fin 512) (j : Fin 256) :
    turned256 p cos sin first (ix2 r j) = rotated (W := 256) (by decide) (fun j => p (ix2 r j)) (fun l => cos (ix2 r l)) (fun l => sin (ix2 r l)) j := by
  have hjlt := j.isLt
  unfold turned256
  have cut (k : ℕ) (hk : k < 2) (o : ℕ) (ho : o = 128 * k) (h : S512x256.Slices ![0, o] S512x128) (hj : j.val / 128 = k)
      (xs : List ((s : Shape) × (s.Idx → EReal))) (hlen : xs.length = 2) (hx : xs[k]'(by omega) = ⟨S512x128, piece256 o h p cos sin first⟩)
      (hc : Shape.Concatenates (xs.map (·.1)) S512x256 1)
      (hpre : (((xs.take k).map (·.1)).map fun s => if h : s.rank = S512x256.rank then s.size ((1 : Fin 2).cast h.symm) else 0).sum = o) :
      concatenate S512x256 1 xs hc (ix2 r j) = rotated (W := 256) (by decide) (fun j => p (ix2 r j)) (fun l => cos (ix2 r l)) (fun l => sin (ix2 r l)) j := by
    refine (concatenate_apply_piece (1 : Fin 2) xs hc (ix2 r j) k (by omega) S512x128 _ hx rfl o hpre (ix2 r (⟨j.val - o, by omega⟩ : Fin 128)) ?_ ?_).trans ?_
    · intro b hb
      match b with
      | 0 => rfl
      | 1 => exact absurd rfl hb
    · show o + (j.val - o) = j.val
      omega
    · exact piece256_apply o h p cos sin r _ j (by omega) (by show j.val = o + (j.val - o); omega)
  have h4 : j.val / 128 = 0 ∨ j.val / 128 = 1 := by omega
  rcases h4 with h0 | h0
  · exact cut 0 (by decide) 0 rfl _ h0 _ rfl rfl _ rfl
  · exact cut 1 (by decide) 128 rfl _ h0 _ rfl rfl _ rfl

/-- The stored blocks of a grid point, in these words. -/
theorem pay11_eq (y : FVec Ideal S512x1024 .bf16) (cos sin : Vec Ideal S512x128 .f32) (w : FVec Ideal S1024x512 .bf16) :
    k0_pay11 (k0_pay10 y cos sin (Scalar.select (Scalar.cmpi .eq 64#32 0#32) 1#32 64#32) k0_pay6 k0_pay7 k0_pay8 w)
      = shapeCast S1x512x512 (turned512 (matmul dot_S512x1024_S1024x512_S512x512_1_0_0_1_n_n none y w (constant S512x512 .f32 0x00000000#32)) cos sin first) shapeCasts_S512x512_S1x512x512 := rfl

theorem pay12_eq (y : FVec Ideal S512x1024 .bf16) (cos sin : Vec Ideal S512x128 .f32) (v : IVec S512x128 1) (w : FVec Ideal S1024x256 .bf16) :
    k0_pay12 y cos sin v w
      = shapeCast S1x512x256 (turned256 (matmul dot_S512x1024_S1024x256_S512x256_1_0_0_1_n_n none y w (constant S512x256 .f32 0x00000000#32)) cos sin v) shapeCasts_S512x256_S1x512x256 := rfl

theorem pay13_eq (y : FVec Ideal S512x1024 .bf16) (w : FVec Ideal S1024x256 .bf16) :
    k0_pay13 y w = shapeCast S1x512x256 (matmul dot_S512x1024_S1024x256_S512x256_1_0_0_1_n_n none y w (constant (F := Ideal) S512x256 .f32 0x00000000#32)) shapeCasts_S512x256_S1x512x256 := rfl

theorem pay14_eq (y : FVec Ideal S512x1024 .bf16) (w : FVec Ideal S1024x512 .bf16) :
    k0_pay14 y w = shapeCast S1x512x512 (matmul dot_S512x1024_S1024x512_S512x512_1_0_0_1_n_n none y w (constant (F := Ideal) S512x512 .f32 0x00000000#32)) shapeCasts_S512x512_S1x512x512 := rfl

theorem pay1_eq (y : FVec Ideal S512x1024 .bf16) (w : FVec Ideal S1024x512 .bf16) :
    k0_pay1 y w = shapeCast S1x512x512 (matmul dot_S512x1024_S1024x512_S512x512_1_0_0_1_n_n none y w (constant (F := Ideal) S512x512 .f32 0x00000000#32)) shapeCasts_S512x512_S1x512x512 := rfl

theorem pay2_eq (y : FVec Ideal S512x1024 .bf16) (w : FVec Ideal S1024x512 .bf16) :
    k0_pay2 y w = shapeCast S1x512x512 (matmul dot_S512x1024_S1024x512_S512x512_1_0_0_1_n_n none y w (constant (F := Ideal) S512x512 .f32 0x00000000#32)) shapeCasts_S512x512_S1x512x512 := rfl

theorem pay3_eq (y : FVec Ideal S512x1024 .bf16) (w : FVec Ideal S1024x16 .bf16) :
    k0_pay3 y w = shapeCast S1x512x16 (matmul dot_S512x1024_S1024x16_S512x16_1_0_0_1_n_n none y w (constant (F := Ideal) S512x16 .f32 0x00000000#32)) shapeCasts_S512x16_S1x512x16 := rfl

theorem pay4_eq (y : FVec Ideal S512x1024 .bf16) (w : FVec Ideal S16x1024 .bf16) :
    k0_pay4 y w = shapeCast S1x16x512 (matmul dot_S16x1024_S512x1024_S16x512_1_1_0_0_n_n none w y (constant (F := Ideal) S16x512 .f32 0x00000000#32)) shapeCasts_S16x512_S1x16x512 := rfl

end Cert.Kernel4Ideal.Project

end
-- ==== Proof.OddArray.lean ====
/-
  The arrays the odd layers' projection kernel leaves: every grid point's blocks are 512 rows of one batch, of every result.
-/
module

public import proofs.«01_k».proof.Proof.OddValue
public import Idealize.ShloMosaic.Lib.Claim
public import Idealize.ShloMosaic.Lib.Pipeline.ValueKit.Tiles

@[expose] public section

set_option maxRecDepth 16384

noncomputable section

namespace Cert.Kernel4Ideal.Project

open Cert.Kernel4Ideal Cert.Kernel4Ideal.Gen Cert.Kernel4Ideal.Value Cert.ProjectOdd
open Cert.Project (normed lin)
open Idealize.ShloMosaic Idealize.ShloMosaic.TcCoe Idealize.SL.Sem Idealize.ShloMosaic.Tactic
open Idealize.ShloMosaic.Pipeline (Dat Window)

variable (m : (ℓ : Loc nD τ sig) → Buf (Elt Ideal) ℓ) (ρ : Dev nD → PrngReg) (c : Dev nD) (t : Fin cfg0.N)

/-- The arguments. -/
abbrev aX : Vec Ideal S8x4096x1024 .f32 := m ((c.tc : Thread nD τ).loc main_arg0)
abbrev aG : Vec Ideal S1024 .f32 := m ((c.tc : Thread nD τ).loc main_arg1)
abbrev aS : Vec Ideal S8x1x1024 .f32 := m ((c.tc : Thread nD τ).loc main_arg2)
abbrev aT : Vec Ideal S8x1x1024 .f32 := m ((c.tc : Thread nD τ).loc main_arg3)
abbrev aW : Vec Ideal S1024x2576 .bf16 := m ((c.tc : Thread nD τ).loc main_arg4)
abbrev aC : Vec Ideal S4096x128 .f32 := m ((c.tc : Thread nD τ).loc main_arg5)
abbrev aN : Vec Ideal S4096x128 .f32 := m ((c.tc : Thread nD τ).loc main_arg6)
abbrev aV : Vec Ideal S16x1024 .bf16 := m ((c.tc : Thread nD τ).loc main_arg7)

/-- The batch of a grid point, -/
abbrev batch (t : Fin cfg0.N) : Fin 8 := grid0.coords t 0

/-- and its block of 512 rows. -/
abbrev rowBlk (t : Fin cfg0.N) : Fin 8 := grid0.coords t 1

/-- A row of the block, among the batch's rows. -/
abbrev row (t : Fin cfg0.N) (r : Fin 512) : Fin 4096 := ⟨512 * (rowBlk t).val + r.val, by have := (rowBlk t).isLt; omega⟩

theorem index_x : ∀ t : Fin grid0.N, win0_0.index t (0 : Fin 3) = (grid0.coords t 0).val ∧ win0_0.index t (1 : Fin 3) = (grid0.coords t 1).val ∧ win0_0.index t (2 : Fin 3) = 0 := by
  decide +kernel
theorem index_g : ∀ t : Fin grid0.N, win0_1.index t (0 : Fin 2) = 0 ∧ win0_1.index t (1 : Fin 2) = 0 := by
  decide +kernel
theorem index_s : ∀ t : Fin grid0.N, win0_2.index t (0 : Fin 3) = (grid0.coords t 0).val ∧ win0_2.index t (1 : Fin 3) = 0 ∧ win0_2.index t (2 : Fin 3) = 0 := by
  decide +kernel
theorem index_t : ∀ t : Fin grid0.N, win0_3.index t (0 : Fin 3) = (grid0.coords t 0).val ∧ win0_3.index t (1 : Fin 3) = 0 ∧ win0_3.index t (2 : Fin 3) = 0 := by
  decide +kernel
theorem index_w : ∀ t : Fin grid0.N, win0_4.index t (0 : Fin 2) = 0 ∧ win0_4.index t (1 : Fin 2) = 0 := by
  decide +kernel
theorem index_c : ∀ t : Fin grid0.N, win0_5.index t (0 : Fin 2) = (grid0.coords t 1).val ∧ win0_5.index t (1 : Fin 2) = 0 := by
  decide +kernel
theorem index_n : ∀ t : Fin grid0.N, win0_6.index t (0 : Fin 2) = (grid0.coords t 1).val ∧ win0_6.index t (1 : Fin 2) = 0 := by
  decide +kernel
theorem index_v : ∀ t : Fin grid0.N, win0_7.index t (0 : Fin 2) = 0 ∧ win0_7.index t (1 : Fin 2) = 0 := by
  decide +kernel

/-- The blocks a grid point reads, at the arguments' own indices. -/
theorem blk_x (r : Fin 512) (k : Fin 1024) : (iblk m c 0 t : Vec Ideal S1x512x1024 .f32) (ix3 0 r k) = aX m c (ix3 (batch t) (row t r) k) := by
  obtain ⟨e0, e1, e2⟩ := index_x t
  unfold iblk
  rw [View.read_apply]
  refine (congrFun (V_main_arg0 m c) _).trans ?_
  refine congrArg (aX m c) (funext fun a => Fin.ext ?_)
  refine (Window.rect_emb_val win0_0 t _ a).trans ?_
  fin_cases a
  · exact (congrArg (· * 1 + 0) e0).trans (by show (batch t).val * 1 + 0 = (batch t).val; omega)
  · exact (congrArg (· * 512 + r.val) e1).trans (by show (rowBlk t).val * 512 + r.val = 512 * (rowBlk t).val + r.val; omega)
  · exact (congrArg (· * 1024 + k.val) e2).trans (by show _ = k.val; omega)

theorem blk_s (k : Fin 1024) : (iblk m c 2 t : Vec Ideal S1x1x1024 .f32) (ix3 0 0 k) = aS m c (ix3 (batch t) 0 k) := by
  obtain ⟨e0, e1, e2⟩ := index_s t
  unfold iblk
  rw [View.read_apply]
  refine (congrFun (V_main_arg2 m c) _).trans ?_
  refine congrArg (aS m c) (funext fun a => Fin.ext ?_)
  refine (Window.rect_emb_val win0_2 t _ a).trans ?_
  fin_cases a
  · exact (congrArg (· * 1 + 0) e0).trans (by show (batch t).val * 1 + 0 = (batch t).val; omega)
  · exact (congrArg (· * 1 + 0) e1)
  · exact (congrArg (· * 1024 + k.val) e2).trans (by show _ = k.val; omega)

theorem blk_t (k : Fin 1024) : (iblk m c 3 t : Vec Ideal S1x1x1024 .f32) (ix3 0 0 k) = aT m c (ix3 (batch t) 0 k) := by
  obtain ⟨e0, e1, e2⟩ := index_t t
  unfold iblk
  rw [View.read_apply]
  refine (congrFun (V_main_arg3 m c) _).trans ?_
  refine congrArg (aT m c) (funext fun a => Fin.ext ?_)
  refine (Window.rect_emb_val win0_3 t _ a).trans ?_
  fin_cases a
  · exact (congrArg (· * 1 + 0) e0).trans (by show (batch t).val * 1 + 0 = (batch t).val; omega)
  · exact (congrArg (· * 1 + 0) e1)
  · exact (congrArg (· * 1024 + k.val) e2).trans (by show _ = k.val; omega)

theorem blk_w (k : Fin 1024) (j : Fin 2576) : (iblk m c 4 t : Vec Ideal S1024x2576 .bf16) (ix2 k j) = aW m c (ix2 k j) := by
  obtain ⟨e0, e1⟩ := index_w t
  unfold iblk
  rw [View.read_apply]
  refine (congrFun (V_main_arg4 m c) _).trans ?_
  refine congrArg (aW m c) (funext fun a => Fin.ext ?_)
  refine (Window.rect_emb_val win0_4 t _ a).trans ?_
  fin_cases a
  · exact (congrArg (· * 1024 + k.val) e0).trans (by show _ = k.val; omega)
  · exact (congrArg (· * 2576 + j.val) e1).trans (by show _ = j.val; omega)

theorem blk_c (r : Fin 512) (l : Fin 128) : (iblk m c 5 t : Vec Ideal S512x128 .f32) (ix2 r l) = aC m c (ix2 (row t r) l) := by
  obtain ⟨e0, e1⟩ := index_c t
  unfold iblk
  rw [View.read_apply]
  refine (congrFun (V_main_arg5 m c) _).trans ?_
  refine congrArg (aC m c) (funext fun a => Fin.ext ?_)
  refine (Window.rect_emb_val win0_5 t _ a).trans ?_
  fin_cases a
  · exact (congrArg (· * 512 + r.val) e0).trans (by show (rowBlk t).val * 512 + r.val = 512 * (rowBlk t).val + r.val; omega)
  · exact (congrArg (· * 128 + l.val) e1).trans (by show _ = l.val; omega)

theorem blk_n (r : Fin 512) (l : Fin 128) : (iblk m c 6 t : Vec Ideal S512x128 .f32) (ix2 r l) = aN m c (ix2 (row t r) l) := by
  obtain ⟨e0, e1⟩ := index_n t
  unfold iblk
  rw [View.read_apply]
  refine (congrFun (V_main_arg6 m c) _).trans ?_
  refine congrArg (aN m c) (funext fun a => Fin.ext ?_)
  refine (Window.rect_emb_val win0_6 t _ a).trans ?_
  fin_cases a
  · exact (congrArg (· * 512 + r.val) e0).trans (by show (rowBlk t).val * 512 + r.val = 512 * (rowBlk t).val + r.val; omega)
  · exact (congrArg (· * 128 + l.val) e1).trans (by show _ = l.val; omega)

/-- The gain is laid out as one row before the call. -/
theorem gain_row (k : Fin 1024) : (V m c main_v0 : Vec Ideal S1x1024 .f32) (ix2 0 k) = aG m c (ix1 k) := by
  show V m c main_v0 (ix2 0 k) = _
  entry_read
  refine shapeCast_apply _ shapeCasts_S1024_S1x1024 (ix2 0 k) (ix1 k) ?_
  rw [Shape.rowMajor_val_one, Shape.rowMajor_val_two]
  show k.val = 0 * 1024 + k.val
  omega

theorem blk_g (k : Fin 1024) : (iblk m c 1 t : Vec Ideal S1x1024 .f32) (ix2 0 k) = aG m c (ix1 k) := by
  obtain ⟨e0, e1⟩ := index_g t
  unfold iblk
  rw [View.read_apply]
  refine Eq.trans ?_ (gain_row m c k)
  refine congrArg (V m c main_v0 : Vec Ideal S1x1024 .f32) (funext fun a => Fin.ext ?_)
  refine (Window.rect_emb_val win0_1 t _ a).trans ?_
  fin_cases a
  · exact (congrArg (· * 1 + 0) e0)
  · exact (congrArg (· * 1024 + k.val) e1).trans (by show _ = k.val; omega)

theorem blk_v (e : Fin 16) (k : Fin 1024) : (iblk m c 7 t : Vec Ideal S16x1024 .bf16) (ix2 e k) = aV m c (ix2 e k) := by
  obtain ⟨e0, e1⟩ := index_v t
  unfold iblk
  rw [View.read_apply]
  refine (congrFun (V_main_arg7 m c) _).trans ?_
  refine congrArg (aV m c) (funext fun a => Fin.ext ?_)
  refine (Window.rect_emb_val win0_7 t _ a).trans ?_
  fin_cases a
  · exact (congrArg (· * 16 + e.val) e0).trans (by show _ = e.val; omega)
  · exact (congrArg (· * 1024 + k.val) e1).trans (by show _ = k.val; omega)

/-- The blocks of a grid point are loaded whole. -/
theorem load_x : (View.ld (iblk m c 0 t : Vec Ideal S1x512x1024 .f32) r0_0 : S1x512x1024.Idx → EReal) = iblk m c 0 t :=
  View.ld_unit_zero (by funext a; fin_cases a <;> rfl) _ _

theorem load_g : (View.ld (iblk m c 1 t : Vec Ideal S1x1024 .f32) r0_1 : S1x1024.Idx → EReal) = iblk m c 1 t :=
  View.ld_unit_zero (by funext a; fin_cases a <;> rfl) _ _

theorem load_s : (View.ld (iblk m c 2 t : Vec Ideal S1x1x1024 .f32) r0_2 : S1x1x1024.Idx → EReal) = iblk m c 2 t :=
  View.ld_unit_zero (by funext a; fin_cases a <;> rfl) _ _

theorem load_t : (View.ld (iblk m c 3 t : Vec Ideal S1x1x1024 .f32) r0_2 : S1x1x1024.Idx → EReal) = iblk m c 3 t :=
  View.ld_unit_zero (by funext a; fin_cases a <;> rfl) _ _

theorem load_cos : (View.ld (iblk m c 5 t : Vec Ideal S512x128 .f32) r0_3 : S512x128.Idx → EReal) = iblk m c 5 t :=
  View.ld_unit_zero (by funext a; fin_cases a <;> rfl) _ _

theorem load_sin : (View.ld (iblk m c 6 t : Vec Ideal S512x128 .f32) r0_3 : S512x128.Idx → EReal) = iblk m c 6 t :=
  View.ld_unit_zero (by funext a; fin_cases a <;> rfl) _ _

theorem load_v : (View.ld (iblk m c 7 t : Vec Ideal S16x1024 .bf16) r0_16 : S16x1024.Idx → EReal) = iblk m c 7 t :=
  View.ld_unit_zero (by funext a; fin_cases a <;> rfl) _ _

/-- The normed rows of a grid point. -/
abbrev rows : FVec Ideal S512x1024 .bf16 := k0_pay15 (iblk m c 0 t) (iblk m c 1 t) (iblk m c 2 t) (iblk m c 3 t) (iblk m c 4 t) (iblk m c 5 t) (iblk m c 6 t) (iblk m c 7 t)

theorem rows_apply (r : Fin 512) (k : Fin 1024) : rows m c t (ix2 r k) = normRow (aX m c) (aG m c) (aS m c) (aT m c) (batch t) (row t r) k := by
  unfold rows k0_pay15
  refine (normed_apply _ _ _ _ r k).trans ?_
  rw [load_x, load_g, load_s, load_t]
  unfold normRow
  simp only [blk_x, blk_g, blk_s, blk_t]

/-- The product with 512 columns of the weight. -/
theorem cols512_apply (o : ℕ) (ho : o + 512 ≤ 2576) (w : FVec Ideal S1024x512 .bf16)
    (hw : ∀ (k : Fin 1024) (j : Fin 512), w (ix2 k j) = aW m c (ix2 k (⟨o + j.val, by omega⟩ : Fin 2576))) (r : Fin 512) (j : Fin 512) :
    matmul dot_S512x1024_S1024x512_S512x512_1_0_0_1_n_n none (rows m c t) w (constant (F := Ideal) S512x512 .f32 0x00000000#32) (ix2 r j)
      = columns (aX m c) (aG m c) (aS m c) (aT m c) (aW m c) o 512 ho (batch t) (row t r) j := by
  refine (prod512_apply _ w r j).trans ?_
  unfold columns
  simp only [rows_apply, hw]

/-- A load of 512 columns of the weight. -/
theorem load512_cols (o : ℕ) (ho : o + 512 ≤ 2576) (inb : ∀ a, (![0, o] : Fin 2 → ℕ) a + S1024x512.size a ≤ S1024x2576.size a) (k : Fin 1024) (j : Fin 512) :
    (View.ld (iblk m c 4 t : Vec Ideal S1024x2576 .bf16) (Rect.unit (s := S1024x2576) ![0, o] S1024x512.size inb) : S1024x512.Idx → EReal) (ix2 k j)
      = aW m c (ix2 k (⟨o + j.val, by omega⟩ : Fin 2576)) := by
  refine (View.ld_unit_apply_of _ _ _ inb _ (ix2 k (⟨o + j.val, by omega⟩ : Fin 2576)) ?_).trans (blk_w m c t k _)
  intro a
  match a with
  | 0 => show k.val = 0 + k.val; omega
  | 1 => rfl

/-- The product with 256 columns of the weight. -/
theorem cols256_apply (o : ℕ) (ho : o + 256 ≤ 2576) (w : FVec Ideal S1024x256 .bf16)
    (hw : ∀ (k : Fin 1024) (j : Fin 256), w (ix2 k j) = aW m c (ix2 k (⟨o + j.val, by omega⟩ : Fin 2576))) (r : Fin 512) (j : Fin 256) :
    matmul dot_S512x1024_S1024x256_S512x256_1_0_0_1_n_n none (rows m c t) w (constant (F := Ideal) S512x256 .f32 0x00000000#32) (ix2 r j)
      = columns (aX m c) (aG m c) (aS m c) (aT m c) (aW m c) o 256 ho (batch t) (row t r) j := by
  refine (prod256_apply _ w r j).trans ?_
  unfold columns
  simp only [rows_apply, hw]

/-- A load of 256 columns of the weight. -/
theorem load256_cols (o : ℕ) (ho : o + 256 ≤ 2576) (inb : ∀ a, (![0, o] : Fin 2 → ℕ) a + S1024x256.size a ≤ S1024x2576.size a) (k : Fin 1024) (j : Fin 256) :
    (View.ld (iblk m c 4 t : Vec Ideal S1024x2576 .bf16) (Rect.unit (s := S1024x2576) ![0, o] S1024x256.size inb) : S1024x256.Idx → EReal) (ix2 k j)
      = aW m c (ix2 k (⟨o + j.val, by omega⟩ : Fin 2576)) := by
  refine (View.ld_unit_apply_of _ _ _ inb _ (ix2 k (⟨o + j.val, by omega⟩ : Fin 2576)) ?_).trans (blk_w m c t k _)
  intro a
  match a with
  | 0 => show k.val = 0 + k.val; omega
  | 1 => rfl

/-- The product with 16 columns of the weight. -/
theorem cols16_apply (o : ℕ) (ho : o + 16 ≤ 2576) (w : FVec Ideal S1024x16 .bf16)
    (hw : ∀ (k : Fin 1024) (j : Fin 16), w (ix2 k j) = aW m c (ix2 k (⟨o + j.val, by omega⟩ : Fin 2576))) (r : Fin 512) (j : Fin 16) :
    matmul dot_S512x1024_S1024x16_S512x16_1_0_0_1_n_n none (rows m c t) w (constant (F := Ideal) S512x16 .f32 0x00000000#32) (ix2 r j)
      = columns (aX m c) (aG m c) (aS m c) (aT m c) (aW m c) o 16 ho (batch t) (row t r) j := by
  refine (prod16_apply _ w r j).trans ?_
  unfold columns
  simp only [rows_apply, hw]

/-- A load of 16 columns of the weight. -/
theorem load16_cols (o : ℕ) (ho : o + 16 ≤ 2576) (inb : ∀ a, (![0, o] : Fin 2 → ℕ) a + S1024x16.size a ≤ S1024x2576.size a) (k : Fin 1024) (j : Fin 16) :
    (View.ld (iblk m c 4 t : Vec Ideal S1024x2576 .bf16) (Rect.unit (s := S1024x2576) ![0, o] S1024x16.size inb) : S1024x16.Idx → EReal) (ix2 k j)
      = aW m c (ix2 k (⟨o + j.val, by omega⟩ : Fin 2576)) := by
  refine (View.ld_unit_apply_of _ _ _ inb _ (ix2 k (⟨o + j.val, by omega⟩ : Fin 2576)) ?_).trans (blk_w m c t k _)
  intro a
  match a with
  | 0 => show k.val = 0 + k.val; omega
  | 1 => rfl

theorem turned512_block (o : ℕ) (ho : o + 512 ≤ 2576) (w : FVec Ideal S1024x512 .bf16)
    (hw : ∀ (k : Fin 1024) (j : Fin 512), w (ix2 k j) = aW m c (ix2 k (⟨o + j.val, by omega⟩ : Fin 2576))) (r : Fin 512) (j : Fin 512) :
    turned512 (matmul dot_S512x1024_S1024x512_S512x512_1_0_0_1_n_n none (rows m c t) w (constant (F := Ideal) S512x512 .f32 0x00000000#32))
        (iblk m c 5 t) (iblk m c 6 t) first (ix2 r j)
      = rotatedOut (aX m c) (aG m c) (aS m c) (aT m c) (aW m c) (aC m c) (aN m c) o 512 ho (by decide) (ix3 (batch t) (row t r) j) := by
  refine (turned512_apply _ _ _ r j).trans ?_
  unfold rotatedOut
  simp only [cols512_apply m c t o ho w hw, blk_c, blk_n]
  rfl

theorem turned256_block (o : ℕ) (ho : o + 256 ≤ 2576) (w : FVec Ideal S1024x256 .bf16)
    (hw : ∀ (k : Fin 1024) (j : Fin 256), w (ix2 k j) = aW m c (ix2 k (⟨o + j.val, by omega⟩ : Fin 2576))) (r : Fin 512) (j : Fin 256) :
    turned256 (matmul dot_S512x1024_S1024x256_S512x256_1_0_0_1_n_n none (rows m c t) w (constant (F := Ideal) S512x256 .f32 0x00000000#32))
        (iblk m c 5 t) (iblk m c 6 t) first (ix2 r j)
      = rotatedOut (aX m c) (aG m c) (aS m c) (aT m c) (aW m c) (aC m c) (aN m c) o 256 ho (by decide) (ix3 (batch t) (row t r) j) := by
  refine (turned256_apply _ _ _ r j).trans ?_
  unfold rotatedOut
  simp only [cols256_apply m c t o ho w hw, blk_c, blk_n]
  rfl

theorem eta512 (y : S1x512x512.Idx) : y = ix3 (y 0 : Fin 1) (y 1 : Fin 512) (y 2 : Fin 512) := by
  funext a
  match a with
  | 0 => rfl
  | 1 => rfl
  | 2 => rfl

theorem eta256 (y : S1x512x256.Idx) : y = ix3 (y 0 : Fin 1) (y 1 : Fin 512) (y 2 : Fin 256) := by
  funext a
  match a with
  | 0 => rfl
  | 1 => rfl
  | 2 => rfl

theorem eta16 (y : S1x512x16.Idx) : y = ix3 (y 0 : Fin 1) (y 1 : Fin 512) (y 2 : Fin 16) := by
  funext a
  match a with
  | 0 => rfl
  | 1 => rfl
  | 2 => rfl

theorem etaT (y : S1x16x512.Idx) : y = ix3 (y 0 : Fin 1) (y 1 : Fin 16) (y 2 : Fin 512) := by
  funext a
  match a with
  | 0 => rfl
  | 1 => rfl
  | 2 => rfl

theorem stored512_bf16 (v : FVec Ideal S1x512x512 .bf16) : View.canon [(⟨r0_5, v⟩ : View.Piece (Elt Ideal) S1x512x512 .bf16)] = v :=
  View.canon_unit_zero (by funext a; fin_cases a <;> rfl) _ _

theorem stored512_f32 (v : FVec Ideal S1x512x512 .f32) : View.canon [(⟨r0_5, v⟩ : View.Piece (Elt Ideal) S1x512x512 .f32)] = v :=
  View.canon_unit_zero (by funext a; fin_cases a <;> rfl) _ _

theorem stored256_bf16 (v : FVec Ideal S1x512x256 .bf16) : View.canon [(⟨r0_7, v⟩ : View.Piece (Elt Ideal) S1x512x256 .bf16)] = v :=
  View.canon_unit_zero (by funext a; fin_cases a <;> rfl) _ _

theorem stored16_f32 (v : FVec Ideal S1x512x16 .f32) : View.canon [(⟨r0_15, v⟩ : View.Piece (Elt Ideal) S1x512x16 .f32)] = v :=
  View.canon_unit_zero (by funext a; fin_cases a <;> rfl) _ _

theorem storedT_f32 (v : FVec Ideal S1x16x512 .f32) : View.canon [(⟨r0_17, v⟩ : View.Piece (Elt Ideal) S1x16x512 .f32)] = v :=
  View.canon_unit_zero (by funext a; fin_cases a <;> rfl) _ _

/-- Every batch and every block of rows has its grid point. -/
theorem point_of : ∀ (b i : Fin 8), ∃ t : Fin grid0.N, (grid0.coords t 0).val = b.val ∧ (grid0.coords t 1).val = i.val := by
  decide +kernel

/-- 512 of the 1024 columns of the widest result, from `d` on. -/
theorem chunk (d o : ℕ) (ho : o + 512 ≤ 2576) (hod : o = 1024 + d) (r r' : Fin 512) (j : Fin 512) (j' : Fin 1024) (hr : r = r') (hj : j'.val = d + j.val) :
    columns (aX m c) (aG m c) (aS m c) (aT m c) (aW m c) o 512 ho (batch t) (row t r) j = plainOut (aX m c) (aG m c) (aS m c) (aT m c) (aW m c) 1024 1024 (by decide) (ix3 (batch t) (row t r') j') := by
  subst hr
  unfold plainOut columns lin
  refine Finset.sum_congr rfl fun k _ => congrArg (_ * ·) (congrArg (fun j => aW m c (ix2 k j)) (Fin.ext ?_))
  show o + j.val = 1024 + j'.val
  omega

theorem index_out : ∀ t : Fin grid0.N, win0_8.index t (0 : Fin 3) = (grid0.coords t 0).val ∧ win0_8.index t (1 : Fin 3) = (grid0.coords t 1).val ∧ win0_8.index t (2 : Fin 3) = 0 := by
  decide +kernel

/-- Where an element of a grid point's block lies in the array, for every result of `n` columns. -/
theorem place {n : ℕ} {t : Fin cfg0.N} {f : Fin 3 → ℕ} (h : f 0 = (grid0.coords t 0).val ∧ f 1 = (grid0.coords t 1).val ∧ f 2 = 0)
    (y : (⟨3, ![1, 512, n]⟩ : Shape).Idx) (v : (⟨3, ![8, 4096, n]⟩ : Shape).Idx)
    (e : ∀ a : Fin 3, (v a).val = f a * (⟨3, ![1, 512, n]⟩ : Shape).size a + (y a).val) :
    v = ix3 (batch t) (row t (y 1)) (y 2 : Fin n) := by
  obtain ⟨e0, e1, e2⟩ := h
  have h0 : (y 0).val = 0 := Nat.lt_one_iff.mp (y 0).isLt
  funext a
  refine Fin.ext ((e a).trans ?_)
  match a with
  | 0 => exact (congrArg (· * 1 + (y 0).val) e0).trans (by rw [h0]; show (batch t).val * 1 + 0 = (batch t).val; omega)
  | 1 => exact (congrArg (· * 512 + (y 1).val) e1).trans (by show (rowBlk t).val * 512 + (y 1).val = 512 * (rowBlk t).val + (y 1).val; omega)
  | 2 => exact (congrArg (· * n + (y 2).val) e2).trans (by show 0 * n + (y 2).val = (y 2).val; omega)

/-- Every element of such an array is in the block of a grid point. -/
theorem back {n : ℕ} (i : (⟨3, ![8, 4096, n]⟩ : Shape).Idx) : ∃ (t : Fin cfg0.N) (y : (⟨3, ![1, 512, n]⟩ : Shape).Idx),
    (ix3 (batch t) (row t (y 1)) (y 2 : Fin n) : (⟨3, ![8, 4096, n]⟩ : Shape).Idx) = i := by
  have hi0 : (i 0).val < 8 := (i 0).isLt
  have hi1 : (i 1).val < 4096 := (i 1).isLt
  obtain ⟨t, ht0, ht1⟩ := point_of ⟨(i 0).val, hi0⟩ ⟨(i 1).val / 512, by omega⟩
  refine ⟨t, ix3 (0 : Fin 1) (⟨(i 1).val % 512, by omega⟩ : Fin 512) (i 2 : Fin n), ?_⟩
  funext a
  match a with
  | 0 => exact Fin.ext ht0
  | 1 => exact Fin.ext ((congrArg (512 * · + (i 1).val % 512) ht1).trans (by show 512 * ((i 1).val / 512) + (i 1).val % 512 = (i 1).val; omega))
  | 2 => rfl

/-- Result 0: a grid point's block, … -/
theorem out8_apply (y : S1x512x512.Idx) : out0_8 (iblk m c 0 t) (iblk m c 1 t) (iblk m c 2 t) (iblk m c 3 t) (iblk m c 4 t) (iblk m c 5 t) (iblk m c 6 t) (iblk m c 7 t) y
    = (rotatedOut (aX m c) (aG m c) (aS m c) (aT m c) (aW m c) (aC m c) (aN m c) 0 512 (by decide) (by decide)) (ix3 (batch t) (row t (y 1)) (y 2)) := by
  refine (congrArg _ (eta512 y)).trans ?_
  unfold out0_8
  rw [stored512_bf16, load_cos, load_sin]
  refine (congrFun (pay11_eq _ _ _ _) _).trans ((lead512_apply _ (y 0) (y 1) (y 2)).trans ?_)
  exact turned512_block m c t 0 (by decide) _ (load512_cols m c t 0 (by decide) _) (y 1) (y 2)

/-- … and the array after the run. -/
theorem arr_8 : (dats m 0 c).arrAt 8 cfg0.N = (rotatedOut (aX m c) (aG m c) (aS m c) (aT m c) (aW m c) (aC m c) (aN m c) 0 512 (by decide) (by decide)) := by
  have e (t : Fin cfg0.N) (y : S1x512x512.Idx) := place (index_out t) y (((cfg0.win 8).blk t).view.emb y) (Window.rect_emb_val win0_8 t y)
  refine (dats m 0 c).arrAt_eq_of_cover 8 (rotatedOut (aX m c) (aG m c) (aS m c) (aT m c) (aW m c) (aC m c) (aN m c) 0 512 (by decide) (by decide)) (fun t _ => ?_) (fun i => ?_)
  · rw [flushed8]
    funext y
    rw [View.read_apply]
    exact (out8_apply m c t y).trans (congrArg (rotatedOut (aX m c) (aG m c) (aS m c) (aT m c) (aW m c) (aC m c) (aN m c) 0 512 (by decide) (by decide)) (e t y).symm)
  · obtain ⟨t, y, h⟩ := back i
    exact ⟨t, flush0_8 t, ((e t y).trans h) ▸ ((cfg0.win 8).blk t).view.emb_mem_set _⟩

/-- Result 1: a grid point's block, … -/
theorem out9_apply (y : S1x512x256.Idx) : out0_9 (iblk m c 0 t) (iblk m c 1 t) (iblk m c 2 t) (iblk m c 3 t) (iblk m c 4 t) (iblk m c 5 t) (iblk m c 6 t) (iblk m c 7 t) y
    = (rotatedOut (aX m c) (aG m c) (aS m c) (aT m c) (aW m c) (aC m c) (aN m c) 512 256 (by decide) (by decide)) (ix3 (batch t) (row t (y 1)) (y 2)) := by
  refine (congrArg _ (eta256 y)).trans ?_
  unfold out0_9
  rw [stored256_bf16, load_cos, load_sin]
  refine (congrFun (pay12_eq _ _ _ _ _) _).trans ((lead256_apply _ (y 0) (y 1) (y 2)).trans ?_)
  exact turned256_block m c t 512 (by decide) _ (load256_cols m c t 512 (by decide) _) (y 1) (y 2)

/-- … and the array after the run. -/
theorem arr_9 : (dats m 0 c).arrAt 9 cfg0.N = (rotatedOut (aX m c) (aG m c) (aS m c) (aT m c) (aW m c) (aC m c) (aN m c) 512 256 (by decide) (by decide)) := by
  have e (t : Fin cfg0.N) (y : S1x512x256.Idx) := place (index_out t) y (((cfg0.win 9).blk t).view.emb y) (Window.rect_emb_val win0_9 t y)
  refine (dats m 0 c).arrAt_eq_of_cover 9 (rotatedOut (aX m c) (aG m c) (aS m c) (aT m c) (aW m c) (aC m c) (aN m c) 512 256 (by decide) (by decide)) (fun t _ => ?_) (fun i => ?_)
  · rw [flushed9]
    funext y
    rw [View.read_apply]
    exact (out9_apply m c t y).trans (congrArg (rotatedOut (aX m c) (aG m c) (aS m c) (aT m c) (aW m c) (aC m c) (aN m c) 512 256 (by decide) (by decide)) (e t y).symm)
  · obtain ⟨t, y, h⟩ := back i
    exact ⟨t, flush0_9 t, ((e t y).trans h) ▸ ((cfg0.win 9).blk t).view.emb_mem_set _⟩

/-- Result 2: a grid point's block, … -/
theorem out10_apply (y : S1x512x256.Idx) : out0_10 (iblk m c 0 t) (iblk m c 1 t) (iblk m c 2 t) (iblk m c 3 t) (iblk m c 4 t) (iblk m c 5 t) (iblk m c 6 t) (iblk m c 7 t) y
    = (plainOut (aX m c) (aG m c) (aS m c) (aT m c) (aW m c) 768 256 (by decide)) (ix3 (batch t) (row t (y 1)) (y 2)) := by
  refine (congrArg _ (eta256 y)).trans ?_
  unfold out0_10
  rw [stored256_bf16]
  refine (congrFun (pay13_eq _ _) _).trans ((lead256_apply _ (y 0) (y 1) (y 2)).trans ?_)
  exact cols256_apply m c t 768 (by decide) _ (load256_cols m c t 768 (by decide) _) (y 1) (y 2)

/-- … and the array after the run. -/
theorem arr_10 : (dats m 0 c).arrAt 10 cfg0.N = (plainOut (aX m c) (aG m c) (aS m c) (aT m c) (aW m c) 768 256 (by decide)) := by
  have e (t : Fin cfg0.N) (y : S1x512x256.Idx) := place (index_out t) y (((cfg0.win 10).blk t).view.emb y) (Window.rect_emb_val win0_10 t y)
  refine (dats m 0 c).arrAt_eq_of_cover 10 (plainOut (aX m c) (aG m c) (aS m c) (aT m c) (aW m c) 768 256 (by decide)) (fun t _ => ?_) (fun i => ?_)
  · rw [flushed10]
    funext y
    rw [View.read_apply]
    exact (out10_apply m c t y).trans (congrArg (plainOut (aX m c) (aG m c) (aS m c) (aT m c) (aW m c) 768 256 (by decide)) (e t y).symm)
  · obtain ⟨t, y, h⟩ := back i
    exact ⟨t, flush0_10 t, ((e t y).trans h) ▸ ((cfg0.win 10).blk t).view.emb_mem_set _⟩

/-- Result 3: a grid point's block, … -/
theorem out11_apply (y : S1x512x1024.Idx) : out0_11 (iblk m c 0 t) (iblk m c 1 t) (iblk m c 2 t) (iblk m c 3 t) (iblk m c 4 t) (iblk m c 5 t) (iblk m c 6 t) (iblk m c 7 t) y
    = (plainOut (aX m c) (aG m c) (aS m c) (aT m c) (aW m c) 1024 1024 (by decide)) (ix3 (batch t) (row t (y 1)) (y 2)) := by
  canon_tiles x h
  all_goals
    refine (congrArg _ (eta512 x)).trans ?_
  · refine (congrFun (pay1_eq _ _) _).trans ((lead512_apply _ (x 0) (x 1) (x 2)).trans ?_)
    refine (cols512_apply m c t 1536 (by decide) _ (load512_cols m c t 1536 (by decide) _) (x 1) (x 2)).trans ?_
    exact chunk m c t 512 1536 (by decide) (by decide) (x 1) (y 1) (x 2) (y 2) (Fin.ext h1).symm h2
  · refine (congrFun (pay14_eq _ _) _).trans ((lead512_apply _ (x 0) (x 1) (x 2)).trans ?_)
    refine (cols512_apply m c t 1024 (by decide) _ (load512_cols m c t 1024 (by decide) _) (x 1) (x 2)).trans ?_
    exact chunk m c t 0 1024 (by decide) (by decide) (x 1) (y 1) (x 2) (y 2) (Fin.ext h1).symm (h2.trans (Nat.zero_add _).symm)

/-- … and the array after the run. -/
theorem arr_11 : (dats m 0 c).arrAt 11 cfg0.N = (plainOut (aX m c) (aG m c) (aS m c) (aT m c) (aW m c) 1024 1024 (by decide)) := by
  have e (t : Fin cfg0.N) (y : S1x512x1024.Idx) := place (index_out t) y (((cfg0.win 11).blk t).view.emb y) (Window.rect_emb_val win0_11 t y)
  refine (dats m 0 c).arrAt_eq_of_cover 11 (plainOut (aX m c) (aG m c) (aS m c) (aT m c) (aW m c) 1024 1024 (by decide)) (fun t _ => ?_) (fun i => ?_)
  · rw [flushed11]
    funext y
    rw [View.read_apply]
    exact (out11_apply m c t y).trans (congrArg (plainOut (aX m c) (aG m c) (aS m c) (aT m c) (aW m c) 1024 1024 (by decide)) (e t y).symm)
  · obtain ⟨t, y, h⟩ := back i
    exact ⟨t, flush0_11 t, ((e t y).trans h) ▸ ((cfg0.win 11).blk t).view.emb_mem_set _⟩

/-- Result 4: a grid point's block, … -/
theorem out12_apply (y : S1x512x512.Idx) : out0_12 (iblk m c 0 t) (iblk m c 1 t) (iblk m c 2 t) (iblk m c 3 t) (iblk m c 4 t) (iblk m c 5 t) (iblk m c 6 t) (iblk m c 7 t) y
    = (plainOut (aX m c) (aG m c) (aS m c) (aT m c) (aW m c) 2048 512 (by decide)) (ix3 (batch t) (row t (y 1)) (y 2)) := by
  refine (congrArg _ (eta512 y)).trans ?_
  unfold out0_12
  rw [stored512_f32]
  refine (congrFun (pay2_eq _ _) _).trans ((lead512_apply _ (y 0) (y 1) (y 2)).trans ?_)
  exact cols512_apply m c t 2048 (by decide) _ (load512_cols m c t 2048 (by decide) _) (y 1) (y 2)

/-- … and the array after the run. -/
theorem arr_12 : (dats m 0 c).arrAt 12 cfg0.N = (plainOut (aX m c) (aG m c) (aS m c) (aT m c) (aW m c) 2048 512 (by decide)) := by
  have e (t : Fin cfg0.N) (y : S1x512x512.Idx) := place (index_out t) y (((cfg0.win 12).blk t).view.emb y) (Window.rect_emb_val win0_12 t y)
  refine (dats m 0 c).arrAt_eq_of_cover 12 (plainOut (aX m c) (aG m c) (aS m c) (aT m c) (aW m c) 2048 512 (by decide)) (fun t _ => ?_) (fun i => ?_)
  · rw [flushed12]
    funext y
    rw [View.read_apply]
    exact (out12_apply m c t y).trans (congrArg (plainOut (aX m c) (aG m c) (aS m c) (aT m c) (aW m c) 2048 512 (by decide)) (e t y).symm)
  · obtain ⟨t, y, h⟩ := back i
    exact ⟨t, flush0_12 t, ((e t y).trans h) ▸ ((cfg0.win 12).blk t).view.emb_mem_set _⟩

/-- Result 5: a grid point's block, … -/
theorem out13_apply (y : S1x512x16.Idx) : out0_13 (iblk m c 0 t) (iblk m c 1 t) (iblk m c 2 t) (iblk m c 3 t) (iblk m c 4 t) (iblk m c 5 t) (iblk m c 6 t) (iblk m c 7 t) y
    = (plainOut (aX m c) (aG m c) (aS m c) (aT m c) (aW m c) 2560 16 (by decide)) (ix3 (batch t) (row t (y 1)) (y 2)) := by
  refine (congrArg _ (eta16 y)).trans ?_
  unfold out0_13
  rw [stored16_f32]
  refine (congrFun (pay3_eq _ _) _).trans ((lead16_apply _ (y 0) (y 1) (y 2)).trans ?_)
  exact cols16_apply m c t 2560 (by decide) _ (load16_cols m c t 2560 (by decide) _) (y 1) (y 2)

/-- … and the array after the run. -/
theorem arr_13 : (dats m 0 c).arrAt 13 cfg0.N = (plainOut (aX m c) (aG m c) (aS m c) (aT m c) (aW m c) 2560 16 (by decide)) := by
  have e (t : Fin cfg0.N) (y : S1x512x16.Idx) := place (index_out t) y (((cfg0.win 13).blk t).view.emb y) (Window.rect_emb_val win0_13 t y)
  refine (dats m 0 c).arrAt_eq_of_cover 13 (plainOut (aX m c) (aG m c) (aS m c) (aT m c) (aW m c) 2560 16 (by decide)) (fun t _ => ?_) (fun i => ?_)
  · rw [flushed13]
    funext y
    rw [View.read_apply]
    exact (out13_apply m c t y).trans (congrArg (plainOut (aX m c) (aG m c) (aS m c) (aT m c) (aW m c) 2560 16 (by decide)) (e t y).symm)
  · obtain ⟨t, y, h⟩ := back i
    exact ⟨t, flush0_13 t, ((e t y).trans h) ▸ ((cfg0.win 13).blk t).view.emb_mem_set _⟩

/-- Result 6: a grid point's block, … -/
theorem out14_apply (y : S1x16x512.Idx) : out0_14 (iblk m c 0 t) (iblk m c 1 t) (iblk m c 2 t) (iblk m c 3 t) (iblk m c 4 t) (iblk m c 5 t) (iblk m c 6 t) (iblk m c 7 t) y
    = (channelsOut (aX m c) (aG m c) (aS m c) (aT m c) (aV m c)) (ix3 (batch t) (y 1) (row t (y 2))) := by
  refine (congrArg _ (etaT y)).trans ?_
  unfold out0_14
  rw [storedT_f32, load_v]
  refine (congrFun (pay4_eq _ _) _).trans ((leadT_apply _ (y 0) (y 1) (y 2)).trans ((prodT_apply _ _ (y 1) (y 2)).trans ?_))
  unfold channelsOut
  have hr : (fun k => rows m c t (ix2 (y 2 : Fin 512) k)) = normRow (aX m c) (aG m c) (aS m c) (aT m c) (batch t) (row t (y 2)) := funext fun k => rows_apply m c t (y 2) k
  have hv : (fun (k : Fin 1024) (e : Fin 16) => (iblk m c 7 t : Vec Ideal S16x1024 .bf16) (ix2 e k)) = fun k e => aV m c (ix2 e k) :=
    funext fun k => funext fun e => blk_v m c t e k
  exact congr (congr (congrArg lin hr) hv) rfl

theorem index_14 : ∀ t : Fin grid0.N, win0_14.index t (0 : Fin 3) = (grid0.coords t 0).val ∧ win0_14.index t (1 : Fin 3) = 0 ∧ win0_14.index t (2 : Fin 3) = (grid0.coords t 1).val := by
  decide +kernel

theorem emb_14 (y : ((cfg0.win 14).xblock (grid0.coords t)).Idx) (a : Fin 3) :
    ((((cfg0.win 14).blk t).view.emb y : S8x16x4096.Idx) a).val = win0_14.index t a * S1x16x512.size a + (y a).val :=
  Window.rect_emb_val win0_14 t y a

/-- … and the array after the run. -/
theorem arr_14 : (dats m 0 c).arrAt 14 cfg0.N = (channelsOut (aX m c) (aG m c) (aS m c) (aT m c) (aV m c)) := by
  refine (dats m 0 c).arrAt_eq_of_cover 14 (channelsOut (aX m c) (aG m c) (aS m c) (aT m c) (aV m c)) ?_ ?_
  · intro t _
    rw [flushed14]
    funext y
    obtain ⟨e0, e1, e2⟩ := index_14 t
    rw [View.read_apply]
    refine (out14_apply m c t y).trans (congrArg (channelsOut (aX m c) (aG m c) (aS m c) (aT m c) (aV m c)) ?_)
    have h0 : (y 0).val = 0 := Nat.lt_one_iff.mp (y 0).isLt
    funext a
    refine Fin.ext ((?_ : _ = _).trans (emb_14 t y a).symm)
    match a with
    | 0 => exact ((congrArg (· * 1 + (y 0).val) e0).trans (by rw [h0]; show (batch t).val * 1 + 0 = (batch t).val; omega)).symm
    | 1 => exact ((congrArg (· * 16 + (y 1).val) e1).trans (by show 0 * 16 + (y 1).val = (y 1).val; omega)).symm
    | 2 => exact ((congrArg (· * 512 + (y 2).val) e2).trans (by show (rowBlk t).val * 512 + (y 2).val = 512 * (rowBlk t).val + (y 2).val; omega)).symm
  · intro i
    have hi0 : (i 0).val < 8 := (i 0).isLt
    have hi2 : (i 2).val < 4096 := (i 2).isLt
    obtain ⟨t, ht0, ht1⟩ := point_of ⟨(i 0).val, hi0⟩ ⟨(i 2).val / 512, by omega⟩
    obtain ⟨e0, e1, e2⟩ := index_14 t
    refine ⟨t, flush0_14 t, ?_⟩
    let y : S1x16x512.Idx := ix3 (0 : Fin 1) (i 1 : Fin 16) (⟨(i 2).val % 512, by omega⟩ : Fin 512)
    have e : (((cfg0.win 14).blk t).view.emb y : S8x16x4096.Idx) = i := by
      funext a
      refine Fin.ext ((emb_14 t y a).trans ?_)
      match a with
      | 0 => exact (congrArg (· * 1 + 0) (e0.trans ht0)).trans (by show (i 0).val * 1 + 0 = (i 0).val; omega)
      | 1 => exact (congrArg (· * 16 + (i 1).val) e1).trans (by show 0 * 16 + (i 1).val = (i 1).val; omega)
      | 2 => exact (congrArg (· * 512 + (i 2).val % 512) (e2.trans ht1)).trans (by show (i 2).val / 512 * 512 + (i 2).val % 512 = (i 2).val; omega)
    exact e ▸ ((cfg0.win 14).blk t).view.emb_mem_set y

/-- The run: the seven results are the layer's, the arguments end unchanged. -/
theorem run_project : θ_run defs (onTc (τ := τ) (main (F := Ideal))) ⟨m, fun _ => 0, ρ⟩ fun r => ∀ c : Dev nD,
      r.2.mem ((c : Thread nD τ).loc main_v1_0) = (rotatedOut (aX m c) (aG m c) (aS m c) (aT m c) (aW m c) (aC m c) (aN m c) 0 512 (by decide) (by decide))
      ∧ r.2.mem ((c : Thread nD τ).loc main_v1_1) = (rotatedOut (aX m c) (aG m c) (aS m c) (aT m c) (aW m c) (aC m c) (aN m c) 512 256 (by decide) (by decide))
      ∧ r.2.mem ((c : Thread nD τ).loc main_v1_2) = (plainOut (aX m c) (aG m c) (aS m c) (aT m c) (aW m c) 768 256 (by decide))
      ∧ r.2.mem ((c : Thread nD τ).loc main_v1_3) = (plainOut (aX m c) (aG m c) (aS m c) (aT m c) (aW m c) 1024 1024 (by decide))
      ∧ r.2.mem ((c : Thread nD τ).loc main_v1_4) = (plainOut (aX m c) (aG m c) (aS m c) (aT m c) (aW m c) 2048 512 (by decide))
      ∧ r.2.mem ((c : Thread nD τ).loc main_v1_5) = (plainOut (aX m c) (aG m c) (aS m c) (aT m c) (aW m c) 2560 16 (by decide))
      ∧ r.2.mem ((c : Thread nD τ).loc main_v1_6) = (channelsOut (aX m c) (aG m c) (aS m c) (aT m c) (aV m c))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    obtain ⟨h0, h1, h2, h3, h4, h5, h6, hk⟩ := h c
    exact ⟨h0.trans (arr_8 m c), h1.trans (arr_9 m c), h2.trans (arr_10 m c), h3.trans (arr_11 m c), h4.trans (arr_12 m c), h5.trans (arr_13 m c), h6.trans (arr_14 m c), hk⟩)
    (run_blocks m ρ)

end Cert.Kernel4Ideal.Project

end
-- ==== Proof.OddRef.lean ====
/-
  The reference of the odd layers' projection, read element by element: the modulated norm, the two products, the six slices, and the
  rotation of each head's two halves.
-/
module

public import proofs.«01_k».proof.Proof.Gen.Reference4Ideal.Read
public import proofs.«01_k».proof.Proof.ProjectOdd
public import Idealize.ShloMosaic.Lib.Pipeline.Value

@[expose] public section

set_option maxRecDepth 2000

noncomputable section

namespace Cert.Reference4Ideal.Project

open Cert.Reference4Ideal Cert.Reference4Ideal.Gen Cert.Reference4Ideal.Read Cert.ProjectOdd
open Cert.Project (normed lin)
open Idealize.ShloMosaic Idealize.ShloMosaic.TcCoe

variable (x0 : Vec Ideal S8x4096x1024 .f32) (x1 : Vec Ideal S1024 .f32) (x2 x3 : Vec Ideal S8x1x1024 .f32) (x4 : Vec Ideal S1024x2576 .bf16)
  (x5 x6 : Vec Ideal S4096x128 .f32) (x7 : Vec Ideal S16x1024 .bf16)

/-- The mean square of a row, with 1e-6, under the root. -/
theorem root_eq (b : Fin 8) (n : Fin 4096) (k : Fin 1024) : val_main_v8 (F := Ideal) x0 (ix3 b n k)
    = Ideal.rsqrt (Ideal.div (∑ l : Fin 1024, x0 (ix3 b n l) * x0 (ix3 b n l)) (Ideal.ofBits .f32 0x44800000#32) + Ideal.ofBits .f32 0x358637BD#32) := by
  have e : ∀ l : Fin 1024, idx_main_v1 (idx_main_v2 (idx_main_v8 (ix3 b n k))) l = ix3 b n l := fun l => by
    funext a
    match a with
    | 0 => rfl
    | 1 => rfl
    | 2 => rfl
  rw [val_main_v8_apply, val_main_v7_apply, val_main_v6_apply, val_main_v5_apply, val_main_v4_apply, val_main_v3_apply, val_main_v2_apply,
    val_main_v1_apply, val_main_cst_apply, val_main_cst_0_apply, val_main_cst_1_apply]
  simp only [val_main_v0_apply, e]
  refine congrArg (fun s => Ideal.rsqrt (Ideal.div s (Ideal.ofBits .f32 0x44800000#32) + Ideal.ofBits .f32 0x358637BD#32)) ?_
  show Ideal.ofBits .f32 0x00000000#32 + _ = _
  rw [Ideal.ofBits_zero_f32, zero_add]
  rfl

/-- The modulated norm. -/
theorem norm_eq (b : Fin 8) (n : Fin 4096) (k : Fin 1024) : val_main_v16 (F := Ideal) x0 x1 x2 x3 (ix3 b n k)
    = normed (fun k => x0 (ix3 b n k)) (fun k => x1 (ix1 k)) (fun k => x2 (ix3 b 0 k)) (fun k => x3 (ix3 b 0 k)) k := by
  have e1 : idx_main_v10 (idx_main_v11 (ix3 b n k)) = ix1 k := by
    funext a
    match a with
    | 0 => rfl
  have e2 : idx_main_v13 (ix3 b n k) = ix3 b (0 : Fin 1) k := by
    funext a
    match a with
    | 0 => rfl
    | 1 => rfl
    | 2 => rfl
  have e3 : idx_main_v15 (ix3 b n k) = ix3 b (0 : Fin 1) k := by
    funext a
    match a with
    | 0 => rfl
    | 1 => rfl
    | 2 => rfl
  rw [val_main_v16_apply, val_main_v15_apply, val_main_v14_apply, val_main_v13_apply, val_main_v12_apply, val_main_v11_apply, val_main_v10_apply,
    val_main_v9_apply, root_eq, e1, e2, e3]
  rfl

/-- One element of the product. -/
theorem product_eq (b : Fin 8) (n : Fin 4096) (j : Fin 2576) : val_main_v18 (F := Ideal) x0 x1 x2 x3 x4 (ix3 b n j)
    = lin (normed (fun k => x0 (ix3 b n k)) (fun k => x1 (ix1 k)) (fun k => x2 (ix3 b 0 k)) (fun k => x3 (ix3 b 0 k))) (fun k j => x4 (ix2 k j)) j := by
  rw [val_main_v18_apply]
  unfold lin
  refine Finset.sum_congr rfl fun k _ => ?_
  have el : lidx_main_v18 (ix3 b n j) k = ix3 b n k := by
    funext a
    match a with
    | 0 => rfl
    | 1 => rfl
    | 2 => rfl
  have er : ridx_main_v18 (ix3 b n j) k = ix2 k j := by
    funext a
    match a with
    | 0 => rfl
    | 1 => rfl
  rw [el, er, norm_eq, val_main_v17_apply]
  rfl

/-- One element of the second product, its channels first. -/
theorem channels_eq (b : Fin 8) (e : Fin 16) (n : Fin 4096) : val_main_v27 (F := Ideal) x0 x1 x2 x3 x7 (ix3 b e n)
    = channelsOut x0 x1 x2 x3 x7 (ix3 b e n) := by
  have et : idx_main_v27 (ix3 b e n) = ix3 b n e := by
    funext a
    match a with
    | 0 => rfl
    | 1 => rfl
    | 2 => rfl
  rw [val_main_v27_apply, et, val_main_v26_apply]
  unfold channelsOut lin normRow
  refine Finset.sum_congr rfl fun k _ => ?_
  have el : lidx_main_v26 (ix3 b n e) k = ix3 b n k := by
    funext a
    match a with
    | 0 => rfl
    | 1 => rfl
    | 2 => rfl
  have er : ridx_main_v26 (ix3 b n e) k = ix2 e k := by
    funext a
    match a with
    | 0 => rfl
    | 1 => rfl
  rw [el, er, norm_eq, val_main_v25_apply]
  rfl

theorem slice_19 (b : Fin 8) (n : Fin 4096) (j : Fin 512) : val_main_v19 (F := Ideal) x0 x1 x2 x3 x4 (ix3 b n j)
    = columns x0 x1 x2 x3 x4 0 512 (by decide) b n j := by
  have e : idx_main_v19 (ix3 b n j) = ix3 b n (⟨0 + j.val, by omega⟩ : Fin 2576) := by
    funext a
    match a with
    | 0 => rfl
    | 1 => rfl
    | 2 => exact Fin.ext (Nat.zero_add j.val).symm
  rw [val_main_v19_apply, e, product_eq]
  rfl

theorem slice_20 (b : Fin 8) (n : Fin 4096) (j : Fin 256) : val_main_v20 (F := Ideal) x0 x1 x2 x3 x4 (ix3 b n j)
    = columns x0 x1 x2 x3 x4 512 256 (by decide) b n j := by
  have e : idx_main_v20 (ix3 b n j) = ix3 b n (⟨512 + j.val, by omega⟩ : Fin 2576) := by
    funext a
    match a with
    | 0 => rfl
    | 1 => rfl
    | 2 => rfl
  rw [val_main_v20_apply, e, product_eq]
  rfl

theorem slice_21 (b : Fin 8) (n : Fin 4096) (j : Fin 256) : val_main_v21 (F := Ideal) x0 x1 x2 x3 x4 (ix3 b n j)
    = columns x0 x1 x2 x3 x4 768 256 (by decide) b n j := by
  have e : idx_main_v21 (ix3 b n j) = ix3 b n (⟨768 + j.val, by omega⟩ : Fin 2576) := by
    funext a
    match a with
    | 0 => rfl
    | 1 => rfl
    | 2 => rfl
  rw [val_main_v21_apply, e, product_eq]
  rfl

theorem slice_22 (b : Fin 8) (n : Fin 4096) (j : Fin 1024) : val_main_v22 (F := Ideal) x0 x1 x2 x3 x4 (ix3 b n j)
    = columns x0 x1 x2 x3 x4 1024 1024 (by decide) b n j := by
  have e : idx_main_v22 (ix3 b n j) = ix3 b n (⟨1024 + j.val, by omega⟩ : Fin 2576) := by
    funext a
    match a with
    | 0 => rfl
    | 1 => rfl
    | 2 => rfl
  rw [val_main_v22_apply, e, product_eq]
  rfl

theorem slice_23 (b : Fin 8) (n : Fin 4096) (j : Fin 512) : val_main_v23 (F := Ideal) x0 x1 x2 x3 x4 (ix3 b n j)
    = columns x0 x1 x2 x3 x4 2048 512 (by decide) b n j := by
  have e : idx_main_v23 (ix3 b n j) = ix3 b n (⟨2048 + j.val, by omega⟩ : Fin 2576) := by
    funext a
    match a with
    | 0 => rfl
    | 1 => rfl
    | 2 => rfl
  rw [val_main_v23_apply, e, product_eq]
  rfl

theorem slice_24 (b : Fin 8) (n : Fin 4096) (j : Fin 16) : val_main_v24 (F := Ideal) x0 x1 x2 x3 x4 (ix3 b n j)
    = columns x0 x1 x2 x3 x4 2560 16 (by decide) b n j := by
  have e : idx_main_v24 (ix3 b n j) = ix3 b n (⟨2560 + j.val, by omega⟩ : Fin 2576) := by
    funext a
    match a with
    | 0 => rfl
    | 1 => rfl
    | 2 => rfl
  rw [val_main_v24_apply, e, product_eq]
  rfl

/-! The rotation of the first result, 8 heads: the layout operations, each at an index. -/

theorem k8_i39 (b : Fin 8) (n : Fin 4096) (h : Fin 8) (l : Fin 32) : idx_main_v42 (ix4 b n h l) = ix4 (0 : Fin 1) n h l := by
  funext a
  match a with
  | 0 => rfl
  | 1 => rfl
  | 2 => rfl
  | 3 => rfl

theorem k8_i38 (n : Fin 4096) (h : Fin 8) (l : Fin 32) : idx_main_v41 (ix4 (0 : Fin 1) n h l) = ix3 n h l := by
  funext a
  match a with
  | 0 => rfl
  | 1 => rfl
  | 2 => rfl

theorem k8_i37 (n : Fin 4096) (h : Fin 8) (l : Fin 32) : idx_main_v40 (ix3 n h l) = ix4 n (⟨h.val / 2, by omega⟩ : Fin 4) (⟨h.val % 2, by omega⟩ : Fin 2) l := by
  funext a
  match a with
  | 0 => exact Fin.ext (by show ((n.val * 8 + h.val) * 32 + l.val) / 256 = n.val; omega)
  | 1 => exact Fin.ext (by show ((n.val * 8 + h.val) * 32 + l.val) / 64 % 4 = h.val / 2; omega)
  | 2 => exact Fin.ext (by show ((n.val * 8 + h.val) * 32 + l.val) / 32 % 2 = h.val % 2; omega)
  | 3 => exact Fin.ext (by show ((n.val * 8 + h.val) * 32 + l.val) % 32 = l.val; omega)

theorem k8_i36 (n : Fin 4096) (g : Fin 4) (q : Fin 2) (l : Fin 32) : idx_main_v39 (ix4 n g q l) = ix4 n (0 : Fin 1) q l := by
  funext a
  match a with
  | 0 => rfl
  | 1 => rfl
  | 2 => rfl
  | 3 => rfl

theorem i35 (n : Fin 4096) (q : Fin 2) (l : Fin 32) : idx_main_v38 (ix4 n (0 : Fin 1) q l) = ix3 n q l := by
  funext a
  match a with
  | 0 => rfl
  | 1 => rfl
  | 2 => rfl

theorem i34 (n : Fin 4096) (q : Fin 2) (l : Fin 32) : idx_main_v37 (ix3 n q l) = ix4 n q (0 : Fin 1) l := by
  funext a
  match a with
  | 0 => exact Fin.ext (by show ((n.val * 2 + q.val) * 32 + l.val) / 64 = n.val; omega)
  | 1 => exact Fin.ext (by show ((n.val * 2 + q.val) * 32 + l.val) / 32 % 2 = q.val; omega)
  | 2 => rfl
  | 3 => exact Fin.ext (by show ((n.val * 2 + q.val) * 32 + l.val) % 32 = l.val; omega)

theorem i33 (n : Fin 4096) (q : Fin 2) (l : Fin 32) : idx_main_v36 (ix4 n q (0 : Fin 1) l) = ix4 n q (0 : Fin 2) l := by
  funext a
  match a with
  | 0 => rfl
  | 1 => rfl
  | 2 => rfl
  | 3 => rfl

theorem i50 (n : Fin 4096) (q : Fin 2) (l : Fin 32) : idx_main_v53 (ix4 n q (0 : Fin 1) l) = ix4 n q (1 : Fin 2) l := by
  funext a
  match a with
  | 0 => rfl
  | 1 => rfl
  | 2 => rfl
  | 3 => rfl

theorem i31 (n : Fin 4096) (q p : Fin 2) (l : Fin 32) : idx_main_v34 (ix4 n q p l) = ix2 n (⟨q.val * 64 + p.val * 32 + l.val, by omega⟩ : Fin 128) := by
  funext a
  match a with
  | 0 => exact Fin.ext (by show (((n.val * 2 + q.val) * 2 + p.val) * 32 + l.val) / 128 = n.val; omega)
  | 1 => exact Fin.ext (by show (((n.val * 2 + q.val) * 2 + p.val) * 32 + l.val) % 128 = q.val * 64 + p.val * 32 + l.val; omega)

theorem k8_i27 (b : Fin 8) (n : Fin 4096) (h : Fin 8) (l : Fin 32) : idx_main_v30 (ix4 b n h l) = ix5 b n h (0 : Fin 1) l := by
  funext a
  match a with
  | 0 => exact Fin.ext (by show (((b.val * 4096 + n.val) * 8 + h.val) * 32 + l.val) / 1048576 = b.val; omega)
  | 1 => exact Fin.ext (by show (((b.val * 4096 + n.val) * 8 + h.val) * 32 + l.val) / 256 % 4096 = n.val; omega)
  | 2 => exact Fin.ext (by show (((b.val * 4096 + n.val) * 8 + h.val) * 32 + l.val) / 32 % 8 = h.val; omega)
  | 3 => rfl
  | 4 => exact Fin.ext (by show (((b.val * 4096 + n.val) * 8 + h.val) * 32 + l.val) % 32 = l.val; omega)

theorem k8_i26 (b : Fin 8) (n : Fin 4096) (h : Fin 8) (l : Fin 32) : idx_main_v29 (ix5 b n h (0 : Fin 1) l) = ix5 b n h (0 : Fin 2) l := by
  funext a
  match a with
  | 0 => rfl
  | 1 => rfl
  | 2 => rfl
  | 3 => rfl
  | 4 => rfl

theorem k8_i29 (b : Fin 8) (n : Fin 4096) (h : Fin 8) (l : Fin 32) : idx_main_v32 (ix5 b n h (0 : Fin 1) l) = ix5 b n h (1 : Fin 2) l := by
  funext a
  match a with
  | 0 => rfl
  | 1 => rfl
  | 2 => rfl
  | 3 => rfl
  | 4 => rfl

theorem k8_i25 (b : Fin 8) (n : Fin 4096) (h : Fin 8) (p : Fin 2) (l : Fin 32) : idx_main_v28 (ix5 b n h p l) = ix3 b n (⟨h.val * 64 + p.val * 32 + l.val, by omega⟩ : Fin 512) := by
  funext a
  match a with
  | 0 => exact Fin.ext (by show ((((b.val * 4096 + n.val) * 8 + h.val) * 2 + p.val) * 32 + l.val) / 2097152 = b.val; omega)
  | 1 => exact Fin.ext (by show ((((b.val * 4096 + n.val) * 8 + h.val) * 2 + p.val) * 32 + l.val) / 512 % 4096 = n.val; omega)
  | 2 => exact Fin.ext (by show ((((b.val * 4096 + n.val) * 8 + h.val) * 2 + p.val) * 32 + l.val) % 512 = h.val * 64 + p.val * 32 + l.val; omega)

theorem k8_i67 (b : Fin 8) (n : Fin 4096) (h : Fin 8) (l : Fin 32) : idx_main_v70 (ix5 b n h (0 : Fin 1) l) = ix4 b n h l := by
  funext a
  match a with
  | 0 => rfl
  | 1 => rfl
  | 2 => rfl
  | 3 => rfl

theorem k8_i70 (b : Fin 8) (n : Fin 4096) (j : Fin 512) : idx_main_v73 (ix3 b n j) = ix5 b n (⟨j.val / 64, by omega⟩ : Fin 8) (⟨j.val / 32 % 2, by omega⟩ : Fin 2) (⟨j.val % 32, by omega⟩ : Fin 32) := by
  funext a
  match a with
  | 0 => exact Fin.ext (by show ((b.val * 4096 + n.val) * 512 + j.val) / 2097152 = b.val; omega)
  | 1 => exact Fin.ext (by show ((b.val * 4096 + n.val) * 512 + j.val) / 512 % 4096 = n.val; omega)
  | 2 => exact Fin.ext (by show ((b.val * 4096 + n.val) * 512 + j.val) / 64 % 8 = j.val / 64; omega)
  | 3 => exact Fin.ext (by show ((b.val * 4096 + n.val) * 512 + j.val) / 32 % 2 = j.val / 32 % 2; omega)
  | 4 => exact Fin.ext (by show ((b.val * 4096 + n.val) * 512 + j.val) % 32 = j.val % 32; omega)

/-- Two halves joined. -/
theorem k8_join_left (u v : FVec Ideal S8x4096x8x1x32 .f32) (b : Fin 8) (n : Fin 4096) (h : Fin 8) (l : Fin 32) :
    concatenate S8x4096x8x2x32 3 [⟨S8x4096x8x1x32, u⟩, ⟨S8x4096x8x1x32, v⟩] concatenates_S8x4096x8x1x32_S8x4096x8x1x32_S8x4096x8x2x32_d3 (ix5 b n h (0 : Fin 2) l)
      = u (ix5 b n h (0 : Fin 1) l) := by
  refine concatenate_pair_apply_left (s₁ := S8x4096x8x1x32) (s₂ := S8x4096x8x1x32) (3 : Fin 5) u v _ (ix5 b n h (0 : Fin 2) l) rfl (ix5 b n h (0 : Fin 1) l) ?_
  intro a
  match a with
  | 0 => rfl
  | 1 => rfl
  | 2 => rfl
  | 3 => rfl
  | 4 => rfl

theorem k8_join_right (u v : FVec Ideal S8x4096x8x1x32 .f32) (b : Fin 8) (n : Fin 4096) (h : Fin 8) (l : Fin 32) :
    concatenate S8x4096x8x2x32 3 [⟨S8x4096x8x1x32, u⟩, ⟨S8x4096x8x1x32, v⟩] concatenates_S8x4096x8x1x32_S8x4096x8x1x32_S8x4096x8x2x32_d3 (ix5 b n h (1 : Fin 2) l)
      = v (ix5 b n h (0 : Fin 1) l) := by
  refine concatenate_pair_apply_right (s₁ := S8x4096x8x1x32) (s₂ := S8x4096x8x1x32) (3 : Fin 5) u v _ (ix5 b n h (1 : Fin 2) l) rfl rfl (ix5 b n h (0 : Fin 1) l) ?_ ?_
  · intro a ha
    match a with
    | 0 => rfl
    | 1 => rfl
    | 2 => rfl
    | 3 => exact absurd rfl ha
    | 4 => rfl
  · rfl

theorem table_42 (b : Fin 8) (n : Fin 4096) (h : Fin 8) (l : Fin 32) : val_main_v42 (F := Ideal) x5 (ix4 b n h l)
    = x5 (ix2 n (⟨h.val % 2 * 64 + 0 * 32 + l.val, by omega⟩ : Fin 128)) := by
  refine (val_main_v42_apply (F := Ideal) x5 _).trans ((congrArg (val_main_v41 (F := Ideal) x5) (k8_i39 b n h l)).trans ?_)
  refine (val_main_v41_apply (F := Ideal) x5 _).trans ((congrArg (val_main_v40 (F := Ideal) x5) (k8_i38 n h l)).trans ?_)
  refine (val_main_v40_apply (F := Ideal) x5 _).trans ((congrArg (val_main_v39 (F := Ideal) x5) (k8_i37 n h l)).trans ?_)
  refine (val_main_v39_apply (F := Ideal) x5 _).trans ((congrArg (val_main_v38 (F := Ideal) x5) (k8_i36 n (⟨h.val / 2, by omega⟩ : Fin 4) (⟨h.val % 2, by omega⟩ : Fin 2) l)).trans ?_)
  refine (val_main_v38_apply (F := Ideal) x5 _).trans ((congrArg (val_main_v37 (F := Ideal) x5) (i35 n (⟨h.val % 2, by omega⟩ : Fin 2) l)).trans ?_)
  refine (val_main_v37_apply (F := Ideal) x5 _).trans ((congrArg (val_main_v36 (F := Ideal) x5) (i34 n (⟨h.val % 2, by omega⟩ : Fin 2) l)).trans ?_)
  refine (val_main_v36_apply (F := Ideal) x5 _).trans ((congrArg (val_main_v34 (F := Ideal) x5) (i33 n (⟨h.val % 2, by omega⟩ : Fin 2) l)).trans ?_)
  exact (val_main_v34_apply (F := Ideal) x5 _).trans (congrArg x5 (i31 n (⟨h.val % 2, by omega⟩ : Fin 2) 0 l))

theorem table_50 (b : Fin 8) (n : Fin 4096) (h : Fin 8) (l : Fin 32) : val_main_v50 (F := Ideal) x6 (ix4 b n h l)
    = x6 (ix2 n (⟨h.val % 2 * 64 + 0 * 32 + l.val, by omega⟩ : Fin 128)) := by
  refine (val_main_v50_apply (F := Ideal) x6 _).trans ((congrArg (val_main_v49 (F := Ideal) x6) (k8_i39 b n h l)).trans ?_)
  refine (val_main_v49_apply (F := Ideal) x6 _).trans ((congrArg (val_main_v48 (F := Ideal) x6) (k8_i38 n h l)).trans ?_)
  refine (val_main_v48_apply (F := Ideal) x6 _).trans ((congrArg (val_main_v47 (F := Ideal) x6) (k8_i37 n h l)).trans ?_)
  refine (val_main_v47_apply (F := Ideal) x6 _).trans ((congrArg (val_main_v46 (F := Ideal) x6) (k8_i36 n (⟨h.val / 2, by omega⟩ : Fin 4) (⟨h.val % 2, by omega⟩ : Fin 2) l)).trans ?_)
  refine (val_main_v46_apply (F := Ideal) x6 _).trans ((congrArg (val_main_v45 (F := Ideal) x6) (i35 n (⟨h.val % 2, by omega⟩ : Fin 2) l)).trans ?_)
  refine (val_main_v45_apply (F := Ideal) x6 _).trans ((congrArg (val_main_v44 (F := Ideal) x6) (i34 n (⟨h.val % 2, by omega⟩ : Fin 2) l)).trans ?_)
  refine (val_main_v44_apply (F := Ideal) x6 _).trans ((congrArg (val_main_v35 (F := Ideal) x6) (i33 n (⟨h.val % 2, by omega⟩ : Fin 2) l)).trans ?_)
  exact (val_main_v35_apply (F := Ideal) x6 _).trans (congrArg x6 (i31 n (⟨h.val % 2, by omega⟩ : Fin 2) 0 l))

theorem table_59 (b : Fin 8) (n : Fin 4096) (h : Fin 8) (l : Fin 32) : val_main_v59 (F := Ideal) x5 (ix4 b n h l)
    = x5 (ix2 n (⟨h.val % 2 * 64 + 1 * 32 + l.val, by omega⟩ : Fin 128)) := by
  refine (val_main_v59_apply (F := Ideal) x5 _).trans ((congrArg (val_main_v58 (F := Ideal) x5) (k8_i39 b n h l)).trans ?_)
  refine (val_main_v58_apply (F := Ideal) x5 _).trans ((congrArg (val_main_v57 (F := Ideal) x5) (k8_i38 n h l)).trans ?_)
  refine (val_main_v57_apply (F := Ideal) x5 _).trans ((congrArg (val_main_v56 (F := Ideal) x5) (k8_i37 n h l)).trans ?_)
  refine (val_main_v56_apply (F := Ideal) x5 _).trans ((congrArg (val_main_v55 (F := Ideal) x5) (k8_i36 n (⟨h.val / 2, by omega⟩ : Fin 4) (⟨h.val % 2, by omega⟩ : Fin 2) l)).trans ?_)
  refine (val_main_v55_apply (F := Ideal) x5 _).trans ((congrArg (val_main_v54 (F := Ideal) x5) (i35 n (⟨h.val % 2, by omega⟩ : Fin 2) l)).trans ?_)
  refine (val_main_v54_apply (F := Ideal) x5 _).trans ((congrArg (val_main_v53 (F := Ideal) x5) (i34 n (⟨h.val % 2, by omega⟩ : Fin 2) l)).trans ?_)
  refine (val_main_v53_apply (F := Ideal) x5 _).trans ((congrArg (val_main_v34 (F := Ideal) x5) (i50 n (⟨h.val % 2, by omega⟩ : Fin 2) l)).trans ?_)
  exact (val_main_v34_apply (F := Ideal) x5 _).trans (congrArg x5 (i31 n (⟨h.val % 2, by omega⟩ : Fin 2) 1 l))

theorem table_67 (b : Fin 8) (n : Fin 4096) (h : Fin 8) (l : Fin 32) : val_main_v67 (F := Ideal) x6 (ix4 b n h l)
    = x6 (ix2 n (⟨h.val % 2 * 64 + 1 * 32 + l.val, by omega⟩ : Fin 128)) := by
  refine (val_main_v67_apply (F := Ideal) x6 _).trans ((congrArg (val_main_v66 (F := Ideal) x6) (k8_i39 b n h l)).trans ?_)
  refine (val_main_v66_apply (F := Ideal) x6 _).trans ((congrArg (val_main_v65 (F := Ideal) x6) (k8_i38 n h l)).trans ?_)
  refine (val_main_v65_apply (F := Ideal) x6 _).trans ((congrArg (val_main_v64 (F := Ideal) x6) (k8_i37 n h l)).trans ?_)
  refine (val_main_v64_apply (F := Ideal) x6 _).trans ((congrArg (val_main_v63 (F := Ideal) x6) (k8_i36 n (⟨h.val / 2, by omega⟩ : Fin 4) (⟨h.val % 2, by omega⟩ : Fin 2) l)).trans ?_)
  refine (val_main_v63_apply (F := Ideal) x6 _).trans ((congrArg (val_main_v62 (F := Ideal) x6) (i35 n (⟨h.val % 2, by omega⟩ : Fin 2) l)).trans ?_)
  refine (val_main_v62_apply (F := Ideal) x6 _).trans ((congrArg (val_main_v61 (F := Ideal) x6) (i34 n (⟨h.val % 2, by omega⟩ : Fin 2) l)).trans ?_)
  refine (val_main_v61_apply (F := Ideal) x6 _).trans ((congrArg (val_main_v35 (F := Ideal) x6) (i50 n (⟨h.val % 2, by omega⟩ : Fin 2) l)).trans ?_)
  exact (val_main_v35_apply (F := Ideal) x6 _).trans (congrArg x6 (i31 n (⟨h.val % 2, by omega⟩ : Fin 2) 1 l))

theorem half_30 (b : Fin 8) (n : Fin 4096) (h : Fin 8) (l : Fin 32) : val_main_v30 (F := Ideal) x0 x1 x2 x3 x4 (ix4 b n h l)
    = val_main_v19 (F := Ideal) x0 x1 x2 x3 x4 (ix3 b n (⟨h.val * 64 + 0 * 32 + l.val, by omega⟩ : Fin 512)) := by
  refine (val_main_v30_apply (F := Ideal) x0 x1 x2 x3 x4 _).trans ((congrArg (val_main_v29 (F := Ideal) x0 x1 x2 x3 x4) (k8_i27 b n h l)).trans ?_)
  refine (val_main_v29_apply (F := Ideal) x0 x1 x2 x3 x4 _).trans ((congrArg (val_main_v28 (F := Ideal) x0 x1 x2 x3 x4) (k8_i26 b n h l)).trans ?_)
  exact (val_main_v28_apply (F := Ideal) x0 x1 x2 x3 x4 _).trans (congrArg (val_main_v19 (F := Ideal) x0 x1 x2 x3 x4) (k8_i25 b n h 0 l))

theorem half_33 (b : Fin 8) (n : Fin 4096) (h : Fin 8) (l : Fin 32) : val_main_v33 (F := Ideal) x0 x1 x2 x3 x4 (ix4 b n h l)
    = val_main_v19 (F := Ideal) x0 x1 x2 x3 x4 (ix3 b n (⟨h.val * 64 + 1 * 32 + l.val, by omega⟩ : Fin 512)) := by
  refine (val_main_v33_apply (F := Ideal) x0 x1 x2 x3 x4 _).trans ((congrArg (val_main_v32 (F := Ideal) x0 x1 x2 x3 x4) (k8_i27 b n h l)).trans ?_)
  refine (val_main_v32_apply (F := Ideal) x0 x1 x2 x3 x4 _).trans ((congrArg (val_main_v31 (F := Ideal) x0 x1 x2 x3 x4) (k8_i29 b n h l)).trans ?_)
  exact (val_main_v31_apply (F := Ideal) x0 x1 x2 x3 x4 _).trans (congrArg (val_main_v19 (F := Ideal) x0 x1 x2 x3 x4) (k8_i25 b n h 1 l))

theorem turn_52 (b : Fin 8) (n : Fin 4096) (h : Fin 8) (l : Fin 32) : val_main_v70 (F := Ideal) x0 x1 x2 x3 x4 x5 x6 (ix5 b n h (0 : Fin 1) l)
    = val_main_v19 (F := Ideal) x0 x1 x2 x3 x4 (ix3 b n (⟨h.val * 64 + 0 * 32 + l.val, by omega⟩ : Fin 512)) * x5 (ix2 n (⟨h.val % 2 * 64 + 0 * 32 + l.val, by omega⟩ : Fin 128))
      + val_main_v19 (F := Ideal) x0 x1 x2 x3 x4 (ix3 b n (⟨h.val * 64 + 1 * 32 + l.val, by omega⟩ : Fin 512)) * x6 (ix2 n (⟨h.val % 2 * 64 + 0 * 32 + l.val, by omega⟩ : Fin 128)) := by
  refine (val_main_v70_apply (F := Ideal) x0 x1 x2 x3 x4 x5 x6 _).trans ((congrArg (val_main_v52 (F := Ideal) x0 x1 x2 x3 x4 x5 x6) (k8_i67 b n h l)).trans ?_)
  rw [val_main_v52_apply, val_main_v43_apply, val_main_v51_apply, half_30, half_33, table_42, table_50]
  rfl

theorem turn_69 (b : Fin 8) (n : Fin 4096) (h : Fin 8) (l : Fin 32) : val_main_v71 (F := Ideal) x0 x1 x2 x3 x4 x5 x6 (ix5 b n h (0 : Fin 1) l)
    = val_main_v19 (F := Ideal) x0 x1 x2 x3 x4 (ix3 b n (⟨h.val * 64 + 1 * 32 + l.val, by omega⟩ : Fin 512)) * x5 (ix2 n (⟨h.val % 2 * 64 + 1 * 32 + l.val, by omega⟩ : Fin 128))
      + val_main_v19 (F := Ideal) x0 x1 x2 x3 x4 (ix3 b n (⟨h.val * 64 + 0 * 32 + l.val, by omega⟩ : Fin 512)) * x6 (ix2 n (⟨h.val % 2 * 64 + 1 * 32 + l.val, by omega⟩ : Fin 128)) := by
  refine (val_main_v71_apply (F := Ideal) x0 x1 x2 x3 x4 x5 x6 _).trans ((congrArg (val_main_v69 (F := Ideal) x0 x1 x2 x3 x4 x5 x6) (k8_i67 b n h l)).trans ?_)
  rw [val_main_v69_apply, val_main_v60_apply, val_main_v68_apply, half_33, half_30, table_59, table_67]
  rfl

theorem rotated_73 (b : Fin 8) (n : Fin 4096) (j : Fin 512) : val_main_v73 (F := Ideal) x0 x1 x2 x3 x4 x5 x6 (ix3 b n j)
    = rotated (W := 512) (by decide) (fun j => val_main_v19 (F := Ideal) x0 x1 x2 x3 x4 (ix3 b n j)) (fun l => x5 (ix2 n l)) (fun l => x6 (ix2 n l)) j := by
  refine (val_main_v73_apply (F := Ideal) x0 x1 x2 x3 x4 x5 x6 _).trans ((congrArg (val_main_v72 (F := Ideal) x0 x1 x2 x3 x4 x5 x6) (k8_i70 b n j)).trans ?_)
  unfold val_main_v72 rotated partner
  have hj := j.isLt
  by_cases h : j.val % 64 < 32
  · rw [show (⟨j.val / 32 % 2, by omega⟩ : Fin 2) = 0 from Fin.ext (by show j.val / 32 % 2 = 0; omega), k8_join_left, turn_52, dif_pos h]
    refine congr (congrArg _ (congr (congrArg _ ?_) ?_)) (congr (congrArg _ ?_) ?_)
    · exact congrArg (fun i => val_main_v19 (F := Ideal) x0 x1 x2 x3 x4 (ix3 b n i)) (Fin.ext (by show j.val / 64 * 64 + 0 * 32 + j.val % 32 = j.val; omega))
    · exact congrArg (fun i => x5 (ix2 n i)) (Fin.ext (by show j.val / 64 % 2 * 64 + 0 * 32 + j.val % 32 = j.val % 128; omega))
    · exact congrArg (fun i => val_main_v19 (F := Ideal) x0 x1 x2 x3 x4 (ix3 b n i)) (Fin.ext (by show j.val / 64 * 64 + 1 * 32 + j.val % 32 = j.val + 32; omega))
    · exact congrArg (fun i => x6 (ix2 n i)) (Fin.ext (by show j.val / 64 % 2 * 64 + 0 * 32 + j.val % 32 = j.val % 128; omega))
  · rw [show (⟨j.val / 32 % 2, by omega⟩ : Fin 2) = 1 from Fin.ext (by show j.val / 32 % 2 = 1; omega), k8_join_right, turn_69, dif_neg h]
    refine congr (congrArg _ (congr (congrArg _ ?_) ?_)) (congr (congrArg _ ?_) ?_)
    · exact congrArg (fun i => val_main_v19 (F := Ideal) x0 x1 x2 x3 x4 (ix3 b n i)) (Fin.ext (by show j.val / 64 * 64 + 1 * 32 + j.val % 32 = j.val; omega))
    · exact congrArg (fun i => x5 (ix2 n i)) (Fin.ext (by show j.val / 64 % 2 * 64 + 1 * 32 + j.val % 32 = j.val % 128; omega))
    · exact congrArg (fun i => val_main_v19 (F := Ideal) x0 x1 x2 x3 x4 (ix3 b n i)) (Fin.ext (by show j.val / 64 * 64 + 0 * 32 + j.val % 32 = j.val - 32; omega))
    · exact congrArg (fun i => x6 (ix2 n i)) (Fin.ext (by show j.val / 64 % 2 * 64 + 1 * 32 + j.val % 32 = j.val % 128; omega))

/-! The rotation of the second result, 4 heads: the layout operations, each at an index. -/

theorem k4_i39 (b : Fin 8) (n : Fin 4096) (h : Fin 4) (l : Fin 32) : idx_main_v89 (ix4 b n h l) = ix4 (0 : Fin 1) n h l := by
  funext a
  match a with
  | 0 => rfl
  | 1 => rfl
  | 2 => rfl
  | 3 => rfl

theorem k4_i38 (n : Fin 4096) (h : Fin 4) (l : Fin 32) : idx_main_v88 (ix4 (0 : Fin 1) n h l) = ix3 n h l := by
  funext a
  match a with
  | 0 => rfl
  | 1 => rfl
  | 2 => rfl

theorem k4_i37 (n : Fin 4096) (h : Fin 4) (l : Fin 32) : idx_main_v87 (ix3 n h l) = ix4 n (⟨h.val / 2, by omega⟩ : Fin 2) (⟨h.val % 2, by omega⟩ : Fin 2) l := by
  funext a
  match a with
  | 0 => exact Fin.ext (by show ((n.val * 4 + h.val) * 32 + l.val) / 128 = n.val; omega)
  | 1 => exact Fin.ext (by show ((n.val * 4 + h.val) * 32 + l.val) / 64 % 2 = h.val / 2; omega)
  | 2 => exact Fin.ext (by show ((n.val * 4 + h.val) * 32 + l.val) / 32 % 2 = h.val % 2; omega)
  | 3 => exact Fin.ext (by show ((n.val * 4 + h.val) * 32 + l.val) % 32 = l.val; omega)

theorem k4_i36 (n : Fin 4096) (g : Fin 2) (q : Fin 2) (l : Fin 32) : idx_main_v86 (ix4 n g q l) = ix4 n (0 : Fin 1) q l := by
  funext a
  match a with
  | 0 => rfl
  | 1 => rfl
  | 2 => rfl
  | 3 => rfl

theorem k4_i27 (b : Fin 8) (n : Fin 4096) (h : Fin 4) (l : Fin 32) : idx_main_v77 (ix4 b n h l) = ix5 b n h (0 : Fin 1) l := by
  funext a
  match a with
  | 0 => exact Fin.ext (by show (((b.val * 4096 + n.val) * 4 + h.val) * 32 + l.val) / 524288 = b.val; omega)
  | 1 => exact Fin.ext (by show (((b.val * 4096 + n.val) * 4 + h.val) * 32 + l.val) / 128 % 4096 = n.val; omega)
  | 2 => exact Fin.ext (by show (((b.val * 4096 + n.val) * 4 + h.val) * 32 + l.val) / 32 % 4 = h.val; omega)
  | 3 => rfl
  | 4 => exact Fin.ext (by show (((b.val * 4096 + n.val) * 4 + h.val) * 32 + l.val) % 32 = l.val; omega)

theorem k4_i26 (b : Fin 8) (n : Fin 4096) (h : Fin 4) (l : Fin 32) : idx_main_v76 (ix5 b n h (0 : Fin 1) l) = ix5 b n h (0 : Fin 2) l := by
  funext a
  match a with
  | 0 => rfl
  | 1 => rfl
  | 2 => rfl
  | 3 => rfl
  | 4 => rfl

theorem k4_i29 (b : Fin 8) (n : Fin 4096) (h : Fin 4) (l : Fin 32) : idx_main_v79 (ix5 b n h (0 : Fin 1) l) = ix5 b n h (1 : Fin 2) l := by
  funext a
  match a with
  | 0 => rfl
  | 1 => rfl
  | 2 => rfl
  | 3 => rfl
  | 4 => rfl

theorem k4_i25 (b : Fin 8) (n : Fin 4096) (h : Fin 4) (p : Fin 2) (l : Fin 32) : idx_main_v75 (ix5 b n h p l) = ix3 b n (⟨h.val * 64 + p.val * 32 + l.val, by omega⟩ : Fin 256) := by
  funext a
  match a with
  | 0 => exact Fin.ext (by show ((((b.val * 4096 + n.val) * 4 + h.val) * 2 + p.val) * 32 + l.val) / 1048576 = b.val; omega)
  | 1 => exact Fin.ext (by show ((((b.val * 4096 + n.val) * 4 + h.val) * 2 + p.val) * 32 + l.val) / 256 % 4096 = n.val; omega)
  | 2 => exact Fin.ext (by show ((((b.val * 4096 + n.val) * 4 + h.val) * 2 + p.val) * 32 + l.val) % 256 = h.val * 64 + p.val * 32 + l.val; omega)

theorem k4_i67 (b : Fin 8) (n : Fin 4096) (h : Fin 4) (l : Fin 32) : idx_main_v117 (ix5 b n h (0 : Fin 1) l) = ix4 b n h l := by
  funext a
  match a with
  | 0 => rfl
  | 1 => rfl
  | 2 => rfl
  | 3 => rfl

theorem k4_i70 (b : Fin 8) (n : Fin 4096) (j : Fin 256) : idx_main_v120 (ix3 b n j) = ix5 b n (⟨j.val / 64, by omega⟩ : Fin 4) (⟨j.val / 32 % 2, by omega⟩ : Fin 2) (⟨j.val % 32, by omega⟩ : Fin 32) := by
  funext a
  match a with
  | 0 => exact Fin.ext (by show ((b.val * 4096 + n.val) * 256 + j.val) / 1048576 = b.val; omega)
  | 1 => exact Fin.ext (by show ((b.val * 4096 + n.val) * 256 + j.val) / 256 % 4096 = n.val; omega)
  | 2 => exact Fin.ext (by show ((b.val * 4096 + n.val) * 256 + j.val) / 64 % 4 = j.val / 64; omega)
  | 3 => exact Fin.ext (by show ((b.val * 4096 + n.val) * 256 + j.val) / 32 % 2 = j.val / 32 % 2; omega)
  | 4 => exact Fin.ext (by show ((b.val * 4096 + n.val) * 256 + j.val) % 32 = j.val % 32; omega)

/-- Two halves joined. -/
theorem k4_join_left (u v : FVec Ideal S8x4096x4x1x32 .f32) (b : Fin 8) (n : Fin 4096) (h : Fin 4) (l : Fin 32) :
    concatenate S8x4096x4x2x32 3 [⟨S8x4096x4x1x32, u⟩, ⟨S8x4096x4x1x32, v⟩] concatenates_S8x4096x4x1x32_S8x4096x4x1x32_S8x4096x4x2x32_d3 (ix5 b n h (0 : Fin 2) l)
      = u (ix5 b n h (0 : Fin 1) l) := by
  refine concatenate_pair_apply_left (s₁ := S8x4096x4x1x32) (s₂ := S8x4096x4x1x32) (3 : Fin 5) u v _ (ix5 b n h (0 : Fin 2) l) rfl (ix5 b n h (0 : Fin 1) l) ?_
  intro a
  match a with
  | 0 => rfl
  | 1 => rfl
  | 2 => rfl
  | 3 => rfl
  | 4 => rfl

theorem k4_join_right (u v : FVec Ideal S8x4096x4x1x32 .f32) (b : Fin 8) (n : Fin 4096) (h : Fin 4) (l : Fin 32) :
    concatenate S8x4096x4x2x32 3 [⟨S8x4096x4x1x32, u⟩, ⟨S8x4096x4x1x32, v⟩] concatenates_S8x4096x4x1x32_S8x4096x4x1x32_S8x4096x4x2x32_d3 (ix5 b n h (1 : Fin 2) l)
      = v (ix5 b n h (0 : Fin 1) l) := by
  refine concatenate_pair_apply_right (s₁ := S8x4096x4x1x32) (s₂ := S8x4096x4x1x32) (3 : Fin 5) u v _ (ix5 b n h (1 : Fin 2) l) rfl rfl (ix5 b n h (0 : Fin 1) l) ?_ ?_
  · intro a ha
    match a with
    | 0 => rfl
    | 1 => rfl
    | 2 => rfl
    | 3 => exact absurd rfl ha
    | 4 => rfl
  · rfl

theorem table_89 (b : Fin 8) (n : Fin 4096) (h : Fin 4) (l : Fin 32) : val_main_v89 (F := Ideal) x5 (ix4 b n h l)
    = x5 (ix2 n (⟨h.val % 2 * 64 + 0 * 32 + l.val, by omega⟩ : Fin 128)) := by
  refine (val_main_v89_apply (F := Ideal) x5 _).trans ((congrArg (val_main_v88 (F := Ideal) x5) (k4_i39 b n h l)).trans ?_)
  refine (val_main_v88_apply (F := Ideal) x5 _).trans ((congrArg (val_main_v87 (F := Ideal) x5) (k4_i38 n h l)).trans ?_)
  refine (val_main_v87_apply (F := Ideal) x5 _).trans ((congrArg (val_main_v86 (F := Ideal) x5) (k4_i37 n h l)).trans ?_)
  refine (val_main_v86_apply (F := Ideal) x5 _).trans ((congrArg (val_main_v85 (F := Ideal) x5) (k4_i36 n (⟨h.val / 2, by omega⟩ : Fin 2) (⟨h.val % 2, by omega⟩ : Fin 2) l)).trans ?_)
  refine (val_main_v85_apply (F := Ideal) x5 _).trans ((congrArg (val_main_v84 (F := Ideal) x5) (i35 n (⟨h.val % 2, by omega⟩ : Fin 2) l)).trans ?_)
  refine (val_main_v84_apply (F := Ideal) x5 _).trans ((congrArg (val_main_v83 (F := Ideal) x5) (i34 n (⟨h.val % 2, by omega⟩ : Fin 2) l)).trans ?_)
  refine (val_main_v83_apply (F := Ideal) x5 _).trans ((congrArg (val_main_v81 (F := Ideal) x5) (i33 n (⟨h.val % 2, by omega⟩ : Fin 2) l)).trans ?_)
  exact (val_main_v81_apply (F := Ideal) x5 _).trans (congrArg x5 (i31 n (⟨h.val % 2, by omega⟩ : Fin 2) 0 l))

theorem table_97 (b : Fin 8) (n : Fin 4096) (h : Fin 4) (l : Fin 32) : val_main_v97 (F := Ideal) x6 (ix4 b n h l)
    = x6 (ix2 n (⟨h.val % 2 * 64 + 0 * 32 + l.val, by omega⟩ : Fin 128)) := by
  refine (val_main_v97_apply (F := Ideal) x6 _).trans ((congrArg (val_main_v96 (F := Ideal) x6) (k4_i39 b n h l)).trans ?_)
  refine (val_main_v96_apply (F := Ideal) x6 _).trans ((congrArg (val_main_v95 (F := Ideal) x6) (k4_i38 n h l)).trans ?_)
  refine (val_main_v95_apply (F := Ideal) x6 _).trans ((congrArg (val_main_v94 (F := Ideal) x6) (k4_i37 n h l)).trans ?_)
  refine (val_main_v94_apply (F := Ideal) x6 _).trans ((congrArg (val_main_v93 (F := Ideal) x6) (k4_i36 n (⟨h.val / 2, by omega⟩ : Fin 2) (⟨h.val % 2, by omega⟩ : Fin 2) l)).trans ?_)
  refine (val_main_v93_apply (F := Ideal) x6 _).trans ((congrArg (val_main_v92 (F := Ideal) x6) (i35 n (⟨h.val % 2, by omega⟩ : Fin 2) l)).trans ?_)
  refine (val_main_v92_apply (F := Ideal) x6 _).trans ((congrArg (val_main_v91 (F := Ideal) x6) (i34 n (⟨h.val % 2, by omega⟩ : Fin 2) l)).trans ?_)
  refine (val_main_v91_apply (F := Ideal) x6 _).trans ((congrArg (val_main_v82 (F := Ideal) x6) (i33 n (⟨h.val % 2, by omega⟩ : Fin 2) l)).trans ?_)
  exact (val_main_v82_apply (F := Ideal) x6 _).trans (congrArg x6 (i31 n (⟨h.val % 2, by omega⟩ : Fin 2) 0 l))

theorem table_106 (b : Fin 8) (n : Fin 4096) (h : Fin 4) (l : Fin 32) : val_main_v106 (F := Ideal) x5 (ix4 b n h l)
    = x5 (ix2 n (⟨h.val % 2 * 64 + 1 * 32 + l.val, by omega⟩ : Fin 128)) := by
  refine (val_main_v106_apply (F := Ideal) x5 _).trans ((congrArg (val_main_v105 (F := Ideal) x5) (k4_i39 b n h l)).trans ?_)
  refine (val_main_v105_apply (F := Ideal) x5 _).trans ((congrArg (val_main_v104 (F := Ideal) x5) (k4_i38 n h l)).trans ?_)
  refine (val_main_v104_apply (F := Ideal) x5 _).trans ((congrArg (val_main_v103 (F := Ideal) x5) (k4_i37 n h l)).trans ?_)
  refine (val_main_v103_apply (F := Ideal) x5 _).trans ((congrArg (val_main_v102 (F := Ideal) x5) (k4_i36 n (⟨h.val / 2, by omega⟩ : Fin 2) (⟨h.val % 2, by omega⟩ : Fin 2) l)).trans ?_)
  refine (val_main_v102_apply (F := Ideal) x5 _).trans ((congrArg (val_main_v101 (F := Ideal) x5) (i35 n (⟨h.val % 2, by omega⟩ : Fin 2) l)).trans ?_)
  refine (val_main_v101_apply (F := Ideal) x5 _).trans ((congrArg (val_main_v100 (F := Ideal) x5) (i34 n (⟨h.val % 2, by omega⟩ : Fin 2) l)).trans ?_)
  refine (val_main_v100_apply (F := Ideal) x5 _).trans ((congrArg (val_main_v81 (F := Ideal) x5) (i50 n (⟨h.val % 2, by omega⟩ : Fin 2) l)).trans ?_)
  exact (val_main_v81_apply (F := Ideal) x5 _).trans (congrArg x5 (i31 n (⟨h.val % 2, by omega⟩ : Fin 2) 1 l))

theorem table_114 (b : Fin 8) (n : Fin 4096) (h : Fin 4) (l : Fin 32) : val_main_v114 (F := Ideal) x6 (ix4 b n h l)
    = x6 (ix2 n (⟨h.val % 2 * 64 + 1 * 32 + l.val, by omega⟩ : Fin 128)) := by
  refine (val_main_v114_apply (F := Ideal) x6 _).trans ((congrArg (val_main_v113 (F := Ideal) x6) (k4_i39 b n h l)).trans ?_)
  refine (val_main_v113_apply (F := Ideal) x6 _).trans ((congrArg (val_main_v112 (F := Ideal) x6) (k4_i38 n h l)).trans ?_)
  refine (val_main_v112_apply (F := Ideal) x6 _).trans ((congrArg (val_main_v111 (F := Ideal) x6) (k4_i37 n h l)).trans ?_)
  refine (val_main_v111_apply (F := Ideal) x6 _).trans ((congrArg (val_main_v110 (F := Ideal) x6) (k4_i36 n (⟨h.val / 2, by omega⟩ : Fin 2) (⟨h.val % 2, by omega⟩ : Fin 2) l)).trans ?_)
  refine (val_main_v110_apply (F := Ideal) x6 _).trans ((congrArg (val_main_v109 (F := Ideal) x6) (i35 n (⟨h.val % 2, by omega⟩ : Fin 2) l)).trans ?_)
  refine (val_main_v109_apply (F := Ideal) x6 _).trans ((congrArg (val_main_v108 (F := Ideal) x6) (i34 n (⟨h.val % 2, by omega⟩ : Fin 2) l)).trans ?_)
  refine (val_main_v108_apply (F := Ideal) x6 _).trans ((congrArg (val_main_v82 (F := Ideal) x6) (i50 n (⟨h.val % 2, by omega⟩ : Fin 2) l)).trans ?_)
  exact (val_main_v82_apply (F := Ideal) x6 _).trans (congrArg x6 (i31 n (⟨h.val % 2, by omega⟩ : Fin 2) 1 l))

theorem half_77 (b : Fin 8) (n : Fin 4096) (h : Fin 4) (l : Fin 32) : val_main_v77 (F := Ideal) x0 x1 x2 x3 x4 (ix4 b n h l)
    = val_main_v20 (F := Ideal) x0 x1 x2 x3 x4 (ix3 b n (⟨h.val * 64 + 0 * 32 + l.val, by omega⟩ : Fin 256)) := by
  refine (val_main_v77_apply (F := Ideal) x0 x1 x2 x3 x4 _).trans ((congrArg (val_main_v76 (F := Ideal) x0 x1 x2 x3 x4) (k4_i27 b n h l)).trans ?_)
  refine (val_main_v76_apply (F := Ideal) x0 x1 x2 x3 x4 _).trans ((congrArg (val_main_v75 (F := Ideal) x0 x1 x2 x3 x4) (k4_i26 b n h l)).trans ?_)
  exact (val_main_v75_apply (F := Ideal) x0 x1 x2 x3 x4 _).trans (congrArg (val_main_v20 (F := Ideal) x0 x1 x2 x3 x4) (k4_i25 b n h 0 l))

theorem half_80 (b : Fin 8) (n : Fin 4096) (h : Fin 4) (l : Fin 32) : val_main_v80 (F := Ideal) x0 x1 x2 x3 x4 (ix4 b n h l)
    = val_main_v20 (F := Ideal) x0 x1 x2 x3 x4 (ix3 b n (⟨h.val * 64 + 1 * 32 + l.val, by omega⟩ : Fin 256)) := by
  refine (val_main_v80_apply (F := Ideal) x0 x1 x2 x3 x4 _).trans ((congrArg (val_main_v79 (F := Ideal) x0 x1 x2 x3 x4) (k4_i27 b n h l)).trans ?_)
  refine (val_main_v79_apply (F := Ideal) x0 x1 x2 x3 x4 _).trans ((congrArg (val_main_v78 (F := Ideal) x0 x1 x2 x3 x4) (k4_i29 b n h l)).trans ?_)
  exact (val_main_v78_apply (F := Ideal) x0 x1 x2 x3 x4 _).trans (congrArg (val_main_v20 (F := Ideal) x0 x1 x2 x3 x4) (k4_i25 b n h 1 l))

theorem turn_99 (b : Fin 8) (n : Fin 4096) (h : Fin 4) (l : Fin 32) : val_main_v117 (F := Ideal) x0 x1 x2 x3 x4 x5 x6 (ix5 b n h (0 : Fin 1) l)
    = val_main_v20 (F := Ideal) x0 x1 x2 x3 x4 (ix3 b n (⟨h.val * 64 + 0 * 32 + l.val, by omega⟩ : Fin 256)) * x5 (ix2 n (⟨h.val % 2 * 64 + 0 * 32 + l.val, by omega⟩ : Fin 128))
      + val_main_v20 (F := Ideal) x0 x1 x2 x3 x4 (ix3 b n (⟨h.val * 64 + 1 * 32 + l.val, by omega⟩ : Fin 256)) * x6 (ix2 n (⟨h.val % 2 * 64 + 0 * 32 + l.val, by omega⟩ : Fin 128)) := by
  refine (val_main_v117_apply (F := Ideal) x0 x1 x2 x3 x4 x5 x6 _).trans ((congrArg (val_main_v99 (F := Ideal) x0 x1 x2 x3 x4 x5 x6) (k4_i67 b n h l)).trans ?_)
  rw [val_main_v99_apply, val_main_v90_apply, val_main_v98_apply, half_77, half_80, table_89, table_97]
  rfl

theorem turn_116 (b : Fin 8) (n : Fin 4096) (h : Fin 4) (l : Fin 32) : val_main_v118 (F := Ideal) x0 x1 x2 x3 x4 x5 x6 (ix5 b n h (0 : Fin 1) l)
    = val_main_v20 (F := Ideal) x0 x1 x2 x3 x4 (ix3 b n (⟨h.val * 64 + 1 * 32 + l.val, by omega⟩ : Fin 256)) * x5 (ix2 n (⟨h.val % 2 * 64 + 1 * 32 + l.val, by omega⟩ : Fin 128))
      + val_main_v20 (F := Ideal) x0 x1 x2 x3 x4 (ix3 b n (⟨h.val * 64 + 0 * 32 + l.val, by omega⟩ : Fin 256)) * x6 (ix2 n (⟨h.val % 2 * 64 + 1 * 32 + l.val, by omega⟩ : Fin 128)) := by
  refine (val_main_v118_apply (F := Ideal) x0 x1 x2 x3 x4 x5 x6 _).trans ((congrArg (val_main_v116 (F := Ideal) x0 x1 x2 x3 x4 x5 x6) (k4_i67 b n h l)).trans ?_)
  rw [val_main_v116_apply, val_main_v107_apply, val_main_v115_apply, half_80, half_77, table_106, table_114]
  rfl

theorem rotated_120 (b : Fin 8) (n : Fin 4096) (j : Fin 256) : val_main_v120 (F := Ideal) x0 x1 x2 x3 x4 x5 x6 (ix3 b n j)
    = rotated (W := 256) (by decide) (fun j => val_main_v20 (F := Ideal) x0 x1 x2 x3 x4 (ix3 b n j)) (fun l => x5 (ix2 n l)) (fun l => x6 (ix2 n l)) j := by
  refine (val_main_v120_apply (F := Ideal) x0 x1 x2 x3 x4 x5 x6 _).trans ((congrArg (val_main_v119 (F := Ideal) x0 x1 x2 x3 x4 x5 x6) (k4_i70 b n j)).trans ?_)
  unfold val_main_v119 rotated partner
  have hj := j.isLt
  by_cases h : j.val % 64 < 32
  · rw [show (⟨j.val / 32 % 2, by omega⟩ : Fin 2) = 0 from Fin.ext (by show j.val / 32 % 2 = 0; omega), k4_join_left, turn_99, dif_pos h]
    refine congr (congrArg _ (congr (congrArg _ ?_) ?_)) (congr (congrArg _ ?_) ?_)
    · exact congrArg (fun i => val_main_v20 (F := Ideal) x0 x1 x2 x3 x4 (ix3 b n i)) (Fin.ext (by show j.val / 64 * 64 + 0 * 32 + j.val % 32 = j.val; omega))
    · exact congrArg (fun i => x5 (ix2 n i)) (Fin.ext (by show j.val / 64 % 2 * 64 + 0 * 32 + j.val % 32 = j.val % 128; omega))
    · exact congrArg (fun i => val_main_v20 (F := Ideal) x0 x1 x2 x3 x4 (ix3 b n i)) (Fin.ext (by show j.val / 64 * 64 + 1 * 32 + j.val % 32 = j.val + 32; omega))
    · exact congrArg (fun i => x6 (ix2 n i)) (Fin.ext (by show j.val / 64 % 2 * 64 + 0 * 32 + j.val % 32 = j.val % 128; omega))
  · rw [show (⟨j.val / 32 % 2, by omega⟩ : Fin 2) = 1 from Fin.ext (by show j.val / 32 % 2 = 1; omega), k4_join_right, turn_116, dif_neg h]
    refine congr (congrArg _ (congr (congrArg _ ?_) ?_)) (congr (congrArg _ ?_) ?_)
    · exact congrArg (fun i => val_main_v20 (F := Ideal) x0 x1 x2 x3 x4 (ix3 b n i)) (Fin.ext (by show j.val / 64 * 64 + 1 * 32 + j.val % 32 = j.val; omega))
    · exact congrArg (fun i => x5 (ix2 n i)) (Fin.ext (by show j.val / 64 % 2 * 64 + 1 * 32 + j.val % 32 = j.val % 128; omega))
    · exact congrArg (fun i => val_main_v20 (F := Ideal) x0 x1 x2 x3 x4 (ix3 b n i)) (Fin.ext (by show j.val / 64 * 64 + 0 * 32 + j.val % 32 = j.val - 32; omega))
    · exact congrArg (fun i => x6 (ix2 n i)) (Fin.ext (by show j.val / 64 % 2 * 64 + 1 * 32 + j.val % 32 = j.val % 128; omega))

/-! The seven results. -/

theorem element_0 (b : Fin 8) (n : Fin 4096) (j : Fin 512) : val_main_v74 (F := Ideal) x0 x1 x2 x3 x4 x5 x6 (ix3 b n j) = rotatedOut x0 x1 x2 x3 x4 x5 x6 0 512 (by decide) (by decide) (ix3 b n j) := by
  rw [val_main_v74_apply, rotated_73]
  simp only [slice_19]
  rfl

theorem result_0 : val_main_v74 (F := Ideal) x0 x1 x2 x3 x4 x5 x6 = rotatedOut x0 x1 x2 x3 x4 x5 x6 0 512 (by decide) (by decide) :=
  funext fun i => (congrArg _ (eq_ix3 (n0 := 8) (n1 := 4096) (n2 := 512) i)).trans
    ((element_0 x0 x1 x2 x3 x4 x5 x6 (i 0) (i 1) (i 2)).trans (congrArg _ (eq_ix3 (n0 := 8) (n1 := 4096) (n2 := 512) i).symm))

theorem element_1 (b : Fin 8) (n : Fin 4096) (j : Fin 256) : val_main_v121 (F := Ideal) x0 x1 x2 x3 x4 x5 x6 (ix3 b n j) = rotatedOut x0 x1 x2 x3 x4 x5 x6 512 256 (by decide) (by decide) (ix3 b n j) := by
  rw [val_main_v121_apply, rotated_120]
  simp only [slice_20]
  rfl

theorem result_1 : val_main_v121 (F := Ideal) x0 x1 x2 x3 x4 x5 x6 = rotatedOut x0 x1 x2 x3 x4 x5 x6 512 256 (by decide) (by decide) :=
  funext fun i => (congrArg _ (eq_ix3 (n0 := 8) (n1 := 4096) (n2 := 256) i)).trans
    ((element_1 x0 x1 x2 x3 x4 x5 x6 (i 0) (i 1) (i 2)).trans (congrArg _ (eq_ix3 (n0 := 8) (n1 := 4096) (n2 := 256) i).symm))

theorem element_2 (b : Fin 8) (n : Fin 4096) (j : Fin 256) : val_main_v122 (F := Ideal) x0 x1 x2 x3 x4 (ix3 b n j) = plainOut x0 x1 x2 x3 x4 768 256 (by decide) (ix3 b n j) := by
  rw [val_main_v122_apply, slice_21]
  rfl

theorem result_2 : val_main_v122 (F := Ideal) x0 x1 x2 x3 x4 = plainOut x0 x1 x2 x3 x4 768 256 (by decide) :=
  funext fun i => (congrArg _ (eq_ix3 (n0 := 8) (n1 := 4096) (n2 := 256) i)).trans
    ((element_2 x0 x1 x2 x3 x4 (i 0) (i 1) (i 2)).trans (congrArg _ (eq_ix3 (n0 := 8) (n1 := 4096) (n2 := 256) i).symm))

theorem element_3 (b : Fin 8) (n : Fin 4096) (j : Fin 1024) : val_main_v22 (F := Ideal) x0 x1 x2 x3 x4 (ix3 b n j) = plainOut x0 x1 x2 x3 x4 1024 1024 (by decide) (ix3 b n j) := by
  rw [slice_22]
  rfl

theorem result_3 : val_main_v22 (F := Ideal) x0 x1 x2 x3 x4 = plainOut x0 x1 x2 x3 x4 1024 1024 (by decide) :=
  funext fun i => (congrArg _ (eq_ix3 (n0 := 8) (n1 := 4096) (n2 := 1024) i)).trans
    ((element_3 x0 x1 x2 x3 x4 (i 0) (i 1) (i 2)).trans (congrArg _ (eq_ix3 (n0 := 8) (n1 := 4096) (n2 := 1024) i).symm))

theorem element_4 (b : Fin 8) (n : Fin 4096) (j : Fin 512) : val_main_v23 (F := Ideal) x0 x1 x2 x3 x4 (ix3 b n j) = plainOut x0 x1 x2 x3 x4 2048 512 (by decide) (ix3 b n j) := by
  rw [slice_23]
  rfl

theorem result_4 : val_main_v23 (F := Ideal) x0 x1 x2 x3 x4 = plainOut x0 x1 x2 x3 x4 2048 512 (by decide) :=
  funext fun i => (congrArg _ (eq_ix3 (n0 := 8) (n1 := 4096) (n2 := 512) i)).trans
    ((element_4 x0 x1 x2 x3 x4 (i 0) (i 1) (i 2)).trans (congrArg _ (eq_ix3 (n0 := 8) (n1 := 4096) (n2 := 512) i).symm))

theorem element_5 (b : Fin 8) (n : Fin 4096) (j : Fin 16) : val_main_v24 (F := Ideal) x0 x1 x2 x3 x4 (ix3 b n j) = plainOut x0 x1 x2 x3 x4 2560 16 (by decide) (ix3 b n j) := by
  rw [slice_24]
  rfl

theorem result_5 : val_main_v24 (F := Ideal) x0 x1 x2 x3 x4 = plainOut x0 x1 x2 x3 x4 2560 16 (by decide) :=
  funext fun i => (congrArg _ (eq_ix3 (n0 := 8) (n1 := 4096) (n2 := 16) i)).trans
    ((element_5 x0 x1 x2 x3 x4 (i 0) (i 1) (i 2)).trans (congrArg _ (eq_ix3 (n0 := 8) (n1 := 4096) (n2 := 16) i).symm))

theorem result_6 : val_main_v27 (F := Ideal) x0 x1 x2 x3 x7 = channelsOut x0 x1 x2 x3 x7 :=
  funext fun i => (congrArg _ (eq_ix3 (n0 := 8) (n1 := 16) (n2 := 4096) i)).trans
    ((channels_eq x0 x1 x2 x3 x7 (i 0) (i 1) (i 2)).trans (congrArg _ (eq_ix3 (n0 := 8) (n1 := 16) (n2 := 4096) i).symm))

end Cert.Reference4Ideal.Project

end
-- ==== Proof.OddClaims.lean ====
/-
  The claims about the projection of the odd layers, put together.
-/
module

public import proofs.«01_k».proof.Defs
public import proofs.«01_k».proof.Proof.Gen.Kernel4.Frame
public import proofs.«01_k».proof.Proof.Gen.Reference4Ideal.Run
public import proofs.«01_k».proof.Proof.OddArray
public import proofs.«01_k».proof.Proof.OddRef

@[expose] public section

set_option maxRecDepth 2000

noncomputable section

namespace Cert.OddClaims

open Cert.ProjectOdd
open Idealize.ShloMosaic Idealize.ShloMosaic.TcCoe Idealize.SL.Sem

/-- The reference runs and keeps its arguments. -/
theorem frame_ri : Cert.quiescent_Reference4Ideal (hReference4Ideal := Cert.Reference4Ideal.Gen.facts) := fun m ρ _ =>
  (θ_run _ _ _).mono (fun r h => ⟨fun c => (h c).2.2.2.2.2.2.2, sem_eq_zero_of_no_sems (by decide) r.2⟩)
    (Cert.Reference4Ideal.Value.run (F := Ideal) m ρ)

/-- Kernel and reference end with the same seven arrays: two rotated, four plain, one with its channels first. -/
theorem algebraic : Cert.algebraic_Kernel4Ideal_Reference4Ideal (hKernel4Ideal := Cert.Kernel4Ideal.Gen.facts)
    (hReference4Ideal := Cert.Reference4Ideal.Gen.facts) := by
  intro m ρ m' ρ' hpre hag
  refine ⟨fun c => rotatedOut (Cert.Kernel4Ideal.Project.aX m c) (Cert.Kernel4Ideal.Project.aG m c) (Cert.Kernel4Ideal.Project.aS m c) (Cert.Kernel4Ideal.Project.aT m c) (Cert.Kernel4Ideal.Project.aW m c) (Cert.Kernel4Ideal.Project.aC m c) (Cert.Kernel4Ideal.Project.aN m c) 0 512 (by decide) (by decide),
    fun c => rotatedOut (Cert.Kernel4Ideal.Project.aX m c) (Cert.Kernel4Ideal.Project.aG m c) (Cert.Kernel4Ideal.Project.aS m c) (Cert.Kernel4Ideal.Project.aT m c) (Cert.Kernel4Ideal.Project.aW m c) (Cert.Kernel4Ideal.Project.aC m c) (Cert.Kernel4Ideal.Project.aN m c) 512 256 (by decide) (by decide),
    fun c => plainOut (Cert.Kernel4Ideal.Project.aX m c) (Cert.Kernel4Ideal.Project.aG m c) (Cert.Kernel4Ideal.Project.aS m c) (Cert.Kernel4Ideal.Project.aT m c) (Cert.Kernel4Ideal.Project.aW m c) 768 256 (by decide),
    fun c => plainOut (Cert.Kernel4Ideal.Project.aX m c) (Cert.Kernel4Ideal.Project.aG m c) (Cert.Kernel4Ideal.Project.aS m c) (Cert.Kernel4Ideal.Project.aT m c) (Cert.Kernel4Ideal.Project.aW m c) 1024 1024 (by decide),
    fun c => plainOut (Cert.Kernel4Ideal.Project.aX m c) (Cert.Kernel4Ideal.Project.aG m c) (Cert.Kernel4Ideal.Project.aS m c) (Cert.Kernel4Ideal.Project.aT m c) (Cert.Kernel4Ideal.Project.aW m c) 2048 512 (by decide),
    fun c => plainOut (Cert.Kernel4Ideal.Project.aX m c) (Cert.Kernel4Ideal.Project.aG m c) (Cert.Kernel4Ideal.Project.aS m c) (Cert.Kernel4Ideal.Project.aT m c) (Cert.Kernel4Ideal.Project.aW m c) 2560 16 (by decide),
    fun c => channelsOut (Cert.Kernel4Ideal.Project.aX m c) (Cert.Kernel4Ideal.Project.aG m c) (Cert.Kernel4Ideal.Project.aS m c) (Cert.Kernel4Ideal.Project.aT m c) (Cert.Kernel4Ideal.Project.aV m c),
    Cert.Kernel4Ideal.Project.run_project m ρ, ?_⟩
  refine (θ_run _ _ _).mono (fun r h c => ?_) (Cert.Reference4Ideal.Value.run (F := Ideal) m' ρ')
  obtain ⟨e0, e1, e2, e3, e4, e5, e6, e7⟩ := hag c
  obtain ⟨h0, h1, h2, h3, h4, h5, h6, hk⟩ := h c
  refine ⟨h0.trans ?_, h1.trans ?_, h2.trans ?_, h3.trans ?_, h4.trans ?_, h5.trans ?_, h6.trans ?_, hk⟩
  · rw [Cert.Reference4Ideal.Read.val_main_v74_eq, e0, e1, e2, e3, e4, e5, e6]
    exact Cert.Reference4Ideal.Project.result_0 _ _ _ _ _ _ _
  · rw [Cert.Reference4Ideal.Read.val_main_v121_eq, e0, e1, e2, e3, e4, e5, e6]
    exact Cert.Reference4Ideal.Project.result_1 _ _ _ _ _ _ _
  · rw [Cert.Reference4Ideal.Read.val_main_v122_eq, e0, e1, e2, e3, e4]
    exact Cert.Reference4Ideal.Project.result_2 _ _ _ _ _
  · rw [Cert.Reference4Ideal.Read.val_main_v22_eq, e0, e1, e2, e3, e4]
    exact Cert.Reference4Ideal.Project.result_3 _ _ _ _ _
  · rw [Cert.Reference4Ideal.Read.val_main_v23_eq, e0, e1, e2, e3, e4]
    exact Cert.Reference4Ideal.Project.result_4 _ _ _ _ _
  · rw [Cert.Reference4Ideal.Read.val_main_v24_eq, e0, e1, e2, e3, e4]
    exact Cert.Reference4Ideal.Project.result_5 _ _ _ _ _
  · rw [Cert.Reference4Ideal.Read.val_main_v27_eq, e0, e1, e2, e3, e7]
    exact Cert.Reference4Ideal.Project.result_6 _ _ _ _ _

end Cert.OddClaims

end
-- ==== Proof.OutProject.lean ====
/-
  The output projection over the extended reals: the two halves of the heads against the weight, the gated residual, the modulated norm
  of the sum, and the router's softmax over the sixteen experts. Everything stays a real number when the arguments are.
-/
module

public import proofs.«01_k».proof.Proof.Project
public import proofs.«01_k».proof.Proof.Softmax

@[expose] public section

noncomputable section

namespace Cert.OutProject

open Idealize.ShloMosaic
open Cert.Project (normed lin)

/-- Two halves of a row against the columns of a matrix with 1024 rows. -/
def mixed (a b : Fin 512 → EReal) (w : Fin 1024 → Fin 1024 → EReal) (j : Fin 1024) : EReal :=
  ∑ k : Fin 512, a k * w ⟨k.val, by omega⟩ j + ∑ k : Fin 512, b k * w ⟨512 + k.val, by omega⟩ j

/-- The gated residual: the row `x`, plus the gate `u` times the RMS norm of the row `p` with gain `g`. The two words are 1024 and 1e-6. -/
def gated (p x u g : Fin 1024 → EReal) (k : Fin 1024) : EReal :=
  x k + u k * (p k * Ideal.rsqrt (Ideal.div (∑ l : Fin 1024, p l * p l) (Ideal.ofBits .f32 0x44800000#32) + Ideal.ofBits .f32 0x358637BD#32) * g k)

/-- The softmax of sixteen logits, the greatest subtracted first. -/
def soft (l : Fin 16 → EReal) (e : Fin 16) : EReal :=
  Ideal.div (Ideal.exp (l e - Finset.univ.fold max ⊥ l)) (∑ i : Fin 16, Ideal.exp (l i - Finset.univ.fold max ⊥ l))

/-- The arguments of the call: the two halves of the heads, the weight, the stream, the gain of the first norm, the gate, the gain of the
    second norm, its scale and shift, and the router's weight. -/
structure Args where
  oa : Vec Ideal ⟨3, ![8, 4096, 512]⟩ .bf16
  ob : Vec Ideal ⟨3, ![8, 4096, 512]⟩ .bf16
  w : Vec Ideal ⟨2, ![1024, 1024]⟩ .bf16
  x : Vec Ideal ⟨3, ![8, 4096, 1024]⟩ .f32
  g : Vec Ideal ⟨1, ![1024]⟩ .f32
  u : Vec Ideal ⟨3, ![8, 1, 1024]⟩ .f32
  g' : Vec Ideal ⟨1, ![1024]⟩ .f32
  s : Vec Ideal ⟨3, ![8, 1, 1024]⟩ .f32
  t : Vec Ideal ⟨3, ![8, 1, 1024]⟩ .f32
  v : Vec Ideal ⟨2, ![1024, 16]⟩ .f32

variable (A : Args)

/-- The projected row. -/
def mixRow (b : Fin 8) (n : Fin 4096) : Fin 1024 → EReal :=
  mixed (fun k => A.oa (ix3 b n k)) (fun k => A.ob (ix3 b n k)) (fun k j => A.w (ix2 k j))

/-- The row of the stream after the residual. -/
def midRow (b : Fin 8) (n : Fin 4096) : Fin 1024 → EReal :=
  gated (mixRow A b n) (fun k => A.x (ix3 b n k)) (fun k => A.u (ix3 b 0 k)) (fun k => A.g (ix1 k))

/-- Its modulated norm. -/
def nextRow (b : Fin 8) (n : Fin 4096) : Fin 1024 → EReal :=
  normed (midRow A b n) (fun k => A.g' (ix1 k)) (fun k => A.s (ix3 b 0 k)) (fun k => A.t (ix3 b 0 k))

/-- The router's logits. -/
def logits (b : Fin 8) (n : Fin 4096) : Fin 16 → EReal := lin (nextRow A b n) (fun k e => A.v (ix2 k e))

/-- The three results. -/
def mid : Vec Ideal ⟨3, ![8, 4096, 1024]⟩ .f32 := fun i => midRow A (i 0) (i 1) (i 2)
def next : Vec Ideal ⟨3, ![8, 4096, 1024]⟩ .f32 := fun i => nextRow A (i 0) (i 1) (i 2)
def affinity : Vec Ideal ⟨3, ![8, 16, 4096]⟩ .f32 := fun i => soft (logits A (i 0) (i 2)) (i 1)

/-- A real number among the extended reals. -/
def IsNum (x : EReal) : Prop := ∃ r : ℝ, x = (r : EReal)

theorem IsNum.add {x y : EReal} : IsNum x → IsNum y → IsNum (x + y)
  | ⟨r, hr⟩, ⟨q, hq⟩ => ⟨r + q, by rw [hr, hq, EReal.coe_add]⟩

theorem IsNum.mul {x y : EReal} : IsNum x → IsNum y → IsNum (x * y)
  | ⟨r, hr⟩, ⟨q, hq⟩ => ⟨r * q, by rw [hr, hq, EReal.coe_mul]⟩

theorem IsNum.sum {ι : Type} [Fintype ι] {f : ι → EReal} (h : ∀ i, IsNum (f i)) : IsNum (∑ i, f i) := by
  choose r hr using h
  exact ⟨∑ i, r i, by rw [Cert.Softmax.coe_sum]; exact Finset.sum_congr rfl fun i _ => hr i⟩

theorem IsNum.sub_self {x : EReal} : IsNum x → x - x = 0
  | ⟨r, hr⟩ => by rw [hr, ← EReal.coe_sub, _root_.sub_self, EReal.coe_zero]

theorem word_size : Ideal.ofBits .f32 0x44800000#32 = ((1024 : ℝ) : EReal) := by
  simp [Ideal.ofBits, Ideal.ieee]
  norm_num
  rw [← EReal.coe_mul]
  norm_num

theorem word_eps : ∃ ε : ℝ, 0 < ε ∧ Ideal.ofBits .f32 0x358637BD#32 = (ε : EReal) := by
  refine ⟨8796093 * (2 : ℝ) ^ (-43 : ℤ), by positivity, ?_⟩
  simp [Ideal.ofBits, Ideal.ieee]

/-- The root of a mean square with 1e-6 added is a positive real number, so its reciprocal is a real number. -/
theorem IsNum.root {p : Fin 1024 → EReal} (h : ∀ l, IsNum (p l)) :
    IsNum (Ideal.rsqrt (Ideal.div (∑ l : Fin 1024, p l * p l) (Ideal.ofBits .f32 0x44800000#32) + Ideal.ofBits .f32 0x358637BD#32)) := by
  choose r hr using h
  obtain ⟨ε, hε, he⟩ := word_eps
  have hs : ∑ l : Fin 1024, p l * p l = ((∑ l : Fin 1024, r l * r l : ℝ) : EReal) := by
    rw [Cert.Softmax.coe_sum]
    exact Finset.sum_congr rfl fun l _ => by rw [hr, EReal.coe_mul]
  have h0 : 0 ≤ ∑ l : Fin 1024, r l * r l := Finset.sum_nonneg fun l _ => mul_self_nonneg (r l)
  have h1 : 0 < (∑ l : Fin 1024, r l * r l) / 1024 + ε := by positivity
  rw [hs, word_size, he, Cert.Softmax.div_coe_coe _ _ (by norm_num), ← EReal.coe_add, Ideal.rsqrt_coe, if_neg (not_lt.mpr h1.le), if_neg h1.ne']
  exact ⟨_, rfl⟩

/-- Every argument is an array of real numbers. -/
structure Args.Finite : Prop where
  oa : ∀ i, IsNum (A.oa i)
  ob : ∀ i, IsNum (A.ob i)
  w : ∀ i, IsNum (A.w i)
  x : ∀ i, IsNum (A.x i)
  g : ∀ i, IsNum (A.g i)
  u : ∀ i, IsNum (A.u i)
  g' : ∀ i, IsNum (A.g' i)
  s : ∀ i, IsNum (A.s i)
  t : ∀ i, IsNum (A.t i)
  v : ∀ i, IsNum (A.v i)

variable {A}

theorem mixRow_num (H : A.Finite) (b : Fin 8) (n : Fin 4096) (k : Fin 1024) : IsNum (mixRow A b n k) :=
  (IsNum.sum fun _ => (H.oa _).mul (H.w _)).add (IsNum.sum fun _ => (H.ob _).mul (H.w _))

theorem midRow_num (H : A.Finite) (b : Fin 8) (n : Fin 4096) (k : Fin 1024) : IsNum (midRow A b n k) :=
  (H.x _).add ((H.u _).mul (((mixRow_num H b n k).mul (IsNum.root (mixRow_num H b n))).mul (H.g _)))

theorem nextRow_num (H : A.Finite) (b : Fin 8) (n : Fin 4096) (k : Fin 1024) : IsNum (nextRow A b n k) :=
  ((((midRow_num H b n k).mul (IsNum.root (midRow_num H b n))).mul (H.g' _)).mul (H.s _)).add (H.t _)

/-- The router's product from pieces: the row and the remainder it leaves against the weight, and the row against the remainder the
    weight leaves. Remainders of real numbers are zero. -/
theorem split_lin (h : Fin 1024 → EReal) (hh : ∀ k, IsNum (h k)) (w : Fin 1024 → Fin 16 → EReal) (hw : ∀ k e, IsNum (w k e)) (e : Fin 16) :
    ∑ k : Fin 1024, w k e * h k + ∑ k : Fin 1024, w k e * (h k - h k) + ∑ k : Fin 1024, (w k e - w k e) * h k = lin h w e := by
  have e1 : ∑ k : Fin 1024, w k e * (h k - h k) = 0 := Finset.sum_eq_zero fun k _ => by rw [(hh k).sub_self, mul_zero]
  have e2 : ∑ k : Fin 1024, (w k e - w k e) * h k = 0 := Finset.sum_eq_zero fun k _ => by rw [(hw k e).sub_self, zero_mul]
  rw [e1, e2, add_zero, add_zero]
  exact Finset.sum_congr rfl fun k _ => mul_comm _ _

end Cert.OutProject

end
-- ==== Proof.OutValue.lean ====
/-
  What the output projection's kernel computes at a grid point, read element by element, for either half of the block's rows.
-/
module

public import proofs.«01_k».proof.Proof.Gen.Kernel5Ideal.Value
public import proofs.«01_k».proof.Proof.OutProject
public import Idealize.ShloMosaic.Lib.KernelVsHost
public import Idealize.ShloMosaic.Lib.Pointwise

@[expose] public section

set_option maxRecDepth 16384

noncomputable section

namespace Cert.Kernel5Ideal.OutProject

open Cert.Kernel5Ideal Cert.Kernel5Ideal.Gen Cert.OutProject
open Cert.Project (normed lin)
open Idealize.ShloMosaic Idealize.ShloMosaic.TcCoe Idealize.SL.Sem Idealize.ShloMosaic.Tactic

/-- The two products. -/
theorem mix_apply (a b : Vec Ideal S1x512x512 .bf16) (p q : Vec Ideal S512x1024 .bf16) (r : Fin 512) (j : Fin 1024) :
    k0_pay10 a p b q (ix2 r j) = ∑ k : Fin 512, a (ix3 0 r k) * p (ix2 k j) + ∑ k : Fin 512, b (ix3 0 r k) * q (ix2 k j) := by
  pointwise [k0_pay10, dot_S512x512_S512x1024_S512x1024_1_0_0_1_n_n]

theorem square_apply (a b : Vec Ideal S1x512x512 .bf16) (p q : Vec Ideal S512x1024 .bf16) (r : Fin 512) (j : Fin 1024) :
    k0_pay14 a p b q (ix2 r j) = k0_pay10 a p b q (ix2 r j) * k0_pay10 a p b q (ix2 r j) := rfl

theorem stream_apply (x : Vec Ideal S1x512x1024 .f32) (r : Fin 512) (j : Fin 1024) : k0_pay11 x (ix2 r j) = x (ix3 0 r j) := by
  pointwise [k0_pay11]

theorem gate_apply (u : Vec Ideal S1x1x1024 .f32) (j : Fin 1024) : k0_pay12 u (ix2 0 j) = u (ix3 0 0 j) := by
  pointwise [k0_pay12]

theorem gain_apply (g : Vec Ideal S1x1024 .f32) (j : Fin 1024) : k0_pay13 g (ix2 0 j) = g (ix2 0 j) := by
  pointwise [k0_pay13]

/-- The residual from its parts. -/
theorem residual_apply (p x : FVec Ideal S512x1024 .f32) (u g : FVec Ideal S1x1024 .f32) (q : FVec Ideal S512x1024 .f32) (r : Fin 512) (j : Fin 1024) :
    k0_pay15 p x u g q (ix2 r j) = x (ix2 r j) + u (ix2 0 j) * (p (ix2 r j)
      * Ideal.rsqrt (Ideal.div (∑ l : Fin 1024, q (ix2 r l)) (Ideal.ofBits .f32 0x44800000#32) + Ideal.ofBits .f32 0x358637BD#32) * g (ix2 0 j)) := by
  pointwise [k0_pay15]

/-- The residual of half a block. -/
abbrev half (a b : Vec Ideal S1x512x512 .bf16) (p q : Vec Ideal S512x1024 .bf16) (x : Vec Ideal S1x512x1024 .f32) (u : Vec Ideal S1x1x1024 .f32)
    (g : Vec Ideal S1x1024 .f32) : FVec Ideal S512x1024 .f32 :=
  k0_pay15 (k0_pay10 a p b q) (k0_pay11 x) (k0_pay12 u) (k0_pay13 g) (k0_pay14 a p b q)

theorem half_apply (a b : Vec Ideal S1x512x512 .bf16) (p q : Vec Ideal S512x1024 .bf16) (x : Vec Ideal S1x512x1024 .f32) (u : Vec Ideal S1x1x1024 .f32)
    (g : Vec Ideal S1x1024 .f32) (r : Fin 512) (j : Fin 1024) :
    half a b p q x u g (ix2 r j) = gated (fun j => ∑ k : Fin 512, a (ix3 0 r k) * p (ix2 k j) + ∑ k : Fin 512, b (ix3 0 r k) * q (ix2 k j))
      (fun j => x (ix3 0 r j)) (fun j => u (ix3 0 0 j)) (fun j => g (ix2 0 j)) j := by
  refine (residual_apply _ _ _ _ _ r j).trans ?_
  unfold gated
  simp only [square_apply, mix_apply, stream_apply, gate_apply, gain_apply]

/-- The first half states it in one step. -/
theorem first_half (a b : Vec Ideal S1x512x512 .bf16) (p q : Vec Ideal S512x1024 .bf16) (x : Vec Ideal S1x512x1024 .f32) (u : Vec Ideal S1x1x1024 .f32)
    (g : Vec Ideal S1x1024 .f32) : k0_pay3 a p b q x u g = half a b p q x u g := rfl

/-- The modulated norm of the residual. -/
theorem norm_apply (y : FVec Ideal S512x1024 .f32) (g : Vec Ideal S1x1024 .f32) (s t : Vec Ideal S1x1x1024 .f32) (r : Fin 512) (j : Fin 1024) :
    k0_pay5 y g s t (ix2 r j) = normed (fun l => y (ix2 r l)) (fun l => g (ix2 0 l)) (fun l => s (ix3 0 0 l)) (fun l => t (ix3 0 0 l)) j := by
  unfold normed
  pointwise [k0_pay5]

theorem second_norm (p x : FVec Ideal S512x1024 .f32) (u g : FVec Ideal S1x1024 .f32) (q : FVec Ideal S512x1024 .f32) (g' : Vec Ideal S1x1024 .f32)
    (s t : Vec Ideal S1x1x1024 .f32) : k0_pay17 p x u g q g' s t = k0_pay5 (k0_pay15 p x u g q) g' s t := rfl

/-- The stored blocks have a leading axis. -/
theorem lead_apply (v : FVec Ideal S512x1024 .f32) (a : Fin 1) (r : Fin 512) (j : Fin 1024) : k0_pay1 v (ix3 a r j) = v (ix2 r j) := by
  pointwise [k0_pay1]

theorem lead_first (v : FVec Ideal S512x1024 .f32) : k0_pay4 v = k0_pay1 v := rfl

theorem lead_second (p x : FVec Ideal S512x1024 .f32) (u g : FVec Ideal S1x1024 .f32) (q : FVec Ideal S512x1024 .f32) :
    k0_pay16 p x u g q = k0_pay1 (k0_pay15 p x u g q) := rfl

theorem lead_norm (v : FVec Ideal S512x1024 .f32) (g : Vec Ideal S1x1024 .f32) (s t : Vec Ideal S1x1x1024 .f32) :
    k0_pay6 v g s t = k0_pay1 (k0_pay5 v g s t) := rfl

/-- A row of a weight against a row. -/
theorem prod_apply (w : FVec Ideal S16x1024 .bf16) (y : FVec Ideal S512x1024 .bf16) (e : Fin 16) (r : Fin 512) :
    matmul dot_S16x1024_S512x1024_S16x512_1_1_0_0_n_n none w y (constant (F := Ideal) S16x512 .f32 0x00000000#32) (ix2 e r)
      = ∑ k : Fin 1024, w (ix2 e k) * y (ix2 r k) := by
  pointwise [dot_S16x1024_S512x1024_S16x512_1_1_0_0_n_n]

theorem whole_apply (w : Vec Ideal S16x1024 .bf16) : (shapeCast S16x1024 w shapeCasts_S16x1024_S16x1024 : S16x1024.Idx → EReal) = w := by
  funext i
  exact shapeCast_apply _ _ i i rfl

/-- The router's logits, experts first. -/
def scores (h : FVec Ideal S512x1024 .f32) (w w' v : Vec Ideal S16x1024 .bf16) : FVec Ideal S16x512 .f32 :=
  addf (addf (matmul dot_S16x1024_S512x1024_S16x512_1_1_0_0_n_n none (shapeCast S16x1024 w shapeCasts_S16x1024_S16x1024 : FVec Ideal S16x1024 .bf16) (truncf .bf16 h bitsLt_bf16_f32) (constant (F := Ideal) S16x512 .f32 0x00000000#32))
      (matmul dot_S16x1024_S512x1024_S16x512_1_1_0_0_n_n none (shapeCast S16x1024 w' shapeCasts_S16x1024_S16x1024 : FVec Ideal S16x1024 .bf16)
        (truncf .bf16 (subf h (extf .f32 (truncf .bf16 h bitsLt_bf16_f32) bitsLt_bf16_f32)) bitsLt_bf16_f32) (constant (F := Ideal) S16x512 .f32 0x00000000#32)))
    (matmul dot_S16x1024_S512x1024_S16x512_1_1_0_0_n_n none (shapeCast S16x1024 v shapeCasts_S16x1024_S16x1024 : FVec Ideal S16x1024 .bf16) (truncf .bf16 h bitsLt_bf16_f32) (constant (F := Ideal) S16x512 .f32 0x00000000#32))

theorem scores_apply (h : FVec Ideal S512x1024 .f32) (w w' v : Vec Ideal S16x1024 .bf16) (e : Fin 16) (r : Fin 512) :
    scores h w w' v (ix2 e r) = ∑ k : Fin 1024, w (ix2 e k) * h (ix2 r k) + ∑ k : Fin 1024, w' (ix2 e k) * (h (ix2 r k) - h (ix2 r k))
      + ∑ k : Fin 1024, v (ix2 e k) * h (ix2 r k) := by
  unfold scores
  rw [whole_apply, whole_apply, whole_apply]
  exact congrArg₂ (· + ·) (congrArg₂ (· + ·) (prod_apply w _ e r) (prod_apply w' _ e r)) (prod_apply v _ e r)

/-- The softmax over the experts. -/
def softened (s : FVec Ideal S16x512 .f32) : FVec Ideal S1x16x512 .f32 :=
  shapeCast S1x16x512 (divf
    (exp (subf s (broadcastTo S16x512 (shapeCast S1x512 (multiReduction .maximumf [0] S512 s 0xFF800000#32 reduces_S16x512_S512 (.inl rfl) rfl) shapeCasts_S512_S1x512) broadcasts_S1x512_S16x512)))
    (broadcastTo S16x512 (shapeCast S1x512 (multiReduction .add [0] S512
      (exp (subf s (broadcastTo S16x512 (shapeCast S1x512 (multiReduction .maximumf [0] S512 s 0xFF800000#32 reduces_S16x512_S512 (.inl rfl) rfl) shapeCasts_S512_S1x512) broadcasts_S1x512_S16x512)))
      0x00000000#32 reduces_S16x512_S512 (.inl rfl) rfl) shapeCasts_S512_S1x512) broadcasts_S1x512_S16x512)) shapeCasts_S16x512_S1x16x512

theorem neg_inf : Ideal.ofBits FTy.f32 4286578688#32 = ⊥ := by simp [Ideal.ofBits, Ideal.ieee]

theorem softened_apply (s : FVec Ideal S16x512 .f32) (a : Fin 1) (e : Fin 16) (r : Fin 512) : softened s (ix3 a e r) = soft (fun e => s (ix2 e r)) e := by
  unfold soft
  pointwise [softened]
  rw [neg_inf]

theorem second_router (h : FVec Ideal S512x1024 .f32) (w w' v : Vec Ideal S16x1024 .bf16) : k0_pay2 h w w' v = softened (scores h w w' v) := rfl

theorem first_router (y : FVec Ideal S512x1024 .f32) (g : Vec Ideal S1x1024 .f32) (s t : Vec Ideal S1x1x1024 .f32) (w w' v : Vec Ideal S16x1024 .bf16) :
    k0_pay9 (k0_pay7 y g s t) (k0_pay8 y g s t w w') v = softened (scores (k0_pay5 y g s t) w w' v) := rfl

end Cert.Kernel5Ideal.OutProject

end
-- ==== Proof.OutArray.lean ====
/-
  The arrays the output projection's kernel leaves: every grid point's blocks are 1024 rows of one batch, written in two halves.
-/
module

public import proofs.«01_k».proof.Proof.OutValue
public import Idealize.ShloMosaic.Lib.Claim
public import Idealize.ShloMosaic.Lib.Pipeline.ValueKit.Tiles

@[expose] public section

set_option maxRecDepth 16384

noncomputable section

namespace Cert.Kernel5Ideal.OutProject

open Cert.Kernel5Ideal Cert.Kernel5Ideal.Gen Cert.Kernel5Ideal.Value Cert.OutProject
open Cert.Project (normed lin)
open Idealize.ShloMosaic Idealize.ShloMosaic.TcCoe Idealize.SL.Sem Idealize.ShloMosaic.Tactic
open Idealize.ShloMosaic.Pipeline (Dat Window)

variable (m : (ℓ : Loc nD τ sig) → Buf (Elt Ideal) ℓ) (ρ : Dev nD → PrngReg) (c : Dev nD) (t : Fin cfg0.N)

/-- The arguments. -/
abbrev args : Args where
  oa := m ((c.tc : Thread nD τ).loc main_arg0)
  ob := m ((c.tc : Thread nD τ).loc main_arg1)
  w := m ((c.tc : Thread nD τ).loc main_arg2)
  x := m ((c.tc : Thread nD τ).loc main_arg3)
  g := m ((c.tc : Thread nD τ).loc main_arg4)
  u := m ((c.tc : Thread nD τ).loc main_arg5)
  g' := m ((c.tc : Thread nD τ).loc main_arg6)
  s := m ((c.tc : Thread nD τ).loc main_arg7)
  t := m ((c.tc : Thread nD τ).loc main_arg8)
  v := m ((c.tc : Thread nD τ).loc main_arg9)

/-- The batch of a grid point, -/
abbrev batch (t : Fin cfg0.N) : Fin 8 := grid0.coords t 0

/-- and its block of 1024 rows. -/
abbrev rowBlk (t : Fin cfg0.N) : Fin 4 := grid0.coords t 1

/-- A row of the block, among the batch's rows. -/
abbrev row (t : Fin cfg0.N) (r : Fin 1024) : Fin 4096 := ⟨1024 * (rowBlk t).val + r.val, by have := (rowBlk t).isLt; omega⟩

theorem index_0 : ∀ t : Fin grid0.N, win0_0.index t (0 : Fin 3) = (grid0.coords t 0).val ∧ win0_0.index t (1 : Fin 3) = (grid0.coords t 1).val ∧ win0_0.index t (2 : Fin 3) = 0 := by
  decide +kernel

theorem index_1 : ∀ t : Fin grid0.N, win0_1.index t (0 : Fin 3) = (grid0.coords t 0).val ∧ win0_1.index t (1 : Fin 3) = (grid0.coords t 1).val ∧ win0_1.index t (2 : Fin 3) = 0 := by
  decide +kernel

theorem index_2 : ∀ t : Fin grid0.N, win0_2.index t (0 : Fin 2) = 0 ∧ win0_2.index t (1 : Fin 2) = 0 := by
  decide +kernel

theorem index_3 : ∀ t : Fin grid0.N, win0_3.index t (0 : Fin 3) = (grid0.coords t 0).val ∧ win0_3.index t (1 : Fin 3) = (grid0.coords t 1).val ∧ win0_3.index t (2 : Fin 3) = 0 := by
  decide +kernel

theorem index_4 : ∀ t : Fin grid0.N, win0_4.index t (0 : Fin 2) = 0 ∧ win0_4.index t (1 : Fin 2) = 0 := by
  decide +kernel

theorem index_5 : ∀ t : Fin grid0.N, win0_5.index t (0 : Fin 3) = (grid0.coords t 0).val ∧ win0_5.index t (1 : Fin 3) = 0 ∧ win0_5.index t (2 : Fin 3) = 0 := by
  decide +kernel

theorem index_6 : ∀ t : Fin grid0.N, win0_6.index t (0 : Fin 2) = 0 ∧ win0_6.index t (1 : Fin 2) = 0 := by
  decide +kernel

theorem index_7 : ∀ t : Fin grid0.N, win0_7.index t (0 : Fin 3) = (grid0.coords t 0).val ∧ win0_7.index t (1 : Fin 3) = 0 ∧ win0_7.index t (2 : Fin 3) = 0 := by
  decide +kernel

theorem index_8 : ∀ t : Fin grid0.N, win0_8.index t (0 : Fin 3) = (grid0.coords t 0).val ∧ win0_8.index t (1 : Fin 3) = 0 ∧ win0_8.index t (2 : Fin 3) = 0 := by
  decide +kernel

theorem index_9 : ∀ t : Fin grid0.N, win0_9.index t (0 : Fin 2) = 0 ∧ win0_9.index t (1 : Fin 2) = 0 := by
  decide +kernel

theorem index_10 : ∀ t : Fin grid0.N, win0_10.index t (0 : Fin 2) = 0 ∧ win0_10.index t (1 : Fin 2) = 0 := by
  decide +kernel

theorem index_11 : ∀ t : Fin grid0.N, win0_11.index t (0 : Fin 3) = (grid0.coords t 0).val ∧ win0_11.index t (1 : Fin 3) = (grid0.coords t 1).val ∧ win0_11.index t (2 : Fin 3) = 0 := by
  decide +kernel

theorem index_12 : ∀ t : Fin grid0.N, win0_12.index t (0 : Fin 3) = (grid0.coords t 0).val ∧ win0_12.index t (1 : Fin 3) = (grid0.coords t 1).val ∧ win0_12.index t (2 : Fin 3) = 0 := by
  decide +kernel

theorem index_13 : ∀ t : Fin grid0.N, win0_13.index t (0 : Fin 3) = (grid0.coords t 0).val ∧ win0_13.index t (1 : Fin 3) = 0 ∧ win0_13.index t (2 : Fin 3) = (grid0.coords t 1).val := by
  decide +kernel

/-- The blocks a grid point reads, at the arguments' own indices. -/
theorem blk_oa (r : Fin 1024) (k : Fin 512) : (iblk m c 0 t : Vec Ideal S1x1024x512 .bf16) (ix3 0 r k) = (args m c).oa (ix3 (batch t) (row t r) k) := by
  obtain ⟨e0, e1, e2⟩ := index_0 t
  unfold iblk
  rw [View.read_apply]
  refine (congrFun (V_main_arg0 m c) _).trans ?_
  refine congrArg (m ((c.tc : Thread nD τ).loc main_arg0) : Vec Ideal S8x4096x512 .bf16) (funext fun a => Fin.ext ?_)
  refine (Window.rect_emb_val win0_0 t _ a).trans ?_
  fin_cases a
  · exact (congrArg (· * 1 + 0) e0).trans (by show (batch t).val * 1 + 0 = (batch t).val; omega)
  · exact (congrArg (· * 1024 + r.val) e1).trans (by show (rowBlk t).val * 1024 + r.val = 1024 * (rowBlk t).val + r.val; omega)
  · exact (congrArg (· * 512 + k.val) e2).trans (by show _ = k.val; omega)

theorem blk_ob (r : Fin 1024) (k : Fin 512) : (iblk m c 1 t : Vec Ideal S1x1024x512 .bf16) (ix3 0 r k) = (args m c).ob (ix3 (batch t) (row t r) k) := by
  obtain ⟨e0, e1, e2⟩ := index_1 t
  unfold iblk
  rw [View.read_apply]
  refine (congrFun (V_main_arg1 m c) _).trans ?_
  refine congrArg (m ((c.tc : Thread nD τ).loc main_arg1) : Vec Ideal S8x4096x512 .bf16) (funext fun a => Fin.ext ?_)
  refine (Window.rect_emb_val win0_1 t _ a).trans ?_
  fin_cases a
  · exact (congrArg (· * 1 + 0) e0).trans (by show (batch t).val * 1 + 0 = (batch t).val; omega)
  · exact (congrArg (· * 1024 + r.val) e1).trans (by show (rowBlk t).val * 1024 + r.val = 1024 * (rowBlk t).val + r.val; omega)
  · exact (congrArg (· * 512 + k.val) e2).trans (by show _ = k.val; omega)

theorem blk_w (k j : Fin 1024) : (iblk m c 2 t : Vec Ideal S1024x1024 .bf16) (ix2 k j) = (args m c).w (ix2 k j) := by
  obtain ⟨e0, e1⟩ := index_2 t
  unfold iblk
  rw [View.read_apply]
  refine (congrFun (V_main_arg2 m c) _).trans ?_
  refine congrArg (m ((c.tc : Thread nD τ).loc main_arg2) : Vec Ideal S1024x1024 .bf16) (funext fun a => Fin.ext ?_)
  refine (Window.rect_emb_val win0_2 t _ a).trans ?_
  fin_cases a
  · exact (congrArg (· * 1024 + k.val) e0).trans (by show _ = k.val; omega)
  · exact (congrArg (· * 1024 + j.val) e1).trans (by show _ = j.val; omega)

theorem blk_x (r k : Fin 1024) : (iblk m c 3 t : Vec Ideal S1x1024x1024 .f32) (ix3 0 r k) = (args m c).x (ix3 (batch t) (row t r) k) := by
  obtain ⟨e0, e1, e2⟩ := index_3 t
  unfold iblk
  rw [View.read_apply]
  refine (congrFun (V_main_arg3 m c) _).trans ?_
  refine congrArg (m ((c.tc : Thread nD τ).loc main_arg3) : Vec Ideal S8x4096x1024 .f32) (funext fun a => Fin.ext ?_)
  refine (Window.rect_emb_val win0_3 t _ a).trans ?_
  fin_cases a
  · exact (congrArg (· * 1 + 0) e0).trans (by show (batch t).val * 1 + 0 = (batch t).val; omega)
  · exact (congrArg (· * 1024 + r.val) e1).trans (by show (rowBlk t).val * 1024 + r.val = 1024 * (rowBlk t).val + r.val; omega)
  · exact (congrArg (· * 1024 + k.val) e2).trans (by show _ = k.val; omega)

theorem blk_u (k : Fin 1024) : (iblk m c 5 t : Vec Ideal S1x1x1024 .f32) (ix3 0 0 k) = (args m c).u (ix3 (batch t) 0 k) := by
  obtain ⟨e0, e1, e2⟩ := index_5 t
  unfold iblk
  rw [View.read_apply]
  refine (congrFun (V_main_arg5 m c) _).trans ?_
  refine congrArg (m ((c.tc : Thread nD τ).loc main_arg5) : Vec Ideal S8x1x1024 .f32) (funext fun a => Fin.ext ?_)
  refine (Window.rect_emb_val win0_5 t _ a).trans ?_
  fin_cases a
  · exact (congrArg (· * 1 + 0) e0).trans (by show (batch t).val * 1 + 0 = (batch t).val; omega)
  · exact (congrArg (· * 1 + 0) e1)
  · exact (congrArg (· * 1024 + k.val) e2).trans (by show _ = k.val; omega)

theorem blk_s (k : Fin 1024) : (iblk m c 7 t : Vec Ideal S1x1x1024 .f32) (ix3 0 0 k) = (args m c).s (ix3 (batch t) 0 k) := by
  obtain ⟨e0, e1, e2⟩ := index_7 t
  unfold iblk
  rw [View.read_apply]
  refine (congrFun (V_main_arg7 m c) _).trans ?_
  refine congrArg (m ((c.tc : Thread nD τ).loc main_arg7) : Vec Ideal S8x1x1024 .f32) (funext fun a => Fin.ext ?_)
  refine (Window.rect_emb_val win0_7 t _ a).trans ?_
  fin_cases a
  · exact (congrArg (· * 1 + 0) e0).trans (by show (batch t).val * 1 + 0 = (batch t).val; omega)
  · exact (congrArg (· * 1 + 0) e1)
  · exact (congrArg (· * 1024 + k.val) e2).trans (by show _ = k.val; omega)

theorem blk_t (k : Fin 1024) : (iblk m c 8 t : Vec Ideal S1x1x1024 .f32) (ix3 0 0 k) = (args m c).t (ix3 (batch t) 0 k) := by
  obtain ⟨e0, e1, e2⟩ := index_8 t
  unfold iblk
  rw [View.read_apply]
  refine (congrFun (V_main_arg8 m c) _).trans ?_
  refine congrArg (m ((c.tc : Thread nD τ).loc main_arg8) : Vec Ideal S8x1x1024 .f32) (funext fun a => Fin.ext ?_)
  refine (Window.rect_emb_val win0_8 t _ a).trans ?_
  fin_cases a
  · exact (congrArg (· * 1 + 0) e0).trans (by show (batch t).val * 1 + 0 = (batch t).val; omega)
  · exact (congrArg (· * 1 + 0) e1)
  · exact (congrArg (· * 1024 + k.val) e2).trans (by show _ = k.val; omega)

/-- The first gain is laid out as one row before the call. -/
theorem row_g (k : Fin 1024) : (V m c main_v5 : Vec Ideal S1x1024 .f32) (ix2 0 k) = (args m c).g (ix1 k) := by
  show V m c main_v5 (ix2 0 k) = _
  entry_read
  refine shapeCast_apply _ shapeCasts_S1024_S1x1024 (ix2 0 k) (ix1 k) ?_
  rw [Shape.rowMajor_val_one, Shape.rowMajor_val_two]
  show k.val = 0 * 1024 + k.val
  omega

theorem blk_g (k : Fin 1024) : (iblk m c 4 t : Vec Ideal S1x1024 .f32) (ix2 0 k) = (args m c).g (ix1 k) := by
  obtain ⟨e0, e1⟩ := index_4 t
  unfold iblk
  rw [View.read_apply]
  refine Eq.trans ?_ (row_g m c k)
  refine congrArg (V m c main_v5 : Vec Ideal S1x1024 .f32) (funext fun a => Fin.ext ?_)
  refine (Window.rect_emb_val win0_4 t _ a).trans ?_
  fin_cases a
  · exact (congrArg (· * 1 + 0) e0)
  · exact (congrArg (· * 1024 + k.val) e1).trans (by show _ = k.val; omega)

/-- The second gain is laid out as one row before the call. -/
theorem row_g2 (k : Fin 1024) : (V m c main_v6 : Vec Ideal S1x1024 .f32) (ix2 0 k) = (args m c).g' (ix1 k) := by
  show V m c main_v6 (ix2 0 k) = _
  entry_read
  refine shapeCast_apply _ shapeCasts_S1024_S1x1024 (ix2 0 k) (ix1 k) ?_
  rw [Shape.rowMajor_val_one, Shape.rowMajor_val_two]
  show k.val = 0 * 1024 + k.val
  omega

theorem blk_g2 (k : Fin 1024) : (iblk m c 6 t : Vec Ideal S1x1024 .f32) (ix2 0 k) = (args m c).g' (ix1 k) := by
  obtain ⟨e0, e1⟩ := index_6 t
  unfold iblk
  rw [View.read_apply]
  refine Eq.trans ?_ (row_g2 m c k)
  refine congrArg (V m c main_v6 : Vec Ideal S1x1024 .f32) (funext fun a => Fin.ext ?_)
  refine (Window.rect_emb_val win0_6 t _ a).trans ?_
  fin_cases a
  · exact (congrArg (· * 1 + 0) e0)
  · exact (congrArg (· * 1024 + k.val) e1).trans (by show _ = k.val; omega)

theorem turned_apply (v : FVec Ideal S1024x16 .f32) (e : Fin 16) (k : Fin 1024) :
    transpose S16x1024 [1, 0] v transposes_S1024x16_S16x1024_1_0 (ix2 e k) = v (ix2 k e) := by
  pointwise

/-- The router's weight is transposed before the call, -/
theorem row_hi (e : Fin 16) (k : Fin 1024) : (V m c main_v1 : Vec Ideal S16x1024 .bf16) (ix2 e k) = (args m c).v (ix2 k e) := by
  show V m c main_v1 (ix2 e k) = _
  entry_read
  exact turned_apply _ e k

/-- and its remainder with it. -/
theorem row_lo (e : Fin 16) (k : Fin 1024) : (V m c main_v4 : Vec Ideal S16x1024 .bf16) (ix2 e k) = (args m c).v (ix2 k e) - (args m c).v (ix2 k e) := by
  show V m c main_v4 (ix2 e k) = _
  entry_read
  exact congrArg₂ (· - ·) (turned_apply _ e k) (turned_apply _ e k)

theorem blk_hi (e : Fin 16) (k : Fin 1024) : (iblk m c 9 t : Vec Ideal S16x1024 .bf16) (ix2 e k) = (args m c).v (ix2 k e) := by
  obtain ⟨e0, e1⟩ := index_9 t
  unfold iblk
  rw [View.read_apply]
  refine Eq.trans ?_ (row_hi m c e k)
  refine congrArg (V m c main_v1 : Vec Ideal S16x1024 .bf16) (funext fun a => Fin.ext ?_)
  refine (Window.rect_emb_val win0_9 t _ a).trans ?_
  fin_cases a
  · exact (congrArg (· * 16 + e.val) e0).trans (by show _ = e.val; omega)
  · exact (congrArg (· * 1024 + k.val) e1).trans (by show _ = k.val; omega)

theorem blk_lo (e : Fin 16) (k : Fin 1024) : (iblk m c 10 t : Vec Ideal S16x1024 .bf16) (ix2 e k) = (args m c).v (ix2 k e) - (args m c).v (ix2 k e) := by
  obtain ⟨e0, e1⟩ := index_10 t
  unfold iblk
  rw [View.read_apply]
  refine Eq.trans ?_ (row_lo m c e k)
  refine congrArg (V m c main_v4 : Vec Ideal S16x1024 .bf16) (funext fun a => Fin.ext ?_)
  refine (Window.rect_emb_val win0_10 t _ a).trans ?_
  fin_cases a
  · exact (congrArg (· * 16 + e.val) e0).trans (by show _ = e.val; omega)
  · exact (congrArg (· * 1024 + k.val) e1).trans (by show _ = k.val; omega)

/-- The rows and the router's weight are loaded whole, -/
theorem load_g : (View.ld (iblk m c 4 t : Vec Ideal S1x1024 .f32) r0_5 : S1x1024.Idx → EReal) = iblk m c 4 t :=
  View.ld_unit_zero (by funext a; fin_cases a <;> rfl) _ _

theorem load_g2 : (View.ld (iblk m c 6 t : Vec Ideal S1x1024 .f32) r0_5 : S1x1024.Idx → EReal) = iblk m c 6 t :=
  View.ld_unit_zero (by funext a; fin_cases a <;> rfl) _ _

theorem load_u : (View.ld (iblk m c 5 t : Vec Ideal S1x1x1024 .f32) r0_4 : S1x1x1024.Idx → EReal) = iblk m c 5 t :=
  View.ld_unit_zero (by funext a; fin_cases a <;> rfl) _ _

theorem load_s : (View.ld (iblk m c 7 t : Vec Ideal S1x1x1024 .f32) r0_4 : S1x1x1024.Idx → EReal) = iblk m c 7 t :=
  View.ld_unit_zero (by funext a; fin_cases a <;> rfl) _ _

theorem load_t : (View.ld (iblk m c 8 t : Vec Ideal S1x1x1024 .f32) r0_4 : S1x1x1024.Idx → EReal) = iblk m c 8 t :=
  View.ld_unit_zero (by funext a; fin_cases a <;> rfl) _ _

theorem load_hi : (View.ld (iblk m c 9 t : Vec Ideal S16x1024 .bf16) r0_6 : S16x1024.Idx → EReal) = iblk m c 9 t :=
  View.ld_unit_zero (by funext a; fin_cases a <;> rfl) _ _

theorem load_lo : (View.ld (iblk m c 10 t : Vec Ideal S16x1024 .bf16) r0_6 : S16x1024.Idx → EReal) = iblk m c 10 t :=
  View.ld_unit_zero (by funext a; fin_cases a <;> rfl) _ _

/-- the heads and the stream in halves of 512 rows, -/
theorem load_oa (o : ℕ) (ho : o + 512 ≤ 1024) (inb : ∀ a, (![0, o, 0] : Fin 3 → ℕ) a + S1x512x512.size a ≤ S1x1024x512.size a) (r : Fin 512) (k : Fin 512) :
    (View.ld (iblk m c 0 t : Vec Ideal S1x1024x512 .bf16) (Rect.unit (s := S1x1024x512) ![0, o, 0] S1x512x512.size inb) : S1x512x512.Idx → EReal) (ix3 0 r k)
      = (args m c).oa (ix3 (batch t) (row t ⟨o + r.val, by omega⟩) k) := by
  refine (View.ld_unit_apply_of _ _ _ inb _ (ix3 0 (⟨o + r.val, by omega⟩ : Fin 1024) k) ?_).trans (blk_oa m c t _ k)
  intro a
  match a with
  | 0 => rfl
  | 1 => rfl
  | 2 => show k.val = 0 + k.val; omega

theorem load_ob (o : ℕ) (ho : o + 512 ≤ 1024) (inb : ∀ a, (![0, o, 0] : Fin 3 → ℕ) a + S1x512x512.size a ≤ S1x1024x512.size a) (r : Fin 512) (k : Fin 512) :
    (View.ld (iblk m c 1 t : Vec Ideal S1x1024x512 .bf16) (Rect.unit (s := S1x1024x512) ![0, o, 0] S1x512x512.size inb) : S1x512x512.Idx → EReal) (ix3 0 r k)
      = (args m c).ob (ix3 (batch t) (row t ⟨o + r.val, by omega⟩) k) := by
  refine (View.ld_unit_apply_of _ _ _ inb _ (ix3 0 (⟨o + r.val, by omega⟩ : Fin 1024) k) ?_).trans (blk_ob m c t _ k)
  intro a
  match a with
  | 0 => rfl
  | 1 => rfl
  | 2 => show k.val = 0 + k.val; omega

theorem load_x (o : ℕ) (ho : o + 512 ≤ 1024) (inb : ∀ a, (![0, o, 0] : Fin 3 → ℕ) a + S1x512x1024.size a ≤ S1x1024x1024.size a) (r : Fin 512) (k : Fin 1024) :
    (View.ld (iblk m c 3 t : Vec Ideal S1x1024x1024 .f32) (Rect.unit (s := S1x1024x1024) ![0, o, 0] S1x512x1024.size inb) : S1x512x1024.Idx → EReal) (ix3 0 r k)
      = (args m c).x (ix3 (batch t) (row t ⟨o + r.val, by omega⟩) k) := by
  refine (View.ld_unit_apply_of _ _ _ inb _ (ix3 0 (⟨o + r.val, by omega⟩ : Fin 1024) k) ?_).trans (blk_x m c t _ k)
  intro a
  match a with
  | 0 => rfl
  | 1 => rfl
  | 2 => show k.val = 0 + k.val; omega

/-- and the weight in its two halves. -/
theorem load_top (k : Fin 512) (j : Fin 1024) : (View.ld (iblk m c 2 t : Vec Ideal S1024x1024 .bf16) r0_1 : S512x1024.Idx → EReal) (ix2 k j)
    = (args m c).w (ix2 (⟨k.val, by omega⟩ : Fin 1024) j) := by
  refine (View.ld_unit_apply_of _ _ _ _ _ (ix2 (⟨k.val, by omega⟩ : Fin 1024) j) ?_).trans (blk_w m c t _ j)
  intro a
  match a with
  | 0 => show k.val = 0 + k.val; omega
  | 1 => show j.val = 0 + j.val; omega

theorem load_bottom (k : Fin 512) (j : Fin 1024) : (View.ld (iblk m c 2 t : Vec Ideal S1024x1024 .bf16) r0_2 : S512x1024.Idx → EReal) (ix2 k j)
    = (args m c).w (ix2 (⟨512 + k.val, by omega⟩ : Fin 1024) j) := by
  refine (View.ld_unit_apply_of _ _ _ _ _ (ix2 (⟨512 + k.val, by omega⟩ : Fin 1024) j) ?_).trans (blk_w m c t _ j)
  intro a
  match a with
  | 0 => rfl
  | 1 => show j.val = 0 + j.val; omega

/-- A half of the block's rows, from row `o` on: the residual, … -/
abbrev halfAt (o : ℕ) (i0 : ∀ a, (![0, o, 0] : Fin 3 → ℕ) a + S1x512x512.size a ≤ S1x1024x512.size a)
    (i1 : ∀ a, (![0, o, 0] : Fin 3 → ℕ) a + S1x512x1024.size a ≤ S1x1024x1024.size a) : FVec Ideal S512x1024 .f32 :=
  half (View.ld (iblk m c 0 t : Vec Ideal S1x1024x512 .bf16) (Rect.unit (s := S1x1024x512) ![0, o, 0] S1x512x512.size i0))
    (View.ld (iblk m c 1 t : Vec Ideal S1x1024x512 .bf16) (Rect.unit (s := S1x1024x512) ![0, o, 0] S1x512x512.size i0))
    (View.ld (iblk m c 2 t : Vec Ideal S1024x1024 .bf16) r0_1) (View.ld (iblk m c 2 t : Vec Ideal S1024x1024 .bf16) r0_2)
    (View.ld (iblk m c 3 t : Vec Ideal S1x1024x1024 .f32) (Rect.unit (s := S1x1024x1024) ![0, o, 0] S1x512x1024.size i1))
    (View.ld (iblk m c 5 t : Vec Ideal S1x1x1024 .f32) r0_4) (View.ld (iblk m c 4 t : Vec Ideal S1x1024 .f32) r0_5)

theorem half_row (o : ℕ) (ho : o + 512 ≤ 1024) (i0 : ∀ a, (![0, o, 0] : Fin 3 → ℕ) a + S1x512x512.size a ≤ S1x1024x512.size a)
    (i1 : ∀ a, (![0, o, 0] : Fin 3 → ℕ) a + S1x512x1024.size a ≤ S1x1024x1024.size a) (r : Fin 512) (j : Fin 1024) :
    halfAt m c t o i0 i1 (ix2 r j) = midRow (args m c) (batch t) (row t ⟨o + r.val, by omega⟩) j := by
  refine (half_apply _ _ _ _ _ _ _ r j).trans ?_
  rw [load_u, load_g]
  simp only [load_oa m c t o ho, load_ob m c t o ho, load_top, load_bottom, load_x m c t o ho, blk_u, blk_g]
  rfl

/-- … its norm, … -/
abbrev normAt (o : ℕ) (i0 : ∀ a, (![0, o, 0] : Fin 3 → ℕ) a + S1x512x512.size a ≤ S1x1024x512.size a)
    (i1 : ∀ a, (![0, o, 0] : Fin 3 → ℕ) a + S1x512x1024.size a ≤ S1x1024x1024.size a) : FVec Ideal S512x1024 .f32 :=
  k0_pay5 (halfAt m c t o i0 i1) (View.ld (iblk m c 6 t : Vec Ideal S1x1024 .f32) r0_5) (View.ld (iblk m c 7 t : Vec Ideal S1x1x1024 .f32) r0_4)
    (View.ld (iblk m c 8 t : Vec Ideal S1x1x1024 .f32) r0_4)

theorem norm_row (o : ℕ) (ho : o + 512 ≤ 1024) (i0 : ∀ a, (![0, o, 0] : Fin 3 → ℕ) a + S1x512x512.size a ≤ S1x1024x512.size a)
    (i1 : ∀ a, (![0, o, 0] : Fin 3 → ℕ) a + S1x512x1024.size a ≤ S1x1024x1024.size a) (r : Fin 512) (j : Fin 1024) :
    normAt m c t o i0 i1 (ix2 r j) = nextRow (args m c) (batch t) (row t ⟨o + r.val, by omega⟩) j := by
  refine (norm_apply _ _ _ _ r j).trans ?_
  rw [load_g2, load_s, load_t]
  simp only [half_row m c t o ho, blk_g2, blk_s, blk_t]
  rfl

/-- … and the router's softmax. -/
abbrev routeAt (o : ℕ) (i0 : ∀ a, (![0, o, 0] : Fin 3 → ℕ) a + S1x512x512.size a ≤ S1x1024x512.size a)
    (i1 : ∀ a, (![0, o, 0] : Fin 3 → ℕ) a + S1x512x1024.size a ≤ S1x1024x1024.size a) : FVec Ideal S1x16x512 .f32 :=
  softened (scores (normAt m c t o i0 i1) (View.ld (iblk m c 9 t : Vec Ideal S16x1024 .bf16) r0_6) (View.ld (iblk m c 9 t : Vec Ideal S16x1024 .bf16) r0_6)
    (View.ld (iblk m c 10 t : Vec Ideal S16x1024 .bf16) r0_6))

theorem route_row (H : (args m c).Finite) (o : ℕ) (ho : o + 512 ≤ 1024) (i0 : ∀ a, (![0, o, 0] : Fin 3 → ℕ) a + S1x512x512.size a ≤ S1x1024x512.size a)
    (i1 : ∀ a, (![0, o, 0] : Fin 3 → ℕ) a + S1x512x1024.size a ≤ S1x1024x1024.size a) (a : Fin 1) (e : Fin 16) (r : Fin 512) :
    routeAt m c t o i0 i1 (ix3 a e r) = soft (logits (args m c) (batch t) (row t ⟨o + r.val, by omega⟩)) e := by
  refine (softened_apply _ a e r).trans (congrFun (congrArg soft (funext fun e => ?_)) e)
  refine (scores_apply _ _ _ _ e r).trans ?_
  rw [load_hi, load_lo]
  simp only [norm_row m c t o ho, blk_hi, blk_lo]
  exact split_lin _ (nextRow_num H _ _) (fun k e => (args m c).v (ix2 k e)) (fun k e => H.v _) e

theorem etaRows (y : S1x512x1024.Idx) : y = ix3 (y 0 : Fin 1) (y 1 : Fin 512) (y 2 : Fin 1024) := by
  funext a
  match a with
  | 0 => rfl
  | 1 => rfl
  | 2 => rfl

theorem etaExperts (y : S1x16x512.Idx) : y = ix3 (y 0 : Fin 1) (y 1 : Fin 16) (y 2 : Fin 512) := by
  funext a
  match a with
  | 0 => rfl
  | 1 => rfl
  | 2 => rfl

theorem point_of : ∀ (b : Fin 8) (i : Fin 4), ∃ t : Fin grid0.N, (grid0.coords t 0).val = b.val ∧ (grid0.coords t 1).val = i.val := by
  decide +kernel

/-- Result 0: a grid point's block, … -/
theorem out11_apply (y : S1x1024x1024.Idx) : out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = mid (args m c) (ix3 (batch t) (row t (y 1)) (y 2)) := by
  canon_tiles x h
  all_goals
    refine (congrArg _ (etaRows x)).trans ?_
    have e2 : x 2 = y 2 := Fin.ext h2.symm
  · refine (lead_apply (halfAt m c t 512 _ _) (x 0) (x 1) (x 2)).trans ?_
    refine (half_row m c t 512 (by decide) _ _ (x 1) (x 2)).trans ?_
    have e1 : (⟨512 + (x 1).val, by have : (x 1).val < 512 := (x 1).isLt; omega⟩ : Fin 1024) = y 1 := Fin.ext h1.symm
    exact congrArg₂ (fun r k => midRow (args m c) (batch t) (row t r) k) e1 e2
  · refine (lead_apply (halfAt m c t 0 _ _) (x 0) (x 1) (x 2)).trans ?_
    refine (half_row m c t 0 (by decide) _ _ (x 1) (x 2)).trans ?_
    have e1 : (⟨0 + (x 1).val, by have : (x 1).val < 512 := (x 1).isLt; omega⟩ : Fin 1024) = y 1 := Fin.ext ((Nat.zero_add _).trans h1.symm)
    exact congrArg₂ (fun r k => midRow (args m c) (batch t) (row t r) k) e1 e2

theorem emb_11 (y : ((cfg0.win 11).xblock (grid0.coords t)).Idx) (a : Fin 3) :
    ((((cfg0.win 11).blk t).view.emb y : S8x4096x1024.Idx) a).val = win0_11.index t a * S1x1024x1024.size a + (y a).val :=
  Window.rect_emb_val win0_11 t y a

/-- … and the array after the run. -/
theorem arr_11 : (dats m 0 c).arrAt 11 cfg0.N = mid (args m c) := by
  refine (dats m 0 c).arrAt_eq_of_cover 11 (mid (args m c)) ?_ ?_
  · intro t _
    rw [flushed11]
    funext y
    obtain ⟨e0, e1, e2⟩ := index_11 t
    rw [View.read_apply]
    refine (out11_apply m c t y).trans (congrArg (mid (args m c)) ?_)
    have h0 : (y 0).val = 0 := Nat.lt_one_iff.mp (y 0).isLt
    funext a
    refine Fin.ext ((?_ : _ = _).trans (emb_11 t y a).symm)
    match a with
    | 0 => exact ((congrArg (· * 1 + (y 0).val) e0).trans (by rw [h0]; show (batch t).val * 1 + 0 = (batch t).val; omega)).symm
    | 1 => exact ((congrArg (· * 1024 + (y 1).val) e1).trans (by show (rowBlk t).val * 1024 + (y 1).val = 1024 * (rowBlk t).val + (y 1).val; omega)).symm
    | 2 => exact ((congrArg (· * 1024 + (y 2).val) e2).trans (by show 0 * 1024 + (y 2).val = (y 2).val; omega)).symm
  · intro i
    have hi0 : (i 0).val < 8 := (i 0).isLt
    have hi1 : (i 1).val < 4096 := (i 1).isLt
    obtain ⟨t, ht0, ht1⟩ := point_of ⟨(i 0).val, hi0⟩ ⟨(i 1).val / 1024, by omega⟩
    obtain ⟨e0, e1, e2⟩ := index_11 t
    refine ⟨t, flush0_11 t, ?_⟩
    let y : S1x1024x1024.Idx := ix3 (0 : Fin 1) (⟨(i 1).val % 1024, by omega⟩ : Fin 1024) (i 2 : Fin 1024)
    have e : (((cfg0.win 11).blk t).view.emb y : S8x4096x1024.Idx) = i := by
      funext a
      refine Fin.ext ((emb_11 t y a).trans ?_)
      match a with
      | 0 => exact (congrArg (· * 1 + 0) (e0.trans ht0)).trans (by show (i 0).val * 1 + 0 = (i 0).val; omega)
      | 1 => exact (congrArg (· * 1024 + (i 1).val % 1024) (e1.trans ht1)).trans (by show (i 1).val / 1024 * 1024 + (i 1).val % 1024 = (i 1).val; omega)
      | 2 => exact (congrArg (· * 1024 + (i 2).val) e2).trans (by show 0 * 1024 + (i 2).val = (i 2).val; omega)
    exact e ▸ ((cfg0.win 11).blk t).view.emb_mem_set y

/-- Result 1: a grid point's block, … -/
theorem out12_apply (y : S1x1024x1024.Idx) : out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = next (args m c) (ix3 (batch t) (row t (y 1)) (y 2)) := by
  canon_tiles x h
  all_goals
    refine (congrArg _ (etaRows x)).trans ?_
    have e2 : x 2 = y 2 := Fin.ext h2.symm
  · refine (lead_apply (normAt m c t 512 _ _) (x 0) (x 1) (x 2)).trans ?_
    refine (norm_row m c t 512 (by decide) _ _ (x 1) (x 2)).trans ?_
    have e1 : (⟨512 + (x 1).val, by have : (x 1).val < 512 := (x 1).isLt; omega⟩ : Fin 1024) = y 1 := Fin.ext h1.symm
    exact congrArg₂ (fun r k => nextRow (args m c) (batch t) (row t r) k) e1 e2
  · refine (lead_apply (normAt m c t 0 _ _) (x 0) (x 1) (x 2)).trans ?_
    refine (norm_row m c t 0 (by decide) _ _ (x 1) (x 2)).trans ?_
    have e1 : (⟨0 + (x 1).val, by have : (x 1).val < 512 := (x 1).isLt; omega⟩ : Fin 1024) = y 1 := Fin.ext ((Nat.zero_add _).trans h1.symm)
    exact congrArg₂ (fun r k => nextRow (args m c) (batch t) (row t r) k) e1 e2

theorem emb_12 (y : ((cfg0.win 12).xblock (grid0.coords t)).Idx) (a : Fin 3) :
    ((((cfg0.win 12).blk t).view.emb y : S8x4096x1024.Idx) a).val = win0_12.index t a * S1x1024x1024.size a + (y a).val :=
  Window.rect_emb_val win0_12 t y a

/-- … and the array after the run. -/
theorem arr_12 : (dats m 0 c).arrAt 12 cfg0.N = next (args m c) := by
  refine (dats m 0 c).arrAt_eq_of_cover 12 (next (args m c)) ?_ ?_
  · intro t _
    rw [flushed12]
    funext y
    obtain ⟨e0, e1, e2⟩ := index_12 t
    rw [View.read_apply]
    refine (out12_apply m c t y).trans (congrArg (next (args m c)) ?_)
    have h0 : (y 0).val = 0 := Nat.lt_one_iff.mp (y 0).isLt
    funext a
    refine Fin.ext ((?_ : _ = _).trans (emb_12 t y a).symm)
    match a with
    | 0 => exact ((congrArg (· * 1 + (y 0).val) e0).trans (by rw [h0]; show (batch t).val * 1 + 0 = (batch t).val; omega)).symm
    | 1 => exact ((congrArg (· * 1024 + (y 1).val) e1).trans (by show (rowBlk t).val * 1024 + (y 1).val = 1024 * (rowBlk t).val + (y 1).val; omega)).symm
    | 2 => exact ((congrArg (· * 1024 + (y 2).val) e2).trans (by show 0 * 1024 + (y 2).val = (y 2).val; omega)).symm
  · intro i
    have hi0 : (i 0).val < 8 := (i 0).isLt
    have hi1 : (i 1).val < 4096 := (i 1).isLt
    obtain ⟨t, ht0, ht1⟩ := point_of ⟨(i 0).val, hi0⟩ ⟨(i 1).val / 1024, by omega⟩
    obtain ⟨e0, e1, e2⟩ := index_12 t
    refine ⟨t, flush0_12 t, ?_⟩
    let y : S1x1024x1024.Idx := ix3 (0 : Fin 1) (⟨(i 1).val % 1024, by omega⟩ : Fin 1024) (i 2 : Fin 1024)
    have e : (((cfg0.win 12).blk t).view.emb y : S8x4096x1024.Idx) = i := by
      funext a
      refine Fin.ext ((emb_12 t y a).trans ?_)
      match a with
      | 0 => exact (congrArg (· * 1 + 0) (e0.trans ht0)).trans (by show (i 0).val * 1 + 0 = (i 0).val; omega)
      | 1 => exact (congrArg (· * 1024 + (i 1).val % 1024) (e1.trans ht1)).trans (by show (i 1).val / 1024 * 1024 + (i 1).val % 1024 = (i 1).val; omega)
      | 2 => exact (congrArg (· * 1024 + (i 2).val) e2).trans (by show 0 * 1024 + (i 2).val = (i 2).val; omega)
    exact e ▸ ((cfg0.win 12).blk t).view.emb_mem_set y

/-- Result 2: a grid point's block, … -/
theorem out13_apply (H : (args m c).Finite) (y : S1x16x1024.Idx) : out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y
    = affinity (args m c) (ix3 (batch t) (y 1) (row t (y 2))) := by
  canon_tiles x h
  all_goals
    refine (congrArg _ (etaExperts x)).trans ?_
    have e1 : x 1 = y 1 := Fin.ext h1.symm
  · refine (route_row m c t H 512 (by decide) _ _ (x 0) (x 1) (x 2)).trans ?_
    have e2 : (⟨512 + (x 2).val, by have : (x 2).val < 512 := (x 2).isLt; omega⟩ : Fin 1024) = y 2 := Fin.ext h2.symm
    exact congrArg₂ (fun r k => soft (logits (args m c) (batch t) (row t r)) k) e2 e1
  · refine (route_row m c t H 0 (by decide) _ _ (x 0) (x 1) (x 2)).trans ?_
    have e2 : (⟨0 + (x 2).val, by have : (x 2).val < 512 := (x 2).isLt; omega⟩ : Fin 1024) = y 2 := Fin.ext ((Nat.zero_add _).trans h2.symm)
    exact congrArg₂ (fun r k => soft (logits (args m c) (batch t) (row t r)) k) e2 e1

theorem emb_13 (y : ((cfg0.win 13).xblock (grid0.coords t)).Idx) (a : Fin 3) :
    ((((cfg0.win 13).blk t).view.emb y : S8x16x4096.Idx) a).val = win0_13.index t a * S1x16x1024.size a + (y a).val :=
  Window.rect_emb_val win0_13 t y a

/-- … and the array after the run. -/
theorem arr_13 (H : (args m c).Finite) : (dats m 0 c).arrAt 13 cfg0.N = affinity (args m c) := by
  refine (dats m 0 c).arrAt_eq_of_cover 13 (affinity (args m c)) ?_ ?_
  · intro t _
    rw [flushed13]
    funext y
    obtain ⟨e0, e1, e2⟩ := index_13 t
    rw [View.read_apply]
    refine (out13_apply m c t H y).trans (congrArg (affinity (args m c)) ?_)
    have h0 : (y 0).val = 0 := Nat.lt_one_iff.mp (y 0).isLt
    funext a
    refine Fin.ext ((?_ : _ = _).trans (emb_13 t y a).symm)
    match a with
    | 0 => exact ((congrArg (· * 1 + (y 0).val) e0).trans (by rw [h0]; show (batch t).val * 1 + 0 = (batch t).val; omega)).symm
    | 1 => exact ((congrArg (· * 16 + (y 1).val) e1).trans (by show 0 * 16 + (y 1).val = (y 1).val; omega)).symm
    | 2 => exact ((congrArg (· * 1024 + (y 2).val) e2).trans (by show (rowBlk t).val * 1024 + (y 2).val = 1024 * (rowBlk t).val + (y 2).val; omega)).symm
  · intro i
    have hi0 : (i 0).val < 8 := (i 0).isLt
    have hi2 : (i 2).val < 4096 := (i 2).isLt
    obtain ⟨t, ht0, ht1⟩ := point_of ⟨(i 0).val, hi0⟩ ⟨(i 2).val / 1024, by omega⟩
    obtain ⟨e0, e1, e2⟩ := index_13 t
    refine ⟨t, flush0_13 t, ?_⟩
    let y : S1x16x1024.Idx := ix3 (0 : Fin 1) (i 1 : Fin 16) (⟨(i 2).val % 1024, by omega⟩ : Fin 1024)
    have e : (((cfg0.win 13).blk t).view.emb y : S8x16x4096.Idx) = i := by
      funext a
      refine Fin.ext ((emb_13 t y a).trans ?_)
      match a with
      | 0 => exact (congrArg (· * 1 + 0) (e0.trans ht0)).trans (by show (i 0).val * 1 + 0 = (i 0).val; omega)
      | 1 => exact (congrArg (· * 16 + (i 1).val) e1).trans (by show 0 * 16 + (i 1).val = (i 1).val; omega)
      | 2 => exact (congrArg (· * 1024 + (i 2).val % 1024) (e2.trans ht1)).trans (by show (i 2).val / 1024 * 1024 + (i 2).val % 1024 = (i 2).val; omega)
    exact e ▸ ((cfg0.win 13).blk t).view.emb_mem_set y

/-- The run: the three results are the layer's, the arguments end unchanged. -/
theorem run_out (H : ∀ c : Dev nD, (args m c).Finite) : θ_run defs (onTc (τ := τ) (main (F := Ideal))) ⟨m, fun _ => 0, ρ⟩ fun r => ∀ c : Dev nD,
      r.2.mem ((c : Thread nD τ).loc main_v7_0) = mid (args m c)
      ∧ r.2.mem ((c : Thread nD τ).loc main_v7_1) = next (args m c)
      ∧ r.2.mem ((c : Thread nD τ).loc main_v7_2) = affinity (args m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => by
    obtain ⟨h0, h1, h2, hk⟩ := h c
    exact ⟨h0.trans (arr_11 m c), h1.trans (arr_12 m c), h2.trans (arr_13 m c (H c)), hk⟩)
    (run_blocks m ρ)

end Cert.Kernel5Ideal.OutProject

end
-- ==== Proof.OutRef.lean ====
/-
  The reference of the output projection, read element by element: the product over the joined heads as a sum over the two halves, the
  gated residual, the modulated norm, and the softmax over the experts.
-/
module

public import proofs.«01_k».proof.Proof.Gen.Reference5Ideal.Read
public import proofs.«01_k».proof.Proof.OutProject
public import Idealize.ShloMosaic.Lib.Pipeline.Value

@[expose] public section

set_option maxRecDepth 2000

noncomputable section

namespace Cert.Reference5Ideal.OutProject

open Cert.Reference5Ideal Cert.Reference5Ideal.Gen Cert.Reference5Ideal.Read Cert.OutProject
open Cert.Project (normed lin)
open Idealize.ShloMosaic Idealize.ShloMosaic.TcCoe

variable (A : Args)

/-- Two arrays side by side: the first, … -/
theorem join_left (u v : FVec Ideal S8x4096x512 .bf16) (b : Fin 8) (n : Fin 4096) (k : Fin 512) :
    val_main_v0 (F := Ideal) u v (ix3 b n (⟨k.val, by omega⟩ : Fin 1024)) = u (ix3 b n k) := by
  unfold val_main_v0
  refine concatenate_pair_apply_left (s₁ := S8x4096x512) (s₂ := S8x4096x512) (2 : Fin 3) u v _ (ix3 b n (⟨k.val, by omega⟩ : Fin 1024)) rfl (ix3 b n k) ?_
  intro a
  match a with
  | 0 => rfl
  | 1 => rfl
  | 2 => rfl

/-- … and the second. -/
theorem join_right (u v : FVec Ideal S8x4096x512 .bf16) (b : Fin 8) (n : Fin 4096) (k : Fin 512) :
    val_main_v0 (F := Ideal) u v (ix3 b n (⟨512 + k.val, by omega⟩ : Fin 1024)) = v (ix3 b n k) := by
  unfold val_main_v0
  refine concatenate_pair_apply_right (s₁ := S8x4096x512) (s₂ := S8x4096x512) (2 : Fin 3) u v _ (ix3 b n (⟨512 + k.val, by omega⟩ : Fin 1024)) rfl rfl (ix3 b n k) ?_ ?_
  · intro a ha
    match a with
    | 0 => rfl
    | 1 => rfl
    | 2 => exact absurd rfl ha
  · show k.val + 512 = 512 + k.val
    omega

/-- One element of the product. -/
theorem mix_eq (b : Fin 8) (n : Fin 4096) (j : Fin 1024) : val_main_v3 (F := Ideal) A.oa A.ob A.w (ix3 b n j) = mixRow A b n j := by
  have el : ∀ k : Fin 1024, lidx_main_v3 (ix3 b n j) k = ix3 b n k := fun k => by
    funext a
    match a with
    | 0 => rfl
    | 1 => rfl
    | 2 => rfl
  have er : ∀ k : Fin 1024, ridx_main_v3 (ix3 b n j) k = ix2 k j := fun k => by
    funext a
    match a with
    | 0 => rfl
    | 1 => rfl
  rw [val_main_v3_apply]
  refine (Fin.sum_univ_add (a := 512) (b := 512) _).trans ?_
  unfold mixRow mixed
  refine congrArg₂ (· + ·) (Finset.sum_congr rfl fun k _ => ?_) (Finset.sum_congr rfl fun k _ => ?_)
  · rw [el, er, val_main_v1_apply, val_main_v2_apply]
    exact congrArg (· * _) (join_left A.oa A.ob b n k)
  · rw [el, er, val_main_v1_apply, val_main_v2_apply]
    exact congrArg (· * _) (join_right A.oa A.ob b n k)

/-- The mean square of the projected row, with 1e-6, under the root. -/
theorem mix_root_eq (b : Fin 8) (n : Fin 4096) (k : Fin 1024) : val_main_v12 (F := Ideal) A.oa A.ob A.w (ix3 b n k)
    = Ideal.rsqrt (Ideal.div (∑ l : Fin 1024, mixRow A b n l * mixRow A b n l) (Ideal.ofBits .f32 0x44800000#32) + Ideal.ofBits .f32 0x358637BD#32) := by
  have e : ∀ l : Fin 1024, idx_main_v5 (idx_main_v6 (idx_main_v12 (ix3 b n k))) l = ix3 b n l := fun l => by
    funext a
    match a with
    | 0 => rfl
    | 1 => rfl
    | 2 => rfl
  rw [val_main_v12_apply, val_main_v11_apply, val_main_v10_apply, val_main_v9_apply, val_main_v8_apply, val_main_v7_apply, val_main_v6_apply,
    val_main_v5_apply, val_main_cst_apply, val_main_cst_0_apply, val_main_cst_1_apply]
  simp only [val_main_v4_apply, e, mix_eq]
  refine congrArg (fun s => Ideal.rsqrt (Ideal.div s (Ideal.ofBits .f32 0x44800000#32) + Ideal.ofBits .f32 0x358637BD#32)) ?_
  show Ideal.ofBits .f32 0x00000000#32 + _ = _
  rw [Ideal.ofBits_zero_f32, zero_add]
  rfl

/-- The gated residual. -/
theorem mid_eq (b : Fin 8) (n : Fin 4096) (k : Fin 1024) : val_main_v19 (F := Ideal) A.oa A.ob A.w A.x A.g A.u (ix3 b n k) = midRow A b n k := by
  have e1 : idx_main_v14 (idx_main_v15 (ix3 b n k)) = ix1 k := by
    funext a
    match a with
    | 0 => rfl
  have e2 : idx_main_v17 (ix3 b n k) = ix3 b (0 : Fin 1) k := by
    funext a
    match a with
    | 0 => rfl
    | 1 => rfl
    | 2 => rfl
  rw [val_main_v19_apply, val_main_v18_apply, val_main_v17_apply, val_main_v16_apply, val_main_v15_apply, val_main_v14_apply, val_main_v13_apply,
    mix_root_eq, mix_eq, e1, e2]
  rfl

/-- The mean square of the row after the residual, with 1e-6, under the root. -/
theorem mid_root_eq (b : Fin 8) (n : Fin 4096) (k : Fin 1024) : val_main_v28 (F := Ideal) A.oa A.ob A.w A.x A.g A.u (ix3 b n k)
    = Ideal.rsqrt (Ideal.div (∑ l : Fin 1024, midRow A b n l * midRow A b n l) (Ideal.ofBits .f32 0x44800000#32) + Ideal.ofBits .f32 0x358637BD#32) := by
  have e : ∀ l : Fin 1024, idx_main_v21 (idx_main_v22 (idx_main_v28 (ix3 b n k))) l = ix3 b n l := fun l => by
    funext a
    match a with
    | 0 => rfl
    | 1 => rfl
    | 2 => rfl
  rw [val_main_v28_apply, val_main_v27_apply, val_main_v26_apply, val_main_v25_apply, val_main_v24_apply, val_main_v23_apply, val_main_v22_apply,
    val_main_v21_apply, val_main_cst_2_apply, val_main_cst_3_apply, val_main_cst_4_apply]
  simp only [val_main_v20_apply, e, mid_eq]
  refine congrArg (fun s => Ideal.rsqrt (Ideal.div s (Ideal.ofBits .f32 0x44800000#32) + Ideal.ofBits .f32 0x358637BD#32)) ?_
  show Ideal.ofBits .f32 0x00000000#32 + _ = _
  rw [Ideal.ofBits_zero_f32, zero_add]
  rfl

/-- The modulated norm. -/
theorem next_eq (b : Fin 8) (n : Fin 4096) (k : Fin 1024) :
    val_main_v36 (F := Ideal) A.oa A.ob A.w A.x A.g A.u A.g' A.s A.t (ix3 b n k) = nextRow A b n k := by
  have e1 : idx_main_v30 (idx_main_v31 (ix3 b n k)) = ix1 k := by
    funext a
    match a with
    | 0 => rfl
  have e2 : idx_main_v33 (ix3 b n k) = ix3 b (0 : Fin 1) k := by
    funext a
    match a with
    | 0 => rfl
    | 1 => rfl
    | 2 => rfl
  have e3 : idx_main_v35 (ix3 b n k) = ix3 b (0 : Fin 1) k := by
    funext a
    match a with
    | 0 => rfl
    | 1 => rfl
    | 2 => rfl
  rw [val_main_v36_apply, val_main_v35_apply, val_main_v34_apply, val_main_v33_apply, val_main_v32_apply, val_main_v31_apply, val_main_v30_apply,
    val_main_v29_apply, mid_root_eq, mid_eq, e1, e2, e3]
  rfl

/-- The logits. -/
theorem logits_eq (b : Fin 8) (n : Fin 4096) (e : Fin 16) :
    val_main_v37 (F := Ideal) A.oa A.ob A.w A.x A.g A.u A.g' A.s A.t A.v (ix3 b n e) = logits A b n e := by
  rw [val_main_v37_apply]
  unfold logits lin
  refine Finset.sum_congr rfl fun k _ => ?_
  have el : lidx_main_v37 (ix3 b n e) k = ix3 b n k := by
    funext a
    match a with
    | 0 => rfl
    | 1 => rfl
    | 2 => rfl
  have er : ridx_main_v37 (ix3 b n e) k = ix2 k e := by
    funext a
    match a with
    | 0 => rfl
    | 1 => rfl
  rw [el, er, next_eq]

theorem neg_inf : Ideal.ofBits FTy.f32 4286578688#32 = ⊥ := by simp [Ideal.ofBits, Ideal.ieee]

theorem fold_at (y : S8x4096x16.Idx → Ideal .f32) (init : S_.Idx → Ideal .f32) (b : Fin 8) (n : Fin 4096) :
    Host.reduce FloatOps.maximumf y init reducesTo_S8x4096x16_S8x4096_d2 h_S_ (ix2 b n)
      = Finset.univ.fold max (init (Shape.Idx.first h_S_)) fun e : Fin 16 => y (ix3 b n e) := by
  refine (Host.reduce_eq_fold_single FloatOps.maximumf y init reducesTo_S8x4096x16_S8x4096_d2 (by decide) h_S_ (ix2 b n)).trans ?_
  refine congrArg (fun f => Finset.fold max (init (Shape.Idx.first h_S_)) f (Finset.univ : Finset (Fin 16))) (funext fun e => congrArg y (funext fun a => Fin.ext ?_))
  match a with
  | ⟨0, _⟩ => rfl
  | ⟨1, _⟩ => rfl
  | ⟨2, _⟩ => rfl

/-- The number subtracted from a row's logits is the greatest of them. -/
theorem greatest_eq (b : Fin 8) (n : Fin 4096) : val_main_v40 (F := Ideal) A.oa A.ob A.w A.x A.g A.u A.g' A.s A.t A.v (ix2 b n)
    = Finset.univ.fold max ⊥ (logits A b n) := by
  have e : val_main_v38 (F := Ideal) A.oa A.ob A.w A.x A.g A.u A.g' A.s A.t A.v (ix2 b n) = Finset.univ.fold max ⊥ (logits A b n) := by
    unfold val_main_v38
    refine (fold_at _ _ b n).trans ?_
    simp only [logits_eq]
    rw [val_main_cst_5_apply]
    exact congrArg (fun i => Finset.fold max i _ _) neg_inf
  rw [val_main_v40_apply, val_main_v39_apply, val_main_cst_6_apply, e]
  show max (Ideal.ofBits FTy.f32 4286578688#32) _ = _
  rw [neg_inf]
  exact max_eq_right bot_le

/-- One weight before the division. -/
theorem weight_eq (b : Fin 8) (n : Fin 4096) (e : Fin 16) : val_main_v44 (F := Ideal) A.oa A.ob A.w A.x A.g A.u A.g' A.s A.t A.v (ix3 b n e)
    = Ideal.exp (logits A b n e - Finset.univ.fold max ⊥ (logits A b n)) := by
  have e1 : idx_main_v41 (idx_main_v42 (ix3 b n e)) = ix2 b n := by
    funext a
    match a with
    | 0 => rfl
    | 1 => rfl
  rw [val_main_v44_apply, val_main_v43_apply, val_main_v42_apply, val_main_v41_apply, logits_eq, e1, greatest_eq]
  rfl

/-- The softmax, its experts first. -/
theorem affinity_eq (b : Fin 8) (e : Fin 16) (n : Fin 4096) :
    val_main_v49 (F := Ideal) A.oa A.ob A.w A.x A.g A.u A.g' A.s A.t A.v (ix3 b e n) = soft (logits A b n) e := by
  have e0 : idx_main_v49 (ix3 b e n) = ix3 b n e := by
    funext a
    match a with
    | 0 => rfl
    | 1 => rfl
    | 2 => rfl
  have e1 : ∀ k : Fin 16, idx_main_v45 (idx_main_v46 (idx_main_v47 (ix3 b n e))) k = ix3 b n k := fun k => by
    funext a
    match a with
    | 0 => rfl
    | 1 => rfl
    | 2 => rfl
  rw [val_main_v49_apply, e0, val_main_v48_apply, val_main_v47_apply, val_main_v46_apply, val_main_v45_apply, val_main_cst_7_apply]
  simp only [weight_eq, e1]
  unfold soft
  refine congrArg (Ideal.div _) ?_
  show Ideal.ofBits .f32 0x00000000#32 + _ = _
  rw [Ideal.ofBits_zero_f32, zero_add]

/-- The three results. -/
theorem result_0 : val_main_v19 (F := Ideal) A.oa A.ob A.w A.x A.g A.u = mid A :=
  funext fun i => (congrArg _ (eq_ix3 (n0 := 8) (n1 := 4096) (n2 := 1024) i)).trans (mid_eq A (i 0) (i 1) (i 2))

theorem result_1 : val_main_v36 (F := Ideal) A.oa A.ob A.w A.x A.g A.u A.g' A.s A.t = next A :=
  funext fun i => (congrArg _ (eq_ix3 (n0 := 8) (n1 := 4096) (n2 := 1024) i)).trans (next_eq A (i 0) (i 1) (i 2))

theorem result_2 : val_main_v49 (F := Ideal) A.oa A.ob A.w A.x A.g A.u A.g' A.s A.t A.v = affinity A :=
  funext fun i => (congrArg _ (eq_ix3 (n0 := 8) (n1 := 16) (n2 := 4096) i)).trans (affinity_eq A (i 0) (i 1) (i 2))

end Cert.Reference5Ideal.OutProject

end
-- ==== Proof.OutClaims.lean ====
/-
  The claims about the output projection and the router, put together.
-/
module

public import proofs.«01_k».proof.Defs
public import proofs.«01_k».proof.Proof.Gen.Kernel5.Frame
public import proofs.«01_k».proof.Proof.Gen.Reference5Ideal.Run
public import proofs.«01_k».proof.Proof.Gen.Pre_bounded
public import proofs.«01_k».proof.Proof.OutArray
public import proofs.«01_k».proof.Proof.OutRef

@[expose] public section

set_option maxRecDepth 2000

noncomputable section

namespace Cert.OutClaims

open Cert.OutProject
open Cert.Kernel5Ideal.OutProject (args)
open Idealize.ShloMosaic Idealize.ShloMosaic.TcCoe Idealize.SL.Sem

/-- The reference runs and keeps its arguments. -/
theorem frame_ri : Cert.quiescent_Reference5Ideal (hReference5Ideal := Cert.Reference5Ideal.Gen.facts) := fun m ρ _ =>
  (θ_run _ _ _).mono (fun r h => ⟨fun c => (h c).2.2.2, sem_eq_zero_of_no_sems (by decide) r.2⟩)
    (Cert.Reference5Ideal.Value.run (F := Ideal) m ρ)

theorem pos_inf : Ideal.ofBits FTy.f32 0x7F800000#32 = ⊤ := by simp [Ideal.ofBits, Ideal.ieee]

/-- A value whose magnitude compares below infinity is a real number. -/
theorem num_of_olt (x : EReal) (h : Ideal.cmp .olt (max x (-x)) (Ideal.ofBits FTy.f32 0x7F800000#32) = 1#1) : IsNum x := by
  rw [pos_inf] at h
  induction x with
  | bot => simp [Ideal.cmp] at h
  | top => simp [Ideal.cmp] at h
  | coe r => exact ⟨r, rfl⟩

/-- The precondition says that every argument is an array of real numbers. -/
theorem finite_of_pre (m : (ℓ : Loc Cert.Kernel5Ideal.nD Cert.Kernel5Ideal.τ Cert.Kernel5Ideal.sig) → Buf (Elt Ideal) ℓ)
    (h : Cert.Pre_Kernel5Ideal_bounded (hPre_bounded := Cert.Pre_bounded.Gen.facts) m) (c : Dev Cert.Kernel5Ideal.nD) : (args m c).Finite := by
  obtain ⟨h0, h1, h2, h3, h4, h5, h6, h7, h8, h9⟩ := h c
  exact ⟨fun i => num_of_olt _ (congrFun h0 i), fun i => num_of_olt _ (congrFun h1 i), fun i => num_of_olt _ (congrFun h2 i), fun i => num_of_olt _ (congrFun h3 i), fun i => num_of_olt _ (congrFun h4 i), fun i => num_of_olt _ (congrFun h5 i), fun i => num_of_olt _ (congrFun h6 i), fun i => num_of_olt _ (congrFun h7 i), fun i => num_of_olt _ (congrFun h8 i), fun i => num_of_olt _ (congrFun h9 i)⟩

/-- Kernel and reference end with the same three arrays: the stream after the residual, its modulated norm, and the affinities. -/
theorem algebraic : Cert.algebraic_Kernel5Ideal_Reference5Ideal_pre_bounded (hKernel5Ideal := Cert.Kernel5Ideal.Gen.facts)
    (hReference5Ideal := Cert.Reference5Ideal.Gen.facts) (hPre_bounded := Cert.Pre_bounded.Gen.facts) := by
  intro m ρ m' ρ' hpre hag
  refine ⟨fun c => mid (args m c), fun c => next (args m c), fun c => affinity (args m c),
    Cert.Kernel5Ideal.OutProject.run_out m ρ (finite_of_pre m hpre), ?_⟩
  refine (θ_run _ _ _).mono (fun r h c => ?_) (Cert.Reference5Ideal.Value.run (F := Ideal) m' ρ')
  obtain ⟨e0, e1, e2, e3, e4, e5, e6, e7, e8, e9⟩ := hag c
  obtain ⟨h0, h1, h2, hk⟩ := h c
  refine ⟨h0.trans ?_, h1.trans ?_, h2.trans ?_, hk⟩
  · refine (Cert.Reference5Ideal.Read.val_main_v19_eq (F := Ideal) _ _ _ _ _ _).trans ?_
    rw [e0, e1, e2, e3, e4, e5]
    exact Cert.Reference5Ideal.OutProject.result_0 (args m c)
  · rw [Cert.Reference5Ideal.Read.val_main_v36_eq, e0, e1, e2, e3, e4, e5, e6, e7, e8]
    exact Cert.Reference5Ideal.OutProject.result_1 (args m c)
  · rw [Cert.Reference5Ideal.Read.val_main_v49_eq, e0, e1, e2, e3, e4, e5, e6, e7, e8, e9]
    exact Cert.Reference5Ideal.OutProject.result_2 (args m c)

end Cert.OutClaims

end
-- ==== Proof.CtxExpertsBodyIdeal.lean ====
/-
  The printed body of the expert feed-forward kernel (idealized) is the body written with its repetition
  (Experts.lean): the two are equal as programs, by unfolding.
  Context stream: one array of 2048 rows, 256 of them to an expert.
-/
module

public import proofs.«01_k».proof.Kernel6Ideal
public import proofs.«01_k».proof.Proof.Experts
public import Idealize.ShloMosaic.Lib.Pipeline.Regions

@[expose] public section

set_option maxRecDepth 65536

noncomputable section

namespace Cert.Kernel6Ideal

open Idealize.ShloMosaic Idealize.SL.Sem Cert.Experts

variable {F : FTy → Type} [FloatOps F] [Facts]
open Facts₀ Facts

-- (the printed body has some ten thousand operations: the unfolding exceeds the default budget)
set_option maxHeartbeats 0 in
/-- The body's first part: fill slot 0 at the first point, then the expert's product. -/
theorem first_eq (i : grid0.Coords) (arg2 : Memref sig .tc .smem S1x1x256 .i32) (harg2 : arg2.IsWhole) (arg3 : Memref sig .tc .smem S1x1x256 .i32) (harg3 : arg3.IsWhole) (arg4 : Memref sig .tc .vmem S1x2048x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x256x1024 .f32) (harg8 : arg8.IsWhole) (arg9 : Memref sig .tc .vmem S2x256x1024 .f32) (harg9 : arg9.IsWhole) :
    k0_part4 (F := F) i arg2 harg2 arg3 harg3 arg4 harg4 arg5 harg5 arg6 harg6 arg7 harg7 arg8 harg8 arg9 harg9 =
      (do
        first (BitVec.ofNat 32 (i 1).val) arg2 arg4 arg9 (iota .tc STile 32 [0] iota_tile)
        product arg9 (curOff (BitVec.ofNat 32 (i 1).val)) (k0_off18_inb i) arg5 arg6 arg7 arg8
        pure ⟨iota .tc STile 32 [0] iota_tile, Scalar.andi (BitVec.ofNat 32 (i 1).val) 1#32, 1#32⟩) := by
  by_cases c : atFirst (BitVec.ofNat 32 (i 1).val) = 1#1
  · have c2 : k0_cond1 i = 1#1 := c
    unfold k0_part4 first
    rw [dif_pos c2, dif_pos c, bind_assoc]
    refine congrArg₂ (fun p q => p >>= q) ?_ ?_
    · rfl
    · rfl
  · have c2 : ¬ k0_cond1 i = 1#1 := c
    unfold k0_part4 first
    rw [dif_neg c2, dif_neg c]
    rfl

set_option maxHeartbeats 0 in
/-- The whole body. -/
theorem body_eq (i : grid0.Coords) (arg2 : Memref sig .tc .smem S1x1x256 .i32) (harg2 : arg2.IsWhole) (arg3 : Memref sig .tc .smem S1x1x256 .i32) (harg3 : arg3.IsWhole) (arg4 : Memref sig .tc .vmem S1x2048x1024 .f32) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x1024x1024 .bf16) (harg7 : arg7.IsWhole) (arg8 : Memref sig .tc .vmem S1x1x256x1024 .f32) (harg8 : arg8.IsWhole) (arg9 : Memref sig .tc .vmem S2x256x1024 .f32) (harg9 : arg9.IsWhole) :
    cc0_expert_ffn (F := F) i arg2 harg2 arg3 harg3 arg4 harg4 arg5 harg5 arg6 harg6 arg7 harg7 arg8 harg8 arg9 harg9 =
      body (BitVec.ofNat 32 (i 1).val) (k0_off18_inb i) (k0_off27_inb i) arg2 arg3 arg4 arg5 arg6 arg7 arg8 arg9 := by
  unfold cc0_expert_ffn k0_part110 body
  rw [first_eq, bind_assoc, bind_assoc]
  refine congrArg (fun q => first _ arg2 arg4 arg9 _ >>= q) (funext fun _ => ?_)
  rw [bind_assoc]
  refine congrArg (fun q => product arg9 _ _ arg5 arg6 arg7 arg8 >>= q) (funext fun _ => ?_)
  show Eq _ _
  chain_rfl

end Cert.Kernel6Ideal

end
-- ==== Proof.CtxExpertsFrameIdeal.lean ====
/-
  The expert feed-forward kernel (idealized) over its grid: what the scratch holds between the grid points, the proof
  data of the pipeline, and the run — for token words below 2048.
  Context stream: one array of 2048 rows, 256 of them to an expert.
-/
module

public import proofs.«01_k».proof.Proof.Gen.Kernel6Ideal.Frame
public import proofs.«01_k».proof.Proof.CtxExpertsBodyIdeal
public import proofs.«01_k».proof.Proof.ExpertsPoint
public import Idealize.ShloMosaic.Lib.Claim

@[expose] public section

set_option maxRecDepth 16384

noncomputable section

namespace Cert.Kernel6Ideal.Run

open Cert.Kernel6Ideal Cert.Kernel6Ideal.Gen Cert.Experts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The grid -/

/-- The stack of context rows that a grid point reads: there is one, which holds the rows of all batches, -/
abbrev batch (t : Fin cfg0.N) : Fin 1 := grid0.coords t 0

/-- and its expert. -/
abbrev expert (t : Fin cfg0.N) : Fin 16 := grid0.coords t 1

/-- The token words are in blocks of 256, one per grid point; the second window is at the next expert's. -/
theorem index_idx : ∀ t : Fin cfg0.N, win0_0.index t (0 : Fin 3) = 16 * (batch t).val + (expert t).val ∧ win0_0.index t (1 : Fin 3) = 0 ∧ win0_0.index t (2 : Fin 3) = 0 := by
  decide +kernel

theorem index_nxt : ∀ t : Fin cfg0.N, win0_1.index t (0 : Fin 3) = 16 * (batch t).val + min ((expert t).val + 1) 15 ∧ win0_1.index t (1 : Fin 3) = 0 ∧ win0_1.index t (2 : Fin 3) = 0 := by
  decide +kernel

/-- The rows are the stack's, -/
theorem index_tok : ∀ t : Fin cfg0.N, win0_2.index t (0 : Fin 3) = (batch t).val ∧ win0_2.index t (1 : Fin 3) = 0 ∧ win0_2.index t (2 : Fin 3) = 0 := by
  decide +kernel

/-- the weights the expert's, -/
theorem index_wg : ∀ t : Fin cfg0.N, win0_3.index t (0 : Fin 3) = (expert t).val ∧ win0_3.index t (1 : Fin 3) = 0 ∧ win0_3.index t (2 : Fin 3) = 0 := by
  decide +kernel

theorem index_wu : ∀ t : Fin cfg0.N, win0_4.index t (0 : Fin 3) = (expert t).val ∧ win0_4.index t (1 : Fin 3) = 0 ∧ win0_4.index t (2 : Fin 3) = 0 := by
  decide +kernel

theorem index_wd : ∀ t : Fin cfg0.N, win0_5.index t (0 : Fin 3) = (expert t).val ∧ win0_5.index t (1 : Fin 3) = 0 ∧ win0_5.index t (2 : Fin 3) = 0 := by
  decide +kernel

/-- the output both. -/
theorem index_out : ∀ t : Fin cfg0.N, win0_6.index t (0 : Fin 4) = (batch t).val ∧ win0_6.index t (1 : Fin 4) = (expert t).val ∧ win0_6.index t (2 : Fin 4) = 0 ∧ win0_6.index t (3 : Fin 4) = 0 := by
  decide +kernel

theorem lt_points {k : ℕ} (h : k < 16) : k < cfg0.N := h.trans_eq (show 16 = cfg0.N from N_0.symm)

theorem coords_table : ∀ k : Fin 15, expert ⟨k.val + 1, lt_points (by omega)⟩ ≠ 0 →
    (batch ⟨k.val + 1, lt_points (by omega)⟩).val = (batch ⟨k.val, lt_points (by omega)⟩).val
      ∧ (expert ⟨k.val + 1, lt_points (by omega)⟩).val = (expert ⟨k.val, lt_points (by omega)⟩).val + 1 := by
  decide +kernel

/-- The next grid point is the next expert of the same stack. -/
theorem coords_succ (t t' : Fin cfg0.N) (h : t'.val = t.val + 1) (h0 : expert t' ≠ 0) :
    (batch t').val = (batch t).val ∧ (expert t').val = (expert t).val + 1 := by
  have hN : cfg0.N = 16 := N_0
  obtain ⟨k, hk⟩ := t
  obtain ⟨k', hk'⟩ := t'
  dsimp only at h
  subst h
  exact coords_table ⟨k, by omega⟩ h0

/-- The grid begins at expert 0. -/
theorem expert_zero : expert ⟨0, lt_points (by omega)⟩ = 0 := by decide +kernel

/-- Its slot is this one's other slot. -/
theorem off_succ : ∀ e : Fin 15, nxtOff (BitVec.ofNat 32 e.val) = curOff (BitVec.ofNat 32 (e.val + 1)) := by decide +kernel

variable (m : (ℓ : Loc nD τ sig) → Buf (Elt F) ℓ) (ρ : Dev nD → PrngReg) (c : Dev nD) (t : Fin cfg0.N)

/-! ## The blocks, read in the arguments -/

/-- The windows' blocks at a grid point. -/
abbrev bIdx : (SIdx 256).Idx → Elt F .i32 := iblk m c 0 t
abbrev bNxt : (SIdx 256).Idx → Elt F .i32 := iblk m c 1 t
abbrev bTok : (STok 2048).Idx → Elt F .f32 := iblk m c 2 t
abbrev bWg : Vec F SW1 .bf16 := iblk m c 3 t
abbrev bWu : Vec F SW1 .bf16 := iblk m c 4 t
abbrev bWd : Vec F SW1 .bf16 := iblk m c 5 t

/-- The arguments. -/
abbrev aIdx : S16x1x256.Idx → Elt F .i32 := m ((c.tc : Thread nD τ).loc main_arg0)
abbrev aTok : Vec F S1x2048x1024 .f32 := m ((c.tc : Thread nD τ).loc main_arg1)
abbrev aWg : Vec F S16x1024x1024 .bf16 := m ((c.tc : Thread nD τ).loc main_arg2)
abbrev aWu : Vec F S16x1024x1024 .bf16 := m ((c.tc : Thread nD τ).loc main_arg3)
abbrev aWd : Vec F S16x1024x1024 .bf16 := m ((c.tc : Thread nD τ).loc main_arg4)

theorem bIdx_apply (a b : Fin 1) (r : Fin 256) :
    bIdx m c t (ix3 a b r) = aIdx m c (ix3 ⟨16 * (batch t).val + (expert t).val, by omega⟩ 0 r) := by
  obtain ⟨e0, e1, e2⟩ := index_idx t
  unfold bIdx iblk
  rw [View.read_apply]
  refine congrArg (m ((c.tc : Thread nD τ).loc main_arg0)) (funext fun x => Fin.ext ?_)
  refine (Window.rect_emb_val win0_0 t _ x).trans ?_
  fin_cases x
  · exact (congrArg (· * 1 + a.val) e0).trans (by show (_ : ℕ) = 16 * (batch t).val + (expert t).val; have := a.isLt; omega)
  · exact (congrArg (· * 1 + b.val) e1).trans (by show (_ : ℕ) = 0; have := b.isLt; omega)
  · exact (congrArg (· * 256 + r.val) e2).trans (by show (_ : ℕ) = r.val; omega)

theorem bNxt_apply (a b : Fin 1) (r : Fin 256) :
    bNxt m c t (ix3 a b r) = aIdx m c (ix3 ⟨16 * (batch t).val + min ((expert t).val + 1) 15, by omega⟩ 0 r) := by
  obtain ⟨e0, e1, e2⟩ := index_nxt t
  unfold bNxt iblk
  rw [View.read_apply]
  refine congrArg (m ((c.tc : Thread nD τ).loc main_arg0)) (funext fun x => Fin.ext ?_)
  refine (Window.rect_emb_val win0_1 t _ x).trans ?_
  fin_cases x
  · exact (congrArg (· * 1 + a.val) e0).trans (by show (_ : ℕ) = 16 * (batch t).val + min ((expert t).val + 1) 15; have := a.isLt; omega)
  · exact (congrArg (· * 1 + b.val) e1).trans (by show (_ : ℕ) = 0; have := b.isLt; omega)
  · exact (congrArg (· * 256 + r.val) e2).trans (by show (_ : ℕ) = r.val; omega)

theorem bTok_apply (n : Fin 2048) (y : Fin 1024) : bTok m c t (ix3 0 n y) = aTok m c (ix3 (batch t) n y) := by
  obtain ⟨e0, e1, e2⟩ := index_tok t
  unfold bTok iblk
  rw [View.read_apply]
  refine congrArg (m ((c.tc : Thread nD τ).loc main_arg1)) (funext fun x => Fin.ext ?_)
  refine (Window.rect_emb_val win0_2 t _ x).trans ?_
  fin_cases x
  · exact (congrArg (· * 1 + 0) e0).trans (by show (_ : ℕ) = (batch t).val; omega)
  · exact (congrArg (· * 2048 + n.val) e1).trans (by show (_ : ℕ) = n.val; omega)
  · exact (congrArg (· * 1024 + y.val) e2).trans (by show (_ : ℕ) = y.val; omega)

theorem bWg_apply (x y : Fin 1024) : bWg m c t (ix3 0 x y) = aWg m c (ix3 (expert t) x y) := by
  obtain ⟨e0, e1, e2⟩ := index_wg t
  unfold bWg iblk
  rw [View.read_apply]
  refine congrArg (m ((c.tc : Thread nD τ).loc main_arg2)) (funext fun z => Fin.ext ?_)
  refine (Window.rect_emb_val win0_3 t _ z).trans ?_
  fin_cases z
  · exact (congrArg (· * 1 + 0) e0).trans (by show (_ : ℕ) = (expert t).val; omega)
  · exact (congrArg (· * 1024 + x.val) e1).trans (by show (_ : ℕ) = x.val; omega)
  · exact (congrArg (· * 1024 + y.val) e2).trans (by show (_ : ℕ) = y.val; omega)

theorem bWu_apply (x y : Fin 1024) : bWu m c t (ix3 0 x y) = aWu m c (ix3 (expert t) x y) := by
  obtain ⟨e0, e1, e2⟩ := index_wu t
  unfold bWu iblk
  rw [View.read_apply]
  refine congrArg (m ((c.tc : Thread nD τ).loc main_arg3)) (funext fun z => Fin.ext ?_)
  refine (Window.rect_emb_val win0_4 t _ z).trans ?_
  fin_cases z
  · exact (congrArg (· * 1 + 0) e0).trans (by show (_ : ℕ) = (expert t).val; omega)
  · exact (congrArg (· * 1024 + x.val) e1).trans (by show (_ : ℕ) = x.val; omega)
  · exact (congrArg (· * 1024 + y.val) e2).trans (by show (_ : ℕ) = y.val; omega)

theorem bWd_apply (x y : Fin 1024) : bWd m c t (ix3 0 x y) = aWd m c (ix3 (expert t) x y) := by
  obtain ⟨e0, e1, e2⟩ := index_wd t
  unfold bWd iblk
  rw [View.read_apply]
  refine congrArg (m ((c.tc : Thread nD τ).loc main_arg4)) (funext fun z => Fin.ext ?_)
  refine (Window.rect_emb_val win0_5 t _ z).trans ?_
  fin_cases z
  · exact (congrArg (· * 1 + 0) e0).trans (by show (_ : ℕ) = (expert t).val; omega)
  · exact (congrArg (· * 1024 + x.val) e1).trans (by show (_ : ℕ) = x.val; omega)
  · exact (congrArg (· * 1024 + y.val) e2).trans (by show (_ : ℕ) = y.val; omega)

/-- Every token word is a row of the token array. -/
def Words (m : (ℓ : Loc nD τ sig) → Buf (Elt F) ℓ) : Prop := ∀ (c : Dev nD) (i : S16x1x256.Idx), (aIdx m c i : BitVec 32).toNat < 2048

theorem ix3_self (r : (SIdx 256).Idx) : r = ix3 (r 0 : Fin 1) (r 1 : Fin 1) (r 2 : Fin 256) := by
  funext a
  match a with
  | 0 => rfl
  | 1 => rfl
  | 2 => rfl

theorem bIdx_lt (hw : Words m) (r : (SIdx 256).Idx) : (bIdx m c t r : BitVec 32).toNat < 2048 := by
  rw [show bIdx m c t r = _ from (congrArg (bIdx m c t) (ix3_self r)).trans (bIdx_apply m c t (r 0) (r 1) (r 2))]; exact hw c _

theorem bNxt_lt (hw : Words m) (r : (SIdx 256).Idx) : (bNxt m c t r : BitVec 32).toNat < 2048 := by
  rw [show bNxt m c t r = _ from (congrArg (bNxt m c t) (ix3_self r)).trans (bNxt_apply m c t (r 0) (r 1) (r 2))]; exact hw c _

/-- The rows gathered ahead at a grid point are those the next one multiplies. -/
theorem gathered_next {t t' : Fin cfg0.N} (h : t'.val = t.val + 1) (h0 : expert t' ≠ 0) (r : Fin 256) (y : Fin 1024) :
    gathered (bNxt m c t) (bTok m c t) r y = gathered (bIdx m c t') (bTok m c t') r y := by
  obtain ⟨hb, he⟩ := coords_succ t t' h h0
  have hlt : (expert t').val < 16 := (expert t').isLt
  have e1 : bNxt m c t (ix3 0 0 r) = bIdx m c t' (ix3 0 0 r) := by
    rw [bNxt_apply, bIdx_apply]
    refine congrArg (fun k => aIdx m c (ix3 k 0 r)) (Fin.ext ?_)
    show 16 * (batch t).val + min ((expert t).val + 1) 15 = 16 * (batch t').val + (expert t').val
    omega
  unfold gathered
  rw [e1, bTok_apply, bTok_apply, show batch t = batch t' from Fin.ext hb.symm]

/-! ## The proof data -/

/-- The output block at a grid point. -/
def outsAt : Vec F (SOut 256) .f32 := outBlock (slotVal (bIdx m c t) (bTok m c t)) (bWg m c t) (bWu m c t) (bWd m c t)

/-- The scratch of two slots. -/
abbrev scr : Memref sig .tc .vmem (SScr 256) .f32 := Memref.whole cc0_scratch0

/-- The expert's slot, of the two. -/
abbrev curSlot : Memref sig .tc .vmem (SSlot 256) .f32 := slotAt scr (curOff (BitVec.ofNat 32 (expert t).val)) (k0_off18_inb (grid0.coords t))

/-- Between the grid points: the slot of the next point holds its rows, unless that point is the first. -/
def held (n : ℕ) : sProp 𝕄 :=
  iprop((∃ fs : scr.view.ty.Contents (Elt F),
      ⌜∀ h : n < cfg0.N, expert ⟨n, h⟩ ≠ 0 → Filled (curSlot ⟨n, h⟩) (bIdx m c ⟨n, h⟩) (bTok m c ⟨n, h⟩) 32 fs⌝
        ∗ (scr.view.loc (c : Thread nD τ) ↦[scr.view.set]{fullShare} fs))
    ∗ ∃ r, prngReg c r)

/-- The proof data of the pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outsAt m c t
  Φ n := held m c n.val
  q w := Pipeline.shareOf spec0 w
  owed _ := 0

theorem A_eq (c : Dev nD) (w : Fin cfg0.W) : (dats m 0 c).A w = V m c (Pipeline.arrRef spec0 w) := by
  dsimp only [dats]

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = outsAt m c t := by dsimp only [dats]

theorem before_0 (d) : (dats m 0 c).before 0 t d = iblk m c 0 t := before0_0_of m (dats m 0 c) (A_eq m c 0) (after_0 m c) t d
theorem before_1 (d) : (dats m 0 c).before 1 t d = iblk m c 1 t := before0_1_of m (dats m 0 c) (A_eq m c 1) (after_1 m c) t d
theorem before_2 (d) : (dats m 0 c).before 2 t d = iblk m c 2 t := before0_2_of m (dats m 0 c) (A_eq m c 2) (after_2 m c) t d
theorem before_3 (d) : (dats m 0 c).before 3 t d = iblk m c 3 t := before0_3_of m (dats m 0 c) (A_eq m c 3) (after_3 m c) t d
theorem before_4 (d) : (dats m 0 c).before 4 t d = iblk m c 4 t := before0_4_of m (dats m 0 c) (A_eq m c 4) (after_4 m c) t d
theorem before_5 (d) : (dats m 0 c).before 5 t d = iblk m c 5 t := before0_5_of m (dats m 0 c) (A_eq m c 5) (after_5 m c) t d

/-! ## One point -/

/-- What the body is called with at a grid point, -/
def bodyPre : sProp 𝕄 :=
  iprop(held m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost : sProp 𝕄 :=
  iprop(held m c (t.val + 1) ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- A slot's contents say the same of any words and tokens that gather the same rows; and a slot is its place. -/
theorem filled_next {t t' : Fin cfg0.N} (h : t'.val = t.val + 1) (h0 : expert t' ≠ 0) {fs : scr.view.ty.Contents (Elt F)}
    (hf : Filled (slotAt scr (nxtOff (BitVec.ofNat 32 (expert t).val)) (k0_off27_inb (grid0.coords t))) (bNxt m c t) (bTok m c t) 32 fs) :
    Filled (curSlot t') (bIdx m c t') (bTok m c t') 32 fs := by
  obtain ⟨hb, he⟩ := coords_succ t t' h h0
  have hlt : (expert t').val < 16 := (expert t').isLt
  have ho : nxtOff (BitVec.ofNat 32 (expert t).val) = curOff (BitVec.ofNat 32 (expert t').val) := by
    rw [he]
    exact off_succ ⟨(expert t).val, by omega⟩
  have key : ∀ (o : Fin 3 → ℕ) (e : o = curOff (BitVec.ofNat 32 (expert t').val)) (hi : ∀ a, o a + (SSlot1 256).size a ≤ (SScr 256).size a),
      Filled (slotAt scr o hi) (bNxt m c t) (bTok m c t) 32 fs → Filled (curSlot t') (bIdx m c t') (bTok m c t') 32 fs := by
    intro o e hi hf r y hr
    subst e
    exact (hf r y hr).trans (gathered_next m c h h0 r y)
  exact key _ ho _ hf

theorem sound_body (hw : Words m) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    after_0, after_1, after_2, after_3, after_4, after_5, after_6, body_eq]
  unfold outsAt
  unfold held
  iintro ⟨⟨⟨%fs, %hs, HS⟩, HP⟩, Ho, ⟨%d0, H0⟩, ⟨%d1, H1⟩, ⟨%d2, H2⟩, ⟨%d3, H3⟩, ⟨%d4, H4⟩, ⟨%d5, H5⟩, ⟨%d6, H6⟩⟩
  iapply (body_wp (defs₀ (F := F)) Variants.none c Set.univ (expert t) (idx := st0_0 t) (nxt := st0_1 t) (tok := st0_2 t) (wg := st0_3 t)
    (wu := st0_4 t) (wd := st0_5 t) (out := st0_6 t) (scr := scr) (bIdx m c t) (bNxt m c t) (bTok m c t) (bWg m c t) (bWu m c t) (bWd m c t)
    (bIdx_lt m c t hw) (bNxt_lt m c t hw))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS]
  · iexists fs
    isplitr
    swap
    · iexact HS
    ipureintro
    exact fun h0 => hs t.isLt h0
  iintro H0 H1 H2 H3 H4 H5 H6 ⟨%fs', %hs', HS⟩
  isplitl [HS HP]
  · isplitl [HS]
    · iexists fs'
      isplitr
      swap
      · iexact HS
      ipureintro
      exact fun h h0 => filled_next m c (t := t) (t' := ⟨t.val + 1, h⟩) rfl h0 hs'
    iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at a grid point's slots is the body. -/
theorem defs₀_row : defs₀ (F := F) .tc cfg0.body (cfg0.bodyArgs t (cfg0.slots t)) = bodyAt0 t := by
  unfold defs₀; rw [Defs.onTc_tc]

theorem body_obligation (hw : Words m) : BodyObligation (dats (F := F) m 0 c) (defs₀ (F := F)) Variants.none () Set.univ := fun t => by
  rw [bigSep_W0, bigSep_W0, defs₀_row]
  exact triple_restated (sound_body m c t hw) rfl .rfl fun _ => .rfl

/-! ## The run -/

/-- The first point gathers its own rows: nothing is asked of the scratch before it, -/
theorem held_start : (Pipeline.ΦA spec0 c : sProp 𝕄) ⊢ held m c 0 := by
  unfold Pipeline.ΦA held
  rw [scopedRest0_eq]
  iintro ⟨⟨%f, Hf⟩, HP⟩
  isplitl [Hf]
  · iexists f
    isplitr
    swap
    · rw [show scr.view.set = Finset.univ from View.set_whole _]
      iexact Hf
    ipureintro
    exact fun _ h0 => absurd expert_zero h0
  iexact HP

/-- and nothing after the last. -/
theorem held_end : held m c cfg0.N ⊢ (Pipeline.ΦA spec0 c : sProp 𝕄) := by
  unfold Pipeline.ΦA held
  rw [scopedRest0_eq]
  iintro ⟨⟨%f, -, Hf⟩, HP⟩
  isplitl [Hf]
  · iexists f
    rw [show scr.view.set = Finset.univ from View.set_whole _]
    iexact Hf
  iexact HP

set_option backward.isDefEq.respectTransparency.types false in
/-- Every execution of @main terminates, with the pipeline's arrays as the proof data gives them and every counter at zero. -/
theorem run_main (hw : Words m) : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c hw).loose) (hq := fun _ _ _ => rfl)
    (howed := fun _ _ => rfl) (V := V m) (hmain := hmain m Variants.none) (hA := A_eq m)
    (hin := held_start m) (hout := held_end m)

/-- The frame: the argument arrays end unchanged and every counter is zero. -/
theorem frame (hw : Words m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ hw)))
    ((θ_run defs _ _).mono (fun _ h => h.2) (run_main m ρ hw))

end Cert.Kernel6Ideal.Run

end
-- ==== Proof.CtxExpertsArray.lean ====
/-
  The array the expert feed-forward kernel leaves: on the context stream, every grid point's block is that expert's part.
-/
module

public import proofs.«01_k».proof.Proof.CtxExpertsFrameIdeal
public import proofs.«01_k».proof.Proof.ExpertsValue
public import Idealize.ShloMosaic.Lib.Pipeline.Value

@[expose] public section

set_option maxRecDepth 16384

noncomputable section

namespace Cert.Kernel6Ideal.Run

open Cert.Kernel6Ideal Cert.Kernel6Ideal.Gen Cert.Experts
open Idealize.ShloMosaic Idealize.ShloMosaic.TcCoe Idealize.SL.Sem
open Idealize.ShloMosaic.Pipeline (Dat Window)

variable (m : (ℓ : Loc nD τ sig) → Buf (Elt Ideal) ℓ) (ρ : Dev nD → PrngReg) (c : Dev nD) (t : Fin cfg0.N)

/-- The layer's experts on the kernel's arguments. -/
def expertsArr : Vec Ideal S1x16x256x1024 .f32 := fun i =>
  experts (aIdx m c) (aTok m c) (aWg m c) (aWu m c) (aWd m c) (i 0) (i 1) (i 2) (i 3)

/-- What a grid point leaves in its block. -/
theorem outsAt_apply (y : (SOut 256).Idx) : outsAt m c t y
    = experts (aIdx m c) (aTok m c) (aWg m c) (aWu m c) (aWd m c) (batch t) (expert t) (y 2) (y 3) := by
  refine (congrArg (outsAt m c t) (eq_ix4 y)).trans ?_
  refine (outBlock_apply (slotVal (bIdx m c t) (bTok m c t)) (bWg m c t) (bWu m c t) (bWd m c t) (y 0) (y 1) (y 2) (y 3)).trans ?_
  unfold experts
  have h1 : (fun (r : Fin 256) (k : Fin 1024) => slotVal (bIdx m c t) (bTok m c t) (ix3 0 r k))
      = fun r k => aTok m c (ix3 (batch t) (token (aIdx m c (ix3 (⟨16 * (batch t).val + (expert t).val, by omega⟩ : Fin 16) (0 : Fin 1) r))) k) := by
    funext r k
    show gathered (bIdx m c t) (bTok m c t) r k = _
    unfold gathered
    rw [bTok_apply, bIdx_apply]
  rw [h1]
  simp only [bWg_apply, bWu_apply, bWd_apply]
  rfl

/-- Where an element of a grid point's block lies in the array. -/
theorem out_emb (y : ((cfg0.win 6).xblock (grid0.coords t)).Idx) (a : Fin 4) :
    ((((cfg0.win 6).blk t).view.emb y : S1x16x256x1024.Idx) a).val
      = win0_6.index t a * (SOut 256).size a + (y a).val :=
  Window.rect_emb_val win0_6 t y a

/-- Every expert has its grid point. -/
theorem point_of : ∀ (b : Fin 1) (e : Fin 16), ∃ t : Fin grid0.N, (grid0.coords t 0).val = b.val ∧ (grid0.coords t 1).val = e.val := by
  decide +kernel

/-- THE OUTPUT ARRAY AFTER THE RUN IS THE LAYER'S EXPERTS. -/
theorem arr_experts : (dats m 0 c).arrAt 6 cfg0.N = (expertsArr m c : Vec Ideal S1x16x256x1024 .f32) := by
  refine (dats m 0 c).arrAt_eq_of_cover 6 (expertsArr m c) ?_ ?_
  · intro t _
    have hf : (dats m 0 c).flushed 6 t = (cfg0.win 6).cut (grid0.coords t) (outsAt m c t) := by
      show (cfg0.win 6).cut (grid0.coords t) ((dats m 0 c).after 6 t) = _
      rw [after_6]
    rw [hf]
    funext y
    obtain ⟨e0, e1, e2, e3⟩ := index_out t
    rw [View.read_apply]
    refine (outsAt_apply m c t y).trans ?_
    have h0 : (y 0).val = 0 := Nat.lt_one_iff.mp (y 0).isLt
    have h1 : (y 1).val = 0 := Nat.lt_one_iff.mp (y 1).isLt
    have i0 : ((((cfg0.win 6).blk t).view.emb y : S1x16x256x1024.Idx) 0) = batch t :=
      Fin.ext ((out_emb t y 0).trans ((congrArg (· * 1 + (y 0).val) e0).trans (by rw [h0]; show (batch t).val * 1 + 0 = (batch t).val; omega)))
    have i1 : ((((cfg0.win 6).blk t).view.emb y : S1x16x256x1024.Idx) 1) = expert t :=
      Fin.ext ((out_emb t y 1).trans ((congrArg (· * 1 + (y 1).val) e1).trans (by rw [h1]; show (expert t).val * 1 + 0 = (expert t).val; omega)))
    have i2 : ((((cfg0.win 6).blk t).view.emb y : S1x16x256x1024.Idx) 2) = y 2 :=
      Fin.ext ((out_emb t y 2).trans ((congrArg (· * 256 + (y 2).val) e2).trans (by omega)))
    have i3 : ((((cfg0.win 6).blk t).view.emb y : S1x16x256x1024.Idx) 3) = y 3 :=
      Fin.ext ((out_emb t y 3).trans ((congrArg (· * 1024 + (y 3).val) e3).trans (by omega)))
    show _ = experts (aIdx m c) (aTok m c) (aWg m c) (aWu m c) (aWd m c) ((((cfg0.win 6).blk t).view.emb y : S1x16x256x1024.Idx) 0)
      ((((cfg0.win 6).blk t).view.emb y : S1x16x256x1024.Idx) 1) ((((cfg0.win 6).blk t).view.emb y : S1x16x256x1024.Idx) 2)
      ((((cfg0.win 6).blk t).view.emb y : S1x16x256x1024.Idx) 3)
    rw [i0, i1, i2, i3]
    rfl
  · intro i
    have hi0 : (i 0).val < 1 := (i 0).isLt
    have hi1 : (i 1).val < 16 := (i 1).isLt
    obtain ⟨t, ht0, ht1⟩ := point_of ⟨(i 0).val, hi0⟩ ⟨(i 1).val, hi1⟩
    obtain ⟨e0, e1, e2, e3⟩ := index_out t
    refine ⟨t, flush0_6 t, ?_⟩
    let y : (SOut 256).Idx := ix4 (0 : Fin 1) (0 : Fin 1) (i 2 : Fin 256) (i 3 : Fin 1024)
    have e : (((cfg0.win 6).blk t).view.emb y : S1x16x256x1024.Idx) = i := by
      funext a
      refine Fin.ext ((out_emb t y a).trans ?_)
      match a with
      | 0 => exact (congrArg (· * 1 + 0) (e0.trans ht0)).trans (by show (i 0).val * 1 + 0 = (i 0).val; omega)
      | 1 => exact (congrArg (· * 1 + 0) (e1.trans ht1)).trans (by show (i 1).val * 1 + 0 = (i 1).val; omega)
      | 2 => exact (congrArg (· * 256 + (i 2).val) e2).trans (by show 0 * 256 + (i 2).val = (i 2).val; omega)
      | 3 => exact (congrArg (· * 1024 + (i 3).val) e3).trans (by show 0 * 1024 + (i 3).val = (i 3).val; omega)
    exact e ▸ ((cfg0.win 6).blk t).view.emb_mem_set y

/-- The run: the result is the layer's experts, the arguments end unchanged. -/
theorem run_experts (hw : Words m) : θ_run defs (onTc (τ := τ) (main (F := Ideal))) ⟨m, fun _ => 0, ρ⟩ (fun r => ∀ c : Dev nD,
      r.2.mem ((c.tc : Thread nD τ).loc main_v0) = expertsArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1.1 c).1 6).trans (arr_experts m c), h.2.1 c⟩)
    (θ_run_and (run_main m ρ hw) (frame m ρ hw))

end Cert.Kernel6Ideal.Run

end
-- ==== Proof.CtxExpertsRef.lean ====
/-
  The reference of the experts, read element by element: the gather takes the token an index word names, the rest is the
  feed-forward part with the weights on the left of the products.
  Context stream: one array of 2048 rows, 256 of them to an expert.
-/
module

public import proofs.«01_k».proof.Proof.Gen.Reference6Ideal.Read
public import proofs.«01_k».proof.Proof.ExpertsValue

@[expose] public section

set_option maxRecDepth 2000

noncomputable section

namespace Cert.Reference6Ideal.CtxExperts

open Cert.Reference6Ideal Cert.Reference6Ideal.Gen Cert.Reference6Ideal.Read Cert.Experts
open Idealize.ShloMosaic Idealize.ShloMosaic.TcCoe

variable (x0 : Vec Ideal S16x1x256 .i32) (x1 : Vec Ideal S1x2048x1024 .f32) (x2 x3 x4 : Vec Ideal S16x1024x1024 .bf16)

/-- A word that is not negative is kept by the wrap-around select. -/
theorem kept (v n : BitVec 32) (h : v.toNat < 2048) :
    Scalar.select (IntOp.cmpi .slt v 0#32) (IntOp.addi v n) v = v := by
  have : IntOp.cmpi .slt v 0#32 = 0#1 := by
    simp only [IntOp.cmpi, BitVec.slt]
    rw [decide_eq_false (by rw [BitVec.toInt_eq_toNat_of_lt (by omega)]; simp)]
    rfl
  rw [this]
  rfl

/-- The first start index is the stack (there is one), -/
theorem start_batch (b : Fin 1) (e : Fin 16) (r : Fin 256) : val_main_v16 (F := Ideal) x0 (ix4 b e r (0 : Fin 2)) = BitVec.ofNat 32 b.val := by
  unfold val_main_v16
  refine (concatenate_pair_apply_left (s₁ := S1x16x256x1) (s₂ := S1x16x256x1) (3 : Fin 4) _ _ _ (ix4 b e r (0 : Fin 2)) rfl (ix4 b e r (0 : Fin 1)) ?_).trans ?_
  · intro a
    match a with
    | 0 => rfl
    | 1 => rfl
    | 2 => rfl
    | 3 => rfl
  · rw [val_main_v14_apply, val_main_v13_apply, val_main_v7_apply, val_main_v4_apply, val_main_v6_apply, val_main_v2_apply, val_main_v1_apply,
      val_main_v3_apply, val_main_v5_apply, val_main_c_apply]
    obtain rfl : b = 0 := Subsingleton.elim _ _
    exact kept (BitVec.ofNat 32 0) 1#32 (by decide)

/-- and the second the index word. -/
theorem start_word (b : Fin 1) (e : Fin 16) (r : Fin 256) (hw : ∀ i, (x0 i : BitVec 32).toNat < 2048) :
    val_main_v16 (F := Ideal) x0 (ix4 b e r (1 : Fin 2)) = x0 (ix3 (⟨16 * b.val + e.val, by omega⟩ : Fin 16) (0 : Fin 1) r) := by
  unfold val_main_v16
  refine (concatenate_pair_apply_right (s₁ := S1x16x256x1) (s₂ := S1x16x256x1) (3 : Fin 4) _ _ _ (ix4 b e r (1 : Fin 2)) rfl rfl (ix4 b e r (0 : Fin 1)) ?_ ?_).trans ?_
  · intro a ha
    match a with
    | 0 => rfl
    | 1 => rfl
    | 2 => rfl
    | 3 => exact absurd rfl ha
  · rfl
  · rw [val_main_v15_apply, val_main_v12_apply, val_main_v9_apply, val_main_v11_apply, val_main_v0_apply, val_main_v8_apply, val_main_c_1_apply]
    have e0 : idx_main_v0 (idx_main_v15 (ix4 b e r (0 : Fin 1))) = (ix3 (⟨16 * b.val + e.val, by omega⟩ : Fin 16) (0 : Fin 1) r) := by
      obtain rfl : b = 0 := Subsingleton.elim _ _
      funext a
      refine Fin.ext ?_
      have := e.isLt
      have := r.isLt
      match a with
      | 0 => show ((0 * 16 + e.val) * 256 + r.val) / 256 = 16 * 0 + e.val; omega
      | 1 => rfl
      | 2 => show ((0 * 16 + e.val) * 256 + r.val) % 256 = r.val; omega
    rw [e0]
    exact kept _ _ (hw _)

/-- The gather at an element: stack and row from the start indices, read signed and clamped. -/
theorem gather_apply (idx : IVec S1x16x256x2 32) (b : Fin 1) (e : Fin 16) (r : Fin 256) (k : Fin 1024) :
    Host.gather gather_S1x2048x1024_S1x16x256x2_S1x16x256x1024_3_01_n_n_01_3_111024 x1 idx (ix4 b e r k)
      = x1 (ix3 (⟨min (idx (ix4 b e r (0 : Fin 2))).toInt.toNat 0, by omega⟩ : Fin 1)
          (⟨min (idx (ix4 b e r (1 : Fin 2))).toInt.toNat 2047, by omega⟩ : Fin 2048) k) := by
  unfold Host.gather
  congr 1
  funext a
  refine Fin.ext ?_
  generalize hd : gather_S1x2048x1024_S1x16x256x2_S1x16x256x1024_3_01_n_n_01_3_111024 = d
  show d.start (ix4 b e r k) idx a + d.batchCoord (ix4 b e r k) a + d.offCoord (ix4 b e r k) a = _
  subst hd
  match a with
  | 0 =>
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (0 : Fin 3) ∈ gather_S1x2048x1024_S1x16x256x2_S1x16x256x1024_3_01_n_n_01_3_111024.startIndexMap by decide)]
    have hsi : gather_S1x2048x1024_S1x16x256x2_S1x16x256x1024_3_01_n_n_01_3_111024.siIdx (ix4 b e r k)
        ⟨List.idxOf (0 : Fin 3) gather_S1x2048x1024_S1x16x256x2_S1x16x256x1024_3_01_n_n_01_3_111024.startIndexMap,
          List.idxOf_lt_length_iff.2 (show (0 : Fin 3) ∈ gather_S1x2048x1024_S1x16x256x2_S1x16x256x1024_3_01_n_n_01_3_111024.startIndexMap by decide)⟩ = ix4 b e r (0 : Fin 2) := by
      funext x; refine Fin.ext ?_
      match x with
      | 0 => rfl
      | 1 => rfl
      | 2 => rfl
      | 3 => rfl
    rw [hsi]
    rfl
  | 1 =>
    rw [GatherDims.batchCoord_eq_zero _ _ _ List.not_mem_nil,
      GatherDims.offCoord_eq_zero _ _ _ (fun h => ((GatherDims.mem_sKept _ _).mp h).1 (by decide))]
    simp only [Nat.add_zero]
    unfold GatherDims.start
    rw [dif_pos (show (1 : Fin 3) ∈ gather_S1x2048x1024_S1x16x256x2_S1x16x256x1024_3_01_n_n_01_3_111024.startIndexMap by decide)]
    have hsi : gather_S1x2048x1024_S1x16x256x2_S1x16x256x1024_3_01_n_n_01_3_111024.siIdx (ix4 b e r k)
        ⟨List.idxOf (1 : Fin 3) gather_S1x2048x1024_S1x16x256x2_S1x16x256x1024_3_01_n_n_01_3_111024.startIndexMap,
          List.idxOf_lt_length_iff.2 (show (1 : Fin 3) ∈ gather_S1x2048x1024_S1x16x256x2_S1x16x256x1024_3_01_n_n_01_3_111024.startIndexMap by decide)⟩ = ix4 b e r (1 : Fin 2) := by
      funext x; refine Fin.ext ?_
      match x with
      | 0 => rfl
      | 1 => rfl
      | 2 => rfl
      | 3 => rfl
    rw [hsi]
    rfl
  | 2 =>
    rw [GatherDims.batchCoord_eq_zero _ _ _ List.not_mem_nil]
    unfold GatherDims.start
    rw [dif_neg (show ¬(2 : Fin 3) ∈ gather_S1x2048x1024_S1x16x256x2_S1x16x256x1024_3_01_n_n_01_3_111024.startIndexMap by decide)]
    unfold GatherDims.offCoord
    rw [dif_pos ((GatherDims.mem_sKept _ _).mpr ⟨by decide, by decide⟩)]
    simp only [Nat.zero_add]
    rfl

/-- The gathered rows. -/
theorem rows_eq (b : Fin 1) (e : Fin 16) (r : Fin 256) (k : Fin 1024) (hw : ∀ i, (x0 i : BitVec 32).toNat < 2048) :
    val_main_v17 (F := Ideal) x0 x1 (ix4 b e r k)
      = x1 (ix3 b (token (x0 (ix3 (⟨16 * b.val + e.val, by omega⟩ : Fin 16) (0 : Fin 1) r))) k) := by
  unfold val_main_v17
  refine (gather_apply x1 (val_main_v16 (F := Ideal) x0) b e r k).trans (congrArg₂ (fun i j => x1 (ix3 i j k)) (Fin.ext ?_) (Fin.ext ?_))
  · show min (val_main_v16 (F := Ideal) x0 (ix4 b e r (0 : Fin 2)) : BitVec 32).toInt.toNat 0 = b.val
    rw [start_batch]
    have := b.isLt
    have h : (BitVec.ofNat 32 b.val).toNat = b.val := by rw [BitVec.toNat_ofNat]; omega
    rw [BitVec.toInt_eq_toNat_of_lt (by omega), h]
    omega
  · show min (val_main_v16 (F := Ideal) x0 (ix4 b e r (1 : Fin 2)) : BitVec 32).toInt.toNat 2047 = (x0 (ix3 (⟨16 * b.val + e.val, by omega⟩ : Fin 16) (0 : Fin 1) r) : BitVec 32).toNat % 2048
    rw [start_word x0 b e r hw]
    have hlt := hw (ix3 (⟨16 * b.val + e.val, by omega⟩ : Fin 16) (0 : Fin 1) r)
    rw [BitVec.toInt_eq_toNat_of_lt (by omega)]
    omega

/-- The rows one product's operand takes for one expert. -/
abbrev rowsOf (b : Fin 1) (e : Fin 16) : Fin 256 → Fin 1024 → EReal := fun r k =>
  x1 (ix3 b (token (x0 (ix3 (⟨16 * b.val + e.val, by omega⟩ : Fin 16) (0 : Fin 1) r))) k)

theorem gate_eq (b : Fin 1) (e : Fin 16) (r : Fin 256) (f : Fin 1024) (hw : ∀ i, (x0 i : BitVec 32).toNat < 2048) :
    val_main_v20 (F := Ideal) x0 x1 x2 (ix4 b e r f) = lin (rowsOf x0 x1 b e) (fun k f => x2 (ix3 e k f)) r f := by
  rw [val_main_v20_apply, val_main_v19_apply]
  unfold lin
  refine Finset.sum_congr rfl fun k _ => ?_
  have er : ridx_main_v19 (idx_main_v20 (ix4 b e r f)) k = ix4 b e r k := by
    funext a
    match a with
    | 0 => rfl
    | 1 => rfl
    | 2 => rfl
    | 3 => rfl
  have el : lidx_main_v19 (idx_main_v20 (ix4 b e r f)) k = ix3 e k f := by
    funext a
    match a with
    | 0 => rfl
    | 1 => rfl
    | 2 => rfl
  rw [er, el, rows_eq x0 x1 b e r k hw, mul_comm]
  rfl

theorem up_eq (b : Fin 1) (e : Fin 16) (r : Fin 256) (f : Fin 1024) (hw : ∀ i, (x0 i : BitVec 32).toNat < 2048) :
    val_main_v24 (F := Ideal) x0 x1 x3 (ix4 b e r f) = lin (rowsOf x0 x1 b e) (fun k f => x3 (ix3 e k f)) r f :=
  gate_eq x0 x1 x3 b e r f hw

theorem silu_eq (i : S1x16x256x1024.Idx) : val_main_v21 (F := Ideal) x0 x1 x2 i = swish (val_main_v20 (F := Ideal) x0 x1 x2 i) := by
  rw [val_main_v21_apply, val_main_call0_v5_apply, val_main_call0_v4_apply, val_main_call0_v3_apply, val_main_call0_v2_apply,
    val_main_call0_v1_apply, val_main_call0_v0_apply, val_main_call0_cst_apply, val_main_call0_cst_0_apply]
  generalize val_main_v20 (F := Ideal) x0 x1 x2 i = g
  show g * Ideal.div (Ideal.ofBits .f32 0x3F800000#32) (Ideal.ofBits .f32 0x3F800000#32 + Ideal.exp (-g)) = _
  rw [Ideal.ofBits_one_f32]
  rfl

/-- The reference's result is the layer's experts. -/
theorem result_eq (b : Fin 1) (e : Fin 16) (r : Fin 256) (d : Fin 1024) (hw : ∀ i, (x0 i : BitVec 32).toNat < 2048) :
    val_main_v28 (F := Ideal) x0 x1 x2 x3 x4 (ix4 b e r d) = experts x0 x1 x2 x3 x4 b e r d := by
  rw [val_main_v28_apply, val_main_v27_apply]
  unfold experts ffn
  refine Finset.sum_congr rfl fun k _ => ?_
  have er : ridx_main_v27 (idx_main_v28 (ix4 b e r d)) k = ix4 b e r k := by
    funext a
    match a with
    | 0 => rfl
    | 1 => rfl
    | 2 => rfl
    | 3 => rfl
  have el : lidx_main_v27 (idx_main_v28 (ix4 b e r d)) k = ix3 e k d := by
    funext a
    match a with
    | 0 => rfl
    | 1 => rfl
    | 2 => rfl
  rw [er, el, val_main_v25_apply, silu_eq, gate_eq x0 x1 x2 b e r k hw, up_eq x0 x1 x3 b e r k hw]
  exact mul_comm _ _

end Cert.Reference6Ideal.CtxExperts

end
-- ==== Proof.CtxExpertsClaims.lean ====
/-
  The claims about the expert feed-forward kernel, put together.
  Context stream: one array of 2048 rows, 256 of them to an expert.
-/
module

public import proofs.«01_k».proof.Defs
public import proofs.«01_k».proof.Proof.Gen.Pre_context_rows
public import proofs.«01_k».proof.Proof.Gen.Reference6Ideal.Run
public import proofs.«01_k».proof.Proof.CtxExpertsFrame
public import proofs.«01_k».proof.Proof.CtxExpertsArray
public import proofs.«01_k».proof.Proof.CtxExpertsRef

@[expose] public section

set_option maxRecDepth 16384

noncomputable section

namespace Cert.CtxExpertsClaims

open Idealize.ShloMosaic Idealize.ShloMosaic.TcCoe Idealize.SL.Sem

theorem andi_ofBool (p q : Bool) : IntOp.andi (BitVec.ofBool p) (BitVec.ofBool q) = BitVec.ofBool (p && q) := by
  cases p <;> cases q <;> rfl

theorem ofBool_eq_one (p : Bool) : BitVec.ofBool p = 1#1 ↔ p = true := by cases p <;> decide

/-- A word that compares at least zero and below 2048, both signed, is below 2048. -/
theorem word_lt (v : BitVec 32) (h : IntOp.andi (IntOp.cmpi .sge v 0#32) (IntOp.cmpi .slt v 2048#32) = 1#1) : v.toNat < 2048 := by
  simp only [IntOp.cmpi, andi_ofBool, ofBool_eq_one, Bool.and_eq_true, BitVec.sle, BitVec.slt, decide_eq_true_eq] at h
  obtain ⟨h0, h1⟩ := h
  have e0 : (0#32 : BitVec 32).toInt = 0 := by decide
  have e1 : (2048#32 : BitVec 32).toInt = 2048 := by decide
  rw [e0] at h0
  rw [e1] at h1
  rw [BitVec.toInt_eq_toNat_cond] at h0 h1
  have := v.isLt
  split at h0 <;> omega

/-- The precondition, at an element of the index array. -/
theorem word_of_pre {F : FTy → Type} [FloatOps F] [Cert.Pre_context_rows.Facts] (x0 : IVec Cert.Pre_context_rows.S16x1x256 32)
    (x1 : FVec F Cert.Pre_context_rows.S1x2048x1024 .f32) (x2 x3 x4 : FVec F Cert.Pre_context_rows.S16x1024x1024 .bf16)
    (h : Cert.Pre_context_rows.fn (F := F) x0 x1 x2 x3 x4 = fun _ => 1#1) (i : Cert.Pre_context_rows.S16x1x256.Idx) : (x0 i).toNat < 2048 :=
  word_lt (x0 i) (congrFun h i)

theorem words_kernel (m : (ℓ : Loc Cert.Kernel6.nD Cert.Kernel6.τ Cert.Kernel6.sig) → Buf (Elt Bits) ℓ)
    (h : Cert.Pre_Kernel6 (hPre_context_rows := Cert.Pre_context_rows.Gen.facts) m) : Cert.Kernel6.Run.Words m := fun c i =>
  @word_of_pre Bits _ Cert.Pre_context_rows.Gen.facts _ _ _ _ _ (h c) i

theorem words_ideal (m : (ℓ : Loc Cert.Kernel6Ideal.nD Cert.Kernel6Ideal.τ Cert.Kernel6Ideal.sig) → Buf (Elt Ideal) ℓ)
    (h : Cert.Pre_Kernel6Ideal (hPre_context_rows := Cert.Pre_context_rows.Gen.facts) m) : Cert.Kernel6Ideal.Run.Words m := fun c i =>
  @word_of_pre Ideal _ Cert.Pre_context_rows.Gen.facts _ _ _ _ _ (h c) i

/-- The kernel runs and keeps its arguments. -/
theorem frame_k : Cert.quiescent_Kernel6 (hKernel6 := Cert.Kernel6.Gen.facts) (hPre_context_rows := Cert.Pre_context_rows.Gen.facts) :=
  fun m ρ h => Cert.Kernel6.Run.frame m ρ (words_kernel m h)

/-- So does the idealized kernel, -/
theorem frame_ki : Cert.quiescent_Kernel6Ideal (hKernel6Ideal := Cert.Kernel6Ideal.Gen.facts) (hPre_context_rows := Cert.Pre_context_rows.Gen.facts) :=
  fun m ρ h => Cert.Kernel6Ideal.Run.frame m ρ (words_ideal m h)

/-- and the reference. -/
theorem frame_ri : Cert.quiescent_Reference6Ideal (hReference6Ideal := Cert.Reference6Ideal.Gen.facts) := fun m ρ _ =>
  (θ_run _ _ _).mono (fun r h => ⟨fun c => (h c).2, sem_eq_zero_of_no_sems (by decide) r.2⟩)
    (Cert.Reference6Ideal.Value.run (F := Ideal) m ρ)

/-- Kernel and reference end with the same array, the layer's experts. -/
theorem algebraic : Cert.algebraic_Kernel6Ideal_Reference6Ideal (hKernel6Ideal := Cert.Kernel6Ideal.Gen.facts)
    (hReference6Ideal := Cert.Reference6Ideal.Gen.facts) (hPre_context_rows := Cert.Pre_context_rows.Gen.facts) := by
  intro m ρ m' ρ' hpre hag
  have hw := words_ideal m hpre
  refine ⟨fun c => Cert.Kernel6Ideal.Run.expertsArr m c, Cert.Kernel6Ideal.Run.run_experts m ρ hw, ?_⟩
  refine (θ_run _ _ _).mono (fun r h c => ⟨(h c).1.trans ?_, (h c).2⟩) (Cert.Reference6Ideal.Value.run (F := Ideal) m' ρ')
  obtain ⟨e0, e1, e2, e3, e4⟩ := hag c
  rw [Cert.Reference6Ideal.Read.val_main_v28_eq, e0, e1, e2, e3, e4]
  funext i
  refine (congrArg _ (eq_ix4 (n0 := 1) (n1 := 16) (n2 := 256) (n3 := 1024) i)).trans ?_
  exact Cert.Reference6Ideal.CtxExperts.result_eq _ _ _ _ _ (i 0) (i 1) (i 2) (i 3) (hw c)

end Cert.CtxExpertsClaims

end
-- ==== Proof.CtxProject.lean ====
/-
  The input projection of layer 0's context stream: what the kernel leaves. A grid point takes the 256 rows of one batch;
  each of its six blocks is 512 columns of their projection.
-/
module

public import proofs.«01_k».proof.Proof.Gen.Kernel7Ideal.Value
public import proofs.«01_k».proof.Proof.Project
public import Idealize.ShloMosaic.Lib.KernelVsHost
public import Idealize.ShloMosaic.Lib.Pointwise
public import Idealize.ShloMosaic.Lib.Claim
public import Idealize.ShloMosaic.Lib.Pipeline.ValueKit.Tiles

@[expose] public section

set_option maxRecDepth 16384

noncomputable section

namespace Cert.CtxProject

open Cert.Project
open Idealize.ShloMosaic

/-- The columns `o … o + 511` of the projection of every context row; scale and shift are the same for all batches. -/
def part (x : Vec Ideal ⟨3, ![8, 256, 1024]⟩ .f32) (g : Vec Ideal ⟨1, ![1024]⟩ .f32) (s t : Vec Ideal ⟨3, ![1, 1, 1024]⟩ .f32)
    (w : Vec Ideal ⟨2, ![1024, 3072]⟩ .bf16) (o : ℕ) (ho : o + 512 ≤ 3072) : Vec Ideal ⟨3, ![8, 256, 512]⟩ .bf16 :=
  fun i => lin (normed (fun k => x (ix3 (i 0) (i 1) k)) (fun k => g (ix1 k)) (fun k => s (ix3 0 0 k)) (fun k => t (ix3 0 0 k)))
    (fun k (j : Fin 512) => w (ix2 k (⟨o + j.val, by omega⟩ : Fin 3072))) (i 2)

end Cert.CtxProject

namespace Cert.Kernel7Ideal.CtxProject

open Cert.Kernel7Ideal Cert.Kernel7Ideal.Gen Cert.Kernel7Ideal.Value Cert.Project Cert.CtxProject
open Idealize.ShloMosaic Idealize.ShloMosaic.TcCoe Idealize.SL.Sem Idealize.ShloMosaic.Tactic
open Idealize.ShloMosaic.Pipeline (Dat Window)

/-! ## The body -/

/-- The normed rows. -/
theorem normed_apply (x : Vec Ideal S1x256x1024 .f32) (g : Vec Ideal S1x1024 .f32) (s t : Vec Ideal S1x1x1024 .f32) (r : Fin 256) (k : Fin 1024) :
    k0_pay1 x g s t (ix2 r k) = normed (fun l => x (ix3 0 r l)) (fun l => g (ix2 0 l)) (fun l => s (ix3 0 0 l)) (fun l => t (ix3 0 0 l)) k := by
  unfold normed
  pointwise [k0_pay1]

/-- The stored block: the rows against 512 columns. -/
theorem block_apply (y : FVec Ideal S256x1024 .bf16) (w : FVec Ideal S1024x512 .bf16) (a : Fin 1) (r : Fin 256) (j : Fin 512) :
    k0_pay5 y w (ix3 a r j) = lin (fun k => y (ix2 r k)) (fun k j => w (ix2 k j)) j := by
  unfold lin
  pointwise [k0_pay5, dot_S256x1024_S1024x512_S256x512_1_0_0_1_n_n]

/-! ## The blocks a grid point reads -/

variable (m : (ℓ : Loc nD τ sig) → Buf (Elt Ideal) ℓ) (ρ : Dev nD → PrngReg) (c : Dev nD) (t : Fin cfg0.N)

/-- The arguments. -/
abbrev aX : Vec Ideal S8x256x1024 .f32 := m ((c.tc : Thread nD τ).loc main_arg0)
abbrev aG : Vec Ideal S1024 .f32 := m ((c.tc : Thread nD τ).loc main_arg1)
abbrev aS : Vec Ideal S1x1x1024 .f32 := m ((c.tc : Thread nD τ).loc main_arg2)
abbrev aT : Vec Ideal S1x1x1024 .f32 := m ((c.tc : Thread nD τ).loc main_arg3)
abbrev aW : Vec Ideal S1024x3072 .bf16 := m ((c.tc : Thread nD τ).loc main_arg4)

/-- The batch of a grid point. -/
abbrev batch (t : Fin cfg0.N) : Fin 8 := grid0.coords t 0

theorem index_x : ∀ t : Fin grid0.N, win0_0.index t (0 : Fin 3) = (grid0.coords t 0).val ∧ win0_0.index t (1 : Fin 3) = 0 ∧ win0_0.index t (2 : Fin 3) = 0 := by
  decide +kernel
theorem index_g : ∀ (t : Fin grid0.N) (a : Fin 2), win0_1.index t a = 0 := by decide +kernel
theorem index_s : ∀ (t : Fin grid0.N) (a : Fin 3), win0_2.index t a = 0 := by decide +kernel
theorem index_t : ∀ (t : Fin grid0.N) (a : Fin 3), win0_3.index t a = 0 := by decide +kernel
theorem index_w : ∀ (t : Fin grid0.N) (a : Fin 2), win0_4.index t a = 0 := by decide +kernel

/-- A block at index 0 begins where the array does. -/
theorem at_zero {n : ℕ} (d k : ℕ) (h : n = 0) : n * d + k = k := by rw [h, Nat.zero_mul, Nat.zero_add]

theorem blk_x (r : Fin 256) (k : Fin 1024) : (iblk m c 0 t : Vec Ideal S1x256x1024 .f32) (ix3 0 r k) = aX m c (ix3 (batch t) r k) := by
  obtain ⟨e0, e1, e2⟩ := index_x t
  unfold iblk
  rw [View.read_apply]
  refine (congrFun (V_main_arg0 m c) _).trans (congrArg (aX m c) (funext fun a => Fin.ext ((Window.rect_emb_val win0_0 t _ a).trans ?_)))
  match a with
  | 0 => exact (congrArg (· * 1 + 0) e0).trans (Nat.mul_one _)
  | 1 => exact at_zero 256 r.val e1
  | 2 => exact at_zero 1024 k.val e2

theorem blk_s (k : Fin 1024) : (iblk m c 2 t : Vec Ideal S1x1x1024 .f32) (ix3 0 0 k) = aS m c (ix3 0 0 k) := by
  unfold iblk
  rw [View.read_apply]
  exact (congrFun (V_main_arg2 m c) _).trans (congrArg (aS m c) (funext fun a => Fin.ext ((Window.rect_emb_val win0_2 t _ a).trans (at_zero _ _ (index_s t a)))))

theorem blk_t (k : Fin 1024) : (iblk m c 3 t : Vec Ideal S1x1x1024 .f32) (ix3 0 0 k) = aT m c (ix3 0 0 k) := by
  unfold iblk
  rw [View.read_apply]
  exact (congrFun (V_main_arg3 m c) _).trans (congrArg (aT m c) (funext fun a => Fin.ext ((Window.rect_emb_val win0_3 t _ a).trans (at_zero _ _ (index_t t a)))))

theorem blk_w (k : Fin 1024) (j : Fin 3072) : (iblk m c 4 t : Vec Ideal S1024x3072 .bf16) (ix2 k j) = aW m c (ix2 k j) := by
  unfold iblk
  rw [View.read_apply]
  exact (congrFun (V_main_arg4 m c) _).trans (congrArg (aW m c) (funext fun a => Fin.ext ((Window.rect_emb_val win0_4 t _ a).trans (at_zero _ _ (index_w t a)))))

/-- The gain is laid out as one row before the call. -/
theorem blk_g (k : Fin 1024) : (iblk m c 1 t : Vec Ideal S1x1024 .f32) (ix2 0 k) = aG m c (ix1 k) := by
  have row : (V m c main_v0 : Vec Ideal S1x1024 .f32) (ix2 0 k) = aG m c (ix1 k) := by
    show V m c main_v0 (ix2 0 k) = _
    entry_read
    refine shapeCast_apply _ shapeCasts_S1024_S1x1024 (ix2 0 k) (ix1 k) ?_
    rw [Shape.rowMajor_val_one, Shape.rowMajor_val_two]
    show k.val = 0 * 1024 + k.val
    omega
  unfold iblk
  rw [View.read_apply]
  exact (congrArg (V m c main_v0 : Vec Ideal S1x1024 .f32) (funext fun a => Fin.ext ((Window.rect_emb_val win0_1 t _ a).trans (at_zero _ _ (index_g t a))))).trans row

/-- The blocks are loaded whole. -/
theorem load_x : (View.ld (iblk m c 0 t : Vec Ideal S1x256x1024 .f32) r0_0 : S1x256x1024.Idx → EReal) = iblk m c 0 t :=
  View.ld_unit_zero (by funext a; fin_cases a <;> rfl) _ _
theorem load_g : (View.ld (iblk m c 1 t : Vec Ideal S1x1024 .f32) r0_1 : S1x1024.Idx → EReal) = iblk m c 1 t :=
  View.ld_unit_zero (by funext a; fin_cases a <;> rfl) _ _
theorem load_s : (View.ld (iblk m c 2 t : Vec Ideal S1x1x1024 .f32) r0_2 : S1x1x1024.Idx → EReal) = iblk m c 2 t :=
  View.ld_unit_zero (by funext a; fin_cases a <;> rfl) _ _
theorem load_t : (View.ld (iblk m c 3 t : Vec Ideal S1x1x1024 .f32) r0_2 : S1x1x1024.Idx → EReal) = iblk m c 3 t :=
  View.ld_unit_zero (by funext a; fin_cases a <;> rfl) _ _

/-- The normed rows of a grid point. -/
theorem rows_apply (r : Fin 256) (k : Fin 1024) : k0_pay9 (iblk m c 0 t) (iblk m c 1 t) (iblk m c 2 t) (iblk m c 3 t) (iblk m c 4 t) (ix2 r k)
      = normed (fun k => aX m c (ix3 (batch t) r k)) (fun k => aG m c (ix1 k)) (fun k => aS m c (ix3 0 0 k)) (fun k => aT m c (ix3 0 0 k)) k := by
  unfold k0_pay9
  refine (normed_apply _ _ _ _ r k).trans ?_
  rw [load_x, load_g, load_s, load_t]
  simp only [blk_x, blk_g, blk_s, blk_t]

/-- A load of 512 columns of the weight. -/
theorem load_cols (o : ℕ) (ho : o + 512 ≤ 3072) (inb : ∀ a, (![0, o] : Fin 2 → ℕ) a + S1024x512.size a ≤ S1024x3072.size a) (k : Fin 1024) (j : Fin 512) :
    (View.ld (iblk m c 4 t : Vec Ideal S1024x3072 .bf16) (Rect.unit (s := S1024x3072) ![0, o] S1024x512.size inb) : S1024x512.Idx → EReal) (ix2 k j)
      = aW m c (ix2 k (⟨o + j.val, by omega⟩ : Fin 3072)) := by
  refine (View.ld_unit_apply_of _ _ _ inb _ (ix2 k (⟨o + j.val, by omega⟩ : Fin 3072)) ?_).trans (blk_w m c t k _)
  intro a
  match a with
  | 0 => exact (Nat.zero_add k.val).symm
  | 1 => rfl

/-! ## The arrays after the run -/

/-- One of the six results. -/
abbrev res (o : ℕ) (ho : o + 512 ≤ 3072) : Vec Ideal S8x256x512 .bf16 := part (aX m c) (aG m c) (aS m c) (aT m c) (aW m c) o ho

/-- A block is stored whole. -/
theorem stored (v : FVec Ideal S1x256x512 .bf16) : View.canon [(⟨r0_4, v⟩ : View.Piece (Elt Ideal) S1x256x512 .bf16)] = v :=
  View.canon_unit_zero (by funext a; fin_cases a <;> rfl) _ _

/-- The product of a batch's normed rows and 512 columns is the batch's part of the result. -/
theorem block_eq (o : ℕ) (ho : o + 512 ≤ 3072) (Y : FVec Ideal S256x1024 .bf16) (W : FVec Ideal S1024x512 .bf16)
    (hY : ∀ (r : Fin 256) (k : Fin 1024), Y (ix2 r k)
      = normed (fun k => aX m c (ix3 (batch t) r k)) (fun k => aG m c (ix1 k)) (fun k => aS m c (ix3 0 0 k)) (fun k => aT m c (ix3 0 0 k)) k)
    (hW : ∀ (k : Fin 1024) (j : Fin 512), W (ix2 k j) = aW m c (ix2 k (⟨o + j.val, by omega⟩ : Fin 3072))) (y : S1x256x512.Idx) :
    k0_pay5 Y W y = res m c o ho (ix3 (batch t) (y 1) (y 2)) :=
  (congrArg (k0_pay5 Y W) (eq_ix3 (n0 := 1) (n1 := 256) (n2 := 512) y)).trans ((block_apply Y W (y 0) (y 1) (y 2)).trans
    (congrArg₂ (fun u v => lin u v (y 2 : Fin 512)) (funext fun k => hY (y 1) k) (funext fun k => funext fun j => hW k j)))

/-- What a grid point leaves in the block of the result whose columns begin at `o`. -/
theorem left_apply (o : ℕ) (ho : o + 512 ≤ 3072) (inb : ∀ a, (![0, o] : Fin 2 → ℕ) a + S1024x512.size a ≤ S1024x3072.size a) (y : S1x256x512.Idx) :
    View.canon [(⟨r0_4, k0_pay5 (k0_pay9 (iblk m c 0 t) (iblk m c 1 t) (iblk m c 2 t) (iblk m c 3 t) (iblk m c 4 t))
        (View.ld (iblk m c 4 t : Vec Ideal S1024x3072 .bf16) (Rect.unit (s := S1024x3072) ![0, o] S1024x512.size inb))⟩ : View.Piece (Elt Ideal) S1x256x512 .bf16)] y
      = res m c o ho (ix3 (batch t) (y 1) (y 2)) :=
  (congrFun (stored _) y).trans (block_eq m c t o ho _ _ (rows_apply m c t) (load_cols m c t o ho inb) y)

theorem index_out : ∀ t : Fin grid0.N, win0_5.index t (0 : Fin 3) = (grid0.coords t 0).val ∧ win0_5.index t (1 : Fin 3) = 0 ∧ win0_5.index t (2 : Fin 3) = 0 := by
  decide +kernel

/-- Where an element of a grid point's block lies in the array. -/
theorem place {b : Fin 8} {f : Fin 3 → ℕ} (h : f 0 = b.val ∧ f 1 = 0 ∧ f 2 = 0) (y : S1x256x512.Idx) (v : S8x256x512.Idx)
    (e : ∀ a : Fin 3, (v a).val = f a * S1x256x512.size a + (y a).val) : v = ix3 b (y 1 : Fin 256) (y 2 : Fin 512) := by
  have h0 : (y 0).val = 0 := Nat.lt_one_iff.mp (y 0).isLt
  funext a
  refine Fin.ext ((e a).trans ?_)
  match a with
  | 0 => rw [h0, h.1]; exact Nat.mul_one _
  | 1 => exact at_zero _ _ h.2.1
  | 2 => exact at_zero _ _ h.2.2

/-- Every element of the array is in the block of its batch's grid point. -/
theorem point_of : ∀ b : Fin 8, ∃ t : Fin grid0.N, (grid0.coords t 0).val = b.val := by decide +kernel

theorem back (i : S8x256x512.Idx) (h : (grid0.coords t 0).val = (i 0).val) : (ix3 (batch t) (i 1 : Fin 256) (i 2 : Fin 512) : S8x256x512.Idx) = i := by
  funext a
  match a with
  | 0 => exact Fin.ext h
  | 1 => rfl
  | 2 => rfl

/-- The six arrays after the run. -/
theorem arr_5 : (dats m 0 c).arrAt 5 cfg0.N = res m c 0 (by decide) := by
  have e (t : Fin cfg0.N) (y : S1x256x512.Idx) := place (index_out t) y (((cfg0.win 5).blk t).view.emb y) (Window.rect_emb_val win0_5 t y)
  refine (dats m 0 c).arrAt_eq_of_cover 5 (res m c 0 (by decide)) (fun t _ => ?_) (fun i => ?_)
  · rw [flushed5]
    funext y
    rw [View.read_apply]
    exact (left_apply m c t 0 (by decide) inb_S1024x3072_S1024x512_0_0 y).trans (congrArg (res m c 0 (by decide)) (e t y).symm)
  · obtain ⟨t, ht⟩ := point_of (i 0)
    exact ⟨t, flush0_5 t, ((e t (ix3 0 (i 1) (i 2))).trans (back t i ht)) ▸ ((cfg0.win 5).blk t).view.emb_mem_set _⟩

theorem arr_6 : (dats m 0 c).arrAt 6 cfg0.N = res m c 512 (by decide) := by
  have e (t : Fin cfg0.N) (y : S1x256x512.Idx) := place (index_out t) y (((cfg0.win 6).blk t).view.emb y) (Window.rect_emb_val win0_6 t y)
  refine (dats m 0 c).arrAt_eq_of_cover 6 (res m c 512 (by decide)) (fun t _ => ?_) (fun i => ?_)
  · rw [flushed6]
    funext y
    rw [View.read_apply]
    exact (left_apply m c t 512 (by decide) inb_S1024x3072_S1024x512_0_512 y).trans (congrArg (res m c 512 (by decide)) (e t y).symm)
  · obtain ⟨t, ht⟩ := point_of (i 0)
    exact ⟨t, flush0_6 t, ((e t (ix3 0 (i 1) (i 2))).trans (back t i ht)) ▸ ((cfg0.win 6).blk t).view.emb_mem_set _⟩

theorem arr_7 : (dats m 0 c).arrAt 7 cfg0.N = res m c 1024 (by decide) := by
  have e (t : Fin cfg0.N) (y : S1x256x512.Idx) := place (index_out t) y (((cfg0.win 7).blk t).view.emb y) (Window.rect_emb_val win0_7 t y)
  refine (dats m 0 c).arrAt_eq_of_cover 7 (res m c 1024 (by decide)) (fun t _ => ?_) (fun i => ?_)
  · rw [flushed7]
    funext y
    rw [View.read_apply]
    exact (left_apply m c t 1024 (by decide) inb_S1024x3072_S1024x512_0_1024 y).trans (congrArg (res m c 1024 (by decide)) (e t y).symm)
  · obtain ⟨t, ht⟩ := point_of (i 0)
    exact ⟨t, flush0_7 t, ((e t (ix3 0 (i 1) (i 2))).trans (back t i ht)) ▸ ((cfg0.win 7).blk t).view.emb_mem_set _⟩

theorem arr_8 : (dats m 0 c).arrAt 8 cfg0.N = res m c 1536 (by decide) := by
  have e (t : Fin cfg0.N) (y : S1x256x512.Idx) := place (index_out t) y (((cfg0.win 8).blk t).view.emb y) (Window.rect_emb_val win0_8 t y)
  refine (dats m 0 c).arrAt_eq_of_cover 8 (res m c 1536 (by decide)) (fun t _ => ?_) (fun i => ?_)
  · rw [flushed8]
    funext y
    rw [View.read_apply]
    exact (left_apply m c t 1536 (by decide) inb_S1024x3072_S1024x512_0_1536 y).trans (congrArg (res m c 1536 (by decide)) (e t y).symm)
  · obtain ⟨t, ht⟩ := point_of (i 0)
    exact ⟨t, flush0_8 t, ((e t (ix3 0 (i 1) (i 2))).trans (back t i ht)) ▸ ((cfg0.win 8).blk t).view.emb_mem_set _⟩

theorem arr_9 : (dats m 0 c).arrAt 9 cfg0.N = res m c 2048 (by decide) := by
  have e (t : Fin cfg0.N) (y : S1x256x512.Idx) := place (index_out t) y (((cfg0.win 9).blk t).view.emb y) (Window.rect_emb_val win0_9 t y)
  refine (dats m 0 c).arrAt_eq_of_cover 9 (res m c 2048 (by decide)) (fun t _ => ?_) (fun i => ?_)
  · rw [flushed9]
    funext y
    rw [View.read_apply]
    exact (left_apply m c t 2048 (by decide) inb_S1024x3072_S1024x512_0_2048 y).trans (congrArg (res m c 2048 (by decide)) (e t y).symm)
  · obtain ⟨t, ht⟩ := point_of (i 0)
    exact ⟨t, flush0_9 t, ((e t (ix3 0 (i 1) (i 2))).trans (back t i ht)) ▸ ((cfg0.win 9).blk t).view.emb_mem_set _⟩

theorem arr_10 : (dats m 0 c).arrAt 10 cfg0.N = res m c 2560 (by decide) := by
  have e (t : Fin cfg0.N) (y : S1x256x512.Idx) := place (index_out t) y (((cfg0.win 10).blk t).view.emb y) (Window.rect_emb_val win0_10 t y)
  refine (dats m 0 c).arrAt_eq_of_cover 10 (res m c 2560 (by decide)) (fun t _ => ?_) (fun i => ?_)
  · rw [flushed10]
    funext y
    rw [View.read_apply]
    exact (left_apply m c t 2560 (by decide) inb_S1024x3072_S1024x512_0_2560 y).trans (congrArg (res m c 2560 (by decide)) (e t y).symm)
  · obtain ⟨t, ht⟩ := point_of (i 0)
    exact ⟨t, flush0_10 t, ((e t (ix3 0 (i 1) (i 2))).trans (back t i ht)) ▸ ((cfg0.win 10).blk t).view.emb_mem_set _⟩

/-- The run: the six results are the projection's, the arguments end unchanged. -/
theorem run_project : θ_run defs (onTc (τ := τ) (main (F := Ideal))) ⟨m, fun _ => 0, ρ⟩ fun r => ∀ c : Dev nD,
      r.2.mem ((c : Thread nD τ).loc main_v1_0) = res m c 0 (by decide)
      ∧ r.2.mem ((c : Thread nD τ).loc main_v1_1) = res m c 512 (by decide)
      ∧ r.2.mem ((c : Thread nD τ).loc main_v1_2) = res m c 1024 (by decide)
      ∧ r.2.mem ((c : Thread nD τ).loc main_v1_3) = res m c 1536 (by decide)
      ∧ r.2.mem ((c : Thread nD τ).loc main_v1_4) = res m c 2048 (by decide)
      ∧ r.2.mem ((c : Thread nD τ).loc main_v1_5) = res m c 2560 (by decide)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h0, h1, h2, h3, h4, h5, hk⟩ := h c
    exact ⟨h0.trans (arr_5 m c), h1.trans (arr_6 m c), h2.trans (arr_7 m c), h3.trans (arr_8 m c), h4.trans (arr_9 m c), h5.trans (arr_10 m c), hk⟩)
    (run_blocks m ρ)

end Cert.Kernel7Ideal.CtxProject

end
-- ==== Proof.CtxProjectRef.lean ====
/-
  The reference of the context's projection, read element by element: the modulated norm, the product, and the six slices.
-/
module

public import proofs.«01_k».proof.Proof.Gen.Reference7Ideal.Read
public import proofs.«01_k».proof.Proof.CtxProject

@[expose] public section

set_option maxRecDepth 2000

noncomputable section

namespace Cert.Reference7Ideal.CtxProject

open Cert.Reference7Ideal Cert.Reference7Ideal.Gen Cert.Reference7Ideal.Read Cert.Project Cert.CtxProject
open Idealize.ShloMosaic Idealize.ShloMosaic.TcCoe

variable (x0 : Vec Ideal S8x256x1024 .f32) (x1 : Vec Ideal S1024 .f32) (x2 x3 : Vec Ideal S1x1x1024 .f32) (x4 : Vec Ideal S1024x3072 .bf16)

/-- The mean square of a row, with 1e-6, under the root. -/
theorem root_eq (b : Fin 8) (n : Fin 256) (k : Fin 1024) : val_main_v8 (F := Ideal) x0 (ix3 b n k)
    = Ideal.rsqrt (Ideal.div (∑ l : Fin 1024, x0 (ix3 b n l) * x0 (ix3 b n l)) (Ideal.ofBits .f32 0x44800000#32) + Ideal.ofBits .f32 0x358637BD#32) := by
  have e : ∀ l : Fin 1024, idx_main_v1 (idx_main_v2 (idx_main_v8 (ix3 b n k))) l = ix3 b n l := fun l => by
    funext a
    match a with
    | 0 => rfl
    | 1 => rfl
    | 2 => rfl
  rw [val_main_v8_apply, val_main_v7_apply, val_main_v6_apply, val_main_v5_apply, val_main_v4_apply, val_main_v3_apply, val_main_v2_apply,
    val_main_v1_apply, val_main_cst_apply, val_main_cst_0_apply, val_main_cst_1_apply]
  simp only [val_main_v0_apply, e]
  refine congrArg (fun s => Ideal.rsqrt (Ideal.div s (Ideal.ofBits .f32 0x44800000#32) + Ideal.ofBits .f32 0x358637BD#32)) ?_
  show Ideal.ofBits .f32 0x00000000#32 + _ = _
  rw [Ideal.ofBits_zero_f32, zero_add]
  rfl

/-- The modulated norm. -/
theorem norm_eq (b : Fin 8) (n : Fin 256) (k : Fin 1024) : val_main_v16 (F := Ideal) x0 x1 x2 x3 (ix3 b n k)
    = normed (fun k => x0 (ix3 b n k)) (fun k => x1 (ix1 k)) (fun k => x2 (ix3 0 0 k)) (fun k => x3 (ix3 0 0 k)) k := by
  have e1 : idx_main_v10 (idx_main_v11 (ix3 b n k)) = ix1 k := by
    funext a
    match a with
    | 0 => rfl
  have e2 : idx_main_v13 (ix3 b n k) = ix3 (0 : Fin 1) (0 : Fin 1) k := by
    funext a
    match a with
    | 0 => rfl
    | 1 => rfl
    | 2 => rfl
  have e3 : idx_main_v15 (ix3 b n k) = ix3 (0 : Fin 1) (0 : Fin 1) k := e2
  rw [val_main_v16_apply, val_main_v15_apply, val_main_v14_apply, val_main_v13_apply, val_main_v12_apply, val_main_v11_apply, val_main_v10_apply,
    val_main_v9_apply, root_eq, e1, e2, e3]
  rfl

/-- An element of the product, where a slice that begins at column `o` reads it for its own element `i`. -/
theorem product_at (o : ℕ) (ho : o + 512 ≤ 3072) (i : S8x256x512.Idx) (v : S8x256x3072.Idx) (h0 : v 0 = i 0) (h1 : v 1 = i 1)
    (h2 : (v 2).val = o + (i 2).val) : val_main_v18 (F := Ideal) x0 x1 x2 x3 x4 v = part x0 x1 x2 x3 x4 o ho i := by
  rw [val_main_v18_apply]
  unfold part lin
  refine Finset.sum_congr rfl fun k _ => ?_
  have el : lidx_main_v18 v k = ix3 (i 0 : Fin 8) (i 1 : Fin 256) k := by
    funext a
    match a with
    | 0 => exact h0
    | 1 => exact h1
    | 2 => rfl
  have er : ridx_main_v18 v k = ix2 k (⟨o + (i 2).val, by have : (i 2).val < 512 := (i 2).isLt; omega⟩ : Fin 3072) := by
    funext a
    match a with
    | 0 => rfl
    | 1 => exact Fin.ext h2
  exact congrArg₂ (· * ·) ((congrArg (val_main_v16 (F := Ideal) x0 x1 x2 x3) el).trans (norm_eq x0 x1 x2 x3 (i 0) (i 1) k))
    ((congrArg (val_main_v17 (F := Ideal) x4) er).trans (val_main_v17_apply x4 _))

/-- The six results. -/
theorem result_0 : val_main_v25 (F := Ideal) x0 x1 x2 x3 x4 = part x0 x1 x2 x3 x4 0 (by decide) := funext fun i => by
  rw [val_main_v25_apply, val_main_v19_apply]
  exact product_at x0 x1 x2 x3 x4 0 (by decide) i _ rfl rfl (Nat.zero_add _).symm

theorem result_1 : val_main_v26 (F := Ideal) x0 x1 x2 x3 x4 = part x0 x1 x2 x3 x4 512 (by decide) := funext fun i => by
  rw [val_main_v26_apply, val_main_v20_apply]
  exact product_at x0 x1 x2 x3 x4 512 (by decide) i _ rfl rfl rfl

theorem result_2 : val_main_v27 (F := Ideal) x0 x1 x2 x3 x4 = part x0 x1 x2 x3 x4 1024 (by decide) := funext fun i => by
  rw [val_main_v27_apply, val_main_v21_apply]
  exact product_at x0 x1 x2 x3 x4 1024 (by decide) i _ rfl rfl rfl

theorem result_3 : val_main_v28 (F := Ideal) x0 x1 x2 x3 x4 = part x0 x1 x2 x3 x4 1536 (by decide) := funext fun i => by
  rw [val_main_v28_apply, val_main_v22_apply]
  exact product_at x0 x1 x2 x3 x4 1536 (by decide) i _ rfl rfl rfl

theorem result_4 : val_main_v29 (F := Ideal) x0 x1 x2 x3 x4 = part x0 x1 x2 x3 x4 2048 (by decide) := funext fun i => by
  rw [val_main_v29_apply, val_main_v23_apply]
  exact product_at x0 x1 x2 x3 x4 2048 (by decide) i _ rfl rfl rfl

theorem result_5 : val_main_v30 (F := Ideal) x0 x1 x2 x3 x4 = part x0 x1 x2 x3 x4 2560 (by decide) := funext fun i => by
  rw [val_main_v30_apply, val_main_v24_apply]
  exact product_at x0 x1 x2 x3 x4 2560 (by decide) i _ rfl rfl rfl

end Cert.Reference7Ideal.CtxProject

end
-- ==== Proof.CtxProjectClaims.lean ====
/-
  The claims about the context's projection, put together.
-/
module

public import proofs.«01_k».proof.Defs
public import proofs.«01_k».proof.Proof.Gen.Kernel7.Frame
public import proofs.«01_k».proof.Proof.Gen.Reference7Ideal.Run
public import proofs.«01_k».proof.Proof.CtxProject
public import proofs.«01_k».proof.Proof.CtxProjectRef

@[expose] public section

set_option maxRecDepth 2000

noncomputable section

namespace Cert.CtxProjectClaims

open Cert.Kernel7Ideal.CtxProject
open Idealize.ShloMosaic Idealize.ShloMosaic.TcCoe Idealize.SL.Sem

/-- The reference runs and keeps its arguments. -/
theorem frame_ri : Cert.quiescent_Reference7Ideal (hReference7Ideal := Cert.Reference7Ideal.Gen.facts) := fun m ρ _ =>
  (θ_run _ _ _).mono (fun r h => ⟨fun c => (h c).2.2.2.2.2.2, sem_eq_zero_of_no_sems (by decide) r.2⟩)
    (Cert.Reference7Ideal.Value.run (F := Ideal) m ρ)

/-- Kernel and reference end with the same six arrays. -/
theorem algebraic : Cert.algebraic_Kernel7Ideal_Reference7Ideal (hKernel7Ideal := Cert.Kernel7Ideal.Gen.facts)
    (hReference7Ideal := Cert.Reference7Ideal.Gen.facts) := by
  intro m ρ m' ρ' hpre hag
  refine ⟨fun c => res m c 0 (by decide), fun c => res m c 512 (by decide), fun c => res m c 1024 (by decide), fun c => res m c 1536 (by decide),
    fun c => res m c 2048 (by decide), fun c => res m c 2560 (by decide), run_project m ρ, ?_⟩
  refine (θ_run _ _ _).mono (fun r h c => ?_) (Cert.Reference7Ideal.Value.run (F := Ideal) m' ρ')
  obtain ⟨e0, e1, e2, e3, e4⟩ := hag c
  obtain ⟨h0, h1, h2, h3, h4, h5, hk⟩ := h c
  refine ⟨h0.trans ?_, h1.trans ?_, h2.trans ?_, h3.trans ?_, h4.trans ?_, h5.trans ?_, hk⟩
  · rw [Cert.Reference7Ideal.Read.val_main_v25_eq, e0, e1, e2, e3, e4]
    exact Cert.Reference7Ideal.CtxProject.result_0 _ _ _ _ _
  · rw [Cert.Reference7Ideal.Read.val_main_v26_eq, e0, e1, e2, e3, e4]
    exact Cert.Reference7Ideal.CtxProject.result_1 _ _ _ _ _
  · rw [Cert.Reference7Ideal.Read.val_main_v27_eq, e0, e1, e2, e3, e4]
    exact Cert.Reference7Ideal.CtxProject.result_2 _ _ _ _ _
  · rw [Cert.Reference7Ideal.Read.val_main_v28_eq, e0, e1, e2, e3, e4]
    exact Cert.Reference7Ideal.CtxProject.result_3 _ _ _ _ _
  · rw [Cert.Reference7Ideal.Read.val_main_v29_eq, e0, e1, e2, e3, e4]
    exact Cert.Reference7Ideal.CtxProject.result_4 _ _ _ _ _
  · rw [Cert.Reference7Ideal.Read.val_main_v30_eq, e0, e1, e2, e3, e4]
    exact Cert.Reference7Ideal.CtxProject.result_5 _ _ _ _ _

end Cert.CtxProjectClaims

end
-- ==== Proof.Residual.lean ====
/-
  The gated residual's kernel: what a grid point computes, and the array it leaves; a grid point's block is 512 rows of one batch.
-/
module

public import proofs.«01_k».proof.Proof.Gen.Kernel8Ideal.Value
public import proofs.«01_k».proof.Proof.OutProject
public import Idealize.ShloMosaic.Lib.KernelVsHost
public import Idealize.ShloMosaic.Lib.Pointwise
public import Idealize.ShloMosaic.Lib.Claim
public import Idealize.ShloMosaic.Lib.Pipeline.ValueKit.Tiles

@[expose] public section

set_option maxRecDepth 16384

noncomputable section

namespace Cert.Kernel8Ideal.Residual

open Cert.Kernel8Ideal Cert.Kernel8Ideal.Gen Cert.Kernel8Ideal.Value Cert.OutProject
open Idealize.ShloMosaic Idealize.ShloMosaic.TcCoe Idealize.SL.Sem Idealize.ShloMosaic.Tactic
open Idealize.ShloMosaic.Pipeline (Dat Window)

/-- The call's result: at every row, the stream plus the gate times the RMS norm of the feed-forward part. -/
def result (x f : Vec Ideal S8x4096x1024 .f32) (g : Vec Ideal S1024 .f32) (u : Vec Ideal S8x1x1024 .f32) : Vec Ideal S8x4096x1024 .f32 := fun i =>
  gated (fun k => f (ix3 (i 0 : Fin 8) (i 1 : Fin 4096) k)) (fun k => x (ix3 (i 0 : Fin 8) (i 1 : Fin 4096) k)) (fun k => u (ix3 (i 0 : Fin 8) 0 k)) (fun k => g (ix1 k)) (i 2)

/-- The block a grid point computes. -/
theorem pay_apply (x : Vec Ideal S1x512x1024 .f32) (u : Vec Ideal S1x1x1024 .f32) (f : Vec Ideal S1x512x1024 .f32) (g : Vec Ideal S1x1024 .f32)
    (a : Fin 1) (r : Fin 512) (k : Fin 1024) : k0_pay1 x u f g (ix3 a r k)
      = gated (fun k => f (ix3 0 r k)) (fun k => x (ix3 0 r k)) (fun k => u (ix3 0 0 k)) (fun k => g (ix2 0 k)) k := by
  unfold gated
  pointwise [k0_pay1]

variable (m : (ℓ : Loc nD τ sig) → Buf (Elt Ideal) ℓ) (ρ : Dev nD → PrngReg) (c : Dev nD) (t : Fin cfg0.N)

/-- The arguments: the stream, the feed-forward part, the gain and the gate. -/
abbrev aX : Vec Ideal S8x4096x1024 .f32 := m ((c.tc : Thread nD τ).loc main_arg0)
abbrev aF : Vec Ideal S8x4096x1024 .f32 := m ((c.tc : Thread nD τ).loc main_arg1)
abbrev aG : Vec Ideal S1024 .f32 := m ((c.tc : Thread nD τ).loc main_arg2)
abbrev aU : Vec Ideal S8x1x1024 .f32 := m ((c.tc : Thread nD τ).loc main_arg3)

/-- The batch of a grid point, -/
abbrev batch (t : Fin cfg0.N) : Fin 8 := grid0.coords t 0

/-- its block of 512 rows, -/
abbrev rowBlk (t : Fin cfg0.N) : Fin 8 := grid0.coords t 1

/-- and a row of the block, among the batch's rows. -/
abbrev row (t : Fin cfg0.N) (r : Fin 512) : Fin 4096 := ⟨512 * (rowBlk t).val + r.val, by have := (rowBlk t).isLt; omega⟩

/-- The stream's, the feed-forward part's and the result's blocks move together. -/
theorem index_x : ∀ t : Fin grid0.N, win0_0.index t (0 : Fin 3) = (grid0.coords t 0).val ∧ win0_0.index t (1 : Fin 3) = (grid0.coords t 1).val ∧ win0_0.index t (2 : Fin 3) = 0 := by
  decide +kernel
theorem index_f : ∀ t : Fin grid0.N, win0_1.index t (0 : Fin 3) = (grid0.coords t 0).val ∧ win0_1.index t (1 : Fin 3) = (grid0.coords t 1).val ∧ win0_1.index t (2 : Fin 3) = 0 := by
  decide +kernel
theorem index_out : ∀ t : Fin grid0.N, win0_4.index t (0 : Fin 3) = (grid0.coords t 0).val ∧ win0_4.index t (1 : Fin 3) = (grid0.coords t 1).val ∧ win0_4.index t (2 : Fin 3) = 0 := by
  decide +kernel
theorem index_g : ∀ t : Fin grid0.N, win0_2.index t (0 : Fin 2) = 0 ∧ win0_2.index t (1 : Fin 2) = 0 := by
  decide +kernel
theorem index_u : ∀ t : Fin grid0.N, win0_3.index t (0 : Fin 3) = (grid0.coords t 0).val ∧ win0_3.index t (1 : Fin 3) = 0 ∧ win0_3.index t (2 : Fin 3) = 0 := by
  decide +kernel

/-- Where an element of a grid point's block lies in its array. -/
theorem place {t : Fin cfg0.N} {f : Fin 3 → ℕ} (h : f 0 = (grid0.coords t 0).val ∧ f 1 = (grid0.coords t 1).val ∧ f 2 = 0) (y : S1x512x1024.Idx)
    (v : S8x4096x1024.Idx) (e : ∀ a : Fin 3, (v a).val = f a * S1x512x1024.size a + (y a).val) :
    v = ix3 (batch t) (row t (y 1)) (y 2 : Fin 1024) := by
  obtain ⟨e0, e1, e2⟩ := h
  have h0 : (y 0).val = 0 := Nat.lt_one_iff.mp (y 0).isLt
  funext a
  refine Fin.ext ((e a).trans ?_)
  match a with
  | 0 => exact (congrArg (· * 1 + (y 0).val) e0).trans (by rw [h0]; show (batch t).val * 1 + 0 = (batch t).val; omega)
  | 1 => exact (congrArg (· * 512 + (y 1).val) e1).trans (by show (rowBlk t).val * 512 + (y 1).val = 512 * (rowBlk t).val + (y 1).val; omega)
  | 2 => exact (congrArg (· * 1024 + (y 2).val) e2).trans (by show 0 * 1024 + (y 2).val = (y 2).val; omega)

/-- Every batch and every block of rows has its grid point, … -/
theorem point_of : ∀ (b i : Fin 8), ∃ t : Fin grid0.N, (grid0.coords t 0).val = b.val ∧ (grid0.coords t 1).val = i.val := by
  decide +kernel

/-- … so every element of the array is in the block of a grid point. -/
theorem back (i : S8x4096x1024.Idx) : ∃ (t : Fin cfg0.N) (y : S1x512x1024.Idx), (ix3 (batch t) (row t (y 1)) (y 2 : Fin 1024) : S8x4096x1024.Idx) = i := by
  have hi0 : (i 0).val < 8 := (i 0).isLt
  have hi1 : (i 1).val < 4096 := (i 1).isLt
  obtain ⟨t, ht0, ht1⟩ := point_of ⟨(i 0).val, hi0⟩ ⟨(i 1).val / 512, by omega⟩
  refine ⟨t, ix3 (0 : Fin 1) (⟨(i 1).val % 512, by omega⟩ : Fin 512) (i 2 : Fin 1024), ?_⟩
  funext a
  match a with
  | 0 => exact Fin.ext ht0
  | 1 => exact Fin.ext ((congrArg (512 * · + (i 1).val % 512) ht1).trans (by show 512 * ((i 1).val / 512) + (i 1).val % 512 = (i 1).val; omega))
  | 2 => rfl

/-- The blocks a grid point reads, at the arguments' own indices. -/
theorem blk_x (r : Fin 512) (k : Fin 1024) : (iblk m c 0 t : Vec Ideal S1x512x1024 .f32) (ix3 0 r k) = aX m c (ix3 (batch t) (row t r) k) := by
  unfold iblk
  rw [View.read_apply]
  exact (congrFun (V_main_arg0 m c) _).trans (congrArg (aX m c) (place (index_x t) (ix3 0 r k) _ (Window.rect_emb_val win0_0 t _)))

theorem blk_f (r : Fin 512) (k : Fin 1024) : (iblk m c 1 t : Vec Ideal S1x512x1024 .f32) (ix3 0 r k) = aF m c (ix3 (batch t) (row t r) k) := by
  unfold iblk
  rw [View.read_apply]
  exact (congrFun (V_main_arg1 m c) _).trans (congrArg (aF m c) (place (index_f t) (ix3 0 r k) _ (Window.rect_emb_val win0_1 t _)))

theorem blk_u (k : Fin 1024) : (iblk m c 3 t : Vec Ideal S1x1x1024 .f32) (ix3 0 0 k) = aU m c (ix3 (batch t) 0 k) := by
  obtain ⟨e0, e1, e2⟩ := index_u t
  unfold iblk
  rw [View.read_apply]
  refine (congrFun (V_main_arg3 m c) _).trans ?_
  refine congrArg (aU m c) (funext fun a => Fin.ext ?_)
  refine (Window.rect_emb_val win0_3 t _ a).trans ?_
  fin_cases a
  · exact (congrArg (· * 1 + 0) e0).trans (by show (batch t).val * 1 + 0 = (batch t).val; omega)
  · exact (congrArg (· * 1 + 0) e1)
  · exact (congrArg (· * 1024 + k.val) e2).trans (by show _ = k.val; omega)

/-- The gain is laid out as one row before the call. -/
theorem gain_row (k : Fin 1024) : (V m c main_v0 : Vec Ideal S1x1024 .f32) (ix2 0 k) = aG m c (ix1 k) := by
  show V m c main_v0 (ix2 0 k) = _
  entry_read
  refine shapeCast_apply _ shapeCasts_S1024_S1x1024 (ix2 0 k) (ix1 k) ?_
  rw [Shape.rowMajor_val_one, Shape.rowMajor_val_two]
  show k.val = 0 * 1024 + k.val
  omega

theorem blk_g (k : Fin 1024) : (iblk m c 2 t : Vec Ideal S1x1024 .f32) (ix2 0 k) = aG m c (ix1 k) := by
  obtain ⟨e0, e1⟩ := index_g t
  unfold iblk
  rw [View.read_apply]
  refine Eq.trans ?_ (gain_row m c k)
  refine congrArg (V m c main_v0 : Vec Ideal S1x1024 .f32) (funext fun a => Fin.ext ?_)
  refine (Window.rect_emb_val win0_2 t _ a).trans ?_
  fin_cases a
  · exact (congrArg (· * 1 + 0) e0)
  · exact (congrArg (· * 1024 + k.val) e1).trans (by show _ = k.val; omega)

theorem eta3 (y : S1x512x1024.Idx) : y = ix3 (y 0 : Fin 1) (y 1 : Fin 512) (y 2 : Fin 1024) := by
  funext a
  match a with
  | 0 => rfl
  | 1 => rfl
  | 2 => rfl

/-- A load or a store of a block of rows is of the whole block. -/
theorem load_rows (v : Vec Ideal S1x512x1024 .f32) : (View.ld v r0_0 : S1x512x1024.Idx → EReal) = v :=
  View.ld_unit_zero (by funext a; fin_cases a <;> rfl) _ _

theorem load_u (v : Vec Ideal S1x1x1024 .f32) : (View.ld v r0_1 : S1x1x1024.Idx → EReal) = v :=
  View.ld_unit_zero (by funext a; fin_cases a <;> rfl) _ _

theorem load_g (v : Vec Ideal S1x1024 .f32) : (View.ld v r0_2 : S1x1024.Idx → EReal) = v :=
  View.ld_unit_zero (by funext a; fin_cases a <;> rfl) _ _

theorem stored (v : FVec Ideal S1x512x1024 .f32) : View.canon [(⟨r0_0, v⟩ : View.Piece (Elt Ideal) S1x512x1024 .f32)] = v :=
  View.canon_unit_zero (by funext a; fin_cases a <;> rfl) _ _

/-- A grid point's block of the result, element by element, … -/
theorem block_apply (a : Fin 1) (r : Fin 512) (k : Fin 1024) : k0_pay1 (iblk m c 0 t) (iblk m c 3 t) (iblk m c 1 t) (iblk m c 2 t) (ix3 a r k)
    = result (aX m c) (aF m c) (aG m c) (aU m c) (ix3 (batch t) (row t r) k) := by
  refine (pay_apply _ _ _ _ a r k).trans ?_
  simp only [blk_x, blk_f, blk_g, blk_u]
  rfl

theorem out_apply (y : S1x512x1024.Idx) : out0_4 (iblk m c 0 t) (iblk m c 1 t) (iblk m c 2 t) (iblk m c 3 t) y
    = result (aX m c) (aF m c) (aG m c) (aU m c) (ix3 (batch t) (row t (y 1)) (y 2)) := by
  refine (congrArg _ (eta3 y)).trans ?_
  unfold out0_4
  rw [stored, load_rows, load_rows, load_u, load_g]
  exact block_apply m c t (y 0) (y 1) (y 2)

/-- … and the array after the run. -/
theorem arr : (dats m 0 c).arrAt 4 cfg0.N = result (aX m c) (aF m c) (aG m c) (aU m c) := by
  have e (t : Fin cfg0.N) (y : S1x512x1024.Idx) := place (index_out t) y (((cfg0.win 4).blk t).view.emb y) (Window.rect_emb_val win0_4 t y)
  refine (dats m 0 c).arrAt_eq_of_cover 4 (result (aX m c) (aF m c) (aG m c) (aU m c)) (fun t _ => ?_) (fun i => ?_)
  · rw [flushed4]
    funext y
    rw [View.read_apply]
    exact (out_apply m c t y).trans (congrArg (result (aX m c) (aF m c) (aG m c) (aU m c)) (e t y).symm)
  · obtain ⟨t, y, h⟩ := back i
    exact ⟨t, flush0_4 t, ((e t y).trans h) ▸ ((cfg0.win 4).blk t).view.emb_mem_set _⟩

/-- The run. -/
theorem run_residual : θ_run defs (onTc (τ := τ) (main (F := Ideal))) ⟨m, fun _ => 0, ρ⟩ fun r => ∀ c : Dev nD,
      r.2.mem ((c : Thread nD τ).loc main_v1) = result (aX m c) (aF m c) (aG m c) (aU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (arr m c), (h c).2⟩) (run_blocks m ρ)

end Cert.Kernel8Ideal.Residual

end
-- ==== Proof.ResidualRef.lean ====
/-
  The reference of the gated residual, read element by element.
-/
module

public import proofs.«01_k».proof.Proof.Gen.Reference8Ideal.Read
public import proofs.«01_k».proof.Proof.Residual

@[expose] public section

set_option maxRecDepth 2000

noncomputable section

namespace Cert.Reference8Ideal.Residual

open Cert.Reference8Ideal Cert.Reference8Ideal.Gen Cert.Reference8Ideal.Read Cert.OutProject
open Cert.Kernel8Ideal.Residual (result)
open Idealize.ShloMosaic Idealize.ShloMosaic.TcCoe

variable (x f : Vec Ideal S8x4096x1024 .f32) (g : Vec Ideal S1024 .f32) (u : Vec Ideal S8x1x1024 .f32)

/-- The mean square of a row, with 1e-6, under the root. -/
theorem root_eq (b : Fin 8) (n : Fin 4096) (k : Fin 1024) : val_main_v8 (F := Ideal) f (ix3 b n k)
    = Ideal.rsqrt (Ideal.div (∑ l : Fin 1024, f (ix3 b n l) * f (ix3 b n l)) (Ideal.ofBits .f32 0x44800000#32) + Ideal.ofBits .f32 0x358637BD#32) := by
  have e : ∀ l : Fin 1024, idx_main_v1 (idx_main_v2 (idx_main_v8 (ix3 b n k))) l = ix3 b n l := fun l => by
    funext a
    match a with
    | 0 => rfl
    | 1 => rfl
    | 2 => rfl
  rw [val_main_v8_apply, val_main_v7_apply, val_main_v6_apply, val_main_v5_apply, val_main_v4_apply, val_main_v3_apply, val_main_v2_apply,
    val_main_v1_apply, val_main_cst_apply, val_main_cst_0_apply, val_main_cst_1_apply]
  simp only [val_main_v0_apply, e]
  refine congrArg (fun s => Ideal.rsqrt (Ideal.div s (Ideal.ofBits .f32 0x44800000#32) + Ideal.ofBits .f32 0x358637BD#32)) ?_
  show Ideal.ofBits .f32 0x00000000#32 + _ = _
  rw [Ideal.ofBits_zero_f32, zero_add]
  rfl

/-- An element of the result, … -/
theorem result_apply (b : Fin 8) (n : Fin 4096) (k : Fin 1024) : val_main_v15 (F := Ideal) x f g u (ix3 b n k)
    = gated (fun k => f (ix3 b n k)) (fun k => x (ix3 b n k)) (fun k => u (ix3 b 0 k)) (fun k => g (ix1 k)) k := by
  have e1 : idx_main_v10 (idx_main_v11 (ix3 b n k)) = ix1 k := by
    funext a
    match a with
    | 0 => rfl
  have e2 : idx_main_v13 (ix3 b n k) = ix3 b (0 : Fin 1) k := by
    funext a
    match a with
    | 0 => rfl
    | 1 => rfl
    | 2 => rfl
  rw [val_main_v15_apply, val_main_v14_apply, val_main_v13_apply, val_main_v12_apply, val_main_v11_apply, val_main_v10_apply, val_main_v9_apply,
    root_eq, e1, e2]
  rfl

/-- … and the whole array. -/
theorem result_eq : val_main_v15 (F := Ideal) x f g u = result x f g u := funext fun i => by
  have e : i = ix3 (i 0 : Fin 8) (i 1 : Fin 4096) (i 2 : Fin 1024) := by
    funext a
    match a with
    | 0 => rfl
    | 1 => rfl
    | 2 => rfl
  exact (congrArg _ e).trans (result_apply x f g u (i 0) (i 1) (i 2))

end Cert.Reference8Ideal.Residual

end
-- ==== Proof.ResidualClaims.lean ====
/-
  The claims about the gated residual, put together.
-/
module

public import proofs.«01_k».proof.Defs
public import proofs.«01_k».proof.Proof.Gen.Kernel8.Frame
public import proofs.«01_k».proof.Proof.Gen.Reference8Ideal.Run
public import proofs.«01_k».proof.Proof.ResidualRef

@[expose] public section

set_option maxRecDepth 2000

noncomputable section

namespace Cert.ResidualClaims

open Cert.Kernel8Ideal.Residual
open Idealize.ShloMosaic Idealize.ShloMosaic.TcCoe Idealize.SL.Sem

/-- The reference runs and keeps its arguments. -/
theorem frame_ri : Cert.quiescent_Reference8Ideal (hReference8Ideal := Cert.Reference8Ideal.Gen.facts) := fun m ρ _ =>
  (θ_run _ _ _).mono (fun r h => ⟨fun c => (h c).2, sem_eq_zero_of_no_sems (by decide) r.2⟩)
    (Cert.Reference8Ideal.Value.run (F := Ideal) m ρ)

/-- Kernel and reference end with the same array. -/
theorem algebraic : Cert.algebraic_Kernel8Ideal_Reference8Ideal (hKernel8Ideal := Cert.Kernel8Ideal.Gen.facts)
    (hReference8Ideal := Cert.Reference8Ideal.Gen.facts) := by
  intro m ρ m' ρ' hpre hag
  refine ⟨fun c => result (aX m c) (aF m c) (aG m c) (aU m c), run_residual m ρ, ?_⟩
  refine (θ_run _ _ _).mono (fun r h c => ?_) (Cert.Reference8Ideal.Value.run (F := Ideal) m' ρ')
  obtain ⟨e0, e1, e2, e3⟩ := hag c
  obtain ⟨h0, hk⟩ := h c
  refine ⟨h0.trans ?_, hk⟩
  rw [Cert.Reference8Ideal.Read.val_main_v15_eq, e0, e1, e2, e3]
  exact Cert.Reference8Ideal.Residual.result_eq _ _ _ _

end Cert.ResidualClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_tokens
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_bounded
public import proofs.«01_k».proof.Proof.Gen.Kernel6
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_context_rows
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Assembly
public import proofs.«01_k».proof.Proof.ExpertsClaims
public import proofs.«01_k».proof.Proof.ProjectClaims
public import proofs.«01_k».proof.Proof.OddClaims
public import proofs.«01_k».proof.Proof.OutClaims
public import proofs.«01_k».proof.Proof.CtxExpertsClaims
public import proofs.«01_k».proof.Proof.CtxProjectClaims
public import proofs.«01_k».proof.Proof.ResidualClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts,
  Cert.Kernel5.Gen.facts, Cert.Kernel5Ideal.Gen.facts, Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Pre_finite.Gen.facts, Cert.Pre_tokens.Gen.facts, Cert.Pre_bounded.Gen.facts, Cert.Pre_context_rows.Gen.facts,
  fun m ρ _ => Cert.Kernel.Gen.frame m ρ,
  fun m ρ _ => Cert.KernelIdeal.Gen.frame m ρ,
  fun m ρ _ => Cert.KernelIdeal.Gen.frame m ρ,
  WindowClaims.frame_ri,
  fun m ρ _ => WindowClaims.frame_ri m ρ trivial,
  ExpertsClaims.frame_k,
  ExpertsClaims.frame_ki,
  ExpertsClaims.frame_ri,
  fun m ρ _ => ExpertsClaims.frame_ri m ρ trivial,
  fun m ρ _ => Cert.Kernel3.Gen.frame m ρ,
  fun m ρ _ => Cert.Kernel3Ideal.Gen.frame m ρ,
  ProjectClaims.frame_ri,
  fun m ρ _ => Cert.Kernel4.Gen.frame m ρ,
  fun m ρ _ => Cert.Kernel4Ideal.Gen.frame m ρ,
  OddClaims.frame_ri,
  fun m ρ _ => Cert.Kernel5.Gen.frame m ρ,
  fun m ρ _ => Cert.Kernel5Ideal.Gen.frame m ρ,
  fun m ρ _ => Cert.Kernel5Ideal.Gen.frame m ρ,
  OutClaims.frame_ri,
  fun m ρ _ => OutClaims.frame_ri m ρ trivial,
  CtxExpertsClaims.frame_k,
  CtxExpertsClaims.frame_ki,
  CtxExpertsClaims.frame_ri,
  fun m ρ _ => CtxExpertsClaims.frame_ri m ρ trivial,
  fun m ρ _ => Cert.Kernel7.Gen.frame m ρ,
  fun m ρ _ => Cert.Kernel7Ideal.Gen.frame m ρ,
  CtxProjectClaims.frame_ri,
  fun m ρ _ => Cert.Kernel8.Gen.frame m ρ,
  fun m ρ _ => Cert.Kernel8Ideal.Gen.frame m ρ,
  ResidualClaims.frame_ri,
  WindowClaims.preserves,
  WindowClaims.algebraic,
  trivial,
  ExpertsClaims.algebraic,
  trivial,
  ProjectClaims.algebraic,
  trivial,
  OddClaims.algebraic,
  trivial,
  OutClaims.algebraic,
  trivial,
  CtxExpertsClaims.algebraic,
  trivial,
  CtxProjectClaims.algebraic,
  trivial,
  ResidualClaims.algebraic⟩

end Cert.Proof

end
